-- ==== Defs.lean ====
def Pre_AllToAll (m : (ℓ : Loc Cert.AllToAll.nD Cert.AllToAll.τ Cert.AllToAll.sig) → Buf (Elt Bits) ℓ) : Prop :=
  True

def Pre_AllToAllIdeal (m : (ℓ : Loc Cert.AllToAllIdeal.nD Cert.AllToAllIdeal.τ Cert.AllToAllIdeal.sig) → Buf (Elt Ideal) ℓ) : Prop :=
  True

def Pre_AllToAllRefIdeal (m : (ℓ : Loc Cert.AllToAllRefIdeal.nD Cert.AllToAllRefIdeal.τ Cert.AllToAllRefIdeal.sig) → Buf (Elt Ideal) ℓ) : Prop :=
  True

def Pre_AllToAllRef (m : (ℓ : Loc Cert.AllToAllRef.nD Cert.AllToAllRef.τ Cert.AllToAllRef.sig) → Buf (Elt Bits) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_SmallRef (m : (ℓ : Loc Cert.SmallRef.nD Cert.SmallRef.τ Cert.SmallRef.sig) → Buf (Elt Bits) ℓ) : Prop :=
  True

def Pre_StepOut (m : (ℓ : Loc Cert.StepOut.nD Cert.StepOut.τ Cert.StepOut.sig) → Buf (Elt Bits) ℓ) : Prop :=
  True

def Pre_StepOutIdeal (m : (ℓ : Loc Cert.StepOutIdeal.nD Cert.StepOutIdeal.τ Cert.StepOutIdeal.sig) → Buf (Elt Ideal) ℓ) : Prop :=
  True

def Pre_StepOutRefIdeal (m : (ℓ : Loc Cert.StepOutRefIdeal.nD Cert.StepOutRefIdeal.τ Cert.StepOutRefIdeal.sig) → Buf (Elt Ideal) ℓ) : Prop :=
  True

def Pre_StepDown (m : (ℓ : Loc Cert.StepDown.nD Cert.StepDown.τ Cert.StepDown.sig) → Buf (Elt Bits) ℓ) : Prop :=
  True

def Pre_StepDownIdeal (m : (ℓ : Loc Cert.StepDownIdeal.nD Cert.StepDownIdeal.τ Cert.StepDownIdeal.sig) → Buf (Elt Ideal) ℓ) : Prop :=
  True

def Pre_StepDownRefIdeal (m : (ℓ : Loc Cert.StepDownRefIdeal.nD Cert.StepDownRefIdeal.τ Cert.StepDownRefIdeal.sig) → Buf (Elt Ideal) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInRefIdeal (m : (ℓ : Loc Cert.SumInRefIdeal.nD Cert.SumInRefIdeal.τ Cert.SumInRefIdeal.sig) → Buf (Elt Ideal) ℓ) : Prop :=
  True

def Pre_SumUp (m : (ℓ : Loc Cert.SumUp.nD Cert.SumUp.τ Cert.SumUp.sig) → Buf (Elt Bits) ℓ) : Prop :=
  True

def Pre_SumUpIdeal (m : (ℓ : Loc Cert.SumUpIdeal.nD Cert.SumUpIdeal.τ Cert.SumUpIdeal.sig) → Buf (Elt Ideal) ℓ) : Prop :=
  True

def Pre_SumUpRefIdeal (m : (ℓ : Loc Cert.SumUpRefIdeal.nD Cert.SumUpRefIdeal.τ Cert.SumUpRefIdeal.sig) → Buf (Elt Ideal) ℓ) : Prop :=
  True

def Pre_SumQkv (m : (ℓ : Loc Cert.SumQkv.nD Cert.SumQkv.τ Cert.SumQkv.sig) → Buf (Elt Bits) ℓ) : Prop :=
  True

def Pre_SumQkvIdeal (m : (ℓ : Loc Cert.SumQkvIdeal.nD Cert.SumQkvIdeal.τ Cert.SumQkvIdeal.sig) → Buf (Elt Ideal) ℓ) : Prop :=
  True

def Pre_SumQkvRefIdeal (m : (ℓ : Loc Cert.SumQkvRefIdeal.nD Cert.SumQkvRefIdeal.τ Cert.SumQkvRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_StepIn (m : (ℓ : Loc Cert.StepIn.nD Cert.StepIn.τ Cert.StepIn.sig) → Buf (Elt Bits) ℓ) : Prop :=
  True

def Pre_StepInIdeal (m : (ℓ : Loc Cert.StepInIdeal.nD Cert.StepInIdeal.τ Cert.StepInIdeal.sig) → Buf (Elt Ideal) ℓ) : Prop :=
  True

def Pre_StepInRefIdeal (m : (ℓ : Loc Cert.StepInRefIdeal.nD Cert.StepInRefIdeal.τ Cert.StepInRefIdeal.sig) → Buf (Elt Ideal) ℓ) : Prop :=
  True

def Pre_StepUp (m : (ℓ : Loc Cert.StepUp.nD Cert.StepUp.τ Cert.StepUp.sig) → Buf (Elt Bits) ℓ) : Prop :=
  True

def Pre_StepUpIdeal (m : (ℓ : Loc Cert.StepUpIdeal.nD Cert.StepUpIdeal.τ Cert.StepUpIdeal.sig) → Buf (Elt Ideal) ℓ) : Prop :=
  True

def Pre_StepUpRefIdeal (m : (ℓ : Loc Cert.StepUpRefIdeal.nD Cert.StepUpRefIdeal.τ Cert.StepUpRefIdeal.sig) → Buf (Elt Ideal) ℓ) : Prop :=
  True

def Pre_StepQkv (m : (ℓ : Loc Cert.StepQkv.nD Cert.StepQkv.τ Cert.StepQkv.sig) → Buf (Elt Bits) ℓ) : Prop :=
  True

def Pre_StepQkvIdeal (m : (ℓ : Loc Cert.StepQkvIdeal.nD Cert.StepQkvIdeal.τ Cert.StepQkvIdeal.sig) → Buf (Elt Ideal) ℓ) : Prop :=
  True

def Pre_StepQkvRefIdeal (m : (ℓ : Loc Cert.StepQkvRefIdeal.nD Cert.StepQkvRefIdeal.τ Cert.StepQkvRefIdeal.sig) → Buf (Elt Ideal) ℓ) : Prop :=
  True

def Pre_StepMeta (m : (ℓ : Loc Cert.StepMeta.nD Cert.StepMeta.τ Cert.StepMeta.sig) → Buf (Elt Bits) ℓ) : Prop :=
  True

def Pre_StepMetaIdeal (m : (ℓ : Loc Cert.StepMetaIdeal.nD Cert.StepMetaIdeal.τ Cert.StepMetaIdeal.sig) → Buf (Elt Ideal) ℓ) : Prop :=
  True

def Pre_StepMetaRefIdeal (m : (ℓ : Loc Cert.StepMetaRefIdeal.nD Cert.StepMetaRefIdeal.τ Cert.StepMetaRefIdeal.sig) → Buf (Elt Ideal) ℓ) : Prop :=
  True

def Pre_StepConv (m : (ℓ : Loc Cert.StepConv.nD Cert.StepConv.τ Cert.StepConv.sig) → Buf (Elt Bits) ℓ) : Prop :=
  True

def Pre_StepConvIdeal (m : (ℓ : Loc Cert.StepConvIdeal.nD Cert.StepConvIdeal.τ Cert.StepConvIdeal.sig) → Buf (Elt Ideal) ℓ) : Prop :=
  True

def Pre_StepConvRefIdeal (m : (ℓ : Loc Cert.StepConvRefIdeal.nD Cert.StepConvRefIdeal.τ Cert.StepConvRefIdeal.sig) → Buf (Elt Ideal) ℓ) : Prop :=
  True

def Pre_StepGain (m : (ℓ : Loc Cert.StepGain.nD Cert.StepGain.τ Cert.StepGain.sig) → Buf (Elt Bits) ℓ) : Prop :=
  True

def Pre_StepGainIdeal (m : (ℓ : Loc Cert.StepGainIdeal.nD Cert.StepGainIdeal.τ Cert.StepGainIdeal.sig) → Buf (Elt Ideal) ℓ) : Prop :=
  True

def Pre_StepGainRefIdeal (m : (ℓ : Loc Cert.StepGainRefIdeal.nD Cert.StepGainRefIdeal.τ Cert.StepGainRefIdeal.sig) → Buf (Elt Ideal) ℓ) : Prop :=
  True

def Pre_StepSinks (m : (ℓ : Loc Cert.StepSinks.nD Cert.StepSinks.τ Cert.StepSinks.sig) → Buf (Elt Bits) ℓ) : Prop :=
  True

def Pre_StepSinksIdeal (m : (ℓ : Loc Cert.StepSinksIdeal.nD Cert.StepSinksIdeal.τ Cert.StepSinksIdeal.sig) → Buf (Elt Ideal) ℓ) : Prop :=
  True

def Pre_StepSinksRefIdeal (m : (ℓ : Loc Cert.StepSinksRefIdeal.nD Cert.StepSinksRefIdeal.τ Cert.StepSinksRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_ProjUp (m : (ℓ : Loc Cert.ProjUp.nD Cert.ProjUp.τ Cert.ProjUp.sig) → Buf (Elt Bits) ℓ) : Prop :=
  True

def Pre_ProjUpIdeal (m : (ℓ : Loc Cert.ProjUpIdeal.nD Cert.ProjUpIdeal.τ Cert.ProjUpIdeal.sig) → Buf (Elt Ideal) ℓ) : Prop :=
  True

def Pre_ProjUpRefIdeal (m : (ℓ : Loc Cert.ProjUpRefIdeal.nD Cert.ProjUpRefIdeal.τ Cert.ProjUpRefIdeal.sig) → Buf (Elt Ideal) ℓ) : Prop :=
  True

def Pre_BackDown (m : (ℓ : Loc Cert.BackDown.nD Cert.BackDown.τ Cert.BackDown.sig) → Buf (Elt Bits) ℓ) : Prop :=
  True

def Pre_BackDownIdeal (m : (ℓ : Loc Cert.BackDownIdeal.nD Cert.BackDownIdeal.τ Cert.BackDownIdeal.sig) → Buf (Elt Ideal) ℓ) : Prop :=
  True

def Pre_BackDownRefIdeal (m : (ℓ : Loc Cert.BackDownRefIdeal.nD Cert.BackDownRefIdeal.τ Cert.BackDownRefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_BackO (m : (ℓ : Loc Cert.BackO.nD Cert.BackO.τ Cert.BackO.sig) → Buf (Elt Bits) ℓ) : Prop :=
  True

def Pre_BackOIdeal (m : (ℓ : Loc Cert.BackOIdeal.nD Cert.BackOIdeal.τ Cert.BackOIdeal.sig) → Buf (Elt Ideal) ℓ) : Prop :=
  True

def Pre_BackORefIdeal (m : (ℓ : Loc Cert.BackORefIdeal.nD Cert.BackORefIdeal.τ Cert.BackORefIdeal.sig) → Buf (Elt Ideal) ℓ) : Prop :=
  True

def Pre_ProjQkv (m : (ℓ : Loc Cert.ProjQkv.nD Cert.ProjQkv.τ Cert.ProjQkv.sig) → Buf (Elt Bits) ℓ) : Prop :=
  True

def Pre_ProjQkvIdeal (m : (ℓ : Loc Cert.ProjQkvIdeal.nD Cert.ProjQkvIdeal.τ Cert.ProjQkvIdeal.sig) → Buf (Elt Ideal) ℓ) : Prop :=
  True

def Pre_ProjQkvRefIdeal (m : (ℓ : Loc Cert.ProjQkvRefIdeal.nD Cert.ProjQkvRefIdeal.τ Cert.ProjQkvRefIdeal.sig) → Buf (Elt Ideal) ℓ) : Prop :=
  True

def Pre_BackOut (m : (ℓ : Loc Cert.BackOut.nD Cert.BackOut.τ Cert.BackOut.sig) → Buf (Elt Bits) ℓ) : Prop :=
  True

def Pre_BackOutIdeal (m : (ℓ : Loc Cert.BackOutIdeal.nD Cert.BackOutIdeal.τ Cert.BackOutIdeal.sig) → Buf (Elt Ideal) ℓ) : Prop :=
  True

def Pre_BackOutRefIdeal (m : (ℓ : Loc Cert.BackOutRefIdeal.nD Cert.BackOutRefIdeal.τ Cert.BackOutRefIdeal.sig) → Buf (Elt Ideal) ℓ) : Prop :=
  True

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownRefIdeal (m : (ℓ : Loc Cert.GradDownRefIdeal.nD Cert.GradDownRefIdeal.τ Cert.GradDownRefIdeal.sig) → Buf (Elt Ideal) ℓ) : Prop :=
  True

def Pre_GradUp (m : (ℓ : Loc Cert.GradUp.nD Cert.GradUp.τ Cert.GradUp.sig) → Buf (Elt Bits) ℓ) : Prop :=
  True

def Pre_GradUpIdeal (m : (ℓ : Loc Cert.GradUpIdeal.nD Cert.GradUpIdeal.τ Cert.GradUpIdeal.sig) → Buf (Elt Ideal) ℓ) : Prop :=
  True

def Pre_GradUpRefIdeal (m : (ℓ : Loc Cert.GradUpRefIdeal.nD Cert.GradUpRefIdeal.τ Cert.GradUpRefIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRefIdeal (m : (ℓ : Loc Cert.GradInRefIdeal.nD Cert.GradInRefIdeal.τ Cert.GradInRefIdeal.sig) → Buf (Elt Ideal) ℓ) : Prop :=
  True

def Pre_GradQkv (m : (ℓ : Loc Cert.GradQkv.nD Cert.GradQkv.τ Cert.GradQkv.sig) → Buf (Elt Bits) ℓ) : Prop :=
  True

def Pre_GradQkvIdeal (m : (ℓ : Loc Cert.GradQkvIdeal.nD Cert.GradQkvIdeal.τ Cert.GradQkvIdeal.sig) → Buf (Elt Ideal) ℓ) : Prop :=
  True

def Pre_GradQkvRefIdeal (m : (ℓ : Loc Cert.GradQkvRefIdeal.nD Cert.GradQkvRefIdeal.τ Cert.GradQkvRefIdeal.sig) → Buf (Elt Ideal) ℓ) : Prop :=
  True

def Pre_GradO (m : (ℓ : Loc Cert.GradO.nD Cert.GradO.τ Cert.GradO.sig) → Buf (Elt Bits) ℓ) : Prop :=
  True

def Pre_GradOIdeal (m : (ℓ : Loc Cert.GradOIdeal.nD Cert.GradOIdeal.τ Cert.GradOIdeal.sig) → Buf (Elt Ideal) ℓ) : Prop :=
  True

def Pre_GradORefIdeal (m : (ℓ : Loc Cert.GradORefIdeal.nD Cert.GradORefIdeal.τ Cert.GradORefIdeal.sig) → Buf (Elt Ideal) ℓ) : Prop :=
  True

def Pre_RowOut (m : (ℓ : Loc Cert.RowOut.nD Cert.RowOut.τ Cert.RowOut.sig) → Buf (Elt Bits) ℓ) : Prop :=
  True

def Pre_RowOutIdeal (m : (ℓ : Loc Cert.RowOutIdeal.nD Cert.RowOutIdeal.τ Cert.RowOutIdeal.sig) → Buf (Elt Ideal) ℓ) : Prop :=
  True

def Pre_RowOutRefIdeal (m : (ℓ : Loc Cert.RowOutRefIdeal.nD Cert.RowOutRefIdeal.τ Cert.RowOutRefIdeal.sig) → Buf (Elt Ideal) ℓ) : Prop :=
  True

def Pre_RowDown (m : (ℓ : Loc Cert.RowDown.nD Cert.RowDown.τ Cert.RowDown.sig) → Buf (Elt Bits) ℓ) : Prop :=
  True

def Pre_RowDownIdeal (m : (ℓ : Loc Cert.RowDownIdeal.nD Cert.RowDownIdeal.τ Cert.RowDownIdeal.sig) → Buf (Elt Ideal) ℓ) : Prop :=
  True

def Pre_RowDownRefIdeal (m : (ℓ : Loc Cert.RowDownRefIdeal.nD Cert.RowDownRefIdeal.τ Cert.RowDownRefIdeal.sig) → Buf (Elt Ideal) ℓ) : Prop :=
  True

def Pre_RowLast (m : (ℓ : Loc Cert.RowLast.nD Cert.RowLast.τ Cert.RowLast.sig) → Buf (Elt Bits) ℓ) : Prop :=
  True

def Pre_RowLastIdeal (m : (ℓ : Loc Cert.RowLastIdeal.nD Cert.RowLastIdeal.τ Cert.RowLastIdeal.sig) → Buf (Elt Ideal) ℓ) : Prop :=
  True

def Pre_RowLastRefIdeal (m : (ℓ : Loc Cert.RowLastRefIdeal.nD Cert.RowLastRefIdeal.τ Cert.RowLastRefIdeal.sig) → Buf (Elt Ideal) ℓ) : Prop :=
  True

def Pre_RowUp (m : (ℓ : Loc Cert.RowUp.nD Cert.RowUp.τ Cert.RowUp.sig) → Buf (Elt Bits) ℓ) : Prop :=
  True

def Pre_RowUpIdeal (m : (ℓ : Loc Cert.RowUpIdeal.nD Cert.RowUpIdeal.τ Cert.RowUpIdeal.sig) → Buf (Elt Ideal) ℓ) : Prop :=
  True

def Pre_RowUpRefIdeal (m : (ℓ : Loc Cert.RowUpRefIdeal.nD Cert.RowUpRefIdeal.τ Cert.RowUpRefIdeal.sig) → Buf (Elt Ideal) ℓ) : Prop :=
  True

def Pre_RowQkv (m : (ℓ : Loc Cert.RowQkv.nD Cert.RowQkv.τ Cert.RowQkv.sig) → Buf (Elt Bits) ℓ) : Prop :=
  True

def Pre_RowQkvIdeal (m : (ℓ : Loc Cert.RowQkvIdeal.nD Cert.RowQkvIdeal.τ Cert.RowQkvIdeal.sig) → Buf (Elt Ideal) ℓ) : Prop :=
  True

def Pre_RowQkvRefIdeal (m : (ℓ : Loc Cert.RowQkvRefIdeal.nD Cert.RowQkvRefIdeal.τ Cert.RowQkvRefIdeal.sig) → Buf (Elt Ideal) ℓ) : Prop :=
  True

def Pre_RowIn (m : (ℓ : Loc Cert.RowIn.nD Cert.RowIn.τ Cert.RowIn.sig) → Buf (Elt Bits) ℓ) : Prop :=
  True

def Pre_RowInIdeal (m : (ℓ : Loc Cert.RowInIdeal.nD Cert.RowInIdeal.τ Cert.RowInIdeal.sig) → Buf (Elt Ideal) ℓ) : Prop :=
  True

def Pre_RowInRefIdeal (m : (ℓ : Loc Cert.RowInRefIdeal.nD Cert.RowInRefIdeal.τ Cert.RowInRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_ConvBack (m : (ℓ : Loc Cert.ConvBack.nD Cert.ConvBack.τ Cert.ConvBack.sig) → Buf (Elt Bits) ℓ) : Prop :=
  True

def Pre_ConvBackIdeal (m : (ℓ : Loc Cert.ConvBackIdeal.nD Cert.ConvBackIdeal.τ Cert.ConvBackIdeal.sig) → Buf (Elt Ideal) ℓ) : Prop :=
  True

def Pre_ConvBackRefIdeal (m : (ℓ : Loc Cert.ConvBackRefIdeal.nD Cert.ConvBackRefIdeal.τ Cert.ConvBackRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_RopeBack (m : (ℓ : Loc Cert.RopeBack.nD Cert.RopeBack.τ Cert.RopeBack.sig) → Buf (Elt Bits) ℓ) : Prop :=
  True

def Pre_RopeBackIdeal (m : (ℓ : Loc Cert.RopeBackIdeal.nD Cert.RopeBackIdeal.τ Cert.RopeBackIdeal.sig) → Buf (Elt Ideal) ℓ) : Prop :=
  True

def Pre_RopeBackRefIdeal (m : (ℓ : Loc Cert.RopeBackRefIdeal.nD Cert.RopeBackRefIdeal.τ Cert.RopeBackRefIdeal.sig) → Buf (Elt Ideal) ℓ) : Prop :=
  True

def quiescent_AllToAll [hAllToAll : Cert.AllToAll.Facts] : Prop :=
  ∀ (m : (ℓ : Loc Cert.AllToAll.nD Cert.AllToAll.τ Cert.AllToAll.sig) → Buf (Elt Bits) ℓ) (g : Dev Cert.AllToAll.nD → PrngReg), Pre_AllToAll m →
    θ_run (Cert.AllToAll.defs (F := Bits)) (onTc (τ := Cert.AllToAll.τ) (Cert.AllToAll.main (F := Bits))) ⟨m, fun _ => 0, g⟩ (fun r => (∀ c : Dev Cert.AllToAll.nD,
      r.2.mem ((c.tc : Thread Cert.AllToAll.nD Cert.AllToAll.τ).loc Cert.AllToAll.main_arg0) = m ((c.tc : Thread Cert.AllToAll.nD Cert.AllToAll.τ).loc Cert.AllToAll.main_arg0)
      ∧ r.2.mem ((c.tc : Thread Cert.AllToAll.nD Cert.AllToAll.τ).loc Cert.AllToAll.main_arg1) = m ((c.tc : Thread Cert.AllToAll.nD Cert.AllToAll.τ).loc Cert.AllToAll.main_arg1)
      ∧ r.2.mem ((c.tc : Thread Cert.AllToAll.nD Cert.AllToAll.τ).loc Cert.AllToAll.main_arg2) = m ((c.tc : Thread Cert.AllToAll.nD Cert.AllToAll.τ).loc Cert.AllToAll.main_arg2)
      ∧ r.2.mem ((c.tc : Thread Cert.AllToAll.nD Cert.AllToAll.τ).loc Cert.AllToAll.main_arg3) = m ((c.tc : Thread Cert.AllToAll.nD Cert.AllToAll.τ).loc Cert.AllToAll.main_arg3)
      ∧ r.2.mem ((c.tc : Thread Cert.AllToAll.nD Cert.AllToAll.τ).loc Cert.AllToAll.main_arg4) = m ((c.tc : Thread Cert.AllToAll.nD Cert.AllToAll.τ).loc Cert.AllToAll.main_arg4)
      ∧ r.2.mem ((c.tc : Thread Cert.AllToAll.nD Cert.AllToAll.τ).loc Cert.AllToAll.main_arg5) = m ((c.tc : Thread Cert.AllToAll.nD Cert.AllToAll.τ).loc Cert.AllToAll.main_arg5)
      ∧ r.2.mem ((c.tc : Thread Cert.AllToAll.nD Cert.AllToAll.τ).loc Cert.AllToAll.main_arg6) = m ((c.tc : Thread Cert.AllToAll.nD Cert.AllToAll.τ).loc Cert.AllToAll.main_arg6)
      ∧ r.2.mem ((c.tc : Thread Cert.AllToAll.nD Cert.AllToAll.τ).loc Cert.AllToAll.main_arg7) = m ((c.tc : Thread Cert.AllToAll.nD Cert.AllToAll.τ).loc Cert.AllToAll.main_arg7))
      ∧ r.2.sem = fun _ => 0)

def quiescent_AllToAllIdeal [hAllToAllIdeal : Cert.AllToAllIdeal.Facts] : Prop :=
  ∀ (m : (ℓ : Loc Cert.AllToAllIdeal.nD Cert.AllToAllIdeal.τ Cert.AllToAllIdeal.sig) → Buf (Elt Ideal) ℓ) (g : Dev Cert.AllToAllIdeal.nD → PrngReg), Pre_AllToAllIdeal m →
    θ_run (Cert.AllToAllIdeal.defs (F := Ideal)) (onTc (τ := Cert.AllToAllIdeal.τ) (Cert.AllToAllIdeal.main (F := Ideal))) ⟨m, fun _ => 0, g⟩ (fun r => (∀ c : Dev Cert.AllToAllIdeal.nD,
      r.2.mem ((c.tc : Thread Cert.AllToAllIdeal.nD Cert.AllToAllIdeal.τ).loc Cert.AllToAllIdeal.main_arg0) = m ((c.tc : Thread Cert.AllToAllIdeal.nD Cert.AllToAllIdeal.τ).loc Cert.AllToAllIdeal.main_arg0)
      ∧ r.2.mem ((c.tc : Thread Cert.AllToAllIdeal.nD Cert.AllToAllIdeal.τ).loc Cert.AllToAllIdeal.main_arg1) = m ((c.tc : Thread Cert.AllToAllIdeal.nD Cert.AllToAllIdeal.τ).loc Cert.AllToAllIdeal.main_arg1)
      ∧ r.2.mem ((c.tc : Thread Cert.AllToAllIdeal.nD Cert.AllToAllIdeal.τ).loc Cert.AllToAllIdeal.main_arg2) = m ((c.tc : Thread Cert.AllToAllIdeal.nD Cert.AllToAllIdeal.τ).loc Cert.AllToAllIdeal.main_arg2)
      ∧ r.2.mem ((c.tc : Thread Cert.AllToAllIdeal.nD Cert.AllToAllIdeal.τ).loc Cert.AllToAllIdeal.main_arg3) = m ((c.tc : Thread Cert.AllToAllIdeal.nD Cert.AllToAllIdeal.τ).loc Cert.AllToAllIdeal.main_arg3)
      ∧ r.2.mem ((c.tc : Thread Cert.AllToAllIdeal.nD Cert.AllToAllIdeal.τ).loc Cert.AllToAllIdeal.main_arg4) = m ((c.tc : Thread Cert.AllToAllIdeal.nD Cert.AllToAllIdeal.τ).loc Cert.AllToAllIdeal.main_arg4)
      ∧ r.2.mem ((c.tc : Thread Cert.AllToAllIdeal.nD Cert.AllToAllIdeal.τ).loc Cert.AllToAllIdeal.main_arg5) = m ((c.tc : Thread Cert.AllToAllIdeal.nD Cert.AllToAllIdeal.τ).loc Cert.AllToAllIdeal.main_arg5)
      ∧ r.2.mem ((c.tc : Thread Cert.AllToAllIdeal.nD Cert.AllToAllIdeal.τ).loc Cert.AllToAllIdeal.main_arg6) = m ((c.tc : Thread Cert.AllToAllIdeal.nD Cert.AllToAllIdeal.τ).loc Cert.AllToAllIdeal.main_arg6)
      ∧ r.2.mem ((c.tc : Thread Cert.AllToAllIdeal.nD Cert.AllToAllIdeal.τ).loc Cert.AllToAllIdeal.main_arg7) = m ((c.tc : Thread Cert.AllToAllIdeal.nD Cert.AllToAllIdeal.τ).loc Cert.AllToAllIdeal.main_arg7))
      ∧ r.2.sem = fun _ => 0)

def quiescent_AllToAllRefIdeal [hAllToAllRefIdeal : Cert.AllToAllRefIdeal.Facts] : Prop :=
  ∀ (m : (ℓ : Loc Cert.AllToAllRefIdeal.nD Cert.AllToAllRefIdeal.τ Cert.AllToAllRefIdeal.sig) → Buf (Elt Ideal) ℓ) (g : Dev Cert.AllToAllRefIdeal.nD → PrngReg), Pre_AllToAllRefIdeal m →
    θ_run (Cert.AllToAllRefIdeal.defs (F := Ideal)) (onTc (τ := Cert.AllToAllRefIdeal.τ) (Cert.AllToAllRefIdeal.main (F := Ideal))) ⟨m, fun _ => 0, g⟩ (fun r => (∀ c : Dev Cert.AllToAllRefIdeal.nD,
      r.2.mem ((c.tc : Thread Cert.AllToAllRefIdeal.nD Cert.AllToAllRefIdeal.τ).loc Cert.AllToAllRefIdeal.main_arg0) = m ((c.tc : Thread Cert.AllToAllRefIdeal.nD Cert.AllToAllRefIdeal.τ).loc Cert.AllToAllRefIdeal.main_arg0)
      ∧ r.2.mem ((c.tc : Thread Cert.AllToAllRefIdeal.nD Cert.AllToAllRefIdeal.τ).loc Cert.AllToAllRefIdeal.main_arg1) = m ((c.tc : Thread Cert.AllToAllRefIdeal.nD Cert.AllToAllRefIdeal.τ).loc Cert.AllToAllRefIdeal.main_arg1)
      ∧ r.2.mem ((c.tc : Thread Cert.AllToAllRefIdeal.nD Cert.AllToAllRefIdeal.τ).loc Cert.AllToAllRefIdeal.main_arg2) = m ((c.tc : Thread Cert.AllToAllRefIdeal.nD Cert.AllToAllRefIdeal.τ).loc Cert.AllToAllRefIdeal.main_arg2)
      ∧ r.2.mem ((c.tc : Thread Cert.AllToAllRefIdeal.nD Cert.AllToAllRefIdeal.τ).loc Cert.AllToAllRefIdeal.main_arg3) = m ((c.tc : Thread Cert.AllToAllRefIdeal.nD Cert.AllToAllRefIdeal.τ).loc Cert.AllToAllRefIdeal.main_arg3)
      ∧ r.2.mem ((c.tc : Thread Cert.AllToAllRefIdeal.nD Cert.AllToAllRefIdeal.τ).loc Cert.AllToAllRefIdeal.main_arg4) = m ((c.tc : Thread Cert.AllToAllRefIdeal.nD Cert.AllToAllRefIdeal.τ).loc Cert.AllToAllRefIdeal.main_arg4)
      ∧ r.2.mem ((c.tc : Thread Cert.AllToAllRefIdeal.nD Cert.AllToAllRefIdeal.τ).loc Cert.AllToAllRefIdeal.main_arg5) = m ((c.tc : Thread Cert.AllToAllRefIdeal.nD Cert.AllToAllRefIdeal.τ).loc Cert.AllToAllRefIdeal.main_arg5)
      ∧ r.2.mem ((c.tc : Thread Cert.AllToAllRefIdeal.nD Cert.AllToAllRefIdeal.τ).loc Cert.AllToAllRefIdeal.main_arg6) = m ((c.tc : Thread Cert.AllToAllRefIdeal.nD Cert.AllToAllRefIdeal.τ).loc Cert.AllToAllRefIdeal.main_arg6)
      ∧ r.2.mem ((c.tc : Thread Cert.AllToAllRefIdeal.nD Cert.AllToAllRefIdeal.τ).loc Cert.AllToAllRefIdeal.main_arg7) = m ((c.tc : Thread Cert.AllToAllRefIdeal.nD Cert.AllToAllRefIdeal.τ).loc Cert.AllToAllRefIdeal.main_arg7))
      ∧ r.2.sem = fun _ => 0)

def quiescent_AllToAllRef [hAllToAllRef : Cert.AllToAllRef.Facts] : Prop :=
  ∀ (m : (ℓ : Loc Cert.AllToAllRef.nD Cert.AllToAllRef.τ Cert.AllToAllRef.sig) → Buf (Elt Bits) ℓ) (g : Dev Cert.AllToAllRef.nD → PrngReg), Pre_AllToAllRef m →
    θ_run (Cert.AllToAllRef.defs (F := Bits)) (onTc (τ := Cert.AllToAllRef.τ) (Cert.AllToAllRef.main (F := Bits))) ⟨m, fun _ => 0, g⟩ (fun r => (∀ c : Dev Cert.AllToAllRef.nD,
      r.2.mem ((c.tc : Thread Cert.AllToAllRef.nD Cert.AllToAllRef.τ).loc Cert.AllToAllRef.main_arg0) = m ((c.tc : Thread Cert.AllToAllRef.nD Cert.AllToAllRef.τ).loc Cert.AllToAllRef.main_arg0)
      ∧ r.2.mem ((c.tc : Thread Cert.AllToAllRef.nD Cert.AllToAllRef.τ).loc Cert.AllToAllRef.main_arg1) = m ((c.tc : Thread Cert.AllToAllRef.nD Cert.AllToAllRef.τ).loc Cert.AllToAllRef.main_arg1)
      ∧ r.2.mem ((c.tc : Thread Cert.AllToAllRef.nD Cert.AllToAllRef.τ).loc Cert.AllToAllRef.main_arg2) = m ((c.tc : Thread Cert.AllToAllRef.nD Cert.AllToAllRef.τ).loc Cert.AllToAllRef.main_arg2)
      ∧ r.2.mem ((c.tc : Thread Cert.AllToAllRef.nD Cert.AllToAllRef.τ).loc Cert.AllToAllRef.main_arg3) = m ((c.tc : Thread Cert.AllToAllRef.nD Cert.AllToAllRef.τ).loc Cert.AllToAllRef.main_arg3)
      ∧ r.2.mem ((c.tc : Thread Cert.AllToAllRef.nD Cert.AllToAllRef.τ).loc Cert.AllToAllRef.main_arg4) = m ((c.tc : Thread Cert.AllToAllRef.nD Cert.AllToAllRef.τ).loc Cert.AllToAllRef.main_arg4)
      ∧ r.2.mem ((c.tc : Thread Cert.AllToAllRef.nD Cert.AllToAllRef.τ).loc Cert.AllToAllRef.main_arg5) = m ((c.tc : Thread Cert.AllToAllRef.nD Cert.AllToAllRef.τ).loc Cert.AllToAllRef.main_arg5)
      ∧ r.2.mem ((c.tc : Thread Cert.AllToAllRef.nD Cert.AllToAllRef.τ).loc Cert.AllToAllRef.main_arg6) = m ((c.tc : Thread Cert.AllToAllRef.nD Cert.AllToAllRef.τ).loc Cert.AllToAllRef.main_arg6)
      ∧ r.2.mem ((c.tc : Thread Cert.AllToAllRef.nD Cert.AllToAllRef.τ).loc Cert.AllToAllRef.main_arg7) = m ((c.tc : Thread Cert.AllToAllRef.nD Cert.AllToAllRef.τ).loc Cert.AllToAllRef.main_arg7))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3)
      ∧ r.2.mem ((c.tc : Thread Cert.Gather.nD Cert.Gather.τ).loc Cert.Gather.main_arg4) = m ((c.tc : Thread Cert.Gather.nD Cert.Gather.τ).loc Cert.Gather.main_arg4)
      ∧ r.2.mem ((c.tc : Thread Cert.Gather.nD Cert.Gather.τ).loc Cert.Gather.main_arg5) = m ((c.tc : Thread Cert.Gather.nD Cert.Gather.τ).loc Cert.Gather.main_arg5)
      ∧ r.2.mem ((c.tc : Thread Cert.Gather.nD Cert.Gather.τ).loc Cert.Gather.main_arg6) = m ((c.tc : Thread Cert.Gather.nD Cert.Gather.τ).loc Cert.Gather.main_arg6)
      ∧ r.2.mem ((c.tc : Thread Cert.Gather.nD Cert.Gather.τ).loc Cert.Gather.main_arg7) = m ((c.tc : Thread Cert.Gather.nD Cert.Gather.τ).loc Cert.Gather.main_arg7)
      ∧ r.2.mem ((c.tc : Thread Cert.Gather.nD Cert.Gather.τ).loc Cert.Gather.main_arg8) = m ((c.tc : Thread Cert.Gather.nD Cert.Gather.τ).loc Cert.Gather.main_arg8)
      ∧ r.2.mem ((c.tc : Thread Cert.Gather.nD Cert.Gather.τ).loc Cert.Gather.main_arg9) = m ((c.tc : Thread Cert.Gather.nD Cert.Gather.τ).loc Cert.Gather.main_arg9))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
      ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
      ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
      ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6)
      ∧ r.2.mem ((c.tc : Thread Cert.GatherIdeal.nD Cert.GatherIdeal.τ).loc Cert.GatherIdeal.main_arg7) = m ((c.tc : Thread Cert.GatherIdeal.nD Cert.GatherIdeal.τ).loc Cert.GatherIdeal.main_arg7)
      ∧ r.2.mem ((c.tc : Thread Cert.GatherIdeal.nD Cert.GatherIdeal.τ).loc Cert.GatherIdeal.main_arg8) = m ((c.tc : Thread Cert.GatherIdeal.nD Cert.GatherIdeal.τ).loc Cert.GatherIdeal.main_arg8)
      ∧ r.2.mem ((c.tc : Thread Cert.GatherIdeal.nD Cert.GatherIdeal.τ).loc Cert.GatherIdeal.main_arg9) = m ((c.tc : Thread Cert.GatherIdeal.nD Cert.GatherIdeal.τ).loc Cert.GatherIdeal.main_arg9))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1)
      ∧ r.2.mem ((c.tc : Thread Cert.GatherRefIdeal.nD Cert.GatherRefIdeal.τ).loc Cert.GatherRefIdeal.main_arg2) = m ((c.tc : Thread Cert.GatherRefIdeal.nD Cert.GatherRefIdeal.τ).loc Cert.GatherRefIdeal.main_arg2)
      ∧ r.2.mem ((c.tc : Thread Cert.GatherRefIdeal.nD Cert.GatherRefIdeal.τ).loc Cert.GatherRefIdeal.main_arg3) = m ((c.tc : Thread Cert.GatherRefIdeal.nD Cert.GatherRefIdeal.τ).loc Cert.GatherRefIdeal.main_arg3)
      ∧ r.2.mem ((c.tc : Thread Cert.GatherRefIdeal.nD Cert.GatherRefIdeal.τ).loc Cert.GatherRefIdeal.main_arg4) = m ((c.tc : Thread Cert.GatherRefIdeal.nD Cert.GatherRefIdeal.τ).loc Cert.GatherRefIdeal.main_arg4)
      ∧ r.2.mem ((c.tc : Thread Cert.GatherRefIdeal.nD Cert.GatherRefIdeal.τ).loc Cert.GatherRefIdeal.main_arg5) = m ((c.tc : Thread Cert.GatherRefIdeal.nD Cert.GatherRefIdeal.τ).loc Cert.GatherRefIdeal.main_arg5)
      ∧ r.2.mem ((c.tc : Thread Cert.GatherRefIdeal.nD Cert.GatherRefIdeal.τ).loc Cert.GatherRefIdeal.main_arg6) = m ((c.tc : Thread Cert.GatherRefIdeal.nD Cert.GatherRefIdeal.τ).loc Cert.GatherRefIdeal.main_arg6)
      ∧ r.2.mem ((c.tc : Thread Cert.GatherRefIdeal.nD Cert.GatherRefIdeal.τ).loc Cert.GatherRefIdeal.main_arg7) = m ((c.tc : Thread Cert.GatherRefIdeal.nD Cert.GatherRefIdeal.τ).loc Cert.GatherRefIdeal.main_arg7)
      ∧ r.2.mem ((c.tc : Thread Cert.GatherRefIdeal.nD Cert.GatherRefIdeal.τ).loc Cert.GatherRefIdeal.main_arg8) = m ((c.tc : Thread Cert.GatherRefIdeal.nD Cert.GatherRefIdeal.τ).loc Cert.GatherRefIdeal.main_arg8)
      ∧ r.2.mem ((c.tc : Thread Cert.GatherRefIdeal.nD Cert.GatherRefIdeal.τ).loc Cert.GatherRefIdeal.main_arg9) = m ((c.tc : Thread Cert.GatherRefIdeal.nD Cert.GatherRefIdeal.τ).loc Cert.GatherRefIdeal.main_arg9))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0)
      ∧ r.2.mem ((c.tc : Thread Cert.GatherRef.nD Cert.GatherRef.τ).loc Cert.GatherRef.main_arg1) = m ((c.tc : Thread Cert.GatherRef.nD Cert.GatherRef.τ).loc Cert.GatherRef.main_arg1)
      ∧ r.2.mem ((c.tc : Thread Cert.GatherRef.nD Cert.GatherRef.τ).loc Cert.GatherRef.main_arg2) = m ((c.tc : Thread Cert.GatherRef.nD Cert.GatherRef.τ).loc Cert.GatherRef.main_arg2)
      ∧ r.2.mem ((c.tc : Thread Cert.GatherRef.nD Cert.GatherRef.τ).loc Cert.GatherRef.main_arg3) = m ((c.tc : Thread Cert.GatherRef.nD Cert.GatherRef.τ).loc Cert.GatherRef.main_arg3)
      ∧ r.2.mem ((c.tc : Thread Cert.GatherRef.nD Cert.GatherRef.τ).loc Cert.GatherRef.main_arg4) = m ((c.tc : Thread Cert.GatherRef.nD Cert.GatherRef.τ).loc Cert.GatherRef.main_arg4)
      ∧ r.2.mem ((c.tc : Thread Cert.GatherRef.nD Cert.GatherRef.τ).loc Cert.GatherRef.main_arg5) = m ((c.tc : Thread Cert.GatherRef.nD Cert.GatherRef.τ).loc Cert.GatherRef.main_arg5)
      ∧ r.2.mem ((c.tc : Thread Cert.GatherRef.nD Cert.GatherRef.τ).loc Cert.GatherRef.main_arg6) = m ((c.tc : Thread Cert.GatherRef.nD Cert.GatherRef.τ).loc Cert.GatherRef.main_arg6)
      ∧ r.2.mem ((c.tc : Thread Cert.GatherRef.nD Cert.GatherRef.τ).loc Cert.GatherRef.main_arg7) = m ((c.tc : Thread Cert.GatherRef.nD Cert.GatherRef.τ).loc Cert.GatherRef.main_arg7)
      ∧ r.2.mem ((c.tc : Thread Cert.GatherRef.nD Cert.GatherRef.τ).loc Cert.GatherRef.main_arg8) = m ((c.tc : Thread Cert.GatherRef.nD Cert.GatherRef.τ).loc Cert.GatherRef.main_arg8)
      ∧ r.2.mem ((c.tc : Thread Cert.GatherRef.nD Cert.GatherRef.τ).loc Cert.GatherRef.main_arg9) = m ((c.tc : Thread Cert.GatherRef.nD Cert.GatherRef.τ).loc Cert.GatherRef.main_arg9))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0))
      ∧ r.2.sem = fun _ => 0)

def quiescent_SmallRef [hSmallRef : Cert.SmallRef.Facts] : Prop :=
  ∀ (m : (ℓ : Loc Cert.SmallRef.nD Cert.SmallRef.τ Cert.SmallRef.sig) → Buf (Elt Bits) ℓ) (g : Dev Cert.SmallRef.nD → PrngReg), Pre_SmallRef m →
    θ_run (Cert.SmallRef.defs (F := Bits)) (onTc (τ := Cert.SmallRef.τ) (Cert.SmallRef.main (F := Bits))) ⟨m, fun _ => 0, g⟩ (fun r => (∀ c : Dev Cert.SmallRef.nD,
      r.2.mem ((c.tc : Thread Cert.SmallRef.nD Cert.SmallRef.τ).loc Cert.SmallRef.main_arg0) = m ((c.tc : Thread Cert.SmallRef.nD Cert.SmallRef.τ).loc Cert.SmallRef.main_arg0))
      ∧ r.2.sem = fun _ => 0)

def quiescent_StepOut [hStepOut : Cert.StepOut.Facts] : Prop :=
  ∀ (m : (ℓ : Loc Cert.StepOut.nD Cert.StepOut.τ Cert.StepOut.sig) → Buf (Elt Bits) ℓ) (g : Dev Cert.StepOut.nD → PrngReg), Pre_StepOut m →
    θ_run (Cert.StepOut.defs (F := Bits)) (onTc (τ := Cert.StepOut.τ) (Cert.StepOut.main (F := Bits))) ⟨m, fun _ => 0, g⟩ (fun r => (∀ c : Dev Cert.StepOut.nD,
      r.2.mem ((c.tc : Thread Cert.StepOut.nD Cert.StepOut.τ).loc Cert.StepOut.main_arg0) = m ((c.tc : Thread Cert.StepOut.nD Cert.StepOut.τ).loc Cert.StepOut.main_arg0)
      ∧ r.2.mem ((c.tc : Thread Cert.StepOut.nD Cert.StepOut.τ).loc Cert.StepOut.main_arg1) = m ((c.tc : Thread Cert.StepOut.nD Cert.StepOut.τ).loc Cert.StepOut.main_arg1)
      ∧ r.2.mem ((c.tc : Thread Cert.StepOut.nD Cert.StepOut.τ).loc Cert.StepOut.main_arg2) = m ((c.tc : Thread Cert.StepOut.nD Cert.StepOut.τ).loc Cert.StepOut.main_arg2)
      ∧ r.2.mem ((c.tc : Thread Cert.StepOut.nD Cert.StepOut.τ).loc Cert.StepOut.main_arg3) = m ((c.tc : Thread Cert.StepOut.nD Cert.StepOut.τ).loc Cert.StepOut.main_arg3))
      ∧ r.2.sem = fun _ => 0)

def quiescent_StepOutIdeal [hStepOutIdeal : Cert.StepOutIdeal.Facts] : Prop :=
  ∀ (m : (ℓ : Loc Cert.StepOutIdeal.nD Cert.StepOutIdeal.τ Cert.StepOutIdeal.sig) → Buf (Elt Ideal) ℓ) (g : Dev Cert.StepOutIdeal.nD → PrngReg), Pre_StepOutIdeal m →
    θ_run (Cert.StepOutIdeal.defs (F := Ideal)) (onTc (τ := Cert.StepOutIdeal.τ) (Cert.StepOutIdeal.main (F := Ideal))) ⟨m, fun _ => 0, g⟩ (fun r => (∀ c : Dev Cert.StepOutIdeal.nD,
      r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
      ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
      ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
      ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ r.2.sem = fun _ => 0)

def quiescent_StepOutRefIdeal [hStepOutRefIdeal : Cert.StepOutRefIdeal.Facts] : Prop :=
  ∀ (m : (ℓ : Loc Cert.StepOutRefIdeal.nD Cert.StepOutRefIdeal.τ Cert.StepOutRefIdeal.sig) → Buf (Elt Ideal) ℓ) (g : Dev Cert.StepOutRefIdeal.nD → PrngReg), Pre_StepOutRefIdeal m →
    θ_run (Cert.StepOutRefIdeal.defs (F := Ideal)) (onTc (τ := Cert.StepOutRefIdeal.τ) (Cert.StepOutRefIdeal.main (F := Ideal))) ⟨m, fun _ => 0, g⟩ (fun r => (∀ c : Dev Cert.StepOutRefIdeal.nD,
      r.2.mem ((c.tc : Thread Cert.StepOutRefIdeal.nD Cert.StepOutRefIdeal.τ).loc Cert.StepOutRefIdeal.main_arg0) = m ((c.tc : Thread Cert.StepOutRefIdeal.nD Cert.StepOutRefIdeal.τ).loc Cert.StepOutRefIdeal.main_arg0)
      ∧ r.2.mem ((c.tc : Thread Cert.StepOutRefIdeal.nD Cert.StepOutRefIdeal.τ).loc Cert.StepOutRefIdeal.main_arg1) = m ((c.tc : Thread Cert.StepOutRefIdeal.nD Cert.StepOutRefIdeal.τ).loc Cert.StepOutRefIdeal.main_arg1)
      ∧ r.2.mem ((c.tc : Thread Cert.StepOutRefIdeal.nD Cert.StepOutRefIdeal.τ).loc Cert.StepOutRefIdeal.main_arg2) = m ((c.tc : Thread Cert.StepOutRefIdeal.nD Cert.StepOutRefIdeal.τ).loc Cert.StepOutRefIdeal.main_arg2)
      ∧ r.2.mem ((c.tc : Thread Cert.StepOutRefIdeal.nD Cert.StepOutRefIdeal.τ).loc Cert.StepOutRefIdeal.main_arg3) = m ((c.tc : Thread Cert.StepOutRefIdeal.nD Cert.StepOutRefIdeal.τ).loc Cert.StepOutRefIdeal.main_arg3))
      ∧ r.2.sem = fun _ => 0)

def quiescent_StepDown [hStepDown : Cert.StepDown.Facts] : Prop :=
  ∀ (m : (ℓ : Loc Cert.StepDown.nD Cert.StepDown.τ Cert.StepDown.sig) → Buf (Elt Bits) ℓ) (g : Dev Cert.StepDown.nD → PrngReg), Pre_StepDown m →
    θ_run (Cert.StepDown.defs (F := Bits)) (onTc (τ := Cert.StepDown.τ) (Cert.StepDown.main (F := Bits))) ⟨m, fun _ => 0, g⟩ (fun r => (∀ c : Dev Cert.StepDown.nD,
      r.2.mem ((c.tc : Thread Cert.StepDown.nD Cert.StepDown.τ).loc Cert.StepDown.main_arg0) = m ((c.tc : Thread Cert.StepDown.nD Cert.StepDown.τ).loc Cert.StepDown.main_arg0)
      ∧ r.2.mem ((c.tc : Thread Cert.StepDown.nD Cert.StepDown.τ).loc Cert.StepDown.main_arg1) = m ((c.tc : Thread Cert.StepDown.nD Cert.StepDown.τ).loc Cert.StepDown.main_arg1)
      ∧ r.2.mem ((c.tc : Thread Cert.StepDown.nD Cert.StepDown.τ).loc Cert.StepDown.main_arg2) = m ((c.tc : Thread Cert.StepDown.nD Cert.StepDown.τ).loc Cert.StepDown.main_arg2)
      ∧ r.2.mem ((c.tc : Thread Cert.StepDown.nD Cert.StepDown.τ).loc Cert.StepDown.main_arg3) = m ((c.tc : Thread Cert.StepDown.nD Cert.StepDown.τ).loc Cert.StepDown.main_arg3))
      ∧ r.2.sem = fun _ => 0)

def quiescent_StepDownIdeal [hStepDownIdeal : Cert.StepDownIdeal.Facts] : Prop :=
  ∀ (m : (ℓ : Loc Cert.StepDownIdeal.nD Cert.StepDownIdeal.τ Cert.StepDownIdeal.sig) → Buf (Elt Ideal) ℓ) (g : Dev Cert.StepDownIdeal.nD → PrngReg), Pre_StepDownIdeal m →
    θ_run (Cert.StepDownIdeal.defs (F := Ideal)) (onTc (τ := Cert.StepDownIdeal.τ) (Cert.StepDownIdeal.main (F := Ideal))) ⟨m, fun _ => 0, g⟩ (fun r => (∀ c : Dev Cert.StepDownIdeal.nD,
      r.2.mem ((c.tc : Thread Cert.StepDownIdeal.nD Cert.StepDownIdeal.τ).loc Cert.StepDownIdeal.main_arg0) = m ((c.tc : Thread Cert.StepDownIdeal.nD Cert.StepDownIdeal.τ).loc Cert.StepDownIdeal.main_arg0)
      ∧ r.2.mem ((c.tc : Thread Cert.StepDownIdeal.nD Cert.StepDownIdeal.τ).loc Cert.StepDownIdeal.main_arg1) = m ((c.tc : Thread Cert.StepDownIdeal.nD Cert.StepDownIdeal.τ).loc Cert.StepDownIdeal.main_arg1)
      ∧ r.2.mem ((c.tc : Thread Cert.StepDownIdeal.nD Cert.StepDownIdeal.τ).loc Cert.StepDownIdeal.main_arg2) = m ((c.tc : Thread Cert.StepDownIdeal.nD Cert.StepDownIdeal.τ).loc Cert.StepDownIdeal.main_arg2)
      ∧ r.2.mem ((c.tc : Thread Cert.StepDownIdeal.nD Cert.StepDownIdeal.τ).loc Cert.StepDownIdeal.main_arg3) = m ((c.tc : Thread Cert.StepDownIdeal.nD Cert.StepDownIdeal.τ).loc Cert.StepDownIdeal.main_arg3))
      ∧ r.2.sem = fun _ => 0)

def quiescent_StepDownRefIdeal [hStepDownRefIdeal : Cert.StepDownRefIdeal.Facts] : Prop :=
  ∀ (m : (ℓ : Loc Cert.StepDownRefIdeal.nD Cert.StepDownRefIdeal.τ Cert.StepDownRefIdeal.sig) → Buf (Elt Ideal) ℓ) (g : Dev Cert.StepDownRefIdeal.nD → PrngReg), Pre_StepDownRefIdeal m →
    θ_run (Cert.StepDownRefIdeal.defs (F := Ideal)) (onTc (τ := Cert.StepDownRefIdeal.τ) (Cert.StepDownRefIdeal.main (F := Ideal))) ⟨m, fun _ => 0, g⟩ (fun r => (∀ c : Dev Cert.StepDownRefIdeal.nD,
      r.2.mem ((c.tc : Thread Cert.StepDownRefIdeal.nD Cert.StepDownRefIdeal.τ).loc Cert.StepDownRefIdeal.main_arg0) = m ((c.tc : Thread Cert.StepDownRefIdeal.nD Cert.StepDownRefIdeal.τ).loc Cert.StepDownRefIdeal.main_arg0)
      ∧ r.2.mem ((c.tc : Thread Cert.StepDownRefIdeal.nD Cert.StepDownRefIdeal.τ).loc Cert.StepDownRefIdeal.main_arg1) = m ((c.tc : Thread Cert.StepDownRefIdeal.nD Cert.StepDownRefIdeal.τ).loc Cert.StepDownRefIdeal.main_arg1)
      ∧ r.2.mem ((c.tc : Thread Cert.StepDownRefIdeal.nD Cert.StepDownRefIdeal.τ).loc Cert.StepDownRefIdeal.main_arg2) = m ((c.tc : Thread Cert.StepDownRefIdeal.nD Cert.StepDownRefIdeal.τ).loc Cert.StepDownRefIdeal.main_arg2)
      ∧ r.2.mem ((c.tc : Thread Cert.StepDownRefIdeal.nD Cert.StepDownRefIdeal.τ).loc Cert.StepDownRefIdeal.main_arg3) = m ((c.tc : Thread Cert.StepDownRefIdeal.nD Cert.StepDownRefIdeal.τ).loc Cert.StepDownRefIdeal.main_arg3))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0))
      ∧ r.2.sem = fun _ => 0)

def quiescent_SumUp [hSumUp : Cert.SumUp.Facts] : Prop :=
  ∀ (m : (ℓ : Loc Cert.SumUp.nD Cert.SumUp.τ Cert.SumUp.sig) → Buf (Elt Bits) ℓ) (g : Dev Cert.SumUp.nD → PrngReg), Pre_SumUp m →
    θ_run (Cert.SumUp.defs (F := Bits)) (onTc (τ := Cert.SumUp.τ) (Cert.SumUp.main (F := Bits))) ⟨m, fun _ => 0, g⟩ (fun r => (∀ c : Dev Cert.SumUp.nD,
      r.2.mem ((c.tc : Thread Cert.SumUp.nD Cert.SumUp.τ).loc Cert.SumUp.main_arg0) = m ((c.tc : Thread Cert.SumUp.nD Cert.SumUp.τ).loc Cert.SumUp.main_arg0))
      ∧ r.2.sem = fun _ => 0)

def quiescent_SumUpIdeal [hSumUpIdeal : Cert.SumUpIdeal.Facts] : Prop :=
  ∀ (m : (ℓ : Loc Cert.SumUpIdeal.nD Cert.SumUpIdeal.τ Cert.SumUpIdeal.sig) → Buf (Elt Ideal) ℓ) (g : Dev Cert.SumUpIdeal.nD → PrngReg), Pre_SumUpIdeal m →
    θ_run (Cert.SumUpIdeal.defs (F := Ideal)) (onTc (τ := Cert.SumUpIdeal.τ) (Cert.SumUpIdeal.main (F := Ideal))) ⟨m, fun _ => 0, g⟩ (fun r => (∀ c : Dev Cert.SumUpIdeal.nD,
      r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0))
      ∧ r.2.sem = fun _ => 0)

def quiescent_SumUpRefIdeal [hSumUpRefIdeal : Cert.SumUpRefIdeal.Facts] : Prop :=
  ∀ (m : (ℓ : Loc Cert.SumUpRefIdeal.nD Cert.SumUpRefIdeal.τ Cert.SumUpRefIdeal.sig) → Buf (Elt Ideal) ℓ) (g : Dev Cert.SumUpRefIdeal.nD → PrngReg), Pre_SumUpRefIdeal m →
    θ_run (Cert.SumUpRefIdeal.defs (F := Ideal)) (onTc (τ := Cert.SumUpRefIdeal.τ) (Cert.SumUpRefIdeal.main (F := Ideal))) ⟨m, fun _ => 0, g⟩ (fun r => (∀ c : Dev Cert.SumUpRefIdeal.nD,
      r.2.mem ((c.tc : Thread Cert.SumUpRefIdeal.nD Cert.SumUpRefIdeal.τ).loc Cert.SumUpRefIdeal.main_arg0) = m ((c.tc : Thread Cert.SumUpRefIdeal.nD Cert.SumUpRefIdeal.τ).loc Cert.SumUpRefIdeal.main_arg0))
      ∧ r.2.sem = fun _ => 0)

def quiescent_SumQkv [hSumQkv : Cert.SumQkv.Facts] : Prop :=
  ∀ (m : (ℓ : Loc Cert.SumQkv.nD Cert.SumQkv.τ Cert.SumQkv.sig) → Buf (Elt Bits) ℓ) (g : Dev Cert.SumQkv.nD → PrngReg), Pre_SumQkv m →
    θ_run (Cert.SumQkv.defs (F := Bits)) (onTc (τ := Cert.SumQkv.τ) (Cert.SumQkv.main (F := Bits))) ⟨m, fun _ => 0, g⟩ (fun r => (∀ c : Dev Cert.SumQkv.nD,
      r.2.mem ((c.tc : Thread Cert.SumQkv.nD Cert.SumQkv.τ).loc Cert.SumQkv.main_arg0) = m ((c.tc : Thread Cert.SumQkv.nD Cert.SumQkv.τ).loc Cert.SumQkv.main_arg0))
      ∧ r.2.sem = fun _ => 0)

def quiescent_SumQkvIdeal [hSumQkvIdeal : Cert.SumQkvIdeal.Facts] : Prop :=
  ∀ (m : (ℓ : Loc Cert.SumQkvIdeal.nD Cert.SumQkvIdeal.τ Cert.SumQkvIdeal.sig) → Buf (Elt Ideal) ℓ) (g : Dev Cert.SumQkvIdeal.nD → PrngReg), Pre_SumQkvIdeal m →
    θ_run (Cert.SumQkvIdeal.defs (F := Ideal)) (onTc (τ := Cert.SumQkvIdeal.τ) (Cert.SumQkvIdeal.main (F := Ideal))) ⟨m, fun _ => 0, g⟩ (fun r => (∀ c : Dev Cert.SumQkvIdeal.nD,
      r.2.mem ((c.tc : Thread Cert.SumQkvIdeal.nD Cert.SumQkvIdeal.τ).loc Cert.SumQkvIdeal.main_arg0) = m ((c.tc : Thread Cert.SumQkvIdeal.nD Cert.SumQkvIdeal.τ).loc Cert.SumQkvIdeal.main_arg0))
      ∧ r.2.sem = fun _ => 0)

def quiescent_SumQkvRefIdeal [hSumQkvRefIdeal : Cert.SumQkvRefIdeal.Facts] : Prop :=
  ∀ (m : (ℓ : Loc Cert.SumQkvRefIdeal.nD Cert.SumQkvRefIdeal.τ Cert.SumQkvRefIdeal.sig) → Buf (Elt Ideal) ℓ) (g : Dev Cert.SumQkvRefIdeal.nD → PrngReg), Pre_SumQkvRefIdeal m →
    θ_run (Cert.SumQkvRefIdeal.defs (F := Ideal)) (onTc (τ := Cert.SumQkvRefIdeal.τ) (Cert.SumQkvRefIdeal.main (F := Ideal))) ⟨m, fun _ => 0, g⟩ (fun r => (∀ c : Dev Cert.SumQkvRefIdeal.nD,
      r.2.mem ((c.tc : Thread Cert.SumQkvRefIdeal.nD Cert.SumQkvRefIdeal.τ).loc Cert.SumQkvRefIdeal.main_arg0) = m ((c.tc : Thread Cert.SumQkvRefIdeal.nD Cert.SumQkvRefIdeal.τ).loc Cert.SumQkvRefIdeal.main_arg0))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_StepIn [hStepIn : Cert.StepIn.Facts] : Prop :=
  ∀ (m : (ℓ : Loc Cert.StepIn.nD Cert.StepIn.τ Cert.StepIn.sig) → Buf (Elt Bits) ℓ) (g : Dev Cert.StepIn.nD → PrngReg), Pre_StepIn m →
    θ_run (Cert.StepIn.defs (F := Bits)) (onTc (τ := Cert.StepIn.τ) (Cert.StepIn.main (F := Bits))) ⟨m, fun _ => 0, g⟩ (fun r => (∀ c : Dev Cert.StepIn.nD,
      r.2.mem ((c.tc : Thread Cert.StepIn.nD Cert.StepIn.τ).loc Cert.StepIn.main_arg0) = m ((c.tc : Thread Cert.StepIn.nD Cert.StepIn.τ).loc Cert.StepIn.main_arg0)
      ∧ r.2.mem ((c.tc : Thread Cert.StepIn.nD Cert.StepIn.τ).loc Cert.StepIn.main_arg1) = m ((c.tc : Thread Cert.StepIn.nD Cert.StepIn.τ).loc Cert.StepIn.main_arg1)
      ∧ r.2.mem ((c.tc : Thread Cert.StepIn.nD Cert.StepIn.τ).loc Cert.StepIn.main_arg2) = m ((c.tc : Thread Cert.StepIn.nD Cert.StepIn.τ).loc Cert.StepIn.main_arg2)
      ∧ r.2.mem ((c.tc : Thread Cert.StepIn.nD Cert.StepIn.τ).loc Cert.StepIn.main_arg3) = m ((c.tc : Thread Cert.StepIn.nD Cert.StepIn.τ).loc Cert.StepIn.main_arg3))
      ∧ r.2.sem = fun _ => 0)

def quiescent_StepInIdeal [hStepInIdeal : Cert.StepInIdeal.Facts] : Prop :=
  ∀ (m : (ℓ : Loc Cert.StepInIdeal.nD Cert.StepInIdeal.τ Cert.StepInIdeal.sig) → Buf (Elt Ideal) ℓ) (g : Dev Cert.StepInIdeal.nD → PrngReg), Pre_StepInIdeal m →
    θ_run (Cert.StepInIdeal.defs (F := Ideal)) (onTc (τ := Cert.StepInIdeal.τ) (Cert.StepInIdeal.main (F := Ideal))) ⟨m, fun _ => 0, g⟩ (fun r => (∀ c : Dev Cert.StepInIdeal.nD,
      r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
      ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
      ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
      ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
      ∧ r.2.sem = fun _ => 0)

def quiescent_StepInRefIdeal [hStepInRefIdeal : Cert.StepInRefIdeal.Facts] : Prop :=
  ∀ (m : (ℓ : Loc Cert.StepInRefIdeal.nD Cert.StepInRefIdeal.τ Cert.StepInRefIdeal.sig) → Buf (Elt Ideal) ℓ) (g : Dev Cert.StepInRefIdeal.nD → PrngReg), Pre_StepInRefIdeal m →
    θ_run (Cert.StepInRefIdeal.defs (F := Ideal)) (onTc (τ := Cert.StepInRefIdeal.τ) (Cert.StepInRefIdeal.main (F := Ideal))) ⟨m, fun _ => 0, g⟩ (fun r => (∀ c : Dev Cert.StepInRefIdeal.nD,
      r.2.mem ((c.tc : Thread Cert.StepInRefIdeal.nD Cert.StepInRefIdeal.τ).loc Cert.StepInRefIdeal.main_arg0) = m ((c.tc : Thread Cert.StepInRefIdeal.nD Cert.StepInRefIdeal.τ).loc Cert.StepInRefIdeal.main_arg0)
      ∧ r.2.mem ((c.tc : Thread Cert.StepInRefIdeal.nD Cert.StepInRefIdeal.τ).loc Cert.StepInRefIdeal.main_arg1) = m ((c.tc : Thread Cert.StepInRefIdeal.nD Cert.StepInRefIdeal.τ).loc Cert.StepInRefIdeal.main_arg1)
      ∧ r.2.mem ((c.tc : Thread Cert.StepInRefIdeal.nD Cert.StepInRefIdeal.τ).loc Cert.StepInRefIdeal.main_arg2) = m ((c.tc : Thread Cert.StepInRefIdeal.nD Cert.StepInRefIdeal.τ).loc Cert.StepInRefIdeal.main_arg2)
      ∧ r.2.mem ((c.tc : Thread Cert.StepInRefIdeal.nD Cert.StepInRefIdeal.τ).loc Cert.StepInRefIdeal.main_arg3) = m ((c.tc : Thread Cert.StepInRefIdeal.nD Cert.StepInRefIdeal.τ).loc Cert.StepInRefIdeal.main_arg3))
      ∧ r.2.sem = fun _ => 0)

def quiescent_StepUp [hStepUp : Cert.StepUp.Facts] : Prop :=
  ∀ (m : (ℓ : Loc Cert.StepUp.nD Cert.StepUp.τ Cert.StepUp.sig) → Buf (Elt Bits) ℓ) (g : Dev Cert.StepUp.nD → PrngReg), Pre_StepUp m →
    θ_run (Cert.StepUp.defs (F := Bits)) (onTc (τ := Cert.StepUp.τ) (Cert.StepUp.main (F := Bits))) ⟨m, fun _ => 0, g⟩ (fun r => (∀ c : Dev Cert.StepUp.nD,
      r.2.mem ((c.tc : Thread Cert.StepUp.nD Cert.StepUp.τ).loc Cert.StepUp.main_arg0) = m ((c.tc : Thread Cert.StepUp.nD Cert.StepUp.τ).loc Cert.StepUp.main_arg0)
      ∧ r.2.mem ((c.tc : Thread Cert.StepUp.nD Cert.StepUp.τ).loc Cert.StepUp.main_arg1) = m ((c.tc : Thread Cert.StepUp.nD Cert.StepUp.τ).loc Cert.StepUp.main_arg1)
      ∧ r.2.mem ((c.tc : Thread Cert.StepUp.nD Cert.StepUp.τ).loc Cert.StepUp.main_arg2) = m ((c.tc : Thread Cert.StepUp.nD Cert.StepUp.τ).loc Cert.StepUp.main_arg2)
      ∧ r.2.mem ((c.tc : Thread Cert.StepUp.nD Cert.StepUp.τ).loc Cert.StepUp.main_arg3) = m ((c.tc : Thread Cert.StepUp.nD Cert.StepUp.τ).loc Cert.StepUp.main_arg3))
      ∧ r.2.sem = fun _ => 0)

def quiescent_StepUpIdeal [hStepUpIdeal : Cert.StepUpIdeal.Facts] : Prop :=
  ∀ (m : (ℓ : Loc Cert.StepUpIdeal.nD Cert.StepUpIdeal.τ Cert.StepUpIdeal.sig) → Buf (Elt Ideal) ℓ) (g : Dev Cert.StepUpIdeal.nD → PrngReg), Pre_StepUpIdeal m →
    θ_run (Cert.StepUpIdeal.defs (F := Ideal)) (onTc (τ := Cert.StepUpIdeal.τ) (Cert.StepUpIdeal.main (F := Ideal))) ⟨m, fun _ => 0, g⟩ (fun r => (∀ c : Dev Cert.StepUpIdeal.nD,
      r.2.mem ((c.tc : Thread Cert.StepUpIdeal.nD Cert.StepUpIdeal.τ).loc Cert.StepUpIdeal.main_arg0) = m ((c.tc : Thread Cert.StepUpIdeal.nD Cert.StepUpIdeal.τ).loc Cert.StepUpIdeal.main_arg0)
      ∧ r.2.mem ((c.tc : Thread Cert.StepUpIdeal.nD Cert.StepUpIdeal.τ).loc Cert.StepUpIdeal.main_arg1) = m ((c.tc : Thread Cert.StepUpIdeal.nD Cert.StepUpIdeal.τ).loc Cert.StepUpIdeal.main_arg1)
      ∧ r.2.mem ((c.tc : Thread Cert.StepUpIdeal.nD Cert.StepUpIdeal.τ).loc Cert.StepUpIdeal.main_arg2) = m ((c.tc : Thread Cert.StepUpIdeal.nD Cert.StepUpIdeal.τ).loc Cert.StepUpIdeal.main_arg2)
      ∧ r.2.mem ((c.tc : Thread Cert.StepUpIdeal.nD Cert.StepUpIdeal.τ).loc Cert.StepUpIdeal.main_arg3) = m ((c.tc : Thread Cert.StepUpIdeal.nD Cert.StepUpIdeal.τ).loc Cert.StepUpIdeal.main_arg3))
      ∧ r.2.sem = fun _ => 0)

def quiescent_StepUpRefIdeal [hStepUpRefIdeal : Cert.StepUpRefIdeal.Facts] : Prop :=
  ∀ (m : (ℓ : Loc Cert.StepUpRefIdeal.nD Cert.StepUpRefIdeal.τ Cert.StepUpRefIdeal.sig) → Buf (Elt Ideal) ℓ) (g : Dev Cert.StepUpRefIdeal.nD → PrngReg), Pre_StepUpRefIdeal m →
    θ_run (Cert.StepUpRefIdeal.defs (F := Ideal)) (onTc (τ := Cert.StepUpRefIdeal.τ) (Cert.StepUpRefIdeal.main (F := Ideal))) ⟨m, fun _ => 0, g⟩ (fun r => (∀ c : Dev Cert.StepUpRefIdeal.nD,
      r.2.mem ((c.tc : Thread Cert.StepUpRefIdeal.nD Cert.StepUpRefIdeal.τ).loc Cert.StepUpRefIdeal.main_arg0) = m ((c.tc : Thread Cert.StepUpRefIdeal.nD Cert.StepUpRefIdeal.τ).loc Cert.StepUpRefIdeal.main_arg0)
      ∧ r.2.mem ((c.tc : Thread Cert.StepUpRefIdeal.nD Cert.StepUpRefIdeal.τ).loc Cert.StepUpRefIdeal.main_arg1) = m ((c.tc : Thread Cert.StepUpRefIdeal.nD Cert.StepUpRefIdeal.τ).loc Cert.StepUpRefIdeal.main_arg1)
      ∧ r.2.mem ((c.tc : Thread Cert.StepUpRefIdeal.nD Cert.StepUpRefIdeal.τ).loc Cert.StepUpRefIdeal.main_arg2) = m ((c.tc : Thread Cert.StepUpRefIdeal.nD Cert.StepUpRefIdeal.τ).loc Cert.StepUpRefIdeal.main_arg2)
      ∧ r.2.mem ((c.tc : Thread Cert.StepUpRefIdeal.nD Cert.StepUpRefIdeal.τ).loc Cert.StepUpRefIdeal.main_arg3) = m ((c.tc : Thread Cert.StepUpRefIdeal.nD Cert.StepUpRefIdeal.τ).loc Cert.StepUpRefIdeal.main_arg3))
      ∧ r.2.sem = fun _ => 0)

def quiescent_StepQkv [hStepQkv : Cert.StepQkv.Facts] : Prop :=
  ∀ (m : (ℓ : Loc Cert.StepQkv.nD Cert.StepQkv.τ Cert.StepQkv.sig) → Buf (Elt Bits) ℓ) (g : Dev Cert.StepQkv.nD → PrngReg), Pre_StepQkv m →
    θ_run (Cert.StepQkv.defs (F := Bits)) (onTc (τ := Cert.StepQkv.τ) (Cert.StepQkv.main (F := Bits))) ⟨m, fun _ => 0, g⟩ (fun r => (∀ c : Dev Cert.StepQkv.nD,
      r.2.mem ((c.tc : Thread Cert.StepQkv.nD Cert.StepQkv.τ).loc Cert.StepQkv.main_arg0) = m ((c.tc : Thread Cert.StepQkv.nD Cert.StepQkv.τ).loc Cert.StepQkv.main_arg0)
      ∧ r.2.mem ((c.tc : Thread Cert.StepQkv.nD Cert.StepQkv.τ).loc Cert.StepQkv.main_arg1) = m ((c.tc : Thread Cert.StepQkv.nD Cert.StepQkv.τ).loc Cert.StepQkv.main_arg1)
      ∧ r.2.mem ((c.tc : Thread Cert.StepQkv.nD Cert.StepQkv.τ).loc Cert.StepQkv.main_arg2) = m ((c.tc : Thread Cert.StepQkv.nD Cert.StepQkv.τ).loc Cert.StepQkv.main_arg2)
      ∧ r.2.mem ((c.tc : Thread Cert.StepQkv.nD Cert.StepQkv.τ).loc Cert.StepQkv.main_arg3) = m ((c.tc : Thread Cert.StepQkv.nD Cert.StepQkv.τ).loc Cert.StepQkv.main_arg3))
      ∧ r.2.sem = fun _ => 0)

def quiescent_StepQkvIdeal [hStepQkvIdeal : Cert.StepQkvIdeal.Facts] : Prop :=
  ∀ (m : (ℓ : Loc Cert.StepQkvIdeal.nD Cert.StepQkvIdeal.τ Cert.StepQkvIdeal.sig) → Buf (Elt Ideal) ℓ) (g : Dev Cert.StepQkvIdeal.nD → PrngReg), Pre_StepQkvIdeal m →
    θ_run (Cert.StepQkvIdeal.defs (F := Ideal)) (onTc (τ := Cert.StepQkvIdeal.τ) (Cert.StepQkvIdeal.main (F := Ideal))) ⟨m, fun _ => 0, g⟩ (fun r => (∀ c : Dev Cert.StepQkvIdeal.nD,
      r.2.mem ((c.tc : Thread Cert.StepQkvIdeal.nD Cert.StepQkvIdeal.τ).loc Cert.StepQkvIdeal.main_arg0) = m ((c.tc : Thread Cert.StepQkvIdeal.nD Cert.StepQkvIdeal.τ).loc Cert.StepQkvIdeal.main_arg0)
      ∧ r.2.mem ((c.tc : Thread Cert.StepQkvIdeal.nD Cert.StepQkvIdeal.τ).loc Cert.StepQkvIdeal.main_arg1) = m ((c.tc : Thread Cert.StepQkvIdeal.nD Cert.StepQkvIdeal.τ).loc Cert.StepQkvIdeal.main_arg1)
      ∧ r.2.mem ((c.tc : Thread Cert.StepQkvIdeal.nD Cert.StepQkvIdeal.τ).loc Cert.StepQkvIdeal.main_arg2) = m ((c.tc : Thread Cert.StepQkvIdeal.nD Cert.StepQkvIdeal.τ).loc Cert.StepQkvIdeal.main_arg2)
      ∧ r.2.mem ((c.tc : Thread Cert.StepQkvIdeal.nD Cert.StepQkvIdeal.τ).loc Cert.StepQkvIdeal.main_arg3) = m ((c.tc : Thread Cert.StepQkvIdeal.nD Cert.StepQkvIdeal.τ).loc Cert.StepQkvIdeal.main_arg3))
      ∧ r.2.sem = fun _ => 0)

def quiescent_StepQkvRefIdeal [hStepQkvRefIdeal : Cert.StepQkvRefIdeal.Facts] : Prop :=
  ∀ (m : (ℓ : Loc Cert.StepQkvRefIdeal.nD Cert.StepQkvRefIdeal.τ Cert.StepQkvRefIdeal.sig) → Buf (Elt Ideal) ℓ) (g : Dev Cert.StepQkvRefIdeal.nD → PrngReg), Pre_StepQkvRefIdeal m →
    θ_run (Cert.StepQkvRefIdeal.defs (F := Ideal)) (onTc (τ := Cert.StepQkvRefIdeal.τ) (Cert.StepQkvRefIdeal.main (F := Ideal))) ⟨m, fun _ => 0, g⟩ (fun r => (∀ c : Dev Cert.StepQkvRefIdeal.nD,
      r.2.mem ((c.tc : Thread Cert.StepQkvRefIdeal.nD Cert.StepQkvRefIdeal.τ).loc Cert.StepQkvRefIdeal.main_arg0) = m ((c.tc : Thread Cert.StepQkvRefIdeal.nD Cert.StepQkvRefIdeal.τ).loc Cert.StepQkvRefIdeal.main_arg0)
      ∧ r.2.mem ((c.tc : Thread Cert.StepQkvRefIdeal.nD Cert.StepQkvRefIdeal.τ).loc Cert.StepQkvRefIdeal.main_arg1) = m ((c.tc : Thread Cert.StepQkvRefIdeal.nD Cert.StepQkvRefIdeal.τ).loc Cert.StepQkvRefIdeal.main_arg1)
      ∧ r.2.mem ((c.tc : Thread Cert.StepQkvRefIdeal.nD Cert.StepQkvRefIdeal.τ).loc Cert.StepQkvRefIdeal.main_arg2) = m ((c.tc : Thread Cert.StepQkvRefIdeal.nD Cert.StepQkvRefIdeal.τ).loc Cert.StepQkvRefIdeal.main_arg2)
      ∧ r.2.mem ((c.tc : Thread Cert.StepQkvRefIdeal.nD Cert.StepQkvRefIdeal.τ).loc Cert.StepQkvRefIdeal.main_arg3) = m ((c.tc : Thread Cert.StepQkvRefIdeal.nD Cert.StepQkvRefIdeal.τ).loc Cert.StepQkvRefIdeal.main_arg3))
      ∧ r.2.sem = fun _ => 0)

def quiescent_StepMeta [hStepMeta : Cert.StepMeta.Facts] : Prop :=
  ∀ (m : (ℓ : Loc Cert.StepMeta.nD Cert.StepMeta.τ Cert.StepMeta.sig) → Buf (Elt Bits) ℓ) (g : Dev Cert.StepMeta.nD → PrngReg), Pre_StepMeta m →
    θ_run (Cert.StepMeta.defs (F := Bits)) (onTc (τ := Cert.StepMeta.τ) (Cert.StepMeta.main (F := Bits))) ⟨m, fun _ => 0, g⟩ (fun r => (∀ c : Dev Cert.StepMeta.nD,
      r.2.mem ((c.tc : Thread Cert.StepMeta.nD Cert.StepMeta.τ).loc Cert.StepMeta.main_arg0) = m ((c.tc : Thread Cert.StepMeta.nD Cert.StepMeta.τ).loc Cert.StepMeta.main_arg0)
      ∧ r.2.mem ((c.tc : Thread Cert.StepMeta.nD Cert.StepMeta.τ).loc Cert.StepMeta.main_arg1) = m ((c.tc : Thread Cert.StepMeta.nD Cert.StepMeta.τ).loc Cert.StepMeta.main_arg1)
      ∧ r.2.mem ((c.tc : Thread Cert.StepMeta.nD Cert.StepMeta.τ).loc Cert.StepMeta.main_arg2) = m ((c.tc : Thread Cert.StepMeta.nD Cert.StepMeta.τ).loc Cert.StepMeta.main_arg2)
      ∧ r.2.mem ((c.tc : Thread Cert.StepMeta.nD Cert.StepMeta.τ).loc Cert.StepMeta.main_arg3) = m ((c.tc : Thread Cert.StepMeta.nD Cert.StepMeta.τ).loc Cert.StepMeta.main_arg3))
      ∧ r.2.sem = fun _ => 0)

def quiescent_StepMetaIdeal [hStepMetaIdeal : Cert.StepMetaIdeal.Facts] : Prop :=
  ∀ (m : (ℓ : Loc Cert.StepMetaIdeal.nD Cert.StepMetaIdeal.τ Cert.StepMetaIdeal.sig) → Buf (Elt Ideal) ℓ) (g : Dev Cert.StepMetaIdeal.nD → PrngReg), Pre_StepMetaIdeal m →
    θ_run (Cert.StepMetaIdeal.defs (F := Ideal)) (onTc (τ := Cert.StepMetaIdeal.τ) (Cert.StepMetaIdeal.main (F := Ideal))) ⟨m, fun _ => 0, g⟩ (fun r => (∀ c : Dev Cert.StepMetaIdeal.nD,
      r.2.mem ((c.tc : Thread Cert.StepMetaIdeal.nD Cert.StepMetaIdeal.τ).loc Cert.StepMetaIdeal.main_arg0) = m ((c.tc : Thread Cert.StepMetaIdeal.nD Cert.StepMetaIdeal.τ).loc Cert.StepMetaIdeal.main_arg0)
      ∧ r.2.mem ((c.tc : Thread Cert.StepMetaIdeal.nD Cert.StepMetaIdeal.τ).loc Cert.StepMetaIdeal.main_arg1) = m ((c.tc : Thread Cert.StepMetaIdeal.nD Cert.StepMetaIdeal.τ).loc Cert.StepMetaIdeal.main_arg1)
      ∧ r.2.mem ((c.tc : Thread Cert.StepMetaIdeal.nD Cert.StepMetaIdeal.τ).loc Cert.StepMetaIdeal.main_arg2) = m ((c.tc : Thread Cert.StepMetaIdeal.nD Cert.StepMetaIdeal.τ).loc Cert.StepMetaIdeal.main_arg2)
      ∧ r.2.mem ((c.tc : Thread Cert.StepMetaIdeal.nD Cert.StepMetaIdeal.τ).loc Cert.StepMetaIdeal.main_arg3) = m ((c.tc : Thread Cert.StepMetaIdeal.nD Cert.StepMetaIdeal.τ).loc Cert.StepMetaIdeal.main_arg3))
      ∧ r.2.sem = fun _ => 0)

def quiescent_StepMetaRefIdeal [hStepMetaRefIdeal : Cert.StepMetaRefIdeal.Facts] : Prop :=
  ∀ (m : (ℓ : Loc Cert.StepMetaRefIdeal.nD Cert.StepMetaRefIdeal.τ Cert.StepMetaRefIdeal.sig) → Buf (Elt Ideal) ℓ) (g : Dev Cert.StepMetaRefIdeal.nD → PrngReg), Pre_StepMetaRefIdeal m →
    θ_run (Cert.StepMetaRefIdeal.defs (F := Ideal)) (onTc (τ := Cert.StepMetaRefIdeal.τ) (Cert.StepMetaRefIdeal.main (F := Ideal))) ⟨m, fun _ => 0, g⟩ (fun r => (∀ c : Dev Cert.StepMetaRefIdeal.nD,
      r.2.mem ((c.tc : Thread Cert.StepMetaRefIdeal.nD Cert.StepMetaRefIdeal.τ).loc Cert.StepMetaRefIdeal.main_arg0) = m ((c.tc : Thread Cert.StepMetaRefIdeal.nD Cert.StepMetaRefIdeal.τ).loc Cert.StepMetaRefIdeal.main_arg0)
      ∧ r.2.mem ((c.tc : Thread Cert.StepMetaRefIdeal.nD Cert.StepMetaRefIdeal.τ).loc Cert.StepMetaRefIdeal.main_arg1) = m ((c.tc : Thread Cert.StepMetaRefIdeal.nD Cert.StepMetaRefIdeal.τ).loc Cert.StepMetaRefIdeal.main_arg1)
      ∧ r.2.mem ((c.tc : Thread Cert.StepMetaRefIdeal.nD Cert.StepMetaRefIdeal.τ).loc Cert.StepMetaRefIdeal.main_arg2) = m ((c.tc : Thread Cert.StepMetaRefIdeal.nD Cert.StepMetaRefIdeal.τ).loc Cert.StepMetaRefIdeal.main_arg2)
      ∧ r.2.mem ((c.tc : Thread Cert.StepMetaRefIdeal.nD Cert.StepMetaRefIdeal.τ).loc Cert.StepMetaRefIdeal.main_arg3) = m ((c.tc : Thread Cert.StepMetaRefIdeal.nD Cert.StepMetaRefIdeal.τ).loc Cert.StepMetaRefIdeal.main_arg3))
      ∧ r.2.sem = fun _ => 0)

def quiescent_StepConv [hStepConv : Cert.StepConv.Facts] : Prop :=
  ∀ (m : (ℓ : Loc Cert.StepConv.nD Cert.StepConv.τ Cert.StepConv.sig) → Buf (Elt Bits) ℓ) (g : Dev Cert.StepConv.nD → PrngReg), Pre_StepConv m →
    θ_run (Cert.StepConv.defs (F := Bits)) (onTc (τ := Cert.StepConv.τ) (Cert.StepConv.main (F := Bits))) ⟨m, fun _ => 0, g⟩ (fun r => (∀ c : Dev Cert.StepConv.nD,
      r.2.mem ((c.tc : Thread Cert.StepConv.nD Cert.StepConv.τ).loc Cert.StepConv.main_arg0) = m ((c.tc : Thread Cert.StepConv.nD Cert.StepConv.τ).loc Cert.StepConv.main_arg0)
      ∧ r.2.mem ((c.tc : Thread Cert.StepConv.nD Cert.StepConv.τ).loc Cert.StepConv.main_arg1) = m ((c.tc : Thread Cert.StepConv.nD Cert.StepConv.τ).loc Cert.StepConv.main_arg1)
      ∧ r.2.mem ((c.tc : Thread Cert.StepConv.nD Cert.StepConv.τ).loc Cert.StepConv.main_arg2) = m ((c.tc : Thread Cert.StepConv.nD Cert.StepConv.τ).loc Cert.StepConv.main_arg2)
      ∧ r.2.mem ((c.tc : Thread Cert.StepConv.nD Cert.StepConv.τ).loc Cert.StepConv.main_arg3) = m ((c.tc : Thread Cert.StepConv.nD Cert.StepConv.τ).loc Cert.StepConv.main_arg3))
      ∧ r.2.sem = fun _ => 0)

def quiescent_StepConvIdeal [hStepConvIdeal : Cert.StepConvIdeal.Facts] : Prop :=
  ∀ (m : (ℓ : Loc Cert.StepConvIdeal.nD Cert.StepConvIdeal.τ Cert.StepConvIdeal.sig) → Buf (Elt Ideal) ℓ) (g : Dev Cert.StepConvIdeal.nD → PrngReg), Pre_StepConvIdeal m →
    θ_run (Cert.StepConvIdeal.defs (F := Ideal)) (onTc (τ := Cert.StepConvIdeal.τ) (Cert.StepConvIdeal.main (F := Ideal))) ⟨m, fun _ => 0, g⟩ (fun r => (∀ c : Dev Cert.StepConvIdeal.nD,
      r.2.mem ((c.tc : Thread Cert.StepConvIdeal.nD Cert.StepConvIdeal.τ).loc Cert.StepConvIdeal.main_arg0) = m ((c.tc : Thread Cert.StepConvIdeal.nD Cert.StepConvIdeal.τ).loc Cert.StepConvIdeal.main_arg0)
      ∧ r.2.mem ((c.tc : Thread Cert.StepConvIdeal.nD Cert.StepConvIdeal.τ).loc Cert.StepConvIdeal.main_arg1) = m ((c.tc : Thread Cert.StepConvIdeal.nD Cert.StepConvIdeal.τ).loc Cert.StepConvIdeal.main_arg1)
      ∧ r.2.mem ((c.tc : Thread Cert.StepConvIdeal.nD Cert.StepConvIdeal.τ).loc Cert.StepConvIdeal.main_arg2) = m ((c.tc : Thread Cert.StepConvIdeal.nD Cert.StepConvIdeal.τ).loc Cert.StepConvIdeal.main_arg2)
      ∧ r.2.mem ((c.tc : Thread Cert.StepConvIdeal.nD Cert.StepConvIdeal.τ).loc Cert.StepConvIdeal.main_arg3) = m ((c.tc : Thread Cert.StepConvIdeal.nD Cert.StepConvIdeal.τ).loc Cert.StepConvIdeal.main_arg3))
      ∧ r.2.sem = fun _ => 0)

def quiescent_StepConvRefIdeal [hStepConvRefIdeal : Cert.StepConvRefIdeal.Facts] : Prop :=
  ∀ (m : (ℓ : Loc Cert.StepConvRefIdeal.nD Cert.StepConvRefIdeal.τ Cert.StepConvRefIdeal.sig) → Buf (Elt Ideal) ℓ) (g : Dev Cert.StepConvRefIdeal.nD → PrngReg), Pre_StepConvRefIdeal m →
    θ_run (Cert.StepConvRefIdeal.defs (F := Ideal)) (onTc (τ := Cert.StepConvRefIdeal.τ) (Cert.StepConvRefIdeal.main (F := Ideal))) ⟨m, fun _ => 0, g⟩ (fun r => (∀ c : Dev Cert.StepConvRefIdeal.nD,
      r.2.mem ((c.tc : Thread Cert.StepConvRefIdeal.nD Cert.StepConvRefIdeal.τ).loc Cert.StepConvRefIdeal.main_arg0) = m ((c.tc : Thread Cert.StepConvRefIdeal.nD Cert.StepConvRefIdeal.τ).loc Cert.StepConvRefIdeal.main_arg0)
      ∧ r.2.mem ((c.tc : Thread Cert.StepConvRefIdeal.nD Cert.StepConvRefIdeal.τ).loc Cert.StepConvRefIdeal.main_arg1) = m ((c.tc : Thread Cert.StepConvRefIdeal.nD Cert.StepConvRefIdeal.τ).loc Cert.StepConvRefIdeal.main_arg1)
      ∧ r.2.mem ((c.tc : Thread Cert.StepConvRefIdeal.nD Cert.StepConvRefIdeal.τ).loc Cert.StepConvRefIdeal.main_arg2) = m ((c.tc : Thread Cert.StepConvRefIdeal.nD Cert.StepConvRefIdeal.τ).loc Cert.StepConvRefIdeal.main_arg2)
      ∧ r.2.mem ((c.tc : Thread Cert.StepConvRefIdeal.nD Cert.StepConvRefIdeal.τ).loc Cert.StepConvRefIdeal.main_arg3) = m ((c.tc : Thread Cert.StepConvRefIdeal.nD Cert.StepConvRefIdeal.τ).loc Cert.StepConvRefIdeal.main_arg3))
      ∧ r.2.sem = fun _ => 0)

def quiescent_StepGain [hStepGain : Cert.StepGain.Facts] : Prop :=
  ∀ (m : (ℓ : Loc Cert.StepGain.nD Cert.StepGain.τ Cert.StepGain.sig) → Buf (Elt Bits) ℓ) (g : Dev Cert.StepGain.nD → PrngReg), Pre_StepGain m →
    θ_run (Cert.StepGain.defs (F := Bits)) (onTc (τ := Cert.StepGain.τ) (Cert.StepGain.main (F := Bits))) ⟨m, fun _ => 0, g⟩ (fun r => (∀ c : Dev Cert.StepGain.nD,
      r.2.mem ((c.tc : Thread Cert.StepGain.nD Cert.StepGain.τ).loc Cert.StepGain.main_arg0) = m ((c.tc : Thread Cert.StepGain.nD Cert.StepGain.τ).loc Cert.StepGain.main_arg0)
      ∧ r.2.mem ((c.tc : Thread Cert.StepGain.nD Cert.StepGain.τ).loc Cert.StepGain.main_arg1) = m ((c.tc : Thread Cert.StepGain.nD Cert.StepGain.τ).loc Cert.StepGain.main_arg1)
      ∧ r.2.mem ((c.tc : Thread Cert.StepGain.nD Cert.StepGain.τ).loc Cert.StepGain.main_arg2) = m ((c.tc : Thread Cert.StepGain.nD Cert.StepGain.τ).loc Cert.StepGain.main_arg2)
      ∧ r.2.mem ((c.tc : Thread Cert.StepGain.nD Cert.StepGain.τ).loc Cert.StepGain.main_arg3) = m ((c.tc : Thread Cert.StepGain.nD Cert.StepGain.τ).loc Cert.StepGain.main_arg3))
      ∧ r.2.sem = fun _ => 0)

def quiescent_StepGainIdeal [hStepGainIdeal : Cert.StepGainIdeal.Facts] : Prop :=
  ∀ (m : (ℓ : Loc Cert.StepGainIdeal.nD Cert.StepGainIdeal.τ Cert.StepGainIdeal.sig) → Buf (Elt Ideal) ℓ) (g : Dev Cert.StepGainIdeal.nD → PrngReg), Pre_StepGainIdeal m →
    θ_run (Cert.StepGainIdeal.defs (F := Ideal)) (onTc (τ := Cert.StepGainIdeal.τ) (Cert.StepGainIdeal.main (F := Ideal))) ⟨m, fun _ => 0, g⟩ (fun r => (∀ c : Dev Cert.StepGainIdeal.nD,
      r.2.mem ((c.tc : Thread Cert.StepGainIdeal.nD Cert.StepGainIdeal.τ).loc Cert.StepGainIdeal.main_arg0) = m ((c.tc : Thread Cert.StepGainIdeal.nD Cert.StepGainIdeal.τ).loc Cert.StepGainIdeal.main_arg0)
      ∧ r.2.mem ((c.tc : Thread Cert.StepGainIdeal.nD Cert.StepGainIdeal.τ).loc Cert.StepGainIdeal.main_arg1) = m ((c.tc : Thread Cert.StepGainIdeal.nD Cert.StepGainIdeal.τ).loc Cert.StepGainIdeal.main_arg1)
      ∧ r.2.mem ((c.tc : Thread Cert.StepGainIdeal.nD Cert.StepGainIdeal.τ).loc Cert.StepGainIdeal.main_arg2) = m ((c.tc : Thread Cert.StepGainIdeal.nD Cert.StepGainIdeal.τ).loc Cert.StepGainIdeal.main_arg2)
      ∧ r.2.mem ((c.tc : Thread Cert.StepGainIdeal.nD Cert.StepGainIdeal.τ).loc Cert.StepGainIdeal.main_arg3) = m ((c.tc : Thread Cert.StepGainIdeal.nD Cert.StepGainIdeal.τ).loc Cert.StepGainIdeal.main_arg3))
      ∧ r.2.sem = fun _ => 0)

def quiescent_StepGainRefIdeal [hStepGainRefIdeal : Cert.StepGainRefIdeal.Facts] : Prop :=
  ∀ (m : (ℓ : Loc Cert.StepGainRefIdeal.nD Cert.StepGainRefIdeal.τ Cert.StepGainRefIdeal.sig) → Buf (Elt Ideal) ℓ) (g : Dev Cert.StepGainRefIdeal.nD → PrngReg), Pre_StepGainRefIdeal m →
    θ_run (Cert.StepGainRefIdeal.defs (F := Ideal)) (onTc (τ := Cert.StepGainRefIdeal.τ) (Cert.StepGainRefIdeal.main (F := Ideal))) ⟨m, fun _ => 0, g⟩ (fun r => (∀ c : Dev Cert.StepGainRefIdeal.nD,
      r.2.mem ((c.tc : Thread Cert.StepGainRefIdeal.nD Cert.StepGainRefIdeal.τ).loc Cert.StepGainRefIdeal.main_arg0) = m ((c.tc : Thread Cert.StepGainRefIdeal.nD Cert.StepGainRefIdeal.τ).loc Cert.StepGainRefIdeal.main_arg0)
      ∧ r.2.mem ((c.tc : Thread Cert.StepGainRefIdeal.nD Cert.StepGainRefIdeal.τ).loc Cert.StepGainRefIdeal.main_arg1) = m ((c.tc : Thread Cert.StepGainRefIdeal.nD Cert.StepGainRefIdeal.τ).loc Cert.StepGainRefIdeal.main_arg1)
      ∧ r.2.mem ((c.tc : Thread Cert.StepGainRefIdeal.nD Cert.StepGainRefIdeal.τ).loc Cert.StepGainRefIdeal.main_arg2) = m ((c.tc : Thread Cert.StepGainRefIdeal.nD Cert.StepGainRefIdeal.τ).loc Cert.StepGainRefIdeal.main_arg2)
      ∧ r.2.mem ((c.tc : Thread Cert.StepGainRefIdeal.nD Cert.StepGainRefIdeal.τ).loc Cert.StepGainRefIdeal.main_arg3) = m ((c.tc : Thread Cert.StepGainRefIdeal.nD Cert.StepGainRefIdeal.τ).loc Cert.StepGainRefIdeal.main_arg3))
      ∧ r.2.sem = fun _ => 0)

def quiescent_StepSinks [hStepSinks : Cert.StepSinks.Facts] : Prop :=
  ∀ (m : (ℓ : Loc Cert.StepSinks.nD Cert.StepSinks.τ Cert.StepSinks.sig) → Buf (Elt Bits) ℓ) (g : Dev Cert.StepSinks.nD → PrngReg), Pre_StepSinks m →
    θ_run (Cert.StepSinks.defs (F := Bits)) (onTc (τ := Cert.StepSinks.τ) (Cert.StepSinks.main (F := Bits))) ⟨m, fun _ => 0, g⟩ (fun r => (∀ c : Dev Cert.StepSinks.nD,
      r.2.mem ((c.tc : Thread Cert.StepSinks.nD Cert.StepSinks.τ).loc Cert.StepSinks.main_arg0) = m ((c.tc : Thread Cert.StepSinks.nD Cert.StepSinks.τ).loc Cert.StepSinks.main_arg0)
      ∧ r.2.mem ((c.tc : Thread Cert.StepSinks.nD Cert.StepSinks.τ).loc Cert.StepSinks.main_arg1) = m ((c.tc : Thread Cert.StepSinks.nD Cert.StepSinks.τ).loc Cert.StepSinks.main_arg1)
      ∧ r.2.mem ((c.tc : Thread Cert.StepSinks.nD Cert.StepSinks.τ).loc Cert.StepSinks.main_arg2) = m ((c.tc : Thread Cert.StepSinks.nD Cert.StepSinks.τ).loc Cert.StepSinks.main_arg2)
      ∧ r.2.mem ((c.tc : Thread Cert.StepSinks.nD Cert.StepSinks.τ).loc Cert.StepSinks.main_arg3) = m ((c.tc : Thread Cert.StepSinks.nD Cert.StepSinks.τ).loc Cert.StepSinks.main_arg3))
      ∧ r.2.sem = fun _ => 0)

def quiescent_StepSinksIdeal [hStepSinksIdeal : Cert.StepSinksIdeal.Facts] : Prop :=
  ∀ (m : (ℓ : Loc Cert.StepSinksIdeal.nD Cert.StepSinksIdeal.τ Cert.StepSinksIdeal.sig) → Buf (Elt Ideal) ℓ) (g : Dev Cert.StepSinksIdeal.nD → PrngReg), Pre_StepSinksIdeal m →
    θ_run (Cert.StepSinksIdeal.defs (F := Ideal)) (onTc (τ := Cert.StepSinksIdeal.τ) (Cert.StepSinksIdeal.main (F := Ideal))) ⟨m, fun _ => 0, g⟩ (fun r => (∀ c : Dev Cert.StepSinksIdeal.nD,
      r.2.mem ((c.tc : Thread Cert.StepSinksIdeal.nD Cert.StepSinksIdeal.τ).loc Cert.StepSinksIdeal.main_arg0) = m ((c.tc : Thread Cert.StepSinksIdeal.nD Cert.StepSinksIdeal.τ).loc Cert.StepSinksIdeal.main_arg0)
      ∧ r.2.mem ((c.tc : Thread Cert.StepSinksIdeal.nD Cert.StepSinksIdeal.τ).loc Cert.StepSinksIdeal.main_arg1) = m ((c.tc : Thread Cert.StepSinksIdeal.nD Cert.StepSinksIdeal.τ).loc Cert.StepSinksIdeal.main_arg1)
      ∧ r.2.mem ((c.tc : Thread Cert.StepSinksIdeal.nD Cert.StepSinksIdeal.τ).loc Cert.StepSinksIdeal.main_arg2) = m ((c.tc : Thread Cert.StepSinksIdeal.nD Cert.StepSinksIdeal.τ).loc Cert.StepSinksIdeal.main_arg2)
      ∧ r.2.mem ((c.tc : Thread Cert.StepSinksIdeal.nD Cert.StepSinksIdeal.τ).loc Cert.StepSinksIdeal.main_arg3) = m ((c.tc : Thread Cert.StepSinksIdeal.nD Cert.StepSinksIdeal.τ).loc Cert.StepSinksIdeal.main_arg3))
      ∧ r.2.sem = fun _ => 0)

def quiescent_StepSinksRefIdeal [hStepSinksRefIdeal : Cert.StepSinksRefIdeal.Facts] : Prop :=
  ∀ (m : (ℓ : Loc Cert.StepSinksRefIdeal.nD Cert.StepSinksRefIdeal.τ Cert.StepSinksRefIdeal.sig) → Buf (Elt Ideal) ℓ) (g : Dev Cert.StepSinksRefIdeal.nD → PrngReg), Pre_StepSinksRefIdeal m →
    θ_run (Cert.StepSinksRefIdeal.defs (F := Ideal)) (onTc (τ := Cert.StepSinksRefIdeal.τ) (Cert.StepSinksRefIdeal.main (F := Ideal))) ⟨m, fun _ => 0, g⟩ (fun r => (∀ c : Dev Cert.StepSinksRefIdeal.nD,
      r.2.mem ((c.tc : Thread Cert.StepSinksRefIdeal.nD Cert.StepSinksRefIdeal.τ).loc Cert.StepSinksRefIdeal.main_arg0) = m ((c.tc : Thread Cert.StepSinksRefIdeal.nD Cert.StepSinksRefIdeal.τ).loc Cert.StepSinksRefIdeal.main_arg0)
      ∧ r.2.mem ((c.tc : Thread Cert.StepSinksRefIdeal.nD Cert.StepSinksRefIdeal.τ).loc Cert.StepSinksRefIdeal.main_arg1) = m ((c.tc : Thread Cert.StepSinksRefIdeal.nD Cert.StepSinksRefIdeal.τ).loc Cert.StepSinksRefIdeal.main_arg1)
      ∧ r.2.mem ((c.tc : Thread Cert.StepSinksRefIdeal.nD Cert.StepSinksRefIdeal.τ).loc Cert.StepSinksRefIdeal.main_arg2) = m ((c.tc : Thread Cert.StepSinksRefIdeal.nD Cert.StepSinksRefIdeal.τ).loc Cert.StepSinksRefIdeal.main_arg2)
      ∧ r.2.mem ((c.tc : Thread Cert.StepSinksRefIdeal.nD Cert.StepSinksRefIdeal.τ).loc Cert.StepSinksRefIdeal.main_arg3) = m ((c.tc : Thread Cert.StepSinksRefIdeal.nD Cert.StepSinksRefIdeal.τ).loc Cert.StepSinksRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_ProjUp [hProjUp : Cert.ProjUp.Facts] : Prop :=
  ∀ (m : (ℓ : Loc Cert.ProjUp.nD Cert.ProjUp.τ Cert.ProjUp.sig) → Buf (Elt Bits) ℓ) (g : Dev Cert.ProjUp.nD → PrngReg), Pre_ProjUp m →
    θ_run (Cert.ProjUp.defs (F := Bits)) (onTc (τ := Cert.ProjUp.τ) (Cert.ProjUp.main (F := Bits))) ⟨m, fun _ => 0, g⟩ (fun r => (∀ c : Dev Cert.ProjUp.nD,
      r.2.mem ((c.tc : Thread Cert.ProjUp.nD Cert.ProjUp.τ).loc Cert.ProjUp.main_arg0) = m ((c.tc : Thread Cert.ProjUp.nD Cert.ProjUp.τ).loc Cert.ProjUp.main_arg0)
      ∧ r.2.mem ((c.tc : Thread Cert.ProjUp.nD Cert.ProjUp.τ).loc Cert.ProjUp.main_arg1) = m ((c.tc : Thread Cert.ProjUp.nD Cert.ProjUp.τ).loc Cert.ProjUp.main_arg1))
      ∧ r.2.sem = fun _ => 0)

def quiescent_ProjUpIdeal [hProjUpIdeal : Cert.ProjUpIdeal.Facts] : Prop :=
  ∀ (m : (ℓ : Loc Cert.ProjUpIdeal.nD Cert.ProjUpIdeal.τ Cert.ProjUpIdeal.sig) → Buf (Elt Ideal) ℓ) (g : Dev Cert.ProjUpIdeal.nD → PrngReg), Pre_ProjUpIdeal m →
    θ_run (Cert.ProjUpIdeal.defs (F := Ideal)) (onTc (τ := Cert.ProjUpIdeal.τ) (Cert.ProjUpIdeal.main (F := Ideal))) ⟨m, fun _ => 0, g⟩ (fun r => (∀ c : Dev Cert.ProjUpIdeal.nD,
      r.2.mem ((c.tc : Thread Cert.ProjUpIdeal.nD Cert.ProjUpIdeal.τ).loc Cert.ProjUpIdeal.main_arg0) = m ((c.tc : Thread Cert.ProjUpIdeal.nD Cert.ProjUpIdeal.τ).loc Cert.ProjUpIdeal.main_arg0)
      ∧ r.2.mem ((c.tc : Thread Cert.ProjUpIdeal.nD Cert.ProjUpIdeal.τ).loc Cert.ProjUpIdeal.main_arg1) = m ((c.tc : Thread Cert.ProjUpIdeal.nD Cert.ProjUpIdeal.τ).loc Cert.ProjUpIdeal.main_arg1))
      ∧ r.2.sem = fun _ => 0)

def quiescent_ProjUpRefIdeal [hProjUpRefIdeal : Cert.ProjUpRefIdeal.Facts] : Prop :=
  ∀ (m : (ℓ : Loc Cert.ProjUpRefIdeal.nD Cert.ProjUpRefIdeal.τ Cert.ProjUpRefIdeal.sig) → Buf (Elt Ideal) ℓ) (g : Dev Cert.ProjUpRefIdeal.nD → PrngReg), Pre_ProjUpRefIdeal m →
    θ_run (Cert.ProjUpRefIdeal.defs (F := Ideal)) (onTc (τ := Cert.ProjUpRefIdeal.τ) (Cert.ProjUpRefIdeal.main (F := Ideal))) ⟨m, fun _ => 0, g⟩ (fun r => (∀ c : Dev Cert.ProjUpRefIdeal.nD,
      r.2.mem ((c.tc : Thread Cert.ProjUpRefIdeal.nD Cert.ProjUpRefIdeal.τ).loc Cert.ProjUpRefIdeal.main_arg0) = m ((c.tc : Thread Cert.ProjUpRefIdeal.nD Cert.ProjUpRefIdeal.τ).loc Cert.ProjUpRefIdeal.main_arg0)
      ∧ r.2.mem ((c.tc : Thread Cert.ProjUpRefIdeal.nD Cert.ProjUpRefIdeal.τ).loc Cert.ProjUpRefIdeal.main_arg1) = m ((c.tc : Thread Cert.ProjUpRefIdeal.nD Cert.ProjUpRefIdeal.τ).loc Cert.ProjUpRefIdeal.main_arg1))
      ∧ r.2.sem = fun _ => 0)

def quiescent_BackDown [hBackDown : Cert.BackDown.Facts] : Prop :=
  ∀ (m : (ℓ : Loc Cert.BackDown.nD Cert.BackDown.τ Cert.BackDown.sig) → Buf (Elt Bits) ℓ) (g : Dev Cert.BackDown.nD → PrngReg), Pre_BackDown m →
    θ_run (Cert.BackDown.defs (F := Bits)) (onTc (τ := Cert.BackDown.τ) (Cert.BackDown.main (F := Bits))) ⟨m, fun _ => 0, g⟩ (fun r => (∀ c : Dev Cert.BackDown.nD,
      r.2.mem ((c.tc : Thread Cert.BackDown.nD Cert.BackDown.τ).loc Cert.BackDown.main_arg0) = m ((c.tc : Thread Cert.BackDown.nD Cert.BackDown.τ).loc Cert.BackDown.main_arg0)
      ∧ r.2.mem ((c.tc : Thread Cert.BackDown.nD Cert.BackDown.τ).loc Cert.BackDown.main_arg1) = m ((c.tc : Thread Cert.BackDown.nD Cert.BackDown.τ).loc Cert.BackDown.main_arg1)
      ∧ r.2.mem ((c.tc : Thread Cert.BackDown.nD Cert.BackDown.τ).loc Cert.BackDown.main_arg2) = m ((c.tc : Thread Cert.BackDown.nD Cert.BackDown.τ).loc Cert.BackDown.main_arg2))
      ∧ r.2.sem = fun _ => 0)

def quiescent_BackDownIdeal [hBackDownIdeal : Cert.BackDownIdeal.Facts] : Prop :=
  ∀ (m : (ℓ : Loc Cert.BackDownIdeal.nD Cert.BackDownIdeal.τ Cert.BackDownIdeal.sig) → Buf (Elt Ideal) ℓ) (g : Dev Cert.BackDownIdeal.nD → PrngReg), Pre_BackDownIdeal m →
    θ_run (Cert.BackDownIdeal.defs (F := Ideal)) (onTc (τ := Cert.BackDownIdeal.τ) (Cert.BackDownIdeal.main (F := Ideal))) ⟨m, fun _ => 0, g⟩ (fun r => (∀ c : Dev Cert.BackDownIdeal.nD,
      r.2.mem ((c.tc : Thread Cert.BackDownIdeal.nD Cert.BackDownIdeal.τ).loc Cert.BackDownIdeal.main_arg0) = m ((c.tc : Thread Cert.BackDownIdeal.nD Cert.BackDownIdeal.τ).loc Cert.BackDownIdeal.main_arg0)
      ∧ r.2.mem ((c.tc : Thread Cert.BackDownIdeal.nD Cert.BackDownIdeal.τ).loc Cert.BackDownIdeal.main_arg1) = m ((c.tc : Thread Cert.BackDownIdeal.nD Cert.BackDownIdeal.τ).loc Cert.BackDownIdeal.main_arg1)
      ∧ r.2.mem ((c.tc : Thread Cert.BackDownIdeal.nD Cert.BackDownIdeal.τ).loc Cert.BackDownIdeal.main_arg2) = m ((c.tc : Thread Cert.BackDownIdeal.nD Cert.BackDownIdeal.τ).loc Cert.BackDownIdeal.main_arg2))
      ∧ r.2.sem = fun _ => 0)

def quiescent_BackDownRefIdeal [hBackDownRefIdeal : Cert.BackDownRefIdeal.Facts] : Prop :=
  ∀ (m : (ℓ : Loc Cert.BackDownRefIdeal.nD Cert.BackDownRefIdeal.τ Cert.BackDownRefIdeal.sig) → Buf (Elt Ideal) ℓ) (g : Dev Cert.BackDownRefIdeal.nD → PrngReg), Pre_BackDownRefIdeal m →
    θ_run (Cert.BackDownRefIdeal.defs (F := Ideal)) (onTc (τ := Cert.BackDownRefIdeal.τ) (Cert.BackDownRefIdeal.main (F := Ideal))) ⟨m, fun _ => 0, g⟩ (fun r => (∀ c : Dev Cert.BackDownRefIdeal.nD,
      r.2.mem ((c.tc : Thread Cert.BackDownRefIdeal.nD Cert.BackDownRefIdeal.τ).loc Cert.BackDownRefIdeal.main_arg0) = m ((c.tc : Thread Cert.BackDownRefIdeal.nD Cert.BackDownRefIdeal.τ).loc Cert.BackDownRefIdeal.main_arg0)
      ∧ r.2.mem ((c.tc : Thread Cert.BackDownRefIdeal.nD Cert.BackDownRefIdeal.τ).loc Cert.BackDownRefIdeal.main_arg1) = m ((c.tc : Thread Cert.BackDownRefIdeal.nD Cert.BackDownRefIdeal.τ).loc Cert.BackDownRefIdeal.main_arg1)
      ∧ r.2.mem ((c.tc : Thread Cert.BackDownRefIdeal.nD Cert.BackDownRefIdeal.τ).loc Cert.BackDownRefIdeal.main_arg2) = m ((c.tc : Thread Cert.BackDownRefIdeal.nD Cert.BackDownRefIdeal.τ).loc Cert.BackDownRefIdeal.main_arg2))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1))
      ∧ r.2.sem = fun _ => 0)

def quiescent_BackO [hBackO : Cert.BackO.Facts] : Prop :=
  ∀ (m : (ℓ : Loc Cert.BackO.nD Cert.BackO.τ Cert.BackO.sig) → Buf (Elt Bits) ℓ) (g : Dev Cert.BackO.nD → PrngReg), Pre_BackO m →
    θ_run (Cert.BackO.defs (F := Bits)) (onTc (τ := Cert.BackO.τ) (Cert.BackO.main (F := Bits))) ⟨m, fun _ => 0, g⟩ (fun r => (∀ c : Dev Cert.BackO.nD,
      r.2.mem ((c.tc : Thread Cert.BackO.nD Cert.BackO.τ).loc Cert.BackO.main_arg0) = m ((c.tc : Thread Cert.BackO.nD Cert.BackO.τ).loc Cert.BackO.main_arg0)
      ∧ r.2.mem ((c.tc : Thread Cert.BackO.nD Cert.BackO.τ).loc Cert.BackO.main_arg1) = m ((c.tc : Thread Cert.BackO.nD Cert.BackO.τ).loc Cert.BackO.main_arg1))
      ∧ r.2.sem = fun _ => 0)

def quiescent_BackOIdeal [hBackOIdeal : Cert.BackOIdeal.Facts] : Prop :=
  ∀ (m : (ℓ : Loc Cert.BackOIdeal.nD Cert.BackOIdeal.τ Cert.BackOIdeal.sig) → Buf (Elt Ideal) ℓ) (g : Dev Cert.BackOIdeal.nD → PrngReg), Pre_BackOIdeal m →
    θ_run (Cert.BackOIdeal.defs (F := Ideal)) (onTc (τ := Cert.BackOIdeal.τ) (Cert.BackOIdeal.main (F := Ideal))) ⟨m, fun _ => 0, g⟩ (fun r => (∀ c : Dev Cert.BackOIdeal.nD,
      r.2.mem ((c.tc : Thread Cert.BackOIdeal.nD Cert.BackOIdeal.τ).loc Cert.BackOIdeal.main_arg0) = m ((c.tc : Thread Cert.BackOIdeal.nD Cert.BackOIdeal.τ).loc Cert.BackOIdeal.main_arg0)
      ∧ r.2.mem ((c.tc : Thread Cert.BackOIdeal.nD Cert.BackOIdeal.τ).loc Cert.BackOIdeal.main_arg1) = m ((c.tc : Thread Cert.BackOIdeal.nD Cert.BackOIdeal.τ).loc Cert.BackOIdeal.main_arg1))
      ∧ r.2.sem = fun _ => 0)

def quiescent_BackORefIdeal [hBackORefIdeal : Cert.BackORefIdeal.Facts] : Prop :=
  ∀ (m : (ℓ : Loc Cert.BackORefIdeal.nD Cert.BackORefIdeal.τ Cert.BackORefIdeal.sig) → Buf (Elt Ideal) ℓ) (g : Dev Cert.BackORefIdeal.nD → PrngReg), Pre_BackORefIdeal m →
    θ_run (Cert.BackORefIdeal.defs (F := Ideal)) (onTc (τ := Cert.BackORefIdeal.τ) (Cert.BackORefIdeal.main (F := Ideal))) ⟨m, fun _ => 0, g⟩ (fun r => (∀ c : Dev Cert.BackORefIdeal.nD,
      r.2.mem ((c.tc : Thread Cert.BackORefIdeal.nD Cert.BackORefIdeal.τ).loc Cert.BackORefIdeal.main_arg0) = m ((c.tc : Thread Cert.BackORefIdeal.nD Cert.BackORefIdeal.τ).loc Cert.BackORefIdeal.main_arg0)
      ∧ r.2.mem ((c.tc : Thread Cert.BackORefIdeal.nD Cert.BackORefIdeal.τ).loc Cert.BackORefIdeal.main_arg1) = m ((c.tc : Thread Cert.BackORefIdeal.nD Cert.BackORefIdeal.τ).loc Cert.BackORefIdeal.main_arg1))
      ∧ r.2.sem = fun _ => 0)

def quiescent_ProjQkv [hProjQkv : Cert.ProjQkv.Facts] : Prop :=
  ∀ (m : (ℓ : Loc Cert.ProjQkv.nD Cert.ProjQkv.τ Cert.ProjQkv.sig) → Buf (Elt Bits) ℓ) (g : Dev Cert.ProjQkv.nD → PrngReg), Pre_ProjQkv m →
    θ_run (Cert.ProjQkv.defs (F := Bits)) (onTc (τ := Cert.ProjQkv.τ) (Cert.ProjQkv.main (F := Bits))) ⟨m, fun _ => 0, g⟩ (fun r => (∀ c : Dev Cert.ProjQkv.nD,
      r.2.mem ((c.tc : Thread Cert.ProjQkv.nD Cert.ProjQkv.τ).loc Cert.ProjQkv.main_arg0) = m ((c.tc : Thread Cert.ProjQkv.nD Cert.ProjQkv.τ).loc Cert.ProjQkv.main_arg0)
      ∧ r.2.mem ((c.tc : Thread Cert.ProjQkv.nD Cert.ProjQkv.τ).loc Cert.ProjQkv.main_arg1) = m ((c.tc : Thread Cert.ProjQkv.nD Cert.ProjQkv.τ).loc Cert.ProjQkv.main_arg1))
      ∧ r.2.sem = fun _ => 0)

def quiescent_ProjQkvIdeal [hProjQkvIdeal : Cert.ProjQkvIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg), Pre_ProjQkvIdeal m →
    θ_run (Cert.ProjQkvIdeal.defs (F := Ideal)) (onTc (τ := Cert.ProjQkvIdeal.τ) (Cert.ProjQkvIdeal.main (F := Ideal))) ⟨m, fun _ => 0, g⟩ (fun r => (∀ c : Dev Cert.ProjQkvIdeal.nD,
      r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
      ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ r.2.sem = fun _ => 0)

def quiescent_ProjQkvRefIdeal [hProjQkvRefIdeal : Cert.ProjQkvRefIdeal.Facts] : Prop :=
  ∀ (m : (ℓ : Loc Cert.ProjQkvRefIdeal.nD Cert.ProjQkvRefIdeal.τ Cert.ProjQkvRefIdeal.sig) → Buf (Elt Ideal) ℓ) (g : Dev Cert.ProjQkvRefIdeal.nD → PrngReg), Pre_ProjQkvRefIdeal m →
    θ_run (Cert.ProjQkvRefIdeal.defs (F := Ideal)) (onTc (τ := Cert.ProjQkvRefIdeal.τ) (Cert.ProjQkvRefIdeal.main (F := Ideal))) ⟨m, fun _ => 0, g⟩ (fun r => (∀ c : Dev Cert.ProjQkvRefIdeal.nD,
      r.2.mem ((c.tc : Thread Cert.ProjQkvRefIdeal.nD Cert.ProjQkvRefIdeal.τ).loc Cert.ProjQkvRefIdeal.main_arg0) = m ((c.tc : Thread Cert.ProjQkvRefIdeal.nD Cert.ProjQkvRefIdeal.τ).loc Cert.ProjQkvRefIdeal.main_arg0)
      ∧ r.2.mem ((c.tc : Thread Cert.ProjQkvRefIdeal.nD Cert.ProjQkvRefIdeal.τ).loc Cert.ProjQkvRefIdeal.main_arg1) = m ((c.tc : Thread Cert.ProjQkvRefIdeal.nD Cert.ProjQkvRefIdeal.τ).loc Cert.ProjQkvRefIdeal.main_arg1))
      ∧ r.2.sem = fun _ => 0)

def quiescent_BackOut [hBackOut : Cert.BackOut.Facts] : Prop :=
  ∀ (m : (ℓ : Loc Cert.BackOut.nD Cert.BackOut.τ Cert.BackOut.sig) → Buf (Elt Bits) ℓ) (g : Dev Cert.BackOut.nD → PrngReg), Pre_BackOut m →
    θ_run (Cert.BackOut.defs (F := Bits)) (onTc (τ := Cert.BackOut.τ) (Cert.BackOut.main (F := Bits))) ⟨m, fun _ => 0, g⟩ (fun r => (∀ c : Dev Cert.BackOut.nD,
      r.2.mem ((c.tc : Thread Cert.BackOut.nD Cert.BackOut.τ).loc Cert.BackOut.main_arg0) = m ((c.tc : Thread Cert.BackOut.nD Cert.BackOut.τ).loc Cert.BackOut.main_arg0)
      ∧ r.2.mem ((c.tc : Thread Cert.BackOut.nD Cert.BackOut.τ).loc Cert.BackOut.main_arg1) = m ((c.tc : Thread Cert.BackOut.nD Cert.BackOut.τ).loc Cert.BackOut.main_arg1))
      ∧ r.2.sem = fun _ => 0)

def quiescent_BackOutIdeal [hBackOutIdeal : Cert.BackOutIdeal.Facts] : Prop :=
  ∀ (m : (ℓ : Loc Cert.BackOutIdeal.nD Cert.BackOutIdeal.τ Cert.BackOutIdeal.sig) → Buf (Elt Ideal) ℓ) (g : Dev Cert.BackOutIdeal.nD → PrngReg), Pre_BackOutIdeal m →
    θ_run (Cert.BackOutIdeal.defs (F := Ideal)) (onTc (τ := Cert.BackOutIdeal.τ) (Cert.BackOutIdeal.main (F := Ideal))) ⟨m, fun _ => 0, g⟩ (fun r => (∀ c : Dev Cert.BackOutIdeal.nD,
      r.2.mem ((c.tc : Thread Cert.BackOutIdeal.nD Cert.BackOutIdeal.τ).loc Cert.BackOutIdeal.main_arg0) = m ((c.tc : Thread Cert.BackOutIdeal.nD Cert.BackOutIdeal.τ).loc Cert.BackOutIdeal.main_arg0)
      ∧ r.2.mem ((c.tc : Thread Cert.BackOutIdeal.nD Cert.BackOutIdeal.τ).loc Cert.BackOutIdeal.main_arg1) = m ((c.tc : Thread Cert.BackOutIdeal.nD Cert.BackOutIdeal.τ).loc Cert.BackOutIdeal.main_arg1))
      ∧ r.2.sem = fun _ => 0)

def quiescent_BackOutRefIdeal [hBackOutRefIdeal : Cert.BackOutRefIdeal.Facts] : Prop :=
  ∀ (m : (ℓ : Loc Cert.BackOutRefIdeal.nD Cert.BackOutRefIdeal.τ Cert.BackOutRefIdeal.sig) → Buf (Elt Ideal) ℓ) (g : Dev Cert.BackOutRefIdeal.nD → PrngReg), Pre_BackOutRefIdeal m →
    θ_run (Cert.BackOutRefIdeal.defs (F := Ideal)) (onTc (τ := Cert.BackOutRefIdeal.τ) (Cert.BackOutRefIdeal.main (F := Ideal))) ⟨m, fun _ => 0, g⟩ (fun r => (∀ c : Dev Cert.BackOutRefIdeal.nD,
      r.2.mem ((c.tc : Thread Cert.BackOutRefIdeal.nD Cert.BackOutRefIdeal.τ).loc Cert.BackOutRefIdeal.main_arg0) = m ((c.tc : Thread Cert.BackOutRefIdeal.nD Cert.BackOutRefIdeal.τ).loc Cert.BackOutRefIdeal.main_arg0)
      ∧ r.2.mem ((c.tc : Thread Cert.BackOutRefIdeal.nD Cert.BackOutRefIdeal.τ).loc Cert.BackOutRefIdeal.main_arg1) = m ((c.tc : Thread Cert.BackOutRefIdeal.nD Cert.BackOutRefIdeal.τ).loc Cert.BackOutRefIdeal.main_arg1))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_GradDownRefIdeal [hGradDownRefIdeal : Cert.GradDownRefIdeal.Facts] : Prop :=
  ∀ (m : (ℓ : Loc Cert.GradDownRefIdeal.nD Cert.GradDownRefIdeal.τ Cert.GradDownRefIdeal.sig) → Buf (Elt Ideal) ℓ) (g : Dev Cert.GradDownRefIdeal.nD → PrngReg), Pre_GradDownRefIdeal m →
    θ_run (Cert.GradDownRefIdeal.defs (F := Ideal)) (onTc (τ := Cert.GradDownRefIdeal.τ) (Cert.GradDownRefIdeal.main (F := Ideal))) ⟨m, fun _ => 0, g⟩ (fun r => (∀ c : Dev Cert.GradDownRefIdeal.nD,
      r.2.mem ((c.tc : Thread Cert.GradDownRefIdeal.nD Cert.GradDownRefIdeal.τ).loc Cert.GradDownRefIdeal.main_arg0) = m ((c.tc : Thread Cert.GradDownRefIdeal.nD Cert.GradDownRefIdeal.τ).loc Cert.GradDownRefIdeal.main_arg0)
      ∧ r.2.mem ((c.tc : Thread Cert.GradDownRefIdeal.nD Cert.GradDownRefIdeal.τ).loc Cert.GradDownRefIdeal.main_arg1) = m ((c.tc : Thread Cert.GradDownRefIdeal.nD Cert.GradDownRefIdeal.τ).loc Cert.GradDownRefIdeal.main_arg1))
      ∧ r.2.sem = fun _ => 0)

def quiescent_GradUp [hGradUp : Cert.GradUp.Facts] : Prop :=
  ∀ (m : (ℓ : Loc Cert.GradUp.nD Cert.GradUp.τ Cert.GradUp.sig) → Buf (Elt Bits) ℓ) (g : Dev Cert.GradUp.nD → PrngReg), Pre_GradUp m →
    θ_run (Cert.GradUp.defs (F := Bits)) (onTc (τ := Cert.GradUp.τ) (Cert.GradUp.main (F := Bits))) ⟨m, fun _ => 0, g⟩ (fun r => (∀ c : Dev Cert.GradUp.nD,
      r.2.mem ((c.tc : Thread Cert.GradUp.nD Cert.GradUp.τ).loc Cert.GradUp.main_arg0) = m ((c.tc : Thread Cert.GradUp.nD Cert.GradUp.τ).loc Cert.GradUp.main_arg0)
      ∧ r.2.mem ((c.tc : Thread Cert.GradUp.nD Cert.GradUp.τ).loc Cert.GradUp.main_arg1) = m ((c.tc : Thread Cert.GradUp.nD Cert.GradUp.τ).loc Cert.GradUp.main_arg1))
      ∧ r.2.sem = fun _ => 0)

def quiescent_GradUpIdeal [hGradUpIdeal : Cert.GradUpIdeal.Facts] : Prop :=
  ∀ (m : (ℓ : Loc Cert.GradUpIdeal.nD Cert.GradUpIdeal.τ Cert.GradUpIdeal.sig) → Buf (Elt Ideal) ℓ) (g : Dev Cert.GradUpIdeal.nD → PrngReg), Pre_GradUpIdeal m →
    θ_run (Cert.GradUpIdeal.defs (F := Ideal)) (onTc (τ := Cert.GradUpIdeal.τ) (Cert.GradUpIdeal.main (F := Ideal))) ⟨m, fun _ => 0, g⟩ (fun r => (∀ c : Dev Cert.GradUpIdeal.nD,
      r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
      ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ r.2.sem = fun _ => 0)

def quiescent_GradUpRefIdeal [hGradUpRefIdeal : Cert.GradUpRefIdeal.Facts] : Prop :=
  ∀ (m : (ℓ : Loc Cert.GradUpRefIdeal.nD Cert.GradUpRefIdeal.τ Cert.GradUpRefIdeal.sig) → Buf (Elt Ideal) ℓ) (g : Dev Cert.GradUpRefIdeal.nD → PrngReg), Pre_GradUpRefIdeal m →
    θ_run (Cert.GradUpRefIdeal.defs (F := Ideal)) (onTc (τ := Cert.GradUpRefIdeal.τ) (Cert.GradUpRefIdeal.main (F := Ideal))) ⟨m, fun _ => 0, g⟩ (fun r => (∀ c : Dev Cert.GradUpRefIdeal.nD,
      r.2.mem ((c.tc : Thread Cert.GradUpRefIdeal.nD Cert.GradUpRefIdeal.τ).loc Cert.GradUpRefIdeal.main_arg0) = m ((c.tc : Thread Cert.GradUpRefIdeal.nD Cert.GradUpRefIdeal.τ).loc Cert.GradUpRefIdeal.main_arg0)
      ∧ r.2.mem ((c.tc : Thread Cert.GradUpRefIdeal.nD Cert.GradUpRefIdeal.τ).loc Cert.GradUpRefIdeal.main_arg1) = m ((c.tc : Thread Cert.GradUpRefIdeal.nD Cert.GradUpRefIdeal.τ).loc Cert.GradUpRefIdeal.main_arg1))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1))
      ∧ r.2.sem = fun _ => 0)

def quiescent_GradQkv [hGradQkv : Cert.GradQkv.Facts] : Prop :=
  ∀ (m : (ℓ : Loc Cert.GradQkv.nD Cert.GradQkv.τ Cert.GradQkv.sig) → Buf (Elt Bits) ℓ) (g : Dev Cert.GradQkv.nD → PrngReg), Pre_GradQkv m →
    θ_run (Cert.GradQkv.defs (F := Bits)) (onTc (τ := Cert.GradQkv.τ) (Cert.GradQkv.main (F := Bits))) ⟨m, fun _ => 0, g⟩ (fun r => (∀ c : Dev Cert.GradQkv.nD,
      r.2.mem ((c.tc : Thread Cert.GradQkv.nD Cert.GradQkv.τ).loc Cert.GradQkv.main_arg0) = m ((c.tc : Thread Cert.GradQkv.nD Cert.GradQkv.τ).loc Cert.GradQkv.main_arg0)
      ∧ r.2.mem ((c.tc : Thread Cert.GradQkv.nD Cert.GradQkv.τ).loc Cert.GradQkv.main_arg1) = m ((c.tc : Thread Cert.GradQkv.nD Cert.GradQkv.τ).loc Cert.GradQkv.main_arg1))
      ∧ r.2.sem = fun _ => 0)

def quiescent_GradQkvIdeal [hGradQkvIdeal : Cert.GradQkvIdeal.Facts] : Prop :=
  ∀ (m : (ℓ : Loc Cert.GradQkvIdeal.nD Cert.GradQkvIdeal.τ Cert.GradQkvIdeal.sig) → Buf (Elt Ideal) ℓ) (g : Dev Cert.GradQkvIdeal.nD → PrngReg), Pre_GradQkvIdeal m →
    θ_run (Cert.GradQkvIdeal.defs (F := Ideal)) (onTc (τ := Cert.GradQkvIdeal.τ) (Cert.GradQkvIdeal.main (F := Ideal))) ⟨m, fun _ => 0, g⟩ (fun r => (∀ c : Dev Cert.GradQkvIdeal.nD,
      r.2.mem ((c.tc : Thread Cert.GradQkvIdeal.nD Cert.GradQkvIdeal.τ).loc Cert.GradQkvIdeal.main_arg0) = m ((c.tc : Thread Cert.GradQkvIdeal.nD Cert.GradQkvIdeal.τ).loc Cert.GradQkvIdeal.main_arg0)
      ∧ r.2.mem ((c.tc : Thread Cert.GradQkvIdeal.nD Cert.GradQkvIdeal.τ).loc Cert.GradQkvIdeal.main_arg1) = m ((c.tc : Thread Cert.GradQkvIdeal.nD Cert.GradQkvIdeal.τ).loc Cert.GradQkvIdeal.main_arg1))
      ∧ r.2.sem = fun _ => 0)

def quiescent_GradQkvRefIdeal [hGradQkvRefIdeal : Cert.GradQkvRefIdeal.Facts] : Prop :=
  ∀ (m : (ℓ : Loc Cert.GradQkvRefIdeal.nD Cert.GradQkvRefIdeal.τ Cert.GradQkvRefIdeal.sig) → Buf (Elt Ideal) ℓ) (g : Dev Cert.GradQkvRefIdeal.nD → PrngReg), Pre_GradQkvRefIdeal m →
    θ_run (Cert.GradQkvRefIdeal.defs (F := Ideal)) (onTc (τ := Cert.GradQkvRefIdeal.τ) (Cert.GradQkvRefIdeal.main (F := Ideal))) ⟨m, fun _ => 0, g⟩ (fun r => (∀ c : Dev Cert.GradQkvRefIdeal.nD,
      r.2.mem ((c.tc : Thread Cert.GradQkvRefIdeal.nD Cert.GradQkvRefIdeal.τ).loc Cert.GradQkvRefIdeal.main_arg0) = m ((c.tc : Thread Cert.GradQkvRefIdeal.nD Cert.GradQkvRefIdeal.τ).loc Cert.GradQkvRefIdeal.main_arg0)
      ∧ r.2.mem ((c.tc : Thread Cert.GradQkvRefIdeal.nD Cert.GradQkvRefIdeal.τ).loc Cert.GradQkvRefIdeal.main_arg1) = m ((c.tc : Thread Cert.GradQkvRefIdeal.nD Cert.GradQkvRefIdeal.τ).loc Cert.GradQkvRefIdeal.main_arg1))
      ∧ r.2.sem = fun _ => 0)

def quiescent_GradO [hGradO : Cert.GradO.Facts] : Prop :=
  ∀ (m : (ℓ : Loc Cert.GradO.nD Cert.GradO.τ Cert.GradO.sig) → Buf (Elt Bits) ℓ) (g : Dev Cert.GradO.nD → PrngReg), Pre_GradO m →
    θ_run (Cert.GradO.defs (F := Bits)) (onTc (τ := Cert.GradO.τ) (Cert.GradO.main (F := Bits))) ⟨m, fun _ => 0, g⟩ (fun r => (∀ c : Dev Cert.GradO.nD,
      r.2.mem ((c.tc : Thread Cert.GradO.nD Cert.GradO.τ).loc Cert.GradO.main_arg0) = m ((c.tc : Thread Cert.GradO.nD Cert.GradO.τ).loc Cert.GradO.main_arg0)
      ∧ r.2.mem ((c.tc : Thread Cert.GradO.nD Cert.GradO.τ).loc Cert.GradO.main_arg1) = m ((c.tc : Thread Cert.GradO.nD Cert.GradO.τ).loc Cert.GradO.main_arg1))
      ∧ r.2.sem = fun _ => 0)

def quiescent_GradOIdeal [hGradOIdeal : Cert.GradOIdeal.Facts] : Prop :=
  ∀ (m : (ℓ : Loc Cert.GradOIdeal.nD Cert.GradOIdeal.τ Cert.GradOIdeal.sig) → Buf (Elt Ideal) ℓ) (g : Dev Cert.GradOIdeal.nD → PrngReg), Pre_GradOIdeal m →
    θ_run (Cert.GradOIdeal.defs (F := Ideal)) (onTc (τ := Cert.GradOIdeal.τ) (Cert.GradOIdeal.main (F := Ideal))) ⟨m, fun _ => 0, g⟩ (fun r => (∀ c : Dev Cert.GradOIdeal.nD,
      r.2.mem ((c.tc : Thread Cert.GradOIdeal.nD Cert.GradOIdeal.τ).loc Cert.GradOIdeal.main_arg0) = m ((c.tc : Thread Cert.GradOIdeal.nD Cert.GradOIdeal.τ).loc Cert.GradOIdeal.main_arg0)
      ∧ r.2.mem ((c.tc : Thread Cert.GradOIdeal.nD Cert.GradOIdeal.τ).loc Cert.GradOIdeal.main_arg1) = m ((c.tc : Thread Cert.GradOIdeal.nD Cert.GradOIdeal.τ).loc Cert.GradOIdeal.main_arg1))
      ∧ r.2.sem = fun _ => 0)

def quiescent_GradORefIdeal [hGradORefIdeal : Cert.GradORefIdeal.Facts] : Prop :=
  ∀ (m : (ℓ : Loc Cert.GradORefIdeal.nD Cert.GradORefIdeal.τ Cert.GradORefIdeal.sig) → Buf (Elt Ideal) ℓ) (g : Dev Cert.GradORefIdeal.nD → PrngReg), Pre_GradORefIdeal m →
    θ_run (Cert.GradORefIdeal.defs (F := Ideal)) (onTc (τ := Cert.GradORefIdeal.τ) (Cert.GradORefIdeal.main (F := Ideal))) ⟨m, fun _ => 0, g⟩ (fun r => (∀ c : Dev Cert.GradORefIdeal.nD,
      r.2.mem ((c.tc : Thread Cert.GradORefIdeal.nD Cert.GradORefIdeal.τ).loc Cert.GradORefIdeal.main_arg0) = m ((c.tc : Thread Cert.GradORefIdeal.nD Cert.GradORefIdeal.τ).loc Cert.GradORefIdeal.main_arg0)
      ∧ r.2.mem ((c.tc : Thread Cert.GradORefIdeal.nD Cert.GradORefIdeal.τ).loc Cert.GradORefIdeal.main_arg1) = m ((c.tc : Thread Cert.GradORefIdeal.nD Cert.GradORefIdeal.τ).loc Cert.GradORefIdeal.main_arg1))
      ∧ r.2.sem = fun _ => 0)

def quiescent_RowOut [hRowOut : Cert.RowOut.Facts] : Prop :=
  ∀ (m : (ℓ : Loc Cert.RowOut.nD Cert.RowOut.τ Cert.RowOut.sig) → Buf (Elt Bits) ℓ) (g : Dev Cert.RowOut.nD → PrngReg), Pre_RowOut m →
    θ_run (Cert.RowOut.defs (F := Bits)) (onTc (τ := Cert.RowOut.τ) (Cert.RowOut.main (F := Bits))) ⟨m, fun _ => 0, g⟩ (fun r => (∀ c : Dev Cert.RowOut.nD,
      r.2.mem ((c.tc : Thread Cert.RowOut.nD Cert.RowOut.τ).loc Cert.RowOut.main_arg0) = m ((c.tc : Thread Cert.RowOut.nD Cert.RowOut.τ).loc Cert.RowOut.main_arg0)
      ∧ r.2.mem ((c.tc : Thread Cert.RowOut.nD Cert.RowOut.τ).loc Cert.RowOut.main_arg1) = m ((c.tc : Thread Cert.RowOut.nD Cert.RowOut.τ).loc Cert.RowOut.main_arg1)
      ∧ r.2.mem ((c.tc : Thread Cert.RowOut.nD Cert.RowOut.τ).loc Cert.RowOut.main_arg2) = m ((c.tc : Thread Cert.RowOut.nD Cert.RowOut.τ).loc Cert.RowOut.main_arg2)
      ∧ r.2.mem ((c.tc : Thread Cert.RowOut.nD Cert.RowOut.τ).loc Cert.RowOut.main_arg3) = m ((c.tc : Thread Cert.RowOut.nD Cert.RowOut.τ).loc Cert.RowOut.main_arg3))
      ∧ r.2.sem = fun _ => 0)

def quiescent_RowOutIdeal [hRowOutIdeal : Cert.RowOutIdeal.Facts] : Prop :=
  ∀ (m : (ℓ : Loc Cert.RowOutIdeal.nD Cert.RowOutIdeal.τ Cert.RowOutIdeal.sig) → Buf (Elt Ideal) ℓ) (g : Dev Cert.RowOutIdeal.nD → PrngReg), Pre_RowOutIdeal m →
    θ_run (Cert.RowOutIdeal.defs (F := Ideal)) (onTc (τ := Cert.RowOutIdeal.τ) (Cert.RowOutIdeal.main (F := Ideal))) ⟨m, fun _ => 0, g⟩ (fun r => (∀ c : Dev Cert.RowOutIdeal.nD,
      r.2.mem ((c.tc : Thread Cert.RowOutIdeal.nD Cert.RowOutIdeal.τ).loc Cert.RowOutIdeal.main_arg0) = m ((c.tc : Thread Cert.RowOutIdeal.nD Cert.RowOutIdeal.τ).loc Cert.RowOutIdeal.main_arg0)
      ∧ r.2.mem ((c.tc : Thread Cert.RowOutIdeal.nD Cert.RowOutIdeal.τ).loc Cert.RowOutIdeal.main_arg1) = m ((c.tc : Thread Cert.RowOutIdeal.nD Cert.RowOutIdeal.τ).loc Cert.RowOutIdeal.main_arg1)
      ∧ r.2.mem ((c.tc : Thread Cert.RowOutIdeal.nD Cert.RowOutIdeal.τ).loc Cert.RowOutIdeal.main_arg2) = m ((c.tc : Thread Cert.RowOutIdeal.nD Cert.RowOutIdeal.τ).loc Cert.RowOutIdeal.main_arg2)
      ∧ r.2.mem ((c.tc : Thread Cert.RowOutIdeal.nD Cert.RowOutIdeal.τ).loc Cert.RowOutIdeal.main_arg3) = m ((c.tc : Thread Cert.RowOutIdeal.nD Cert.RowOutIdeal.τ).loc Cert.RowOutIdeal.main_arg3))
      ∧ r.2.sem = fun _ => 0)

def quiescent_RowOutRefIdeal [hRowOutRefIdeal : Cert.RowOutRefIdeal.Facts] : Prop :=
  ∀ (m : (ℓ : Loc Cert.RowOutRefIdeal.nD Cert.RowOutRefIdeal.τ Cert.RowOutRefIdeal.sig) → Buf (Elt Ideal) ℓ) (g : Dev Cert.RowOutRefIdeal.nD → PrngReg), Pre_RowOutRefIdeal m →
    θ_run (Cert.RowOutRefIdeal.defs (F := Ideal)) (onTc (τ := Cert.RowOutRefIdeal.τ) (Cert.RowOutRefIdeal.main (F := Ideal))) ⟨m, fun _ => 0, g⟩ (fun r => (∀ c : Dev Cert.RowOutRefIdeal.nD,
      r.2.mem ((c.tc : Thread Cert.RowOutRefIdeal.nD Cert.RowOutRefIdeal.τ).loc Cert.RowOutRefIdeal.main_arg0) = m ((c.tc : Thread Cert.RowOutRefIdeal.nD Cert.RowOutRefIdeal.τ).loc Cert.RowOutRefIdeal.main_arg0)
      ∧ r.2.mem ((c.tc : Thread Cert.RowOutRefIdeal.nD Cert.RowOutRefIdeal.τ).loc Cert.RowOutRefIdeal.main_arg1) = m ((c.tc : Thread Cert.RowOutRefIdeal.nD Cert.RowOutRefIdeal.τ).loc Cert.RowOutRefIdeal.main_arg1)
      ∧ r.2.mem ((c.tc : Thread Cert.RowOutRefIdeal.nD Cert.RowOutRefIdeal.τ).loc Cert.RowOutRefIdeal.main_arg2) = m ((c.tc : Thread Cert.RowOutRefIdeal.nD Cert.RowOutRefIdeal.τ).loc Cert.RowOutRefIdeal.main_arg2)
      ∧ r.2.mem ((c.tc : Thread Cert.RowOutRefIdeal.nD Cert.RowOutRefIdeal.τ).loc Cert.RowOutRefIdeal.main_arg3) = m ((c.tc : Thread Cert.RowOutRefIdeal.nD Cert.RowOutRefIdeal.τ).loc Cert.RowOutRefIdeal.main_arg3))
      ∧ r.2.sem = fun _ => 0)

def quiescent_RowDown [hRowDown : Cert.RowDown.Facts] : Prop :=
  ∀ (m : (ℓ : Loc Cert.RowDown.nD Cert.RowDown.τ Cert.RowDown.sig) → Buf (Elt Bits) ℓ) (g : Dev Cert.RowDown.nD → PrngReg), Pre_RowDown m →
    θ_run (Cert.RowDown.defs (F := Bits)) (onTc (τ := Cert.RowDown.τ) (Cert.RowDown.main (F := Bits))) ⟨m, fun _ => 0, g⟩ (fun r => (∀ c : Dev Cert.RowDown.nD,
      r.2.mem ((c.tc : Thread Cert.RowDown.nD Cert.RowDown.τ).loc Cert.RowDown.main_arg0) = m ((c.tc : Thread Cert.RowDown.nD Cert.RowDown.τ).loc Cert.RowDown.main_arg0)
      ∧ r.2.mem ((c.tc : Thread Cert.RowDown.nD Cert.RowDown.τ).loc Cert.RowDown.main_arg1) = m ((c.tc : Thread Cert.RowDown.nD Cert.RowDown.τ).loc Cert.RowDown.main_arg1)
      ∧ r.2.mem ((c.tc : Thread Cert.RowDown.nD Cert.RowDown.τ).loc Cert.RowDown.main_arg2) = m ((c.tc : Thread Cert.RowDown.nD Cert.RowDown.τ).loc Cert.RowDown.main_arg2)
      ∧ r.2.mem ((c.tc : Thread Cert.RowDown.nD Cert.RowDown.τ).loc Cert.RowDown.main_arg3) = m ((c.tc : Thread Cert.RowDown.nD Cert.RowDown.τ).loc Cert.RowDown.main_arg3))
      ∧ r.2.sem = fun _ => 0)

def quiescent_RowDownIdeal [hRowDownIdeal : Cert.RowDownIdeal.Facts] : Prop :=
  ∀ (m : (ℓ : Loc Cert.RowDownIdeal.nD Cert.RowDownIdeal.τ Cert.RowDownIdeal.sig) → Buf (Elt Ideal) ℓ) (g : Dev Cert.RowDownIdeal.nD → PrngReg), Pre_RowDownIdeal m →
    θ_run (Cert.RowDownIdeal.defs (F := Ideal)) (onTc (τ := Cert.RowDownIdeal.τ) (Cert.RowDownIdeal.main (F := Ideal))) ⟨m, fun _ => 0, g⟩ (fun r => (∀ c : Dev Cert.RowDownIdeal.nD,
      r.2.mem ((c.tc : Thread Cert.RowDownIdeal.nD Cert.RowDownIdeal.τ).loc Cert.RowDownIdeal.main_arg0) = m ((c.tc : Thread Cert.RowDownIdeal.nD Cert.RowDownIdeal.τ).loc Cert.RowDownIdeal.main_arg0)
      ∧ r.2.mem ((c.tc : Thread Cert.RowDownIdeal.nD Cert.RowDownIdeal.τ).loc Cert.RowDownIdeal.main_arg1) = m ((c.tc : Thread Cert.RowDownIdeal.nD Cert.RowDownIdeal.τ).loc Cert.RowDownIdeal.main_arg1)
      ∧ r.2.mem ((c.tc : Thread Cert.RowDownIdeal.nD Cert.RowDownIdeal.τ).loc Cert.RowDownIdeal.main_arg2) = m ((c.tc : Thread Cert.RowDownIdeal.nD Cert.RowDownIdeal.τ).loc Cert.RowDownIdeal.main_arg2)
      ∧ r.2.mem ((c.tc : Thread Cert.RowDownIdeal.nD Cert.RowDownIdeal.τ).loc Cert.RowDownIdeal.main_arg3) = m ((c.tc : Thread Cert.RowDownIdeal.nD Cert.RowDownIdeal.τ).loc Cert.RowDownIdeal.main_arg3))
      ∧ r.2.sem = fun _ => 0)

def quiescent_RowDownRefIdeal [hRowDownRefIdeal : Cert.RowDownRefIdeal.Facts] : Prop :=
  ∀ (m : (ℓ : Loc Cert.RowDownRefIdeal.nD Cert.RowDownRefIdeal.τ Cert.RowDownRefIdeal.sig) → Buf (Elt Ideal) ℓ) (g : Dev Cert.RowDownRefIdeal.nD → PrngReg), Pre_RowDownRefIdeal m →
    θ_run (Cert.RowDownRefIdeal.defs (F := Ideal)) (onTc (τ := Cert.RowDownRefIdeal.τ) (Cert.RowDownRefIdeal.main (F := Ideal))) ⟨m, fun _ => 0, g⟩ (fun r => (∀ c : Dev Cert.RowDownRefIdeal.nD,
      r.2.mem ((c.tc : Thread Cert.RowDownRefIdeal.nD Cert.RowDownRefIdeal.τ).loc Cert.RowDownRefIdeal.main_arg0) = m ((c.tc : Thread Cert.RowDownRefIdeal.nD Cert.RowDownRefIdeal.τ).loc Cert.RowDownRefIdeal.main_arg0)
      ∧ r.2.mem ((c.tc : Thread Cert.RowDownRefIdeal.nD Cert.RowDownRefIdeal.τ).loc Cert.RowDownRefIdeal.main_arg1) = m ((c.tc : Thread Cert.RowDownRefIdeal.nD Cert.RowDownRefIdeal.τ).loc Cert.RowDownRefIdeal.main_arg1)
      ∧ r.2.mem ((c.tc : Thread Cert.RowDownRefIdeal.nD Cert.RowDownRefIdeal.τ).loc Cert.RowDownRefIdeal.main_arg2) = m ((c.tc : Thread Cert.RowDownRefIdeal.nD Cert.RowDownRefIdeal.τ).loc Cert.RowDownRefIdeal.main_arg2)
      ∧ r.2.mem ((c.tc : Thread Cert.RowDownRefIdeal.nD Cert.RowDownRefIdeal.τ).loc Cert.RowDownRefIdeal.main_arg3) = m ((c.tc : Thread Cert.RowDownRefIdeal.nD Cert.RowDownRefIdeal.τ).loc Cert.RowDownRefIdeal.main_arg3))
      ∧ r.2.sem = fun _ => 0)

def quiescent_RowLast [hRowLast : Cert.RowLast.Facts] : Prop :=
  ∀ (m : (ℓ : Loc Cert.RowLast.nD Cert.RowLast.τ Cert.RowLast.sig) → Buf (Elt Bits) ℓ) (g : Dev Cert.RowLast.nD → PrngReg), Pre_RowLast m →
    θ_run (Cert.RowLast.defs (F := Bits)) (onTc (τ := Cert.RowLast.τ) (Cert.RowLast.main (F := Bits))) ⟨m, fun _ => 0, g⟩ (fun r => (∀ c : Dev Cert.RowLast.nD,
      r.2.mem ((c.tc : Thread Cert.RowLast.nD Cert.RowLast.τ).loc Cert.RowLast.main_arg0) = m ((c.tc : Thread Cert.RowLast.nD Cert.RowLast.τ).loc Cert.RowLast.main_arg0)
      ∧ r.2.mem ((c.tc : Thread Cert.RowLast.nD Cert.RowLast.τ).loc Cert.RowLast.main_arg1) = m ((c.tc : Thread Cert.RowLast.nD Cert.RowLast.τ).loc Cert.RowLast.main_arg1)
      ∧ r.2.mem ((c.tc : Thread Cert.RowLast.nD Cert.RowLast.τ).loc Cert.RowLast.main_arg2) = m ((c.tc : Thread Cert.RowLast.nD Cert.RowLast.τ).loc Cert.RowLast.main_arg2))
      ∧ r.2.sem = fun _ => 0)

def quiescent_RowLastIdeal [hRowLastIdeal : Cert.RowLastIdeal.Facts] : Prop :=
  ∀ (m : (ℓ : Loc Cert.RowLastIdeal.nD Cert.RowLastIdeal.τ Cert.RowLastIdeal.sig) → Buf (Elt Ideal) ℓ) (g : Dev Cert.RowLastIdeal.nD → PrngReg), Pre_RowLastIdeal m →
    θ_run (Cert.RowLastIdeal.defs (F := Ideal)) (onTc (τ := Cert.RowLastIdeal.τ) (Cert.RowLastIdeal.main (F := Ideal))) ⟨m, fun _ => 0, g⟩ (fun r => (∀ c : Dev Cert.RowLastIdeal.nD,
      r.2.mem ((c.tc : Thread Cert.RowLastIdeal.nD Cert.RowLastIdeal.τ).loc Cert.RowLastIdeal.main_arg0) = m ((c.tc : Thread Cert.RowLastIdeal.nD Cert.RowLastIdeal.τ).loc Cert.RowLastIdeal.main_arg0)
      ∧ r.2.mem ((c.tc : Thread Cert.RowLastIdeal.nD Cert.RowLastIdeal.τ).loc Cert.RowLastIdeal.main_arg1) = m ((c.tc : Thread Cert.RowLastIdeal.nD Cert.RowLastIdeal.τ).loc Cert.RowLastIdeal.main_arg1)
      ∧ r.2.mem ((c.tc : Thread Cert.RowLastIdeal.nD Cert.RowLastIdeal.τ).loc Cert.RowLastIdeal.main_arg2) = m ((c.tc : Thread Cert.RowLastIdeal.nD Cert.RowLastIdeal.τ).loc Cert.RowLastIdeal.main_arg2))
      ∧ r.2.sem = fun _ => 0)

def quiescent_RowLastRefIdeal [hRowLastRefIdeal : Cert.RowLastRefIdeal.Facts] : Prop :=
  ∀ (m : (ℓ : Loc Cert.RowLastRefIdeal.nD Cert.RowLastRefIdeal.τ Cert.RowLastRefIdeal.sig) → Buf (Elt Ideal) ℓ) (g : Dev Cert.RowLastRefIdeal.nD → PrngReg), Pre_RowLastRefIdeal m →
    θ_run (Cert.RowLastRefIdeal.defs (F := Ideal)) (onTc (τ := Cert.RowLastRefIdeal.τ) (Cert.RowLastRefIdeal.main (F := Ideal))) ⟨m, fun _ => 0, g⟩ (fun r => (∀ c : Dev Cert.RowLastRefIdeal.nD,
      r.2.mem ((c.tc : Thread Cert.RowLastRefIdeal.nD Cert.RowLastRefIdeal.τ).loc Cert.RowLastRefIdeal.main_arg0) = m ((c.tc : Thread Cert.RowLastRefIdeal.nD Cert.RowLastRefIdeal.τ).loc Cert.RowLastRefIdeal.main_arg0)
      ∧ r.2.mem ((c.tc : Thread Cert.RowLastRefIdeal.nD Cert.RowLastRefIdeal.τ).loc Cert.RowLastRefIdeal.main_arg1) = m ((c.tc : Thread Cert.RowLastRefIdeal.nD Cert.RowLastRefIdeal.τ).loc Cert.RowLastRefIdeal.main_arg1)
      ∧ r.2.mem ((c.tc : Thread Cert.RowLastRefIdeal.nD Cert.RowLastRefIdeal.τ).loc Cert.RowLastRefIdeal.main_arg2) = m ((c.tc : Thread Cert.RowLastRefIdeal.nD Cert.RowLastRefIdeal.τ).loc Cert.RowLastRefIdeal.main_arg2))
      ∧ r.2.sem = fun _ => 0)

def quiescent_RowUp [hRowUp : Cert.RowUp.Facts] : Prop :=
  ∀ (m : (ℓ : Loc Cert.RowUp.nD Cert.RowUp.τ Cert.RowUp.sig) → Buf (Elt Bits) ℓ) (g : Dev Cert.RowUp.nD → PrngReg), Pre_RowUp m →
    θ_run (Cert.RowUp.defs (F := Bits)) (onTc (τ := Cert.RowUp.τ) (Cert.RowUp.main (F := Bits))) ⟨m, fun _ => 0, g⟩ (fun r => (∀ c : Dev Cert.RowUp.nD,
      r.2.mem ((c.tc : Thread Cert.RowUp.nD Cert.RowUp.τ).loc Cert.RowUp.main_arg0) = m ((c.tc : Thread Cert.RowUp.nD Cert.RowUp.τ).loc Cert.RowUp.main_arg0)
      ∧ r.2.mem ((c.tc : Thread Cert.RowUp.nD Cert.RowUp.τ).loc Cert.RowUp.main_arg1) = m ((c.tc : Thread Cert.RowUp.nD Cert.RowUp.τ).loc Cert.RowUp.main_arg1)
      ∧ r.2.mem ((c.tc : Thread Cert.RowUp.nD Cert.RowUp.τ).loc Cert.RowUp.main_arg2) = m ((c.tc : Thread Cert.RowUp.nD Cert.RowUp.τ).loc Cert.RowUp.main_arg2)
      ∧ r.2.mem ((c.tc : Thread Cert.RowUp.nD Cert.RowUp.τ).loc Cert.RowUp.main_arg3) = m ((c.tc : Thread Cert.RowUp.nD Cert.RowUp.τ).loc Cert.RowUp.main_arg3)
      ∧ r.2.mem ((c.tc : Thread Cert.RowUp.nD Cert.RowUp.τ).loc Cert.RowUp.main_arg4) = m ((c.tc : Thread Cert.RowUp.nD Cert.RowUp.τ).loc Cert.RowUp.main_arg4))
      ∧ r.2.sem = fun _ => 0)

def quiescent_RowUpIdeal [hRowUpIdeal : Cert.RowUpIdeal.Facts] : Prop :=
  ∀ (m : (ℓ : Loc Cert.RowUpIdeal.nD Cert.RowUpIdeal.τ Cert.RowUpIdeal.sig) → Buf (Elt Ideal) ℓ) (g : Dev Cert.RowUpIdeal.nD → PrngReg), Pre_RowUpIdeal m →
    θ_run (Cert.RowUpIdeal.defs (F := Ideal)) (onTc (τ := Cert.RowUpIdeal.τ) (Cert.RowUpIdeal.main (F := Ideal))) ⟨m, fun _ => 0, g⟩ (fun r => (∀ c : Dev Cert.RowUpIdeal.nD,
      r.2.mem ((c.tc : Thread Cert.RowUpIdeal.nD Cert.RowUpIdeal.τ).loc Cert.RowUpIdeal.main_arg0) = m ((c.tc : Thread Cert.RowUpIdeal.nD Cert.RowUpIdeal.τ).loc Cert.RowUpIdeal.main_arg0)
      ∧ r.2.mem ((c.tc : Thread Cert.RowUpIdeal.nD Cert.RowUpIdeal.τ).loc Cert.RowUpIdeal.main_arg1) = m ((c.tc : Thread Cert.RowUpIdeal.nD Cert.RowUpIdeal.τ).loc Cert.RowUpIdeal.main_arg1)
      ∧ r.2.mem ((c.tc : Thread Cert.RowUpIdeal.nD Cert.RowUpIdeal.τ).loc Cert.RowUpIdeal.main_arg2) = m ((c.tc : Thread Cert.RowUpIdeal.nD Cert.RowUpIdeal.τ).loc Cert.RowUpIdeal.main_arg2)
      ∧ r.2.mem ((c.tc : Thread Cert.RowUpIdeal.nD Cert.RowUpIdeal.τ).loc Cert.RowUpIdeal.main_arg3) = m ((c.tc : Thread Cert.RowUpIdeal.nD Cert.RowUpIdeal.τ).loc Cert.RowUpIdeal.main_arg3)
      ∧ r.2.mem ((c.tc : Thread Cert.RowUpIdeal.nD Cert.RowUpIdeal.τ).loc Cert.RowUpIdeal.main_arg4) = m ((c.tc : Thread Cert.RowUpIdeal.nD Cert.RowUpIdeal.τ).loc Cert.RowUpIdeal.main_arg4))
      ∧ r.2.sem = fun _ => 0)

def quiescent_RowUpRefIdeal [hRowUpRefIdeal : Cert.RowUpRefIdeal.Facts] : Prop :=
  ∀ (m : (ℓ : Loc Cert.RowUpRefIdeal.nD Cert.RowUpRefIdeal.τ Cert.RowUpRefIdeal.sig) → Buf (Elt Ideal) ℓ) (g : Dev Cert.RowUpRefIdeal.nD → PrngReg), Pre_RowUpRefIdeal m →
    θ_run (Cert.RowUpRefIdeal.defs (F := Ideal)) (onTc (τ := Cert.RowUpRefIdeal.τ) (Cert.RowUpRefIdeal.main (F := Ideal))) ⟨m, fun _ => 0, g⟩ (fun r => (∀ c : Dev Cert.RowUpRefIdeal.nD,
      r.2.mem ((c.tc : Thread Cert.RowUpRefIdeal.nD Cert.RowUpRefIdeal.τ).loc Cert.RowUpRefIdeal.main_arg0) = m ((c.tc : Thread Cert.RowUpRefIdeal.nD Cert.RowUpRefIdeal.τ).loc Cert.RowUpRefIdeal.main_arg0)
      ∧ r.2.mem ((c.tc : Thread Cert.RowUpRefIdeal.nD Cert.RowUpRefIdeal.τ).loc Cert.RowUpRefIdeal.main_arg1) = m ((c.tc : Thread Cert.RowUpRefIdeal.nD Cert.RowUpRefIdeal.τ).loc Cert.RowUpRefIdeal.main_arg1)
      ∧ r.2.mem ((c.tc : Thread Cert.RowUpRefIdeal.nD Cert.RowUpRefIdeal.τ).loc Cert.RowUpRefIdeal.main_arg2) = m ((c.tc : Thread Cert.RowUpRefIdeal.nD Cert.RowUpRefIdeal.τ).loc Cert.RowUpRefIdeal.main_arg2)
      ∧ r.2.mem ((c.tc : Thread Cert.RowUpRefIdeal.nD Cert.RowUpRefIdeal.τ).loc Cert.RowUpRefIdeal.main_arg3) = m ((c.tc : Thread Cert.RowUpRefIdeal.nD Cert.RowUpRefIdeal.τ).loc Cert.RowUpRefIdeal.main_arg3)
      ∧ r.2.mem ((c.tc : Thread Cert.RowUpRefIdeal.nD Cert.RowUpRefIdeal.τ).loc Cert.RowUpRefIdeal.main_arg4) = m ((c.tc : Thread Cert.RowUpRefIdeal.nD Cert.RowUpRefIdeal.τ).loc Cert.RowUpRefIdeal.main_arg4))
      ∧ r.2.sem = fun _ => 0)

def quiescent_RowQkv [hRowQkv : Cert.RowQkv.Facts] : Prop :=
  ∀ (m : (ℓ : Loc Cert.RowQkv.nD Cert.RowQkv.τ Cert.RowQkv.sig) → Buf (Elt Bits) ℓ) (g : Dev Cert.RowQkv.nD → PrngReg), Pre_RowQkv m →
    θ_run (Cert.RowQkv.defs (F := Bits)) (onTc (τ := Cert.RowQkv.τ) (Cert.RowQkv.main (F := Bits))) ⟨m, fun _ => 0, g⟩ (fun r => (∀ c : Dev Cert.RowQkv.nD,
      r.2.mem ((c.tc : Thread Cert.RowQkv.nD Cert.RowQkv.τ).loc Cert.RowQkv.main_arg0) = m ((c.tc : Thread Cert.RowQkv.nD Cert.RowQkv.τ).loc Cert.RowQkv.main_arg0)
      ∧ r.2.mem ((c.tc : Thread Cert.RowQkv.nD Cert.RowQkv.τ).loc Cert.RowQkv.main_arg1) = m ((c.tc : Thread Cert.RowQkv.nD Cert.RowQkv.τ).loc Cert.RowQkv.main_arg1)
      ∧ r.2.mem ((c.tc : Thread Cert.RowQkv.nD Cert.RowQkv.τ).loc Cert.RowQkv.main_arg2) = m ((c.tc : Thread Cert.RowQkv.nD Cert.RowQkv.τ).loc Cert.RowQkv.main_arg2)
      ∧ r.2.mem ((c.tc : Thread Cert.RowQkv.nD Cert.RowQkv.τ).loc Cert.RowQkv.main_arg3) = m ((c.tc : Thread Cert.RowQkv.nD Cert.RowQkv.τ).loc Cert.RowQkv.main_arg3)
      ∧ r.2.mem ((c.tc : Thread Cert.RowQkv.nD Cert.RowQkv.τ).loc Cert.RowQkv.main_arg4) = m ((c.tc : Thread Cert.RowQkv.nD Cert.RowQkv.τ).loc Cert.RowQkv.main_arg4))
      ∧ r.2.sem = fun _ => 0)

def quiescent_RowQkvIdeal [hRowQkvIdeal : Cert.RowQkvIdeal.Facts] : Prop :=
  ∀ (m : (ℓ : Loc Cert.RowQkvIdeal.nD Cert.RowQkvIdeal.τ Cert.RowQkvIdeal.sig) → Buf (Elt Ideal) ℓ) (g : Dev Cert.RowQkvIdeal.nD → PrngReg), Pre_RowQkvIdeal m →
    θ_run (Cert.RowQkvIdeal.defs (F := Ideal)) (onTc (τ := Cert.RowQkvIdeal.τ) (Cert.RowQkvIdeal.main (F := Ideal))) ⟨m, fun _ => 0, g⟩ (fun r => (∀ c : Dev Cert.RowQkvIdeal.nD,
      r.2.mem ((c.tc : Thread Cert.RowQkvIdeal.nD Cert.RowQkvIdeal.τ).loc Cert.RowQkvIdeal.main_arg0) = m ((c.tc : Thread Cert.RowQkvIdeal.nD Cert.RowQkvIdeal.τ).loc Cert.RowQkvIdeal.main_arg0)
      ∧ r.2.mem ((c.tc : Thread Cert.RowQkvIdeal.nD Cert.RowQkvIdeal.τ).loc Cert.RowQkvIdeal.main_arg1) = m ((c.tc : Thread Cert.RowQkvIdeal.nD Cert.RowQkvIdeal.τ).loc Cert.RowQkvIdeal.main_arg1)
      ∧ r.2.mem ((c.tc : Thread Cert.RowQkvIdeal.nD Cert.RowQkvIdeal.τ).loc Cert.RowQkvIdeal.main_arg2) = m ((c.tc : Thread Cert.RowQkvIdeal.nD Cert.RowQkvIdeal.τ).loc Cert.RowQkvIdeal.main_arg2)
      ∧ r.2.mem ((c.tc : Thread Cert.RowQkvIdeal.nD Cert.RowQkvIdeal.τ).loc Cert.RowQkvIdeal.main_arg3) = m ((c.tc : Thread Cert.RowQkvIdeal.nD Cert.RowQkvIdeal.τ).loc Cert.RowQkvIdeal.main_arg3)
      ∧ r.2.mem ((c.tc : Thread Cert.RowQkvIdeal.nD Cert.RowQkvIdeal.τ).loc Cert.RowQkvIdeal.main_arg4) = m ((c.tc : Thread Cert.RowQkvIdeal.nD Cert.RowQkvIdeal.τ).loc Cert.RowQkvIdeal.main_arg4))
      ∧ r.2.sem = fun _ => 0)

def quiescent_RowQkvRefIdeal [hRowQkvRefIdeal : Cert.RowQkvRefIdeal.Facts] : Prop :=
  ∀ (m : (ℓ : Loc Cert.RowQkvRefIdeal.nD Cert.RowQkvRefIdeal.τ Cert.RowQkvRefIdeal.sig) → Buf (Elt Ideal) ℓ) (g : Dev Cert.RowQkvRefIdeal.nD → PrngReg), Pre_RowQkvRefIdeal m →
    θ_run (Cert.RowQkvRefIdeal.defs (F := Ideal)) (onTc (τ := Cert.RowQkvRefIdeal.τ) (Cert.RowQkvRefIdeal.main (F := Ideal))) ⟨m, fun _ => 0, g⟩ (fun r => (∀ c : Dev Cert.RowQkvRefIdeal.nD,
      r.2.mem ((c.tc : Thread Cert.RowQkvRefIdeal.nD Cert.RowQkvRefIdeal.τ).loc Cert.RowQkvRefIdeal.main_arg0) = m ((c.tc : Thread Cert.RowQkvRefIdeal.nD Cert.RowQkvRefIdeal.τ).loc Cert.RowQkvRefIdeal.main_arg0)
      ∧ r.2.mem ((c.tc : Thread Cert.RowQkvRefIdeal.nD Cert.RowQkvRefIdeal.τ).loc Cert.RowQkvRefIdeal.main_arg1) = m ((c.tc : Thread Cert.RowQkvRefIdeal.nD Cert.RowQkvRefIdeal.τ).loc Cert.RowQkvRefIdeal.main_arg1)
      ∧ r.2.mem ((c.tc : Thread Cert.RowQkvRefIdeal.nD Cert.RowQkvRefIdeal.τ).loc Cert.RowQkvRefIdeal.main_arg2) = m ((c.tc : Thread Cert.RowQkvRefIdeal.nD Cert.RowQkvRefIdeal.τ).loc Cert.RowQkvRefIdeal.main_arg2)
      ∧ r.2.mem ((c.tc : Thread Cert.RowQkvRefIdeal.nD Cert.RowQkvRefIdeal.τ).loc Cert.RowQkvRefIdeal.main_arg3) = m ((c.tc : Thread Cert.RowQkvRefIdeal.nD Cert.RowQkvRefIdeal.τ).loc Cert.RowQkvRefIdeal.main_arg3)
      ∧ r.2.mem ((c.tc : Thread Cert.RowQkvRefIdeal.nD Cert.RowQkvRefIdeal.τ).loc Cert.RowQkvRefIdeal.main_arg4) = m ((c.tc : Thread Cert.RowQkvRefIdeal.nD Cert.RowQkvRefIdeal.τ).loc Cert.RowQkvRefIdeal.main_arg4))
      ∧ r.2.sem = fun _ => 0)

def quiescent_RowIn [hRowIn : Cert.RowIn.Facts] : Prop :=
  ∀ (m : (ℓ : Loc Cert.RowIn.nD Cert.RowIn.τ Cert.RowIn.sig) → Buf (Elt Bits) ℓ) (g : Dev Cert.RowIn.nD → PrngReg), Pre_RowIn m →
    θ_run (Cert.RowIn.defs (F := Bits)) (onTc (τ := Cert.RowIn.τ) (Cert.RowIn.main (F := Bits))) ⟨m, fun _ => 0, g⟩ (fun r => (∀ c : Dev Cert.RowIn.nD,
      r.2.mem ((c.tc : Thread Cert.RowIn.nD Cert.RowIn.τ).loc Cert.RowIn.main_arg0) = m ((c.tc : Thread Cert.RowIn.nD Cert.RowIn.τ).loc Cert.RowIn.main_arg0)
      ∧ r.2.mem ((c.tc : Thread Cert.RowIn.nD Cert.RowIn.τ).loc Cert.RowIn.main_arg1) = m ((c.tc : Thread Cert.RowIn.nD Cert.RowIn.τ).loc Cert.RowIn.main_arg1)
      ∧ r.2.mem ((c.tc : Thread Cert.RowIn.nD Cert.RowIn.τ).loc Cert.RowIn.main_arg2) = m ((c.tc : Thread Cert.RowIn.nD Cert.RowIn.τ).loc Cert.RowIn.main_arg2)
      ∧ r.2.mem ((c.tc : Thread Cert.RowIn.nD Cert.RowIn.τ).loc Cert.RowIn.main_arg3) = m ((c.tc : Thread Cert.RowIn.nD Cert.RowIn.τ).loc Cert.RowIn.main_arg3)
      ∧ r.2.mem ((c.tc : Thread Cert.RowIn.nD Cert.RowIn.τ).loc Cert.RowIn.main_arg4) = m ((c.tc : Thread Cert.RowIn.nD Cert.RowIn.τ).loc Cert.RowIn.main_arg4))
      ∧ r.2.sem = fun _ => 0)

def quiescent_RowInIdeal [hRowInIdeal : Cert.RowInIdeal.Facts] : Prop :=
  ∀ (m : (ℓ : Loc Cert.RowInIdeal.nD Cert.RowInIdeal.τ Cert.RowInIdeal.sig) → Buf (Elt Ideal) ℓ) (g : Dev Cert.RowInIdeal.nD → PrngReg), Pre_RowInIdeal m →
    θ_run (Cert.RowInIdeal.defs (F := Ideal)) (onTc (τ := Cert.RowInIdeal.τ) (Cert.RowInIdeal.main (F := Ideal))) ⟨m, fun _ => 0, g⟩ (fun r => (∀ c : Dev Cert.RowInIdeal.nD,
      r.2.mem ((c.tc : Thread Cert.RowInIdeal.nD Cert.RowInIdeal.τ).loc Cert.RowInIdeal.main_arg0) = m ((c.tc : Thread Cert.RowInIdeal.nD Cert.RowInIdeal.τ).loc Cert.RowInIdeal.main_arg0)
      ∧ r.2.mem ((c.tc : Thread Cert.RowInIdeal.nD Cert.RowInIdeal.τ).loc Cert.RowInIdeal.main_arg1) = m ((c.tc : Thread Cert.RowInIdeal.nD Cert.RowInIdeal.τ).loc Cert.RowInIdeal.main_arg1)
      ∧ r.2.mem ((c.tc : Thread Cert.RowInIdeal.nD Cert.RowInIdeal.τ).loc Cert.RowInIdeal.main_arg2) = m ((c.tc : Thread Cert.RowInIdeal.nD Cert.RowInIdeal.τ).loc Cert.RowInIdeal.main_arg2)
      ∧ r.2.mem ((c.tc : Thread Cert.RowInIdeal.nD Cert.RowInIdeal.τ).loc Cert.RowInIdeal.main_arg3) = m ((c.tc : Thread Cert.RowInIdeal.nD Cert.RowInIdeal.τ).loc Cert.RowInIdeal.main_arg3)
      ∧ r.2.mem ((c.tc : Thread Cert.RowInIdeal.nD Cert.RowInIdeal.τ).loc Cert.RowInIdeal.main_arg4) = m ((c.tc : Thread Cert.RowInIdeal.nD Cert.RowInIdeal.τ).loc Cert.RowInIdeal.main_arg4))
      ∧ r.2.sem = fun _ => 0)

def quiescent_RowInRefIdeal [hRowInRefIdeal : Cert.RowInRefIdeal.Facts] : Prop :=
  ∀ (m : (ℓ : Loc Cert.RowInRefIdeal.nD Cert.RowInRefIdeal.τ Cert.RowInRefIdeal.sig) → Buf (Elt Ideal) ℓ) (g : Dev Cert.RowInRefIdeal.nD → PrngReg), Pre_RowInRefIdeal m →
    θ_run (Cert.RowInRefIdeal.defs (F := Ideal)) (onTc (τ := Cert.RowInRefIdeal.τ) (Cert.RowInRefIdeal.main (F := Ideal))) ⟨m, fun _ => 0, g⟩ (fun r => (∀ c : Dev Cert.RowInRefIdeal.nD,
      r.2.mem ((c.tc : Thread Cert.RowInRefIdeal.nD Cert.RowInRefIdeal.τ).loc Cert.RowInRefIdeal.main_arg0) = m ((c.tc : Thread Cert.RowInRefIdeal.nD Cert.RowInRefIdeal.τ).loc Cert.RowInRefIdeal.main_arg0)
      ∧ r.2.mem ((c.tc : Thread Cert.RowInRefIdeal.nD Cert.RowInRefIdeal.τ).loc Cert.RowInRefIdeal.main_arg1) = m ((c.tc : Thread Cert.RowInRefIdeal.nD Cert.RowInRefIdeal.τ).loc Cert.RowInRefIdeal.main_arg1)
      ∧ r.2.mem ((c.tc : Thread Cert.RowInRefIdeal.nD Cert.RowInRefIdeal.τ).loc Cert.RowInRefIdeal.main_arg2) = m ((c.tc : Thread Cert.RowInRefIdeal.nD Cert.RowInRefIdeal.τ).loc Cert.RowInRefIdeal.main_arg2)
      ∧ r.2.mem ((c.tc : Thread Cert.RowInRefIdeal.nD Cert.RowInRefIdeal.τ).loc Cert.RowInRefIdeal.main_arg3) = m ((c.tc : Thread Cert.RowInRefIdeal.nD Cert.RowInRefIdeal.τ).loc Cert.RowInRefIdeal.main_arg3)
      ∧ r.2.mem ((c.tc : Thread Cert.RowInRefIdeal.nD Cert.RowInRefIdeal.τ).loc Cert.RowInRefIdeal.main_arg4) = m ((c.tc : Thread Cert.RowInRefIdeal.nD Cert.RowInRefIdeal.τ).loc Cert.RowInRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1))
      ∧ r.2.sem = fun _ => 0)

def quiescent_ConvBack [hConvBack : Cert.ConvBack.Facts] : Prop :=
  ∀ (m : (ℓ : Loc Cert.ConvBack.nD Cert.ConvBack.τ Cert.ConvBack.sig) → Buf (Elt Bits) ℓ) (g : Dev Cert.ConvBack.nD → PrngReg), Pre_ConvBack m →
    θ_run (Cert.ConvBack.defs (F := Bits)) (onTc (τ := Cert.ConvBack.τ) (Cert.ConvBack.main (F := Bits))) ⟨m, fun _ => 0, g⟩ (fun r => (∀ c : Dev Cert.ConvBack.nD,
      r.2.mem ((c.tc : Thread Cert.ConvBack.nD Cert.ConvBack.τ).loc Cert.ConvBack.main_arg0) = m ((c.tc : Thread Cert.ConvBack.nD Cert.ConvBack.τ).loc Cert.ConvBack.main_arg0)
      ∧ r.2.mem ((c.tc : Thread Cert.ConvBack.nD Cert.ConvBack.τ).loc Cert.ConvBack.main_arg1) = m ((c.tc : Thread Cert.ConvBack.nD Cert.ConvBack.τ).loc Cert.ConvBack.main_arg1)
      ∧ r.2.mem ((c.tc : Thread Cert.ConvBack.nD Cert.ConvBack.τ).loc Cert.ConvBack.main_arg2) = m ((c.tc : Thread Cert.ConvBack.nD Cert.ConvBack.τ).loc Cert.ConvBack.main_arg2))
      ∧ r.2.sem = fun _ => 0)

def quiescent_ConvBackIdeal [hConvBackIdeal : Cert.ConvBackIdeal.Facts] : Prop :=
  ∀ (m : (ℓ : Loc Cert.ConvBackIdeal.nD Cert.ConvBackIdeal.τ Cert.ConvBackIdeal.sig) → Buf (Elt Ideal) ℓ) (g : Dev Cert.ConvBackIdeal.nD → PrngReg), Pre_ConvBackIdeal m →
    θ_run (Cert.ConvBackIdeal.defs (F := Ideal)) (onTc (τ := Cert.ConvBackIdeal.τ) (Cert.ConvBackIdeal.main (F := Ideal))) ⟨m, fun _ => 0, g⟩ (fun r => (∀ c : Dev Cert.ConvBackIdeal.nD,
      r.2.mem ((c.tc : Thread Cert.ConvBackIdeal.nD Cert.ConvBackIdeal.τ).loc Cert.ConvBackIdeal.main_arg0) = m ((c.tc : Thread Cert.ConvBackIdeal.nD Cert.ConvBackIdeal.τ).loc Cert.ConvBackIdeal.main_arg0)
      ∧ r.2.mem ((c.tc : Thread Cert.ConvBackIdeal.nD Cert.ConvBackIdeal.τ).loc Cert.ConvBackIdeal.main_arg1) = m ((c.tc : Thread Cert.ConvBackIdeal.nD Cert.ConvBackIdeal.τ).loc Cert.ConvBackIdeal.main_arg1)
      ∧ r.2.mem ((c.tc : Thread Cert.ConvBackIdeal.nD Cert.ConvBackIdeal.τ).loc Cert.ConvBackIdeal.main_arg2) = m ((c.tc : Thread Cert.ConvBackIdeal.nD Cert.ConvBackIdeal.τ).loc Cert.ConvBackIdeal.main_arg2))
      ∧ r.2.sem = fun _ => 0)

def quiescent_ConvBackRefIdeal [hConvBackRefIdeal : Cert.ConvBackRefIdeal.Facts] : Prop :=
  ∀ (m : (ℓ : Loc Cert.ConvBackRefIdeal.nD Cert.ConvBackRefIdeal.τ Cert.ConvBackRefIdeal.sig) → Buf (Elt Ideal) ℓ) (g : Dev Cert.ConvBackRefIdeal.nD → PrngReg), Pre_ConvBackRefIdeal m →
    θ_run (Cert.ConvBackRefIdeal.defs (F := Ideal)) (onTc (τ := Cert.ConvBackRefIdeal.τ) (Cert.ConvBackRefIdeal.main (F := Ideal))) ⟨m, fun _ => 0, g⟩ (fun r => (∀ c : Dev Cert.ConvBackRefIdeal.nD,
      r.2.mem ((c.tc : Thread Cert.ConvBackRefIdeal.nD Cert.ConvBackRefIdeal.τ).loc Cert.ConvBackRefIdeal.main_arg0) = m ((c.tc : Thread Cert.ConvBackRefIdeal.nD Cert.ConvBackRefIdeal.τ).loc Cert.ConvBackRefIdeal.main_arg0)
      ∧ r.2.mem ((c.tc : Thread Cert.ConvBackRefIdeal.nD Cert.ConvBackRefIdeal.τ).loc Cert.ConvBackRefIdeal.main_arg1) = m ((c.tc : Thread Cert.ConvBackRefIdeal.nD Cert.ConvBackRefIdeal.τ).loc Cert.ConvBackRefIdeal.main_arg1)
      ∧ r.2.mem ((c.tc : Thread Cert.ConvBackRefIdeal.nD Cert.ConvBackRefIdeal.τ).loc Cert.ConvBackRefIdeal.main_arg2) = m ((c.tc : Thread Cert.ConvBackRefIdeal.nD Cert.ConvBackRefIdeal.τ).loc Cert.ConvBackRefIdeal.main_arg2))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1)
      ∧ r.2.mem ((c.tc : Thread Cert.RopeRefIdeal.nD Cert.RopeRefIdeal.τ).loc Cert.RopeRefIdeal.main_arg2) = m ((c.tc : Thread Cert.RopeRefIdeal.nD Cert.RopeRefIdeal.τ).loc Cert.RopeRefIdeal.main_arg2))
      ∧ r.2.sem = fun _ => 0)

def quiescent_RopeBack [hRopeBack : Cert.RopeBack.Facts] : Prop :=
  ∀ (m : (ℓ : Loc Cert.RopeBack.nD Cert.RopeBack.τ Cert.RopeBack.sig) → Buf (Elt Bits) ℓ) (g : Dev Cert.RopeBack.nD → PrngReg), Pre_RopeBack m →
    θ_run (Cert.RopeBack.defs (F := Bits)) (onTc (τ := Cert.RopeBack.τ) (Cert.RopeBack.main (F := Bits))) ⟨m, fun _ => 0, g⟩ (fun r => (∀ c : Dev Cert.RopeBack.nD,
      r.2.mem ((c.tc : Thread Cert.RopeBack.nD Cert.RopeBack.τ).loc Cert.RopeBack.main_arg0) = m ((c.tc : Thread Cert.RopeBack.nD Cert.RopeBack.τ).loc Cert.RopeBack.main_arg0)
      ∧ r.2.mem ((c.tc : Thread Cert.RopeBack.nD Cert.RopeBack.τ).loc Cert.RopeBack.main_arg1) = m ((c.tc : Thread Cert.RopeBack.nD Cert.RopeBack.τ).loc Cert.RopeBack.main_arg1)
      ∧ r.2.mem ((c.tc : Thread Cert.RopeBack.nD Cert.RopeBack.τ).loc Cert.RopeBack.main_arg2) = m ((c.tc : Thread Cert.RopeBack.nD Cert.RopeBack.τ).loc Cert.RopeBack.main_arg2)
      ∧ r.2.mem ((c.tc : Thread Cert.RopeBack.nD Cert.RopeBack.τ).loc Cert.RopeBack.main_arg3) = m ((c.tc : Thread Cert.RopeBack.nD Cert.RopeBack.τ).loc Cert.RopeBack.main_arg3)
      ∧ r.2.mem ((c.tc : Thread Cert.RopeBack.nD Cert.RopeBack.τ).loc Cert.RopeBack.main_arg4) = m ((c.tc : Thread Cert.RopeBack.nD Cert.RopeBack.τ).loc Cert.RopeBack.main_arg4))
      ∧ r.2.sem = fun _ => 0)

def quiescent_RopeBackIdeal [hRopeBackIdeal : Cert.RopeBackIdeal.Facts] : Prop :=
  ∀ (m : (ℓ : Loc Cert.RopeBackIdeal.nD Cert.RopeBackIdeal.τ Cert.RopeBackIdeal.sig) → Buf (Elt Ideal) ℓ) (g : Dev Cert.RopeBackIdeal.nD → PrngReg), Pre_RopeBackIdeal m →
    θ_run (Cert.RopeBackIdeal.defs (F := Ideal)) (onTc (τ := Cert.RopeBackIdeal.τ) (Cert.RopeBackIdeal.main (F := Ideal))) ⟨m, fun _ => 0, g⟩ (fun r => (∀ c : Dev Cert.RopeBackIdeal.nD,
      r.2.mem ((c.tc : Thread Cert.RopeBackIdeal.nD Cert.RopeBackIdeal.τ).loc Cert.RopeBackIdeal.main_arg0) = m ((c.tc : Thread Cert.RopeBackIdeal.nD Cert.RopeBackIdeal.τ).loc Cert.RopeBackIdeal.main_arg0)
      ∧ r.2.mem ((c.tc : Thread Cert.RopeBackIdeal.nD Cert.RopeBackIdeal.τ).loc Cert.RopeBackIdeal.main_arg1) = m ((c.tc : Thread Cert.RopeBackIdeal.nD Cert.RopeBackIdeal.τ).loc Cert.RopeBackIdeal.main_arg1)
      ∧ r.2.mem ((c.tc : Thread Cert.RopeBackIdeal.nD Cert.RopeBackIdeal.τ).loc Cert.RopeBackIdeal.main_arg2) = m ((c.tc : Thread Cert.RopeBackIdeal.nD Cert.RopeBackIdeal.τ).loc Cert.RopeBackIdeal.main_arg2)
      ∧ r.2.mem ((c.tc : Thread Cert.RopeBackIdeal.nD Cert.RopeBackIdeal.τ).loc Cert.RopeBackIdeal.main_arg3) = m ((c.tc : Thread Cert.RopeBackIdeal.nD Cert.RopeBackIdeal.τ).loc Cert.RopeBackIdeal.main_arg3)
      ∧ r.2.mem ((c.tc : Thread Cert.RopeBackIdeal.nD Cert.RopeBackIdeal.τ).loc Cert.RopeBackIdeal.main_arg4) = m ((c.tc : Thread Cert.RopeBackIdeal.nD Cert.RopeBackIdeal.τ).loc Cert.RopeBackIdeal.main_arg4))
      ∧ r.2.sem = fun _ => 0)

def quiescent_RopeBackRefIdeal [hRopeBackRefIdeal : Cert.RopeBackRefIdeal.Facts] : Prop :=
  ∀ (m : (ℓ : Loc Cert.RopeBackRefIdeal.nD Cert.RopeBackRefIdeal.τ Cert.RopeBackRefIdeal.sig) → Buf (Elt Ideal) ℓ) (g : Dev Cert.RopeBackRefIdeal.nD → PrngReg), Pre_RopeBackRefIdeal m →
    θ_run (Cert.RopeBackRefIdeal.defs (F := Ideal)) (onTc (τ := Cert.RopeBackRefIdeal.τ) (Cert.RopeBackRefIdeal.main (F := Ideal))) ⟨m, fun _ => 0, g⟩ (fun r => (∀ c : Dev Cert.RopeBackRefIdeal.nD,
      r.2.mem ((c.tc : Thread Cert.RopeBackRefIdeal.nD Cert.RopeBackRefIdeal.τ).loc Cert.RopeBackRefIdeal.main_arg0) = m ((c.tc : Thread Cert.RopeBackRefIdeal.nD Cert.RopeBackRefIdeal.τ).loc Cert.RopeBackRefIdeal.main_arg0)
      ∧ r.2.mem ((c.tc : Thread Cert.RopeBackRefIdeal.nD Cert.RopeBackRefIdeal.τ).loc Cert.RopeBackRefIdeal.main_arg1) = m ((c.tc : Thread Cert.RopeBackRefIdeal.nD Cert.RopeBackRefIdeal.τ).loc Cert.RopeBackRefIdeal.main_arg1)
      ∧ r.2.mem ((c.tc : Thread Cert.RopeBackRefIdeal.nD Cert.RopeBackRefIdeal.τ).loc Cert.RopeBackRefIdeal.main_arg2) = m ((c.tc : Thread Cert.RopeBackRefIdeal.nD Cert.RopeBackRefIdeal.τ).loc Cert.RopeBackRefIdeal.main_arg2)
      ∧ r.2.mem ((c.tc : Thread Cert.RopeBackRefIdeal.nD Cert.RopeBackRefIdeal.τ).loc Cert.RopeBackRefIdeal.main_arg3) = m ((c.tc : Thread Cert.RopeBackRefIdeal.nD Cert.RopeBackRefIdeal.τ).loc Cert.RopeBackRefIdeal.main_arg3)
      ∧ r.2.mem ((c.tc : Thread Cert.RopeBackRefIdeal.nD Cert.RopeBackRefIdeal.τ).loc Cert.RopeBackRefIdeal.main_arg4) = m ((c.tc : Thread Cert.RopeBackRefIdeal.nD Cert.RopeBackRefIdeal.τ).loc Cert.RopeBackRefIdeal.main_arg4))
      ∧ r.2.sem = fun _ => 0)

def preserves_AllToAll_AllToAllIdeal : Prop :=
  True

def algebraic_AllToAllIdeal_AllToAllRefIdeal [hAllToAllIdeal : Cert.AllToAllIdeal.Facts] [hAllToAllRefIdeal : Cert.AllToAllRefIdeal.Facts] : Prop :=
  ∀ (m : (ℓ : Loc Cert.AllToAllIdeal.nD Cert.AllToAllIdeal.τ Cert.AllToAllIdeal.sig) → Buf (Elt Ideal) ℓ) (g : Dev Cert.AllToAllIdeal.nD → PrngReg)
    (m' : (ℓ : Loc Cert.AllToAllRefIdeal.nD Cert.AllToAllRefIdeal.τ Cert.AllToAllRefIdeal.sig) → Buf (Elt Ideal) ℓ) (g' : Dev Cert.AllToAllRefIdeal.nD → PrngReg), Pre_AllToAllIdeal m →
    (∀ c : Dev Cert.AllToAllIdeal.nD,
      m ((c.tc : Thread Cert.AllToAllIdeal.nD Cert.AllToAllIdeal.τ).loc Cert.AllToAllIdeal.main_arg0) = Layout.block ⟨3, ![8, 768, 2048]⟩ ⟨3, ![64, 768, 2048]⟩ 0 8 c (m' (((0 : Dev Cert.AllToAllRefIdeal.nD).tc : Thread Cert.AllToAllRefIdeal.nD Cert.AllToAllRefIdeal.τ).loc Cert.AllToAllRefIdeal.main_arg0))
      ∧ m ((c.tc : Thread Cert.AllToAllIdeal.nD Cert.AllToAllIdeal.τ).loc Cert.AllToAllIdeal.main_arg1) = Layout.block ⟨3, ![8, 1024, 2048]⟩ ⟨3, ![64, 1024, 2048]⟩ 0 8 c (m' (((0 : Dev Cert.AllToAllRefIdeal.nD).tc : Thread Cert.AllToAllRefIdeal.nD Cert.AllToAllRefIdeal.τ).loc Cert.AllToAllRefIdeal.main_arg1))
      ∧ m ((c.tc : Thread Cert.AllToAllIdeal.nD Cert.AllToAllIdeal.τ).loc Cert.AllToAllIdeal.main_arg2) = Layout.block ⟨3, ![8, 320, 2048]⟩ ⟨3, ![64, 320, 2048]⟩ 0 8 c (m' (((0 : Dev Cert.AllToAllRefIdeal.nD).tc : Thread Cert.AllToAllRefIdeal.nD Cert.AllToAllRefIdeal.τ).loc Cert.AllToAllRefIdeal.main_arg2))
      ∧ m ((c.tc : Thread Cert.AllToAllIdeal.nD Cert.AllToAllIdeal.τ).loc Cert.AllToAllIdeal.main_arg3) = Layout.block ⟨3, ![8, 1024, 2048]⟩ ⟨3, ![64, 1024, 2048]⟩ 0 8 c (m' (((0 : Dev Cert.AllToAllRefIdeal.nD).tc : Thread Cert.AllToAllRefIdeal.nD Cert.AllToAllRefIdeal.τ).loc Cert.AllToAllRefIdeal.main_arg3))
      ∧ m ((c.tc : Thread Cert.AllToAllIdeal.nD Cert.AllToAllIdeal.τ).loc Cert.AllToAllIdeal.main_arg4) = Layout.block ⟨3, ![8, 256, 2048]⟩ ⟨3, ![64, 256, 2048]⟩ 0 8 c (m' (((0 : Dev Cert.AllToAllRefIdeal.nD).tc : Thread Cert.AllToAllRefIdeal.nD Cert.AllToAllRefIdeal.τ).loc Cert.AllToAllRefIdeal.main_arg4))
      ∧ m ((c.tc : Thread Cert.AllToAllIdeal.nD Cert.AllToAllIdeal.τ).loc Cert.AllToAllIdeal.main_arg5) = Layout.block ⟨3, ![8, 1024, 2048]⟩ ⟨3, ![64, 1024, 2048]⟩ 0 8 c (m' (((0 : Dev Cert.AllToAllRefIdeal.nD).tc : Thread Cert.AllToAllRefIdeal.nD Cert.AllToAllRefIdeal.τ).loc Cert.AllToAllRefIdeal.main_arg5))
      ∧ m ((c.tc : Thread Cert.AllToAllIdeal.nD Cert.AllToAllIdeal.τ).loc Cert.AllToAllIdeal.main_arg6) = Layout.block ⟨3, ![8, 256, 2048]⟩ ⟨3, ![64, 256, 2048]⟩ 0 8 c (m' (((0 : Dev Cert.AllToAllRefIdeal.nD).tc : Thread Cert.AllToAllRefIdeal.nD Cert.AllToAllRefIdeal.τ).loc Cert.AllToAllRefIdeal.main_arg6))
      ∧ m ((c.tc : Thread Cert.AllToAllIdeal.nD Cert.AllToAllIdeal.τ).loc Cert.AllToAllIdeal.main_arg7) = Layout.block ⟨3, ![8, 1024, 2048]⟩ ⟨3, ![64, 1024, 2048]⟩ 0 8 c (m' (((0 : Dev Cert.AllToAllRefIdeal.nD).tc : Thread Cert.AllToAllRefIdeal.nD Cert.AllToAllRefIdeal.τ).loc Cert.AllToAllRefIdeal.main_arg7))) →
    ∃ (v0 : Buf (Elt Ideal) (((0 : Dev Cert.AllToAllRefIdeal.nD).tc : Thread Cert.AllToAllRefIdeal.nD Cert.AllToAllRefIdeal.τ).loc Cert.AllToAllRefIdeal.main_v2)) (v1 : Buf (Elt Ideal) (((0 : Dev Cert.AllToAllRefIdeal.nD).tc : Thread Cert.AllToAllRefIdeal.nD Cert.AllToAllRefIdeal.τ).loc Cert.AllToAllRefIdeal.main_v5)) (v2 : Buf (Elt Ideal) (((0 : Dev Cert.AllToAllRefIdeal.nD).tc : Thread Cert.AllToAllRefIdeal.nD Cert.AllToAllRefIdeal.τ).loc Cert.AllToAllRefIdeal.main_v8)) (v3 : Buf (Elt Ideal) (((0 : Dev Cert.AllToAllRefIdeal.nD).tc : Thread Cert.AllToAllRefIdeal.nD Cert.AllToAllRefIdeal.τ).loc Cert.AllToAllRefIdeal.main_v11)) (v4 : Buf (Elt Ideal) (((0 : Dev Cert.AllToAllRefIdeal.nD).tc : Thread Cert.AllToAllRefIdeal.nD Cert.AllToAllRefIdeal.τ).loc Cert.AllToAllRefIdeal.main_v14)) (v5 : Buf (Elt Ideal) (((0 : Dev Cert.AllToAllRefIdeal.nD).tc : Thread Cert.AllToAllRefIdeal.nD Cert.AllToAllRefIdeal.τ).loc Cert.AllToAllRefIdeal.main_v17)) (v6 : Buf (Elt Ideal) (((0 : Dev Cert.AllToAllRefIdeal.nD).tc : Thread Cert.AllToAllRefIdeal.nD Cert.AllToAllRefIdeal.τ).loc Cert.AllToAllRefIdeal.main_v20)) (v7 : Buf (Elt Ideal) (((0 : Dev Cert.AllToAllRefIdeal.nD).tc : Thread Cert.AllToAllRefIdeal.nD Cert.AllToAllRefIdeal.τ).loc Cert.AllToAllRefIdeal.main_v23)),
      θ_run (Cert.AllToAllIdeal.defs (F := Ideal)) (onTc (τ := Cert.AllToAllIdeal.τ) (Cert.AllToAllIdeal.main (F := Ideal))) ⟨m, fun _ => 0, g⟩ (fun r => ∀ c : Dev Cert.AllToAllIdeal.nD,
          r.2.mem ((c.tc : Thread Cert.AllToAllIdeal.nD Cert.AllToAllIdeal.τ).loc Cert.AllToAllIdeal.main_v1_0) = Layout.block ⟨3, ![8, 768, 2048]⟩ ⟨3, ![64, 768, 2048]⟩ 0 8 c v0
          ∧ r.2.mem ((c.tc : Thread Cert.AllToAllIdeal.nD Cert.AllToAllIdeal.τ).loc Cert.AllToAllIdeal.main_v1_1) = Layout.block ⟨3, ![8, 1024, 2048]⟩ ⟨3, ![64, 1024, 2048]⟩ 0 8 c v1
          ∧ r.2.mem ((c.tc : Thread Cert.AllToAllIdeal.nD Cert.AllToAllIdeal.τ).loc Cert.AllToAllIdeal.main_v1_2) = Layout.block ⟨3, ![8, 320, 2048]⟩ ⟨3, ![64, 320, 2048]⟩ 0 8 c v2
          ∧ r.2.mem ((c.tc : Thread Cert.AllToAllIdeal.nD Cert.AllToAllIdeal.τ).loc Cert.AllToAllIdeal.main_v1_3) = Layout.block ⟨3, ![8, 1024, 2048]⟩ ⟨3, ![64, 1024, 2048]⟩ 0 8 c v3
          ∧ r.2.mem ((c.tc : Thread Cert.AllToAllIdeal.nD Cert.AllToAllIdeal.τ).loc Cert.AllToAllIdeal.main_v1_4) = Layout.block ⟨3, ![8, 256, 2048]⟩ ⟨3, ![64, 256, 2048]⟩ 0 8 c v4
          ∧ r.2.mem ((c.tc : Thread Cert.AllToAllIdeal.nD Cert.AllToAllIdeal.τ).loc Cert.AllToAllIdeal.main_v1_5) = Layout.block ⟨3, ![8, 1024, 2048]⟩ ⟨3, ![64, 1024, 2048]⟩ 0 8 c v5
          ∧ r.2.mem ((c.tc : Thread Cert.AllToAllIdeal.nD Cert.AllToAllIdeal.τ).loc Cert.AllToAllIdeal.main_v1_6) = Layout.block ⟨3, ![8, 256, 2048]⟩ ⟨3, ![64, 256, 2048]⟩ 0 8 c v6
          ∧ r.2.mem ((c.tc : Thread Cert.AllToAllIdeal.nD Cert.AllToAllIdeal.τ).loc Cert.AllToAllIdeal.main_v1_7) = Layout.block ⟨3, ![8, 1024, 2048]⟩ ⟨3, ![64, 1024, 2048]⟩ 0 8 c v7
          ∧ r.2.mem ((c.tc : Thread Cert.AllToAllIdeal.nD Cert.AllToAllIdeal.τ).loc Cert.AllToAllIdeal.main_arg0) = m ((c.tc : Thread Cert.AllToAllIdeal.nD Cert.AllToAllIdeal.τ).loc Cert.AllToAllIdeal.main_arg0)
          ∧ r.2.mem ((c.tc : Thread Cert.AllToAllIdeal.nD Cert.AllToAllIdeal.τ).loc Cert.AllToAllIdeal.main_arg1) = m ((c.tc : Thread Cert.AllToAllIdeal.nD Cert.AllToAllIdeal.τ).loc Cert.AllToAllIdeal.main_arg1)
          ∧ r.2.mem ((c.tc : Thread Cert.AllToAllIdeal.nD Cert.AllToAllIdeal.τ).loc Cert.AllToAllIdeal.main_arg2) = m ((c.tc : Thread Cert.AllToAllIdeal.nD Cert.AllToAllIdeal.τ).loc Cert.AllToAllIdeal.main_arg2)
          ∧ r.2.mem ((c.tc : Thread Cert.AllToAllIdeal.nD Cert.AllToAllIdeal.τ).loc Cert.AllToAllIdeal.main_arg3) = m ((c.tc : Thread Cert.AllToAllIdeal.nD Cert.AllToAllIdeal.τ).loc Cert.AllToAllIdeal.main_arg3)
          ∧ r.2.mem ((c.tc : Thread Cert.AllToAllIdeal.nD Cert.AllToAllIdeal.τ).loc Cert.AllToAllIdeal.main_arg4) = m ((c.tc : Thread Cert.AllToAllIdeal.nD Cert.AllToAllIdeal.τ).loc Cert.AllToAllIdeal.main_arg4)
          ∧ r.2.mem ((c.tc : Thread Cert.AllToAllIdeal.nD Cert.AllToAllIdeal.τ).loc Cert.AllToAllIdeal.main_arg5) = m ((c.tc : Thread Cert.AllToAllIdeal.nD Cert.AllToAllIdeal.τ).loc Cert.AllToAllIdeal.main_arg5)
          ∧ r.2.mem ((c.tc : Thread Cert.AllToAllIdeal.nD Cert.AllToAllIdeal.τ).loc Cert.AllToAllIdeal.main_arg6) = m ((c.tc : Thread Cert.AllToAllIdeal.nD Cert.AllToAllIdeal.τ).loc Cert.AllToAllIdeal.main_arg6)
          ∧ r.2.mem ((c.tc : Thread Cert.AllToAllIdeal.nD Cert.AllToAllIdeal.τ).loc Cert.AllToAllIdeal.main_arg7) = m ((c.tc : Thread Cert.AllToAllIdeal.nD Cert.AllToAllIdeal.τ).loc Cert.AllToAllIdeal.main_arg7))
      ∧ θ_run (Cert.AllToAllRefIdeal.defs (F := Ideal)) (onTc (τ := Cert.AllToAllRefIdeal.τ) (Cert.AllToAllRefIdeal.main (F := Ideal))) ⟨m', fun _ => 0, g'⟩ (fun r =>
          r.2.mem (((0 : Dev Cert.AllToAllRefIdeal.nD).tc : Thread Cert.AllToAllRefIdeal.nD Cert.AllToAllRefIdeal.τ).loc Cert.AllToAllRefIdeal.main_v2) = v0
          ∧ r.2.mem (((0 : Dev Cert.AllToAllRefIdeal.nD).tc : Thread Cert.AllToAllRefIdeal.nD Cert.AllToAllRefIdeal.τ).loc Cert.AllToAllRefIdeal.main_v5) = v1
          ∧ r.2.mem (((0 : Dev Cert.AllToAllRefIdeal.nD).tc : Thread Cert.AllToAllRefIdeal.nD Cert.AllToAllRefIdeal.τ).loc Cert.AllToAllRefIdeal.main_v8) = v2
          ∧ r.2.mem (((0 : Dev Cert.AllToAllRefIdeal.nD).tc : Thread Cert.AllToAllRefIdeal.nD Cert.AllToAllRefIdeal.τ).loc Cert.AllToAllRefIdeal.main_v11) = v3
          ∧ r.2.mem (((0 : Dev Cert.AllToAllRefIdeal.nD).tc : Thread Cert.AllToAllRefIdeal.nD Cert.AllToAllRefIdeal.τ).loc Cert.AllToAllRefIdeal.main_v14) = v4
          ∧ r.2.mem (((0 : Dev Cert.AllToAllRefIdeal.nD).tc : Thread Cert.AllToAllRefIdeal.nD Cert.AllToAllRefIdeal.τ).loc Cert.AllToAllRefIdeal.main_v17) = v5
          ∧ r.2.mem (((0 : Dev Cert.AllToAllRefIdeal.nD).tc : Thread Cert.AllToAllRefIdeal.nD Cert.AllToAllRefIdeal.τ).loc Cert.AllToAllRefIdeal.main_v20) = v6
          ∧ r.2.mem (((0 : Dev Cert.AllToAllRefIdeal.nD).tc : Thread Cert.AllToAllRefIdeal.nD Cert.AllToAllRefIdeal.τ).loc Cert.AllToAllRefIdeal.main_v23) = v7
          ∧ r.2.mem (((0 : Dev Cert.AllToAllRefIdeal.nD).tc : Thread Cert.AllToAllRefIdeal.nD Cert.AllToAllRefIdeal.τ).loc Cert.AllToAllRefIdeal.main_arg0) = m' (((0 : Dev Cert.AllToAllRefIdeal.nD).tc : Thread Cert.AllToAllRefIdeal.nD Cert.AllToAllRefIdeal.τ).loc Cert.AllToAllRefIdeal.main_arg0)
          ∧ r.2.mem (((0 : Dev Cert.AllToAllRefIdeal.nD).tc : Thread Cert.AllToAllRefIdeal.nD Cert.AllToAllRefIdeal.τ).loc Cert.AllToAllRefIdeal.main_arg1) = m' (((0 : Dev Cert.AllToAllRefIdeal.nD).tc : Thread Cert.AllToAllRefIdeal.nD Cert.AllToAllRefIdeal.τ).loc Cert.AllToAllRefIdeal.main_arg1)
          ∧ r.2.mem (((0 : Dev Cert.AllToAllRefIdeal.nD).tc : Thread Cert.AllToAllRefIdeal.nD Cert.AllToAllRefIdeal.τ).loc Cert.AllToAllRefIdeal.main_arg2) = m' (((0 : Dev Cert.AllToAllRefIdeal.nD).tc : Thread Cert.AllToAllRefIdeal.nD Cert.AllToAllRefIdeal.τ).loc Cert.AllToAllRefIdeal.main_arg2)
          ∧ r.2.mem (((0 : Dev Cert.AllToAllRefIdeal.nD).tc : Thread Cert.AllToAllRefIdeal.nD Cert.AllToAllRefIdeal.τ).loc Cert.AllToAllRefIdeal.main_arg3) = m' (((0 : Dev Cert.AllToAllRefIdeal.nD).tc : Thread Cert.AllToAllRefIdeal.nD Cert.AllToAllRefIdeal.τ).loc Cert.AllToAllRefIdeal.main_arg3)
          ∧ r.2.mem (((0 : Dev Cert.AllToAllRefIdeal.nD).tc : Thread Cert.AllToAllRefIdeal.nD Cert.AllToAllRefIdeal.τ).loc Cert.AllToAllRefIdeal.main_arg4) = m' (((0 : Dev Cert.AllToAllRefIdeal.nD).tc : Thread Cert.AllToAllRefIdeal.nD Cert.AllToAllRefIdeal.τ).loc Cert.AllToAllRefIdeal.main_arg4)
          ∧ r.2.mem (((0 : Dev Cert.AllToAllRefIdeal.nD).tc : Thread Cert.AllToAllRefIdeal.nD Cert.AllToAllRefIdeal.τ).loc Cert.AllToAllRefIdeal.main_arg5) = m' (((0 : Dev Cert.AllToAllRefIdeal.nD).tc : Thread Cert.AllToAllRefIdeal.nD Cert.AllToAllRefIdeal.τ).loc Cert.AllToAllRefIdeal.main_arg5)
          ∧ r.2.mem (((0 : Dev Cert.AllToAllRefIdeal.nD).tc : Thread Cert.AllToAllRefIdeal.nD Cert.AllToAllRefIdeal.τ).loc Cert.AllToAllRefIdeal.main_arg6) = m' (((0 : Dev Cert.AllToAllRefIdeal.nD).tc : Thread Cert.AllToAllRefIdeal.nD Cert.AllToAllRefIdeal.τ).loc Cert.AllToAllRefIdeal.main_arg6)
          ∧ r.2.mem (((0 : Dev Cert.AllToAllRefIdeal.nD).tc : Thread Cert.AllToAllRefIdeal.nD Cert.AllToAllRefIdeal.τ).loc Cert.AllToAllRefIdeal.main_arg7) = m' (((0 : Dev Cert.AllToAllRefIdeal.nD).tc : Thread Cert.AllToAllRefIdeal.nD Cert.AllToAllRefIdeal.τ).loc Cert.AllToAllRefIdeal.main_arg7))

def bitexact_AllToAll_AllToAllRef [hAllToAll : Cert.AllToAll.Facts] [hAllToAllRef : Cert.AllToAllRef.Facts] : Prop :=
  ∀ (m : (ℓ : Loc Cert.AllToAll.nD Cert.AllToAll.τ Cert.AllToAll.sig) → Buf (Elt Bits) ℓ) (g : Dev Cert.AllToAll.nD → PrngReg)
    (m' : (ℓ : Loc Cert.AllToAllRef.nD Cert.AllToAllRef.τ Cert.AllToAllRef.sig) → Buf (Elt Bits) ℓ) (g' : Dev Cert.AllToAllRef.nD → PrngReg), Pre_AllToAll m →
    (∀ c : Dev Cert.AllToAll.nD,
      m ((c.tc : Thread Cert.AllToAll.nD Cert.AllToAll.τ).loc Cert.AllToAll.main_arg0) = Layout.block ⟨3, ![8, 768, 2048]⟩ ⟨3, ![64, 768, 2048]⟩ 0 8 c (m' (((0 : Dev Cert.AllToAllRef.nD).tc : Thread Cert.AllToAllRef.nD Cert.AllToAllRef.τ).loc Cert.AllToAllRef.main_arg0))
      ∧ m ((c.tc : Thread Cert.AllToAll.nD Cert.AllToAll.τ).loc Cert.AllToAll.main_arg1) = Layout.block ⟨3, ![8, 1024, 2048]⟩ ⟨3, ![64, 1024, 2048]⟩ 0 8 c (m' (((0 : Dev Cert.AllToAllRef.nD).tc : Thread Cert.AllToAllRef.nD Cert.AllToAllRef.τ).loc Cert.AllToAllRef.main_arg1))
      ∧ m ((c.tc : Thread Cert.AllToAll.nD Cert.AllToAll.τ).loc Cert.AllToAll.main_arg2) = Layout.block ⟨3, ![8, 320, 2048]⟩ ⟨3, ![64, 320, 2048]⟩ 0 8 c (m' (((0 : Dev Cert.AllToAllRef.nD).tc : Thread Cert.AllToAllRef.nD Cert.AllToAllRef.τ).loc Cert.AllToAllRef.main_arg2))
      ∧ m ((c.tc : Thread Cert.AllToAll.nD Cert.AllToAll.τ).loc Cert.AllToAll.main_arg3) = Layout.block ⟨3, ![8, 1024, 2048]⟩ ⟨3, ![64, 1024, 2048]⟩ 0 8 c (m' (((0 : Dev Cert.AllToAllRef.nD).tc : Thread Cert.AllToAllRef.nD Cert.AllToAllRef.τ).loc Cert.AllToAllRef.main_arg3))
      ∧ m ((c.tc : Thread Cert.AllToAll.nD Cert.AllToAll.τ).loc Cert.AllToAll.main_arg4) = Layout.block ⟨3, ![8, 256, 2048]⟩ ⟨3, ![64, 256, 2048]⟩ 0 8 c (m' (((0 : Dev Cert.AllToAllRef.nD).tc : Thread Cert.AllToAllRef.nD Cert.AllToAllRef.τ).loc Cert.AllToAllRef.main_arg4))
      ∧ m ((c.tc : Thread Cert.AllToAll.nD Cert.AllToAll.τ).loc Cert.AllToAll.main_arg5) = Layout.block ⟨3, ![8, 1024, 2048]⟩ ⟨3, ![64, 1024, 2048]⟩ 0 8 c (m' (((0 : Dev Cert.AllToAllRef.nD).tc : Thread Cert.AllToAllRef.nD Cert.AllToAllRef.τ).loc Cert.AllToAllRef.main_arg5))
      ∧ m ((c.tc : Thread Cert.AllToAll.nD Cert.AllToAll.τ).loc Cert.AllToAll.main_arg6) = Layout.block ⟨3, ![8, 256, 2048]⟩ ⟨3, ![64, 256, 2048]⟩ 0 8 c (m' (((0 : Dev Cert.AllToAllRef.nD).tc : Thread Cert.AllToAllRef.nD Cert.AllToAllRef.τ).loc Cert.AllToAllRef.main_arg6))
      ∧ m ((c.tc : Thread Cert.AllToAll.nD Cert.AllToAll.τ).loc Cert.AllToAll.main_arg7) = Layout.block ⟨3, ![8, 1024, 2048]⟩ ⟨3, ![64, 1024, 2048]⟩ 0 8 c (m' (((0 : Dev Cert.AllToAllRef.nD).tc : Thread Cert.AllToAllRef.nD Cert.AllToAllRef.τ).loc Cert.AllToAllRef.main_arg7))) →
    ∃ (v0 : Buf (Elt Bits) (((0 : Dev Cert.AllToAllRef.nD).tc : Thread Cert.AllToAllRef.nD Cert.AllToAllRef.τ).loc Cert.AllToAllRef.main_v2)) (v1 : Buf (Elt Bits) (((0 : Dev Cert.AllToAllRef.nD).tc : Thread Cert.AllToAllRef.nD Cert.AllToAllRef.τ).loc Cert.AllToAllRef.main_v5)) (v2 : Buf (Elt Bits) (((0 : Dev Cert.AllToAllRef.nD).tc : Thread Cert.AllToAllRef.nD Cert.AllToAllRef.τ).loc Cert.AllToAllRef.main_v8)) (v3 : Buf (Elt Bits) (((0 : Dev Cert.AllToAllRef.nD).tc : Thread Cert.AllToAllRef.nD Cert.AllToAllRef.τ).loc Cert.AllToAllRef.main_v11)) (v4 : Buf (Elt Bits) (((0 : Dev Cert.AllToAllRef.nD).tc : Thread Cert.AllToAllRef.nD Cert.AllToAllRef.τ).loc Cert.AllToAllRef.main_v14)) (v5 : Buf (Elt Bits) (((0 : Dev Cert.AllToAllRef.nD).tc : Thread Cert.AllToAllRef.nD Cert.AllToAllRef.τ).loc Cert.AllToAllRef.main_v17)) (v6 : Buf (Elt Bits) (((0 : Dev Cert.AllToAllRef.nD).tc : Thread Cert.AllToAllRef.nD Cert.AllToAllRef.τ).loc Cert.AllToAllRef.main_v20)) (v7 : Buf (Elt Bits) (((0 : Dev Cert.AllToAllRef.nD).tc : Thread Cert.AllToAllRef.nD Cert.AllToAllRef.τ).loc Cert.AllToAllRef.main_v23)),
      θ_run (Cert.AllToAll.defs (F := Bits)) (onTc (τ := Cert.AllToAll.τ) (Cert.AllToAll.main (F := Bits))) ⟨m, fun _ => 0, g⟩ (fun r => ∀ c : Dev Cert.AllToAll.nD,
          r.2.mem ((c.tc : Thread Cert.AllToAll.nD Cert.AllToAll.τ).loc Cert.AllToAll.main_v1_0) = Layout.block ⟨3, ![8, 768, 2048]⟩ ⟨3, ![64, 768, 2048]⟩ 0 8 c v0
          ∧ r.2.mem ((c.tc : Thread Cert.AllToAll.nD Cert.AllToAll.τ).loc Cert.AllToAll.main_v1_1) = Layout.block ⟨3, ![8, 1024, 2048]⟩ ⟨3, ![64, 1024, 2048]⟩ 0 8 c v1
          ∧ r.2.mem ((c.tc : Thread Cert.AllToAll.nD Cert.AllToAll.τ).loc Cert.AllToAll.main_v1_2) = Layout.block ⟨3, ![8, 320, 2048]⟩ ⟨3, ![64, 320, 2048]⟩ 0 8 c v2
          ∧ r.2.mem ((c.tc : Thread Cert.AllToAll.nD Cert.AllToAll.τ).loc Cert.AllToAll.main_v1_3) = Layout.block ⟨3, ![8, 1024, 2048]⟩ ⟨3, ![64, 1024, 2048]⟩ 0 8 c v3
          ∧ r.2.mem ((c.tc : Thread Cert.AllToAll.nD Cert.AllToAll.τ).loc Cert.AllToAll.main_v1_4) = Layout.block ⟨3, ![8, 256, 2048]⟩ ⟨3, ![64, 256, 2048]⟩ 0 8 c v4
          ∧ r.2.mem ((c.tc : Thread Cert.AllToAll.nD Cert.AllToAll.τ).loc Cert.AllToAll.main_v1_5) = Layout.block ⟨3, ![8, 1024, 2048]⟩ ⟨3, ![64, 1024, 2048]⟩ 0 8 c v5
          ∧ r.2.mem ((c.tc : Thread Cert.AllToAll.nD Cert.AllToAll.τ).loc Cert.AllToAll.main_v1_6) = Layout.block ⟨3, ![8, 256, 2048]⟩ ⟨3, ![64, 256, 2048]⟩ 0 8 c v6
          ∧ r.2.mem ((c.tc : Thread Cert.AllToAll.nD Cert.AllToAll.τ).loc Cert.AllToAll.main_v1_7) = Layout.block ⟨3, ![8, 1024, 2048]⟩ ⟨3, ![64, 1024, 2048]⟩ 0 8 c v7
          ∧ r.2.mem ((c.tc : Thread Cert.AllToAll.nD Cert.AllToAll.τ).loc Cert.AllToAll.main_arg0) = m ((c.tc : Thread Cert.AllToAll.nD Cert.AllToAll.τ).loc Cert.AllToAll.main_arg0)
          ∧ r.2.mem ((c.tc : Thread Cert.AllToAll.nD Cert.AllToAll.τ).loc Cert.AllToAll.main_arg1) = m ((c.tc : Thread Cert.AllToAll.nD Cert.AllToAll.τ).loc Cert.AllToAll.main_arg1)
          ∧ r.2.mem ((c.tc : Thread Cert.AllToAll.nD Cert.AllToAll.τ).loc Cert.AllToAll.main_arg2) = m ((c.tc : Thread Cert.AllToAll.nD Cert.AllToAll.τ).loc Cert.AllToAll.main_arg2)
          ∧ r.2.mem ((c.tc : Thread Cert.AllToAll.nD Cert.AllToAll.τ).loc Cert.AllToAll.main_arg3) = m ((c.tc : Thread Cert.AllToAll.nD Cert.AllToAll.τ).loc Cert.AllToAll.main_arg3)
          ∧ r.2.mem ((c.tc : Thread Cert.AllToAll.nD Cert.AllToAll.τ).loc Cert.AllToAll.main_arg4) = m ((c.tc : Thread Cert.AllToAll.nD Cert.AllToAll.τ).loc Cert.AllToAll.main_arg4)
          ∧ r.2.mem ((c.tc : Thread Cert.AllToAll.nD Cert.AllToAll.τ).loc Cert.AllToAll.main_arg5) = m ((c.tc : Thread Cert.AllToAll.nD Cert.AllToAll.τ).loc Cert.AllToAll.main_arg5)
          ∧ r.2.mem ((c.tc : Thread Cert.AllToAll.nD Cert.AllToAll.τ).loc Cert.AllToAll.main_arg6) = m ((c.tc : Thread Cert.AllToAll.nD Cert.AllToAll.τ).loc Cert.AllToAll.main_arg6)
          ∧ r.2.mem ((c.tc : Thread Cert.AllToAll.nD Cert.AllToAll.τ).loc Cert.AllToAll.main_arg7) = m ((c.tc : Thread Cert.AllToAll.nD Cert.AllToAll.τ).loc Cert.AllToAll.main_arg7))
      ∧ θ_run (Cert.AllToAllRef.defs (F := Bits)) (onTc (τ := Cert.AllToAllRef.τ) (Cert.AllToAllRef.main (F := Bits))) ⟨m', fun _ => 0, g'⟩ (fun r =>
          r.2.mem (((0 : Dev Cert.AllToAllRef.nD).tc : Thread Cert.AllToAllRef.nD Cert.AllToAllRef.τ).loc Cert.AllToAllRef.main_v2) = v0
          ∧ r.2.mem (((0 : Dev Cert.AllToAllRef.nD).tc : Thread Cert.AllToAllRef.nD Cert.AllToAllRef.τ).loc Cert.AllToAllRef.main_v5) = v1
          ∧ r.2.mem (((0 : Dev Cert.AllToAllRef.nD).tc : Thread Cert.AllToAllRef.nD Cert.AllToAllRef.τ).loc Cert.AllToAllRef.main_v8) = v2
          ∧ r.2.mem (((0 : Dev Cert.AllToAllRef.nD).tc : Thread Cert.AllToAllRef.nD Cert.AllToAllRef.τ).loc Cert.AllToAllRef.main_v11) = v3
          ∧ r.2.mem (((0 : Dev Cert.AllToAllRef.nD).tc : Thread Cert.AllToAllRef.nD Cert.AllToAllRef.τ).loc Cert.AllToAllRef.main_v14) = v4
          ∧ r.2.mem (((0 : Dev Cert.AllToAllRef.nD).tc : Thread Cert.AllToAllRef.nD Cert.AllToAllRef.τ).loc Cert.AllToAllRef.main_v17) = v5
          ∧ r.2.mem (((0 : Dev Cert.AllToAllRef.nD).tc : Thread Cert.AllToAllRef.nD Cert.AllToAllRef.τ).loc Cert.AllToAllRef.main_v20) = v6
          ∧ r.2.mem (((0 : Dev Cert.AllToAllRef.nD).tc : Thread Cert.AllToAllRef.nD Cert.AllToAllRef.τ).loc Cert.AllToAllRef.main_v23) = v7
          ∧ r.2.mem (((0 : Dev Cert.AllToAllRef.nD).tc : Thread Cert.AllToAllRef.nD Cert.AllToAllRef.τ).loc Cert.AllToAllRef.main_arg0) = m' (((0 : Dev Cert.AllToAllRef.nD).tc : Thread Cert.AllToAllRef.nD Cert.AllToAllRef.τ).loc Cert.AllToAllRef.main_arg0)
          ∧ r.2.mem (((0 : Dev Cert.AllToAllRef.nD).tc : Thread Cert.AllToAllRef.nD Cert.AllToAllRef.τ).loc Cert.AllToAllRef.main_arg1) = m' (((0 : Dev Cert.AllToAllRef.nD).tc : Thread Cert.AllToAllRef.nD Cert.AllToAllRef.τ).loc Cert.AllToAllRef.main_arg1)
          ∧ r.2.mem (((0 : Dev Cert.AllToAllRef.nD).tc : Thread Cert.AllToAllRef.nD Cert.AllToAllRef.τ).loc Cert.AllToAllRef.main_arg2) = m' (((0 : Dev Cert.AllToAllRef.nD).tc : Thread Cert.AllToAllRef.nD Cert.AllToAllRef.τ).loc Cert.AllToAllRef.main_arg2)
          ∧ r.2.mem (((0 : Dev Cert.AllToAllRef.nD).tc : Thread Cert.AllToAllRef.nD Cert.AllToAllRef.τ).loc Cert.AllToAllRef.main_arg3) = m' (((0 : Dev Cert.AllToAllRef.nD).tc : Thread Cert.AllToAllRef.nD Cert.AllToAllRef.τ).loc Cert.AllToAllRef.main_arg3)
          ∧ r.2.mem (((0 : Dev Cert.AllToAllRef.nD).tc : Thread Cert.AllToAllRef.nD Cert.AllToAllRef.τ).loc Cert.AllToAllRef.main_arg4) = m' (((0 : Dev Cert.AllToAllRef.nD).tc : Thread Cert.AllToAllRef.nD Cert.AllToAllRef.τ).loc Cert.AllToAllRef.main_arg4)
          ∧ r.2.mem (((0 : Dev Cert.AllToAllRef.nD).tc : Thread Cert.AllToAllRef.nD Cert.AllToAllRef.τ).loc Cert.AllToAllRef.main_arg5) = m' (((0 : Dev Cert.AllToAllRef.nD).tc : Thread Cert.AllToAllRef.nD Cert.AllToAllRef.τ).loc Cert.AllToAllRef.main_arg5)
          ∧ r.2.mem (((0 : Dev Cert.AllToAllRef.nD).tc : Thread Cert.AllToAllRef.nD Cert.AllToAllRef.τ).loc Cert.AllToAllRef.main_arg6) = m' (((0 : Dev Cert.AllToAllRef.nD).tc : Thread Cert.AllToAllRef.nD Cert.AllToAllRef.τ).loc Cert.AllToAllRef.main_arg6)
          ∧ r.2.mem (((0 : Dev Cert.AllToAllRef.nD).tc : Thread Cert.AllToAllRef.nD Cert.AllToAllRef.τ).loc Cert.AllToAllRef.main_arg7) = m' (((0 : Dev Cert.AllToAllRef.nD).tc : Thread Cert.AllToAllRef.nD Cert.AllToAllRef.τ).loc Cert.AllToAllRef.main_arg7))

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![768, 2048]⟩ ⟨2, ![6144, 2048]⟩ 0 8 c (m' (((0 : Dev Cert.GatherRefIdeal.nD).tc : Thread Cert.GatherRefIdeal.nD Cert.GatherRefIdeal.τ).loc Cert.GatherRefIdeal.main_arg0))
      ∧ m ((c.tc : Thread Cert.GatherIdeal.nD Cert.GatherIdeal.τ).loc Cert.GatherIdeal.main_arg1) = Layout.block ⟨2, ![1024, 2048]⟩ ⟨2, ![8192, 2048]⟩ 0 8 c (m' (((0 : Dev Cert.GatherRefIdeal.nD).tc : Thread Cert.GatherRefIdeal.nD Cert.GatherRefIdeal.τ).loc Cert.GatherRefIdeal.main_arg1))
      ∧ m ((c.tc : Thread Cert.GatherIdeal.nD Cert.GatherIdeal.τ).loc Cert.GatherIdeal.main_arg2) = Layout.block ⟨2, ![320, 2048]⟩ ⟨2, ![2560, 2048]⟩ 0 8 c (m' (((0 : Dev Cert.GatherRefIdeal.nD).tc : Thread Cert.GatherRefIdeal.nD Cert.GatherRefIdeal.τ).loc Cert.GatherRefIdeal.main_arg2))
      ∧ m ((c.tc : Thread Cert.GatherIdeal.nD Cert.GatherIdeal.τ).loc Cert.GatherIdeal.main_arg3) = Layout.block ⟨2, ![1024, 2048]⟩ ⟨2, ![8192, 2048]⟩ 0 8 c (m' (((0 : Dev Cert.GatherRefIdeal.nD).tc : Thread Cert.GatherRefIdeal.nD Cert.GatherRefIdeal.τ).loc Cert.GatherRefIdeal.main_arg3))
      ∧ m ((c.tc : Thread Cert.GatherIdeal.nD Cert.GatherIdeal.τ).loc Cert.GatherIdeal.main_arg4) = Layout.block ⟨2, ![256, 2048]⟩ ⟨2, ![2048, 2048]⟩ 0 8 c (m' (((0 : Dev Cert.GatherRefIdeal.nD).tc : Thread Cert.GatherRefIdeal.nD Cert.GatherRefIdeal.τ).loc Cert.GatherRefIdeal.main_arg4))
      ∧ m ((c.tc : Thread Cert.GatherIdeal.nD Cert.GatherIdeal.τ).loc Cert.GatherIdeal.main_arg5) = Layout.block ⟨2, ![1024, 2048]⟩ ⟨2, ![8192, 2048]⟩ 0 8 c (m' (((0 : Dev Cert.GatherRefIdeal.nD).tc : Thread Cert.GatherRefIdeal.nD Cert.GatherRefIdeal.τ).loc Cert.GatherRefIdeal.main_arg5))
      ∧ m ((c.tc : Thread Cert.GatherIdeal.nD Cert.GatherIdeal.τ).loc Cert.GatherIdeal.main_arg6) = Layout.block ⟨2, ![256, 2048]⟩ ⟨2, ![2048, 2048]⟩ 0 8 c (m' (((0 : Dev Cert.GatherRefIdeal.nD).tc : Thread Cert.GatherRefIdeal.nD Cert.GatherRefIdeal.τ).loc Cert.GatherRefIdeal.main_arg6))
      ∧ m ((c.tc : Thread Cert.GatherIdeal.nD Cert.GatherIdeal.τ).loc Cert.GatherIdeal.main_arg7) = Layout.block ⟨2, ![1024, 2048]⟩ ⟨2, ![8192, 2048]⟩ 0 8 c (m' (((0 : Dev Cert.GatherRefIdeal.nD).tc : Thread Cert.GatherRefIdeal.nD Cert.GatherRefIdeal.τ).loc Cert.GatherRefIdeal.main_arg7))
      ∧ m ((c.tc : Thread Cert.GatherIdeal.nD Cert.GatherIdeal.τ).loc Cert.GatherIdeal.main_arg8) = Layout.block ⟨2, ![16, 256]⟩ ⟨2, ![16, 2048]⟩ 1 8 c (m' (((0 : Dev Cert.GatherRefIdeal.nD).tc : Thread Cert.GatherRefIdeal.nD Cert.GatherRefIdeal.τ).loc Cert.GatherRefIdeal.main_arg8))
      ∧ m ((c.tc : Thread Cert.GatherIdeal.nD Cert.GatherIdeal.τ).loc Cert.GatherIdeal.main_arg9) = Layout.block ⟨2, ![3, 256]⟩ ⟨2, ![3, 2048]⟩ 1 8 c (m' (((0 : Dev Cert.GatherRefIdeal.nD).tc : Thread Cert.GatherRefIdeal.nD Cert.GatherRefIdeal.τ).loc Cert.GatherRefIdeal.main_arg9))) →
    ∃ (v0 : Buf (Elt Ideal) (((0 : Dev Cert.GatherRefIdeal.nD).tc : Thread Cert.GatherRefIdeal.nD Cert.GatherRefIdeal.τ).loc Cert.GatherRefIdeal.main_v0)) (v1 : Buf (Elt Ideal) (((0 : Dev Cert.GatherRefIdeal.nD).tc : Thread Cert.GatherRefIdeal.nD Cert.GatherRefIdeal.τ).loc Cert.GatherRefIdeal.main_v1)) (v2 : Buf (Elt Ideal) (((0 : Dev Cert.GatherRefIdeal.nD).tc : Thread Cert.GatherRefIdeal.nD Cert.GatherRefIdeal.τ).loc Cert.GatherRefIdeal.main_v2)) (v3 : Buf (Elt Ideal) (((0 : Dev Cert.GatherRefIdeal.nD).tc : Thread Cert.GatherRefIdeal.nD Cert.GatherRefIdeal.τ).loc Cert.GatherRefIdeal.main_v3)) (v4 : Buf (Elt Ideal) (((0 : Dev Cert.GatherRefIdeal.nD).tc : Thread Cert.GatherRefIdeal.nD Cert.GatherRefIdeal.τ).loc Cert.GatherRefIdeal.main_v4)) (v5 : Buf (Elt Ideal) (((0 : Dev Cert.GatherRefIdeal.nD).tc : Thread Cert.GatherRefIdeal.nD Cert.GatherRefIdeal.τ).loc Cert.GatherRefIdeal.main_v5)) (v6 : Buf (Elt Ideal) (((0 : Dev Cert.GatherRefIdeal.nD).tc : Thread Cert.GatherRefIdeal.nD Cert.GatherRefIdeal.τ).loc Cert.GatherRefIdeal.main_v6)) (v7 : Buf (Elt Ideal) (((0 : Dev Cert.GatherRefIdeal.nD).tc : Thread Cert.GatherRefIdeal.nD Cert.GatherRefIdeal.τ).loc Cert.GatherRefIdeal.main_v7)) (v8 : Buf (Elt Ideal) (((0 : Dev Cert.GatherRefIdeal.nD).tc : Thread Cert.GatherRefIdeal.nD Cert.GatherRefIdeal.τ).loc Cert.GatherRefIdeal.main_v9)) (v9 : Buf (Elt Ideal) (((0 : Dev Cert.GatherRefIdeal.nD).tc : Thread Cert.GatherRefIdeal.nD Cert.GatherRefIdeal.τ).loc Cert.GatherRefIdeal.main_v11)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_v1_2) = v2
          ∧ r.2.mem ((c.tc : Thread Cert.GatherIdeal.nD Cert.GatherIdeal.τ).loc Cert.GatherIdeal.main_v1_3) = v3
          ∧ r.2.mem ((c.tc : Thread Cert.GatherIdeal.nD Cert.GatherIdeal.τ).loc Cert.GatherIdeal.main_v1_4) = v4
          ∧ r.2.mem ((c.tc : Thread Cert.GatherIdeal.nD Cert.GatherIdeal.τ).loc Cert.GatherIdeal.main_v1_5) = v5
          ∧ r.2.mem ((c.tc : Thread Cert.GatherIdeal.nD Cert.GatherIdeal.τ).loc Cert.GatherIdeal.main_v1_6) = v6
          ∧ r.2.mem ((c.tc : Thread Cert.GatherIdeal.nD Cert.GatherIdeal.τ).loc Cert.GatherIdeal.main_v1_7) = v7
          ∧ r.2.mem ((c.tc : Thread Cert.GatherIdeal.nD Cert.GatherIdeal.τ).loc Cert.GatherIdeal.main_v1_8) = v8
          ∧ r.2.mem ((c.tc : Thread Cert.GatherIdeal.nD Cert.GatherIdeal.τ).loc Cert.GatherIdeal.main_v1_9) = v9
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
          ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
          ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
          ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6)
          ∧ r.2.mem ((c.tc : Thread Cert.GatherIdeal.nD Cert.GatherIdeal.τ).loc Cert.GatherIdeal.main_arg7) = m ((c.tc : Thread Cert.GatherIdeal.nD Cert.GatherIdeal.τ).loc Cert.GatherIdeal.main_arg7)
          ∧ r.2.mem ((c.tc : Thread Cert.GatherIdeal.nD Cert.GatherIdeal.τ).loc Cert.GatherIdeal.main_arg8) = m ((c.tc : Thread Cert.GatherIdeal.nD Cert.GatherIdeal.τ).loc Cert.GatherIdeal.main_arg8)
          ∧ r.2.mem ((c.tc : Thread Cert.GatherIdeal.nD Cert.GatherIdeal.τ).loc Cert.GatherIdeal.main_arg9) = m ((c.tc : Thread Cert.GatherIdeal.nD Cert.GatherIdeal.τ).loc Cert.GatherIdeal.main_arg9))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v0) = v0
          ∧ r.2.mem (((0 : Dev Cert.GatherRefIdeal.nD).tc : Thread Cert.GatherRefIdeal.nD Cert.GatherRefIdeal.τ).loc Cert.GatherRefIdeal.main_v1) = v1
          ∧ r.2.mem (((0 : Dev Cert.GatherRefIdeal.nD).tc : Thread Cert.GatherRefIdeal.nD Cert.GatherRefIdeal.τ).loc Cert.GatherRefIdeal.main_v2) = v2
          ∧ r.2.mem (((0 : Dev Cert.GatherRefIdeal.nD).tc : Thread Cert.GatherRefIdeal.nD Cert.GatherRefIdeal.τ).loc Cert.GatherRefIdeal.main_v3) = v3
          ∧ r.2.mem (((0 : Dev Cert.GatherRefIdeal.nD).tc : Thread Cert.GatherRefIdeal.nD Cert.GatherRefIdeal.τ).loc Cert.GatherRefIdeal.main_v4) = v4
          ∧ r.2.mem (((0 : Dev Cert.GatherRefIdeal.nD).tc : Thread Cert.GatherRefIdeal.nD Cert.GatherRefIdeal.τ).loc Cert.GatherRefIdeal.main_v5) = v5
          ∧ r.2.mem (((0 : Dev Cert.GatherRefIdeal.nD).tc : Thread Cert.GatherRefIdeal.nD Cert.GatherRefIdeal.τ).loc Cert.GatherRefIdeal.main_v6) = v6
          ∧ r.2.mem (((0 : Dev Cert.GatherRefIdeal.nD).tc : Thread Cert.GatherRefIdeal.nD Cert.GatherRefIdeal.τ).loc Cert.GatherRefIdeal.main_v7) = v7
          ∧ r.2.mem (((0 : Dev Cert.GatherRefIdeal.nD).tc : Thread Cert.GatherRefIdeal.nD Cert.GatherRefIdeal.τ).loc Cert.GatherRefIdeal.main_v9) = v8
          ∧ r.2.mem (((0 : Dev Cert.GatherRefIdeal.nD).tc : Thread Cert.GatherRefIdeal.nD Cert.GatherRefIdeal.τ).loc Cert.GatherRefIdeal.main_v11) = v9
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0)
          ∧ r.2.mem (((0 : Dev Cert.GatherRefIdeal.nD).tc : Thread Cert.GatherRefIdeal.nD Cert.GatherRefIdeal.τ).loc Cert.GatherRefIdeal.main_arg1) = m' (((0 : Dev Cert.GatherRefIdeal.nD).tc : Thread Cert.GatherRefIdeal.nD Cert.GatherRefIdeal.τ).loc Cert.GatherRefIdeal.main_arg1)
          ∧ r.2.mem (((0 : Dev Cert.GatherRefIdeal.nD).tc : Thread Cert.GatherRefIdeal.nD Cert.GatherRefIdeal.τ).loc Cert.GatherRefIdeal.main_arg2) = m' (((0 : Dev Cert.GatherRefIdeal.nD).tc : Thread Cert.GatherRefIdeal.nD Cert.GatherRefIdeal.τ).loc Cert.GatherRefIdeal.main_arg2)
          ∧ r.2.mem (((0 : Dev Cert.GatherRefIdeal.nD).tc : Thread Cert.GatherRefIdeal.nD Cert.GatherRefIdeal.τ).loc Cert.GatherRefIdeal.main_arg3) = m' (((0 : Dev Cert.GatherRefIdeal.nD).tc : Thread Cert.GatherRefIdeal.nD Cert.GatherRefIdeal.τ).loc Cert.GatherRefIdeal.main_arg3)
          ∧ r.2.mem (((0 : Dev Cert.GatherRefIdeal.nD).tc : Thread Cert.GatherRefIdeal.nD Cert.GatherRefIdeal.τ).loc Cert.GatherRefIdeal.main_arg4) = m' (((0 : Dev Cert.GatherRefIdeal.nD).tc : Thread Cert.GatherRefIdeal.nD Cert.GatherRefIdeal.τ).loc Cert.GatherRefIdeal.main_arg4)
          ∧ r.2.mem (((0 : Dev Cert.GatherRefIdeal.nD).tc : Thread Cert.GatherRefIdeal.nD Cert.GatherRefIdeal.τ).loc Cert.GatherRefIdeal.main_arg5) = m' (((0 : Dev Cert.GatherRefIdeal.nD).tc : Thread Cert.GatherRefIdeal.nD Cert.GatherRefIdeal.τ).loc Cert.GatherRefIdeal.main_arg5)
          ∧ r.2.mem (((0 : Dev Cert.GatherRefIdeal.nD).tc : Thread Cert.GatherRefIdeal.nD Cert.GatherRefIdeal.τ).loc Cert.GatherRefIdeal.main_arg6) = m' (((0 : Dev Cert.GatherRefIdeal.nD).tc : Thread Cert.GatherRefIdeal.nD Cert.GatherRefIdeal.τ).loc Cert.GatherRefIdeal.main_arg6)
          ∧ r.2.mem (((0 : Dev Cert.GatherRefIdeal.nD).tc : Thread Cert.GatherRefIdeal.nD Cert.GatherRefIdeal.τ).loc Cert.GatherRefIdeal.main_arg7) = m' (((0 : Dev Cert.GatherRefIdeal.nD).tc : Thread Cert.GatherRefIdeal.nD Cert.GatherRefIdeal.τ).loc Cert.GatherRefIdeal.main_arg7)
          ∧ r.2.mem (((0 : Dev Cert.GatherRefIdeal.nD).tc : Thread Cert.GatherRefIdeal.nD Cert.GatherRefIdeal.τ).loc Cert.GatherRefIdeal.main_arg8) = m' (((0 : Dev Cert.GatherRefIdeal.nD).tc : Thread Cert.GatherRefIdeal.nD Cert.GatherRefIdeal.τ).loc Cert.GatherRefIdeal.main_arg8)
          ∧ r.2.mem (((0 : Dev Cert.GatherRefIdeal.nD).tc : Thread Cert.GatherRefIdeal.nD Cert.GatherRefIdeal.τ).loc Cert.GatherRefIdeal.main_arg9) = m' (((0 : Dev Cert.GatherRefIdeal.nD).tc : Thread Cert.GatherRefIdeal.nD Cert.GatherRefIdeal.τ).loc Cert.GatherRefIdeal.main_arg9))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.block ⟨2, ![768, 2048]⟩ ⟨2, ![6144, 2048]⟩ 0 8 c (m' (((0 : Dev Cert.GatherRef.nD).tc : Thread Cert.GatherRef.nD Cert.GatherRef.τ).loc Cert.GatherRef.main_arg0))
      ∧ m ((c.tc : Thread Cert.Gather.nD Cert.Gather.τ).loc Cert.Gather.main_arg1) = Layout.block ⟨2, ![1024, 2048]⟩ ⟨2, ![8192, 2048]⟩ 0 8 c (m' (((0 : Dev Cert.GatherRef.nD).tc : Thread Cert.GatherRef.nD Cert.GatherRef.τ).loc Cert.GatherRef.main_arg1))
      ∧ m ((c.tc : Thread Cert.Gather.nD Cert.Gather.τ).loc Cert.Gather.main_arg2) = Layout.block ⟨2, ![320, 2048]⟩ ⟨2, ![2560, 2048]⟩ 0 8 c (m' (((0 : Dev Cert.GatherRef.nD).tc : Thread Cert.GatherRef.nD Cert.GatherRef.τ).loc Cert.GatherRef.main_arg2))
      ∧ m ((c.tc : Thread Cert.Gather.nD Cert.Gather.τ).loc Cert.Gather.main_arg3) = Layout.block ⟨2, ![1024, 2048]⟩ ⟨2, ![8192, 2048]⟩ 0 8 c (m' (((0 : Dev Cert.GatherRef.nD).tc : Thread Cert.GatherRef.nD Cert.GatherRef.τ).loc Cert.GatherRef.main_arg3))
      ∧ m ((c.tc : Thread Cert.Gather.nD Cert.Gather.τ).loc Cert.Gather.main_arg4) = Layout.block ⟨2, ![256, 2048]⟩ ⟨2, ![2048, 2048]⟩ 0 8 c (m' (((0 : Dev Cert.GatherRef.nD).tc : Thread Cert.GatherRef.nD Cert.GatherRef.τ).loc Cert.GatherRef.main_arg4))
      ∧ m ((c.tc : Thread Cert.Gather.nD Cert.Gather.τ).loc Cert.Gather.main_arg5) = Layout.block ⟨2, ![1024, 2048]⟩ ⟨2, ![8192, 2048]⟩ 0 8 c (m' (((0 : Dev Cert.GatherRef.nD).tc : Thread Cert.GatherRef.nD Cert.GatherRef.τ).loc Cert.GatherRef.main_arg5))
      ∧ m ((c.tc : Thread Cert.Gather.nD Cert.Gather.τ).loc Cert.Gather.main_arg6) = Layout.block ⟨2, ![256, 2048]⟩ ⟨2, ![2048, 2048]⟩ 0 8 c (m' (((0 : Dev Cert.GatherRef.nD).tc : Thread Cert.GatherRef.nD Cert.GatherRef.τ).loc Cert.GatherRef.main_arg6))
      ∧ m ((c.tc : Thread Cert.Gather.nD Cert.Gather.τ).loc Cert.Gather.main_arg7) = Layout.block ⟨2, ![1024, 2048]⟩ ⟨2, ![8192, 2048]⟩ 0 8 c (m' (((0 : Dev Cert.GatherRef.nD).tc : Thread Cert.GatherRef.nD Cert.GatherRef.τ).loc Cert.GatherRef.main_arg7))
      ∧ m ((c.tc : Thread Cert.Gather.nD Cert.Gather.τ).loc Cert.Gather.main_arg8) = Layout.block ⟨2, ![16, 256]⟩ ⟨2, ![16, 2048]⟩ 1 8 c (m' (((0 : Dev Cert.GatherRef.nD).tc : Thread Cert.GatherRef.nD Cert.GatherRef.τ).loc Cert.GatherRef.main_arg8))
      ∧ m ((c.tc : Thread Cert.Gather.nD Cert.Gather.τ).loc Cert.Gather.main_arg9) = Layout.block ⟨2, ![3, 256]⟩ ⟨2, ![3, 2048]⟩ 1 8 c (m' (((0 : Dev Cert.GatherRef.nD).tc : Thread Cert.GatherRef.nD Cert.GatherRef.τ).loc Cert.GatherRef.main_arg9))) →
    ∃ (v0 : Buf (Elt Bits) (((0 : Dev Cert.GatherRef.nD).tc : Thread Cert.GatherRef.nD Cert.GatherRef.τ).loc Cert.GatherRef.main_v0)) (v1 : Buf (Elt Bits) (((0 : Dev Cert.GatherRef.nD).tc : Thread Cert.GatherRef.nD Cert.GatherRef.τ).loc Cert.GatherRef.main_v1)) (v2 : Buf (Elt Bits) (((0 : Dev Cert.GatherRef.nD).tc : Thread Cert.GatherRef.nD Cert.GatherRef.τ).loc Cert.GatherRef.main_v2)) (v3 : Buf (Elt Bits) (((0 : Dev Cert.GatherRef.nD).tc : Thread Cert.GatherRef.nD Cert.GatherRef.τ).loc Cert.GatherRef.main_v3)) (v4 : Buf (Elt Bits) (((0 : Dev Cert.GatherRef.nD).tc : Thread Cert.GatherRef.nD Cert.GatherRef.τ).loc Cert.GatherRef.main_v4)) (v5 : Buf (Elt Bits) (((0 : Dev Cert.GatherRef.nD).tc : Thread Cert.GatherRef.nD Cert.GatherRef.τ).loc Cert.GatherRef.main_v5)) (v6 : Buf (Elt Bits) (((0 : Dev Cert.GatherRef.nD).tc : Thread Cert.GatherRef.nD Cert.GatherRef.τ).loc Cert.GatherRef.main_v6)) (v7 : Buf (Elt Bits) (((0 : Dev Cert.GatherRef.nD).tc : Thread Cert.GatherRef.nD Cert.GatherRef.τ).loc Cert.GatherRef.main_v7)) (v8 : Buf (Elt Bits) (((0 : Dev Cert.GatherRef.nD).tc : Thread Cert.GatherRef.nD Cert.GatherRef.τ).loc Cert.GatherRef.main_v9)) (v9 : Buf (Elt Bits) (((0 : Dev Cert.GatherRef.nD).tc : Thread Cert.GatherRef.nD Cert.GatherRef.τ).loc Cert.GatherRef.main_v11)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1_0) = v0
          ∧ r.2.mem ((c.tc : Thread Cert.Gather.nD Cert.Gather.τ).loc Cert.Gather.main_v1_1) = v1
          ∧ r.2.mem ((c.tc : Thread Cert.Gather.nD Cert.Gather.τ).loc Cert.Gather.main_v1_2) = v2
          ∧ r.2.mem ((c.tc : Thread Cert.Gather.nD Cert.Gather.τ).loc Cert.Gather.main_v1_3) = v3
          ∧ r.2.mem ((c.tc : Thread Cert.Gather.nD Cert.Gather.τ).loc Cert.Gather.main_v1_4) = v4
          ∧ r.2.mem ((c.tc : Thread Cert.Gather.nD Cert.Gather.τ).loc Cert.Gather.main_v1_5) = v5
          ∧ r.2.mem ((c.tc : Thread Cert.Gather.nD Cert.Gather.τ).loc Cert.Gather.main_v1_6) = v6
          ∧ r.2.mem ((c.tc : Thread Cert.Gather.nD Cert.Gather.τ).loc Cert.Gather.main_v1_7) = v7
          ∧ r.2.mem ((c.tc : Thread Cert.Gather.nD Cert.Gather.τ).loc Cert.Gather.main_v1_8) = v8
          ∧ r.2.mem ((c.tc : Thread Cert.Gather.nD Cert.Gather.τ).loc Cert.Gather.main_v1_9) = v9
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2)
          ∧ r.2.mem ((c.tc : Thread Cert.Gather.nD Cert.Gather.τ).loc Cert.Gather.main_arg3) = m ((c.tc : Thread Cert.Gather.nD Cert.Gather.τ).loc Cert.Gather.main_arg3)
          ∧ r.2.mem ((c.tc : Thread Cert.Gather.nD Cert.Gather.τ).loc Cert.Gather.main_arg4) = m ((c.tc : Thread Cert.Gather.nD Cert.Gather.τ).loc Cert.Gather.main_arg4)
          ∧ r.2.mem ((c.tc : Thread Cert.Gather.nD Cert.Gather.τ).loc Cert.Gather.main_arg5) = m ((c.tc : Thread Cert.Gather.nD Cert.Gather.τ).loc Cert.Gather.main_arg5)
          ∧ r.2.mem ((c.tc : Thread Cert.Gather.nD Cert.Gather.τ).loc Cert.Gather.main_arg6) = m ((c.tc : Thread Cert.Gather.nD Cert.Gather.τ).loc Cert.Gather.main_arg6)
          ∧ r.2.mem ((c.tc : Thread Cert.Gather.nD Cert.Gather.τ).loc Cert.Gather.main_arg7) = m ((c.tc : Thread Cert.Gather.nD Cert.Gather.τ).loc Cert.Gather.main_arg7)
          ∧ r.2.mem ((c.tc : Thread Cert.Gather.nD Cert.Gather.τ).loc Cert.Gather.main_arg8) = m ((c.tc : Thread Cert.Gather.nD Cert.Gather.τ).loc Cert.Gather.main_arg8)
          ∧ r.2.mem ((c.tc : Thread Cert.Gather.nD Cert.Gather.τ).loc Cert.Gather.main_arg9) = m ((c.tc : Thread Cert.Gather.nD Cert.Gather.τ).loc Cert.Gather.main_arg9))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v0) = v0
          ∧ r.2.mem (((0 : Dev Cert.GatherRef.nD).tc : Thread Cert.GatherRef.nD Cert.GatherRef.τ).loc Cert.GatherRef.main_v1) = v1
          ∧ r.2.mem (((0 : Dev Cert.GatherRef.nD).tc : Thread Cert.GatherRef.nD Cert.GatherRef.τ).loc Cert.GatherRef.main_v2) = v2
          ∧ r.2.mem (((0 : Dev Cert.GatherRef.nD).tc : Thread Cert.GatherRef.nD Cert.GatherRef.τ).loc Cert.GatherRef.main_v3) = v3
          ∧ r.2.mem (((0 : Dev Cert.GatherRef.nD).tc : Thread Cert.GatherRef.nD Cert.GatherRef.τ).loc Cert.GatherRef.main_v4) = v4
          ∧ r.2.mem (((0 : Dev Cert.GatherRef.nD).tc : Thread Cert.GatherRef.nD Cert.GatherRef.τ).loc Cert.GatherRef.main_v5) = v5
          ∧ r.2.mem (((0 : Dev Cert.GatherRef.nD).tc : Thread Cert.GatherRef.nD Cert.GatherRef.τ).loc Cert.GatherRef.main_v6) = v6
          ∧ r.2.mem (((0 : Dev Cert.GatherRef.nD).tc : Thread Cert.GatherRef.nD Cert.GatherRef.τ).loc Cert.GatherRef.main_v7) = v7
          ∧ r.2.mem (((0 : Dev Cert.GatherRef.nD).tc : Thread Cert.GatherRef.nD Cert.GatherRef.τ).loc Cert.GatherRef.main_v9) = v8
          ∧ r.2.mem (((0 : Dev Cert.GatherRef.nD).tc : Thread Cert.GatherRef.nD Cert.GatherRef.τ).loc Cert.GatherRef.main_v11) = v9
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0)
          ∧ r.2.mem (((0 : Dev Cert.GatherRef.nD).tc : Thread Cert.GatherRef.nD Cert.GatherRef.τ).loc Cert.GatherRef.main_arg1) = m' (((0 : Dev Cert.GatherRef.nD).tc : Thread Cert.GatherRef.nD Cert.GatherRef.τ).loc Cert.GatherRef.main_arg1)
          ∧ r.2.mem (((0 : Dev Cert.GatherRef.nD).tc : Thread Cert.GatherRef.nD Cert.GatherRef.τ).loc Cert.GatherRef.main_arg2) = m' (((0 : Dev Cert.GatherRef.nD).tc : Thread Cert.GatherRef.nD Cert.GatherRef.τ).loc Cert.GatherRef.main_arg2)
          ∧ r.2.mem (((0 : Dev Cert.GatherRef.nD).tc : Thread Cert.GatherRef.nD Cert.GatherRef.τ).loc Cert.GatherRef.main_arg3) = m' (((0 : Dev Cert.GatherRef.nD).tc : Thread Cert.GatherRef.nD Cert.GatherRef.τ).loc Cert.GatherRef.main_arg3)
          ∧ r.2.mem (((0 : Dev Cert.GatherRef.nD).tc : Thread Cert.GatherRef.nD Cert.GatherRef.τ).loc Cert.GatherRef.main_arg4) = m' (((0 : Dev Cert.GatherRef.nD).tc : Thread Cert.GatherRef.nD Cert.GatherRef.τ).loc Cert.GatherRef.main_arg4)
          ∧ r.2.mem (((0 : Dev Cert.GatherRef.nD).tc : Thread Cert.GatherRef.nD Cert.GatherRef.τ).loc Cert.GatherRef.main_arg5) = m' (((0 : Dev Cert.GatherRef.nD).tc : Thread Cert.GatherRef.nD Cert.GatherRef.τ).loc Cert.GatherRef.main_arg5)
          ∧ r.2.mem (((0 : Dev Cert.GatherRef.nD).tc : Thread Cert.GatherRef.nD Cert.GatherRef.τ).loc Cert.GatherRef.main_arg6) = m' (((0 : Dev Cert.GatherRef.nD).tc : Thread Cert.GatherRef.nD Cert.GatherRef.τ).loc Cert.GatherRef.main_arg6)
          ∧ r.2.mem (((0 : Dev Cert.GatherRef.nD).tc : Thread Cert.GatherRef.nD Cert.GatherRef.τ).loc Cert.GatherRef.main_arg7) = m' (((0 : Dev Cert.GatherRef.nD).tc : Thread Cert.GatherRef.nD Cert.GatherRef.τ).loc Cert.GatherRef.main_arg7)
          ∧ r.2.mem (((0 : Dev Cert.GatherRef.nD).tc : Thread Cert.GatherRef.nD Cert.GatherRef.τ).loc Cert.GatherRef.main_arg8) = m' (((0 : Dev Cert.GatherRef.nD).tc : Thread Cert.GatherRef.nD Cert.GatherRef.τ).loc Cert.GatherRef.main_arg8)
          ∧ r.2.mem (((0 : Dev Cert.GatherRef.nD).tc : Thread Cert.GatherRef.nD Cert.GatherRef.τ).loc Cert.GatherRef.main_arg9) = m' (((0 : Dev Cert.GatherRef.nD).tc : Thread Cert.GatherRef.nD Cert.GatherRef.τ).loc Cert.GatherRef.main_arg9))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m ((c.tc : Thread Cert.SmallIdeal.nD Cert.SmallIdeal.τ).loc Cert.SmallIdeal.main_arg0) = Layout.block ⟨2, ![32, 2048]⟩ ⟨2, ![256, 2048]⟩ 0 8 c (m' (((0 : Dev Cert.SmallRefIdeal.nD).tc : Thread Cert.SmallRefIdeal.nD Cert.SmallRefIdeal.τ).loc Cert.SmallRefIdeal.main_arg0))) →
    ∃ (v0 : Buf (Elt Ideal) (((0 : Dev Cert.SmallRefIdeal.nD).tc : Thread Cert.SmallRefIdeal.nD Cert.SmallRefIdeal.τ).loc Cert.SmallRefIdeal.main_v0)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v1) = v0
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ θ_run (Cert.SmallRefIdeal.defs (F := Ideal)) (onTc (τ := Cert.SmallRefIdeal.τ) (Cert.SmallRefIdeal.main (F := Ideal))) ⟨m', fun _ => 0, g'⟩ (fun r =>
          r.2.mem (((0 : Dev Cert.SmallRefIdeal.nD).tc : Thread Cert.SmallRefIdeal.nD Cert.SmallRefIdeal.τ).loc Cert.SmallRefIdeal.main_v0) = v0
          ∧ r.2.mem (((0 : Dev Cert.SmallRefIdeal.nD).tc : Thread Cert.SmallRefIdeal.nD Cert.SmallRefIdeal.τ).loc Cert.SmallRefIdeal.main_arg0) = m' (((0 : Dev Cert.SmallRefIdeal.nD).tc : Thread Cert.SmallRefIdeal.nD Cert.SmallRefIdeal.τ).loc Cert.SmallRefIdeal.main_arg0))

def bitexact_Small_SmallRef [hSmall : Cert.Small.Facts] [hSmallRef : Cert.SmallRef.Facts] : Prop :=
  ∀ (m : (ℓ : Loc Cert.Small.nD Cert.Small.τ Cert.Small.sig) → Buf (Elt Bits) ℓ) (g : Dev Cert.Small.nD → PrngReg)
    (m' : (ℓ : Loc Cert.SmallRef.nD Cert.SmallRef.τ Cert.SmallRef.sig) → Buf (Elt Bits) ℓ) (g' : Dev Cert.SmallRef.nD → PrngReg), Pre_Small m →
    (∀ c : Dev Cert.Small.nD,
      m ((c.tc : Thread Cert.Small.nD Cert.Small.τ).loc Cert.Small.main_arg0) = Layout.block ⟨2, ![32, 2048]⟩ ⟨2, ![256, 2048]⟩ 0 8 c (m' (((0 : Dev Cert.SmallRef.nD).tc : Thread Cert.SmallRef.nD Cert.SmallRef.τ).loc Cert.SmallRef.main_arg0))) →
    ∃ (v0 : Buf (Elt Bits) (((0 : Dev Cert.SmallRef.nD).tc : Thread Cert.SmallRef.nD Cert.SmallRef.τ).loc Cert.SmallRef.main_v0)),
      θ_run (Cert.Small.defs (F := Bits)) (onTc (τ := Cert.Small.τ) (Cert.Small.main (F := Bits))) ⟨m, fun _ => 0, g⟩ (fun r => ∀ c : Dev Cert.Small.nD,
          r.2.mem ((c.tc : Thread Cert.Small.nD Cert.Small.τ).loc Cert.Small.main_v1) = v0
          ∧ r.2.mem ((c.tc : Thread Cert.Small.nD Cert.Small.τ).loc Cert.Small.main_arg0) = m ((c.tc : Thread Cert.Small.nD Cert.Small.τ).loc Cert.Small.main_arg0))
      ∧ θ_run (Cert.SmallRef.defs (F := Bits)) (onTc (τ := Cert.SmallRef.τ) (Cert.SmallRef.main (F := Bits))) ⟨m', fun _ => 0, g'⟩ (fun r =>
          r.2.mem (((0 : Dev Cert.SmallRef.nD).tc : Thread Cert.SmallRef.nD Cert.SmallRef.τ).loc Cert.SmallRef.main_v0) = v0
          ∧ r.2.mem (((0 : Dev Cert.SmallRef.nD).tc : Thread Cert.SmallRef.nD Cert.SmallRef.τ).loc Cert.SmallRef.main_arg0) = m' (((0 : Dev Cert.SmallRef.nD).tc : Thread Cert.SmallRef.nD Cert.SmallRef.τ).loc Cert.SmallRef.main_arg0))

def preserves_StepOut_StepOutIdeal : Prop :=
  True

def algebraic_StepOutIdeal_StepOutRefIdeal [hStepOutIdeal : Cert.StepOutIdeal.Facts] [hStepOutRefIdeal : Cert.StepOutRefIdeal.Facts] : Prop :=
  ∀ (m : (ℓ : Loc Cert.StepOutIdeal.nD Cert.StepOutIdeal.τ Cert.StepOutIdeal.sig) → Buf (Elt Ideal) ℓ) (g : Dev Cert.StepOutIdeal.nD → PrngReg)
    (m' : (ℓ : Loc Cert.StepOutRefIdeal.nD Cert.StepOutRefIdeal.τ Cert.StepOutRefIdeal.sig) → Buf (Elt Ideal) ℓ) (g' : Dev Cert.StepOutRefIdeal.nD → PrngReg), Pre_StepOutIdeal m →
    (∀ c : Dev Cert.StepOutIdeal.nD,
      m' ((c.tc : Thread Cert.StepOutRefIdeal.nD Cert.StepOutRefIdeal.τ).loc Cert.StepOutRefIdeal.main_arg0) = m ((c.tc : Thread Cert.StepOutIdeal.nD Cert.StepOutIdeal.τ).loc Cert.StepOutIdeal.main_arg0)
      ∧ m' ((c.tc : Thread Cert.StepOutRefIdeal.nD Cert.StepOutRefIdeal.τ).loc Cert.StepOutRefIdeal.main_arg1) = m ((c.tc : Thread Cert.StepOutIdeal.nD Cert.StepOutIdeal.τ).loc Cert.StepOutIdeal.main_arg1)
      ∧ m' ((c.tc : Thread Cert.StepOutRefIdeal.nD Cert.StepOutRefIdeal.τ).loc Cert.StepOutRefIdeal.main_arg2) = m ((c.tc : Thread Cert.StepOutIdeal.nD Cert.StepOutIdeal.τ).loc Cert.StepOutIdeal.main_arg2)
      ∧ m' ((c.tc : Thread Cert.StepOutRefIdeal.nD Cert.StepOutRefIdeal.τ).loc Cert.StepOutRefIdeal.main_arg3) = m ((c.tc : Thread Cert.StepOutIdeal.nD Cert.StepOutIdeal.τ).loc Cert.StepOutIdeal.main_arg3)) →
    ∃ (v0 : (c : Dev Cert.StepOutIdeal.nD) → Buf (Elt Ideal) ((c.tc : Thread Cert.StepOutIdeal.nD Cert.StepOutIdeal.τ).loc Cert.StepOutIdeal.main_v0_0)) (v1 : (c : Dev Cert.StepOutIdeal.nD) → Buf (Elt Ideal) ((c.tc : Thread Cert.StepOutIdeal.nD Cert.StepOutIdeal.τ).loc Cert.StepOutIdeal.main_v0_1)) (v2 : (c : Dev Cert.StepOutIdeal.nD) → Buf (Elt Ideal) ((c.tc : Thread Cert.StepOutIdeal.nD Cert.StepOutIdeal.τ).loc Cert.StepOutIdeal.main_v0_2)) (v3 : (c : Dev Cert.StepOutIdeal.nD) → Buf (Elt Ideal) ((c.tc : Thread Cert.StepOutIdeal.nD Cert.StepOutIdeal.τ).loc Cert.StepOutIdeal.main_v0_3)),
      θ_run (Cert.StepOutIdeal.defs (F := Ideal)) (onTc (τ := Cert.StepOutIdeal.τ) (Cert.StepOutIdeal.main (F := Ideal))) ⟨m, fun _ => 0, g⟩ (fun r => ∀ c : Dev Cert.StepOutIdeal.nD,
          r.2.mem ((c.tc : Thread Cert.StepOutIdeal.nD Cert.StepOutIdeal.τ).loc Cert.StepOutIdeal.main_v0_0) = v0 c
          ∧ r.2.mem ((c.tc : Thread Cert.StepOutIdeal.nD Cert.StepOutIdeal.τ).loc Cert.StepOutIdeal.main_v0_1) = v1 c
          ∧ r.2.mem ((c.tc : Thread Cert.StepOutIdeal.nD Cert.StepOutIdeal.τ).loc Cert.StepOutIdeal.main_v0_2) = v2 c
          ∧ r.2.mem ((c.tc : Thread Cert.StepOutIdeal.nD Cert.StepOutIdeal.τ).loc Cert.StepOutIdeal.main_v0_3) = v3 c
          ∧ r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
          ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
          ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
          ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ θ_run (Cert.StepOutRefIdeal.defs (F := Ideal)) (onTc (τ := Cert.StepOutRefIdeal.τ) (Cert.StepOutRefIdeal.main (F := Ideal))) ⟨m', fun _ => 0, g'⟩ (fun r => ∀ c : Dev Cert.StepOutRefIdeal.nD,
          r.2.mem ((c.tc : Thread Cert.StepOutRefIdeal.nD Cert.StepOutRefIdeal.τ).loc Cert.StepOutRefIdeal.main_v1) = v0 c
          ∧ r.2.mem ((c.tc : Thread Cert.StepOutRefIdeal.nD Cert.StepOutRefIdeal.τ).loc Cert.StepOutRefIdeal.main_v25) = v1 c
          ∧ r.2.mem ((c.tc : Thread Cert.StepOutRefIdeal.nD Cert.StepOutRefIdeal.τ).loc Cert.StepOutRefIdeal.main_v6) = v2 c
          ∧ r.2.mem ((c.tc : Thread Cert.StepOutRefIdeal.nD Cert.StepOutRefIdeal.τ).loc Cert.StepOutRefIdeal.main_v12) = v3 c
          ∧ r.2.mem ((c.tc : Thread Cert.StepOutRefIdeal.nD Cert.StepOutRefIdeal.τ).loc Cert.StepOutRefIdeal.main_arg0) = m' ((c.tc : Thread Cert.StepOutRefIdeal.nD Cert.StepOutRefIdeal.τ).loc Cert.StepOutRefIdeal.main_arg0)
          ∧ r.2.mem ((c.tc : Thread Cert.StepOutRefIdeal.nD Cert.StepOutRefIdeal.τ).loc Cert.StepOutRefIdeal.main_arg1) = m' ((c.tc : Thread Cert.StepOutRefIdeal.nD Cert.StepOutRefIdeal.τ).loc Cert.StepOutRefIdeal.main_arg1)
          ∧ r.2.mem ((c.tc : Thread Cert.StepOutRefIdeal.nD Cert.StepOutRefIdeal.τ).loc Cert.StepOutRefIdeal.main_arg2) = m' ((c.tc : Thread Cert.StepOutRefIdeal.nD Cert.StepOutRefIdeal.τ).loc Cert.StepOutRefIdeal.main_arg2)
          ∧ r.2.mem ((c.tc : Thread Cert.StepOutRefIdeal.nD Cert.StepOutRefIdeal.τ).loc Cert.StepOutRefIdeal.main_arg3) = m' ((c.tc : Thread Cert.StepOutRefIdeal.nD Cert.StepOutRefIdeal.τ).loc Cert.StepOutRefIdeal.main_arg3))

def preserves_StepDown_StepDownIdeal : Prop :=
  True

def algebraic_StepDownIdeal_StepDownRefIdeal [hStepDownIdeal : Cert.StepDownIdeal.Facts] [hStepDownRefIdeal : Cert.StepDownRefIdeal.Facts] : Prop :=
  ∀ (m : (ℓ : Loc Cert.StepDownIdeal.nD Cert.StepDownIdeal.τ Cert.StepDownIdeal.sig) → Buf (Elt Ideal) ℓ) (g : Dev Cert.StepDownIdeal.nD → PrngReg)
    (m' : (ℓ : Loc Cert.StepDownRefIdeal.nD Cert.StepDownRefIdeal.τ Cert.StepDownRefIdeal.sig) → Buf (Elt Ideal) ℓ) (g' : Dev Cert.StepDownRefIdeal.nD → PrngReg), Pre_StepDownIdeal m →
    (∀ c : Dev Cert.StepDownIdeal.nD,
      m' ((c.tc : Thread Cert.StepDownRefIdeal.nD Cert.StepDownRefIdeal.τ).loc Cert.StepDownRefIdeal.main_arg0) = m ((c.tc : Thread Cert.StepDownIdeal.nD Cert.StepDownIdeal.τ).loc Cert.StepDownIdeal.main_arg0)
      ∧ m' ((c.tc : Thread Cert.StepDownRefIdeal.nD Cert.StepDownRefIdeal.τ).loc Cert.StepDownRefIdeal.main_arg1) = m ((c.tc : Thread Cert.StepDownIdeal.nD Cert.StepDownIdeal.τ).loc Cert.StepDownIdeal.main_arg1)
      ∧ m' ((c.tc : Thread Cert.StepDownRefIdeal.nD Cert.StepDownRefIdeal.τ).loc Cert.StepDownRefIdeal.main_arg2) = m ((c.tc : Thread Cert.StepDownIdeal.nD Cert.StepDownIdeal.τ).loc Cert.StepDownIdeal.main_arg2)
      ∧ m' ((c.tc : Thread Cert.StepDownRefIdeal.nD Cert.StepDownRefIdeal.τ).loc Cert.StepDownRefIdeal.main_arg3) = m ((c.tc : Thread Cert.StepDownIdeal.nD Cert.StepDownIdeal.τ).loc Cert.StepDownIdeal.main_arg3)) →
    ∃ (v0 : (c : Dev Cert.StepDownIdeal.nD) → Buf (Elt Ideal) ((c.tc : Thread Cert.StepDownIdeal.nD Cert.StepDownIdeal.τ).loc Cert.StepDownIdeal.main_v0_0)) (v1 : (c : Dev Cert.StepDownIdeal.nD) → Buf (Elt Ideal) ((c.tc : Thread Cert.StepDownIdeal.nD Cert.StepDownIdeal.τ).loc Cert.StepDownIdeal.main_v0_1)) (v2 : (c : Dev Cert.StepDownIdeal.nD) → Buf (Elt Ideal) ((c.tc : Thread Cert.StepDownIdeal.nD Cert.StepDownIdeal.τ).loc Cert.StepDownIdeal.main_v0_2)) (v3 : (c : Dev Cert.StepDownIdeal.nD) → Buf (Elt Ideal) ((c.tc : Thread Cert.StepDownIdeal.nD Cert.StepDownIdeal.τ).loc Cert.StepDownIdeal.main_v0_3)),
      θ_run (Cert.StepDownIdeal.defs (F := Ideal)) (onTc (τ := Cert.StepDownIdeal.τ) (Cert.StepDownIdeal.main (F := Ideal))) ⟨m, fun _ => 0, g⟩ (fun r => ∀ c : Dev Cert.StepDownIdeal.nD,
          r.2.mem ((c.tc : Thread Cert.StepDownIdeal.nD Cert.StepDownIdeal.τ).loc Cert.StepDownIdeal.main_v0_0) = v0 c
          ∧ r.2.mem ((c.tc : Thread Cert.StepDownIdeal.nD Cert.StepDownIdeal.τ).loc Cert.StepDownIdeal.main_v0_1) = v1 c
          ∧ r.2.mem ((c.tc : Thread Cert.StepDownIdeal.nD Cert.StepDownIdeal.τ).loc Cert.StepDownIdeal.main_v0_2) = v2 c
          ∧ r.2.mem ((c.tc : Thread Cert.StepDownIdeal.nD Cert.StepDownIdeal.τ).loc Cert.StepDownIdeal.main_v0_3) = v3 c
          ∧ r.2.mem ((c.tc : Thread Cert.StepDownIdeal.nD Cert.StepDownIdeal.τ).loc Cert.StepDownIdeal.main_arg0) = m ((c.tc : Thread Cert.StepDownIdeal.nD Cert.StepDownIdeal.τ).loc Cert.StepDownIdeal.main_arg0)
          ∧ r.2.mem ((c.tc : Thread Cert.StepDownIdeal.nD Cert.StepDownIdeal.τ).loc Cert.StepDownIdeal.main_arg1) = m ((c.tc : Thread Cert.StepDownIdeal.nD Cert.StepDownIdeal.τ).loc Cert.StepDownIdeal.main_arg1)
          ∧ r.2.mem ((c.tc : Thread Cert.StepDownIdeal.nD Cert.StepDownIdeal.τ).loc Cert.StepDownIdeal.main_arg2) = m ((c.tc : Thread Cert.StepDownIdeal.nD Cert.StepDownIdeal.τ).loc Cert.StepDownIdeal.main_arg2)
          ∧ r.2.mem ((c.tc : Thread Cert.StepDownIdeal.nD Cert.StepDownIdeal.τ).loc Cert.StepDownIdeal.main_arg3) = m ((c.tc : Thread Cert.StepDownIdeal.nD Cert.StepDownIdeal.τ).loc Cert.StepDownIdeal.main_arg3))
      ∧ θ_run (Cert.StepDownRefIdeal.defs (F := Ideal)) (onTc (τ := Cert.StepDownRefIdeal.τ) (Cert.StepDownRefIdeal.main (F := Ideal))) ⟨m', fun _ => 0, g'⟩ (fun r => ∀ c : Dev Cert.StepDownRefIdeal.nD,
          r.2.mem ((c.tc : Thread Cert.StepDownRefIdeal.nD Cert.StepDownRefIdeal.τ).loc Cert.StepDownRefIdeal.main_v1) = v0 c
          ∧ r.2.mem ((c.tc : Thread Cert.StepDownRefIdeal.nD Cert.StepDownRefIdeal.τ).loc Cert.StepDownRefIdeal.main_v25) = v1 c
          ∧ r.2.mem ((c.tc : Thread Cert.StepDownRefIdeal.nD Cert.StepDownRefIdeal.τ).loc Cert.StepDownRefIdeal.main_v6) = v2 c
          ∧ r.2.mem ((c.tc : Thread Cert.StepDownRefIdeal.nD Cert.StepDownRefIdeal.τ).loc Cert.StepDownRefIdeal.main_v12) = v3 c
          ∧ r.2.mem ((c.tc : Thread Cert.StepDownRefIdeal.nD Cert.StepDownRefIdeal.τ).loc Cert.StepDownRefIdeal.main_arg0) = m' ((c.tc : Thread Cert.StepDownRefIdeal.nD Cert.StepDownRefIdeal.τ).loc Cert.StepDownRefIdeal.main_arg0)
          ∧ r.2.mem ((c.tc : Thread Cert.StepDownRefIdeal.nD Cert.StepDownRefIdeal.τ).loc Cert.StepDownRefIdeal.main_arg1) = m' ((c.tc : Thread Cert.StepDownRefIdeal.nD Cert.StepDownRefIdeal.τ).loc Cert.StepDownRefIdeal.main_arg1)
          ∧ r.2.mem ((c.tc : Thread Cert.StepDownRefIdeal.nD Cert.StepDownRefIdeal.τ).loc Cert.StepDownRefIdeal.main_arg2) = m' ((c.tc : Thread Cert.StepDownRefIdeal.nD Cert.StepDownRefIdeal.τ).loc Cert.StepDownRefIdeal.main_arg2)
          ∧ r.2.mem ((c.tc : Thread Cert.StepDownRefIdeal.nD Cert.StepDownRefIdeal.τ).loc Cert.StepDownRefIdeal.main_arg3) = m' ((c.tc : Thread Cert.StepDownRefIdeal.nD Cert.StepDownRefIdeal.τ).loc Cert.StepDownRefIdeal.main_arg3))

def preserves_SumIn_SumInIdeal : Prop :=
  True

def algebraic_SumInIdeal_SumInRefIdeal [hSumInIdeal : Cert.SumInIdeal.Facts] [hSumInRefIdeal : Cert.SumInRefIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)) →
    ∃ (v0 : (c : Dev Cert.SumInIdeal.nD) → Buf (Elt Ideal) ((c.tc : Thread Cert.SumInIdeal.nD Cert.SumInIdeal.τ).loc Cert.SumInIdeal.main_v0)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v0) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v1) = v0 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0))

def preserves_SumUp_SumUpIdeal : Prop :=
  True

def algebraic_SumUpIdeal_SumUpRefIdeal [hSumUpIdeal : Cert.SumUpIdeal.Facts] [hSumUpRefIdeal : Cert.SumUpRefIdeal.Facts] : Prop :=
  ∀ (m : (ℓ : Loc Cert.SumUpIdeal.nD Cert.SumUpIdeal.τ Cert.SumUpIdeal.sig) → Buf (Elt Ideal) ℓ) (g : Dev Cert.SumUpIdeal.nD → PrngReg)
    (m' : (ℓ : Loc Cert.SumUpRefIdeal.nD Cert.SumUpRefIdeal.τ Cert.SumUpRefIdeal.sig) → Buf (Elt Ideal) ℓ) (g' : Dev Cert.SumUpRefIdeal.nD → PrngReg), Pre_SumUpIdeal m →
    (∀ c : Dev Cert.SumUpIdeal.nD,
      m' ((c.tc : Thread Cert.SumUpRefIdeal.nD Cert.SumUpRefIdeal.τ).loc Cert.SumUpRefIdeal.main_arg0) = m ((c.tc : Thread Cert.SumUpIdeal.nD Cert.SumUpIdeal.τ).loc Cert.SumUpIdeal.main_arg0)) →
    ∃ (v0 : (c : Dev Cert.SumUpIdeal.nD) → Buf (Elt Ideal) ((c.tc : Thread Cert.SumUpIdeal.nD Cert.SumUpIdeal.τ).loc Cert.SumUpIdeal.main_v0)),
      θ_run (Cert.SumUpIdeal.defs (F := Ideal)) (onTc (τ := Cert.SumUpIdeal.τ) (Cert.SumUpIdeal.main (F := Ideal))) ⟨m, fun _ => 0, g⟩ (fun r => ∀ c : Dev Cert.SumUpIdeal.nD,
          r.2.mem ((c.tc : Thread Cert.SumUpIdeal.nD Cert.SumUpIdeal.τ).loc Cert.SumUpIdeal.main_v0) = v0 c
          ∧ r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0))
      ∧ θ_run (Cert.SumUpRefIdeal.defs (F := Ideal)) (onTc (τ := Cert.SumUpRefIdeal.τ) (Cert.SumUpRefIdeal.main (F := Ideal))) ⟨m', fun _ => 0, g'⟩ (fun r => ∀ c : Dev Cert.SumUpRefIdeal.nD,
          r.2.mem ((c.tc : Thread Cert.SumUpRefIdeal.nD Cert.SumUpRefIdeal.τ).loc Cert.SumUpRefIdeal.main_v1) = v0 c
          ∧ r.2.mem ((c.tc : Thread Cert.SumUpRefIdeal.nD Cert.SumUpRefIdeal.τ).loc Cert.SumUpRefIdeal.main_arg0) = m' ((c.tc : Thread Cert.SumUpRefIdeal.nD Cert.SumUpRefIdeal.τ).loc Cert.SumUpRefIdeal.main_arg0))

def preserves_SumQkv_SumQkvIdeal : Prop :=
  True

def algebraic_SumQkvIdeal_SumQkvRefIdeal [hSumQkvIdeal : Cert.SumQkvIdeal.Facts] [hSumQkvRefIdeal : Cert.SumQkvRefIdeal.Facts] : Prop :=
  ∀ (m : (ℓ : Loc Cert.SumQkvIdeal.nD Cert.SumQkvIdeal.τ Cert.SumQkvIdeal.sig) → Buf (Elt Ideal) ℓ) (g : Dev Cert.SumQkvIdeal.nD → PrngReg)
    (m' : (ℓ : Loc Cert.SumQkvRefIdeal.nD Cert.SumQkvRefIdeal.τ Cert.SumQkvRefIdeal.sig) → Buf (Elt Ideal) ℓ) (g' : Dev Cert.SumQkvRefIdeal.nD → PrngReg), Pre_SumQkvIdeal m →
    (∀ c : Dev Cert.SumQkvIdeal.nD,
      m' ((c.tc : Thread Cert.SumQkvRefIdeal.nD Cert.SumQkvRefIdeal.τ).loc Cert.SumQkvRefIdeal.main_arg0) = m ((c.tc : Thread Cert.SumQkvIdeal.nD Cert.SumQkvIdeal.τ).loc Cert.SumQkvIdeal.main_arg0)) →
    ∃ (v0 : (c : Dev Cert.SumQkvIdeal.nD) → Buf (Elt Ideal) ((c.tc : Thread Cert.SumQkvIdeal.nD Cert.SumQkvIdeal.τ).loc Cert.SumQkvIdeal.main_v0)),
      θ_run (Cert.SumQkvIdeal.defs (F := Ideal)) (onTc (τ := Cert.SumQkvIdeal.τ) (Cert.SumQkvIdeal.main (F := Ideal))) ⟨m, fun _ => 0, g⟩ (fun r => ∀ c : Dev Cert.SumQkvIdeal.nD,
          r.2.mem ((c.tc : Thread Cert.SumQkvIdeal.nD Cert.SumQkvIdeal.τ).loc Cert.SumQkvIdeal.main_v0) = v0 c
          ∧ r.2.mem ((c.tc : Thread Cert.SumQkvIdeal.nD Cert.SumQkvIdeal.τ).loc Cert.SumQkvIdeal.main_arg0) = m ((c.tc : Thread Cert.SumQkvIdeal.nD Cert.SumQkvIdeal.τ).loc Cert.SumQkvIdeal.main_arg0))
      ∧ θ_run (Cert.SumQkvRefIdeal.defs (F := Ideal)) (onTc (τ := Cert.SumQkvRefIdeal.τ) (Cert.SumQkvRefIdeal.main (F := Ideal))) ⟨m', fun _ => 0, g'⟩ (fun r => ∀ c : Dev Cert.SumQkvRefIdeal.nD,
          r.2.mem ((c.tc : Thread Cert.SumQkvRefIdeal.nD Cert.SumQkvRefIdeal.τ).loc Cert.SumQkvRefIdeal.main_v1) = v0 c
          ∧ r.2.mem ((c.tc : Thread Cert.SumQkvRefIdeal.nD Cert.SumQkvRefIdeal.τ).loc Cert.SumQkvRefIdeal.main_arg0) = m' ((c.tc : Thread Cert.SumQkvRefIdeal.nD Cert.SumQkvRefIdeal.τ).loc Cert.SumQkvRefIdeal.main_arg0))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_StepIn_StepInIdeal : Prop :=
  True

def algebraic_StepInIdeal_StepInRefIdeal [hStepInIdeal : Cert.StepInIdeal.Facts] [hStepInRefIdeal : Cert.StepInRefIdeal.Facts] : Prop :=
  ∀ (m : (ℓ : Loc Cert.StepInIdeal.nD Cert.StepInIdeal.τ Cert.StepInIdeal.sig) → Buf (Elt Ideal) ℓ) (g : Dev Cert.StepInIdeal.nD → PrngReg)
    (m' : (ℓ : Loc Cert.StepInRefIdeal.nD Cert.StepInRefIdeal.τ Cert.StepInRefIdeal.sig) → Buf (Elt Ideal) ℓ) (g' : Dev Cert.StepInRefIdeal.nD → PrngReg), Pre_StepInIdeal m →
    (∀ c : Dev Cert.StepInIdeal.nD,
      m' ((c.tc : Thread Cert.StepInRefIdeal.nD Cert.StepInRefIdeal.τ).loc Cert.StepInRefIdeal.main_arg0) = m ((c.tc : Thread Cert.StepInIdeal.nD Cert.StepInIdeal.τ).loc Cert.StepInIdeal.main_arg0)
      ∧ m' ((c.tc : Thread Cert.StepInRefIdeal.nD Cert.StepInRefIdeal.τ).loc Cert.StepInRefIdeal.main_arg1) = m ((c.tc : Thread Cert.StepInIdeal.nD Cert.StepInIdeal.τ).loc Cert.StepInIdeal.main_arg1)
      ∧ m' ((c.tc : Thread Cert.StepInRefIdeal.nD Cert.StepInRefIdeal.τ).loc Cert.StepInRefIdeal.main_arg2) = m ((c.tc : Thread Cert.StepInIdeal.nD Cert.StepInIdeal.τ).loc Cert.StepInIdeal.main_arg2)
      ∧ m' ((c.tc : Thread Cert.StepInRefIdeal.nD Cert.StepInRefIdeal.τ).loc Cert.StepInRefIdeal.main_arg3) = m ((c.tc : Thread Cert.StepInIdeal.nD Cert.StepInIdeal.τ).loc Cert.StepInIdeal.main_arg3)) →
    ∃ (v0 : (c : Dev Cert.StepInIdeal.nD) → Buf (Elt Ideal) ((c.tc : Thread Cert.StepInIdeal.nD Cert.StepInIdeal.τ).loc Cert.StepInIdeal.main_v0_0)) (v1 : (c : Dev Cert.StepInIdeal.nD) → Buf (Elt Ideal) ((c.tc : Thread Cert.StepInIdeal.nD Cert.StepInIdeal.τ).loc Cert.StepInIdeal.main_v0_1)) (v2 : (c : Dev Cert.StepInIdeal.nD) → Buf (Elt Ideal) ((c.tc : Thread Cert.StepInIdeal.nD Cert.StepInIdeal.τ).loc Cert.StepInIdeal.main_v0_2)) (v3 : (c : Dev Cert.StepInIdeal.nD) → Buf (Elt Ideal) ((c.tc : Thread Cert.StepInIdeal.nD Cert.StepInIdeal.τ).loc Cert.StepInIdeal.main_v0_3)),
      θ_run (Cert.StepInIdeal.defs (F := Ideal)) (onTc (τ := Cert.StepInIdeal.τ) (Cert.StepInIdeal.main (F := Ideal))) ⟨m, fun _ => 0, g⟩ (fun r => ∀ c : Dev Cert.StepInIdeal.nD,
          r.2.mem ((c.tc : Thread Cert.StepInIdeal.nD Cert.StepInIdeal.τ).loc Cert.StepInIdeal.main_v0_0) = v0 c
          ∧ r.2.mem ((c.tc : Thread Cert.StepInIdeal.nD Cert.StepInIdeal.τ).loc Cert.StepInIdeal.main_v0_1) = v1 c
          ∧ r.2.mem ((c.tc : Thread Cert.StepInIdeal.nD Cert.StepInIdeal.τ).loc Cert.StepInIdeal.main_v0_2) = v2 c
          ∧ r.2.mem ((c.tc : Thread Cert.StepInIdeal.nD Cert.StepInIdeal.τ).loc Cert.StepInIdeal.main_v0_3) = v3 c
          ∧ r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
          ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
          ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
          ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
      ∧ θ_run (Cert.StepInRefIdeal.defs (F := Ideal)) (onTc (τ := Cert.StepInRefIdeal.τ) (Cert.StepInRefIdeal.main (F := Ideal))) ⟨m', fun _ => 0, g'⟩ (fun r => ∀ c : Dev Cert.StepInRefIdeal.nD,
          r.2.mem ((c.tc : Thread Cert.StepInRefIdeal.nD Cert.StepInRefIdeal.τ).loc Cert.StepInRefIdeal.main_arg3) = v0 c
          ∧ r.2.mem ((c.tc : Thread Cert.StepInRefIdeal.nD Cert.StepInRefIdeal.τ).loc Cert.StepInRefIdeal.main_v23) = v1 c
          ∧ r.2.mem ((c.tc : Thread Cert.StepInRefIdeal.nD Cert.StepInRefIdeal.τ).loc Cert.StepInRefIdeal.main_v4) = v2 c
          ∧ r.2.mem ((c.tc : Thread Cert.StepInRefIdeal.nD Cert.StepInRefIdeal.τ).loc Cert.StepInRefIdeal.main_v10) = v3 c
          ∧ r.2.mem ((c.tc : Thread Cert.StepInRefIdeal.nD Cert.StepInRefIdeal.τ).loc Cert.StepInRefIdeal.main_arg0) = m' ((c.tc : Thread Cert.StepInRefIdeal.nD Cert.StepInRefIdeal.τ).loc Cert.StepInRefIdeal.main_arg0)
          ∧ r.2.mem ((c.tc : Thread Cert.StepInRefIdeal.nD Cert.StepInRefIdeal.τ).loc Cert.StepInRefIdeal.main_arg1) = m' ((c.tc : Thread Cert.StepInRefIdeal.nD Cert.StepInRefIdeal.τ).loc Cert.StepInRefIdeal.main_arg1)
          ∧ r.2.mem ((c.tc : Thread Cert.StepInRefIdeal.nD Cert.StepInRefIdeal.τ).loc Cert.StepInRefIdeal.main_arg2) = m' ((c.tc : Thread Cert.StepInRefIdeal.nD Cert.StepInRefIdeal.τ).loc Cert.StepInRefIdeal.main_arg2)
          ∧ r.2.mem ((c.tc : Thread Cert.StepInRefIdeal.nD Cert.StepInRefIdeal.τ).loc Cert.StepInRefIdeal.main_arg3) = m' ((c.tc : Thread Cert.StepInRefIdeal.nD Cert.StepInRefIdeal.τ).loc Cert.StepInRefIdeal.main_arg3))

def preserves_StepUp_StepUpIdeal : Prop :=
  True

def algebraic_StepUpIdeal_StepUpRefIdeal [hStepUpIdeal : Cert.StepUpIdeal.Facts] [hStepUpRefIdeal : Cert.StepUpRefIdeal.Facts] : Prop :=
  ∀ (m : (ℓ : Loc Cert.StepUpIdeal.nD Cert.StepUpIdeal.τ Cert.StepUpIdeal.sig) → Buf (Elt Ideal) ℓ) (g : Dev Cert.StepUpIdeal.nD → PrngReg)
    (m' : (ℓ : Loc Cert.StepUpRefIdeal.nD Cert.StepUpRefIdeal.τ Cert.StepUpRefIdeal.sig) → Buf (Elt Ideal) ℓ) (g' : Dev Cert.StepUpRefIdeal.nD → PrngReg), Pre_StepUpIdeal m →
    (∀ c : Dev Cert.StepUpIdeal.nD,
      m' ((c.tc : Thread Cert.StepUpRefIdeal.nD Cert.StepUpRefIdeal.τ).loc Cert.StepUpRefIdeal.main_arg0) = m ((c.tc : Thread Cert.StepUpIdeal.nD Cert.StepUpIdeal.τ).loc Cert.StepUpIdeal.main_arg0)
      ∧ m' ((c.tc : Thread Cert.StepUpRefIdeal.nD Cert.StepUpRefIdeal.τ).loc Cert.StepUpRefIdeal.main_arg1) = m ((c.tc : Thread Cert.StepUpIdeal.nD Cert.StepUpIdeal.τ).loc Cert.StepUpIdeal.main_arg1)
      ∧ m' ((c.tc : Thread Cert.StepUpRefIdeal.nD Cert.StepUpRefIdeal.τ).loc Cert.StepUpRefIdeal.main_arg2) = m ((c.tc : Thread Cert.StepUpIdeal.nD Cert.StepUpIdeal.τ).loc Cert.StepUpIdeal.main_arg2)
      ∧ m' ((c.tc : Thread Cert.StepUpRefIdeal.nD Cert.StepUpRefIdeal.τ).loc Cert.StepUpRefIdeal.main_arg3) = m ((c.tc : Thread Cert.StepUpIdeal.nD Cert.StepUpIdeal.τ).loc Cert.StepUpIdeal.main_arg3)) →
    ∃ (v0 : (c : Dev Cert.StepUpIdeal.nD) → Buf (Elt Ideal) ((c.tc : Thread Cert.StepUpIdeal.nD Cert.StepUpIdeal.τ).loc Cert.StepUpIdeal.main_v0_0)) (v1 : (c : Dev Cert.StepUpIdeal.nD) → Buf (Elt Ideal) ((c.tc : Thread Cert.StepUpIdeal.nD Cert.StepUpIdeal.τ).loc Cert.StepUpIdeal.main_v0_1)) (v2 : (c : Dev Cert.StepUpIdeal.nD) → Buf (Elt Ideal) ((c.tc : Thread Cert.StepUpIdeal.nD Cert.StepUpIdeal.τ).loc Cert.StepUpIdeal.main_v0_2)) (v3 : (c : Dev Cert.StepUpIdeal.nD) → Buf (Elt Ideal) ((c.tc : Thread Cert.StepUpIdeal.nD Cert.StepUpIdeal.τ).loc Cert.StepUpIdeal.main_v0_3)),
      θ_run (Cert.StepUpIdeal.defs (F := Ideal)) (onTc (τ := Cert.StepUpIdeal.τ) (Cert.StepUpIdeal.main (F := Ideal))) ⟨m, fun _ => 0, g⟩ (fun r => ∀ c : Dev Cert.StepUpIdeal.nD,
          r.2.mem ((c.tc : Thread Cert.StepUpIdeal.nD Cert.StepUpIdeal.τ).loc Cert.StepUpIdeal.main_v0_0) = v0 c
          ∧ r.2.mem ((c.tc : Thread Cert.StepUpIdeal.nD Cert.StepUpIdeal.τ).loc Cert.StepUpIdeal.main_v0_1) = v1 c
          ∧ r.2.mem ((c.tc : Thread Cert.StepUpIdeal.nD Cert.StepUpIdeal.τ).loc Cert.StepUpIdeal.main_v0_2) = v2 c
          ∧ r.2.mem ((c.tc : Thread Cert.StepUpIdeal.nD Cert.StepUpIdeal.τ).loc Cert.StepUpIdeal.main_v0_3) = v3 c
          ∧ r.2.mem ((c.tc : Thread Cert.StepUpIdeal.nD Cert.StepUpIdeal.τ).loc Cert.StepUpIdeal.main_arg0) = m ((c.tc : Thread Cert.StepUpIdeal.nD Cert.StepUpIdeal.τ).loc Cert.StepUpIdeal.main_arg0)
          ∧ r.2.mem ((c.tc : Thread Cert.StepUpIdeal.nD Cert.StepUpIdeal.τ).loc Cert.StepUpIdeal.main_arg1) = m ((c.tc : Thread Cert.StepUpIdeal.nD Cert.StepUpIdeal.τ).loc Cert.StepUpIdeal.main_arg1)
          ∧ r.2.mem ((c.tc : Thread Cert.StepUpIdeal.nD Cert.StepUpIdeal.τ).loc Cert.StepUpIdeal.main_arg2) = m ((c.tc : Thread Cert.StepUpIdeal.nD Cert.StepUpIdeal.τ).loc Cert.StepUpIdeal.main_arg2)
          ∧ r.2.mem ((c.tc : Thread Cert.StepUpIdeal.nD Cert.StepUpIdeal.τ).loc Cert.StepUpIdeal.main_arg3) = m ((c.tc : Thread Cert.StepUpIdeal.nD Cert.StepUpIdeal.τ).loc Cert.StepUpIdeal.main_arg3))
      ∧ θ_run (Cert.StepUpRefIdeal.defs (F := Ideal)) (onTc (τ := Cert.StepUpRefIdeal.τ) (Cert.StepUpRefIdeal.main (F := Ideal))) ⟨m', fun _ => 0, g'⟩ (fun r => ∀ c : Dev Cert.StepUpRefIdeal.nD,
          r.2.mem ((c.tc : Thread Cert.StepUpRefIdeal.nD Cert.StepUpRefIdeal.τ).loc Cert.StepUpRefIdeal.main_arg3) = v0 c
          ∧ r.2.mem ((c.tc : Thread Cert.StepUpRefIdeal.nD Cert.StepUpRefIdeal.τ).loc Cert.StepUpRefIdeal.main_v23) = v1 c
          ∧ r.2.mem ((c.tc : Thread Cert.StepUpRefIdeal.nD Cert.StepUpRefIdeal.τ).loc Cert.StepUpRefIdeal.main_v4) = v2 c
          ∧ r.2.mem ((c.tc : Thread Cert.StepUpRefIdeal.nD Cert.StepUpRefIdeal.τ).loc Cert.StepUpRefIdeal.main_v10) = v3 c
          ∧ r.2.mem ((c.tc : Thread Cert.StepUpRefIdeal.nD Cert.StepUpRefIdeal.τ).loc Cert.StepUpRefIdeal.main_arg0) = m' ((c.tc : Thread Cert.StepUpRefIdeal.nD Cert.StepUpRefIdeal.τ).loc Cert.StepUpRefIdeal.main_arg0)
          ∧ r.2.mem ((c.tc : Thread Cert.StepUpRefIdeal.nD Cert.StepUpRefIdeal.τ).loc Cert.StepUpRefIdeal.main_arg1) = m' ((c.tc : Thread Cert.StepUpRefIdeal.nD Cert.StepUpRefIdeal.τ).loc Cert.StepUpRefIdeal.main_arg1)
          ∧ r.2.mem ((c.tc : Thread Cert.StepUpRefIdeal.nD Cert.StepUpRefIdeal.τ).loc Cert.StepUpRefIdeal.main_arg2) = m' ((c.tc : Thread Cert.StepUpRefIdeal.nD Cert.StepUpRefIdeal.τ).loc Cert.StepUpRefIdeal.main_arg2)
          ∧ r.2.mem ((c.tc : Thread Cert.StepUpRefIdeal.nD Cert.StepUpRefIdeal.τ).loc Cert.StepUpRefIdeal.main_arg3) = m' ((c.tc : Thread Cert.StepUpRefIdeal.nD Cert.StepUpRefIdeal.τ).loc Cert.StepUpRefIdeal.main_arg3))

def preserves_StepQkv_StepQkvIdeal : Prop :=
  True

def algebraic_StepQkvIdeal_StepQkvRefIdeal [hStepQkvIdeal : Cert.StepQkvIdeal.Facts] [hStepQkvRefIdeal : Cert.StepQkvRefIdeal.Facts] : Prop :=
  ∀ (m : (ℓ : Loc Cert.StepQkvIdeal.nD Cert.StepQkvIdeal.τ Cert.StepQkvIdeal.sig) → Buf (Elt Ideal) ℓ) (g : Dev Cert.StepQkvIdeal.nD → PrngReg)
    (m' : (ℓ : Loc Cert.StepQkvRefIdeal.nD Cert.StepQkvRefIdeal.τ Cert.StepQkvRefIdeal.sig) → Buf (Elt Ideal) ℓ) (g' : Dev Cert.StepQkvRefIdeal.nD → PrngReg), Pre_StepQkvIdeal m →
    (∀ c : Dev Cert.StepQkvIdeal.nD,
      m' ((c.tc : Thread Cert.StepQkvRefIdeal.nD Cert.StepQkvRefIdeal.τ).loc Cert.StepQkvRefIdeal.main_arg0) = m ((c.tc : Thread Cert.StepQkvIdeal.nD Cert.StepQkvIdeal.τ).loc Cert.StepQkvIdeal.main_arg0)
      ∧ m' ((c.tc : Thread Cert.StepQkvRefIdeal.nD Cert.StepQkvRefIdeal.τ).loc Cert.StepQkvRefIdeal.main_arg1) = m ((c.tc : Thread Cert.StepQkvIdeal.nD Cert.StepQkvIdeal.τ).loc Cert.StepQkvIdeal.main_arg1)
      ∧ m' ((c.tc : Thread Cert.StepQkvRefIdeal.nD Cert.StepQkvRefIdeal.τ).loc Cert.StepQkvRefIdeal.main_arg2) = m ((c.tc : Thread Cert.StepQkvIdeal.nD Cert.StepQkvIdeal.τ).loc Cert.StepQkvIdeal.main_arg2)
      ∧ m' ((c.tc : Thread Cert.StepQkvRefIdeal.nD Cert.StepQkvRefIdeal.τ).loc Cert.StepQkvRefIdeal.main_arg3) = m ((c.tc : Thread Cert.StepQkvIdeal.nD Cert.StepQkvIdeal.τ).loc Cert.StepQkvIdeal.main_arg3)) →
    ∃ (v0 : (c : Dev Cert.StepQkvIdeal.nD) → Buf (Elt Ideal) ((c.tc : Thread Cert.StepQkvIdeal.nD Cert.StepQkvIdeal.τ).loc Cert.StepQkvIdeal.main_v0_0)) (v1 : (c : Dev Cert.StepQkvIdeal.nD) → Buf (Elt Ideal) ((c.tc : Thread Cert.StepQkvIdeal.nD Cert.StepQkvIdeal.τ).loc Cert.StepQkvIdeal.main_v0_1)) (v2 : (c : Dev Cert.StepQkvIdeal.nD) → Buf (Elt Ideal) ((c.tc : Thread Cert.StepQkvIdeal.nD Cert.StepQkvIdeal.τ).loc Cert.StepQkvIdeal.main_v0_2)) (v3 : (c : Dev Cert.StepQkvIdeal.nD) → Buf (Elt Ideal) ((c.tc : Thread Cert.StepQkvIdeal.nD Cert.StepQkvIdeal.τ).loc Cert.StepQkvIdeal.main_v0_3)),
      θ_run (Cert.StepQkvIdeal.defs (F := Ideal)) (onTc (τ := Cert.StepQkvIdeal.τ) (Cert.StepQkvIdeal.main (F := Ideal))) ⟨m, fun _ => 0, g⟩ (fun r => ∀ c : Dev Cert.StepQkvIdeal.nD,
          r.2.mem ((c.tc : Thread Cert.StepQkvIdeal.nD Cert.StepQkvIdeal.τ).loc Cert.StepQkvIdeal.main_v0_0) = v0 c
          ∧ r.2.mem ((c.tc : Thread Cert.StepQkvIdeal.nD Cert.StepQkvIdeal.τ).loc Cert.StepQkvIdeal.main_v0_1) = v1 c
          ∧ r.2.mem ((c.tc : Thread Cert.StepQkvIdeal.nD Cert.StepQkvIdeal.τ).loc Cert.StepQkvIdeal.main_v0_2) = v2 c
          ∧ r.2.mem ((c.tc : Thread Cert.StepQkvIdeal.nD Cert.StepQkvIdeal.τ).loc Cert.StepQkvIdeal.main_v0_3) = v3 c
          ∧ r.2.mem ((c.tc : Thread Cert.StepQkvIdeal.nD Cert.StepQkvIdeal.τ).loc Cert.StepQkvIdeal.main_arg0) = m ((c.tc : Thread Cert.StepQkvIdeal.nD Cert.StepQkvIdeal.τ).loc Cert.StepQkvIdeal.main_arg0)
          ∧ r.2.mem ((c.tc : Thread Cert.StepQkvIdeal.nD Cert.StepQkvIdeal.τ).loc Cert.StepQkvIdeal.main_arg1) = m ((c.tc : Thread Cert.StepQkvIdeal.nD Cert.StepQkvIdeal.τ).loc Cert.StepQkvIdeal.main_arg1)
          ∧ r.2.mem ((c.tc : Thread Cert.StepQkvIdeal.nD Cert.StepQkvIdeal.τ).loc Cert.StepQkvIdeal.main_arg2) = m ((c.tc : Thread Cert.StepQkvIdeal.nD Cert.StepQkvIdeal.τ).loc Cert.StepQkvIdeal.main_arg2)
          ∧ r.2.mem ((c.tc : Thread Cert.StepQkvIdeal.nD Cert.StepQkvIdeal.τ).loc Cert.StepQkvIdeal.main_arg3) = m ((c.tc : Thread Cert.StepQkvIdeal.nD Cert.StepQkvIdeal.τ).loc Cert.StepQkvIdeal.main_arg3))
      ∧ θ_run (Cert.StepQkvRefIdeal.defs (F := Ideal)) (onTc (τ := Cert.StepQkvRefIdeal.τ) (Cert.StepQkvRefIdeal.main (F := Ideal))) ⟨m', fun _ => 0, g'⟩ (fun r => ∀ c : Dev Cert.StepQkvRefIdeal.nD,
          r.2.mem ((c.tc : Thread Cert.StepQkvRefIdeal.nD Cert.StepQkvRefIdeal.τ).loc Cert.StepQkvRefIdeal.main_arg3) = v0 c
          ∧ r.2.mem ((c.tc : Thread Cert.StepQkvRefIdeal.nD Cert.StepQkvRefIdeal.τ).loc Cert.StepQkvRefIdeal.main_v23) = v1 c
          ∧ r.2.mem ((c.tc : Thread Cert.StepQkvRefIdeal.nD Cert.StepQkvRefIdeal.τ).loc Cert.StepQkvRefIdeal.main_v4) = v2 c
          ∧ r.2.mem ((c.tc : Thread Cert.StepQkvRefIdeal.nD Cert.StepQkvRefIdeal.τ).loc Cert.StepQkvRefIdeal.main_v10) = v3 c
          ∧ r.2.mem ((c.tc : Thread Cert.StepQkvRefIdeal.nD Cert.StepQkvRefIdeal.τ).loc Cert.StepQkvRefIdeal.main_arg0) = m' ((c.tc : Thread Cert.StepQkvRefIdeal.nD Cert.StepQkvRefIdeal.τ).loc Cert.StepQkvRefIdeal.main_arg0)
          ∧ r.2.mem ((c.tc : Thread Cert.StepQkvRefIdeal.nD Cert.StepQkvRefIdeal.τ).loc Cert.StepQkvRefIdeal.main_arg1) = m' ((c.tc : Thread Cert.StepQkvRefIdeal.nD Cert.StepQkvRefIdeal.τ).loc Cert.StepQkvRefIdeal.main_arg1)
          ∧ r.2.mem ((c.tc : Thread Cert.StepQkvRefIdeal.nD Cert.StepQkvRefIdeal.τ).loc Cert.StepQkvRefIdeal.main_arg2) = m' ((c.tc : Thread Cert.StepQkvRefIdeal.nD Cert.StepQkvRefIdeal.τ).loc Cert.StepQkvRefIdeal.main_arg2)
          ∧ r.2.mem ((c.tc : Thread Cert.StepQkvRefIdeal.nD Cert.StepQkvRefIdeal.τ).loc Cert.StepQkvRefIdeal.main_arg3) = m' ((c.tc : Thread Cert.StepQkvRefIdeal.nD Cert.StepQkvRefIdeal.τ).loc Cert.StepQkvRefIdeal.main_arg3))

def preserves_StepMeta_StepMetaIdeal : Prop :=
  True

def algebraic_StepMetaIdeal_StepMetaRefIdeal [hStepMetaIdeal : Cert.StepMetaIdeal.Facts] [hStepMetaRefIdeal : Cert.StepMetaRefIdeal.Facts] : Prop :=
  ∀ (m : (ℓ : Loc Cert.StepMetaIdeal.nD Cert.StepMetaIdeal.τ Cert.StepMetaIdeal.sig) → Buf (Elt Ideal) ℓ) (g : Dev Cert.StepMetaIdeal.nD → PrngReg)
    (m' : (ℓ : Loc Cert.StepMetaRefIdeal.nD Cert.StepMetaRefIdeal.τ Cert.StepMetaRefIdeal.sig) → Buf (Elt Ideal) ℓ) (g' : Dev Cert.StepMetaRefIdeal.nD → PrngReg), Pre_StepMetaIdeal m →
    (∀ c : Dev Cert.StepMetaIdeal.nD,
      m' ((c.tc : Thread Cert.StepMetaRefIdeal.nD Cert.StepMetaRefIdeal.τ).loc Cert.StepMetaRefIdeal.main_arg0) = m ((c.tc : Thread Cert.StepMetaIdeal.nD Cert.StepMetaIdeal.τ).loc Cert.StepMetaIdeal.main_arg0)
      ∧ m' ((c.tc : Thread Cert.StepMetaRefIdeal.nD Cert.StepMetaRefIdeal.τ).loc Cert.StepMetaRefIdeal.main_arg1) = m ((c.tc : Thread Cert.StepMetaIdeal.nD Cert.StepMetaIdeal.τ).loc Cert.StepMetaIdeal.main_arg1)
      ∧ m' ((c.tc : Thread Cert.StepMetaRefIdeal.nD Cert.StepMetaRefIdeal.τ).loc Cert.StepMetaRefIdeal.main_arg2) = m ((c.tc : Thread Cert.StepMetaIdeal.nD Cert.StepMetaIdeal.τ).loc Cert.StepMetaIdeal.main_arg2)
      ∧ m' ((c.tc : Thread Cert.StepMetaRefIdeal.nD Cert.StepMetaRefIdeal.τ).loc Cert.StepMetaRefIdeal.main_arg3) = m ((c.tc : Thread Cert.StepMetaIdeal.nD Cert.StepMetaIdeal.τ).loc Cert.StepMetaIdeal.main_arg3)) →
    ∃ (v0 : (c : Dev Cert.StepMetaIdeal.nD) → Buf (Elt Ideal) ((c.tc : Thread Cert.StepMetaIdeal.nD Cert.StepMetaIdeal.τ).loc Cert.StepMetaIdeal.main_v0_0)) (v1 : (c : Dev Cert.StepMetaIdeal.nD) → Buf (Elt Ideal) ((c.tc : Thread Cert.StepMetaIdeal.nD Cert.StepMetaIdeal.τ).loc Cert.StepMetaIdeal.main_v0_1)) (v2 : (c : Dev Cert.StepMetaIdeal.nD) → Buf (Elt Ideal) ((c.tc : Thread Cert.StepMetaIdeal.nD Cert.StepMetaIdeal.τ).loc Cert.StepMetaIdeal.main_v0_2)) (v3 : (c : Dev Cert.StepMetaIdeal.nD) → Buf (Elt Ideal) ((c.tc : Thread Cert.StepMetaIdeal.nD Cert.StepMetaIdeal.τ).loc Cert.StepMetaIdeal.main_v0_3)),
      θ_run (Cert.StepMetaIdeal.defs (F := Ideal)) (onTc (τ := Cert.StepMetaIdeal.τ) (Cert.StepMetaIdeal.main (F := Ideal))) ⟨m, fun _ => 0, g⟩ (fun r => ∀ c : Dev Cert.StepMetaIdeal.nD,
          r.2.mem ((c.tc : Thread Cert.StepMetaIdeal.nD Cert.StepMetaIdeal.τ).loc Cert.StepMetaIdeal.main_v0_0) = v0 c
          ∧ r.2.mem ((c.tc : Thread Cert.StepMetaIdeal.nD Cert.StepMetaIdeal.τ).loc Cert.StepMetaIdeal.main_v0_1) = v1 c
          ∧ r.2.mem ((c.tc : Thread Cert.StepMetaIdeal.nD Cert.StepMetaIdeal.τ).loc Cert.StepMetaIdeal.main_v0_2) = v2 c
          ∧ r.2.mem ((c.tc : Thread Cert.StepMetaIdeal.nD Cert.StepMetaIdeal.τ).loc Cert.StepMetaIdeal.main_v0_3) = v3 c
          ∧ r.2.mem ((c.tc : Thread Cert.StepMetaIdeal.nD Cert.StepMetaIdeal.τ).loc Cert.StepMetaIdeal.main_arg0) = m ((c.tc : Thread Cert.StepMetaIdeal.nD Cert.StepMetaIdeal.τ).loc Cert.StepMetaIdeal.main_arg0)
          ∧ r.2.mem ((c.tc : Thread Cert.StepMetaIdeal.nD Cert.StepMetaIdeal.τ).loc Cert.StepMetaIdeal.main_arg1) = m ((c.tc : Thread Cert.StepMetaIdeal.nD Cert.StepMetaIdeal.τ).loc Cert.StepMetaIdeal.main_arg1)
          ∧ r.2.mem ((c.tc : Thread Cert.StepMetaIdeal.nD Cert.StepMetaIdeal.τ).loc Cert.StepMetaIdeal.main_arg2) = m ((c.tc : Thread Cert.StepMetaIdeal.nD Cert.StepMetaIdeal.τ).loc Cert.StepMetaIdeal.main_arg2)
          ∧ r.2.mem ((c.tc : Thread Cert.StepMetaIdeal.nD Cert.StepMetaIdeal.τ).loc Cert.StepMetaIdeal.main_arg3) = m ((c.tc : Thread Cert.StepMetaIdeal.nD Cert.StepMetaIdeal.τ).loc Cert.StepMetaIdeal.main_arg3))
      ∧ θ_run (Cert.StepMetaRefIdeal.defs (F := Ideal)) (onTc (τ := Cert.StepMetaRefIdeal.τ) (Cert.StepMetaRefIdeal.main (F := Ideal))) ⟨m', fun _ => 0, g'⟩ (fun r => ∀ c : Dev Cert.StepMetaRefIdeal.nD,
          r.2.mem ((c.tc : Thread Cert.StepMetaRefIdeal.nD Cert.StepMetaRefIdeal.τ).loc Cert.StepMetaRefIdeal.main_arg3) = v0 c
          ∧ r.2.mem ((c.tc : Thread Cert.StepMetaRefIdeal.nD Cert.StepMetaRefIdeal.τ).loc Cert.StepMetaRefIdeal.main_v23) = v1 c
          ∧ r.2.mem ((c.tc : Thread Cert.StepMetaRefIdeal.nD Cert.StepMetaRefIdeal.τ).loc Cert.StepMetaRefIdeal.main_v4) = v2 c
          ∧ r.2.mem ((c.tc : Thread Cert.StepMetaRefIdeal.nD Cert.StepMetaRefIdeal.τ).loc Cert.StepMetaRefIdeal.main_v10) = v3 c
          ∧ r.2.mem ((c.tc : Thread Cert.StepMetaRefIdeal.nD Cert.StepMetaRefIdeal.τ).loc Cert.StepMetaRefIdeal.main_arg0) = m' ((c.tc : Thread Cert.StepMetaRefIdeal.nD Cert.StepMetaRefIdeal.τ).loc Cert.StepMetaRefIdeal.main_arg0)
          ∧ r.2.mem ((c.tc : Thread Cert.StepMetaRefIdeal.nD Cert.StepMetaRefIdeal.τ).loc Cert.StepMetaRefIdeal.main_arg1) = m' ((c.tc : Thread Cert.StepMetaRefIdeal.nD Cert.StepMetaRefIdeal.τ).loc Cert.StepMetaRefIdeal.main_arg1)
          ∧ r.2.mem ((c.tc : Thread Cert.StepMetaRefIdeal.nD Cert.StepMetaRefIdeal.τ).loc Cert.StepMetaRefIdeal.main_arg2) = m' ((c.tc : Thread Cert.StepMetaRefIdeal.nD Cert.StepMetaRefIdeal.τ).loc Cert.StepMetaRefIdeal.main_arg2)
          ∧ r.2.mem ((c.tc : Thread Cert.StepMetaRefIdeal.nD Cert.StepMetaRefIdeal.τ).loc Cert.StepMetaRefIdeal.main_arg3) = m' ((c.tc : Thread Cert.StepMetaRefIdeal.nD Cert.StepMetaRefIdeal.τ).loc Cert.StepMetaRefIdeal.main_arg3))

def preserves_StepConv_StepConvIdeal : Prop :=
  True

def algebraic_StepConvIdeal_StepConvRefIdeal [hStepConvIdeal : Cert.StepConvIdeal.Facts] [hStepConvRefIdeal : Cert.StepConvRefIdeal.Facts] : Prop :=
  ∀ (m : (ℓ : Loc Cert.StepConvIdeal.nD Cert.StepConvIdeal.τ Cert.StepConvIdeal.sig) → Buf (Elt Ideal) ℓ) (g : Dev Cert.StepConvIdeal.nD → PrngReg)
    (m' : (ℓ : Loc Cert.StepConvRefIdeal.nD Cert.StepConvRefIdeal.τ Cert.StepConvRefIdeal.sig) → Buf (Elt Ideal) ℓ) (g' : Dev Cert.StepConvRefIdeal.nD → PrngReg), Pre_StepConvIdeal m →
    (∀ c : Dev Cert.StepConvIdeal.nD,
      m' ((c.tc : Thread Cert.StepConvRefIdeal.nD Cert.StepConvRefIdeal.τ).loc Cert.StepConvRefIdeal.main_arg0) = m ((c.tc : Thread Cert.StepConvIdeal.nD Cert.StepConvIdeal.τ).loc Cert.StepConvIdeal.main_arg0)
      ∧ m' ((c.tc : Thread Cert.StepConvRefIdeal.nD Cert.StepConvRefIdeal.τ).loc Cert.StepConvRefIdeal.main_arg1) = m ((c.tc : Thread Cert.StepConvIdeal.nD Cert.StepConvIdeal.τ).loc Cert.StepConvIdeal.main_arg1)
      ∧ m' ((c.tc : Thread Cert.StepConvRefIdeal.nD Cert.StepConvRefIdeal.τ).loc Cert.StepConvRefIdeal.main_arg2) = m ((c.tc : Thread Cert.StepConvIdeal.nD Cert.StepConvIdeal.τ).loc Cert.StepConvIdeal.main_arg2)
      ∧ m' ((c.tc : Thread Cert.StepConvRefIdeal.nD Cert.StepConvRefIdeal.τ).loc Cert.StepConvRefIdeal.main_arg3) = m ((c.tc : Thread Cert.StepConvIdeal.nD Cert.StepConvIdeal.τ).loc Cert.StepConvIdeal.main_arg3)) →
    ∃ (v0 : (c : Dev Cert.StepConvIdeal.nD) → Buf (Elt Ideal) ((c.tc : Thread Cert.StepConvIdeal.nD Cert.StepConvIdeal.τ).loc Cert.StepConvIdeal.main_v0_0)) (v1 : (c : Dev Cert.StepConvIdeal.nD) → Buf (Elt Ideal) ((c.tc : Thread Cert.StepConvIdeal.nD Cert.StepConvIdeal.τ).loc Cert.StepConvIdeal.main_v0_1)) (v2 : (c : Dev Cert.StepConvIdeal.nD) → Buf (Elt Ideal) ((c.tc : Thread Cert.StepConvIdeal.nD Cert.StepConvIdeal.τ).loc Cert.StepConvIdeal.main_v0_2)) (v3 : (c : Dev Cert.StepConvIdeal.nD) → Buf (Elt Ideal) ((c.tc : Thread Cert.StepConvIdeal.nD Cert.StepConvIdeal.τ).loc Cert.StepConvIdeal.main_v0_3)),
      θ_run (Cert.StepConvIdeal.defs (F := Ideal)) (onTc (τ := Cert.StepConvIdeal.τ) (Cert.StepConvIdeal.main (F := Ideal))) ⟨m, fun _ => 0, g⟩ (fun r => ∀ c : Dev Cert.StepConvIdeal.nD,
          r.2.mem ((c.tc : Thread Cert.StepConvIdeal.nD Cert.StepConvIdeal.τ).loc Cert.StepConvIdeal.main_v0_0) = v0 c
          ∧ r.2.mem ((c.tc : Thread Cert.StepConvIdeal.nD Cert.StepConvIdeal.τ).loc Cert.StepConvIdeal.main_v0_1) = v1 c
          ∧ r.2.mem ((c.tc : Thread Cert.StepConvIdeal.nD Cert.StepConvIdeal.τ).loc Cert.StepConvIdeal.main_v0_2) = v2 c
          ∧ r.2.mem ((c.tc : Thread Cert.StepConvIdeal.nD Cert.StepConvIdeal.τ).loc Cert.StepConvIdeal.main_v0_3) = v3 c
          ∧ r.2.mem ((c.tc : Thread Cert.StepConvIdeal.nD Cert.StepConvIdeal.τ).loc Cert.StepConvIdeal.main_arg0) = m ((c.tc : Thread Cert.StepConvIdeal.nD Cert.StepConvIdeal.τ).loc Cert.StepConvIdeal.main_arg0)
          ∧ r.2.mem ((c.tc : Thread Cert.StepConvIdeal.nD Cert.StepConvIdeal.τ).loc Cert.StepConvIdeal.main_arg1) = m ((c.tc : Thread Cert.StepConvIdeal.nD Cert.StepConvIdeal.τ).loc Cert.StepConvIdeal.main_arg1)
          ∧ r.2.mem ((c.tc : Thread Cert.StepConvIdeal.nD Cert.StepConvIdeal.τ).loc Cert.StepConvIdeal.main_arg2) = m ((c.tc : Thread Cert.StepConvIdeal.nD Cert.StepConvIdeal.τ).loc Cert.StepConvIdeal.main_arg2)
          ∧ r.2.mem ((c.tc : Thread Cert.StepConvIdeal.nD Cert.StepConvIdeal.τ).loc Cert.StepConvIdeal.main_arg3) = m ((c.tc : Thread Cert.StepConvIdeal.nD Cert.StepConvIdeal.τ).loc Cert.StepConvIdeal.main_arg3))
      ∧ θ_run (Cert.StepConvRefIdeal.defs (F := Ideal)) (onTc (τ := Cert.StepConvRefIdeal.τ) (Cert.StepConvRefIdeal.main (F := Ideal))) ⟨m', fun _ => 0, g'⟩ (fun r => ∀ c : Dev Cert.StepConvRefIdeal.nD,
          r.2.mem ((c.tc : Thread Cert.StepConvRefIdeal.nD Cert.StepConvRefIdeal.τ).loc Cert.StepConvRefIdeal.main_arg3) = v0 c
          ∧ r.2.mem ((c.tc : Thread Cert.StepConvRefIdeal.nD Cert.StepConvRefIdeal.τ).loc Cert.StepConvRefIdeal.main_v23) = v1 c
          ∧ r.2.mem ((c.tc : Thread Cert.StepConvRefIdeal.nD Cert.StepConvRefIdeal.τ).loc Cert.StepConvRefIdeal.main_v4) = v2 c
          ∧ r.2.mem ((c.tc : Thread Cert.StepConvRefIdeal.nD Cert.StepConvRefIdeal.τ).loc Cert.StepConvRefIdeal.main_v10) = v3 c
          ∧ r.2.mem ((c.tc : Thread Cert.StepConvRefIdeal.nD Cert.StepConvRefIdeal.τ).loc Cert.StepConvRefIdeal.main_arg0) = m' ((c.tc : Thread Cert.StepConvRefIdeal.nD Cert.StepConvRefIdeal.τ).loc Cert.StepConvRefIdeal.main_arg0)
          ∧ r.2.mem ((c.tc : Thread Cert.StepConvRefIdeal.nD Cert.StepConvRefIdeal.τ).loc Cert.StepConvRefIdeal.main_arg1) = m' ((c.tc : Thread Cert.StepConvRefIdeal.nD Cert.StepConvRefIdeal.τ).loc Cert.StepConvRefIdeal.main_arg1)
          ∧ r.2.mem ((c.tc : Thread Cert.StepConvRefIdeal.nD Cert.StepConvRefIdeal.τ).loc Cert.StepConvRefIdeal.main_arg2) = m' ((c.tc : Thread Cert.StepConvRefIdeal.nD Cert.StepConvRefIdeal.τ).loc Cert.StepConvRefIdeal.main_arg2)
          ∧ r.2.mem ((c.tc : Thread Cert.StepConvRefIdeal.nD Cert.StepConvRefIdeal.τ).loc Cert.StepConvRefIdeal.main_arg3) = m' ((c.tc : Thread Cert.StepConvRefIdeal.nD Cert.StepConvRefIdeal.τ).loc Cert.StepConvRefIdeal.main_arg3))

def preserves_StepGain_StepGainIdeal : Prop :=
  True

def algebraic_StepGainIdeal_StepGainRefIdeal [hStepGainIdeal : Cert.StepGainIdeal.Facts] [hStepGainRefIdeal : Cert.StepGainRefIdeal.Facts] : Prop :=
  ∀ (m : (ℓ : Loc Cert.StepGainIdeal.nD Cert.StepGainIdeal.τ Cert.StepGainIdeal.sig) → Buf (Elt Ideal) ℓ) (g : Dev Cert.StepGainIdeal.nD → PrngReg)
    (m' : (ℓ : Loc Cert.StepGainRefIdeal.nD Cert.StepGainRefIdeal.τ Cert.StepGainRefIdeal.sig) → Buf (Elt Ideal) ℓ) (g' : Dev Cert.StepGainRefIdeal.nD → PrngReg), Pre_StepGainIdeal m →
    (∀ c : Dev Cert.StepGainIdeal.nD,
      m' ((c.tc : Thread Cert.StepGainRefIdeal.nD Cert.StepGainRefIdeal.τ).loc Cert.StepGainRefIdeal.main_arg0) = m ((c.tc : Thread Cert.StepGainIdeal.nD Cert.StepGainIdeal.τ).loc Cert.StepGainIdeal.main_arg0)
      ∧ m' ((c.tc : Thread Cert.StepGainRefIdeal.nD Cert.StepGainRefIdeal.τ).loc Cert.StepGainRefIdeal.main_arg1) = m ((c.tc : Thread Cert.StepGainIdeal.nD Cert.StepGainIdeal.τ).loc Cert.StepGainIdeal.main_arg1)
      ∧ m' ((c.tc : Thread Cert.StepGainRefIdeal.nD Cert.StepGainRefIdeal.τ).loc Cert.StepGainRefIdeal.main_arg2) = m ((c.tc : Thread Cert.StepGainIdeal.nD Cert.StepGainIdeal.τ).loc Cert.StepGainIdeal.main_arg2)
      ∧ m' ((c.tc : Thread Cert.StepGainRefIdeal.nD Cert.StepGainRefIdeal.τ).loc Cert.StepGainRefIdeal.main_arg3) = m ((c.tc : Thread Cert.StepGainIdeal.nD Cert.StepGainIdeal.τ).loc Cert.StepGainIdeal.main_arg3)) →
    ∃ (v0 : (c : Dev Cert.StepGainIdeal.nD) → Buf (Elt Ideal) ((c.tc : Thread Cert.StepGainIdeal.nD Cert.StepGainIdeal.τ).loc Cert.StepGainIdeal.main_v0_0)) (v1 : (c : Dev Cert.StepGainIdeal.nD) → Buf (Elt Ideal) ((c.tc : Thread Cert.StepGainIdeal.nD Cert.StepGainIdeal.τ).loc Cert.StepGainIdeal.main_v0_1)) (v2 : (c : Dev Cert.StepGainIdeal.nD) → Buf (Elt Ideal) ((c.tc : Thread Cert.StepGainIdeal.nD Cert.StepGainIdeal.τ).loc Cert.StepGainIdeal.main_v0_2)) (v3 : (c : Dev Cert.StepGainIdeal.nD) → Buf (Elt Ideal) ((c.tc : Thread Cert.StepGainIdeal.nD Cert.StepGainIdeal.τ).loc Cert.StepGainIdeal.main_v0_3)),
      θ_run (Cert.StepGainIdeal.defs (F := Ideal)) (onTc (τ := Cert.StepGainIdeal.τ) (Cert.StepGainIdeal.main (F := Ideal))) ⟨m, fun _ => 0, g⟩ (fun r => ∀ c : Dev Cert.StepGainIdeal.nD,
          r.2.mem ((c.tc : Thread Cert.StepGainIdeal.nD Cert.StepGainIdeal.τ).loc Cert.StepGainIdeal.main_v0_0) = v0 c
          ∧ r.2.mem ((c.tc : Thread Cert.StepGainIdeal.nD Cert.StepGainIdeal.τ).loc Cert.StepGainIdeal.main_v0_1) = v1 c
          ∧ r.2.mem ((c.tc : Thread Cert.StepGainIdeal.nD Cert.StepGainIdeal.τ).loc Cert.StepGainIdeal.main_v0_2) = v2 c
          ∧ r.2.mem ((c.tc : Thread Cert.StepGainIdeal.nD Cert.StepGainIdeal.τ).loc Cert.StepGainIdeal.main_v0_3) = v3 c
          ∧ r.2.mem ((c.tc : Thread Cert.StepGainIdeal.nD Cert.StepGainIdeal.τ).loc Cert.StepGainIdeal.main_arg0) = m ((c.tc : Thread Cert.StepGainIdeal.nD Cert.StepGainIdeal.τ).loc Cert.StepGainIdeal.main_arg0)
          ∧ r.2.mem ((c.tc : Thread Cert.StepGainIdeal.nD Cert.StepGainIdeal.τ).loc Cert.StepGainIdeal.main_arg1) = m ((c.tc : Thread Cert.StepGainIdeal.nD Cert.StepGainIdeal.τ).loc Cert.StepGainIdeal.main_arg1)
          ∧ r.2.mem ((c.tc : Thread Cert.StepGainIdeal.nD Cert.StepGainIdeal.τ).loc Cert.StepGainIdeal.main_arg2) = m ((c.tc : Thread Cert.StepGainIdeal.nD Cert.StepGainIdeal.τ).loc Cert.StepGainIdeal.main_arg2)
          ∧ r.2.mem ((c.tc : Thread Cert.StepGainIdeal.nD Cert.StepGainIdeal.τ).loc Cert.StepGainIdeal.main_arg3) = m ((c.tc : Thread Cert.StepGainIdeal.nD Cert.StepGainIdeal.τ).loc Cert.StepGainIdeal.main_arg3))
      ∧ θ_run (Cert.StepGainRefIdeal.defs (F := Ideal)) (onTc (τ := Cert.StepGainRefIdeal.τ) (Cert.StepGainRefIdeal.main (F := Ideal))) ⟨m', fun _ => 0, g'⟩ (fun r => ∀ c : Dev Cert.StepGainRefIdeal.nD,
          r.2.mem ((c.tc : Thread Cert.StepGainRefIdeal.nD Cert.StepGainRefIdeal.τ).loc Cert.StepGainRefIdeal.main_arg3) = v0 c
          ∧ r.2.mem ((c.tc : Thread Cert.StepGainRefIdeal.nD Cert.StepGainRefIdeal.τ).loc Cert.StepGainRefIdeal.main_v23) = v1 c
          ∧ r.2.mem ((c.tc : Thread Cert.StepGainRefIdeal.nD Cert.StepGainRefIdeal.τ).loc Cert.StepGainRefIdeal.main_v4) = v2 c
          ∧ r.2.mem ((c.tc : Thread Cert.StepGainRefIdeal.nD Cert.StepGainRefIdeal.τ).loc Cert.StepGainRefIdeal.main_v10) = v3 c
          ∧ r.2.mem ((c.tc : Thread Cert.StepGainRefIdeal.nD Cert.StepGainRefIdeal.τ).loc Cert.StepGainRefIdeal.main_arg0) = m' ((c.tc : Thread Cert.StepGainRefIdeal.nD Cert.StepGainRefIdeal.τ).loc Cert.StepGainRefIdeal.main_arg0)
          ∧ r.2.mem ((c.tc : Thread Cert.StepGainRefIdeal.nD Cert.StepGainRefIdeal.τ).loc Cert.StepGainRefIdeal.main_arg1) = m' ((c.tc : Thread Cert.StepGainRefIdeal.nD Cert.StepGainRefIdeal.τ).loc Cert.StepGainRefIdeal.main_arg1)
          ∧ r.2.mem ((c.tc : Thread Cert.StepGainRefIdeal.nD Cert.StepGainRefIdeal.τ).loc Cert.StepGainRefIdeal.main_arg2) = m' ((c.tc : Thread Cert.StepGainRefIdeal.nD Cert.StepGainRefIdeal.τ).loc Cert.StepGainRefIdeal.main_arg2)
          ∧ r.2.mem ((c.tc : Thread Cert.StepGainRefIdeal.nD Cert.StepGainRefIdeal.τ).loc Cert.StepGainRefIdeal.main_arg3) = m' ((c.tc : Thread Cert.StepGainRefIdeal.nD Cert.StepGainRefIdeal.τ).loc Cert.StepGainRefIdeal.main_arg3))

def preserves_StepSinks_StepSinksIdeal : Prop :=
  True

def algebraic_StepSinksIdeal_StepSinksRefIdeal [hStepSinksIdeal : Cert.StepSinksIdeal.Facts] [hStepSinksRefIdeal : Cert.StepSinksRefIdeal.Facts] : Prop :=
  ∀ (m : (ℓ : Loc Cert.StepSinksIdeal.nD Cert.StepSinksIdeal.τ Cert.StepSinksIdeal.sig) → Buf (Elt Ideal) ℓ) (g : Dev Cert.StepSinksIdeal.nD → PrngReg)
    (m' : (ℓ : Loc Cert.StepSinksRefIdeal.nD Cert.StepSinksRefIdeal.τ Cert.StepSinksRefIdeal.sig) → Buf (Elt Ideal) ℓ) (g' : Dev Cert.StepSinksRefIdeal.nD → PrngReg), Pre_StepSinksIdeal m →
    (∀ c : Dev Cert.StepSinksIdeal.nD,
      m' ((c.tc : Thread Cert.StepSinksRefIdeal.nD Cert.StepSinksRefIdeal.τ).loc Cert.StepSinksRefIdeal.main_arg0) = m ((c.tc : Thread Cert.StepSinksIdeal.nD Cert.StepSinksIdeal.τ).loc Cert.StepSinksIdeal.main_arg0)
      ∧ m' ((c.tc : Thread Cert.StepSinksRefIdeal.nD Cert.StepSinksRefIdeal.τ).loc Cert.StepSinksRefIdeal.main_arg1) = m ((c.tc : Thread Cert.StepSinksIdeal.nD Cert.StepSinksIdeal.τ).loc Cert.StepSinksIdeal.main_arg1)
      ∧ m' ((c.tc : Thread Cert.StepSinksRefIdeal.nD Cert.StepSinksRefIdeal.τ).loc Cert.StepSinksRefIdeal.main_arg2) = m ((c.tc : Thread Cert.StepSinksIdeal.nD Cert.StepSinksIdeal.τ).loc Cert.StepSinksIdeal.main_arg2)
      ∧ m' ((c.tc : Thread Cert.StepSinksRefIdeal.nD Cert.StepSinksRefIdeal.τ).loc Cert.StepSinksRefIdeal.main_arg3) = m ((c.tc : Thread Cert.StepSinksIdeal.nD Cert.StepSinksIdeal.τ).loc Cert.StepSinksIdeal.main_arg3)) →
    ∃ (v0 : (c : Dev Cert.StepSinksIdeal.nD) → Buf (Elt Ideal) ((c.tc : Thread Cert.StepSinksIdeal.nD Cert.StepSinksIdeal.τ).loc Cert.StepSinksIdeal.main_v0_0)) (v1 : (c : Dev Cert.StepSinksIdeal.nD) → Buf (Elt Ideal) ((c.tc : Thread Cert.StepSinksIdeal.nD Cert.StepSinksIdeal.τ).loc Cert.StepSinksIdeal.main_v0_1)) (v2 : (c : Dev Cert.StepSinksIdeal.nD) → Buf (Elt Ideal) ((c.tc : Thread Cert.StepSinksIdeal.nD Cert.StepSinksIdeal.τ).loc Cert.StepSinksIdeal.main_v0_2)) (v3 : (c : Dev Cert.StepSinksIdeal.nD) → Buf (Elt Ideal) ((c.tc : Thread Cert.StepSinksIdeal.nD Cert.StepSinksIdeal.τ).loc Cert.StepSinksIdeal.main_v0_3)),
      θ_run (Cert.StepSinksIdeal.defs (F := Ideal)) (onTc (τ := Cert.StepSinksIdeal.τ) (Cert.StepSinksIdeal.main (F := Ideal))) ⟨m, fun _ => 0, g⟩ (fun r => ∀ c : Dev Cert.StepSinksIdeal.nD,
          r.2.mem ((c.tc : Thread Cert.StepSinksIdeal.nD Cert.StepSinksIdeal.τ).loc Cert.StepSinksIdeal.main_v0_0) = v0 c
          ∧ r.2.mem ((c.tc : Thread Cert.StepSinksIdeal.nD Cert.StepSinksIdeal.τ).loc Cert.StepSinksIdeal.main_v0_1) = v1 c
          ∧ r.2.mem ((c.tc : Thread Cert.StepSinksIdeal.nD Cert.StepSinksIdeal.τ).loc Cert.StepSinksIdeal.main_v0_2) = v2 c
          ∧ r.2.mem ((c.tc : Thread Cert.StepSinksIdeal.nD Cert.StepSinksIdeal.τ).loc Cert.StepSinksIdeal.main_v0_3) = v3 c
          ∧ r.2.mem ((c.tc : Thread Cert.StepSinksIdeal.nD Cert.StepSinksIdeal.τ).loc Cert.StepSinksIdeal.main_arg0) = m ((c.tc : Thread Cert.StepSinksIdeal.nD Cert.StepSinksIdeal.τ).loc Cert.StepSinksIdeal.main_arg0)
          ∧ r.2.mem ((c.tc : Thread Cert.StepSinksIdeal.nD Cert.StepSinksIdeal.τ).loc Cert.StepSinksIdeal.main_arg1) = m ((c.tc : Thread Cert.StepSinksIdeal.nD Cert.StepSinksIdeal.τ).loc Cert.StepSinksIdeal.main_arg1)
          ∧ r.2.mem ((c.tc : Thread Cert.StepSinksIdeal.nD Cert.StepSinksIdeal.τ).loc Cert.StepSinksIdeal.main_arg2) = m ((c.tc : Thread Cert.StepSinksIdeal.nD Cert.StepSinksIdeal.τ).loc Cert.StepSinksIdeal.main_arg2)
          ∧ r.2.mem ((c.tc : Thread Cert.StepSinksIdeal.nD Cert.StepSinksIdeal.τ).loc Cert.StepSinksIdeal.main_arg3) = m ((c.tc : Thread Cert.StepSinksIdeal.nD Cert.StepSinksIdeal.τ).loc Cert.StepSinksIdeal.main_arg3))
      ∧ θ_run (Cert.StepSinksRefIdeal.defs (F := Ideal)) (onTc (τ := Cert.StepSinksRefIdeal.τ) (Cert.StepSinksRefIdeal.main (F := Ideal))) ⟨m', fun _ => 0, g'⟩ (fun r => ∀ c : Dev Cert.StepSinksRefIdeal.nD,
          r.2.mem ((c.tc : Thread Cert.StepSinksRefIdeal.nD Cert.StepSinksRefIdeal.τ).loc Cert.StepSinksRefIdeal.main_arg3) = v0 c
          ∧ r.2.mem ((c.tc : Thread Cert.StepSinksRefIdeal.nD Cert.StepSinksRefIdeal.τ).loc Cert.StepSinksRefIdeal.main_v23) = v1 c
          ∧ r.2.mem ((c.tc : Thread Cert.StepSinksRefIdeal.nD Cert.StepSinksRefIdeal.τ).loc Cert.StepSinksRefIdeal.main_v4) = v2 c
          ∧ r.2.mem ((c.tc : Thread Cert.StepSinksRefIdeal.nD Cert.StepSinksRefIdeal.τ).loc Cert.StepSinksRefIdeal.main_v10) = v3 c
          ∧ r.2.mem ((c.tc : Thread Cert.StepSinksRefIdeal.nD Cert.StepSinksRefIdeal.τ).loc Cert.StepSinksRefIdeal.main_arg0) = m' ((c.tc : Thread Cert.StepSinksRefIdeal.nD Cert.StepSinksRefIdeal.τ).loc Cert.StepSinksRefIdeal.main_arg0)
          ∧ r.2.mem ((c.tc : Thread Cert.StepSinksRefIdeal.nD Cert.StepSinksRefIdeal.τ).loc Cert.StepSinksRefIdeal.main_arg1) = m' ((c.tc : Thread Cert.StepSinksRefIdeal.nD Cert.StepSinksRefIdeal.τ).loc Cert.StepSinksRefIdeal.main_arg1)
          ∧ r.2.mem ((c.tc : Thread Cert.StepSinksRefIdeal.nD Cert.StepSinksRefIdeal.τ).loc Cert.StepSinksRefIdeal.main_arg2) = m' ((c.tc : Thread Cert.StepSinksRefIdeal.nD Cert.StepSinksRefIdeal.τ).loc Cert.StepSinksRefIdeal.main_arg2)
          ∧ r.2.mem ((c.tc : Thread Cert.StepSinksRefIdeal.nD Cert.StepSinksRefIdeal.τ).loc Cert.StepSinksRefIdeal.main_arg3) = m' ((c.tc : Thread Cert.StepSinksRefIdeal.nD Cert.StepSinksRefIdeal.τ).loc Cert.StepSinksRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_ProjUp_ProjUpIdeal : Prop :=
  True

def algebraic_ProjUpIdeal_ProjUpRefIdeal [hProjUpIdeal : Cert.ProjUpIdeal.Facts] [hProjUpRefIdeal : Cert.ProjUpRefIdeal.Facts] : Prop :=
  ∀ (m : (ℓ : Loc Cert.ProjUpIdeal.nD Cert.ProjUpIdeal.τ Cert.ProjUpIdeal.sig) → Buf (Elt Ideal) ℓ) (g : Dev Cert.ProjUpIdeal.nD → PrngReg)
    (m' : (ℓ : Loc Cert.ProjUpRefIdeal.nD Cert.ProjUpRefIdeal.τ Cert.ProjUpRefIdeal.sig) → Buf (Elt Ideal) ℓ) (g' : Dev Cert.ProjUpRefIdeal.nD → PrngReg), Pre_ProjUpIdeal m →
    (∀ c : Dev Cert.ProjUpIdeal.nD,
      m' ((c.tc : Thread Cert.ProjUpRefIdeal.nD Cert.ProjUpRefIdeal.τ).loc Cert.ProjUpRefIdeal.main_arg0) = m ((c.tc : Thread Cert.ProjUpIdeal.nD Cert.ProjUpIdeal.τ).loc Cert.ProjUpIdeal.main_arg0)
      ∧ m' ((c.tc : Thread Cert.ProjUpRefIdeal.nD Cert.ProjUpRefIdeal.τ).loc Cert.ProjUpRefIdeal.main_arg1) = m ((c.tc : Thread Cert.ProjUpIdeal.nD Cert.ProjUpIdeal.τ).loc Cert.ProjUpIdeal.main_arg1)) →
    ∃ (v0 : (c : Dev Cert.ProjUpIdeal.nD) → Buf (Elt Ideal) ((c.tc : Thread Cert.ProjUpIdeal.nD Cert.ProjUpIdeal.τ).loc Cert.ProjUpIdeal.main_v0)),
      θ_run (Cert.ProjUpIdeal.defs (F := Ideal)) (onTc (τ := Cert.ProjUpIdeal.τ) (Cert.ProjUpIdeal.main (F := Ideal))) ⟨m, fun _ => 0, g⟩ (fun r => ∀ c : Dev Cert.ProjUpIdeal.nD,
          r.2.mem ((c.tc : Thread Cert.ProjUpIdeal.nD Cert.ProjUpIdeal.τ).loc Cert.ProjUpIdeal.main_v0) = v0 c
          ∧ r.2.mem ((c.tc : Thread Cert.ProjUpIdeal.nD Cert.ProjUpIdeal.τ).loc Cert.ProjUpIdeal.main_arg0) = m ((c.tc : Thread Cert.ProjUpIdeal.nD Cert.ProjUpIdeal.τ).loc Cert.ProjUpIdeal.main_arg0)
          ∧ r.2.mem ((c.tc : Thread Cert.ProjUpIdeal.nD Cert.ProjUpIdeal.τ).loc Cert.ProjUpIdeal.main_arg1) = m ((c.tc : Thread Cert.ProjUpIdeal.nD Cert.ProjUpIdeal.τ).loc Cert.ProjUpIdeal.main_arg1))
      ∧ θ_run (Cert.ProjUpRefIdeal.defs (F := Ideal)) (onTc (τ := Cert.ProjUpRefIdeal.τ) (Cert.ProjUpRefIdeal.main (F := Ideal))) ⟨m', fun _ => 0, g'⟩ (fun r => ∀ c : Dev Cert.ProjUpRefIdeal.nD,
          r.2.mem ((c.tc : Thread Cert.ProjUpRefIdeal.nD Cert.ProjUpRefIdeal.τ).loc Cert.ProjUpRefIdeal.main_v4) = v0 c
          ∧ r.2.mem ((c.tc : Thread Cert.ProjUpRefIdeal.nD Cert.ProjUpRefIdeal.τ).loc Cert.ProjUpRefIdeal.main_arg0) = m' ((c.tc : Thread Cert.ProjUpRefIdeal.nD Cert.ProjUpRefIdeal.τ).loc Cert.ProjUpRefIdeal.main_arg0)
          ∧ r.2.mem ((c.tc : Thread Cert.ProjUpRefIdeal.nD Cert.ProjUpRefIdeal.τ).loc Cert.ProjUpRefIdeal.main_arg1) = m' ((c.tc : Thread Cert.ProjUpRefIdeal.nD Cert.ProjUpRefIdeal.τ).loc Cert.ProjUpRefIdeal.main_arg1))

def preserves_BackDown_BackDownIdeal : Prop :=
  True

def algebraic_BackDownIdeal_BackDownRefIdeal [hBackDownIdeal : Cert.BackDownIdeal.Facts] [hBackDownRefIdeal : Cert.BackDownRefIdeal.Facts] : Prop :=
  ∀ (m : (ℓ : Loc Cert.BackDownIdeal.nD Cert.BackDownIdeal.τ Cert.BackDownIdeal.sig) → Buf (Elt Ideal) ℓ) (g : Dev Cert.BackDownIdeal.nD → PrngReg)
    (m' : (ℓ : Loc Cert.BackDownRefIdeal.nD Cert.BackDownRefIdeal.τ Cert.BackDownRefIdeal.sig) → Buf (Elt Ideal) ℓ) (g' : Dev Cert.BackDownRefIdeal.nD → PrngReg), Pre_BackDownIdeal m →
    (∀ c : Dev Cert.BackDownIdeal.nD,
      m' ((c.tc : Thread Cert.BackDownRefIdeal.nD Cert.BackDownRefIdeal.τ).loc Cert.BackDownRefIdeal.main_arg0) = m ((c.tc : Thread Cert.BackDownIdeal.nD Cert.BackDownIdeal.τ).loc Cert.BackDownIdeal.main_arg0)
      ∧ m' ((c.tc : Thread Cert.BackDownRefIdeal.nD Cert.BackDownRefIdeal.τ).loc Cert.BackDownRefIdeal.main_arg1) = m ((c.tc : Thread Cert.BackDownIdeal.nD Cert.BackDownIdeal.τ).loc Cert.BackDownIdeal.main_arg1)
      ∧ m' ((c.tc : Thread Cert.BackDownRefIdeal.nD Cert.BackDownRefIdeal.τ).loc Cert.BackDownRefIdeal.main_arg2) = m ((c.tc : Thread Cert.BackDownIdeal.nD Cert.BackDownIdeal.τ).loc Cert.BackDownIdeal.main_arg2)) →
    ∃ (v0 : (c : Dev Cert.BackDownIdeal.nD) → Buf (Elt Ideal) ((c.tc : Thread Cert.BackDownIdeal.nD Cert.BackDownIdeal.τ).loc Cert.BackDownIdeal.main_v0)),
      θ_run (Cert.BackDownIdeal.defs (F := Ideal)) (onTc (τ := Cert.BackDownIdeal.τ) (Cert.BackDownIdeal.main (F := Ideal))) ⟨m, fun _ => 0, g⟩ (fun r => ∀ c : Dev Cert.BackDownIdeal.nD,
          r.2.mem ((c.tc : Thread Cert.BackDownIdeal.nD Cert.BackDownIdeal.τ).loc Cert.BackDownIdeal.main_v0) = v0 c
          ∧ r.2.mem ((c.tc : Thread Cert.BackDownIdeal.nD Cert.BackDownIdeal.τ).loc Cert.BackDownIdeal.main_arg0) = m ((c.tc : Thread Cert.BackDownIdeal.nD Cert.BackDownIdeal.τ).loc Cert.BackDownIdeal.main_arg0)
          ∧ r.2.mem ((c.tc : Thread Cert.BackDownIdeal.nD Cert.BackDownIdeal.τ).loc Cert.BackDownIdeal.main_arg1) = m ((c.tc : Thread Cert.BackDownIdeal.nD Cert.BackDownIdeal.τ).loc Cert.BackDownIdeal.main_arg1)
          ∧ r.2.mem ((c.tc : Thread Cert.BackDownIdeal.nD Cert.BackDownIdeal.τ).loc Cert.BackDownIdeal.main_arg2) = m ((c.tc : Thread Cert.BackDownIdeal.nD Cert.BackDownIdeal.τ).loc Cert.BackDownIdeal.main_arg2))
      ∧ θ_run (Cert.BackDownRefIdeal.defs (F := Ideal)) (onTc (τ := Cert.BackDownRefIdeal.τ) (Cert.BackDownRefIdeal.main (F := Ideal))) ⟨m', fun _ => 0, g'⟩ (fun r => ∀ c : Dev Cert.BackDownRefIdeal.nD,
          r.2.mem ((c.tc : Thread Cert.BackDownRefIdeal.nD Cert.BackDownRefIdeal.τ).loc Cert.BackDownRefIdeal.main_v6) = v0 c
          ∧ r.2.mem ((c.tc : Thread Cert.BackDownRefIdeal.nD Cert.BackDownRefIdeal.τ).loc Cert.BackDownRefIdeal.main_arg0) = m' ((c.tc : Thread Cert.BackDownRefIdeal.nD Cert.BackDownRefIdeal.τ).loc Cert.BackDownRefIdeal.main_arg0)
          ∧ r.2.mem ((c.tc : Thread Cert.BackDownRefIdeal.nD Cert.BackDownRefIdeal.τ).loc Cert.BackDownRefIdeal.main_arg1) = m' ((c.tc : Thread Cert.BackDownRefIdeal.nD Cert.BackDownRefIdeal.τ).loc Cert.BackDownRefIdeal.main_arg1)
          ∧ r.2.mem ((c.tc : Thread Cert.BackDownRefIdeal.nD Cert.BackDownRefIdeal.τ).loc Cert.BackDownRefIdeal.main_arg2) = m' ((c.tc : Thread Cert.BackDownRefIdeal.nD Cert.BackDownRefIdeal.τ).loc Cert.BackDownRefIdeal.main_arg2))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)) →
    ∃ (v0 : (c : Dev Cert.ProjInIdeal.nD) → Buf (Elt Ideal) ((c.tc : Thread Cert.ProjInIdeal.nD Cert.ProjInIdeal.τ).loc Cert.ProjInIdeal.main_v0)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v0) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v2) = v0 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1))

def preserves_BackO_BackOIdeal : Prop :=
  True

def algebraic_BackOIdeal_BackORefIdeal [hBackOIdeal : Cert.BackOIdeal.Facts] [hBackORefIdeal : Cert.BackORefIdeal.Facts] : Prop :=
  ∀ (m : (ℓ : Loc Cert.BackOIdeal.nD Cert.BackOIdeal.τ Cert.BackOIdeal.sig) → Buf (Elt Ideal) ℓ) (g : Dev Cert.BackOIdeal.nD → PrngReg)
    (m' : (ℓ : Loc Cert.BackORefIdeal.nD Cert.BackORefIdeal.τ Cert.BackORefIdeal.sig) → Buf (Elt Ideal) ℓ) (g' : Dev Cert.BackORefIdeal.nD → PrngReg), Pre_BackOIdeal m →
    (∀ c : Dev Cert.BackOIdeal.nD,
      m' ((c.tc : Thread Cert.BackORefIdeal.nD Cert.BackORefIdeal.τ).loc Cert.BackORefIdeal.main_arg0) = m ((c.tc : Thread Cert.BackOIdeal.nD Cert.BackOIdeal.τ).loc Cert.BackOIdeal.main_arg0)
      ∧ m' ((c.tc : Thread Cert.BackORefIdeal.nD Cert.BackORefIdeal.τ).loc Cert.BackORefIdeal.main_arg1) = m ((c.tc : Thread Cert.BackOIdeal.nD Cert.BackOIdeal.τ).loc Cert.BackOIdeal.main_arg1)) →
    ∃ (v0 : (c : Dev Cert.BackOIdeal.nD) → Buf (Elt Ideal) ((c.tc : Thread Cert.BackOIdeal.nD Cert.BackOIdeal.τ).loc Cert.BackOIdeal.main_v0)),
      θ_run (Cert.BackOIdeal.defs (F := Ideal)) (onTc (τ := Cert.BackOIdeal.τ) (Cert.BackOIdeal.main (F := Ideal))) ⟨m, fun _ => 0, g⟩ (fun r => ∀ c : Dev Cert.BackOIdeal.nD,
          r.2.mem ((c.tc : Thread Cert.BackOIdeal.nD Cert.BackOIdeal.τ).loc Cert.BackOIdeal.main_v0) = v0 c
          ∧ r.2.mem ((c.tc : Thread Cert.BackOIdeal.nD Cert.BackOIdeal.τ).loc Cert.BackOIdeal.main_arg0) = m ((c.tc : Thread Cert.BackOIdeal.nD Cert.BackOIdeal.τ).loc Cert.BackOIdeal.main_arg0)
          ∧ r.2.mem ((c.tc : Thread Cert.BackOIdeal.nD Cert.BackOIdeal.τ).loc Cert.BackOIdeal.main_arg1) = m ((c.tc : Thread Cert.BackOIdeal.nD Cert.BackOIdeal.τ).loc Cert.BackOIdeal.main_arg1))
      ∧ θ_run (Cert.BackORefIdeal.defs (F := Ideal)) (onTc (τ := Cert.BackORefIdeal.τ) (Cert.BackORefIdeal.main (F := Ideal))) ⟨m', fun _ => 0, g'⟩ (fun r => ∀ c : Dev Cert.BackORefIdeal.nD,
          r.2.mem ((c.tc : Thread Cert.BackORefIdeal.nD Cert.BackORefIdeal.τ).loc Cert.BackORefIdeal.main_v2) = v0 c
          ∧ r.2.mem ((c.tc : Thread Cert.BackORefIdeal.nD Cert.BackORefIdeal.τ).loc Cert.BackORefIdeal.main_arg0) = m' ((c.tc : Thread Cert.BackORefIdeal.nD Cert.BackORefIdeal.τ).loc Cert.BackORefIdeal.main_arg0)
          ∧ r.2.mem ((c.tc : Thread Cert.BackORefIdeal.nD Cert.BackORefIdeal.τ).loc Cert.BackORefIdeal.main_arg1) = m' ((c.tc : Thread Cert.BackORefIdeal.nD Cert.BackORefIdeal.τ).loc Cert.BackORefIdeal.main_arg1))

def preserves_ProjQkv_ProjQkvIdeal : Prop :=
  True

def algebraic_ProjQkvIdeal_ProjQkvRefIdeal [hProjQkvIdeal : Cert.ProjQkvIdeal.Facts] [hProjQkvRefIdeal : Cert.ProjQkvRefIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg)
    (m' : (ℓ : Loc Cert.ProjQkvRefIdeal.nD Cert.ProjQkvRefIdeal.τ Cert.ProjQkvRefIdeal.sig) → Buf (Elt Ideal) ℓ) (g' : Dev Cert.ProjQkvRefIdeal.nD → PrngReg), Pre_ProjQkvIdeal m →
    (∀ c : Dev Cert.ProjQkvIdeal.nD,
      m' ((c.tc : Thread Cert.ProjQkvRefIdeal.nD Cert.ProjQkvRefIdeal.τ).loc Cert.ProjQkvRefIdeal.main_arg0) = m ((c.tc : Thread Cert.ProjQkvIdeal.nD Cert.ProjQkvIdeal.τ).loc Cert.ProjQkvIdeal.main_arg0)
      ∧ m' ((c.tc : Thread Cert.ProjQkvRefIdeal.nD Cert.ProjQkvRefIdeal.τ).loc Cert.ProjQkvRefIdeal.main_arg1) = m ((c.tc : Thread Cert.ProjQkvIdeal.nD Cert.ProjQkvIdeal.τ).loc Cert.ProjQkvIdeal.main_arg1)) →
    ∃ (v0 : (c : Dev Cert.ProjQkvIdeal.nD) → Buf (Elt Ideal) ((c.tc : Thread Cert.ProjQkvIdeal.nD Cert.ProjQkvIdeal.τ).loc Cert.ProjQkvIdeal.main_v0)),
      θ_run (Cert.ProjQkvIdeal.defs (F := Ideal)) (onTc (τ := Cert.ProjQkvIdeal.τ) (Cert.ProjQkvIdeal.main (F := Ideal))) ⟨m, fun _ => 0, g⟩ (fun r => ∀ c : Dev Cert.ProjQkvIdeal.nD,
          r.2.mem ((c.tc : Thread Cert.ProjQkvIdeal.nD Cert.ProjQkvIdeal.τ).loc Cert.ProjQkvIdeal.main_v0) = v0 c
          ∧ r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
          ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ θ_run (Cert.ProjQkvRefIdeal.defs (F := Ideal)) (onTc (τ := Cert.ProjQkvRefIdeal.τ) (Cert.ProjQkvRefIdeal.main (F := Ideal))) ⟨m', fun _ => 0, g'⟩ (fun r => ∀ c : Dev Cert.ProjQkvRefIdeal.nD,
          r.2.mem ((c.tc : Thread Cert.ProjQkvRefIdeal.nD Cert.ProjQkvRefIdeal.τ).loc Cert.ProjQkvRefIdeal.main_v1) = v0 c
          ∧ r.2.mem ((c.tc : Thread Cert.ProjQkvRefIdeal.nD Cert.ProjQkvRefIdeal.τ).loc Cert.ProjQkvRefIdeal.main_arg0) = m' ((c.tc : Thread Cert.ProjQkvRefIdeal.nD Cert.ProjQkvRefIdeal.τ).loc Cert.ProjQkvRefIdeal.main_arg0)
          ∧ r.2.mem ((c.tc : Thread Cert.ProjQkvRefIdeal.nD Cert.ProjQkvRefIdeal.τ).loc Cert.ProjQkvRefIdeal.main_arg1) = m' ((c.tc : Thread Cert.ProjQkvRefIdeal.nD Cert.ProjQkvRefIdeal.τ).loc Cert.ProjQkvRefIdeal.main_arg1))

def preserves_BackOut_BackOutIdeal : Prop :=
  True

def algebraic_BackOutIdeal_BackOutRefIdeal [hBackOutIdeal : Cert.BackOutIdeal.Facts] [hBackOutRefIdeal : Cert.BackOutRefIdeal.Facts] : Prop :=
  ∀ (m : (ℓ : Loc Cert.BackOutIdeal.nD Cert.BackOutIdeal.τ Cert.BackOutIdeal.sig) → Buf (Elt Ideal) ℓ) (g : Dev Cert.BackOutIdeal.nD → PrngReg)
    (m' : (ℓ : Loc Cert.BackOutRefIdeal.nD Cert.BackOutRefIdeal.τ Cert.BackOutRefIdeal.sig) → Buf (Elt Ideal) ℓ) (g' : Dev Cert.BackOutRefIdeal.nD → PrngReg), Pre_BackOutIdeal m →
    (∀ c : Dev Cert.BackOutIdeal.nD,
      m' ((c.tc : Thread Cert.BackOutRefIdeal.nD Cert.BackOutRefIdeal.τ).loc Cert.BackOutRefIdeal.main_arg0) = m ((c.tc : Thread Cert.BackOutIdeal.nD Cert.BackOutIdeal.τ).loc Cert.BackOutIdeal.main_arg0)
      ∧ m' ((c.tc : Thread Cert.BackOutRefIdeal.nD Cert.BackOutRefIdeal.τ).loc Cert.BackOutRefIdeal.main_arg1) = m ((c.tc : Thread Cert.BackOutIdeal.nD Cert.BackOutIdeal.τ).loc Cert.BackOutIdeal.main_arg1)) →
    ∃ (v0 : (c : Dev Cert.BackOutIdeal.nD) → Buf (Elt Ideal) ((c.tc : Thread Cert.BackOutIdeal.nD Cert.BackOutIdeal.τ).loc Cert.BackOutIdeal.main_v0)),
      θ_run (Cert.BackOutIdeal.defs (F := Ideal)) (onTc (τ := Cert.BackOutIdeal.τ) (Cert.BackOutIdeal.main (F := Ideal))) ⟨m, fun _ => 0, g⟩ (fun r => ∀ c : Dev Cert.BackOutIdeal.nD,
          r.2.mem ((c.tc : Thread Cert.BackOutIdeal.nD Cert.BackOutIdeal.τ).loc Cert.BackOutIdeal.main_v0) = v0 c
          ∧ r.2.mem ((c.tc : Thread Cert.BackOutIdeal.nD Cert.BackOutIdeal.τ).loc Cert.BackOutIdeal.main_arg0) = m ((c.tc : Thread Cert.BackOutIdeal.nD Cert.BackOutIdeal.τ).loc Cert.BackOutIdeal.main_arg0)
          ∧ r.2.mem ((c.tc : Thread Cert.BackOutIdeal.nD Cert.BackOutIdeal.τ).loc Cert.BackOutIdeal.main_arg1) = m ((c.tc : Thread Cert.BackOutIdeal.nD Cert.BackOutIdeal.τ).loc Cert.BackOutIdeal.main_arg1))
      ∧ θ_run (Cert.BackOutRefIdeal.defs (F := Ideal)) (onTc (τ := Cert.BackOutRefIdeal.τ) (Cert.BackOutRefIdeal.main (F := Ideal))) ⟨m', fun _ => 0, g'⟩ (fun r => ∀ c : Dev Cert.BackOutRefIdeal.nD,
          r.2.mem ((c.tc : Thread Cert.BackOutRefIdeal.nD Cert.BackOutRefIdeal.τ).loc Cert.BackOutRefIdeal.main_v1) = v0 c
          ∧ r.2.mem ((c.tc : Thread Cert.BackOutRefIdeal.nD Cert.BackOutRefIdeal.τ).loc Cert.BackOutRefIdeal.main_arg0) = m' ((c.tc : Thread Cert.BackOutRefIdeal.nD Cert.BackOutRefIdeal.τ).loc Cert.BackOutRefIdeal.main_arg0)
          ∧ r.2.mem ((c.tc : Thread Cert.BackOutRefIdeal.nD Cert.BackOutRefIdeal.τ).loc Cert.BackOutRefIdeal.main_arg1) = m' ((c.tc : Thread Cert.BackOutRefIdeal.nD Cert.BackOutRefIdeal.τ).loc Cert.BackOutRefIdeal.main_arg1))

def preserves_GradDown_GradDownIdeal : Prop :=
  True

def algebraic_GradDownIdeal_GradDownRefIdeal [hGradDownIdeal : Cert.GradDownIdeal.Facts] [hGradDownRefIdeal : Cert.GradDownRefIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownRefIdeal.nD Cert.GradDownRefIdeal.τ Cert.GradDownRefIdeal.sig) → Buf (Elt Ideal) ℓ) (g' : Dev Cert.GradDownRefIdeal.nD → PrngReg), Pre_GradDownIdeal m →
    (∀ c : Dev Cert.GradDownIdeal.nD,
      m' ((c.tc : Thread Cert.GradDownRefIdeal.nD Cert.GradDownRefIdeal.τ).loc Cert.GradDownRefIdeal.main_arg0) = m ((c.tc : Thread Cert.GradDownIdeal.nD Cert.GradDownIdeal.τ).loc Cert.GradDownIdeal.main_arg0)
      ∧ m' ((c.tc : Thread Cert.GradDownRefIdeal.nD Cert.GradDownRefIdeal.τ).loc Cert.GradDownRefIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v0)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v0) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.GradDownRefIdeal.defs (F := Ideal)) (onTc (τ := Cert.GradDownRefIdeal.τ) (Cert.GradDownRefIdeal.main (F := Ideal))) ⟨m', fun _ => 0, g'⟩ (fun r => ∀ c : Dev Cert.GradDownRefIdeal.nD,
          r.2.mem ((c.tc : Thread Cert.GradDownRefIdeal.nD Cert.GradDownRefIdeal.τ).loc Cert.GradDownRefIdeal.main_v5) = v0 c
          ∧ r.2.mem ((c.tc : Thread Cert.GradDownRefIdeal.nD Cert.GradDownRefIdeal.τ).loc Cert.GradDownRefIdeal.main_arg0) = m' ((c.tc : Thread Cert.GradDownRefIdeal.nD Cert.GradDownRefIdeal.τ).loc Cert.GradDownRefIdeal.main_arg0)
          ∧ r.2.mem ((c.tc : Thread Cert.GradDownRefIdeal.nD Cert.GradDownRefIdeal.τ).loc Cert.GradDownRefIdeal.main_arg1) = m' ((c.tc : Thread Cert.GradDownRefIdeal.nD Cert.GradDownRefIdeal.τ).loc Cert.GradDownRefIdeal.main_arg1))

def preserves_GradUp_GradUpIdeal : Prop :=
  True

def algebraic_GradUpIdeal_GradUpRefIdeal [hGradUpIdeal : Cert.GradUpIdeal.Facts] [hGradUpRefIdeal : Cert.GradUpRefIdeal.Facts] : Prop :=
  ∀ (m : (ℓ : Loc Cert.GradUpIdeal.nD Cert.GradUpIdeal.τ Cert.GradUpIdeal.sig) → Buf (Elt Ideal) ℓ) (g : Dev Cert.GradUpIdeal.nD → PrngReg)
    (m' : (ℓ : Loc Cert.GradUpRefIdeal.nD Cert.GradUpRefIdeal.τ Cert.GradUpRefIdeal.sig) → Buf (Elt Ideal) ℓ) (g' : Dev Cert.GradUpRefIdeal.nD → PrngReg), Pre_GradUpIdeal m →
    (∀ c : Dev Cert.GradUpIdeal.nD,
      m' ((c.tc : Thread Cert.GradUpRefIdeal.nD Cert.GradUpRefIdeal.τ).loc Cert.GradUpRefIdeal.main_arg0) = m ((c.tc : Thread Cert.GradUpIdeal.nD Cert.GradUpIdeal.τ).loc Cert.GradUpIdeal.main_arg0)
      ∧ m' ((c.tc : Thread Cert.GradUpRefIdeal.nD Cert.GradUpRefIdeal.τ).loc Cert.GradUpRefIdeal.main_arg1) = m ((c.tc : Thread Cert.GradUpIdeal.nD Cert.GradUpIdeal.τ).loc Cert.GradUpIdeal.main_arg1)) →
    ∃ (v0 : (c : Dev Cert.GradUpIdeal.nD) → Buf (Elt Ideal) ((c.tc : Thread Cert.GradUpIdeal.nD Cert.GradUpIdeal.τ).loc Cert.GradUpIdeal.main_v0)),
      θ_run (Cert.GradUpIdeal.defs (F := Ideal)) (onTc (τ := Cert.GradUpIdeal.τ) (Cert.GradUpIdeal.main (F := Ideal))) ⟨m, fun _ => 0, g⟩ (fun r => ∀ c : Dev Cert.GradUpIdeal.nD,
          r.2.mem ((c.tc : Thread Cert.GradUpIdeal.nD Cert.GradUpIdeal.τ).loc Cert.GradUpIdeal.main_v0) = v0 c
          ∧ r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
          ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ θ_run (Cert.GradUpRefIdeal.defs (F := Ideal)) (onTc (τ := Cert.GradUpRefIdeal.τ) (Cert.GradUpRefIdeal.main (F := Ideal))) ⟨m', fun _ => 0, g'⟩ (fun r => ∀ c : Dev Cert.GradUpRefIdeal.nD,
          r.2.mem ((c.tc : Thread Cert.GradUpRefIdeal.nD Cert.GradUpRefIdeal.τ).loc Cert.GradUpRefIdeal.main_v2) = v0 c
          ∧ r.2.mem ((c.tc : Thread Cert.GradUpRefIdeal.nD Cert.GradUpRefIdeal.τ).loc Cert.GradUpRefIdeal.main_arg0) = m' ((c.tc : Thread Cert.GradUpRefIdeal.nD Cert.GradUpRefIdeal.τ).loc Cert.GradUpRefIdeal.main_arg0)
          ∧ r.2.mem ((c.tc : Thread Cert.GradUpRefIdeal.nD Cert.GradUpRefIdeal.τ).loc Cert.GradUpRefIdeal.main_arg1) = m' ((c.tc : Thread Cert.GradUpRefIdeal.nD Cert.GradUpRefIdeal.τ).loc Cert.GradUpRefIdeal.main_arg1))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m' ((c.tc : Thread Cert.GradInRefIdeal.nD Cert.GradInRefIdeal.τ).loc Cert.GradInRefIdeal.main_arg0) = m ((c.tc : Thread Cert.GradInIdeal.nD Cert.GradInIdeal.τ).loc Cert.GradInIdeal.main_arg0)
      ∧ m' ((c.tc : Thread Cert.GradInRefIdeal.nD Cert.GradInRefIdeal.τ).loc Cert.GradInRefIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v0)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInRefIdeal.defs (F := Ideal)) (onTc (τ := Cert.GradInRefIdeal.τ) (Cert.GradInRefIdeal.main (F := Ideal))) ⟨m', fun _ => 0, g'⟩ (fun r => ∀ c : Dev Cert.GradInRefIdeal.nD,
          r.2.mem ((c.tc : Thread Cert.GradInRefIdeal.nD Cert.GradInRefIdeal.τ).loc Cert.GradInRefIdeal.main_v2) = v0 c
          ∧ r.2.mem ((c.tc : Thread Cert.GradInRefIdeal.nD Cert.GradInRefIdeal.τ).loc Cert.GradInRefIdeal.main_arg0) = m' ((c.tc : Thread Cert.GradInRefIdeal.nD Cert.GradInRefIdeal.τ).loc Cert.GradInRefIdeal.main_arg0)
          ∧ r.2.mem ((c.tc : Thread Cert.GradInRefIdeal.nD Cert.GradInRefIdeal.τ).loc Cert.GradInRefIdeal.main_arg1) = m' ((c.tc : Thread Cert.GradInRefIdeal.nD Cert.GradInRefIdeal.τ).loc Cert.GradInRefIdeal.main_arg1))

def preserves_GradQkv_GradQkvIdeal : Prop :=
  True

def algebraic_GradQkvIdeal_GradQkvRefIdeal [hGradQkvIdeal : Cert.GradQkvIdeal.Facts] [hGradQkvRefIdeal : Cert.GradQkvRefIdeal.Facts] : Prop :=
  ∀ (m : (ℓ : Loc Cert.GradQkvIdeal.nD Cert.GradQkvIdeal.τ Cert.GradQkvIdeal.sig) → Buf (Elt Ideal) ℓ) (g : Dev Cert.GradQkvIdeal.nD → PrngReg)
    (m' : (ℓ : Loc Cert.GradQkvRefIdeal.nD Cert.GradQkvRefIdeal.τ Cert.GradQkvRefIdeal.sig) → Buf (Elt Ideal) ℓ) (g' : Dev Cert.GradQkvRefIdeal.nD → PrngReg), Pre_GradQkvIdeal m →
    (∀ c : Dev Cert.GradQkvIdeal.nD,
      m' ((c.tc : Thread Cert.GradQkvRefIdeal.nD Cert.GradQkvRefIdeal.τ).loc Cert.GradQkvRefIdeal.main_arg0) = m ((c.tc : Thread Cert.GradQkvIdeal.nD Cert.GradQkvIdeal.τ).loc Cert.GradQkvIdeal.main_arg0)
      ∧ m' ((c.tc : Thread Cert.GradQkvRefIdeal.nD Cert.GradQkvRefIdeal.τ).loc Cert.GradQkvRefIdeal.main_arg1) = m ((c.tc : Thread Cert.GradQkvIdeal.nD Cert.GradQkvIdeal.τ).loc Cert.GradQkvIdeal.main_arg1)) →
    ∃ (v0 : (c : Dev Cert.GradQkvIdeal.nD) → Buf (Elt Ideal) ((c.tc : Thread Cert.GradQkvIdeal.nD Cert.GradQkvIdeal.τ).loc Cert.GradQkvIdeal.main_v0)),
      θ_run (Cert.GradQkvIdeal.defs (F := Ideal)) (onTc (τ := Cert.GradQkvIdeal.τ) (Cert.GradQkvIdeal.main (F := Ideal))) ⟨m, fun _ => 0, g⟩ (fun r => ∀ c : Dev Cert.GradQkvIdeal.nD,
          r.2.mem ((c.tc : Thread Cert.GradQkvIdeal.nD Cert.GradQkvIdeal.τ).loc Cert.GradQkvIdeal.main_v0) = v0 c
          ∧ r.2.mem ((c.tc : Thread Cert.GradQkvIdeal.nD Cert.GradQkvIdeal.τ).loc Cert.GradQkvIdeal.main_arg0) = m ((c.tc : Thread Cert.GradQkvIdeal.nD Cert.GradQkvIdeal.τ).loc Cert.GradQkvIdeal.main_arg0)
          ∧ r.2.mem ((c.tc : Thread Cert.GradQkvIdeal.nD Cert.GradQkvIdeal.τ).loc Cert.GradQkvIdeal.main_arg1) = m ((c.tc : Thread Cert.GradQkvIdeal.nD Cert.GradQkvIdeal.τ).loc Cert.GradQkvIdeal.main_arg1))
      ∧ θ_run (Cert.GradQkvRefIdeal.defs (F := Ideal)) (onTc (τ := Cert.GradQkvRefIdeal.τ) (Cert.GradQkvRefIdeal.main (F := Ideal))) ⟨m', fun _ => 0, g'⟩ (fun r => ∀ c : Dev Cert.GradQkvRefIdeal.nD,
          r.2.mem ((c.tc : Thread Cert.GradQkvRefIdeal.nD Cert.GradQkvRefIdeal.τ).loc Cert.GradQkvRefIdeal.main_v2) = v0 c
          ∧ r.2.mem ((c.tc : Thread Cert.GradQkvRefIdeal.nD Cert.GradQkvRefIdeal.τ).loc Cert.GradQkvRefIdeal.main_arg0) = m' ((c.tc : Thread Cert.GradQkvRefIdeal.nD Cert.GradQkvRefIdeal.τ).loc Cert.GradQkvRefIdeal.main_arg0)
          ∧ r.2.mem ((c.tc : Thread Cert.GradQkvRefIdeal.nD Cert.GradQkvRefIdeal.τ).loc Cert.GradQkvRefIdeal.main_arg1) = m' ((c.tc : Thread Cert.GradQkvRefIdeal.nD Cert.GradQkvRefIdeal.τ).loc Cert.GradQkvRefIdeal.main_arg1))

def preserves_GradO_GradOIdeal : Prop :=
  True

def algebraic_GradOIdeal_GradORefIdeal [hGradOIdeal : Cert.GradOIdeal.Facts] [hGradORefIdeal : Cert.GradORefIdeal.Facts] : Prop :=
  ∀ (m : (ℓ : Loc Cert.GradOIdeal.nD Cert.GradOIdeal.τ Cert.GradOIdeal.sig) → Buf (Elt Ideal) ℓ) (g : Dev Cert.GradOIdeal.nD → PrngReg)
    (m' : (ℓ : Loc Cert.GradORefIdeal.nD Cert.GradORefIdeal.τ Cert.GradORefIdeal.sig) → Buf (Elt Ideal) ℓ) (g' : Dev Cert.GradORefIdeal.nD → PrngReg), Pre_GradOIdeal m →
    (∀ c : Dev Cert.GradOIdeal.nD,
      m' ((c.tc : Thread Cert.GradORefIdeal.nD Cert.GradORefIdeal.τ).loc Cert.GradORefIdeal.main_arg0) = m ((c.tc : Thread Cert.GradOIdeal.nD Cert.GradOIdeal.τ).loc Cert.GradOIdeal.main_arg0)
      ∧ m' ((c.tc : Thread Cert.GradORefIdeal.nD Cert.GradORefIdeal.τ).loc Cert.GradORefIdeal.main_arg1) = m ((c.tc : Thread Cert.GradOIdeal.nD Cert.GradOIdeal.τ).loc Cert.GradOIdeal.main_arg1)) →
    ∃ (v0 : (c : Dev Cert.GradOIdeal.nD) → Buf (Elt Ideal) ((c.tc : Thread Cert.GradOIdeal.nD Cert.GradOIdeal.τ).loc Cert.GradOIdeal.main_v0)),
      θ_run (Cert.GradOIdeal.defs (F := Ideal)) (onTc (τ := Cert.GradOIdeal.τ) (Cert.GradOIdeal.main (F := Ideal))) ⟨m, fun _ => 0, g⟩ (fun r => ∀ c : Dev Cert.GradOIdeal.nD,
          r.2.mem ((c.tc : Thread Cert.GradOIdeal.nD Cert.GradOIdeal.τ).loc Cert.GradOIdeal.main_v0) = v0 c
          ∧ r.2.mem ((c.tc : Thread Cert.GradOIdeal.nD Cert.GradOIdeal.τ).loc Cert.GradOIdeal.main_arg0) = m ((c.tc : Thread Cert.GradOIdeal.nD Cert.GradOIdeal.τ).loc Cert.GradOIdeal.main_arg0)
          ∧ r.2.mem ((c.tc : Thread Cert.GradOIdeal.nD Cert.GradOIdeal.τ).loc Cert.GradOIdeal.main_arg1) = m ((c.tc : Thread Cert.GradOIdeal.nD Cert.GradOIdeal.τ).loc Cert.GradOIdeal.main_arg1))
      ∧ θ_run (Cert.GradORefIdeal.defs (F := Ideal)) (onTc (τ := Cert.GradORefIdeal.τ) (Cert.GradORefIdeal.main (F := Ideal))) ⟨m', fun _ => 0, g'⟩ (fun r => ∀ c : Dev Cert.GradORefIdeal.nD,
          r.2.mem ((c.tc : Thread Cert.GradORefIdeal.nD Cert.GradORefIdeal.τ).loc Cert.GradORefIdeal.main_v2) = v0 c
          ∧ r.2.mem ((c.tc : Thread Cert.GradORefIdeal.nD Cert.GradORefIdeal.τ).loc Cert.GradORefIdeal.main_arg0) = m' ((c.tc : Thread Cert.GradORefIdeal.nD Cert.GradORefIdeal.τ).loc Cert.GradORefIdeal.main_arg0)
          ∧ r.2.mem ((c.tc : Thread Cert.GradORefIdeal.nD Cert.GradORefIdeal.τ).loc Cert.GradORefIdeal.main_arg1) = m' ((c.tc : Thread Cert.GradORefIdeal.nD Cert.GradORefIdeal.τ).loc Cert.GradORefIdeal.main_arg1))

def preserves_RowOut_RowOutIdeal : Prop :=
  True

def algebraic_RowOutIdeal_RowOutRefIdeal [hRowOutIdeal : Cert.RowOutIdeal.Facts] [hRowOutRefIdeal : Cert.RowOutRefIdeal.Facts] : Prop :=
  ∀ (m : (ℓ : Loc Cert.RowOutIdeal.nD Cert.RowOutIdeal.τ Cert.RowOutIdeal.sig) → Buf (Elt Ideal) ℓ) (g : Dev Cert.RowOutIdeal.nD → PrngReg)
    (m' : (ℓ : Loc Cert.RowOutRefIdeal.nD Cert.RowOutRefIdeal.τ Cert.RowOutRefIdeal.sig) → Buf (Elt Ideal) ℓ) (g' : Dev Cert.RowOutRefIdeal.nD → PrngReg), Pre_RowOutIdeal m →
    (∀ c : Dev Cert.RowOutIdeal.nD,
      m' ((c.tc : Thread Cert.RowOutRefIdeal.nD Cert.RowOutRefIdeal.τ).loc Cert.RowOutRefIdeal.main_arg0) = m ((c.tc : Thread Cert.RowOutIdeal.nD Cert.RowOutIdeal.τ).loc Cert.RowOutIdeal.main_arg0)
      ∧ m' ((c.tc : Thread Cert.RowOutRefIdeal.nD Cert.RowOutRefIdeal.τ).loc Cert.RowOutRefIdeal.main_arg1) = m ((c.tc : Thread Cert.RowOutIdeal.nD Cert.RowOutIdeal.τ).loc Cert.RowOutIdeal.main_arg1)
      ∧ m' ((c.tc : Thread Cert.RowOutRefIdeal.nD Cert.RowOutRefIdeal.τ).loc Cert.RowOutRefIdeal.main_arg2) = m ((c.tc : Thread Cert.RowOutIdeal.nD Cert.RowOutIdeal.τ).loc Cert.RowOutIdeal.main_arg2)
      ∧ m' ((c.tc : Thread Cert.RowOutRefIdeal.nD Cert.RowOutRefIdeal.τ).loc Cert.RowOutRefIdeal.main_arg3) = m ((c.tc : Thread Cert.RowOutIdeal.nD Cert.RowOutIdeal.τ).loc Cert.RowOutIdeal.main_arg3)) →
    ∃ (v0 : (c : Dev Cert.RowOutIdeal.nD) → Buf (Elt Ideal) ((c.tc : Thread Cert.RowOutIdeal.nD Cert.RowOutIdeal.τ).loc Cert.RowOutIdeal.main_v0_0)) (v1 : (c : Dev Cert.RowOutIdeal.nD) → Buf (Elt Ideal) ((c.tc : Thread Cert.RowOutIdeal.nD Cert.RowOutIdeal.τ).loc Cert.RowOutIdeal.main_v0_1)),
      θ_run (Cert.RowOutIdeal.defs (F := Ideal)) (onTc (τ := Cert.RowOutIdeal.τ) (Cert.RowOutIdeal.main (F := Ideal))) ⟨m, fun _ => 0, g⟩ (fun r => ∀ c : Dev Cert.RowOutIdeal.nD,
          r.2.mem ((c.tc : Thread Cert.RowOutIdeal.nD Cert.RowOutIdeal.τ).loc Cert.RowOutIdeal.main_v0_0) = v0 c
          ∧ r.2.mem ((c.tc : Thread Cert.RowOutIdeal.nD Cert.RowOutIdeal.τ).loc Cert.RowOutIdeal.main_v0_1) = v1 c
          ∧ r.2.mem ((c.tc : Thread Cert.RowOutIdeal.nD Cert.RowOutIdeal.τ).loc Cert.RowOutIdeal.main_arg0) = m ((c.tc : Thread Cert.RowOutIdeal.nD Cert.RowOutIdeal.τ).loc Cert.RowOutIdeal.main_arg0)
          ∧ r.2.mem ((c.tc : Thread Cert.RowOutIdeal.nD Cert.RowOutIdeal.τ).loc Cert.RowOutIdeal.main_arg1) = m ((c.tc : Thread Cert.RowOutIdeal.nD Cert.RowOutIdeal.τ).loc Cert.RowOutIdeal.main_arg1)
          ∧ r.2.mem ((c.tc : Thread Cert.RowOutIdeal.nD Cert.RowOutIdeal.τ).loc Cert.RowOutIdeal.main_arg2) = m ((c.tc : Thread Cert.RowOutIdeal.nD Cert.RowOutIdeal.τ).loc Cert.RowOutIdeal.main_arg2)
          ∧ r.2.mem ((c.tc : Thread Cert.RowOutIdeal.nD Cert.RowOutIdeal.τ).loc Cert.RowOutIdeal.main_arg3) = m ((c.tc : Thread Cert.RowOutIdeal.nD Cert.RowOutIdeal.τ).loc Cert.RowOutIdeal.main_arg3))
      ∧ θ_run (Cert.RowOutRefIdeal.defs (F := Ideal)) (onTc (τ := Cert.RowOutRefIdeal.τ) (Cert.RowOutRefIdeal.main (F := Ideal))) ⟨m', fun _ => 0, g'⟩ (fun r => ∀ c : Dev Cert.RowOutRefIdeal.nD,
          r.2.mem ((c.tc : Thread Cert.RowOutRefIdeal.nD Cert.RowOutRefIdeal.τ).loc Cert.RowOutRefIdeal.main_v1) = v0 c
          ∧ r.2.mem ((c.tc : Thread Cert.RowOutRefIdeal.nD Cert.RowOutRefIdeal.τ).loc Cert.RowOutRefIdeal.main_v14) = v1 c
          ∧ r.2.mem ((c.tc : Thread Cert.RowOutRefIdeal.nD Cert.RowOutRefIdeal.τ).loc Cert.RowOutRefIdeal.main_arg0) = m' ((c.tc : Thread Cert.RowOutRefIdeal.nD Cert.RowOutRefIdeal.τ).loc Cert.RowOutRefIdeal.main_arg0)
          ∧ r.2.mem ((c.tc : Thread Cert.RowOutRefIdeal.nD Cert.RowOutRefIdeal.τ).loc Cert.RowOutRefIdeal.main_arg1) = m' ((c.tc : Thread Cert.RowOutRefIdeal.nD Cert.RowOutRefIdeal.τ).loc Cert.RowOutRefIdeal.main_arg1)
          ∧ r.2.mem ((c.tc : Thread Cert.RowOutRefIdeal.nD Cert.RowOutRefIdeal.τ).loc Cert.RowOutRefIdeal.main_arg2) = m' ((c.tc : Thread Cert.RowOutRefIdeal.nD Cert.RowOutRefIdeal.τ).loc Cert.RowOutRefIdeal.main_arg2)
          ∧ r.2.mem ((c.tc : Thread Cert.RowOutRefIdeal.nD Cert.RowOutRefIdeal.τ).loc Cert.RowOutRefIdeal.main_arg3) = m' ((c.tc : Thread Cert.RowOutRefIdeal.nD Cert.RowOutRefIdeal.τ).loc Cert.RowOutRefIdeal.main_arg3))

def preserves_RowDown_RowDownIdeal : Prop :=
  True

def algebraic_RowDownIdeal_RowDownRefIdeal [hRowDownIdeal : Cert.RowDownIdeal.Facts] [hRowDownRefIdeal : Cert.RowDownRefIdeal.Facts] : Prop :=
  ∀ (m : (ℓ : Loc Cert.RowDownIdeal.nD Cert.RowDownIdeal.τ Cert.RowDownIdeal.sig) → Buf (Elt Ideal) ℓ) (g : Dev Cert.RowDownIdeal.nD → PrngReg)
    (m' : (ℓ : Loc Cert.RowDownRefIdeal.nD Cert.RowDownRefIdeal.τ Cert.RowDownRefIdeal.sig) → Buf (Elt Ideal) ℓ) (g' : Dev Cert.RowDownRefIdeal.nD → PrngReg), Pre_RowDownIdeal m →
    (∀ c : Dev Cert.RowDownIdeal.nD,
      m' ((c.tc : Thread Cert.RowDownRefIdeal.nD Cert.RowDownRefIdeal.τ).loc Cert.RowDownRefIdeal.main_arg0) = m ((c.tc : Thread Cert.RowDownIdeal.nD Cert.RowDownIdeal.τ).loc Cert.RowDownIdeal.main_arg0)
      ∧ m' ((c.tc : Thread Cert.RowDownRefIdeal.nD Cert.RowDownRefIdeal.τ).loc Cert.RowDownRefIdeal.main_arg1) = m ((c.tc : Thread Cert.RowDownIdeal.nD Cert.RowDownIdeal.τ).loc Cert.RowDownIdeal.main_arg1)
      ∧ m' ((c.tc : Thread Cert.RowDownRefIdeal.nD Cert.RowDownRefIdeal.τ).loc Cert.RowDownRefIdeal.main_arg2) = m ((c.tc : Thread Cert.RowDownIdeal.nD Cert.RowDownIdeal.τ).loc Cert.RowDownIdeal.main_arg2)
      ∧ m' ((c.tc : Thread Cert.RowDownRefIdeal.nD Cert.RowDownRefIdeal.τ).loc Cert.RowDownRefIdeal.main_arg3) = m ((c.tc : Thread Cert.RowDownIdeal.nD Cert.RowDownIdeal.τ).loc Cert.RowDownIdeal.main_arg3)) →
    ∃ (v0 : (c : Dev Cert.RowDownIdeal.nD) → Buf (Elt Ideal) ((c.tc : Thread Cert.RowDownIdeal.nD Cert.RowDownIdeal.τ).loc Cert.RowDownIdeal.main_v0_0)) (v1 : (c : Dev Cert.RowDownIdeal.nD) → Buf (Elt Ideal) ((c.tc : Thread Cert.RowDownIdeal.nD Cert.RowDownIdeal.τ).loc Cert.RowDownIdeal.main_v0_1)),
      θ_run (Cert.RowDownIdeal.defs (F := Ideal)) (onTc (τ := Cert.RowDownIdeal.τ) (Cert.RowDownIdeal.main (F := Ideal))) ⟨m, fun _ => 0, g⟩ (fun r => ∀ c : Dev Cert.RowDownIdeal.nD,
          r.2.mem ((c.tc : Thread Cert.RowDownIdeal.nD Cert.RowDownIdeal.τ).loc Cert.RowDownIdeal.main_v0_0) = v0 c
          ∧ r.2.mem ((c.tc : Thread Cert.RowDownIdeal.nD Cert.RowDownIdeal.τ).loc Cert.RowDownIdeal.main_v0_1) = v1 c
          ∧ r.2.mem ((c.tc : Thread Cert.RowDownIdeal.nD Cert.RowDownIdeal.τ).loc Cert.RowDownIdeal.main_arg0) = m ((c.tc : Thread Cert.RowDownIdeal.nD Cert.RowDownIdeal.τ).loc Cert.RowDownIdeal.main_arg0)
          ∧ r.2.mem ((c.tc : Thread Cert.RowDownIdeal.nD Cert.RowDownIdeal.τ).loc Cert.RowDownIdeal.main_arg1) = m ((c.tc : Thread Cert.RowDownIdeal.nD Cert.RowDownIdeal.τ).loc Cert.RowDownIdeal.main_arg1)
          ∧ r.2.mem ((c.tc : Thread Cert.RowDownIdeal.nD Cert.RowDownIdeal.τ).loc Cert.RowDownIdeal.main_arg2) = m ((c.tc : Thread Cert.RowDownIdeal.nD Cert.RowDownIdeal.τ).loc Cert.RowDownIdeal.main_arg2)
          ∧ r.2.mem ((c.tc : Thread Cert.RowDownIdeal.nD Cert.RowDownIdeal.τ).loc Cert.RowDownIdeal.main_arg3) = m ((c.tc : Thread Cert.RowDownIdeal.nD Cert.RowDownIdeal.τ).loc Cert.RowDownIdeal.main_arg3))
      ∧ θ_run (Cert.RowDownRefIdeal.defs (F := Ideal)) (onTc (τ := Cert.RowDownRefIdeal.τ) (Cert.RowDownRefIdeal.main (F := Ideal))) ⟨m', fun _ => 0, g'⟩ (fun r => ∀ c : Dev Cert.RowDownRefIdeal.nD,
          r.2.mem ((c.tc : Thread Cert.RowDownRefIdeal.nD Cert.RowDownRefIdeal.τ).loc Cert.RowDownRefIdeal.main_v4) = v0 c
          ∧ r.2.mem ((c.tc : Thread Cert.RowDownRefIdeal.nD Cert.RowDownRefIdeal.τ).loc Cert.RowDownRefIdeal.main_v17) = v1 c
          ∧ r.2.mem ((c.tc : Thread Cert.RowDownRefIdeal.nD Cert.RowDownRefIdeal.τ).loc Cert.RowDownRefIdeal.main_arg0) = m' ((c.tc : Thread Cert.RowDownRefIdeal.nD Cert.RowDownRefIdeal.τ).loc Cert.RowDownRefIdeal.main_arg0)
          ∧ r.2.mem ((c.tc : Thread Cert.RowDownRefIdeal.nD Cert.RowDownRefIdeal.τ).loc Cert.RowDownRefIdeal.main_arg1) = m' ((c.tc : Thread Cert.RowDownRefIdeal.nD Cert.RowDownRefIdeal.τ).loc Cert.RowDownRefIdeal.main_arg1)
          ∧ r.2.mem ((c.tc : Thread Cert.RowDownRefIdeal.nD Cert.RowDownRefIdeal.τ).loc Cert.RowDownRefIdeal.main_arg2) = m' ((c.tc : Thread Cert.RowDownRefIdeal.nD Cert.RowDownRefIdeal.τ).loc Cert.RowDownRefIdeal.main_arg2)
          ∧ r.2.mem ((c.tc : Thread Cert.RowDownRefIdeal.nD Cert.RowDownRefIdeal.τ).loc Cert.RowDownRefIdeal.main_arg3) = m' ((c.tc : Thread Cert.RowDownRefIdeal.nD Cert.RowDownRefIdeal.τ).loc Cert.RowDownRefIdeal.main_arg3))

def preserves_RowLast_RowLastIdeal : Prop :=
  True

def algebraic_RowLastIdeal_RowLastRefIdeal [hRowLastIdeal : Cert.RowLastIdeal.Facts] [hRowLastRefIdeal : Cert.RowLastRefIdeal.Facts] : Prop :=
  ∀ (m : (ℓ : Loc Cert.RowLastIdeal.nD Cert.RowLastIdeal.τ Cert.RowLastIdeal.sig) → Buf (Elt Ideal) ℓ) (g : Dev Cert.RowLastIdeal.nD → PrngReg)
    (m' : (ℓ : Loc Cert.RowLastRefIdeal.nD Cert.RowLastRefIdeal.τ Cert.RowLastRefIdeal.sig) → Buf (Elt Ideal) ℓ) (g' : Dev Cert.RowLastRefIdeal.nD → PrngReg), Pre_RowLastIdeal m →
    (∀ c : Dev Cert.RowLastIdeal.nD,
      m' ((c.tc : Thread Cert.RowLastRefIdeal.nD Cert.RowLastRefIdeal.τ).loc Cert.RowLastRefIdeal.main_arg0) = m ((c.tc : Thread Cert.RowLastIdeal.nD Cert.RowLastIdeal.τ).loc Cert.RowLastIdeal.main_arg0)
      ∧ m' ((c.tc : Thread Cert.RowLastRefIdeal.nD Cert.RowLastRefIdeal.τ).loc Cert.RowLastRefIdeal.main_arg1) = m ((c.tc : Thread Cert.RowLastIdeal.nD Cert.RowLastIdeal.τ).loc Cert.RowLastIdeal.main_arg1)
      ∧ m' ((c.tc : Thread Cert.RowLastRefIdeal.nD Cert.RowLastRefIdeal.τ).loc Cert.RowLastRefIdeal.main_arg2) = m ((c.tc : Thread Cert.RowLastIdeal.nD Cert.RowLastIdeal.τ).loc Cert.RowLastIdeal.main_arg2)) →
    ∃ (v0 : (c : Dev Cert.RowLastIdeal.nD) → Buf (Elt Ideal) ((c.tc : Thread Cert.RowLastIdeal.nD Cert.RowLastIdeal.τ).loc Cert.RowLastIdeal.main_v0)),
      θ_run (Cert.RowLastIdeal.defs (F := Ideal)) (onTc (τ := Cert.RowLastIdeal.τ) (Cert.RowLastIdeal.main (F := Ideal))) ⟨m, fun _ => 0, g⟩ (fun r => ∀ c : Dev Cert.RowLastIdeal.nD,
          r.2.mem ((c.tc : Thread Cert.RowLastIdeal.nD Cert.RowLastIdeal.τ).loc Cert.RowLastIdeal.main_v0) = v0 c
          ∧ r.2.mem ((c.tc : Thread Cert.RowLastIdeal.nD Cert.RowLastIdeal.τ).loc Cert.RowLastIdeal.main_arg0) = m ((c.tc : Thread Cert.RowLastIdeal.nD Cert.RowLastIdeal.τ).loc Cert.RowLastIdeal.main_arg0)
          ∧ r.2.mem ((c.tc : Thread Cert.RowLastIdeal.nD Cert.RowLastIdeal.τ).loc Cert.RowLastIdeal.main_arg1) = m ((c.tc : Thread Cert.RowLastIdeal.nD Cert.RowLastIdeal.τ).loc Cert.RowLastIdeal.main_arg1)
          ∧ r.2.mem ((c.tc : Thread Cert.RowLastIdeal.nD Cert.RowLastIdeal.τ).loc Cert.RowLastIdeal.main_arg2) = m ((c.tc : Thread Cert.RowLastIdeal.nD Cert.RowLastIdeal.τ).loc Cert.RowLastIdeal.main_arg2))
      ∧ θ_run (Cert.RowLastRefIdeal.defs (F := Ideal)) (onTc (τ := Cert.RowLastRefIdeal.τ) (Cert.RowLastRefIdeal.main (F := Ideal))) ⟨m', fun _ => 0, g'⟩ (fun r => ∀ c : Dev Cert.RowLastRefIdeal.nD,
          r.2.mem ((c.tc : Thread Cert.RowLastRefIdeal.nD Cert.RowLastRefIdeal.τ).loc Cert.RowLastRefIdeal.main_v4) = v0 c
          ∧ r.2.mem ((c.tc : Thread Cert.RowLastRefIdeal.nD Cert.RowLastRefIdeal.τ).loc Cert.RowLastRefIdeal.main_arg0) = m' ((c.tc : Thread Cert.RowLastRefIdeal.nD Cert.RowLastRefIdeal.τ).loc Cert.RowLastRefIdeal.main_arg0)
          ∧ r.2.mem ((c.tc : Thread Cert.RowLastRefIdeal.nD Cert.RowLastRefIdeal.τ).loc Cert.RowLastRefIdeal.main_arg1) = m' ((c.tc : Thread Cert.RowLastRefIdeal.nD Cert.RowLastRefIdeal.τ).loc Cert.RowLastRefIdeal.main_arg1)
          ∧ r.2.mem ((c.tc : Thread Cert.RowLastRefIdeal.nD Cert.RowLastRefIdeal.τ).loc Cert.RowLastRefIdeal.main_arg2) = m' ((c.tc : Thread Cert.RowLastRefIdeal.nD Cert.RowLastRefIdeal.τ).loc Cert.RowLastRefIdeal.main_arg2))

def preserves_RowUp_RowUpIdeal : Prop :=
  True

def algebraic_RowUpIdeal_RowUpRefIdeal [hRowUpIdeal : Cert.RowUpIdeal.Facts] [hRowUpRefIdeal : Cert.RowUpRefIdeal.Facts] : Prop :=
  ∀ (m : (ℓ : Loc Cert.RowUpIdeal.nD Cert.RowUpIdeal.τ Cert.RowUpIdeal.sig) → Buf (Elt Ideal) ℓ) (g : Dev Cert.RowUpIdeal.nD → PrngReg)
    (m' : (ℓ : Loc Cert.RowUpRefIdeal.nD Cert.RowUpRefIdeal.τ Cert.RowUpRefIdeal.sig) → Buf (Elt Ideal) ℓ) (g' : Dev Cert.RowUpRefIdeal.nD → PrngReg), Pre_RowUpIdeal m →
    (∀ c : Dev Cert.RowUpIdeal.nD,
      m' ((c.tc : Thread Cert.RowUpRefIdeal.nD Cert.RowUpRefIdeal.τ).loc Cert.RowUpRefIdeal.main_arg0) = m ((c.tc : Thread Cert.RowUpIdeal.nD Cert.RowUpIdeal.τ).loc Cert.RowUpIdeal.main_arg0)
      ∧ m' ((c.tc : Thread Cert.RowUpRefIdeal.nD Cert.RowUpRefIdeal.τ).loc Cert.RowUpRefIdeal.main_arg1) = m ((c.tc : Thread Cert.RowUpIdeal.nD Cert.RowUpIdeal.τ).loc Cert.RowUpIdeal.main_arg1)
      ∧ m' ((c.tc : Thread Cert.RowUpRefIdeal.nD Cert.RowUpRefIdeal.τ).loc Cert.RowUpRefIdeal.main_arg2) = m ((c.tc : Thread Cert.RowUpIdeal.nD Cert.RowUpIdeal.τ).loc Cert.RowUpIdeal.main_arg2)
      ∧ m' ((c.tc : Thread Cert.RowUpRefIdeal.nD Cert.RowUpRefIdeal.τ).loc Cert.RowUpRefIdeal.main_arg3) = m ((c.tc : Thread Cert.RowUpIdeal.nD Cert.RowUpIdeal.τ).loc Cert.RowUpIdeal.main_arg3)
      ∧ m' ((c.tc : Thread Cert.RowUpRefIdeal.nD Cert.RowUpRefIdeal.τ).loc Cert.RowUpRefIdeal.main_arg4) = m ((c.tc : Thread Cert.RowUpIdeal.nD Cert.RowUpIdeal.τ).loc Cert.RowUpIdeal.main_arg4)) →
    ∃ (v0 : (c : Dev Cert.RowUpIdeal.nD) → Buf (Elt Ideal) ((c.tc : Thread Cert.RowUpIdeal.nD Cert.RowUpIdeal.τ).loc Cert.RowUpIdeal.main_v0_0)) (v1 : (c : Dev Cert.RowUpIdeal.nD) → Buf (Elt Ideal) ((c.tc : Thread Cert.RowUpIdeal.nD Cert.RowUpIdeal.τ).loc Cert.RowUpIdeal.main_v0_1)) (v2 : (c : Dev Cert.RowUpIdeal.nD) → Buf (Elt Ideal) ((c.tc : Thread Cert.RowUpIdeal.nD Cert.RowUpIdeal.τ).loc Cert.RowUpIdeal.main_v0_2)),
      θ_run (Cert.RowUpIdeal.defs (F := Ideal)) (onTc (τ := Cert.RowUpIdeal.τ) (Cert.RowUpIdeal.main (F := Ideal))) ⟨m, fun _ => 0, g⟩ (fun r => ∀ c : Dev Cert.RowUpIdeal.nD,
          r.2.mem ((c.tc : Thread Cert.RowUpIdeal.nD Cert.RowUpIdeal.τ).loc Cert.RowUpIdeal.main_v0_0) = v0 c
          ∧ r.2.mem ((c.tc : Thread Cert.RowUpIdeal.nD Cert.RowUpIdeal.τ).loc Cert.RowUpIdeal.main_v0_1) = v1 c
          ∧ r.2.mem ((c.tc : Thread Cert.RowUpIdeal.nD Cert.RowUpIdeal.τ).loc Cert.RowUpIdeal.main_v0_2) = v2 c
          ∧ r.2.mem ((c.tc : Thread Cert.RowUpIdeal.nD Cert.RowUpIdeal.τ).loc Cert.RowUpIdeal.main_arg0) = m ((c.tc : Thread Cert.RowUpIdeal.nD Cert.RowUpIdeal.τ).loc Cert.RowUpIdeal.main_arg0)
          ∧ r.2.mem ((c.tc : Thread Cert.RowUpIdeal.nD Cert.RowUpIdeal.τ).loc Cert.RowUpIdeal.main_arg1) = m ((c.tc : Thread Cert.RowUpIdeal.nD Cert.RowUpIdeal.τ).loc Cert.RowUpIdeal.main_arg1)
          ∧ r.2.mem ((c.tc : Thread Cert.RowUpIdeal.nD Cert.RowUpIdeal.τ).loc Cert.RowUpIdeal.main_arg2) = m ((c.tc : Thread Cert.RowUpIdeal.nD Cert.RowUpIdeal.τ).loc Cert.RowUpIdeal.main_arg2)
          ∧ r.2.mem ((c.tc : Thread Cert.RowUpIdeal.nD Cert.RowUpIdeal.τ).loc Cert.RowUpIdeal.main_arg3) = m ((c.tc : Thread Cert.RowUpIdeal.nD Cert.RowUpIdeal.τ).loc Cert.RowUpIdeal.main_arg3)
          ∧ r.2.mem ((c.tc : Thread Cert.RowUpIdeal.nD Cert.RowUpIdeal.τ).loc Cert.RowUpIdeal.main_arg4) = m ((c.tc : Thread Cert.RowUpIdeal.nD Cert.RowUpIdeal.τ).loc Cert.RowUpIdeal.main_arg4))
      ∧ θ_run (Cert.RowUpRefIdeal.defs (F := Ideal)) (onTc (τ := Cert.RowUpRefIdeal.τ) (Cert.RowUpRefIdeal.main (F := Ideal))) ⟨m', fun _ => 0, g'⟩ (fun r => ∀ c : Dev Cert.RowUpRefIdeal.nD,
          r.2.mem ((c.tc : Thread Cert.RowUpRefIdeal.nD Cert.RowUpRefIdeal.τ).loc Cert.RowUpRefIdeal.main_v26) = v0 c
          ∧ r.2.mem ((c.tc : Thread Cert.RowUpRefIdeal.nD Cert.RowUpRefIdeal.τ).loc Cert.RowUpRefIdeal.main_v27) = v1 c
          ∧ r.2.mem ((c.tc : Thread Cert.RowUpRefIdeal.nD Cert.RowUpRefIdeal.τ).loc Cert.RowUpRefIdeal.main_v25) = v2 c
          ∧ r.2.mem ((c.tc : Thread Cert.RowUpRefIdeal.nD Cert.RowUpRefIdeal.τ).loc Cert.RowUpRefIdeal.main_arg0) = m' ((c.tc : Thread Cert.RowUpRefIdeal.nD Cert.RowUpRefIdeal.τ).loc Cert.RowUpRefIdeal.main_arg0)
          ∧ r.2.mem ((c.tc : Thread Cert.RowUpRefIdeal.nD Cert.RowUpRefIdeal.τ).loc Cert.RowUpRefIdeal.main_arg1) = m' ((c.tc : Thread Cert.RowUpRefIdeal.nD Cert.RowUpRefIdeal.τ).loc Cert.RowUpRefIdeal.main_arg1)
          ∧ r.2.mem ((c.tc : Thread Cert.RowUpRefIdeal.nD Cert.RowUpRefIdeal.τ).loc Cert.RowUpRefIdeal.main_arg2) = m' ((c.tc : Thread Cert.RowUpRefIdeal.nD Cert.RowUpRefIdeal.τ).loc Cert.RowUpRefIdeal.main_arg2)
          ∧ r.2.mem ((c.tc : Thread Cert.RowUpRefIdeal.nD Cert.RowUpRefIdeal.τ).loc Cert.RowUpRefIdeal.main_arg3) = m' ((c.tc : Thread Cert.RowUpRefIdeal.nD Cert.RowUpRefIdeal.τ).loc Cert.RowUpRefIdeal.main_arg3)
          ∧ r.2.mem ((c.tc : Thread Cert.RowUpRefIdeal.nD Cert.RowUpRefIdeal.τ).loc Cert.RowUpRefIdeal.main_arg4) = m' ((c.tc : Thread Cert.RowUpRefIdeal.nD Cert.RowUpRefIdeal.τ).loc Cert.RowUpRefIdeal.main_arg4))

def preserves_RowQkv_RowQkvIdeal : Prop :=
  True

def algebraic_RowQkvIdeal_RowQkvRefIdeal [hRowQkvIdeal : Cert.RowQkvIdeal.Facts] [hRowQkvRefIdeal : Cert.RowQkvRefIdeal.Facts] : Prop :=
  ∀ (m : (ℓ : Loc Cert.RowQkvIdeal.nD Cert.RowQkvIdeal.τ Cert.RowQkvIdeal.sig) → Buf (Elt Ideal) ℓ) (g : Dev Cert.RowQkvIdeal.nD → PrngReg)
    (m' : (ℓ : Loc Cert.RowQkvRefIdeal.nD Cert.RowQkvRefIdeal.τ Cert.RowQkvRefIdeal.sig) → Buf (Elt Ideal) ℓ) (g' : Dev Cert.RowQkvRefIdeal.nD → PrngReg), Pre_RowQkvIdeal m →
    (∀ c : Dev Cert.RowQkvIdeal.nD,
      m' ((c.tc : Thread Cert.RowQkvRefIdeal.nD Cert.RowQkvRefIdeal.τ).loc Cert.RowQkvRefIdeal.main_arg0) = m ((c.tc : Thread Cert.RowQkvIdeal.nD Cert.RowQkvIdeal.τ).loc Cert.RowQkvIdeal.main_arg0)
      ∧ m' ((c.tc : Thread Cert.RowQkvRefIdeal.nD Cert.RowQkvRefIdeal.τ).loc Cert.RowQkvRefIdeal.main_arg1) = m ((c.tc : Thread Cert.RowQkvIdeal.nD Cert.RowQkvIdeal.τ).loc Cert.RowQkvIdeal.main_arg1)
      ∧ m' ((c.tc : Thread Cert.RowQkvRefIdeal.nD Cert.RowQkvRefIdeal.τ).loc Cert.RowQkvRefIdeal.main_arg2) = m ((c.tc : Thread Cert.RowQkvIdeal.nD Cert.RowQkvIdeal.τ).loc Cert.RowQkvIdeal.main_arg2)
      ∧ m' ((c.tc : Thread Cert.RowQkvRefIdeal.nD Cert.RowQkvRefIdeal.τ).loc Cert.RowQkvRefIdeal.main_arg3) = m ((c.tc : Thread Cert.RowQkvIdeal.nD Cert.RowQkvIdeal.τ).loc Cert.RowQkvIdeal.main_arg3)
      ∧ m' ((c.tc : Thread Cert.RowQkvRefIdeal.nD Cert.RowQkvRefIdeal.τ).loc Cert.RowQkvRefIdeal.main_arg4) = m ((c.tc : Thread Cert.RowQkvIdeal.nD Cert.RowQkvIdeal.τ).loc Cert.RowQkvIdeal.main_arg4)) →
    ∃ (v0 : (c : Dev Cert.RowQkvIdeal.nD) → Buf (Elt Ideal) ((c.tc : Thread Cert.RowQkvIdeal.nD Cert.RowQkvIdeal.τ).loc Cert.RowQkvIdeal.main_v0_0)) (v1 : (c : Dev Cert.RowQkvIdeal.nD) → Buf (Elt Ideal) ((c.tc : Thread Cert.RowQkvIdeal.nD Cert.RowQkvIdeal.τ).loc Cert.RowQkvIdeal.main_v0_1)) (v2 : (c : Dev Cert.RowQkvIdeal.nD) → Buf (Elt Ideal) ((c.tc : Thread Cert.RowQkvIdeal.nD Cert.RowQkvIdeal.τ).loc Cert.RowQkvIdeal.main_v0_2)),
      θ_run (Cert.RowQkvIdeal.defs (F := Ideal)) (onTc (τ := Cert.RowQkvIdeal.τ) (Cert.RowQkvIdeal.main (F := Ideal))) ⟨m, fun _ => 0, g⟩ (fun r => ∀ c : Dev Cert.RowQkvIdeal.nD,
          r.2.mem ((c.tc : Thread Cert.RowQkvIdeal.nD Cert.RowQkvIdeal.τ).loc Cert.RowQkvIdeal.main_v0_0) = v0 c
          ∧ r.2.mem ((c.tc : Thread Cert.RowQkvIdeal.nD Cert.RowQkvIdeal.τ).loc Cert.RowQkvIdeal.main_v0_1) = v1 c
          ∧ r.2.mem ((c.tc : Thread Cert.RowQkvIdeal.nD Cert.RowQkvIdeal.τ).loc Cert.RowQkvIdeal.main_v0_2) = v2 c
          ∧ r.2.mem ((c.tc : Thread Cert.RowQkvIdeal.nD Cert.RowQkvIdeal.τ).loc Cert.RowQkvIdeal.main_arg0) = m ((c.tc : Thread Cert.RowQkvIdeal.nD Cert.RowQkvIdeal.τ).loc Cert.RowQkvIdeal.main_arg0)
          ∧ r.2.mem ((c.tc : Thread Cert.RowQkvIdeal.nD Cert.RowQkvIdeal.τ).loc Cert.RowQkvIdeal.main_arg1) = m ((c.tc : Thread Cert.RowQkvIdeal.nD Cert.RowQkvIdeal.τ).loc Cert.RowQkvIdeal.main_arg1)
          ∧ r.2.mem ((c.tc : Thread Cert.RowQkvIdeal.nD Cert.RowQkvIdeal.τ).loc Cert.RowQkvIdeal.main_arg2) = m ((c.tc : Thread Cert.RowQkvIdeal.nD Cert.RowQkvIdeal.τ).loc Cert.RowQkvIdeal.main_arg2)
          ∧ r.2.mem ((c.tc : Thread Cert.RowQkvIdeal.nD Cert.RowQkvIdeal.τ).loc Cert.RowQkvIdeal.main_arg3) = m ((c.tc : Thread Cert.RowQkvIdeal.nD Cert.RowQkvIdeal.τ).loc Cert.RowQkvIdeal.main_arg3)
          ∧ r.2.mem ((c.tc : Thread Cert.RowQkvIdeal.nD Cert.RowQkvIdeal.τ).loc Cert.RowQkvIdeal.main_arg4) = m ((c.tc : Thread Cert.RowQkvIdeal.nD Cert.RowQkvIdeal.τ).loc Cert.RowQkvIdeal.main_arg4))
      ∧ θ_run (Cert.RowQkvRefIdeal.defs (F := Ideal)) (onTc (τ := Cert.RowQkvRefIdeal.τ) (Cert.RowQkvRefIdeal.main (F := Ideal))) ⟨m', fun _ => 0, g'⟩ (fun r => ∀ c : Dev Cert.RowQkvRefIdeal.nD,
          r.2.mem ((c.tc : Thread Cert.RowQkvRefIdeal.nD Cert.RowQkvRefIdeal.τ).loc Cert.RowQkvRefIdeal.main_v26) = v0 c
          ∧ r.2.mem ((c.tc : Thread Cert.RowQkvRefIdeal.nD Cert.RowQkvRefIdeal.τ).loc Cert.RowQkvRefIdeal.main_v27) = v1 c
          ∧ r.2.mem ((c.tc : Thread Cert.RowQkvRefIdeal.nD Cert.RowQkvRefIdeal.τ).loc Cert.RowQkvRefIdeal.main_v25) = v2 c
          ∧ r.2.mem ((c.tc : Thread Cert.RowQkvRefIdeal.nD Cert.RowQkvRefIdeal.τ).loc Cert.RowQkvRefIdeal.main_arg0) = m' ((c.tc : Thread Cert.RowQkvRefIdeal.nD Cert.RowQkvRefIdeal.τ).loc Cert.RowQkvRefIdeal.main_arg0)
          ∧ r.2.mem ((c.tc : Thread Cert.RowQkvRefIdeal.nD Cert.RowQkvRefIdeal.τ).loc Cert.RowQkvRefIdeal.main_arg1) = m' ((c.tc : Thread Cert.RowQkvRefIdeal.nD Cert.RowQkvRefIdeal.τ).loc Cert.RowQkvRefIdeal.main_arg1)
          ∧ r.2.mem ((c.tc : Thread Cert.RowQkvRefIdeal.nD Cert.RowQkvRefIdeal.τ).loc Cert.RowQkvRefIdeal.main_arg2) = m' ((c.tc : Thread Cert.RowQkvRefIdeal.nD Cert.RowQkvRefIdeal.τ).loc Cert.RowQkvRefIdeal.main_arg2)
          ∧ r.2.mem ((c.tc : Thread Cert.RowQkvRefIdeal.nD Cert.RowQkvRefIdeal.τ).loc Cert.RowQkvRefIdeal.main_arg3) = m' ((c.tc : Thread Cert.RowQkvRefIdeal.nD Cert.RowQkvRefIdeal.τ).loc Cert.RowQkvRefIdeal.main_arg3)
          ∧ r.2.mem ((c.tc : Thread Cert.RowQkvRefIdeal.nD Cert.RowQkvRefIdeal.τ).loc Cert.RowQkvRefIdeal.main_arg4) = m' ((c.tc : Thread Cert.RowQkvRefIdeal.nD Cert.RowQkvRefIdeal.τ).loc Cert.RowQkvRefIdeal.main_arg4))

def preserves_RowIn_RowInIdeal : Prop :=
  True

def algebraic_RowInIdeal_RowInRefIdeal [hRowInIdeal : Cert.RowInIdeal.Facts] [hRowInRefIdeal : Cert.RowInRefIdeal.Facts] : Prop :=
  ∀ (m : (ℓ : Loc Cert.RowInIdeal.nD Cert.RowInIdeal.τ Cert.RowInIdeal.sig) → Buf (Elt Ideal) ℓ) (g : Dev Cert.RowInIdeal.nD → PrngReg)
    (m' : (ℓ : Loc Cert.RowInRefIdeal.nD Cert.RowInRefIdeal.τ Cert.RowInRefIdeal.sig) → Buf (Elt Ideal) ℓ) (g' : Dev Cert.RowInRefIdeal.nD → PrngReg), Pre_RowInIdeal m →
    (∀ c : Dev Cert.RowInIdeal.nD,
      m' ((c.tc : Thread Cert.RowInRefIdeal.nD Cert.RowInRefIdeal.τ).loc Cert.RowInRefIdeal.main_arg0) = m ((c.tc : Thread Cert.RowInIdeal.nD Cert.RowInIdeal.τ).loc Cert.RowInIdeal.main_arg0)
      ∧ m' ((c.tc : Thread Cert.RowInRefIdeal.nD Cert.RowInRefIdeal.τ).loc Cert.RowInRefIdeal.main_arg1) = m ((c.tc : Thread Cert.RowInIdeal.nD Cert.RowInIdeal.τ).loc Cert.RowInIdeal.main_arg1)
      ∧ m' ((c.tc : Thread Cert.RowInRefIdeal.nD Cert.RowInRefIdeal.τ).loc Cert.RowInRefIdeal.main_arg2) = m ((c.tc : Thread Cert.RowInIdeal.nD Cert.RowInIdeal.τ).loc Cert.RowInIdeal.main_arg2)
      ∧ m' ((c.tc : Thread Cert.RowInRefIdeal.nD Cert.RowInRefIdeal.τ).loc Cert.RowInRefIdeal.main_arg3) = m ((c.tc : Thread Cert.RowInIdeal.nD Cert.RowInIdeal.τ).loc Cert.RowInIdeal.main_arg3)
      ∧ m' ((c.tc : Thread Cert.RowInRefIdeal.nD Cert.RowInRefIdeal.τ).loc Cert.RowInRefIdeal.main_arg4) = m ((c.tc : Thread Cert.RowInIdeal.nD Cert.RowInIdeal.τ).loc Cert.RowInIdeal.main_arg4)) →
    ∃ (v0 : (c : Dev Cert.RowInIdeal.nD) → Buf (Elt Ideal) ((c.tc : Thread Cert.RowInIdeal.nD Cert.RowInIdeal.τ).loc Cert.RowInIdeal.main_v0_0)) (v1 : (c : Dev Cert.RowInIdeal.nD) → Buf (Elt Ideal) ((c.tc : Thread Cert.RowInIdeal.nD Cert.RowInIdeal.τ).loc Cert.RowInIdeal.main_v0_1)) (v2 : (c : Dev Cert.RowInIdeal.nD) → Buf (Elt Ideal) ((c.tc : Thread Cert.RowInIdeal.nD Cert.RowInIdeal.τ).loc Cert.RowInIdeal.main_v0_2)),
      θ_run (Cert.RowInIdeal.defs (F := Ideal)) (onTc (τ := Cert.RowInIdeal.τ) (Cert.RowInIdeal.main (F := Ideal))) ⟨m, fun _ => 0, g⟩ (fun r => ∀ c : Dev Cert.RowInIdeal.nD,
          r.2.mem ((c.tc : Thread Cert.RowInIdeal.nD Cert.RowInIdeal.τ).loc Cert.RowInIdeal.main_v0_0) = v0 c
          ∧ r.2.mem ((c.tc : Thread Cert.RowInIdeal.nD Cert.RowInIdeal.τ).loc Cert.RowInIdeal.main_v0_1) = v1 c
          ∧ r.2.mem ((c.tc : Thread Cert.RowInIdeal.nD Cert.RowInIdeal.τ).loc Cert.RowInIdeal.main_v0_2) = v2 c
          ∧ r.2.mem ((c.tc : Thread Cert.RowInIdeal.nD Cert.RowInIdeal.τ).loc Cert.RowInIdeal.main_arg0) = m ((c.tc : Thread Cert.RowInIdeal.nD Cert.RowInIdeal.τ).loc Cert.RowInIdeal.main_arg0)
          ∧ r.2.mem ((c.tc : Thread Cert.RowInIdeal.nD Cert.RowInIdeal.τ).loc Cert.RowInIdeal.main_arg1) = m ((c.tc : Thread Cert.RowInIdeal.nD Cert.RowInIdeal.τ).loc Cert.RowInIdeal.main_arg1)
          ∧ r.2.mem ((c.tc : Thread Cert.RowInIdeal.nD Cert.RowInIdeal.τ).loc Cert.RowInIdeal.main_arg2) = m ((c.tc : Thread Cert.RowInIdeal.nD Cert.RowInIdeal.τ).loc Cert.RowInIdeal.main_arg2)
          ∧ r.2.mem ((c.tc : Thread Cert.RowInIdeal.nD Cert.RowInIdeal.τ).loc Cert.RowInIdeal.main_arg3) = m ((c.tc : Thread Cert.RowInIdeal.nD Cert.RowInIdeal.τ).loc Cert.RowInIdeal.main_arg3)
          ∧ r.2.mem ((c.tc : Thread Cert.RowInIdeal.nD Cert.RowInIdeal.τ).loc Cert.RowInIdeal.main_arg4) = m ((c.tc : Thread Cert.RowInIdeal.nD Cert.RowInIdeal.τ).loc Cert.RowInIdeal.main_arg4))
      ∧ θ_run (Cert.RowInRefIdeal.defs (F := Ideal)) (onTc (τ := Cert.RowInRefIdeal.τ) (Cert.RowInRefIdeal.main (F := Ideal))) ⟨m', fun _ => 0, g'⟩ (fun r => ∀ c : Dev Cert.RowInRefIdeal.nD,
          r.2.mem ((c.tc : Thread Cert.RowInRefIdeal.nD Cert.RowInRefIdeal.τ).loc Cert.RowInRefIdeal.main_v26) = v0 c
          ∧ r.2.mem ((c.tc : Thread Cert.RowInRefIdeal.nD Cert.RowInRefIdeal.τ).loc Cert.RowInRefIdeal.main_v27) = v1 c
          ∧ r.2.mem ((c.tc : Thread Cert.RowInRefIdeal.nD Cert.RowInRefIdeal.τ).loc Cert.RowInRefIdeal.main_v25) = v2 c
          ∧ r.2.mem ((c.tc : Thread Cert.RowInRefIdeal.nD Cert.RowInRefIdeal.τ).loc Cert.RowInRefIdeal.main_arg0) = m' ((c.tc : Thread Cert.RowInRefIdeal.nD Cert.RowInRefIdeal.τ).loc Cert.RowInRefIdeal.main_arg0)
          ∧ r.2.mem ((c.tc : Thread Cert.RowInRefIdeal.nD Cert.RowInRefIdeal.τ).loc Cert.RowInRefIdeal.main_arg1) = m' ((c.tc : Thread Cert.RowInRefIdeal.nD Cert.RowInRefIdeal.τ).loc Cert.RowInRefIdeal.main_arg1)
          ∧ r.2.mem ((c.tc : Thread Cert.RowInRefIdeal.nD Cert.RowInRefIdeal.τ).loc Cert.RowInRefIdeal.main_arg2) = m' ((c.tc : Thread Cert.RowInRefIdeal.nD Cert.RowInRefIdeal.τ).loc Cert.RowInRefIdeal.main_arg2)
          ∧ r.2.mem ((c.tc : Thread Cert.RowInRefIdeal.nD Cert.RowInRefIdeal.τ).loc Cert.RowInRefIdeal.main_arg3) = m' ((c.tc : Thread Cert.RowInRefIdeal.nD Cert.RowInRefIdeal.τ).loc Cert.RowInRefIdeal.main_arg3)
          ∧ r.2.mem ((c.tc : Thread Cert.RowInRefIdeal.nD Cert.RowInRefIdeal.τ).loc Cert.RowInRefIdeal.main_arg4) = m' ((c.tc : Thread Cert.RowInRefIdeal.nD Cert.RowInRefIdeal.τ).loc Cert.RowInRefIdeal.main_arg4))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v52) = v0 c
          ∧ r.2.mem ((c.tc : Thread Cert.LossRefIdeal.nD Cert.LossRefIdeal.τ).loc Cert.LossRefIdeal.main_v42) = v1 c
          ∧ r.2.mem ((c.tc : Thread Cert.LossRefIdeal.nD Cert.LossRefIdeal.τ).loc Cert.LossRefIdeal.main_v53) = v2 c
          ∧ r.2.mem ((c.tc : Thread Cert.LossRefIdeal.nD Cert.LossRefIdeal.τ).loc Cert.LossRefIdeal.main_v45) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v27) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1))

def preserves_ConvBack_ConvBackIdeal : Prop :=
  True

def algebraic_ConvBackIdeal_ConvBackRefIdeal [hConvBackIdeal : Cert.ConvBackIdeal.Facts] [hConvBackRefIdeal : Cert.ConvBackRefIdeal.Facts] : Prop :=
  ∀ (m : (ℓ : Loc Cert.ConvBackIdeal.nD Cert.ConvBackIdeal.τ Cert.ConvBackIdeal.sig) → Buf (Elt Ideal) ℓ) (g : Dev Cert.ConvBackIdeal.nD → PrngReg)
    (m' : (ℓ : Loc Cert.ConvBackRefIdeal.nD Cert.ConvBackRefIdeal.τ Cert.ConvBackRefIdeal.sig) → Buf (Elt Ideal) ℓ) (g' : Dev Cert.ConvBackRefIdeal.nD → PrngReg), Pre_ConvBackIdeal m →
    (∀ c : Dev Cert.ConvBackIdeal.nD,
      m' ((c.tc : Thread Cert.ConvBackRefIdeal.nD Cert.ConvBackRefIdeal.τ).loc Cert.ConvBackRefIdeal.main_arg0) = m ((c.tc : Thread Cert.ConvBackIdeal.nD Cert.ConvBackIdeal.τ).loc Cert.ConvBackIdeal.main_arg0)
      ∧ m' ((c.tc : Thread Cert.ConvBackRefIdeal.nD Cert.ConvBackRefIdeal.τ).loc Cert.ConvBackRefIdeal.main_arg1) = m ((c.tc : Thread Cert.ConvBackIdeal.nD Cert.ConvBackIdeal.τ).loc Cert.ConvBackIdeal.main_arg1)
      ∧ m' ((c.tc : Thread Cert.ConvBackRefIdeal.nD Cert.ConvBackRefIdeal.τ).loc Cert.ConvBackRefIdeal.main_arg2) = m ((c.tc : Thread Cert.ConvBackIdeal.nD Cert.ConvBackIdeal.τ).loc Cert.ConvBackIdeal.main_arg2)) →
    ∃ (v0 : (c : Dev Cert.ConvBackIdeal.nD) → Buf (Elt Ideal) ((c.tc : Thread Cert.ConvBackIdeal.nD Cert.ConvBackIdeal.τ).loc Cert.ConvBackIdeal.main_v0_0)) (v1 : (c : Dev Cert.ConvBackIdeal.nD) → Buf (Elt Ideal) ((c.tc : Thread Cert.ConvBackIdeal.nD Cert.ConvBackIdeal.τ).loc Cert.ConvBackIdeal.main_v0_1)) (v2 : (c : Dev Cert.ConvBackIdeal.nD) → Buf (Elt Ideal) ((c.tc : Thread Cert.ConvBackIdeal.nD Cert.ConvBackIdeal.τ).loc Cert.ConvBackIdeal.main_v0_2)) (v3 : (c : Dev Cert.ConvBackIdeal.nD) → Buf (Elt Ideal) ((c.tc : Thread Cert.ConvBackIdeal.nD Cert.ConvBackIdeal.τ).loc Cert.ConvBackIdeal.main_v0_3)),
      θ_run (Cert.ConvBackIdeal.defs (F := Ideal)) (onTc (τ := Cert.ConvBackIdeal.τ) (Cert.ConvBackIdeal.main (F := Ideal))) ⟨m, fun _ => 0, g⟩ (fun r => ∀ c : Dev Cert.ConvBackIdeal.nD,
          r.2.mem ((c.tc : Thread Cert.ConvBackIdeal.nD Cert.ConvBackIdeal.τ).loc Cert.ConvBackIdeal.main_v0_0) = v0 c
          ∧ r.2.mem ((c.tc : Thread Cert.ConvBackIdeal.nD Cert.ConvBackIdeal.τ).loc Cert.ConvBackIdeal.main_v0_1) = v1 c
          ∧ r.2.mem ((c.tc : Thread Cert.ConvBackIdeal.nD Cert.ConvBackIdeal.τ).loc Cert.ConvBackIdeal.main_v0_2) = v2 c
          ∧ r.2.mem ((c.tc : Thread Cert.ConvBackIdeal.nD Cert.ConvBackIdeal.τ).loc Cert.ConvBackIdeal.main_v0_3) = v3 c
          ∧ r.2.mem ((c.tc : Thread Cert.ConvBackIdeal.nD Cert.ConvBackIdeal.τ).loc Cert.ConvBackIdeal.main_arg0) = m ((c.tc : Thread Cert.ConvBackIdeal.nD Cert.ConvBackIdeal.τ).loc Cert.ConvBackIdeal.main_arg0)
          ∧ r.2.mem ((c.tc : Thread Cert.ConvBackIdeal.nD Cert.ConvBackIdeal.τ).loc Cert.ConvBackIdeal.main_arg1) = m ((c.tc : Thread Cert.ConvBackIdeal.nD Cert.ConvBackIdeal.τ).loc Cert.ConvBackIdeal.main_arg1)
          ∧ r.2.mem ((c.tc : Thread Cert.ConvBackIdeal.nD Cert.ConvBackIdeal.τ).loc Cert.ConvBackIdeal.main_arg2) = m ((c.tc : Thread Cert.ConvBackIdeal.nD Cert.ConvBackIdeal.τ).loc Cert.ConvBackIdeal.main_arg2))
      ∧ θ_run (Cert.ConvBackRefIdeal.defs (F := Ideal)) (onTc (τ := Cert.ConvBackRefIdeal.τ) (Cert.ConvBackRefIdeal.main (F := Ideal))) ⟨m', fun _ => 0, g'⟩ (fun r => ∀ c : Dev Cert.ConvBackRefIdeal.nD,
          r.2.mem ((c.tc : Thread Cert.ConvBackRefIdeal.nD Cert.ConvBackRefIdeal.τ).loc Cert.ConvBackRefIdeal.main_v65) = v0 c
          ∧ r.2.mem ((c.tc : Thread Cert.ConvBackRefIdeal.nD Cert.ConvBackRefIdeal.τ).loc Cert.ConvBackRefIdeal.main_v67) = v1 c
          ∧ r.2.mem ((c.tc : Thread Cert.ConvBackRefIdeal.nD Cert.ConvBackRefIdeal.τ).loc Cert.ConvBackRefIdeal.main_v69) = v2 c
          ∧ r.2.mem ((c.tc : Thread Cert.ConvBackRefIdeal.nD Cert.ConvBackRefIdeal.τ).loc Cert.ConvBackRefIdeal.main_v64) = v3 c
          ∧ r.2.mem ((c.tc : Thread Cert.ConvBackRefIdeal.nD Cert.ConvBackRefIdeal.τ).loc Cert.ConvBackRefIdeal.main_arg0) = m' ((c.tc : Thread Cert.ConvBackRefIdeal.nD Cert.ConvBackRefIdeal.τ).loc Cert.ConvBackRefIdeal.main_arg0)
          ∧ r.2.mem ((c.tc : Thread Cert.ConvBackRefIdeal.nD Cert.ConvBackRefIdeal.τ).loc Cert.ConvBackRefIdeal.main_arg1) = m' ((c.tc : Thread Cert.ConvBackRefIdeal.nD Cert.ConvBackRefIdeal.τ).loc Cert.ConvBackRefIdeal.main_arg1)
          ∧ r.2.mem ((c.tc : Thread Cert.ConvBackRefIdeal.nD Cert.ConvBackRefIdeal.τ).loc Cert.ConvBackRefIdeal.main_arg2) = m' ((c.tc : Thread Cert.ConvBackRefIdeal.nD Cert.ConvBackRefIdeal.τ).loc Cert.ConvBackRefIdeal.main_arg2))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)
      ∧ m' ((c.tc : Thread Cert.RopeRefIdeal.nD Cert.RopeRefIdeal.τ).loc Cert.RopeRefIdeal.main_arg2) = m ((c.tc : Thread Cert.RopeIdeal.nD Cert.RopeIdeal.τ).loc Cert.RopeIdeal.main_arg2)) →
    ∃ (v0 : (c : Dev Cert.RopeIdeal.nD) → Buf (Elt Ideal) ((c.tc : Thread Cert.RopeIdeal.nD Cert.RopeIdeal.τ).loc Cert.RopeIdeal.main_v4_0)) (v1 : (c : Dev Cert.RopeIdeal.nD) → Buf (Elt Ideal) ((c.tc : Thread Cert.RopeIdeal.nD Cert.RopeIdeal.τ).loc Cert.RopeIdeal.main_v4_1)) (v2 : (c : Dev Cert.RopeIdeal.nD) → Buf (Elt Ideal) ((c.tc : Thread Cert.RopeIdeal.nD Cert.RopeIdeal.τ).loc Cert.RopeIdeal.main_v4_2)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v4_0) = v0 c
          ∧ r.2.mem ((c.tc : Thread Cert.RopeIdeal.nD Cert.RopeIdeal.τ).loc Cert.RopeIdeal.main_v4_1) = v1 c
          ∧ r.2.mem ((c.tc : Thread Cert.RopeIdeal.nD Cert.RopeIdeal.τ).loc Cert.RopeIdeal.main_v4_2) = v2 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v22) = v0 c
          ∧ r.2.mem ((c.tc : Thread Cert.RopeRefIdeal.nD Cert.RopeRefIdeal.τ).loc Cert.RopeRefIdeal.main_v42) = v1 c
          ∧ r.2.mem ((c.tc : Thread Cert.RopeRefIdeal.nD Cert.RopeRefIdeal.τ).loc Cert.RopeRefIdeal.main_v47) = v2 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1)
          ∧ r.2.mem ((c.tc : Thread Cert.RopeRefIdeal.nD Cert.RopeRefIdeal.τ).loc Cert.RopeRefIdeal.main_arg2) = m' ((c.tc : Thread Cert.RopeRefIdeal.nD Cert.RopeRefIdeal.τ).loc Cert.RopeRefIdeal.main_arg2))

def preserves_RopeBack_RopeBackIdeal : Prop :=
  True

def algebraic_RopeBackIdeal_RopeBackRefIdeal [hRopeBackIdeal : Cert.RopeBackIdeal.Facts] [hRopeBackRefIdeal : Cert.RopeBackRefIdeal.Facts] : Prop :=
  ∀ (m : (ℓ : Loc Cert.RopeBackIdeal.nD Cert.RopeBackIdeal.τ Cert.RopeBackIdeal.sig) → Buf (Elt Ideal) ℓ) (g : Dev Cert.RopeBackIdeal.nD → PrngReg)
    (m' : (ℓ : Loc Cert.RopeBackRefIdeal.nD Cert.RopeBackRefIdeal.τ Cert.RopeBackRefIdeal.sig) → Buf (Elt Ideal) ℓ) (g' : Dev Cert.RopeBackRefIdeal.nD → PrngReg), Pre_RopeBackIdeal m →
    (∀ c : Dev Cert.RopeBackIdeal.nD,
      m' ((c.tc : Thread Cert.RopeBackRefIdeal.nD Cert.RopeBackRefIdeal.τ).loc Cert.RopeBackRefIdeal.main_arg0) = m ((c.tc : Thread Cert.RopeBackIdeal.nD Cert.RopeBackIdeal.τ).loc Cert.RopeBackIdeal.main_arg0)
      ∧ m' ((c.tc : Thread Cert.RopeBackRefIdeal.nD Cert.RopeBackRefIdeal.τ).loc Cert.RopeBackRefIdeal.main_arg1) = m ((c.tc : Thread Cert.RopeBackIdeal.nD Cert.RopeBackIdeal.τ).loc Cert.RopeBackIdeal.main_arg1)
      ∧ m' ((c.tc : Thread Cert.RopeBackRefIdeal.nD Cert.RopeBackRefIdeal.τ).loc Cert.RopeBackRefIdeal.main_arg2) = m ((c.tc : Thread Cert.RopeBackIdeal.nD Cert.RopeBackIdeal.τ).loc Cert.RopeBackIdeal.main_arg2)
      ∧ m' ((c.tc : Thread Cert.RopeBackRefIdeal.nD Cert.RopeBackRefIdeal.τ).loc Cert.RopeBackRefIdeal.main_arg3) = m ((c.tc : Thread Cert.RopeBackIdeal.nD Cert.RopeBackIdeal.τ).loc Cert.RopeBackIdeal.main_arg3)
      ∧ m' ((c.tc : Thread Cert.RopeBackRefIdeal.nD Cert.RopeBackRefIdeal.τ).loc Cert.RopeBackRefIdeal.main_arg4) = m ((c.tc : Thread Cert.RopeBackIdeal.nD Cert.RopeBackIdeal.τ).loc Cert.RopeBackIdeal.main_arg4)) →
    ∃ (v0 : (c : Dev Cert.RopeBackIdeal.nD) → Buf (Elt Ideal) ((c.tc : Thread Cert.RopeBackIdeal.nD Cert.RopeBackIdeal.τ).loc Cert.RopeBackIdeal.main_v4)),
      θ_run (Cert.RopeBackIdeal.defs (F := Ideal)) (onTc (τ := Cert.RopeBackIdeal.τ) (Cert.RopeBackIdeal.main (F := Ideal))) ⟨m, fun _ => 0, g⟩ (fun r => ∀ c : Dev Cert.RopeBackIdeal.nD,
          r.2.mem ((c.tc : Thread Cert.RopeBackIdeal.nD Cert.RopeBackIdeal.τ).loc Cert.RopeBackIdeal.main_v4) = v0 c
          ∧ r.2.mem ((c.tc : Thread Cert.RopeBackIdeal.nD Cert.RopeBackIdeal.τ).loc Cert.RopeBackIdeal.main_arg0) = m ((c.tc : Thread Cert.RopeBackIdeal.nD Cert.RopeBackIdeal.τ).loc Cert.RopeBackIdeal.main_arg0)
          ∧ r.2.mem ((c.tc : Thread Cert.RopeBackIdeal.nD Cert.RopeBackIdeal.τ).loc Cert.RopeBackIdeal.main_arg1) = m ((c.tc : Thread Cert.RopeBackIdeal.nD Cert.RopeBackIdeal.τ).loc Cert.RopeBackIdeal.main_arg1)
          ∧ r.2.mem ((c.tc : Thread Cert.RopeBackIdeal.nD Cert.RopeBackIdeal.τ).loc Cert.RopeBackIdeal.main_arg2) = m ((c.tc : Thread Cert.RopeBackIdeal.nD Cert.RopeBackIdeal.τ).loc Cert.RopeBackIdeal.main_arg2)
          ∧ r.2.mem ((c.tc : Thread Cert.RopeBackIdeal.nD Cert.RopeBackIdeal.τ).loc Cert.RopeBackIdeal.main_arg3) = m ((c.tc : Thread Cert.RopeBackIdeal.nD Cert.RopeBackIdeal.τ).loc Cert.RopeBackIdeal.main_arg3)
          ∧ r.2.mem ((c.tc : Thread Cert.RopeBackIdeal.nD Cert.RopeBackIdeal.τ).loc Cert.RopeBackIdeal.main_arg4) = m ((c.tc : Thread Cert.RopeBackIdeal.nD Cert.RopeBackIdeal.τ).loc Cert.RopeBackIdeal.main_arg4))
      ∧ θ_run (Cert.RopeBackRefIdeal.defs (F := Ideal)) (onTc (τ := Cert.RopeBackRefIdeal.τ) (Cert.RopeBackRefIdeal.main (F := Ideal))) ⟨m', fun _ => 0, g'⟩ (fun r => ∀ c : Dev Cert.RopeBackRefIdeal.nD,
          r.2.mem ((c.tc : Thread Cert.RopeBackRefIdeal.nD Cert.RopeBackRefIdeal.τ).loc Cert.RopeBackRefIdeal.main_v51) = v0 c
          ∧ r.2.mem ((c.tc : Thread Cert.RopeBackRefIdeal.nD Cert.RopeBackRefIdeal.τ).loc Cert.RopeBackRefIdeal.main_arg0) = m' ((c.tc : Thread Cert.RopeBackRefIdeal.nD Cert.RopeBackRefIdeal.τ).loc Cert.RopeBackRefIdeal.main_arg0)
          ∧ r.2.mem ((c.tc : Thread Cert.RopeBackRefIdeal.nD Cert.RopeBackRefIdeal.τ).loc Cert.RopeBackRefIdeal.main_arg1) = m' ((c.tc : Thread Cert.RopeBackRefIdeal.nD Cert.RopeBackRefIdeal.τ).loc Cert.RopeBackRefIdeal.main_arg1)
          ∧ r.2.mem ((c.tc : Thread Cert.RopeBackRefIdeal.nD Cert.RopeBackRefIdeal.τ).loc Cert.RopeBackRefIdeal.main_arg2) = m' ((c.tc : Thread Cert.RopeBackRefIdeal.nD Cert.RopeBackRefIdeal.τ).loc Cert.RopeBackRefIdeal.main_arg2)
          ∧ r.2.mem ((c.tc : Thread Cert.RopeBackRefIdeal.nD Cert.RopeBackRefIdeal.τ).loc Cert.RopeBackRefIdeal.main_arg3) = m' ((c.tc : Thread Cert.RopeBackRefIdeal.nD Cert.RopeBackRefIdeal.τ).loc Cert.RopeBackRefIdeal.main_arg3)
          ∧ r.2.mem ((c.tc : Thread Cert.RopeBackRefIdeal.nD Cert.RopeBackRefIdeal.τ).loc Cert.RopeBackRefIdeal.main_arg4) = m' ((c.tc : Thread Cert.RopeBackRefIdeal.nD Cert.RopeBackRefIdeal.τ).loc Cert.RopeBackRefIdeal.main_arg4))

def Claim : Prop :=
  ∃ (hAllToAll : Cert.AllToAll.Facts) (hAllToAllIdeal : Cert.AllToAllIdeal.Facts) (hAllToAllRefIdeal : Cert.AllToAllRefIdeal.Facts) (hAllToAllRef : Cert.AllToAllRef.Facts) (hGather : Cert.Gather.Facts) (hGatherIdeal : Cert.GatherIdeal.Facts) (hGatherRefIdeal : Cert.GatherRefIdeal.Facts) (hGatherRef : Cert.GatherRef.Facts) (hSmall : Cert.Small.Facts) (hSmallIdeal : Cert.SmallIdeal.Facts) (hSmallRefIdeal : Cert.SmallRefIdeal.Facts) (hSmallRef : Cert.SmallRef.Facts) (hStepOut : Cert.StepOut.Facts) (hStepOutIdeal : Cert.StepOutIdeal.Facts) (hStepOutRefIdeal : Cert.StepOutRefIdeal.Facts) (hStepDown : Cert.StepDown.Facts) (hStepDownIdeal : Cert.StepDownIdeal.Facts) (hStepDownRefIdeal : Cert.StepDownRefIdeal.Facts) (hSumIn : Cert.SumIn.Facts) (hSumInIdeal : Cert.SumInIdeal.Facts) (hSumInRefIdeal : Cert.SumInRefIdeal.Facts) (hSumUp : Cert.SumUp.Facts) (hSumUpIdeal : Cert.SumUpIdeal.Facts) (hSumUpRefIdeal : Cert.SumUpRefIdeal.Facts) (hSumQkv : Cert.SumQkv.Facts) (hSumQkvIdeal : Cert.SumQkvIdeal.Facts) (hSumQkvRefIdeal : Cert.SumQkvRefIdeal.Facts) (hSumSmall : Cert.SumSmall.Facts) (hSumSmallIdeal : Cert.SumSmallIdeal.Facts) (hSumSmallRefIdeal : Cert.SumSmallRefIdeal.Facts) (hStepIn : Cert.StepIn.Facts) (hStepInIdeal : Cert.StepInIdeal.Facts) (hStepInRefIdeal : Cert.StepInRefIdeal.Facts) (hStepUp : Cert.StepUp.Facts) (hStepUpIdeal : Cert.StepUpIdeal.Facts) (hStepUpRefIdeal : Cert.StepUpRefIdeal.Facts) (hStepQkv : Cert.StepQkv.Facts) (hStepQkvIdeal : Cert.StepQkvIdeal.Facts) (hStepQkvRefIdeal : Cert.StepQkvRefIdeal.Facts) (hStepMeta : Cert.StepMeta.Facts) (hStepMetaIdeal : Cert.StepMetaIdeal.Facts) (hStepMetaRefIdeal : Cert.StepMetaRefIdeal.Facts) (hStepConv : Cert.StepConv.Facts) (hStepConvIdeal : Cert.StepConvIdeal.Facts) (hStepConvRefIdeal : Cert.StepConvRefIdeal.Facts) (hStepGain : Cert.StepGain.Facts) (hStepGainIdeal : Cert.StepGainIdeal.Facts) (hStepGainRefIdeal : Cert.StepGainRefIdeal.Facts) (hStepSinks : Cert.StepSinks.Facts) (hStepSinksIdeal : Cert.StepSinksIdeal.Facts) (hStepSinksRefIdeal : Cert.StepSinksRefIdeal.Facts) (hNorm : Cert.Norm.Facts) (hNormIdeal : Cert.NormIdeal.Facts) (hNormRefIdeal : Cert.NormRefIdeal.Facts) (hProjUp : Cert.ProjUp.Facts) (hProjUpIdeal : Cert.ProjUpIdeal.Facts) (hProjUpRefIdeal : Cert.ProjUpRefIdeal.Facts) (hBackDown : Cert.BackDown.Facts) (hBackDownIdeal : Cert.BackDownIdeal.Facts) (hBackDownRefIdeal : Cert.BackDownRefIdeal.Facts) (hProjIn : Cert.ProjIn.Facts) (hProjInIdeal : Cert.ProjInIdeal.Facts) (hProjInRefIdeal : Cert.ProjInRefIdeal.Facts) (hBackO : Cert.BackO.Facts) (hBackOIdeal : Cert.BackOIdeal.Facts) (hBackORefIdeal : Cert.BackORefIdeal.Facts) (hProjQkv : Cert.ProjQkv.Facts) (hProjQkvIdeal : Cert.ProjQkvIdeal.Facts) (hProjQkvRefIdeal : Cert.ProjQkvRefIdeal.Facts) (hBackOut : Cert.BackOut.Facts) (hBackOutIdeal : Cert.BackOutIdeal.Facts) (hBackOutRefIdeal : Cert.BackOutRefIdeal.Facts) (hGradDown : Cert.GradDown.Facts) (hGradDownIdeal : Cert.GradDownIdeal.Facts) (hGradDownRefIdeal : Cert.GradDownRefIdeal.Facts) (hGradUp : Cert.GradUp.Facts) (hGradUpIdeal : Cert.GradUpIdeal.Facts) (hGradUpRefIdeal : Cert.GradUpRefIdeal.Facts) (hGradIn : Cert.GradIn.Facts) (hGradInIdeal : Cert.GradInIdeal.Facts) (hGradInRefIdeal : Cert.GradInRefIdeal.Facts) (hGradQkv : Cert.GradQkv.Facts) (hGradQkvIdeal : Cert.GradQkvIdeal.Facts) (hGradQkvRefIdeal : Cert.GradQkvRefIdeal.Facts) (hGradO : Cert.GradO.Facts) (hGradOIdeal : Cert.GradOIdeal.Facts) (hGradORefIdeal : Cert.GradORefIdeal.Facts) (hRowOut : Cert.RowOut.Facts) (hRowOutIdeal : Cert.RowOutIdeal.Facts) (hRowOutRefIdeal : Cert.RowOutRefIdeal.Facts) (hRowDown : Cert.RowDown.Facts) (hRowDownIdeal : Cert.RowDownIdeal.Facts) (hRowDownRefIdeal : Cert.RowDownRefIdeal.Facts) (hRowLast : Cert.RowLast.Facts) (hRowLastIdeal : Cert.RowLastIdeal.Facts) (hRowLastRefIdeal : Cert.RowLastRefIdeal.Facts) (hRowUp : Cert.RowUp.Facts) (hRowUpIdeal : Cert.RowUpIdeal.Facts) (hRowUpRefIdeal : Cert.RowUpRefIdeal.Facts) (hRowQkv : Cert.RowQkv.Facts) (hRowQkvIdeal : Cert.RowQkvIdeal.Facts) (hRowQkvRefIdeal : Cert.RowQkvRefIdeal.Facts) (hRowIn : Cert.RowIn.Facts) (hRowInIdeal : Cert.RowInIdeal.Facts) (hRowInRefIdeal : Cert.RowInRefIdeal.Facts) (hLoss : Cert.Loss.Facts) (hLossIdeal : Cert.LossIdeal.Facts) (hLossRefIdeal : Cert.LossRefIdeal.Facts) (hConv : Cert.Conv.Facts) (hConvIdeal : Cert.ConvIdeal.Facts) (hConvRefIdeal : Cert.ConvRefIdeal.Facts) (hConvBack : Cert.ConvBack.Facts) (hConvBackIdeal : Cert.ConvBackIdeal.Facts) (hConvBackRefIdeal : Cert.ConvBackRefIdeal.Facts) (hRope : Cert.Rope.Facts) (hRopeIdeal : Cert.RopeIdeal.Facts) (hRopeRefIdeal : Cert.RopeRefIdeal.Facts) (hRopeBack : Cert.RopeBack.Facts) (hRopeBackIdeal : Cert.RopeBackIdeal.Facts) (hRopeBackRefIdeal : Cert.RopeBackRefIdeal.Facts),
    quiescent_AllToAll (hAllToAll := hAllToAll)
    ∧ quiescent_AllToAllIdeal (hAllToAllIdeal := hAllToAllIdeal)
    ∧ quiescent_AllToAllRefIdeal (hAllToAllRefIdeal := hAllToAllRefIdeal)
    ∧ quiescent_AllToAllRef (hAllToAllRef := hAllToAllRef)
    ∧ quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_Small (hSmall := hSmall)
    ∧ quiescent_SmallIdeal (hSmallIdeal := hSmallIdeal)
    ∧ quiescent_SmallRefIdeal (hSmallRefIdeal := hSmallRefIdeal)
    ∧ quiescent_SmallRef (hSmallRef := hSmallRef)
    ∧ quiescent_StepOut (hStepOut := hStepOut)
    ∧ quiescent_StepOutIdeal (hStepOutIdeal := hStepOutIdeal)
    ∧ quiescent_StepOutRefIdeal (hStepOutRefIdeal := hStepOutRefIdeal)
    ∧ quiescent_StepDown (hStepDown := hStepDown)
    ∧ quiescent_StepDownIdeal (hStepDownIdeal := hStepDownIdeal)
    ∧ quiescent_StepDownRefIdeal (hStepDownRefIdeal := hStepDownRefIdeal)
    ∧ quiescent_SumIn (hSumIn := hSumIn)
    ∧ quiescent_SumInIdeal (hSumInIdeal := hSumInIdeal)
    ∧ quiescent_SumInRefIdeal (hSumInRefIdeal := hSumInRefIdeal)
    ∧ quiescent_SumUp (hSumUp := hSumUp)
    ∧ quiescent_SumUpIdeal (hSumUpIdeal := hSumUpIdeal)
    ∧ quiescent_SumUpRefIdeal (hSumUpRefIdeal := hSumUpRefIdeal)
    ∧ quiescent_SumQkv (hSumQkv := hSumQkv)
    ∧ quiescent_SumQkvIdeal (hSumQkvIdeal := hSumQkvIdeal)
    ∧ quiescent_SumQkvRefIdeal (hSumQkvRefIdeal := hSumQkvRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_StepIn (hStepIn := hStepIn)
    ∧ quiescent_StepInIdeal (hStepInIdeal := hStepInIdeal)
    ∧ quiescent_StepInRefIdeal (hStepInRefIdeal := hStepInRefIdeal)
    ∧ quiescent_StepUp (hStepUp := hStepUp)
    ∧ quiescent_StepUpIdeal (hStepUpIdeal := hStepUpIdeal)
    ∧ quiescent_StepUpRefIdeal (hStepUpRefIdeal := hStepUpRefIdeal)
    ∧ quiescent_StepQkv (hStepQkv := hStepQkv)
    ∧ quiescent_StepQkvIdeal (hStepQkvIdeal := hStepQkvIdeal)
    ∧ quiescent_StepQkvRefIdeal (hStepQkvRefIdeal := hStepQkvRefIdeal)
    ∧ quiescent_StepMeta (hStepMeta := hStepMeta)
    ∧ quiescent_StepMetaIdeal (hStepMetaIdeal := hStepMetaIdeal)
    ∧ quiescent_StepMetaRefIdeal (hStepMetaRefIdeal := hStepMetaRefIdeal)
    ∧ quiescent_StepConv (hStepConv := hStepConv)
    ∧ quiescent_StepConvIdeal (hStepConvIdeal := hStepConvIdeal)
    ∧ quiescent_StepConvRefIdeal (hStepConvRefIdeal := hStepConvRefIdeal)
    ∧ quiescent_StepGain (hStepGain := hStepGain)
    ∧ quiescent_StepGainIdeal (hStepGainIdeal := hStepGainIdeal)
    ∧ quiescent_StepGainRefIdeal (hStepGainRefIdeal := hStepGainRefIdeal)
    ∧ quiescent_StepSinks (hStepSinks := hStepSinks)
    ∧ quiescent_StepSinksIdeal (hStepSinksIdeal := hStepSinksIdeal)
    ∧ quiescent_StepSinksRefIdeal (hStepSinksRefIdeal := hStepSinksRefIdeal)
    ∧ quiescent_Norm (hNorm := hNorm)
    ∧ quiescent_NormIdeal (hNormIdeal := hNormIdeal)
    ∧ quiescent_NormRefIdeal (hNormRefIdeal := hNormRefIdeal)
    ∧ quiescent_ProjUp (hProjUp := hProjUp)
    ∧ quiescent_ProjUpIdeal (hProjUpIdeal := hProjUpIdeal)
    ∧ quiescent_ProjUpRefIdeal (hProjUpRefIdeal := hProjUpRefIdeal)
    ∧ quiescent_BackDown (hBackDown := hBackDown)
    ∧ quiescent_BackDownIdeal (hBackDownIdeal := hBackDownIdeal)
    ∧ quiescent_BackDownRefIdeal (hBackDownRefIdeal := hBackDownRefIdeal)
    ∧ quiescent_ProjIn (hProjIn := hProjIn)
    ∧ quiescent_ProjInIdeal (hProjInIdeal := hProjInIdeal)
    ∧ quiescent_ProjInRefIdeal (hProjInRefIdeal := hProjInRefIdeal)
    ∧ quiescent_BackO (hBackO := hBackO)
    ∧ quiescent_BackOIdeal (hBackOIdeal := hBackOIdeal)
    ∧ quiescent_BackORefIdeal (hBackORefIdeal := hBackORefIdeal)
    ∧ quiescent_ProjQkv (hProjQkv := hProjQkv)
    ∧ quiescent_ProjQkvIdeal (hProjQkvIdeal := hProjQkvIdeal)
    ∧ quiescent_ProjQkvRefIdeal (hProjQkvRefIdeal := hProjQkvRefIdeal)
    ∧ quiescent_BackOut (hBackOut := hBackOut)
    ∧ quiescent_BackOutIdeal (hBackOutIdeal := hBackOutIdeal)
    ∧ quiescent_BackOutRefIdeal (hBackOutRefIdeal := hBackOutRefIdeal)
    ∧ quiescent_GradDown (hGradDown := hGradDown)
    ∧ quiescent_GradDownIdeal (hGradDownIdeal := hGradDownIdeal)
    ∧ quiescent_GradDownRefIdeal (hGradDownRefIdeal := hGradDownRefIdeal)
    ∧ quiescent_GradUp (hGradUp := hGradUp)
    ∧ quiescent_GradUpIdeal (hGradUpIdeal := hGradUpIdeal)
    ∧ quiescent_GradUpRefIdeal (hGradUpRefIdeal := hGradUpRefIdeal)
    ∧ quiescent_GradIn (hGradIn := hGradIn)
    ∧ quiescent_GradInIdeal (hGradInIdeal := hGradInIdeal)
    ∧ quiescent_GradInRefIdeal (hGradInRefIdeal := hGradInRefIdeal)
    ∧ quiescent_GradQkv (hGradQkv := hGradQkv)
    ∧ quiescent_GradQkvIdeal (hGradQkvIdeal := hGradQkvIdeal)
    ∧ quiescent_GradQkvRefIdeal (hGradQkvRefIdeal := hGradQkvRefIdeal)
    ∧ quiescent_GradO (hGradO := hGradO)
    ∧ quiescent_GradOIdeal (hGradOIdeal := hGradOIdeal)
    ∧ quiescent_GradORefIdeal (hGradORefIdeal := hGradORefIdeal)
    ∧ quiescent_RowOut (hRowOut := hRowOut)
    ∧ quiescent_RowOutIdeal (hRowOutIdeal := hRowOutIdeal)
    ∧ quiescent_RowOutRefIdeal (hRowOutRefIdeal := hRowOutRefIdeal)
    ∧ quiescent_RowDown (hRowDown := hRowDown)
    ∧ quiescent_RowDownIdeal (hRowDownIdeal := hRowDownIdeal)
    ∧ quiescent_RowDownRefIdeal (hRowDownRefIdeal := hRowDownRefIdeal)
    ∧ quiescent_RowLast (hRowLast := hRowLast)
    ∧ quiescent_RowLastIdeal (hRowLastIdeal := hRowLastIdeal)
    ∧ quiescent_RowLastRefIdeal (hRowLastRefIdeal := hRowLastRefIdeal)
    ∧ quiescent_RowUp (hRowUp := hRowUp)
    ∧ quiescent_RowUpIdeal (hRowUpIdeal := hRowUpIdeal)
    ∧ quiescent_RowUpRefIdeal (hRowUpRefIdeal := hRowUpRefIdeal)
    ∧ quiescent_RowQkv (hRowQkv := hRowQkv)
    ∧ quiescent_RowQkvIdeal (hRowQkvIdeal := hRowQkvIdeal)
    ∧ quiescent_RowQkvRefIdeal (hRowQkvRefIdeal := hRowQkvRefIdeal)
    ∧ quiescent_RowIn (hRowIn := hRowIn)
    ∧ quiescent_RowInIdeal (hRowInIdeal := hRowInIdeal)
    ∧ quiescent_RowInRefIdeal (hRowInRefIdeal := hRowInRefIdeal)
    ∧ quiescent_Loss (hLoss := hLoss)
    ∧ quiescent_LossIdeal (hLossIdeal := hLossIdeal)
    ∧ quiescent_LossRefIdeal (hLossRefIdeal := hLossRefIdeal)
    ∧ quiescent_Conv (hConv := hConv)
    ∧ quiescent_ConvIdeal (hConvIdeal := hConvIdeal)
    ∧ quiescent_ConvRefIdeal (hConvRefIdeal := hConvRefIdeal)
    ∧ quiescent_ConvBack (hConvBack := hConvBack)
    ∧ quiescent_ConvBackIdeal (hConvBackIdeal := hConvBackIdeal)
    ∧ quiescent_ConvBackRefIdeal (hConvBackRefIdeal := hConvBackRefIdeal)
    ∧ quiescent_Rope (hRope := hRope)
    ∧ quiescent_RopeIdeal (hRopeIdeal := hRopeIdeal)
    ∧ quiescent_RopeRefIdeal (hRopeRefIdeal := hRopeRefIdeal)
    ∧ quiescent_RopeBack (hRopeBack := hRopeBack)
    ∧ quiescent_RopeBackIdeal (hRopeBackIdeal := hRopeBackIdeal)
    ∧ quiescent_RopeBackRefIdeal (hRopeBackRefIdeal := hRopeBackRefIdeal)
    ∧ preserves_AllToAll_AllToAllIdeal
    ∧ algebraic_AllToAllIdeal_AllToAllRefIdeal (hAllToAllIdeal := hAllToAllIdeal) (hAllToAllRefIdeal := hAllToAllRefIdeal)
    ∧ bitexact_AllToAll_AllToAllRef (hAllToAll := hAllToAll) (hAllToAllRef := hAllToAllRef)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_Small_SmallIdeal
    ∧ algebraic_SmallIdeal_SmallRefIdeal (hSmallIdeal := hSmallIdeal) (hSmallRefIdeal := hSmallRefIdeal)
    ∧ bitexact_Small_SmallRef (hSmall := hSmall) (hSmallRef := hSmallRef)
    ∧ preserves_StepOut_StepOutIdeal
    ∧ algebraic_StepOutIdeal_StepOutRefIdeal (hStepOutIdeal := hStepOutIdeal) (hStepOutRefIdeal := hStepOutRefIdeal)
    ∧ preserves_StepDown_StepDownIdeal
    ∧ algebraic_StepDownIdeal_StepDownRefIdeal (hStepDownIdeal := hStepDownIdeal) (hStepDownRefIdeal := hStepDownRefIdeal)
    ∧ preserves_SumIn_SumInIdeal
    ∧ algebraic_SumInIdeal_SumInRefIdeal (hSumInIdeal := hSumInIdeal) (hSumInRefIdeal := hSumInRefIdeal)
    ∧ preserves_SumUp_SumUpIdeal
    ∧ algebraic_SumUpIdeal_SumUpRefIdeal (hSumUpIdeal := hSumUpIdeal) (hSumUpRefIdeal := hSumUpRefIdeal)
    ∧ preserves_SumQkv_SumQkvIdeal
    ∧ algebraic_SumQkvIdeal_SumQkvRefIdeal (hSumQkvIdeal := hSumQkvIdeal) (hSumQkvRefIdeal := hSumQkvRefIdeal)
    ∧ preserves_SumSmall_SumSmallIdeal
    ∧ algebraic_SumSmallIdeal_SumSmallRefIdeal (hSumSmallIdeal := hSumSmallIdeal) (hSumSmallRefIdeal := hSumSmallRefIdeal)
    ∧ preserves_StepIn_StepInIdeal
    ∧ algebraic_StepInIdeal_StepInRefIdeal (hStepInIdeal := hStepInIdeal) (hStepInRefIdeal := hStepInRefIdeal)
    ∧ preserves_StepUp_StepUpIdeal
    ∧ algebraic_StepUpIdeal_StepUpRefIdeal (hStepUpIdeal := hStepUpIdeal) (hStepUpRefIdeal := hStepUpRefIdeal)
    ∧ preserves_StepQkv_StepQkvIdeal
    ∧ algebraic_StepQkvIdeal_StepQkvRefIdeal (hStepQkvIdeal := hStepQkvIdeal) (hStepQkvRefIdeal := hStepQkvRefIdeal)
    ∧ preserves_StepMeta_StepMetaIdeal
    ∧ algebraic_StepMetaIdeal_StepMetaRefIdeal (hStepMetaIdeal := hStepMetaIdeal) (hStepMetaRefIdeal := hStepMetaRefIdeal)
    ∧ preserves_StepConv_StepConvIdeal
    ∧ algebraic_StepConvIdeal_StepConvRefIdeal (hStepConvIdeal := hStepConvIdeal) (hStepConvRefIdeal := hStepConvRefIdeal)
    ∧ preserves_StepGain_StepGainIdeal
    ∧ algebraic_StepGainIdeal_StepGainRefIdeal (hStepGainIdeal := hStepGainIdeal) (hStepGainRefIdeal := hStepGainRefIdeal)
    ∧ preserves_StepSinks_StepSinksIdeal
    ∧ algebraic_StepSinksIdeal_StepSinksRefIdeal (hStepSinksIdeal := hStepSinksIdeal) (hStepSinksRefIdeal := hStepSinksRefIdeal)
    ∧ preserves_Norm_NormIdeal
    ∧ algebraic_NormIdeal_NormRefIdeal (hNormIdeal := hNormIdeal) (hNormRefIdeal := hNormRefIdeal)
    ∧ preserves_ProjUp_ProjUpIdeal
    ∧ algebraic_ProjUpIdeal_ProjUpRefIdeal (hProjUpIdeal := hProjUpIdeal) (hProjUpRefIdeal := hProjUpRefIdeal)
    ∧ preserves_BackDown_BackDownIdeal
    ∧ algebraic_BackDownIdeal_BackDownRefIdeal (hBackDownIdeal := hBackDownIdeal) (hBackDownRefIdeal := hBackDownRefIdeal)
    ∧ preserves_ProjIn_ProjInIdeal
    ∧ algebraic_ProjInIdeal_ProjInRefIdeal (hProjInIdeal := hProjInIdeal) (hProjInRefIdeal := hProjInRefIdeal)
    ∧ preserves_BackO_BackOIdeal
    ∧ algebraic_BackOIdeal_BackORefIdeal (hBackOIdeal := hBackOIdeal) (hBackORefIdeal := hBackORefIdeal)
    ∧ preserves_ProjQkv_ProjQkvIdeal
    ∧ algebraic_ProjQkvIdeal_ProjQkvRefIdeal (hProjQkvIdeal := hProjQkvIdeal) (hProjQkvRefIdeal := hProjQkvRefIdeal)
    ∧ preserves_BackOut_BackOutIdeal
    ∧ algebraic_BackOutIdeal_BackOutRefIdeal (hBackOutIdeal := hBackOutIdeal) (hBackOutRefIdeal := hBackOutRefIdeal)
    ∧ preserves_GradDown_GradDownIdeal
    ∧ algebraic_GradDownIdeal_GradDownRefIdeal (hGradDownIdeal := hGradDownIdeal) (hGradDownRefIdeal := hGradDownRefIdeal)
    ∧ preserves_GradUp_GradUpIdeal
    ∧ algebraic_GradUpIdeal_GradUpRefIdeal (hGradUpIdeal := hGradUpIdeal) (hGradUpRefIdeal := hGradUpRefIdeal)
    ∧ preserves_GradIn_GradInIdeal
    ∧ algebraic_GradInIdeal_GradInRefIdeal (hGradInIdeal := hGradInIdeal) (hGradInRefIdeal := hGradInRefIdeal)
    ∧ preserves_GradQkv_GradQkvIdeal
    ∧ algebraic_GradQkvIdeal_GradQkvRefIdeal (hGradQkvIdeal := hGradQkvIdeal) (hGradQkvRefIdeal := hGradQkvRefIdeal)
    ∧ preserves_GradO_GradOIdeal
    ∧ algebraic_GradOIdeal_GradORefIdeal (hGradOIdeal := hGradOIdeal) (hGradORefIdeal := hGradORefIdeal)
    ∧ preserves_RowOut_RowOutIdeal
    ∧ algebraic_RowOutIdeal_RowOutRefIdeal (hRowOutIdeal := hRowOutIdeal) (hRowOutRefIdeal := hRowOutRefIdeal)
    ∧ preserves_RowDown_RowDownIdeal
    ∧ algebraic_RowDownIdeal_RowDownRefIdeal (hRowDownIdeal := hRowDownIdeal) (hRowDownRefIdeal := hRowDownRefIdeal)
    ∧ preserves_RowLast_RowLastIdeal
    ∧ algebraic_RowLastIdeal_RowLastRefIdeal (hRowLastIdeal := hRowLastIdeal) (hRowLastRefIdeal := hRowLastRefIdeal)
    ∧ preserves_RowUp_RowUpIdeal
    ∧ algebraic_RowUpIdeal_RowUpRefIdeal (hRowUpIdeal := hRowUpIdeal) (hRowUpRefIdeal := hRowUpRefIdeal)
    ∧ preserves_RowQkv_RowQkvIdeal
    ∧ algebraic_RowQkvIdeal_RowQkvRefIdeal (hRowQkvIdeal := hRowQkvIdeal) (hRowQkvRefIdeal := hRowQkvRefIdeal)
    ∧ preserves_RowIn_RowInIdeal
    ∧ algebraic_RowInIdeal_RowInRefIdeal (hRowInIdeal := hRowInIdeal) (hRowInRefIdeal := hRowInRefIdeal)
    ∧ preserves_Loss_LossIdeal
    ∧ algebraic_LossIdeal_LossRefIdeal (hLossIdeal := hLossIdeal) (hLossRefIdeal := hLossRefIdeal)
    ∧ preserves_Conv_ConvIdeal
    ∧ algebraic_ConvIdeal_ConvRefIdeal (hConvIdeal := hConvIdeal) (hConvRefIdeal := hConvRefIdeal)
    ∧ preserves_ConvBack_ConvBackIdeal
    ∧ algebraic_ConvBackIdeal_ConvBackRefIdeal (hConvBackIdeal := hConvBackIdeal) (hConvBackRefIdeal := hConvBackRefIdeal)
    ∧ preserves_Rope_RopeIdeal
    ∧ algebraic_RopeIdeal_RopeRefIdeal (hRopeIdeal := hRopeIdeal) (hRopeRefIdeal := hRopeRefIdeal)
    ∧ preserves_RopeBack_RopeBackIdeal
    ∧ algebraic_RopeBackIdeal_RopeBackRefIdeal (hRopeBackIdeal := hRopeBackIdeal) (hRopeBackRefIdeal := hRopeBackRefIdeal)
-- ==== AllToAll.lean ====
abbrev S8x768x2048 : Shape := ⟨3, ![8, 768, 2048]⟩
abbrev S8x1024x2048 : Shape := ⟨3, ![8, 1024, 2048]⟩
abbrev S8x320x2048 : Shape := ⟨3, ![8, 320, 2048]⟩
abbrev S8x256x2048 : Shape := ⟨3, ![8, 256, 2048]⟩
abbrev S56 : Shape := ⟨1, ![56]⟩
abbrev S8 : Shape := ⟨1, ![8]⟩
abbrev S1 : Shape := ⟨1, ![1]⟩
abbrev S_ : Shape := ⟨0, ![]⟩
abbrev S1x768x2048 : Shape := ⟨3, ![1, 768, 2048]⟩
abbrev S768x2048 : Shape := ⟨2, ![768, 2048]⟩
abbrev S1x1024x2048 : Shape := ⟨3, ![1, 1024, 2048]⟩
abbrev S1024x2048 : Shape := ⟨2, ![1024, 2048]⟩
abbrev S1x320x2048 : Shape := ⟨3, ![1, 320, 2048]⟩
abbrev S320x2048 : Shape := ⟨2, ![320, 2048]⟩
abbrev S1x256x2048 : Shape := ⟨3, ![1, 256, 2048]⟩
abbrev S256x2048 : Shape := ⟨2, ![256, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8x768x2048, .bf16⟩
  | .hbm, ⟨1, _⟩ => ⟨S8x1024x2048, .bf16⟩
  | .hbm, ⟨2, _⟩ => ⟨S8x320x2048, .bf16⟩
  | .hbm, ⟨3, _⟩ => ⟨S8x1024x2048, .bf16⟩
  | .hbm, ⟨4, _⟩ => ⟨S8x256x2048, .bf16⟩
  | .hbm, ⟨5, _⟩ => ⟨S8x1024x2048, .bf16⟩
  | .hbm, ⟨6, _⟩ => ⟨S8x256x2048, .bf16⟩
  | .hbm, ⟨7, _⟩ => ⟨S8x1024x2048, .bf16⟩
  | .hbm, ⟨8, _⟩ => ⟨S8x768x2048, .bf16⟩
  | .hbm, ⟨9, _⟩ => ⟨S8x1024x2048, .bf16⟩
  | .hbm, ⟨10, _⟩ => ⟨S8x320x2048, .bf16⟩
  | .hbm, ⟨11, _⟩ => ⟨S8x1024x2048, .bf16⟩
  | .hbm, ⟨12, _⟩ => ⟨S8x256x2048, .bf16⟩
  | .hbm, ⟨13, _⟩ => ⟨S8x1024x2048, .bf16⟩
  | .hbm, ⟨14, _⟩ => ⟨S8x256x2048, .bf16⟩
  | .hbm, ⟨15, _⟩ => ⟨S8x1024x2048, .bf16⟩
  | _, _ => ⟨S8x768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 120 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | _ => false

abbrev sig : RefSig :=
  ofTc nBuf bufTy 0 120 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev main_v1_7 : Ref sig .tc := ⟨.hbm, 15, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_10 : BitVec 32 := 0#32
  let c0_i32_11 : BitVec 32 := 0#32
  ![v12.toNat, 0, 0]
def k0_off3 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_15 : BitVec 32 := 0#32
  let c0_i32_16 : BitVec 32 := 0#32
  ![v12.toNat, 0, 0]
def k0_off4 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_24 : BitVec 32 := 0#32
  let c0_i32_25 : BitVec 32 := 0#32
  ![v12.toNat, 0, 0]
def k0_off5 (d0 : Dev nD) : Fin 3 → Nat :=
  let c4_i32_47 : BitVec 32 := 4#32
  let v61 : BitVec 32 := Dev.word d0
  let c4_i32_41 : BitVec 32 := 4#32
  let v62 : BitVec 32 := Scalar.divsi v61 c4_i32_41
  let c2_i32_40 : BitVec 32 := 2#32
  let v63 : BitVec 32 := Scalar.remsi v62 c2_i32_40
  let v71 : BitVec 32 := Scalar.muli c4_i32_47 v63
  let c2_i32_48 : BitVec 32 := 2#32
  let v64 : BitVec 32 := Dev.word d0
  let c2_i32_43 : BitVec 32 := 2#32
  let v65 : BitVec 32 := Scalar.divsi v64 c2_i32_43
  let c2_i32_42 : BitVec 32 := 2#32
  let v66 : BitVec 32 := Scalar.remsi v65 c2_i32_42
  let v72 : BitVec 32 := Scalar.muli c2_i32_48 v66
  let v73 : BitVec 32 := Scalar.addi v71 v72
  let c1_i32_46 : BitVec 32 := 1#32
  let v67 : BitVec 32 := Dev.word d0
  let c1_i32_45 : BitVec 32 := 1#32
  let v68 : BitVec 32 := Scalar.divsi v67 c1_i32_45
  let c2_i32_44 : BitVec 32 := 2#32
  let v69 : BitVec 32 := Scalar.remsi v68 c2_i32_44
  let v70 : BitVec 32 := Scalar.subi c1_i32_46 v69
  let v74 : BitVec 32 := Scalar.addi v73 v70
  let c0_i32_57 : BitVec 32 := 0#32
  let c0_i32_58 : BitVec 32 := 0#32
  ![v74.toNat, 0, 0]
def k0_dev1 (d0 : Dev nD) : Nat :=
  let c0_i32_52 : BitVec 32 := 0#32
  let v61 : BitVec 32 := Dev.word d0
  let c4_i32_41 : BitVec 32 := 4#32
  let v62 : BitVec 32 := Scalar.divsi v61 c4_i32_41
  let c2_i32_40 : BitVec 32 := 2#32
  let v63 : BitVec 32 := Scalar.remsi v62 c2_i32_40
  let c4_i32_51 : BitVec 32 := 4#32
  let v75 : BitVec 32 := Scalar.muli v63 c4_i32_51
  let v76 : BitVec 32 := Scalar.addi c0_i32_52 v75
  let v64 : BitVec 32 := Dev.word d0
  let c2_i32_43 : BitVec 32 := 2#32
  let v65 : BitVec 32 := Scalar.divsi v64 c2_i32_43
  let c2_i32_42 : BitVec 32 := 2#32
  let v66 : BitVec 32 := Scalar.remsi v65 c2_i32_42
  let c2_i32_53 : BitVec 32 := 2#32
  let v77 : BitVec 32 := Scalar.muli v66 c2_i32_53
  let v78 : BitVec 32 := Scalar.addi v76 v77
  let c1_i32_46 : BitVec 32 := 1#32
  let v67 : BitVec 32 := Dev.word d0
  let c1_i32_45 : BitVec 32 := 1#32
  let v68 : BitVec 32 := Scalar.divsi v67 c1_i32_45
  let c2_i32_44 : BitVec 32 := 2#32
  let v69 : BitVec 32 := Scalar.remsi v68 c2_i32_44
  let v70 : BitVec 32 := Scalar.subi c1_i32_46 v69
  let c1_i32_54 : BitVec 32 := 1#32
  let v79 : BitVec 32 := Scalar.muli v70 c1_i32_54
  let v80 : BitVec 32 := Scalar.addi v78 v79
  v80.toNat
def k0_off6 (d0 : Dev nD) : Fin 3 → Nat :=
  let c4_i32_47 : BitVec 32 := 4#32
  let v61 : BitVec 32 := Dev.word d0
  let c4_i32_41 : BitVec 32 := 4#32
  let v62 : BitVec 32 := Scalar.divsi v61 c4_i32_41
  let c2_i32_40 : BitVec 32 := 2#32
  let v63 : BitVec 32 := Scalar.remsi v62 c2_i32_40
  let v71 : BitVec 32 := Scalar.muli c4_i32_47 v63
  let c2_i32_48 : BitVec 32 := 2#32
  let v64 : BitVec 32 := Dev.word d0
  let c2_i32_43 : BitVec 32 := 2#32
  let v65 : BitVec 32 := Scalar.divsi v64 c2_i32_43
  let c2_i32_42 : BitVec 32 := 2#32
  let v66 : BitVec 32 := Scalar.remsi v65 c2_i32_42
  let v72 : BitVec 32 := Scalar.muli c2_i32_48 v66
  let v73 : BitVec 32 := Scalar.addi v71 v72
  let c1_i32_46 : BitVec 32 := 1#32
  let v67 : BitVec 32 := Dev.word d0
  let c1_i32_45 : BitVec 32 := 1#32
  let v68 : BitVec 32 := Scalar.divsi v67 c1_i32_45
  let c2_i32_44 : BitVec 32 := 2#32
  let v69 : BitVec 32 := Scalar.remsi v68 c2_i32_44
  let v70 : BitVec 32 := Scalar.subi c1_i32_46 v69
  let v74 : BitVec 32 := Scalar.addi v73 v70
  let c0_i32_67 : BitVec 32 := 0#32
  let c0_i32_68 : BitVec 32 := 0#32
  ![v74.toNat, 0, 0]
def k0_dev2 (d0 : Dev nD) : Nat :=
  let c0_i32_62 : BitVec 32 := 0#32
  let v61 : BitVec 32 := Dev.word d0
  let c4_i32_41 : BitVec 32 := 4#32
  let v62 : BitVec 32 := Scalar.divsi v61 c4_i32_41
  let c2_i32_40 : BitVec 32 := 2#32
  let v63 : BitVec 32 := Scalar.remsi v62 c2_i32_40
  let c4_i32_61 : BitVec 32 := 4#32
  let v89 : BitVec 32 := Scalar.muli v63 c4_i32_61
  let v90 : BitVec 32 := Scalar.addi c0_i32_62 v89
  let v64 : BitVec 32 := Dev.word d0
  let c2_i32_43 : BitVec 32 := 2#32
  let v65 : BitVec 32 := Scalar.divsi v64 c2_i32_43
  let c2_i32_42 : BitVec 32 := 2#32
  let v66 : BitVec 32 := Scalar.remsi v65 c2_i32_42
  let c2_i32_63 : BitVec 32 := 2#32
  let v91 : BitVec 32 := Scalar.muli v66 c2_i32_63
  let v92 : BitVec 32 := Scalar.addi v90 v91
  let c1_i32_46 : BitVec 32 := 1#32
  let v67 : BitVec 32 := Dev.word d0
  let c1_i32_45 : BitVec 32 := 1#32
  let v68 : BitVec 32 := Scalar.divsi v67 c1_i32_45
  let c2_i32_44 : BitVec 32 := 2#32
  let v69 : BitVec 32 := Scalar.remsi v68 c2_i32_44
  let v70 : BitVec 32 := Scalar.subi c1_i32_46 v69
  let c1_i32_64 : BitVec 32 := 1#32
  let v93 : BitVec 32 := Scalar.muli v70 c1_i32_64
  let v94 : BitVec 32 := Scalar.addi v92 v93
  v94.toNat
def k0_off7 (d0 : Dev nD) : Fin 3 → Nat :=
  let c4_i32_47 : BitVec 32 := 4#32
  let v61 : BitVec 32 := Dev.word d0
  let c4_i32_41 : BitVec 32 := 4#32
  let v62 : BitVec 32 := Scalar.divsi v61 c4_i32_41
  let c2_i32_40 : BitVec 32 := 2#32
  let v63 : BitVec 32 := Scalar.remsi v62 c2_i32_40
  let v71 : BitVec 32 := Scalar.muli c4_i32_47 v63
  let c2_i32_48 : BitVec 32 := 2#32
  let v64 : BitVec 32 := Dev.word d0
  let c2_i32_43 : BitVec 32 := 2#32
  let v65 : BitVec 32 := Scalar.divsi v64 c2_i32_43
  let c2_i32_42 : BitVec 32 := 2#32
  let v66 : BitVec 32 := Scalar.remsi v65 c2_i32_42
  let v72 : BitVec 32 := Scalar.muli c2_i32_48 v66
  let v73 : BitVec 32 := Scalar.addi v71 v72
  let c1_i32_46 : BitVec 32 := 1#32
  let v67 : BitVec 32 := Dev.word d0
  let c1_i32_45 : BitVec 32 := 1#32
  let v68 : BitVec 32 := Scalar.divsi v67 c1_i32_45
  let c2_i32_44 : BitVec 32 := 2#32
  let v69 : BitVec 32 := Scalar.remsi v68 c2_i32_44
  let v70 : BitVec 32 := Scalar.subi c1_i32_46 v69
  let v74 : BitVec 32 := Scalar.addi v73 v70
  let c0_i32_76 : BitVec 32 := 0#32
  let c0_i32_77 : BitVec 32 := 0#32
  ![v74.toNat, 0, 0]
def k0_dev3 (d0 : Dev nD) : Nat :=
  let c0_i32_71 : BitVec 32 := 0#32
  let v61 : BitVec 32 := Dev.word d0
  let c4_i32_41 : BitVec 32 := 4#32
  let v62 : BitVec 32 := Scalar.divsi v61 c4_i32_41
  let c2_i32_40 : BitVec 32 := 2#32
  let v63 : BitVec 32 := Scalar.remsi v62 c2_i32_40
  let c4_i32_70 : BitVec 32 := 4#32
  let v103 : BitVec 32 := Scalar.muli v63 c4_i32_70
  let v104 : BitVec 32 := Scalar.addi c0_i32_71 v103
  let v64 : BitVec 32 := Dev.word d0
  let c2_i32_43 : BitVec 32 := 2#32
  let v65 : BitVec 32 := Scalar.divsi v64 c2_i32_43
  let c2_i32_42 : BitVec 32 := 2#32
  let v66 : BitVec 32 := Scalar.remsi v65 c2_i32_42
  let c2_i32_72 : BitVec 32 := 2#32
  let v105 : BitVec 32 := Scalar.muli v66 c2_i32_72
  let v106 : BitVec 32 := Scalar.addi v104 v105
  let c1_i32_46 : BitVec 32 := 1#32
  let v67 : BitVec 32 := Dev.word d0
  let c1_i32_45 : BitVec 32 := 1#32
  let v68 : BitVec 32 := Scalar.divsi v67 c1_i32_45
  let c2_i32_44 : BitVec 32 := 2#32
  let v69 : BitVec 32 := Scalar.remsi v68 c2_i32_44
  let v70 : BitVec 32 := Scalar.subi c1_i32_46 v69
  let c1_i32_73 : BitVec 32 := 1#32
  let v107 : BitVec 32 := Scalar.muli v70 c1_i32_73
  let v108 : BitVec 32 := Scalar.addi v106 v107
  v108.toNat
def k0_dev4 (d0 : Dev nD) : Nat :=
  let c0_i32_80 : BitVec 32 := 0#32
  let v61 : BitVec 32 := Dev.word d0
  let c4_i32_41 : BitVec 32 := 4#32
  let v62 : BitVec 32 := Scalar.divsi v61 c4_i32_41
  let c2_i32_40 : BitVec 32 := 2#32
  let v63 : BitVec 32 := Scalar.remsi v62 c2_i32_40
  let c4_i32_79 : BitVec 32 := 4#32
  let v117 : BitVec 32 := Scalar.muli v63 c4_i32_79
  let v118 : BitVec 32 := Scalar.addi c0_i32_80 v117
  let v64 : BitVec 32 := Dev.word d0
  let c2_i32_43 : BitVec 32 := 2#32
  let v65 : BitVec 32 := Scalar.divsi v64 c2_i32_43
  let c2_i32_42 : BitVec 32 := 2#32
  let v66 : BitVec 32 := Scalar.remsi v65 c2_i32_42
  let c2_i32_81 : BitVec 32 := 2#32
  let v119 : BitVec 32 := Scalar.muli v66 c2_i32_81
  let v120 : BitVec 32 := Scalar.addi v118 v119
  let c1_i32_46 : BitVec 32 := 1#32
  let v67 : BitVec 32 := Dev.word d0
  let c1_i32_45 : BitVec 32 := 1#32
  let v68 : BitVec 32 := Scalar.divsi v67 c1_i32_45
  let c2_i32_44 : BitVec 32 := 2#32
  let v69 : BitVec 32 := Scalar.remsi v68 c2_i32_44
  let v70 : BitVec 32 := Scalar.subi c1_i32_46 v69
  let c1_i32_82 : BitVec 32 := 1#32
  let v121 : BitVec 32 := Scalar.muli v70 c1_i32_82
  let v122 : BitVec 32 := Scalar.addi v120 v121
  v122.toNat
def k0_off8 (d0 : Dev nD) : Fin 3 → Nat :=
  let c4_i32_47 : BitVec 32 := 4#32
  let v61 : BitVec 32 := Dev.word d0
  let c4_i32_41 : BitVec 32 := 4#32
  let v62 : BitVec 32 := Scalar.divsi v61 c4_i32_41
  let c2_i32_40 : BitVec 32 := 2#32
  let v63 : BitVec 32 := Scalar.remsi v62 c2_i32_40
  let v71 : BitVec 32 := Scalar.muli c4_i32_47 v63
  let c2_i32_48 : BitVec 32 := 2#32
  let v64 : BitVec 32 := Dev.word d0
  let c2_i32_43 : BitVec 32 := 2#32
  let v65 : BitVec 32 := Scalar.divsi v64 c2_i32_43
  let c2_i32_42 : BitVec 32 := 2#32
  let v66 : BitVec 32 := Scalar.remsi v65 c2_i32_42
  let v72 : BitVec 32 := Scalar.muli c2_i32_48 v66
  let v73 : BitVec 32 := Scalar.addi v71 v72
  let c1_i32_46 : BitVec 32 := 1#32
  let v67 : BitVec 32 := Dev.word d0
  let c1_i32_45 : BitVec 32 := 1#32
  let v68 : BitVec 32 := Scalar.divsi v67 c1_i32_45
  let c2_i32_44 : BitVec 32 := 2#32
  let v69 : BitVec 32 := Scalar.remsi v68 c2_i32_44
  let v70 : BitVec 32 := Scalar.subi c1_i32_46 v69
  let v74 : BitVec 32 := Scalar.addi v73 v70
  let c0_i32_94 : BitVec 32 := 0#32
  let c0_i32_95 : BitVec 32 := 0#32
  ![v74.toNat, 0, 0]
def k0_dev5 (d0 : Dev nD) : Nat :=
  let c0_i32_89 : BitVec 32 := 0#32
  let v61 : BitVec 32 := Dev.word d0
  let c4_i32_41 : BitVec 32 := 4#32
  let v62 : BitVec 32 := Scalar.divsi v61 c4_i32_41
  let c2_i32_40 : BitVec 32 := 2#32
  let v63 : BitVec 32 := Scalar.remsi v62 c2_i32_40
  let c4_i32_88 : BitVec 32 := 4#32
  let v131 : BitVec 32 := Scalar.muli v63 c4_i32_88
  let v132 : BitVec 32 := Scalar.addi c0_i32_89 v131
  let v64 : BitVec 32 := Dev.word d0
  let c2_i32_43 : BitVec 32 := 2#32
  let v65 : BitVec 32 := Scalar.divsi v64 c2_i32_43
  let c2_i32_42 : BitVec 32 := 2#32
  let v66 : BitVec 32 := Scalar.remsi v65 c2_i32_42
  let c2_i32_90 : BitVec 32 := 2#32
  let v133 : BitVec 32 := Scalar.muli v66 c2_i32_90
  let v134 : BitVec 32 := Scalar.addi v132 v133
  let c1_i32_46 : BitVec 32 := 1#32
  let v67 : BitVec 32 := Dev.word d0
  let c1_i32_45 : BitVec 32 := 1#32
  let v68 : BitVec 32 := Scalar.divsi v67 c1_i32_45
  let c2_i32_44 : BitVec 32 := 2#32
  let v69 : BitVec 32 := Scalar.remsi v68 c2_i32_44
  let v70 : BitVec 32 := Scalar.subi c1_i32_46 v69
  let c1_i32_91 : BitVec 32 := 1#32
  let v135 : BitVec 32 := Scalar.muli v70 c1_i32_91
  let v136 : BitVec 32 := Scalar.addi v134 v135
  v136.toNat
def k0_dev6 (d0 : Dev nD) : Nat :=
  let c0_i32_98 : BitVec 32 := 0#32
  let v61 : BitVec 32 := Dev.word d0
  let c4_i32_41 : BitVec 32 := 4#32
  let v62 : BitVec 32 := Scalar.divsi v61 c4_i32_41
  let c2_i32_40 : BitVec 32 := 2#32
  let v63 : BitVec 32 := Scalar.remsi v62 c2_i32_40
  let c4_i32_97 : BitVec 32 := 4#32
  let v145 : BitVec 32 := Scalar.muli v63 c4_i32_97
  let v146 : BitVec 32 := Scalar.addi c0_i32_98 v145
  let v64 : BitVec 32 := Dev.word d0
  let c2_i32_43 : BitVec 32 := 2#32
  let v65 : BitVec 32 := Scalar.divsi v64 c2_i32_43
  let c2_i32_42 : BitVec 32 := 2#32
  let v66 : BitVec 32 := Scalar.remsi v65 c2_i32_42
  let c2_i32_99 : BitVec 32 := 2#32
  let v147 : BitVec 32 := Scalar.muli v66 c2_i32_99
  let v148 : BitVec 32 := Scalar.addi v146 v147
  let c1_i32_46 : BitVec 32 := 1#32
  let v67 : BitVec 32 := Dev.word d0
  let c1_i32_45 : BitVec 32 := 1#32
  let v68 : BitVec 32 := Scalar.divsi v67 c1_i32_45
  let c2_i32_44 : BitVec 32 := 2#32
  let v69 : BitVec 32 := Scalar.remsi v68 c2_i32_44
  let v70 : BitVec 32 := Scalar.subi c1_i32_46 v69
  let c1_i32_100 : BitVec 32 := 1#32
  let v149 : BitVec 32 := Scalar.muli v70 c1_i32_100
  let v150 : BitVec 32 := Scalar.addi v148 v149
  v150.toNat
def k0_dev7 (d0 : Dev nD) : Nat :=
  let c0_i32_107 : BitVec 32 := 0#32
  let v61 : BitVec 32 := Dev.word d0
  let c4_i32_41 : BitVec 32 := 4#32
  let v62 : BitVec 32 := Scalar.divsi v61 c4_i32_41
  let c2_i32_40 : BitVec 32 := 2#32
  let v63 : BitVec 32 := Scalar.remsi v62 c2_i32_40
  let c4_i32_106 : BitVec 32 := 4#32
  let v159 : BitVec 32 := Scalar.muli v63 c4_i32_106
  let v160 : BitVec 32 := Scalar.addi c0_i32_107 v159
  let v64 : BitVec 32 := Dev.word d0
  let c2_i32_43 : BitVec 32 := 2#32
  let v65 : BitVec 32 := Scalar.divsi v64 c2_i32_43
  let c2_i32_42 : BitVec 32 := 2#32
  let v66 : BitVec 32 := Scalar.remsi v65 c2_i32_42
  let c2_i32_108 : BitVec 32 := 2#32
  let v161 : BitVec 32 := Scalar.muli v66 c2_i32_108
  let v162 : BitVec 32 := Scalar.addi v160 v161
  let c1_i32_46 : BitVec 32 := 1#32
  let v67 : BitVec 32 := Dev.word d0
  let c1_i32_45 : BitVec 32 := 1#32
  let v68 : BitVec 32 := Scalar.divsi v67 c1_i32_45
  let c2_i32_44 : BitVec 32 := 2#32
  let v69 : BitVec 32 := Scalar.remsi v68 c2_i32_44
  let v70 : BitVec 32 := Scalar.subi c1_i32_46 v69
  let c1_i32_109 : BitVec 32 := 1#32
  let v163 : BitVec 32 := Scalar.muli v70 c1_i32_109
  let v164 : BitVec 32 := Scalar.addi v162 v163
  v164.toNat
def k0_dev8 (d0 : Dev nD) : Nat :=
  let c0_i32_116 : BitVec 32 := 0#32
  let v61 : BitVec 32 := Dev.word d0
  let c4_i32_41 : BitVec 32 := 4#32
  let v62 : BitVec 32 := Scalar.divsi v61 c4_i32_41
  let c2_i32_40 : BitVec 32 := 2#32
  let v63 : BitVec 32 := Scalar.remsi v62 c2_i32_40
  let c4_i32_115 : BitVec 32 := 4#32
  let v173 : BitVec 32 := Scalar.muli v63 c4_i32_115
  let v174 : BitVec 32 := Scalar.addi c0_i32_116 v173
  let v64 : BitVec 32 := Dev.word d0
  let c2_i32_43 : BitVec 32 := 2#32
  let v65 : BitVec 32 := Scalar.divsi v64 c2_i32_43
  let c2_i32_42 : BitVec 32 := 2#32
  let v66 : BitVec 32 := Scalar.remsi v65 c2_i32_42
  let c2_i32_117 : BitVec 32 := 2#32
  let v175 : BitVec 32 := Scalar.muli v66 c2_i32_117
  let v176 : BitVec 32 := Scalar.addi v174 v175
  let c1_i32_46 : BitVec 32 := 1#32
  let v67 : BitVec 32 := Dev.word d0
  let c1_i32_45 : BitVec 32 := 1#32
  let v68 : BitVec 32 := Scalar.divsi v67 c1_i32_45
  let c2_i32_44 : BitVec 32 := 2#32
  let v69 : BitVec 32 := Scalar.remsi v68 c2_i32_44
  let v70 : BitVec 32 := Scalar.subi c1_i32_46 v69
  let c1_i32_118 : BitVec 32 := 1#32
  let v177 : BitVec 32 := Scalar.muli v70 c1_i32_118
  let v178 : BitVec 32 := Scalar.addi v176 v177
  v178.toNat
def k0_off9 (d0 : Dev nD) : Fin 3 → Nat :=
  let c4_i32_130 : BitVec 32 := 4#32
  let v187 : BitVec 32 := Dev.word d0
  let c4_i32_124 : BitVec 32 := 4#32
  let v188 : BitVec 32 := Scalar.divsi v187 c4_i32_124
  let c2_i32_123 : BitVec 32 := 2#32
  let v189 : BitVec 32 := Scalar.remsi v188 c2_i32_123
  let v197 : BitVec 32 := Scalar.muli c4_i32_130 v189
  let c2_i32_131 : BitVec 32 := 2#32
  let c1_i32_129 : BitVec 32 := 1#32
  let v190 : BitVec 32 := Dev.word d0
  let c2_i32_126 : BitVec 32 := 2#32
  let v191 : BitVec 32 := Scalar.divsi v190 c2_i32_126
  let c2_i32_125 : BitVec 32 := 2#32
  let v192 : BitVec 32 := Scalar.remsi v191 c2_i32_125
  let v196 : BitVec 32 := Scalar.subi c1_i32_129 v192
  let v198 : BitVec 32 := Scalar.muli c2_i32_131 v196
  let v199 : BitVec 32 := Scalar.addi v197 v198
  let v193 : BitVec 32 := Dev.word d0
  let c1_i32_128 : BitVec 32 := 1#32
  let v194 : BitVec 32 := Scalar.divsi v193 c1_i32_128
  let c2_i32_127 : BitVec 32 := 2#32
  let v195 : BitVec 32 := Scalar.remsi v194 c2_i32_127
  let v200 : BitVec 32 := Scalar.addi v199 v195
  let c0_i32_140 : BitVec 32 := 0#32
  let c0_i32_141 : BitVec 32 := 0#32
  ![v200.toNat, 0, 0]
def k0_dev9 (d0 : Dev nD) : Nat :=
  let c0_i32_135 : BitVec 32 := 0#32
  let v187 : BitVec 32 := Dev.word d0
  let c4_i32_124 : BitVec 32 := 4#32
  let v188 : BitVec 32 := Scalar.divsi v187 c4_i32_124
  let c2_i32_123 : BitVec 32 := 2#32
  let v189 : BitVec 32 := Scalar.remsi v188 c2_i32_123
  let c4_i32_134 : BitVec 32 := 4#32
  let v201 : BitVec 32 := Scalar.muli v189 c4_i32_134
  let v202 : BitVec 32 := Scalar.addi c0_i32_135 v201
  let c1_i32_129 : BitVec 32 := 1#32
  let v190 : BitVec 32 := Dev.word d0
  let c2_i32_126 : BitVec 32 := 2#32
  let v191 : BitVec 32 := Scalar.divsi v190 c2_i32_126
  let c2_i32_125 : BitVec 32 := 2#32
  let v192 : BitVec 32 := Scalar.remsi v191 c2_i32_125
  let v196 : BitVec 32 := Scalar.subi c1_i32_129 v192
  let c2_i32_136 : BitVec 32 := 2#32
  let v203 : BitVec 32 := Scalar.muli v196 c2_i32_136
  let v204 : BitVec 32 := Scalar.addi v202 v203
  let v193 : BitVec 32 := Dev.word d0
  let c1_i32_128 : BitVec 32 := 1#32
  let v194 : BitVec 32 := Scalar.divsi v193 c1_i32_128
  let c2_i32_127 : BitVec 32 := 2#32
  let v195 : BitVec 32 := Scalar.remsi v194 c2_i32_127
  let c1_i32_137 : BitVec 32 := 1#32
  let v205 : BitVec 32 := Scalar.muli v195 c1_i32_137
  let v206 : BitVec 32 := Scalar.addi v204 v205
  v206.toNat
def k0_off10 (d0 : Dev nD) : Fin 3 → Nat :=
  let c4_i32_130 : BitVec 32 := 4#32
  let v187 : BitVec 32 := Dev.word d0
  let c4_i32_124 : BitVec 32 := 4#32
  let v188 : BitVec 32 := Scalar.divsi v187 c4_i32_124
  let c2_i32_123 : BitVec 32 := 2#32
  let v189 : BitVec 32 := Scalar.remsi v188 c2_i32_123
  let v197 : BitVec 32 := Scalar.muli c4_i32_130 v189
  let c2_i32_131 : BitVec 32 := 2#32
  let c1_i32_129 : BitVec 32 := 1#32
  let v190 : BitVec 32 := Dev.word d0
  let c2_i32_126 : BitVec 32 := 2#32
  let v191 : BitVec 32 := Scalar.divsi v190 c2_i32_126
  let c2_i32_125 : BitVec 32 := 2#32
  let v192 : BitVec 32 := Scalar.remsi v191 c2_i32_125
  let v196 : BitVec 32 := Scalar.subi c1_i32_129 v192
  let v198 : BitVec 32 := Scalar.muli c2_i32_131 v196
  let v199 : BitVec 32 := Scalar.addi v197 v198
  let v193 : BitVec 32 := Dev.word d0
  let c1_i32_128 : BitVec 32 := 1#32
  let v194 : BitVec 32 := Scalar.divsi v193 c1_i32_128
  let c2_i32_127 : BitVec 32 := 2#32
  let v195 : BitVec 32 := Scalar.remsi v194 c2_i32_127
  let v200 : BitVec 32 := Scalar.addi v199 v195
  let c0_i32_149 : BitVec 32 := 0#32
  let c0_i32_150 : BitVec 32 := 0#32
  ![v200.toNat, 0, 0]
def k0_dev10 (d0 : Dev nD) : Nat :=
  let c0_i32_144 : BitVec 32 := 0#32
  let v187 : BitVec 32 := Dev.word d0
  let c4_i32_124 : BitVec 32 := 4#32
  let v188 : BitVec 32 := Scalar.divsi v187 c4_i32_124
  let c2_i32_123 : BitVec 32 := 2#32
  let v189 : BitVec 32 := Scalar.remsi v188 c2_i32_123
  let c4_i32_143 : BitVec 32 := 4#32
  let v215 : BitVec 32 := Scalar.muli v189 c4_i32_143
  let v216 : BitVec 32 := Scalar.addi c0_i32_144 v215
  let c1_i32_129 : BitVec 32 := 1#32
  let v190 : BitVec 32 := Dev.word d0
  let c2_i32_126 : BitVec 32 := 2#32
  let v191 : BitVec 32 := Scalar.divsi v190 c2_i32_126
  let c2_i32_125 : BitVec 32 := 2#32
  let v192 : BitVec 32 := Scalar.remsi v191 c2_i32_125
  let v196 : BitVec 32 := Scalar.subi c1_i32_129 v192
  let c2_i32_145 : BitVec 32 := 2#32
  let v217 : BitVec 32 := Scalar.muli v196 c2_i32_145
  let v218 : BitVec 32 := Scalar.addi v216 v217
  let v193 : BitVec 32 := Dev.word d0
  let c1_i32_128 : BitVec 32 := 1#32
  let v194 : BitVec 32 := Scalar.divsi v193 c1_i32_128
  let c2_i32_127 : BitVec 32 := 2#32
  let v195 : BitVec 32 := Scalar.remsi v194 c2_i32_127
  let c1_i32_146 : BitVec 32 := 1#32
  let v219 : BitVec 32 := Scalar.muli v195 c1_i32_146
  let v220 : BitVec 32 := Scalar.addi v218 v219
  v220.toNat
def k0_off11 (d0 : Dev nD) : Fin 3 → Nat :=
  let c4_i32_130 : BitVec 32 := 4#32
  let v187 : BitVec 32 := Dev.word d0
  let c4_i32_124 : BitVec 32 := 4#32
  let v188 : BitVec 32 := Scalar.divsi v187 c4_i32_124
  let c2_i32_123 : BitVec 32 := 2#32
  let v189 : BitVec 32 := Scalar.remsi v188 c2_i32_123
  let v197 : BitVec 32 := Scalar.muli c4_i32_130 v189
  let c2_i32_131 : BitVec 32 := 2#32
  let c1_i32_129 : BitVec 32 := 1#32
  let v190 : BitVec 32 := Dev.word d0
  let c2_i32_126 : BitVec 32 := 2#32
  let v191 : BitVec 32 := Scalar.divsi v190 c2_i32_126
  let c2_i32_125 : BitVec 32 := 2#32
  let v192 : BitVec 32 := Scalar.remsi v191 c2_i32_125
  let v196 : BitVec 32 := Scalar.subi c1_i32_129 v192
  let v198 : BitVec 32 := Scalar.muli c2_i32_131 v196
  let v199 : BitVec 32 := Scalar.addi v197 v198
  let v193 : BitVec 32 := Dev.word d0
  let c1_i32_128 : BitVec 32 := 1#32
  let v194 : BitVec 32 := Scalar.divsi v193 c1_i32_128
  let c2_i32_127 : BitVec 32 := 2#32
  let v195 : BitVec 32 := Scalar.remsi v194 c2_i32_127
  let v200 : BitVec 32 := Scalar.addi v199 v195
  let c0_i32_158 : BitVec 32 := 0#32
  let c0_i32_159 : BitVec 32 := 0#32
  ![v200.toNat, 0, 0]
def k0_dev11 (d0 : Dev nD) : Nat :=
  let c0_i32_153 : BitVec 32 := 0#32
  let v187 : BitVec 32 := Dev.word d0
  let c4_i32_124 : BitVec 32 := 4#32
  let v188 : BitVec 32 := Scalar.divsi v187 c4_i32_124
  let c2_i32_123 : BitVec 32 := 2#32
  let v189 : BitVec 32 := Scalar.remsi v188 c2_i32_123
  let c4_i32_152 : BitVec 32 := 4#32
  let v229 : BitVec 32 := Scalar.muli v189 c4_i32_152
  let v230 : BitVec 32 := Scalar.addi c0_i32_153 v229
  let c1_i32_129 : BitVec 32 := 1#32
  let v190 : BitVec 32 := Dev.word d0
  let c2_i32_126 : BitVec 32 := 2#32
  let v191 : BitVec 32 := Scalar.divsi v190 c2_i32_126
  let c2_i32_125 : BitVec 32 := 2#32
  let v192 : BitVec 32 := Scalar.remsi v191 c2_i32_125
  let v196 : BitVec 32 := Scalar.subi c1_i32_129 v192
  let c2_i32_154 : BitVec 32 := 2#32
  let v231 : BitVec 32 := Scalar.muli v196 c2_i32_154
  let v232 : BitVec 32 := Scalar.addi v230 v231
  let v193 : BitVec 32 := Dev.word d0
  let c1_i32_128 : BitVec 32 := 1#32
  let v194 : BitVec 32 := Scalar.divsi v193 c1_i32_128
  let c2_i32_127 : BitVec 32 := 2#32
  let v195 : BitVec 32 := Scalar.remsi v194 c2_i32_127
  let c1_i32_155 : BitVec 32 := 1#32
  let v233 : BitVec 32 := Scalar.muli v195 c1_i32_155
  let v234 : BitVec 32 := Scalar.addi v232 v233
  v234.toNat
def k0_dev12 (d0 : Dev nD) : Nat :=
  let c0_i32_162 : BitVec 32 := 0#32
  let v187 : BitVec 32 := Dev.word d0
  let c4_i32_124 : BitVec 32 := 4#32
  let v188 : BitVec 32 := Scalar.divsi v187 c4_i32_124
  let c2_i32_123 : BitVec 32 := 2#32
  let v189 : BitVec 32 := Scalar.remsi v188 c2_i32_123
  let c4_i32_161 : BitVec 32 := 4#32
  let v243 : BitVec 32 := Scalar.muli v189 c4_i32_161
  let v244 : BitVec 32 := Scalar.addi c0_i32_162 v243
  let c1_i32_129 : BitVec 32 := 1#32
  let v190 : BitVec 32 := Dev.word d0
  let c2_i32_126 : BitVec 32 := 2#32
  let v191 : BitVec 32 := Scalar.divsi v190 c2_i32_126
  let c2_i32_125 : BitVec 32 := 2#32
  let v192 : BitVec 32 := Scalar.remsi v191 c2_i32_125
  let v196 : BitVec 32 := Scalar.subi c1_i32_129 v192
  let c2_i32_163 : BitVec 32 := 2#32
  let v245 : BitVec 32 := Scalar.muli v196 c2_i32_163
  let v246 : BitVec 32 := Scalar.addi v244 v245
  let v193 : BitVec 32 := Dev.word d0
  let c1_i32_128 : BitVec 32 := 1#32
  let v194 : BitVec 32 := Scalar.divsi v193 c1_i32_128
  let c2_i32_127 : BitVec 32 := 2#32
  let v195 : BitVec 32 := Scalar.remsi v194 c2_i32_127
  let c1_i32_164 : BitVec 32 := 1#32
  let v247 : BitVec 32 := Scalar.muli v195 c1_i32_164
  let v248 : BitVec 32 := Scalar.addi v246 v247
  v248.toNat
def k0_off12 (d0 : Dev nD) : Fin 3 → Nat :=
  let c4_i32_130 : BitVec 32 := 4#32
  let v187 : BitVec 32 := Dev.word d0
  let c4_i32_124 : BitVec 32 := 4#32
  let v188 : BitVec 32 := Scalar.divsi v187 c4_i32_124
  let c2_i32_123 : BitVec 32 := 2#32
  let v189 : BitVec 32 := Scalar.remsi v188 c2_i32_123
  let v197 : BitVec 32 := Scalar.muli c4_i32_130 v189
  let c2_i32_131 : BitVec 32 := 2#32
  let c1_i32_129 : BitVec 32 := 1#32
  let v190 : BitVec 32 := Dev.word d0
  let c2_i32_126 : BitVec 32 := 2#32
  let v191 : BitVec 32 := Scalar.divsi v190 c2_i32_126
  let c2_i32_125 : BitVec 32 := 2#32
  let v192 : BitVec 32 := Scalar.remsi v191 c2_i32_125
  let v196 : BitVec 32 := Scalar.subi c1_i32_129 v192
  let v198 : BitVec 32 := Scalar.muli c2_i32_131 v196
  let v199 : BitVec 32 := Scalar.addi v197 v198
  let v193 : BitVec 32 := Dev.word d0
  let c1_i32_128 : BitVec 32 := 1#32
  let v194 : BitVec 32 := Scalar.divsi v193 c1_i32_128
  let c2_i32_127 : BitVec 32 := 2#32
  let v195 : BitVec 32 := Scalar.remsi v194 c2_i32_127
  let v200 : BitVec 32 := Scalar.addi v199 v195
  let c0_i32_176 : BitVec 32 := 0#32
  let c0_i32_177 : BitVec 32 := 0#32
  ![v200.toNat, 0, 0]
def k0_dev13 (d0 : Dev nD) : Nat :=
  let c0_i32_171 : BitVec 32 := 0#32
  let v187 : BitVec 32 := Dev.word d0
  let c4_i32_124 : BitVec 32 := 4#32
  let v188 : BitVec 32 := Scalar.divsi v187 c4_i32_124
  let c2_i32_123 : BitVec 32 := 2#32
  let v189 : BitVec 32 := Scalar.remsi v188 c2_i32_123
  let c4_i32_170 : BitVec 32 := 4#32
  let v257 : BitVec 32 := Scalar.muli v189 c4_i32_170
  let v258 : BitVec 32 := Scalar.addi c0_i32_171 v257
  let c1_i32_129 : BitVec 32 := 1#32
  let v190 : BitVec 32 := Dev.word d0
  let c2_i32_126 : BitVec 32 := 2#32
  let v191 : BitVec 32 := Scalar.divsi v190 c2_i32_126
  let c2_i32_125 : BitVec 32 := 2#32
  let v192 : BitVec 32 := Scalar.remsi v191 c2_i32_125
  let v196 : BitVec 32 := Scalar.subi c1_i32_129 v192
  let c2_i32_172 : BitVec 32 := 2#32
  let v259 : BitVec 32 := Scalar.muli v196 c2_i32_172
  let v260 : BitVec 32 := Scalar.addi v258 v259
  let v193 : BitVec 32 := Dev.word d0
  let c1_i32_128 : BitVec 32 := 1#32
  let v194 : BitVec 32 := Scalar.divsi v193 c1_i32_128
  let c2_i32_127 : BitVec 32 := 2#32
  let v195 : BitVec 32 := Scalar.remsi v194 c2_i32_127
  let c1_i32_173 : BitVec 32 := 1#32
  let v261 : BitVec 32 := Scalar.muli v195 c1_i32_173
  let v262 : BitVec 32 := Scalar.addi v260 v261
  v262.toNat
def k0_dev14 (d0 : Dev nD) : Nat :=
  let c0_i32_180 : BitVec 32 := 0#32
  let v187 : BitVec 32 := Dev.word d0
  let c4_i32_124 : BitVec 32 := 4#32
  let v188 : BitVec 32 := Scalar.divsi v187 c4_i32_124
  let c2_i32_123 : BitVec 32 := 2#32
  let v189 : BitVec 32 := Scalar.remsi v188 c2_i32_123
  let c4_i32_179 : BitVec 32 := 4#32
  let v271 : BitVec 32 := Scalar.muli v189 c4_i32_179
  let v272 : BitVec 32 := Scalar.addi c0_i32_180 v271
  let c1_i32_129 : BitVec 32 := 1#32
  let v190 : BitVec 32 := Dev.word d0
  let c2_i32_126 : BitVec 32 := 2#32
  let v191 : BitVec 32 := Scalar.divsi v190 c2_i32_126
  let c2_i32_125 : BitVec 32 := 2#32
  let v192 : BitVec 32 := Scalar.remsi v191 c2_i32_125
  let v196 : BitVec 32 := Scalar.subi c1_i32_129 v192
  let c2_i32_181 : BitVec 32 := 2#32
  let v273 : BitVec 32 := Scalar.muli v196 c2_i32_181
  let v274 : BitVec 32 := Scalar.addi v272 v273
  let v193 : BitVec 32 := Dev.word d0
  let c1_i32_128 : BitVec 32 := 1#32
  let v194 : BitVec 32 := Scalar.divsi v193 c1_i32_128
  let c2_i32_127 : BitVec 32 := 2#32
  let v195 : BitVec 32 := Scalar.remsi v194 c2_i32_127
  let c1_i32_182 : BitVec 32 := 1#32
  let v275 : BitVec 32 := Scalar.muli v195 c1_i32_182
  let v276 : BitVec 32 := Scalar.addi v274 v275
  v276.toNat
def k0_dev15 (d0 : Dev nD) : Nat :=
  let c0_i32_189 : BitVec 32 := 0#32
  let v187 : BitVec 32 := Dev.word d0
  let c4_i32_124 : BitVec 32 := 4#32
  let v188 : BitVec 32 := Scalar.divsi v187 c4_i32_124
  let c2_i32_123 : BitVec 32 := 2#32
  let v189 : BitVec 32 := Scalar.remsi v188 c2_i32_123
  let c4_i32_188 : BitVec 32 := 4#32
  let v285 : BitVec 32 := Scalar.muli v189 c4_i32_188
  let v286 : BitVec 32 := Scalar.addi c0_i32_189 v285
  let c1_i32_129 : BitVec 32 := 1#32
  let v190 : BitVec 32 := Dev.word d0
  let c2_i32_126 : BitVec 32 := 2#32
  let v191 : BitVec 32 := Scalar.divsi v190 c2_i32_126
  let c2_i32_125 : BitVec 32 := 2#32
  let v192 : BitVec 32 := Scalar.remsi v191 c2_i32_125
  let v196 : BitVec 32 := Scalar.subi c1_i32_129 v192
  let c2_i32_190 : BitVec 32 := 2#32
  let v287 : BitVec 32 := Scalar.muli v196 c2_i32_190
  let v288 : BitVec 32 := Scalar.addi v286 v287
  let v193 : BitVec 32 := Dev.word d0
  let c1_i32_128 : BitVec 32 := 1#32
  let v194 : BitVec 32 := Scalar.divsi v193 c1_i32_128
  let c2_i32_127 : BitVec 32 := 2#32
  let v195 : BitVec 32 := Scalar.remsi v194 c2_i32_127
  let c1_i32_191 : BitVec 32 := 1#32
  let v289 : BitVec 32 := Scalar.muli v195 c1_i32_191
  let v290 : BitVec 32 := Scalar.addi v288 v289
  v290.toNat
def k0_dev16 (d0 : Dev nD) : Nat :=
  let c0_i32_198 : BitVec 32 := 0#32
  let v187 : BitVec 32 := Dev.word d0
  let c4_i32_124 : BitVec 32 := 4#32
  let v188 : BitVec 32 := Scalar.divsi v187 c4_i32_124
  let c2_i32_123 : BitVec 32 := 2#32
  let v189 : BitVec 32 := Scalar.remsi v188 c2_i32_123
  let c4_i32_197 : BitVec 32 := 4#32
  let v299 : BitVec 32 := Scalar.muli v189 c4_i32_197
  let v300 : BitVec 32 := Scalar.addi c0_i32_198 v299
  let c1_i32_129 : BitVec 32 := 1#32
  let v190 : BitVec 32 := Dev.word d0
  let c2_i32_126 : BitVec 32 := 2#32
  let v191 : BitVec 32 := Scalar.divsi v190 c2_i32_126
  let c2_i32_125 : BitVec 32 := 2#32
  let v192 : BitVec 32 := Scalar.remsi v191 c2_i32_125
  let v196 : BitVec 32 := Scalar.subi c1_i32_129 v192
  let c2_i32_199 : BitVec 32 := 2#32
  let v301 : BitVec 32 := Scalar.muli v196 c2_i32_199
  let v302 : BitVec 32 := Scalar.addi v300 v301
  let v193 : BitVec 32 := Dev.word d0
  let c1_i32_128 : BitVec 32 := 1#32
  let v194 : BitVec 32 := Scalar.divsi v193 c1_i32_128
  let c2_i32_127 : BitVec 32 := 2#32
  let v195 : BitVec 32 := Scalar.remsi v194 c2_i32_127
  let c1_i32_200 : BitVec 32 := 1#32
  let v303 : BitVec 32 := Scalar.muli v195 c1_i32_200
  let v304 : BitVec 32 := Scalar.addi v302 v303
  v304.toNat
def k0_off13 (d0 : Dev nD) : Fin 3 → Nat :=
  let c4_i32_213 : BitVec 32 := 4#32
  let v313 : BitVec 32 := Dev.word d0
  let c4_i32_206 : BitVec 32 := 4#32
  let v314 : BitVec 32 := Scalar.divsi v313 c4_i32_206
  let c2_i32_205 : BitVec 32 := 2#32
  let v315 : BitVec 32 := Scalar.remsi v314 c2_i32_205
  let v324 : BitVec 32 := Scalar.muli c4_i32_213 v315
  let c2_i32_214 : BitVec 32 := 2#32
  let c1_i32_211 : BitVec 32 := 1#32
  let v316 : BitVec 32 := Dev.word d0
  let c2_i32_208 : BitVec 32 := 2#32
  let v317 : BitVec 32 := Scalar.divsi v316 c2_i32_208
  let c2_i32_207 : BitVec 32 := 2#32
  let v318 : BitVec 32 := Scalar.remsi v317 c2_i32_207
  let v322 : BitVec 32 := Scalar.subi c1_i32_211 v318
  let v325 : BitVec 32 := Scalar.muli c2_i32_214 v322
  let v326 : BitVec 32 := Scalar.addi v324 v325
  let c1_i32_212 : BitVec 32 := 1#32
  let v319 : BitVec 32 := Dev.word d0
  let c1_i32_210 : BitVec 32 := 1#32
  let v320 : BitVec 32 := Scalar.divsi v319 c1_i32_210
  let c2_i32_209 : BitVec 32 := 2#32
  let v321 : BitVec 32 := Scalar.remsi v320 c2_i32_209
  let v323 : BitVec 32 := Scalar.subi c1_i32_212 v321
  let v327 : BitVec 32 := Scalar.addi v326 v323
  let c0_i32_223 : BitVec 32 := 0#32
  let c0_i32_224 : BitVec 32 := 0#32
  ![v327.toNat, 0, 0]
def k0_dev17 (d0 : Dev nD) : Nat :=
  let c0_i32_218 : BitVec 32 := 0#32
  let v313 : BitVec 32 := Dev.word d0
  let c4_i32_206 : BitVec 32 := 4#32
  let v314 : BitVec 32 := Scalar.divsi v313 c4_i32_206
  let c2_i32_205 : BitVec 32 := 2#32
  let v315 : BitVec 32 := Scalar.remsi v314 c2_i32_205
  let c4_i32_217 : BitVec 32 := 4#32
  let v328 : BitVec 32 := Scalar.muli v315 c4_i32_217
  let v329 : BitVec 32 := Scalar.addi c0_i32_218 v328
  let c1_i32_211 : BitVec 32 := 1#32
  let v316 : BitVec 32 := Dev.word d0
  let c2_i32_208 : BitVec 32 := 2#32
  let v317 : BitVec 32 := Scalar.divsi v316 c2_i32_208
  let c2_i32_207 : BitVec 32 := 2#32
  let v318 : BitVec 32 := Scalar.remsi v317 c2_i32_207
  let v322 : BitVec 32 := Scalar.subi c1_i32_211 v318
  let c2_i32_219 : BitVec 32 := 2#32
  let v330 : BitVec 32 := Scalar.muli v322 c2_i32_219
  let v331 : BitVec 32 := Scalar.addi v329 v330
  let c1_i32_212 : BitVec 32 := 1#32
  let v319 : BitVec 32 := Dev.word d0
  let c1_i32_210 : BitVec 32 := 1#32
  let v320 : BitVec 32 := Scalar.divsi v319 c1_i32_210
  let c2_i32_209 : BitVec 32 := 2#32
  let v321 : BitVec 32 := Scalar.remsi v320 c2_i32_209
  let v323 : BitVec 32 := Scalar.subi c1_i32_212 v321
  let c1_i32_220 : BitVec 32 := 1#32
  let v332 : BitVec 32 := Scalar.muli v323 c1_i32_220
  let v333 : BitVec 32 := Scalar.addi v331 v332
  v333.toNat
def k0_off14 (d0 : Dev nD) : Fin 3 → Nat :=
  let c4_i32_213 : BitVec 32 := 4#32
  let v313 : BitVec 32 := Dev.word d0
  let c4_i32_206 : BitVec 32 := 4#32
  let v314 : BitVec 32 := Scalar.divsi v313 c4_i32_206
  let c2_i32_205 : BitVec 32 := 2#32
  let v315 : BitVec 32 := Scalar.remsi v314 c2_i32_205
  let v324 : BitVec 32 := Scalar.muli c4_i32_213 v315
  let c2_i32_214 : BitVec 32 := 2#32
  let c1_i32_211 : BitVec 32 := 1#32
  let v316 : BitVec 32 := Dev.word d0
  let c2_i32_208 : BitVec 32 := 2#32
  let v317 : BitVec 32 := Scalar.divsi v316 c2_i32_208
  let c2_i32_207 : BitVec 32 := 2#32
  let v318 : BitVec 32 := Scalar.remsi v317 c2_i32_207
  let v322 : BitVec 32 := Scalar.subi c1_i32_211 v318
  let v325 : BitVec 32 := Scalar.muli c2_i32_214 v322
  let v326 : BitVec 32 := Scalar.addi v324 v325
  let c1_i32_212 : BitVec 32 := 1#32
  let v319 : BitVec 32 := Dev.word d0
  let c1_i32_210 : BitVec 32 := 1#32
  let v320 : BitVec 32 := Scalar.divsi v319 c1_i32_210
  let c2_i32_209 : BitVec 32 := 2#32
  let v321 : BitVec 32 := Scalar.remsi v320 c2_i32_209
  let v323 : BitVec 32 := Scalar.subi c1_i32_212 v321
  let v327 : BitVec 32 := Scalar.addi v326 v323
  let c0_i32_232 : BitVec 32 := 0#32
  let c0_i32_233 : BitVec 32 := 0#32
  ![v327.toNat, 0, 0]
def k0_dev18 (d0 : Dev nD) : Nat :=
  let c0_i32_227 : BitVec 32 := 0#32
  let v313 : BitVec 32 := Dev.word d0
  let c4_i32_206 : BitVec 32 := 4#32
  let v314 : BitVec 32 := Scalar.divsi v313 c4_i32_206
  let c2_i32_205 : BitVec 32 := 2#32
  let v315 : BitVec 32 := Scalar.remsi v314 c2_i32_205
  let c4_i32_226 : BitVec 32 := 4#32
  let v342 : BitVec 32 := Scalar.muli v315 c4_i32_226
  let v343 : BitVec 32 := Scalar.addi c0_i32_227 v342
  let c1_i32_211 : BitVec 32 := 1#32
  let v316 : BitVec 32 := Dev.word d0
  let c2_i32_208 : BitVec 32 := 2#32
  let v317 : BitVec 32 := Scalar.divsi v316 c2_i32_208
  let c2_i32_207 : BitVec 32 := 2#32
  let v318 : BitVec 32 := Scalar.remsi v317 c2_i32_207
  let v322 : BitVec 32 := Scalar.subi c1_i32_211 v318
  let c2_i32_228 : BitVec 32 := 2#32
  let v344 : BitVec 32 := Scalar.muli v322 c2_i32_228
  let v345 : BitVec 32 := Scalar.addi v343 v344
  let c1_i32_212 : BitVec 32 := 1#32
  let v319 : BitVec 32 := Dev.word d0
  let c1_i32_210 : BitVec 32 := 1#32
  let v320 : BitVec 32 := Scalar.divsi v319 c1_i32_210
  let c2_i32_209 : BitVec 32 := 2#32
  let v321 : BitVec 32 := Scalar.remsi v320 c2_i32_209
  let v323 : BitVec 32 := Scalar.subi c1_i32_212 v321
  let c1_i32_229 : BitVec 32 := 1#32
  let v346 : BitVec 32 := Scalar.muli v323 c1_i32_229
  let v347 : BitVec 32 := Scalar.addi v345 v346
  v347.toNat
def k0_off15 (d0 : Dev nD) : Fin 3 → Nat :=
  let c4_i32_213 : BitVec 32 := 4#32
  let v313 : BitVec 32 := Dev.word d0
  let c4_i32_206 : BitVec 32 := 4#32
  let v314 : BitVec 32 := Scalar.divsi v313 c4_i32_206
  let c2_i32_205 : BitVec 32 := 2#32
  let v315 : BitVec 32 := Scalar.remsi v314 c2_i32_205
  let v324 : BitVec 32 := Scalar.muli c4_i32_213 v315
  let c2_i32_214 : BitVec 32 := 2#32
  let c1_i32_211 : BitVec 32 := 1#32
  let v316 : BitVec 32 := Dev.word d0
  let c2_i32_208 : BitVec 32 := 2#32
  let v317 : BitVec 32 := Scalar.divsi v316 c2_i32_208
  let c2_i32_207 : BitVec 32 := 2#32
  let v318 : BitVec 32 := Scalar.remsi v317 c2_i32_207
  let v322 : BitVec 32 := Scalar.subi c1_i32_211 v318
  let v325 : BitVec 32 := Scalar.muli c2_i32_214 v322
  let v326 : BitVec 32 := Scalar.addi v324 v325
  let c1_i32_212 : BitVec 32 := 1#32
  let v319 : BitVec 32 := Dev.word d0
  let c1_i32_210 : BitVec 32 := 1#32
  let v320 : BitVec 32 := Scalar.divsi v319 c1_i32_210
  let c2_i32_209 : BitVec 32 := 2#32
  let v321 : BitVec 32 := Scalar.remsi v320 c2_i32_209
  let v323 : BitVec 32 := Scalar.subi c1_i32_212 v321
  let v327 : BitVec 32 := Scalar.addi v326 v323
  let c0_i32_241 : BitVec 32 := 0#32
  let c0_i32_242 : BitVec 32 := 0#32
  ![v327.toNat, 0, 0]
def k0_dev19 (d0 : Dev nD) : Nat :=
  let c0_i32_236 : BitVec 32 := 0#32
  let v313 : BitVec 32 := Dev.word d0
  let c4_i32_206 : BitVec 32 := 4#32
  let v314 : BitVec 32 := Scalar.divsi v313 c4_i32_206
  let c2_i32_205 : BitVec 32 := 2#32
  let v315 : BitVec 32 := Scalar.remsi v314 c2_i32_205
  let c4_i32_235 : BitVec 32 := 4#32
  let v356 : BitVec 32 := Scalar.muli v315 c4_i32_235
  let v357 : BitVec 32 := Scalar.addi c0_i32_236 v356
  let c1_i32_211 : BitVec 32 := 1#32
  let v316 : BitVec 32 := Dev.word d0
  let c2_i32_208 : BitVec 32 := 2#32
  let v317 : BitVec 32 := Scalar.divsi v316 c2_i32_208
  let c2_i32_207 : BitVec 32 := 2#32
  let v318 : BitVec 32 := Scalar.remsi v317 c2_i32_207
  let v322 : BitVec 32 := Scalar.subi c1_i32_211 v318
  let c2_i32_237 : BitVec 32 := 2#32
  let v358 : BitVec 32 := Scalar.muli v322 c2_i32_237
  let v359 : BitVec 32 := Scalar.addi v357 v358
  let c1_i32_212 : BitVec 32 := 1#32
  let v319 : BitVec 32 := Dev.word d0
  let c1_i32_210 : BitVec 32 := 1#32
  let v320 : BitVec 32 := Scalar.divsi v319 c1_i32_210
  let c2_i32_209 : BitVec 32 := 2#32
  let v321 : BitVec 32 := Scalar.remsi v320 c2_i32_209
  let v323 : BitVec 32 := Scalar.subi c1_i32_212 v321
  let c1_i32_238 : BitVec 32 := 1#32
  let v360 : BitVec 32 := Scalar.muli v323 c1_i32_238
  let v361 : BitVec 32 := Scalar.addi v359 v360
  v361.toNat
def k0_dev20 (d0 : Dev nD) : Nat :=
  let c0_i32_245 : BitVec 32 := 0#32
  let v313 : BitVec 32 := Dev.word d0
  let c4_i32_206 : BitVec 32 := 4#32
  let v314 : BitVec 32 := Scalar.divsi v313 c4_i32_206
  let c2_i32_205 : BitVec 32 := 2#32
  let v315 : BitVec 32 := Scalar.remsi v314 c2_i32_205
  let c4_i32_244 : BitVec 32 := 4#32
  let v370 : BitVec 32 := Scalar.muli v315 c4_i32_244
  let v371 : BitVec 32 := Scalar.addi c0_i32_245 v370
  let c1_i32_211 : BitVec 32 := 1#32
  let v316 : BitVec 32 := Dev.word d0
  let c2_i32_208 : BitVec 32 := 2#32
  let v317 : BitVec 32 := Scalar.divsi v316 c2_i32_208
  let c2_i32_207 : BitVec 32 := 2#32
  let v318 : BitVec 32 := Scalar.remsi v317 c2_i32_207
  let v322 : BitVec 32 := Scalar.subi c1_i32_211 v318
  let c2_i32_246 : BitVec 32 := 2#32
  let v372 : BitVec 32 := Scalar.muli v322 c2_i32_246
  let v373 : BitVec 32 := Scalar.addi v371 v372
  let c1_i32_212 : BitVec 32 := 1#32
  let v319 : BitVec 32 := Dev.word d0
  let c1_i32_210 : BitVec 32 := 1#32
  let v320 : BitVec 32 := Scalar.divsi v319 c1_i32_210
  let c2_i32_209 : BitVec 32 := 2#32
  let v321 : BitVec 32 := Scalar.remsi v320 c2_i32_209
  let v323 : BitVec 32 := Scalar.subi c1_i32_212 v321
  let c1_i32_247 : BitVec 32 := 1#32
  let v374 : BitVec 32 := Scalar.muli v323 c1_i32_247
  let v375 : BitVec 32 := Scalar.addi v373 v374
  v375.toNat
def k0_off16 (d0 : Dev nD) : Fin 3 → Nat :=
  let c4_i32_213 : BitVec 32 := 4#32
  let v313 : BitVec 32 := Dev.word d0
  let c4_i32_206 : BitVec 32 := 4#32
  let v314 : BitVec 32 := Scalar.divsi v313 c4_i32_206
  let c2_i32_205 : BitVec 32 := 2#32
  let v315 : BitVec 32 := Scalar.remsi v314 c2_i32_205
  let v324 : BitVec 32 := Scalar.muli c4_i32_213 v315
  let c2_i32_214 : BitVec 32 := 2#32
  let c1_i32_211 : BitVec 32 := 1#32
  let v316 : BitVec 32 := Dev.word d0
  let c2_i32_208 : BitVec 32 := 2#32
  let v317 : BitVec 32 := Scalar.divsi v316 c2_i32_208
  let c2_i32_207 : BitVec 32 := 2#32
  let v318 : BitVec 32 := Scalar.remsi v317 c2_i32_207
  let v322 : BitVec 32 := Scalar.subi c1_i32_211 v318
  let v325 : BitVec 32 := Scalar.muli c2_i32_214 v322
  let v326 : BitVec 32 := Scalar.addi v324 v325
  let c1_i32_212 : BitVec 32 := 1#32
  let v319 : BitVec 32 := Dev.word d0
  let c1_i32_210 : BitVec 32 := 1#32
  let v320 : BitVec 32 := Scalar.divsi v319 c1_i32_210
  let c2_i32_209 : BitVec 32 := 2#32
  let v321 : BitVec 32 := Scalar.remsi v320 c2_i32_209
  let v323 : BitVec 32 := Scalar.subi c1_i32_212 v321
  let v327 : BitVec 32 := Scalar.addi v326 v323
  let c0_i32_259 : BitVec 32 := 0#32
  let c0_i32_260 : BitVec 32 := 0#32
  ![v327.toNat, 0, 0]
def k0_dev21 (d0 : Dev nD) : Nat :=
  let c0_i32_254 : BitVec 32 := 0#32
  let v313 : BitVec 32 := Dev.word d0
  let c4_i32_206 : BitVec 32 := 4#32
  let v314 : BitVec 32 := Scalar.divsi v313 c4_i32_206
  let c2_i32_205 : BitVec 32 := 2#32
  let v315 : BitVec 32 := Scalar.remsi v314 c2_i32_205
  let c4_i32_253 : BitVec 32 := 4#32
  let v384 : BitVec 32 := Scalar.muli v315 c4_i32_253
  let v385 : BitVec 32 := Scalar.addi c0_i32_254 v384
  let c1_i32_211 : BitVec 32 := 1#32
  let v316 : BitVec 32 := Dev.word d0
  let c2_i32_208 : BitVec 32 := 2#32
  let v317 : BitVec 32 := Scalar.divsi v316 c2_i32_208
  let c2_i32_207 : BitVec 32 := 2#32
  let v318 : BitVec 32 := Scalar.remsi v317 c2_i32_207
  let v322 : BitVec 32 := Scalar.subi c1_i32_211 v318
  let c2_i32_255 : BitVec 32 := 2#32
  let v386 : BitVec 32 := Scalar.muli v322 c2_i32_255
  let v387 : BitVec 32 := Scalar.addi v385 v386
  let c1_i32_212 : BitVec 32 := 1#32
  let v319 : BitVec 32 := Dev.word d0
  let c1_i32_210 : BitVec 32 := 1#32
  let v320 : BitVec 32 := Scalar.divsi v319 c1_i32_210
  let c2_i32_209 : BitVec 32 := 2#32
  let v321 : BitVec 32 := Scalar.remsi v320 c2_i32_209
  let v323 : BitVec 32 := Scalar.subi c1_i32_212 v321
  let c1_i32_256 : BitVec 32 := 1#32
  let v388 : BitVec 32 := Scalar.muli v323 c1_i32_256
  let v389 : BitVec 32 := Scalar.addi v387 v388
  v389.toNat
def k0_dev22 (d0 : Dev nD) : Nat :=
  let c0_i32_263 : BitVec 32 := 0#32
  let v313 : BitVec 32 := Dev.word d0
  let c4_i32_206 : BitVec 32 := 4#32
  let v314 : BitVec 32 := Scalar.divsi v313 c4_i32_206
  let c2_i32_205 : BitVec 32 := 2#32
  let v315 : BitVec 32 := Scalar.remsi v314 c2_i32_205
  let c4_i32_262 : BitVec 32 := 4#32
  let v398 : BitVec 32 := Scalar.muli v315 c4_i32_262
  let v399 : BitVec 32 := Scalar.addi c0_i32_263 v398
  let c1_i32_211 : BitVec 32 := 1#32
  let v316 : BitVec 32 := Dev.word d0
  let c2_i32_208 : BitVec 32 := 2#32
  let v317 : BitVec 32 := Scalar.divsi v316 c2_i32_208
  let c2_i32_207 : BitVec 32 := 2#32
  let v318 : BitVec 32 := Scalar.remsi v317 c2_i32_207
  let v322 : BitVec 32 := Scalar.subi c1_i32_211 v318
  let c2_i32_264 : BitVec 32 := 2#32
  let v400 : BitVec 32 := Scalar.muli v322 c2_i32_264
  let v401 : BitVec 32 := Scalar.addi v399 v400
  let c1_i32_212 : BitVec 32 := 1#32
  let v319 : BitVec 32 := Dev.word d0
  let c1_i32_210 : BitVec 32 := 1#32
  let v320 : BitVec 32 := Scalar.divsi v319 c1_i32_210
  let c2_i32_209 : BitVec 32 := 2#32
  let v321 : BitVec 32 := Scalar.remsi v320 c2_i32_209
  let v323 : BitVec 32 := Scalar.subi c1_i32_212 v321
  let c1_i32_265 : BitVec 32 := 1#32
  let v402 : BitVec 32 := Scalar.muli v323 c1_i32_265
  let v403 : BitVec 32 := Scalar.addi v401 v402
  v403.toNat
def k0_dev23 (d0 : Dev nD) : Nat :=
  let c0_i32_272 : BitVec 32 := 0#32
  let v313 : BitVec 32 := Dev.word d0
  let c4_i32_206 : BitVec 32 := 4#32
  let v314 : BitVec 32 := Scalar.divsi v313 c4_i32_206
  let c2_i32_205 : BitVec 32 := 2#32
  let v315 : BitVec 32 := Scalar.remsi v314 c2_i32_205
  let c4_i32_271 : BitVec 32 := 4#32
  let v412 : BitVec 32 := Scalar.muli v315 c4_i32_271
  let v413 : BitVec 32 := Scalar.addi c0_i32_272 v412
  let c1_i32_211 : BitVec 32 := 1#32
  let v316 : BitVec 32 := Dev.word d0
  let c2_i32_208 : BitVec 32 := 2#32
  let v317 : BitVec 32 := Scalar.divsi v316 c2_i32_208
  let c2_i32_207 : BitVec 32 := 2#32
  let v318 : BitVec 32 := Scalar.remsi v317 c2_i32_207
  let v322 : BitVec 32 := Scalar.subi c1_i32_211 v318
  let c2_i32_273 : BitVec 32 := 2#32
  let v414 : BitVec 32 := Scalar.muli v322 c2_i32_273
  let v415 : BitVec 32 := Scalar.addi v413 v414
  let c1_i32_212 : BitVec 32 := 1#32
  let v319 : BitVec 32 := Dev.word d0
  let c1_i32_210 : BitVec 32 := 1#32
  let v320 : BitVec 32 := Scalar.divsi v319 c1_i32_210
  let c2_i32_209 : BitVec 32 := 2#32
  let v321 : BitVec 32 := Scalar.remsi v320 c2_i32_209
  let v323 : BitVec 32 := Scalar.subi c1_i32_212 v321
  let c1_i32_274 : BitVec 32 := 1#32
  let v416 : BitVec 32 := Scalar.muli v323 c1_i32_274
  let v417 : BitVec 32 := Scalar.addi v415 v416
  v417.toNat
def k0_dev24 (d0 : Dev nD) : Nat :=
  let c0_i32_281 : BitVec 32 := 0#32
  let v313 : BitVec 32 := Dev.word d0
  let c4_i32_206 : BitVec 32 := 4#32
  let v314 : BitVec 32 := Scalar.divsi v313 c4_i32_206
  let c2_i32_205 : BitVec 32 := 2#32
  let v315 : BitVec 32 := Scalar.remsi v314 c2_i32_205
  let c4_i32_280 : BitVec 32 := 4#32
  let v426 : BitVec 32 := Scalar.muli v315 c4_i32_280
  let v427 : BitVec 32 := Scalar.addi c0_i32_281 v426
  let c1_i32_211 : BitVec 32 := 1#32
  let v316 : BitVec 32 := Dev.word d0
  let c2_i32_208 : BitVec 32 := 2#32
  let v317 : BitVec 32 := Scalar.divsi v316 c2_i32_208
  let c2_i32_207 : BitVec 32 := 2#32
  let v318 : BitVec 32 := Scalar.remsi v317 c2_i32_207
  let v322 : BitVec 32 := Scalar.subi c1_i32_211 v318
  let c2_i32_282 : BitVec 32 := 2#32
  let v428 : BitVec 32 := Scalar.muli v322 c2_i32_282
  let v429 : BitVec 32 := Scalar.addi v427 v428
  let c1_i32_212 : BitVec 32 := 1#32
  let v319 : BitVec 32 := Dev.word d0
  let c1_i32_210 : BitVec 32 := 1#32
  let v320 : BitVec 32 := Scalar.divsi v319 c1_i32_210
  let c2_i32_209 : BitVec 32 := 2#32
  let v321 : BitVec 32 := Scalar.remsi v320 c2_i32_209
  let v323 : BitVec 32 := Scalar.subi c1_i32_212 v321
  let c1_i32_283 : BitVec 32 := 1#32
  let v430 : BitVec 32 := Scalar.muli v323 c1_i32_283
  let v431 : BitVec 32 := Scalar.addi v429 v430
  v431.toNat
def k0_off17 (d0 : Dev nD) : Fin 3 → Nat :=
  let c4_i32_295 : BitVec 32 := 4#32
  let c1_i32_294 : BitVec 32 := 1#32
  let v440 : BitVec 32 := Dev.word d0
  let c4_i32_289 : BitVec 32 := 4#32
  let v441 : BitVec 32 := Scalar.divsi v440 c4_i32_289
  let c2_i32_288 : BitVec 32 := 2#32
  let v442 : BitVec 32 := Scalar.remsi v441 c2_i32_288
  let v449 : BitVec 32 := Scalar.subi c1_i32_294 v442
  let v450 : BitVec 32 := Scalar.muli c4_i32_295 v449
  let c2_i32_296 : BitVec 32 := 2#32
  let v443 : BitVec 32 := Dev.word d0
  let c2_i32_291 : BitVec 32 := 2#32
  let v444 : BitVec 32 := Scalar.divsi v443 c2_i32_291
  let c2_i32_290 : BitVec 32 := 2#32
  let v445 : BitVec 32 := Scalar.remsi v444 c2_i32_290
  let v451 : BitVec 32 := Scalar.muli c2_i32_296 v445
  let v452 : BitVec 32 := Scalar.addi v450 v451
  let v446 : BitVec 32 := Dev.word d0
  let c1_i32_293 : BitVec 32 := 1#32
  let v447 : BitVec 32 := Scalar.divsi v446 c1_i32_293
  let c2_i32_292 : BitVec 32 := 2#32
  let v448 : BitVec 32 := Scalar.remsi v447 c2_i32_292
  let v453 : BitVec 32 := Scalar.addi v452 v448
  let c0_i32_305 : BitVec 32 := 0#32
  let c0_i32_306 : BitVec 32 := 0#32
  ![v453.toNat, 0, 0]
def k0_dev25 (d0 : Dev nD) : Nat :=
  let c0_i32_300 : BitVec 32 := 0#32
  let c1_i32_294 : BitVec 32 := 1#32
  let v440 : BitVec 32 := Dev.word d0
  let c4_i32_289 : BitVec 32 := 4#32
  let v441 : BitVec 32 := Scalar.divsi v440 c4_i32_289
  let c2_i32_288 : BitVec 32 := 2#32
  let v442 : BitVec 32 := Scalar.remsi v441 c2_i32_288
  let v449 : BitVec 32 := Scalar.subi c1_i32_294 v442
  let c4_i32_299 : BitVec 32 := 4#32
  let v454 : BitVec 32 := Scalar.muli v449 c4_i32_299
  let v455 : BitVec 32 := Scalar.addi c0_i32_300 v454
  let v443 : BitVec 32 := Dev.word d0
  let c2_i32_291 : BitVec 32 := 2#32
  let v444 : BitVec 32 := Scalar.divsi v443 c2_i32_291
  let c2_i32_290 : BitVec 32 := 2#32
  let v445 : BitVec 32 := Scalar.remsi v444 c2_i32_290
  let c2_i32_301 : BitVec 32 := 2#32
  let v456 : BitVec 32 := Scalar.muli v445 c2_i32_301
  let v457 : BitVec 32 := Scalar.addi v455 v456
  let v446 : BitVec 32 := Dev.word d0
  let c1_i32_293 : BitVec 32 := 1#32
  let v447 : BitVec 32 := Scalar.divsi v446 c1_i32_293
  let c2_i32_292 : BitVec 32 := 2#32
  let v448 : BitVec 32 := Scalar.remsi v447 c2_i32_292
  let c1_i32_302 : BitVec 32 := 1#32
  let v458 : BitVec 32 := Scalar.muli v448 c1_i32_302
  let v459 : BitVec 32 := Scalar.addi v457 v458
  v459.toNat
def k0_off18 (d0 : Dev nD) : Fin 3 → Nat :=
  let c4_i32_295 : BitVec 32 := 4#32
  let c1_i32_294 : BitVec 32 := 1#32
  let v440 : BitVec 32 := Dev.word d0
  let c4_i32_289 : BitVec 32 := 4#32
  let v441 : BitVec 32 := Scalar.divsi v440 c4_i32_289
  let c2_i32_288 : BitVec 32 := 2#32
  let v442 : BitVec 32 := Scalar.remsi v441 c2_i32_288
  let v449 : BitVec 32 := Scalar.subi c1_i32_294 v442
  let v450 : BitVec 32 := Scalar.muli c4_i32_295 v449
  let c2_i32_296 : BitVec 32 := 2#32
  let v443 : BitVec 32 := Dev.word d0
  let c2_i32_291 : BitVec 32 := 2#32
  let v444 : BitVec 32 := Scalar.divsi v443 c2_i32_291
  let c2_i32_290 : BitVec 32 := 2#32
  let v445 : BitVec 32 := Scalar.remsi v444 c2_i32_290
  let v451 : BitVec 32 := Scalar.muli c2_i32_296 v445
  let v452 : BitVec 32 := Scalar.addi v450 v451
  let v446 : BitVec 32 := Dev.word d0
  let c1_i32_293 : BitVec 32 := 1#32
  let v447 : BitVec 32 := Scalar.divsi v446 c1_i32_293
  let c2_i32_292 : BitVec 32 := 2#32
  let v448 : BitVec 32 := Scalar.remsi v447 c2_i32_292
  let v453 : BitVec 32 := Scalar.addi v452 v448
  let c0_i32_314 : BitVec 32 := 0#32
  let c0_i32_315 : BitVec 32 := 0#32
  ![v453.toNat, 0, 0]
def k0_dev26 (d0 : Dev nD) : Nat :=
  let c0_i32_309 : BitVec 32 := 0#32
  let c1_i32_294 : BitVec 32 := 1#32
  let v440 : BitVec 32 := Dev.word d0
  let c4_i32_289 : BitVec 32 := 4#32
  let v441 : BitVec 32 := Scalar.divsi v440 c4_i32_289
  let c2_i32_288 : BitVec 32 := 2#32
  let v442 : BitVec 32 := Scalar.remsi v441 c2_i32_288
  let v449 : BitVec 32 := Scalar.subi c1_i32_294 v442
  let c4_i32_308 : BitVec 32 := 4#32
  let v468 : BitVec 32 := Scalar.muli v449 c4_i32_308
  let v469 : BitVec 32 := Scalar.addi c0_i32_309 v468
  let v443 : BitVec 32 := Dev.word d0
  let c2_i32_291 : BitVec 32 := 2#32
  let v444 : BitVec 32 := Scalar.divsi v443 c2_i32_291
  let c2_i32_290 : BitVec 32 := 2#32
  let v445 : BitVec 32 := Scalar.remsi v444 c2_i32_290
  let c2_i32_310 : BitVec 32 := 2#32
  let v470 : BitVec 32 := Scalar.muli v445 c2_i32_310
  let v471 : BitVec 32 := Scalar.addi v469 v470
  let v446 : BitVec 32 := Dev.word d0
  let c1_i32_293 : BitVec 32 := 1#32
  let v447 : BitVec 32 := Scalar.divsi v446 c1_i32_293
  let c2_i32_292 : BitVec 32 := 2#32
  let v448 : BitVec 32 := Scalar.remsi v447 c2_i32_292
  let c1_i32_311 : BitVec 32 := 1#32
  let v472 : BitVec 32 := Scalar.muli v448 c1_i32_311
  let v473 : BitVec 32 := Scalar.addi v471 v472
  v473.toNat
def k0_off19 (d0 : Dev nD) : Fin 3 → Nat :=
  let c4_i32_295 : BitVec 32 := 4#32
  let c1_i32_294 : BitVec 32 := 1#32
  let v440 : BitVec 32 := Dev.word d0
  let c4_i32_289 : BitVec 32 := 4#32
  let v441 : BitVec 32 := Scalar.divsi v440 c4_i32_289
  let c2_i32_288 : BitVec 32 := 2#32
  let v442 : BitVec 32 := Scalar.remsi v441 c2_i32_288
  let v449 : BitVec 32 := Scalar.subi c1_i32_294 v442
  let v450 : BitVec 32 := Scalar.muli c4_i32_295 v449
  let c2_i32_296 : BitVec 32 := 2#32
  let v443 : BitVec 32 := Dev.word d0
  let c2_i32_291 : BitVec 32 := 2#32
  let v444 : BitVec 32 := Scalar.divsi v443 c2_i32_291
  let c2_i32_290 : BitVec 32 := 2#32
  let v445 : BitVec 32 := Scalar.remsi v444 c2_i32_290
  let v451 : BitVec 32 := Scalar.muli c2_i32_296 v445
  let v452 : BitVec 32 := Scalar.addi v450 v451
  let v446 : BitVec 32 := Dev.word d0
  let c1_i32_293 : BitVec 32 := 1#32
  let v447 : BitVec 32 := Scalar.divsi v446 c1_i32_293
  let c2_i32_292 : BitVec 32 := 2#32
  let v448 : BitVec 32 := Scalar.remsi v447 c2_i32_292
  let v453 : BitVec 32 := Scalar.addi v452 v448
  let c0_i32_323 : BitVec 32 := 0#32
  let c0_i32_324 : BitVec 32 := 0#32
  ![v453.toNat, 0, 0]
def k0_dev27 (d0 : Dev nD) : Nat :=
  let c0_i32_318 : BitVec 32 := 0#32
  let c1_i32_294 : BitVec 32 := 1#32
  let v440 : BitVec 32 := Dev.word d0
  let c4_i32_289 : BitVec 32 := 4#32
  let v441 : BitVec 32 := Scalar.divsi v440 c4_i32_289
  let c2_i32_288 : BitVec 32 := 2#32
  let v442 : BitVec 32 := Scalar.remsi v441 c2_i32_288
  let v449 : BitVec 32 := Scalar.subi c1_i32_294 v442
  let c4_i32_317 : BitVec 32 := 4#32
  let v482 : BitVec 32 := Scalar.muli v449 c4_i32_317
  let v483 : BitVec 32 := Scalar.addi c0_i32_318 v482
  let v443 : BitVec 32 := Dev.word d0
  let c2_i32_291 : BitVec 32 := 2#32
  let v444 : BitVec 32 := Scalar.divsi v443 c2_i32_291
  let c2_i32_290 : BitVec 32 := 2#32
  let v445 : BitVec 32 := Scalar.remsi v444 c2_i32_290
  let c2_i32_319 : BitVec 32 := 2#32
  let v484 : BitVec 32 := Scalar.muli v445 c2_i32_319
  let v485 : BitVec 32 := Scalar.addi v483 v484
  let v446 : BitVec 32 := Dev.word d0
  let c1_i32_293 : BitVec 32 := 1#32
  let v447 : BitVec 32 := Scalar.divsi v446 c1_i32_293
  let c2_i32_292 : BitVec 32 := 2#32
  let v448 : BitVec 32 := Scalar.remsi v447 c2_i32_292
  let c1_i32_320 : BitVec 32 := 1#32
  let v486 : BitVec 32 := Scalar.muli v448 c1_i32_320
  let v487 : BitVec 32 := Scalar.addi v485 v486
  v487.toNat
def k0_dev28 (d0 : Dev nD) : Nat :=
  let c0_i32_327 : BitVec 32 := 0#32
  let c1_i32_294 : BitVec 32 := 1#32
  let v440 : BitVec 32 := Dev.word d0
  let c4_i32_289 : BitVec 32 := 4#32
  let v441 : BitVec 32 := Scalar.divsi v440 c4_i32_289
  let c2_i32_288 : BitVec 32 := 2#32
  let v442 : BitVec 32 := Scalar.remsi v441 c2_i32_288
  let v449 : BitVec 32 := Scalar.subi c1_i32_294 v442
  let c4_i32_326 : BitVec 32 := 4#32
  let v496 : BitVec 32 := Scalar.muli v449 c4_i32_326
  let v497 : BitVec 32 := Scalar.addi c0_i32_327 v496
  let v443 : BitVec 32 := Dev.word d0
  let c2_i32_291 : BitVec 32 := 2#32
  let v444 : BitVec 32 := Scalar.divsi v443 c2_i32_291
  let c2_i32_290 : BitVec 32 := 2#32
  let v445 : BitVec 32 := Scalar.remsi v444 c2_i32_290
  let c2_i32_328 : BitVec 32 := 2#32
  let v498 : BitVec 32 := Scalar.muli v445 c2_i32_328
  let v499 : BitVec 32 := Scalar.addi v497 v498
  let v446 : BitVec 32 := Dev.word d0
  let c1_i32_293 : BitVec 32 := 1#32
  let v447 : BitVec 32 := Scalar.divsi v446 c1_i32_293
  let c2_i32_292 : BitVec 32 := 2#32
  let v448 : BitVec 32 := Scalar.remsi v447 c2_i32_292
  let c1_i32_329 : BitVec 32 := 1#32
  let v500 : BitVec 32 := Scalar.muli v448 c1_i32_329
  let v501 : BitVec 32 := Scalar.addi v499 v500
  v501.toNat
def k0_off20 (d0 : Dev nD) : Fin 3 → Nat :=
  let c4_i32_295 : BitVec 32 := 4#32
  let c1_i32_294 : BitVec 32 := 1#32
  let v440 : BitVec 32 := Dev.word d0
  let c4_i32_289 : BitVec 32 := 4#32
  let v441 : BitVec 32 := Scalar.divsi v440 c4_i32_289
  let c2_i32_288 : BitVec 32 := 2#32
  let v442 : BitVec 32 := Scalar.remsi v441 c2_i32_288
  let v449 : BitVec 32 := Scalar.subi c1_i32_294 v442
  let v450 : BitVec 32 := Scalar.muli c4_i32_295 v449
  let c2_i32_296 : BitVec 32 := 2#32
  let v443 : BitVec 32 := Dev.word d0
  let c2_i32_291 : BitVec 32 := 2#32
  let v444 : BitVec 32 := Scalar.divsi v443 c2_i32_291
  let c2_i32_290 : BitVec 32 := 2#32
  let v445 : BitVec 32 := Scalar.remsi v444 c2_i32_290
  let v451 : BitVec 32 := Scalar.muli c2_i32_296 v445
  let v452 : BitVec 32 := Scalar.addi v450 v451
  let v446 : BitVec 32 := Dev.word d0
  let c1_i32_293 : BitVec 32 := 1#32
  let v447 : BitVec 32 := Scalar.divsi v446 c1_i32_293
  let c2_i32_292 : BitVec 32 := 2#32
  let v448 : BitVec 32 := Scalar.remsi v447 c2_i32_292
  let v453 : BitVec 32 := Scalar.addi v452 v448
  let c0_i32_341 : BitVec 32 := 0#32
  let c0_i32_342 : BitVec 32 := 0#32
  ![v453.toNat, 0, 0]
def k0_dev29 (d0 : Dev nD) : Nat :=
  let c0_i32_336 : BitVec 32 := 0#32
  let c1_i32_294 : BitVec 32 := 1#32
  let v440 : BitVec 32 := Dev.word d0
  let c4_i32_289 : BitVec 32 := 4#32
  let v441 : BitVec 32 := Scalar.divsi v440 c4_i32_289
  let c2_i32_288 : BitVec 32 := 2#32
  let v442 : BitVec 32 := Scalar.remsi v441 c2_i32_288
  let v449 : BitVec 32 := Scalar.subi c1_i32_294 v442
  let c4_i32_335 : BitVec 32 := 4#32
  let v510 : BitVec 32 := Scalar.muli v449 c4_i32_335
  let v511 : BitVec 32 := Scalar.addi c0_i32_336 v510
  let v443 : BitVec 32 := Dev.word d0
  let c2_i32_291 : BitVec 32 := 2#32
  let v444 : BitVec 32 := Scalar.divsi v443 c2_i32_291
  let c2_i32_290 : BitVec 32 := 2#32
  let v445 : BitVec 32 := Scalar.remsi v444 c2_i32_290
  let c2_i32_337 : BitVec 32 := 2#32
  let v512 : BitVec 32 := Scalar.muli v445 c2_i32_337
  let v513 : BitVec 32 := Scalar.addi v511 v512
  let v446 : BitVec 32 := Dev.word d0
  let c1_i32_293 : BitVec 32 := 1#32
  let v447 : BitVec 32 := Scalar.divsi v446 c1_i32_293
  let c2_i32_292 : BitVec 32 := 2#32
  let v448 : BitVec 32 := Scalar.remsi v447 c2_i32_292
  let c1_i32_338 : BitVec 32 := 1#32
  let v514 : BitVec 32 := Scalar.muli v448 c1_i32_338
  let v515 : BitVec 32 := Scalar.addi v513 v514
  v515.toNat
def k0_dev30 (d0 : Dev nD) : Nat :=
  let c0_i32_345 : BitVec 32 := 0#32
  let c1_i32_294 : BitVec 32 := 1#32
  let v440 : BitVec 32 := Dev.word d0
  let c4_i32_289 : BitVec 32 := 4#32
  let v441 : BitVec 32 := Scalar.divsi v440 c4_i32_289
  let c2_i32_288 : BitVec 32 := 2#32
  let v442 : BitVec 32 := Scalar.remsi v441 c2_i32_288
  let v449 : BitVec 32 := Scalar.subi c1_i32_294 v442
  let c4_i32_344 : BitVec 32 := 4#32
  let v524 : BitVec 32 := Scalar.muli v449 c4_i32_344
  let v525 : BitVec 32 := Scalar.addi c0_i32_345 v524
  let v443 : BitVec 32 := Dev.word d0
  let c2_i32_291 : BitVec 32 := 2#32
  let v444 : BitVec 32 := Scalar.divsi v443 c2_i32_291
  let c2_i32_290 : BitVec 32 := 2#32
  let v445 : BitVec 32 := Scalar.remsi v444 c2_i32_290
  let c2_i32_346 : BitVec 32 := 2#32
  let v526 : BitVec 32 := Scalar.muli v445 c2_i32_346
  let v527 : BitVec 32 := Scalar.addi v525 v526
  let v446 : BitVec 32 := Dev.word d0
  let c1_i32_293 : BitVec 32 := 1#32
  let v447 : BitVec 32 := Scalar.divsi v446 c1_i32_293
  let c2_i32_292 : BitVec 32 := 2#32
  let v448 : BitVec 32 := Scalar.remsi v447 c2_i32_292
  let c1_i32_347 : BitVec 32 := 1#32
  let v528 : BitVec 32 := Scalar.muli v448 c1_i32_347
  let v529 : BitVec 32 := Scalar.addi v527 v528
  v529.toNat
def k0_dev31 (d0 : Dev nD) : Nat :=
  let c0_i32_354 : BitVec 32 := 0#32
  let c1_i32_294 : BitVec 32 := 1#32
  let v440 : BitVec 32 := Dev.word d0
  let c4_i32_289 : BitVec 32 := 4#32
  let v441 : BitVec 32 := Scalar.divsi v440 c4_i32_289
  let c2_i32_288 : BitVec 32 := 2#32
  let v442 : BitVec 32 := Scalar.remsi v441 c2_i32_288
  let v449 : BitVec 32 := Scalar.subi c1_i32_294 v442
  let c4_i32_353 : BitVec 32 := 4#32
  let v538 : BitVec 32 := Scalar.muli v449 c4_i32_353
  let v539 : BitVec 32 := Scalar.addi c0_i32_354 v538
  let v443 : BitVec 32 := Dev.word d0
  let c2_i32_291 : BitVec 32 := 2#32
  let v444 : BitVec 32 := Scalar.divsi v443 c2_i32_291
  let c2_i32_290 : BitVec 32 := 2#32
  let v445 : BitVec 32 := Scalar.remsi v444 c2_i32_290
  let c2_i32_355 : BitVec 32 := 2#32
  let v540 : BitVec 32 := Scalar.muli v445 c2_i32_355
  let v541 : BitVec 32 := Scalar.addi v539 v540
  let v446 : BitVec 32 := Dev.word d0
  let c1_i32_293 : BitVec 32 := 1#32
  let v447 : BitVec 32 := Scalar.divsi v446 c1_i32_293
  let c2_i32_292 : BitVec 32 := 2#32
  let v448 : BitVec 32 := Scalar.remsi v447 c2_i32_292
  let c1_i32_356 : BitVec 32 := 1#32
  let v542 : BitVec 32 := Scalar.muli v448 c1_i32_356
  let v543 : BitVec 32 := Scalar.addi v541 v542
  v543.toNat
def k0_dev32 (d0 : Dev nD) : Nat :=
  let c0_i32_363 : BitVec 32 := 0#32
  let c1_i32_294 : BitVec 32 := 1#32
  let v440 : BitVec 32 := Dev.word d0
  let c4_i32_289 : BitVec 32 := 4#32
  let v441 : BitVec 32 := Scalar.divsi v440 c4_i32_289
  let c2_i32_288 : BitVec 32 := 2#32
  let v442 : BitVec 32 := Scalar.remsi v441 c2_i32_288
  let v449 : BitVec 32 := Scalar.subi c1_i32_294 v442
  let c4_i32_362 : BitVec 32 := 4#32
  let v552 : BitVec 32 := Scalar.muli v449 c4_i32_362
  let v553 : BitVec 32 := Scalar.addi c0_i32_363 v552
  let v443 : BitVec 32 := Dev.word d0
  let c2_i32_291 : BitVec 32 := 2#32
  let v444 : BitVec 32 := Scalar.divsi v443 c2_i32_291
  let c2_i32_290 : BitVec 32 := 2#32
  let v445 : BitVec 32 := Scalar.remsi v444 c2_i32_290
  let c2_i32_364 : BitVec 32 := 2#32
  let v554 : BitVec 32 := Scalar.muli v445 c2_i32_364
  let v555 : BitVec 32 := Scalar.addi v553 v554
  let v446 : BitVec 32 := Dev.word d0
  let c1_i32_293 : BitVec 32 := 1#32
  let v447 : BitVec 32 := Scalar.divsi v446 c1_i32_293
  let c2_i32_292 : BitVec 32 := 2#32
  let v448 : BitVec 32 := Scalar.remsi v447 c2_i32_292
  let c1_i32_365 : BitVec 32 := 1#32
  let v556 : BitVec 32 := Scalar.muli v448 c1_i32_365
  let v557 : BitVec 32 := Scalar.addi v555 v556
  v557.toNat
def k0_off21 (d0 : Dev nD) : Fin 3 → Nat :=
  let c4_i32_378 : BitVec 32 := 4#32
  let c1_i32_376 : BitVec 32 := 1#32
  let v566 : BitVec 32 := Dev.word d0
  let c4_i32_371 : BitVec 32 := 4#32
  let v567 : BitVec 32 := Scalar.divsi v566 c4_i32_371
  let c2_i32_370 : BitVec 32 := 2#32
  let v568 : BitVec 32 := Scalar.remsi v567 c2_i32_370
  let v575 : BitVec 32 := Scalar.subi c1_i32_376 v568
  let v577 : BitVec 32 := Scalar.muli c4_i32_378 v575
  let c2_i32_379 : BitVec 32 := 2#32
  let v569 : BitVec 32 := Dev.word d0
  let c2_i32_373 : BitVec 32 := 2#32
  let v570 : BitVec 32 := Scalar.divsi v569 c2_i32_373
  let c2_i32_372 : BitVec 32 := 2#32
  let v571 : BitVec 32 := Scalar.remsi v570 c2_i32_372
  let v578 : BitVec 32 := Scalar.muli c2_i32_379 v571
  let v579 : BitVec 32 := Scalar.addi v577 v578
  let c1_i32_377 : BitVec 32 := 1#32
  let v572 : BitVec 32 := Dev.word d0
  let c1_i32_375 : BitVec 32 := 1#32
  let v573 : BitVec 32 := Scalar.divsi v572 c1_i32_375
  let c2_i32_374 : BitVec 32 := 2#32
  let v574 : BitVec 32 := Scalar.remsi v573 c2_i32_374
  let v576 : BitVec 32 := Scalar.subi c1_i32_377 v574
  let v580 : BitVec 32 := Scalar.addi v579 v576
  let c0_i32_388 : BitVec 32 := 0#32
  let c0_i32_389 : BitVec 32 := 0#32
  ![v580.toNat, 0, 0]
def k0_dev33 (d0 : Dev nD) : Nat :=
  let c0_i32_383 : BitVec 32 := 0#32
  let c1_i32_376 : BitVec 32 := 1#32
  let v566 : BitVec 32 := Dev.word d0
  let c4_i32_371 : BitVec 32 := 4#32
  let v567 : BitVec 32 := Scalar.divsi v566 c4_i32_371
  let c2_i32_370 : BitVec 32 := 2#32
  let v568 : BitVec 32 := Scalar.remsi v567 c2_i32_370
  let v575 : BitVec 32 := Scalar.subi c1_i32_376 v568
  let c4_i32_382 : BitVec 32 := 4#32
  let v581 : BitVec 32 := Scalar.muli v575 c4_i32_382
  let v582 : BitVec 32 := Scalar.addi c0_i32_383 v581
  let v569 : BitVec 32 := Dev.word d0
  let c2_i32_373 : BitVec 32 := 2#32
  let v570 : BitVec 32 := Scalar.divsi v569 c2_i32_373
  let c2_i32_372 : BitVec 32 := 2#32
  let v571 : BitVec 32 := Scalar.remsi v570 c2_i32_372
  let c2_i32_384 : BitVec 32 := 2#32
  let v583 : BitVec 32 := Scalar.muli v571 c2_i32_384
  let v584 : BitVec 32 := Scalar.addi v582 v583
  let c1_i32_377 : BitVec 32 := 1#32
  let v572 : BitVec 32 := Dev.word d0
  let c1_i32_375 : BitVec 32 := 1#32
  let v573 : BitVec 32 := Scalar.divsi v572 c1_i32_375
  let c2_i32_374 : BitVec 32 := 2#32
  let v574 : BitVec 32 := Scalar.remsi v573 c2_i32_374
  let v576 : BitVec 32 := Scalar.subi c1_i32_377 v574
  let c1_i32_385 : BitVec 32 := 1#32
  let v585 : BitVec 32 := Scalar.muli v576 c1_i32_385
  let v586 : BitVec 32 := Scalar.addi v584 v585
  v586.toNat
def k0_off22 (d0 : Dev nD) : Fin 3 → Nat :=
  let c4_i32_378 : BitVec 32 := 4#32
  let c1_i32_376 : BitVec 32 := 1#32
  let v566 : BitVec 32 := Dev.word d0
  let c4_i32_371 : BitVec 32 := 4#32
  let v567 : BitVec 32 := Scalar.divsi v566 c4_i32_371
  let c2_i32_370 : BitVec 32 := 2#32
  let v568 : BitVec 32 := Scalar.remsi v567 c2_i32_370
  let v575 : BitVec 32 := Scalar.subi c1_i32_376 v568
  let v577 : BitVec 32 := Scalar.muli c4_i32_378 v575
  let c2_i32_379 : BitVec 32 := 2#32
  let v569 : BitVec 32 := Dev.word d0
  let c2_i32_373 : BitVec 32 := 2#32
  let v570 : BitVec 32 := Scalar.divsi v569 c2_i32_373
  let c2_i32_372 : BitVec 32 := 2#32
  let v571 : BitVec 32 := Scalar.remsi v570 c2_i32_372
  let v578 : BitVec 32 := Scalar.muli c2_i32_379 v571
  let v579 : BitVec 32 := Scalar.addi v577 v578
  let c1_i32_377 : BitVec 32 := 1#32
  let v572 : BitVec 32 := Dev.word d0
  let c1_i32_375 : BitVec 32 := 1#32
  let v573 : BitVec 32 := Scalar.divsi v572 c1_i32_375
  let c2_i32_374 : BitVec 32 := 2#32
  let v574 : BitVec 32 := Scalar.remsi v573 c2_i32_374
  let v576 : BitVec 32 := Scalar.subi c1_i32_377 v574
  let v580 : BitVec 32 := Scalar.addi v579 v576
  let c0_i32_397 : BitVec 32 := 0#32
  let c0_i32_398 : BitVec 32 := 0#32
  ![v580.toNat, 0, 0]
def k0_dev34 (d0 : Dev nD) : Nat :=
  let c0_i32_392 : BitVec 32 := 0#32
  let c1_i32_376 : BitVec 32 := 1#32
  let v566 : BitVec 32 := Dev.word d0
  let c4_i32_371 : BitVec 32 := 4#32
  let v567 : BitVec 32 := Scalar.divsi v566 c4_i32_371
  let c2_i32_370 : BitVec 32 := 2#32
  let v568 : BitVec 32 := Scalar.remsi v567 c2_i32_370
  let v575 : BitVec 32 := Scalar.subi c1_i32_376 v568
  let c4_i32_391 : BitVec 32 := 4#32
  let v595 : BitVec 32 := Scalar.muli v575 c4_i32_391
  let v596 : BitVec 32 := Scalar.addi c0_i32_392 v595
  let v569 : BitVec 32 := Dev.word d0
  let c2_i32_373 : BitVec 32 := 2#32
  let v570 : BitVec 32 := Scalar.divsi v569 c2_i32_373
  let c2_i32_372 : BitVec 32 := 2#32
  let v571 : BitVec 32 := Scalar.remsi v570 c2_i32_372
  let c2_i32_393 : BitVec 32 := 2#32
  let v597 : BitVec 32 := Scalar.muli v571 c2_i32_393
  let v598 : BitVec 32 := Scalar.addi v596 v597
  let c1_i32_377 : BitVec 32 := 1#32
  let v572 : BitVec 32 := Dev.word d0
  let c1_i32_375 : BitVec 32 := 1#32
  let v573 : BitVec 32 := Scalar.divsi v572 c1_i32_375
  let c2_i32_374 : BitVec 32 := 2#32
  let v574 : BitVec 32 := Scalar.remsi v573 c2_i32_374
  let v576 : BitVec 32 := Scalar.subi c1_i32_377 v574
  let c1_i32_394 : BitVec 32 := 1#32
  let v599 : BitVec 32 := Scalar.muli v576 c1_i32_394
  let v600 : BitVec 32 := Scalar.addi v598 v599
  v600.toNat
def k0_off23 (d0 : Dev nD) : Fin 3 → Nat :=
  let c4_i32_378 : BitVec 32 := 4#32
  let c1_i32_376 : BitVec 32 := 1#32
  let v566 : BitVec 32 := Dev.word d0
  let c4_i32_371 : BitVec 32 := 4#32
  let v567 : BitVec 32 := Scalar.divsi v566 c4_i32_371
  let c2_i32_370 : BitVec 32 := 2#32
  let v568 : BitVec 32 := Scalar.remsi v567 c2_i32_370
  let v575 : BitVec 32 := Scalar.subi c1_i32_376 v568
  let v577 : BitVec 32 := Scalar.muli c4_i32_378 v575
  let c2_i32_379 : BitVec 32 := 2#32
  let v569 : BitVec 32 := Dev.word d0
  let c2_i32_373 : BitVec 32 := 2#32
  let v570 : BitVec 32 := Scalar.divsi v569 c2_i32_373
  let c2_i32_372 : BitVec 32 := 2#32
  let v571 : BitVec 32 := Scalar.remsi v570 c2_i32_372
  let v578 : BitVec 32 := Scalar.muli c2_i32_379 v571
  let v579 : BitVec 32 := Scalar.addi v577 v578
  let c1_i32_377 : BitVec 32 := 1#32
  let v572 : BitVec 32 := Dev.word d0
  let c1_i32_375 : BitVec 32 := 1#32
  let v573 : BitVec 32 := Scalar.divsi v572 c1_i32_375
  let c2_i32_374 : BitVec 32 := 2#32
  let v574 : BitVec 32 := Scalar.remsi v573 c2_i32_374
  let v576 : BitVec 32 := Scalar.subi c1_i32_377 v574
  let v580 : BitVec 32 := Scalar.addi v579 v576
  let c0_i32_406 : BitVec 32 := 0#32
  let c0_i32_407 : BitVec 32 := 0#32
  ![v580.toNat, 0, 0]
def k0_dev35 (d0 : Dev nD) : Nat :=
  let c0_i32_401 : BitVec 32 := 0#32
  let c1_i32_376 : BitVec 32 := 1#32
  let v566 : BitVec 32 := Dev.word d0
  let c4_i32_371 : BitVec 32 := 4#32
  let v567 : BitVec 32 := Scalar.divsi v566 c4_i32_371
  let c2_i32_370 : BitVec 32 := 2#32
  let v568 : BitVec 32 := Scalar.remsi v567 c2_i32_370
  let v575 : BitVec 32 := Scalar.subi c1_i32_376 v568
  let c4_i32_400 : BitVec 32 := 4#32
  let v609 : BitVec 32 := Scalar.muli v575 c4_i32_400
  let v610 : BitVec 32 := Scalar.addi c0_i32_401 v609
  let v569 : BitVec 32 := Dev.word d0
  let c2_i32_373 : BitVec 32 := 2#32
  let v570 : BitVec 32 := Scalar.divsi v569 c2_i32_373
  let c2_i32_372 : BitVec 32 := 2#32
  let v571 : BitVec 32 := Scalar.remsi v570 c2_i32_372
  let c2_i32_402 : BitVec 32 := 2#32
  let v611 : BitVec 32 := Scalar.muli v571 c2_i32_402
  let v612 : BitVec 32 := Scalar.addi v610 v611
  let c1_i32_377 : BitVec 32 := 1#32
  let v572 : BitVec 32 := Dev.word d0
  let c1_i32_375 : BitVec 32 := 1#32
  let v573 : BitVec 32 := Scalar.divsi v572 c1_i32_375
  let c2_i32_374 : BitVec 32 := 2#32
  let v574 : BitVec 32 := Scalar.remsi v573 c2_i32_374
  let v576 : BitVec 32 := Scalar.subi c1_i32_377 v574
  let c1_i32_403 : BitVec 32 := 1#32
  let v613 : BitVec 32 := Scalar.muli v576 c1_i32_403
  let v614 : BitVec 32 := Scalar.addi v612 v613
  v614.toNat
def k0_dev36 (d0 : Dev nD) : Nat :=
  let c0_i32_410 : BitVec 32 := 0#32
  let c1_i32_376 : BitVec 32 := 1#32
  let v566 : BitVec 32 := Dev.word d0
  let c4_i32_371 : BitVec 32 := 4#32
  let v567 : BitVec 32 := Scalar.divsi v566 c4_i32_371
  let c2_i32_370 : BitVec 32 := 2#32
  let v568 : BitVec 32 := Scalar.remsi v567 c2_i32_370
  let v575 : BitVec 32 := Scalar.subi c1_i32_376 v568
  let c4_i32_409 : BitVec 32 := 4#32
  let v623 : BitVec 32 := Scalar.muli v575 c4_i32_409
  let v624 : BitVec 32 := Scalar.addi c0_i32_410 v623
  let v569 : BitVec 32 := Dev.word d0
  let c2_i32_373 : BitVec 32 := 2#32
  let v570 : BitVec 32 := Scalar.divsi v569 c2_i32_373
  let c2_i32_372 : BitVec 32 := 2#32
  let v571 : BitVec 32 := Scalar.remsi v570 c2_i32_372
  let c2_i32_411 : BitVec 32 := 2#32
  let v625 : BitVec 32 := Scalar.muli v571 c2_i32_411
  let v626 : BitVec 32 := Scalar.addi v624 v625
  let c1_i32_377 : BitVec 32 := 1#32
  let v572 : BitVec 32 := Dev.word d0
  let c1_i32_375 : BitVec 32 := 1#32
  let v573 : BitVec 32 := Scalar.divsi v572 c1_i32_375
  let c2_i32_374 : BitVec 32 := 2#32
  let v574 : BitVec 32 := Scalar.remsi v573 c2_i32_374
  let v576 : BitVec 32 := Scalar.subi c1_i32_377 v574
  let c1_i32_412 : BitVec 32 := 1#32
  let v627 : BitVec 32 := Scalar.muli v576 c1_i32_412
  let v628 : BitVec 32 := Scalar.addi v626 v627
  v628.toNat
def k0_off24 (d0 : Dev nD) : Fin 3 → Nat :=
  let c4_i32_378 : BitVec 32 := 4#32
  let c1_i32_376 : BitVec 32 := 1#32
  let v566 : BitVec 32 := Dev.word d0
  let c4_i32_371 : BitVec 32 := 4#32
  let v567 : BitVec 32 := Scalar.divsi v566 c4_i32_371
  let c2_i32_370 : BitVec 32 := 2#32
  let v568 : BitVec 32 := Scalar.remsi v567 c2_i32_370
  let v575 : BitVec 32 := Scalar.subi c1_i32_376 v568
  let v577 : BitVec 32 := Scalar.muli c4_i32_378 v575
  let c2_i32_379 : BitVec 32 := 2#32
  let v569 : BitVec 32 := Dev.word d0
  let c2_i32_373 : BitVec 32 := 2#32
  let v570 : BitVec 32 := Scalar.divsi v569 c2_i32_373
  let c2_i32_372 : BitVec 32 := 2#32
  let v571 : BitVec 32 := Scalar.remsi v570 c2_i32_372
  let v578 : BitVec 32 := Scalar.muli c2_i32_379 v571
  let v579 : BitVec 32 := Scalar.addi v577 v578
  let c1_i32_377 : BitVec 32 := 1#32
  let v572 : BitVec 32 := Dev.word d0
  let c1_i32_375 : BitVec 32 := 1#32
  let v573 : BitVec 32 := Scalar.divsi v572 c1_i32_375
  let c2_i32_374 : BitVec 32 := 2#32
  let v574 : BitVec 32 := Scalar.remsi v573 c2_i32_374
  let v576 : BitVec 32 := Scalar.subi c1_i32_377 v574
  let v580 : BitVec 32 := Scalar.addi v579 v576
  let c0_i32_424 : BitVec 32 := 0#32
  let c0_i32_425 : BitVec 32 := 0#32
  ![v580.toNat, 0, 0]
def k0_dev37 (d0 : Dev nD) : Nat :=
  let c0_i32_419 : BitVec 32 := 0#32
  let c1_i32_376 : BitVec 32 := 1#32
  let v566 : BitVec 32 := Dev.word d0
  let c4_i32_371 : BitVec 32 := 4#32
  let v567 : BitVec 32 := Scalar.divsi v566 c4_i32_371
  let c2_i32_370 : BitVec 32 := 2#32
  let v568 : BitVec 32 := Scalar.remsi v567 c2_i32_370
  let v575 : BitVec 32 := Scalar.subi c1_i32_376 v568
  let c4_i32_418 : BitVec 32 := 4#32
  let v637 : BitVec 32 := Scalar.muli v575 c4_i32_418
  let v638 : BitVec 32 := Scalar.addi c0_i32_419 v637
  let v569 : BitVec 32 := Dev.word d0
  let c2_i32_373 : BitVec 32 := 2#32
  let v570 : BitVec 32 := Scalar.divsi v569 c2_i32_373
  let c2_i32_372 : BitVec 32 := 2#32
  let v571 : BitVec 32 := Scalar.remsi v570 c2_i32_372
  let c2_i32_420 : BitVec 32 := 2#32
  let v639 : BitVec 32 := Scalar.muli v571 c2_i32_420
  let v640 : BitVec 32 := Scalar.addi v638 v639
  let c1_i32_377 : BitVec 32 := 1#32
  let v572 : BitVec 32 := Dev.word d0
  let c1_i32_375 : BitVec 32 := 1#32
  let v573 : BitVec 32 := Scalar.divsi v572 c1_i32_375
  let c2_i32_374 : BitVec 32 := 2#32
  let v574 : BitVec 32 := Scalar.remsi v573 c2_i32_374
  let v576 : BitVec 32 := Scalar.subi c1_i32_377 v574
  let c1_i32_421 : BitVec 32 := 1#32
  let v641 : BitVec 32 := Scalar.muli v576 c1_i32_421
  let v642 : BitVec 32 := Scalar.addi v640 v641
  v642.toNat
def k0_dev38 (d0 : Dev nD) : Nat :=
  let c0_i32_428 : BitVec 32 := 0#32
  let c1_i32_376 : BitVec 32 := 1#32
  let v566 : BitVec 32 := Dev.word d0
  let c4_i32_371 : BitVec 32 := 4#32
  let v567 : BitVec 32 := Scalar.divsi v566 c4_i32_371
  let c2_i32_370 : BitVec 32 := 2#32
  let v568 : BitVec 32 := Scalar.remsi v567 c2_i32_370
  let v575 : BitVec 32 := Scalar.subi c1_i32_376 v568
  let c4_i32_427 : BitVec 32 := 4#32
  let v651 : BitVec 32 := Scalar.muli v575 c4_i32_427
  let v652 : BitVec 32 := Scalar.addi c0_i32_428 v651
  let v569 : BitVec 32 := Dev.word d0
  let c2_i32_373 : BitVec 32 := 2#32
  let v570 : BitVec 32 := Scalar.divsi v569 c2_i32_373
  let c2_i32_372 : BitVec 32 := 2#32
  let v571 : BitVec 32 := Scalar.remsi v570 c2_i32_372
  let c2_i32_429 : BitVec 32 := 2#32
  let v653 : BitVec 32 := Scalar.muli v571 c2_i32_429
  let v654 : BitVec 32 := Scalar.addi v652 v653
  let c1_i32_377 : BitVec 32 := 1#32
  let v572 : BitVec 32 := Dev.word d0
  let c1_i32_375 : BitVec 32 := 1#32
  let v573 : BitVec 32 := Scalar.divsi v572 c1_i32_375
  let c2_i32_374 : BitVec 32 := 2#32
  let v574 : BitVec 32 := Scalar.remsi v573 c2_i32_374
  let v576 : BitVec 32 := Scalar.subi c1_i32_377 v574
  let c1_i32_430 : BitVec 32 := 1#32
  let v655 : BitVec 32 := Scalar.muli v576 c1_i32_430
  let v656 : BitVec 32 := Scalar.addi v654 v655
  v656.toNat
def k0_dev39 (d0 : Dev nD) : Nat :=
  let c0_i32_437 : BitVec 32 := 0#32
  let c1_i32_376 : BitVec 32 := 1#32
  let v566 : BitVec 32 := Dev.word d0
  let c4_i32_371 : BitVec 32 := 4#32
  let v567 : BitVec 32 := Scalar.divsi v566 c4_i32_371
  let c2_i32_370 : BitVec 32 := 2#32
  let v568 : BitVec 32 := Scalar.remsi v567 c2_i32_370
  let v575 : BitVec 32 := Scalar.subi c1_i32_376 v568
  let c4_i32_436 : BitVec 32 := 4#32
  let v665 : BitVec 32 := Scalar.muli v575 c4_i32_436
  let v666 : BitVec 32 := Scalar.addi c0_i32_437 v665
  let v569 : BitVec 32 := Dev.word d0
  let c2_i32_373 : BitVec 32 := 2#32
  let v570 : BitVec 32 := Scalar.divsi v569 c2_i32_373
  let c2_i32_372 : BitVec 32 := 2#32
  let v571 : BitVec 32 := Scalar.remsi v570 c2_i32_372
  let c2_i32_438 : BitVec 32 := 2#32
  let v667 : BitVec 32 := Scalar.muli v571 c2_i32_438
  let v668 : BitVec 32 := Scalar.addi v666 v667
  let c1_i32_377 : BitVec 32 := 1#32
  let v572 : BitVec 32 := Dev.word d0
  let c1_i32_375 : BitVec 32 := 1#32
  let v573 : BitVec 32 := Scalar.divsi v572 c1_i32_375
  let c2_i32_374 : BitVec 32 := 2#32
  let v574 : BitVec 32 := Scalar.remsi v573 c2_i32_374
  let v576 : BitVec 32 := Scalar.subi c1_i32_377 v574
  let c1_i32_439 : BitVec 32 := 1#32
  let v669 : BitVec 32 := Scalar.muli v576 c1_i32_439
  let v670 : BitVec 32 := Scalar.addi v668 v669
  v670.toNat
def k0_dev40 (d0 : Dev nD) : Nat :=
  let c0_i32_446 : BitVec 32 := 0#32
  let c1_i32_376 : BitVec 32 := 1#32
  let v566 : BitVec 32 := Dev.word d0
  let c4_i32_371 : BitVec 32 := 4#32
  let v567 : BitVec 32 := Scalar.divsi v566 c4_i32_371
  let c2_i32_370 : BitVec 32 := 2#32
  let v568 : BitVec 32 := Scalar.remsi v567 c2_i32_370
  let v575 : BitVec 32 := Scalar.subi c1_i32_376 v568
  let c4_i32_445 : BitVec 32 := 4#32
  let v679 : BitVec 32 := Scalar.muli v575 c4_i32_445
  let v680 : BitVec 32 := Scalar.addi c0_i32_446 v679
  let v569 : BitVec 32 := Dev.word d0
  let c2_i32_373 : BitVec 32 := 2#32
  let v570 : BitVec 32 := Scalar.divsi v569 c2_i32_373
  let c2_i32_372 : BitVec 32 := 2#32
  let v571 : BitVec 32 := Scalar.remsi v570 c2_i32_372
  let c2_i32_447 : BitVec 32 := 2#32
  let v681 : BitVec 32 := Scalar.muli v571 c2_i32_447
  let v682 : BitVec 32 := Scalar.addi v680 v681
  let c1_i32_377 : BitVec 32 := 1#32
  let v572 : BitVec 32 := Dev.word d0
  let c1_i32_375 : BitVec 32 := 1#32
  let v573 : BitVec 32 := Scalar.divsi v572 c1_i32_375
  let c2_i32_374 : BitVec 32 := 2#32
  let v574 : BitVec 32 := Scalar.remsi v573 c2_i32_374
  let v576 : BitVec 32 := Scalar.subi c1_i32_377 v574
  let c1_i32_448 : BitVec 32 := 1#32
  let v683 : BitVec 32 := Scalar.muli v576 c1_i32_448
  let v684 : BitVec 32 := Scalar.addi v682 v683
  v684.toNat
def k0_off25 (d0 : Dev nD) : Fin 3 → Nat :=
  let c4_i32_461 : BitVec 32 := 4#32
  let c1_i32_459 : BitVec 32 := 1#32
  let v693 : BitVec 32 := Dev.word d0
  let c4_i32_454 : BitVec 32 := 4#32
  let v694 : BitVec 32 := Scalar.divsi v693 c4_i32_454
  let c2_i32_453 : BitVec 32 := 2#32
  let v695 : BitVec 32 := Scalar.remsi v694 c2_i32_453
  let v702 : BitVec 32 := Scalar.subi c1_i32_459 v695
  let v704 : BitVec 32 := Scalar.muli c4_i32_461 v702
  let c2_i32_462 : BitVec 32 := 2#32
  let c1_i32_460 : BitVec 32 := 1#32
  let v696 : BitVec 32 := Dev.word d0
  let c2_i32_456 : BitVec 32 := 2#32
  let v697 : BitVec 32 := Scalar.divsi v696 c2_i32_456
  let c2_i32_455 : BitVec 32 := 2#32
  let v698 : BitVec 32 := Scalar.remsi v697 c2_i32_455
  let v703 : BitVec 32 := Scalar.subi c1_i32_460 v698
  let v705 : BitVec 32 := Scalar.muli c2_i32_462 v703
  let v706 : BitVec 32 := Scalar.addi v704 v705
  let v699 : BitVec 32 := Dev.word d0
  let c1_i32_458 : BitVec 32 := 1#32
  let v700 : BitVec 32 := Scalar.divsi v699 c1_i32_458
  let c2_i32_457 : BitVec 32 := 2#32
  let v701 : BitVec 32 := Scalar.remsi v700 c2_i32_457
  let v707 : BitVec 32 := Scalar.addi v706 v701
  let c0_i32_471 : BitVec 32 := 0#32
  let c0_i32_472 : BitVec 32 := 0#32
  ![v707.toNat, 0, 0]
def k0_dev41 (d0 : Dev nD) : Nat :=
  let c0_i32_466 : BitVec 32 := 0#32
  let c1_i32_459 : BitVec 32 := 1#32
  let v693 : BitVec 32 := Dev.word d0
  let c4_i32_454 : BitVec 32 := 4#32
  let v694 : BitVec 32 := Scalar.divsi v693 c4_i32_454
  let c2_i32_453 : BitVec 32 := 2#32
  let v695 : BitVec 32 := Scalar.remsi v694 c2_i32_453
  let v702 : BitVec 32 := Scalar.subi c1_i32_459 v695
  let c4_i32_465 : BitVec 32 := 4#32
  let v708 : BitVec 32 := Scalar.muli v702 c4_i32_465
  let v709 : BitVec 32 := Scalar.addi c0_i32_466 v708
  let c1_i32_460 : BitVec 32 := 1#32
  let v696 : BitVec 32 := Dev.word d0
  let c2_i32_456 : BitVec 32 := 2#32
  let v697 : BitVec 32 := Scalar.divsi v696 c2_i32_456
  let c2_i32_455 : BitVec 32 := 2#32
  let v698 : BitVec 32 := Scalar.remsi v697 c2_i32_455
  let v703 : BitVec 32 := Scalar.subi c1_i32_460 v698
  let c2_i32_467 : BitVec 32 := 2#32
  let v710 : BitVec 32 := Scalar.muli v703 c2_i32_467
  let v711 : BitVec 32 := Scalar.addi v709 v710
  let v699 : BitVec 32 := Dev.word d0
  let c1_i32_458 : BitVec 32 := 1#32
  let v700 : BitVec 32 := Scalar.divsi v699 c1_i32_458
  let c2_i32_457 : BitVec 32 := 2#32
  let v701 : BitVec 32 := Scalar.remsi v700 c2_i32_457
  let c1_i32_468 : BitVec 32 := 1#32
  let v712 : BitVec 32 := Scalar.muli v701 c1_i32_468
  let v713 : BitVec 32 := Scalar.addi v711 v712
  v713.toNat
def k0_off26 (d0 : Dev nD) : Fin 3 → Nat :=
  let c4_i32_461 : BitVec 32 := 4#32
  let c1_i32_459 : BitVec 32 := 1#32
  let v693 : BitVec 32 := Dev.word d0
  let c4_i32_454 : BitVec 32 := 4#32
  let v694 : BitVec 32 := Scalar.divsi v693 c4_i32_454
  let c2_i32_453 : BitVec 32 := 2#32
  let v695 : BitVec 32 := Scalar.remsi v694 c2_i32_453
  let v702 : BitVec 32 := Scalar.subi c1_i32_459 v695
  let v704 : BitVec 32 := Scalar.muli c4_i32_461 v702
  let c2_i32_462 : BitVec 32 := 2#32
  let c1_i32_460 : BitVec 32 := 1#32
  let v696 : BitVec 32 := Dev.word d0
  let c2_i32_456 : BitVec 32 := 2#32
  let v697 : BitVec 32 := Scalar.divsi v696 c2_i32_456
  let c2_i32_455 : BitVec 32 := 2#32
  let v698 : BitVec 32 := Scalar.remsi v697 c2_i32_455
  let v703 : BitVec 32 := Scalar.subi c1_i32_460 v698
  let v705 : BitVec 32 := Scalar.muli c2_i32_462 v703
  let v706 : BitVec 32 := Scalar.addi v704 v705
  let v699 : BitVec 32 := Dev.word d0
  let c1_i32_458 : BitVec 32 := 1#32
  let v700 : BitVec 32 := Scalar.divsi v699 c1_i32_458
  let c2_i32_457 : BitVec 32 := 2#32
  let v701 : BitVec 32 := Scalar.remsi v700 c2_i32_457
  let v707 : BitVec 32 := Scalar.addi v706 v701
  let c0_i32_480 : BitVec 32 := 0#32
  let c0_i32_481 : BitVec 32 := 0#32
  ![v707.toNat, 0, 0]
def k0_dev42 (d0 : Dev nD) : Nat :=
  let c0_i32_475 : BitVec 32 := 0#32
  let c1_i32_459 : BitVec 32 := 1#32
  let v693 : BitVec 32 := Dev.word d0
  let c4_i32_454 : BitVec 32 := 4#32
  let v694 : BitVec 32 := Scalar.divsi v693 c4_i32_454
  let c2_i32_453 : BitVec 32 := 2#32
  let v695 : BitVec 32 := Scalar.remsi v694 c2_i32_453
  let v702 : BitVec 32 := Scalar.subi c1_i32_459 v695
  let c4_i32_474 : BitVec 32 := 4#32
  let v722 : BitVec 32 := Scalar.muli v702 c4_i32_474
  let v723 : BitVec 32 := Scalar.addi c0_i32_475 v722
  let c1_i32_460 : BitVec 32 := 1#32
  let v696 : BitVec 32 := Dev.word d0
  let c2_i32_456 : BitVec 32 := 2#32
  let v697 : BitVec 32 := Scalar.divsi v696 c2_i32_456
  let c2_i32_455 : BitVec 32 := 2#32
  let v698 : BitVec 32 := Scalar.remsi v697 c2_i32_455
  let v703 : BitVec 32 := Scalar.subi c1_i32_460 v698
  let c2_i32_476 : BitVec 32 := 2#32
  let v724 : BitVec 32 := Scalar.muli v703 c2_i32_476
  let v725 : BitVec 32 := Scalar.addi v723 v724
  let v699 : BitVec 32 := Dev.word d0
  let c1_i32_458 : BitVec 32 := 1#32
  let v700 : BitVec 32 := Scalar.divsi v699 c1_i32_458
  let c2_i32_457 : BitVec 32 := 2#32
  let v701 : BitVec 32 := Scalar.remsi v700 c2_i32_457
  let c1_i32_477 : BitVec 32 := 1#32
  let v726 : BitVec 32 := Scalar.muli v701 c1_i32_477
  let v727 : BitVec 32 := Scalar.addi v725 v726
  v727.toNat
def k0_off27 (d0 : Dev nD) : Fin 3 → Nat :=
  let c4_i32_461 : BitVec 32 := 4#32
  let c1_i32_459 : BitVec 32 := 1#32
  let v693 : BitVec 32 := Dev.word d0
  let c4_i32_454 : BitVec 32 := 4#32
  let v694 : BitVec 32 := Scalar.divsi v693 c4_i32_454
  let c2_i32_453 : BitVec 32 := 2#32
  let v695 : BitVec 32 := Scalar.remsi v694 c2_i32_453
  let v702 : BitVec 32 := Scalar.subi c1_i32_459 v695
  let v704 : BitVec 32 := Scalar.muli c4_i32_461 v702
  let c2_i32_462 : BitVec 32 := 2#32
  let c1_i32_460 : BitVec 32 := 1#32
  let v696 : BitVec 32 := Dev.word d0
  let c2_i32_456 : BitVec 32 := 2#32
  let v697 : BitVec 32 := Scalar.divsi v696 c2_i32_456
  let c2_i32_455 : BitVec 32 := 2#32
  let v698 : BitVec 32 := Scalar.remsi v697 c2_i32_455
  let v703 : BitVec 32 := Scalar.subi c1_i32_460 v698
  let v705 : BitVec 32 := Scalar.muli c2_i32_462 v703
  let v706 : BitVec 32 := Scalar.addi v704 v705
  let v699 : BitVec 32 := Dev.word d0
  let c1_i32_458 : BitVec 32 := 1#32
  let v700 : BitVec 32 := Scalar.divsi v699 c1_i32_458
  let c2_i32_457 : BitVec 32 := 2#32
  let v701 : BitVec 32 := Scalar.remsi v700 c2_i32_457
  let v707 : BitVec 32 := Scalar.addi v706 v701
  let c0_i32_489 : BitVec 32 := 0#32
  let c0_i32_490 : BitVec 32 := 0#32
  ![v707.toNat, 0, 0]
def k0_dev43 (d0 : Dev nD) : Nat :=
  let c0_i32_484 : BitVec 32 := 0#32
  let c1_i32_459 : BitVec 32 := 1#32
  let v693 : BitVec 32 := Dev.word d0
  let c4_i32_454 : BitVec 32 := 4#32
  let v694 : BitVec 32 := Scalar.divsi v693 c4_i32_454
  let c2_i32_453 : BitVec 32 := 2#32
  let v695 : BitVec 32 := Scalar.remsi v694 c2_i32_453
  let v702 : BitVec 32 := Scalar.subi c1_i32_459 v695
  let c4_i32_483 : BitVec 32 := 4#32
  let v736 : BitVec 32 := Scalar.muli v702 c4_i32_483
  let v737 : BitVec 32 := Scalar.addi c0_i32_484 v736
  let c1_i32_460 : BitVec 32 := 1#32
  let v696 : BitVec 32 := Dev.word d0
  let c2_i32_456 : BitVec 32 := 2#32
  let v697 : BitVec 32 := Scalar.divsi v696 c2_i32_456
  let c2_i32_455 : BitVec 32 := 2#32
  let v698 : BitVec 32 := Scalar.remsi v697 c2_i32_455
  let v703 : BitVec 32 := Scalar.subi c1_i32_460 v698
  let c2_i32_485 : BitVec 32 := 2#32
  let v738 : BitVec 32 := Scalar.muli v703 c2_i32_485
  let v739 : BitVec 32 := Scalar.addi v737 v738
  let v699 : BitVec 32 := Dev.word d0
  let c1_i32_458 : BitVec 32 := 1#32
  let v700 : BitVec 32 := Scalar.divsi v699 c1_i32_458
  let c2_i32_457 : BitVec 32 := 2#32
  let v701 : BitVec 32 := Scalar.remsi v700 c2_i32_457
  let c1_i32_486 : BitVec 32 := 1#32
  let v740 : BitVec 32 := Scalar.muli v701 c1_i32_486
  let v741 : BitVec 32 := Scalar.addi v739 v740
  v741.toNat
def k0_dev44 (d0 : Dev nD) : Nat :=
  let c0_i32_493 : BitVec 32 := 0#32
  let c1_i32_459 : BitVec 32 := 1#32
  let v693 : BitVec 32 := Dev.word d0
  let c4_i32_454 : BitVec 32 := 4#32
  let v694 : BitVec 32 := Scalar.divsi v693 c4_i32_454
  let c2_i32_453 : BitVec 32 := 2#32
  let v695 : BitVec 32 := Scalar.remsi v694 c2_i32_453
  let v702 : BitVec 32 := Scalar.subi c1_i32_459 v695
  let c4_i32_492 : BitVec 32 := 4#32
  let v750 : BitVec 32 := Scalar.muli v702 c4_i32_492
  let v751 : BitVec 32 := Scalar.addi c0_i32_493 v750
  let c1_i32_460 : BitVec 32 := 1#32
  let v696 : BitVec 32 := Dev.word d0
  let c2_i32_456 : BitVec 32 := 2#32
  let v697 : BitVec 32 := Scalar.divsi v696 c2_i32_456
  let c2_i32_455 : BitVec 32 := 2#32
  let v698 : BitVec 32 := Scalar.remsi v697 c2_i32_455
  let v703 : BitVec 32 := Scalar.subi c1_i32_460 v698
  let c2_i32_494 : BitVec 32 := 2#32
  let v752 : BitVec 32 := Scalar.muli v703 c2_i32_494
  let v753 : BitVec 32 := Scalar.addi v751 v752
  let v699 : BitVec 32 := Dev.word d0
  let c1_i32_458 : BitVec 32 := 1#32
  let v700 : BitVec 32 := Scalar.divsi v699 c1_i32_458
  let c2_i32_457 : BitVec 32 := 2#32
  let v701 : BitVec 32 := Scalar.remsi v700 c2_i32_457
  let c1_i32_495 : BitVec 32 := 1#32
  let v754 : BitVec 32 := Scalar.muli v701 c1_i32_495
  let v755 : BitVec 32 := Scalar.addi v753 v754
  v755.toNat
def k0_off28 (d0 : Dev nD) : Fin 3 → Nat :=
  let c4_i32_461 : BitVec 32 := 4#32
  let c1_i32_459 : BitVec 32 := 1#32
  let v693 : BitVec 32 := Dev.word d0
  let c4_i32_454 : BitVec 32 := 4#32
  let v694 : BitVec 32 := Scalar.divsi v693 c4_i32_454
  let c2_i32_453 : BitVec 32 := 2#32
  let v695 : BitVec 32 := Scalar.remsi v694 c2_i32_453
  let v702 : BitVec 32 := Scalar.subi c1_i32_459 v695
  let v704 : BitVec 32 := Scalar.muli c4_i32_461 v702
  let c2_i32_462 : BitVec 32 := 2#32
  let c1_i32_460 : BitVec 32 := 1#32
  let v696 : BitVec 32 := Dev.word d0
  let c2_i32_456 : BitVec 32 := 2#32
  let v697 : BitVec 32 := Scalar.divsi v696 c2_i32_456
  let c2_i32_455 : BitVec 32 := 2#32
  let v698 : BitVec 32 := Scalar.remsi v697 c2_i32_455
  let v703 : BitVec 32 := Scalar.subi c1_i32_460 v698
  let v705 : BitVec 32 := Scalar.muli c2_i32_462 v703
  let v706 : BitVec 32 := Scalar.addi v704 v705
  let v699 : BitVec 32 := Dev.word d0
  let c1_i32_458 : BitVec 32 := 1#32
  let v700 : BitVec 32 := Scalar.divsi v699 c1_i32_458
  let c2_i32_457 : BitVec 32 := 2#32
  let v701 : BitVec 32 := Scalar.remsi v700 c2_i32_457
  let v707 : BitVec 32 := Scalar.addi v706 v701
  let c0_i32_507 : BitVec 32 := 0#32
  let c0_i32_508 : BitVec 32 := 0#32
  ![v707.toNat, 0, 0]
def k0_dev45 (d0 : Dev nD) : Nat :=
  let c0_i32_502 : BitVec 32 := 0#32
  let c1_i32_459 : BitVec 32 := 1#32
  let v693 : BitVec 32 := Dev.word d0
  let c4_i32_454 : BitVec 32 := 4#32
  let v694 : BitVec 32 := Scalar.divsi v693 c4_i32_454
  let c2_i32_453 : BitVec 32 := 2#32
  let v695 : BitVec 32 := Scalar.remsi v694 c2_i32_453
  let v702 : BitVec 32 := Scalar.subi c1_i32_459 v695
  let c4_i32_501 : BitVec 32 := 4#32
  let v764 : BitVec 32 := Scalar.muli v702 c4_i32_501
  let v765 : BitVec 32 := Scalar.addi c0_i32_502 v764
  let c1_i32_460 : BitVec 32 := 1#32
  let v696 : BitVec 32 := Dev.word d0
  let c2_i32_456 : BitVec 32 := 2#32
  let v697 : BitVec 32 := Scalar.divsi v696 c2_i32_456
  let c2_i32_455 : BitVec 32 := 2#32
  let v698 : BitVec 32 := Scalar.remsi v697 c2_i32_455
  let v703 : BitVec 32 := Scalar.subi c1_i32_460 v698
  let c2_i32_503 : BitVec 32 := 2#32
  let v766 : BitVec 32 := Scalar.muli v703 c2_i32_503
  let v767 : BitVec 32 := Scalar.addi v765 v766
  let v699 : BitVec 32 := Dev.word d0
  let c1_i32_458 : BitVec 32 := 1#32
  let v700 : BitVec 32 := Scalar.divsi v699 c1_i32_458
  let c2_i32_457 : BitVec 32 := 2#32
  let v701 : BitVec 32 := Scalar.remsi v700 c2_i32_457
  let c1_i32_504 : BitVec 32 := 1#32
  let v768 : BitVec 32 := Scalar.muli v701 c1_i32_504
  let v769 : BitVec 32 := Scalar.addi v767 v768
  v769.toNat
def k0_dev46 (d0 : Dev nD) : Nat :=
  let c0_i32_511 : BitVec 32 := 0#32
  let c1_i32_459 : BitVec 32 := 1#32
  let v693 : BitVec 32 := Dev.word d0
  let c4_i32_454 : BitVec 32 := 4#32
  let v694 : BitVec 32 := Scalar.divsi v693 c4_i32_454
  let c2_i32_453 : BitVec 32 := 2#32
  let v695 : BitVec 32 := Scalar.remsi v694 c2_i32_453
  let v702 : BitVec 32 := Scalar.subi c1_i32_459 v695
  let c4_i32_510 : BitVec 32 := 4#32
  let v778 : BitVec 32 := Scalar.muli v702 c4_i32_510
  let v779 : BitVec 32 := Scalar.addi c0_i32_511 v778
  let c1_i32_460 : BitVec 32 := 1#32
  let v696 : BitVec 32 := Dev.word d0
  let c2_i32_456 : BitVec 32 := 2#32
  let v697 : BitVec 32 := Scalar.divsi v696 c2_i32_456
  let c2_i32_455 : BitVec 32 := 2#32
  let v698 : BitVec 32 := Scalar.remsi v697 c2_i32_455
  let v703 : BitVec 32 := Scalar.subi c1_i32_460 v698
  let c2_i32_512 : BitVec 32 := 2#32
  let v780 : BitVec 32 := Scalar.muli v703 c2_i32_512
  let v781 : BitVec 32 := Scalar.addi v779 v780
  let v699 : BitVec 32 := Dev.word d0
  let c1_i32_458 : BitVec 32 := 1#32
  let v700 : BitVec 32 := Scalar.divsi v699 c1_i32_458
  let c2_i32_457 : BitVec 32 := 2#32
  let v701 : BitVec 32 := Scalar.remsi v700 c2_i32_457
  let c1_i32_513 : BitVec 32 := 1#32
  let v782 : BitVec 32 := Scalar.muli v701 c1_i32_513
  let v783 : BitVec 32 := Scalar.addi v781 v782
  v783.toNat
def k0_dev47 (d0 : Dev nD) : Nat :=
  let c0_i32_520 : BitVec 32 := 0#32
  let c1_i32_459 : BitVec 32 := 1#32
  let v693 : BitVec 32 := Dev.word d0
  let c4_i32_454 : BitVec 32 := 4#32
  let v694 : BitVec 32 := Scalar.divsi v693 c4_i32_454
  let c2_i32_453 : BitVec 32 := 2#32
  let v695 : BitVec 32 := Scalar.remsi v694 c2_i32_453
  let v702 : BitVec 32 := Scalar.subi c1_i32_459 v695
  let c4_i32_519 : BitVec 32 := 4#32
  let v792 : BitVec 32 := Scalar.muli v702 c4_i32_519
  let v793 : BitVec 32 := Scalar.addi c0_i32_520 v792
  let c1_i32_460 : BitVec 32 := 1#32
  let v696 : BitVec 32 := Dev.word d0
  let c2_i32_456 : BitVec 32 := 2#32
  let v697 : BitVec 32 := Scalar.divsi v696 c2_i32_456
  let c2_i32_455 : BitVec 32 := 2#32
  let v698 : BitVec 32 := Scalar.remsi v697 c2_i32_455
  let v703 : BitVec 32 := Scalar.subi c1_i32_460 v698
  let c2_i32_521 : BitVec 32 := 2#32
  let v794 : BitVec 32 := Scalar.muli v703 c2_i32_521
  let v795 : BitVec 32 := Scalar.addi v793 v794
  let v699 : BitVec 32 := Dev.word d0
  let c1_i32_458 : BitVec 32 := 1#32
  let v700 : BitVec 32 := Scalar.divsi v699 c1_i32_458
  let c2_i32_457 : BitVec 32 := 2#32
  let v701 : BitVec 32 := Scalar.remsi v700 c2_i32_457
  let c1_i32_522 : BitVec 32 := 1#32
  let v796 : BitVec 32 := Scalar.muli v701 c1_i32_522
  let v797 : BitVec 32 := Scalar.addi v795 v796
  v797.toNat
def k0_dev48 (d0 : Dev nD) : Nat :=
  let c0_i32_529 : BitVec 32 := 0#32
  let c1_i32_459 : BitVec 32 := 1#32
  let v693 : BitVec 32 := Dev.word d0
  let c4_i32_454 : BitVec 32 := 4#32
  let v694 : BitVec 32 := Scalar.divsi v693 c4_i32_454
  let c2_i32_453 : BitVec 32 := 2#32
  let v695 : BitVec 32 := Scalar.remsi v694 c2_i32_453
  let v702 : BitVec 32 := Scalar.subi c1_i32_459 v695
  let c4_i32_528 : BitVec 32 := 4#32
  let v806 : BitVec 32 := Scalar.muli v702 c4_i32_528
  let v807 : BitVec 32 := Scalar.addi c0_i32_529 v806
  let c1_i32_460 : BitVec 32 := 1#32
  let v696 : BitVec 32 := Dev.word d0
  let c2_i32_456 : BitVec 32 := 2#32
  let v697 : BitVec 32 := Scalar.divsi v696 c2_i32_456
  let c2_i32_455 : BitVec 32 := 2#32
  let v698 : BitVec 32 := Scalar.remsi v697 c2_i32_455
  let v703 : BitVec 32 := Scalar.subi c1_i32_460 v698
  let c2_i32_530 : BitVec 32 := 2#32
  let v808 : BitVec 32 := Scalar.muli v703 c2_i32_530
  let v809 : BitVec 32 := Scalar.addi v807 v808
  let v699 : BitVec 32 := Dev.word d0
  let c1_i32_458 : BitVec 32 := 1#32
  let v700 : BitVec 32 := Scalar.divsi v699 c1_i32_458
  let c2_i32_457 : BitVec 32 := 2#32
  let v701 : BitVec 32 := Scalar.remsi v700 c2_i32_457
  let c1_i32_531 : BitVec 32 := 1#32
  let v810 : BitVec 32 := Scalar.muli v701 c1_i32_531
  let v811 : BitVec 32 := Scalar.addi v809 v810
  v811.toNat
def k0_off29 (d0 : Dev nD) : Fin 3 → Nat :=
  let c4_i32_545 : BitVec 32 := 4#32
  let c1_i32_542 : BitVec 32 := 1#32
  let v820 : BitVec 32 := Dev.word d0
  let c4_i32_537 : BitVec 32 := 4#32
  let v821 : BitVec 32 := Scalar.divsi v820 c4_i32_537
  let c2_i32_536 : BitVec 32 := 2#32
  let v822 : BitVec 32 := Scalar.remsi v821 c2_i32_536
  let v829 : BitVec 32 := Scalar.subi c1_i32_542 v822
  let v832 : BitVec 32 := Scalar.muli c4_i32_545 v829
  let c2_i32_546 : BitVec 32 := 2#32
  let c1_i32_543 : BitVec 32 := 1#32
  let v823 : BitVec 32 := Dev.word d0
  let c2_i32_539 : BitVec 32 := 2#32
  let v824 : BitVec 32 := Scalar.divsi v823 c2_i32_539
  let c2_i32_538 : BitVec 32 := 2#32
  let v825 : BitVec 32 := Scalar.remsi v824 c2_i32_538
  let v830 : BitVec 32 := Scalar.subi c1_i32_543 v825
  let v833 : BitVec 32 := Scalar.muli c2_i32_546 v830
  let v834 : BitVec 32 := Scalar.addi v832 v833
  let c1_i32_544 : BitVec 32 := 1#32
  let v826 : BitVec 32 := Dev.word d0
  let c1_i32_541 : BitVec 32 := 1#32
  let v827 : BitVec 32 := Scalar.divsi v826 c1_i32_541
  let c2_i32_540 : BitVec 32 := 2#32
  let v828 : BitVec 32 := Scalar.remsi v827 c2_i32_540
  let v831 : BitVec 32 := Scalar.subi c1_i32_544 v828
  let v835 : BitVec 32 := Scalar.addi v834 v831
  let c0_i32_555 : BitVec 32 := 0#32
  let c0_i32_556 : BitVec 32 := 0#32
  ![v835.toNat, 0, 0]
def k0_dev49 (d0 : Dev nD) : Nat :=
  let c0_i32_550 : BitVec 32 := 0#32
  let c1_i32_542 : BitVec 32 := 1#32
  let v820 : BitVec 32 := Dev.word d0
  let c4_i32_537 : BitVec 32 := 4#32
  let v821 : BitVec 32 := Scalar.divsi v820 c4_i32_537
  let c2_i32_536 : BitVec 32 := 2#32
  let v822 : BitVec 32 := Scalar.remsi v821 c2_i32_536
  let v829 : BitVec 32 := Scalar.subi c1_i32_542 v822
  let c4_i32_549 : BitVec 32 := 4#32
  let v836 : BitVec 32 := Scalar.muli v829 c4_i32_549
  let v837 : BitVec 32 := Scalar.addi c0_i32_550 v836
  let c1_i32_543 : BitVec 32 := 1#32
  let v823 : BitVec 32 := Dev.word d0
  let c2_i32_539 : BitVec 32 := 2#32
  let v824 : BitVec 32 := Scalar.divsi v823 c2_i32_539
  let c2_i32_538 : BitVec 32 := 2#32
  let v825 : BitVec 32 := Scalar.remsi v824 c2_i32_538
  let v830 : BitVec 32 := Scalar.subi c1_i32_543 v825
  let c2_i32_551 : BitVec 32 := 2#32
  let v838 : BitVec 32 := Scalar.muli v830 c2_i32_551
  let v839 : BitVec 32 := Scalar.addi v837 v838
  let c1_i32_544 : BitVec 32 := 1#32
  let v826 : BitVec 32 := Dev.word d0
  let c1_i32_541 : BitVec 32 := 1#32
  let v827 : BitVec 32 := Scalar.divsi v826 c1_i32_541
  let c2_i32_540 : BitVec 32 := 2#32
  let v828 : BitVec 32 := Scalar.remsi v827 c2_i32_540
  let v831 : BitVec 32 := Scalar.subi c1_i32_544 v828
  let c1_i32_552 : BitVec 32 := 1#32
  let v840 : BitVec 32 := Scalar.muli v831 c1_i32_552
  let v841 : BitVec 32 := Scalar.addi v839 v840
  v841.toNat
def k0_off30 (d0 : Dev nD) : Fin 3 → Nat :=
  let c4_i32_545 : BitVec 32 := 4#32
  let c1_i32_542 : BitVec 32 := 1#32
  let v820 : BitVec 32 := Dev.word d0
  let c4_i32_537 : BitVec 32 := 4#32
  let v821 : BitVec 32 := Scalar.divsi v820 c4_i32_537
  let c2_i32_536 : BitVec 32 := 2#32
  let v822 : BitVec 32 := Scalar.remsi v821 c2_i32_536
  let v829 : BitVec 32 := Scalar.subi c1_i32_542 v822
  let v832 : BitVec 32 := Scalar.muli c4_i32_545 v829
  let c2_i32_546 : BitVec 32 := 2#32
  let c1_i32_543 : BitVec 32 := 1#32
  let v823 : BitVec 32 := Dev.word d0
  let c2_i32_539 : BitVec 32 := 2#32
  let v824 : BitVec 32 := Scalar.divsi v823 c2_i32_539
  let c2_i32_538 : BitVec 32 := 2#32
  let v825 : BitVec 32 := Scalar.remsi v824 c2_i32_538
  let v830 : BitVec 32 := Scalar.subi c1_i32_543 v825
  let v833 : BitVec 32 := Scalar.muli c2_i32_546 v830
  let v834 : BitVec 32 := Scalar.addi v832 v833
  let c1_i32_544 : BitVec 32 := 1#32
  let v826 : BitVec 32 := Dev.word d0
  let c1_i32_541 : BitVec 32 := 1#32
  let v827 : BitVec 32 := Scalar.divsi v826 c1_i32_541
  let c2_i32_540 : BitVec 32 := 2#32
  let v828 : BitVec 32 := Scalar.remsi v827 c2_i32_540
  let v831 : BitVec 32 := Scalar.subi c1_i32_544 v828
  let v835 : BitVec 32 := Scalar.addi v834 v831
  let c0_i32_564 : BitVec 32 := 0#32
  let c0_i32_565 : BitVec 32 := 0#32
  ![v835.toNat, 0, 0]
def k0_dev50 (d0 : Dev nD) : Nat :=
  let c0_i32_559 : BitVec 32 := 0#32
  let c1_i32_542 : BitVec 32 := 1#32
  let v820 : BitVec 32 := Dev.word d0
  let c4_i32_537 : BitVec 32 := 4#32
  let v821 : BitVec 32 := Scalar.divsi v820 c4_i32_537
  let c2_i32_536 : BitVec 32 := 2#32
  let v822 : BitVec 32 := Scalar.remsi v821 c2_i32_536
  let v829 : BitVec 32 := Scalar.subi c1_i32_542 v822
  let c4_i32_558 : BitVec 32 := 4#32
  let v850 : BitVec 32 := Scalar.muli v829 c4_i32_558
  let v851 : BitVec 32 := Scalar.addi c0_i32_559 v850
  let c1_i32_543 : BitVec 32 := 1#32
  let v823 : BitVec 32 := Dev.word d0
  let c2_i32_539 : BitVec 32 := 2#32
  let v824 : BitVec 32 := Scalar.divsi v823 c2_i32_539
  let c2_i32_538 : BitVec 32 := 2#32
  let v825 : BitVec 32 := Scalar.remsi v824 c2_i32_538
  let v830 : BitVec 32 := Scalar.subi c1_i32_543 v825
  let c2_i32_560 : BitVec 32 := 2#32
  let v852 : BitVec 32 := Scalar.muli v830 c2_i32_560
  let v853 : BitVec 32 := Scalar.addi v851 v852
  let c1_i32_544 : BitVec 32 := 1#32
  let v826 : BitVec 32 := Dev.word d0
  let c1_i32_541 : BitVec 32 := 1#32
  let v827 : BitVec 32 := Scalar.divsi v826 c1_i32_541
  let c2_i32_540 : BitVec 32 := 2#32
  let v828 : BitVec 32 := Scalar.remsi v827 c2_i32_540
  let v831 : BitVec 32 := Scalar.subi c1_i32_544 v828
  let c1_i32_561 : BitVec 32 := 1#32
  let v854 : BitVec 32 := Scalar.muli v831 c1_i32_561
  let v855 : BitVec 32 := Scalar.addi v853 v854
  v855.toNat
def k0_off31 (d0 : Dev nD) : Fin 3 → Nat :=
  let c4_i32_545 : BitVec 32 := 4#32
  let c1_i32_542 : BitVec 32 := 1#32
  let v820 : BitVec 32 := Dev.word d0
  let c4_i32_537 : BitVec 32 := 4#32
  let v821 : BitVec 32 := Scalar.divsi v820 c4_i32_537
  let c2_i32_536 : BitVec 32 := 2#32
  let v822 : BitVec 32 := Scalar.remsi v821 c2_i32_536
  let v829 : BitVec 32 := Scalar.subi c1_i32_542 v822
  let v832 : BitVec 32 := Scalar.muli c4_i32_545 v829
  let c2_i32_546 : BitVec 32 := 2#32
  let c1_i32_543 : BitVec 32 := 1#32
  let v823 : BitVec 32 := Dev.word d0
  let c2_i32_539 : BitVec 32 := 2#32
  let v824 : BitVec 32 := Scalar.divsi v823 c2_i32_539
  let c2_i32_538 : BitVec 32 := 2#32
  let v825 : BitVec 32 := Scalar.remsi v824 c2_i32_538
  let v830 : BitVec 32 := Scalar.subi c1_i32_543 v825
  let v833 : BitVec 32 := Scalar.muli c2_i32_546 v830
  let v834 : BitVec 32 := Scalar.addi v832 v833
  let c1_i32_544 : BitVec 32 := 1#32
  let v826 : BitVec 32 := Dev.word d0
  let c1_i32_541 : BitVec 32 := 1#32
  let v827 : BitVec 32 := Scalar.divsi v826 c1_i32_541
  let c2_i32_540 : BitVec 32 := 2#32
  let v828 : BitVec 32 := Scalar.remsi v827 c2_i32_540
  let v831 : BitVec 32 := Scalar.subi c1_i32_544 v828
  let v835 : BitVec 32 := Scalar.addi v834 v831
  let c0_i32_573 : BitVec 32 := 0#32
  let c0_i32_574 : BitVec 32 := 0#32
  ![v835.toNat, 0, 0]
def k0_dev51 (d0 : Dev nD) : Nat :=
  let c0_i32_568 : BitVec 32 := 0#32
  let c1_i32_542 : BitVec 32 := 1#32
  let v820 : BitVec 32 := Dev.word d0
  let c4_i32_537 : BitVec 32 := 4#32
  let v821 : BitVec 32 := Scalar.divsi v820 c4_i32_537
  let c2_i32_536 : BitVec 32 := 2#32
  let v822 : BitVec 32 := Scalar.remsi v821 c2_i32_536
  let v829 : BitVec 32 := Scalar.subi c1_i32_542 v822
  let c4_i32_567 : BitVec 32 := 4#32
  let v864 : BitVec 32 := Scalar.muli v829 c4_i32_567
  let v865 : BitVec 32 := Scalar.addi c0_i32_568 v864
  let c1_i32_543 : BitVec 32 := 1#32
  let v823 : BitVec 32 := Dev.word d0
  let c2_i32_539 : BitVec 32 := 2#32
  let v824 : BitVec 32 := Scalar.divsi v823 c2_i32_539
  let c2_i32_538 : BitVec 32 := 2#32
  let v825 : BitVec 32 := Scalar.remsi v824 c2_i32_538
  let v830 : BitVec 32 := Scalar.subi c1_i32_543 v825
  let c2_i32_569 : BitVec 32 := 2#32
  let v866 : BitVec 32 := Scalar.muli v830 c2_i32_569
  let v867 : BitVec 32 := Scalar.addi v865 v866
  let c1_i32_544 : BitVec 32 := 1#32
  let v826 : BitVec 32 := Dev.word d0
  let c1_i32_541 : BitVec 32 := 1#32
  let v827 : BitVec 32 := Scalar.divsi v826 c1_i32_541
  let c2_i32_540 : BitVec 32 := 2#32
  let v828 : BitVec 32 := Scalar.remsi v827 c2_i32_540
  let v831 : BitVec 32 := Scalar.subi c1_i32_544 v828
  let c1_i32_570 : BitVec 32 := 1#32
  let v868 : BitVec 32 := Scalar.muli v831 c1_i32_570
  let v869 : BitVec 32 := Scalar.addi v867 v868
  v869.toNat
def k0_dev52 (d0 : Dev nD) : Nat :=
  let c0_i32_577 : BitVec 32 := 0#32
  let c1_i32_542 : BitVec 32 := 1#32
  let v820 : BitVec 32 := Dev.word d0
  let c4_i32_537 : BitVec 32 := 4#32
  let v821 : BitVec 32 := Scalar.divsi v820 c4_i32_537
  let c2_i32_536 : BitVec 32 := 2#32
  let v822 : BitVec 32 := Scalar.remsi v821 c2_i32_536
  let v829 : BitVec 32 := Scalar.subi c1_i32_542 v822
  let c4_i32_576 : BitVec 32 := 4#32
  let v878 : BitVec 32 := Scalar.muli v829 c4_i32_576
  let v879 : BitVec 32 := Scalar.addi c0_i32_577 v878
  let c1_i32_543 : BitVec 32 := 1#32
  let v823 : BitVec 32 := Dev.word d0
  let c2_i32_539 : BitVec 32 := 2#32
  let v824 : BitVec 32 := Scalar.divsi v823 c2_i32_539
  let c2_i32_538 : BitVec 32 := 2#32
  let v825 : BitVec 32 := Scalar.remsi v824 c2_i32_538
  let v830 : BitVec 32 := Scalar.subi c1_i32_543 v825
  let c2_i32_578 : BitVec 32 := 2#32
  let v880 : BitVec 32 := Scalar.muli v830 c2_i32_578
  let v881 : BitVec 32 := Scalar.addi v879 v880
  let c1_i32_544 : BitVec 32 := 1#32
  let v826 : BitVec 32 := Dev.word d0
  let c1_i32_541 : BitVec 32 := 1#32
  let v827 : BitVec 32 := Scalar.divsi v826 c1_i32_541
  let c2_i32_540 : BitVec 32 := 2#32
  let v828 : BitVec 32 := Scalar.remsi v827 c2_i32_540
  let v831 : BitVec 32 := Scalar.subi c1_i32_544 v828
  let c1_i32_579 : BitVec 32 := 1#32
  let v882 : BitVec 32 := Scalar.muli v831 c1_i32_579
  let v883 : BitVec 32 := Scalar.addi v881 v882
  v883.toNat
def k0_off32 (d0 : Dev nD) : Fin 3 → Nat :=
  let c4_i32_545 : BitVec 32 := 4#32
  let c1_i32_542 : BitVec 32 := 1#32
  let v820 : BitVec 32 := Dev.word d0
  let c4_i32_537 : BitVec 32 := 4#32
  let v821 : BitVec 32 := Scalar.divsi v820 c4_i32_537
  let c2_i32_536 : BitVec 32 := 2#32
  let v822 : BitVec 32 := Scalar.remsi v821 c2_i32_536
  let v829 : BitVec 32 := Scalar.subi c1_i32_542 v822
  let v832 : BitVec 32 := Scalar.muli c4_i32_545 v829
  let c2_i32_546 : BitVec 32 := 2#32
  let c1_i32_543 : BitVec 32 := 1#32
  let v823 : BitVec 32 := Dev.word d0
  let c2_i32_539 : BitVec 32 := 2#32
  let v824 : BitVec 32 := Scalar.divsi v823 c2_i32_539
  let c2_i32_538 : BitVec 32 := 2#32
  let v825 : BitVec 32 := Scalar.remsi v824 c2_i32_538
  let v830 : BitVec 32 := Scalar.subi c1_i32_543 v825
  let v833 : BitVec 32 := Scalar.muli c2_i32_546 v830
  let v834 : BitVec 32 := Scalar.addi v832 v833
  let c1_i32_544 : BitVec 32 := 1#32
  let v826 : BitVec 32 := Dev.word d0
  let c1_i32_541 : BitVec 32 := 1#32
  let v827 : BitVec 32 := Scalar.divsi v826 c1_i32_541
  let c2_i32_540 : BitVec 32 := 2#32
  let v828 : BitVec 32 := Scalar.remsi v827 c2_i32_540
  let v831 : BitVec 32 := Scalar.subi c1_i32_544 v828
  let v835 : BitVec 32 := Scalar.addi v834 v831
  let c0_i32_591 : BitVec 32 := 0#32
  let c0_i32_592 : BitVec 32 := 0#32
  ![v835.toNat, 0, 0]
def k0_dev53 (d0 : Dev nD) : Nat :=
  let c0_i32_586 : BitVec 32 := 0#32
  let c1_i32_542 : BitVec 32 := 1#32
  let v820 : BitVec 32 := Dev.word d0
  let c4_i32_537 : BitVec 32 := 4#32
  let v821 : BitVec 32 := Scalar.divsi v820 c4_i32_537
  let c2_i32_536 : BitVec 32 := 2#32
  let v822 : BitVec 32 := Scalar.remsi v821 c2_i32_536
  let v829 : BitVec 32 := Scalar.subi c1_i32_542 v822
  let c4_i32_585 : BitVec 32 := 4#32
  let v892 : BitVec 32 := Scalar.muli v829 c4_i32_585
  let v893 : BitVec 32 := Scalar.addi c0_i32_586 v892
  let c1_i32_543 : BitVec 32 := 1#32
  let v823 : BitVec 32 := Dev.word d0
  let c2_i32_539 : BitVec 32 := 2#32
  let v824 : BitVec 32 := Scalar.divsi v823 c2_i32_539
  let c2_i32_538 : BitVec 32 := 2#32
  let v825 : BitVec 32 := Scalar.remsi v824 c2_i32_538
  let v830 : BitVec 32 := Scalar.subi c1_i32_543 v825
  let c2_i32_587 : BitVec 32 := 2#32
  let v894 : BitVec 32 := Scalar.muli v830 c2_i32_587
  let v895 : BitVec 32 := Scalar.addi v893 v894
  let c1_i32_544 : BitVec 32 := 1#32
  let v826 : BitVec 32 := Dev.word d0
  let c1_i32_541 : BitVec 32 := 1#32
  let v827 : BitVec 32 := Scalar.divsi v826 c1_i32_541
  let c2_i32_540 : BitVec 32 := 2#32
  let v828 : BitVec 32 := Scalar.remsi v827 c2_i32_540
  let v831 : BitVec 32 := Scalar.subi c1_i32_544 v828
  let c1_i32_588 : BitVec 32 := 1#32
  let v896 : BitVec 32 := Scalar.muli v831 c1_i32_588
  let v897 : BitVec 32 := Scalar.addi v895 v896
  v897.toNat
def k0_dev54 (d0 : Dev nD) : Nat :=
  let c0_i32_595 : BitVec 32 := 0#32
  let c1_i32_542 : BitVec 32 := 1#32
  let v820 : BitVec 32 := Dev.word d0
  let c4_i32_537 : BitVec 32 := 4#32
  let v821 : BitVec 32 := Scalar.divsi v820 c4_i32_537
  let c2_i32_536 : BitVec 32 := 2#32
  let v822 : BitVec 32 := Scalar.remsi v821 c2_i32_536
  let v829 : BitVec 32 := Scalar.subi c1_i32_542 v822
  let c4_i32_594 : BitVec 32 := 4#32
  let v906 : BitVec 32 := Scalar.muli v829 c4_i32_594
  let v907 : BitVec 32 := Scalar.addi c0_i32_595 v906
  let c1_i32_543 : BitVec 32 := 1#32
  let v823 : BitVec 32 := Dev.word d0
  let c2_i32_539 : BitVec 32 := 2#32
  let v824 : BitVec 32 := Scalar.divsi v823 c2_i32_539
  let c2_i32_538 : BitVec 32 := 2#32
  let v825 : BitVec 32 := Scalar.remsi v824 c2_i32_538
  let v830 : BitVec 32 := Scalar.subi c1_i32_543 v825
  let c2_i32_596 : BitVec 32 := 2#32
  let v908 : BitVec 32 := Scalar.muli v830 c2_i32_596
  let v909 : BitVec 32 := Scalar.addi v907 v908
  let c1_i32_544 : BitVec 32 := 1#32
  let v826 : BitVec 32 := Dev.word d0
  let c1_i32_541 : BitVec 32 := 1#32
  let v827 : BitVec 32 := Scalar.divsi v826 c1_i32_541
  let c2_i32_540 : BitVec 32 := 2#32
  let v828 : BitVec 32 := Scalar.remsi v827 c2_i32_540
  let v831 : BitVec 32 := Scalar.subi c1_i32_544 v828
  let c1_i32_597 : BitVec 32 := 1#32
  let v910 : BitVec 32 := Scalar.muli v831 c1_i32_597
  let v911 : BitVec 32 := Scalar.addi v909 v910
  v911.toNat
def k0_dev55 (d0 : Dev nD) : Nat :=
  let c0_i32_604 : BitVec 32 := 0#32
  let c1_i32_542 : BitVec 32 := 1#32
  let v820 : BitVec 32 := Dev.word d0
  let c4_i32_537 : BitVec 32 := 4#32
  let v821 : BitVec 32 := Scalar.divsi v820 c4_i32_537
  let c2_i32_536 : BitVec 32 := 2#32
  let v822 : BitVec 32 := Scalar.remsi v821 c2_i32_536
  let v829 : BitVec 32 := Scalar.subi c1_i32_542 v822
  let c4_i32_603 : BitVec 32 := 4#32
  let v920 : BitVec 32 := Scalar.muli v829 c4_i32_603
  let v921 : BitVec 32 := Scalar.addi c0_i32_604 v920
  let c1_i32_543 : BitVec 32 := 1#32
  let v823 : BitVec 32 := Dev.word d0
  let c2_i32_539 : BitVec 32 := 2#32
  let v824 : BitVec 32 := Scalar.divsi v823 c2_i32_539
  let c2_i32_538 : BitVec 32 := 2#32
  let v825 : BitVec 32 := Scalar.remsi v824 c2_i32_538
  let v830 : BitVec 32 := Scalar.subi c1_i32_543 v825
  let c2_i32_605 : BitVec 32 := 2#32
  let v922 : BitVec 32 := Scalar.muli v830 c2_i32_605
  let v923 : BitVec 32 := Scalar.addi v921 v922
  let c1_i32_544 : BitVec 32 := 1#32
  let v826 : BitVec 32 := Dev.word d0
  let c1_i32_541 : BitVec 32 := 1#32
  let v827 : BitVec 32 := Scalar.divsi v826 c1_i32_541
  let c2_i32_540 : BitVec 32 := 2#32
  let v828 : BitVec 32 := Scalar.remsi v827 c2_i32_540
  let v831 : BitVec 32 := Scalar.subi c1_i32_544 v828
  let c1_i32_606 : BitVec 32 := 1#32
  let v924 : BitVec 32 := Scalar.muli v831 c1_i32_606
  let v925 : BitVec 32 := Scalar.addi v923 v924
  v925.toNat
def k0_dev56 (d0 : Dev nD) : Nat :=
  let c0_i32_613 : BitVec 32 := 0#32
  let c1_i32_542 : BitVec 32 := 1#32
  let v820 : BitVec 32 := Dev.word d0
  let c4_i32_537 : BitVec 32 := 4#32
  let v821 : BitVec 32 := Scalar.divsi v820 c4_i32_537
  let c2_i32_536 : BitVec 32 := 2#32
  let v822 : BitVec 32 := Scalar.remsi v821 c2_i32_536
  let v829 : BitVec 32 := Scalar.subi c1_i32_542 v822
  let c4_i32_612 : BitVec 32 := 4#32
  let v934 : BitVec 32 := Scalar.muli v829 c4_i32_612
  let v935 : BitVec 32 := Scalar.addi c0_i32_613 v934
  let c1_i32_543 : BitVec 32 := 1#32
  let v823 : BitVec 32 := Dev.word d0
  let c2_i32_539 : BitVec 32 := 2#32
  let v824 : BitVec 32 := Scalar.divsi v823 c2_i32_539
  let c2_i32_538 : BitVec 32 := 2#32
  let v825 : BitVec 32 := Scalar.remsi v824 c2_i32_538
  let v830 : BitVec 32 := Scalar.subi c1_i32_543 v825
  let c2_i32_614 : BitVec 32 := 2#32
  let v936 : BitVec 32 := Scalar.muli v830 c2_i32_614
  let v937 : BitVec 32 := Scalar.addi v935 v936
  let c1_i32_544 : BitVec 32 := 1#32
  let v826 : BitVec 32 := Dev.word d0
  let c1_i32_541 : BitVec 32 := 1#32
  let v827 : BitVec 32 := Scalar.divsi v826 c1_i32_541
  let c2_i32_540 : BitVec 32 := 2#32
  let v828 : BitVec 32 := Scalar.remsi v827 c2_i32_540
  let v831 : BitVec 32 := Scalar.subi c1_i32_544 v828
  let c1_i32_615 : BitVec 32 := 1#32
  let v938 : BitVec 32 := Scalar.muli v831 c1_i32_615
  let v939 : BitVec 32 := Scalar.addi v937 v938
  v939.toNat
-- ==== AllToAllRef.lean ====
abbrev S64x768x2048 : Shape := ⟨3, ![64, 768, 2048]⟩
abbrev S64x1024x2048 : Shape := ⟨3, ![64, 1024, 2048]⟩
abbrev S64x320x2048 : Shape := ⟨3, ![64, 320, 2048]⟩
abbrev S64x256x2048 : Shape := ⟨3, ![64, 256, 2048]⟩
abbrev S8x8x768x2048 : Shape := ⟨4, ![8, 8, 768, 2048]⟩
abbrev S8x8x1024x2048 : Shape := ⟨4, ![8, 8, 1024, 2048]⟩
abbrev S8x8x320x2048 : Shape := ⟨4, ![8, 8, 320, 2048]⟩
abbrev S8x8x256x2048 : Shape := ⟨4, ![8, 8, 256, 2048]⟩

abbrev nBuf : Space → Nat
  | .hbm => 32
  | .vmem => 0
  | .smem => 0
  | _ => 0

abbrev bufTy : (tb : Table) → Fin (tcTables nBuf tb) → BufTy
  | .hbm, ⟨0, _⟩ => ⟨S64x768x2048, .bf16⟩
  | .hbm, ⟨1, _⟩ => ⟨S64x1024x2048, .bf16⟩
  | .hbm, ⟨2, _⟩ => ⟨S64x320x2048, .bf16⟩
  | .hbm, ⟨3, _⟩ => ⟨S64x1024x2048, .bf16⟩
  | .hbm, ⟨4, _⟩ => ⟨S64x256x2048, .bf16⟩
  | .hbm, ⟨5, _⟩ => ⟨S64x1024x2048, .bf16⟩
  | .hbm, ⟨6, _⟩ => ⟨S64x256x2048, .bf16⟩
  | .hbm, ⟨7, _⟩ => ⟨S64x1024x2048, .bf16⟩
  | .hbm, ⟨8, _⟩ => ⟨S8x8x768x2048, .bf16⟩
  | .hbm, ⟨9, _⟩ => ⟨S8x8x768x2048, .bf16⟩
  | .hbm, ⟨10, _⟩ => ⟨S64x768x2048, .bf16⟩
  | .hbm, ⟨11, _⟩ => ⟨S8x8x1024x2048, .bf16⟩
  | .hbm, ⟨12, _⟩ => ⟨S8x8x1024x2048, .bf16⟩
  | .hbm, ⟨13, _⟩ => ⟨S64x1024x2048, .bf16⟩
  | .hbm, ⟨14, _⟩ => ⟨S8x8x320x2048, .bf16⟩
  | .hbm, ⟨15, _⟩ => ⟨S8x8x320x2048, .bf16⟩
  | .hbm, ⟨16, _⟩ => ⟨S64x320x2048, .bf16⟩
  | .hbm, ⟨17, _⟩ => ⟨S8x8x1024x2048, .bf16⟩
  | .hbm, ⟨18, _⟩ => ⟨S8x8x1024x2048, .bf16⟩
  | .hbm, ⟨19, _⟩ => ⟨S64x1024x2048, .bf16⟩
  | .hbm, ⟨20, _⟩ => ⟨S8x8x256x2048, .bf16⟩
  | .hbm, ⟨21, _⟩ => ⟨S8x8x256x2048, .bf16⟩
  | .hbm, ⟨22, _⟩ => ⟨S64x256x2048, .bf16⟩
  | .hbm, ⟨23, _⟩ => ⟨S8x8x1024x2048, .bf16⟩
  | .hbm, ⟨24, _⟩ => ⟨S8x8x1024x2048, .bf16⟩
  | .hbm, ⟨25, _⟩ => ⟨S64x1024x2048, .bf16⟩
  | .hbm, ⟨26, _⟩ => ⟨S8x8x256x2048, .bf16⟩
  | .hbm, ⟨27, _⟩ => ⟨S8x8x256x2048, .bf16⟩
  | .hbm, ⟨28, _⟩ => ⟨S64x256x2048, .bf16⟩
  | .hbm, ⟨29, _⟩ => ⟨S8x8x1024x2048, .bf16⟩
  | .hbm, ⟨30, _⟩ => ⟨S8x8x1024x2048, .bf16⟩
  | .hbm, ⟨31, _⟩ => ⟨S64x1024x2048, .bf16⟩
  | _, _ => ⟨S64x768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Gather.lean ====
abbrev S768x2048 : Shape := ⟨2, ![768, 2048]⟩
abbrev S1024x2048 : Shape := ⟨2, ![1024, 2048]⟩
abbrev S320x2048 : Shape := ⟨2, ![320, 2048]⟩
abbrev S256x2048 : Shape := ⟨2, ![256, 2048]⟩
abbrev S16x256 : Shape := ⟨2, ![16, 256]⟩
abbrev S3x256 : Shape := ⟨2, ![3, 256]⟩
abbrev S8x768x2048 : Shape := ⟨3, ![8, 768, 2048]⟩
abbrev S8x1024x2048 : Shape := ⟨3, ![8, 1024, 2048]⟩
abbrev S8x320x2048 : Shape := ⟨3, ![8, 320, 2048]⟩
abbrev S8x256x2048 : Shape := ⟨3, ![8, 256, 2048]⟩
abbrev S8x16x256 : Shape := ⟨3, ![8, 16, 256]⟩
abbrev S8x3x256 : Shape := ⟨3, ![8, 3, 256]⟩
abbrev S70 : Shape := ⟨1, ![70]⟩
abbrev S10 : Shape := ⟨1, ![10]⟩
abbrev S1 : Shape := ⟨1, ![1]⟩
abbrev S_ : Shape := ⟨0, ![]⟩
abbrev S1x768x2048 : Shape := ⟨3, ![1, 768, 2048]⟩
abbrev S1x1024x2048 : Shape := ⟨3, ![1, 1024, 2048]⟩
abbrev S1x320x2048 : Shape := ⟨3, ![1, 320, 2048]⟩
abbrev S1x256x2048 : Shape := ⟨3, ![1, 256, 2048]⟩
abbrev S1x16x256 : Shape := ⟨3, ![1, 16, 256]⟩
abbrev S1x3x256 : Shape := ⟨3, ![1, 3, 256]⟩

abbrev nBuf : Space → Nat
  | .hbm => 20
  | .vmem => 0
  | .smem => 0
  | _ => 0

abbrev bufTy : (tb : Table) → Fin (tcTables nBuf tb) → BufTy
  | .hbm, ⟨0, _⟩ => ⟨S768x2048, .bf16⟩
  | .hbm, ⟨1, _⟩ => ⟨S1024x2048, .bf16⟩
  | .hbm, ⟨2, _⟩ => ⟨S320x2048, .bf16⟩
  | .hbm, ⟨3, _⟩ => ⟨S1024x2048, .bf16⟩
  | .hbm, ⟨4, _⟩ => ⟨S256x2048, .bf16⟩
  | .hbm, ⟨5, _⟩ => ⟨S1024x2048, .bf16⟩
  | .hbm, ⟨6, _⟩ => ⟨S256x2048, .bf16⟩
  | .hbm, ⟨7, _⟩ => ⟨S1024x2048, .bf16⟩
  | .hbm, ⟨8, _⟩ => ⟨S16x256, .f32⟩
  | .hbm, ⟨9, _⟩ => ⟨S3x256, .f32⟩
  | .hbm, ⟨10, _⟩ => ⟨S8x768x2048, .bf16⟩
  | .hbm, ⟨11, _⟩ => ⟨S8x1024x2048, .bf16⟩
  | .hbm, ⟨12, _⟩ => ⟨S8x320x2048, .bf16⟩
  | .hbm, ⟨13, _⟩ => ⟨S8x1024x2048, .bf16⟩
  | .hbm, ⟨14, _⟩ => ⟨S8x256x2048, .bf16⟩
  | .hbm, ⟨15, _⟩ => ⟨S8x1024x2048, .bf16⟩
  | .hbm, ⟨16, _⟩ => ⟨S8x256x2048, .bf16⟩
  | .hbm, ⟨17, _⟩ => ⟨S8x1024x2048, .bf16⟩
  | .hbm, ⟨18, _⟩ => ⟨S8x16x256, .f32⟩
  | .hbm, ⟨19, _⟩ => ⟨S8x3x256, .f32⟩
  | _, _ => ⟨S768x2048, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | _, _ => false

abbrev semScoped : Fin 0 → Bool
  | ⟨_, h⟩ => absurd h (Nat.not_lt_zero _)

abbrev dmaSemScoped : Fin 150 → Bool
  | ⟨i, _⟩ => dmaSemScopedAt i

abbrev sig : RefSig :=
  ofTc nBuf bufTy 0 150 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_v1_5 : Ref sig .tc := ⟨.hbm, 15, rfl⟩
abbrev main_v1_6 : Ref sig .tc := ⟨.hbm, 16, rfl⟩
abbrev main_v1_7 : Ref sig .tc := ⟨.hbm, 17, rfl⟩
abbrev main_v1_8 : Ref sig .tc := ⟨.hbm, 18, rfl⟩
abbrev main_v1_9 : Ref sig .tc := ⟨.hbm, 19, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_8 : BitVec 32 := 0#32
  let c0_i32_9 : BitVec 32 := 0#32
  ![v12.toNat, 0, 0]
def k0_off3 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_11 : BitVec 32 := 0#32
  let c0_i32_12 : BitVec 32 := 0#32
  ![v12.toNat, 0, 0]
def k0_off4 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_16 : BitVec 32 := 0#32
  let c0_i32_17 : BitVec 32 := 0#32
  ![v12.toNat, 0, 0]
def k0_off5 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_24 : BitVec 32 := 0#32
  let c0_i32_25 : BitVec 32 := 0#32
  ![v12.toNat, 0, 0]
def k0_off6 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_26 : BitVec 32 := 0#32
  let c0_i32_27 : BitVec 32 := 0#32
  ![v12.toNat, 0, 0]
def k0_dev1 (d0 : Dev nD) : Nat :=
  let c0_i32_38 : BitVec 32 := 0#32
  let v53 : BitVec 32 := Dev.word d0
  let c4_i32_29 : BitVec 32 := 4#32
  let v54 : BitVec 32 := Scalar.divsi v53 c4_i32_29
  let c2_i32_28 : BitVec 32 := 2#32
  let v55 : BitVec 32 := Scalar.remsi v54 c2_i32_28
  let c4_i32_37 : BitVec 32 := 4#32
  let v63 : BitVec 32 := Scalar.muli v55 c4_i32_37
  let v64 : BitVec 32 := Scalar.addi c0_i32_38 v63
  let v56 : BitVec 32 := Dev.word d0
  let c2_i32_31 : BitVec 32 := 2#32
  let v57 : BitVec 32 := Scalar.divsi v56 c2_i32_31
  let c2_i32_30 : BitVec 32 := 2#32
  let v58 : BitVec 32 := Scalar.remsi v57 c2_i32_30
  let c2_i32_39 : BitVec 32 := 2#32
  let v65 : BitVec 32 := Scalar.muli v58 c2_i32_39
  let v66 : BitVec 32 := Scalar.addi v64 v65
  let c1_i32_34 : BitVec 32 := 1#32
  let v59 : BitVec 32 := Dev.word d0
  let c1_i32_33 : BitVec 32 := 1#32
  let v60 : BitVec 32 := Scalar.divsi v59 c1_i32_33
  let c2_i32_32 : BitVec 32 := 2#32
  let v61 : BitVec 32 := Scalar.remsi v60 c2_i32_32
  let v62 : BitVec 32 := Scalar.subi c1_i32_34 v61
  let c1_i32_40 : BitVec 32 := 1#32
  let v67 : BitVec 32 := Scalar.muli v62 c1_i32_40
  let v68 : BitVec 32 := Scalar.addi v66 v67
  v68.toNat
def k0_dev2 (d0 : Dev nD) : Nat :=
  let c0_i32_46 : BitVec 32 := 0#32
  let v53 : BitVec 32 := Dev.word d0
  let c4_i32_29 : BitVec 32 := 4#32
  let v54 : BitVec 32 := Scalar.divsi v53 c4_i32_29
  let c2_i32_28 : BitVec 32 := 2#32
  let v55 : BitVec 32 := Scalar.remsi v54 c2_i32_28
  let c4_i32_45 : BitVec 32 := 4#32
  let v75 : BitVec 32 := Scalar.muli v55 c4_i32_45
  let v76 : BitVec 32 := Scalar.addi c0_i32_46 v75
  let v56 : BitVec 32 := Dev.word d0
  let c2_i32_31 : BitVec 32 := 2#32
  let v57 : BitVec 32 := Scalar.divsi v56 c2_i32_31
  let c2_i32_30 : BitVec 32 := 2#32
  let v58 : BitVec 32 := Scalar.remsi v57 c2_i32_30
  let c2_i32_47 : BitVec 32 := 2#32
  let v77 : BitVec 32 := Scalar.muli v58 c2_i32_47
  let v78 : BitVec 32 := Scalar.addi v76 v77
  let c1_i32_34 : BitVec 32 := 1#32
  let v59 : BitVec 32 := Dev.word d0
  let c1_i32_33 : BitVec 32 := 1#32
  let v60 : BitVec 32 := Scalar.divsi v59 c1_i32_33
  let c2_i32_32 : BitVec 32 := 2#32
  let v61 : BitVec 32 := Scalar.remsi v60 c2_i32_32
  let v62 : BitVec 32 := Scalar.subi c1_i32_34 v61
  let c1_i32_48 : BitVec 32 := 1#32
  let v79 : BitVec 32 := Scalar.muli v62 c1_i32_48
  let v80 : BitVec 32 := Scalar.addi v78 v79
  v80.toNat
def k0_dev3 (d0 : Dev nD) : Nat :=
  let c0_i32_53 : BitVec 32 := 0#32
  let v53 : BitVec 32 := Dev.word d0
  let c4_i32_29 : BitVec 32 := 4#32
  let v54 : BitVec 32 := Scalar.divsi v53 c4_i32_29
  let c2_i32_28 : BitVec 32 := 2#32
  let v55 : BitVec 32 := Scalar.remsi v54 c2_i32_28
  let c4_i32_52 : BitVec 32 := 4#32
  let v87 : BitVec 32 := Scalar.muli v55 c4_i32_52
  let v88 : BitVec 32 := Scalar.addi c0_i32_53 v87
  let v56 : BitVec 32 := Dev.word d0
  let c2_i32_31 : BitVec 32 := 2#32
  let v57 : BitVec 32 := Scalar.divsi v56 c2_i32_31
  let c2_i32_30 : BitVec 32 := 2#32
  let v58 : BitVec 32 := Scalar.remsi v57 c2_i32_30
  let c2_i32_54 : BitVec 32 := 2#32
  let v89 : BitVec 32 := Scalar.muli v58 c2_i32_54
  let v90 : BitVec 32 := Scalar.addi v88 v89
  let c1_i32_34 : BitVec 32 := 1#32
  let v59 : BitVec 32 := Dev.word d0
  let c1_i32_33 : BitVec 32 := 1#32
  let v60 : BitVec 32 := Scalar.divsi v59 c1_i32_33
  let c2_i32_32 : BitVec 32 := 2#32
  let v61 : BitVec 32 := Scalar.remsi v60 c2_i32_32
  let v62 : BitVec 32 := Scalar.subi c1_i32_34 v61
  let c1_i32_55 : BitVec 32 := 1#32
  let v91 : BitVec 32 := Scalar.muli v62 c1_i32_55
  let v92 : BitVec 32 := Scalar.addi v90 v91
  v92.toNat
def k0_dev4 (d0 : Dev nD) : Nat :=
  let c0_i32_60 : BitVec 32 := 0#32
  let v53 : BitVec 32 := Dev.word d0
  let c4_i32_29 : BitVec 32 := 4#32
  let v54 : BitVec 32 := Scalar.divsi v53 c4_i32_29
  let c2_i32_28 : BitVec 32 := 2#32
  let v55 : BitVec 32 := Scalar.remsi v54 c2_i32_28
  let c4_i32_59 : BitVec 32 := 4#32
  let v99 : BitVec 32 := Scalar.muli v55 c4_i32_59
  let v100 : BitVec 32 := Scalar.addi c0_i32_60 v99
  let v56 : BitVec 32 := Dev.word d0
  let c2_i32_31 : BitVec 32 := 2#32
  let v57 : BitVec 32 := Scalar.divsi v56 c2_i32_31
  let c2_i32_30 : BitVec 32 := 2#32
  let v58 : BitVec 32 := Scalar.remsi v57 c2_i32_30
  let c2_i32_61 : BitVec 32 := 2#32
  let v101 : BitVec 32 := Scalar.muli v58 c2_i32_61
  let v102 : BitVec 32 := Scalar.addi v100 v101
  let c1_i32_34 : BitVec 32 := 1#32
  let v59 : BitVec 32 := Dev.word d0
  let c1_i32_33 : BitVec 32 := 1#32
  let v60 : BitVec 32 := Scalar.divsi v59 c1_i32_33
  let c2_i32_32 : BitVec 32 := 2#32
  let v61 : BitVec 32 := Scalar.remsi v60 c2_i32_32
  let v62 : BitVec 32 := Scalar.subi c1_i32_34 v61
  let c1_i32_62 : BitVec 32 := 1#32
  let v103 : BitVec 32 := Scalar.muli v62 c1_i32_62
  let v104 : BitVec 32 := Scalar.addi v102 v103
  v104.toNat
def k0_dev5 (d0 : Dev nD) : Nat :=
  let c0_i32_67 : BitVec 32 := 0#32
  let v53 : BitVec 32 := Dev.word d0
  let c4_i32_29 : BitVec 32 := 4#32
  let v54 : BitVec 32 := Scalar.divsi v53 c4_i32_29
  let c2_i32_28 : BitVec 32 := 2#32
  let v55 : BitVec 32 := Scalar.remsi v54 c2_i32_28
  let c4_i32_66 : BitVec 32 := 4#32
  let v111 : BitVec 32 := Scalar.muli v55 c4_i32_66
  let v112 : BitVec 32 := Scalar.addi c0_i32_67 v111
  let v56 : BitVec 32 := Dev.word d0
  let c2_i32_31 : BitVec 32 := 2#32
  let v57 : BitVec 32 := Scalar.divsi v56 c2_i32_31
  let c2_i32_30 : BitVec 32 := 2#32
  let v58 : BitVec 32 := Scalar.remsi v57 c2_i32_30
  let c2_i32_68 : BitVec 32 := 2#32
  let v113 : BitVec 32 := Scalar.muli v58 c2_i32_68
  let v114 : BitVec 32 := Scalar.addi v112 v113
  let c1_i32_34 : BitVec 32 := 1#32
  let v59 : BitVec 32 := Dev.word d0
  let c1_i32_33 : BitVec 32 := 1#32
  let v60 : BitVec 32 := Scalar.divsi v59 c1_i32_33
  let c2_i32_32 : BitVec 32 := 2#32
  let v61 : BitVec 32 := Scalar.remsi v60 c2_i32_32
  let v62 : BitVec 32 := Scalar.subi c1_i32_34 v61
  let c1_i32_69 : BitVec 32 := 1#32
  let v115 : BitVec 32 := Scalar.muli v62 c1_i32_69
  let v116 : BitVec 32 := Scalar.addi v114 v115
  v116.toNat
def k0_dev6 (d0 : Dev nD) : Nat :=
  let c0_i32_74 : BitVec 32 := 0#32
  let v53 : BitVec 32 := Dev.word d0
  let c4_i32_29 : BitVec 32 := 4#32
  let v54 : BitVec 32 := Scalar.divsi v53 c4_i32_29
  let c2_i32_28 : BitVec 32 := 2#32
  let v55 : BitVec 32 := Scalar.remsi v54 c2_i32_28
  let c4_i32_73 : BitVec 32 := 4#32
  let v123 : BitVec 32 := Scalar.muli v55 c4_i32_73
  let v124 : BitVec 32 := Scalar.addi c0_i32_74 v123
  let v56 : BitVec 32 := Dev.word d0
  let c2_i32_31 : BitVec 32 := 2#32
  let v57 : BitVec 32 := Scalar.divsi v56 c2_i32_31
  let c2_i32_30 : BitVec 32 := 2#32
  let v58 : BitVec 32 := Scalar.remsi v57 c2_i32_30
  let c2_i32_75 : BitVec 32 := 2#32
  let v125 : BitVec 32 := Scalar.muli v58 c2_i32_75
  let v126 : BitVec 32 := Scalar.addi v124 v125
  let c1_i32_34 : BitVec 32 := 1#32
  let v59 : BitVec 32 := Dev.word d0
  let c1_i32_33 : BitVec 32 := 1#32
  let v60 : BitVec 32 := Scalar.divsi v59 c1_i32_33
  let c2_i32_32 : BitVec 32 := 2#32
  let v61 : BitVec 32 := Scalar.remsi v60 c2_i32_32
  let v62 : BitVec 32 := Scalar.subi c1_i32_34 v61
  let c1_i32_76 : BitVec 32 := 1#32
  let v127 : BitVec 32 := Scalar.muli v62 c1_i32_76
  let v128 : BitVec 32 := Scalar.addi v126 v127
  v128.toNat
def k0_dev7 (d0 : Dev nD) : Nat :=
  let c0_i32_81 : BitVec 32 := 0#32
  let v53 : BitVec 32 := Dev.word d0
  let c4_i32_29 : BitVec 32 := 4#32
  let v54 : BitVec 32 := Scalar.divsi v53 c4_i32_29
  let c2_i32_28 : BitVec 32 := 2#32
  let v55 : BitVec 32 := Scalar.remsi v54 c2_i32_28
  let c4_i32_80 : BitVec 32 := 4#32
  let v135 : BitVec 32 := Scalar.muli v55 c4_i32_80
  let v136 : BitVec 32 := Scalar.addi c0_i32_81 v135
  let v56 : BitVec 32 := Dev.word d0
  let c2_i32_31 : BitVec 32 := 2#32
  let v57 : BitVec 32 := Scalar.divsi v56 c2_i32_31
  let c2_i32_30 : BitVec 32 := 2#32
  let v58 : BitVec 32 := Scalar.remsi v57 c2_i32_30
  let c2_i32_82 : BitVec 32 := 2#32
  let v137 : BitVec 32 := Scalar.muli v58 c2_i32_82
  let v138 : BitVec 32 := Scalar.addi v136 v137
  let c1_i32_34 : BitVec 32 := 1#32
  let v59 : BitVec 32 := Dev.word d0
  let c1_i32_33 : BitVec 32 := 1#32
  let v60 : BitVec 32 := Scalar.divsi v59 c1_i32_33
  let c2_i32_32 : BitVec 32 := 2#32
  let v61 : BitVec 32 := Scalar.remsi v60 c2_i32_32
  let v62 : BitVec 32 := Scalar.subi c1_i32_34 v61
  let c1_i32_83 : BitVec 32 := 1#32
  let v139 : BitVec 32 := Scalar.muli v62 c1_i32_83
  let v140 : BitVec 32 := Scalar.addi v138 v139
  v140.toNat
def k0_dev8 (d0 : Dev nD) : Nat :=
  let c0_i32_88 : BitVec 32 := 0#32
  let v53 : BitVec 32 := Dev.word d0
  let c4_i32_29 : BitVec 32 := 4#32
  let v54 : BitVec 32 := Scalar.divsi v53 c4_i32_29
  let c2_i32_28 : BitVec 32 := 2#32
  let v55 : BitVec 32 := Scalar.remsi v54 c2_i32_28
  let c4_i32_87 : BitVec 32 := 4#32
  let v147 : BitVec 32 := Scalar.muli v55 c4_i32_87
  let v148 : BitVec 32 := Scalar.addi c0_i32_88 v147
  let v56 : BitVec 32 := Dev.word d0
  let c2_i32_31 : BitVec 32 := 2#32
  let v57 : BitVec 32 := Scalar.divsi v56 c2_i32_31
  let c2_i32_30 : BitVec 32 := 2#32
  let v58 : BitVec 32 := Scalar.remsi v57 c2_i32_30
  let c2_i32_89 : BitVec 32 := 2#32
  let v149 : BitVec 32 := Scalar.muli v58 c2_i32_89
  let v150 : BitVec 32 := Scalar.addi v148 v149
  let c1_i32_34 : BitVec 32 := 1#32
  let v59 : BitVec 32 := Dev.word d0
  let c1_i32_33 : BitVec 32 := 1#32
  let v60 : BitVec 32 := Scalar.divsi v59 c1_i32_33
  let c2_i32_32 : BitVec 32 := 2#32
  let v61 : BitVec 32 := Scalar.remsi v60 c2_i32_32
  let v62 : BitVec 32 := Scalar.subi c1_i32_34 v61
  let c1_i32_90 : BitVec 32 := 1#32
  let v151 : BitVec 32 := Scalar.muli v62 c1_i32_90
  let v152 : BitVec 32 := Scalar.addi v150 v151
  v152.toNat
def k0_dev9 (d0 : Dev nD) : Nat :=
  let c0_i32_95 : BitVec 32 := 0#32
  let v53 : BitVec 32 := Dev.word d0
  let c4_i32_29 : BitVec 32 := 4#32
  let v54 : BitVec 32 := Scalar.divsi v53 c4_i32_29
  let c2_i32_28 : BitVec 32 := 2#32
  let v55 : BitVec 32 := Scalar.remsi v54 c2_i32_28
  let c4_i32_94 : BitVec 32 := 4#32
  let v159 : BitVec 32 := Scalar.muli v55 c4_i32_94
  let v160 : BitVec 32 := Scalar.addi c0_i32_95 v159
  let v56 : BitVec 32 := Dev.word d0
  let c2_i32_31 : BitVec 32 := 2#32
  let v57 : BitVec 32 := Scalar.divsi v56 c2_i32_31
  let c2_i32_30 : BitVec 32 := 2#32
  let v58 : BitVec 32 := Scalar.remsi v57 c2_i32_30
  let c2_i32_96 : BitVec 32 := 2#32
  let v161 : BitVec 32 := Scalar.muli v58 c2_i32_96
  let v162 : BitVec 32 := Scalar.addi v160 v161
  let c1_i32_34 : BitVec 32 := 1#32
  let v59 : BitVec 32 := Dev.word d0
  let c1_i32_33 : BitVec 32 := 1#32
  let v60 : BitVec 32 := Scalar.divsi v59 c1_i32_33
  let c2_i32_32 : BitVec 32 := 2#32
  let v61 : BitVec 32 := Scalar.remsi v60 c2_i32_32
  let v62 : BitVec 32 := Scalar.subi c1_i32_34 v61
  let c1_i32_97 : BitVec 32 := 1#32
  let v163 : BitVec 32 := Scalar.muli v62 c1_i32_97
  let v164 : BitVec 32 := Scalar.addi v162 v163
  v164.toNat
def k0_dev10 (d0 : Dev nD) : Nat :=
  let c0_i32_102 : BitVec 32 := 0#32
  let v53 : BitVec 32 := Dev.word d0
  let c4_i32_29 : BitVec 32 := 4#32
  let v54 : BitVec 32 := Scalar.divsi v53 c4_i32_29
  let c2_i32_28 : BitVec 32 := 2#32
  let v55 : BitVec 32 := Scalar.remsi v54 c2_i32_28
  let c4_i32_101 : BitVec 32 := 4#32
  let v171 : BitVec 32 := Scalar.muli v55 c4_i32_101
  let v172 : BitVec 32 := Scalar.addi c0_i32_102 v171
  let v56 : BitVec 32 := Dev.word d0
  let c2_i32_31 : BitVec 32 := 2#32
  let v57 : BitVec 32 := Scalar.divsi v56 c2_i32_31
  let c2_i32_30 : BitVec 32 := 2#32
  let v58 : BitVec 32 := Scalar.remsi v57 c2_i32_30
  let c2_i32_103 : BitVec 32 := 2#32
  let v173 : BitVec 32 := Scalar.muli v58 c2_i32_103
  let v174 : BitVec 32 := Scalar.addi v172 v173
  let c1_i32_34 : BitVec 32 := 1#32
  let v59 : BitVec 32 := Dev.word d0
  let c1_i32_33 : BitVec 32 := 1#32
  let v60 : BitVec 32 := Scalar.divsi v59 c1_i32_33
  let c2_i32_32 : BitVec 32 := 2#32
  let v61 : BitVec 32 := Scalar.remsi v60 c2_i32_32
  let v62 : BitVec 32 := Scalar.subi c1_i32_34 v61
  let c1_i32_104 : BitVec 32 := 1#32
  let v175 : BitVec 32 := Scalar.muli v62 c1_i32_104
  let v176 : BitVec 32 := Scalar.addi v174 v175
  v176.toNat
def k0_dev11 (d0 : Dev nD) : Nat :=
  let c0_i32_117 : BitVec 32 := 0#32
  let v183 : BitVec 32 := Dev.word d0
  let c4_i32_108 : BitVec 32 := 4#32
  let v184 : BitVec 32 := Scalar.divsi v183 c4_i32_108
  let c2_i32_107 : BitVec 32 := 2#32
  let v185 : BitVec 32 := Scalar.remsi v184 c2_i32_107
  let c4_i32_116 : BitVec 32 := 4#32
  let v193 : BitVec 32 := Scalar.muli v185 c4_i32_116
  let v194 : BitVec 32 := Scalar.addi c0_i32_117 v193
  let c1_i32_113 : BitVec 32 := 1#32
  let v186 : BitVec 32 := Dev.word d0
  let c2_i32_110 : BitVec 32 := 2#32
  let v187 : BitVec 32 := Scalar.divsi v186 c2_i32_110
  let c2_i32_109 : BitVec 32 := 2#32
  let v188 : BitVec 32 := Scalar.remsi v187 c2_i32_109
  let v192 : BitVec 32 := Scalar.subi c1_i32_113 v188
  let c2_i32_118 : BitVec 32 := 2#32
  let v195 : BitVec 32 := Scalar.muli v192 c2_i32_118
  let v196 : BitVec 32 := Scalar.addi v194 v195
  let v189 : BitVec 32 := Dev.word d0
  let c1_i32_112 : BitVec 32 := 1#32
  let v190 : BitVec 32 := Scalar.divsi v189 c1_i32_112
  let c2_i32_111 : BitVec 32 := 2#32
  let v191 : BitVec 32 := Scalar.remsi v190 c2_i32_111
  let c1_i32_119 : BitVec 32 := 1#32
  let v197 : BitVec 32 := Scalar.muli v191 c1_i32_119
  let v198 : BitVec 32 := Scalar.addi v196 v197
  v198.toNat
def k0_dev12 (d0 : Dev nD) : Nat :=
  let c0_i32_125 : BitVec 32 := 0#32
  let v183 : BitVec 32 := Dev.word d0
  let c4_i32_108 : BitVec 32 := 4#32
  let v184 : BitVec 32 := Scalar.divsi v183 c4_i32_108
  let c2_i32_107 : BitVec 32 := 2#32
  let v185 : BitVec 32 := Scalar.remsi v184 c2_i32_107
  let c4_i32_124 : BitVec 32 := 4#32
  let v205 : BitVec 32 := Scalar.muli v185 c4_i32_124
  let v206 : BitVec 32 := Scalar.addi c0_i32_125 v205
  let c1_i32_113 : BitVec 32 := 1#32
  let v186 : BitVec 32 := Dev.word d0
  let c2_i32_110 : BitVec 32 := 2#32
  let v187 : BitVec 32 := Scalar.divsi v186 c2_i32_110
  let c2_i32_109 : BitVec 32 := 2#32
  let v188 : BitVec 32 := Scalar.remsi v187 c2_i32_109
  let v192 : BitVec 32 := Scalar.subi c1_i32_113 v188
  let c2_i32_126 : BitVec 32 := 2#32
  let v207 : BitVec 32 := Scalar.muli v192 c2_i32_126
  let v208 : BitVec 32 := Scalar.addi v206 v207
  let v189 : BitVec 32 := Dev.word d0
  let c1_i32_112 : BitVec 32 := 1#32
  let v190 : BitVec 32 := Scalar.divsi v189 c1_i32_112
  let c2_i32_111 : BitVec 32 := 2#32
  let v191 : BitVec 32 := Scalar.remsi v190 c2_i32_111
  let c1_i32_127 : BitVec 32 := 1#32
  let v209 : BitVec 32 := Scalar.muli v191 c1_i32_127
  let v210 : BitVec 32 := Scalar.addi v208 v209
  v210.toNat
def k0_dev13 (d0 : Dev nD) : Nat :=
  let c0_i32_132 : BitVec 32 := 0#32
  let v183 : BitVec 32 := Dev.word d0
  let c4_i32_108 : BitVec 32 := 4#32
  let v184 : BitVec 32 := Scalar.divsi v183 c4_i32_108
  let c2_i32_107 : BitVec 32 := 2#32
  let v185 : BitVec 32 := Scalar.remsi v184 c2_i32_107
  let c4_i32_131 : BitVec 32 := 4#32
  let v217 : BitVec 32 := Scalar.muli v185 c4_i32_131
  let v218 : BitVec 32 := Scalar.addi c0_i32_132 v217
  let c1_i32_113 : BitVec 32 := 1#32
  let v186 : BitVec 32 := Dev.word d0
  let c2_i32_110 : BitVec 32 := 2#32
  let v187 : BitVec 32 := Scalar.divsi v186 c2_i32_110
  let c2_i32_109 : BitVec 32 := 2#32
  let v188 : BitVec 32 := Scalar.remsi v187 c2_i32_109
  let v192 : BitVec 32 := Scalar.subi c1_i32_113 v188
  let c2_i32_133 : BitVec 32 := 2#32
  let v219 : BitVec 32 := Scalar.muli v192 c2_i32_133
  let v220 : BitVec 32 := Scalar.addi v218 v219
  let v189 : BitVec 32 := Dev.word d0
  let c1_i32_112 : BitVec 32 := 1#32
  let v190 : BitVec 32 := Scalar.divsi v189 c1_i32_112
  let c2_i32_111 : BitVec 32 := 2#32
  let v191 : BitVec 32 := Scalar.remsi v190 c2_i32_111
  let c1_i32_134 : BitVec 32 := 1#32
  let v221 : BitVec 32 := Scalar.muli v191 c1_i32_134
  let v222 : BitVec 32 := Scalar.addi v220 v221
  v222.toNat
def k0_dev14 (d0 : Dev nD) : Nat :=
  let c0_i32_139 : BitVec 32 := 0#32
  let v183 : BitVec 32 := Dev.word d0
  let c4_i32_108 : BitVec 32 := 4#32
  let v184 : BitVec 32 := Scalar.divsi v183 c4_i32_108
  let c2_i32_107 : BitVec 32 := 2#32
  let v185 : BitVec 32 := Scalar.remsi v184 c2_i32_107
  let c4_i32_138 : BitVec 32 := 4#32
  let v229 : BitVec 32 := Scalar.muli v185 c4_i32_138
  let v230 : BitVec 32 := Scalar.addi c0_i32_139 v229
  let c1_i32_113 : BitVec 32 := 1#32
  let v186 : BitVec 32 := Dev.word d0
  let c2_i32_110 : BitVec 32 := 2#32
  let v187 : BitVec 32 := Scalar.divsi v186 c2_i32_110
  let c2_i32_109 : BitVec 32 := 2#32
  let v188 : BitVec 32 := Scalar.remsi v187 c2_i32_109
  let v192 : BitVec 32 := Scalar.subi c1_i32_113 v188
  let c2_i32_140 : BitVec 32 := 2#32
  let v231 : BitVec 32 := Scalar.muli v192 c2_i32_140
  let v232 : BitVec 32 := Scalar.addi v230 v231
  let v189 : BitVec 32 := Dev.word d0
  let c1_i32_112 : BitVec 32 := 1#32
  let v190 : BitVec 32 := Scalar.divsi v189 c1_i32_112
  let c2_i32_111 : BitVec 32 := 2#32
  let v191 : BitVec 32 := Scalar.remsi v190 c2_i32_111
  let c1_i32_141 : BitVec 32 := 1#32
  let v233 : BitVec 32 := Scalar.muli v191 c1_i32_141
  let v234 : BitVec 32 := Scalar.addi v232 v233
  v234.toNat
def k0_dev15 (d0 : Dev nD) : Nat :=
  let c0_i32_146 : BitVec 32 := 0#32
  let v183 : BitVec 32 := Dev.word d0
  let c4_i32_108 : BitVec 32 := 4#32
  let v184 : BitVec 32 := Scalar.divsi v183 c4_i32_108
  let c2_i32_107 : BitVec 32 := 2#32
  let v185 : BitVec 32 := Scalar.remsi v184 c2_i32_107
  let c4_i32_145 : BitVec 32 := 4#32
  let v241 : BitVec 32 := Scalar.muli v185 c4_i32_145
  let v242 : BitVec 32 := Scalar.addi c0_i32_146 v241
  let c1_i32_113 : BitVec 32 := 1#32
  let v186 : BitVec 32 := Dev.word d0
  let c2_i32_110 : BitVec 32 := 2#32
  let v187 : BitVec 32 := Scalar.divsi v186 c2_i32_110
  let c2_i32_109 : BitVec 32 := 2#32
  let v188 : BitVec 32 := Scalar.remsi v187 c2_i32_109
  let v192 : BitVec 32 := Scalar.subi c1_i32_113 v188
  let c2_i32_147 : BitVec 32 := 2#32
  let v243 : BitVec 32 := Scalar.muli v192 c2_i32_147
  let v244 : BitVec 32 := Scalar.addi v242 v243
  let v189 : BitVec 32 := Dev.word d0
  let c1_i32_112 : BitVec 32 := 1#32
  let v190 : BitVec 32 := Scalar.divsi v189 c1_i32_112
  let c2_i32_111 : BitVec 32 := 2#32
  let v191 : BitVec 32 := Scalar.remsi v190 c2_i32_111
  let c1_i32_148 : BitVec 32 := 1#32
  let v245 : BitVec 32 := Scalar.muli v191 c1_i32_148
  let v246 : BitVec 32 := Scalar.addi v244 v245
  v246.toNat
def k0_dev16 (d0 : Dev nD) : Nat :=
  let c0_i32_153 : BitVec 32 := 0#32
  let v183 : BitVec 32 := Dev.word d0
  let c4_i32_108 : BitVec 32 := 4#32
  let v184 : BitVec 32 := Scalar.divsi v183 c4_i32_108
  let c2_i32_107 : BitVec 32 := 2#32
  let v185 : BitVec 32 := Scalar.remsi v184 c2_i32_107
  let c4_i32_152 : BitVec 32 := 4#32
  let v253 : BitVec 32 := Scalar.muli v185 c4_i32_152
  let v254 : BitVec 32 := Scalar.addi c0_i32_153 v253
  let c1_i32_113 : BitVec 32 := 1#32
  let v186 : BitVec 32 := Dev.word d0
  let c2_i32_110 : BitVec 32 := 2#32
  let v187 : BitVec 32 := Scalar.divsi v186 c2_i32_110
  let c2_i32_109 : BitVec 32 := 2#32
  let v188 : BitVec 32 := Scalar.remsi v187 c2_i32_109
  let v192 : BitVec 32 := Scalar.subi c1_i32_113 v188
  let c2_i32_154 : BitVec 32 := 2#32
  let v255 : BitVec 32 := Scalar.muli v192 c2_i32_154
  let v256 : BitVec 32 := Scalar.addi v254 v255
  let v189 : BitVec 32 := Dev.word d0
  let c1_i32_112 : BitVec 32 := 1#32
  let v190 : BitVec 32 := Scalar.divsi v189 c1_i32_112
  let c2_i32_111 : BitVec 32 := 2#32
  let v191 : BitVec 32 := Scalar.remsi v190 c2_i32_111
  let c1_i32_155 : BitVec 32 := 1#32
  let v257 : BitVec 32 := Scalar.muli v191 c1_i32_155
  let v258 : BitVec 32 := Scalar.addi v256 v257
  v258.toNat
def k0_dev17 (d0 : Dev nD) : Nat :=
  let c0_i32_160 : BitVec 32 := 0#32
  let v183 : BitVec 32 := Dev.word d0
  let c4_i32_108 : BitVec 32 := 4#32
  let v184 : BitVec 32 := Scalar.divsi v183 c4_i32_108
  let c2_i32_107 : BitVec 32 := 2#32
  let v185 : BitVec 32 := Scalar.remsi v184 c2_i32_107
  let c4_i32_159 : BitVec 32 := 4#32
  let v265 : BitVec 32 := Scalar.muli v185 c4_i32_159
  let v266 : BitVec 32 := Scalar.addi c0_i32_160 v265
  let c1_i32_113 : BitVec 32 := 1#32
  let v186 : BitVec 32 := Dev.word d0
  let c2_i32_110 : BitVec 32 := 2#32
  let v187 : BitVec 32 := Scalar.divsi v186 c2_i32_110
  let c2_i32_109 : BitVec 32 := 2#32
  let v188 : BitVec 32 := Scalar.remsi v187 c2_i32_109
  let v192 : BitVec 32 := Scalar.subi c1_i32_113 v188
  let c2_i32_161 : BitVec 32 := 2#32
  let v267 : BitVec 32 := Scalar.muli v192 c2_i32_161
  let v268 : BitVec 32 := Scalar.addi v266 v267
  let v189 : BitVec 32 := Dev.word d0
  let c1_i32_112 : BitVec 32 := 1#32
  let v190 : BitVec 32 := Scalar.divsi v189 c1_i32_112
  let c2_i32_111 : BitVec 32 := 2#32
  let v191 : BitVec 32 := Scalar.remsi v190 c2_i32_111
  let c1_i32_162 : BitVec 32 := 1#32
  let v269 : BitVec 32 := Scalar.muli v191 c1_i32_162
  let v270 : BitVec 32 := Scalar.addi v268 v269
  v270.toNat
def k0_dev18 (d0 : Dev nD) : Nat :=
  let c0_i32_167 : BitVec 32 := 0#32
  let v183 : BitVec 32 := Dev.word d0
  let c4_i32_108 : BitVec 32 := 4#32
  let v184 : BitVec 32 := Scalar.divsi v183 c4_i32_108
  let c2_i32_107 : BitVec 32 := 2#32
  let v185 : BitVec 32 := Scalar.remsi v184 c2_i32_107
  let c4_i32_166 : BitVec 32 := 4#32
  let v277 : BitVec 32 := Scalar.muli v185 c4_i32_166
  let v278 : BitVec 32 := Scalar.addi c0_i32_167 v277
  let c1_i32_113 : BitVec 32 := 1#32
  let v186 : BitVec 32 := Dev.word d0
  let c2_i32_110 : BitVec 32 := 2#32
  let v187 : BitVec 32 := Scalar.divsi v186 c2_i32_110
  let c2_i32_109 : BitVec 32 := 2#32
  let v188 : BitVec 32 := Scalar.remsi v187 c2_i32_109
  let v192 : BitVec 32 := Scalar.subi c1_i32_113 v188
  let c2_i32_168 : BitVec 32 := 2#32
  let v279 : BitVec 32 := Scalar.muli v192 c2_i32_168
  let v280 : BitVec 32 := Scalar.addi v278 v279
  let v189 : BitVec 32 := Dev.word d0
  let c1_i32_112 : BitVec 32 := 1#32
  let v190 : BitVec 32 := Scalar.divsi v189 c1_i32_112
  let c2_i32_111 : BitVec 32 := 2#32
  let v191 : BitVec 32 := Scalar.remsi v190 c2_i32_111
  let c1_i32_169 : BitVec 32 := 1#32
  let v281 : BitVec 32 := Scalar.muli v191 c1_i32_169
  let v282 : BitVec 32 := Scalar.addi v280 v281
  v282.toNat
def k0_dev19 (d0 : Dev nD) : Nat :=
  let c0_i32_174 : BitVec 32 := 0#32
  let v183 : BitVec 32 := Dev.word d0
  let c4_i32_108 : BitVec 32 := 4#32
  let v184 : BitVec 32 := Scalar.divsi v183 c4_i32_108
  let c2_i32_107 : BitVec 32 := 2#32
  let v185 : BitVec 32 := Scalar.remsi v184 c2_i32_107
  let c4_i32_173 : BitVec 32 := 4#32
  let v289 : BitVec 32 := Scalar.muli v185 c4_i32_173
  let v290 : BitVec 32 := Scalar.addi c0_i32_174 v289
  let c1_i32_113 : BitVec 32 := 1#32
  let v186 : BitVec 32 := Dev.word d0
  let c2_i32_110 : BitVec 32 := 2#32
  let v187 : BitVec 32 := Scalar.divsi v186 c2_i32_110
  let c2_i32_109 : BitVec 32 := 2#32
  let v188 : BitVec 32 := Scalar.remsi v187 c2_i32_109
  let v192 : BitVec 32 := Scalar.subi c1_i32_113 v188
  let c2_i32_175 : BitVec 32 := 2#32
  let v291 : BitVec 32 := Scalar.muli v192 c2_i32_175
  let v292 : BitVec 32 := Scalar.addi v290 v291
  let v189 : BitVec 32 := Dev.word d0
  let c1_i32_112 : BitVec 32 := 1#32
  let v190 : BitVec 32 := Scalar.divsi v189 c1_i32_112
  let c2_i32_111 : BitVec 32 := 2#32
  let v191 : BitVec 32 := Scalar.remsi v190 c2_i32_111
  let c1_i32_176 : BitVec 32 := 1#32
  let v293 : BitVec 32 := Scalar.muli v191 c1_i32_176
  let v294 : BitVec 32 := Scalar.addi v292 v293
  v294.toNat
def k0_dev20 (d0 : Dev nD) : Nat :=
  let c0_i32_181 : BitVec 32 := 0#32
  let v183 : BitVec 32 := Dev.word d0
  let c4_i32_108 : BitVec 32 := 4#32
  let v184 : BitVec 32 := Scalar.divsi v183 c4_i32_108
  let c2_i32_107 : BitVec 32 := 2#32
  let v185 : BitVec 32 := Scalar.remsi v184 c2_i32_107
  let c4_i32_180 : BitVec 32 := 4#32
  let v301 : BitVec 32 := Scalar.muli v185 c4_i32_180
  let v302 : BitVec 32 := Scalar.addi c0_i32_181 v301
  let c1_i32_113 : BitVec 32 := 1#32
  let v186 : BitVec 32 := Dev.word d0
  let c2_i32_110 : BitVec 32 := 2#32
  let v187 : BitVec 32 := Scalar.divsi v186 c2_i32_110
  let c2_i32_109 : BitVec 32 := 2#32
  let v188 : BitVec 32 := Scalar.remsi v187 c2_i32_109
  let v192 : BitVec 32 := Scalar.subi c1_i32_113 v188
  let c2_i32_182 : BitVec 32 := 2#32
  let v303 : BitVec 32 := Scalar.muli v192 c2_i32_182
  let v304 : BitVec 32 := Scalar.addi v302 v303
  let v189 : BitVec 32 := Dev.word d0
  let c1_i32_112 : BitVec 32 := 1#32
  let v190 : BitVec 32 := Scalar.divsi v189 c1_i32_112
  let c2_i32_111 : BitVec 32 := 2#32
  let v191 : BitVec 32 := Scalar.remsi v190 c2_i32_111
  let c1_i32_183 : BitVec 32 := 1#32
  let v305 : BitVec 32 := Scalar.muli v191 c1_i32_183
  let v306 : BitVec 32 := Scalar.addi v304 v305
  v306.toNat
def k0_dev21 (d0 : Dev nD) : Nat :=
  let c0_i32_197 : BitVec 32 := 0#32
  let v313 : BitVec 32 := Dev.word d0
  let c4_i32_187 : BitVec 32 := 4#32
  let v314 : BitVec 32 := Scalar.divsi v313 c4_i32_187
  let c2_i32_186 : BitVec 32 := 2#32
  let v315 : BitVec 32 := Scalar.remsi v314 c2_i32_186
  let c4_i32_196 : BitVec 32 := 4#32
  let v324 : BitVec 32 := Scalar.muli v315 c4_i32_196
  let v325 : BitVec 32 := Scalar.addi c0_i32_197 v324
  let c1_i32_192 : BitVec 32 := 1#32
  let v316 : BitVec 32 := Dev.word d0
  let c2_i32_189 : BitVec 32 := 2#32
  let v317 : BitVec 32 := Scalar.divsi v316 c2_i32_189
  let c2_i32_188 : BitVec 32 := 2#32
  let v318 : BitVec 32 := Scalar.remsi v317 c2_i32_188
  let v322 : BitVec 32 := Scalar.subi c1_i32_192 v318
  let c2_i32_198 : BitVec 32 := 2#32
  let v326 : BitVec 32 := Scalar.muli v322 c2_i32_198
  let v327 : BitVec 32 := Scalar.addi v325 v326
  let c1_i32_193 : BitVec 32 := 1#32
  let v319 : BitVec 32 := Dev.word d0
  let c1_i32_191 : BitVec 32 := 1#32
  let v320 : BitVec 32 := Scalar.divsi v319 c1_i32_191
  let c2_i32_190 : BitVec 32 := 2#32
  let v321 : BitVec 32 := Scalar.remsi v320 c2_i32_190
  let v323 : BitVec 32 := Scalar.subi c1_i32_193 v321
  let c1_i32_199 : BitVec 32 := 1#32
  let v328 : BitVec 32 := Scalar.muli v323 c1_i32_199
  let v329 : BitVec 32 := Scalar.addi v327 v328
  v329.toNat
def k0_dev22 (d0 : Dev nD) : Nat :=
  let c0_i32_205 : BitVec 32 := 0#32
  let v313 : BitVec 32 := Dev.word d0
  let c4_i32_187 : BitVec 32 := 4#32
  let v314 : BitVec 32 := Scalar.divsi v313 c4_i32_187
  let c2_i32_186 : BitVec 32 := 2#32
  let v315 : BitVec 32 := Scalar.remsi v314 c2_i32_186
  let c4_i32_204 : BitVec 32 := 4#32
  let v336 : BitVec 32 := Scalar.muli v315 c4_i32_204
  let v337 : BitVec 32 := Scalar.addi c0_i32_205 v336
  let c1_i32_192 : BitVec 32 := 1#32
  let v316 : BitVec 32 := Dev.word d0
  let c2_i32_189 : BitVec 32 := 2#32
  let v317 : BitVec 32 := Scalar.divsi v316 c2_i32_189
  let c2_i32_188 : BitVec 32 := 2#32
  let v318 : BitVec 32 := Scalar.remsi v317 c2_i32_188
  let v322 : BitVec 32 := Scalar.subi c1_i32_192 v318
  let c2_i32_206 : BitVec 32 := 2#32
  let v338 : BitVec 32 := Scalar.muli v322 c2_i32_206
  let v339 : BitVec 32 := Scalar.addi v337 v338
  let c1_i32_193 : BitVec 32 := 1#32
  let v319 : BitVec 32 := Dev.word d0
  let c1_i32_191 : BitVec 32 := 1#32
  let v320 : BitVec 32 := Scalar.divsi v319 c1_i32_191
  let c2_i32_190 : BitVec 32 := 2#32
  let v321 : BitVec 32 := Scalar.remsi v320 c2_i32_190
  let v323 : BitVec 32 := Scalar.subi c1_i32_193 v321
  let c1_i32_207 : BitVec 32 := 1#32
  let v340 : BitVec 32 := Scalar.muli v323 c1_i32_207
  let v341 : BitVec 32 := Scalar.addi v339 v340
  v341.toNat
def k0_dev23 (d0 : Dev nD) : Nat :=
  let c0_i32_212 : BitVec 32 := 0#32
  let v313 : BitVec 32 := Dev.word d0
  let c4_i32_187 : BitVec 32 := 4#32
  let v314 : BitVec 32 := Scalar.divsi v313 c4_i32_187
  let c2_i32_186 : BitVec 32 := 2#32
  let v315 : BitVec 32 := Scalar.remsi v314 c2_i32_186
  let c4_i32_211 : BitVec 32 := 4#32
  let v348 : BitVec 32 := Scalar.muli v315 c4_i32_211
  let v349 : BitVec 32 := Scalar.addi c0_i32_212 v348
  let c1_i32_192 : BitVec 32 := 1#32
  let v316 : BitVec 32 := Dev.word d0
  let c2_i32_189 : BitVec 32 := 2#32
  let v317 : BitVec 32 := Scalar.divsi v316 c2_i32_189
  let c2_i32_188 : BitVec 32 := 2#32
  let v318 : BitVec 32 := Scalar.remsi v317 c2_i32_188
  let v322 : BitVec 32 := Scalar.subi c1_i32_192 v318
  let c2_i32_213 : BitVec 32 := 2#32
  let v350 : BitVec 32 := Scalar.muli v322 c2_i32_213
  let v351 : BitVec 32 := Scalar.addi v349 v350
  let c1_i32_193 : BitVec 32 := 1#32
  let v319 : BitVec 32 := Dev.word d0
  let c1_i32_191 : BitVec 32 := 1#32
  let v320 : BitVec 32 := Scalar.divsi v319 c1_i32_191
  let c2_i32_190 : BitVec 32 := 2#32
  let v321 : BitVec 32 := Scalar.remsi v320 c2_i32_190
  let v323 : BitVec 32 := Scalar.subi c1_i32_193 v321
  let c1_i32_214 : BitVec 32 := 1#32
  let v352 : BitVec 32 := Scalar.muli v323 c1_i32_214
  let v353 : BitVec 32 := Scalar.addi v351 v352
  v353.toNat
def k0_dev24 (d0 : Dev nD) : Nat :=
  let c0_i32_219 : BitVec 32 := 0#32
  let v313 : BitVec 32 := Dev.word d0
  let c4_i32_187 : BitVec 32 := 4#32
  let v314 : BitVec 32 := Scalar.divsi v313 c4_i32_187
  let c2_i32_186 : BitVec 32 := 2#32
  let v315 : BitVec 32 := Scalar.remsi v314 c2_i32_186
  let c4_i32_218 : BitVec 32 := 4#32
  let v360 : BitVec 32 := Scalar.muli v315 c4_i32_218
  let v361 : BitVec 32 := Scalar.addi c0_i32_219 v360
  let c1_i32_192 : BitVec 32 := 1#32
  let v316 : BitVec 32 := Dev.word d0
  let c2_i32_189 : BitVec 32 := 2#32
  let v317 : BitVec 32 := Scalar.divsi v316 c2_i32_189
  let c2_i32_188 : BitVec 32 := 2#32
  let v318 : BitVec 32 := Scalar.remsi v317 c2_i32_188
  let v322 : BitVec 32 := Scalar.subi c1_i32_192 v318
  let c2_i32_220 : BitVec 32 := 2#32
  let v362 : BitVec 32 := Scalar.muli v322 c2_i32_220
  let v363 : BitVec 32 := Scalar.addi v361 v362
  let c1_i32_193 : BitVec 32 := 1#32
  let v319 : BitVec 32 := Dev.word d0
  let c1_i32_191 : BitVec 32 := 1#32
  let v320 : BitVec 32 := Scalar.divsi v319 c1_i32_191
  let c2_i32_190 : BitVec 32 := 2#32
  let v321 : BitVec 32 := Scalar.remsi v320 c2_i32_190
  let v323 : BitVec 32 := Scalar.subi c1_i32_193 v321
  let c1_i32_221 : BitVec 32 := 1#32
  let v364 : BitVec 32 := Scalar.muli v323 c1_i32_221
  let v365 : BitVec 32 := Scalar.addi v363 v364
  v365.toNat
def k0_dev25 (d0 : Dev nD) : Nat :=
  let c0_i32_226 : BitVec 32 := 0#32
  let v313 : BitVec 32 := Dev.word d0
  let c4_i32_187 : BitVec 32 := 4#32
  let v314 : BitVec 32 := Scalar.divsi v313 c4_i32_187
  let c2_i32_186 : BitVec 32 := 2#32
  let v315 : BitVec 32 := Scalar.remsi v314 c2_i32_186
  let c4_i32_225 : BitVec 32 := 4#32
  let v372 : BitVec 32 := Scalar.muli v315 c4_i32_225
  let v373 : BitVec 32 := Scalar.addi c0_i32_226 v372
  let c1_i32_192 : BitVec 32 := 1#32
  let v316 : BitVec 32 := Dev.word d0
  let c2_i32_189 : BitVec 32 := 2#32
  let v317 : BitVec 32 := Scalar.divsi v316 c2_i32_189
  let c2_i32_188 : BitVec 32 := 2#32
  let v318 : BitVec 32 := Scalar.remsi v317 c2_i32_188
  let v322 : BitVec 32 := Scalar.subi c1_i32_192 v318
  let c2_i32_227 : BitVec 32 := 2#32
  let v374 : BitVec 32 := Scalar.muli v322 c2_i32_227
  let v375 : BitVec 32 := Scalar.addi v373 v374
  let c1_i32_193 : BitVec 32 := 1#32
  let v319 : BitVec 32 := Dev.word d0
  let c1_i32_191 : BitVec 32 := 1#32
  let v320 : BitVec 32 := Scalar.divsi v319 c1_i32_191
  let c2_i32_190 : BitVec 32 := 2#32
  let v321 : BitVec 32 := Scalar.remsi v320 c2_i32_190
  let v323 : BitVec 32 := Scalar.subi c1_i32_193 v321
  let c1_i32_228 : BitVec 32 := 1#32
  let v376 : BitVec 32 := Scalar.muli v323 c1_i32_228
  let v377 : BitVec 32 := Scalar.addi v375 v376
  v377.toNat
def k0_dev26 (d0 : Dev nD) : Nat :=
  let c0_i32_233 : BitVec 32 := 0#32
  let v313 : BitVec 32 := Dev.word d0
  let c4_i32_187 : BitVec 32 := 4#32
  let v314 : BitVec 32 := Scalar.divsi v313 c4_i32_187
  let c2_i32_186 : BitVec 32 := 2#32
  let v315 : BitVec 32 := Scalar.remsi v314 c2_i32_186
  let c4_i32_232 : BitVec 32 := 4#32
  let v384 : BitVec 32 := Scalar.muli v315 c4_i32_232
  let v385 : BitVec 32 := Scalar.addi c0_i32_233 v384
  let c1_i32_192 : BitVec 32 := 1#32
  let v316 : BitVec 32 := Dev.word d0
  let c2_i32_189 : BitVec 32 := 2#32
  let v317 : BitVec 32 := Scalar.divsi v316 c2_i32_189
  let c2_i32_188 : BitVec 32 := 2#32
  let v318 : BitVec 32 := Scalar.remsi v317 c2_i32_188
  let v322 : BitVec 32 := Scalar.subi c1_i32_192 v318
  let c2_i32_234 : BitVec 32 := 2#32
  let v386 : BitVec 32 := Scalar.muli v322 c2_i32_234
  let v387 : BitVec 32 := Scalar.addi v385 v386
  let c1_i32_193 : BitVec 32 := 1#32
  let v319 : BitVec 32 := Dev.word d0
  let c1_i32_191 : BitVec 32 := 1#32
  let v320 : BitVec 32 := Scalar.divsi v319 c1_i32_191
  let c2_i32_190 : BitVec 32 := 2#32
  let v321 : BitVec 32 := Scalar.remsi v320 c2_i32_190
  let v323 : BitVec 32 := Scalar.subi c1_i32_193 v321
  let c1_i32_235 : BitVec 32 := 1#32
  let v388 : BitVec 32 := Scalar.muli v323 c1_i32_235
  let v389 : BitVec 32 := Scalar.addi v387 v388
  v389.toNat
def k0_dev27 (d0 : Dev nD) : Nat :=
  let c0_i32_240 : BitVec 32 := 0#32
  let v313 : BitVec 32 := Dev.word d0
  let c4_i32_187 : BitVec 32 := 4#32
  let v314 : BitVec 32 := Scalar.divsi v313 c4_i32_187
  let c2_i32_186 : BitVec 32 := 2#32
  let v315 : BitVec 32 := Scalar.remsi v314 c2_i32_186
  let c4_i32_239 : BitVec 32 := 4#32
  let v396 : BitVec 32 := Scalar.muli v315 c4_i32_239
  let v397 : BitVec 32 := Scalar.addi c0_i32_240 v396
  let c1_i32_192 : BitVec 32 := 1#32
  let v316 : BitVec 32 := Dev.word d0
  let c2_i32_189 : BitVec 32 := 2#32
  let v317 : BitVec 32 := Scalar.divsi v316 c2_i32_189
  let c2_i32_188 : BitVec 32 := 2#32
  let v318 : BitVec 32 := Scalar.remsi v317 c2_i32_188
  let v322 : BitVec 32 := Scalar.subi c1_i32_192 v318
  let c2_i32_241 : BitVec 32 := 2#32
  let v398 : BitVec 32 := Scalar.muli v322 c2_i32_241
  let v399 : BitVec 32 := Scalar.addi v397 v398
  let c1_i32_193 : BitVec 32 := 1#32
  let v319 : BitVec 32 := Dev.word d0
  let c1_i32_191 : BitVec 32 := 1#32
  let v320 : BitVec 32 := Scalar.divsi v319 c1_i32_191
  let c2_i32_190 : BitVec 32 := 2#32
  let v321 : BitVec 32 := Scalar.remsi v320 c2_i32_190
  let v323 : BitVec 32 := Scalar.subi c1_i32_193 v321
  let c1_i32_242 : BitVec 32 := 1#32
  let v400 : BitVec 32 := Scalar.muli v323 c1_i32_242
  let v401 : BitVec 32 := Scalar.addi v399 v400
  v401.toNat
def k0_dev28 (d0 : Dev nD) : Nat :=
  let c0_i32_247 : BitVec 32 := 0#32
  let v313 : BitVec 32 := Dev.word d0
  let c4_i32_187 : BitVec 32 := 4#32
  let v314 : BitVec 32 := Scalar.divsi v313 c4_i32_187
  let c2_i32_186 : BitVec 32 := 2#32
  let v315 : BitVec 32 := Scalar.remsi v314 c2_i32_186
  let c4_i32_246 : BitVec 32 := 4#32
  let v408 : BitVec 32 := Scalar.muli v315 c4_i32_246
  let v409 : BitVec 32 := Scalar.addi c0_i32_247 v408
  let c1_i32_192 : BitVec 32 := 1#32
  let v316 : BitVec 32 := Dev.word d0
  let c2_i32_189 : BitVec 32 := 2#32
  let v317 : BitVec 32 := Scalar.divsi v316 c2_i32_189
  let c2_i32_188 : BitVec 32 := 2#32
  let v318 : BitVec 32 := Scalar.remsi v317 c2_i32_188
  let v322 : BitVec 32 := Scalar.subi c1_i32_192 v318
  let c2_i32_248 : BitVec 32 := 2#32
  let v410 : BitVec 32 := Scalar.muli v322 c2_i32_248
  let v411 : BitVec 32 := Scalar.addi v409 v410
  let c1_i32_193 : BitVec 32 := 1#32
  let v319 : BitVec 32 := Dev.word d0
  let c1_i32_191 : BitVec 32 := 1#32
  let v320 : BitVec 32 := Scalar.divsi v319 c1_i32_191
  let c2_i32_190 : BitVec 32 := 2#32
  let v321 : BitVec 32 := Scalar.remsi v320 c2_i32_190
  let v323 : BitVec 32 := Scalar.subi c1_i32_193 v321
  let c1_i32_249 : BitVec 32 := 1#32
  let v412 : BitVec 32 := Scalar.muli v323 c1_i32_249
  let v413 : BitVec 32 := Scalar.addi v411 v412
  v413.toNat
def k0_dev29 (d0 : Dev nD) : Nat :=
  let c0_i32_254 : BitVec 32 := 0#32
  let v313 : BitVec 32 := Dev.word d0
  let c4_i32_187 : BitVec 32 := 4#32
  let v314 : BitVec 32 := Scalar.divsi v313 c4_i32_187
  let c2_i32_186 : BitVec 32 := 2#32
  let v315 : BitVec 32 := Scalar.remsi v314 c2_i32_186
  let c4_i32_253 : BitVec 32 := 4#32
  let v420 : BitVec 32 := Scalar.muli v315 c4_i32_253
  let v421 : BitVec 32 := Scalar.addi c0_i32_254 v420
  let c1_i32_192 : BitVec 32 := 1#32
  let v316 : BitVec 32 := Dev.word d0
  let c2_i32_189 : BitVec 32 := 2#32
  let v317 : BitVec 32 := Scalar.divsi v316 c2_i32_189
  let c2_i32_188 : BitVec 32 := 2#32
  let v318 : BitVec 32 := Scalar.remsi v317 c2_i32_188
  let v322 : BitVec 32 := Scalar.subi c1_i32_192 v318
  let c2_i32_255 : BitVec 32 := 2#32
  let v422 : BitVec 32 := Scalar.muli v322 c2_i32_255
  let v423 : BitVec 32 := Scalar.addi v421 v422
  let c1_i32_193 : BitVec 32 := 1#32
  let v319 : BitVec 32 := Dev.word d0
  let c1_i32_191 : BitVec 32 := 1#32
  let v320 : BitVec 32 := Scalar.divsi v319 c1_i32_191
  let c2_i32_190 : BitVec 32 := 2#32
  let v321 : BitVec 32 := Scalar.remsi v320 c2_i32_190
  let v323 : BitVec 32 := Scalar.subi c1_i32_193 v321
  let c1_i32_256 : BitVec 32 := 1#32
  let v424 : BitVec 32 := Scalar.muli v323 c1_i32_256
  let v425 : BitVec 32 := Scalar.addi v423 v424
  v425.toNat
def k0_dev30 (d0 : Dev nD) : Nat :=
  let c0_i32_261 : BitVec 32 := 0#32
  let v313 : BitVec 32 := Dev.word d0
  let c4_i32_187 : BitVec 32 := 4#32
  let v314 : BitVec 32 := Scalar.divsi v313 c4_i32_187
  let c2_i32_186 : BitVec 32 := 2#32
  let v315 : BitVec 32 := Scalar.remsi v314 c2_i32_186
  let c4_i32_260 : BitVec 32 := 4#32
  let v432 : BitVec 32 := Scalar.muli v315 c4_i32_260
  let v433 : BitVec 32 := Scalar.addi c0_i32_261 v432
  let c1_i32_192 : BitVec 32 := 1#32
  let v316 : BitVec 32 := Dev.word d0
  let c2_i32_189 : BitVec 32 := 2#32
  let v317 : BitVec 32 := Scalar.divsi v316 c2_i32_189
  let c2_i32_188 : BitVec 32 := 2#32
  let v318 : BitVec 32 := Scalar.remsi v317 c2_i32_188
  let v322 : BitVec 32 := Scalar.subi c1_i32_192 v318
  let c2_i32_262 : BitVec 32 := 2#32
  let v434 : BitVec 32 := Scalar.muli v322 c2_i32_262
  let v435 : BitVec 32 := Scalar.addi v433 v434
  let c1_i32_193 : BitVec 32 := 1#32
  let v319 : BitVec 32 := Dev.word d0
  let c1_i32_191 : BitVec 32 := 1#32
  let v320 : BitVec 32 := Scalar.divsi v319 c1_i32_191
  let c2_i32_190 : BitVec 32 := 2#32
  let v321 : BitVec 32 := Scalar.remsi v320 c2_i32_190
  let v323 : BitVec 32 := Scalar.subi c1_i32_193 v321
  let c1_i32_263 : BitVec 32 := 1#32
  let v436 : BitVec 32 := Scalar.muli v323 c1_i32_263
  let v437 : BitVec 32 := Scalar.addi v435 v436
  v437.toNat
def k0_dev31 (d0 : Dev nD) : Nat :=
  let c0_i32_276 : BitVec 32 := 0#32
  let c1_i32_272 : BitVec 32 := 1#32
  let v444 : BitVec 32 := Dev.word d0
  let c4_i32_267 : BitVec 32 := 4#32
  let v445 : BitVec 32 := Scalar.divsi v444 c4_i32_267
  let c2_i32_266 : BitVec 32 := 2#32
  let v446 : BitVec 32 := Scalar.remsi v445 c2_i32_266
  let v453 : BitVec 32 := Scalar.subi c1_i32_272 v446
  let c4_i32_275 : BitVec 32 := 4#32
  let v454 : BitVec 32 := Scalar.muli v453 c4_i32_275
  let v455 : BitVec 32 := Scalar.addi c0_i32_276 v454
  let v447 : BitVec 32 := Dev.word d0
  let c2_i32_269 : BitVec 32 := 2#32
  let v448 : BitVec 32 := Scalar.divsi v447 c2_i32_269
  let c2_i32_268 : BitVec 32 := 2#32
  let v449 : BitVec 32 := Scalar.remsi v448 c2_i32_268
  let c2_i32_277 : BitVec 32 := 2#32
  let v456 : BitVec 32 := Scalar.muli v449 c2_i32_277
  let v457 : BitVec 32 := Scalar.addi v455 v456
  let v450 : BitVec 32 := Dev.word d0
  let c1_i32_271 : BitVec 32 := 1#32
  let v451 : BitVec 32 := Scalar.divsi v450 c1_i32_271
  let c2_i32_270 : BitVec 32 := 2#32
  let v452 : BitVec 32 := Scalar.remsi v451 c2_i32_270
  let c1_i32_278 : BitVec 32 := 1#32
  let v458 : BitVec 32 := Scalar.muli v452 c1_i32_278
  let v459 : BitVec 32 := Scalar.addi v457 v458
  v459.toNat
def k0_dev32 (d0 : Dev nD) : Nat :=
  let c0_i32_283 : BitVec 32 := 0#32
  let c1_i32_272 : BitVec 32 := 1#32
  let v444 : BitVec 32 := Dev.word d0
  let c4_i32_267 : BitVec 32 := 4#32
  let v445 : BitVec 32 := Scalar.divsi v444 c4_i32_267
  let c2_i32_266 : BitVec 32 := 2#32
  let v446 : BitVec 32 := Scalar.remsi v445 c2_i32_266
  let v453 : BitVec 32 := Scalar.subi c1_i32_272 v446
  let c4_i32_282 : BitVec 32 := 4#32
  let v466 : BitVec 32 := Scalar.muli v453 c4_i32_282
  let v467 : BitVec 32 := Scalar.addi c0_i32_283 v466
  let v447 : BitVec 32 := Dev.word d0
  let c2_i32_269 : BitVec 32 := 2#32
  let v448 : BitVec 32 := Scalar.divsi v447 c2_i32_269
  let c2_i32_268 : BitVec 32 := 2#32
  let v449 : BitVec 32 := Scalar.remsi v448 c2_i32_268
  let c2_i32_284 : BitVec 32 := 2#32
  let v468 : BitVec 32 := Scalar.muli v449 c2_i32_284
  let v469 : BitVec 32 := Scalar.addi v467 v468
  let v450 : BitVec 32 := Dev.word d0
  let c1_i32_271 : BitVec 32 := 1#32
  let v451 : BitVec 32 := Scalar.divsi v450 c1_i32_271
  let c2_i32_270 : BitVec 32 := 2#32
  let v452 : BitVec 32 := Scalar.remsi v451 c2_i32_270
  let c1_i32_285 : BitVec 32 := 1#32
  let v470 : BitVec 32 := Scalar.muli v452 c1_i32_285
  let v471 : BitVec 32 := Scalar.addi v469 v470
  v471.toNat
def k0_dev33 (d0 : Dev nD) : Nat :=
  let c0_i32_290 : BitVec 32 := 0#32
  let c1_i32_272 : BitVec 32 := 1#32
  let v444 : BitVec 32 := Dev.word d0
  let c4_i32_267 : BitVec 32 := 4#32
  let v445 : BitVec 32 := Scalar.divsi v444 c4_i32_267
  let c2_i32_266 : BitVec 32 := 2#32
  let v446 : BitVec 32 := Scalar.remsi v445 c2_i32_266
  let v453 : BitVec 32 := Scalar.subi c1_i32_272 v446
  let c4_i32_289 : BitVec 32 := 4#32
  let v478 : BitVec 32 := Scalar.muli v453 c4_i32_289
  let v479 : BitVec 32 := Scalar.addi c0_i32_290 v478
  let v447 : BitVec 32 := Dev.word d0
  let c2_i32_269 : BitVec 32 := 2#32
  let v448 : BitVec 32 := Scalar.divsi v447 c2_i32_269
  let c2_i32_268 : BitVec 32 := 2#32
  let v449 : BitVec 32 := Scalar.remsi v448 c2_i32_268
  let c2_i32_291 : BitVec 32 := 2#32
  let v480 : BitVec 32 := Scalar.muli v449 c2_i32_291
  let v481 : BitVec 32 := Scalar.addi v479 v480
  let v450 : BitVec 32 := Dev.word d0
  let c1_i32_271 : BitVec 32 := 1#32
  let v451 : BitVec 32 := Scalar.divsi v450 c1_i32_271
  let c2_i32_270 : BitVec 32 := 2#32
  let v452 : BitVec 32 := Scalar.remsi v451 c2_i32_270
  let c1_i32_292 : BitVec 32 := 1#32
  let v482 : BitVec 32 := Scalar.muli v452 c1_i32_292
  let v483 : BitVec 32 := Scalar.addi v481 v482
  v483.toNat
def k0_dev34 (d0 : Dev nD) : Nat :=
  let c0_i32_297 : BitVec 32 := 0#32
  let c1_i32_272 : BitVec 32 := 1#32
  let v444 : BitVec 32 := Dev.word d0
  let c4_i32_267 : BitVec 32 := 4#32
  let v445 : BitVec 32 := Scalar.divsi v444 c4_i32_267
  let c2_i32_266 : BitVec 32 := 2#32
  let v446 : BitVec 32 := Scalar.remsi v445 c2_i32_266
  let v453 : BitVec 32 := Scalar.subi c1_i32_272 v446
  let c4_i32_296 : BitVec 32 := 4#32
  let v490 : BitVec 32 := Scalar.muli v453 c4_i32_296
  let v491 : BitVec 32 := Scalar.addi c0_i32_297 v490
  let v447 : BitVec 32 := Dev.word d0
  let c2_i32_269 : BitVec 32 := 2#32
  let v448 : BitVec 32 := Scalar.divsi v447 c2_i32_269
  let c2_i32_268 : BitVec 32 := 2#32
  let v449 : BitVec 32 := Scalar.remsi v448 c2_i32_268
  let c2_i32_298 : BitVec 32 := 2#32
  let v492 : BitVec 32 := Scalar.muli v449 c2_i32_298
  let v493 : BitVec 32 := Scalar.addi v491 v492
  let v450 : BitVec 32 := Dev.word d0
  let c1_i32_271 : BitVec 32 := 1#32
  let v451 : BitVec 32 := Scalar.divsi v450 c1_i32_271
  let c2_i32_270 : BitVec 32 := 2#32
  let v452 : BitVec 32 := Scalar.remsi v451 c2_i32_270
  let c1_i32_299 : BitVec 32 := 1#32
  let v494 : BitVec 32 := Scalar.muli v452 c1_i32_299
  let v495 : BitVec 32 := Scalar.addi v493 v494
  v495.toNat
def k0_dev35 (d0 : Dev nD) : Nat :=
  let c0_i32_304 : BitVec 32 := 0#32
  let c1_i32_272 : BitVec 32 := 1#32
  let v444 : BitVec 32 := Dev.word d0
  let c4_i32_267 : BitVec 32 := 4#32
  let v445 : BitVec 32 := Scalar.divsi v444 c4_i32_267
  let c2_i32_266 : BitVec 32 := 2#32
  let v446 : BitVec 32 := Scalar.remsi v445 c2_i32_266
  let v453 : BitVec 32 := Scalar.subi c1_i32_272 v446
  let c4_i32_303 : BitVec 32 := 4#32
  let v502 : BitVec 32 := Scalar.muli v453 c4_i32_303
  let v503 : BitVec 32 := Scalar.addi c0_i32_304 v502
  let v447 : BitVec 32 := Dev.word d0
  let c2_i32_269 : BitVec 32 := 2#32
  let v448 : BitVec 32 := Scalar.divsi v447 c2_i32_269
  let c2_i32_268 : BitVec 32 := 2#32
  let v449 : BitVec 32 := Scalar.remsi v448 c2_i32_268
  let c2_i32_305 : BitVec 32 := 2#32
  let v504 : BitVec 32 := Scalar.muli v449 c2_i32_305
  let v505 : BitVec 32 := Scalar.addi v503 v504
  let v450 : BitVec 32 := Dev.word d0
  let c1_i32_271 : BitVec 32 := 1#32
  let v451 : BitVec 32 := Scalar.divsi v450 c1_i32_271
  let c2_i32_270 : BitVec 32 := 2#32
  let v452 : BitVec 32 := Scalar.remsi v451 c2_i32_270
  let c1_i32_306 : BitVec 32 := 1#32
  let v506 : BitVec 32 := Scalar.muli v452 c1_i32_306
  let v507 : BitVec 32 := Scalar.addi v505 v506
  v507.toNat
def k0_dev36 (d0 : Dev nD) : Nat :=
  let c0_i32_311 : BitVec 32 := 0#32
  let c1_i32_272 : BitVec 32 := 1#32
  let v444 : BitVec 32 := Dev.word d0
  let c4_i32_267 : BitVec 32 := 4#32
  let v445 : BitVec 32 := Scalar.divsi v444 c4_i32_267
  let c2_i32_266 : BitVec 32 := 2#32
  let v446 : BitVec 32 := Scalar.remsi v445 c2_i32_266
  let v453 : BitVec 32 := Scalar.subi c1_i32_272 v446
  let c4_i32_310 : BitVec 32 := 4#32
  let v514 : BitVec 32 := Scalar.muli v453 c4_i32_310
  let v515 : BitVec 32 := Scalar.addi c0_i32_311 v514
  let v447 : BitVec 32 := Dev.word d0
  let c2_i32_269 : BitVec 32 := 2#32
  let v448 : BitVec 32 := Scalar.divsi v447 c2_i32_269
  let c2_i32_268 : BitVec 32 := 2#32
  let v449 : BitVec 32 := Scalar.remsi v448 c2_i32_268
  let c2_i32_312 : BitVec 32 := 2#32
  let v516 : BitVec 32 := Scalar.muli v449 c2_i32_312
  let v517 : BitVec 32 := Scalar.addi v515 v516
  let v450 : BitVec 32 := Dev.word d0
  let c1_i32_271 : BitVec 32 := 1#32
  let v451 : BitVec 32 := Scalar.divsi v450 c1_i32_271
  let c2_i32_270 : BitVec 32 := 2#32
  let v452 : BitVec 32 := Scalar.remsi v451 c2_i32_270
  let c1_i32_313 : BitVec 32 := 1#32
  let v518 : BitVec 32 := Scalar.muli v452 c1_i32_313
  let v519 : BitVec 32 := Scalar.addi v517 v518
  v519.toNat
def k0_dev37 (d0 : Dev nD) : Nat :=
  let c0_i32_318 : BitVec 32 := 0#32
  let c1_i32_272 : BitVec 32 := 1#32
  let v444 : BitVec 32 := Dev.word d0
  let c4_i32_267 : BitVec 32 := 4#32
  let v445 : BitVec 32 := Scalar.divsi v444 c4_i32_267
  let c2_i32_266 : BitVec 32 := 2#32
  let v446 : BitVec 32 := Scalar.remsi v445 c2_i32_266
  let v453 : BitVec 32 := Scalar.subi c1_i32_272 v446
  let c4_i32_317 : BitVec 32 := 4#32
  let v526 : BitVec 32 := Scalar.muli v453 c4_i32_317
  let v527 : BitVec 32 := Scalar.addi c0_i32_318 v526
  let v447 : BitVec 32 := Dev.word d0
  let c2_i32_269 : BitVec 32 := 2#32
  let v448 : BitVec 32 := Scalar.divsi v447 c2_i32_269
  let c2_i32_268 : BitVec 32 := 2#32
  let v449 : BitVec 32 := Scalar.remsi v448 c2_i32_268
  let c2_i32_319 : BitVec 32 := 2#32
  let v528 : BitVec 32 := Scalar.muli v449 c2_i32_319
  let v529 : BitVec 32 := Scalar.addi v527 v528
  let v450 : BitVec 32 := Dev.word d0
  let c1_i32_271 : BitVec 32 := 1#32
  let v451 : BitVec 32 := Scalar.divsi v450 c1_i32_271
  let c2_i32_270 : BitVec 32 := 2#32
  let v452 : BitVec 32 := Scalar.remsi v451 c2_i32_270
  let c1_i32_320 : BitVec 32 := 1#32
  let v530 : BitVec 32 := Scalar.muli v452 c1_i32_320
  let v531 : BitVec 32 := Scalar.addi v529 v530
  v531.toNat
def k0_dev38 (d0 : Dev nD) : Nat :=
  let c0_i32_325 : BitVec 32 := 0#32
  let c1_i32_272 : BitVec 32 := 1#32
  let v444 : BitVec 32 := Dev.word d0
  let c4_i32_267 : BitVec 32 := 4#32
  let v445 : BitVec 32 := Scalar.divsi v444 c4_i32_267
  let c2_i32_266 : BitVec 32 := 2#32
  let v446 : BitVec 32 := Scalar.remsi v445 c2_i32_266
  let v453 : BitVec 32 := Scalar.subi c1_i32_272 v446
  let c4_i32_324 : BitVec 32 := 4#32
  let v538 : BitVec 32 := Scalar.muli v453 c4_i32_324
  let v539 : BitVec 32 := Scalar.addi c0_i32_325 v538
  let v447 : BitVec 32 := Dev.word d0
  let c2_i32_269 : BitVec 32 := 2#32
  let v448 : BitVec 32 := Scalar.divsi v447 c2_i32_269
  let c2_i32_268 : BitVec 32 := 2#32
  let v449 : BitVec 32 := Scalar.remsi v448 c2_i32_268
  let c2_i32_326 : BitVec 32 := 2#32
  let v540 : BitVec 32 := Scalar.muli v449 c2_i32_326
  let v541 : BitVec 32 := Scalar.addi v539 v540
  let v450 : BitVec 32 := Dev.word d0
  let c1_i32_271 : BitVec 32 := 1#32
  let v451 : BitVec 32 := Scalar.divsi v450 c1_i32_271
  let c2_i32_270 : BitVec 32 := 2#32
  let v452 : BitVec 32 := Scalar.remsi v451 c2_i32_270
  let c1_i32_327 : BitVec 32 := 1#32
  let v542 : BitVec 32 := Scalar.muli v452 c1_i32_327
  let v543 : BitVec 32 := Scalar.addi v541 v542
  v543.toNat
def k0_dev39 (d0 : Dev nD) : Nat :=
  let c0_i32_332 : BitVec 32 := 0#32
  let c1_i32_272 : BitVec 32 := 1#32
  let v444 : BitVec 32 := Dev.word d0
  let c4_i32_267 : BitVec 32 := 4#32
  let v445 : BitVec 32 := Scalar.divsi v444 c4_i32_267
  let c2_i32_266 : BitVec 32 := 2#32
  let v446 : BitVec 32 := Scalar.remsi v445 c2_i32_266
  let v453 : BitVec 32 := Scalar.subi c1_i32_272 v446
  let c4_i32_331 : BitVec 32 := 4#32
  let v550 : BitVec 32 := Scalar.muli v453 c4_i32_331
  let v551 : BitVec 32 := Scalar.addi c0_i32_332 v550
  let v447 : BitVec 32 := Dev.word d0
  let c2_i32_269 : BitVec 32 := 2#32
  let v448 : BitVec 32 := Scalar.divsi v447 c2_i32_269
  let c2_i32_268 : BitVec 32 := 2#32
  let v449 : BitVec 32 := Scalar.remsi v448 c2_i32_268
  let c2_i32_333 : BitVec 32 := 2#32
  let v552 : BitVec 32 := Scalar.muli v449 c2_i32_333
  let v553 : BitVec 32 := Scalar.addi v551 v552
  let v450 : BitVec 32 := Dev.word d0
  let c1_i32_271 : BitVec 32 := 1#32
  let v451 : BitVec 32 := Scalar.divsi v450 c1_i32_271
  let c2_i32_270 : BitVec 32 := 2#32
  let v452 : BitVec 32 := Scalar.remsi v451 c2_i32_270
  let c1_i32_334 : BitVec 32 := 1#32
  let v554 : BitVec 32 := Scalar.muli v452 c1_i32_334
  let v555 : BitVec 32 := Scalar.addi v553 v554
  v555.toNat
def k0_dev40 (d0 : Dev nD) : Nat :=
  let c0_i32_339 : BitVec 32 := 0#32
  let c1_i32_272 : BitVec 32 := 1#32
  let v444 : BitVec 32 := Dev.word d0
  let c4_i32_267 : BitVec 32 := 4#32
  let v445 : BitVec 32 := Scalar.divsi v444 c4_i32_267
  let c2_i32_266 : BitVec 32 := 2#32
  let v446 : BitVec 32 := Scalar.remsi v445 c2_i32_266
  let v453 : BitVec 32 := Scalar.subi c1_i32_272 v446
  let c4_i32_338 : BitVec 32 := 4#32
  let v562 : BitVec 32 := Scalar.muli v453 c4_i32_338
  let v563 : BitVec 32 := Scalar.addi c0_i32_339 v562
  let v447 : BitVec 32 := Dev.word d0
  let c2_i32_269 : BitVec 32 := 2#32
  let v448 : BitVec 32 := Scalar.divsi v447 c2_i32_269
  let c2_i32_268 : BitVec 32 := 2#32
  let v449 : BitVec 32 := Scalar.remsi v448 c2_i32_268
  let c2_i32_340 : BitVec 32 := 2#32
  let v564 : BitVec 32 := Scalar.muli v449 c2_i32_340
  let v565 : BitVec 32 := Scalar.addi v563 v564
  let v450 : BitVec 32 := Dev.word d0
  let c1_i32_271 : BitVec 32 := 1#32
  let v451 : BitVec 32 := Scalar.divsi v450 c1_i32_271
  let c2_i32_270 : BitVec 32 := 2#32
  let v452 : BitVec 32 := Scalar.remsi v451 c2_i32_270
  let c1_i32_341 : BitVec 32 := 1#32
  let v566 : BitVec 32 := Scalar.muli v452 c1_i32_341
  let v567 : BitVec 32 := Scalar.addi v565 v566
  v567.toNat
def k0_dev41 (d0 : Dev nD) : Nat :=
  let c0_i32_355 : BitVec 32 := 0#32
  let c1_i32_350 : BitVec 32 := 1#32
  let v574 : BitVec 32 := Dev.word d0
  let c4_i32_345 : BitVec 32 := 4#32
  let v575 : BitVec 32 := Scalar.divsi v574 c4_i32_345
  let c2_i32_344 : BitVec 32 := 2#32
  let v576 : BitVec 32 := Scalar.remsi v575 c2_i32_344
  let v583 : BitVec 32 := Scalar.subi c1_i32_350 v576
  let c4_i32_354 : BitVec 32 := 4#32
  let v585 : BitVec 32 := Scalar.muli v583 c4_i32_354
  let v586 : BitVec 32 := Scalar.addi c0_i32_355 v585
  let v577 : BitVec 32 := Dev.word d0
  let c2_i32_347 : BitVec 32 := 2#32
  let v578 : BitVec 32 := Scalar.divsi v577 c2_i32_347
  let c2_i32_346 : BitVec 32 := 2#32
  let v579 : BitVec 32 := Scalar.remsi v578 c2_i32_346
  let c2_i32_356 : BitVec 32 := 2#32
  let v587 : BitVec 32 := Scalar.muli v579 c2_i32_356
  let v588 : BitVec 32 := Scalar.addi v586 v587
  let c1_i32_351 : BitVec 32 := 1#32
  let v580 : BitVec 32 := Dev.word d0
  let c1_i32_349 : BitVec 32 := 1#32
  let v581 : BitVec 32 := Scalar.divsi v580 c1_i32_349
  let c2_i32_348 : BitVec 32 := 2#32
  let v582 : BitVec 32 := Scalar.remsi v581 c2_i32_348
  let v584 : BitVec 32 := Scalar.subi c1_i32_351 v582
  let c1_i32_357 : BitVec 32 := 1#32
  let v589 : BitVec 32 := Scalar.muli v584 c1_i32_357
  let v590 : BitVec 32 := Scalar.addi v588 v589
  v590.toNat
def k0_dev42 (d0 : Dev nD) : Nat :=
  let c0_i32_362 : BitVec 32 := 0#32
  let c1_i32_350 : BitVec 32 := 1#32
  let v574 : BitVec 32 := Dev.word d0
  let c4_i32_345 : BitVec 32 := 4#32
  let v575 : BitVec 32 := Scalar.divsi v574 c4_i32_345
  let c2_i32_344 : BitVec 32 := 2#32
  let v576 : BitVec 32 := Scalar.remsi v575 c2_i32_344
  let v583 : BitVec 32 := Scalar.subi c1_i32_350 v576
  let c4_i32_361 : BitVec 32 := 4#32
  let v597 : BitVec 32 := Scalar.muli v583 c4_i32_361
  let v598 : BitVec 32 := Scalar.addi c0_i32_362 v597
  let v577 : BitVec 32 := Dev.word d0
  let c2_i32_347 : BitVec 32 := 2#32
  let v578 : BitVec 32 := Scalar.divsi v577 c2_i32_347
  let c2_i32_346 : BitVec 32 := 2#32
  let v579 : BitVec 32 := Scalar.remsi v578 c2_i32_346
  let c2_i32_363 : BitVec 32 := 2#32
  let v599 : BitVec 32 := Scalar.muli v579 c2_i32_363
  let v600 : BitVec 32 := Scalar.addi v598 v599
  let c1_i32_351 : BitVec 32 := 1#32
  let v580 : BitVec 32 := Dev.word d0
  let c1_i32_349 : BitVec 32 := 1#32
  let v581 : BitVec 32 := Scalar.divsi v580 c1_i32_349
  let c2_i32_348 : BitVec 32 := 2#32
  let v582 : BitVec 32 := Scalar.remsi v581 c2_i32_348
  let v584 : BitVec 32 := Scalar.subi c1_i32_351 v582
  let c1_i32_364 : BitVec 32 := 1#32
  let v601 : BitVec 32 := Scalar.muli v584 c1_i32_364
  let v602 : BitVec 32 := Scalar.addi v600 v601
  v602.toNat
def k0_dev43 (d0 : Dev nD) : Nat :=
  let c0_i32_369 : BitVec 32 := 0#32
  let c1_i32_350 : BitVec 32 := 1#32
  let v574 : BitVec 32 := Dev.word d0
  let c4_i32_345 : BitVec 32 := 4#32
  let v575 : BitVec 32 := Scalar.divsi v574 c4_i32_345
  let c2_i32_344 : BitVec 32 := 2#32
  let v576 : BitVec 32 := Scalar.remsi v575 c2_i32_344
  let v583 : BitVec 32 := Scalar.subi c1_i32_350 v576
  let c4_i32_368 : BitVec 32 := 4#32
  let v609 : BitVec 32 := Scalar.muli v583 c4_i32_368
  let v610 : BitVec 32 := Scalar.addi c0_i32_369 v609
  let v577 : BitVec 32 := Dev.word d0
  let c2_i32_347 : BitVec 32 := 2#32
  let v578 : BitVec 32 := Scalar.divsi v577 c2_i32_347
  let c2_i32_346 : BitVec 32 := 2#32
  let v579 : BitVec 32 := Scalar.remsi v578 c2_i32_346
  let c2_i32_370 : BitVec 32 := 2#32
  let v611 : BitVec 32 := Scalar.muli v579 c2_i32_370
  let v612 : BitVec 32 := Scalar.addi v610 v611
  let c1_i32_351 : BitVec 32 := 1#32
  let v580 : BitVec 32 := Dev.word d0
  let c1_i32_349 : BitVec 32 := 1#32
  let v581 : BitVec 32 := Scalar.divsi v580 c1_i32_349
  let c2_i32_348 : BitVec 32 := 2#32
  let v582 : BitVec 32 := Scalar.remsi v581 c2_i32_348
  let v584 : BitVec 32 := Scalar.subi c1_i32_351 v582
  let c1_i32_371 : BitVec 32 := 1#32
  let v613 : BitVec 32 := Scalar.muli v584 c1_i32_371
  let v614 : BitVec 32 := Scalar.addi v612 v613
  v614.toNat
def k0_dev44 (d0 : Dev nD) : Nat :=
  let c0_i32_376 : BitVec 32 := 0#32
  let c1_i32_350 : BitVec 32 := 1#32
  let v574 : BitVec 32 := Dev.word d0
  let c4_i32_345 : BitVec 32 := 4#32
  let v575 : BitVec 32 := Scalar.divsi v574 c4_i32_345
  let c2_i32_344 : BitVec 32 := 2#32
  let v576 : BitVec 32 := Scalar.remsi v575 c2_i32_344
  let v583 : BitVec 32 := Scalar.subi c1_i32_350 v576
  let c4_i32_375 : BitVec 32 := 4#32
  let v621 : BitVec 32 := Scalar.muli v583 c4_i32_375
  let v622 : BitVec 32 := Scalar.addi c0_i32_376 v621
  let v577 : BitVec 32 := Dev.word d0
  let c2_i32_347 : BitVec 32 := 2#32
  let v578 : BitVec 32 := Scalar.divsi v577 c2_i32_347
  let c2_i32_346 : BitVec 32 := 2#32
  let v579 : BitVec 32 := Scalar.remsi v578 c2_i32_346
  let c2_i32_377 : BitVec 32 := 2#32
  let v623 : BitVec 32 := Scalar.muli v579 c2_i32_377
  let v624 : BitVec 32 := Scalar.addi v622 v623
  let c1_i32_351 : BitVec 32 := 1#32
  let v580 : BitVec 32 := Dev.word d0
  let c1_i32_349 : BitVec 32 := 1#32
  let v581 : BitVec 32 := Scalar.divsi v580 c1_i32_349
  let c2_i32_348 : BitVec 32 := 2#32
  let v582 : BitVec 32 := Scalar.remsi v581 c2_i32_348
  let v584 : BitVec 32 := Scalar.subi c1_i32_351 v582
  let c1_i32_378 : BitVec 32 := 1#32
  let v625 : BitVec 32 := Scalar.muli v584 c1_i32_378
  let v626 : BitVec 32 := Scalar.addi v624 v625
  v626.toNat
def k0_dev45 (d0 : Dev nD) : Nat :=
  let c0_i32_383 : BitVec 32 := 0#32
  let c1_i32_350 : BitVec 32 := 1#32
  let v574 : BitVec 32 := Dev.word d0
  let c4_i32_345 : BitVec 32 := 4#32
  let v575 : BitVec 32 := Scalar.divsi v574 c4_i32_345
  let c2_i32_344 : BitVec 32 := 2#32
  let v576 : BitVec 32 := Scalar.remsi v575 c2_i32_344
  let v583 : BitVec 32 := Scalar.subi c1_i32_350 v576
  let c4_i32_382 : BitVec 32 := 4#32
  let v633 : BitVec 32 := Scalar.muli v583 c4_i32_382
  let v634 : BitVec 32 := Scalar.addi c0_i32_383 v633
  let v577 : BitVec 32 := Dev.word d0
  let c2_i32_347 : BitVec 32 := 2#32
  let v578 : BitVec 32 := Scalar.divsi v577 c2_i32_347
  let c2_i32_346 : BitVec 32 := 2#32
  let v579 : BitVec 32 := Scalar.remsi v578 c2_i32_346
  let c2_i32_384 : BitVec 32 := 2#32
  let v635 : BitVec 32 := Scalar.muli v579 c2_i32_384
  let v636 : BitVec 32 := Scalar.addi v634 v635
  let c1_i32_351 : BitVec 32 := 1#32
  let v580 : BitVec 32 := Dev.word d0
  let c1_i32_349 : BitVec 32 := 1#32
  let v581 : BitVec 32 := Scalar.divsi v580 c1_i32_349
  let c2_i32_348 : BitVec 32 := 2#32
  let v582 : BitVec 32 := Scalar.remsi v581 c2_i32_348
  let v584 : BitVec 32 := Scalar.subi c1_i32_351 v582
  let c1_i32_385 : BitVec 32 := 1#32
  let v637 : BitVec 32 := Scalar.muli v584 c1_i32_385
  let v638 : BitVec 32 := Scalar.addi v636 v637
  v638.toNat
def k0_dev46 (d0 : Dev nD) : Nat :=
  let c0_i32_390 : BitVec 32 := 0#32
  let c1_i32_350 : BitVec 32 := 1#32
  let v574 : BitVec 32 := Dev.word d0
  let c4_i32_345 : BitVec 32 := 4#32
  let v575 : BitVec 32 := Scalar.divsi v574 c4_i32_345
  let c2_i32_344 : BitVec 32 := 2#32
  let v576 : BitVec 32 := Scalar.remsi v575 c2_i32_344
  let v583 : BitVec 32 := Scalar.subi c1_i32_350 v576
  let c4_i32_389 : BitVec 32 := 4#32
  let v645 : BitVec 32 := Scalar.muli v583 c4_i32_389
  let v646 : BitVec 32 := Scalar.addi c0_i32_390 v645
  let v577 : BitVec 32 := Dev.word d0
  let c2_i32_347 : BitVec 32 := 2#32
  let v578 : BitVec 32 := Scalar.divsi v577 c2_i32_347
  let c2_i32_346 : BitVec 32 := 2#32
  let v579 : BitVec 32 := Scalar.remsi v578 c2_i32_346
  let c2_i32_391 : BitVec 32 := 2#32
  let v647 : BitVec 32 := Scalar.muli v579 c2_i32_391
  let v648 : BitVec 32 := Scalar.addi v646 v647
  let c1_i32_351 : BitVec 32 := 1#32
  let v580 : BitVec 32 := Dev.word d0
  let c1_i32_349 : BitVec 32 := 1#32
  let v581 : BitVec 32 := Scalar.divsi v580 c1_i32_349
  let c2_i32_348 : BitVec 32 := 2#32
  let v582 : BitVec 32 := Scalar.remsi v581 c2_i32_348
  let v584 : BitVec 32 := Scalar.subi c1_i32_351 v582
  let c1_i32_392 : BitVec 32 := 1#32
  let v649 : BitVec 32 := Scalar.muli v584 c1_i32_392
  let v650 : BitVec 32 := Scalar.addi v648 v649
  v650.toNat
def k0_dev47 (d0 : Dev nD) : Nat :=
  let c0_i32_397 : BitVec 32 := 0#32
  let c1_i32_350 : BitVec 32 := 1#32
  let v574 : BitVec 32 := Dev.word d0
  let c4_i32_345 : BitVec 32 := 4#32
  let v575 : BitVec 32 := Scalar.divsi v574 c4_i32_345
  let c2_i32_344 : BitVec 32 := 2#32
  let v576 : BitVec 32 := Scalar.remsi v575 c2_i32_344
  let v583 : BitVec 32 := Scalar.subi c1_i32_350 v576
  let c4_i32_396 : BitVec 32 := 4#32
  let v657 : BitVec 32 := Scalar.muli v583 c4_i32_396
  let v658 : BitVec 32 := Scalar.addi c0_i32_397 v657
  let v577 : BitVec 32 := Dev.word d0
  let c2_i32_347 : BitVec 32 := 2#32
  let v578 : BitVec 32 := Scalar.divsi v577 c2_i32_347
  let c2_i32_346 : BitVec 32 := 2#32
  let v579 : BitVec 32 := Scalar.remsi v578 c2_i32_346
  let c2_i32_398 : BitVec 32 := 2#32
  let v659 : BitVec 32 := Scalar.muli v579 c2_i32_398
  let v660 : BitVec 32 := Scalar.addi v658 v659
  let c1_i32_351 : BitVec 32 := 1#32
  let v580 : BitVec 32 := Dev.word d0
  let c1_i32_349 : BitVec 32 := 1#32
  let v581 : BitVec 32 := Scalar.divsi v580 c1_i32_349
  let c2_i32_348 : BitVec 32 := 2#32
  let v582 : BitVec 32 := Scalar.remsi v581 c2_i32_348
  let v584 : BitVec 32 := Scalar.subi c1_i32_351 v582
  let c1_i32_399 : BitVec 32 := 1#32
  let v661 : BitVec 32 := Scalar.muli v584 c1_i32_399
  let v662 : BitVec 32 := Scalar.addi v660 v661
  v662.toNat
def k0_dev48 (d0 : Dev nD) : Nat :=
  let c0_i32_404 : BitVec 32 := 0#32
  let c1_i32_350 : BitVec 32 := 1#32
  let v574 : BitVec 32 := Dev.word d0
  let c4_i32_345 : BitVec 32 := 4#32
  let v575 : BitVec 32 := Scalar.divsi v574 c4_i32_345
  let c2_i32_344 : BitVec 32 := 2#32
  let v576 : BitVec 32 := Scalar.remsi v575 c2_i32_344
  let v583 : BitVec 32 := Scalar.subi c1_i32_350 v576
  let c4_i32_403 : BitVec 32 := 4#32
  let v669 : BitVec 32 := Scalar.muli v583 c4_i32_403
  let v670 : BitVec 32 := Scalar.addi c0_i32_404 v669
  let v577 : BitVec 32 := Dev.word d0
  let c2_i32_347 : BitVec 32 := 2#32
  let v578 : BitVec 32 := Scalar.divsi v577 c2_i32_347
  let c2_i32_346 : BitVec 32 := 2#32
  let v579 : BitVec 32 := Scalar.remsi v578 c2_i32_346
  let c2_i32_405 : BitVec 32 := 2#32
  let v671 : BitVec 32 := Scalar.muli v579 c2_i32_405
  let v672 : BitVec 32 := Scalar.addi v670 v671
  let c1_i32_351 : BitVec 32 := 1#32
  let v580 : BitVec 32 := Dev.word d0
  let c1_i32_349 : BitVec 32 := 1#32
  let v581 : BitVec 32 := Scalar.divsi v580 c1_i32_349
  let c2_i32_348 : BitVec 32 := 2#32
  let v582 : BitVec 32 := Scalar.remsi v581 c2_i32_348
  let v584 : BitVec 32 := Scalar.subi c1_i32_351 v582
  let c1_i32_406 : BitVec 32 := 1#32
  let v673 : BitVec 32 := Scalar.muli v584 c1_i32_406
  let v674 : BitVec 32 := Scalar.addi v672 v673
  v674.toNat
def k0_dev49 (d0 : Dev nD) : Nat :=
  let c0_i32_411 : BitVec 32 := 0#32
  let c1_i32_350 : BitVec 32 := 1#32
  let v574 : BitVec 32 := Dev.word d0
  let c4_i32_345 : BitVec 32 := 4#32
  let v575 : BitVec 32 := Scalar.divsi v574 c4_i32_345
  let c2_i32_344 : BitVec 32 := 2#32
  let v576 : BitVec 32 := Scalar.remsi v575 c2_i32_344
  let v583 : BitVec 32 := Scalar.subi c1_i32_350 v576
  let c4_i32_410 : BitVec 32 := 4#32
  let v681 : BitVec 32 := Scalar.muli v583 c4_i32_410
  let v682 : BitVec 32 := Scalar.addi c0_i32_411 v681
  let v577 : BitVec 32 := Dev.word d0
  let c2_i32_347 : BitVec 32 := 2#32
  let v578 : BitVec 32 := Scalar.divsi v577 c2_i32_347
  let c2_i32_346 : BitVec 32 := 2#32
  let v579 : BitVec 32 := Scalar.remsi v578 c2_i32_346
  let c2_i32_412 : BitVec 32 := 2#32
  let v683 : BitVec 32 := Scalar.muli v579 c2_i32_412
  let v684 : BitVec 32 := Scalar.addi v682 v683
  let c1_i32_351 : BitVec 32 := 1#32
  let v580 : BitVec 32 := Dev.word d0
  let c1_i32_349 : BitVec 32 := 1#32
  let v581 : BitVec 32 := Scalar.divsi v580 c1_i32_349
  let c2_i32_348 : BitVec 32 := 2#32
  let v582 : BitVec 32 := Scalar.remsi v581 c2_i32_348
  let v584 : BitVec 32 := Scalar.subi c1_i32_351 v582
  let c1_i32_413 : BitVec 32 := 1#32
  let v685 : BitVec 32 := Scalar.muli v584 c1_i32_413
  let v686 : BitVec 32 := Scalar.addi v684 v685
  v686.toNat
def k0_dev50 (d0 : Dev nD) : Nat :=
  let c0_i32_418 : BitVec 32 := 0#32
  let c1_i32_350 : BitVec 32 := 1#32
  let v574 : BitVec 32 := Dev.word d0
  let c4_i32_345 : BitVec 32 := 4#32
  let v575 : BitVec 32 := Scalar.divsi v574 c4_i32_345
  let c2_i32_344 : BitVec 32 := 2#32
  let v576 : BitVec 32 := Scalar.remsi v575 c2_i32_344
  let v583 : BitVec 32 := Scalar.subi c1_i32_350 v576
  let c4_i32_417 : BitVec 32 := 4#32
  let v693 : BitVec 32 := Scalar.muli v583 c4_i32_417
  let v694 : BitVec 32 := Scalar.addi c0_i32_418 v693
  let v577 : BitVec 32 := Dev.word d0
  let c2_i32_347 : BitVec 32 := 2#32
  let v578 : BitVec 32 := Scalar.divsi v577 c2_i32_347
  let c2_i32_346 : BitVec 32 := 2#32
  let v579 : BitVec 32 := Scalar.remsi v578 c2_i32_346
  let c2_i32_419 : BitVec 32 := 2#32
  let v695 : BitVec 32 := Scalar.muli v579 c2_i32_419
  let v696 : BitVec 32 := Scalar.addi v694 v695
  let c1_i32_351 : BitVec 32 := 1#32
  let v580 : BitVec 32 := Dev.word d0
  let c1_i32_349 : BitVec 32 := 1#32
  let v581 : BitVec 32 := Scalar.divsi v580 c1_i32_349
  let c2_i32_348 : BitVec 32 := 2#32
  let v582 : BitVec 32 := Scalar.remsi v581 c2_i32_348
  let v584 : BitVec 32 := Scalar.subi c1_i32_351 v582
  let c1_i32_420 : BitVec 32 := 1#32
  let v697 : BitVec 32 := Scalar.muli v584 c1_i32_420
  let v698 : BitVec 32 := Scalar.addi v696 v697
  v698.toNat
def k0_dev51 (d0 : Dev nD) : Nat :=
  let c0_i32_434 : BitVec 32 := 0#32
  let c1_i32_429 : BitVec 32 := 1#32
  let v705 : BitVec 32 := Dev.word d0
  let c4_i32_424 : BitVec 32 := 4#32
  let v706 : BitVec 32 := Scalar.divsi v705 c4_i32_424
  let c2_i32_423 : BitVec 32 := 2#32
  let v707 : BitVec 32 := Scalar.remsi v706 c2_i32_423
  let v714 : BitVec 32 := Scalar.subi c1_i32_429 v707
  let c4_i32_433 : BitVec 32 := 4#32
  let v716 : BitVec 32 := Scalar.muli v714 c4_i32_433
  let v717 : BitVec 32 := Scalar.addi c0_i32_434 v716
  let c1_i32_430 : BitVec 32 := 1#32
  let v708 : BitVec 32 := Dev.word d0
  let c2_i32_426 : BitVec 32 := 2#32
  let v709 : BitVec 32 := Scalar.divsi v708 c2_i32_426
  let c2_i32_425 : BitVec 32 := 2#32
  let v710 : BitVec 32 := Scalar.remsi v709 c2_i32_425
  let v715 : BitVec 32 := Scalar.subi c1_i32_430 v710
  let c2_i32_435 : BitVec 32 := 2#32
  let v718 : BitVec 32 := Scalar.muli v715 c2_i32_435
  let v719 : BitVec 32 := Scalar.addi v717 v718
  let v711 : BitVec 32 := Dev.word d0
  let c1_i32_428 : BitVec 32 := 1#32
  let v712 : BitVec 32 := Scalar.divsi v711 c1_i32_428
  let c2_i32_427 : BitVec 32 := 2#32
  let v713 : BitVec 32 := Scalar.remsi v712 c2_i32_427
  let c1_i32_436 : BitVec 32 := 1#32
  let v720 : BitVec 32 := Scalar.muli v713 c1_i32_436
  let v721 : BitVec 32 := Scalar.addi v719 v720
  v721.toNat
def k0_dev52 (d0 : Dev nD) : Nat :=
  let c0_i32_441 : BitVec 32 := 0#32
  let c1_i32_429 : BitVec 32 := 1#32
  let v705 : BitVec 32 := Dev.word d0
  let c4_i32_424 : BitVec 32 := 4#32
  let v706 : BitVec 32 := Scalar.divsi v705 c4_i32_424
  let c2_i32_423 : BitVec 32 := 2#32
  let v707 : BitVec 32 := Scalar.remsi v706 c2_i32_423
  let v714 : BitVec 32 := Scalar.subi c1_i32_429 v707
  let c4_i32_440 : BitVec 32 := 4#32
  let v728 : BitVec 32 := Scalar.muli v714 c4_i32_440
  let v729 : BitVec 32 := Scalar.addi c0_i32_441 v728
  let c1_i32_430 : BitVec 32 := 1#32
  let v708 : BitVec 32 := Dev.word d0
  let c2_i32_426 : BitVec 32 := 2#32
  let v709 : BitVec 32 := Scalar.divsi v708 c2_i32_426
  let c2_i32_425 : BitVec 32 := 2#32
  let v710 : BitVec 32 := Scalar.remsi v709 c2_i32_425
  let v715 : BitVec 32 := Scalar.subi c1_i32_430 v710
  let c2_i32_442 : BitVec 32 := 2#32
  let v730 : BitVec 32 := Scalar.muli v715 c2_i32_442
  let v731 : BitVec 32 := Scalar.addi v729 v730
  let v711 : BitVec 32 := Dev.word d0
  let c1_i32_428 : BitVec 32 := 1#32
  let v712 : BitVec 32 := Scalar.divsi v711 c1_i32_428
  let c2_i32_427 : BitVec 32 := 2#32
  let v713 : BitVec 32 := Scalar.remsi v712 c2_i32_427
  let c1_i32_443 : BitVec 32 := 1#32
  let v732 : BitVec 32 := Scalar.muli v713 c1_i32_443
  let v733 : BitVec 32 := Scalar.addi v731 v732
  v733.toNat
def k0_dev53 (d0 : Dev nD) : Nat :=
  let c0_i32_448 : BitVec 32 := 0#32
  let c1_i32_429 : BitVec 32 := 1#32
  let v705 : BitVec 32 := Dev.word d0
  let c4_i32_424 : BitVec 32 := 4#32
  let v706 : BitVec 32 := Scalar.divsi v705 c4_i32_424
  let c2_i32_423 : BitVec 32 := 2#32
  let v707 : BitVec 32 := Scalar.remsi v706 c2_i32_423
  let v714 : BitVec 32 := Scalar.subi c1_i32_429 v707
  let c4_i32_447 : BitVec 32 := 4#32
  let v740 : BitVec 32 := Scalar.muli v714 c4_i32_447
  let v741 : BitVec 32 := Scalar.addi c0_i32_448 v740
  let c1_i32_430 : BitVec 32 := 1#32
  let v708 : BitVec 32 := Dev.word d0
  let c2_i32_426 : BitVec 32 := 2#32
  let v709 : BitVec 32 := Scalar.divsi v708 c2_i32_426
  let c2_i32_425 : BitVec 32 := 2#32
  let v710 : BitVec 32 := Scalar.remsi v709 c2_i32_425
  let v715 : BitVec 32 := Scalar.subi c1_i32_430 v710
  let c2_i32_449 : BitVec 32 := 2#32
  let v742 : BitVec 32 := Scalar.muli v715 c2_i32_449
  let v743 : BitVec 32 := Scalar.addi v741 v742
  let v711 : BitVec 32 := Dev.word d0
  let c1_i32_428 : BitVec 32 := 1#32
  let v712 : BitVec 32 := Scalar.divsi v711 c1_i32_428
  let c2_i32_427 : BitVec 32 := 2#32
  let v713 : BitVec 32 := Scalar.remsi v712 c2_i32_427
  let c1_i32_450 : BitVec 32 := 1#32
  let v744 : BitVec 32 := Scalar.muli v713 c1_i32_450
  let v745 : BitVec 32 := Scalar.addi v743 v744
  v745.toNat
def k0_dev54 (d0 : Dev nD) : Nat :=
  let c0_i32_455 : BitVec 32 := 0#32
  let c1_i32_429 : BitVec 32 := 1#32
  let v705 : BitVec 32 := Dev.word d0
  let c4_i32_424 : BitVec 32 := 4#32
  let v706 : BitVec 32 := Scalar.divsi v705 c4_i32_424
  let c2_i32_423 : BitVec 32 := 2#32
  let v707 : BitVec 32 := Scalar.remsi v706 c2_i32_423
  let v714 : BitVec 32 := Scalar.subi c1_i32_429 v707
  let c4_i32_454 : BitVec 32 := 4#32
  let v752 : BitVec 32 := Scalar.muli v714 c4_i32_454
  let v753 : BitVec 32 := Scalar.addi c0_i32_455 v752
  let c1_i32_430 : BitVec 32 := 1#32
  let v708 : BitVec 32 := Dev.word d0
  let c2_i32_426 : BitVec 32 := 2#32
  let v709 : BitVec 32 := Scalar.divsi v708 c2_i32_426
  let c2_i32_425 : BitVec 32 := 2#32
  let v710 : BitVec 32 := Scalar.remsi v709 c2_i32_425
  let v715 : BitVec 32 := Scalar.subi c1_i32_430 v710
  let c2_i32_456 : BitVec 32 := 2#32
  let v754 : BitVec 32 := Scalar.muli v715 c2_i32_456
  let v755 : BitVec 32 := Scalar.addi v753 v754
  let v711 : BitVec 32 := Dev.word d0
  let c1_i32_428 : BitVec 32 := 1#32
  let v712 : BitVec 32 := Scalar.divsi v711 c1_i32_428
  let c2_i32_427 : BitVec 32 := 2#32
  let v713 : BitVec 32 := Scalar.remsi v712 c2_i32_427
  let c1_i32_457 : BitVec 32 := 1#32
  let v756 : BitVec 32 := Scalar.muli v713 c1_i32_457
  let v757 : BitVec 32 := Scalar.addi v755 v756
  v757.toNat
def k0_dev55 (d0 : Dev nD) : Nat :=
  let c0_i32_462 : BitVec 32 := 0#32
  let c1_i32_429 : BitVec 32 := 1#32
  let v705 : BitVec 32 := Dev.word d0
  let c4_i32_424 : BitVec 32 := 4#32
  let v706 : BitVec 32 := Scalar.divsi v705 c4_i32_424
  let c2_i32_423 : BitVec 32 := 2#32
  let v707 : BitVec 32 := Scalar.remsi v706 c2_i32_423
  let v714 : BitVec 32 := Scalar.subi c1_i32_429 v707
  let c4_i32_461 : BitVec 32 := 4#32
  let v764 : BitVec 32 := Scalar.muli v714 c4_i32_461
  let v765 : BitVec 32 := Scalar.addi c0_i32_462 v764
  let c1_i32_430 : BitVec 32 := 1#32
  let v708 : BitVec 32 := Dev.word d0
  let c2_i32_426 : BitVec 32 := 2#32
  let v709 : BitVec 32 := Scalar.divsi v708 c2_i32_426
  let c2_i32_425 : BitVec 32 := 2#32
  let v710 : BitVec 32 := Scalar.remsi v709 c2_i32_425
  let v715 : BitVec 32 := Scalar.subi c1_i32_430 v710
  let c2_i32_463 : BitVec 32 := 2#32
  let v766 : BitVec 32 := Scalar.muli v715 c2_i32_463
  let v767 : BitVec 32 := Scalar.addi v765 v766
  let v711 : BitVec 32 := Dev.word d0
  let c1_i32_428 : BitVec 32 := 1#32
  let v712 : BitVec 32 := Scalar.divsi v711 c1_i32_428
  let c2_i32_427 : BitVec 32 := 2#32
  let v713 : BitVec 32 := Scalar.remsi v712 c2_i32_427
  let c1_i32_464 : BitVec 32 := 1#32
  let v768 : BitVec 32 := Scalar.muli v713 c1_i32_464
  let v769 : BitVec 32 := Scalar.addi v767 v768
  v769.toNat
def k0_dev56 (d0 : Dev nD) : Nat :=
  let c0_i32_469 : BitVec 32 := 0#32
  let c1_i32_429 : BitVec 32 := 1#32
  let v705 : BitVec 32 := Dev.word d0
  let c4_i32_424 : BitVec 32 := 4#32
  let v706 : BitVec 32 := Scalar.divsi v705 c4_i32_424
  let c2_i32_423 : BitVec 32 := 2#32
  let v707 : BitVec 32 := Scalar.remsi v706 c2_i32_423
  let v714 : BitVec 32 := Scalar.subi c1_i32_429 v707
  let c4_i32_468 : BitVec 32 := 4#32
  let v776 : BitVec 32 := Scalar.muli v714 c4_i32_468
  let v777 : BitVec 32 := Scalar.addi c0_i32_469 v776
  let c1_i32_430 : BitVec 32 := 1#32
  let v708 : BitVec 32 := Dev.word d0
  let c2_i32_426 : BitVec 32 := 2#32
  let v709 : BitVec 32 := Scalar.divsi v708 c2_i32_426
  let c2_i32_425 : BitVec 32 := 2#32
  let v710 : BitVec 32 := Scalar.remsi v709 c2_i32_425
  let v715 : BitVec 32 := Scalar.subi c1_i32_430 v710
  let c2_i32_470 : BitVec 32 := 2#32
  let v778 : BitVec 32 := Scalar.muli v715 c2_i32_470
  let v779 : BitVec 32 := Scalar.addi v777 v778
  let v711 : BitVec 32 := Dev.word d0
  let c1_i32_428 : BitVec 32 := 1#32
  let v712 : BitVec 32 := Scalar.divsi v711 c1_i32_428
  let c2_i32_427 : BitVec 32 := 2#32
  let v713 : BitVec 32 := Scalar.remsi v712 c2_i32_427
  let c1_i32_471 : BitVec 32 := 1#32
  let v780 : BitVec 32 := Scalar.muli v713 c1_i32_471
  let v781 : BitVec 32 := Scalar.addi v779 v780
  v781.toNat
def k0_dev57 (d0 : Dev nD) : Nat :=
  let c0_i32_476 : BitVec 32 := 0#32
  let c1_i32_429 : BitVec 32 := 1#32
  let v705 : BitVec 32 := Dev.word d0
  let c4_i32_424 : BitVec 32 := 4#32
  let v706 : BitVec 32 := Scalar.divsi v705 c4_i32_424
  let c2_i32_423 : BitVec 32 := 2#32
  let v707 : BitVec 32 := Scalar.remsi v706 c2_i32_423
  let v714 : BitVec 32 := Scalar.subi c1_i32_429 v707
  let c4_i32_475 : BitVec 32 := 4#32
  let v788 : BitVec 32 := Scalar.muli v714 c4_i32_475
  let v789 : BitVec 32 := Scalar.addi c0_i32_476 v788
  let c1_i32_430 : BitVec 32 := 1#32
  let v708 : BitVec 32 := Dev.word d0
  let c2_i32_426 : BitVec 32 := 2#32
  let v709 : BitVec 32 := Scalar.divsi v708 c2_i32_426
  let c2_i32_425 : BitVec 32 := 2#32
  let v710 : BitVec 32 := Scalar.remsi v709 c2_i32_425
  let v715 : BitVec 32 := Scalar.subi c1_i32_430 v710
  let c2_i32_477 : BitVec 32 := 2#32
  let v790 : BitVec 32 := Scalar.muli v715 c2_i32_477
  let v791 : BitVec 32 := Scalar.addi v789 v790
  let v711 : BitVec 32 := Dev.word d0
  let c1_i32_428 : BitVec 32 := 1#32
  let v712 : BitVec 32 := Scalar.divsi v711 c1_i32_428
  let c2_i32_427 : BitVec 32 := 2#32
  let v713 : BitVec 32 := Scalar.remsi v712 c2_i32_427
  let c1_i32_478 : BitVec 32 := 1#32
  let v792 : BitVec 32 := Scalar.muli v713 c1_i32_478
  let v793 : BitVec 32 := Scalar.addi v791 v792
  v793.toNat
def k0_dev58 (d0 : Dev nD) : Nat :=
  let c0_i32_483 : BitVec 32 := 0#32
  let c1_i32_429 : BitVec 32 := 1#32
  let v705 : BitVec 32 := Dev.word d0
  let c4_i32_424 : BitVec 32 := 4#32
  let v706 : BitVec 32 := Scalar.divsi v705 c4_i32_424
  let c2_i32_423 : BitVec 32 := 2#32
  let v707 : BitVec 32 := Scalar.remsi v706 c2_i32_423
  let v714 : BitVec 32 := Scalar.subi c1_i32_429 v707
  let c4_i32_482 : BitVec 32 := 4#32
  let v800 : BitVec 32 := Scalar.muli v714 c4_i32_482
  let v801 : BitVec 32 := Scalar.addi c0_i32_483 v800
  let c1_i32_430 : BitVec 32 := 1#32
  let v708 : BitVec 32 := Dev.word d0
  let c2_i32_426 : BitVec 32 := 2#32
  let v709 : BitVec 32 := Scalar.divsi v708 c2_i32_426
  let c2_i32_425 : BitVec 32 := 2#32
  let v710 : BitVec 32 := Scalar.remsi v709 c2_i32_425
  let v715 : BitVec 32 := Scalar.subi c1_i32_430 v710
  let c2_i32_484 : BitVec 32 := 2#32
  let v802 : BitVec 32 := Scalar.muli v715 c2_i32_484
  let v803 : BitVec 32 := Scalar.addi v801 v802
  let v711 : BitVec 32 := Dev.word d0
  let c1_i32_428 : BitVec 32 := 1#32
  let v712 : BitVec 32 := Scalar.divsi v711 c1_i32_428
  let c2_i32_427 : BitVec 32 := 2#32
  let v713 : BitVec 32 := Scalar.remsi v712 c2_i32_427
  let c1_i32_485 : BitVec 32 := 1#32
  let v804 : BitVec 32 := Scalar.muli v713 c1_i32_485
  let v805 : BitVec 32 := Scalar.addi v803 v804
  v805.toNat
def k0_dev59 (d0 : Dev nD) : Nat :=
  let c0_i32_490 : BitVec 32 := 0#32
  let c1_i32_429 : BitVec 32 := 1#32
  let v705 : BitVec 32 := Dev.word d0
  let c4_i32_424 : BitVec 32 := 4#32
  let v706 : BitVec 32 := Scalar.divsi v705 c4_i32_424
  let c2_i32_423 : BitVec 32 := 2#32
  let v707 : BitVec 32 := Scalar.remsi v706 c2_i32_423
  let v714 : BitVec 32 := Scalar.subi c1_i32_429 v707
  let c4_i32_489 : BitVec 32 := 4#32
  let v812 : BitVec 32 := Scalar.muli v714 c4_i32_489
  let v813 : BitVec 32 := Scalar.addi c0_i32_490 v812
  let c1_i32_430 : BitVec 32 := 1#32
  let v708 : BitVec 32 := Dev.word d0
  let c2_i32_426 : BitVec 32 := 2#32
  let v709 : BitVec 32 := Scalar.divsi v708 c2_i32_426
  let c2_i32_425 : BitVec 32 := 2#32
  let v710 : BitVec 32 := Scalar.remsi v709 c2_i32_425
  let v715 : BitVec 32 := Scalar.subi c1_i32_430 v710
  let c2_i32_491 : BitVec 32 := 2#32
  let v814 : BitVec 32 := Scalar.muli v715 c2_i32_491
  let v815 : BitVec 32 := Scalar.addi v813 v814
  let v711 : BitVec 32 := Dev.word d0
  let c1_i32_428 : BitVec 32 := 1#32
  let v712 : BitVec 32 := Scalar.divsi v711 c1_i32_428
  let c2_i32_427 : BitVec 32 := 2#32
  let v713 : BitVec 32 := Scalar.remsi v712 c2_i32_427
  let c1_i32_492 : BitVec 32 := 1#32
  let v816 : BitVec 32 := Scalar.muli v713 c1_i32_492
  let v817 : BitVec 32 := Scalar.addi v815 v816
  v817.toNat
def k0_dev60 (d0 : Dev nD) : Nat :=
  let c0_i32_497 : BitVec 32 := 0#32
  let c1_i32_429 : BitVec 32 := 1#32
  let v705 : BitVec 32 := Dev.word d0
  let c4_i32_424 : BitVec 32 := 4#32
  let v706 : BitVec 32 := Scalar.divsi v705 c4_i32_424
  let c2_i32_423 : BitVec 32 := 2#32
  let v707 : BitVec 32 := Scalar.remsi v706 c2_i32_423
  let v714 : BitVec 32 := Scalar.subi c1_i32_429 v707
  let c4_i32_496 : BitVec 32 := 4#32
  let v824 : BitVec 32 := Scalar.muli v714 c4_i32_496
  let v825 : BitVec 32 := Scalar.addi c0_i32_497 v824
  let c1_i32_430 : BitVec 32 := 1#32
  let v708 : BitVec 32 := Dev.word d0
  let c2_i32_426 : BitVec 32 := 2#32
  let v709 : BitVec 32 := Scalar.divsi v708 c2_i32_426
  let c2_i32_425 : BitVec 32 := 2#32
  let v710 : BitVec 32 := Scalar.remsi v709 c2_i32_425
  let v715 : BitVec 32 := Scalar.subi c1_i32_430 v710
  let c2_i32_498 : BitVec 32 := 2#32
  let v826 : BitVec 32 := Scalar.muli v715 c2_i32_498
  let v827 : BitVec 32 := Scalar.addi v825 v826
  let v711 : BitVec 32 := Dev.word d0
  let c1_i32_428 : BitVec 32 := 1#32
  let v712 : BitVec 32 := Scalar.divsi v711 c1_i32_428
  let c2_i32_427 : BitVec 32 := 2#32
  let v713 : BitVec 32 := Scalar.remsi v712 c2_i32_427
  let c1_i32_499 : BitVec 32 := 1#32
  let v828 : BitVec 32 := Scalar.muli v713 c1_i32_499
  let v829 : BitVec 32 := Scalar.addi v827 v828
  v829.toNat
def k0_dev61 (d0 : Dev nD) : Nat :=
  let c0_i32_514 : BitVec 32 := 0#32
  let c1_i32_508 : BitVec 32 := 1#32
  let v836 : BitVec 32 := Dev.word d0
  let c4_i32_503 : BitVec 32 := 4#32
  let v837 : BitVec 32 := Scalar.divsi v836 c4_i32_503
  let c2_i32_502 : BitVec 32 := 2#32
  let v838 : BitVec 32 := Scalar.remsi v837 c2_i32_502
  let v845 : BitVec 32 := Scalar.subi c1_i32_508 v838
  let c4_i32_513 : BitVec 32 := 4#32
  let v848 : BitVec 32 := Scalar.muli v845 c4_i32_513
  let v849 : BitVec 32 := Scalar.addi c0_i32_514 v848
  let c1_i32_509 : BitVec 32 := 1#32
  let v839 : BitVec 32 := Dev.word d0
  let c2_i32_505 : BitVec 32 := 2#32
  let v840 : BitVec 32 := Scalar.divsi v839 c2_i32_505
  let c2_i32_504 : BitVec 32 := 2#32
  let v841 : BitVec 32 := Scalar.remsi v840 c2_i32_504
  let v846 : BitVec 32 := Scalar.subi c1_i32_509 v841
  let c2_i32_515 : BitVec 32 := 2#32
  let v850 : BitVec 32 := Scalar.muli v846 c2_i32_515
  let v851 : BitVec 32 := Scalar.addi v849 v850
  let c1_i32_510 : BitVec 32 := 1#32
  let v842 : BitVec 32 := Dev.word d0
  let c1_i32_507 : BitVec 32 := 1#32
  let v843 : BitVec 32 := Scalar.divsi v842 c1_i32_507
  let c2_i32_506 : BitVec 32 := 2#32
  let v844 : BitVec 32 := Scalar.remsi v843 c2_i32_506
  let v847 : BitVec 32 := Scalar.subi c1_i32_510 v844
  let c1_i32_516 : BitVec 32 := 1#32
  let v852 : BitVec 32 := Scalar.muli v847 c1_i32_516
  let v853 : BitVec 32 := Scalar.addi v851 v852
  v853.toNat
def k0_dev62 (d0 : Dev nD) : Nat :=
  let c0_i32_521 : BitVec 32 := 0#32
  let c1_i32_508 : BitVec 32 := 1#32
  let v836 : BitVec 32 := Dev.word d0
  let c4_i32_503 : BitVec 32 := 4#32
  let v837 : BitVec 32 := Scalar.divsi v836 c4_i32_503
  let c2_i32_502 : BitVec 32 := 2#32
  let v838 : BitVec 32 := Scalar.remsi v837 c2_i32_502
  let v845 : BitVec 32 := Scalar.subi c1_i32_508 v838
  let c4_i32_520 : BitVec 32 := 4#32
  let v860 : BitVec 32 := Scalar.muli v845 c4_i32_520
  let v861 : BitVec 32 := Scalar.addi c0_i32_521 v860
  let c1_i32_509 : BitVec 32 := 1#32
  let v839 : BitVec 32 := Dev.word d0
  let c2_i32_505 : BitVec 32 := 2#32
  let v840 : BitVec 32 := Scalar.divsi v839 c2_i32_505
  let c2_i32_504 : BitVec 32 := 2#32
  let v841 : BitVec 32 := Scalar.remsi v840 c2_i32_504
  let v846 : BitVec 32 := Scalar.subi c1_i32_509 v841
  let c2_i32_522 : BitVec 32 := 2#32
  let v862 : BitVec 32 := Scalar.muli v846 c2_i32_522
  let v863 : BitVec 32 := Scalar.addi v861 v862
  let c1_i32_510 : BitVec 32 := 1#32
  let v842 : BitVec 32 := Dev.word d0
  let c1_i32_507 : BitVec 32 := 1#32
  let v843 : BitVec 32 := Scalar.divsi v842 c1_i32_507
  let c2_i32_506 : BitVec 32 := 2#32
  let v844 : BitVec 32 := Scalar.remsi v843 c2_i32_506
  let v847 : BitVec 32 := Scalar.subi c1_i32_510 v844
  let c1_i32_523 : BitVec 32 := 1#32
  let v864 : BitVec 32 := Scalar.muli v847 c1_i32_523
  let v865 : BitVec 32 := Scalar.addi v863 v864
  v865.toNat
def k0_dev63 (d0 : Dev nD) : Nat :=
  let c0_i32_528 : BitVec 32 := 0#32
  let c1_i32_508 : BitVec 32 := 1#32
  let v836 : BitVec 32 := Dev.word d0
  let c4_i32_503 : BitVec 32 := 4#32
  let v837 : BitVec 32 := Scalar.divsi v836 c4_i32_503
  let c2_i32_502 : BitVec 32 := 2#32
  let v838 : BitVec 32 := Scalar.remsi v837 c2_i32_502
  let v845 : BitVec 32 := Scalar.subi c1_i32_508 v838
  let c4_i32_527 : BitVec 32 := 4#32
  let v872 : BitVec 32 := Scalar.muli v845 c4_i32_527
  let v873 : BitVec 32 := Scalar.addi c0_i32_528 v872
  let c1_i32_509 : BitVec 32 := 1#32
  let v839 : BitVec 32 := Dev.word d0
  let c2_i32_505 : BitVec 32 := 2#32
  let v840 : BitVec 32 := Scalar.divsi v839 c2_i32_505
  let c2_i32_504 : BitVec 32 := 2#32
  let v841 : BitVec 32 := Scalar.remsi v840 c2_i32_504
  let v846 : BitVec 32 := Scalar.subi c1_i32_509 v841
  let c2_i32_529 : BitVec 32 := 2#32
  let v874 : BitVec 32 := Scalar.muli v846 c2_i32_529
  let v875 : BitVec 32 := Scalar.addi v873 v874
  let c1_i32_510 : BitVec 32 := 1#32
  let v842 : BitVec 32 := Dev.word d0
  let c1_i32_507 : BitVec 32 := 1#32
  let v843 : BitVec 32 := Scalar.divsi v842 c1_i32_507
  let c2_i32_506 : BitVec 32 := 2#32
  let v844 : BitVec 32 := Scalar.remsi v843 c2_i32_506
  let v847 : BitVec 32 := Scalar.subi c1_i32_510 v844
  let c1_i32_530 : BitVec 32 := 1#32
  let v876 : BitVec 32 := Scalar.muli v847 c1_i32_530
  let v877 : BitVec 32 := Scalar.addi v875 v876
  v877.toNat
def k0_dev64 (d0 : Dev nD) : Nat :=
  let c0_i32_535 : BitVec 32 := 0#32
  let c1_i32_508 : BitVec 32 := 1#32
  let v836 : BitVec 32 := Dev.word d0
  let c4_i32_503 : BitVec 32 := 4#32
  let v837 : BitVec 32 := Scalar.divsi v836 c4_i32_503
  let c2_i32_502 : BitVec 32 := 2#32
  let v838 : BitVec 32 := Scalar.remsi v837 c2_i32_502
  let v845 : BitVec 32 := Scalar.subi c1_i32_508 v838
  let c4_i32_534 : BitVec 32 := 4#32
  let v884 : BitVec 32 := Scalar.muli v845 c4_i32_534
  let v885 : BitVec 32 := Scalar.addi c0_i32_535 v884
  let c1_i32_509 : BitVec 32 := 1#32
  let v839 : BitVec 32 := Dev.word d0
  let c2_i32_505 : BitVec 32 := 2#32
  let v840 : BitVec 32 := Scalar.divsi v839 c2_i32_505
  let c2_i32_504 : BitVec 32 := 2#32
  let v841 : BitVec 32 := Scalar.remsi v840 c2_i32_504
  let v846 : BitVec 32 := Scalar.subi c1_i32_509 v841
  let c2_i32_536 : BitVec 32 := 2#32
  let v886 : BitVec 32 := Scalar.muli v846 c2_i32_536
  let v887 : BitVec 32 := Scalar.addi v885 v886
  let c1_i32_510 : BitVec 32 := 1#32
  let v842 : BitVec 32 := Dev.word d0
  let c1_i32_507 : BitVec 32 := 1#32
  let v843 : BitVec 32 := Scalar.divsi v842 c1_i32_507
  let c2_i32_506 : BitVec 32 := 2#32
  let v844 : BitVec 32 := Scalar.remsi v843 c2_i32_506
  let v847 : BitVec 32 := Scalar.subi c1_i32_510 v844
  let c1_i32_537 : BitVec 32 := 1#32
  let v888 : BitVec 32 := Scalar.muli v847 c1_i32_537
  let v889 : BitVec 32 := Scalar.addi v887 v888
  v889.toNat
def k0_dev65 (d0 : Dev nD) : Nat :=
  let c0_i32_542 : BitVec 32 := 0#32
  let c1_i32_508 : BitVec 32 := 1#32
  let v836 : BitVec 32 := Dev.word d0
  let c4_i32_503 : BitVec 32 := 4#32
  let v837 : BitVec 32 := Scalar.divsi v836 c4_i32_503
  let c2_i32_502 : BitVec 32 := 2#32
  let v838 : BitVec 32 := Scalar.remsi v837 c2_i32_502
  let v845 : BitVec 32 := Scalar.subi c1_i32_508 v838
  let c4_i32_541 : BitVec 32 := 4#32
  let v896 : BitVec 32 := Scalar.muli v845 c4_i32_541
  let v897 : BitVec 32 := Scalar.addi c0_i32_542 v896
  let c1_i32_509 : BitVec 32 := 1#32
  let v839 : BitVec 32 := Dev.word d0
  let c2_i32_505 : BitVec 32 := 2#32
  let v840 : BitVec 32 := Scalar.divsi v839 c2_i32_505
  let c2_i32_504 : BitVec 32 := 2#32
  let v841 : BitVec 32 := Scalar.remsi v840 c2_i32_504
  let v846 : BitVec 32 := Scalar.subi c1_i32_509 v841
  let c2_i32_543 : BitVec 32 := 2#32
  let v898 : BitVec 32 := Scalar.muli v846 c2_i32_543
  let v899 : BitVec 32 := Scalar.addi v897 v898
  let c1_i32_510 : BitVec 32 := 1#32
  let v842 : BitVec 32 := Dev.word d0
  let c1_i32_507 : BitVec 32 := 1#32
  let v843 : BitVec 32 := Scalar.divsi v842 c1_i32_507
  let c2_i32_506 : BitVec 32 := 2#32
  let v844 : BitVec 32 := Scalar.remsi v843 c2_i32_506
  let v847 : BitVec 32 := Scalar.subi c1_i32_510 v844
  let c1_i32_544 : BitVec 32 := 1#32
  let v900 : BitVec 32 := Scalar.muli v847 c1_i32_544
  let v901 : BitVec 32 := Scalar.addi v899 v900
  v901.toNat
def k0_dev66 (d0 : Dev nD) : Nat :=
  let c0_i32_549 : BitVec 32 := 0#32
  let c1_i32_508 : BitVec 32 := 1#32
  let v836 : BitVec 32 := Dev.word d0
  let c4_i32_503 : BitVec 32 := 4#32
  let v837 : BitVec 32 := Scalar.divsi v836 c4_i32_503
  let c2_i32_502 : BitVec 32 := 2#32
  let v838 : BitVec 32 := Scalar.remsi v837 c2_i32_502
  let v845 : BitVec 32 := Scalar.subi c1_i32_508 v838
  let c4_i32_548 : BitVec 32 := 4#32
  let v908 : BitVec 32 := Scalar.muli v845 c4_i32_548
  let v909 : BitVec 32 := Scalar.addi c0_i32_549 v908
  let c1_i32_509 : BitVec 32 := 1#32
  let v839 : BitVec 32 := Dev.word d0
  let c2_i32_505 : BitVec 32 := 2#32
  let v840 : BitVec 32 := Scalar.divsi v839 c2_i32_505
  let c2_i32_504 : BitVec 32 := 2#32
  let v841 : BitVec 32 := Scalar.remsi v840 c2_i32_504
  let v846 : BitVec 32 := Scalar.subi c1_i32_509 v841
  let c2_i32_550 : BitVec 32 := 2#32
  let v910 : BitVec 32 := Scalar.muli v846 c2_i32_550
  let v911 : BitVec 32 := Scalar.addi v909 v910
  let c1_i32_510 : BitVec 32 := 1#32
  let v842 : BitVec 32 := Dev.word d0
  let c1_i32_507 : BitVec 32 := 1#32
  let v843 : BitVec 32 := Scalar.divsi v842 c1_i32_507
  let c2_i32_506 : BitVec 32 := 2#32
  let v844 : BitVec 32 := Scalar.remsi v843 c2_i32_506
  let v847 : BitVec 32 := Scalar.subi c1_i32_510 v844
  let c1_i32_551 : BitVec 32 := 1#32
  let v912 : BitVec 32 := Scalar.muli v847 c1_i32_551
  let v913 : BitVec 32 := Scalar.addi v911 v912
  v913.toNat
def k0_dev67 (d0 : Dev nD) : Nat :=
  let c0_i32_556 : BitVec 32 := 0#32
  let c1_i32_508 : BitVec 32 := 1#32
  let v836 : BitVec 32 := Dev.word d0
  let c4_i32_503 : BitVec 32 := 4#32
  let v837 : BitVec 32 := Scalar.divsi v836 c4_i32_503
  let c2_i32_502 : BitVec 32 := 2#32
  let v838 : BitVec 32 := Scalar.remsi v837 c2_i32_502
  let v845 : BitVec 32 := Scalar.subi c1_i32_508 v838
  let c4_i32_555 : BitVec 32 := 4#32
  let v920 : BitVec 32 := Scalar.muli v845 c4_i32_555
  let v921 : BitVec 32 := Scalar.addi c0_i32_556 v920
  let c1_i32_509 : BitVec 32 := 1#32
  let v839 : BitVec 32 := Dev.word d0
  let c2_i32_505 : BitVec 32 := 2#32
  let v840 : BitVec 32 := Scalar.divsi v839 c2_i32_505
  let c2_i32_504 : BitVec 32 := 2#32
  let v841 : BitVec 32 := Scalar.remsi v840 c2_i32_504
  let v846 : BitVec 32 := Scalar.subi c1_i32_509 v841
  let c2_i32_557 : BitVec 32 := 2#32
  let v922 : BitVec 32 := Scalar.muli v846 c2_i32_557
  let v923 : BitVec 32 := Scalar.addi v921 v922
  let c1_i32_510 : BitVec 32 := 1#32
  let v842 : BitVec 32 := Dev.word d0
  let c1_i32_507 : BitVec 32 := 1#32
  let v843 : BitVec 32 := Scalar.divsi v842 c1_i32_507
  let c2_i32_506 : BitVec 32 := 2#32
  let v844 : BitVec 32 := Scalar.remsi v843 c2_i32_506
  let v847 : BitVec 32 := Scalar.subi c1_i32_510 v844
  let c1_i32_558 : BitVec 32 := 1#32
  let v924 : BitVec 32 := Scalar.muli v847 c1_i32_558
  let v925 : BitVec 32 := Scalar.addi v923 v924
  v925.toNat
def k0_dev68 (d0 : Dev nD) : Nat :=
  let c0_i32_563 : BitVec 32 := 0#32
  let c1_i32_508 : BitVec 32 := 1#32
  let v836 : BitVec 32 := Dev.word d0
  let c4_i32_503 : BitVec 32 := 4#32
  let v837 : BitVec 32 := Scalar.divsi v836 c4_i32_503
  let c2_i32_502 : BitVec 32 := 2#32
  let v838 : BitVec 32 := Scalar.remsi v837 c2_i32_502
  let v845 : BitVec 32 := Scalar.subi c1_i32_508 v838
  let c4_i32_562 : BitVec 32 := 4#32
  let v932 : BitVec 32 := Scalar.muli v845 c4_i32_562
  let v933 : BitVec 32 := Scalar.addi c0_i32_563 v932
  let c1_i32_509 : BitVec 32 := 1#32
  let v839 : BitVec 32 := Dev.word d0
  let c2_i32_505 : BitVec 32 := 2#32
  let v840 : BitVec 32 := Scalar.divsi v839 c2_i32_505
  let c2_i32_504 : BitVec 32 := 2#32
  let v841 : BitVec 32 := Scalar.remsi v840 c2_i32_504
  let v846 : BitVec 32 := Scalar.subi c1_i32_509 v841
  let c2_i32_564 : BitVec 32 := 2#32
  let v934 : BitVec 32 := Scalar.muli v846 c2_i32_564
  let v935 : BitVec 32 := Scalar.addi v933 v934
  let c1_i32_510 : BitVec 32 := 1#32
  let v842 : BitVec 32 := Dev.word d0
  let c1_i32_507 : BitVec 32 := 1#32
  let v843 : BitVec 32 := Scalar.divsi v842 c1_i32_507
  let c2_i32_506 : BitVec 32 := 2#32
  let v844 : BitVec 32 := Scalar.remsi v843 c2_i32_506
  let v847 : BitVec 32 := Scalar.subi c1_i32_510 v844
  let c1_i32_565 : BitVec 32 := 1#32
  let v936 : BitVec 32 := Scalar.muli v847 c1_i32_565
  let v937 : BitVec 32 := Scalar.addi v935 v936
  v937.toNat
def k0_dev69 (d0 : Dev nD) : Nat :=
  let c0_i32_570 : BitVec 32 := 0#32
  let c1_i32_508 : BitVec 32 := 1#32
  let v836 : BitVec 32 := Dev.word d0
  let c4_i32_503 : BitVec 32 := 4#32
  let v837 : BitVec 32 := Scalar.divsi v836 c4_i32_503
  let c2_i32_502 : BitVec 32 := 2#32
  let v838 : BitVec 32 := Scalar.remsi v837 c2_i32_502
  let v845 : BitVec 32 := Scalar.subi c1_i32_508 v838
  let c4_i32_569 : BitVec 32 := 4#32
  let v944 : BitVec 32 := Scalar.muli v845 c4_i32_569
  let v945 : BitVec 32 := Scalar.addi c0_i32_570 v944
  let c1_i32_509 : BitVec 32 := 1#32
  let v839 : BitVec 32 := Dev.word d0
  let c2_i32_505 : BitVec 32 := 2#32
  let v840 : BitVec 32 := Scalar.divsi v839 c2_i32_505
  let c2_i32_504 : BitVec 32 := 2#32
  let v841 : BitVec 32 := Scalar.remsi v840 c2_i32_504
  let v846 : BitVec 32 := Scalar.subi c1_i32_509 v841
  let c2_i32_571 : BitVec 32 := 2#32
  let v946 : BitVec 32 := Scalar.muli v846 c2_i32_571
  let v947 : BitVec 32 := Scalar.addi v945 v946
  let c1_i32_510 : BitVec 32 := 1#32
  let v842 : BitVec 32 := Dev.word d0
  let c1_i32_507 : BitVec 32 := 1#32
  let v843 : BitVec 32 := Scalar.divsi v842 c1_i32_507
  let c2_i32_506 : BitVec 32 := 2#32
  let v844 : BitVec 32 := Scalar.remsi v843 c2_i32_506
  let v847 : BitVec 32 := Scalar.subi c1_i32_510 v844
  let c1_i32_572 : BitVec 32 := 1#32
  let v948 : BitVec 32 := Scalar.muli v847 c1_i32_572
  let v949 : BitVec 32 := Scalar.addi v947 v948
  v949.toNat
def k0_dev70 (d0 : Dev nD) : Nat :=
  let c0_i32_577 : BitVec 32 := 0#32
  let c1_i32_508 : BitVec 32 := 1#32
  let v836 : BitVec 32 := Dev.word d0
  let c4_i32_503 : BitVec 32 := 4#32
  let v837 : BitVec 32 := Scalar.divsi v836 c4_i32_503
  let c2_i32_502 : BitVec 32 := 2#32
  let v838 : BitVec 32 := Scalar.remsi v837 c2_i32_502
  let v845 : BitVec 32 := Scalar.subi c1_i32_508 v838
  let c4_i32_576 : BitVec 32 := 4#32
  let v956 : BitVec 32 := Scalar.muli v845 c4_i32_576
  let v957 : BitVec 32 := Scalar.addi c0_i32_577 v956
  let c1_i32_509 : BitVec 32 := 1#32
  let v839 : BitVec 32 := Dev.word d0
  let c2_i32_505 : BitVec 32 := 2#32
  let v840 : BitVec 32 := Scalar.divsi v839 c2_i32_505
  let c2_i32_504 : BitVec 32 := 2#32
  let v841 : BitVec 32 := Scalar.remsi v840 c2_i32_504
  let v846 : BitVec 32 := Scalar.subi c1_i32_509 v841
  let c2_i32_578 : BitVec 32 := 2#32
  let v958 : BitVec 32 := Scalar.muli v846 c2_i32_578
  let v959 : BitVec 32 := Scalar.addi v957 v958
  let c1_i32_510 : BitVec 32 := 1#32
  let v842 : BitVec 32 := Dev.word d0
  let c1_i32_507 : BitVec 32 := 1#32
  let v843 : BitVec 32 := Scalar.divsi v842 c1_i32_507
  let c2_i32_506 : BitVec 32 := 2#32
  let v844 : BitVec 32 := Scalar.remsi v843 c2_i32_506
  let v847 : BitVec 32 := Scalar.subi c1_i32_510 v844
  let c1_i32_579 : BitVec 32 := 1#32
  let v960 : BitVec 32 := Scalar.muli v847 c1_i32_579
  let v961 : BitVec 32 := Scalar.addi v959 v960
  v961.toNat
def k0_off7 (d0 : Dev nD) : Fin 3 → Nat :=
  let c4_i32_589 : BitVec 32 := 4#32
  let v968 : BitVec 32 := Dev.word d0
  let c4_i32_583 : BitVec 32 := 4#32
  let v969 : BitVec 32 := Scalar.divsi v968 c4_i32_583
  let c2_i32_582 : BitVec 32 := 2#32
  let v970 : BitVec 32 := Scalar.remsi v969 c2_i32_582
  let v978 : BitVec 32 := Scalar.muli c4_i32_589 v970
  let c2_i32_590 : BitVec 32 := 2#32
  let v971 : BitVec 32 := Dev.word d0
  let c2_i32_585 : BitVec 32 := 2#32
  let v972 : BitVec 32 := Scalar.divsi v971 c2_i32_585
  let c2_i32_584 : BitVec 32 := 2#32
  let v973 : BitVec 32 := Scalar.remsi v972 c2_i32_584
  let v979 : BitVec 32 := Scalar.muli c2_i32_590 v973
  let v980 : BitVec 32 := Scalar.addi v978 v979
  let c1_i32_588 : BitVec 32 := 1#32
  let v974 : BitVec 32 := Dev.word d0
  let c1_i32_587 : BitVec 32 := 1#32
  let v975 : BitVec 32 := Scalar.divsi v974 c1_i32_587
  let c2_i32_586 : BitVec 32 := 2#32
  let v976 : BitVec 32 := Scalar.remsi v975 c2_i32_586
  let v977 : BitVec 32 := Scalar.subi c1_i32_588 v976
  let v981 : BitVec 32 := Scalar.addi v980 v977
  let c0_i32_597 : BitVec 32 := 0#32
  let c0_i32_598 : BitVec 32 := 0#32
  ![v981.toNat, 0, 0]
def k0_off8 (d0 : Dev nD) : Fin 3 → Nat :=
  let c4_i32_589 : BitVec 32 := 4#32
  let v968 : BitVec 32 := Dev.word d0
  let c4_i32_583 : BitVec 32 := 4#32
  let v969 : BitVec 32 := Scalar.divsi v968 c4_i32_583
  let c2_i32_582 : BitVec 32 := 2#32
  let v970 : BitVec 32 := Scalar.remsi v969 c2_i32_582
  let v978 : BitVec 32 := Scalar.muli c4_i32_589 v970
  let c2_i32_590 : BitVec 32 := 2#32
  let v971 : BitVec 32 := Dev.word d0
  let c2_i32_585 : BitVec 32 := 2#32
  let v972 : BitVec 32 := Scalar.divsi v971 c2_i32_585
  let c2_i32_584 : BitVec 32 := 2#32
  let v973 : BitVec 32 := Scalar.remsi v972 c2_i32_584
  let v979 : BitVec 32 := Scalar.muli c2_i32_590 v973
  let v980 : BitVec 32 := Scalar.addi v978 v979
  let c1_i32_588 : BitVec 32 := 1#32
  let v974 : BitVec 32 := Dev.word d0
  let c1_i32_587 : BitVec 32 := 1#32
  let v975 : BitVec 32 := Scalar.divsi v974 c1_i32_587
  let c2_i32_586 : BitVec 32 := 2#32
  let v976 : BitVec 32 := Scalar.remsi v975 c2_i32_586
  let v977 : BitVec 32 := Scalar.subi c1_i32_588 v976
  let v981 : BitVec 32 := Scalar.addi v980 v977
  let c0_i32_605 : BitVec 32 := 0#32
  let c0_i32_606 : BitVec 32 := 0#32
  ![v981.toNat, 0, 0]
def k0_off9 (d0 : Dev nD) : Fin 3 → Nat :=
  let c4_i32_589 : BitVec 32 := 4#32
  let v968 : BitVec 32 := Dev.word d0
  let c4_i32_583 : BitVec 32 := 4#32
  let v969 : BitVec 32 := Scalar.divsi v968 c4_i32_583
  let c2_i32_582 : BitVec 32 := 2#32
  let v970 : BitVec 32 := Scalar.remsi v969 c2_i32_582
  let v978 : BitVec 32 := Scalar.muli c4_i32_589 v970
  let c2_i32_590 : BitVec 32 := 2#32
  let v971 : BitVec 32 := Dev.word d0
  let c2_i32_585 : BitVec 32 := 2#32
  let v972 : BitVec 32 := Scalar.divsi v971 c2_i32_585
  let c2_i32_584 : BitVec 32 := 2#32
  let v973 : BitVec 32 := Scalar.remsi v972 c2_i32_584
  let v979 : BitVec 32 := Scalar.muli c2_i32_590 v973
  let v980 : BitVec 32 := Scalar.addi v978 v979
  let c1_i32_588 : BitVec 32 := 1#32
  let v974 : BitVec 32 := Dev.word d0
  let c1_i32_587 : BitVec 32 := 1#32
  let v975 : BitVec 32 := Scalar.divsi v974 c1_i32_587
  let c2_i32_586 : BitVec 32 := 2#32
  let v976 : BitVec 32 := Scalar.remsi v975 c2_i32_586
  let v977 : BitVec 32 := Scalar.subi c1_i32_588 v976
  let v981 : BitVec 32 := Scalar.addi v980 v977
  let c0_i32_613 : BitVec 32 := 0#32
  let c0_i32_614 : BitVec 32 := 0#32
  ![v981.toNat, 0, 0]
def k0_off10 (d0 : Dev nD) : Fin 3 → Nat :=
  let c4_i32_589 : BitVec 32 := 4#32
  let v968 : BitVec 32 := Dev.word d0
  let c4_i32_583 : BitVec 32 := 4#32
  let v969 : BitVec 32 := Scalar.divsi v968 c4_i32_583
  let c2_i32_582 : BitVec 32 := 2#32
  let v970 : BitVec 32 := Scalar.remsi v969 c2_i32_582
  let v978 : BitVec 32 := Scalar.muli c4_i32_589 v970
  let c2_i32_590 : BitVec 32 := 2#32
  let v971 : BitVec 32 := Dev.word d0
  let c2_i32_585 : BitVec 32 := 2#32
  let v972 : BitVec 32 := Scalar.divsi v971 c2_i32_585
  let c2_i32_584 : BitVec 32 := 2#32
  let v973 : BitVec 32 := Scalar.remsi v972 c2_i32_584
  let v979 : BitVec 32 := Scalar.muli c2_i32_590 v973
  let v980 : BitVec 32 := Scalar.addi v978 v979
  let c1_i32_588 : BitVec 32 := 1#32
  let v974 : BitVec 32 := Dev.word d0
  let c1_i32_587 : BitVec 32 := 1#32
  let v975 : BitVec 32 := Scalar.divsi v974 c1_i32_587
  let c2_i32_586 : BitVec 32 := 2#32
  let v976 : BitVec 32 := Scalar.remsi v975 c2_i32_586
  let v977 : BitVec 32 := Scalar.subi c1_i32_588 v976
  let v981 : BitVec 32 := Scalar.addi v980 v977
  let c0_i32_629 : BitVec 32 := 0#32
  let c0_i32_630 : BitVec 32 := 0#32
  ![v981.toNat, 0, 0]
def k0_off11 (d0 : Dev nD) : Fin 3 → Nat :=
  let c4_i32_589 : BitVec 32 := 4#32
  let v968 : BitVec 32 := Dev.word d0
  let c4_i32_583 : BitVec 32 := 4#32
  let v969 : BitVec 32 := Scalar.divsi v968 c4_i32_583
  let c2_i32_582 : BitVec 32 := 2#32
  let v970 : BitVec 32 := Scalar.remsi v969 c2_i32_582
  let v978 : BitVec 32 := Scalar.muli c4_i32_589 v970
  let c2_i32_590 : BitVec 32 := 2#32
  let v971 : BitVec 32 := Dev.word d0
  let c2_i32_585 : BitVec 32 := 2#32
  let v972 : BitVec 32 := Scalar.divsi v971 c2_i32_585
  let c2_i32_584 : BitVec 32 := 2#32
  let v973 : BitVec 32 := Scalar.remsi v972 c2_i32_584
  let v979 : BitVec 32 := Scalar.muli c2_i32_590 v973
  let v980 : BitVec 32 := Scalar.addi v978 v979
  let c1_i32_588 : BitVec 32 := 1#32
  let v974 : BitVec 32 := Dev.word d0
  let c1_i32_587 : BitVec 32 := 1#32
  let v975 : BitVec 32 := Scalar.divsi v974 c1_i32_587
  let c2_i32_586 : BitVec 32 := 2#32
  let v976 : BitVec 32 := Scalar.remsi v975 c2_i32_586
  let v977 : BitVec 32 := Scalar.subi c1_i32_588 v976
  let v981 : BitVec 32 := Scalar.addi v980 v977
  let c0_i32_661 : BitVec 32 := 0#32
  let c0_i32_662 : BitVec 32 := 0#32
  ![v981.toNat, 0, 0]
def k0_off12 (d0 : Dev nD) : Fin 3 → Nat :=
  let c4_i32_589 : BitVec 32 := 4#32
  let v968 : BitVec 32 := Dev.word d0
  let c4_i32_583 : BitVec 32 := 4#32
  let v969 : BitVec 32 := Scalar.divsi v968 c4_i32_583
  let c2_i32_582 : BitVec 32 := 2#32
  let v970 : BitVec 32 := Scalar.remsi v969 c2_i32_582
  let v978 : BitVec 32 := Scalar.muli c4_i32_589 v970
  let c2_i32_590 : BitVec 32 := 2#32
  let v971 : BitVec 32 := Dev.word d0
  let c2_i32_585 : BitVec 32 := 2#32
  let v972 : BitVec 32 := Scalar.divsi v971 c2_i32_585
  let c2_i32_584 : BitVec 32 := 2#32
  let v973 : BitVec 32 := Scalar.remsi v972 c2_i32_584
  let v979 : BitVec 32 := Scalar.muli c2_i32_590 v973
  let v980 : BitVec 32 := Scalar.addi v978 v979
  let c1_i32_588 : BitVec 32 := 1#32
  let v974 : BitVec 32 := Dev.word d0
  let c1_i32_587 : BitVec 32 := 1#32
  let v975 : BitVec 32 := Scalar.divsi v974 c1_i32_587
  let c2_i32_586 : BitVec 32 := 2#32
  let v976 : BitVec 32 := Scalar.remsi v975 c2_i32_586
  let v977 : BitVec 32 := Scalar.subi c1_i32_588 v976
  let v981 : BitVec 32 := Scalar.addi v980 v977
  let c0_i32_669 : BitVec 32 := 0#32
  let c0_i32_670 : BitVec 32 := 0#32
  ![v981.toNat, 0, 0]
def k0_off13 (d0 : Dev nD) : Fin 3 → Nat :=
  let c4_i32_678 : BitVec 32 := 4#32
  let v1082 : BitVec 32 := Dev.word d0
  let c4_i32_672 : BitVec 32 := 4#32
  let v1083 : BitVec 32 := Scalar.divsi v1082 c4_i32_672
  let c2_i32_671 : BitVec 32 := 2#32
  let v1084 : BitVec 32 := Scalar.remsi v1083 c2_i32_671
  let v1092 : BitVec 32 := Scalar.muli c4_i32_678 v1084
  let c2_i32_679 : BitVec 32 := 2#32
  let c1_i32_677 : BitVec 32 := 1#32
  let v1085 : BitVec 32 := Dev.word d0
  let c2_i32_674 : BitVec 32 := 2#32
  let v1086 : BitVec 32 := Scalar.divsi v1085 c2_i32_674
  let c2_i32_673 : BitVec 32 := 2#32
  let v1087 : BitVec 32 := Scalar.remsi v1086 c2_i32_673
  let v1091 : BitVec 32 := Scalar.subi c1_i32_677 v1087
  let v1093 : BitVec 32 := Scalar.muli c2_i32_679 v1091
  let v1094 : BitVec 32 := Scalar.addi v1092 v1093
  let v1088 : BitVec 32 := Dev.word d0
  let c1_i32_676 : BitVec 32 := 1#32
  let v1089 : BitVec 32 := Scalar.divsi v1088 c1_i32_676
  let c2_i32_675 : BitVec 32 := 2#32
  let v1090 : BitVec 32 := Scalar.remsi v1089 c2_i32_675
  let v1095 : BitVec 32 := Scalar.addi v1094 v1090
  let c0_i32_686 : BitVec 32 := 0#32
  let c0_i32_687 : BitVec 32 := 0#32
  ![v1095.toNat, 0, 0]
def k0_off14 (d0 : Dev nD) : Fin 3 → Nat :=
  let c4_i32_678 : BitVec 32 := 4#32
  let v1082 : BitVec 32 := Dev.word d0
  let c4_i32_672 : BitVec 32 := 4#32
  let v1083 : BitVec 32 := Scalar.divsi v1082 c4_i32_672
  let c2_i32_671 : BitVec 32 := 2#32
  let v1084 : BitVec 32 := Scalar.remsi v1083 c2_i32_671
  let v1092 : BitVec 32 := Scalar.muli c4_i32_678 v1084
  let c2_i32_679 : BitVec 32 := 2#32
  let c1_i32_677 : BitVec 32 := 1#32
  let v1085 : BitVec 32 := Dev.word d0
  let c2_i32_674 : BitVec 32 := 2#32
  let v1086 : BitVec 32 := Scalar.divsi v1085 c2_i32_674
  let c2_i32_673 : BitVec 32 := 2#32
  let v1087 : BitVec 32 := Scalar.remsi v1086 c2_i32_673
  let v1091 : BitVec 32 := Scalar.subi c1_i32_677 v1087
  let v1093 : BitVec 32 := Scalar.muli c2_i32_679 v1091
  let v1094 : BitVec 32 := Scalar.addi v1092 v1093
  let v1088 : BitVec 32 := Dev.word d0
  let c1_i32_676 : BitVec 32 := 1#32
  let v1089 : BitVec 32 := Scalar.divsi v1088 c1_i32_676
  let c2_i32_675 : BitVec 32 := 2#32
  let v1090 : BitVec 32 := Scalar.remsi v1089 c2_i32_675
  let v1095 : BitVec 32 := Scalar.addi v1094 v1090
  let c0_i32_694 : BitVec 32 := 0#32
  let c0_i32_695 : BitVec 32 := 0#32
  ![v1095.toNat, 0, 0]
def k0_off15 (d0 : Dev nD) : Fin 3 → Nat :=
  let c4_i32_678 : BitVec 32 := 4#32
  let v1082 : BitVec 32 := Dev.word d0
  let c4_i32_672 : BitVec 32 := 4#32
  let v1083 : BitVec 32 := Scalar.divsi v1082 c4_i32_672
  let c2_i32_671 : BitVec 32 := 2#32
  let v1084 : BitVec 32 := Scalar.remsi v1083 c2_i32_671
  let v1092 : BitVec 32 := Scalar.muli c4_i32_678 v1084
  let c2_i32_679 : BitVec 32 := 2#32
  let c1_i32_677 : BitVec 32 := 1#32
  let v1085 : BitVec 32 := Dev.word d0
  let c2_i32_674 : BitVec 32 := 2#32
  let v1086 : BitVec 32 := Scalar.divsi v1085 c2_i32_674
  let c2_i32_673 : BitVec 32 := 2#32
  let v1087 : BitVec 32 := Scalar.remsi v1086 c2_i32_673
  let v1091 : BitVec 32 := Scalar.subi c1_i32_677 v1087
  let v1093 : BitVec 32 := Scalar.muli c2_i32_679 v1091
  let v1094 : BitVec 32 := Scalar.addi v1092 v1093
  let v1088 : BitVec 32 := Dev.word d0
  let c1_i32_676 : BitVec 32 := 1#32
  let v1089 : BitVec 32 := Scalar.divsi v1088 c1_i32_676
  let c2_i32_675 : BitVec 32 := 2#32
  let v1090 : BitVec 32 := Scalar.remsi v1089 c2_i32_675
  let v1095 : BitVec 32 := Scalar.addi v1094 v1090
  let c0_i32_702 : BitVec 32 := 0#32
  let c0_i32_703 : BitVec 32 := 0#32
  ![v1095.toNat, 0, 0]
def k0_off16 (d0 : Dev nD) : Fin 3 → Nat :=
  let c4_i32_678 : BitVec 32 := 4#32
  let v1082 : BitVec 32 := Dev.word d0
  let c4_i32_672 : BitVec 32 := 4#32
  let v1083 : BitVec 32 := Scalar.divsi v1082 c4_i32_672
  let c2_i32_671 : BitVec 32 := 2#32
  let v1084 : BitVec 32 := Scalar.remsi v1083 c2_i32_671
  let v1092 : BitVec 32 := Scalar.muli c4_i32_678 v1084
  let c2_i32_679 : BitVec 32 := 2#32
  let c1_i32_677 : BitVec 32 := 1#32
  let v1085 : BitVec 32 := Dev.word d0
  let c2_i32_674 : BitVec 32 := 2#32
  let v1086 : BitVec 32 := Scalar.divsi v1085 c2_i32_674
  let c2_i32_673 : BitVec 32 := 2#32
  let v1087 : BitVec 32 := Scalar.remsi v1086 c2_i32_673
  let v1091 : BitVec 32 := Scalar.subi c1_i32_677 v1087
  let v1093 : BitVec 32 := Scalar.muli c2_i32_679 v1091
  let v1094 : BitVec 32 := Scalar.addi v1092 v1093
  let v1088 : BitVec 32 := Dev.word d0
  let c1_i32_676 : BitVec 32 := 1#32
  let v1089 : BitVec 32 := Scalar.divsi v1088 c1_i32_676
  let c2_i32_675 : BitVec 32 := 2#32
  let v1090 : BitVec 32 := Scalar.remsi v1089 c2_i32_675
  let v1095 : BitVec 32 := Scalar.addi v1094 v1090
  let c0_i32_718 : BitVec 32 := 0#32
  let c0_i32_719 : BitVec 32 := 0#32
  ![v1095.toNat, 0, 0]
def k0_off17 (d0 : Dev nD) : Fin 3 → Nat :=
  let c4_i32_678 : BitVec 32 := 4#32
  let v1082 : BitVec 32 := Dev.word d0
  let c4_i32_672 : BitVec 32 := 4#32
  let v1083 : BitVec 32 := Scalar.divsi v1082 c4_i32_672
  let c2_i32_671 : BitVec 32 := 2#32
  let v1084 : BitVec 32 := Scalar.remsi v1083 c2_i32_671
  let v1092 : BitVec 32 := Scalar.muli c4_i32_678 v1084
  let c2_i32_679 : BitVec 32 := 2#32
  let c1_i32_677 : BitVec 32 := 1#32
  let v1085 : BitVec 32 := Dev.word d0
  let c2_i32_674 : BitVec 32 := 2#32
  let v1086 : BitVec 32 := Scalar.divsi v1085 c2_i32_674
  let c2_i32_673 : BitVec 32 := 2#32
  let v1087 : BitVec 32 := Scalar.remsi v1086 c2_i32_673
  let v1091 : BitVec 32 := Scalar.subi c1_i32_677 v1087
  let v1093 : BitVec 32 := Scalar.muli c2_i32_679 v1091
  let v1094 : BitVec 32 := Scalar.addi v1092 v1093
  let v1088 : BitVec 32 := Dev.word d0
  let c1_i32_676 : BitVec 32 := 1#32
  let v1089 : BitVec 32 := Scalar.divsi v1088 c1_i32_676
  let c2_i32_675 : BitVec 32 := 2#32
  let v1090 : BitVec 32 := Scalar.remsi v1089 c2_i32_675
  let v1095 : BitVec 32 := Scalar.addi v1094 v1090
  let c0_i32_750 : BitVec 32 := 0#32
  let c0_i32_751 : BitVec 32 := 0#32
  ![v1095.toNat, 0, 0]
def k0_off18 (d0 : Dev nD) : Fin 3 → Nat :=
  let c4_i32_678 : BitVec 32 := 4#32
  let v1082 : BitVec 32 := Dev.word d0
  let c4_i32_672 : BitVec 32 := 4#32
  let v1083 : BitVec 32 := Scalar.divsi v1082 c4_i32_672
  let c2_i32_671 : BitVec 32 := 2#32
  let v1084 : BitVec 32 := Scalar.remsi v1083 c2_i32_671
  let v1092 : BitVec 32 := Scalar.muli c4_i32_678 v1084
  let c2_i32_679 : BitVec 32 := 2#32
  let c1_i32_677 : BitVec 32 := 1#32
  let v1085 : BitVec 32 := Dev.word d0
  let c2_i32_674 : BitVec 32 := 2#32
  let v1086 : BitVec 32 := Scalar.divsi v1085 c2_i32_674
  let c2_i32_673 : BitVec 32 := 2#32
  let v1087 : BitVec 32 := Scalar.remsi v1086 c2_i32_673
  let v1091 : BitVec 32 := Scalar.subi c1_i32_677 v1087
  let v1093 : BitVec 32 := Scalar.muli c2_i32_679 v1091
  let v1094 : BitVec 32 := Scalar.addi v1092 v1093
  let v1088 : BitVec 32 := Dev.word d0
  let c1_i32_676 : BitVec 32 := 1#32
  let v1089 : BitVec 32 := Scalar.divsi v1088 c1_i32_676
  let c2_i32_675 : BitVec 32 := 2#32
  let v1090 : BitVec 32 := Scalar.remsi v1089 c2_i32_675
  let v1095 : BitVec 32 := Scalar.addi v1094 v1090
  let c0_i32_758 : BitVec 32 := 0#32
  let c0_i32_759 : BitVec 32 := 0#32
  ![v1095.toNat, 0, 0]
def k0_off19 (d0 : Dev nD) : Fin 3 → Nat :=
  let c4_i32_768 : BitVec 32 := 4#32
  let v1196 : BitVec 32 := Dev.word d0
  let c4_i32_761 : BitVec 32 := 4#32
  let v1197 : BitVec 32 := Scalar.divsi v1196 c4_i32_761
  let c2_i32_760 : BitVec 32 := 2#32
  let v1198 : BitVec 32 := Scalar.remsi v1197 c2_i32_760
  let v1207 : BitVec 32 := Scalar.muli c4_i32_768 v1198
  let c2_i32_769 : BitVec 32 := 2#32
  let c1_i32_766 : BitVec 32 := 1#32
  let v1199 : BitVec 32 := Dev.word d0
  let c2_i32_763 : BitVec 32 := 2#32
  let v1200 : BitVec 32 := Scalar.divsi v1199 c2_i32_763
  let c2_i32_762 : BitVec 32 := 2#32
  let v1201 : BitVec 32 := Scalar.remsi v1200 c2_i32_762
  let v1205 : BitVec 32 := Scalar.subi c1_i32_766 v1201
  let v1208 : BitVec 32 := Scalar.muli c2_i32_769 v1205
  let v1209 : BitVec 32 := Scalar.addi v1207 v1208
  let c1_i32_767 : BitVec 32 := 1#32
  let v1202 : BitVec 32 := Dev.word d0
  let c1_i32_765 : BitVec 32 := 1#32
  let v1203 : BitVec 32 := Scalar.divsi v1202 c1_i32_765
  let c2_i32_764 : BitVec 32 := 2#32
  let v1204 : BitVec 32 := Scalar.remsi v1203 c2_i32_764
  let v1206 : BitVec 32 := Scalar.subi c1_i32_767 v1204
  let v1210 : BitVec 32 := Scalar.addi v1209 v1206
  let c0_i32_776 : BitVec 32 := 0#32
  let c0_i32_777 : BitVec 32 := 0#32
  ![v1210.toNat, 0, 0]
def k0_off20 (d0 : Dev nD) : Fin 3 → Nat :=
  let c4_i32_768 : BitVec 32 := 4#32
  let v1196 : BitVec 32 := Dev.word d0
  let c4_i32_761 : BitVec 32 := 4#32
  let v1197 : BitVec 32 := Scalar.divsi v1196 c4_i32_761
  let c2_i32_760 : BitVec 32 := 2#32
  let v1198 : BitVec 32 := Scalar.remsi v1197 c2_i32_760
  let v1207 : BitVec 32 := Scalar.muli c4_i32_768 v1198
  let c2_i32_769 : BitVec 32 := 2#32
  let c1_i32_766 : BitVec 32 := 1#32
  let v1199 : BitVec 32 := Dev.word d0
  let c2_i32_763 : BitVec 32 := 2#32
  let v1200 : BitVec 32 := Scalar.divsi v1199 c2_i32_763
  let c2_i32_762 : BitVec 32 := 2#32
  let v1201 : BitVec 32 := Scalar.remsi v1200 c2_i32_762
  let v1205 : BitVec 32 := Scalar.subi c1_i32_766 v1201
  let v1208 : BitVec 32 := Scalar.muli c2_i32_769 v1205
  let v1209 : BitVec 32 := Scalar.addi v1207 v1208
  let c1_i32_767 : BitVec 32 := 1#32
  let v1202 : BitVec 32 := Dev.word d0
  let c1_i32_765 : BitVec 32 := 1#32
  let v1203 : BitVec 32 := Scalar.divsi v1202 c1_i32_765
  let c2_i32_764 : BitVec 32 := 2#32
  let v1204 : BitVec 32 := Scalar.remsi v1203 c2_i32_764
  let v1206 : BitVec 32 := Scalar.subi c1_i32_767 v1204
  let v1210 : BitVec 32 := Scalar.addi v1209 v1206
  let c0_i32_784 : BitVec 32 := 0#32
  let c0_i32_785 : BitVec 32 := 0#32
  ![v1210.toNat, 0, 0]
def k0_off21 (d0 : Dev nD) : Fin 3 → Nat :=
  let c4_i32_768 : BitVec 32 := 4#32
  let v1196 : BitVec 32 := Dev.word d0
  let c4_i32_761 : BitVec 32 := 4#32
  let v1197 : BitVec 32 := Scalar.divsi v1196 c4_i32_761
  let c2_i32_760 : BitVec 32 := 2#32
  let v1198 : BitVec 32 := Scalar.remsi v1197 c2_i32_760
  let v1207 : BitVec 32 := Scalar.muli c4_i32_768 v1198
  let c2_i32_769 : BitVec 32 := 2#32
  let c1_i32_766 : BitVec 32 := 1#32
  let v1199 : BitVec 32 := Dev.word d0
  let c2_i32_763 : BitVec 32 := 2#32
  let v1200 : BitVec 32 := Scalar.divsi v1199 c2_i32_763
  let c2_i32_762 : BitVec 32 := 2#32
  let v1201 : BitVec 32 := Scalar.remsi v1200 c2_i32_762
  let v1205 : BitVec 32 := Scalar.subi c1_i32_766 v1201
  let v1208 : BitVec 32 := Scalar.muli c2_i32_769 v1205
  let v1209 : BitVec 32 := Scalar.addi v1207 v1208
  let c1_i32_767 : BitVec 32 := 1#32
  let v1202 : BitVec 32 := Dev.word d0
  let c1_i32_765 : BitVec 32 := 1#32
  let v1203 : BitVec 32 := Scalar.divsi v1202 c1_i32_765
  let c2_i32_764 : BitVec 32 := 2#32
  let v1204 : BitVec 32 := Scalar.remsi v1203 c2_i32_764
  let v1206 : BitVec 32 := Scalar.subi c1_i32_767 v1204
  let v1210 : BitVec 32 := Scalar.addi v1209 v1206
  let c0_i32_792 : BitVec 32 := 0#32
  let c0_i32_793 : BitVec 32 := 0#32
  ![v1210.toNat, 0, 0]
def k0_off22 (d0 : Dev nD) : Fin 3 → Nat :=
  let c4_i32_768 : BitVec 32 := 4#32
  let v1196 : BitVec 32 := Dev.word d0
  let c4_i32_761 : BitVec 32 := 4#32
  let v1197 : BitVec 32 := Scalar.divsi v1196 c4_i32_761
  let c2_i32_760 : BitVec 32 := 2#32
  let v1198 : BitVec 32 := Scalar.remsi v1197 c2_i32_760
  let v1207 : BitVec 32 := Scalar.muli c4_i32_768 v1198
  let c2_i32_769 : BitVec 32 := 2#32
  let c1_i32_766 : BitVec 32 := 1#32
  let v1199 : BitVec 32 := Dev.word d0
  let c2_i32_763 : BitVec 32 := 2#32
  let v1200 : BitVec 32 := Scalar.divsi v1199 c2_i32_763
  let c2_i32_762 : BitVec 32 := 2#32
  let v1201 : BitVec 32 := Scalar.remsi v1200 c2_i32_762
  let v1205 : BitVec 32 := Scalar.subi c1_i32_766 v1201
  let v1208 : BitVec 32 := Scalar.muli c2_i32_769 v1205
  let v1209 : BitVec 32 := Scalar.addi v1207 v1208
  let c1_i32_767 : BitVec 32 := 1#32
  let v1202 : BitVec 32 := Dev.word d0
  let c1_i32_765 : BitVec 32 := 1#32
  let v1203 : BitVec 32 := Scalar.divsi v1202 c1_i32_765
  let c2_i32_764 : BitVec 32 := 2#32
  let v1204 : BitVec 32 := Scalar.remsi v1203 c2_i32_764
  let v1206 : BitVec 32 := Scalar.subi c1_i32_767 v1204
  let v1210 : BitVec 32 := Scalar.addi v1209 v1206
  let c0_i32_808 : BitVec 32 := 0#32
  let c0_i32_809 : BitVec 32 := 0#32
  ![v1210.toNat, 0, 0]
def k0_off23 (d0 : Dev nD) : Fin 3 → Nat :=
  let c4_i32_768 : BitVec 32 := 4#32
  let v1196 : BitVec 32 := Dev.word d0
  let c4_i32_761 : BitVec 32 := 4#32
  let v1197 : BitVec 32 := Scalar.divsi v1196 c4_i32_761
  let c2_i32_760 : BitVec 32 := 2#32
  let v1198 : BitVec 32 := Scalar.remsi v1197 c2_i32_760
  let v1207 : BitVec 32 := Scalar.muli c4_i32_768 v1198
  let c2_i32_769 : BitVec 32 := 2#32
  let c1_i32_766 : BitVec 32 := 1#32
  let v1199 : BitVec 32 := Dev.word d0
  let c2_i32_763 : BitVec 32 := 2#32
  let v1200 : BitVec 32 := Scalar.divsi v1199 c2_i32_763
  let c2_i32_762 : BitVec 32 := 2#32
  let v1201 : BitVec 32 := Scalar.remsi v1200 c2_i32_762
  let v1205 : BitVec 32 := Scalar.subi c1_i32_766 v1201
  let v1208 : BitVec 32 := Scalar.muli c2_i32_769 v1205
  let v1209 : BitVec 32 := Scalar.addi v1207 v1208
  let c1_i32_767 : BitVec 32 := 1#32
  let v1202 : BitVec 32 := Dev.word d0
  let c1_i32_765 : BitVec 32 := 1#32
  let v1203 : BitVec 32 := Scalar.divsi v1202 c1_i32_765
  let c2_i32_764 : BitVec 32 := 2#32
  let v1204 : BitVec 32 := Scalar.remsi v1203 c2_i32_764
  let v1206 : BitVec 32 := Scalar.subi c1_i32_767 v1204
  let v1210 : BitVec 32 := Scalar.addi v1209 v1206
  let c0_i32_840 : BitVec 32 := 0#32
  let c0_i32_841 : BitVec 32 := 0#32
  ![v1210.toNat, 0, 0]
def k0_off24 (d0 : Dev nD) : Fin 3 → Nat :=
  let c4_i32_768 : BitVec 32 := 4#32
  let v1196 : BitVec 32 := Dev.word d0
  let c4_i32_761 : BitVec 32 := 4#32
  let v1197 : BitVec 32 := Scalar.divsi v1196 c4_i32_761
  let c2_i32_760 : BitVec 32 := 2#32
  let v1198 : BitVec 32 := Scalar.remsi v1197 c2_i32_760
  let v1207 : BitVec 32 := Scalar.muli c4_i32_768 v1198
  let c2_i32_769 : BitVec 32 := 2#32
  let c1_i32_766 : BitVec 32 := 1#32
  let v1199 : BitVec 32 := Dev.word d0
  let c2_i32_763 : BitVec 32 := 2#32
  let v1200 : BitVec 32 := Scalar.divsi v1199 c2_i32_763
  let c2_i32_762 : BitVec 32 := 2#32
  let v1201 : BitVec 32 := Scalar.remsi v1200 c2_i32_762
  let v1205 : BitVec 32 := Scalar.subi c1_i32_766 v1201
  let v1208 : BitVec 32 := Scalar.muli c2_i32_769 v1205
  let v1209 : BitVec 32 := Scalar.addi v1207 v1208
  let c1_i32_767 : BitVec 32 := 1#32
  let v1202 : BitVec 32 := Dev.word d0
  let c1_i32_765 : BitVec 32 := 1#32
  let v1203 : BitVec 32 := Scalar.divsi v1202 c1_i32_765
  let c2_i32_764 : BitVec 32 := 2#32
  let v1204 : BitVec 32 := Scalar.remsi v1203 c2_i32_764
  let v1206 : BitVec 32 := Scalar.subi c1_i32_767 v1204
  let v1210 : BitVec 32 := Scalar.addi v1209 v1206
  let c0_i32_848 : BitVec 32 := 0#32
  let c0_i32_849 : BitVec 32 := 0#32
  ![v1210.toNat, 0, 0]
def k0_off25 (d0 : Dev nD) : Fin 3 → Nat :=
  let c4_i32_857 : BitVec 32 := 4#32
  let c1_i32_856 : BitVec 32 := 1#32
  let v1311 : BitVec 32 := Dev.word d0
  let c4_i32_851 : BitVec 32 := 4#32
  let v1312 : BitVec 32 := Scalar.divsi v1311 c4_i32_851
  let c2_i32_850 : BitVec 32 := 2#32
  let v1313 : BitVec 32 := Scalar.remsi v1312 c2_i32_850
  let v1320 : BitVec 32 := Scalar.subi c1_i32_856 v1313
  let v1321 : BitVec 32 := Scalar.muli c4_i32_857 v1320
  let c2_i32_858 : BitVec 32 := 2#32
  let v1314 : BitVec 32 := Dev.word d0
  let c2_i32_853 : BitVec 32 := 2#32
  let v1315 : BitVec 32 := Scalar.divsi v1314 c2_i32_853
  let c2_i32_852 : BitVec 32 := 2#32
  let v1316 : BitVec 32 := Scalar.remsi v1315 c2_i32_852
  let v1322 : BitVec 32 := Scalar.muli c2_i32_858 v1316
  let v1323 : BitVec 32 := Scalar.addi v1321 v1322
  let v1317 : BitVec 32 := Dev.word d0
  let c1_i32_855 : BitVec 32 := 1#32
  let v1318 : BitVec 32 := Scalar.divsi v1317 c1_i32_855
  let c2_i32_854 : BitVec 32 := 2#32
  let v1319 : BitVec 32 := Scalar.remsi v1318 c2_i32_854
  let v1324 : BitVec 32 := Scalar.addi v1323 v1319
  let c0_i32_865 : BitVec 32 := 0#32
  let c0_i32_866 : BitVec 32 := 0#32
  ![v1324.toNat, 0, 0]
def k0_off26 (d0 : Dev nD) : Fin 3 → Nat :=
  let c4_i32_857 : BitVec 32 := 4#32
  let c1_i32_856 : BitVec 32 := 1#32
  let v1311 : BitVec 32 := Dev.word d0
  let c4_i32_851 : BitVec 32 := 4#32
  let v1312 : BitVec 32 := Scalar.divsi v1311 c4_i32_851
  let c2_i32_850 : BitVec 32 := 2#32
  let v1313 : BitVec 32 := Scalar.remsi v1312 c2_i32_850
  let v1320 : BitVec 32 := Scalar.subi c1_i32_856 v1313
  let v1321 : BitVec 32 := Scalar.muli c4_i32_857 v1320
  let c2_i32_858 : BitVec 32 := 2#32
  let v1314 : BitVec 32 := Dev.word d0
  let c2_i32_853 : BitVec 32 := 2#32
  let v1315 : BitVec 32 := Scalar.divsi v1314 c2_i32_853
  let c2_i32_852 : BitVec 32 := 2#32
  let v1316 : BitVec 32 := Scalar.remsi v1315 c2_i32_852
  let v1322 : BitVec 32 := Scalar.muli c2_i32_858 v1316
  let v1323 : BitVec 32 := Scalar.addi v1321 v1322
  let v1317 : BitVec 32 := Dev.word d0
  let c1_i32_855 : BitVec 32 := 1#32
  let v1318 : BitVec 32 := Scalar.divsi v1317 c1_i32_855
  let c2_i32_854 : BitVec 32 := 2#32
  let v1319 : BitVec 32 := Scalar.remsi v1318 c2_i32_854
  let v1324 : BitVec 32 := Scalar.addi v1323 v1319
  let c0_i32_873 : BitVec 32 := 0#32
  let c0_i32_874 : BitVec 32 := 0#32
  ![v1324.toNat, 0, 0]
def k0_off27 (d0 : Dev nD) : Fin 3 → Nat :=
  let c4_i32_857 : BitVec 32 := 4#32
  let c1_i32_856 : BitVec 32 := 1#32
  let v1311 : BitVec 32 := Dev.word d0
  let c4_i32_851 : BitVec 32 := 4#32
  let v1312 : BitVec 32 := Scalar.divsi v1311 c4_i32_851
  let c2_i32_850 : BitVec 32 := 2#32
  let v1313 : BitVec 32 := Scalar.remsi v1312 c2_i32_850
  let v1320 : BitVec 32 := Scalar.subi c1_i32_856 v1313
  let v1321 : BitVec 32 := Scalar.muli c4_i32_857 v1320
  let c2_i32_858 : BitVec 32 := 2#32
  let v1314 : BitVec 32 := Dev.word d0
  let c2_i32_853 : BitVec 32 := 2#32
  let v1315 : BitVec 32 := Scalar.divsi v1314 c2_i32_853
  let c2_i32_852 : BitVec 32 := 2#32
  let v1316 : BitVec 32 := Scalar.remsi v1315 c2_i32_852
  let v1322 : BitVec 32 := Scalar.muli c2_i32_858 v1316
  let v1323 : BitVec 32 := Scalar.addi v1321 v1322
  let v1317 : BitVec 32 := Dev.word d0
  let c1_i32_855 : BitVec 32 := 1#32
  let v1318 : BitVec 32 := Scalar.divsi v1317 c1_i32_855
  let c2_i32_854 : BitVec 32 := 2#32
  let v1319 : BitVec 32 := Scalar.remsi v1318 c2_i32_854
  let v1324 : BitVec 32 := Scalar.addi v1323 v1319
  let c0_i32_881 : BitVec 32 := 0#32
  let c0_i32_882 : BitVec 32 := 0#32
  ![v1324.toNat, 0, 0]
def k0_off28 (d0 : Dev nD) : Fin 3 → Nat :=
  let c4_i32_857 : BitVec 32 := 4#32
  let c1_i32_856 : BitVec 32 := 1#32
  let v1311 : BitVec 32 := Dev.word d0
  let c4_i32_851 : BitVec 32 := 4#32
  let v1312 : BitVec 32 := Scalar.divsi v1311 c4_i32_851
  let c2_i32_850 : BitVec 32 := 2#32
  let v1313 : BitVec 32 := Scalar.remsi v1312 c2_i32_850
  let v1320 : BitVec 32 := Scalar.subi c1_i32_856 v1313
  let v1321 : BitVec 32 := Scalar.muli c4_i32_857 v1320
  let c2_i32_858 : BitVec 32 := 2#32
  let v1314 : BitVec 32 := Dev.word d0
  let c2_i32_853 : BitVec 32 := 2#32
  let v1315 : BitVec 32 := Scalar.divsi v1314 c2_i32_853
  let c2_i32_852 : BitVec 32 := 2#32
  let v1316 : BitVec 32 := Scalar.remsi v1315 c2_i32_852
  let v1322 : BitVec 32 := Scalar.muli c2_i32_858 v1316
  let v1323 : BitVec 32 := Scalar.addi v1321 v1322
  let v1317 : BitVec 32 := Dev.word d0
  let c1_i32_855 : BitVec 32 := 1#32
  let v1318 : BitVec 32 := Scalar.divsi v1317 c1_i32_855
  let c2_i32_854 : BitVec 32 := 2#32
  let v1319 : BitVec 32 := Scalar.remsi v1318 c2_i32_854
  let v1324 : BitVec 32 := Scalar.addi v1323 v1319
  let c0_i32_897 : BitVec 32 := 0#32
  let c0_i32_898 : BitVec 32 := 0#32
  ![v1324.toNat, 0, 0]
def k0_off29 (d0 : Dev nD) : Fin 3 → Nat :=
  let c4_i32_857 : BitVec 32 := 4#32
  let c1_i32_856 : BitVec 32 := 1#32
  let v1311 : BitVec 32 := Dev.word d0
  let c4_i32_851 : BitVec 32 := 4#32
  let v1312 : BitVec 32 := Scalar.divsi v1311 c4_i32_851
  let c2_i32_850 : BitVec 32 := 2#32
  let v1313 : BitVec 32 := Scalar.remsi v1312 c2_i32_850
  let v1320 : BitVec 32 := Scalar.subi c1_i32_856 v1313
  let v1321 : BitVec 32 := Scalar.muli c4_i32_857 v1320
  let c2_i32_858 : BitVec 32 := 2#32
  let v1314 : BitVec 32 := Dev.word d0
  let c2_i32_853 : BitVec 32 := 2#32
  let v1315 : BitVec 32 := Scalar.divsi v1314 c2_i32_853
  let c2_i32_852 : BitVec 32 := 2#32
  let v1316 : BitVec 32 := Scalar.remsi v1315 c2_i32_852
  let v1322 : BitVec 32 := Scalar.muli c2_i32_858 v1316
  let v1323 : BitVec 32 := Scalar.addi v1321 v1322
  let v1317 : BitVec 32 := Dev.word d0
  let c1_i32_855 : BitVec 32 := 1#32
  let v1318 : BitVec 32 := Scalar.divsi v1317 c1_i32_855
  let c2_i32_854 : BitVec 32 := 2#32
  let v1319 : BitVec 32 := Scalar.remsi v1318 c2_i32_854
  let v1324 : BitVec 32 := Scalar.addi v1323 v1319
  let c0_i32_929 : BitVec 32 := 0#32
  let c0_i32_930 : BitVec 32 := 0#32
  ![v1324.toNat, 0, 0]
def k0_off30 (d0 : Dev nD) : Fin 3 → Nat :=
  let c4_i32_857 : BitVec 32 := 4#32
  let c1_i32_856 : BitVec 32 := 1#32
  let v1311 : BitVec 32 := Dev.word d0
  let c4_i32_851 : BitVec 32 := 4#32
  let v1312 : BitVec 32 := Scalar.divsi v1311 c4_i32_851
  let c2_i32_850 : BitVec 32 := 2#32
  let v1313 : BitVec 32 := Scalar.remsi v1312 c2_i32_850
  let v1320 : BitVec 32 := Scalar.subi c1_i32_856 v1313
  let v1321 : BitVec 32 := Scalar.muli c4_i32_857 v1320
  let c2_i32_858 : BitVec 32 := 2#32
  let v1314 : BitVec 32 := Dev.word d0
  let c2_i32_853 : BitVec 32 := 2#32
  let v1315 : BitVec 32 := Scalar.divsi v1314 c2_i32_853
  let c2_i32_852 : BitVec 32 := 2#32
  let v1316 : BitVec 32 := Scalar.remsi v1315 c2_i32_852
  let v1322 : BitVec 32 := Scalar.muli c2_i32_858 v1316
  let v1323 : BitVec 32 := Scalar.addi v1321 v1322
  let v1317 : BitVec 32 := Dev.word d0
  let c1_i32_855 : BitVec 32 := 1#32
  let v1318 : BitVec 32 := Scalar.divsi v1317 c1_i32_855
  let c2_i32_854 : BitVec 32 := 2#32
  let v1319 : BitVec 32 := Scalar.remsi v1318 c2_i32_854
  let v1324 : BitVec 32 := Scalar.addi v1323 v1319
  let c0_i32_937 : BitVec 32 := 0#32
  let c0_i32_938 : BitVec 32 := 0#32
  ![v1324.toNat, 0, 0]
def k0_off31 (d0 : Dev nD) : Fin 3 → Nat :=
  let c4_i32_947 : BitVec 32 := 4#32
  let c1_i32_945 : BitVec 32 := 1#32
  let v1425 : BitVec 32 := Dev.word d0
  let c4_i32_940 : BitVec 32 := 4#32
  let v1426 : BitVec 32 := Scalar.divsi v1425 c4_i32_940
  let c2_i32_939 : BitVec 32 := 2#32
  let v1427 : BitVec 32 := Scalar.remsi v1426 c2_i32_939
  let v1434 : BitVec 32 := Scalar.subi c1_i32_945 v1427
  let v1436 : BitVec 32 := Scalar.muli c4_i32_947 v1434
  let c2_i32_948 : BitVec 32 := 2#32
  let v1428 : BitVec 32 := Dev.word d0
  let c2_i32_942 : BitVec 32 := 2#32
  let v1429 : BitVec 32 := Scalar.divsi v1428 c2_i32_942
  let c2_i32_941 : BitVec 32 := 2#32
  let v1430 : BitVec 32 := Scalar.remsi v1429 c2_i32_941
  let v1437 : BitVec 32 := Scalar.muli c2_i32_948 v1430
  let v1438 : BitVec 32 := Scalar.addi v1436 v1437
  let c1_i32_946 : BitVec 32 := 1#32
  let v1431 : BitVec 32 := Dev.word d0
  let c1_i32_944 : BitVec 32 := 1#32
  let v1432 : BitVec 32 := Scalar.divsi v1431 c1_i32_944
  let c2_i32_943 : BitVec 32 := 2#32
  let v1433 : BitVec 32 := Scalar.remsi v1432 c2_i32_943
  let v1435 : BitVec 32 := Scalar.subi c1_i32_946 v1433
  let v1439 : BitVec 32 := Scalar.addi v1438 v1435
  let c0_i32_955 : BitVec 32 := 0#32
  let c0_i32_956 : BitVec 32 := 0#32
  ![v1439.toNat, 0, 0]
def k0_off32 (d0 : Dev nD) : Fin 3 → Nat :=
  let c4_i32_947 : BitVec 32 := 4#32
  let c1_i32_945 : BitVec 32 := 1#32
  let v1425 : BitVec 32 := Dev.word d0
  let c4_i32_940 : BitVec 32 := 4#32
  let v1426 : BitVec 32 := Scalar.divsi v1425 c4_i32_940
  let c2_i32_939 : BitVec 32 := 2#32
  let v1427 : BitVec 32 := Scalar.remsi v1426 c2_i32_939
  let v1434 : BitVec 32 := Scalar.subi c1_i32_945 v1427
  let v1436 : BitVec 32 := Scalar.muli c4_i32_947 v1434
  let c2_i32_948 : BitVec 32 := 2#32
  let v1428 : BitVec 32 := Dev.word d0
  let c2_i32_942 : BitVec 32 := 2#32
  let v1429 : BitVec 32 := Scalar.divsi v1428 c2_i32_942
  let c2_i32_941 : BitVec 32 := 2#32
  let v1430 : BitVec 32 := Scalar.remsi v1429 c2_i32_941
  let v1437 : BitVec 32 := Scalar.muli c2_i32_948 v1430
  let v1438 : BitVec 32 := Scalar.addi v1436 v1437
  let c1_i32_946 : BitVec 32 := 1#32
  let v1431 : BitVec 32 := Dev.word d0
  let c1_i32_944 : BitVec 32 := 1#32
  let v1432 : BitVec 32 := Scalar.divsi v1431 c1_i32_944
  let c2_i32_943 : BitVec 32 := 2#32
  let v1433 : BitVec 32 := Scalar.remsi v1432 c2_i32_943
  let v1435 : BitVec 32 := Scalar.subi c1_i32_946 v1433
  let v1439 : BitVec 32 := Scalar.addi v1438 v1435
  let c0_i32_963 : BitVec 32 := 0#32
  let c0_i32_964 : BitVec 32 := 0#32
  ![v1439.toNat, 0, 0]
def k0_off33 (d0 : Dev nD) : Fin 3 → Nat :=
  let c4_i32_947 : BitVec 32 := 4#32
  let c1_i32_945 : BitVec 32 := 1#32
  let v1425 : BitVec 32 := Dev.word d0
  let c4_i32_940 : BitVec 32 := 4#32
  let v1426 : BitVec 32 := Scalar.divsi v1425 c4_i32_940
  let c2_i32_939 : BitVec 32 := 2#32
  let v1427 : BitVec 32 := Scalar.remsi v1426 c2_i32_939
  let v1434 : BitVec 32 := Scalar.subi c1_i32_945 v1427
  let v1436 : BitVec 32 := Scalar.muli c4_i32_947 v1434
  let c2_i32_948 : BitVec 32 := 2#32
  let v1428 : BitVec 32 := Dev.word d0
  let c2_i32_942 : BitVec 32 := 2#32
  let v1429 : BitVec 32 := Scalar.divsi v1428 c2_i32_942
  let c2_i32_941 : BitVec 32 := 2#32
  let v1430 : BitVec 32 := Scalar.remsi v1429 c2_i32_941
  let v1437 : BitVec 32 := Scalar.muli c2_i32_948 v1430
  let v1438 : BitVec 32 := Scalar.addi v1436 v1437
  let c1_i32_946 : BitVec 32 := 1#32
  let v1431 : BitVec 32 := Dev.word d0
  let c1_i32_944 : BitVec 32 := 1#32
  let v1432 : BitVec 32 := Scalar.divsi v1431 c1_i32_944
  let c2_i32_943 : BitVec 32 := 2#32
  let v1433 : BitVec 32 := Scalar.remsi v1432 c2_i32_943
  let v1435 : BitVec 32 := Scalar.subi c1_i32_946 v1433
  let v1439 : BitVec 32 := Scalar.addi v1438 v1435
  let c0_i32_971 : BitVec 32 := 0#32
  let c0_i32_972 : BitVec 32 := 0#32
  ![v1439.toNat, 0, 0]
def k0_off34 (d0 : Dev nD) : Fin 3 → Nat :=
  let c4_i32_947 : BitVec 32 := 4#32
  let c1_i32_945 : BitVec 32 := 1#32
  let v1425 : BitVec 32 := Dev.word d0
  let c4_i32_940 : BitVec 32 := 4#32
  let v1426 : BitVec 32 := Scalar.divsi v1425 c4_i32_940
  let c2_i32_939 : BitVec 32 := 2#32
  let v1427 : BitVec 32 := Scalar.remsi v1426 c2_i32_939
  let v1434 : BitVec 32 := Scalar.subi c1_i32_945 v1427
  let v1436 : BitVec 32 := Scalar.muli c4_i32_947 v1434
  let c2_i32_948 : BitVec 32 := 2#32
  let v1428 : BitVec 32 := Dev.word d0
  let c2_i32_942 : BitVec 32 := 2#32
  let v1429 : BitVec 32 := Scalar.divsi v1428 c2_i32_942
  let c2_i32_941 : BitVec 32 := 2#32
  let v1430 : BitVec 32 := Scalar.remsi v1429 c2_i32_941
  let v1437 : BitVec 32 := Scalar.muli c2_i32_948 v1430
  let v1438 : BitVec 32 := Scalar.addi v1436 v1437
  let c1_i32_946 : BitVec 32 := 1#32
  let v1431 : BitVec 32 := Dev.word d0
  let c1_i32_944 : BitVec 32 := 1#32
  let v1432 : BitVec 32 := Scalar.divsi v1431 c1_i32_944
  let c2_i32_943 : BitVec 32 := 2#32
  let v1433 : BitVec 32 := Scalar.remsi v1432 c2_i32_943
  let v1435 : BitVec 32 := Scalar.subi c1_i32_946 v1433
  let v1439 : BitVec 32 := Scalar.addi v1438 v1435
  let c0_i32_987 : BitVec 32 := 0#32
  let c0_i32_988 : BitVec 32 := 0#32
  ![v1439.toNat, 0, 0]
def k0_off35 (d0 : Dev nD) : Fin 3 → Nat :=
  let c4_i32_947 : BitVec 32 := 4#32
  let c1_i32_945 : BitVec 32 := 1#32
  let v1425 : BitVec 32 := Dev.word d0
  let c4_i32_940 : BitVec 32 := 4#32
  let v1426 : BitVec 32 := Scalar.divsi v1425 c4_i32_940
  let c2_i32_939 : BitVec 32 := 2#32
  let v1427 : BitVec 32 := Scalar.remsi v1426 c2_i32_939
  let v1434 : BitVec 32 := Scalar.subi c1_i32_945 v1427
  let v1436 : BitVec 32 := Scalar.muli c4_i32_947 v1434
  let c2_i32_948 : BitVec 32 := 2#32
  let v1428 : BitVec 32 := Dev.word d0
  let c2_i32_942 : BitVec 32 := 2#32
  let v1429 : BitVec 32 := Scalar.divsi v1428 c2_i32_942
  let c2_i32_941 : BitVec 32 := 2#32
  let v1430 : BitVec 32 := Scalar.remsi v1429 c2_i32_941
  let v1437 : BitVec 32 := Scalar.muli c2_i32_948 v1430
  let v1438 : BitVec 32 := Scalar.addi v1436 v1437
  let c1_i32_946 : BitVec 32 := 1#32
  let v1431 : BitVec 32 := Dev.word d0
  let c1_i32_944 : BitVec 32 := 1#32
  let v1432 : BitVec 32 := Scalar.divsi v1431 c1_i32_944
  let c2_i32_943 : BitVec 32 := 2#32
  let v1433 : BitVec 32 := Scalar.remsi v1432 c2_i32_943
  let v1435 : BitVec 32 := Scalar.subi c1_i32_946 v1433
  let v1439 : BitVec 32 := Scalar.addi v1438 v1435
  let c0_i32_1019 : BitVec 32 := 0#32
  let c0_i32_1020 : BitVec 32 := 0#32
  ![v1439.toNat, 0, 0]
def k0_off36 (d0 : Dev nD) : Fin 3 → Nat :=
  let c4_i32_947 : BitVec 32 := 4#32
  let c1_i32_945 : BitVec 32 := 1#32
  let v1425 : BitVec 32 := Dev.word d0
  let c4_i32_940 : BitVec 32 := 4#32
  let v1426 : BitVec 32 := Scalar.divsi v1425 c4_i32_940
  let c2_i32_939 : BitVec 32 := 2#32
  let v1427 : BitVec 32 := Scalar.remsi v1426 c2_i32_939
  let v1434 : BitVec 32 := Scalar.subi c1_i32_945 v1427
  let v1436 : BitVec 32 := Scalar.muli c4_i32_947 v1434
  let c2_i32_948 : BitVec 32 := 2#32
  let v1428 : BitVec 32 := Dev.word d0
  let c2_i32_942 : BitVec 32 := 2#32
  let v1429 : BitVec 32 := Scalar.divsi v1428 c2_i32_942
  let c2_i32_941 : BitVec 32 := 2#32
  let v1430 : BitVec 32 := Scalar.remsi v1429 c2_i32_941
  let v1437 : BitVec 32 := Scalar.muli c2_i32_948 v1430
  let v1438 : BitVec 32 := Scalar.addi v1436 v1437
  let c1_i32_946 : BitVec 32 := 1#32
  let v1431 : BitVec 32 := Dev.word d0
  let c1_i32_944 : BitVec 32 := 1#32
  let v1432 : BitVec 32 := Scalar.divsi v1431 c1_i32_944
  let c2_i32_943 : BitVec 32 := 2#32
  let v1433 : BitVec 32 := Scalar.remsi v1432 c2_i32_943
  let v1435 : BitVec 32 := Scalar.subi c1_i32_946 v1433
  let v1439 : BitVec 32 := Scalar.addi v1438 v1435
  let c0_i32_1027 : BitVec 32 := 0#32
  let c0_i32_1028 : BitVec 32 := 0#32
  ![v1439.toNat, 0, 0]
def k0_off37 (d0 : Dev nD) : Fin 3 → Nat :=
  let c4_i32_1037 : BitVec 32 := 4#32
  let c1_i32_1035 : BitVec 32 := 1#32
  let v1540 : BitVec 32 := Dev.word d0
  let c4_i32_1030 : BitVec 32 := 4#32
  let v1541 : BitVec 32 := Scalar.divsi v1540 c4_i32_1030
  let c2_i32_1029 : BitVec 32 := 2#32
  let v1542 : BitVec 32 := Scalar.remsi v1541 c2_i32_1029
  let v1549 : BitVec 32 := Scalar.subi c1_i32_1035 v1542
  let v1551 : BitVec 32 := Scalar.muli c4_i32_1037 v1549
  let c2_i32_1038 : BitVec 32 := 2#32
  let c1_i32_1036 : BitVec 32 := 1#32
  let v1543 : BitVec 32 := Dev.word d0
  let c2_i32_1032 : BitVec 32 := 2#32
  let v1544 : BitVec 32 := Scalar.divsi v1543 c2_i32_1032
  let c2_i32_1031 : BitVec 32 := 2#32
  let v1545 : BitVec 32 := Scalar.remsi v1544 c2_i32_1031
  let v1550 : BitVec 32 := Scalar.subi c1_i32_1036 v1545
  let v1552 : BitVec 32 := Scalar.muli c2_i32_1038 v1550
  let v1553 : BitVec 32 := Scalar.addi v1551 v1552
  let v1546 : BitVec 32 := Dev.word d0
  let c1_i32_1034 : BitVec 32 := 1#32
  let v1547 : BitVec 32 := Scalar.divsi v1546 c1_i32_1034
  let c2_i32_1033 : BitVec 32 := 2#32
  let v1548 : BitVec 32 := Scalar.remsi v1547 c2_i32_1033
  let v1554 : BitVec 32 := Scalar.addi v1553 v1548
  let c0_i32_1045 : BitVec 32 := 0#32
  let c0_i32_1046 : BitVec 32 := 0#32
  ![v1554.toNat, 0, 0]
def k0_off38 (d0 : Dev nD) : Fin 3 → Nat :=
  let c4_i32_1037 : BitVec 32 := 4#32
  let c1_i32_1035 : BitVec 32 := 1#32
  let v1540 : BitVec 32 := Dev.word d0
  let c4_i32_1030 : BitVec 32 := 4#32
  let v1541 : BitVec 32 := Scalar.divsi v1540 c4_i32_1030
  let c2_i32_1029 : BitVec 32 := 2#32
  let v1542 : BitVec 32 := Scalar.remsi v1541 c2_i32_1029
  let v1549 : BitVec 32 := Scalar.subi c1_i32_1035 v1542
  let v1551 : BitVec 32 := Scalar.muli c4_i32_1037 v1549
  let c2_i32_1038 : BitVec 32 := 2#32
  let c1_i32_1036 : BitVec 32 := 1#32
  let v1543 : BitVec 32 := Dev.word d0
  let c2_i32_1032 : BitVec 32 := 2#32
  let v1544 : BitVec 32 := Scalar.divsi v1543 c2_i32_1032
  let c2_i32_1031 : BitVec 32 := 2#32
  let v1545 : BitVec 32 := Scalar.remsi v1544 c2_i32_1031
  let v1550 : BitVec 32 := Scalar.subi c1_i32_1036 v1545
  let v1552 : BitVec 32 := Scalar.muli c2_i32_1038 v1550
  let v1553 : BitVec 32 := Scalar.addi v1551 v1552
  let v1546 : BitVec 32 := Dev.word d0
  let c1_i32_1034 : BitVec 32 := 1#32
  let v1547 : BitVec 32 := Scalar.divsi v1546 c1_i32_1034
  let c2_i32_1033 : BitVec 32 := 2#32
  let v1548 : BitVec 32 := Scalar.remsi v1547 c2_i32_1033
  let v1554 : BitVec 32 := Scalar.addi v1553 v1548
  let c0_i32_1053 : BitVec 32 := 0#32
  let c0_i32_1054 : BitVec 32 := 0#32
  ![v1554.toNat, 0, 0]
def k0_off39 (d0 : Dev nD) : Fin 3 → Nat :=
  let c4_i32_1037 : BitVec 32 := 4#32
  let c1_i32_1035 : BitVec 32 := 1#32
  let v1540 : BitVec 32 := Dev.word d0
  let c4_i32_1030 : BitVec 32 := 4#32
  let v1541 : BitVec 32 := Scalar.divsi v1540 c4_i32_1030
  let c2_i32_1029 : BitVec 32 := 2#32
  let v1542 : BitVec 32 := Scalar.remsi v1541 c2_i32_1029
  let v1549 : BitVec 32 := Scalar.subi c1_i32_1035 v1542
  let v1551 : BitVec 32 := Scalar.muli c4_i32_1037 v1549
  let c2_i32_1038 : BitVec 32 := 2#32
  let c1_i32_1036 : BitVec 32 := 1#32
  let v1543 : BitVec 32 := Dev.word d0
  let c2_i32_1032 : BitVec 32 := 2#32
  let v1544 : BitVec 32 := Scalar.divsi v1543 c2_i32_1032
  let c2_i32_1031 : BitVec 32 := 2#32
  let v1545 : BitVec 32 := Scalar.remsi v1544 c2_i32_1031
  let v1550 : BitVec 32 := Scalar.subi c1_i32_1036 v1545
  let v1552 : BitVec 32 := Scalar.muli c2_i32_1038 v1550
  let v1553 : BitVec 32 := Scalar.addi v1551 v1552
  let v1546 : BitVec 32 := Dev.word d0
  let c1_i32_1034 : BitVec 32 := 1#32
  let v1547 : BitVec 32 := Scalar.divsi v1546 c1_i32_1034
  let c2_i32_1033 : BitVec 32 := 2#32
  let v1548 : BitVec 32 := Scalar.remsi v1547 c2_i32_1033
  let v1554 : BitVec 32 := Scalar.addi v1553 v1548
  let c0_i32_1061 : BitVec 32 := 0#32
  let c0_i32_1062 : BitVec 32 := 0#32
  ![v1554.toNat, 0, 0]
def k0_off40 (d0 : Dev nD) : Fin 3 → Nat :=
  let c4_i32_1037 : BitVec 32 := 4#32
  let c1_i32_1035 : BitVec 32 := 1#32
  let v1540 : BitVec 32 := Dev.word d0
  let c4_i32_1030 : BitVec 32 := 4#32
  let v1541 : BitVec 32 := Scalar.divsi v1540 c4_i32_1030
  let c2_i32_1029 : BitVec 32 := 2#32
  let v1542 : BitVec 32 := Scalar.remsi v1541 c2_i32_1029
  let v1549 : BitVec 32 := Scalar.subi c1_i32_1035 v1542
  let v1551 : BitVec 32 := Scalar.muli c4_i32_1037 v1549
  let c2_i32_1038 : BitVec 32 := 2#32
  let c1_i32_1036 : BitVec 32 := 1#32
  let v1543 : BitVec 32 := Dev.word d0
  let c2_i32_1032 : BitVec 32 := 2#32
  let v1544 : BitVec 32 := Scalar.divsi v1543 c2_i32_1032
  let c2_i32_1031 : BitVec 32 := 2#32
  let v1545 : BitVec 32 := Scalar.remsi v1544 c2_i32_1031
  let v1550 : BitVec 32 := Scalar.subi c1_i32_1036 v1545
  let v1552 : BitVec 32 := Scalar.muli c2_i32_1038 v1550
  let v1553 : BitVec 32 := Scalar.addi v1551 v1552
  let v1546 : BitVec 32 := Dev.word d0
  let c1_i32_1034 : BitVec 32 := 1#32
  let v1547 : BitVec 32 := Scalar.divsi v1546 c1_i32_1034
  let c2_i32_1033 : BitVec 32 := 2#32
  let v1548 : BitVec 32 := Scalar.remsi v1547 c2_i32_1033
  let v1554 : BitVec 32 := Scalar.addi v1553 v1548
  let c0_i32_1077 : BitVec 32 := 0#32
  let c0_i32_1078 : BitVec 32 := 0#32
  ![v1554.toNat, 0, 0]
def k0_off41 (d0 : Dev nD) : Fin 3 → Nat :=
  let c4_i32_1037 : BitVec 32 := 4#32
  let c1_i32_1035 : BitVec 32 := 1#32
  let v1540 : BitVec 32 := Dev.word d0
  let c4_i32_1030 : BitVec 32 := 4#32
  let v1541 : BitVec 32 := Scalar.divsi v1540 c4_i32_1030
  let c2_i32_1029 : BitVec 32 := 2#32
  let v1542 : BitVec 32 := Scalar.remsi v1541 c2_i32_1029
  let v1549 : BitVec 32 := Scalar.subi c1_i32_1035 v1542
  let v1551 : BitVec 32 := Scalar.muli c4_i32_1037 v1549
  let c2_i32_1038 : BitVec 32 := 2#32
  let c1_i32_1036 : BitVec 32 := 1#32
  let v1543 : BitVec 32 := Dev.word d0
  let c2_i32_1032 : BitVec 32 := 2#32
  let v1544 : BitVec 32 := Scalar.divsi v1543 c2_i32_1032
  let c2_i32_1031 : BitVec 32 := 2#32
  let v1545 : BitVec 32 := Scalar.remsi v1544 c2_i32_1031
  let v1550 : BitVec 32 := Scalar.subi c1_i32_1036 v1545
  let v1552 : BitVec 32 := Scalar.muli c2_i32_1038 v1550
  let v1553 : BitVec 32 := Scalar.addi v1551 v1552
  let v1546 : BitVec 32 := Dev.word d0
  let c1_i32_1034 : BitVec 32 := 1#32
  let v1547 : BitVec 32 := Scalar.divsi v1546 c1_i32_1034
  let c2_i32_1033 : BitVec 32 := 2#32
  let v1548 : BitVec 32 := Scalar.remsi v1547 c2_i32_1033
  let v1554 : BitVec 32 := Scalar.addi v1553 v1548
  let c0_i32_1109 : BitVec 32 := 0#32
  let c0_i32_1110 : BitVec 32 := 0#32
  ![v1554.toNat, 0, 0]
def k0_off42 (d0 : Dev nD) : Fin 3 → Nat :=
  let c4_i32_1037 : BitVec 32 := 4#32
  let c1_i32_1035 : BitVec 32 := 1#32
  let v1540 : BitVec 32 := Dev.word d0
  let c4_i32_1030 : BitVec 32 := 4#32
  let v1541 : BitVec 32 := Scalar.divsi v1540 c4_i32_1030
  let c2_i32_1029 : BitVec 32 := 2#32
  let v1542 : BitVec 32 := Scalar.remsi v1541 c2_i32_1029
  let v1549 : BitVec 32 := Scalar.subi c1_i32_1035 v1542
  let v1551 : BitVec 32 := Scalar.muli c4_i32_1037 v1549
  let c2_i32_1038 : BitVec 32 := 2#32
  let c1_i32_1036 : BitVec 32 := 1#32
  let v1543 : BitVec 32 := Dev.word d0
  let c2_i32_1032 : BitVec 32 := 2#32
  let v1544 : BitVec 32 := Scalar.divsi v1543 c2_i32_1032
  let c2_i32_1031 : BitVec 32 := 2#32
  let v1545 : BitVec 32 := Scalar.remsi v1544 c2_i32_1031
  let v1550 : BitVec 32 := Scalar.subi c1_i32_1036 v1545
  let v1552 : BitVec 32 := Scalar.muli c2_i32_1038 v1550
  let v1553 : BitVec 32 := Scalar.addi v1551 v1552
  let v1546 : BitVec 32 := Dev.word d0
  let c1_i32_1034 : BitVec 32 := 1#32
  let v1547 : BitVec 32 := Scalar.divsi v1546 c1_i32_1034
  let c2_i32_1033 : BitVec 32 := 2#32
  let v1548 : BitVec 32 := Scalar.remsi v1547 c2_i32_1033
  let v1554 : BitVec 32 := Scalar.addi v1553 v1548
  let c0_i32_1117 : BitVec 32 := 0#32
  let c0_i32_1118 : BitVec 32 := 0#32
  ![v1554.toNat, 0, 0]
def k0_off43 (d0 : Dev nD) : Fin 3 → Nat :=
  let c4_i32_1128 : BitVec 32 := 4#32
  let c1_i32_1125 : BitVec 32 := 1#32
  let v1655 : BitVec 32 := Dev.word d0
  let c4_i32_1120 : BitVec 32 := 4#32
  let v1656 : BitVec 32 := Scalar.divsi v1655 c4_i32_1120
  let c2_i32_1119 : BitVec 32 := 2#32
  let v1657 : BitVec 32 := Scalar.remsi v1656 c2_i32_1119
  let v1664 : BitVec 32 := Scalar.subi c1_i32_1125 v1657
  let v1667 : BitVec 32 := Scalar.muli c4_i32_1128 v1664
  let c2_i32_1129 : BitVec 32 := 2#32
  let c1_i32_1126 : BitVec 32 := 1#32
  let v1658 : BitVec 32 := Dev.word d0
  let c2_i32_1122 : BitVec 32 := 2#32
  let v1659 : BitVec 32 := Scalar.divsi v1658 c2_i32_1122
  let c2_i32_1121 : BitVec 32 := 2#32
  let v1660 : BitVec 32 := Scalar.remsi v1659 c2_i32_1121
  let v1665 : BitVec 32 := Scalar.subi c1_i32_1126 v1660
  let v1668 : BitVec 32 := Scalar.muli c2_i32_1129 v1665
  let v1669 : BitVec 32 := Scalar.addi v1667 v1668
  let c1_i32_1127 : BitVec 32 := 1#32
  let v1661 : BitVec 32 := Dev.word d0
  let c1_i32_1124 : BitVec 32 := 1#32
  let v1662 : BitVec 32 := Scalar.divsi v1661 c1_i32_1124
  let c2_i32_1123 : BitVec 32 := 2#32
  let v1663 : BitVec 32 := Scalar.remsi v1662 c2_i32_1123
  let v1666 : BitVec 32 := Scalar.subi c1_i32_1127 v1663
  let v1670 : BitVec 32 := Scalar.addi v1669 v1666
  let c0_i32_1136 : BitVec 32 := 0#32
  let c0_i32_1137 : BitVec 32 := 0#32
  ![v1670.toNat, 0, 0]
def k0_off44 (d0 : Dev nD) : Fin 3 → Nat :=
  let c4_i32_1128 : BitVec 32 := 4#32
  let c1_i32_1125 : BitVec 32 := 1#32
  let v1655 : BitVec 32 := Dev.word d0
  let c4_i32_1120 : BitVec 32 := 4#32
  let v1656 : BitVec 32 := Scalar.divsi v1655 c4_i32_1120
  let c2_i32_1119 : BitVec 32 := 2#32
  let v1657 : BitVec 32 := Scalar.remsi v1656 c2_i32_1119
  let v1664 : BitVec 32 := Scalar.subi c1_i32_1125 v1657
  let v1667 : BitVec 32 := Scalar.muli c4_i32_1128 v1664
  let c2_i32_1129 : BitVec 32 := 2#32
  let c1_i32_1126 : BitVec 32 := 1#32
  let v1658 : BitVec 32 := Dev.word d0
  let c2_i32_1122 : BitVec 32 := 2#32
  let v1659 : BitVec 32 := Scalar.divsi v1658 c2_i32_1122
  let c2_i32_1121 : BitVec 32 := 2#32
  let v1660 : BitVec 32 := Scalar.remsi v1659 c2_i32_1121
  let v1665 : BitVec 32 := Scalar.subi c1_i32_1126 v1660
  let v1668 : BitVec 32 := Scalar.muli c2_i32_1129 v1665
  let v1669 : BitVec 32 := Scalar.addi v1667 v1668
  let c1_i32_1127 : BitVec 32 := 1#32
  let v1661 : BitVec 32 := Dev.word d0
  let c1_i32_1124 : BitVec 32 := 1#32
  let v1662 : BitVec 32 := Scalar.divsi v1661 c1_i32_1124
  let c2_i32_1123 : BitVec 32 := 2#32
  let v1663 : BitVec 32 := Scalar.remsi v1662 c2_i32_1123
  let v1666 : BitVec 32 := Scalar.subi c1_i32_1127 v1663
  let v1670 : BitVec 32 := Scalar.addi v1669 v1666
  let c0_i32_1144 : BitVec 32 := 0#32
  let c0_i32_1145 : BitVec 32 := 0#32
  ![v1670.toNat, 0, 0]
def k0_off45 (d0 : Dev nD) : Fin 3 → Nat :=
  let c4_i32_1128 : BitVec 32 := 4#32
  let c1_i32_1125 : BitVec 32 := 1#32
  let v1655 : BitVec 32 := Dev.word d0
  let c4_i32_1120 : BitVec 32 := 4#32
  let v1656 : BitVec 32 := Scalar.divsi v1655 c4_i32_1120
  let c2_i32_1119 : BitVec 32 := 2#32
  let v1657 : BitVec 32 := Scalar.remsi v1656 c2_i32_1119
  let v1664 : BitVec 32 := Scalar.subi c1_i32_1125 v1657
  let v1667 : BitVec 32 := Scalar.muli c4_i32_1128 v1664
  let c2_i32_1129 : BitVec 32 := 2#32
  let c1_i32_1126 : BitVec 32 := 1#32
  let v1658 : BitVec 32 := Dev.word d0
  let c2_i32_1122 : BitVec 32 := 2#32
  let v1659 : BitVec 32 := Scalar.divsi v1658 c2_i32_1122
  let c2_i32_1121 : BitVec 32 := 2#32
  let v1660 : BitVec 32 := Scalar.remsi v1659 c2_i32_1121
  let v1665 : BitVec 32 := Scalar.subi c1_i32_1126 v1660
  let v1668 : BitVec 32 := Scalar.muli c2_i32_1129 v1665
  let v1669 : BitVec 32 := Scalar.addi v1667 v1668
  let c1_i32_1127 : BitVec 32 := 1#32
  let v1661 : BitVec 32 := Dev.word d0
  let c1_i32_1124 : BitVec 32 := 1#32
  let v1662 : BitVec 32 := Scalar.divsi v1661 c1_i32_1124
  let c2_i32_1123 : BitVec 32 := 2#32
  let v1663 : BitVec 32 := Scalar.remsi v1662 c2_i32_1123
  let v1666 : BitVec 32 := Scalar.subi c1_i32_1127 v1663
  let v1670 : BitVec 32 := Scalar.addi v1669 v1666
  let c0_i32_1152 : BitVec 32 := 0#32
  let c0_i32_1153 : BitVec 32 := 0#32
  ![v1670.toNat, 0, 0]
def k0_off46 (d0 : Dev nD) : Fin 3 → Nat :=
  let c4_i32_1128 : BitVec 32 := 4#32
  let c1_i32_1125 : BitVec 32 := 1#32
  let v1655 : BitVec 32 := Dev.word d0
  let c4_i32_1120 : BitVec 32 := 4#32
  let v1656 : BitVec 32 := Scalar.divsi v1655 c4_i32_1120
  let c2_i32_1119 : BitVec 32 := 2#32
  let v1657 : BitVec 32 := Scalar.remsi v1656 c2_i32_1119
  let v1664 : BitVec 32 := Scalar.subi c1_i32_1125 v1657
  let v1667 : BitVec 32 := Scalar.muli c4_i32_1128 v1664
  let c2_i32_1129 : BitVec 32 := 2#32
  let c1_i32_1126 : BitVec 32 := 1#32
  let v1658 : BitVec 32 := Dev.word d0
  let c2_i32_1122 : BitVec 32 := 2#32
  let v1659 : BitVec 32 := Scalar.divsi v1658 c2_i32_1122
  let c2_i32_1121 : BitVec 32 := 2#32
  let v1660 : BitVec 32 := Scalar.remsi v1659 c2_i32_1121
  let v1665 : BitVec 32 := Scalar.subi c1_i32_1126 v1660
  let v1668 : BitVec 32 := Scalar.muli c2_i32_1129 v1665
  let v1669 : BitVec 32 := Scalar.addi v1667 v1668
  let c1_i32_1127 : BitVec 32 := 1#32
  let v1661 : BitVec 32 := Dev.word d0
  let c1_i32_1124 : BitVec 32 := 1#32
  let v1662 : BitVec 32 := Scalar.divsi v1661 c1_i32_1124
  let c2_i32_1123 : BitVec 32 := 2#32
  let v1663 : BitVec 32 := Scalar.remsi v1662 c2_i32_1123
  let v1666 : BitVec 32 := Scalar.subi c1_i32_1127 v1663
  let v1670 : BitVec 32 := Scalar.addi v1669 v1666
  let c0_i32_1168 : BitVec 32 := 0#32
  let c0_i32_1169 : BitVec 32 := 0#32
  ![v1670.toNat, 0, 0]
def k0_off47 (d0 : Dev nD) : Fin 3 → Nat :=
  let c4_i32_1128 : BitVec 32 := 4#32
  let c1_i32_1125 : BitVec 32 := 1#32
  let v1655 : BitVec 32 := Dev.word d0
  let c4_i32_1120 : BitVec 32 := 4#32
  let v1656 : BitVec 32 := Scalar.divsi v1655 c4_i32_1120
  let c2_i32_1119 : BitVec 32 := 2#32
  let v1657 : BitVec 32 := Scalar.remsi v1656 c2_i32_1119
  let v1664 : BitVec 32 := Scalar.subi c1_i32_1125 v1657
  let v1667 : BitVec 32 := Scalar.muli c4_i32_1128 v1664
  let c2_i32_1129 : BitVec 32 := 2#32
  let c1_i32_1126 : BitVec 32 := 1#32
  let v1658 : BitVec 32 := Dev.word d0
  let c2_i32_1122 : BitVec 32 := 2#32
  let v1659 : BitVec 32 := Scalar.divsi v1658 c2_i32_1122
  let c2_i32_1121 : BitVec 32 := 2#32
  let v1660 : BitVec 32 := Scalar.remsi v1659 c2_i32_1121
  let v1665 : BitVec 32 := Scalar.subi c1_i32_1126 v1660
  let v1668 : BitVec 32 := Scalar.muli c2_i32_1129 v1665
  let v1669 : BitVec 32 := Scalar.addi v1667 v1668
  let c1_i32_1127 : BitVec 32 := 1#32
  let v1661 : BitVec 32 := Dev.word d0
  let c1_i32_1124 : BitVec 32 := 1#32
  let v1662 : BitVec 32 := Scalar.divsi v1661 c1_i32_1124
  let c2_i32_1123 : BitVec 32 := 2#32
  let v1663 : BitVec 32 := Scalar.remsi v1662 c2_i32_1123
  let v1666 : BitVec 32 := Scalar.subi c1_i32_1127 v1663
  let v1670 : BitVec 32 := Scalar.addi v1669 v1666
  let c0_i32_1200 : BitVec 32 := 0#32
  let c0_i32_1201 : BitVec 32 := 0#32
  ![v1670.toNat, 0, 0]
def k0_off48 (d0 : Dev nD) : Fin 3 → Nat :=
  let c4_i32_1128 : BitVec 32 := 4#32
  let c1_i32_1125 : BitVec 32 := 1#32
  let v1655 : BitVec 32 := Dev.word d0
  let c4_i32_1120 : BitVec 32 := 4#32
  let v1656 : BitVec 32 := Scalar.divsi v1655 c4_i32_1120
  let c2_i32_1119 : BitVec 32 := 2#32
  let v1657 : BitVec 32 := Scalar.remsi v1656 c2_i32_1119
  let v1664 : BitVec 32 := Scalar.subi c1_i32_1125 v1657
  let v1667 : BitVec 32 := Scalar.muli c4_i32_1128 v1664
  let c2_i32_1129 : BitVec 32 := 2#32
  let c1_i32_1126 : BitVec 32 := 1#32
  let v1658 : BitVec 32 := Dev.word d0
  let c2_i32_1122 : BitVec 32 := 2#32
  let v1659 : BitVec 32 := Scalar.divsi v1658 c2_i32_1122
  let c2_i32_1121 : BitVec 32 := 2#32
  let v1660 : BitVec 32 := Scalar.remsi v1659 c2_i32_1121
  let v1665 : BitVec 32 := Scalar.subi c1_i32_1126 v1660
  let v1668 : BitVec 32 := Scalar.muli c2_i32_1129 v1665
  let v1669 : BitVec 32 := Scalar.addi v1667 v1668
  let c1_i32_1127 : BitVec 32 := 1#32
  let v1661 : BitVec 32 := Dev.word d0
  let c1_i32_1124 : BitVec 32 := 1#32
  let v1662 : BitVec 32 := Scalar.divsi v1661 c1_i32_1124
  let c2_i32_1123 : BitVec 32 := 2#32
  let v1663 : BitVec 32 := Scalar.remsi v1662 c2_i32_1123
  let v1666 : BitVec 32 := Scalar.subi c1_i32_1127 v1663
  let v1670 : BitVec 32 := Scalar.addi v1669 v1666
  let c0_i32_1208 : BitVec 32 := 0#32
  let c0_i32_1209 : BitVec 32 := 0#32
  ![v1670.toNat, 0, 0]
-- ==== GatherRef.lean ====
abbrev S6144x2048 : Shape := ⟨2, ![6144, 2048]⟩
abbrev S8192x2048 : Shape := ⟨2, ![8192, 2048]⟩
abbrev S2560x2048 : Shape := ⟨2, ![2560, 2048]⟩
abbrev S2048x2048 : Shape := ⟨2, ![2048, 2048]⟩
abbrev S16x2048 : Shape := ⟨2, ![16, 2048]⟩
abbrev S3x2048 : Shape := ⟨2, ![3, 2048]⟩
abbrev S8x768x2048 : Shape := ⟨3, ![8, 768, 2048]⟩
abbrev S8x1024x2048 : Shape := ⟨3, ![8, 1024, 2048]⟩
abbrev S8x320x2048 : Shape := ⟨3, ![8, 320, 2048]⟩
abbrev S8x256x2048 : Shape := ⟨3, ![8, 256, 2048]⟩
abbrev S16x8x256 : Shape := ⟨3, ![16, 8, 256]⟩
abbrev S8x16x256 : Shape := ⟨3, ![8, 16, 256]⟩
abbrev S3x8x256 : Shape := ⟨3, ![3, 8, 256]⟩
abbrev S8x3x256 : Shape := ⟨3, ![8, 3, 256]⟩

abbrev nBuf : Space → Nat
  | .hbm => 22
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S8192x2048, .bf16⟩
  | .hbm, ⟨2, _⟩ => ⟨S2560x2048, .bf16⟩
  | .hbm, ⟨3, _⟩ => ⟨S8192x2048, .bf16⟩
  | .hbm, ⟨4, _⟩ => ⟨S2048x2048, .bf16⟩
  | .hbm, ⟨5, _⟩ => ⟨S8192x2048, .bf16⟩
  | .hbm, ⟨6, _⟩ => ⟨S2048x2048, .bf16⟩
  | .hbm, ⟨7, _⟩ => ⟨S8192x2048, .bf16⟩
  | .hbm, ⟨8, _⟩ => ⟨S16x2048, .f32⟩
  | .hbm, ⟨9, _⟩ => ⟨S3x2048, .f32⟩
  | .hbm, ⟨10, _⟩ => ⟨S8x768x2048, .bf16⟩
  | .hbm, ⟨11, _⟩ => ⟨S8x1024x2048, .bf16⟩
  | .hbm, ⟨12, _⟩ => ⟨S8x320x2048, .bf16⟩
  | .hbm, ⟨13, _⟩ => ⟨S8x1024x2048, .bf16⟩
  | .hbm, ⟨14, _⟩ => ⟨S8x256x2048, .bf16⟩
  | .hbm, ⟨15, _⟩ => ⟨S8x1024x2048, .bf16⟩
  | .hbm, ⟨16, _⟩ => ⟨S8x256x2048, .bf16⟩
  | .hbm, ⟨17, _⟩ => ⟨S8x1024x2048, .bf16⟩
  | .hbm, ⟨18, _⟩ => ⟨S16x8x256, .f32⟩
  | .hbm, ⟨19, _⟩ => ⟨S8x16x256, .f32⟩
  | .hbm, ⟨20, _⟩ => ⟨S3x8x256, .f32⟩
  | .hbm, ⟨21, _⟩ => ⟨S8x3x256, .f32⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Small.lean ====
abbrev S32x2048 : Shape := ⟨2, ![32, 2048]⟩
abbrev S8x32x2048 : Shape := ⟨3, ![8, 32, 2048]⟩
abbrev S7 : Shape := ⟨1, ![7]⟩
abbrev S1 : Shape := ⟨1, ![1]⟩
abbrev S_ : Shape := ⟨0, ![]⟩
abbrev S1x32x2048 : Shape := ⟨3, ![1, 32, 2048]⟩

abbrev nBuf : Space → Nat
  | .hbm => 2
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S8x32x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_dev1 (d0 : Dev nD) : Nat :=
  let c0_i32_17 : BitVec 32 := 0#32
  let v17 : BitVec 32 := Dev.word d0
  let c4_i32_8 : BitVec 32 := 4#32
  let v18 : BitVec 32 := Scalar.divsi v17 c4_i32_8
  let c2_i32_7 : BitVec 32 := 2#32
  let v19 : BitVec 32 := Scalar.remsi v18 c2_i32_7
  let c4_i32_16 : BitVec 32 := 4#32
  let v27 : BitVec 32 := Scalar.muli v19 c4_i32_16
  let v28 : BitVec 32 := Scalar.addi c0_i32_17 v27
  let v20 : BitVec 32 := Dev.word d0
  let c2_i32_10 : BitVec 32 := 2#32
  let v21 : BitVec 32 := Scalar.divsi v20 c2_i32_10
  let c2_i32_9 : BitVec 32 := 2#32
  let v22 : BitVec 32 := Scalar.remsi v21 c2_i32_9
  let c2_i32_18 : BitVec 32 := 2#32
  let v29 : BitVec 32 := Scalar.muli v22 c2_i32_18
  let v30 : BitVec 32 := Scalar.addi v28 v29
  let c1_i32_13 : BitVec 32 := 1#32
  let v23 : BitVec 32 := Dev.word d0
  let c1_i32_12 : BitVec 32 := 1#32
  let v24 : BitVec 32 := Scalar.divsi v23 c1_i32_12
  let c2_i32_11 : BitVec 32 := 2#32
  let v25 : BitVec 32 := Scalar.remsi v24 c2_i32_11
  let v26 : BitVec 32 := Scalar.subi c1_i32_13 v25
  let c1_i32_19 : BitVec 32 := 1#32
  let v31 : BitVec 32 := Scalar.muli v26 c1_i32_19
  let v32 : BitVec 32 := Scalar.addi v30 v31
  v32.toNat
def k0_dev2 (d0 : Dev nD) : Nat :=
  let c0_i32_32 : BitVec 32 := 0#32
  let v39 : BitVec 32 := Dev.word d0
  let c4_i32_23 : BitVec 32 := 4#32
  let v40 : BitVec 32 := Scalar.divsi v39 c4_i32_23
  let c2_i32_22 : BitVec 32 := 2#32
  let v41 : BitVec 32 := Scalar.remsi v40 c2_i32_22
  let c4_i32_31 : BitVec 32 := 4#32
  let v49 : BitVec 32 := Scalar.muli v41 c4_i32_31
  let v50 : BitVec 32 := Scalar.addi c0_i32_32 v49
  let c1_i32_28 : BitVec 32 := 1#32
  let v42 : BitVec 32 := Dev.word d0
  let c2_i32_25 : BitVec 32 := 2#32
  let v43 : BitVec 32 := Scalar.divsi v42 c2_i32_25
  let c2_i32_24 : BitVec 32 := 2#32
  let v44 : BitVec 32 := Scalar.remsi v43 c2_i32_24
  let v48 : BitVec 32 := Scalar.subi c1_i32_28 v44
  let c2_i32_33 : BitVec 32 := 2#32
  let v51 : BitVec 32 := Scalar.muli v48 c2_i32_33
  let v52 : BitVec 32 := Scalar.addi v50 v51
  let v45 : BitVec 32 := Dev.word d0
  let c1_i32_27 : BitVec 32 := 1#32
  let v46 : BitVec 32 := Scalar.divsi v45 c1_i32_27
  let c2_i32_26 : BitVec 32 := 2#32
  let v47 : BitVec 32 := Scalar.remsi v46 c2_i32_26
  let c1_i32_34 : BitVec 32 := 1#32
  let v53 : BitVec 32 := Scalar.muli v47 c1_i32_34
  let v54 : BitVec 32 := Scalar.addi v52 v53
  v54.toNat
def k0_dev3 (d0 : Dev nD) : Nat :=
  let c0_i32_48 : BitVec 32 := 0#32
  let v61 : BitVec 32 := Dev.word d0
  let c4_i32_38 : BitVec 32 := 4#32
  let v62 : BitVec 32 := Scalar.divsi v61 c4_i32_38
  let c2_i32_37 : BitVec 32 := 2#32
  let v63 : BitVec 32 := Scalar.remsi v62 c2_i32_37
  let c4_i32_47 : BitVec 32 := 4#32
  let v72 : BitVec 32 := Scalar.muli v63 c4_i32_47
  let v73 : BitVec 32 := Scalar.addi c0_i32_48 v72
  let c1_i32_43 : BitVec 32 := 1#32
  let v64 : BitVec 32 := Dev.word d0
  let c2_i32_40 : BitVec 32 := 2#32
  let v65 : BitVec 32 := Scalar.divsi v64 c2_i32_40
  let c2_i32_39 : BitVec 32 := 2#32
  let v66 : BitVec 32 := Scalar.remsi v65 c2_i32_39
  let v70 : BitVec 32 := Scalar.subi c1_i32_43 v66
  let c2_i32_49 : BitVec 32 := 2#32
  let v74 : BitVec 32 := Scalar.muli v70 c2_i32_49
  let v75 : BitVec 32 := Scalar.addi v73 v74
  let c1_i32_44 : BitVec 32 := 1#32
  let v67 : BitVec 32 := Dev.word d0
  let c1_i32_42 : BitVec 32 := 1#32
  let v68 : BitVec 32 := Scalar.divsi v67 c1_i32_42
  let c2_i32_41 : BitVec 32 := 2#32
  let v69 : BitVec 32 := Scalar.remsi v68 c2_i32_41
  let v71 : BitVec 32 := Scalar.subi c1_i32_44 v69
  let c1_i32_50 : BitVec 32 := 1#32
  let v76 : BitVec 32 := Scalar.muli v71 c1_i32_50
  let v77 : BitVec 32 := Scalar.addi v75 v76
  v77.toNat
def k0_dev4 (d0 : Dev nD) : Nat :=
  let c0_i32_62 : BitVec 32 := 0#32
  let c1_i32_59 : BitVec 32 := 1#32
  let v84 : BitVec 32 := Dev.word d0
  let c4_i32_54 : BitVec 32 := 4#32
  let v85 : BitVec 32 := Scalar.divsi v84 c4_i32_54
  let c2_i32_53 : BitVec 32 := 2#32
  let v86 : BitVec 32 := Scalar.remsi v85 c2_i32_53
  let v93 : BitVec 32 := Scalar.subi c1_i32_59 v86
  let c4_i32_61 : BitVec 32 := 4#32
  let v94 : BitVec 32 := Scalar.muli v93 c4_i32_61
  let v95 : BitVec 32 := Scalar.addi c0_i32_62 v94
  let v87 : BitVec 32 := Dev.word d0
  let c2_i32_56 : BitVec 32 := 2#32
  let v88 : BitVec 32 := Scalar.divsi v87 c2_i32_56
  let c2_i32_55 : BitVec 32 := 2#32
  let v89 : BitVec 32 := Scalar.remsi v88 c2_i32_55
  let c2_i32_63 : BitVec 32 := 2#32
  let v96 : BitVec 32 := Scalar.muli v89 c2_i32_63
  let v97 : BitVec 32 := Scalar.addi v95 v96
  let v90 : BitVec 32 := Dev.word d0
  let c1_i32_58 : BitVec 32 := 1#32
  let v91 : BitVec 32 := Scalar.divsi v90 c1_i32_58
  let c2_i32_57 : BitVec 32 := 2#32
  let v92 : BitVec 32 := Scalar.remsi v91 c2_i32_57
  let c1_i32_64 : BitVec 32 := 1#32
  let v98 : BitVec 32 := Scalar.muli v92 c1_i32_64
  let v99 : BitVec 32 := Scalar.addi v97 v98
  v99.toNat
def k0_dev5 (d0 : Dev nD) : Nat :=
  let c0_i32_78 : BitVec 32 := 0#32
  let c1_i32_73 : BitVec 32 := 1#32
  let v106 : BitVec 32 := Dev.word d0
  let c4_i32_68 : BitVec 32 := 4#32
  let v107 : BitVec 32 := Scalar.divsi v106 c4_i32_68
  let c2_i32_67 : BitVec 32 := 2#32
  let v108 : BitVec 32 := Scalar.remsi v107 c2_i32_67
  let v115 : BitVec 32 := Scalar.subi c1_i32_73 v108
  let c4_i32_77 : BitVec 32 := 4#32
  let v117 : BitVec 32 := Scalar.muli v115 c4_i32_77
  let v118 : BitVec 32 := Scalar.addi c0_i32_78 v117
  let v109 : BitVec 32 := Dev.word d0
  let c2_i32_70 : BitVec 32 := 2#32
  let v110 : BitVec 32 := Scalar.divsi v109 c2_i32_70
  let c2_i32_69 : BitVec 32 := 2#32
  let v111 : BitVec 32 := Scalar.remsi v110 c2_i32_69
  let c2_i32_79 : BitVec 32 := 2#32
  let v119 : BitVec 32 := Scalar.muli v111 c2_i32_79
  let v120 : BitVec 32 := Scalar.addi v118 v119
  let c1_i32_74 : BitVec 32 := 1#32
  let v112 : BitVec 32 := Dev.word d0
  let c1_i32_72 : BitVec 32 := 1#32
  let v113 : BitVec 32 := Scalar.divsi v112 c1_i32_72
  let c2_i32_71 : BitVec 32 := 2#32
  let v114 : BitVec 32 := Scalar.remsi v113 c2_i32_71
  let v116 : BitVec 32 := Scalar.subi c1_i32_74 v114
  let c1_i32_80 : BitVec 32 := 1#32
  let v121 : BitVec 32 := Scalar.muli v116 c1_i32_80
  let v122 : BitVec 32 := Scalar.addi v120 v121
  v122.toNat
def k0_dev6 (d0 : Dev nD) : Nat :=
  let c0_i32_93 : BitVec 32 := 0#32
  let c1_i32_89 : BitVec 32 := 1#32
  let v129 : BitVec 32 := Dev.word d0
  let c4_i32_84 : BitVec 32 := 4#32
  let v130 : BitVec 32 := Scalar.divsi v129 c4_i32_84
  let c2_i32_83 : BitVec 32 := 2#32
  let v131 : BitVec 32 := Scalar.remsi v130 c2_i32_83
  let v138 : BitVec 32 := Scalar.subi c1_i32_89 v131
  let c4_i32_92 : BitVec 32 := 4#32
  let v140 : BitVec 32 := Scalar.muli v138 c4_i32_92
  let v141 : BitVec 32 := Scalar.addi c0_i32_93 v140
  let c1_i32_90 : BitVec 32 := 1#32
  let v132 : BitVec 32 := Dev.word d0
  let c2_i32_86 : BitVec 32 := 2#32
  let v133 : BitVec 32 := Scalar.divsi v132 c2_i32_86
  let c2_i32_85 : BitVec 32 := 2#32
  let v134 : BitVec 32 := Scalar.remsi v133 c2_i32_85
  let v139 : BitVec 32 := Scalar.subi c1_i32_90 v134
  let c2_i32_94 : BitVec 32 := 2#32
  let v142 : BitVec 32 := Scalar.muli v139 c2_i32_94
  let v143 : BitVec 32 := Scalar.addi v141 v142
  let v135 : BitVec 32 := Dev.word d0
  let c1_i32_88 : BitVec 32 := 1#32
  let v136 : BitVec 32 := Scalar.divsi v135 c1_i32_88
  let c2_i32_87 : BitVec 32 := 2#32
  let v137 : BitVec 32 := Scalar.remsi v136 c2_i32_87
  let c1_i32_95 : BitVec 32 := 1#32
  let v144 : BitVec 32 := Scalar.muli v137 c1_i32_95
  let v145 : BitVec 32 := Scalar.addi v143 v144
  v145.toNat
def k0_dev7 (d0 : Dev nD) : Nat :=
  let c0_i32_109 : BitVec 32 := 0#32
  let c1_i32_104 : BitVec 32 := 1#32
  let v152 : BitVec 32 := Dev.word d0
  let c4_i32_99 : BitVec 32 := 4#32
  let v153 : BitVec 32 := Scalar.divsi v152 c4_i32_99
  let c2_i32_98 : BitVec 32 := 2#32
  let v154 : BitVec 32 := Scalar.remsi v153 c2_i32_98
  let v161 : BitVec 32 := Scalar.subi c1_i32_104 v154
  let c4_i32_108 : BitVec 32 := 4#32
  let v164 : BitVec 32 := Scalar.muli v161 c4_i32_108
  let v165 : BitVec 32 := Scalar.addi c0_i32_109 v164
  let c1_i32_105 : BitVec 32 := 1#32
  let v155 : BitVec 32 := Dev.word d0
  let c2_i32_101 : BitVec 32 := 2#32
  let v156 : BitVec 32 := Scalar.divsi v155 c2_i32_101
  let c2_i32_100 : BitVec 32 := 2#32
  let v157 : BitVec 32 := Scalar.remsi v156 c2_i32_100
  let v162 : BitVec 32 := Scalar.subi c1_i32_105 v157
  let c2_i32_110 : BitVec 32 := 2#32
  let v166 : BitVec 32 := Scalar.muli v162 c2_i32_110
  let v167 : BitVec 32 := Scalar.addi v165 v166
  let c1_i32_106 : BitVec 32 := 1#32
  let v158 : BitVec 32 := Dev.word d0
  let c1_i32_103 : BitVec 32 := 1#32
  let v159 : BitVec 32 := Scalar.divsi v158 c1_i32_103
  let c2_i32_102 : BitVec 32 := 2#32
  let v160 : BitVec 32 := Scalar.remsi v159 c2_i32_102
  let v163 : BitVec 32 := Scalar.subi c1_i32_106 v160
  let c1_i32_111 : BitVec 32 := 1#32
  let v168 : BitVec 32 := Scalar.muli v163 c1_i32_111
  let v169 : BitVec 32 := Scalar.addi v167 v168
  v169.toNat
def k0_off2 (d0 : Dev nD) : Fin 3 → Nat :=
  let c4_i32_121 : BitVec 32 := 4#32
  let v176 : BitVec 32 := Dev.word d0
  let c4_i32_115 : BitVec 32 := 4#32
  let v177 : BitVec 32 := Scalar.divsi v176 c4_i32_115
  let c2_i32_114 : BitVec 32 := 2#32
  let v178 : BitVec 32 := Scalar.remsi v177 c2_i32_114
  let v186 : BitVec 32 := Scalar.muli c4_i32_121 v178
  let c2_i32_122 : BitVec 32 := 2#32
  let v179 : BitVec 32 := Dev.word d0
  let c2_i32_117 : BitVec 32 := 2#32
  let v180 : BitVec 32 := Scalar.divsi v179 c2_i32_117
  let c2_i32_116 : BitVec 32 := 2#32
  let v181 : BitVec 32 := Scalar.remsi v180 c2_i32_116
  let v187 : BitVec 32 := Scalar.muli c2_i32_122 v181
  let v188 : BitVec 32 := Scalar.addi v186 v187
  let c1_i32_120 : BitVec 32 := 1#32
  let v182 : BitVec 32 := Dev.word d0
  let c1_i32_119 : BitVec 32 := 1#32
  let v183 : BitVec 32 := Scalar.divsi v182 c1_i32_119
  let c2_i32_118 : BitVec 32 := 2#32
  let v184 : BitVec 32 := Scalar.remsi v183 c2_i32_118
  let v185 : BitVec 32 := Scalar.subi c1_i32_120 v184
  let v189 : BitVec 32 := Scalar.addi v188 v185
  let c0_i32_129 : BitVec 32 := 0#32
  let c0_i32_130 : BitVec 32 := 0#32
  ![v189.toNat, 0, 0]
def k0_off3 (d0 : Dev nD) : Fin 3 → Nat :=
  let c4_i32_138 : BitVec 32 := 4#32
  let v200 : BitVec 32 := Dev.word d0
  let c4_i32_132 : BitVec 32 := 4#32
  let v201 : BitVec 32 := Scalar.divsi v200 c4_i32_132
  let c2_i32_131 : BitVec 32 := 2#32
  let v202 : BitVec 32 := Scalar.remsi v201 c2_i32_131
  let v210 : BitVec 32 := Scalar.muli c4_i32_138 v202
  let c2_i32_139 : BitVec 32 := 2#32
  let c1_i32_137 : BitVec 32 := 1#32
  let v203 : BitVec 32 := Dev.word d0
  let c2_i32_134 : BitVec 32 := 2#32
  let v204 : BitVec 32 := Scalar.divsi v203 c2_i32_134
  let c2_i32_133 : BitVec 32 := 2#32
  let v205 : BitVec 32 := Scalar.remsi v204 c2_i32_133
  let v209 : BitVec 32 := Scalar.subi c1_i32_137 v205
  let v211 : BitVec 32 := Scalar.muli c2_i32_139 v209
  let v212 : BitVec 32 := Scalar.addi v210 v211
  let v206 : BitVec 32 := Dev.word d0
  let c1_i32_136 : BitVec 32 := 1#32
  let v207 : BitVec 32 := Scalar.divsi v206 c1_i32_136
  let c2_i32_135 : BitVec 32 := 2#32
  let v208 : BitVec 32 := Scalar.remsi v207 c2_i32_135
  let v213 : BitVec 32 := Scalar.addi v212 v208
  let c0_i32_146 : BitVec 32 := 0#32
  let c0_i32_147 : BitVec 32 := 0#32
  ![v213.toNat, 0, 0]
def k0_off4 (d0 : Dev nD) : Fin 3 → Nat :=
  let c4_i32_156 : BitVec 32 := 4#32
  let v224 : BitVec 32 := Dev.word d0
  let c4_i32_149 : BitVec 32 := 4#32
  let v225 : BitVec 32 := Scalar.divsi v224 c4_i32_149
  let c2_i32_148 : BitVec 32 := 2#32
  let v226 : BitVec 32 := Scalar.remsi v225 c2_i32_148
  let v235 : BitVec 32 := Scalar.muli c4_i32_156 v226
  let c2_i32_157 : BitVec 32 := 2#32
  let c1_i32_154 : BitVec 32 := 1#32
  let v227 : BitVec 32 := Dev.word d0
  let c2_i32_151 : BitVec 32 := 2#32
  let v228 : BitVec 32 := Scalar.divsi v227 c2_i32_151
  let c2_i32_150 : BitVec 32 := 2#32
  let v229 : BitVec 32 := Scalar.remsi v228 c2_i32_150
  let v233 : BitVec 32 := Scalar.subi c1_i32_154 v229
  let v236 : BitVec 32 := Scalar.muli c2_i32_157 v233
  let v237 : BitVec 32 := Scalar.addi v235 v236
  let c1_i32_155 : BitVec 32 := 1#32
  let v230 : BitVec 32 := Dev.word d0
  let c1_i32_153 : BitVec 32 := 1#32
  let v231 : BitVec 32 := Scalar.divsi v230 c1_i32_153
  let c2_i32_152 : BitVec 32 := 2#32
  let v232 : BitVec 32 := Scalar.remsi v231 c2_i32_152
  let v234 : BitVec 32 := Scalar.subi c1_i32_155 v232
  let v238 : BitVec 32 := Scalar.addi v237 v234
  let c0_i32_164 : BitVec 32 := 0#32
  let c0_i32_165 : BitVec 32 := 0#32
  ![v238.toNat, 0, 0]
def k0_off5 (d0 : Dev nD) : Fin 3 → Nat :=
  let c4_i32_173 : BitVec 32 := 4#32
  let c1_i32_172 : BitVec 32 := 1#32
  let v249 : BitVec 32 := Dev.word d0
  let c4_i32_167 : BitVec 32 := 4#32
  let v250 : BitVec 32 := Scalar.divsi v249 c4_i32_167
  let c2_i32_166 : BitVec 32 := 2#32
  let v251 : BitVec 32 := Scalar.remsi v250 c2_i32_166
  let v258 : BitVec 32 := Scalar.subi c1_i32_172 v251
  let v259 : BitVec 32 := Scalar.muli c4_i32_173 v258
  let c2_i32_174 : BitVec 32 := 2#32
  let v252 : BitVec 32 := Dev.word d0
  let c2_i32_169 : BitVec 32 := 2#32
  let v253 : BitVec 32 := Scalar.divsi v252 c2_i32_169
  let c2_i32_168 : BitVec 32 := 2#32
  let v254 : BitVec 32 := Scalar.remsi v253 c2_i32_168
  let v260 : BitVec 32 := Scalar.muli c2_i32_174 v254
  let v261 : BitVec 32 := Scalar.addi v259 v260
  let v255 : BitVec 32 := Dev.word d0
  let c1_i32_171 : BitVec 32 := 1#32
  let v256 : BitVec 32 := Scalar.divsi v255 c1_i32_171
  let c2_i32_170 : BitVec 32 := 2#32
  let v257 : BitVec 32 := Scalar.remsi v256 c2_i32_170
  let v262 : BitVec 32 := Scalar.addi v261 v257
  let c0_i32_181 : BitVec 32 := 0#32
  let c0_i32_182 : BitVec 32 := 0#32
  ![v262.toNat, 0, 0]
def k0_off6 (d0 : Dev nD) : Fin 3 → Nat :=
  let c4_i32_191 : BitVec 32 := 4#32
  let c1_i32_189 : BitVec 32 := 1#32
  let v273 : BitVec 32 := Dev.word d0
  let c4_i32_184 : BitVec 32 := 4#32
  let v274 : BitVec 32 := Scalar.divsi v273 c4_i32_184
  let c2_i32_183 : BitVec 32 := 2#32
  let v275 : BitVec 32 := Scalar.remsi v274 c2_i32_183
  let v282 : BitVec 32 := Scalar.subi c1_i32_189 v275
  let v284 : BitVec 32 := Scalar.muli c4_i32_191 v282
  let c2_i32_192 : BitVec 32 := 2#32
  let v276 : BitVec 32 := Dev.word d0
  let c2_i32_186 : BitVec 32 := 2#32
  let v277 : BitVec 32 := Scalar.divsi v276 c2_i32_186
  let c2_i32_185 : BitVec 32 := 2#32
  let v278 : BitVec 32 := Scalar.remsi v277 c2_i32_185
  let v285 : BitVec 32 := Scalar.muli c2_i32_192 v278
  let v286 : BitVec 32 := Scalar.addi v284 v285
  let c1_i32_190 : BitVec 32 := 1#32
  let v279 : BitVec 32 := Dev.word d0
  let c1_i32_188 : BitVec 32 := 1#32
  let v280 : BitVec 32 := Scalar.divsi v279 c1_i32_188
  let c2_i32_187 : BitVec 32 := 2#32
  let v281 : BitVec 32 := Scalar.remsi v280 c2_i32_187
  let v283 : BitVec 32 := Scalar.subi c1_i32_190 v281
  let v287 : BitVec 32 := Scalar.addi v286 v283
  let c0_i32_199 : BitVec 32 := 0#32
  let c0_i32_200 : BitVec 32 := 0#32
  ![v287.toNat, 0, 0]
def k0_off7 (d0 : Dev nD) : Fin 3 → Nat :=
  let c4_i32_209 : BitVec 32 := 4#32
  let c1_i32_207 : BitVec 32 := 1#32
  let v298 : BitVec 32 := Dev.word d0
  let c4_i32_202 : BitVec 32 := 4#32
  let v299 : BitVec 32 := Scalar.divsi v298 c4_i32_202
  let c2_i32_201 : BitVec 32 := 2#32
  let v300 : BitVec 32 := Scalar.remsi v299 c2_i32_201
  let v307 : BitVec 32 := Scalar.subi c1_i32_207 v300
  let v309 : BitVec 32 := Scalar.muli c4_i32_209 v307
  let c2_i32_210 : BitVec 32 := 2#32
  let c1_i32_208 : BitVec 32 := 1#32
  let v301 : BitVec 32 := Dev.word d0
  let c2_i32_204 : BitVec 32 := 2#32
  let v302 : BitVec 32 := Scalar.divsi v301 c2_i32_204
  let c2_i32_203 : BitVec 32 := 2#32
  let v303 : BitVec 32 := Scalar.remsi v302 c2_i32_203
  let v308 : BitVec 32 := Scalar.subi c1_i32_208 v303
  let v310 : BitVec 32 := Scalar.muli c2_i32_210 v308
  let v311 : BitVec 32 := Scalar.addi v309 v310
  let v304 : BitVec 32 := Dev.word d0
  let c1_i32_206 : BitVec 32 := 1#32
  let v305 : BitVec 32 := Scalar.divsi v304 c1_i32_206
  let c2_i32_205 : BitVec 32 := 2#32
  let v306 : BitVec 32 := Scalar.remsi v305 c2_i32_205
  let v312 : BitVec 32 := Scalar.addi v311 v306
  let c0_i32_217 : BitVec 32 := 0#32
  let c0_i32_218 : BitVec 32 := 0#32
  ![v312.toNat, 0, 0]
def k0_off8 (d0 : Dev nD) : Fin 3 → Nat :=
  let c4_i32_228 : BitVec 32 := 4#32
  let c1_i32_225 : BitVec 32 := 1#32
  let v323 : BitVec 32 := Dev.word d0
  let c4_i32_220 : BitVec 32 := 4#32
  let v324 : BitVec 32 := Scalar.divsi v323 c4_i32_220
  let c2_i32_219 : BitVec 32 := 2#32
  let v325 : BitVec 32 := Scalar.remsi v324 c2_i32_219
  let v332 : BitVec 32 := Scalar.subi c1_i32_225 v325
  let v335 : BitVec 32 := Scalar.muli c4_i32_228 v332
  let c2_i32_229 : BitVec 32 := 2#32
  let c1_i32_226 : BitVec 32 := 1#32
  let v326 : BitVec 32 := Dev.word d0
  let c2_i32_222 : BitVec 32 := 2#32
  let v327 : BitVec 32 := Scalar.divsi v326 c2_i32_222
  let c2_i32_221 : BitVec 32 := 2#32
  let v328 : BitVec 32 := Scalar.remsi v327 c2_i32_221
  let v333 : BitVec 32 := Scalar.subi c1_i32_226 v328
  let v336 : BitVec 32 := Scalar.muli c2_i32_229 v333
  let v337 : BitVec 32 := Scalar.addi v335 v336
  let c1_i32_227 : BitVec 32 := 1#32
  let v329 : BitVec 32 := Dev.word d0
  let c1_i32_224 : BitVec 32 := 1#32
  let v330 : BitVec 32 := Scalar.divsi v329 c1_i32_224
  let c2_i32_223 : BitVec 32 := 2#32
  let v331 : BitVec 32 := Scalar.remsi v330 c2_i32_223
  let v334 : BitVec 32 := Scalar.subi c1_i32_227 v331
  let v338 : BitVec 32 := Scalar.addi v337 v334
  let c0_i32_236 : BitVec 32 := 0#32
  let c0_i32_237 : BitVec 32 := 0#32
  ![v338.toNat, 0, 0]
-- ==== SmallRef.lean ====
abbrev S256x2048 : Shape := ⟨2, ![256, 2048]⟩
abbrev S8x32x2048 : Shape := ⟨3, ![8, 32, 2048]⟩

abbrev nBuf : Space → Nat
  | .hbm => 2
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S8x32x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== StepOut.lean ====
abbrev S256x2048 : Shape := ⟨2, ![256, 2048]⟩
abbrev S8x256x2048 : Shape := ⟨3, ![8, 256, 2048]⟩
abbrev S128x2048 : Shape := ⟨2, ![128, 2048]⟩
abbrev S8x128x2048 : Shape := ⟨3, ![8, 128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S8x256x2048, .bf16⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S8x128x2048, .bf16⟩
  | .local _ .vmem, ⟨7, _⟩ => ⟨S8x128x2048, .bf16⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepOutIdeal.lean ====
abbrev S256x2048 : Shape := ⟨2, ![256, 2048]⟩
abbrev S8x256x2048 : Shape := ⟨3, ![8, 256, 2048]⟩
abbrev S128x2048 : Shape := ⟨2, ![128, 2048]⟩
abbrev S8x128x2048 : Shape := ⟨3, ![8, 128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S8x256x2048, .bf16⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S8x128x2048, .bf16⟩
  | .local _ .vmem, ⟨7, _⟩ => ⟨S8x128x2048, .bf16⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepOutRefIdeal.lean ====
abbrev S256x2048 : Shape := ⟨2, ![256, 2048]⟩
abbrev S8x256x2048 : Shape := ⟨3, ![8, 256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S8x256x2048, .bf16⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== StepDown.lean ====
abbrev S1024x2048 : Shape := ⟨2, ![1024, 2048]⟩
abbrev S8x1024x2048 : Shape := ⟨3, ![8, 1024, 2048]⟩
abbrev S128x2048 : Shape := ⟨2, ![128, 2048]⟩
abbrev S8x128x2048 : Shape := ⟨3, ![8, 128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S8x1024x2048, .bf16⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S8x128x2048, .bf16⟩
  | .local _ .vmem, ⟨7, _⟩ => ⟨S8x128x2048, .bf16⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepDownRefIdeal.lean ====
abbrev S1024x2048 : Shape := ⟨2, ![1024, 2048]⟩
abbrev S8x1024x2048 : Shape := ⟨3, ![8, 1024, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S8x1024x2048, .bf16⟩
  | .hbm, ⟨4, _⟩ => ⟨S8x1024x2048, .f32⟩
  | .hbm, ⟨5, _⟩ => ⟨S_, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S_, .f32⟩
  | .hbm, ⟨11, _⟩ => ⟨S1024x2048, .f32⟩
  | .hbm, ⟨12, _⟩ => ⟨S1024x2048, .f32⟩
  | .hbm, ⟨13, _⟩ => ⟨S1024x2048, .f32⟩
  | .hbm, ⟨14, _⟩ => ⟨S_, .f32⟩
  | .hbm, ⟨15, _⟩ => ⟨S1024x2048, .f32⟩
  | .hbm, ⟨16, _⟩ => ⟨S1024x2048, .f32⟩
  | .hbm, ⟨17, _⟩ => ⟨S1024x2048, .f32⟩
  | .hbm, ⟨18, _⟩ => ⟨S_, .f32⟩
  | .hbm, ⟨19, _⟩ => ⟨S1024x2048, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S_, .f32⟩
  | .hbm, ⟨26, _⟩ => ⟨S1024x2048, .f32⟩
  | .hbm, ⟨27, _⟩ => ⟨S1024x2048, .f32⟩
  | .hbm, ⟨28, _⟩ => ⟨S1024x2048, .f32⟩
  | .hbm, ⟨29, _⟩ => ⟨S_, .f32⟩
  | .hbm, ⟨30, _⟩ => ⟨S1024x2048, .f32⟩
  | .hbm, ⟨31, _⟩ => ⟨S1024x2048, .f32⟩
  | .hbm, ⟨32, _⟩ => ⟨S1024x2048, .f32⟩
  | .hbm, ⟨33, _⟩ => ⟨S_, .f32⟩
  | .hbm, ⟨34, _⟩ => ⟨S1024x2048, .f32⟩
  | .hbm, ⟨35, _⟩ => ⟨S1024x2048, .f32⟩
  | .hbm, ⟨36, _⟩ => ⟨S1024x2048, .f32⟩
  | .hbm, ⟨37, _⟩ => ⟨S_, .f32⟩
  | .hbm, ⟨38, _⟩ => ⟨S1024x2048, .f32⟩
  | .hbm, ⟨39, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== SumIn.lean ====
abbrev S8x768x2048 : Shape := ⟨3, ![8, 768, 2048]⟩
abbrev S768x2048 : Shape := ⟨2, ![768, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 2
  | .vmem => 4
  | .smem => 0
  | _ => 0

abbrev bufTy : (tb : Table) → Fin (tcTables nBuf tb) → BufTy
  | .hbm, ⟨0, _⟩ => ⟨S8x768x2048, .bf16⟩
  | .hbm, ⟨1, _⟩ => ⟨S768x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | _, _ => ⟨S8x768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumInIdeal.lean ====
abbrev S8x768x2048 : Shape := ⟨3, ![8, 768, 2048]⟩
abbrev S768x2048 : Shape := ⟨2, ![768, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 2
  | .vmem => 4
  | .smem => 0
  | _ => 0

abbrev bufTy : (tb : Table) → Fin (tcTables nBuf tb) → BufTy
  | .hbm, ⟨0, _⟩ => ⟨S8x768x2048, .bf16⟩
  | .hbm, ⟨1, _⟩ => ⟨S768x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | _, _ => ⟨S8x768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumInRefIdeal.lean ====
abbrev S8x768x2048 : Shape := ⟨3, ![8, 768, 2048]⟩
abbrev S_ : Shape := ⟨0, ![]⟩
abbrev S768x2048 : Shape := ⟨2, ![768, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8x768x2048, .bf16⟩
  | .hbm, ⟨1, _⟩ => ⟨S8x768x2048, .f32⟩
  | .hbm, ⟨2, _⟩ => ⟨S_, .f32⟩
  | .hbm, ⟨3, _⟩ => ⟨S768x2048, .f32⟩
  | _, _ => ⟨S8x768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumUp.lean ====
abbrev S8x1024x2048 : Shape := ⟨3, ![8, 1024, 2048]⟩
abbrev S1024x2048 : Shape := ⟨2, ![1024, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 2
  | .vmem => 4
  | .smem => 0
  | _ => 0

abbrev bufTy : (tb : Table) → Fin (tcTables nBuf tb) → BufTy
  | .hbm, ⟨0, _⟩ => ⟨S8x1024x2048, .bf16⟩
  | .hbm, ⟨1, _⟩ => ⟨S1024x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | _, _ => ⟨S8x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumUpIdeal.lean ====
abbrev S8x1024x2048 : Shape := ⟨3, ![8, 1024, 2048]⟩
abbrev S1024x2048 : Shape := ⟨2, ![1024, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 2
  | .vmem => 4
  | .smem => 0
  | _ => 0

abbrev bufTy : (tb : Table) → Fin (tcTables nBuf tb) → BufTy
  | .hbm, ⟨0, _⟩ => ⟨S8x1024x2048, .bf16⟩
  | .hbm, ⟨1, _⟩ => ⟨S1024x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | _, _ => ⟨S8x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumUpRefIdeal.lean ====
abbrev S8x1024x2048 : Shape := ⟨3, ![8, 1024, 2048]⟩
abbrev S_ : Shape := ⟨0, ![]⟩
abbrev S1024x2048 : Shape := ⟨2, ![1024, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8x1024x2048, .bf16⟩
  | .hbm, ⟨1, _⟩ => ⟨S8x1024x2048, .f32⟩
  | .hbm, ⟨2, _⟩ => ⟨S_, .f32⟩
  | .hbm, ⟨3, _⟩ => ⟨S1024x2048, .f32⟩
  | _, _ => ⟨S8x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumQkv.lean ====
abbrev S8x320x2048 : Shape := ⟨3, ![8, 320, 2048]⟩
abbrev S320x2048 : Shape := ⟨2, ![320, 2048]⟩
abbrev S8x80x2048 : Shape := ⟨3, ![8, 80, 2048]⟩
abbrev S80x2048 : Shape := ⟨2, ![80, 2048]⟩
abbrev S1x80x2048 : Shape := ⟨3, ![1, 80, 2048]⟩

abbrev nBuf : Space → Nat
  | .hbm => 2
  | .vmem => 4
  | .smem => 0
  | _ => 0

abbrev bufTy : (tb : Table) → Fin (tcTables nBuf tb) → BufTy
  | .hbm, ⟨0, _⟩ => ⟨S8x320x2048, .bf16⟩
  | .hbm, ⟨1, _⟩ => ⟨S320x2048, .f32⟩
  | .local _ .vmem, ⟨0, _⟩ => ⟨S8x80x2048, .bf16⟩
  | .local _ .vmem, ⟨1, _⟩ => ⟨S8x80x2048, .bf16⟩
  | .local _ .vmem, ⟨2, _⟩ => ⟨S80x2048, .f32⟩
  | .local _ .vmem, ⟨3, _⟩ => ⟨S80x2048, .f32⟩
  | _, _ => ⟨S8x320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x80x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S80x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumQkvIdeal.lean ====
abbrev S8x320x2048 : Shape := ⟨3, ![8, 320, 2048]⟩
abbrev S320x2048 : Shape := ⟨2, ![320, 2048]⟩
abbrev S8x80x2048 : Shape := ⟨3, ![8, 80, 2048]⟩
abbrev S80x2048 : Shape := ⟨2, ![80, 2048]⟩
abbrev S1x80x2048 : Shape := ⟨3, ![1, 80, 2048]⟩

abbrev nBuf : Space → Nat
  | .hbm => 2
  | .vmem => 4
  | .smem => 0
  | _ => 0

abbrev bufTy : (tb : Table) → Fin (tcTables nBuf tb) → BufTy
  | .hbm, ⟨0, _⟩ => ⟨S8x320x2048, .bf16⟩
  | .hbm, ⟨1, _⟩ => ⟨S320x2048, .f32⟩
  | .local _ .vmem, ⟨0, _⟩ => ⟨S8x80x2048, .bf16⟩
  | .local _ .vmem, ⟨1, _⟩ => ⟨S8x80x2048, .bf16⟩
  | .local _ .vmem, ⟨2, _⟩ => ⟨S80x2048, .f32⟩
  | .local _ .vmem, ⟨3, _⟩ => ⟨S80x2048, .f32⟩
  | _, _ => ⟨S8x320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x80x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S80x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumQkvRefIdeal.lean ====
abbrev S8x320x2048 : Shape := ⟨3, ![8, 320, 2048]⟩
abbrev S_ : Shape := ⟨0, ![]⟩
abbrev S320x2048 : Shape := ⟨2, ![320, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8x320x2048, .bf16⟩
  | .hbm, ⟨1, _⟩ => ⟨S8x320x2048, .f32⟩
  | .hbm, ⟨2, _⟩ => ⟨S_, .f32⟩
  | .hbm, ⟨3, _⟩ => ⟨S320x2048, .f32⟩
  | _, _ => ⟨S8x320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumSmall.lean ====
abbrev S8x32x2048 : Shape := ⟨3, ![8, 32, 2048]⟩
abbrev S32x2048 : Shape := ⟨2, ![32, 2048]⟩
abbrev S1x32x2048 : Shape := ⟨3, ![1, 32, 2048]⟩

abbrev nBuf : Space → Nat
  | .hbm => 2
  | .vmem => 2
  | .smem => 0
  | _ => 0

abbrev bufTy : (tb : Table) → Fin (tcTables nBuf tb) → BufTy
  | .hbm, ⟨0, _⟩ => ⟨S8x32x2048, .f32⟩
  | .hbm, ⟨1, _⟩ => ⟨S32x2048, .f32⟩
  | .local _ .vmem, ⟨0, _⟩ => ⟨S8x32x2048, .f32⟩
  | .local _ .vmem, ⟨1, _⟩ => ⟨S32x2048, .f32⟩
  | _, _ => ⟨S8x32x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallRefIdeal.lean ====
abbrev S8x32x2048 : Shape := ⟨3, ![8, 32, 2048]⟩
abbrev S_ : Shape := ⟨0, ![]⟩
abbrev S32x2048 : Shape := ⟨2, ![32, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8x32x2048, .f32⟩
  | .hbm, ⟨1, _⟩ => ⟨S_, .f32⟩
  | .hbm, ⟨2, _⟩ => ⟨S32x2048, .f32⟩
  | _, _ => ⟨S8x32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== StepIn.lean ====
abbrev S2048x768 : Shape := ⟨2, ![2048, 768]⟩
abbrev S128x768 : Shape := ⟨2, ![128, 768]⟩

abbrev nBuf : Space → Nat
  | .hbm => 8
  | .vmem => 16
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .local _ .vmem, ⟨0, _⟩ => ⟨S128x768, .f32⟩
  | .local _ .vmem, ⟨1, _⟩ => ⟨S128x768, .f32⟩
  | .local _ .vmem, ⟨2, _⟩ => ⟨S128x768, .f32⟩
  | .local _ .vmem, ⟨3, _⟩ => ⟨S128x768, .f32⟩
  | .local _ .vmem, ⟨4, _⟩ => ⟨S128x768, .f32⟩
  | .local _ .vmem, ⟨5, _⟩ => ⟨S128x768, .f32⟩
  | .local _ .vmem, ⟨6, _⟩ => ⟨S128x768, .f32⟩
  | .local _ .vmem, ⟨7, _⟩ => ⟨S128x768, .f32⟩
  | .local _ .vmem, ⟨8, _⟩ => ⟨S128x768, .f32⟩
  | .local _ .vmem, ⟨9, _⟩ => ⟨S128x768, .f32⟩
  | .local _ .vmem, ⟨10, _⟩ => ⟨S128x768, .f32⟩
  | .local _ .vmem, ⟨11, _⟩ => ⟨S128x768, .f32⟩
  | .local _ .vmem, ⟨12, _⟩ => ⟨S128x768, .f32⟩
  | .local _ .vmem, ⟨13, _⟩ => ⟨S128x768, .f32⟩
  | .local _ .vmem, ⟨14, _⟩ => ⟨S128x768, .f32⟩
  | .local _ .vmem, ⟨15, _⟩ => ⟨S128x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepInIdeal.lean ====
abbrev S2048x768 : Shape := ⟨2, ![2048, 768]⟩
abbrev S128x768 : Shape := ⟨2, ![128, 768]⟩

abbrev nBuf : Space → Nat
  | .hbm => 8
  | .vmem => 16
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .local _ .vmem, ⟨0, _⟩ => ⟨S128x768, .f32⟩
  | .local _ .vmem, ⟨1, _⟩ => ⟨S128x768, .f32⟩
  | .local _ .vmem, ⟨2, _⟩ => ⟨S128x768, .f32⟩
  | .local _ .vmem, ⟨3, _⟩ => ⟨S128x768, .f32⟩
  | .local _ .vmem, ⟨4, _⟩ => ⟨S128x768, .f32⟩
  | .local _ .vmem, ⟨5, _⟩ => ⟨S128x768, .f32⟩
  | .local _ .vmem, ⟨6, _⟩ => ⟨S128x768, .f32⟩
  | .local _ .vmem, ⟨7, _⟩ => ⟨S128x768, .f32⟩
  | .local _ .vmem, ⟨8, _⟩ => ⟨S128x768, .f32⟩
  | .local _ .vmem, ⟨9, _⟩ => ⟨S128x768, .f32⟩
  | .local _ .vmem, ⟨10, _⟩ => ⟨S128x768, .f32⟩
  | .local _ .vmem, ⟨11, _⟩ => ⟨S128x768, .f32⟩
  | .local _ .vmem, ⟨12, _⟩ => ⟨S128x768, .f32⟩
  | .local _ .vmem, ⟨13, _⟩ => ⟨S128x768, .f32⟩
  | .local _ .vmem, ⟨14, _⟩ => ⟨S128x768, .f32⟩
  | .local _ .vmem, ⟨15, _⟩ => ⟨S128x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepInRefIdeal.lean ====
abbrev S2048x768 : Shape := ⟨2, ![2048, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S_, .f32⟩
  | .hbm, ⟨5, _⟩ => ⟨S2048x768, .f32⟩
  | .hbm, ⟨6, _⟩ => ⟨S2048x768, .f32⟩
  | .hbm, ⟨7, _⟩ => ⟨S_, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S_, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S_, .f32⟩
  | .hbm, ⟨16, _⟩ => ⟨S2048x768, .f32⟩
  | .hbm, ⟨17, _⟩ => ⟨S2048x768, .f32⟩
  | .hbm, ⟨18, _⟩ => ⟨S2048x768, .f32⟩
  | .hbm, ⟨19, _⟩ => ⟨S_, .f32⟩
  | .hbm, ⟨20, _⟩ => ⟨S2048x768, .f32⟩
  | .hbm, ⟨21, _⟩ => ⟨S2048x768, .f32⟩
  | .hbm, ⟨22, _⟩ => ⟨S_, .f32⟩
  | .hbm, ⟨23, _⟩ => ⟨S2048x768, .f32⟩
  | .hbm, ⟨24, _⟩ => ⟨S2048x768, .f32⟩
  | .hbm, ⟨25, _⟩ => ⟨S2048x768, .f32⟩
  | .hbm, ⟨26, _⟩ => ⟨S_, .f32⟩
  | .hbm, ⟨27, _⟩ => ⟨S2048x768, .f32⟩
  | .hbm, ⟨28, _⟩ => ⟨S2048x768, .f32⟩
  | .hbm, ⟨29, _⟩ => ⟨S2048x768, .f32⟩
  | .hbm, ⟨30, _⟩ => ⟨S_, .f32⟩
  | .hbm, ⟨31, _⟩ => ⟨S2048x768, .f32⟩
  | .hbm, ⟨32, _⟩ => ⟨S2048x768, .f32⟩
  | .hbm, ⟨33, _⟩ => ⟨S2048x768, .f32⟩
  | .hbm, ⟨34, _⟩ => ⟨S_, .f32⟩
  | .hbm, ⟨35, _⟩ => ⟨S2048x768, .f32⟩
  | .hbm, ⟨36, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepUp.lean ====
abbrev S2048x1024 : Shape := ⟨2, ![2048, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepUpIdeal.lean ====
abbrev S2048x1024 : Shape := ⟨2, ![2048, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepUpRefIdeal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepQkv.lean ====
abbrev S2048x320 : Shape := ⟨2, ![2048, 320]⟩
abbrev S128x320 : Shape := ⟨2, ![128, 320]⟩

abbrev nBuf : Space → Nat
  | .hbm => 8
  | .vmem => 16
  | .smem => 0
  | _ => 0

abbrev bufTy : (tb : Table) → Fin (tcTables nBuf tb) → BufTy
  | .hbm, ⟨0, _⟩ => ⟨S2048x320, .f32⟩
  | .hbm, ⟨1, _⟩ => ⟨S2048x320, .f32⟩
  | .hbm, ⟨2, _⟩ => ⟨S2048x320, .f32⟩
  | .hbm, ⟨3, _⟩ => ⟨S2048x320, .f32⟩
  | .hbm, ⟨4, _⟩ => ⟨S2048x320, .f32⟩
  | .hbm, ⟨5, _⟩ => ⟨S2048x320, .f32⟩
  | .hbm, ⟨6, _⟩ => ⟨S2048x320, .f32⟩
  | .hbm, ⟨7, _⟩ => ⟨S2048x320, .f32⟩
  | .local _ .vmem, ⟨0, _⟩ => ⟨S128x320, .f32⟩
  | .local _ .vmem, ⟨1, _⟩ => ⟨S128x320, .f32⟩
  | .local _ .vmem, ⟨2, _⟩ => ⟨S128x320, .f32⟩
  | .local _ .vmem, ⟨3, _⟩ => ⟨S128x320, .f32⟩
  | .local _ .vmem, ⟨4, _⟩ => ⟨S128x320, .f32⟩
  | .local _ .vmem, ⟨5, _⟩ => ⟨S128x320, .f32⟩
  | .local _ .vmem, ⟨6, _⟩ => ⟨S128x320, .f32⟩
  | .local _ .vmem, ⟨7, _⟩ => ⟨S128x320, .f32⟩
  | .local _ .vmem, ⟨8, _⟩ => ⟨S128x320, .f32⟩
  | .local _ .vmem, ⟨9, _⟩ => ⟨S128x320, .f32⟩
  | .local _ .vmem, ⟨10, _⟩ => ⟨S128x320, .f32⟩
  | .local _ .vmem, ⟨11, _⟩ => ⟨S128x320, .f32⟩
  | .local _ .vmem, ⟨12, _⟩ => ⟨S128x320, .f32⟩
  | .local _ .vmem, ⟨13, _⟩ => ⟨S128x320, .f32⟩
  | .local _ .vmem, ⟨14, _⟩ => ⟨S128x320, .f32⟩
  | .local _ .vmem, ⟨15, _⟩ => ⟨S128x320, .f32⟩
  | _, _ => ⟨S2048x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x320 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepQkvIdeal.lean ====
abbrev S2048x320 : Shape := ⟨2, ![2048, 320]⟩
abbrev S128x320 : Shape := ⟨2, ![128, 320]⟩

abbrev nBuf : Space → Nat
  | .hbm => 8
  | .vmem => 16
  | .smem => 0
  | _ => 0

abbrev bufTy : (tb : Table) → Fin (tcTables nBuf tb) → BufTy
  | .hbm, ⟨0, _⟩ => ⟨S2048x320, .f32⟩
  | .hbm, ⟨1, _⟩ => ⟨S2048x320, .f32⟩
  | .hbm, ⟨2, _⟩ => ⟨S2048x320, .f32⟩
  | .hbm, ⟨3, _⟩ => ⟨S2048x320, .f32⟩
  | .hbm, ⟨4, _⟩ => ⟨S2048x320, .f32⟩
  | .hbm, ⟨5, _⟩ => ⟨S2048x320, .f32⟩
  | .hbm, ⟨6, _⟩ => ⟨S2048x320, .f32⟩
  | .hbm, ⟨7, _⟩ => ⟨S2048x320, .f32⟩
  | .local _ .vmem, ⟨0, _⟩ => ⟨S128x320, .f32⟩
  | .local _ .vmem, ⟨1, _⟩ => ⟨S128x320, .f32⟩
  | .local _ .vmem, ⟨2, _⟩ => ⟨S128x320, .f32⟩
  | .local _ .vmem, ⟨3, _⟩ => ⟨S128x320, .f32⟩
  | .local _ .vmem, ⟨4, _⟩ => ⟨S128x320, .f32⟩
  | .local _ .vmem, ⟨5, _⟩ => ⟨S128x320, .f32⟩
  | .local _ .vmem, ⟨6, _⟩ => ⟨S128x320, .f32⟩
  | .local _ .vmem, ⟨7, _⟩ => ⟨S128x320, .f32⟩
  | .local _ .vmem, ⟨8, _⟩ => ⟨S128x320, .f32⟩
  | .local _ .vmem, ⟨9, _⟩ => ⟨S128x320, .f32⟩
  | .local _ .vmem, ⟨10, _⟩ => ⟨S128x320, .f32⟩
  | .local _ .vmem, ⟨11, _⟩ => ⟨S128x320, .f32⟩
  | .local _ .vmem, ⟨12, _⟩ => ⟨S128x320, .f32⟩
  | .local _ .vmem, ⟨13, _⟩ => ⟨S128x320, .f32⟩
  | .local _ .vmem, ⟨14, _⟩ => ⟨S128x320, .f32⟩
  | .local _ .vmem, ⟨15, _⟩ => ⟨S128x320, .f32⟩
  | _, _ => ⟨S2048x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x320 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepQkvRefIdeal.lean ====
abbrev S2048x320 : Shape := ⟨2, ![2048, 320]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x320, .f32⟩
  | .hbm, ⟨1, _⟩ => ⟨S2048x320, .f32⟩
  | .hbm, ⟨2, _⟩ => ⟨S2048x320, .f32⟩
  | .hbm, ⟨3, _⟩ => ⟨S2048x320, .f32⟩
  | .hbm, ⟨4, _⟩ => ⟨S_, .f32⟩
  | .hbm, ⟨5, _⟩ => ⟨S2048x320, .f32⟩
  | .hbm, ⟨6, _⟩ => ⟨S2048x320, .f32⟩
  | .hbm, ⟨7, _⟩ => ⟨S_, .f32⟩
  | .hbm, ⟨8, _⟩ => ⟨S2048x320, .f32⟩
  | .hbm, ⟨9, _⟩ => ⟨S2048x320, .f32⟩
  | .hbm, ⟨10, _⟩ => ⟨S2048x320, .f32⟩
  | .hbm, ⟨11, _⟩ => ⟨S_, .f32⟩
  | .hbm, ⟨12, _⟩ => ⟨S2048x320, .f32⟩
  | .hbm, ⟨13, _⟩ => ⟨S2048x320, .f32⟩
  | .hbm, ⟨14, _⟩ => ⟨S2048x320, .f32⟩
  | .hbm, ⟨15, _⟩ => ⟨S_, .f32⟩
  | .hbm, ⟨16, _⟩ => ⟨S2048x320, .f32⟩
  | .hbm, ⟨17, _⟩ => ⟨S2048x320, .f32⟩
  | .hbm, ⟨18, _⟩ => ⟨S2048x320, .f32⟩
  | .hbm, ⟨19, _⟩ => ⟨S_, .f32⟩
  | .hbm, ⟨20, _⟩ => ⟨S2048x320, .f32⟩
  | .hbm, ⟨21, _⟩ => ⟨S2048x320, .f32⟩
  | .hbm, ⟨22, _⟩ => ⟨S_, .f32⟩
  | .hbm, ⟨23, _⟩ => ⟨S2048x320, .f32⟩
  | .hbm, ⟨24, _⟩ => ⟨S2048x320, .f32⟩
  | .hbm, ⟨25, _⟩ => ⟨S2048x320, .f32⟩
  | .hbm, ⟨26, _⟩ => ⟨S_, .f32⟩
  | .hbm, ⟨27, _⟩ => ⟨S2048x320, .f32⟩
  | .hbm, ⟨28, _⟩ => ⟨S2048x320, .f32⟩
  | .hbm, ⟨29, _⟩ => ⟨S2048x320, .f32⟩
  | .hbm, ⟨30, _⟩ => ⟨S_, .f32⟩
  | .hbm, ⟨31, _⟩ => ⟨S2048x320, .f32⟩
  | .hbm, ⟨32, _⟩ => ⟨S2048x320, .f32⟩
  | .hbm, ⟨33, _⟩ => ⟨S2048x320, .f32⟩
  | .hbm, ⟨34, _⟩ => ⟨S_, .f32⟩
  | .hbm, ⟨35, _⟩ => ⟨S2048x320, .f32⟩
  | .hbm, ⟨36, _⟩ => ⟨S2048x320, .f32⟩
  | _, _ => ⟨S2048x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepMeta.lean ====
abbrev S16x256 : Shape := ⟨2, ![16, 256]⟩

abbrev nBuf : Space → Nat
  | .hbm => 8
  | .vmem => 8
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .hbm, ⟨7, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | .local _ .vmem, ⟨7, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepMetaIdeal.lean ====
abbrev S16x256 : Shape := ⟨2, ![16, 256]⟩

abbrev nBuf : Space → Nat
  | .hbm => 8
  | .vmem => 8
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .hbm, ⟨7, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | .local _ .vmem, ⟨7, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepMetaRefIdeal.lean ====
abbrev S16x256 : Shape := ⟨2, ![16, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S_, .f32⟩
  | .hbm, ⟨5, _⟩ => ⟨S16x256, .f32⟩
  | .hbm, ⟨6, _⟩ => ⟨S16x256, .f32⟩
  | .hbm, ⟨7, _⟩ => ⟨S_, .f32⟩
  | .hbm, ⟨8, _⟩ => ⟨S16x256, .f32⟩
  | .hbm, ⟨9, _⟩ => ⟨S16x256, .f32⟩
  | .hbm, ⟨10, _⟩ => ⟨S16x256, .f32⟩
  | .hbm, ⟨11, _⟩ => ⟨S_, .f32⟩
  | .hbm, ⟨12, _⟩ => ⟨S16x256, .f32⟩
  | .hbm, ⟨13, _⟩ => ⟨S16x256, .f32⟩
  | .hbm, ⟨14, _⟩ => ⟨S16x256, .f32⟩
  | .hbm, ⟨15, _⟩ => ⟨S_, .f32⟩
  | .hbm, ⟨16, _⟩ => ⟨S16x256, .f32⟩
  | .hbm, ⟨17, _⟩ => ⟨S16x256, .f32⟩
  | .hbm, ⟨18, _⟩ => ⟨S16x256, .f32⟩
  | .hbm, ⟨19, _⟩ => ⟨S_, .f32⟩
  | .hbm, ⟨20, _⟩ => ⟨S16x256, .f32⟩
  | .hbm, ⟨21, _⟩ => ⟨S16x256, .f32⟩
  | .hbm, ⟨22, _⟩ => ⟨S_, .f32⟩
  | .hbm, ⟨23, _⟩ => ⟨S16x256, .f32⟩
  | .hbm, ⟨24, _⟩ => ⟨S16x256, .f32⟩
  | .hbm, ⟨25, _⟩ => ⟨S16x256, .f32⟩
  | .hbm, ⟨26, _⟩ => ⟨S_, .f32⟩
  | .hbm, ⟨27, _⟩ => ⟨S16x256, .f32⟩
  | .hbm, ⟨28, _⟩ => ⟨S16x256, .f32⟩
  | .hbm, ⟨29, _⟩ => ⟨S16x256, .f32⟩
  | .hbm, ⟨30, _⟩ => ⟨S_, .f32⟩
  | .hbm, ⟨31, _⟩ => ⟨S16x256, .f32⟩
  | .hbm, ⟨32, _⟩ => ⟨S16x256, .f32⟩
  | .hbm, ⟨33, _⟩ => ⟨S16x256, .f32⟩
  | .hbm, ⟨34, _⟩ => ⟨S_, .f32⟩
  | .hbm, ⟨35, _⟩ => ⟨S16x256, .f32⟩
  | .hbm, ⟨36, _⟩ => ⟨S16x256, .f32⟩
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepConv.lean ====
abbrev S3x256 : Shape := ⟨2, ![3, 256]⟩

abbrev nBuf : Space → Nat
  | .hbm => 8
  | .vmem => 8
  | .smem => 0
  | _ => 0

abbrev bufTy : (tb : Table) → Fin (tcTables nBuf tb) → BufTy
  | .hbm, ⟨0, _⟩ => ⟨S3x256, .f32⟩
  | .hbm, ⟨1, _⟩ => ⟨S3x256, .f32⟩
  | .hbm, ⟨2, _⟩ => ⟨S3x256, .f32⟩
  | .hbm, ⟨3, _⟩ => ⟨S3x256, .f32⟩
  | .hbm, ⟨4, _⟩ => ⟨S3x256, .f32⟩
  | .hbm, ⟨5, _⟩ => ⟨S3x256, .f32⟩
  | .hbm, ⟨6, _⟩ => ⟨S3x256, .f32⟩
  | .hbm, ⟨7, _⟩ => ⟨S3x256, .f32⟩
  | .local _ .vmem, ⟨0, _⟩ => ⟨S3x256, .f32⟩
  | .local _ .vmem, ⟨1, _⟩ => ⟨S3x256, .f32⟩
  | .local _ .vmem, ⟨2, _⟩ => ⟨S3x256, .f32⟩
  | .local _ .vmem, ⟨3, _⟩ => ⟨S3x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | _, _ => ⟨S3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepConvIdeal.lean ====
abbrev S3x256 : Shape := ⟨2, ![3, 256]⟩

abbrev nBuf : Space → Nat
  | .hbm => 8
  | .vmem => 8
  | .smem => 0
  | _ => 0

abbrev bufTy : (tb : Table) → Fin (tcTables nBuf tb) → BufTy
  | .hbm, ⟨0, _⟩ => ⟨S3x256, .f32⟩
  | .hbm, ⟨1, _⟩ => ⟨S3x256, .f32⟩
  | .hbm, ⟨2, _⟩ => ⟨S3x256, .f32⟩
  | .hbm, ⟨3, _⟩ => ⟨S3x256, .f32⟩
  | .hbm, ⟨4, _⟩ => ⟨S3x256, .f32⟩
  | .hbm, ⟨5, _⟩ => ⟨S3x256, .f32⟩
  | .hbm, ⟨6, _⟩ => ⟨S3x256, .f32⟩
  | .hbm, ⟨7, _⟩ => ⟨S3x256, .f32⟩
  | .local _ .vmem, ⟨0, _⟩ => ⟨S3x256, .f32⟩
  | .local _ .vmem, ⟨1, _⟩ => ⟨S3x256, .f32⟩
  | .local _ .vmem, ⟨2, _⟩ => ⟨S3x256, .f32⟩
  | .local _ .vmem, ⟨3, _⟩ => ⟨S3x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | _, _ => ⟨S3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepConvRefIdeal.lean ====
abbrev S3x256 : Shape := ⟨2, ![3, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x256, .f32⟩
  | .hbm, ⟨1, _⟩ => ⟨S3x256, .f32⟩
  | .hbm, ⟨2, _⟩ => ⟨S3x256, .f32⟩
  | .hbm, ⟨3, _⟩ => ⟨S3x256, .f32⟩
  | .hbm, ⟨4, _⟩ => ⟨S_, .f32⟩
  | .hbm, ⟨5, _⟩ => ⟨S3x256, .f32⟩
  | .hbm, ⟨6, _⟩ => ⟨S3x256, .f32⟩
  | .hbm, ⟨7, _⟩ => ⟨S_, .f32⟩
  | .hbm, ⟨8, _⟩ => ⟨S3x256, .f32⟩
  | .hbm, ⟨9, _⟩ => ⟨S3x256, .f32⟩
  | .hbm, ⟨10, _⟩ => ⟨S3x256, .f32⟩
  | .hbm, ⟨11, _⟩ => ⟨S_, .f32⟩
  | .hbm, ⟨12, _⟩ => ⟨S3x256, .f32⟩
  | .hbm, ⟨13, _⟩ => ⟨S3x256, .f32⟩
  | .hbm, ⟨14, _⟩ => ⟨S3x256, .f32⟩
  | .hbm, ⟨15, _⟩ => ⟨S_, .f32⟩
  | .hbm, ⟨16, _⟩ => ⟨S3x256, .f32⟩
  | .hbm, ⟨17, _⟩ => ⟨S3x256, .f32⟩
  | .hbm, ⟨18, _⟩ => ⟨S3x256, .f32⟩
  | .hbm, ⟨19, _⟩ => ⟨S_, .f32⟩
  | .hbm, ⟨20, _⟩ => ⟨S3x256, .f32⟩
  | .hbm, ⟨21, _⟩ => ⟨S3x256, .f32⟩
  | .hbm, ⟨22, _⟩ => ⟨S_, .f32⟩
  | .hbm, ⟨23, _⟩ => ⟨S3x256, .f32⟩
  | .hbm, ⟨24, _⟩ => ⟨S3x256, .f32⟩
  | .hbm, ⟨25, _⟩ => ⟨S3x256, .f32⟩
  | .hbm, ⟨26, _⟩ => ⟨S_, .f32⟩
  | .hbm, ⟨27, _⟩ => ⟨S3x256, .f32⟩
  | .hbm, ⟨28, _⟩ => ⟨S3x256, .f32⟩
  | .hbm, ⟨29, _⟩ => ⟨S3x256, .f32⟩
  | .hbm, ⟨30, _⟩ => ⟨S_, .f32⟩
  | .hbm, ⟨31, _⟩ => ⟨S3x256, .f32⟩
  | .hbm, ⟨32, _⟩ => ⟨S3x256, .f32⟩
  | .hbm, ⟨33, _⟩ => ⟨S3x256, .f32⟩
  | .hbm, ⟨34, _⟩ => ⟨S_, .f32⟩
  | .hbm, ⟨35, _⟩ => ⟨S3x256, .f32⟩
  | .hbm, ⟨36, _⟩ => ⟨S3x256, .f32⟩
  | _, _ => ⟨S3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepGain.lean ====
abbrev S1x2048 : Shape := ⟨2, ![1, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepGainIdeal.lean ====
abbrev S1x2048 : Shape := ⟨2, ![1, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepGainRefIdeal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepSinks.lean ====
abbrev S1x32 : Shape := ⟨2, ![1, 32]⟩

abbrev nBuf : Space → Nat
  | .hbm => 8
  | .vmem => 8
  | .smem => 0
  | _ => 0

abbrev bufTy : (tb : Table) → Fin (tcTables nBuf tb) → BufTy
  | .hbm, ⟨0, _⟩ => ⟨S1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x32, .f32⟩
  | .hbm, ⟨7, _⟩ => ⟨S1x32, .f32⟩
  | .local _ .vmem, ⟨0, _⟩ => ⟨S1x32, .f32⟩
  | .local _ .vmem, ⟨1, _⟩ => ⟨S1x32, .f32⟩
  | .local _ .vmem, ⟨2, _⟩ => ⟨S1x32, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | .local _ .vmem, ⟨7, _⟩ => ⟨S1x32, .f32⟩
  | _, _ => ⟨S1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepSinksRefIdeal.lean ====
abbrev S1x32 : Shape := ⟨2, ![1, 32]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S_, .f32⟩
  | .hbm, ⟨5, _⟩ => ⟨S1x32, .f32⟩
  | .hbm, ⟨6, _⟩ => ⟨S1x32, .f32⟩
  | .hbm, ⟨7, _⟩ => ⟨S_, .f32⟩
  | .hbm, ⟨8, _⟩ => ⟨S1x32, .f32⟩
  | .hbm, ⟨9, _⟩ => ⟨S1x32, .f32⟩
  | .hbm, ⟨10, _⟩ => ⟨S1x32, .f32⟩
  | .hbm, ⟨11, _⟩ => ⟨S_, .f32⟩
  | .hbm, ⟨12, _⟩ => ⟨S1x32, .f32⟩
  | .hbm, ⟨13, _⟩ => ⟨S1x32, .f32⟩
  | .hbm, ⟨14, _⟩ => ⟨S1x32, .f32⟩
  | .hbm, ⟨15, _⟩ => ⟨S_, .f32⟩
  | .hbm, ⟨16, _⟩ => ⟨S1x32, .f32⟩
  | .hbm, ⟨17, _⟩ => ⟨S1x32, .f32⟩
  | .hbm, ⟨18, _⟩ => ⟨S1x32, .f32⟩
  | .hbm, ⟨19, _⟩ => ⟨S_, .f32⟩
  | .hbm, ⟨20, _⟩ => ⟨S1x32, .f32⟩
  | .hbm, ⟨21, _⟩ => ⟨S1x32, .f32⟩
  | .hbm, ⟨22, _⟩ => ⟨S_, .f32⟩
  | .hbm, ⟨23, _⟩ => ⟨S1x32, .f32⟩
  | .hbm, ⟨24, _⟩ => ⟨S1x32, .f32⟩
  | .hbm, ⟨25, _⟩ => ⟨S1x32, .f32⟩
  | .hbm, ⟨26, _⟩ => ⟨S_, .f32⟩
  | .hbm, ⟨27, _⟩ => ⟨S1x32, .f32⟩
  | .hbm, ⟨28, _⟩ => ⟨S1x32, .f32⟩
  | .hbm, ⟨29, _⟩ => ⟨S1x32, .f32⟩
  | .hbm, ⟨30, _⟩ => ⟨S_, .f32⟩
  | .hbm, ⟨31, _⟩ => ⟨S1x32, .f32⟩
  | .hbm, ⟨32, _⟩ => ⟨S1x32, .f32⟩
  | .hbm, ⟨33, _⟩ => ⟨S1x32, .f32⟩
  | .hbm, ⟨34, _⟩ => ⟨S_, .f32⟩
  | .hbm, ⟨35, _⟩ => ⟨S1x32, .f32⟩
  | .hbm, ⟨36, _⟩ => ⟨S1x32, .f32⟩
  | _, _ => ⟨S1x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Norm.lean ====
abbrev S8320x2048 : Shape := ⟨2, ![8320, 2048]⟩
abbrev S1x2048 : Shape := ⟨2, ![1, 2048]⟩
abbrev S320x2048 : Shape := ⟨2, ![320, 2048]⟩
abbrev S320 : Shape := ⟨1, ![320]⟩
abbrev S320x1 : Shape := ⟨2, ![320, 1]⟩

abbrev nBuf : Space → Nat
  | .hbm => 3
  | .vmem => 5
  | .smem => 0
  | _ => 0

abbrev bufTy : (tb : Table) → Fin (tcTables nBuf tb) → BufTy
  | .hbm, ⟨0, _⟩ => ⟨S8320x2048, .f32⟩
  | .hbm, ⟨1, _⟩ => ⟨S1x2048, .f32⟩
  | .hbm, ⟨2, _⟩ => ⟨S8320x2048, .bf16⟩
  | .local _ .vmem, ⟨0, _⟩ => ⟨S320x2048, .f32⟩
  | .local _ .vmem, ⟨1, _⟩ => ⟨S320x2048, .f32⟩
  | .local _ .vmem, ⟨2, _⟩ => ⟨S1x2048, .f32⟩
  | .local _ .vmem, ⟨3, _⟩ => ⟨S320x2048, .bf16⟩
  | .local _ .vmem, ⟨4, _⟩ => ⟨S320x2048, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S320x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8320x2048 : Shape := ⟨2, ![8320, 2048]⟩
abbrev S1x2048 : Shape := ⟨2, ![1, 2048]⟩
abbrev S_ : Shape := ⟨0, ![]⟩
abbrev S8320 : Shape := ⟨1, ![8320]⟩
abbrev S8320x1 : Shape := ⟨2, ![8320, 1]⟩

abbrev nBuf : Space → Nat
  | .hbm => 18
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S1x2048, .f32⟩
  | .hbm, ⟨2, _⟩ => ⟨S8320x2048, .f32⟩
  | .hbm, ⟨3, _⟩ => ⟨S_, .f32⟩
  | .hbm, ⟨4, _⟩ => ⟨S8320, .f32⟩
  | .hbm, ⟨5, _⟩ => ⟨S8320x1, .f32⟩
  | .hbm, ⟨6, _⟩ => ⟨S_, .f32⟩
  | .hbm, ⟨7, _⟩ => ⟨S8320x1, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S8320x1, .f32⟩
  | .hbm, ⟨13, _⟩ => ⟨S8320x2048, .f32⟩
  | .hbm, ⟨14, _⟩ => ⟨S8320x2048, .f32⟩
  | .hbm, ⟨15, _⟩ => ⟨S8320x2048, .f32⟩
  | .hbm, ⟨16, _⟩ => ⟨S8320x2048, .f32⟩
  | .hbm, ⟨17, _⟩ => ⟨S8320x2048, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== ProjUp.lean ====
abbrev S8320x2048 : Shape := ⟨2, ![8320, 2048]⟩
abbrev S8192x2048 : Shape := ⟨2, ![8192, 2048]⟩
abbrev S8320x8192 : Shape := ⟨2, ![8320, 8192]⟩
abbrev S1664x2048 : Shape := ⟨2, ![1664, 2048]⟩
abbrev S512x2048 : Shape := ⟨2, ![512, 2048]⟩
abbrev S1664x512 : Shape := ⟨2, ![1664, 512]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S8192x2048, .bf16⟩
  | .hbm, ⟨2, _⟩ => ⟨S8320x8192, .bf16⟩
  | .local _ .vmem, ⟨0, _⟩ => ⟨S1664x2048, .bf16⟩
  | .local _ .vmem, ⟨1, _⟩ => ⟨S1664x2048, .bf16⟩
  | .local _ .vmem, ⟨2, _⟩ => ⟨S512x2048, .bf16⟩
  | .local _ .vmem, ⟨3, _⟩ => ⟨S512x2048, .bf16⟩
  | .local _ .vmem, ⟨4, _⟩ => ⟨S1664x512, .bf16⟩
  | .local _ .vmem, ⟨5, _⟩ => ⟨S1664x512, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1664x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjUpRefIdeal.lean ====
abbrev S8320x2048 : Shape := ⟨2, ![8320, 2048]⟩
abbrev S8192x2048 : Shape := ⟨2, ![8192, 2048]⟩
abbrev S2048x8192 : Shape := ⟨2, ![2048, 8192]⟩
abbrev S8320x8192 : Shape := ⟨2, ![8320, 8192]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8192x2048, .bf16⟩
  | .hbm, ⟨2, _⟩ => ⟨S2048x8192, .bf16⟩
  | .hbm, ⟨3, _⟩ => ⟨S8320x8192, .f32⟩
  | .hbm, ⟨4, _⟩ => ⟨S_, .f32⟩
  | .hbm, ⟨5, _⟩ => ⟨S8320x8192, .f32⟩
  | .hbm, ⟨6, _⟩ => ⟨S8320x8192, .f32⟩
  | .hbm, ⟨7, _⟩ => ⟨S8320x8192, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BackDown.lean ====
abbrev S8320x2048 : Shape := ⟨2, ![8320, 2048]⟩
abbrev S8192x2048 : Shape := ⟨2, ![8192, 2048]⟩
abbrev S8320x8192 : Shape := ⟨2, ![8320, 8192]⟩
abbrev S1664x2048 : Shape := ⟨2, ![1664, 2048]⟩
abbrev S512x2048 : Shape := ⟨2, ![512, 2048]⟩
abbrev S1664x512 : Shape := ⟨2, ![1664, 512]⟩

abbrev nBuf : Space → Nat
  | .hbm => 4
  | .vmem => 8
  | .smem => 0
  | _ => 0

abbrev bufTy : (tb : Table) → Fin (tcTables nBuf tb) → BufTy
  | .hbm, ⟨0, _⟩ => ⟨S8320x2048, .bf16⟩
  | .hbm, ⟨1, _⟩ => ⟨S8192x2048, .bf16⟩
  | .hbm, ⟨2, _⟩ => ⟨S8320x8192, .bf16⟩
  | .hbm, ⟨3, _⟩ => ⟨S8320x8192, .bf16⟩
  | .local _ .vmem, ⟨0, _⟩ => ⟨S1664x2048, .bf16⟩
  | .local _ .vmem, ⟨1, _⟩ => ⟨S1664x2048, .bf16⟩
  | .local _ .vmem, ⟨2, _⟩ => ⟨S512x2048, .bf16⟩
  | .local _ .vmem, ⟨3, _⟩ => ⟨S512x2048, .bf16⟩
  | .local _ .vmem, ⟨4, _⟩ => ⟨S1664x512, .bf16⟩
  | .local _ .vmem, ⟨5, _⟩ => ⟨S1664x512, .bf16⟩
  | .local _ .vmem, ⟨6, _⟩ => ⟨S1664x512, .bf16⟩
  | .local _ .vmem, ⟨7, _⟩ => ⟨S1664x512, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![5, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1664x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1664x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== BackDownRefIdeal.lean ====
abbrev S8320x2048 : Shape := ⟨2, ![8320, 2048]⟩
abbrev S8192x2048 : Shape := ⟨2, ![8192, 2048]⟩
abbrev S8320x8192 : Shape := ⟨2, ![8320, 8192]⟩
abbrev S_ : Shape := ⟨0, ![]⟩
abbrev S2048x8192 : Shape := ⟨2, ![2048, 8192]⟩

abbrev nBuf : Space → Nat
  | .hbm => 11
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8192x2048, .bf16⟩
  | .hbm, ⟨2, _⟩ => ⟨S8320x8192, .bf16⟩
  | .hbm, ⟨3, _⟩ => ⟨S8320x8192, .f32⟩
  | .hbm, ⟨4, _⟩ => ⟨S_, .f32⟩
  | .hbm, ⟨5, _⟩ => ⟨S8320x8192, .f32⟩
  | .hbm, ⟨6, _⟩ => ⟨S8320x8192, .f32⟩
  | .hbm, ⟨7, _⟩ => ⟨S2048x8192, .bf16⟩
  | .hbm, ⟨8, _⟩ => ⟨S8320x8192, .f32⟩
  | .hbm, ⟨9, _⟩ => ⟨S8320x8192, .f32⟩
  | .hbm, ⟨10, _⟩ => ⟨S8320x8192, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== ProjIn.lean ====
abbrev S8320x2048 : Shape := ⟨2, ![8320, 2048]⟩
abbrev S6144x2048 : Shape := ⟨2, ![6144, 2048]⟩
abbrev S8320x6144 : Shape := ⟨2, ![8320, 6144]⟩
abbrev S1664x2048 : Shape := ⟨2, ![1664, 2048]⟩
abbrev S512x2048 : Shape := ⟨2, ![512, 2048]⟩
abbrev S1664x512 : Shape := ⟨2, ![1664, 512]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S6144x2048, .bf16⟩
  | .hbm, ⟨2, _⟩ => ⟨S8320x6144, .bf16⟩
  | .local _ .vmem, ⟨0, _⟩ => ⟨S1664x2048, .bf16⟩
  | .local _ .vmem, ⟨1, _⟩ => ⟨S1664x2048, .bf16⟩
  | .local _ .vmem, ⟨2, _⟩ => ⟨S512x2048, .bf16⟩
  | .local _ .vmem, ⟨3, _⟩ => ⟨S512x2048, .bf16⟩
  | .local _ .vmem, ⟨4, _⟩ => ⟨S1664x512, .bf16⟩
  | .local _ .vmem, ⟨5, _⟩ => ⟨S1664x512, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1664x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjInIdeal.lean ====
abbrev S8320x2048 : Shape := ⟨2, ![8320, 2048]⟩
abbrev S6144x2048 : Shape := ⟨2, ![6144, 2048]⟩
abbrev S8320x6144 : Shape := ⟨2, ![8320, 6144]⟩
abbrev S1664x2048 : Shape := ⟨2, ![1664, 2048]⟩
abbrev S512x2048 : Shape := ⟨2, ![512, 2048]⟩
abbrev S1664x512 : Shape := ⟨2, ![1664, 512]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S6144x2048, .bf16⟩
  | .hbm, ⟨2, _⟩ => ⟨S8320x6144, .bf16⟩
  | .local _ .vmem, ⟨0, _⟩ => ⟨S1664x2048, .bf16⟩
  | .local _ .vmem, ⟨1, _⟩ => ⟨S1664x2048, .bf16⟩
  | .local _ .vmem, ⟨2, _⟩ => ⟨S512x2048, .bf16⟩
  | .local _ .vmem, ⟨3, _⟩ => ⟨S512x2048, .bf16⟩
  | .local _ .vmem, ⟨4, _⟩ => ⟨S1664x512, .bf16⟩
  | .local _ .vmem, ⟨5, _⟩ => ⟨S1664x512, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1664x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjInRefIdeal.lean ====
abbrev S8320x2048 : Shape := ⟨2, ![8320, 2048]⟩
abbrev S6144x2048 : Shape := ⟨2, ![6144, 2048]⟩
abbrev S2048x6144 : Shape := ⟨2, ![2048, 6144]⟩
abbrev S8320x6144 : Shape := ⟨2, ![8320, 6144]⟩

abbrev nBuf : Space → Nat
  | .hbm => 5
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S6144x2048, .bf16⟩
  | .hbm, ⟨2, _⟩ => ⟨S2048x6144, .bf16⟩
  | .hbm, ⟨3, _⟩ => ⟨S8320x6144, .f32⟩
  | .hbm, ⟨4, _⟩ => ⟨S8320x6144, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BackO.lean ====
abbrev S8320x2048 : Shape := ⟨2, ![8320, 2048]⟩
abbrev S2048x2048 : Shape := ⟨2, ![2048, 2048]⟩
abbrev S1664x2048 : Shape := ⟨2, ![1664, 2048]⟩
abbrev S512x2048 : Shape := ⟨2, ![512, 2048]⟩
abbrev S1664x512 : Shape := ⟨2, ![1664, 512]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .bf16⟩
  | .hbm, ⟨2, _⟩ => ⟨S8320x2048, .bf16⟩
  | .local _ .vmem, ⟨0, _⟩ => ⟨S1664x2048, .bf16⟩
  | .local _ .vmem, ⟨1, _⟩ => ⟨S1664x2048, .bf16⟩
  | .local _ .vmem, ⟨2, _⟩ => ⟨S512x2048, .bf16⟩
  | .local _ .vmem, ⟨3, _⟩ => ⟨S512x2048, .bf16⟩
  | .local _ .vmem, ⟨4, _⟩ => ⟨S1664x512, .bf16⟩
  | .local _ .vmem, ⟨5, _⟩ => ⟨S1664x512, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1664x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BackORefIdeal.lean ====
abbrev S8320x2048 : Shape := ⟨2, ![8320, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .bf16⟩
  | .hbm, ⟨2, _⟩ => ⟨S2048x2048, .bf16⟩
  | .hbm, ⟨3, _⟩ => ⟨S8320x2048, .f32⟩
  | .hbm, ⟨4, _⟩ => ⟨S8320x2048, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjQkv.lean ====
abbrev S8320x2048 : Shape := ⟨2, ![8320, 2048]⟩
abbrev S2560x2048 : Shape := ⟨2, ![2560, 2048]⟩
abbrev S8320x2560 : Shape := ⟨2, ![8320, 2560]⟩
abbrev S1664x2048 : Shape := ⟨2, ![1664, 2048]⟩
abbrev S512x2048 : Shape := ⟨2, ![512, 2048]⟩
abbrev S1664x512 : Shape := ⟨2, ![1664, 512]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2560x2048, .bf16⟩
  | .hbm, ⟨2, _⟩ => ⟨S8320x2560, .f32⟩
  | .local _ .vmem, ⟨0, _⟩ => ⟨S1664x2048, .bf16⟩
  | .local _ .vmem, ⟨1, _⟩ => ⟨S1664x2048, .bf16⟩
  | .local _ .vmem, ⟨2, _⟩ => ⟨S512x2048, .bf16⟩
  | .local _ .vmem, ⟨3, _⟩ => ⟨S512x2048, .bf16⟩
  | .local _ .vmem, ⟨4, _⟩ => ⟨S1664x512, .f32⟩
  | .local _ .vmem, ⟨5, _⟩ => ⟨S1664x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjQkvIdeal.lean ====
abbrev S8320x2048 : Shape := ⟨2, ![8320, 2048]⟩
abbrev S2560x2048 : Shape := ⟨2, ![2560, 2048]⟩
abbrev S8320x2560 : Shape := ⟨2, ![8320, 2560]⟩
abbrev S1664x2048 : Shape := ⟨2, ![1664, 2048]⟩
abbrev S512x2048 : Shape := ⟨2, ![512, 2048]⟩
abbrev S1664x512 : Shape := ⟨2, ![1664, 512]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2560x2048, .bf16⟩
  | .hbm, ⟨2, _⟩ => ⟨S8320x2560, .f32⟩
  | .local _ .vmem, ⟨0, _⟩ => ⟨S1664x2048, .bf16⟩
  | .local _ .vmem, ⟨1, _⟩ => ⟨S1664x2048, .bf16⟩
  | .local _ .vmem, ⟨2, _⟩ => ⟨S512x2048, .bf16⟩
  | .local _ .vmem, ⟨3, _⟩ => ⟨S512x2048, .bf16⟩
  | .local _ .vmem, ⟨4, _⟩ => ⟨S1664x512, .f32⟩
  | .local _ .vmem, ⟨5, _⟩ => ⟨S1664x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjQkvRefIdeal.lean ====
abbrev S8320x2048 : Shape := ⟨2, ![8320, 2048]⟩
abbrev S2560x2048 : Shape := ⟨2, ![2560, 2048]⟩
abbrev S2048x2560 : Shape := ⟨2, ![2048, 2560]⟩
abbrev S8320x2560 : Shape := ⟨2, ![8320, 2560]⟩

abbrev nBuf : Space → Nat
  | .hbm => 4
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2560x2048, .bf16⟩
  | .hbm, ⟨2, _⟩ => ⟨S2048x2560, .bf16⟩
  | .hbm, ⟨3, _⟩ => ⟨S8320x2560, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== BackOut.lean ====
abbrev S8320x2048 : Shape := ⟨2, ![8320, 2048]⟩
abbrev S2048x2048 : Shape := ⟨2, ![2048, 2048]⟩
abbrev S1664x2048 : Shape := ⟨2, ![1664, 2048]⟩
abbrev S512x2048 : Shape := ⟨2, ![512, 2048]⟩
abbrev S1664x512 : Shape := ⟨2, ![1664, 512]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .bf16⟩
  | .hbm, ⟨2, _⟩ => ⟨S8320x2048, .f32⟩
  | .local _ .vmem, ⟨0, _⟩ => ⟨S1664x2048, .bf16⟩
  | .local _ .vmem, ⟨1, _⟩ => ⟨S1664x2048, .bf16⟩
  | .local _ .vmem, ⟨2, _⟩ => ⟨S512x2048, .bf16⟩
  | .local _ .vmem, ⟨3, _⟩ => ⟨S512x2048, .bf16⟩
  | .local _ .vmem, ⟨4, _⟩ => ⟨S1664x512, .f32⟩
  | .local _ .vmem, ⟨5, _⟩ => ⟨S1664x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BackOutRefIdeal.lean ====
abbrev S8320x2048 : Shape := ⟨2, ![8320, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .bf16⟩
  | .hbm, ⟨2, _⟩ => ⟨S2048x2048, .bf16⟩
  | .hbm, ⟨3, _⟩ => ⟨S8320x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GradDown.lean ====
abbrev S8320x8192 : Shape := ⟨2, ![8320, 8192]⟩
abbrev S8320x2048 : Shape := ⟨2, ![8320, 2048]⟩
abbrev S8192x2048 : Shape := ⟨2, ![8192, 2048]⟩
abbrev S640x1024 : Shape := ⟨2, ![640, 1024]⟩
abbrev S640x2048 : Shape := ⟨2, ![640, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8320x8192, .bf16⟩
  | .hbm, ⟨1, _⟩ => ⟨S8320x2048, .bf16⟩
  | .hbm, ⟨2, _⟩ => ⟨S8192x2048, .bf16⟩
  | .local _ .vmem, ⟨0, _⟩ => ⟨S640x1024, .bf16⟩
  | .local _ .vmem, ⟨1, _⟩ => ⟨S640x1024, .bf16⟩
  | .local _ .vmem, ⟨2, _⟩ => ⟨S640x2048, .bf16⟩
  | .local _ .vmem, ⟨3, _⟩ => ⟨S640x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8320x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 13], ![false, false]⟩

def k0_cond3 (i : grid0.Coords) : BitVec 1 :=
  let arg1 : BitVec 32 := BitVec.ofNat 32 (i 1).val
  let c12_i32 : BitVec 32 := 12#32
  let v12 : BitVec 1 := Scalar.cmpi .eq arg1 c12_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradDownRefIdeal.lean ====
abbrev S8320x8192 : Shape := ⟨2, ![8320, 8192]⟩
abbrev S8320x2048 : Shape := ⟨2, ![8320, 2048]⟩
abbrev S8192x8320 : Shape := ⟨2, ![8192, 8320]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8320x8192, .bf16⟩
  | .hbm, ⟨1, _⟩ => ⟨S8320x2048, .bf16⟩
  | .hbm, ⟨2, _⟩ => ⟨S8320x8192, .f32⟩
  | .hbm, ⟨3, _⟩ => ⟨S8320x8192, .f32⟩
  | .hbm, ⟨4, _⟩ => ⟨S8320x8192, .bf16⟩
  | .hbm, ⟨5, _⟩ => ⟨S8192x8320, .bf16⟩
  | .hbm, ⟨6, _⟩ => ⟨S8192x2048, .f32⟩
  | .hbm, ⟨7, _⟩ => ⟨S8192x2048, .bf16⟩
  | _, _ => ⟨S8320x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== GradUp.lean ====
abbrev S8320x8192 : Shape := ⟨2, ![8320, 8192]⟩
abbrev S8320x2048 : Shape := ⟨2, ![8320, 2048]⟩
abbrev S8192x2048 : Shape := ⟨2, ![8192, 2048]⟩
abbrev S640x1024 : Shape := ⟨2, ![640, 1024]⟩
abbrev S640x2048 : Shape := ⟨2, ![640, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8320x8192, .bf16⟩
  | .hbm, ⟨1, _⟩ => ⟨S8320x2048, .bf16⟩
  | .hbm, ⟨2, _⟩ => ⟨S8192x2048, .bf16⟩
  | .local _ .vmem, ⟨0, _⟩ => ⟨S640x1024, .bf16⟩
  | .local _ .vmem, ⟨1, _⟩ => ⟨S640x1024, .bf16⟩
  | .local _ .vmem, ⟨2, _⟩ => ⟨S640x2048, .bf16⟩
  | .local _ .vmem, ⟨3, _⟩ => ⟨S640x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8320x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 13], ![false, false]⟩

def k0_cond3 (i : grid0.Coords) : BitVec 1 :=
  let arg1 : BitVec 32 := BitVec.ofNat 32 (i 1).val
  let c12_i32 : BitVec 32 := 12#32
  let v9 : BitVec 1 := Scalar.cmpi .eq arg1 c12_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradUpIdeal.lean ====
abbrev S8320x8192 : Shape := ⟨2, ![8320, 8192]⟩
abbrev S8320x2048 : Shape := ⟨2, ![8320, 2048]⟩
abbrev S8192x2048 : Shape := ⟨2, ![8192, 2048]⟩
abbrev S640x1024 : Shape := ⟨2, ![640, 1024]⟩
abbrev S640x2048 : Shape := ⟨2, ![640, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8320x8192, .bf16⟩
  | .hbm, ⟨1, _⟩ => ⟨S8320x2048, .bf16⟩
  | .hbm, ⟨2, _⟩ => ⟨S8192x2048, .bf16⟩
  | .local _ .vmem, ⟨0, _⟩ => ⟨S640x1024, .bf16⟩
  | .local _ .vmem, ⟨1, _⟩ => ⟨S640x1024, .bf16⟩
  | .local _ .vmem, ⟨2, _⟩ => ⟨S640x2048, .bf16⟩
  | .local _ .vmem, ⟨3, _⟩ => ⟨S640x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8320x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 13], ![false, false]⟩

def k0_cond3 (i : grid0.Coords) : BitVec 1 :=
  let arg1 : BitVec 32 := BitVec.ofNat 32 (i 1).val
  let c12_i32 : BitVec 32 := 12#32
  let v9 : BitVec 1 := Scalar.cmpi .eq arg1 c12_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradUpRefIdeal.lean ====
abbrev S8320x8192 : Shape := ⟨2, ![8320, 8192]⟩
abbrev S8320x2048 : Shape := ⟨2, ![8320, 2048]⟩
abbrev S8192x8320 : Shape := ⟨2, ![8192, 8320]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8320x8192, .bf16⟩
  | .hbm, ⟨1, _⟩ => ⟨S8320x2048, .bf16⟩
  | .hbm, ⟨2, _⟩ => ⟨S8192x8320, .bf16⟩
  | .hbm, ⟨3, _⟩ => ⟨S8192x2048, .f32⟩
  | .hbm, ⟨4, _⟩ => ⟨S8192x2048, .bf16⟩
  | _, _ => ⟨S8320x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradIn.lean ====
abbrev S8320x6144 : Shape := ⟨2, ![8320, 6144]⟩
abbrev S8320x2048 : Shape := ⟨2, ![8320, 2048]⟩
abbrev S6144x2048 : Shape := ⟨2, ![6144, 2048]⟩
abbrev S640x1024 : Shape := ⟨2, ![640, 1024]⟩
abbrev S640x2048 : Shape := ⟨2, ![640, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8320x6144, .bf16⟩
  | .hbm, ⟨1, _⟩ => ⟨S8320x2048, .bf16⟩
  | .hbm, ⟨2, _⟩ => ⟨S6144x2048, .bf16⟩
  | .local _ .vmem, ⟨0, _⟩ => ⟨S640x1024, .bf16⟩
  | .local _ .vmem, ⟨1, _⟩ => ⟨S640x1024, .bf16⟩
  | .local _ .vmem, ⟨2, _⟩ => ⟨S640x2048, .bf16⟩
  | .local _ .vmem, ⟨3, _⟩ => ⟨S640x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8320x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 13], ![false, false]⟩

def k0_cond3 (i : grid0.Coords) : BitVec 1 :=
  let arg1 : BitVec 32 := BitVec.ofNat 32 (i 1).val
  let c12_i32 : BitVec 32 := 12#32
  let v9 : BitVec 1 := Scalar.cmpi .eq arg1 c12_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradInIdeal.lean ====
abbrev S8320x6144 : Shape := ⟨2, ![8320, 6144]⟩
abbrev S8320x2048 : Shape := ⟨2, ![8320, 2048]⟩
abbrev S6144x2048 : Shape := ⟨2, ![6144, 2048]⟩
abbrev S640x1024 : Shape := ⟨2, ![640, 1024]⟩
abbrev S640x2048 : Shape := ⟨2, ![640, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8320x6144, .bf16⟩
  | .hbm, ⟨1, _⟩ => ⟨S8320x2048, .bf16⟩
  | .hbm, ⟨2, _⟩ => ⟨S6144x2048, .bf16⟩
  | .local _ .vmem, ⟨0, _⟩ => ⟨S640x1024, .bf16⟩
  | .local _ .vmem, ⟨1, _⟩ => ⟨S640x1024, .bf16⟩
  | .local _ .vmem, ⟨2, _⟩ => ⟨S640x2048, .bf16⟩
  | .local _ .vmem, ⟨3, _⟩ => ⟨S640x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8320x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 13], ![false, false]⟩

def k0_cond3 (i : grid0.Coords) : BitVec 1 :=
  let arg1 : BitVec 32 := BitVec.ofNat 32 (i 1).val
  let c12_i32 : BitVec 32 := 12#32
  let v9 : BitVec 1 := Scalar.cmpi .eq arg1 c12_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradInRefIdeal.lean ====
abbrev S8320x6144 : Shape := ⟨2, ![8320, 6144]⟩
abbrev S8320x2048 : Shape := ⟨2, ![8320, 2048]⟩
abbrev S6144x8320 : Shape := ⟨2, ![6144, 8320]⟩
abbrev S6144x2048 : Shape := ⟨2, ![6144, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8320x6144, .bf16⟩
  | .hbm, ⟨1, _⟩ => ⟨S8320x2048, .bf16⟩
  | .hbm, ⟨2, _⟩ => ⟨S6144x8320, .bf16⟩
  | .hbm, ⟨3, _⟩ => ⟨S6144x2048, .f32⟩
  | .hbm, ⟨4, _⟩ => ⟨S6144x2048, .bf16⟩
  | _, _ => ⟨S8320x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradQkv.lean ====
abbrev S8320x2560 : Shape := ⟨2, ![8320, 2560]⟩
abbrev S8320x2048 : Shape := ⟨2, ![8320, 2048]⟩
abbrev S2560x2048 : Shape := ⟨2, ![2560, 2048]⟩
abbrev S640x640 : Shape := ⟨2, ![640, 640]⟩
abbrev S640x2048 : Shape := ⟨2, ![640, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8320x2560, .bf16⟩
  | .hbm, ⟨1, _⟩ => ⟨S8320x2048, .bf16⟩
  | .hbm, ⟨2, _⟩ => ⟨S2560x2048, .bf16⟩
  | .local _ .vmem, ⟨0, _⟩ => ⟨S640x640, .bf16⟩
  | .local _ .vmem, ⟨1, _⟩ => ⟨S640x640, .bf16⟩
  | .local _ .vmem, ⟨2, _⟩ => ⟨S640x2048, .bf16⟩
  | .local _ .vmem, ⟨3, _⟩ => ⟨S640x2048, .bf16⟩
  | .local _ .vmem, ⟨4, _⟩ => ⟨S640x2048, .bf16⟩
  | .local _ .vmem, ⟨5, _⟩ => ⟨S640x2048, .bf16⟩
  | .local _ .vmem, ⟨6, _⟩ => ⟨S640x2048, .f32⟩
  | _, _ => ⟨S8320x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 13], ![false, false]⟩

def k0_cond3 (i : grid0.Coords) : BitVec 1 :=
  let arg1 : BitVec 32 := BitVec.ofNat 32 (i 1).val
  let c12_i32 : BitVec 32 := 12#32
  let v9 : BitVec 1 := Scalar.cmpi .eq arg1 c12_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradQkvIdeal.lean ====
abbrev S8320x2560 : Shape := ⟨2, ![8320, 2560]⟩
abbrev S8320x2048 : Shape := ⟨2, ![8320, 2048]⟩
abbrev S2560x2048 : Shape := ⟨2, ![2560, 2048]⟩
abbrev S640x640 : Shape := ⟨2, ![640, 640]⟩
abbrev S640x2048 : Shape := ⟨2, ![640, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8320x2560, .bf16⟩
  | .hbm, ⟨1, _⟩ => ⟨S8320x2048, .bf16⟩
  | .hbm, ⟨2, _⟩ => ⟨S2560x2048, .bf16⟩
  | .local _ .vmem, ⟨0, _⟩ => ⟨S640x640, .bf16⟩
  | .local _ .vmem, ⟨1, _⟩ => ⟨S640x640, .bf16⟩
  | .local _ .vmem, ⟨2, _⟩ => ⟨S640x2048, .bf16⟩
  | .local _ .vmem, ⟨3, _⟩ => ⟨S640x2048, .bf16⟩
  | .local _ .vmem, ⟨4, _⟩ => ⟨S640x2048, .bf16⟩
  | .local _ .vmem, ⟨5, _⟩ => ⟨S640x2048, .bf16⟩
  | .local _ .vmem, ⟨6, _⟩ => ⟨S640x2048, .f32⟩
  | _, _ => ⟨S8320x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 13], ![false, false]⟩

def k0_cond3 (i : grid0.Coords) : BitVec 1 :=
  let arg1 : BitVec 32 := BitVec.ofNat 32 (i 1).val
  let c12_i32 : BitVec 32 := 12#32
  let v9 : BitVec 1 := Scalar.cmpi .eq arg1 c12_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradQkvRefIdeal.lean ====
abbrev S8320x2560 : Shape := ⟨2, ![8320, 2560]⟩
abbrev S8320x2048 : Shape := ⟨2, ![8320, 2048]⟩
abbrev S2560x8320 : Shape := ⟨2, ![2560, 8320]⟩
abbrev S2560x2048 : Shape := ⟨2, ![2560, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8320x2560, .bf16⟩
  | .hbm, ⟨1, _⟩ => ⟨S8320x2048, .bf16⟩
  | .hbm, ⟨2, _⟩ => ⟨S2560x8320, .bf16⟩
  | .hbm, ⟨3, _⟩ => ⟨S2560x2048, .f32⟩
  | .hbm, ⟨4, _⟩ => ⟨S2560x2048, .bf16⟩
  | _, _ => ⟨S8320x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradO.lean ====
abbrev S8320x2048 : Shape := ⟨2, ![8320, 2048]⟩
abbrev S2048x2048 : Shape := ⟨2, ![2048, 2048]⟩
abbrev S640x1024 : Shape := ⟨2, ![640, 1024]⟩
abbrev S640x2048 : Shape := ⟨2, ![640, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S2048x2048, .bf16⟩
  | .local _ .vmem, ⟨0, _⟩ => ⟨S640x1024, .bf16⟩
  | .local _ .vmem, ⟨1, _⟩ => ⟨S640x1024, .bf16⟩
  | .local _ .vmem, ⟨2, _⟩ => ⟨S640x2048, .bf16⟩
  | .local _ .vmem, ⟨3, _⟩ => ⟨S640x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 13], ![false, false]⟩

def k0_cond3 (i : grid0.Coords) : BitVec 1 :=
  let arg1 : BitVec 32 := BitVec.ofNat 32 (i 1).val
  let c12_i32 : BitVec 32 := 12#32
  let v9 : BitVec 1 := Scalar.cmpi .eq arg1 c12_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradORefIdeal.lean ====
abbrev S8320x2048 : Shape := ⟨2, ![8320, 2048]⟩
abbrev S2048x8320 : Shape := ⟨2, ![2048, 8320]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S2048x8320, .bf16⟩
  | .hbm, ⟨3, _⟩ => ⟨S2048x2048, .f32⟩
  | .hbm, ⟨4, _⟩ => ⟨S2048x2048, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== RowOut.lean ====
abbrev S8320x2048 : Shape := ⟨2, ![8320, 2048]⟩
abbrev S2048x2048 : Shape := ⟨2, ![2048, 2048]⟩
abbrev S1x2048 : Shape := ⟨2, ![1, 2048]⟩
abbrev S640x512 : Shape := ⟨2, ![640, 512]⟩
abbrev S512x2048 : Shape := ⟨2, ![512, 2048]⟩
abbrev S640x2048 : Shape := ⟨2, ![640, 2048]⟩
abbrev S160x2048 : Shape := ⟨2, ![160, 2048]⟩
abbrev S160 : Shape := ⟨1, ![160]⟩
abbrev S160x1 : Shape := ⟨2, ![160, 1]⟩

abbrev nBuf : Space → Nat
  | .hbm => 6
  | .vmem => 12
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .bf16⟩
  | .hbm, ⟨2, _⟩ => ⟨S8320x2048, .f32⟩
  | .hbm, ⟨3, _⟩ => ⟨S1x2048, .f32⟩
  | .hbm, ⟨4, _⟩ => ⟨S8320x2048, .f32⟩
  | .hbm, ⟨5, _⟩ => ⟨S8320x2048, .bf16⟩
  | .local _ .vmem, ⟨0, _⟩ => ⟨S640x512, .bf16⟩
  | .local _ .vmem, ⟨1, _⟩ => ⟨S640x512, .bf16⟩
  | .local _ .vmem, ⟨2, _⟩ => ⟨S512x2048, .bf16⟩
  | .local _ .vmem, ⟨3, _⟩ => ⟨S512x2048, .bf16⟩
  | .local _ .vmem, ⟨4, _⟩ => ⟨S640x2048, .f32⟩
  | .local _ .vmem, ⟨5, _⟩ => ⟨S640x2048, .f32⟩
  | .local _ .vmem, ⟨6, _⟩ => ⟨S1x2048, .f32⟩
  | .local _ .vmem, ⟨7, _⟩ => ⟨S640x2048, .f32⟩
  | .local _ .vmem, ⟨8, _⟩ => ⟨S640x2048, .f32⟩
  | .local _ .vmem, ⟨9, _⟩ => ⟨S640x2048, .bf16⟩
  | .local _ .vmem, ⟨10, _⟩ => ⟨S640x2048, .bf16⟩
  | .local _ .vmem, ⟨11, _⟩ => ⟨S640x2048, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![13, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S640x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S640x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== RowOutRefIdeal.lean ====
abbrev S8320x2048 : Shape := ⟨2, ![8320, 2048]⟩
abbrev S2048x2048 : Shape := ⟨2, ![2048, 2048]⟩
abbrev S1x2048 : Shape := ⟨2, ![1, 2048]⟩
abbrev S_ : Shape := ⟨0, ![]⟩
abbrev S8320 : Shape := ⟨1, ![8320]⟩
abbrev S8320x1 : Shape := ⟨2, ![8320, 1]⟩

abbrev nBuf : Space → Nat
  | .hbm => 22
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .bf16⟩
  | .hbm, ⟨2, _⟩ => ⟨S8320x2048, .f32⟩
  | .hbm, ⟨3, _⟩ => ⟨S1x2048, .f32⟩
  | .hbm, ⟨4, _⟩ => ⟨S8320x2048, .f32⟩
  | .hbm, ⟨5, _⟩ => ⟨S8320x2048, .f32⟩
  | .hbm, ⟨6, _⟩ => ⟨S8320x2048, .f32⟩
  | .hbm, ⟨7, _⟩ => ⟨S_, .f32⟩
  | .hbm, ⟨8, _⟩ => ⟨S8320, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S8320x1, .f32⟩
  | .hbm, ⟨17, _⟩ => ⟨S8320x2048, .f32⟩
  | .hbm, ⟨18, _⟩ => ⟨S8320x2048, .f32⟩
  | .hbm, ⟨19, _⟩ => ⟨S8320x2048, .f32⟩
  | .hbm, ⟨20, _⟩ => ⟨S8320x2048, .f32⟩
  | .hbm, ⟨21, _⟩ => ⟨S8320x2048, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== RowDown.lean ====
abbrev S8320x8192 : Shape := ⟨2, ![8320, 8192]⟩
abbrev S8192x2048 : Shape := ⟨2, ![8192, 2048]⟩
abbrev S8320x2048 : Shape := ⟨2, ![8320, 2048]⟩
abbrev S1x2048 : Shape := ⟨2, ![1, 2048]⟩
abbrev S640x512 : Shape := ⟨2, ![640, 512]⟩
abbrev S512x2048 : Shape := ⟨2, ![512, 2048]⟩
abbrev S640x2048 : Shape := ⟨2, ![640, 2048]⟩
abbrev S160x2048 : Shape := ⟨2, ![160, 2048]⟩
abbrev S160 : Shape := ⟨1, ![160]⟩
abbrev S160x1 : Shape := ⟨2, ![160, 1]⟩

abbrev nBuf : Space → Nat
  | .hbm => 6
  | .vmem => 12
  | .smem => 0
  | _ => 0

abbrev bufTy : (tb : Table) → Fin (tcTables nBuf tb) → BufTy
  | .hbm, ⟨0, _⟩ => ⟨S8320x8192, .bf16⟩
  | .hbm, ⟨1, _⟩ => ⟨S8192x2048, .bf16⟩
  | .hbm, ⟨2, _⟩ => ⟨S8320x2048, .f32⟩
  | .hbm, ⟨3, _⟩ => ⟨S1x2048, .f32⟩
  | .hbm, ⟨4, _⟩ => ⟨S8320x2048, .f32⟩
  | .hbm, ⟨5, _⟩ => ⟨S8320x2048, .bf16⟩
  | .local _ .vmem, ⟨0, _⟩ => ⟨S640x512, .bf16⟩
  | .local _ .vmem, ⟨1, _⟩ => ⟨S640x512, .bf16⟩
  | .local _ .vmem, ⟨2, _⟩ => ⟨S512x2048, .bf16⟩
  | .local _ .vmem, ⟨3, _⟩ => ⟨S512x2048, .bf16⟩
  | .local _ .vmem, ⟨4, _⟩ => ⟨S640x2048, .f32⟩
  | .local _ .vmem, ⟨5, _⟩ => ⟨S640x2048, .f32⟩
  | .local _ .vmem, ⟨6, _⟩ => ⟨S1x2048, .f32⟩
  | .local _ .vmem, ⟨7, _⟩ => ⟨S640x2048, .f32⟩
  | .local _ .vmem, ⟨8, _⟩ => ⟨S640x2048, .f32⟩
  | .local _ .vmem, ⟨9, _⟩ => ⟨S640x2048, .bf16⟩
  | .local _ .vmem, ⟨10, _⟩ => ⟨S640x2048, .bf16⟩
  | .local _ .vmem, ⟨11, _⟩ => ⟨S640x2048, .f32⟩
  | _, _ => ⟨S8320x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![13, 16], ![false, false]⟩

def k0_cond3 (i : grid0.Coords) : BitVec 1 :=
  let arg1 : BitVec 32 := BitVec.ofNat 32 (i 1).val
  let c15_i32 : BitVec 32 := 15#32
  let v12 : BitVec 1 := Scalar.cmpi .eq arg1 c15_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S640x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S640x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== RowDownRefIdeal.lean ====
abbrev S8320x8192 : Shape := ⟨2, ![8320, 8192]⟩
abbrev S8192x2048 : Shape := ⟨2, ![8192, 2048]⟩
abbrev S8320x2048 : Shape := ⟨2, ![8320, 2048]⟩
abbrev S1x2048 : Shape := ⟨2, ![1, 2048]⟩
abbrev S_ : Shape := ⟨0, ![]⟩
abbrev S8320 : Shape := ⟨1, ![8320]⟩
abbrev S8320x1 : Shape := ⟨2, ![8320, 1]⟩

abbrev nBuf : Space → Nat
  | .hbm => 25
  | .vmem => 0
  | .smem => 0
  | _ => 0

abbrev bufTy : (tb : Table) → Fin (tcTables nBuf tb) → BufTy
  | .hbm, ⟨0, _⟩ => ⟨S8320x8192, .bf16⟩
  | .hbm, ⟨1, _⟩ => ⟨S8192x2048, .bf16⟩
  | .hbm, ⟨2, _⟩ => ⟨S8320x2048, .f32⟩
  | .hbm, ⟨3, _⟩ => ⟨S1x2048, .f32⟩
  | .hbm, ⟨4, _⟩ => ⟨S8320x8192, .f32⟩
  | .hbm, ⟨5, _⟩ => ⟨S8320x8192, .f32⟩
  | .hbm, ⟨6, _⟩ => ⟨S8320x8192, .bf16⟩
  | .hbm, ⟨7, _⟩ => ⟨S8320x2048, .f32⟩
  | .hbm, ⟨8, _⟩ => ⟨S8320x2048, .f32⟩
  | .hbm, ⟨9, _⟩ => ⟨S8320x2048, .f32⟩
  | .hbm, ⟨10, _⟩ => ⟨S_, .f32⟩
  | .hbm, ⟨11, _⟩ => ⟨S8320, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S_, .f32⟩
  | .hbm, ⟨17, _⟩ => ⟨S8320x1, .f32⟩
  | .hbm, ⟨18, _⟩ => ⟨S8320x1, .f32⟩
  | .hbm, ⟨19, _⟩ => ⟨S8320x1, .f32⟩
  | .hbm, ⟨20, _⟩ => ⟨S8320x2048, .f32⟩
  | .hbm, ⟨21, _⟩ => ⟨S8320x2048, .f32⟩
  | .hbm, ⟨22, _⟩ => ⟨S8320x2048, .f32⟩
  | .hbm, ⟨23, _⟩ => ⟨S8320x2048, .f32⟩
  | .hbm, ⟨24, _⟩ => ⟨S8320x2048, .bf16⟩
  | _, _ => ⟨S8320x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== RowLast.lean ====
abbrev S8320x8192 : Shape := ⟨2, ![8320, 8192]⟩
abbrev S8192x2048 : Shape := ⟨2, ![8192, 2048]⟩
abbrev S8320x2048 : Shape := ⟨2, ![8320, 2048]⟩
abbrev S640x512 : Shape := ⟨2, ![640, 512]⟩
abbrev S512x2048 : Shape := ⟨2, ![512, 2048]⟩
abbrev S640x2048 : Shape := ⟨2, ![640, 2048]⟩

abbrev nBuf : Space → Nat
  | .hbm => 4
  | .vmem => 9
  | .smem => 0
  | _ => 0

abbrev bufTy : (tb : Table) → Fin (tcTables nBuf tb) → BufTy
  | .hbm, ⟨0, _⟩ => ⟨S8320x8192, .bf16⟩
  | .hbm, ⟨1, _⟩ => ⟨S8192x2048, .bf16⟩
  | .hbm, ⟨2, _⟩ => ⟨S8320x2048, .f32⟩
  | .hbm, ⟨3, _⟩ => ⟨S8320x2048, .f32⟩
  | .local _ .vmem, ⟨0, _⟩ => ⟨S640x512, .bf16⟩
  | .local _ .vmem, ⟨1, _⟩ => ⟨S640x512, .bf16⟩
  | .local _ .vmem, ⟨2, _⟩ => ⟨S512x2048, .bf16⟩
  | .local _ .vmem, ⟨3, _⟩ => ⟨S512x2048, .bf16⟩
  | .local _ .vmem, ⟨4, _⟩ => ⟨S640x2048, .f32⟩
  | .local _ .vmem, ⟨5, _⟩ => ⟨S640x2048, .f32⟩
  | .local _ .vmem, ⟨6, _⟩ => ⟨S640x2048, .f32⟩
  | .local _ .vmem, ⟨7, _⟩ => ⟨S640x2048, .f32⟩
  | .local _ .vmem, ⟨8, _⟩ => ⟨S640x2048, .f32⟩
  | _, _ => ⟨S8320x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![13, 16], ![false, false]⟩

def k0_cond3 (i : grid0.Coords) : BitVec 1 :=
  let arg1 : BitVec 32 := BitVec.ofNat 32 (i 1).val
  let c15_i32 : BitVec 32 := 15#32
  let v12 : BitVec 1 := Scalar.cmpi .eq arg1 c15_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S640x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== RowLastRefIdeal.lean ====
abbrev S8320x8192 : Shape := ⟨2, ![8320, 8192]⟩
abbrev S8192x2048 : Shape := ⟨2, ![8192, 2048]⟩
abbrev S8320x2048 : Shape := ⟨2, ![8320, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8320x8192, .bf16⟩
  | .hbm, ⟨1, _⟩ => ⟨S8192x2048, .bf16⟩
  | .hbm, ⟨2, _⟩ => ⟨S8320x2048, .f32⟩
  | .hbm, ⟨3, _⟩ => ⟨S8320x8192, .f32⟩
  | .hbm, ⟨4, _⟩ => ⟨S8320x8192, .f32⟩
  | .hbm, ⟨5, _⟩ => ⟨S8320x8192, .bf16⟩
  | .hbm, ⟨6, _⟩ => ⟨S8320x2048, .f32⟩
  | .hbm, ⟨7, _⟩ => ⟨S8320x2048, .f32⟩
  | _, _ => ⟨S8320x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== RowUp.lean ====
abbrev S8320x8192 : Shape := ⟨2, ![8320, 8192]⟩
abbrev S8192x2048 : Shape := ⟨2, ![8192, 2048]⟩
abbrev S8320x2048 : Shape := ⟨2, ![8320, 2048]⟩
abbrev S1x2048 : Shape := ⟨2, ![1, 2048]⟩
abbrev S416x512 : Shape := ⟨2, ![416, 512]⟩
abbrev S512x2048 : Shape := ⟨2, ![512, 2048]⟩
abbrev S416x2048 : Shape := ⟨2, ![416, 2048]⟩
abbrev S104x2048 : Shape := ⟨2, ![104, 2048]⟩
abbrev S104 : Shape := ⟨1, ![104]⟩
abbrev S104x1 : Shape := ⟨2, ![104, 1]⟩
abbrev S2048 : Shape := ⟨1, ![2048]⟩

abbrev nBuf : Space → Nat
  | .hbm => 8
  | .vmem => 15
  | .smem => 0
  | _ => 0

abbrev bufTy : (tb : Table) → Fin (tcTables nBuf tb) → BufTy
  | .hbm, ⟨0, _⟩ => ⟨S8320x8192, .bf16⟩
  | .hbm, ⟨1, _⟩ => ⟨S8192x2048, .bf16⟩
  | .hbm, ⟨2, _⟩ => ⟨S8320x2048, .f32⟩
  | .hbm, ⟨3, _⟩ => ⟨S1x2048, .f32⟩
  | .hbm, ⟨4, _⟩ => ⟨S8320x2048, .f32⟩
  | .hbm, ⟨5, _⟩ => ⟨S8320x2048, .f32⟩
  | .hbm, ⟨6, _⟩ => ⟨S8320x2048, .bf16⟩
  | .hbm, ⟨7, _⟩ => ⟨S1x2048, .f32⟩
  | .local _ .vmem, ⟨0, _⟩ => ⟨S416x512, .bf16⟩
  | .local _ .vmem, ⟨1, _⟩ => ⟨S416x512, .bf16⟩
  | .local _ .vmem, ⟨2, _⟩ => ⟨S512x2048, .bf16⟩
  | .local _ .vmem, ⟨3, _⟩ => ⟨S512x2048, .bf16⟩
  | .local _ .vmem, ⟨4, _⟩ => ⟨S416x2048, .f32⟩
  | .local _ .vmem, ⟨5, _⟩ => ⟨S416x2048, .f32⟩
  | .local _ .vmem, ⟨6, _⟩ => ⟨S1x2048, .f32⟩
  | .local _ .vmem, ⟨7, _⟩ => ⟨S416x2048, .f32⟩
  | .local _ .vmem, ⟨8, _⟩ => ⟨S416x2048, .f32⟩
  | .local _ .vmem, ⟨9, _⟩ => ⟨S416x2048, .f32⟩
  | .local _ .vmem, ⟨10, _⟩ => ⟨S416x2048, .f32⟩
  | .local _ .vmem, ⟨11, _⟩ => ⟨S416x2048, .bf16⟩
  | .local _ .vmem, ⟨12, _⟩ => ⟨S416x2048, .bf16⟩
  | .local _ .vmem, ⟨13, _⟩ => ⟨S1x2048, .f32⟩
  | .local _ .vmem, ⟨14, _⟩ => ⟨S416x2048, .f32⟩
  | _, _ => ⟨S8320x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![20, 16], ![false, false]⟩

def k0_cond3 (i : grid0.Coords) : BitVec 1 :=
  let arg1 : BitVec 32 := BitVec.ofNat 32 (i 1).val
  let c15_i32 : BitVec 32 := 15#32
  let v9 : BitVec 1 := Scalar.cmpi .eq arg1 c15_i32
  let v10 : BitVec 32 := Scalar.extui v9
  let c0_i32_6 : BitVec 32 := 0#32
  let v11 : BitVec 1 := Scalar.cmpi .ne v10 c0_i32_6
  v11

def k0_cond4 (i : grid0.Coords) : BitVec 1 :=
  let arg0 : BitVec 32 := BitVec.ofNat 32 (i 0).val
  let c0_i32_77 : BitVec 32 := 0#32
  let v149 : BitVec 1 := Scalar.cmpi .eq arg0 c0_i32_77
  let v150 : BitVec 32 := Scalar.extui v149
  let c0_i32_78 : BitVec 32 := 0#32
  let v151 : BitVec 1 := Scalar.cmpi .ne v150 c0_i32_78
  v151

def k0_cond5 (i : grid0.Coords) : BitVec 1 :=
  let arg0 : BitVec 32 := BitVec.ofNat 32 (i 0).val
  let c0_i32_79 : BitVec 32 := 0#32
  let v152 : BitVec 1 := Scalar.cmpi .sgt arg0 c0_i32_79
  let v153 : BitVec 32 := Scalar.extui v152
  let c0_i32_80 : BitVec 32 := 0#32
  let v154 : BitVec 1 := Scalar.cmpi .ne v153 c0_i32_80
  v154

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S416x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S416x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S416x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S416x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== RowUpIdeal.lean ====
abbrev S8320x8192 : Shape := ⟨2, ![8320, 8192]⟩
abbrev S8192x2048 : Shape := ⟨2, ![8192, 2048]⟩
abbrev S8320x2048 : Shape := ⟨2, ![8320, 2048]⟩
abbrev S1x2048 : Shape := ⟨2, ![1, 2048]⟩
abbrev S416x512 : Shape := ⟨2, ![416, 512]⟩
abbrev S512x2048 : Shape := ⟨2, ![512, 2048]⟩
abbrev S416x2048 : Shape := ⟨2, ![416, 2048]⟩
abbrev S104x2048 : Shape := ⟨2, ![104, 2048]⟩
abbrev S104 : Shape := ⟨1, ![104]⟩
abbrev S104x1 : Shape := ⟨2, ![104, 1]⟩
abbrev S2048 : Shape := ⟨1, ![2048]⟩

abbrev nBuf : Space → Nat
  | .hbm => 8
  | .vmem => 15
  | .smem => 0
  | _ => 0

abbrev bufTy : (tb : Table) → Fin (tcTables nBuf tb) → BufTy
  | .hbm, ⟨0, _⟩ => ⟨S8320x8192, .bf16⟩
  | .hbm, ⟨1, _⟩ => ⟨S8192x2048, .bf16⟩
  | .hbm, ⟨2, _⟩ => ⟨S8320x2048, .f32⟩
  | .hbm, ⟨3, _⟩ => ⟨S1x2048, .f32⟩
  | .hbm, ⟨4, _⟩ => ⟨S8320x2048, .f32⟩
  | .hbm, ⟨5, _⟩ => ⟨S8320x2048, .f32⟩
  | .hbm, ⟨6, _⟩ => ⟨S8320x2048, .bf16⟩
  | .hbm, ⟨7, _⟩ => ⟨S1x2048, .f32⟩
  | .local _ .vmem, ⟨0, _⟩ => ⟨S416x512, .bf16⟩
  | .local _ .vmem, ⟨1, _⟩ => ⟨S416x512, .bf16⟩
  | .local _ .vmem, ⟨2, _⟩ => ⟨S512x2048, .bf16⟩
  | .local _ .vmem, ⟨3, _⟩ => ⟨S512x2048, .bf16⟩
  | .local _ .vmem, ⟨4, _⟩ => ⟨S416x2048, .f32⟩
  | .local _ .vmem, ⟨5, _⟩ => ⟨S416x2048, .f32⟩
  | .local _ .vmem, ⟨6, _⟩ => ⟨S1x2048, .f32⟩
  | .local _ .vmem, ⟨7, _⟩ => ⟨S416x2048, .f32⟩
  | .local _ .vmem, ⟨8, _⟩ => ⟨S416x2048, .f32⟩
  | .local _ .vmem, ⟨9, _⟩ => ⟨S416x2048, .f32⟩
  | .local _ .vmem, ⟨10, _⟩ => ⟨S416x2048, .f32⟩
  | .local _ .vmem, ⟨11, _⟩ => ⟨S416x2048, .bf16⟩
  | .local _ .vmem, ⟨12, _⟩ => ⟨S416x2048, .bf16⟩
  | .local _ .vmem, ⟨13, _⟩ => ⟨S1x2048, .f32⟩
  | .local _ .vmem, ⟨14, _⟩ => ⟨S416x2048, .f32⟩
  | _, _ => ⟨S8320x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![20, 16], ![false, false]⟩

def k0_cond3 (i : grid0.Coords) : BitVec 1 :=
  let arg1 : BitVec 32 := BitVec.ofNat 32 (i 1).val
  let c15_i32 : BitVec 32 := 15#32
  let v9 : BitVec 1 := Scalar.cmpi .eq arg1 c15_i32
  let v10 : BitVec 32 := Scalar.extui v9
  let c0_i32_6 : BitVec 32 := 0#32
  let v11 : BitVec 1 := Scalar.cmpi .ne v10 c0_i32_6
  v11

def k0_cond4 (i : grid0.Coords) : BitVec 1 :=
  let arg0 : BitVec 32 := BitVec.ofNat 32 (i 0).val
  let c0_i32_77 : BitVec 32 := 0#32
  let v149 : BitVec 1 := Scalar.cmpi .eq arg0 c0_i32_77
  let v150 : BitVec 32 := Scalar.extui v149
  let c0_i32_78 : BitVec 32 := 0#32
  let v151 : BitVec 1 := Scalar.cmpi .ne v150 c0_i32_78
  v151

def k0_cond5 (i : grid0.Coords) : BitVec 1 :=
  let arg0 : BitVec 32 := BitVec.ofNat 32 (i 0).val
  let c0_i32_79 : BitVec 32 := 0#32
  let v152 : BitVec 1 := Scalar.cmpi .sgt arg0 c0_i32_79
  let v153 : BitVec 32 := Scalar.extui v152
  let c0_i32_80 : BitVec 32 := 0#32
  let v154 : BitVec 1 := Scalar.cmpi .ne v153 c0_i32_80
  v154

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S416x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S416x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S416x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S416x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== RowUpRefIdeal.lean ====
abbrev S8320x8192 : Shape := ⟨2, ![8320, 8192]⟩
abbrev S8192x2048 : Shape := ⟨2, ![8192, 2048]⟩
abbrev S8320x2048 : Shape := ⟨2, ![8320, 2048]⟩
abbrev S1x2048 : Shape := ⟨2, ![1, 2048]⟩
abbrev S_ : Shape := ⟨0, ![]⟩
abbrev S8320 : Shape := ⟨1, ![8320]⟩
abbrev S8320x1 : Shape := ⟨2, ![8320, 1]⟩
abbrev S2048 : Shape := ⟨1, ![2048]⟩

abbrev nBuf : Space → Nat
  | .hbm => 39
  | .vmem => 0
  | .smem => 0
  | _ => 0

abbrev bufTy : (tb : Table) → Fin (tcTables nBuf tb) → BufTy
  | .hbm, ⟨0, _⟩ => ⟨S8320x8192, .bf16⟩
  | .hbm, ⟨1, _⟩ => ⟨S8192x2048, .bf16⟩
  | .hbm, ⟨2, _⟩ => ⟨S8320x2048, .f32⟩
  | .hbm, ⟨3, _⟩ => ⟨S1x2048, .f32⟩
  | .hbm, ⟨4, _⟩ => ⟨S8320x2048, .f32⟩
  | .hbm, ⟨5, _⟩ => ⟨S8320x2048, .f32⟩
  | .hbm, ⟨6, _⟩ => ⟨S8320x2048, .f32⟩
  | .hbm, ⟨7, _⟩ => ⟨S_, .f32⟩
  | .hbm, ⟨8, _⟩ => ⟨S8320, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S8320x1, .f32⟩
  | .hbm, ⟨17, _⟩ => ⟨S8320x2048, .f32⟩
  | .hbm, ⟨18, _⟩ => ⟨S8320x2048, .f32⟩
  | .hbm, ⟨19, _⟩ => ⟨S8320x2048, .f32⟩
  | .hbm, ⟨20, _⟩ => ⟨S8320x2048, .f32⟩
  | .hbm, ⟨21, _⟩ => ⟨S8320x2048, .f32⟩
  | .hbm, ⟨22, _⟩ => ⟨S_, .f32⟩
  | .hbm, ⟨23, _⟩ => ⟨S8320, .f32⟩
  | .hbm, ⟨24, _⟩ => ⟨S8320x1, .f32⟩
  | .hbm, ⟨25, _⟩ => ⟨S_, .f32⟩
  | .hbm, ⟨26, _⟩ => ⟨S8320x1, .f32⟩
  | .hbm, ⟨27, _⟩ => ⟨S8320x1, .f32⟩
  | .hbm, ⟨28, _⟩ => ⟨S8320x2048, .f32⟩
  | .hbm, ⟨29, _⟩ => ⟨S8320x2048, .f32⟩
  | .hbm, ⟨30, _⟩ => ⟨S8320x2048, .f32⟩
  | .hbm, ⟨31, _⟩ => ⟨S8320x2048, .f32⟩
  | .hbm, ⟨32, _⟩ => ⟨S8320x2048, .f32⟩
  | .hbm, ⟨33, _⟩ => ⟨S8320x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S8320x2048, .f32⟩
  | .hbm, ⟨38, _⟩ => ⟨S8320x2048, .bf16⟩
  | _, _ => ⟨S8320x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== RowQkv.lean ====
abbrev S8320x2560 : Shape := ⟨2, ![8320, 2560]⟩
abbrev S2560x2048 : Shape := ⟨2, ![2560, 2048]⟩
abbrev S8320x2048 : Shape := ⟨2, ![8320, 2048]⟩
abbrev S1x2048 : Shape := ⟨2, ![1, 2048]⟩
abbrev S416x512 : Shape := ⟨2, ![416, 512]⟩
abbrev S512x2048 : Shape := ⟨2, ![512, 2048]⟩
abbrev S416x2048 : Shape := ⟨2, ![416, 2048]⟩
abbrev S104x2048 : Shape := ⟨2, ![104, 2048]⟩
abbrev S104 : Shape := ⟨1, ![104]⟩
abbrev S104x1 : Shape := ⟨2, ![104, 1]⟩
abbrev S2048 : Shape := ⟨1, ![2048]⟩

abbrev nBuf : Space → Nat
  | .hbm => 8
  | .vmem => 15
  | .smem => 0
  | _ => 0

abbrev bufTy : (tb : Table) → Fin (tcTables nBuf tb) → BufTy
  | .hbm, ⟨0, _⟩ => ⟨S8320x2560, .bf16⟩
  | .hbm, ⟨1, _⟩ => ⟨S2560x2048, .bf16⟩
  | .hbm, ⟨2, _⟩ => ⟨S8320x2048, .f32⟩
  | .hbm, ⟨3, _⟩ => ⟨S1x2048, .f32⟩
  | .hbm, ⟨4, _⟩ => ⟨S8320x2048, .f32⟩
  | .hbm, ⟨5, _⟩ => ⟨S8320x2048, .f32⟩
  | .hbm, ⟨6, _⟩ => ⟨S8320x2048, .bf16⟩
  | .hbm, ⟨7, _⟩ => ⟨S1x2048, .f32⟩
  | .local _ .vmem, ⟨0, _⟩ => ⟨S416x512, .bf16⟩
  | .local _ .vmem, ⟨1, _⟩ => ⟨S416x512, .bf16⟩
  | .local _ .vmem, ⟨2, _⟩ => ⟨S512x2048, .bf16⟩
  | .local _ .vmem, ⟨3, _⟩ => ⟨S512x2048, .bf16⟩
  | .local _ .vmem, ⟨4, _⟩ => ⟨S416x2048, .f32⟩
  | .local _ .vmem, ⟨5, _⟩ => ⟨S416x2048, .f32⟩
  | .local _ .vmem, ⟨6, _⟩ => ⟨S1x2048, .f32⟩
  | .local _ .vmem, ⟨7, _⟩ => ⟨S416x2048, .f32⟩
  | .local _ .vmem, ⟨8, _⟩ => ⟨S416x2048, .f32⟩
  | .local _ .vmem, ⟨9, _⟩ => ⟨S416x2048, .f32⟩
  | .local _ .vmem, ⟨10, _⟩ => ⟨S416x2048, .f32⟩
  | .local _ .vmem, ⟨11, _⟩ => ⟨S416x2048, .bf16⟩
  | .local _ .vmem, ⟨12, _⟩ => ⟨S416x2048, .bf16⟩
  | .local _ .vmem, ⟨13, _⟩ => ⟨S1x2048, .f32⟩
  | .local _ .vmem, ⟨14, _⟩ => ⟨S416x2048, .f32⟩
  | _, _ => ⟨S8320x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![20, 5], ![false, false]⟩

def k0_cond3 (i : grid0.Coords) : BitVec 1 :=
  let arg1 : BitVec 32 := BitVec.ofNat 32 (i 1).val
  let c4_i32 : BitVec 32 := 4#32
  let v9 : BitVec 1 := Scalar.cmpi .eq arg1 c4_i32
  let v10 : BitVec 32 := Scalar.extui v9
  let c0_i32_6 : BitVec 32 := 0#32
  let v11 : BitVec 1 := Scalar.cmpi .ne v10 c0_i32_6
  v11

def k0_cond4 (i : grid0.Coords) : BitVec 1 :=
  let arg0 : BitVec 32 := BitVec.ofNat 32 (i 0).val
  let c0_i32_77 : BitVec 32 := 0#32
  let v149 : BitVec 1 := Scalar.cmpi .eq arg0 c0_i32_77
  let v150 : BitVec 32 := Scalar.extui v149
  let c0_i32_78 : BitVec 32 := 0#32
  let v151 : BitVec 1 := Scalar.cmpi .ne v150 c0_i32_78
  v151

def k0_cond5 (i : grid0.Coords) : BitVec 1 :=
  let arg0 : BitVec 32 := BitVec.ofNat 32 (i 0).val
  let c0_i32_79 : BitVec 32 := 0#32
  let v152 : BitVec 1 := Scalar.cmpi .sgt arg0 c0_i32_79
  let v153 : BitVec 32 := Scalar.extui v152
  let c0_i32_80 : BitVec 32 := 0#32
  let v154 : BitVec 1 := Scalar.cmpi .ne v153 c0_i32_80
  v154

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S416x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S416x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S416x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S416x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== RowQkvIdeal.lean ====
abbrev S8320x2560 : Shape := ⟨2, ![8320, 2560]⟩
abbrev S2560x2048 : Shape := ⟨2, ![2560, 2048]⟩
abbrev S8320x2048 : Shape := ⟨2, ![8320, 2048]⟩
abbrev S1x2048 : Shape := ⟨2, ![1, 2048]⟩
abbrev S416x512 : Shape := ⟨2, ![416, 512]⟩
abbrev S512x2048 : Shape := ⟨2, ![512, 2048]⟩
abbrev S416x2048 : Shape := ⟨2, ![416, 2048]⟩
abbrev S104x2048 : Shape := ⟨2, ![104, 2048]⟩
abbrev S104 : Shape := ⟨1, ![104]⟩
abbrev S104x1 : Shape := ⟨2, ![104, 1]⟩
abbrev S2048 : Shape := ⟨1, ![2048]⟩

abbrev nBuf : Space → Nat
  | .hbm => 8
  | .vmem => 15
  | .smem => 0
  | _ => 0

abbrev bufTy : (tb : Table) → Fin (tcTables nBuf tb) → BufTy
  | .hbm, ⟨0, _⟩ => ⟨S8320x2560, .bf16⟩
  | .hbm, ⟨1, _⟩ => ⟨S2560x2048, .bf16⟩
  | .hbm, ⟨2, _⟩ => ⟨S8320x2048, .f32⟩
  | .hbm, ⟨3, _⟩ => ⟨S1x2048, .f32⟩
  | .hbm, ⟨4, _⟩ => ⟨S8320x2048, .f32⟩
  | .hbm, ⟨5, _⟩ => ⟨S8320x2048, .f32⟩
  | .hbm, ⟨6, _⟩ => ⟨S8320x2048, .bf16⟩
  | .hbm, ⟨7, _⟩ => ⟨S1x2048, .f32⟩
  | .local _ .vmem, ⟨0, _⟩ => ⟨S416x512, .bf16⟩
  | .local _ .vmem, ⟨1, _⟩ => ⟨S416x512, .bf16⟩
  | .local _ .vmem, ⟨2, _⟩ => ⟨S512x2048, .bf16⟩
  | .local _ .vmem, ⟨3, _⟩ => ⟨S512x2048, .bf16⟩
  | .local _ .vmem, ⟨4, _⟩ => ⟨S416x2048, .f32⟩
  | .local _ .vmem, ⟨5, _⟩ => ⟨S416x2048, .f32⟩
  | .local _ .vmem, ⟨6, _⟩ => ⟨S1x2048, .f32⟩
  | .local _ .vmem, ⟨7, _⟩ => ⟨S416x2048, .f32⟩
  | .local _ .vmem, ⟨8, _⟩ => ⟨S416x2048, .f32⟩
  | .local _ .vmem, ⟨9, _⟩ => ⟨S416x2048, .f32⟩
  | .local _ .vmem, ⟨10, _⟩ => ⟨S416x2048, .f32⟩
  | .local _ .vmem, ⟨11, _⟩ => ⟨S416x2048, .bf16⟩
  | .local _ .vmem, ⟨12, _⟩ => ⟨S416x2048, .bf16⟩
  | .local _ .vmem, ⟨13, _⟩ => ⟨S1x2048, .f32⟩
  | .local _ .vmem, ⟨14, _⟩ => ⟨S416x2048, .f32⟩
  | _, _ => ⟨S8320x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![20, 5], ![false, false]⟩

def k0_cond3 (i : grid0.Coords) : BitVec 1 :=
  let arg1 : BitVec 32 := BitVec.ofNat 32 (i 1).val
  let c4_i32 : BitVec 32 := 4#32
  let v9 : BitVec 1 := Scalar.cmpi .eq arg1 c4_i32
  let v10 : BitVec 32 := Scalar.extui v9
  let c0_i32_6 : BitVec 32 := 0#32
  let v11 : BitVec 1 := Scalar.cmpi .ne v10 c0_i32_6
  v11

def k0_cond4 (i : grid0.Coords) : BitVec 1 :=
  let arg0 : BitVec 32 := BitVec.ofNat 32 (i 0).val
  let c0_i32_77 : BitVec 32 := 0#32
  let v149 : BitVec 1 := Scalar.cmpi .eq arg0 c0_i32_77
  let v150 : BitVec 32 := Scalar.extui v149
  let c0_i32_78 : BitVec 32 := 0#32
  let v151 : BitVec 1 := Scalar.cmpi .ne v150 c0_i32_78
  v151

def k0_cond5 (i : grid0.Coords) : BitVec 1 :=
  let arg0 : BitVec 32 := BitVec.ofNat 32 (i 0).val
  let c0_i32_79 : BitVec 32 := 0#32
  let v152 : BitVec 1 := Scalar.cmpi .sgt arg0 c0_i32_79
  let v153 : BitVec 32 := Scalar.extui v152
  let c0_i32_80 : BitVec 32 := 0#32
  let v154 : BitVec 1 := Scalar.cmpi .ne v153 c0_i32_80
  v154

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S416x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S416x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S416x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S416x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== RowQkvRefIdeal.lean ====
abbrev S8320x2560 : Shape := ⟨2, ![8320, 2560]⟩
abbrev S2560x2048 : Shape := ⟨2, ![2560, 2048]⟩
abbrev S8320x2048 : Shape := ⟨2, ![8320, 2048]⟩
abbrev S1x2048 : Shape := ⟨2, ![1, 2048]⟩
abbrev S_ : Shape := ⟨0, ![]⟩
abbrev S8320 : Shape := ⟨1, ![8320]⟩
abbrev S8320x1 : Shape := ⟨2, ![8320, 1]⟩
abbrev S2048 : Shape := ⟨1, ![2048]⟩

abbrev nBuf : Space → Nat
  | .hbm => 39
  | .vmem => 0
  | .smem => 0
  | _ => 0

abbrev bufTy : (tb : Table) → Fin (tcTables nBuf tb) → BufTy
  | .hbm, ⟨0, _⟩ => ⟨S8320x2560, .bf16⟩
  | .hbm, ⟨1, _⟩ => ⟨S2560x2048, .bf16⟩
  | .hbm, ⟨2, _⟩ => ⟨S8320x2048, .f32⟩
  | .hbm, ⟨3, _⟩ => ⟨S1x2048, .f32⟩
  | .hbm, ⟨4, _⟩ => ⟨S8320x2048, .f32⟩
  | .hbm, ⟨5, _⟩ => ⟨S8320x2048, .f32⟩
  | .hbm, ⟨6, _⟩ => ⟨S8320x2048, .f32⟩
  | .hbm, ⟨7, _⟩ => ⟨S_, .f32⟩
  | .hbm, ⟨8, _⟩ => ⟨S8320, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S8320x1, .f32⟩
  | .hbm, ⟨17, _⟩ => ⟨S8320x2048, .f32⟩
  | .hbm, ⟨18, _⟩ => ⟨S8320x2048, .f32⟩
  | .hbm, ⟨19, _⟩ => ⟨S8320x2048, .f32⟩
  | .hbm, ⟨20, _⟩ => ⟨S8320x2048, .f32⟩
  | .hbm, ⟨21, _⟩ => ⟨S8320x2048, .f32⟩
  | .hbm, ⟨22, _⟩ => ⟨S_, .f32⟩
  | .hbm, ⟨23, _⟩ => ⟨S8320, .f32⟩
  | .hbm, ⟨24, _⟩ => ⟨S8320x1, .f32⟩
  | .hbm, ⟨25, _⟩ => ⟨S_, .f32⟩
  | .hbm, ⟨26, _⟩ => ⟨S8320x1, .f32⟩
  | .hbm, ⟨27, _⟩ => ⟨S8320x1, .f32⟩
  | .hbm, ⟨28, _⟩ => ⟨S8320x2048, .f32⟩
  | .hbm, ⟨29, _⟩ => ⟨S8320x2048, .f32⟩
  | .hbm, ⟨30, _⟩ => ⟨S8320x2048, .f32⟩
  | .hbm, ⟨31, _⟩ => ⟨S8320x2048, .f32⟩
  | .hbm, ⟨32, _⟩ => ⟨S8320x2048, .f32⟩
  | .hbm, ⟨33, _⟩ => ⟨S8320x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S8320x2048, .f32⟩
  | .hbm, ⟨38, _⟩ => ⟨S8320x2048, .bf16⟩
  | _, _ => ⟨S8320x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== RowIn.lean ====
abbrev S8320x6144 : Shape := ⟨2, ![8320, 6144]⟩
abbrev S6144x2048 : Shape := ⟨2, ![6144, 2048]⟩
abbrev S8320x2048 : Shape := ⟨2, ![8320, 2048]⟩
abbrev S1x2048 : Shape := ⟨2, ![1, 2048]⟩
abbrev S416x512 : Shape := ⟨2, ![416, 512]⟩
abbrev S512x2048 : Shape := ⟨2, ![512, 2048]⟩
abbrev S416x2048 : Shape := ⟨2, ![416, 2048]⟩
abbrev S104x2048 : Shape := ⟨2, ![104, 2048]⟩
abbrev S104 : Shape := ⟨1, ![104]⟩
abbrev S104x1 : Shape := ⟨2, ![104, 1]⟩
abbrev S2048 : Shape := ⟨1, ![2048]⟩

abbrev nBuf : Space → Nat
  | .hbm => 8
  | .vmem => 15
  | .smem => 0
  | _ => 0

abbrev bufTy : (tb : Table) → Fin (tcTables nBuf tb) → BufTy
  | .hbm, ⟨0, _⟩ => ⟨S8320x6144, .bf16⟩
  | .hbm, ⟨1, _⟩ => ⟨S6144x2048, .bf16⟩
  | .hbm, ⟨2, _⟩ => ⟨S8320x2048, .f32⟩
  | .hbm, ⟨3, _⟩ => ⟨S1x2048, .f32⟩
  | .hbm, ⟨4, _⟩ => ⟨S8320x2048, .f32⟩
  | .hbm, ⟨5, _⟩ => ⟨S8320x2048, .f32⟩
  | .hbm, ⟨6, _⟩ => ⟨S8320x2048, .bf16⟩
  | .hbm, ⟨7, _⟩ => ⟨S1x2048, .f32⟩
  | .local _ .vmem, ⟨0, _⟩ => ⟨S416x512, .bf16⟩
  | .local _ .vmem, ⟨1, _⟩ => ⟨S416x512, .bf16⟩
  | .local _ .vmem, ⟨2, _⟩ => ⟨S512x2048, .bf16⟩
  | .local _ .vmem, ⟨3, _⟩ => ⟨S512x2048, .bf16⟩
  | .local _ .vmem, ⟨4, _⟩ => ⟨S416x2048, .f32⟩
  | .local _ .vmem, ⟨5, _⟩ => ⟨S416x2048, .f32⟩
  | .local _ .vmem, ⟨6, _⟩ => ⟨S1x2048, .f32⟩
  | .local _ .vmem, ⟨7, _⟩ => ⟨S416x2048, .f32⟩
  | .local _ .vmem, ⟨8, _⟩ => ⟨S416x2048, .f32⟩
  | .local _ .vmem, ⟨9, _⟩ => ⟨S416x2048, .f32⟩
  | .local _ .vmem, ⟨10, _⟩ => ⟨S416x2048, .f32⟩
  | .local _ .vmem, ⟨11, _⟩ => ⟨S416x2048, .bf16⟩
  | .local _ .vmem, ⟨12, _⟩ => ⟨S416x2048, .bf16⟩
  | .local _ .vmem, ⟨13, _⟩ => ⟨S1x2048, .f32⟩
  | .local _ .vmem, ⟨14, _⟩ => ⟨S416x2048, .f32⟩
  | _, _ => ⟨S8320x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![20, 12], ![false, false]⟩

def k0_cond3 (i : grid0.Coords) : BitVec 1 :=
  let arg1 : BitVec 32 := BitVec.ofNat 32 (i 1).val
  let c11_i32 : BitVec 32 := 11#32
  let v9 : BitVec 1 := Scalar.cmpi .eq arg1 c11_i32
  let v10 : BitVec 32 := Scalar.extui v9
  let c0_i32_6 : BitVec 32 := 0#32
  let v11 : BitVec 1 := Scalar.cmpi .ne v10 c0_i32_6
  v11

def k0_cond4 (i : grid0.Coords) : BitVec 1 :=
  let arg0 : BitVec 32 := BitVec.ofNat 32 (i 0).val
  let c0_i32_77 : BitVec 32 := 0#32
  let v149 : BitVec 1 := Scalar.cmpi .eq arg0 c0_i32_77
  let v150 : BitVec 32 := Scalar.extui v149
  let c0_i32_78 : BitVec 32 := 0#32
  let v151 : BitVec 1 := Scalar.cmpi .ne v150 c0_i32_78
  v151

def k0_cond5 (i : grid0.Coords) : BitVec 1 :=
  let arg0 : BitVec 32 := BitVec.ofNat 32 (i 0).val
  let c0_i32_79 : BitVec 32 := 0#32
  let v152 : BitVec 1 := Scalar.cmpi .sgt arg0 c0_i32_79
  let v153 : BitVec 32 := Scalar.extui v152
  let c0_i32_80 : BitVec 32 := 0#32
  let v154 : BitVec 1 := Scalar.cmpi .ne v153 c0_i32_80
  v154

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S416x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S416x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S416x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S416x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== RowInRefIdeal.lean ====
abbrev S8320x6144 : Shape := ⟨2, ![8320, 6144]⟩
abbrev S6144x2048 : Shape := ⟨2, ![6144, 2048]⟩
abbrev S8320x2048 : Shape := ⟨2, ![8320, 2048]⟩
abbrev S1x2048 : Shape := ⟨2, ![1, 2048]⟩
abbrev S_ : Shape := ⟨0, ![]⟩
abbrev S8320 : Shape := ⟨1, ![8320]⟩
abbrev S8320x1 : Shape := ⟨2, ![8320, 1]⟩
abbrev S2048 : Shape := ⟨1, ![2048]⟩

abbrev nBuf : Space → Nat
  | .hbm => 39
  | .vmem => 0
  | .smem => 0
  | _ => 0

abbrev bufTy : (tb : Table) → Fin (tcTables nBuf tb) → BufTy
  | .hbm, ⟨0, _⟩ => ⟨S8320x6144, .bf16⟩
  | .hbm, ⟨1, _⟩ => ⟨S6144x2048, .bf16⟩
  | .hbm, ⟨2, _⟩ => ⟨S8320x2048, .f32⟩
  | .hbm, ⟨3, _⟩ => ⟨S1x2048, .f32⟩
  | .hbm, ⟨4, _⟩ => ⟨S8320x2048, .f32⟩
  | .hbm, ⟨5, _⟩ => ⟨S8320x2048, .f32⟩
  | .hbm, ⟨6, _⟩ => ⟨S8320x2048, .f32⟩
  | .hbm, ⟨7, _⟩ => ⟨S_, .f32⟩
  | .hbm, ⟨8, _⟩ => ⟨S8320, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S8320x1, .f32⟩
  | .hbm, ⟨17, _⟩ => ⟨S8320x2048, .f32⟩
  | .hbm, ⟨18, _⟩ => ⟨S8320x2048, .f32⟩
  | .hbm, ⟨19, _⟩ => ⟨S8320x2048, .f32⟩
  | .hbm, ⟨20, _⟩ => ⟨S8320x2048, .f32⟩
  | .hbm, ⟨21, _⟩ => ⟨S8320x2048, .f32⟩
  | .hbm, ⟨22, _⟩ => ⟨S_, .f32⟩
  | .hbm, ⟨23, _⟩ => ⟨S8320, .f32⟩
  | .hbm, ⟨24, _⟩ => ⟨S8320x1, .f32⟩
  | .hbm, ⟨25, _⟩ => ⟨S_, .f32⟩
  | .hbm, ⟨26, _⟩ => ⟨S8320x1, .f32⟩
  | .hbm, ⟨27, _⟩ => ⟨S8320x1, .f32⟩
  | .hbm, ⟨28, _⟩ => ⟨S8320x2048, .f32⟩
  | .hbm, ⟨29, _⟩ => ⟨S8320x2048, .f32⟩
  | .hbm, ⟨30, _⟩ => ⟨S8320x2048, .f32⟩
  | .hbm, ⟨31, _⟩ => ⟨S8320x2048, .f32⟩
  | .hbm, ⟨32, _⟩ => ⟨S8320x2048, .f32⟩
  | .hbm, ⟨33, _⟩ => ⟨S8320x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S8320x2048, .f32⟩
  | .hbm, ⟨38, _⟩ => ⟨S8320x2048, .bf16⟩
  | _, _ => ⟨S8320x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Loss.lean ====
abbrev S8320x2048 : Shape := ⟨2, ![8320, 2048]⟩
abbrev S1x2048 : Shape := ⟨2, ![1, 2048]⟩
abbrev S8192x2048 : Shape := ⟨2, ![8192, 2048]⟩
abbrev S8x128 : Shape := ⟨2, ![8, 128]⟩
abbrev S128x2048 : Shape := ⟨2, ![128, 2048]⟩
abbrev S128 : Shape := ⟨1, ![128]⟩
abbrev S128x1 : Shape := ⟨2, ![128, 1]⟩
abbrev S1 : Shape := ⟨1, ![1]⟩
abbrev S1x1 : Shape := ⟨2, ![1, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S8320x2048, .f32⟩
  | .hbm, ⟨1, _⟩ => ⟨S1x2048, .f32⟩
  | .hbm, ⟨2, _⟩ => ⟨S8192x2048, .f32⟩
  | .hbm, ⟨3, _⟩ => ⟨S8x128, .f32⟩
  | .hbm, ⟨4, _⟩ => ⟨S8320x2048, .f32⟩
  | .hbm, ⟨5, _⟩ => ⟨S8320x2048, .bf16⟩
  | .hbm, ⟨6, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S128x2048, .f32⟩
  | .local _ .vmem, ⟨4, _⟩ => ⟨S128x2048, .f32⟩
  | .local _ .vmem, ⟨5, _⟩ => ⟨S8x128, .f32⟩
  | .local _ .vmem, ⟨6, _⟩ => ⟨S128x2048, .f32⟩
  | .local _ .vmem, ⟨7, _⟩ => ⟨S128x2048, .f32⟩
  | .local _ .vmem, ⟨8, _⟩ => ⟨S128x2048, .bf16⟩
  | .local _ .vmem, ⟨9, _⟩ => ⟨S128x2048, .bf16⟩
  | .local _ .vmem, ⟨10, _⟩ => ⟨S1x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c0_i32_19 : BitVec 32 := 0#32
  let v46 : BitVec 1 := Scalar.cmpi .eq arg0 c0_i32_19
  let v47 : BitVec 32 := Scalar.extui v46
  let c0_i32_20 : BitVec 32 := 0#32
  let v48 : BitVec 1 := Scalar.cmpi .ne v47 c0_i32_20
  v48

def k0_cond2 (i : grid0.Coords) : BitVec 1 :=
  let arg0 : BitVec 32 := BitVec.ofNat 32 (i 0).val
  let c0_i32_21 : BitVec 32 := 0#32
  let v49 : BitVec 1 := Scalar.cmpi .sgt arg0 c0_i32_21
  let v50 : BitVec 32 := Scalar.extui v49
  let c0_i32_22 : BitVec 32 := 0#32
  let v51 : BitVec 1 := Scalar.cmpi .ne v50 c0_i32_22
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S8320x2048 : Shape := ⟨2, ![8320, 2048]⟩
abbrev S1x2048 : Shape := ⟨2, ![1, 2048]⟩
abbrev S8192x2048 : Shape := ⟨2, ![8192, 2048]⟩
abbrev S8320 : Shape := ⟨1, ![8320]⟩
abbrev S8320x1 : Shape := ⟨2, ![8320, 1]⟩
abbrev S_ : Shape := ⟨0, ![]⟩
abbrev S2048 : Shape := ⟨1, ![2048]⟩
abbrev S8x128 : Shape := ⟨2, ![8, 128]⟩

abbrev nBuf : Space → Nat
  | .hbm => 78
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S1x2048, .f32⟩
  | .hbm, ⟨2, _⟩ => ⟨S8192x2048, .f32⟩
  | .hbm, ⟨3, _⟩ => ⟨S8320, .i32⟩
  | .hbm, ⟨4, _⟩ => ⟨S8320x1, .i32⟩
  | .hbm, ⟨5, _⟩ => ⟨S_, .i32⟩
  | .hbm, ⟨6, _⟩ => ⟨S8320x1, .i32⟩
  | .hbm, ⟨7, _⟩ => ⟨S8320x1, .i1⟩
  | .hbm, ⟨8, _⟩ => ⟨S8320x2048, .f32⟩
  | .hbm, ⟨9, _⟩ => ⟨S_, .f32⟩
  | .hbm, ⟨10, _⟩ => ⟨S8320, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S_, .f32⟩
  | .hbm, ⟨16, _⟩ => ⟨S8320x1, .f32⟩
  | .hbm, ⟨17, _⟩ => ⟨S8320x1, .f32⟩
  | .hbm, ⟨18, _⟩ => ⟨S8320x1, .f32⟩
  | .hbm, ⟨19, _⟩ => ⟨S8320x2048, .f32⟩
  | .hbm, ⟨20, _⟩ => ⟨S8320x2048, .f32⟩
  | .hbm, ⟨21, _⟩ => ⟨S8320x2048, .f32⟩
  | .hbm, ⟨22, _⟩ => ⟨S8320x2048, .f32⟩
  | .hbm, ⟨23, _⟩ => ⟨S_, .i32⟩
  | .hbm, ⟨24, _⟩ => ⟨S_, .f32⟩
  | .hbm, ⟨25, _⟩ => ⟨S8320x2048, .f32⟩
  | .hbm, ⟨26, _⟩ => ⟨S8320x2048, .f32⟩
  | .hbm, ⟨27, _⟩ => ⟨S_, .f32⟩
  | .hbm, ⟨28, _⟩ => ⟨S_, .f32⟩
  | .hbm, ⟨29, _⟩ => ⟨S8320x2048, .i1⟩
  | .hbm, ⟨30, _⟩ => ⟨S8320x2048, .f32⟩
  | .hbm, ⟨31, _⟩ => ⟨S8320x2048, .f32⟩
  | .hbm, ⟨32, _⟩ => ⟨S_, .f32⟩
  | .hbm, ⟨33, _⟩ => ⟨S8320x2048, .f32⟩
  | .hbm, ⟨34, _⟩ => ⟨S8320x2048, .f32⟩
  | .hbm, ⟨35, _⟩ => ⟨S8320x2048, .f32⟩
  | .hbm, ⟨36, _⟩ => ⟨S_, .f32⟩
  | .hbm, ⟨37, _⟩ => ⟨S8320, .f32⟩
  | .hbm, ⟨38, _⟩ => ⟨S8320x1, .f32⟩
  | .hbm, ⟨39, _⟩ => ⟨S_, .f32⟩
  | .hbm, ⟨40, _⟩ => ⟨S8320x1, .f32⟩
  | .hbm, ⟨41, _⟩ => ⟨S8320x1, .f32⟩
  | .hbm, ⟨42, _⟩ => ⟨S_, .f32⟩
  | .hbm, ⟨43, _⟩ => ⟨S8320x1, .f32⟩
  | .hbm, ⟨44, _⟩ => ⟨S8320x1, .f32⟩
  | .hbm, ⟨45, _⟩ => ⟨S8320x1, .f32⟩
  | .hbm, ⟨46, _⟩ => ⟨S8320x2048, .f32⟩
  | .hbm, ⟨47, _⟩ => ⟨S8320x2048, .f32⟩
  | .hbm, ⟨48, _⟩ => ⟨S8320x2048, .f32⟩
  | .hbm, ⟨49, _⟩ => ⟨S8320x2048, .f32⟩
  | .hbm, ⟨50, _⟩ => ⟨S8320x2048, .f32⟩
  | .hbm, ⟨51, _⟩ => ⟨S_, .f32⟩
  | .hbm, ⟨52, _⟩ => ⟨S8320, .f32⟩
  | .hbm, ⟨53, _⟩ => ⟨S8320x1, .f32⟩
  | .hbm, ⟨54, _⟩ => ⟨S_, .f32⟩
  | .hbm, ⟨55, _⟩ => ⟨S8320x1, .f32⟩
  | .hbm, ⟨56, _⟩ => ⟨S8320x1, .f32⟩
  | .hbm, ⟨57, _⟩ => ⟨S8320x2048, .f32⟩
  | .hbm, ⟨58, _⟩ => ⟨S8320x2048, .f32⟩
  | .hbm, ⟨59, _⟩ => ⟨S8320x2048, .f32⟩
  | .hbm, ⟨60, _⟩ => ⟨S8320x2048, .f32⟩
  | .hbm, ⟨61, _⟩ => ⟨S8320x2048, .f32⟩
  | .hbm, ⟨62, _⟩ => ⟨S8320x2048, .f32⟩
  | .hbm, ⟨63, _⟩ => ⟨S_, .f32⟩
  | .hbm, ⟨64, _⟩ => ⟨S2048, .f32⟩
  | .hbm, ⟨65, _⟩ => ⟨S1x2048, .f32⟩
  | .hbm, ⟨66, _⟩ => ⟨S8320x2048, .f32⟩
  | .hbm, ⟨67, _⟩ => ⟨S_, .f32⟩
  | .hbm, ⟨68, _⟩ => ⟨S8320, .f32⟩
  | .hbm, ⟨69, _⟩ => ⟨S_, .f32⟩
  | .hbm, ⟨70, _⟩ => ⟨S8320, .f32⟩
  | .hbm, ⟨71, _⟩ => ⟨S8320, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S8x128, .f32⟩
  | .hbm, ⟨77, _⟩ => ⟨S8320x2048, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_11 : Ref sig .tc := ⟨.hbm, 67, rfl⟩
abbrev main_v47 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_cst_13 : Ref sig .tc := ⟨.hbm, 72, rfl⟩
abbrev main_v50 : Ref sig .tc := ⟨.hbm, 73, rfl⟩
abbrev main_cst_14 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩

abbrev nD : Nat := 1
abbrev τ : Topo := Topo.v7x

variable {F : FTy → Type} [FloatOps F]
-- ==== Conv.lean ====
abbrev S8320x6144 : Shape := ⟨2, ![8320, 6144]⟩
abbrev S3x2048 : Shape := ⟨2, ![3, 2048]⟩
abbrev S8320x2048 : Shape := ⟨2, ![8320, 2048]⟩
abbrev S320x512 : Shape := ⟨2, ![320, 512]⟩
abbrev S16x512 : Shape := ⟨2, ![16, 512]⟩
abbrev S3x512 : Shape := ⟨2, ![3, 512]⟩
abbrev S1x512 : Shape := ⟨2, ![1, 512]⟩

abbrev nBuf : Space → Nat
  | .hbm => 3
  | .vmem => 14
  | .smem => 0
  | _ => 0

abbrev bufTy : (tb : Table) → Fin (tcTables nBuf tb) → BufTy
  | .hbm, ⟨0, _⟩ => ⟨S8320x6144, .bf16⟩
  | .hbm, ⟨1, _⟩ => ⟨S3x2048, .f32⟩
  | .hbm, ⟨2, _⟩ => ⟨S8320x2048, .bf16⟩
  | .local _ .vmem, ⟨0, _⟩ => ⟨S320x512, .bf16⟩
  | .local _ .vmem, ⟨1, _⟩ => ⟨S320x512, .bf16⟩
  | .local _ .vmem, ⟨2, _⟩ => ⟨S320x512, .bf16⟩
  | .local _ .vmem, ⟨3, _⟩ => ⟨S320x512, .bf16⟩
  | .local _ .vmem, ⟨4, _⟩ => ⟨S320x512, .bf16⟩
  | .local _ .vmem, ⟨5, _⟩ => ⟨S320x512, .bf16⟩
  | .local _ .vmem, ⟨6, _⟩ => ⟨S16x512, .bf16⟩
  | .local _ .vmem, ⟨7, _⟩ => ⟨S16x512, .bf16⟩
  | .local _ .vmem, ⟨8, _⟩ => ⟨S16x512, .bf16⟩
  | .local _ .vmem, ⟨9, _⟩ => ⟨S16x512, .bf16⟩
  | .local _ .vmem, ⟨10, _⟩ => ⟨S3x512, .f32⟩
  | .local _ .vmem, ⟨11, _⟩ => ⟨S3x512, .f32⟩
  | .local _ .vmem, ⟨12, _⟩ => ⟨S320x512, .bf16⟩
  | .local _ .vmem, ⟨13, _⟩ => ⟨S320x512, .bf16⟩
  | _, _ => ⟨S8320x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![26, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg1
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg1
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S320x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S320x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S320x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S320x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvRefIdeal.lean ====
abbrev S8320x6144 : Shape := ⟨2, ![8320, 6144]⟩
abbrev S3x2048 : Shape := ⟨2, ![3, 2048]⟩
abbrev S8320x2048 : Shape := ⟨2, ![8320, 2048]⟩
abbrev S_ : Shape := ⟨0, ![]⟩
abbrev S8322x2048 : Shape := ⟨2, ![8322, 2048]⟩
abbrev S1x2048 : Shape := ⟨2, ![1, 2048]⟩
abbrev S2048 : Shape := ⟨1, ![2048]⟩

abbrev nBuf : Space → Nat
  | .hbm => 32
  | .vmem => 0
  | .smem => 0
  | _ => 0

abbrev bufTy : (tb : Table) → Fin (tcTables nBuf tb) → BufTy
  | .hbm, ⟨0, _⟩ => ⟨S8320x6144, .bf16⟩
  | .hbm, ⟨1, _⟩ => ⟨S3x2048, .f32⟩
  | .hbm, ⟨2, _⟩ => ⟨S8320x6144, .f32⟩
  | .hbm, ⟨3, _⟩ => ⟨S8320x2048, .f32⟩
  | .hbm, ⟨4, _⟩ => ⟨S8320x2048, .f32⟩
  | .hbm, ⟨5, _⟩ => ⟨S8320x2048, .f32⟩
  | .hbm, ⟨6, _⟩ => ⟨S8320x2048, .f32⟩
  | .hbm, ⟨7, _⟩ => ⟨S_, .i32⟩
  | .hbm, ⟨8, _⟩ => ⟨S_, .f32⟩
  | .hbm, ⟨9, _⟩ => ⟨S8322x2048, .f32⟩
  | .hbm, ⟨10, _⟩ => ⟨S8320x2048, .f32⟩
  | .hbm, ⟨11, _⟩ => ⟨S8320x2048, .f32⟩
  | .hbm, ⟨12, _⟩ => ⟨S8320x2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S8320x2048, .f32⟩
  | .hbm, ⟨17, _⟩ => ⟨S8320x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S8320x2048, .f32⟩
  | .hbm, ⟨22, _⟩ => ⟨S8320x2048, .f32⟩
  | .hbm, ⟨23, _⟩ => ⟨S8320x2048, .f32⟩
  | .hbm, ⟨24, _⟩ => ⟨S1x2048, .f32⟩
  | .hbm, ⟨25, _⟩ => ⟨S2048, .f32⟩
  | .hbm, ⟨26, _⟩ => ⟨S1x2048, .f32⟩
  | .hbm, ⟨27, _⟩ => ⟨S8320x2048, .f32⟩
  | .hbm, ⟨28, _⟩ => ⟨S8320x2048, .f32⟩
  | .hbm, ⟨29, _⟩ => ⟨S8320x2048, .f32⟩
  | .hbm, ⟨30, _⟩ => ⟨S8320x2048, .f32⟩
  | .hbm, ⟨31, _⟩ => ⟨S8320x2048, .bf16⟩
  | _, _ => ⟨S8320x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩

abbrev nD : Nat := 1
abbrev τ : Topo := Topo.v7x

variable {F : FTy → Type} [FloatOps F]
-- ==== ConvBack.lean ====
abbrev S8320x6144 : Shape := ⟨2, ![8320, 6144]⟩
abbrev S3x2048 : Shape := ⟨2, ![3, 2048]⟩
abbrev S8320x2048 : Shape := ⟨2, ![8320, 2048]⟩
abbrev S8x2048 : Shape := ⟨2, ![8, 2048]⟩
abbrev S320x512 : Shape := ⟨2, ![320, 512]⟩
abbrev S16x512 : Shape := ⟨2, ![16, 512]⟩
abbrev S3x512 : Shape := ⟨2, ![3, 512]⟩
abbrev S8x512 : Shape := ⟨2, ![8, 512]⟩
abbrev S1x512 : Shape := ⟨2, ![1, 512]⟩
abbrev S512 : Shape := ⟨1, ![512]⟩

abbrev nBuf : Space → Nat
  | .hbm => 7
  | .vmem => 26
  | .smem => 0
  | _ => 0

abbrev bufTy : (tb : Table) → Fin (tcTables nBuf tb) → BufTy
  | .hbm, ⟨0, _⟩ => ⟨S8320x6144, .bf16⟩
  | .hbm, ⟨1, _⟩ => ⟨S3x2048, .f32⟩
  | .hbm, ⟨2, _⟩ => ⟨S8320x2048, .f32⟩
  | .hbm, ⟨3, _⟩ => ⟨S8320x2048, .bf16⟩
  | .hbm, ⟨4, _⟩ => ⟨S8320x2048, .bf16⟩
  | .hbm, ⟨5, _⟩ => ⟨S8320x2048, .bf16⟩
  | .hbm, ⟨6, _⟩ => ⟨S8x2048, .f32⟩
  | .local _ .vmem, ⟨0, _⟩ => ⟨S320x512, .bf16⟩
  | .local _ .vmem, ⟨1, _⟩ => ⟨S320x512, .bf16⟩
  | .local _ .vmem, ⟨2, _⟩ => ⟨S320x512, .bf16⟩
  | .local _ .vmem, ⟨3, _⟩ => ⟨S320x512, .bf16⟩
  | .local _ .vmem, ⟨4, _⟩ => ⟨S320x512, .bf16⟩
  | .local _ .vmem, ⟨5, _⟩ => ⟨S320x512, .bf16⟩
  | .local _ .vmem, ⟨6, _⟩ => ⟨S16x512, .bf16⟩
  | .local _ .vmem, ⟨7, _⟩ => ⟨S16x512, .bf16⟩
  | .local _ .vmem, ⟨8, _⟩ => ⟨S16x512, .bf16⟩
  | .local _ .vmem, ⟨9, _⟩ => ⟨S16x512, .bf16⟩
  | .local _ .vmem, ⟨10, _⟩ => ⟨S16x512, .bf16⟩
  | .local _ .vmem, ⟨11, _⟩ => ⟨S16x512, .bf16⟩
  | .local _ .vmem, ⟨12, _⟩ => ⟨S320x512, .f32⟩
  | .local _ .vmem, ⟨13, _⟩ => ⟨S320x512, .f32⟩
  | .local _ .vmem, ⟨14, _⟩ => ⟨S16x512, .f32⟩
  | .local _ .vmem, ⟨15, _⟩ => ⟨S16x512, .f32⟩
  | .local _ .vmem, ⟨16, _⟩ => ⟨S3x512, .f32⟩
  | .local _ .vmem, ⟨17, _⟩ => ⟨S3x512, .f32⟩
  | .local _ .vmem, ⟨18, _⟩ => ⟨S320x512, .bf16⟩
  | .local _ .vmem, ⟨19, _⟩ => ⟨S320x512, .bf16⟩
  | .local _ .vmem, ⟨20, _⟩ => ⟨S320x512, .bf16⟩
  | .local _ .vmem, ⟨21, _⟩ => ⟨S320x512, .bf16⟩
  | .local _ .vmem, ⟨22, _⟩ => ⟨S320x512, .bf16⟩
  | .local _ .vmem, ⟨23, _⟩ => ⟨S320x512, .bf16⟩
  | .local _ .vmem, ⟨24, _⟩ => ⟨S8x512, .f32⟩
  | .local _ .vmem, ⟨25, _⟩ => ⟨S8x512, .f32⟩
  | _, _ => ⟨S8320x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 26], ![false, false]⟩

def k0_cond1 (i : grid0.Coords) : BitVec 1 :=
  let arg1 : BitVec 32 := BitVec.ofNat 32 (i 1).val
  let c0_i32_45 : BitVec 32 := 0#32
  let v125 : BitVec 1 := Scalar.cmpi .eq arg1 c0_i32_45
  let v126 : BitVec 32 := Scalar.extui v125
  let c0_i32_46 : BitVec 32 := 0#32
  let v127 : BitVec 1 := Scalar.cmpi .ne v126 c0_i32_46
  v127

def k0_cond2 (i : grid0.Coords) : BitVec 1 :=
  let arg1 : BitVec 32 := BitVec.ofNat 32 (i 1).val
  let c0_i32_47 : BitVec 32 := 0#32
  let v128 : BitVec 1 := Scalar.cmpi .sgt arg1 c0_i32_47
  let v129 : BitVec 32 := Scalar.extui v128
  let c0_i32_48 : BitVec 32 := 0#32
  let v130 : BitVec 1 := Scalar.cmpi .ne v129 c0_i32_48
  v130

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg1 c20_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg1 c20_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg0
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c20_i32 : BitVec 32 := 20#32
  let v1 : BitVec 32 := Scalar.muli v0 c20_i32
  let c519_i32 : BitVec 32 := 519#32
  let v2 : BitVec 32 := Scalar.minsi v1 c519_i32
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c20_i32 : BitVec 32 := 20#32
  let v1 : BitVec 32 := Scalar.muli v0 c20_i32
  let c519_i32 : BitVec 32 := 519#32
  let v2 : BitVec 32 := Scalar.minsi v1 c519_i32
  let c0_i32 : BitVec 32 := 0#32
  ![v2.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S320x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S320x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S320x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S320x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S320x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S320x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S320x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ConvBackRefIdeal.lean ====
abbrev S8320x6144 : Shape := ⟨2, ![8320, 6144]⟩
abbrev S3x2048 : Shape := ⟨2, ![3, 2048]⟩
abbrev S8320x2048 : Shape := ⟨2, ![8320, 2048]⟩
abbrev S_ : Shape := ⟨0, ![]⟩
abbrev S8322x2048 : Shape := ⟨2, ![8322, 2048]⟩
abbrev S1x2048 : Shape := ⟨2, ![1, 2048]⟩
abbrev S2048 : Shape := ⟨1, ![2048]⟩
abbrev S8x2048 : Shape := ⟨2, ![8, 2048]⟩

abbrev nBuf : Space → Nat
  | .hbm => 81
  | .vmem => 0
  | .smem => 0
  | _ => 0

abbrev bufTy : (tb : Table) → Fin (tcTables nBuf tb) → BufTy
  | .hbm, ⟨0, _⟩ => ⟨S8320x6144, .bf16⟩
  | .hbm, ⟨1, _⟩ => ⟨S3x2048, .f32⟩
  | .hbm, ⟨2, _⟩ => ⟨S8320x2048, .f32⟩
  | .hbm, ⟨3, _⟩ => ⟨S8320x6144, .f32⟩
  | .hbm, ⟨4, _⟩ => ⟨S8320x2048, .f32⟩
  | .hbm, ⟨5, _⟩ => ⟨S8320x2048, .f32⟩
  | .hbm, ⟨6, _⟩ => ⟨S8320x2048, .f32⟩
  | .hbm, ⟨7, _⟩ => ⟨S8320x2048, .f32⟩
  | .hbm, ⟨8, _⟩ => ⟨S_, .i32⟩
  | .hbm, ⟨9, _⟩ => ⟨S_, .f32⟩
  | .hbm, ⟨10, _⟩ => ⟨S8322x2048, .f32⟩
  | .hbm, ⟨11, _⟩ => ⟨S8320x2048, .f32⟩
  | .hbm, ⟨12, _⟩ => ⟨S8320x2048, .f32⟩
  | .hbm, ⟨13, _⟩ => ⟨S8320x2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S8320x2048, .f32⟩
  | .hbm, ⟨18, _⟩ => ⟨S8320x2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S8320x2048, .f32⟩
  | .hbm, ⟨23, _⟩ => ⟨S8320x2048, .f32⟩
  | .hbm, ⟨24, _⟩ => ⟨S8320x2048, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S8320x2048, .f32⟩
  | .hbm, ⟨29, _⟩ => ⟨S8320x2048, .f32⟩
  | .hbm, ⟨30, _⟩ => ⟨S8320x2048, .f32⟩
  | .hbm, ⟨31, _⟩ => ⟨S8320x2048, .f32⟩
  | .hbm, ⟨32, _⟩ => ⟨S8320x2048, .f32⟩
  | .hbm, ⟨33, _⟩ => ⟨S_, .i32⟩
  | .hbm, ⟨34, _⟩ => ⟨S_, .f32⟩
  | .hbm, ⟨35, _⟩ => ⟨S8322x2048, .f32⟩
  | .hbm, ⟨36, _⟩ => ⟨S8320x2048, .f32⟩
  | .hbm, ⟨37, _⟩ => ⟨S8320x2048, .f32⟩
  | .hbm, ⟨38, _⟩ => ⟨S8320x2048, .f32⟩
  | .hbm, ⟨39, _⟩ => ⟨S1x2048, .f32⟩
  | .hbm, ⟨40, _⟩ => ⟨S2048, .f32⟩
  | .hbm, ⟨41, _⟩ => ⟨S1x2048, .f32⟩
  | .hbm, ⟨42, _⟩ => ⟨S8320x2048, .f32⟩
  | .hbm, ⟨43, _⟩ => ⟨S8320x2048, .f32⟩
  | .hbm, ⟨44, _⟩ => ⟨S1x2048, .f32⟩
  | .hbm, ⟨45, _⟩ => ⟨S2048, .f32⟩
  | .hbm, ⟨46, _⟩ => ⟨S1x2048, .f32⟩
  | .hbm, ⟨47, _⟩ => ⟨S8320x2048, .f32⟩
  | .hbm, ⟨48, _⟩ => ⟨S8320x2048, .f32⟩
  | .hbm, ⟨49, _⟩ => ⟨S8320x2048, .f32⟩
  | .hbm, ⟨50, _⟩ => ⟨S1x2048, .f32⟩
  | .hbm, ⟨51, _⟩ => ⟨S2048, .f32⟩
  | .hbm, ⟨52, _⟩ => ⟨S1x2048, .f32⟩
  | .hbm, ⟨53, _⟩ => ⟨S8320x2048, .f32⟩
  | .hbm, ⟨54, _⟩ => ⟨S8320x2048, .f32⟩
  | .hbm, ⟨55, _⟩ => ⟨S8320x2048, .f32⟩
  | .hbm, ⟨56, _⟩ => ⟨S8320x2048, .f32⟩
  | .hbm, ⟨57, _⟩ => ⟨S_, .f32⟩
  | .hbm, ⟨58, _⟩ => ⟨S2048, .f32⟩
  | .hbm, ⟨59, _⟩ => ⟨S8320x2048, .f32⟩
  | .hbm, ⟨60, _⟩ => ⟨S_, .f32⟩
  | .hbm, ⟨61, _⟩ => ⟨S2048, .f32⟩
  | .hbm, ⟨62, _⟩ => ⟨S8320x2048, .f32⟩
  | .hbm, ⟨63, _⟩ => ⟨S_, .f32⟩
  | .hbm, ⟨64, _⟩ => ⟨S2048, .f32⟩
  | .hbm, ⟨65, _⟩ => ⟨S_, .f32⟩
  | .hbm, ⟨66, _⟩ => ⟨S2048, .f32⟩
  | .hbm, ⟨67, _⟩ => ⟨S1x2048, .f32⟩
  | .hbm, ⟨68, _⟩ => ⟨S1x2048, .f32⟩
  | .hbm, ⟨69, _⟩ => ⟨S1x2048, .f32⟩
  | .hbm, ⟨70, _⟩ => ⟨S1x2048, .f32⟩
  | .hbm, ⟨71, _⟩ => ⟨S1x2048, .f32⟩
  | .hbm, ⟨72, _⟩ => ⟨S1x2048, .f32⟩
  | .hbm, ⟨73, _⟩ => ⟨S1x2048, .f32⟩
  | .hbm, ⟨74, _⟩ => ⟨S1x2048, .f32⟩
  | .hbm, ⟨75, _⟩ => ⟨S8x2048, .f32⟩
  | .hbm, ⟨76, _⟩ => ⟨S8320x2048, .bf16⟩
  | .hbm, ⟨77, _⟩ => ⟨S8320x2048, .f32⟩
  | .hbm, ⟨78, _⟩ => ⟨S8320x2048, .bf16⟩
  | .hbm, ⟨79, _⟩ => ⟨S8320x2048, .f32⟩
  | .hbm, ⟨80, _⟩ => ⟨S8320x2048, .bf16⟩
  | _, _ => ⟨S8320x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_c_0 : Ref sig .tc := ⟨.hbm, 33, rfl⟩
abbrev main_call1_v0 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_cst : Ref sig .tc := ⟨.hbm, 57, rfl⟩
abbrev main_v50 : Ref sig .tc := ⟨.hbm, 58, rfl⟩
abbrev main_v51 : Ref sig .tc := ⟨.hbm, 59, rfl⟩
abbrev main_cst_1 : Ref sig .tc := ⟨.hbm, 60, rfl⟩
abbrev main_v52 : Ref sig .tc := ⟨.hbm, 61, rfl⟩
abbrev main_v53 : Ref sig .tc := ⟨.hbm, 62, rfl⟩
abbrev main_cst_2 : Ref sig .tc := ⟨.hbm, 63, rfl⟩
abbrev main_v54 : Ref sig .tc := ⟨.hbm, 64, rfl⟩
abbrev main_cst_3 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩

abbrev nD : Nat := 1
abbrev τ : Topo := Topo.v7x

variable {F : FTy → Type} [FloatOps F]
-- ==== Rope.lean ====
abbrev S8320x2560 : Shape := ⟨2, ![8320, 2560]⟩
abbrev S8320x32 : Shape := ⟨2, ![8320, 32]⟩
abbrev S8320x128 : Shape := ⟨2, ![8320, 128]⟩
abbrev S8320x2048 : Shape := ⟨2, ![8320, 2048]⟩
abbrev S8320x1024 : Shape := ⟨2, ![8320, 1024]⟩
abbrev S320x2560 : Shape := ⟨2, ![320, 2560]⟩
abbrev S320x128 : Shape := ⟨2, ![320, 128]⟩
abbrev S320x2048 : Shape := ⟨2, ![320, 2048]⟩
abbrev S320x1024 : Shape := ⟨2, ![320, 1024]⟩

abbrev nBuf : Space → Nat
  | .hbm => 10
  | .vmem => 12
  | .smem => 0
  | _ => 0

abbrev bufTy : (tb : Table) → Fin (tcTables nBuf tb) → BufTy
  | .hbm, ⟨0, _⟩ => ⟨S8320x2560, .f32⟩
  | .hbm, ⟨1, _⟩ => ⟨S8320x32, .f32⟩
  | .hbm, ⟨2, _⟩ => ⟨S8320x32, .f32⟩
  | .hbm, ⟨3, _⟩ => ⟨S8320x128, .f32⟩
  | .hbm, ⟨4, _⟩ => ⟨S8320x32, .f32⟩
  | .hbm, ⟨5, _⟩ => ⟨S8320x32, .f32⟩
  | .hbm, ⟨6, _⟩ => ⟨S8320x128, .f32⟩
  | .hbm, ⟨7, _⟩ => ⟨S8320x2048, .bf16⟩
  | .hbm, ⟨8, _⟩ => ⟨S8320x1024, .bf16⟩
  | .hbm, ⟨9, _⟩ => ⟨S8320x1024, .bf16⟩
  | .local _ .vmem, ⟨0, _⟩ => ⟨S320x2560, .f32⟩
  | .local _ .vmem, ⟨1, _⟩ => ⟨S320x2560, .f32⟩
  | .local _ .vmem, ⟨2, _⟩ => ⟨S320x128, .f32⟩
  | .local _ .vmem, ⟨3, _⟩ => ⟨S320x128, .f32⟩
  | .local _ .vmem, ⟨4, _⟩ => ⟨S320x128, .f32⟩
  | .local _ .vmem, ⟨5, _⟩ => ⟨S320x128, .f32⟩
  | .local _ .vmem, ⟨6, _⟩ => ⟨S320x2048, .bf16⟩
  | .local _ .vmem, ⟨7, _⟩ => ⟨S320x2048, .bf16⟩
  | .local _ .vmem, ⟨8, _⟩ => ⟨S320x1024, .bf16⟩
  | .local _ .vmem, ⟨9, _⟩ => ⟨S320x1024, .bf16⟩
  | .local _ .vmem, ⟨10, _⟩ => ⟨S320x1024, .bf16⟩
  | .local _ .vmem, ⟨11, _⟩ => ⟨S320x1024, .bf16⟩
  | _, _ => ⟨S8320x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RopeRefIdeal.lean ====
abbrev S8320x2560 : Shape := ⟨2, ![8320, 2560]⟩
abbrev S8320x32 : Shape := ⟨2, ![8320, 32]⟩
abbrev S8320x2048 : Shape := ⟨2, ![8320, 2048]⟩
abbrev S8320x256 : Shape := ⟨2, ![8320, 256]⟩
abbrev S8320x32x64 : Shape := ⟨3, ![8320, 32, 64]⟩
abbrev S8320x32x32 : Shape := ⟨3, ![8320, 32, 32]⟩
abbrev S8320x1x32 : Shape := ⟨3, ![8320, 1, 32]⟩
abbrev S_ : Shape := ⟨0, ![]⟩
abbrev S8320x4x64 : Shape := ⟨3, ![8320, 4, 64]⟩
abbrev S8320x4x32 : Shape := ⟨3, ![8320, 4, 32]⟩
abbrev S8320x4x256 : Shape := ⟨3, ![8320, 4, 256]⟩
abbrev S8320x1024 : Shape := ⟨2, ![8320, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8320x2560, .f32⟩
  | .hbm, ⟨1, _⟩ => ⟨S8320x32, .f32⟩
  | .hbm, ⟨2, _⟩ => ⟨S8320x32, .f32⟩
  | .hbm, ⟨3, _⟩ => ⟨S8320x2048, .f32⟩
  | .hbm, ⟨4, _⟩ => ⟨S8320x256, .f32⟩
  | .hbm, ⟨5, _⟩ => ⟨S8320x256, .f32⟩
  | .hbm, ⟨6, _⟩ => ⟨S8320x32x64, .f32⟩
  | .hbm, ⟨7, _⟩ => ⟨S8320x32x32, .f32⟩
  | .hbm, ⟨8, _⟩ => ⟨S8320x32x32, .f32⟩
  | .hbm, ⟨9, _⟩ => ⟨S8320x1x32, .f32⟩
  | .hbm, ⟨10, _⟩ => ⟨S8320x1x32, .f32⟩
  | .hbm, ⟨11, _⟩ => ⟨S8320x32x32, .f32⟩
  | .hbm, ⟨12, _⟩ => ⟨S8320x32x32, .f32⟩
  | .hbm, ⟨13, _⟩ => ⟨S8320x32x32, .f32⟩
  | .hbm, ⟨14, _⟩ => ⟨S8320x32x32, .f32⟩
  | .hbm, ⟨15, _⟩ => ⟨S8320x32x32, .f32⟩
  | .hbm, ⟨16, _⟩ => ⟨S8320x32x32, .f32⟩
  | .hbm, ⟨17, _⟩ => ⟨S8320x32x32, .f32⟩
  | .hbm, ⟨18, _⟩ => ⟨S8320x32x32, .f32⟩
  | .hbm, ⟨19, _⟩ => ⟨S8320x32x32, .f32⟩
  | .hbm, ⟨20, _⟩ => ⟨S8320x32x32, .f32⟩
  | .hbm, ⟨21, _⟩ => ⟨S8320x32x64, .f32⟩
  | .hbm, ⟨22, _⟩ => ⟨S_, .f32⟩
  | .hbm, ⟨23, _⟩ => ⟨S8320x32x64, .f32⟩
  | .hbm, ⟨24, _⟩ => ⟨S8320x32x64, .f32⟩
  | .hbm, ⟨25, _⟩ => ⟨S8320x2048, .f32⟩
  | .hbm, ⟨26, _⟩ => ⟨S8320x2048, .bf16⟩
  | .hbm, ⟨27, _⟩ => ⟨S8320x4x64, .f32⟩
  | .hbm, ⟨28, _⟩ => ⟨S8320x4x32, .f32⟩
  | .hbm, ⟨29, _⟩ => ⟨S8320x4x32, .f32⟩
  | .hbm, ⟨30, _⟩ => ⟨S8320x1x32, .f32⟩
  | .hbm, ⟨31, _⟩ => ⟨S8320x1x32, .f32⟩
  | .hbm, ⟨32, _⟩ => ⟨S8320x4x32, .f32⟩
  | .hbm, ⟨33, _⟩ => ⟨S8320x4x32, .f32⟩
  | .hbm, ⟨34, _⟩ => ⟨S8320x4x32, .f32⟩
  | .hbm, ⟨35, _⟩ => ⟨S8320x4x32, .f32⟩
  | .hbm, ⟨36, _⟩ => ⟨S8320x4x32, .f32⟩
  | .hbm, ⟨37, _⟩ => ⟨S8320x4x32, .f32⟩
  | .hbm, ⟨38, _⟩ => ⟨S8320x4x32, .f32⟩
  | .hbm, ⟨39, _⟩ => ⟨S8320x4x32, .f32⟩
  | .hbm, ⟨40, _⟩ => ⟨S8320x4x32, .f32⟩
  | .hbm, ⟨41, _⟩ => ⟨S8320x4x32, .f32⟩
  | .hbm, ⟨42, _⟩ => ⟨S8320x4x64, .f32⟩
  | .hbm, ⟨43, _⟩ => ⟨S_, .f32⟩
  | .hbm, ⟨44, _⟩ => ⟨S8320x4x64, .f32⟩
  | .hbm, ⟨45, _⟩ => ⟨S8320x4x256, .f32⟩
  | .hbm, ⟨46, _⟩ => ⟨S8320x1024, .f32⟩
  | .hbm, ⟨47, _⟩ => ⟨S8320x1024, .bf16⟩
  | .hbm, ⟨48, _⟩ => ⟨S8320x4x64, .f32⟩
  | .hbm, ⟨49, _⟩ => ⟨S_, .f32⟩
  | .hbm, ⟨50, _⟩ => ⟨S8320x4x64, .f32⟩
  | .hbm, ⟨51, _⟩ => ⟨S8320x4x256, .f32⟩
  | .hbm, ⟨52, _⟩ => ⟨S8320x1024, .f32⟩
  | .hbm, ⟨53, _⟩ => ⟨S8320x1024, .bf16⟩
  | _, _ => ⟨S8320x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_cst_0 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_cst_1 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩

abbrev nD : Nat := 1
abbrev τ : Topo := Topo.v7x

variable {F : FTy → Type} [FloatOps F]
-- ==== RopeBack.lean ====
abbrev S8320x2048 : Shape := ⟨2, ![8320, 2048]⟩
abbrev S8320x512 : Shape := ⟨2, ![8320, 512]⟩
abbrev S8320x32 : Shape := ⟨2, ![8320, 32]⟩
abbrev S8320x128 : Shape := ⟨2, ![8320, 128]⟩
abbrev S8320x2560 : Shape := ⟨2, ![8320, 2560]⟩
abbrev S320x2048 : Shape := ⟨2, ![320, 2048]⟩
abbrev S320x512 : Shape := ⟨2, ![320, 512]⟩
abbrev S320x128 : Shape := ⟨2, ![320, 128]⟩
abbrev S320x2560 : Shape := ⟨2, ![320, 2560]⟩

abbrev nBuf : Space → Nat
  | .hbm => 10
  | .vmem => 12
  | .smem => 0
  | _ => 0

abbrev bufTy : (tb : Table) → Fin (tcTables nBuf tb) → BufTy
  | .hbm, ⟨0, _⟩ => ⟨S8320x2048, .f32⟩
  | .hbm, ⟨1, _⟩ => ⟨S8320x512, .f32⟩
  | .hbm, ⟨2, _⟩ => ⟨S8320x512, .f32⟩
  | .hbm, ⟨3, _⟩ => ⟨S8320x32, .f32⟩
  | .hbm, ⟨4, _⟩ => ⟨S8320x32, .f32⟩
  | .hbm, ⟨5, _⟩ => ⟨S8320x128, .f32⟩
  | .hbm, ⟨6, _⟩ => ⟨S8320x32, .f32⟩
  | .hbm, ⟨7, _⟩ => ⟨S8320x32, .f32⟩
  | .hbm, ⟨8, _⟩ => ⟨S8320x128, .f32⟩
  | .hbm, ⟨9, _⟩ => ⟨S8320x2560, .bf16⟩
  | .local _ .vmem, ⟨0, _⟩ => ⟨S320x2048, .f32⟩
  | .local _ .vmem, ⟨1, _⟩ => ⟨S320x2048, .f32⟩
  | .local _ .vmem, ⟨2, _⟩ => ⟨S320x512, .f32⟩
  | .local _ .vmem, ⟨3, _⟩ => ⟨S320x512, .f32⟩
  | .local _ .vmem, ⟨4, _⟩ => ⟨S320x512, .f32⟩
  | .local _ .vmem, ⟨5, _⟩ => ⟨S320x512, .f32⟩
  | .local _ .vmem, ⟨6, _⟩ => ⟨S320x128, .f32⟩
  | .local _ .vmem, ⟨7, _⟩ => ⟨S320x128, .f32⟩
  | .local _ .vmem, ⟨8, _⟩ => ⟨S320x128, .f32⟩
  | .local _ .vmem, ⟨9, _⟩ => ⟨S320x128, .f32⟩
  | .local _ .vmem, ⟨10, _⟩ => ⟨S320x2560, .bf16⟩
  | .local _ .vmem, ⟨11, _⟩ => ⟨S320x2560, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RopeBackRefIdeal.lean ====
abbrev S8320x2048 : Shape := ⟨2, ![8320, 2048]⟩
abbrev S8320x512 : Shape := ⟨2, ![8320, 512]⟩
abbrev S8320x32 : Shape := ⟨2, ![8320, 32]⟩
abbrev S8320x32x64 : Shape := ⟨3, ![8320, 32, 64]⟩
abbrev S8320x32x32 : Shape := ⟨3, ![8320, 32, 32]⟩
abbrev S8320x1x32 : Shape := ⟨3, ![8320, 1, 32]⟩
abbrev S_ : Shape := ⟨0, ![]⟩
abbrev S8320x4x2x64 : Shape := ⟨4, ![8320, 4, 2, 64]⟩
abbrev S8320x4x1x64 : Shape := ⟨4, ![8320, 4, 1, 64]⟩
abbrev S8320x4x64 : Shape := ⟨3, ![8320, 4, 64]⟩
abbrev S8320x4x32 : Shape := ⟨3, ![8320, 4, 32]⟩
abbrev S8320x256 : Shape := ⟨2, ![8320, 256]⟩
abbrev S8320x2560 : Shape := ⟨2, ![8320, 2560]⟩

abbrev nBuf : Space → Nat
  | .hbm => 58
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8320x512, .f32⟩
  | .hbm, ⟨2, _⟩ => ⟨S8320x512, .f32⟩
  | .hbm, ⟨3, _⟩ => ⟨S8320x32, .f32⟩
  | .hbm, ⟨4, _⟩ => ⟨S8320x32, .f32⟩
  | .hbm, ⟨5, _⟩ => ⟨S8320x32, .f32⟩
  | .hbm, ⟨6, _⟩ => ⟨S8320x32x64, .f32⟩
  | .hbm, ⟨7, _⟩ => ⟨S8320x32x32, .f32⟩
  | .hbm, ⟨8, _⟩ => ⟨S8320x32x32, .f32⟩
  | .hbm, ⟨9, _⟩ => ⟨S8320x1x32, .f32⟩
  | .hbm, ⟨10, _⟩ => ⟨S8320x1x32, .f32⟩
  | .hbm, ⟨11, _⟩ => ⟨S8320x32x32, .f32⟩
  | .hbm, ⟨12, _⟩ => ⟨S8320x32x32, .f32⟩
  | .hbm, ⟨13, _⟩ => ⟨S8320x32x32, .f32⟩
  | .hbm, ⟨14, _⟩ => ⟨S8320x32x32, .f32⟩
  | .hbm, ⟨15, _⟩ => ⟨S8320x32x32, .f32⟩
  | .hbm, ⟨16, _⟩ => ⟨S8320x32x32, .f32⟩
  | .hbm, ⟨17, _⟩ => ⟨S8320x32x32, .f32⟩
  | .hbm, ⟨18, _⟩ => ⟨S8320x32x32, .f32⟩
  | .hbm, ⟨19, _⟩ => ⟨S8320x32x32, .f32⟩
  | .hbm, ⟨20, _⟩ => ⟨S8320x32x32, .f32⟩
  | .hbm, ⟨21, _⟩ => ⟨S8320x32x64, .f32⟩
  | .hbm, ⟨22, _⟩ => ⟨S_, .f32⟩
  | .hbm, ⟨23, _⟩ => ⟨S8320x32x64, .f32⟩
  | .hbm, ⟨24, _⟩ => ⟨S8320x32x64, .f32⟩
  | .hbm, ⟨25, _⟩ => ⟨S8320x4x2x64, .f32⟩
  | .hbm, ⟨26, _⟩ => ⟨S8320x4x1x64, .f32⟩
  | .hbm, ⟨27, _⟩ => ⟨S8320x4x64, .f32⟩
  | .hbm, ⟨28, _⟩ => ⟨S8320x4x1x64, .f32⟩
  | .hbm, ⟨29, _⟩ => ⟨S8320x4x64, .f32⟩
  | .hbm, ⟨30, _⟩ => ⟨S8320x4x64, .f32⟩
  | .hbm, ⟨31, _⟩ => ⟨S8320x32, .f32⟩
  | .hbm, ⟨32, _⟩ => ⟨S8320x4x32, .f32⟩
  | .hbm, ⟨33, _⟩ => ⟨S8320x4x32, .f32⟩
  | .hbm, ⟨34, _⟩ => ⟨S8320x1x32, .f32⟩
  | .hbm, ⟨35, _⟩ => ⟨S8320x1x32, .f32⟩
  | .hbm, ⟨36, _⟩ => ⟨S8320x4x32, .f32⟩
  | .hbm, ⟨37, _⟩ => ⟨S8320x4x32, .f32⟩
  | .hbm, ⟨38, _⟩ => ⟨S8320x4x32, .f32⟩
  | .hbm, ⟨39, _⟩ => ⟨S8320x4x32, .f32⟩
  | .hbm, ⟨40, _⟩ => ⟨S8320x4x32, .f32⟩
  | .hbm, ⟨41, _⟩ => ⟨S8320x4x32, .f32⟩
  | .hbm, ⟨42, _⟩ => ⟨S8320x4x32, .f32⟩
  | .hbm, ⟨43, _⟩ => ⟨S8320x4x32, .f32⟩
  | .hbm, ⟨44, _⟩ => ⟨S8320x4x32, .f32⟩
  | .hbm, ⟨45, _⟩ => ⟨S8320x4x32, .f32⟩
  | .hbm, ⟨46, _⟩ => ⟨S8320x4x64, .f32⟩
  | .hbm, ⟨47, _⟩ => ⟨S8320x4x2x64, .f32⟩
  | .hbm, ⟨48, _⟩ => ⟨S8320x4x1x64, .f32⟩
  | .hbm, ⟨49, _⟩ => ⟨S8320x4x64, .f32⟩
  | .hbm, ⟨50, _⟩ => ⟨S8320x4x1x64, .f32⟩
  | .hbm, ⟨51, _⟩ => ⟨S8320x4x64, .f32⟩
  | .hbm, ⟨52, _⟩ => ⟨S8320x4x64, .f32⟩
  | .hbm, ⟨53, _⟩ => ⟨S8320x2048, .f32⟩
  | .hbm, ⟨54, _⟩ => ⟨S8320x256, .f32⟩
  | .hbm, ⟨55, _⟩ => ⟨S8320x256, .f32⟩
  | .hbm, ⟨56, _⟩ => ⟨S8320x2560, .f32⟩
  | .hbm, ⟨57, _⟩ => ⟨S8320x2560, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩

abbrev nD : Nat := 1
abbrev τ : Topo := Topo.v7x

variable {F : FTy → Type} [FloatOps F]
-- ==== Proof.Block.lean ====
/-
# The blocks of an array of eight blocks

An array of shape `8 × r × w` is eight blocks of shape `r × w`. Block `p` as a memref is the slice of the array at
`p` with the axis of size one dropped; here is which elements it has and in what order.
-/
module

public import Idealize.ShloMosaic.Lib.Pipeline.Launch
public import Idealize.ShloMosaic.Lib.Tactic

@[expose] public section

noncomputable section

namespace Exchange

open Idealize.ShloMosaic

/-- Eight blocks of `r` rows, one block with its axis of size one, and one block. -/
abbrev A3 (r w : ℕ) : Shape := ⟨3, ![8, r, w]⟩
abbrev A1 (r w : ℕ) : Shape := ⟨3, ![1, r, w]⟩
abbrev A2 (r w : ℕ) : Shape := ⟨2, ![r, w]⟩

theorem inb3 {r w : ℕ} (p : Fin 8) : ∀ a, (![p.val, 0, 0] : Fin 3 → ℕ) a + (A1 r w).size a ≤ (A3 r w).size a := by
  intro a
  fin_cases a
  · show p.val + 1 ≤ 8; omega
  · show 0 + r ≤ r; omega
  · show 0 + w ≤ w; omega

theorem squeezes3 (r w : ℕ) : (A1 r w).Squeezes (A2 r w) := by
  unfold Shape.Squeezes
  simp [Shape.dropsOnes, List.ofFn_succ]

/-- The rectangle of block `p`. -/
abbrev bRect (r w : ℕ) (p : Fin 8) : Rect (A3 r w) := Rect.unit (s := A3 r w) ![p.val, 0, 0] (A1 r w).size (inb3 p)

/-- Where the elements of block `p` lie in the array. -/
def bemb (r w : ℕ) (p : Fin 8) : (A2 r w).Idx ↪ (A3 r w).Idx :=
  (Shape.reshapeEquiv (squeezes3 r w).numel_eq).toEmbedding.trans (bRect r w p).emb

/-- An index of the array from its three coordinates. -/
def ix3 {r w : ℕ} (p : Fin 8) (x : Fin r) (y : Fin w) : (A3 r w).Idx
  | ⟨0, _⟩ => p
  | ⟨1, _⟩ => x
  | ⟨2, _⟩ => y

theorem bemb_apply {r w : ℕ} (p : Fin 8) (x : (A2 r w).Idx) : bemb r w p x = ix3 p (x 0) (x 1) := by
  show (bRect r w p).emb (Shape.reshapeEquiv (squeezes3 r w).numel_eq x) = _
  have h : Shape.reshapeEquiv (squeezes3 r w).numel_eq x = (Fin.cons ⟨0, Nat.one_pos⟩ x : (A1 r w).Idx) :=
    Shape.reshapeEquiv_cons_one (d := ![r, w]) _ x
  rw [h]
  funext a
  apply Fin.ext
  rw [Rect.emb_apply]
  fin_cases a
  · show p.val + 1 * 0 = p.val; omega
  · show 0 + 1 * (x 0).val = (x 0).val; omega
  · show 0 + 1 * (x 1).val = (x 1).val; omega

theorem ix3_eta {r w : ℕ} (y : (A3 r w).Idx) : ix3 (y 0) (y 1) (y 2) = y := by
  funext a
  fin_cases a <;> rfl

/-- The elements of block `p`. -/
def bset (r w : ℕ) (p : Fin 8) : Finset (A3 r w).Idx := Finset.univ.map (bemb r w p)

/-- The index of a block from its two coordinates. -/
def ix2 {r w : ℕ} (x : Fin r) (y : Fin w) : (A2 r w).Idx
  | ⟨0, _⟩ => x
  | ⟨1, _⟩ => y

theorem mem_bset {r w : ℕ} {p : Fin 8} {y : (A3 r w).Idx} : y ∈ bset r w p ↔ y 0 = p := by
  unfold bset
  rw [Finset.mem_map]
  constructor
  · rintro ⟨x, -, rfl⟩
    rw [bemb_apply]; rfl
  · rintro rfl
    exact ⟨ix2 (y 1) (y 2), Finset.mem_univ _, (bemb_apply (y 0 : Fin 8) _).trans (ix3_eta y)⟩

theorem bset_disjoint {r w : ℕ} (p q : Fin 8) (h : p ≠ q) : Disjoint (bset r w p) (bset r w q) := by
  rw [Finset.disjoint_left]
  intro y hp hq
  exact h ((mem_bset.1 hp).symm.trans (mem_bset.1 hq))

theorem bset_cover {r w : ℕ} (y : (A3 r w).Idx) : ∃ p, y ∈ bset r w p := ⟨(y 0 : Fin 8), mem_bset.2 rfl⟩

variable {nD : Nat} {τ : Topo} {sig : RefSig} {e : EltTy}

/-- Block `p` of an array of eight blocks. -/
abbrev blk {r w : ℕ} (M : Memref sig .tc .hbm (A3 r w) e) (p : Fin 8) : Memref sig .tc .hbm (A2 r w) e :=
  (M.slice (bRect r w p) (fun _ => rfl)).squeeze (A2 r w) (squeezes3 r w)

/-- A slice at block `p`, however its offsets are written. -/
theorem blk_of {r w : ℕ} {M : Memref sig .tc .hbm (A3 r w) e} {p : Fin 8} {off : Fin 3 → ℕ} {inb hr sq}
    (h : off = ![p.val, 0, 0]) :
    (M.slice (Rect.unit (s := A3 r w) off (A1 r w).size inb) hr).squeeze (A2 r w) sq = blk M p := by
  subst h; rfl

/-- The exchanged arrays: on device `c`, block `p` is block `c` of the array of device `p`. -/
def swapped {α : Type} {r w : ℕ} (A : Fin 8 → (A3 r w).Idx → α) (c : Fin 8) : (A3 r w).Idx → α :=
  fun y => A (y 0 : Fin 8) (ix3 c (y 1) (y 2))

theorem swapped_bemb {α : Type} {r w : ℕ} (A : Fin 8 → (A3 r w).Idx → α) (c p : Fin 8) (x : (A2 r w).Idx) :
    A p (bemb r w c x) = swapped A c (bemb r w p x) := by
  rw [bemb_apply, bemb_apply]; rfl

end Exchange
-- ==== Proof.Swap.lean ====
/-
# The all-to-all of whole arrays

An array of 64 slabs, as eight devices' parts of eight blocks each: block `p` of device `d` becomes block `d` of device `p`.
-/
module

public import proofs.«01_k».proof.Proof.Block
public import Idealize.ShloMosaic.Lib.Layout
public import Idealize.ShloMosaic.Lib.Pipeline.Value

@[expose] public section

noncomputable section

namespace Exchange

open Idealize.ShloMosaic

/-- Eight devices' parts in one array, and the same with the blocks counted by device and place. -/
abbrev W3 (r w : ℕ) : Shape := ⟨3, ![64, r, w]⟩
abbrev W4 (r w : ℕ) : Shape := ⟨4, ![8, 8, r, w]⟩

/-- Where a slab comes from. -/
def swapSlab (a : Fin 64) : Fin 64 := ⟨8 * (a.val % 8) + a.val / 8, by omega⟩

variable {α : Type} {r w : ℕ}

def swapIdx (y : (W3 r w).Idx) : (W3 r w).Idx
  | 0 => swapSlab (y 0)
  | 1 => y 1
  | 2 => y 2

def swap (x : (W3 r w).Idx → α) : (W3 r w).Idx → α := fun y => x (swapIdx y)

def split4 (a b : Fin 8) (y : (W3 r w).Idx) : (W4 r w).Idx
  | 0 => a
  | 1 => b
  | 2 => y 1
  | 3 => y 2

/-- Reshape, transpose and reshape back is the exchange. -/
theorem swap_eq (x : (W3 r w).Idx → α) (h1 : (W3 r w).ShapeCasts (W4 r w)) (h2 : (W4 r w).Transposes [1, 0, 2, 3] (W4 r w))
    (h3 : (W4 r w).ShapeCasts (W3 r w)) :
    shapeCast (W3 r w) (transpose (W4 r w) [1, 0, 2, 3] (shapeCast (W4 r w) x h1) h2) h3 = swap x := by
  funext y
  have hy : (y 0).val < 64 := (y 0).isLt
  rw [shapeCast_apply _ h3 y (split4 ⟨(y 0).val / 8, by omega⟩ ⟨(y 0).val % 8, by omega⟩ y),
    transpose_apply _ _ h2 _ (split4 ⟨(y 0).val % 8, by omega⟩ ⟨(y 0).val / 8, by omega⟩ y),
    shapeCast_apply _ h1 _ (swapIdx y)]
  · rfl
  · rw [Shape.rowMajor_val_three, Shape.rowMajor_val_four]
    show ((8 * ((y 0).val % 8) + (y 0).val / 8) * r + (y 1).val) * w + (y 2).val = ((((y 0).val % 8) * 8 + (y 0).val / 8) * r + (y 1).val) * w + (y 2).val
    rw [Nat.mul_comm 8]
  · intro b
    fin_cases b <;> rfl
  · rw [Shape.rowMajor_val_three, Shape.rowMajor_val_four]
    show ((((y 0).val / 8) * 8 + (y 0).val % 8) * r + (y 1).val) * w + (y 2).val = ((y 0).val * r + (y 1).val) * w + (y 2).val
    rw [show (y 0).val / 8 * 8 + (y 0).val % 8 = (y 0).val by omega]

/-- What a device holds of the exchanged array. -/
theorem block_swap (c : Fin 8) (x : (W3 r w).Idx → α) (h : Layout.Tiles (A3 r w) (W3 r w) 0 8) :
    Layout.block (A3 r w) (W3 r w) 0 8 c (swap x) h
      = fun y => Layout.block (A3 r w) (W3 r w) 0 8 (y 0 : Fin 8) x h (ix3 c (y 1) (y 2)) := by
  funext y
  have hy : (y 0).val < 8 := (y 0).isLt
  have hc := c.isLt
  show x (swapIdx (h.idx c y)) = x (h.idx (y 0 : Fin 8) (ix3 c (y 1) (y 2)))
  refine congrArg x (funext fun a => Fin.ext ?_)
  fin_cases a
  · show 8 * ((c.val * 8 + (y 0).val) % 8) + (c.val * 8 + (y 0).val) / 8 = (y 0).val * 8 + c.val
    omega
  · rfl
  · rfl

/-- Parts of an array, with their blocks exchanged, are parts of the exchanged array. -/
theorem swap_block (x : (W3 r w).Idx → α) (h : Layout.Tiles (A3 r w) (W3 r w) 0 8) (f : Fin 8 → (A3 r w).Idx → α)
    (hf : ∀ c, f c = Layout.block (A3 r w) (W3 r w) 0 8 c x h) (c : Fin 8) :
    (fun y : (A3 r w).Idx => f (y 0 : Fin 8) (ix3 c (y 1) (y 2))) = Layout.block (A3 r w) (W3 r w) 0 8 c (swap x) h :=
  (funext fun y : (A3 r w).Idx => congrFun (hf (y 0 : Fin 8)) _).trans (block_swap c x h).symm

end Exchange
-- ==== Proof.Exchange.lean ====
/-
# An exchange of blocks between eight devices, proved for any number of items

Every device copies its own block of each item into its own result, sends one block of each item to each of its
seven peers (peer `m` of a device is the device that `m` turns it into, and `m` turns it back), waits for the seven
blocks its peers send it, for its own sends to have been read, and for its own copies. No barrier comes first: the
results are arrays of the program, so a block may land before the receiver has entered the kernel.

The protocol. Each transfer has semaphores of its own, each used once: the cell `send m i` of a device is credited
when its send of item `i` to peer `m` has been read, the cell `recv m i` when item `i` of peer `m` has landed, the
cell `loc i` when its own copy has landed. Each cell is a cell of the rounds library with one round and one duty.
The room that a block lands in belongs to the sender from the launch on.
-/
module

public import Idealize.ShloMosaic.Lib.Pipeline.Launch
public import Idealize.ShloMosaic.Lib.Pipeline.Kit
public import Idealize.ShloMosaic.Lib.Tactic

@[expose] public section

noncomputable section

namespace Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- What an exchange of `n` items is made of. -/
structure Xch (nD : Nat) (τ : Topo) (sig : RefSig) (Val : EltTy → Type) (n : Nat) where
  /-- The peer of a device under each of the seven masks. -/
  peer : Fin 7 → Dev nD → Dev nD
  peer_peer : ∀ m c, peer m (peer m c) = c
  /-- A block's shape and element type, item by item. -/
  sh : Fin n → Shape
  el : Fin n → EltTy
  /-- The block of item `i` that goes to device `p`. -/
  src : (i : Fin n) → Dev nD → Memref sig .tc .hbm (sh i) (el i)
  /-- The room for the block of item `i` that comes from device `p`. -/
  dst : (i : Fin n) → Dev nD → Memref sig .tc .hbm (sh i) (el i)
  wsrc : ∀ i p, (src i p).view.WordExact
  wdst : ∀ i p, (dst i p).view.WordExact
  hsc : ∀ i p, (dst i p).view.ref.isScScratch = false
  /-- The three families of semaphores. -/
  sS : Fin 7 × Fin n → DmaSem sig
  rS : Fin 7 × Fin n → DmaSem sig
  lS : Fin n → DmaSem sig
  /-- What a block of item `i` credits. -/
  N : Fin n → ℕ
  N_pos : ∀ i, 0 < N i
  hNs : ∀ i p, (src i p).view.dmaCredit = N i
  hNd : ∀ i p, (dst i p).view.dmaCredit = N i
  /-- The share of its source that a send to peer `m`, and the local copy, reads. -/
  qS : Fin 7 → PosShare TreeShare
  qL : PosShare TreeShare
  /-- What the sources hold, and what the results hold at the end. -/
  fs : (i : Fin n) → (p c : Dev nD) → Buf Val ((src i p).view.loc (c.tc : Thread nD τ))
  res : (i : Fin n) → (p c : Dev nD) → Buf Val ((dst i p).view.loc (c.tc : Thread nD τ))
  /-- The block of item `i` that device `p` sends to device `c` is what `res` says. -/
  land : ∀ i p c (fd : Buf Val ((dst i p).view.loc (c.tc : Thread nD τ))), ∀ x ∈ (dst i p).view.set,
    (dst i p).view.write Val fd ((src i c).view.read Val (fs i c p)) Finset.univ x = res i p c x

/-- The cells of a device: its sends, its receives, its own copies. -/
abbrev K (n : Nat) : Type := (Fin 7 × Fin n) ⊕ (Fin 7 × Fin n) ⊕ Fin n

namespace Xch

variable {nD : Nat} {τ : Topo} {sig : RefSig} {Val : EltTy → Type} {n : Nat} (X : Xch nD τ sig Val n)

/-- The semaphore of each cell. -/
def dsem : K n → DmaSem sig
  | .inl mi => X.sS mi
  | .inr (.inl mi) => X.rS mi
  | .inr (.inr i) => X.lS i

abbrev osem (k : K n) : SemLoc sig := .dma (X.dsem k)
abbrev cell (ck : Dev nD × K n) : GSem nD τ sig := ((ck.1.tc : Thread nD τ), X.osem ck.2)

/-- The item a cell is about. -/
def item : K n → Fin n
  | .inl mi => mi.2
  | .inr (.inl mi) => mi.2
  | .inr (.inr i) => i

abbrev amt (k : K n) : ℕ := X.N (item k)

open Classical in
/-- The cell a semaphore is of, if any. -/
def dec (s : SemLoc sig) : Option (K n) := if h : ∃ k, X.osem k = s then some h.choose else none

abbrev UU (nD : Nat) (τ : Topo) (sig : RefSig) : Type := UR sig nD τ × UR sig nD τ

local notation "𝕄" => MT nD τ sig Unit Val ℕ (UU nD τ sig) ℕ

abbrev ER : Emb (UR sig nD τ) (MT nD τ sig Unit Val ℕ (UU nD τ sig) ℕ) := embR
abbrev EP : Emb (UR sig nD τ) (MT nD τ sig Unit Val ℕ (UU nD τ sig) ℕ) := embL

/-- The block that device `c` sends to `p`, at the share `q`. -/
def srcPts (q : PosShare TreeShare) (i : Fin n) (p c : Dev nD) : sProp 𝕄 :=
  (X.src i p).view.loc (c.tc : Thread nD τ) ↦[(X.src i p).view.set]{q} X.fs i p c
/-- The room on device `c` for the block from `p`, filled. -/
def dstPts (i : Fin n) (p c : Dev nD) : sProp 𝕄 :=
  (X.dst i p).view.loc (c.tc : Thread nD τ) ↦[(X.dst i p).view.set]{fullShare} X.res i p c
/-- The room, at any contents. -/
def room (i : Fin n) (p c : Dev nD) : sProp 𝕄 :=
  iprop(∃ fd, (X.dst i p).view.loc (c.tc : Thread nD τ) ↦[(X.dst i p).view.set]{fullShare} fd)

/-- What the credit of a cell of device `c` hands it. -/
def pay (c : Dev nD) : K n → sProp 𝕄
  | .inl mi => X.srcPts (X.qS mi.1) mi.2 (X.peer mi.1 c) c
  | .inr (.inl mi) => X.dstPts mi.2 (X.peer mi.1 c) c
  | .inr (.inr i) => iprop(X.dstPts i c c ∗ X.srcPts X.qL i c c)

instance pay_storable (c : Dev nD) (k : K n) : BI.Storable (upEmb : UEmb _ 𝕄) (X.pay c k) := by
  rcases k with mi | mi | i <;> (unfold pay srcPts; try unfold dstPts) <;> infer_instance

def Rd : Rounds.Schedule (GSem nD τ sig) Unit 𝕄 where
  duties g r := if r = 0 ∧ g.1.2 = .tc ∧ (X.dec g.2).isSome then {()} else ∅
  unitless _ := False
  amount g _ _ := (X.dec g.2).elim 1 X.amt
  payload g _ _ := (X.dec g.2).elim iprop(emp) (X.pay g.1.1)
  amount_pos g _ _ _ := by
    cases X.dec g.2 with
    | none => exact Nat.one_pos
    | some k => exact X.N_pos _

instance Rd_storable (g : GSem nD τ sig) (r : ℕ) (d : Unit) : BI.Storable (upEmb : UEmb _ 𝕄) (X.Rd.payload g r d) := by
  show BI.Storable upEmb ((X.dec g.2).elim iprop(emp) (X.pay g.1.1))
  cases X.dec g.2 with
  | none => show BI.Storable upEmb (iprop(emp) : sProp 𝕄); infer_instance
  | some k => show BI.Storable upEmb (X.pay g.1.1 k); infer_instance

section Sched

variable (hinj : Function.Injective X.dsem)

include hinj

theorem osem_inj : Function.Injective X.osem := fun _ _ h => hinj (SemLoc.dma.inj h)

theorem dec_osem (k : K n) : X.dec (X.osem k) = some k := by
  have h : ∃ k', X.osem k' = X.osem k := ⟨k, rfl⟩
  unfold dec
  rw [dif_pos h]
  exact congrArg some (X.osem_inj hinj h.choose_spec)

theorem duties_cell (c : Dev nD) (k : K n) : X.Rd.duties (X.cell (c, k)) 0 = {()} := by
  dsimp only [Rd]; exact if_pos ⟨rfl, rfl, by rw [X.dec_osem hinj]; rfl⟩

theorem mem_duty (c : Dev nD) (k : K n) : () ∈ X.Rd.duties (X.cell (c, k)) 0 := by
  rw [X.duties_cell hinj]; exact Finset.mem_singleton_self _

theorem amount_cell (c : Dev nD) (k : K n) (u : Unit) : X.Rd.amount (X.cell (c, k)) 0 u = X.amt k := by
  dsimp only [Rd]; rw [X.dec_osem hinj]; rfl

theorem payload_cell (c : Dev nD) (k : K n) (u : Unit) : X.Rd.payload (X.cell (c, k)) 0 u = X.pay c k := by
  dsimp only [Rd]; rw [X.dec_osem hinj]; rfl

theorem expect_cell (c : Dev nD) (k : K n) : X.Rd.expect (X.cell (c, k)) 0 = X.amt k := by
  unfold Schedule.expect Schedule.amountOf
  rw [X.duties_cell hinj, Finset.sum_singleton, X.amount_cell hinj]

theorem rest_cell (c : Dev nD) (k : K n) :
    bigSep (X.Rd.duties (X.cell (c, k)) 0 \ ∅) (fun u => X.Rd.payload (X.cell (c, k)) 0 u) = X.pay c k := by
  rw [Finset.sdiff_empty, X.duties_cell hinj, bigSep_singleton, X.payload_cell hinj]

omit hinj in
theorem duties_later (g : GSem nD τ sig) : ∀ r, 1 ≤ r → X.Rd.duties g r = ∅ :=
  fun r hr => by dsimp only [Rd]; exact if_neg fun h => by omega

end Sched

/-! ## The operations -/

variable {Λ : Labels}

/-- The operations of one device, in the order of the program. -/
def locE (c : Dev nD) (i : Fin n) : TpuEff nD τ sig Val Λ .tc PUnit :=
  .enqueueDma (X.src i c) (.here (X.dst i c)) (.dma (X.lS i)) (X.wsrc i c) (X.wdst i c) ⟨Or.inl rfl, trivial⟩
def sendE (c : Dev nD) (mi : Fin 7 × Fin n) : TpuEff nD τ sig Val Λ .tc PUnit :=
  .enqueueDma (X.src mi.2 (X.peer mi.1 c))
    (.remote (Dev.tc (X.peer mi.1 c)) (X.dst mi.2 c) (.dma (X.sS mi)) (X.hsc mi.2 c)) (.dma (X.rS mi))
    (X.wsrc mi.2 _) (X.wdst mi.2 c) ⟨⟨rfl, Or.inl rfl⟩, trivial⟩
def recvE (c : Dev nD) (mi : Fin 7 × Fin n) : TpuEff nD τ sig Val Λ .tc PUnit :=
  .waitDma2 (X.rS mi) (X.src mi.2 (X.peer mi.1 c)) (X.dst mi.2 (X.peer mi.1 c)) (X.wsrc mi.2 _) (X.wdst mi.2 _)
def sentE (c : Dev nD) (mi : Fin 7 × Fin n) : TpuEff nD τ sig Val Λ .tc PUnit :=
  .waitDma2 (X.sS mi) (X.dst mi.2 c) (X.src mi.2 (X.peer mi.1 c)) (X.wdst mi.2 _) (X.wsrc mi.2 _)
def copiedE (c : Dev nD) (i : Fin n) : TpuEff nD τ sig Val Λ .tc PUnit :=
  .waitDma2 (X.lS i) (X.src i c) (X.dst i c) (X.wsrc i c) (X.wdst i c)

/-- A list of operations, then a program. -/
def runL {α : Type} (l : List (TpuEff nD τ sig Val Λ .tc PUnit)) (k : Prog (TpuEff nD τ sig Val Λ .tc) α) :
    Prog (TpuEff nD τ sig Val Λ .tc) α := l.foldr (fun e k => .op e fun _ => k) k

theorem runL_append {α : Type} (l l' : List (TpuEff nD τ sig Val Λ .tc PUnit)) (k : Prog (TpuEff nD τ sig Val Λ .tc) α) :
    runL (l ++ l') k = runL l (runL l' k) := by
  unfold runL; rw [List.foldr_append]

theorem runL_bind {α β : Type} (l : List (TpuEff nD τ sig Val Λ .tc PUnit)) (k : Prog (TpuEff nD τ sig Val Λ .tc) α)
    (f : α → Prog (TpuEff nD τ sig Val Λ .tc) β) : (runL l k >>= f) = runL l (k >>= f) := by
  induction l with
  | nil => rfl
  | cons e l ih => show Prog.op e (fun _ => runL l k >>= f) = _; rw [ih]; rfl

/-! ## What each operation does -/

section Run

variable (hinj : Function.Injective X.dsem) {defs : Defs nD τ sig Val Λ} (𝒱 : Variants) (κ : Dev nD × K n → ℕ)
variable {α : Type} (Q : α → sProp (MT nD τ sig Unit Val ℕ (UU nD τ sig) ℕ))

/-- All the cells' invariants, and that their one round is open. -/
def invs : sProp 𝕄 :=
  bigSep Finset.univ fun ck => iprop(cellInv ER X.Rd (κ ck) (X.cell ck) ∗ reached ER (X.cell ck) 0)

instance invs_persistent : BI.Persistent (X.invs κ) := by unfold invs; infer_instance

theorem inv_at (ck : Dev nD × K n) :
    X.invs κ ⊢ iprop(cellInv ER X.Rd (κ ck) (X.cell ck) ∗ reached ER (X.cell ck) 0) := bigSep_elim (Finset.mem_univ ck)

abbrev tok (ck : Dev nD × K n) : sProp 𝕄 := dutyTok ER (X.cell ck) 0 ()
abbrev crd (ck : Dev nD × K n) : sProp 𝕄 := cred (tallyAt (X.cell ck) () (X.amt ck.2))

theorem pay_peer (m : Fin 7) (i : Fin n) (c : Dev nD) :
    X.pay (X.peer m c) (.inr (.inl (m, i))) = X.dstPts i c (X.peer m c) := by
  show X.dstPts i (X.peer m (X.peer m c)) (X.peer m c) = _
  rw [X.peer_peer]

theorem landed (i : Fin n) (p c : Dev nD) (fd : Buf Val ((X.dst i p).view.loc (c.tc : Thread nD τ))) :
    ((X.dst i p).view.loc (c.tc : Thread nD τ) ↦[(X.dst i p).view.set]{fullShare}
      (X.dst i p).view.write Val fd ((X.src i c).view.read Val (X.fs i c p)) Finset.univ : sProp 𝕄) = X.dstPts i p c :=
  pointsTo_congr (X.land i p c fd)

include hinj

theorem loc_step (c : Dev nD) (i : Fin n) (k : PUnit → Prog (TpuEff nD τ sig Val Λ .tc) α) :
    iprop(X.invs κ ∗ (X.srcPts X.qL i c c ∗ X.room i c c ∗ X.tok (c, .inr (.inr i))) ∗ emp)
      ⊢ iprop((X.crd (c, .inr (.inr i)) ∗ emp -∗ wp frame (wpE defs 𝒱 (c.tc : Thread nD τ) none) Set.univ (k ⟨⟩) Q)
          -∗ wp frame (wpE defs 𝒱 (c.tc : Thread nD τ) none) Set.univ (.op (X.locE c i) k) Q) := by
  unfold room srcPts
  iintro ⟨hI, ⟨hs, ⟨%fd, hd⟩, ht⟩, -⟩ hk
  ihave hI := (X.inv_at κ (c, .inr (.inr i))) $$ hI
  icases hI with ⟨hI, hr⟩
  unfold locE
  iapply (Rounds.wp_copy_pointsTo 𝒱 ER X.Rd (c.tc : Thread nD τ) none (src := X.src i c) (dst := X.dst i c)
    (sem := .dma (X.lS i)) (hsrc := X.wsrc i c) (hdst := X.wdst i c) (hsem := ⟨Or.inl rfl, trivial⟩) (q := X.qL)
    (fs := X.fs i c c) (fd := fd) (k := k) (κ := κ (c, .inr (.inr i))) (r := 0) (d := ())
    (X.mem_duty hinj c (.inr (.inr i))) () (X.N i)
    (X.hNd i c) (X.amount_cell hinj c (.inr (.inr i)) ())
    ((sep_mono_left (Entails.of_eq (X.landed i c c fd))).trans (Entails.of_eq (X.payload_cell hinj c (.inr (.inr i)) ()).symm))) $$ [hI hs hd ht hr]
  · isplitl [hI]; · iexact hI
    isplitl [hs]; · iexact hs
    isplitl [hd]; · iexact hd
    isplitl [ht]; · iexact ht
    iexact hr
  iintro hc
  iapply hk
  isplitl [hc]
  · iexact hc
  iempintro

theorem send_step (c : Dev nD) (mi : Fin 7 × Fin n) (O : CellTallies nD τ sig Unit) (W : Waits sig Unit)
    (k : PUnit → Prog (TpuEff nD τ sig Val Λ .tc) α) :
    iprop(X.invs κ ∗ (X.srcPts (X.qS mi.1) mi.2 (X.peer mi.1 c) c ∗ X.room mi.2 c (X.peer mi.1 c)
        ∗ X.tok (c, .inl mi) ∗ X.tok (X.peer mi.1 c, .inr (.inl mi)))
        ∗ owes (c.tc : Thread nD τ) (tallyAt (X.cell (X.peer mi.1 c, .inr (.inl mi))) () (X.N mi.2) + O) W)
      ⊢ iprop((X.crd (c, .inl mi) ∗ owes (c.tc : Thread nD τ) O W
            -∗ wp frame (wpE defs 𝒱 (c.tc : Thread nD τ) none) Set.univ (k ⟨⟩) Q)
          -∗ wp frame (wpE defs 𝒱 (c.tc : Thread nD τ) none) Set.univ (.op (X.sendE c mi) k) Q) := by
  unfold room srcPts
  iintro ⟨#hI, ⟨hs, ⟨%fd, hd⟩, ht, ht'⟩, ho⟩ hk
  ihave hI1 := (X.inv_at κ (c, .inl mi)) $$ hI
  icases hI1 with ⟨hI1, hr1⟩
  ihave hI2 := (X.inv_at κ (X.peer mi.1 c, .inr (.inl mi))) $$ hI
  icases hI2 with ⟨hI2, hr2⟩
  unfold sendE
  iapply (Rounds.wp_send_pointsTo 𝒱 ER X.Rd (c.tc : Thread nD τ) none (c' := (X.peer mi.1 c).tc)
    (src := X.src mi.2 (X.peer mi.1 c)) (dst := X.dst mi.2 c) (hsc := X.hsc mi.2 c) (sS := .dma (X.sS mi)) (sem := .dma (X.rS mi))
    (hsrc := X.wsrc mi.2 _) (hdst := X.wdst mi.2 c) (hsem := ⟨⟨rfl, Or.inl rfl⟩, trivial⟩) (q := X.qS mi.1)
    (fs := X.fs mi.2 (X.peer mi.1 c) c) (fd := fd) (k := k) (κ₁ := κ (c, .inl mi))
    (κ₂ := κ (X.peer mi.1 c, .inr (.inl mi))) (r₁ := 0) (d₁ := ()) (r₂ := 0) (d₂ := ())
    (X.mem_duty hinj c (.inl mi))
    (X.mem_duty hinj (X.peer mi.1 c) (.inr (.inl mi)))
    () () (X.N mi.2) (X.hNd mi.2 c) (X.amount_cell hinj c (.inl mi) ())
    (X.amount_cell hinj (X.peer mi.1 c) (.inr (.inl mi)) ()) (W := W) O (add_comm _ _)
    (Entails.of_eq (X.payload_cell hinj c (.inl mi) ()).symm)
    (Entails.of_eq ((X.landed mi.2 c (X.peer mi.1 c) fd).trans
      ((X.payload_cell hinj (X.peer mi.1 c) (.inr (.inl mi)) ()).trans (X.pay_peer mi.1 mi.2 c)).symm))) $$ [hI1 hI2 hs hd ho ht hr1 ht' hr2]
  · isplitr; · iexact hI1
    isplitr; · iexact hI2
    isplitl [hs]; · iexact hs
    isplitl [hd]; · iexact hd
    isplitl [ho]; · iexact ho
    isplitl [ht]; · iexact ht
    isplitr; · iexact hr1
    isplitl [ht']; · iexact ht'
    iexact hr2
  iintro hc
  iapply hk
  iexact hc

theorem wait_step (c : Dev nD) (k : K n) {sh sh' : Shape} {el el' : EltTy} (a : Memref sig .tc .hbm sh el)
    (b : Memref sig .tc .hbm sh' el') (ha : a.view.WordExact) (hb : b.view.WordExact)
    (hN : b.view.dmaCredit = X.amt k) (f : PUnit → Prog (TpuEff nD τ sig Val Λ .tc) α) :
    iprop(X.invs κ ∗ (X.crd (c, k) ∗ atPos ER (X.cell (c, k)) 0 ∅ 0) ∗ ∃ W, owes (c.tc : Thread nD τ) 0 W)
      ⊢ iprop(((X.pay c k ∗ semVal (X.cell (c, k)) 0) ∗ (∃ W, owes (c.tc : Thread nD τ) 0 W)
            -∗ wp frame (wpE defs 𝒱 (c.tc : Thread nD τ) none) Set.univ (f ⟨⟩) Q)
          -∗ wp frame (wpE defs 𝒱 (c.tc : Thread nD τ) none) Set.univ (.op (.waitDma2 (X.dsem k) a b ha hb) f) Q) := by
  iintro ⟨#hI, ⟨hc, ha⟩, ⟨%W, ho⟩⟩ hk
  ihave hI1 := (X.inv_at κ (c, k)) $$ hI
  icases hI1 with ⟨#hI1, hr1⟩
  have hw := wpE_waitDma2_eq (nD := nD) (τ := τ) (defs := defs) (U := UU nD τ sig) (Ix := Unit) (Name := ℕ) (Lvl := ℕ)
    𝒱 (c.tc : Thread nD τ) none Set.univ (sem := X.dsem k) (src := a) (dst := b) (hsrc := ha) (hdst := hb)
  rw [hN] at hw
  iapply (Rounds.wp_wait_rest_token 𝒱 ER X.Rd (c.tc : Thread nD τ) none (κ := κ (c, k)) hw (Set.mem_univ _) ()
    (O := 0) (W := W) (R := 0) (m := 0) (T := ∅)
    (by rw [X.expect_cell hinj c k, Nat.zero_add])) $$ [hc ho ha]
  · isplitr; · iexact hI1
    isplitl [hc]; · iexact hc
    isplitl [ho]; · iexact ho
    isplitr; · rw [MayWait_zero]; iempintro
    iexact ha
  iintro ⟨ho, ha, -, hp⟩
  ihave hp := (Entails.of_eq (X.rest_cell hinj c k)) $$ hp
  imod (Rounds.cell_close ER X.Rd (κ := κ (c, k)) (Es := Set.univ) (Set.mem_univ _) (fun h => h) (X.duties_later (X.cell (c, k)))) $$ [ha] with hv
  · isplitr; · iexact hI1
    iexact ha
  iapply hk
  isplitl [hp hv]
  · isplitl [hp]; · iexact hp
    iexact hv
  iexists _; iexact ho

omit hinj in
/-- A list of operations one after another: each takes its own part and what is passed along. -/
theorem wp_runL (c : Dev nD) {J : Type} (e : J → TpuEff nD τ sig Val Λ .tc PUnit) (I : sProp 𝕄) [BI.Persistent I]
    (A B : J → sProp 𝕄) (S : List J → sProp 𝕄)
    (hstep : ∀ j rest (k : PUnit → Prog (TpuEff nD τ sig Val Λ .tc) α),
      iprop(I ∗ A j ∗ S (j :: rest)) ⊢ iprop((B j ∗ S rest -∗ wp frame (wpE defs 𝒱 (c.tc : Thread nD τ) none) Set.univ (k ⟨⟩) Q)
        -∗ wp frame (wpE defs 𝒱 (c.tc : Thread nD τ) none) Set.univ (.op (e j) k) Q)) (l : List J)
    (k : Prog (TpuEff nD τ sig Val Λ .tc) α) :
    iprop(I ∗ bigSepL l A ∗ S l) ⊢ iprop((bigSepL l B ∗ S [] -∗ wp frame (wpE defs 𝒱 (c.tc : Thread nD τ) none) Set.univ k Q)
        -∗ wp frame (wpE defs 𝒱 (c.tc : Thread nD τ) none) Set.univ (runL (l.map e) k) Q) := by
  induction l with
  | nil =>
    iintro ⟨-, -, hS⟩ hk
    iapply hk
    isplitr
    · rw [bigSepL_nil]; iempintro
    · iexact hS
  | cons j l ih =>
    have hA : bigSepL (j :: l) A = iprop(A j ∗ bigSepL l A) := bigSepL_cons j l A
    have hB : bigSepL (j :: l) B = iprop(B j ∗ bigSepL l B) := bigSepL_cons j l B
    have hR : runL ((j :: l).map e) k = .op (e j) fun _ => runL (l.map e) k := rfl
    rw [hA, hB, hR]
    iintro ⟨#hI, ⟨hA, hAs⟩, hS⟩ hk
    iapply (hstep j l (fun _ => runL (l.map e) k)) $$ [hA hS]
    · isplitr; · iexact hI
      isplitl [hA]; · iexact hA
      iexact hS
    iintro ⟨hB, hS⟩
    iapply ih $$ [hAs hS]
    · isplitr; · iexact hI
      isplitl [hAs]; · iexact hAs
      iexact hS
    iintro ⟨hBs, hS⟩
    iapply hk
    isplitl [hB hBs]
    · isplitl [hB]; · iexact hB
      iexact hBs
    · iexact hS

/-! ## One device's run -/

omit hinj in
/-- The operations of one device: `lL` and `lM` list the items and the pairs of a mask and an item. -/
def ops (c : Dev nD) (lL : List (Fin n)) (lM : List (Fin 7 × Fin n)) : List (TpuEff nD τ sig Val Λ .tc PUnit) :=
  lL.map (X.locE c) ++ (lM.map (X.sendE c) ++ (lM.map (X.recvE c) ++ (lM.map (X.sentE c) ++ lL.map (X.copiedE c))))

omit hinj in
/-- What a device owes while the sends `l` are left. -/
def owedL (c : Dev nD) : List (Fin 7 × Fin n) → CellTallies nD τ sig Unit
  | [] => 0
  | mi :: l => tallyAt (X.cell (X.peer mi.1 c, .inr (.inl mi))) () (X.N mi.2) + owedL c l

/-- What a device starts with: its part of the sources, the rooms its blocks go to, the tokens of its transfers, and
    its place at each of its cells. -/
def own (c : Dev nD) : sProp (MT nD τ sig Unit Val ℕ (UU nD τ sig) ℕ) :=
  iprop((bigSep Finset.univ fun i => iprop(X.srcPts X.qL i c c ∗ X.room i c c ∗ X.tok (c, .inr (.inr i))))
    ∗ (bigSep Finset.univ fun mi => iprop(X.srcPts (X.qS mi.1) mi.2 (X.peer mi.1 c) c ∗ X.room mi.2 c (X.peer mi.1 c)
        ∗ X.tok (c, .inl mi) ∗ X.tok (X.peer mi.1 c, .inr (.inl mi))))
    ∗ bigSep Finset.univ fun k => atPos ER (X.cell (c, k)) 0 ∅ 0)

omit hinj in
theorem bigSep_K (Φ : K n → sProp (MT nD τ sig Unit Val ℕ (UU nD τ sig) ℕ)) :
    bigSep Finset.univ Φ = iprop((bigSep Finset.univ fun mi => Φ (.inl mi)) ∗ (bigSep Finset.univ fun mi => Φ (.inr (.inl mi)))
      ∗ bigSep Finset.univ fun i => Φ (.inr (.inr i))) := by
  rw [BI.bigSep_univ_sum, BI.bigSep_univ_sum]; rfl

/-- One device's run, from its own part and the credit of what its peers owe it. -/
theorem wp_ops (c : Dev nD) (lL : List (Fin n)) (hL : Finset.univ = lL.toFinset) (hL' : lL.Nodup)
    (lM : List (Fin 7 × Fin n)) (hM : Finset.univ = lM.toFinset) (hM' : lM.Nodup) (W : Waits sig Unit)
    (k : Prog (TpuEff nD τ sig Val Λ .tc) α) :
    iprop(X.invs κ ∗ X.own c ∗ (bigSep Finset.univ fun mi => X.crd (c, .inr (.inl mi))) ∗ owes (c.tc : Thread nD τ) (X.owedL c lM) W)
      ⊢ iprop(((bigSep Finset.univ fun k => iprop(X.pay c k ∗ semVal (X.cell (c, k)) 0)) ∗ (∃ W, owes (c.tc : Thread nD τ) 0 W)
            -∗ wp frame (wpE defs 𝒱 (c.tc : Thread nD τ) none) Set.univ k Q)
          -∗ wp frame (wpE defs 𝒱 (c.tc : Thread nD τ) none) Set.univ (runL (X.ops c lL lM) k) Q) := by
  unfold own ops
  rw [runL_append, runL_append, runL_append, runL_append, bigSep_K, bigSep_K]
  have eL (Φ : Fin n → sProp (MT nD τ sig Unit Val ℕ (UU nD τ sig) ℕ)) := BI.bigSep_univ_eq_bigSepL lL hL hL' Φ
  have eM (Φ : Fin 7 × Fin n → sProp (MT nD τ sig Unit Val ℕ (UU nD τ sig) ℕ)) := BI.bigSep_univ_eq_bigSepL lM hM hM' Φ
  iintro ⟨#HI, ⟨Hl, Hs, ⟨HaS, HaR, HaL⟩⟩, HcR, Ho⟩ Hk
  ihave Hl := (Entails.of_eq (eL _)) $$ Hl
  ihave Hs := (Entails.of_eq (eM _)) $$ Hs
  -- the local copies start
  iapply (wp_runL 𝒱 Q c (X.locE c) (X.invs κ) (fun i => iprop(X.srcPts X.qL i c c ∗ X.room i c c ∗ X.tok (c, .inr (.inr i))))
    (fun i => X.crd (c, .inr (.inr i))) (fun _ => iprop(emp)) (fun i _ k => X.loc_step hinj 𝒱 κ Q c i k) lL) $$ [Hl]
  · isplitr; · iexact HI
    isplitl [Hl]; · iexact Hl
    iempintro
  iintro ⟨HcL, -⟩
  -- the sends
  iapply (wp_runL 𝒱 Q c (X.sendE c) (X.invs κ) (fun mi => iprop(X.srcPts (X.qS mi.1) mi.2 (X.peer mi.1 c) c ∗ X.room mi.2 c (X.peer mi.1 c)
        ∗ X.tok (c, .inl mi) ∗ X.tok (X.peer mi.1 c, .inr (.inl mi))))
    (fun mi => X.crd (c, .inl mi)) (fun l => owes (c.tc : Thread nD τ) (X.owedL c l) W)
    (fun mi l k => X.send_step hinj 𝒱 κ Q c mi (X.owedL c l) W k) lM) $$ [Hs Ho]
  · isplitr; · iexact HI
    isplitl [Hs]; · iexact Hs
    iexact Ho
  iintro ⟨HcS, Ho⟩
  ihave HcS := (Entails.of_eq (eM (fun mi => X.crd (c, .inl mi))).symm) $$ HcS
  ihave HcL := (Entails.of_eq (eL (fun i => X.crd (c, .inr (.inr i)))).symm) $$ HcL
  have hjoin {J : Type} [Fintype J] [DecidableEq J] (A B : J → sProp (MT nD τ sig Unit Val ℕ (UU nD τ sig) ℕ)) :
      iprop(bigSep Finset.univ A ∗ bigSep Finset.univ B) ⊢ bigSep Finset.univ fun j => iprop(A j ∗ B j) :=
    Entails.of_eq (bigSep_sep' Finset.univ A B).symm
  ihave HR := ((hjoin (fun mi => X.crd (c, .inr (.inl mi))) (fun mi => atPos ER (X.cell (c, .inr (.inl mi))) 0 ∅ 0)).trans (Entails.of_eq (eM _))) $$ [HcR HaR]
  · isplitl [HcR]; · iexact HcR
    iexact HaR
  ihave HS := ((hjoin (fun mi => X.crd (c, .inl mi)) (fun mi => atPos ER (X.cell (c, .inl mi)) 0 ∅ 0)).trans (Entails.of_eq (eM _))) $$ [HcS HaS]
  · isplitl [HcS]; · iexact HcS
    iexact HaS
  ihave HL := ((hjoin (fun i => X.crd (c, .inr (.inr i))) (fun i => atPos ER (X.cell (c, .inr (.inr i))) 0 ∅ 0)).trans (Entails.of_eq (eL _))) $$ [HcL HaL]
  · isplitl [HcL]; · iexact HcL
    iexact HaL
  -- the waits for the peers' blocks
  iapply (wp_runL 𝒱 Q c (X.recvE c) (X.invs κ) (fun mi => iprop(X.crd (c, .inr (.inl mi)) ∗ atPos ER (X.cell (c, .inr (.inl mi))) 0 ∅ 0))
    (fun mi => iprop(X.pay c (.inr (.inl mi)) ∗ semVal (X.cell (c, .inr (.inl mi))) 0)) (fun _ => iprop(∃ W, owes (c.tc : Thread nD τ) 0 W))
    (fun mi _ f => X.wait_step hinj 𝒱 κ Q c (.inr (.inl mi)) (X.src mi.2 (X.peer mi.1 c)) (X.dst mi.2 (X.peer mi.1 c)) (X.wsrc mi.2 _) (X.wdst mi.2 _) (X.hNd mi.2 _) f) lM) $$ [HR Ho]
  · isplitr; · iexact HI
    isplitl [HR]; · iexact HR
    iexists W; iexact Ho
  iintro ⟨HR, Ho⟩
  -- the waits for the own sends
  iapply (wp_runL 𝒱 Q c (X.sentE c) (X.invs κ) (fun mi => iprop(X.crd (c, .inl mi) ∗ atPos ER (X.cell (c, .inl mi)) 0 ∅ 0))
    (fun mi => iprop(X.pay c (.inl mi) ∗ semVal (X.cell (c, .inl mi)) 0)) (fun _ => iprop(∃ W, owes (c.tc : Thread nD τ) 0 W))
    (fun mi _ f => X.wait_step hinj 𝒱 κ Q c (.inl mi) (X.dst mi.2 c) (X.src mi.2 (X.peer mi.1 c)) (X.wdst mi.2 _) (X.wsrc mi.2 _) (X.hNs mi.2 _) f) lM) $$ [HS Ho]
  · isplitr; · iexact HI
    isplitl [HS]; · iexact HS
    iexact Ho
  iintro ⟨HS, Ho⟩
  -- the waits for the local copies
  iapply (wp_runL 𝒱 Q c (X.copiedE c) (X.invs κ) (fun i => iprop(X.crd (c, .inr (.inr i)) ∗ atPos ER (X.cell (c, .inr (.inr i))) 0 ∅ 0))
    (fun i => iprop(X.pay c (.inr (.inr i)) ∗ semVal (X.cell (c, .inr (.inr i))) 0)) (fun _ => iprop(∃ W, owes (c.tc : Thread nD τ) 0 W))
    (fun i _ f => X.wait_step hinj 𝒱 κ Q c (.inr (.inr i)) (X.src i c) (X.dst i c) (X.wsrc i _) (X.wdst i _) (X.hNd i _) f) lL) $$ [HL Ho]
  · isplitr; · iexact HI
    isplitl [HL]; · iexact HL
    iexact Ho
  iintro ⟨HL, Ho⟩
  ihave HR := (Entails.of_eq (eM _).symm) $$ HR
  ihave HS := (Entails.of_eq (eM _).symm) $$ HS
  ihave HL := (Entails.of_eq (eL _).symm) $$ HL
  iapply Hk
  isplitr [Ho]
  · isplitl [HS]; · iexact HS
    isplitl [HR]; · iexact HR
    iexact HL
  · iexact Ho

end Run

/-! ## What the devices start with -/

section Start

variable (hinj : Function.Injective X.dsem)

/-- A device's part of the memory: its sources and the rooms on it. -/
def pieces (c : Dev nD) : sProp (MT nD τ sig Unit Val ℕ (UU nD τ sig) ℕ) :=
  iprop((bigSep Finset.univ fun i => iprop(X.srcPts X.qL i c c ∗ X.room i c c))
    ∗ bigSep Finset.univ fun mi : Fin 7 × Fin n => iprop(X.srcPts (X.qS mi.1) mi.2 (X.peer mi.1 c) c ∗ X.room mi.2 (X.peer mi.1 c) c))

include hinj in
theorem cell_inj : Function.Injective X.cell := by
  rintro ⟨c, k⟩ ⟨c', k'⟩ h
  have h1 : c = c' := by
    have := congrArg (fun g => g.1.1) h
    exact this
  have h2 : k = k' := X.osem_inj hinj (congrArg (fun g => g.2) h)
  rw [h1, h2]

/-- The cells of all devices, and the tokens of their duties. -/
def cells : Finset (GSem nD τ sig) := (Finset.univ : Finset (Dev nD × K n)).map ⟨X.cell, X.cell_inj hinj⟩
def toks : Finset (GSem nD τ sig × ℕ × Unit) :=
  (Finset.univ : Finset (Dev nD × K n)).map ⟨fun ck => (X.cell ck, 0, ()), fun _ _ h => X.cell_inj hinj (congrArg Prod.fst h)⟩

/-- Each pair of a device and a pair, taken at the peer instead. -/
def swap : Equiv (Dev nD × Fin 7 × Fin n) (Dev nD × Fin 7 × Fin n) where
  toFun x := (X.peer x.2.1 x.1, x.2)
  invFun x := (X.peer x.2.1 x.1, x.2)
  left_inv x := by simp only [X.peer_peer]
  right_inv x := by simp only [X.peer_peer]

theorem reroute (Φ : Dev nD → Fin 7 × Fin n → sProp (MT nD τ sig Unit Val ℕ (UU nD τ sig) ℕ)) :
    (bigSep Finset.univ fun c => bigSep Finset.univ fun mi => Φ c mi)
      = bigSep Finset.univ fun c => bigSep Finset.univ fun mi => Φ (X.peer mi.1 c) mi := by
  rw [← bigSep_univ_prod (fun x : Dev nD × Fin 7 × Fin n => Φ x.1 x.2),
    ← bigSep_univ_prod (fun x : Dev nD × Fin 7 × Fin n => Φ (X.peer x.2.1 x.1) x.2)]
  exact bigSep_univ_equiv X.swap (fun x : Dev nD × Fin 7 × Fin n => Φ x.1 x.2)

/-- The cells' counters at zero and the launch's element become every device's start. -/
theorem start :
    iprop((bigSep Finset.univ fun c => iprop((bigSep Finset.univ fun k => semVal (X.cell (c, k)) 0) ∗ X.pieces c))
        ∗ BI.own (ER (initOf (X.cells hinj) (X.toks hinj))))
      ⊢ |={Set.univ}=> (∃ κ, X.invs κ ∗ bigSep Finset.univ X.own) := by
  have hf := Rounds.fund ER X.Rd (X.cells hinj) (X.toks hinj)
  unfold cells toks at hf
  rw [bigSep_map, bigSep_map, bigSep_map, bigSep_map] at hf
  have hi : (bigSep Finset.univ fun ck : Dev nD × K n => (iprop(semVal (X.cell ck) 0 ∗ roundState ER X.Rd (X.cell ck) 0) : sProp (MT nD τ sig Unit Val ℕ (UU nD τ sig) ℕ)))
      ⊢ |={Set.univ}=> (bigSep Finset.univ fun ck => iprop(∃ κ, cellInv ER X.Rd κ (X.cell ck))) :=
    (bigSep_mono fun ck _ => (Rounds.body_intro ER X.Rd (X.cell ck)).trans inv_alloc).trans (bigSep_fupd _ _)
  unfold cells toks
  iintro ⟨Hp, HX⟩
  imod hf $$ HX with ⟨Hst, Hr, Hat, Htok⟩
  ihave Hp := (Entails.of_eq (bigSep_sep' _ _ _)) $$ Hp
  icases Hp with ⟨Hv, Hp⟩
  ihave Hv := (Entails.of_eq (bigSep_univ_prod (fun ck : Dev nD × K n => (semVal (X.cell ck) 0 : sProp (MT nD τ sig Unit Val ℕ (UU nD τ sig) ℕ)))).symm) $$ Hv
  ihave Hat := (Entails.of_eq (bigSep_univ_prod _)) $$ Hat
  ihave Htok := (Entails.of_eq (bigSep_univ_prod _)) $$ Htok
  ihave Hb := (Entails.of_eq (bigSep_sep' Finset.univ
    (fun ck : Dev nD × K n => (semVal (X.cell ck) 0 : sProp (MT nD τ sig Unit Val ℕ (UU nD τ sig) ℕ)))
    (fun ck => roundState ER X.Rd (X.cell ck) 0)).symm) $$ [Hv Hst]
  · isplitl [Hv]; · iexact Hv
    iexact Hst
  imod hi $$ Hb with Hi
  imodintro
  ihave Hi := (BI.bigSep_exists_pi Finset.univ (fun (ck : Dev nD × K n) (κ : ℕ) =>
    (cellInv ER X.Rd κ (X.cell ck) : sProp (MT nD τ sig Unit Val ℕ (UU nD τ sig) ℕ)))) $$ Hi
  icases Hi with ⟨%κ, Hi⟩
  iexists κ
  isplitl [Hi Hr]
  · unfold invs
    iapply (Entails.of_eq (bigSep_sep' _ _ _).symm)
    isplitl [Hi]; · iexact Hi
    iexact Hr
  have e : (bigSep Finset.univ fun c => bigSep Finset.univ fun k => X.tok (c, k))
      = iprop((bigSep Finset.univ fun c => bigSep Finset.univ fun mi => X.tok (c, .inl mi))
        ∗ (bigSep Finset.univ fun c => bigSep Finset.univ fun mi : Fin 7 × Fin n => X.tok (X.peer mi.1 c, .inr (.inl mi)))
        ∗ bigSep Finset.univ fun c => bigSep Finset.univ fun i => X.tok (c, .inr (.inr i))) := by
    rw [← X.reroute (fun c mi => X.tok (c, .inr (.inl mi)))]
    simp only [bigSep_K, bigSep_sep']
  ihave Htok := (Entails.of_eq e) $$ Htok
  icases Htok with ⟨HtS, HtR, HtL⟩
  have e2 : bigSep Finset.univ X.pieces
      = iprop(((bigSep Finset.univ fun c => bigSep Finset.univ fun i => X.srcPts X.qL i c c)
          ∗ bigSep Finset.univ fun c => bigSep Finset.univ fun i => X.room i c c)
        ∗ (bigSep Finset.univ fun c => bigSep Finset.univ fun mi : Fin 7 × Fin n => X.srcPts (X.qS mi.1) mi.2 (X.peer mi.1 c) c)
          ∗ bigSep Finset.univ fun c => bigSep Finset.univ fun mi : Fin 7 × Fin n => X.room mi.2 c (X.peer mi.1 c)) := by
    have h := X.reroute (fun c mi => X.room mi.2 (X.peer mi.1 c) c)
    simp only [X.peer_peer] at h
    rw [← h]
    unfold pieces
    simp only [bigSep_sep']
  ihave Hp := (Entails.of_eq e2) $$ Hp
  icases Hp with ⟨⟨HsL, HrL⟩, HsS, HrS⟩
  have e3 : bigSep Finset.univ X.own
      = iprop(((bigSep Finset.univ fun c => bigSep Finset.univ fun i => X.srcPts X.qL i c c)
          ∗ (bigSep Finset.univ fun c => bigSep Finset.univ fun i => X.room i c c)
          ∗ bigSep Finset.univ fun c => bigSep Finset.univ fun i => X.tok (c, .inr (.inr i)))
        ∗ ((bigSep Finset.univ fun c => bigSep Finset.univ fun mi : Fin 7 × Fin n => X.srcPts (X.qS mi.1) mi.2 (X.peer mi.1 c) c)
          ∗ (bigSep Finset.univ fun c => bigSep Finset.univ fun mi : Fin 7 × Fin n => X.room mi.2 c (X.peer mi.1 c))
          ∗ (bigSep Finset.univ fun c => bigSep Finset.univ fun mi => X.tok (c, .inl mi))
          ∗ bigSep Finset.univ fun c => bigSep Finset.univ fun mi : Fin 7 × Fin n => X.tok (X.peer mi.1 c, .inr (.inl mi)))
        ∗ bigSep Finset.univ fun c => bigSep Finset.univ fun k => atPos ER (X.cell (c, k)) 0 ∅ 0) := by
    unfold own
    simp only [bigSep_sep']
  iapply (Entails.of_eq e3.symm)
  isplitl [HsL HrL HtL]
  · isplitl [HsL]; · iexact HsL
    isplitl [HrL]; · iexact HrL
    iexact HtL
  isplitr [Hat]
  · isplitl [HsS]; · iexact HsS
    isplitl [HrS]; · iexact HrS
    isplitl [HtS]; · iexact HtS
    iexact HtR
  iexact Hat

/-- What a device owes at the start: every peer's credit. -/
def O₀ (lM : List (Fin 7 × Fin n)) (c : Dev nD) : CellTallies nD τ sig Unit := X.owedL c lM

theorem owedL_sum (c : Dev nD) : ∀ l : List (Fin 7 × Fin n), X.owedL c l
      = (l.map fun mi => tallyAt (X.cell (X.peer mi.1 c, .inr (.inl mi))) () (X.N mi.2)).sum
  | [] => rfl
  | a :: l => by rw [List.map_cons, List.sum_cons, ← owedL_sum c l]; rfl

/-- The launch hands each device the credit its peers owe it. -/
theorem launchCred_start (lM : List (Fin 7 × Fin n)) (hM : Finset.univ = lM.toFinset) (hM' : lM.Nodup) (c : Dev nD) :
    (Pipeline.launchCred (X.O₀ lM) c : sProp (MT nD τ sig Unit Val ℕ (UU nD τ sig) ℕ))
      ⊢ bigSep Finset.univ fun mi => X.crd (c, .inr (.inl mi)) := by
  have h : X.O₀ lM = fun d => ∑ mi ∈ (Finset.univ : Finset (Fin 7 × Fin n)),
      tallyAt (X.cell (X.peer mi.1 d, .inr (.inl mi))) () (X.N mi.2) := by
    funext d
    rw [hM, List.sum_toFinset _ hM']
    exact X.owedL_sum d lM
  rw [h]
  exact (Entails.of_eq (Pipeline.launchCred_sum _ _ c)).trans (bigSep_mono fun mi _ =>
    Pipeline.launchCred_tallyAt (X.osem (.inr (.inl mi))) (X.peer mi.1) (X.peer mi.1) (X.peer_peer mi.1) (X.peer_peer mi.1) () (X.N mi.2) c)

end Start

end Xch

end Exchange
-- ==== Proof.Global.lean ====
/-
# A launch whose protocol is set up over all devices at once, rooms in device memory included

The launch theorems of the pipeline library hand the kernels' own semaphores to a global step before any device runs,
and keep the arrays of the program for each device's own run. In an exchange without a barrier a block may land in an
array of a device that has not entered its kernel yet, so there the arrays too must be handed to the global step.
-/
module

public import Idealize.ShloMosaic.Lib.Pipeline.Launch
public import Idealize.ShloMosaic.Lib.Tactic

@[expose] public section

noncomputable section

namespace Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels} {U : Type} [URA U]

local notation "𝕄" => MT nD τ sig Unit Val ℕ U ℕ

/-- What each device's run starts from, once the global step is made: its part `pre`, what it owes, and the credit of
    what the others owe it. -/
theorem run_global (defs : Defs nD τ sig Val Λ) (𝒱 : Variants) (m : (ℓ : Loc nD τ sig) → Buf Val ℓ) (g : Dev nD → PrngReg)
    (main : Dev nD → Prog (TpuEff nD τ sig Val Λ .tc) PUnit)
    (O₀ : Dev nD → CellTallies nD τ sig Unit) (u₀ : U) (pre Y : Dev nD → sProp (MT nD τ sig Unit Val ℕ U ℕ))
    (hinit : iprop((bigSep Finset.univ fun c : Dev nD =>
          iprop(boundary (c.tc : Thread nD τ) ∗ unscopedBufs c fun b => m ((c.tc : Thread nD τ).loc b))) ∗ ownU u₀ : sProp 𝕄)
      ⊢ |={Set.univ}=> bigSep Finset.univ pre)
    (hrun : ∀ c : Dev nD, iprop(pre c ∗ owes (c.tc : Thread nD τ) (O₀ c) ∅ ∗ Pipeline.launchCred O₀ c)
      ⊢ wp frame (wpE defs 𝒱 (c.tc : Thread nD τ) none) Set.univ (main c)
          fun _ => iprop((Y c ∗ scopedSems0 (c.tc : Thread nD τ)) ∗ ∃ W, owes (c.tc : Thread nD τ) 0 W))
    (QY : Dev nD → MemSt nD τ sig Val → Prop)
    (hY : ∀ c (s' : Phys nD τ sig Val), iprop(Y c ∗ SI s') ⊢ |={Set.univ}=> iprop(⌜QY c s'.mem⌝ ∗ SI s'))
    {Q : PUnit × MemSt nD τ sig Val → Prop}
    (hQ : ∀ s : MemSt nD τ sig Val, (∀ c, QY c s) →
      (∀ g' : GSem nD τ sig, (g'.1.2 ≠ .tc ∨ g'.2.isScoped .tc = true) → s.sem g' = 0) → Q (⟨⟩, s)) :
    θ_run defs (onTc main) ⟨m, fun _ => 0, g⟩ Q := by
  classical
  let fin : Dev nD → sProp 𝕄 := fun c => iprop(Y c ∗ scopedSems0 (c.tc : Thread nD τ))
  refine (θ_run defs _ _).mono (Q := fun r => (∀ c : Dev nD, QY c r.2 ∧
      ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu defs _ _ _
    (reflect_intro_fupd_tc_sems (X := Unit) 𝒱 (Pipeline.owing O₀) 0 (noBookings fun _ => le_rfl) (Pipeline.owing_of_ne O₀) u₀
      (fun _ c => iprop(pre c ∗ owes (c.tc : Thread nD τ) (O₀ c) ∅ ∗ Pipeline.launchCred O₀ c)) (fun _ => fin)
      (fun _ => iprop(emp)) Set.univ ?_ (fun _ c => ?_) fun _ => ?_))
  · have hcore : (bigSep Finset.univ fun d : Dev nD => coreInit (Ix := Unit) (Name := ℕ) (U := U) (Lvl := ℕ) (Pipeline.owing O₀) 0
          (⟨m, fun _ => 0, g⟩ : MemSt nD τ sig Val) (d.tc : Thread nD τ))
        ⊢ iprop((bigSep Finset.univ fun c : Dev nD =>
              iprop(boundary (c.tc : Thread nD τ) ∗ unscopedBufs c fun b => m ((c.tc : Thread nD τ).loc b)))
            ∗ (bigSep Finset.univ fun c : Dev nD => owes (c.tc : Thread nD τ) (O₀ c) ∅)
            ∗ bigSep Finset.univ fun c : Dev nD => Pipeline.launchCred (Name := ℕ) (U := U) (Lvl := ℕ) (Val := Val) O₀ c : sProp 𝕄) := by
      rw [← bigSep_sep', ← bigSep_sep']
      refine bigSep_mono fun c _ => (Pipeline.coreInit_boundary_owing O₀ m g c).trans ?_
      iintro ⟨Hb, Hu, -, Ho, -, -, Hc⟩
      isplitl [Hb Hu]
      · isplitl [Hb]; · iexact Hb
        iexact Hu
      isplitl [Ho]; · iexact Ho
      iexact Hc
    iintro ⟨Hcores, Hu⟩
    ihave H := hcore $$ Hcores
    icases H with ⟨Hb, Ho, Hc⟩
    imod hinit $$ [Hb Hu] with Hp
    · isplitl [Hb]; · iexact Hb
      iexact Hu
    imodintro
    iexists ()
    isplitl
    · simp only [bigSep_sep']
      isplitl [Hp]; · iexact Hp
      isplitl [Ho]; · iexact Ho
      iexact Hc
    · iempintro
  · exact hrun c
  · have hcore (c : Dev nD) (s' : Phys nD τ sig Val) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨HY, Hss⟩, HSI⟩
      ihave %hz := (tcScoped_read_pers c s') $$ [Hss HSI]
      · isplitl [Hss]; · iexact Hss
        iexact HSI
      imod (hY c s') $$ [HY HSI] with ⟨%hy, HSI⟩
      · isplitl [HY]; · iexact HY
        iexact HSI
      imodintro
      isplitr
      · ipureintro; exact ⟨hy, hz⟩
      · iexact HSI
    iintro ⟨H, -, Hsc⟩ %s' HSI
    ihave %hsc := (scSems_read_zero m g s') $$ [Hsc HSI]
    · isplitl [Hsc]; · iexact Hsc
      iexact HSI
    imod (posts_fupd Finset.univ hcore s') $$ [H HSI] with %h
    · isplitl [H]; · iexact H
      iexact HSI
    imodintro
    ipureintro
    exact ⟨fun c => h c (Finset.mem_univ c), hsc⟩

end Exchange
-- ==== Proof.Region.lean ====
/-
# A kernel without a grid that moves no array itself

Such a kernel has no window, so its region is one call of the body between the entry and the exit of the kernel.
-/
module

public import Idealize.ShloMosaic.Lib.Pipeline.Launch
public import Idealize.ShloMosaic.Lib.Pipeline.Kit
public import Idealize.ShloMosaic.Lib.Tactic

@[expose] public section

noncomputable section

namespace Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Cfg RDat)

variable {nD : Nat} {τ : Topo} {sig : RefSig} {Val : EltTy → Type} {Λ₀ : Labels} {U : Type} [URA U]
variable {P : Type} [Fintype P] [DecidableEq P]

local notation "𝕄" => MT nD τ sig Unit Val ℕ U ℕ

/-- The proof's data of a kernel without windows: what it starts from and ends with, and what it owes. -/
def rdat (cfgs : P → Cfg sig Λ₀) (hW : ∀ p, IsEmpty (Fin (cfgs p).W)) (A B : Dev nD → sProp (MT nD τ sig Unit Val ℕ U ℕ))
    (O : Dev nD → CellTallies nD τ sig Unit) (p : P) (c : Dev nD) : RDat τ Val Unit ℕ U ℕ (cfgs p) c where
  A w := (hW p).elim w
  after w := (hW p).elim w
  Φ t := if t.val = 0 then A c else B c
  q w := (hW p).elim w
  owed t := if t.val = 0 then O c else 0

/-- One run of such a kernel from `A` to `B`, inside the program. -/
theorem wp_region [∀ e, Nonempty (Val e)] (cfgs : P → Cfg sig Λ₀) (hW : ∀ p, IsEmpty (Fin (cfgs p).W)) (p : P)
    (hN : (cfgs p).N = 1)
    (phinj : Function.Injective (Pipeline.cellOf (nD := nD) (τ := τ) cfgs))
    (EP : Emb (Rounds.URounds (GSem nD τ sig) Unit) (MT nD τ sig Unit Val ℕ U ℕ))
    (defs₀ : Defs nD τ sig Val Λ₀) (𝒱₀ : Variants)
    (A B Y : Dev nD → sProp (MT nD τ sig Unit Val ℕ U ℕ)) (O : Dev nD → CellTallies nD τ sig Unit) (c : Dev nD)
    (hbody : ∀ t : Fin (cfgs p).N, iprop(A c ∗ ∃ W, owes (c.tc : Thread nD τ) (O c) W)
      ⊢ wp frame (wpE defs₀ 𝒱₀ (c.tc : Thread nD τ) none) Set.univ (defs₀ .tc (cfgs p).body ((cfgs p).bodyArgs t ((cfgs p).slots t)))
          fun _ => iprop(B c ∗ ∃ W, owes (c.tc : Thread nD τ) 0 W))
    (hout : B c ⊢ iprop(Y c ∗ scopedSems0 (c.tc : Thread nD τ)))
    {α : Type} {k : PUnit → Prog (TpuEff nD τ sig Val (Pipeline.Sig Λ₀ P fun p => ((cfgs p).toPCfg (Val := Val)).Adm) Proc.tc) α}
    (Q : α → sProp (MT nD τ sig Unit Val ℕ U ℕ)) :
    iprop(A c ∗ (∃ W, owes (c.tc : Thread nD τ) (O c) W) ∗ scopedBufs (c.tc : Thread nD τ))
      ⊢ iprop((Y c ∗ (∃ W, owes (c.tc : Thread nD τ) 0 W) ∗ scopedSems0 (c.tc : Thread nD τ) ∗ scopedBufs (c.tc : Thread nD τ)
            -∗ wp frame (wpE (Pipeline.defs (fun p => (cfgs p).toPCfg) defs₀) (Variants.lift 𝒱₀) (c.tc : Thread nD τ) none) Set.univ (k ⟨⟩) Q)
          -∗ wp frame (wpE (Pipeline.defs (fun p => (cfgs p).toPCfg) defs₀) (Variants.lift 𝒱₀) (c.tc : Thread nD τ) none) Set.univ
              (.op (.customCall (Pipeline.entry p) ()) k) Q) := by
  have hE : (Finset.univ : Finset (Fin (cfgs p).W)) = ∅ := Finset.univ_eq_empty_iff.mpr (hW p)
  have hst : (Pipeline.Dat.staging (cfgs p) c : sProp (MT nD τ sig Unit Val ℕ U ℕ)) = iprop(emp) := by
    unfold Pipeline.Dat.staging; rw [hE, BI.bigSep_empty]; rfl
  let rd := rdat cfgs hW (fun c => iprop(A c ∗ scopedBufs (c.tc : Thread nD τ))) (fun c => iprop(B c ∗ scopedBufs (c.tc : Thread nD τ))) O
  have hb : (rd p c).BodyObligation defs₀ 𝒱₀ () Set.univ := by
    intro t _ _
    have ht : t.val = 0 := by have := t.isLt; omega
    have e0 : (rd p c).Φ t.castSucc = iprop(A c ∗ scopedBufs (c.tc : Thread nD τ)) := by have h : t.castSucc.val = 0 := ht; dsimp only [rd, rdat]; rw [if_pos h]
    have e1 : (rd p c).Φ t.succ = iprop(B c ∗ scopedBufs (c.tc : Thread nD τ)) := by simp [rd, rdat]
    have e2 : (rd p c).owed t.castSucc = O c := by have h : t.castSucc.val = 0 := ht; dsimp only [rd, rdat]; rw [if_pos h]
    have e3 : (rd p c).owed t.succ = 0 := by simp [rd, rdat]
    rw [e0, e1]
    unfold RDat.owesAt Pipeline.owesWithin
    rw [e2, e3, hE, BI.bigSep_empty]
    have h := hbody t
    iintro ⟨⟨HA, Hb⟩, ⟨%W, -, Ho⟩, -⟩
    iapply (wp_wand_r frame (wpE defs₀ 𝒱₀ (c.tc : Thread nD τ) none) Set.univ)
    isplitl [HA Ho]
    · iapply h
      isplitl [HA]; · iexact HA
      iexists W; iexact Ho
    iintro %_ ⟨HB, ⟨%W', Ho⟩⟩
    isplitl [HB Hb]
    · isplitl [HB]; · iexact HB
      iexact Hb
    isplitl [Ho]
    · iexists W'
      isplitr; · ipureintro; exact fun _ _ => Or.inl trivial
      iexact Ho
    rw [BI.bigSep_empty]
    iempintro
  have hl : (Fin.last (cfgs p).N).val ≠ 0 := by rw [Fin.val_last, hN]; exact Nat.one_ne_zero
  have f0 : (rd p c).Φ 0 = iprop(A c ∗ scopedBufs (c.tc : Thread nD τ)) := by simp [rd, rdat]
  have f1 : (rd p c).Φ (Fin.last (cfgs p).N) = iprop(B c ∗ scopedBufs (c.tc : Thread nD τ)) := by simp [rd, rdat, hN]
  have f2 : (rd p c).owed 0 = O c := by simp [rd, rdat]
  have f3 : (rd p c).owed (Fin.last (cfgs p).N) = 0 := by simp [rd, rdat, hN]
  have hrule := RDat.wp_customCall_entry_frame (fun p => (cfgs p).toPCfg (Val := Val)) (fun p => (cfgs p).toPCfg_adm) rd () EP (fun _ => 0) phinj p
    defs₀ 𝒱₀ (fun _ => fullShare) c Set.univ (fun _ _ => Set.mem_univ _) hb (fun w => (hW p).elim w) none (fun _ h => by cases h)
    (X := A c) (Y := Y c) (R := scopedBufs (c.tc : Thread nD τ)) (I := iprop(emp))
    (by show _ ⊢ iprop(Pipeline.Dat.staging (cfgs p) c ∗ _)
        rw [hst]
        iintro H
        isplitr; · iempintro
        iexact H)
    (by rw [f0]
        iintro ⟨HA, -, Hb⟩
        isplitl [HA]; · iexact HA
        iexact Hb)
    (by show iprop((rd p c).Φ (Fin.last (cfgs p).N) ∗ _) ⊢ _
        rw [f1]
        iintro ⟨⟨HB, Hb⟩, -, -, -⟩
        ihave H := hout $$ HB
        icases H with ⟨HY, Hs⟩
        isplitl [HY]; · iexact HY
        isplitl [Hs]; · iexact Hs
        iexact Hb) (k := k) (Q := Q)
  have hnil (Φ : Fin (cfgs p).W → sProp (MT nD τ sig Unit Val ℕ U ℕ)) : iprop(emp) ⊢ bigSep Finset.univ Φ :=
    Entails.of_eq (by rw [hE, BI.bigSep_empty]; rfl)
  have h1 : iprop(emp) ⊢ (rd p c).arrays (rd p c).A := hnil _
  have h2 : iprop(emp) ⊢ Pipeline.PerCore.RDat.cellsWaits (fun _ => Pipeline.pin (fun p => (cfgs p).toPCfg (Val := Val)) (fun p => (cfgs p).toPCfg_adm)) rd () p c := hnil _
  have h3 : iprop(emp) ⊢ Pipeline.PerCore.RDat.cellsInit (fun _ => Pipeline.pin (fun p => (cfgs p).toPCfg (Val := Val)) (fun p => (cfgs p).toPCfg_adm)) rd EP (fun _ => 0) p c := hnil _
  have h4 : iprop(emp) ⊢ Pipeline.PerCore.toksInit (Val := Val) (Name := ℕ) (U := U) (Lvl := ℕ) (Ix := Unit)
    (fun _ => Pipeline.pin (fun p => (cfgs p).toPCfg (Val := Val)) (fun p => (cfgs p).toPCfg_adm)) EP p c := hnil _
  have hpre : iprop(∃ W, owes (c.tc : Thread nD τ) (O c) W)
      ⊢ Pipeline.RDat.EntryPre (Pipeline.pin (fun p => (cfgs p).toPCfg (Val := Val)) (fun p => (cfgs p).toPCfg_adm)) rd () EP (fun _ => 0) p c := by
    unfold Pipeline.RDat.EntryPre Pipeline.PerCore.RDat.EntryPre
    iintro ⟨%W, Ho⟩
    isplitr; · iapply h1; iempintro
    isplitl [Ho]
    · have f4 : owes (c.tc : Thread nD τ) (O c) W ⊢ (rd p c).owesAt () 0 := by
        unfold RDat.owesAt Pipeline.owesWithin
        rw [f2]
        iintro Ho
        iexists W
        isplitr; · ipureintro; exact fun _ _ => Or.inl trivial
        iexact Ho
      iapply f4; iexact Ho
    isplitr; · iapply h2; iempintro
    isplitr; · iapply h3; iempintro
    iapply h4; iempintro
  have hpost : Pipeline.RDat.EntryPost (Pipeline.pin (fun p => (cfgs p).toPCfg (Val := Val)) (fun p => (cfgs p).toPCfg_adm)) rd () p c
      ⊢ iprop(∃ W, owes (c.tc : Thread nD τ) 0 W) := by
    have f4 : (rd p c).owesAt () (Fin.last (cfgs p).N) ⊢ iprop(∃ W, owes (c.tc : Thread nD τ) 0 W) := by
      unfold RDat.owesAt Pipeline.owesWithin
      rw [f3]
      iintro ⟨%W, -, Ho⟩
      iexists W; iexact Ho
    unfold Pipeline.RDat.EntryPost Pipeline.PerCore.RDat.EntryPost
    iintro ⟨-, Ho⟩
    iapply f4; iexact Ho
  have hpf : iprop(emp) ⊢ (Pipeline.prefHeld ((cfgs p).toPCfg (Val := Val)).pre c (fun _ => fullShare) ((cfgs p).toPCfg_adm (Val := Val)).1 : sProp (MT nD τ sig Unit Val ℕ U ℕ)) :=
    Entails.of_eq (by unfold Pipeline.prefHeld; exact BI.bigSep_empty.symm)
  iintro ⟨HA, Ho, Hb⟩ Hk
  ihave Hp := hpre $$ Ho
  iapply hrule $$ [HA Hp Hb]
  · isplitl [Hp]; · iexact Hp
    isplitr
    · iapply hpf; iempintro
    isplitl [HA]; · iexact HA
    isplitr; · iempintro
    iexact Hb
  iintro ⟨Hp, HY, Hs, Hb⟩
  ihave Ho := hpost $$ Hp
  iapply Hk
  isplitl [HY]; · iexact HY
  isplitl [Ho]; · iexact Ho
  isplitl [Hs]; · iexact Hs
  iexact Hb

end Exchange
-- ==== Proof.Launch.lean ====
/-
# The launch of an exchange

A program that is one exchange and nothing else: from the memory at the start to the memory at the end. The global
step before any device runs deals every device its part, the room for each block going to the device that sends the
block.
-/
module

public import proofs.«01_k».proof.Proof.Exchange
public import proofs.«01_k».proof.Proof.Global
public import proofs.«01_k».proof.Proof.Region

@[expose] public section

noncomputable section

namespace Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

namespace Xch

variable {nD : Nat} {τ : Topo} {sig : RefSig} {Val : EltTy → Type} {n : Nat} (X : Xch nD τ sig Val n)

local notation "𝕄" => MT nD τ sig Unit Val ℕ (UU nD τ sig) ℕ

/-- Item by item, a part for the device itself and one for each peer: regrouped by transfer. -/
theorem regroup (A : Fin n → sProp (MT nD τ sig Unit Val ℕ (UU nD τ sig) ℕ))
    (B : Fin 7 × Fin n → sProp (MT nD τ sig Unit Val ℕ (UU nD τ sig) ℕ)) :
    (bigSep Finset.univ fun i => iprop(A i ∗ bigSep Finset.univ fun j => B (j, i)))
      = iprop((bigSep Finset.univ A) ∗ bigSep Finset.univ B) := by
  rw [bigSep_sep', Pipeline.bigSep_univ_comm (fun i j => B (j, i)), ← bigSep_univ_prod B]

variable [∀ e, Nonempty (Val e)]
variable {Λ₀ : Labels} {P : Type} [Fintype P] [DecidableEq P]

/-- The program's run: every argument keeps its contents, every result ends at `fin`, every semaphore at zero. -/
theorem launch (hinj : Function.Injective X.dsem) (hscoped : ∀ k, (X.osem k).isScoped .tc = true)
    (cfgs : P → Pipeline.Cfg sig Λ₀) (hW : ∀ p, IsEmpty (Fin (cfgs p).W)) (p : P) (hN : (cfgs p).N = 1)
    (phinj : Function.Injective (Pipeline.cellOf (nD := nD) (τ := τ) cfgs))
    (defs₀ : Defs nD τ sig Val Λ₀) (𝒱₀ : Variants)
    (lL : List (Fin n)) (hL : Finset.univ = lL.toFinset) (hL' : lL.Nodup)
    (lM : List (Fin 7 × Fin n)) (hM : Finset.univ = lM.toFinset) (hM' : lM.Nodup)
    (r₀ : Λ₀.Result (cfgs p).body)
    (hbody : ∀ t : Fin (cfgs p).N, defs₀ .tc (cfgs p).body ((cfgs p).bodyArgs t ((cfgs p).slots t))
      = .op .deviceId fun d => runL (X.ops d lL lM) (.ret r₀))
    (main : Dev nD → Prog (TpuEff nD τ sig Val (Pipeline.Sig Λ₀ P fun p => ((cfgs p).toPCfg (Val := Val)).Adm) .tc) PUnit)
    (hmain : ∀ c, main c = .op (.customCall (Pipeline.entry p) ()) fun _ => .ret ⟨⟩)
    (m : (ℓ : Loc nD τ sig) → Buf Val ℓ) (g : Dev nD → PrngReg)
    (arg out : Fin n → Ref sig .tc)
    (hbufs : ∀ c : Dev nD, (unscopedBufs c fun b => m ((c.tc : Thread nD τ).loc b) : sProp (MT nD τ sig Unit Val ℕ (UU nD τ sig) ℕ))
      ⊢ iprop((bigSep Finset.univ fun i => ((c.tc : Thread nD τ).loc (arg i)) ↦{fullShare} m ((c.tc : Thread nD τ).loc (arg i)))
        ∗ bigSep Finset.univ fun i => ((c.tc : Thread nD τ).loc (out i)) ↦{fullShare} m ((c.tc : Thread nD τ).loc (out i))))
    (hin : ∀ (c : Dev nD) (i : Fin n), (((c.tc : Thread nD τ).loc (arg i)) ↦{fullShare} m ((c.tc : Thread nD τ).loc (arg i)) : sProp (MT nD τ sig Unit Val ℕ (UU nD τ sig) ℕ))
      = iprop(X.srcPts X.qL i c c ∗ bigSep Finset.univ fun j => X.srcPts (X.qS j) i (X.peer j c) c))
    (hroom : ∀ (c : Dev nD) (i : Fin n), (((c.tc : Thread nD τ).loc (out i)) ↦{fullShare} m ((c.tc : Thread nD τ).loc (out i)) : sProp (MT nD τ sig Unit Val ℕ (UU nD τ sig) ℕ))
      ⊢ iprop(X.room i c c ∗ bigSep Finset.univ fun j => X.room i (X.peer j c) c))
    (fin : (c : Dev nD) → (i : Fin n) → Buf Val ((c.tc : Thread nD τ).loc (out i)))
    (hout : ∀ (c : Dev nD) (i : Fin n), iprop(X.dstPts i c c ∗ bigSep Finset.univ fun j => X.dstPts i (X.peer j c) c)
      ⊢ ((c.tc : Thread nD τ).loc (out i)) ↦{fullShare} fin c i)
    {Q : PUnit × MemSt nD τ sig Val → Prop}
    (hQ : ∀ s : MemSt nD τ sig Val, (∀ (c : Dev nD) (i : Fin n), s.mem ((c.tc : Thread nD τ).loc (arg i)) = m ((c.tc : Thread nD τ).loc (arg i))) →
      (∀ (c : Dev nD) (i : Fin n), s.mem ((c.tc : Thread nD τ).loc (out i)) = fin c i) →
      (∀ g' : GSem nD τ sig, (g'.1.2 ≠ .tc ∨ g'.2.isScoped .tc = true) → s.sem g' = 0) → Q (⟨⟩, s)) :
    θ_run (Pipeline.defs (fun p => (cfgs p).toPCfg) defs₀) (onTc main) ⟨m, fun _ => 0, g⟩ Q := by
  classical
  -- a device's scoped semaphores: the exchange's and the rest
  let cellOn : Dev nD → K n ↪ GSem nD τ sig := fun c =>
    ⟨fun k => X.cell (c, k), fun k k' h => hinj (SemLoc.dma.inj (congrArg Prod.snd h))⟩
  let rest : Dev nD → sProp (MT nD τ sig Unit Val ℕ (UU nD τ sig) ℕ) := fun c =>
    bigSep (scopedCells sig (c.tc : Thread nD τ) \ Finset.univ.map (cellOn c)) fun g => semVal g 0
  have hsems : ∀ c : Dev nD, (scopedSems0 (c.tc : Thread nD τ) : sProp (MT nD τ sig Unit Val ℕ (UU nD τ sig) ℕ))
      = iprop((bigSep Finset.univ fun k => semVal (X.cell (c, k)) 0) ∗ rest c) := fun c => by
    have hs : Finset.univ.map (cellOn c) ⊆ scopedCells sig (c.tc : Thread nD τ) := fun g' hg => by
      obtain ⟨k, -, rfl⟩ := Finset.mem_map.mp hg
      exact self_mem_scopedCells (hscoped k)
    unfold scopedSems0
    rw [BI.bigSep_sdiff_split hs, bigSep_map]
    rfl
  let u₀ : UU nD τ sig := (initOf (Pipeline.cells cfgs phinj) (Pipeline.launchToks cfgs phinj), initOf (X.cells hinj) (X.toks hinj))
  let A : Dev nD → sProp (MT nD τ sig Unit Val ℕ (UU nD τ sig) ℕ) := fun c =>
    iprop((∃ κ, X.invs κ) ∗ X.own c ∗ (bigSep Finset.univ fun mi => X.crd (c, .inr (.inl mi))) ∗ rest c)
  let Y : Dev nD → sProp (MT nD τ sig Unit Val ℕ (UU nD τ sig) ℕ) := fun c =>
    iprop((bigSep Finset.univ fun i => ((c.tc : Thread nD τ).loc (arg i)) ↦{fullShare} m ((c.tc : Thread nD τ).loc (arg i)))
      ∗ bigSep Finset.univ fun i => ((c.tc : Thread nD τ).loc (out i)) ↦{fullShare} fin c i)
  let B : Dev nD → sProp (MT nD τ sig Unit Val ℕ (UU nD τ sig) ℕ) := fun c =>
    iprop((bigSep Finset.univ fun k => iprop(X.pay c k ∗ semVal (X.cell (c, k)) 0)) ∗ rest c)
  have hB : ∀ c, B c ⊢ iprop(Y c ∗ scopedSems0 (c.tc : Thread nD τ)) := fun c => by
    simp only [B, Y]
    rw [hsems c]
    iintro ⟨H, Hr⟩
    ihave H := (Entails.of_eq (bigSep_sep' _ _ _)) $$ H
    icases H with ⟨Hp, Hs⟩
    have e : (bigSep Finset.univ (X.pay c)) = iprop((bigSep Finset.univ fun mi : Fin 7 × Fin n => X.srcPts (X.qS mi.1) mi.2 (X.peer mi.1 c) c)
        ∗ (bigSep Finset.univ fun mi : Fin 7 × Fin n => X.dstPts mi.2 (X.peer mi.1 c) c)
        ∗ (bigSep Finset.univ fun i => X.dstPts i c c) ∗ bigSep Finset.univ fun i => X.srcPts X.qL i c c) := by
      rw [bigSep_K, ← bigSep_sep']; rfl
    ihave Hp := (Entails.of_eq e) $$ Hp
    icases Hp with ⟨HS, HD, HDl, HSl⟩
    isplitr [Hs Hr]
    · isplitl [HS HSl]
      · have e1 := regroup (fun i => X.srcPts X.qL i c c) (fun mi : Fin 7 × Fin n => X.srcPts (X.qS mi.1) mi.2 (X.peer mi.1 c) c)
        simp only [← hin c] at e1
        iapply (Entails.of_eq e1.symm)
        isplitl [HSl]; · iexact HSl
        iexact HS
      · have e2 := regroup (fun i => X.dstPts i c c) (fun mi : Fin 7 × Fin n => X.dstPts mi.2 (X.peer mi.1 c) c)
        have e3 : (_ : sProp (MT nD τ sig Unit Val ℕ (UU nD τ sig) ℕ)) ⊢ _ := bigSep_mono (s := Finset.univ) fun (i : Fin n) (_ : i ∈ Finset.univ) => hout c i
        iapply ((Entails.of_eq e2.symm).trans e3)
        isplitl [HDl]; · iexact HDl
        iexact HD
    · isplitl [Hs]; · iexact Hs
      iexact Hr
  have hpieces : ∀ c, (unscopedBufs c fun b => m ((c.tc : Thread nD τ).loc b) : sProp (MT nD τ sig Unit Val ℕ (UU nD τ sig) ℕ)) ⊢ X.pieces c := fun c => by
    have e1 := regroup (fun i => X.srcPts X.qL i c c) (fun mi : Fin 7 × Fin n => X.srcPts (X.qS mi.1) mi.2 (X.peer mi.1 c) c)
    simp only [← hin c] at e1
    have e2 := regroup (fun i => X.room i c c) (fun mi : Fin 7 × Fin n => X.room mi.2 (X.peer mi.1 c) c)
    have e3 : (_ : sProp (MT nD τ sig Unit Val ℕ (UU nD τ sig) ℕ)) ⊢ _ := bigSep_mono (s := Finset.univ) fun (i : Fin n) (_ : i ∈ Finset.univ) => hroom c i
    unfold pieces
    rw [bigSep_sep', bigSep_sep']
    iintro H
    ihave H := (hbufs c) $$ H
    icases H with ⟨HI, HO⟩
    ihave HI := (Entails.of_eq e1) $$ HI
    ihave HO := (e3.trans (Entails.of_eq e2)) $$ HO
    icases HI with ⟨HI1, HI2⟩
    icases HO with ⟨HO1, HO2⟩
    isplitl [HI1 HO1]
    · isplitl [HI1]; · iexact HI1
      iexact HO1
    · isplitl [HI2]; · iexact HI2
      iexact HO2
  have hstart := X.start hinj
  refine run_global (Pipeline.defs (fun p => (cfgs p).toPCfg) defs₀) (Variants.lift 𝒱₀) m g main (X.O₀ lM) u₀
    (fun c => iprop((∃ κ, X.invs κ) ∗ X.own c ∗ rest c ∗ scopedBufs (c.tc : Thread nD τ))) Y ?_ (fun c => ?_)
    (fun c s => (∀ i, s.mem ((c.tc : Thread nD τ).loc (arg i)) = m ((c.tc : Thread nD τ).loc (arg i)))
      ∧ ∀ i, s.mem ((c.tc : Thread nD τ).loc (out i)) = fin c i) (fun c s' => ?_)
    (fun s h hs => hQ s (fun c => (h c).1) (fun c => (h c).2) hs)
  · have hb : (bigSep Finset.univ fun c : Dev nD =>
          (iprop(boundary (c.tc : Thread nD τ) ∗ unscopedBufs c fun b => m ((c.tc : Thread nD τ).loc b)) : sProp (MT nD τ sig Unit Val ℕ (UU nD τ sig) ℕ)))
        ⊢ iprop((bigSep Finset.univ fun c => iprop((bigSep Finset.univ fun k => semVal (X.cell (c, k)) 0) ∗ X.pieces c))
          ∗ (bigSep Finset.univ rest) ∗ bigSep Finset.univ fun c : Dev nD => scopedBufs (c.tc : Thread nD τ)) := by
      rw [← bigSep_sep', ← bigSep_sep']
      refine bigSep_mono fun c _ => ?_
      show (_ : sProp (MT nD τ sig Unit Val ℕ (UU nD τ sig) ℕ)) ⊢ _
      unfold boundary
      rw [hsems c]
      iintro ⟨⟨Hb, ⟨Hs, Hr⟩, -⟩, Hu⟩
      ihave Hu := (hpieces c) $$ Hu
      isplitl [Hs Hu]
      · isplitl [Hs]; · iexact Hs
        iexact Hu
      isplitl [Hr]; · iexact Hr
      iexact Hb
    iintro ⟨Hb, Hu⟩
    ihave Hb := hb $$ Hb
    icases Hb with ⟨Hp, Hr, Hs⟩
    ihave Hu := (ownU_pair _ _) $$ Hu
    icases Hu with ⟨-, Hu⟩
    imod hstart $$ [Hp Hu] with ⟨%κ, #HI, Ho⟩
    · isplitl [Hp]; · iexact Hp
      iexact Hu
    imodintro
    have hI : X.invs κ ⊢ bigSep Finset.univ fun _ : Dev nD => X.invs κ := BI.bigSep_of_persistent _ _
    have hX : iprop((bigSep Finset.univ fun _ : Dev nD => X.invs κ) ∗ (bigSep Finset.univ X.own) ∗ (bigSep Finset.univ rest)
          ∗ bigSep Finset.univ fun c : Dev nD => scopedBufs (c.tc : Thread nD τ))
        ⊢ bigSep Finset.univ fun c => iprop((∃ κ, X.invs κ) ∗ X.own c ∗ rest c ∗ scopedBufs (c.tc : Thread nD τ)) := by
      rw [← bigSep_sep', ← bigSep_sep', ← bigSep_sep']
      refine bigSep_mono fun c _ => ?_
      show (_ : sProp (MT nD τ sig Unit Val ℕ (UU nD τ sig) ℕ)) ⊢ _
      iintro ⟨HI, H⟩
      isplitl [HI]; · iexists κ; iexact HI
      iexact H
    iapply hX
    isplitr [Ho Hr Hs]; · iapply hI; iexact HI
    isplitl [Ho]; · iexact Ho
    isplitl [Hr]; · iexact Hr
    iexact Hs
  · rw [hmain c]
    have hbd : ∀ t : Fin (cfgs p).N, iprop(A c ∗ ∃ W, owes (c.tc : Thread nD τ) (X.O₀ lM c) W)
        ⊢ wp frame (wpE defs₀ 𝒱₀ (c.tc : Thread nD τ) none) Set.univ (defs₀ .tc (cfgs p).body ((cfgs p).bodyArgs t ((cfgs p).slots t)))
            fun _ => iprop(B c ∗ ∃ W, owes (c.tc : Thread nD τ) 0 W) := fun t => by
      rw [hbody t, wp_deviceId]
      simp only [A, B]
      iintro ⟨⟨⟨%κ, #HI⟩, Ho, Hc, Hr⟩, ⟨%W, HO⟩⟩
      iapply (X.wp_ops hinj 𝒱₀ κ _ c lL hL hL' lM hM hM' W _) $$ [Ho Hc HO]
      · isplitr; · iexact HI
        isplitl [Ho]; · iexact Ho
        isplitl [Hc]; · iexact Hc
        iexact HO
      iintro ⟨HB, HO⟩
      rw [wp_ret]
      imodintro
      isplitl [HB Hr]
      · isplitl [HB]; · iexact HB
        iexact Hr
      iexact HO
    have hr := wp_region cfgs hW p hN phinj EP defs₀ 𝒱₀ A B Y (X.O₀ lM) c hbd (hB c)
      (k := fun _ => .ret PUnit.unit) (Q := fun _ => iprop((Y c ∗ scopedSems0 (c.tc : Thread nD τ)) ∗ ∃ W, owes (c.tc : Thread nD τ) 0 W))
    iintro ⟨⟨HI, Ho, Hr, Hb⟩, HO, Hc⟩
    ihave Hc := (X.launchCred_start lM hM hM' c) $$ Hc
    iapply hr $$ [HI Ho Hr Hb HO Hc]
    · isplitr [HO Hb]
      · isplitl [HI]; · iexact HI
        isplitl [Ho]; · iexact Ho
        isplitl [Hc]; · iexact Hc
        iexact Hr
      isplitl [HO]; · iexists ∅; iexact HO
      iexact Hb
    iintro ⟨HY, HO, Hs, -⟩
    rw [wp_ret]
    imodintro
    isplitl [HY Hs]
    · isplitl [HY]; · iexact HY
      iexact Hs
    iexact HO
  · simp only [Y]
    iintro ⟨⟨HI, HO⟩, HSI⟩
    ihave H := (pointsTo_read_all Finset.univ (fun i => (c.tc : Thread nD τ).loc (arg i)) (fun i => m ((c.tc : Thread nD τ).loc (arg i))) s') $$ [HI HSI]
    · isplitl [HI]; · iexact HI
      iexact HSI
    icases H with ⟨%h1, HSI⟩
    ihave H := (pointsTo_read_all Finset.univ (fun i => (c.tc : Thread nD τ).loc (out i)) (fin c) s') $$ [HO HSI]
    · isplitl [HO]; · iexact HO
      iexact HSI
    icases H with ⟨%h2, HSI⟩
    imodintro
    isplitr
    · ipureintro
      exact ⟨fun i => h1 i (Finset.mem_univ i), fun i => h2 i (Finset.mem_univ i)⟩
    iexact HSI

end Xch

end Exchange
-- ==== Proof.Setup.lean ====
/-
# An exchange whose results are arrays of eight blocks

The rooms of such an exchange are the blocks of its results: block `p` of a device's result comes from device `p`.
Here are the data of one, from the memory at the start, and how whole arrays are dealt into the parts that the
transfers take and put together from the parts that they leave.
-/
module

public import proofs.«01_k».proof.Proof.Block
public import proofs.«01_k».proof.Proof.Exchange
public import Idealize.ShloMosaic.Lib.Ring
public import Idealize.ShloMosaic.Lib.Transfers

@[expose] public section

noncomputable section

namespace Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-- The peer of a device under mask `j + 1`: the bits of the device's number that the mask has are turned. -/
def peer (j : Fin 7) (c : Dev 8) : Dev 8 := ⟨(c.val ^^^ (j.val + 1)) % 8, Nat.mod_lt _ (by omega)⟩

theorem peer_peer : ∀ (j : Fin 7) (c : Dev 8), peer j (peer j c) = c := by decide

theorem peer_left_inj (c : Dev 8) : Function.Injective fun j => peer j c := by
  revert c; unfold Function.Injective; decide

theorem peers (c : Dev 8) : (Finset.univ : Finset (Dev 8))
    = insert c (Finset.univ.map ⟨fun j => peer j c, peer_left_inj c⟩) := by
  revert c; decide

theorem peer_ne (c : Dev 8) : c ∉ (Finset.univ.map ⟨fun j => peer j c, peer_left_inj c⟩ : Finset (Dev 8)) := by
  revert c; decide

section Parts

variable {τ : Topo} {sig : RefSig} {Val : EltTy → Type} {e : EltTy}

local notation "𝕄" => MT 8 τ sig Unit Val ℕ (Xch.UU 8 τ sig) ℕ

/-- Over all devices: the device itself, and its peers. -/
theorem bigSep_peers (Φ : Dev 8 → sProp (MT 8 τ sig Unit Val ℕ (Xch.UU 8 τ sig) ℕ)) (c : Dev 8) :
    bigSep Finset.univ Φ = iprop(Φ c ∗ bigSep Finset.univ fun j => Φ (peer j c)) := by
  rw [peers c, BI.bigSep_insert (peer_ne c), bigSep_map]
  rfl

theorem blk_set {r w : ℕ} (M : Memref sig .tc .hbm (A3 r w) e) (p : Fin 8) :
    (blk M p).view.set = (bset r w p).map M.view.emb := by
  unfold bset
  rw [Finset.map_map]
  rfl

/-- A whole array is its eight blocks. -/
theorem whole_blocks {r w : ℕ} {M : Memref sig .tc .hbm (A3 r w) e} (hM : M.IsWhole) (c : Dev 8) (q : PosShare TreeShare)
    (f : Buf Val ((c.tc : Thread 8 τ).loc M.view.ref)) :
    (((c.tc : Thread 8 τ).loc M.view.ref) ↦{q} f : sProp (MT 8 τ sig Unit Val ℕ (Xch.UU 8 τ sig) ℕ))
      = bigSep Finset.univ fun p : Fin 8 => ((c.tc : Thread 8 τ).loc M.view.ref) ↦[(blk M p).view.set]{q} f := by
  refine Ring.pointsTo_blocks (ℓ := (c.tc : Thread 8 τ).loc M.view.ref) (fun p : Fin 8 => (blk M p).view.set) ?_ ?_ f
  · intro p p' h
    dsimp only
    rw [blk_set, blk_set, Finset.disjoint_map]
    exact bset_disjoint p p' h
  · ext x
    simp only [Finset.mem_biUnion, Finset.mem_univ, true_and, iff_true]
    have hx : x ∈ M.view.set := by rw [hM.set_eq_univ]; exact Finset.mem_univ _
    obtain ⟨y, -, rfl⟩ := Finset.mem_map.1 hx
    obtain ⟨p, hp⟩ := bset_cover y
    exact ⟨p, by rw [blk_set]; exact Finset.mem_map_of_mem _ hp⟩

end Parts

/-- The data of an exchange of `n` items between eight devices, its results arrays of eight blocks. -/
structure Ends (sig : RefSig) (n : ℕ) where
  /-- The sizes and the element type of a block, item by item. -/
  r : Fin n → ℕ
  w : Fin n → ℕ
  el : Fin n → EltTy
  out : (i : Fin n) → Memref sig .tc .hbm (A3 (r i) (w i)) (el i)
  hout : ∀ i, (out i).IsWhole
  words : ∀ i p, (bRect (r i) (w i) p).WholeWords (el i).packing
  /-- The block of item `i` that goes to a device. -/
  src : (i : Fin n) → Dev 8 → Memref sig .tc .hbm (A2 (r i) (w i)) (el i)
  wsrc : ∀ i p, (src i p).view.WordExact
  sS : Fin 7 × Fin n → DmaSem sig
  rS : Fin 7 × Fin n → DmaSem sig
  lS : Fin n → DmaSem sig
  N : Fin n → ℕ
  N_pos : ∀ i, 0 < N i
  hNs : ∀ i p, (src i p).view.dmaCredit = N i
  hNd : ∀ i p, (blk (out i) p).view.dmaCredit = N i
  qS : Fin 7 → PosShare TreeShare
  qL : PosShare TreeShare

namespace Ends

variable {τ : Topo} {sig : RefSig} {Val : EltTy → Type} {n : ℕ} (E : Ends sig n) (m : (ℓ : Loc 8 τ sig) → Buf Val ℓ)

/-- What device `c`'s result of item `i` holds at the end, by index: in block `p`, what device `p` sends to `c`. -/
def got (i : Fin n) (c : Dev 8) : (A3 (E.r i) (E.w i)).Idx → Val (E.el i) := fun y =>
  (E.src i c).view.read Val (m ((Dev.tc (nD := 8) (τ := τ) (y 0 : Fin 8)).loc (E.src i c).view.ref)) (ix2 (y 1) (y 2))

/-- and as the contents of its buffer. -/
def fin (c : Dev 8) (i : Fin n) : Buf Val ((c.tc : Thread 8 τ).loc (E.out i).view.ref) :=
  (E.out i).view.write Val (m ((c.tc : Thread 8 τ).loc (E.out i).view.ref)) (E.got m i c) Finset.univ

/-- The exchange. -/
def xch : Xch 8 τ sig Val n where
  peer := peer
  peer_peer := peer_peer
  sh i := A2 (E.r i) (E.w i)
  el := E.el
  src := E.src
  dst i p := blk (E.out i) p
  wsrc := E.wsrc
  wdst i p := ((E.hout i).wordExact_slice rfl _ (E.words i p)).reshape _ _
  hsc _ _ := rfl
  sS := E.sS
  rS := E.rS
  lS := E.lS
  N := E.N
  N_pos := E.N_pos
  hNs := E.hNs
  hNd := E.hNd
  qS := E.qS
  qL := E.qL
  fs i p c := m ((c.tc : Thread 8 τ).loc (E.src i p).view.ref)
  res i p c := E.fin m c i
  land i p c fd x hx := by
    obtain ⟨z, -, rfl⟩ := Finset.mem_map.1 hx
    rw [View.write_emb_of_mem _ _ (Finset.mem_univ z)]
    show _ = (E.out i).view.write Val _ (E.got m i c) Finset.univ ((E.out i).view.emb (bemb (E.r i) (E.w i) p z))
    rw [View.write_emb_of_mem _ _ (Finset.mem_univ _), bemb_apply]
    have hz : (ix2 (z 0) (z 1) : (A2 (E.r i) (E.w i)).Idx) = z := by funext a; fin_cases a <;> rfl
    show _ = cast (congrArg Val (E.out i).view.elt_eq.symm) ((E.src i c).view.read Val (m ((Dev.tc (nD := 8) (τ := τ) p).loc (E.src i c).view.ref)) (ix2 (z 0) (z 1)))
    rw [hz]

/-- The rooms of a device's result, at the start; -/
theorem rooms (c : Dev 8) (i : Fin n) :
    (((c.tc : Thread 8 τ).loc (E.out i).view.ref) ↦{fullShare} m ((c.tc : Thread 8 τ).loc (E.out i).view.ref)
      : sProp (MT 8 τ sig Unit Val ℕ (Xch.UU 8 τ sig) ℕ))
    ⊢ iprop((E.xch m).room i c c ∗ bigSep Finset.univ fun j => (E.xch m).room i ((E.xch m).peer j c) c) := by
  rw [whole_blocks (E.hout i) c, bigSep_peers _ c]
  have h : ∀ p : Dev 8, (((c.tc : Thread 8 τ).loc (E.out i).view.ref) ↦[(blk (E.out i) p).view.set]{fullShare} m ((c.tc : Thread 8 τ).loc (E.out i).view.ref)
      : sProp (MT 8 τ sig Unit Val ℕ (Xch.UU 8 τ sig) ℕ)) ⊢ (E.xch m).room i p c := fun p => by
    unfold Xch.room
    iintro H
    iexists _
    iexact H
  have hj : (bigSep Finset.univ fun j : Fin 7 => (((c.tc : Thread 8 τ).loc (E.out i).view.ref) ↦[(blk (E.out i) (peer j c)).view.set]{fullShare} m ((c.tc : Thread 8 τ).loc (E.out i).view.ref)
      : sProp (MT 8 τ sig Unit Val ℕ (Xch.UU 8 τ sig) ℕ))) ⊢ bigSep Finset.univ fun j => (E.xch m).room i ((E.xch m).peer j c) c :=
    bigSep_mono fun j _ => h (peer j c)
  iintro ⟨H1, H2⟩
  isplitl [H1]
  · iapply (h c); iexact H1
  · iapply hj; iexact H2

/-- and filled, at the end. -/
theorem filled (c : Dev 8) (i : Fin n) :
    iprop((E.xch m).dstPts i c c ∗ bigSep Finset.univ fun j => (E.xch m).dstPts i ((E.xch m).peer j c) c)
      ⊢ (((c.tc : Thread 8 τ).loc (E.out i).view.ref) ↦{fullShare} E.fin m c i
        : sProp (MT 8 τ sig Unit Val ℕ (Xch.UU 8 τ sig) ℕ)) := by
  rw [whole_blocks (E.hout i) c, bigSep_peers _ c]
  exact Entails.refl _

end Ends

/-- A device's arrays in main memory, where they are the `arg`s and the `out`s and no others. -/
theorem bufs_split {τ : Topo} {sig : RefSig} {Val : EltTy → Type} {n : ℕ} (arg out : Fin n → Ref sig .tc)
    (ha : Function.Injective arg) (ho : Function.Injective out)
    (hd : Disjoint (Finset.univ.image arg) (Finset.univ.image out))
    (hS : (Finset.univ.filter fun b : Ref sig .tc => ¬ b.isScoped) = Finset.univ.image arg ∪ Finset.univ.image out)
    (c : Dev 8) (V : (b : Ref sig .tc) → Buf Val ((c.tc : Thread 8 τ).loc b)) :
    (unscopedBufs c V : sProp (MT 8 τ sig Unit Val ℕ (Xch.UU 8 τ sig) ℕ))
      = iprop((bigSep Finset.univ fun i => ((c.tc : Thread 8 τ).loc (arg i)) ↦{fullShare} V (arg i))
        ∗ bigSep Finset.univ fun i => ((c.tc : Thread 8 τ).loc (out i)) ↦{fullShare} V (out i)) := by
  unfold unscopedBufs
  have e1 : (Finset.univ.image arg) = Finset.univ.map ⟨arg, ha⟩ := by rw [Finset.map_eq_image]; rfl
  have e2 : (Finset.univ.image out) = Finset.univ.map ⟨out, ho⟩ := by rw [Finset.map_eq_image]; rfl
  rw [hS, bigSep_union hd, e1, e2, bigSep_map, bigSep_map]
  rfl

end Exchange
-- ==== Proof.Body.lean ====
/-
# Reading a program as a list of operations

A printed kernel that is one operation after another is `runL` of the list of its operations. Each of an exchange's
operations is recognised by its ends, its device and its semaphores.
-/
module

public import proofs.«01_k».proof.Proof.Setup

@[expose] public section

noncomputable section

namespace Exchange

open Idealize.ShloMosaic
open Idealize.ShloMosaic.TcCoe
open Idealize.SL.Sem

namespace Xch

variable {nD : Nat} {τ : Topo} {sig : RefSig} {Val : EltTy → Type} {n : ℕ} {Λ : Labels}

/-- The first operation of a list; -/
theorem op_cons {α : Type} {e e' : TpuEff nD τ sig Val Λ .tc PUnit} {k : PUnit → Prog (TpuEff nD τ sig Val Λ .tc) α}
    {l : List (TpuEff nD τ sig Val Λ .tc PUnit)} {z : Prog (TpuEff nD τ sig Val Λ .tc) α} (h : e = e') (hk : k ⟨⟩ = runL l z) :
    Prog.op e k = runL (e' :: l) z := by
  subst h
  show Prog.op e k = Prog.op e fun _ => runL l z
  rw [← hk]

/-- a program run before another, which may take what it returns; -/
theorem bind_runL {α β : Type} {p : Prog (TpuEff nD τ sig Val Λ .tc) α} {k : α → Prog (TpuEff nD τ sig Val Λ .tc) β}
    {l : List (TpuEff nD τ sig Val Λ .tc PUnit)} {z : Prog (TpuEff nD τ sig Val Λ .tc) β}
    (h : ∃ v, p = runL l (.ret v)) (hk : ∀ v, k v = z) : (p >>= k) = runL l z := by
  obtain ⟨v, rfl⟩ := h
  rw [runL_bind]
  exact congrArg (runL l) (hk v)

/-- the same inside a program run before another; -/
theorem bind_bind_runL {α β γ : Type} {p : Prog (TpuEff nD τ sig Val Λ .tc) α} {k : α → Prog (TpuEff nD τ sig Val Λ .tc) β}
    {k' : β → Prog (TpuEff nD τ sig Val Λ .tc) γ} {l : List (TpuEff nD τ sig Val Λ .tc PUnit)} {z : Prog (TpuEff nD τ sig Val Λ .tc) γ}
    (h : ∃ v, p = runL l (.ret v)) (hk : ∀ v, (k v >>= k') = z) : ((p >>= k) >>= k') = runL l z := by
  obtain ⟨v, rfl⟩ := h
  rw [runL_bind, runL_bind]
  exact congrArg (runL l) (hk v)

theorem ret_bind {α β : Type} {a : α} {k : α → Prog (TpuEff nD τ sig Val Λ .tc) β} {z : Prog (TpuEff nD τ sig Val Λ .tc) β}
    (h : k a = z) : (pure a >>= k) = z := h

/-- and a program that first asks for the device it runs on. -/
theorem bind_bind_dev {β γ : Type} {p : Prog (TpuEff nD τ sig Val Λ .tc) (Dev nD)} {k : Dev nD → Prog (TpuEff nD τ sig Val Λ .tc) β}
    {k' : β → Prog (TpuEff nD τ sig Val Λ .tc) γ} {l : Dev nD → List (TpuEff nD τ sig Val Λ .tc PUnit)}
    {z : Dev nD → Prog (TpuEff nD τ sig Val Λ .tc) γ}
    (h : p = .op .deviceId fun d => runL (l d) (.ret d)) (hk : ∀ d, (k d >>= k') = z d) :
    ((p >>= k) >>= k') = .op .deviceId fun d => runL (l d) (z d) := by
  subst h
  refine congrArg (Prog.op TpuEff.deviceId) (funext fun d => ?_)
  show ((runL (l d) (.ret d) >>= k) >>= k') = _
  rw [runL_bind, runL_bind]
  exact congrArg (runL (l d)) (hk d)

theorem bind_dev {β : Type} {p : Prog (TpuEff nD τ sig Val Λ .tc) (Dev nD)} {k : Dev nD → Prog (TpuEff nD τ sig Val Λ .tc) β}
    {l : Dev nD → List (TpuEff nD τ sig Val Λ .tc PUnit)} {z : Dev nD → Prog (TpuEff nD τ sig Val Λ .tc) β}
    (h : p = .op .deviceId fun d => runL (l d) (.ret d)) (hk : ∀ d, k d = z d) :
    (p >>= k) = .op .deviceId fun d => runL (l d) (z d) := by
  subst h
  refine congrArg (Prog.op TpuEff.deviceId) (funext fun d => ?_)
  show (runL (l d) (.ret d) >>= k) = _
  rw [runL_bind]
  exact congrArg (runL (l d)) (hk d)

variable {X : Xch nD τ sig Val n}

theorem locE_of {c : Dev nD} {i : Fin n} {s d : Memref sig .tc .hbm (X.sh i) (X.el i)} {l : DmaSem sig} {ws wd h}
    (h1 : s = X.src i c) (h2 : d = X.dst i c) (h3 : l = X.lS i) :
    (.enqueueDma s (.here d) (.dma l) ws wd h : TpuEff nD τ sig Val Λ .tc PUnit) = X.locE c i := by
  subst h1 h2 h3; rfl

theorem sendE_of {c : Dev nD} {mi : Fin 7 × Fin n} {s d : Memref sig .tc .hbm (X.sh mi.2) (X.el mi.2)} {p : Dev nD}
    {a b : DmaSem sig} {hd ws wd h}
    (h1 : s = X.src mi.2 (X.peer mi.1 c)) (h2 : d = X.dst mi.2 c) (h3 : p = X.peer mi.1 c) (h4 : a = X.sS mi) (h5 : b = X.rS mi) :
    (.enqueueDma s (.remote (Dev.tc p) d (.dma a) hd) (.dma b) ws wd h : TpuEff nD τ sig Val Λ .tc PUnit) = X.sendE c mi := by
  subst h1 h2 h3 h4 h5; rfl

end Xch

end Exchange
-- ==== Proof.AllToAllEnds.lean ====
/-
# The all-to-all: what its exchange is made of
-/
module

public import proofs.«01_k».proof.Proof.Body
public import proofs.«01_k».proof.Proof.Gen.AllToAllIdeal

@[expose] public section

noncomputable section

namespace Cert.AllToAllIdeal

open Idealize.ShloMosaic
open Idealize.ShloMosaic.TcCoe
open Idealize.SL Idealize.SL.RA
open Exchange

/-- The rows of a block, array by array. -/
abbrev rows : Fin 8 → ℕ := ![768, 1024, 320, 1024, 256, 1024, 256, 1024]

/-- The arrays a device sends from, and those it receives in. -/
def ins : (i : Fin 8) → Memref sig .tc .hbm (A3 (rows i) 2048) .bf16
  | 0 => Memref.whole main_arg0
  | 1 => Memref.whole main_arg1
  | 2 => Memref.whole main_arg2
  | 3 => Memref.whole main_arg3
  | 4 => Memref.whole main_arg4
  | 5 => Memref.whole main_arg5
  | 6 => Memref.whole main_arg6
  | 7 => Memref.whole main_arg7
def outs : (i : Fin 8) → Memref sig .tc .hbm (A3 (rows i) 2048) .bf16
  | 0 => Memref.whole main_v1_0
  | 1 => Memref.whole main_v1_1
  | 2 => Memref.whole main_v1_2
  | 3 => Memref.whole main_v1_3
  | 4 => Memref.whole main_v1_4
  | 5 => Memref.whole main_v1_5
  | 6 => Memref.whole main_v1_6
  | 7 => Memref.whole main_v1_7

theorem ins_whole (i : Fin 8) : (ins i).IsWhole := by fin_cases i <;> exact Memref.isWhole_whole _
theorem outs_whole (i : Fin 8) : (outs i).IsWhole := by fin_cases i <;> exact Memref.isWhole_whole _

theorem words : ∀ (i : Fin 8) (p : Fin 8), (bRect (rows i) 2048 p).WholeWords (EltTy.packing .bf16) := by decide +kernel

/-- The semaphores: of the sends, of the receives, of the copies. -/
def semS (mi : Fin 7 × Fin 8) : DmaSem sig := (⟨mi.2.val * 7 + mi.1.val, by have := mi.1.isLt; have := mi.2.isLt; show _ < 120; omega⟩ : Fin 120)
def semR (mi : Fin 7 × Fin 8) : DmaSem sig := (⟨56 + (mi.2.val * 7 + mi.1.val), by have := mi.1.isLt; have := mi.2.isLt; show _ < 120; omega⟩ : Fin 120)
def semL (i : Fin 8) : DmaSem sig := (⟨112 + i.val, by have := i.isLt; show _ < 120; omega⟩ : Fin 120)

/-- The exchange: every device sends block `p` of each array to device `p`. -/
def ends : Ends sig 8 where
  r := rows
  w _ := 2048
  el _ := .bf16
  out := outs
  hout := outs_whole
  words := words
  src i p := blk (ins i) p
  wsrc i p := ((ins_whole i).wordExact_slice rfl _ (words i p)).reshape _ _
  sS := semS
  rS := semR
  lS := semL
  N i := (blk (ins i) 0).view.dmaCredit
  N_pos i := View.dmaCredit_pos _ (by fin_cases i <;> decide)
  hNs i p := by fin_cases i <;> rfl
  hNd i p := by fin_cases i <;> rfl
  qS _ := fullShare
  qL := fullShare

end Cert.AllToAllIdeal
-- ==== Proof.AllToAllBody.lean ====
/-
# The kernel of this exchange, part by part

Each part of the printed kernel is the list of its transfers and waits; together they are the exchange's list.
-/
module

public import proofs.«01_k».proof.Proof.AllToAllEnds

@[expose] public section

noncomputable section

namespace Cert.AllToAllIdeal

open Idealize.ShloMosaic
open Idealize.ShloMosaic.TcCoe
open Idealize.SL.Sem
open Exchange

variable {F : FTy → Type} [FloatOps F]

/-- The exchange, from a memory. -/
abbrev E (m : (ℓ : Loc nD τ sig) → Buf (Elt F) ℓ) : Xch 8 τ sig (Elt F) 8 := ends.xch m

/-! ## Offsets and devices -/

theorem off1 : ∀ d : Dev nD, k0_off1 d = ![d.val, 0, 0] := by decide +kernel
theorem off2 : ∀ d : Dev nD, k0_off2 d = ![d.val, 0, 0] := by decide +kernel
theorem off3 : ∀ d : Dev nD, k0_off3 d = ![d.val, 0, 0] := by decide +kernel
theorem off4 : ∀ d : Dev nD, k0_off4 d = ![d.val, 0, 0] := by decide +kernel
theorem off5 : ∀ d : Dev nD, k0_off5 d = ![(peer 0 d).val, 0, 0] := by decide +kernel
theorem off6 : ∀ d : Dev nD, k0_off6 d = ![(peer 0 d).val, 0, 0] := by decide +kernel
theorem off7 : ∀ d : Dev nD, k0_off7 d = ![(peer 0 d).val, 0, 0] := by decide +kernel
theorem off8 : ∀ d : Dev nD, k0_off8 d = ![(peer 0 d).val, 0, 0] := by decide +kernel
theorem off9 : ∀ d : Dev nD, k0_off9 d = ![(peer 1 d).val, 0, 0] := by decide +kernel
theorem off10 : ∀ d : Dev nD, k0_off10 d = ![(peer 1 d).val, 0, 0] := by decide +kernel
theorem off11 : ∀ d : Dev nD, k0_off11 d = ![(peer 1 d).val, 0, 0] := by decide +kernel
theorem off12 : ∀ d : Dev nD, k0_off12 d = ![(peer 1 d).val, 0, 0] := by decide +kernel
theorem off13 : ∀ d : Dev nD, k0_off13 d = ![(peer 2 d).val, 0, 0] := by decide +kernel
theorem off14 : ∀ d : Dev nD, k0_off14 d = ![(peer 2 d).val, 0, 0] := by decide +kernel
theorem off15 : ∀ d : Dev nD, k0_off15 d = ![(peer 2 d).val, 0, 0] := by decide +kernel
theorem off16 : ∀ d : Dev nD, k0_off16 d = ![(peer 2 d).val, 0, 0] := by decide +kernel
theorem off17 : ∀ d : Dev nD, k0_off17 d = ![(peer 3 d).val, 0, 0] := by decide +kernel
theorem off18 : ∀ d : Dev nD, k0_off18 d = ![(peer 3 d).val, 0, 0] := by decide +kernel
theorem off19 : ∀ d : Dev nD, k0_off19 d = ![(peer 3 d).val, 0, 0] := by decide +kernel
theorem off20 : ∀ d : Dev nD, k0_off20 d = ![(peer 3 d).val, 0, 0] := by decide +kernel
theorem off21 : ∀ d : Dev nD, k0_off21 d = ![(peer 4 d).val, 0, 0] := by decide +kernel
theorem off22 : ∀ d : Dev nD, k0_off22 d = ![(peer 4 d).val, 0, 0] := by decide +kernel
theorem off23 : ∀ d : Dev nD, k0_off23 d = ![(peer 4 d).val, 0, 0] := by decide +kernel
theorem off24 : ∀ d : Dev nD, k0_off24 d = ![(peer 4 d).val, 0, 0] := by decide +kernel
theorem off25 : ∀ d : Dev nD, k0_off25 d = ![(peer 5 d).val, 0, 0] := by decide +kernel
theorem off26 : ∀ d : Dev nD, k0_off26 d = ![(peer 5 d).val, 0, 0] := by decide +kernel
theorem off27 : ∀ d : Dev nD, k0_off27 d = ![(peer 5 d).val, 0, 0] := by decide +kernel
theorem off28 : ∀ d : Dev nD, k0_off28 d = ![(peer 5 d).val, 0, 0] := by decide +kernel
theorem off29 : ∀ d : Dev nD, k0_off29 d = ![(peer 6 d).val, 0, 0] := by decide +kernel
theorem off30 : ∀ d : Dev nD, k0_off30 d = ![(peer 6 d).val, 0, 0] := by decide +kernel
theorem off31 : ∀ d : Dev nD, k0_off31 d = ![(peer 6 d).val, 0, 0] := by decide +kernel
theorem off32 : ∀ d : Dev nD, k0_off32 d = ![(peer 6 d).val, 0, 0] := by decide +kernel
theorem dev1 : ∀ d : Dev nD, (⟨k0_dev1 d, Gen.k0_dev1_lt d⟩ : Dev nD) = peer 0 d := by decide +kernel
theorem dev2 : ∀ d : Dev nD, (⟨k0_dev2 d, Gen.k0_dev2_lt d⟩ : Dev nD) = peer 0 d := by decide +kernel
theorem dev3 : ∀ d : Dev nD, (⟨k0_dev3 d, Gen.k0_dev3_lt d⟩ : Dev nD) = peer 0 d := by decide +kernel
theorem dev4 : ∀ d : Dev nD, (⟨k0_dev4 d, Gen.k0_dev4_lt d⟩ : Dev nD) = peer 0 d := by decide +kernel
theorem dev5 : ∀ d : Dev nD, (⟨k0_dev5 d, Gen.k0_dev5_lt d⟩ : Dev nD) = peer 0 d := by decide +kernel
theorem dev6 : ∀ d : Dev nD, (⟨k0_dev6 d, Gen.k0_dev6_lt d⟩ : Dev nD) = peer 0 d := by decide +kernel
theorem dev7 : ∀ d : Dev nD, (⟨k0_dev7 d, Gen.k0_dev7_lt d⟩ : Dev nD) = peer 0 d := by decide +kernel
theorem dev8 : ∀ d : Dev nD, (⟨k0_dev8 d, Gen.k0_dev8_lt d⟩ : Dev nD) = peer 0 d := by decide +kernel
theorem dev9 : ∀ d : Dev nD, (⟨k0_dev9 d, Gen.k0_dev9_lt d⟩ : Dev nD) = peer 1 d := by decide +kernel
theorem dev10 : ∀ d : Dev nD, (⟨k0_dev10 d, Gen.k0_dev10_lt d⟩ : Dev nD) = peer 1 d := by decide +kernel
theorem dev11 : ∀ d : Dev nD, (⟨k0_dev11 d, Gen.k0_dev11_lt d⟩ : Dev nD) = peer 1 d := by decide +kernel
theorem dev12 : ∀ d : Dev nD, (⟨k0_dev12 d, Gen.k0_dev12_lt d⟩ : Dev nD) = peer 1 d := by decide +kernel
theorem dev13 : ∀ d : Dev nD, (⟨k0_dev13 d, Gen.k0_dev13_lt d⟩ : Dev nD) = peer 1 d := by decide +kernel
theorem dev14 : ∀ d : Dev nD, (⟨k0_dev14 d, Gen.k0_dev14_lt d⟩ : Dev nD) = peer 1 d := by decide +kernel
theorem dev15 : ∀ d : Dev nD, (⟨k0_dev15 d, Gen.k0_dev15_lt d⟩ : Dev nD) = peer 1 d := by decide +kernel
theorem dev16 : ∀ d : Dev nD, (⟨k0_dev16 d, Gen.k0_dev16_lt d⟩ : Dev nD) = peer 1 d := by decide +kernel
theorem dev17 : ∀ d : Dev nD, (⟨k0_dev17 d, Gen.k0_dev17_lt d⟩ : Dev nD) = peer 2 d := by decide +kernel
theorem dev18 : ∀ d : Dev nD, (⟨k0_dev18 d, Gen.k0_dev18_lt d⟩ : Dev nD) = peer 2 d := by decide +kernel
theorem dev19 : ∀ d : Dev nD, (⟨k0_dev19 d, Gen.k0_dev19_lt d⟩ : Dev nD) = peer 2 d := by decide +kernel
theorem dev20 : ∀ d : Dev nD, (⟨k0_dev20 d, Gen.k0_dev20_lt d⟩ : Dev nD) = peer 2 d := by decide +kernel
theorem dev21 : ∀ d : Dev nD, (⟨k0_dev21 d, Gen.k0_dev21_lt d⟩ : Dev nD) = peer 2 d := by decide +kernel
theorem dev22 : ∀ d : Dev nD, (⟨k0_dev22 d, Gen.k0_dev22_lt d⟩ : Dev nD) = peer 2 d := by decide +kernel
theorem dev23 : ∀ d : Dev nD, (⟨k0_dev23 d, Gen.k0_dev23_lt d⟩ : Dev nD) = peer 2 d := by decide +kernel
theorem dev24 : ∀ d : Dev nD, (⟨k0_dev24 d, Gen.k0_dev24_lt d⟩ : Dev nD) = peer 2 d := by decide +kernel
theorem dev25 : ∀ d : Dev nD, (⟨k0_dev25 d, Gen.k0_dev25_lt d⟩ : Dev nD) = peer 3 d := by decide +kernel
theorem dev26 : ∀ d : Dev nD, (⟨k0_dev26 d, Gen.k0_dev26_lt d⟩ : Dev nD) = peer 3 d := by decide +kernel
theorem dev27 : ∀ d : Dev nD, (⟨k0_dev27 d, Gen.k0_dev27_lt d⟩ : Dev nD) = peer 3 d := by decide +kernel
theorem dev28 : ∀ d : Dev nD, (⟨k0_dev28 d, Gen.k0_dev28_lt d⟩ : Dev nD) = peer 3 d := by decide +kernel
theorem dev29 : ∀ d : Dev nD, (⟨k0_dev29 d, Gen.k0_dev29_lt d⟩ : Dev nD) = peer 3 d := by decide +kernel
theorem dev30 : ∀ d : Dev nD, (⟨k0_dev30 d, Gen.k0_dev30_lt d⟩ : Dev nD) = peer 3 d := by decide +kernel
theorem dev31 : ∀ d : Dev nD, (⟨k0_dev31 d, Gen.k0_dev31_lt d⟩ : Dev nD) = peer 3 d := by decide +kernel
theorem dev32 : ∀ d : Dev nD, (⟨k0_dev32 d, Gen.k0_dev32_lt d⟩ : Dev nD) = peer 3 d := by decide +kernel
theorem dev33 : ∀ d : Dev nD, (⟨k0_dev33 d, Gen.k0_dev33_lt d⟩ : Dev nD) = peer 4 d := by decide +kernel
theorem dev34 : ∀ d : Dev nD, (⟨k0_dev34 d, Gen.k0_dev34_lt d⟩ : Dev nD) = peer 4 d := by decide +kernel
theorem dev35 : ∀ d : Dev nD, (⟨k0_dev35 d, Gen.k0_dev35_lt d⟩ : Dev nD) = peer 4 d := by decide +kernel
theorem dev36 : ∀ d : Dev nD, (⟨k0_dev36 d, Gen.k0_dev36_lt d⟩ : Dev nD) = peer 4 d := by decide +kernel
theorem dev37 : ∀ d : Dev nD, (⟨k0_dev37 d, Gen.k0_dev37_lt d⟩ : Dev nD) = peer 4 d := by decide +kernel
theorem dev38 : ∀ d : Dev nD, (⟨k0_dev38 d, Gen.k0_dev38_lt d⟩ : Dev nD) = peer 4 d := by decide +kernel
theorem dev39 : ∀ d : Dev nD, (⟨k0_dev39 d, Gen.k0_dev39_lt d⟩ : Dev nD) = peer 4 d := by decide +kernel
theorem dev40 : ∀ d : Dev nD, (⟨k0_dev40 d, Gen.k0_dev40_lt d⟩ : Dev nD) = peer 4 d := by decide +kernel
theorem dev41 : ∀ d : Dev nD, (⟨k0_dev41 d, Gen.k0_dev41_lt d⟩ : Dev nD) = peer 5 d := by decide +kernel
theorem dev42 : ∀ d : Dev nD, (⟨k0_dev42 d, Gen.k0_dev42_lt d⟩ : Dev nD) = peer 5 d := by decide +kernel
theorem dev43 : ∀ d : Dev nD, (⟨k0_dev43 d, Gen.k0_dev43_lt d⟩ : Dev nD) = peer 5 d := by decide +kernel
theorem dev44 : ∀ d : Dev nD, (⟨k0_dev44 d, Gen.k0_dev44_lt d⟩ : Dev nD) = peer 5 d := by decide +kernel
theorem dev45 : ∀ d : Dev nD, (⟨k0_dev45 d, Gen.k0_dev45_lt d⟩ : Dev nD) = peer 5 d := by decide +kernel
theorem dev46 : ∀ d : Dev nD, (⟨k0_dev46 d, Gen.k0_dev46_lt d⟩ : Dev nD) = peer 5 d := by decide +kernel
theorem dev47 : ∀ d : Dev nD, (⟨k0_dev47 d, Gen.k0_dev47_lt d⟩ : Dev nD) = peer 5 d := by decide +kernel
theorem dev48 : ∀ d : Dev nD, (⟨k0_dev48 d, Gen.k0_dev48_lt d⟩ : Dev nD) = peer 5 d := by decide +kernel
theorem dev49 : ∀ d : Dev nD, (⟨k0_dev49 d, Gen.k0_dev49_lt d⟩ : Dev nD) = peer 6 d := by decide +kernel
theorem dev50 : ∀ d : Dev nD, (⟨k0_dev50 d, Gen.k0_dev50_lt d⟩ : Dev nD) = peer 6 d := by decide +kernel
theorem dev51 : ∀ d : Dev nD, (⟨k0_dev51 d, Gen.k0_dev51_lt d⟩ : Dev nD) = peer 6 d := by decide +kernel
theorem dev52 : ∀ d : Dev nD, (⟨k0_dev52 d, Gen.k0_dev52_lt d⟩ : Dev nD) = peer 6 d := by decide +kernel
theorem dev53 : ∀ d : Dev nD, (⟨k0_dev53 d, Gen.k0_dev53_lt d⟩ : Dev nD) = peer 6 d := by decide +kernel
theorem dev54 : ∀ d : Dev nD, (⟨k0_dev54 d, Gen.k0_dev54_lt d⟩ : Dev nD) = peer 6 d := by decide +kernel
theorem dev55 : ∀ d : Dev nD, (⟨k0_dev55 d, Gen.k0_dev55_lt d⟩ : Dev nD) = peer 6 d := by decide +kernel
theorem dev56 : ∀ d : Dev nD, (⟨k0_dev56 d, Gen.k0_dev56_lt d⟩ : Dev nD) = peer 6 d := by decide +kernel

/-- A part of the kernel at the program's arrays and semaphores. -/
abbrev at_ {β : Type 1}
    (f : (arg0 : Memref sig .tc .hbm S8x768x2048 .bf16) → (harg0 : arg0.IsWhole) → (arg1 : Memref sig .tc .hbm S8x1024x2048 .bf16) → (harg1 : arg1.IsWhole) → (arg2 : Memref sig .tc .hbm S8x320x2048 .bf16) → (harg2 : arg2.IsWhole) → (arg3 : Memref sig .tc .hbm S8x1024x2048 .bf16) → (harg3 : arg3.IsWhole) → (arg4 : Memref sig .tc .hbm S8x256x2048 .bf16) → (harg4 : arg4.IsWhole) → (arg5 : Memref sig .tc .hbm S8x1024x2048 .bf16) → (harg5 : arg5.IsWhole) → (arg6 : Memref sig .tc .hbm S8x256x2048 .bf16) → (harg6 : arg6.IsWhole) → (arg7 : Memref sig .tc .hbm S8x1024x2048 .bf16) → (harg7 : arg7.IsWhole) → (arg8 : Memref sig .tc .hbm S8x768x2048 .bf16) → (harg8 : arg8.IsWhole) → (arg9 : Memref sig .tc .hbm S8x1024x2048 .bf16) → (harg9 : arg9.IsWhole) → (arg10 : Memref sig .tc .hbm S8x320x2048 .bf16) → (harg10 : arg10.IsWhole) → (arg11 : Memref sig .tc .hbm S8x1024x2048 .bf16) → (harg11 : arg11.IsWhole) → (arg12 : Memref sig .tc .hbm S8x256x2048 .bf16) → (harg12 : arg12.IsWhole) → (arg13 : Memref sig .tc .hbm S8x1024x2048 .bf16) → (harg13 : arg13.IsWhole) → (arg14 : Memref sig .tc .hbm S8x256x2048 .bf16) → (harg14 : arg14.IsWhole) → (arg15 : Memref sig .tc .hbm S8x1024x2048 .bf16) → (harg15 : arg15.IsWhole) → (arg16 : DmaSems sig S56) → (arg17 : DmaSems sig S56) → (arg18 : DmaSems sig S8) → β) : β :=
  f (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole main_v1_6) (Memref.isWhole_whole _) (Memref.whole main_v1_7) (Memref.isWhole_whole _) cc0_scratch0 cc0_scratch1 cc0_scratch2

/-! ## The parts -/

def list1 (m : (ℓ : Loc nD τ sig) → Buf (Elt F) ℓ) (d : Dev nD) : List (TpuEff nD τ sig (Elt F) Λ₀ .tc PUnit) :=
  [(E m).locE d 0, (E m).locE d 1, (E m).locE d 2]
theorem part1 (m : (ℓ : Loc nD τ sig) → Buf (Elt F) ℓ) : at_ (k0_part1 (F := F))
    = .op .deviceId fun d => Xch.runL (list1 m d) (.ret d) := by
  refine congrArg (Prog.op TpuEff.deviceId) (funext fun d => ?_)
  refine Xch.op_cons (Xch.locE_of (X := E m) (i := 0) (blk_of (off1 d)) (blk_of (off1 d)) rfl) ?_
  refine Xch.op_cons (Xch.locE_of (X := E m) (i := 1) (blk_of (off2 d)) (blk_of (off2 d)) rfl) ?_
  refine Xch.op_cons (Xch.locE_of (X := E m) (i := 2) (blk_of (off3 d)) (blk_of (off3 d)) rfl) ?_
  rfl

def list2 (m : (ℓ : Loc nD τ sig) → Buf (Elt F) ℓ) (d : Dev nD) : List (TpuEff nD τ sig (Elt F) Λ₀ .tc PUnit) :=
  [(E m).locE d 3, (E m).locE d 4, (E m).locE d 5, (E m).locE d 6, (E m).locE d 7]
theorem part2 (m : (ℓ : Loc nD τ sig) → Buf (Elt F) ℓ) (d : Dev nD) :
    ∃ v, at_ (k0_part2 (F := F)) d = Xch.runL (list2 m d) (.ret v) := by
  apply Exists.intro
  refine Xch.op_cons (Xch.locE_of (X := E m) (i := 3) (blk_of (off2 d)) (blk_of (off2 d)) rfl) ?_
  refine Xch.op_cons (Xch.locE_of (X := E m) (i := 4) (blk_of (off4 d)) (blk_of (off4 d)) rfl) ?_
  refine Xch.op_cons (Xch.locE_of (X := E m) (i := 5) (blk_of (off2 d)) (blk_of (off2 d)) rfl) ?_
  refine Xch.op_cons (Xch.locE_of (X := E m) (i := 6) (blk_of (off4 d)) (blk_of (off4 d)) rfl) ?_
  refine Xch.op_cons (Xch.locE_of (X := E m) (i := 7) (blk_of (off2 d)) (blk_of (off2 d)) rfl) ?_
  rfl

def list3 (m : (ℓ : Loc nD τ sig) → Buf (Elt F) ℓ) (d : Dev nD) : List (TpuEff nD τ sig (Elt F) Λ₀ .tc PUnit) :=
  [(E m).sendE d (0, 0)]
theorem part3 (m : (ℓ : Loc nD τ sig) → Buf (Elt F) ℓ) (d : Dev nD) (x0 x1 : BitVec 32) :
    ∃ v, at_ (k0_part3 (F := F)) d x0 x1 = Xch.runL (list3 m d) (.ret v) := by
  apply Exists.intro
  refine Xch.op_cons (Xch.sendE_of (X := E m) (mi := (0, 0)) (blk_of (off5 d)) (blk_of (off1 d)) (dev1 d) rfl rfl) ?_
  rfl

def list4 (m : (ℓ : Loc nD τ sig) → Buf (Elt F) ℓ) (d : Dev nD) : List (TpuEff nD τ sig (Elt F) Λ₀ .tc PUnit) :=
  [(E m).sendE d (0, 1), (E m).sendE d (0, 2)]
theorem part4 (m : (ℓ : Loc nD τ sig) → Buf (Elt F) ℓ) (d : Dev nD) (x0 x1 x2 : BitVec 32) :
    ∃ v, at_ (k0_part4 (F := F)) d x0 x1 x2 = Xch.runL (list4 m d) (.ret v) := by
  apply Exists.intro
  refine Xch.op_cons (Xch.sendE_of (X := E m) (mi := (0, 1)) (blk_of (off6 d)) (blk_of (off2 d)) (dev2 d) rfl rfl) ?_
  refine Xch.op_cons (Xch.sendE_of (X := E m) (mi := (0, 2)) (blk_of (off7 d)) (blk_of (off3 d)) (dev3 d) rfl rfl) ?_
  rfl

def list5 (m : (ℓ : Loc nD τ sig) → Buf (Elt F) ℓ) (d : Dev nD) : List (TpuEff nD τ sig (Elt F) Λ₀ .tc PUnit) :=
  [(E m).sendE d (0, 3), (E m).sendE d (0, 4), (E m).sendE d (0, 5)]
theorem part5 (m : (ℓ : Loc nD τ sig) → Buf (Elt F) ℓ) (d : Dev nD) (x0 x1 x2 : BitVec 32) :
    ∃ v, at_ (k0_part5 (F := F)) d x0 x1 x2 = Xch.runL (list5 m d) (.ret v) := by
  apply Exists.intro
  refine Xch.op_cons (Xch.sendE_of (X := E m) (mi := (0, 3)) (blk_of (off6 d)) (blk_of (off2 d)) (dev4 d) rfl rfl) ?_
  refine Xch.op_cons (Xch.sendE_of (X := E m) (mi := (0, 4)) (blk_of (off8 d)) (blk_of (off4 d)) (dev5 d) rfl rfl) ?_
  refine Xch.op_cons (Xch.sendE_of (X := E m) (mi := (0, 5)) (blk_of (off6 d)) (blk_of (off2 d)) (dev6 d) rfl rfl) ?_
  rfl

def list6 (m : (ℓ : Loc nD τ sig) → Buf (Elt F) ℓ) (d : Dev nD) : List (TpuEff nD τ sig (Elt F) Λ₀ .tc PUnit) :=
  [(E m).sendE d (0, 6), (E m).sendE d (0, 7)]
theorem part6 (m : (ℓ : Loc nD τ sig) → Buf (Elt F) ℓ) (d : Dev nD) (x0 x1 x2 x3 : BitVec 32) :
    ∃ v, at_ (k0_part6 (F := F)) d x0 x1 x2 x3 = Xch.runL (list6 m d) (.ret v) := by
  apply Exists.intro
  refine Xch.op_cons (Xch.sendE_of (X := E m) (mi := (0, 6)) (blk_of (off8 d)) (blk_of (off4 d)) (dev7 d) rfl rfl) ?_
  refine Xch.op_cons (Xch.sendE_of (X := E m) (mi := (0, 7)) (blk_of (off6 d)) (blk_of (off2 d)) (dev8 d) rfl rfl) ?_
  rfl

def list7 (m : (ℓ : Loc nD τ sig) → Buf (Elt F) ℓ) (d : Dev nD) : List (TpuEff nD τ sig (Elt F) Λ₀ .tc PUnit) :=
  [(E m).sendE d (1, 0), (E m).sendE d (1, 1)]
theorem part7 (m : (ℓ : Loc nD τ sig) → Buf (Elt F) ℓ) (d : Dev nD) (x0 x1 x2 x3 : BitVec 32) :
    ∃ v, at_ (k0_part7 (F := F)) d x0 x1 x2 x3 = Xch.runL (list7 m d) (.ret v) := by
  apply Exists.intro
  refine Xch.op_cons (Xch.sendE_of (X := E m) (mi := (1, 0)) (blk_of (off9 d)) (blk_of (off1 d)) (dev9 d) rfl rfl) ?_
  refine Xch.op_cons (Xch.sendE_of (X := E m) (mi := (1, 1)) (blk_of (off10 d)) (blk_of (off2 d)) (dev10 d) rfl rfl) ?_
  rfl

def list8 (m : (ℓ : Loc nD τ sig) → Buf (Elt F) ℓ) (d : Dev nD) : List (TpuEff nD τ sig (Elt F) Λ₀ .tc PUnit) :=
  [(E m).sendE d (1, 2), (E m).sendE d (1, 3)]
theorem part8 (m : (ℓ : Loc nD τ sig) → Buf (Elt F) ℓ) (d : Dev nD) (x0 x1 x2 x3 : BitVec 32) :
    ∃ v, at_ (k0_part8 (F := F)) d x0 x1 x2 x3 = Xch.runL (list8 m d) (.ret v) := by
  apply Exists.intro
  refine Xch.op_cons (Xch.sendE_of (X := E m) (mi := (1, 2)) (blk_of (off11 d)) (blk_of (off3 d)) (dev11 d) rfl rfl) ?_
  refine Xch.op_cons (Xch.sendE_of (X := E m) (mi := (1, 3)) (blk_of (off10 d)) (blk_of (off2 d)) (dev12 d) rfl rfl) ?_
  rfl

def list9 (m : (ℓ : Loc nD τ sig) → Buf (Elt F) ℓ) (d : Dev nD) : List (TpuEff nD τ sig (Elt F) Λ₀ .tc PUnit) :=
  [(E m).sendE d (1, 4), (E m).sendE d (1, 5), (E m).sendE d (1, 6)]
theorem part9 (m : (ℓ : Loc nD τ sig) → Buf (Elt F) ℓ) (d : Dev nD) (x0 x1 x2 : BitVec 32) :
    ∃ v, at_ (k0_part9 (F := F)) d x0 x1 x2 = Xch.runL (list9 m d) (.ret v) := by
  apply Exists.intro
  refine Xch.op_cons (Xch.sendE_of (X := E m) (mi := (1, 4)) (blk_of (off12 d)) (blk_of (off4 d)) (dev13 d) rfl rfl) ?_
  refine Xch.op_cons (Xch.sendE_of (X := E m) (mi := (1, 5)) (blk_of (off10 d)) (blk_of (off2 d)) (dev14 d) rfl rfl) ?_
  refine Xch.op_cons (Xch.sendE_of (X := E m) (mi := (1, 6)) (blk_of (off12 d)) (blk_of (off4 d)) (dev15 d) rfl rfl) ?_
  rfl

def list10 (m : (ℓ : Loc nD τ sig) → Buf (Elt F) ℓ) (d : Dev nD) : List (TpuEff nD τ sig (Elt F) Λ₀ .tc PUnit) :=
  [(E m).sendE d (1, 7)]
theorem part10 (m : (ℓ : Loc nD τ sig) → Buf (Elt F) ℓ) (d : Dev nD) (x0 x1 x2 : BitVec 32) :
    ∃ v, at_ (k0_part10 (F := F)) d x0 x1 x2 = Xch.runL (list10 m d) (.ret v) := by
  apply Exists.intro
  refine Xch.op_cons (Xch.sendE_of (X := E m) (mi := (1, 7)) (blk_of (off10 d)) (blk_of (off2 d)) (dev16 d) rfl rfl) ?_
  rfl

def list11 (m : (ℓ : Loc nD τ sig) → Buf (Elt F) ℓ) (d : Dev nD) : List (TpuEff nD τ sig (Elt F) Λ₀ .tc PUnit) :=
  [(E m).sendE d (2, 0), (E m).sendE d (2, 1)]
theorem part11 (m : (ℓ : Loc nD τ sig) → Buf (Elt F) ℓ) (d : Dev nD) (x0 x1 x2 x3 x4 : BitVec 32) :
    ∃ v, at_ (k0_part11 (F := F)) d x0 x1 x2 x3 x4 = Xch.runL (list11 m d) (.ret v) := by
  apply Exists.intro
  refine Xch.op_cons (Xch.sendE_of (X := E m) (mi := (2, 0)) (blk_of (off13 d)) (blk_of (off1 d)) (dev17 d) rfl rfl) ?_
  refine Xch.op_cons (Xch.sendE_of (X := E m) (mi := (2, 1)) (blk_of (off14 d)) (blk_of (off2 d)) (dev18 d) rfl rfl) ?_
  rfl

def list12 (m : (ℓ : Loc nD τ sig) → Buf (Elt F) ℓ) (d : Dev nD) : List (TpuEff nD τ sig (Elt F) Λ₀ .tc PUnit) :=
  [(E m).sendE d (2, 2), (E m).sendE d (2, 3), (E m).sendE d (2, 4)]
theorem part12 (m : (ℓ : Loc nD τ sig) → Buf (Elt F) ℓ) (d : Dev nD) (x0 x1 x2 : BitVec 32) :
    ∃ v, at_ (k0_part12 (F := F)) d x0 x1 x2 = Xch.runL (list12 m d) (.ret v) := by
  apply Exists.intro
  refine Xch.op_cons (Xch.sendE_of (X := E m) (mi := (2, 2)) (blk_of (off15 d)) (blk_of (off3 d)) (dev19 d) rfl rfl) ?_
  refine Xch.op_cons (Xch.sendE_of (X := E m) (mi := (2, 3)) (blk_of (off14 d)) (blk_of (off2 d)) (dev20 d) rfl rfl) ?_
  refine Xch.op_cons (Xch.sendE_of (X := E m) (mi := (2, 4)) (blk_of (off16 d)) (blk_of (off4 d)) (dev21 d) rfl rfl) ?_
  rfl

def list13 (m : (ℓ : Loc nD τ sig) → Buf (Elt F) ℓ) (d : Dev nD) : List (TpuEff nD τ sig (Elt F) Λ₀ .tc PUnit) :=
  [(E m).sendE d (2, 5), (E m).sendE d (2, 6)]
theorem part13 (m : (ℓ : Loc nD τ sig) → Buf (Elt F) ℓ) (d : Dev nD) (x0 x1 x2 x3 : BitVec 32) :
    ∃ v, at_ (k0_part13 (F := F)) d x0 x1 x2 x3 = Xch.runL (list13 m d) (.ret v) := by
  apply Exists.intro
  refine Xch.op_cons (Xch.sendE_of (X := E m) (mi := (2, 5)) (blk_of (off14 d)) (blk_of (off2 d)) (dev22 d) rfl rfl) ?_
  refine Xch.op_cons (Xch.sendE_of (X := E m) (mi := (2, 6)) (blk_of (off16 d)) (blk_of (off4 d)) (dev23 d) rfl rfl) ?_
  rfl

def list14 (m : (ℓ : Loc nD τ sig) → Buf (Elt F) ℓ) (d : Dev nD) : List (TpuEff nD τ sig (Elt F) Λ₀ .tc PUnit) :=
  [(E m).sendE d (2, 7), (E m).sendE d (3, 0)]
theorem part14 (m : (ℓ : Loc nD τ sig) → Buf (Elt F) ℓ) (d : Dev nD) :
    ∃ v, at_ (k0_part14 (F := F)) d = Xch.runL (list14 m d) (.ret v) := by
  apply Exists.intro
  refine Xch.op_cons (Xch.sendE_of (X := E m) (mi := (2, 7)) (blk_of (off14 d)) (blk_of (off2 d)) (dev24 d) rfl rfl) ?_
  refine Xch.op_cons (Xch.sendE_of (X := E m) (mi := (3, 0)) (blk_of (off17 d)) (blk_of (off1 d)) (dev25 d) rfl rfl) ?_
  rfl

def list15 (m : (ℓ : Loc nD τ sig) → Buf (Elt F) ℓ) (d : Dev nD) : List (TpuEff nD τ sig (Elt F) Λ₀ .tc PUnit) :=
  [(E m).sendE d (3, 1), (E m).sendE d (3, 2)]
theorem part15 (m : (ℓ : Loc nD τ sig) → Buf (Elt F) ℓ) (d : Dev nD) (x0 x1 x2 x3 : BitVec 32) :
    ∃ v, at_ (k0_part15 (F := F)) d x0 x1 x2 x3 = Xch.runL (list15 m d) (.ret v) := by
  apply Exists.intro
  refine Xch.op_cons (Xch.sendE_of (X := E m) (mi := (3, 1)) (blk_of (off18 d)) (blk_of (off2 d)) (dev26 d) rfl rfl) ?_
  refine Xch.op_cons (Xch.sendE_of (X := E m) (mi := (3, 2)) (blk_of (off19 d)) (blk_of (off3 d)) (dev27 d) rfl rfl) ?_
  rfl

def list16 (m : (ℓ : Loc nD τ sig) → Buf (Elt F) ℓ) (d : Dev nD) : List (TpuEff nD τ sig (Elt F) Λ₀ .tc PUnit) :=
  [(E m).sendE d (3, 3), (E m).sendE d (3, 4)]
theorem part16 (m : (ℓ : Loc nD τ sig) → Buf (Elt F) ℓ) (d : Dev nD) (x0 x1 x2 : BitVec 32) :
    ∃ v, at_ (k0_part16 (F := F)) d x0 x1 x2 = Xch.runL (list16 m d) (.ret v) := by
  apply Exists.intro
  refine Xch.op_cons (Xch.sendE_of (X := E m) (mi := (3, 3)) (blk_of (off18 d)) (blk_of (off2 d)) (dev28 d) rfl rfl) ?_
  refine Xch.op_cons (Xch.sendE_of (X := E m) (mi := (3, 4)) (blk_of (off20 d)) (blk_of (off4 d)) (dev29 d) rfl rfl) ?_
  rfl

def list17 (m : (ℓ : Loc nD τ sig) → Buf (Elt F) ℓ) (d : Dev nD) : List (TpuEff nD τ sig (Elt F) Λ₀ .tc PUnit) :=
  [(E m).sendE d (3, 5), (E m).sendE d (3, 6), (E m).sendE d (3, 7)]
theorem part17 (m : (ℓ : Loc nD τ sig) → Buf (Elt F) ℓ) (d : Dev nD) (x0 x1 x2 : BitVec 32) :
    ∃ v, at_ (k0_part17 (F := F)) d x0 x1 x2 = Xch.runL (list17 m d) (.ret v) := by
  apply Exists.intro
  refine Xch.op_cons (Xch.sendE_of (X := E m) (mi := (3, 5)) (blk_of (off18 d)) (blk_of (off2 d)) (dev30 d) rfl rfl) ?_
  refine Xch.op_cons (Xch.sendE_of (X := E m) (mi := (3, 6)) (blk_of (off20 d)) (blk_of (off4 d)) (dev31 d) rfl rfl) ?_
  refine Xch.op_cons (Xch.sendE_of (X := E m) (mi := (3, 7)) (blk_of (off18 d)) (blk_of (off2 d)) (dev32 d) rfl rfl) ?_
  rfl

def list18 (m : (ℓ : Loc nD τ sig) → Buf (Elt F) ℓ) (d : Dev nD) : List (TpuEff nD τ sig (Elt F) Λ₀ .tc PUnit) :=
  [(E m).sendE d (4, 0)]
theorem part18 (m : (ℓ : Loc nD τ sig) → Buf (Elt F) ℓ) (d : Dev nD) (x0 x1 x2 x3 : BitVec 32) :
    ∃ v, at_ (k0_part18 (F := F)) d x0 x1 x2 x3 = Xch.runL (list18 m d) (.ret v) := by
  apply Exists.intro
  refine Xch.op_cons (Xch.sendE_of (X := E m) (mi := (4, 0)) (blk_of (off21 d)) (blk_of (off1 d)) (dev33 d) rfl rfl) ?_
  rfl

def list19 (m : (ℓ : Loc nD τ sig) → Buf (Elt F) ℓ) (d : Dev nD) : List (TpuEff nD τ sig (Elt F) Λ₀ .tc PUnit) :=
  [(E m).sendE d (4, 1), (E m).sendE d (4, 2), (E m).sendE d (4, 3)]
theorem part19 (m : (ℓ : Loc nD τ sig) → Buf (Elt F) ℓ) (d : Dev nD) (x0 x1 x2 : BitVec 32) :
    ∃ v, at_ (k0_part19 (F := F)) d x0 x1 x2 = Xch.runL (list19 m d) (.ret v) := by
  apply Exists.intro
  refine Xch.op_cons (Xch.sendE_of (X := E m) (mi := (4, 1)) (blk_of (off22 d)) (blk_of (off2 d)) (dev34 d) rfl rfl) ?_
  refine Xch.op_cons (Xch.sendE_of (X := E m) (mi := (4, 2)) (blk_of (off23 d)) (blk_of (off3 d)) (dev35 d) rfl rfl) ?_
  refine Xch.op_cons (Xch.sendE_of (X := E m) (mi := (4, 3)) (blk_of (off22 d)) (blk_of (off2 d)) (dev36 d) rfl rfl) ?_
  rfl

def list20 (m : (ℓ : Loc nD τ sig) → Buf (Elt F) ℓ) (d : Dev nD) : List (TpuEff nD τ sig (Elt F) Λ₀ .tc PUnit) :=
  [(E m).sendE d (4, 4), (E m).sendE d (4, 5)]
theorem part20 (m : (ℓ : Loc nD τ sig) → Buf (Elt F) ℓ) (d : Dev nD) (x0 x1 x2 x3 : BitVec 32) :
    ∃ v, at_ (k0_part20 (F := F)) d x0 x1 x2 x3 = Xch.runL (list20 m d) (.ret v) := by
  apply Exists.intro
  refine Xch.op_cons (Xch.sendE_of (X := E m) (mi := (4, 4)) (blk_of (off24 d)) (blk_of (off4 d)) (dev37 d) rfl rfl) ?_
  refine Xch.op_cons (Xch.sendE_of (X := E m) (mi := (4, 5)) (blk_of (off22 d)) (blk_of (off2 d)) (dev38 d) rfl rfl) ?_
  rfl

def list21 (m : (ℓ : Loc nD τ sig) → Buf (Elt F) ℓ) (d : Dev nD) : List (TpuEff nD τ sig (Elt F) Λ₀ .tc PUnit) :=
  [(E m).sendE d (4, 6), (E m).sendE d (4, 7)]
theorem part21 (m : (ℓ : Loc nD τ sig) → Buf (Elt F) ℓ) (d : Dev nD) (x0 x1 x2 : BitVec 32) :
    ∃ v, at_ (k0_part21 (F := F)) d x0 x1 x2 = Xch.runL (list21 m d) (.ret v) := by
  apply Exists.intro
  refine Xch.op_cons (Xch.sendE_of (X := E m) (mi := (4, 6)) (blk_of (off24 d)) (blk_of (off4 d)) (dev39 d) rfl rfl) ?_
  refine Xch.op_cons (Xch.sendE_of (X := E m) (mi := (4, 7)) (blk_of (off22 d)) (blk_of (off2 d)) (dev40 d) rfl rfl) ?_
  rfl

def list22 (m : (ℓ : Loc nD τ sig) → Buf (Elt F) ℓ) (d : Dev nD) : List (TpuEff nD τ sig (Elt F) Λ₀ .tc PUnit) :=
  [(E m).sendE d (5, 0), (E m).sendE d (5, 1)]
theorem part22 (m : (ℓ : Loc nD τ sig) → Buf (Elt F) ℓ) (d : Dev nD) (x0 x1 x2 x3 x4 : BitVec 32) :
    ∃ v, at_ (k0_part22 (F := F)) d x0 x1 x2 x3 x4 = Xch.runL (list22 m d) (.ret v) := by
  apply Exists.intro
  refine Xch.op_cons (Xch.sendE_of (X := E m) (mi := (5, 0)) (blk_of (off25 d)) (blk_of (off1 d)) (dev41 d) rfl rfl) ?_
  refine Xch.op_cons (Xch.sendE_of (X := E m) (mi := (5, 1)) (blk_of (off26 d)) (blk_of (off2 d)) (dev42 d) rfl rfl) ?_
  rfl

def list23 (m : (ℓ : Loc nD τ sig) → Buf (Elt F) ℓ) (d : Dev nD) : List (TpuEff nD τ sig (Elt F) Λ₀ .tc PUnit) :=
  [(E m).sendE d (5, 2), (E m).sendE d (5, 3)]
theorem part23 (m : (ℓ : Loc nD τ sig) → Buf (Elt F) ℓ) (d : Dev nD) (x0 x1 x2 x3 x4 : BitVec 32) :
    ∃ v, at_ (k0_part23 (F := F)) d x0 x1 x2 x3 x4 = Xch.runL (list23 m d) (.ret v) := by
  apply Exists.intro
  refine Xch.op_cons (Xch.sendE_of (X := E m) (mi := (5, 2)) (blk_of (off27 d)) (blk_of (off3 d)) (dev43 d) rfl rfl) ?_
  refine Xch.op_cons (Xch.sendE_of (X := E m) (mi := (5, 3)) (blk_of (off26 d)) (blk_of (off2 d)) (dev44 d) rfl rfl) ?_
  rfl

def list24 (m : (ℓ : Loc nD τ sig) → Buf (Elt F) ℓ) (d : Dev nD) : List (TpuEff nD τ sig (Elt F) Λ₀ .tc PUnit) :=
  [(E m).sendE d (5, 4), (E m).sendE d (5, 5), (E m).sendE d (5, 6)]
theorem part24 (m : (ℓ : Loc nD τ sig) → Buf (Elt F) ℓ) (d : Dev nD) (x0 x1 x2 : BitVec 32) :
    ∃ v, at_ (k0_part24 (F := F)) d x0 x1 x2 = Xch.runL (list24 m d) (.ret v) := by
  apply Exists.intro
  refine Xch.op_cons (Xch.sendE_of (X := E m) (mi := (5, 4)) (blk_of (off28 d)) (blk_of (off4 d)) (dev45 d) rfl rfl) ?_
  refine Xch.op_cons (Xch.sendE_of (X := E m) (mi := (5, 5)) (blk_of (off26 d)) (blk_of (off2 d)) (dev46 d) rfl rfl) ?_
  refine Xch.op_cons (Xch.sendE_of (X := E m) (mi := (5, 6)) (blk_of (off28 d)) (blk_of (off4 d)) (dev47 d) rfl rfl) ?_
  rfl

def list25 (m : (ℓ : Loc nD τ sig) → Buf (Elt F) ℓ) (d : Dev nD) : List (TpuEff nD τ sig (Elt F) Λ₀ .tc PUnit) :=
  [(E m).sendE d (5, 7)]
theorem part25 (m : (ℓ : Loc nD τ sig) → Buf (Elt F) ℓ) (d : Dev nD) (x0 x1 x2 x3 : BitVec 32) :
    ∃ v, at_ (k0_part25 (F := F)) d x0 x1 x2 x3 = Xch.runL (list25 m d) (.ret v) := by
  apply Exists.intro
  refine Xch.op_cons (Xch.sendE_of (X := E m) (mi := (5, 7)) (blk_of (off26 d)) (blk_of (off2 d)) (dev48 d) rfl rfl) ?_
  rfl

def list26 (m : (ℓ : Loc nD τ sig) → Buf (Elt F) ℓ) (d : Dev nD) : List (TpuEff nD τ sig (Elt F) Λ₀ .tc PUnit) :=
  [(E m).sendE d (6, 0), (E m).sendE d (6, 1)]
theorem part26 (m : (ℓ : Loc nD τ sig) → Buf (Elt F) ℓ) (d : Dev nD) (x0 x1 x2 x3 x4 : BitVec 32) :
    ∃ v, at_ (k0_part26 (F := F)) d x0 x1 x2 x3 x4 = Xch.runL (list26 m d) (.ret v) := by
  apply Exists.intro
  refine Xch.op_cons (Xch.sendE_of (X := E m) (mi := (6, 0)) (blk_of (off29 d)) (blk_of (off1 d)) (dev49 d) rfl rfl) ?_
  refine Xch.op_cons (Xch.sendE_of (X := E m) (mi := (6, 1)) (blk_of (off30 d)) (blk_of (off2 d)) (dev50 d) rfl rfl) ?_
  rfl

def list27 (m : (ℓ : Loc nD τ sig) → Buf (Elt F) ℓ) (d : Dev nD) : List (TpuEff nD τ sig (Elt F) Λ₀ .tc PUnit) :=
  [(E m).sendE d (6, 2), (E m).sendE d (6, 3), (E m).sendE d (6, 4)]
theorem part27 (m : (ℓ : Loc nD τ sig) → Buf (Elt F) ℓ) (d : Dev nD) (x0 x1 x2 : BitVec 32) :
    ∃ v, at_ (k0_part27 (F := F)) d x0 x1 x2 = Xch.runL (list27 m d) (.ret v) := by
  apply Exists.intro
  refine Xch.op_cons (Xch.sendE_of (X := E m) (mi := (6, 2)) (blk_of (off31 d)) (blk_of (off3 d)) (dev51 d) rfl rfl) ?_
  refine Xch.op_cons (Xch.sendE_of (X := E m) (mi := (6, 3)) (blk_of (off30 d)) (blk_of (off2 d)) (dev52 d) rfl rfl) ?_
  refine Xch.op_cons (Xch.sendE_of (X := E m) (mi := (6, 4)) (blk_of (off32 d)) (blk_of (off4 d)) (dev53 d) rfl rfl) ?_
  rfl

def list28 (m : (ℓ : Loc nD τ sig) → Buf (Elt F) ℓ) (d : Dev nD) : List (TpuEff nD τ sig (Elt F) Λ₀ .tc PUnit) :=
  [(E m).sendE d (6, 5), (E m).sendE d (6, 6)]
theorem part28 (m : (ℓ : Loc nD τ sig) → Buf (Elt F) ℓ) (d : Dev nD) (x0 x1 x2 x3 : BitVec 32) :
    ∃ v, at_ (k0_part28 (F := F)) d x0 x1 x2 x3 = Xch.runL (list28 m d) (.ret v) := by
  apply Exists.intro
  refine Xch.op_cons (Xch.sendE_of (X := E m) (mi := (6, 5)) (blk_of (off30 d)) (blk_of (off2 d)) (dev54 d) rfl rfl) ?_
  refine Xch.op_cons (Xch.sendE_of (X := E m) (mi := (6, 6)) (blk_of (off32 d)) (blk_of (off4 d)) (dev55 d) rfl rfl) ?_
  rfl

def list29 (m : (ℓ : Loc nD τ sig) → Buf (Elt F) ℓ) (d : Dev nD) : List (TpuEff nD τ sig (Elt F) Λ₀ .tc PUnit) :=
  [(E m).sendE d (6, 7), (E m).recvE d (0, 0)]
theorem part29 (m : (ℓ : Loc nD τ sig) → Buf (Elt F) ℓ) (d : Dev nD) :
    ∃ v, at_ (k0_part29 (F := F)) d = Xch.runL (list29 m d) (.ret v) := by
  apply Exists.intro
  refine Xch.op_cons (Xch.sendE_of (X := E m) (mi := (6, 7)) (blk_of (off30 d)) (blk_of (off2 d)) (dev56 d) rfl rfl) ?_
  refine Xch.op_cons (rfl) ?_
  rfl

def list30 (m : (ℓ : Loc nD τ sig) → Buf (Elt F) ℓ) (d : Dev nD) : List (TpuEff nD τ sig (Elt F) Λ₀ .tc PUnit) :=
  [(E m).recvE d (0, 1), (E m).recvE d (0, 2)]
theorem part30 (m : (ℓ : Loc nD τ sig) → Buf (Elt F) ℓ) (d : Dev nD) (x0 x1 x2 x3 x4 : BitVec 32) :
    ∃ v, at_ (k0_part30 (F := F)) d x0 x1 x2 x3 x4 = Xch.runL (list30 m d) (.ret v) := by
  apply Exists.intro
  refine Xch.op_cons (rfl) ?_
  refine Xch.op_cons (rfl) ?_
  rfl

def list31 (m : (ℓ : Loc nD τ sig) → Buf (Elt F) ℓ) (d : Dev nD) : List (TpuEff nD τ sig (Elt F) Λ₀ .tc PUnit) :=
  [(E m).recvE d (0, 3), (E m).recvE d (0, 4), (E m).recvE d (0, 5)]
theorem part31 (m : (ℓ : Loc nD τ sig) → Buf (Elt F) ℓ) (d : Dev nD) (x0 x1 x2 : BitVec 32) :
    ∃ v, at_ (k0_part31 (F := F)) d x0 x1 x2 = Xch.runL (list31 m d) (.ret v) := by
  apply Exists.intro
  refine Xch.op_cons (rfl) ?_
  refine Xch.op_cons (rfl) ?_
  refine Xch.op_cons (rfl) ?_
  rfl

def list32 (m : (ℓ : Loc nD τ sig) → Buf (Elt F) ℓ) (d : Dev nD) : List (TpuEff nD τ sig (Elt F) Λ₀ .tc PUnit) :=
  [(E m).recvE d (0, 6), (E m).recvE d (0, 7)]
theorem part32 (m : (ℓ : Loc nD τ sig) → Buf (Elt F) ℓ) (d : Dev nD) (x0 x1 x2 x3 x4 : BitVec 32) :
    ∃ v, at_ (k0_part32 (F := F)) d x0 x1 x2 x3 x4 = Xch.runL (list32 m d) (.ret v) := by
  apply Exists.intro
  refine Xch.op_cons (rfl) ?_
  refine Xch.op_cons (rfl) ?_
  rfl

def list33 (m : (ℓ : Loc nD τ sig) → Buf (Elt F) ℓ) (d : Dev nD) : List (TpuEff nD τ sig (Elt F) Λ₀ .tc PUnit) :=
  [(E m).recvE d (1, 0), (E m).recvE d (1, 1)]
theorem part33 (m : (ℓ : Loc nD τ sig) → Buf (Elt F) ℓ) (d : Dev nD) (x0 x1 x2 : BitVec 32) :
    ∃ v, at_ (k0_part33 (F := F)) d x0 x1 x2 = Xch.runL (list33 m d) (.ret v) := by
  apply Exists.intro
  refine Xch.op_cons (rfl) ?_
  refine Xch.op_cons (rfl) ?_
  rfl

def list34 (m : (ℓ : Loc nD τ sig) → Buf (Elt F) ℓ) (d : Dev nD) : List (TpuEff nD τ sig (Elt F) Λ₀ .tc PUnit) :=
  [(E m).recvE d (1, 2), (E m).recvE d (1, 3), (E m).recvE d (1, 4)]
theorem part34 (m : (ℓ : Loc nD τ sig) → Buf (Elt F) ℓ) (d : Dev nD) (x0 x1 x2 : BitVec 32) :
    ∃ v, at_ (k0_part34 (F := F)) d x0 x1 x2 = Xch.runL (list34 m d) (.ret v) := by
  apply Exists.intro
  refine Xch.op_cons (rfl) ?_
  refine Xch.op_cons (rfl) ?_
  refine Xch.op_cons (rfl) ?_
  rfl

def list35 (m : (ℓ : Loc nD τ sig) → Buf (Elt F) ℓ) (d : Dev nD) : List (TpuEff nD τ sig (Elt F) Λ₀ .tc PUnit) :=
  [(E m).recvE d (1, 5), (E m).recvE d (1, 6)]
theorem part35 (m : (ℓ : Loc nD τ sig) → Buf (Elt F) ℓ) (d : Dev nD) (x0 x1 x2 x3 : BitVec 32) :
    ∃ v, at_ (k0_part35 (F := F)) d x0 x1 x2 x3 = Xch.runL (list35 m d) (.ret v) := by
  apply Exists.intro
  refine Xch.op_cons (rfl) ?_
  refine Xch.op_cons (rfl) ?_
  rfl

def list36 (m : (ℓ : Loc nD τ sig) → Buf (Elt F) ℓ) (d : Dev nD) : List (TpuEff nD τ sig (Elt F) Λ₀ .tc PUnit) :=
  [(E m).recvE d (1, 7), (E m).recvE d (2, 0)]
theorem part36 (m : (ℓ : Loc nD τ sig) → Buf (Elt F) ℓ) (d : Dev nD) :
    ∃ v, at_ (k0_part36 (F := F)) d = Xch.runL (list36 m d) (.ret v) := by
  apply Exists.intro
  refine Xch.op_cons (rfl) ?_
  refine Xch.op_cons (rfl) ?_
  rfl

def list37 (m : (ℓ : Loc nD τ sig) → Buf (Elt F) ℓ) (d : Dev nD) : List (TpuEff nD τ sig (Elt F) Λ₀ .tc PUnit) :=
  [(E m).recvE d (2, 1), (E m).recvE d (2, 2), (E m).recvE d (2, 3)]
theorem part37 (m : (ℓ : Loc nD τ sig) → Buf (Elt F) ℓ) (d : Dev nD) (x0 x1 x2 x3 : BitVec 32) :
    ∃ v, at_ (k0_part37 (F := F)) d x0 x1 x2 x3 = Xch.runL (list37 m d) (.ret v) := by
  apply Exists.intro
  refine Xch.op_cons (rfl) ?_
  refine Xch.op_cons (rfl) ?_
  refine Xch.op_cons (rfl) ?_
  rfl

def list38 (m : (ℓ : Loc nD τ sig) → Buf (Elt F) ℓ) (d : Dev nD) : List (TpuEff nD τ sig (Elt F) Λ₀ .tc PUnit) :=
  [(E m).recvE d (2, 4), (E m).recvE d (2, 5)]
theorem part38 (m : (ℓ : Loc nD τ sig) → Buf (Elt F) ℓ) (d : Dev nD) (x0 x1 x2 : BitVec 32) :
    ∃ v, at_ (k0_part38 (F := F)) d x0 x1 x2 = Xch.runL (list38 m d) (.ret v) := by
  apply Exists.intro
  refine Xch.op_cons (rfl) ?_
  refine Xch.op_cons (rfl) ?_
  rfl

def list39 (m : (ℓ : Loc nD τ sig) → Buf (Elt F) ℓ) (d : Dev nD) : List (TpuEff nD τ sig (Elt F) Λ₀ .tc PUnit) :=
  [(E m).recvE d (2, 6), (E m).recvE d (2, 7)]
theorem part39 (m : (ℓ : Loc nD τ sig) → Buf (Elt F) ℓ) (d : Dev nD) (x0 x1 x2 : BitVec 32) :
    ∃ v, at_ (k0_part39 (F := F)) d x0 x1 x2 = Xch.runL (list39 m d) (.ret v) := by
  apply Exists.intro
  refine Xch.op_cons (rfl) ?_
  refine Xch.op_cons (rfl) ?_
  rfl

def list40 (m : (ℓ : Loc nD τ sig) → Buf (Elt F) ℓ) (d : Dev nD) : List (TpuEff nD τ sig (Elt F) Λ₀ .tc PUnit) :=
  [(E m).recvE d (3, 0), (E m).recvE d (3, 1)]
theorem part40 (m : (ℓ : Loc nD τ sig) → Buf (Elt F) ℓ) (d : Dev nD) (x0 x1 x2 x3 x4 : BitVec 32) :
    ∃ v, at_ (k0_part40 (F := F)) d x0 x1 x2 x3 x4 = Xch.runL (list40 m d) (.ret v) := by
  apply Exists.intro
  refine Xch.op_cons (rfl) ?_
  refine Xch.op_cons (rfl) ?_
  rfl

def list41 (m : (ℓ : Loc nD τ sig) → Buf (Elt F) ℓ) (d : Dev nD) : List (TpuEff nD τ sig (Elt F) Λ₀ .tc PUnit) :=
  [(E m).recvE d (3, 2), (E m).recvE d (3, 3), (E m).recvE d (3, 4)]
theorem part41 (m : (ℓ : Loc nD τ sig) → Buf (Elt F) ℓ) (d : Dev nD) (x0 x1 x2 : BitVec 32) :
    ∃ v, at_ (k0_part41 (F := F)) d x0 x1 x2 = Xch.runL (list41 m d) (.ret v) := by
  apply Exists.intro
  refine Xch.op_cons (rfl) ?_
  refine Xch.op_cons (rfl) ?_
  refine Xch.op_cons (rfl) ?_
  rfl

def list42 (m : (ℓ : Loc nD τ sig) → Buf (Elt F) ℓ) (d : Dev nD) : List (TpuEff nD τ sig (Elt F) Λ₀ .tc PUnit) :=
  [(E m).recvE d (3, 5), (E m).recvE d (3, 6), (E m).recvE d (3, 7)]
theorem part42 (m : (ℓ : Loc nD τ sig) → Buf (Elt F) ℓ) (d : Dev nD) (x0 x1 x2 x3 x4 : BitVec 32) :
    ∃ v, at_ (k0_part42 (F := F)) d x0 x1 x2 x3 x4 = Xch.runL (list42 m d) (.ret v) := by
  apply Exists.intro
  refine Xch.op_cons (rfl) ?_
  refine Xch.op_cons (rfl) ?_
  refine Xch.op_cons (rfl) ?_
  rfl

def list43 (m : (ℓ : Loc nD τ sig) → Buf (Elt F) ℓ) (d : Dev nD) : List (TpuEff nD τ sig (Elt F) Λ₀ .tc PUnit) :=
  [(E m).recvE d (4, 0)]
theorem part43 (m : (ℓ : Loc nD τ sig) → Buf (Elt F) ℓ) (d : Dev nD) (x0 : BitVec 32) :
    ∃ v, at_ (k0_part43 (F := F)) d x0 = Xch.runL (list43 m d) (.ret v) := by
  apply Exists.intro
  refine Xch.op_cons (rfl) ?_
  rfl

def list44 (m : (ℓ : Loc nD τ sig) → Buf (Elt F) ℓ) (d : Dev nD) : List (TpuEff nD τ sig (Elt F) Λ₀ .tc PUnit) :=
  [(E m).recvE d (4, 1), (E m).recvE d (4, 2), (E m).recvE d (4, 3)]
theorem part44 (m : (ℓ : Loc nD τ sig) → Buf (Elt F) ℓ) (d : Dev nD) (x0 x1 x2 : BitVec 32) :
    ∃ v, at_ (k0_part44 (F := F)) d x0 x1 x2 = Xch.runL (list44 m d) (.ret v) := by
  apply Exists.intro
  refine Xch.op_cons (rfl) ?_
  refine Xch.op_cons (rfl) ?_
  refine Xch.op_cons (rfl) ?_
  rfl

def list45 (m : (ℓ : Loc nD τ sig) → Buf (Elt F) ℓ) (d : Dev nD) : List (TpuEff nD τ sig (Elt F) Λ₀ .tc PUnit) :=
  [(E m).recvE d (4, 4), (E m).recvE d (4, 5)]
theorem part45 (m : (ℓ : Loc nD τ sig) → Buf (Elt F) ℓ) (d : Dev nD) (x0 x1 x2 x3 : BitVec 32) :
    ∃ v, at_ (k0_part45 (F := F)) d x0 x1 x2 x3 = Xch.runL (list45 m d) (.ret v) := by
  apply Exists.intro
  refine Xch.op_cons (rfl) ?_
  refine Xch.op_cons (rfl) ?_
  rfl

def list46 (m : (ℓ : Loc nD τ sig) → Buf (Elt F) ℓ) (d : Dev nD) : List (TpuEff nD τ sig (Elt F) Λ₀ .tc PUnit) :=
  [(E m).recvE d (4, 6), (E m).recvE d (4, 7)]
theorem part46 (m : (ℓ : Loc nD τ sig) → Buf (Elt F) ℓ) (d : Dev nD) (x0 x1 x2 : BitVec 32) :
    ∃ v, at_ (k0_part46 (F := F)) d x0 x1 x2 = Xch.runL (list46 m d) (.ret v) := by
  apply Exists.intro
  refine Xch.op_cons (rfl) ?_
  refine Xch.op_cons (rfl) ?_
  rfl

def list47 (m : (ℓ : Loc nD τ sig) → Buf (Elt F) ℓ) (d : Dev nD) : List (TpuEff nD τ sig (Elt F) Λ₀ .tc PUnit) :=
  [(E m).recvE d (5, 0), (E m).recvE d (5, 1)]
theorem part47 (m : (ℓ : Loc nD τ sig) → Buf (Elt F) ℓ) (d : Dev nD) (x0 x1 x2 x3 x4 : BitVec 32) :
    ∃ v, at_ (k0_part47 (F := F)) d x0 x1 x2 x3 x4 = Xch.runL (list47 m d) (.ret v) := by
  apply Exists.intro
  refine Xch.op_cons (rfl) ?_
  refine Xch.op_cons (rfl) ?_
  rfl

def list48 (m : (ℓ : Loc nD τ sig) → Buf (Elt F) ℓ) (d : Dev nD) : List (TpuEff nD τ sig (Elt F) Λ₀ .tc PUnit) :=
  [(E m).recvE d (5, 2), (E m).recvE d (5, 3), (E m).recvE d (5, 4)]
theorem part48 (m : (ℓ : Loc nD τ sig) → Buf (Elt F) ℓ) (d : Dev nD) (x0 x1 x2 : BitVec 32) :
    ∃ v, at_ (k0_part48 (F := F)) d x0 x1 x2 = Xch.runL (list48 m d) (.ret v) := by
  apply Exists.intro
  refine Xch.op_cons (rfl) ?_
  refine Xch.op_cons (rfl) ?_
  refine Xch.op_cons (rfl) ?_
  rfl

def list49 (m : (ℓ : Loc nD τ sig) → Buf (Elt F) ℓ) (d : Dev nD) : List (TpuEff nD τ sig (Elt F) Λ₀ .tc PUnit) :=
  [(E m).recvE d (5, 5), (E m).recvE d (5, 6), (E m).recvE d (5, 7)]
theorem part49 (m : (ℓ : Loc nD τ sig) → Buf (Elt F) ℓ) (d : Dev nD) (x0 x1 x2 : BitVec 32) :
    ∃ v, at_ (k0_part49 (F := F)) d x0 x1 x2 = Xch.runL (list49 m d) (.ret v) := by
  apply Exists.intro
  refine Xch.op_cons (rfl) ?_
  refine Xch.op_cons (rfl) ?_
  refine Xch.op_cons (rfl) ?_
  rfl

def list50 (m : (ℓ : Loc nD τ sig) → Buf (Elt F) ℓ) (d : Dev nD) : List (TpuEff nD τ sig (Elt F) Λ₀ .tc PUnit) :=
  [(E m).recvE d (6, 0)]
theorem part50 (m : (ℓ : Loc nD τ sig) → Buf (Elt F) ℓ) (d : Dev nD) (x0 x1 x2 : BitVec 32) :
    ∃ v, at_ (k0_part50 (F := F)) d x0 x1 x2 = Xch.runL (list50 m d) (.ret v) := by
  apply Exists.intro
  refine Xch.op_cons (rfl) ?_
  rfl

def list51 (m : (ℓ : Loc nD τ sig) → Buf (Elt F) ℓ) (d : Dev nD) : List (TpuEff nD τ sig (Elt F) Λ₀ .tc PUnit) :=
  [(E m).recvE d (6, 1), (E m).recvE d (6, 2), (E m).recvE d (6, 3)]
theorem part51 (m : (ℓ : Loc nD τ sig) → Buf (Elt F) ℓ) (d : Dev nD) (x0 x1 x2 : BitVec 32) :
    ∃ v, at_ (k0_part51 (F := F)) d x0 x1 x2 = Xch.runL (list51 m d) (.ret v) := by
  apply Exists.intro
  refine Xch.op_cons (rfl) ?_
  refine Xch.op_cons (rfl) ?_
  refine Xch.op_cons (rfl) ?_
  rfl

def list52 (m : (ℓ : Loc nD τ sig) → Buf (Elt F) ℓ) (d : Dev nD) : List (TpuEff nD τ sig (Elt F) Λ₀ .tc PUnit) :=
  [(E m).recvE d (6, 4), (E m).recvE d (6, 5)]
theorem part52 (m : (ℓ : Loc nD τ sig) → Buf (Elt F) ℓ) (d : Dev nD) (x0 x1 x2 x3 : BitVec 32) :
    ∃ v, at_ (k0_part52 (F := F)) d x0 x1 x2 x3 = Xch.runL (list52 m d) (.ret v) := by
  apply Exists.intro
  refine Xch.op_cons (rfl) ?_
  refine Xch.op_cons (rfl) ?_
  rfl

def list53 (m : (ℓ : Loc nD τ sig) → Buf (Elt F) ℓ) (d : Dev nD) : List (TpuEff nD τ sig (Elt F) Λ₀ .tc PUnit) :=
  [(E m).recvE d (6, 6), (E m).recvE d (6, 7), (E m).sentE d (0, 0), (E m).sentE d (0, 1)]
theorem part53 (m : (ℓ : Loc nD τ sig) → Buf (Elt F) ℓ) (d : Dev nD) (x0 x1 x2 : BitVec 32) :
    ∃ v, at_ (k0_part53 (F := F)) d x0 x1 x2 = Xch.runL (list53 m d) (.ret v) := by
  apply Exists.intro
  refine Xch.op_cons (rfl) ?_
  refine Xch.op_cons (rfl) ?_
  refine Xch.op_cons (rfl) ?_
  refine Xch.op_cons (rfl) ?_
  rfl

def list54 (m : (ℓ : Loc nD τ sig) → Buf (Elt F) ℓ) (d : Dev nD) : List (TpuEff nD τ sig (Elt F) Λ₀ .tc PUnit) :=
  [(E m).sentE d (0, 2), (E m).sentE d (0, 3), (E m).sentE d (0, 4), (E m).sentE d (0, 5)]
theorem part54 (m : (ℓ : Loc nD τ sig) → Buf (Elt F) ℓ) (d : Dev nD) :
    ∃ v, at_ (k0_part54 (F := F)) d = Xch.runL (list54 m d) (.ret v) := by
  apply Exists.intro
  refine Xch.op_cons (rfl) ?_
  refine Xch.op_cons (rfl) ?_
  refine Xch.op_cons (rfl) ?_
  refine Xch.op_cons (rfl) ?_
  rfl

def list55 (m : (ℓ : Loc nD τ sig) → Buf (Elt F) ℓ) (d : Dev nD) : List (TpuEff nD τ sig (Elt F) Λ₀ .tc PUnit) :=
  [(E m).sentE d (0, 6), (E m).sentE d (0, 7), (E m).sentE d (1, 0), (E m).sentE d (1, 1)]
theorem part55 (m : (ℓ : Loc nD τ sig) → Buf (Elt F) ℓ) (d : Dev nD) :
    ∃ v, at_ (k0_part55 (F := F)) d = Xch.runL (list55 m d) (.ret v) := by
  apply Exists.intro
  refine Xch.op_cons (rfl) ?_
  refine Xch.op_cons (rfl) ?_
  refine Xch.op_cons (rfl) ?_
  refine Xch.op_cons (rfl) ?_
  rfl

def list56 (m : (ℓ : Loc nD τ sig) → Buf (Elt F) ℓ) (d : Dev nD) : List (TpuEff nD τ sig (Elt F) Λ₀ .tc PUnit) :=
  [(E m).sentE d (1, 2), (E m).sentE d (1, 3), (E m).sentE d (1, 4), (E m).sentE d (1, 5), (E m).sentE d (1, 6)]
theorem part56 (m : (ℓ : Loc nD τ sig) → Buf (Elt F) ℓ) (d : Dev nD) :
    ∃ v, at_ (k0_part56 (F := F)) d = Xch.runL (list56 m d) (.ret v) := by
  apply Exists.intro
  refine Xch.op_cons (rfl) ?_
  refine Xch.op_cons (rfl) ?_
  refine Xch.op_cons (rfl) ?_
  refine Xch.op_cons (rfl) ?_
  refine Xch.op_cons (rfl) ?_
  rfl

def list57 (m : (ℓ : Loc nD τ sig) → Buf (Elt F) ℓ) (d : Dev nD) : List (TpuEff nD τ sig (Elt F) Λ₀ .tc PUnit) :=
  [(E m).sentE d (1, 7), (E m).sentE d (2, 0), (E m).sentE d (2, 1), (E m).sentE d (2, 2)]
theorem part57 (m : (ℓ : Loc nD τ sig) → Buf (Elt F) ℓ) (d : Dev nD) :
    ∃ v, at_ (k0_part57 (F := F)) d = Xch.runL (list57 m d) (.ret v) := by
  apply Exists.intro
  refine Xch.op_cons (rfl) ?_
  refine Xch.op_cons (rfl) ?_
  refine Xch.op_cons (rfl) ?_
  refine Xch.op_cons (rfl) ?_
  rfl

def list58 (m : (ℓ : Loc nD τ sig) → Buf (Elt F) ℓ) (d : Dev nD) : List (TpuEff nD τ sig (Elt F) Λ₀ .tc PUnit) :=
  [(E m).sentE d (2, 3), (E m).sentE d (2, 4), (E m).sentE d (2, 5), (E m).sentE d (2, 6)]
theorem part58 (m : (ℓ : Loc nD τ sig) → Buf (Elt F) ℓ) (d : Dev nD) :
    ∃ v, at_ (k0_part58 (F := F)) d = Xch.runL (list58 m d) (.ret v) := by
  apply Exists.intro
  refine Xch.op_cons (rfl) ?_
  refine Xch.op_cons (rfl) ?_
  refine Xch.op_cons (rfl) ?_
  refine Xch.op_cons (rfl) ?_
  rfl

def list59 (m : (ℓ : Loc nD τ sig) → Buf (Elt F) ℓ) (d : Dev nD) : List (TpuEff nD τ sig (Elt F) Λ₀ .tc PUnit) :=
  [(E m).sentE d (2, 7), (E m).sentE d (3, 0), (E m).sentE d (3, 1), (E m).sentE d (3, 2), (E m).sentE d (3, 3)]
theorem part59 (m : (ℓ : Loc nD τ sig) → Buf (Elt F) ℓ) (d : Dev nD) :
    ∃ v, at_ (k0_part59 (F := F)) d = Xch.runL (list59 m d) (.ret v) := by
  apply Exists.intro
  refine Xch.op_cons (rfl) ?_
  refine Xch.op_cons (rfl) ?_
  refine Xch.op_cons (rfl) ?_
  refine Xch.op_cons (rfl) ?_
  refine Xch.op_cons (rfl) ?_
  rfl

def list60 (m : (ℓ : Loc nD τ sig) → Buf (Elt F) ℓ) (d : Dev nD) : List (TpuEff nD τ sig (Elt F) Λ₀ .tc PUnit) :=
  [(E m).sentE d (3, 4), (E m).sentE d (3, 5), (E m).sentE d (3, 6), (E m).sentE d (3, 7)]
theorem part60 (m : (ℓ : Loc nD τ sig) → Buf (Elt F) ℓ) (d : Dev nD) :
    ∃ v, at_ (k0_part60 (F := F)) d = Xch.runL (list60 m d) (.ret v) := by
  apply Exists.intro
  refine Xch.op_cons (rfl) ?_
  refine Xch.op_cons (rfl) ?_
  refine Xch.op_cons (rfl) ?_
  refine Xch.op_cons (rfl) ?_
  rfl

def list61 (m : (ℓ : Loc nD τ sig) → Buf (Elt F) ℓ) (d : Dev nD) : List (TpuEff nD τ sig (Elt F) Λ₀ .tc PUnit) :=
  [(E m).sentE d (4, 0), (E m).sentE d (4, 1), (E m).sentE d (4, 2), (E m).sentE d (4, 3)]
theorem part61 (m : (ℓ : Loc nD τ sig) → Buf (Elt F) ℓ) (d : Dev nD) :
    ∃ v, at_ (k0_part61 (F := F)) d = Xch.runL (list61 m d) (.ret v) := by
  apply Exists.intro
  refine Xch.op_cons (rfl) ?_
  refine Xch.op_cons (rfl) ?_
  refine Xch.op_cons (rfl) ?_
  refine Xch.op_cons (rfl) ?_
  rfl

def list62 (m : (ℓ : Loc nD τ sig) → Buf (Elt F) ℓ) (d : Dev nD) : List (TpuEff nD τ sig (Elt F) Λ₀ .tc PUnit) :=
  [(E m).sentE d (4, 4), (E m).sentE d (4, 5), (E m).sentE d (4, 6), (E m).sentE d (4, 7)]
theorem part62 (m : (ℓ : Loc nD τ sig) → Buf (Elt F) ℓ) (d : Dev nD) :
    ∃ v, at_ (k0_part62 (F := F)) d = Xch.runL (list62 m d) (.ret v) := by
  apply Exists.intro
  refine Xch.op_cons (rfl) ?_
  refine Xch.op_cons (rfl) ?_
  refine Xch.op_cons (rfl) ?_
  refine Xch.op_cons (rfl) ?_
  rfl

def list63 (m : (ℓ : Loc nD τ sig) → Buf (Elt F) ℓ) (d : Dev nD) : List (TpuEff nD τ sig (Elt F) Λ₀ .tc PUnit) :=
  [(E m).sentE d (5, 0), (E m).sentE d (5, 1), (E m).sentE d (5, 2), (E m).sentE d (5, 3), (E m).sentE d (5, 4)]
theorem part63 (m : (ℓ : Loc nD τ sig) → Buf (Elt F) ℓ) (d : Dev nD) :
    ∃ v, at_ (k0_part63 (F := F)) d = Xch.runL (list63 m d) (.ret v) := by
  apply Exists.intro
  refine Xch.op_cons (rfl) ?_
  refine Xch.op_cons (rfl) ?_
  refine Xch.op_cons (rfl) ?_
  refine Xch.op_cons (rfl) ?_
  refine Xch.op_cons (rfl) ?_
  rfl

def list64 (m : (ℓ : Loc nD τ sig) → Buf (Elt F) ℓ) (d : Dev nD) : List (TpuEff nD τ sig (Elt F) Λ₀ .tc PUnit) :=
  [(E m).sentE d (5, 5), (E m).sentE d (5, 6), (E m).sentE d (5, 7), (E m).sentE d (6, 0)]
theorem part64 (m : (ℓ : Loc nD τ sig) → Buf (Elt F) ℓ) (d : Dev nD) :
    ∃ v, at_ (k0_part64 (F := F)) d = Xch.runL (list64 m d) (.ret v) := by
  apply Exists.intro
  refine Xch.op_cons (rfl) ?_
  refine Xch.op_cons (rfl) ?_
  refine Xch.op_cons (rfl) ?_
  refine Xch.op_cons (rfl) ?_
  rfl

def list65 (m : (ℓ : Loc nD τ sig) → Buf (Elt F) ℓ) (d : Dev nD) : List (TpuEff nD τ sig (Elt F) Λ₀ .tc PUnit) :=
  [(E m).sentE d (6, 1), (E m).sentE d (6, 2), (E m).sentE d (6, 3), (E m).sentE d (6, 4)]
theorem part65 (m : (ℓ : Loc nD τ sig) → Buf (Elt F) ℓ) (d : Dev nD) :
    ∃ v, at_ (k0_part65 (F := F)) d = Xch.runL (list65 m d) (.ret v) := by
  apply Exists.intro
  refine Xch.op_cons (rfl) ?_
  refine Xch.op_cons (rfl) ?_
  refine Xch.op_cons (rfl) ?_
  refine Xch.op_cons (rfl) ?_
  rfl

def list66 (m : (ℓ : Loc nD τ sig) → Buf (Elt F) ℓ) (d : Dev nD) : List (TpuEff nD τ sig (Elt F) Λ₀ .tc PUnit) :=
  [(E m).sentE d (6, 5), (E m).sentE d (6, 6), (E m).sentE d (6, 7), (E m).copiedE d 0, (E m).copiedE d 1]
theorem part66 (m : (ℓ : Loc nD τ sig) → Buf (Elt F) ℓ) (d : Dev nD) :
    ∃ v, at_ (k0_part66 (F := F)) d = Xch.runL (list66 m d) (.ret v) := by
  apply Exists.intro
  refine Xch.op_cons (rfl) ?_
  refine Xch.op_cons (rfl) ?_
  refine Xch.op_cons (rfl) ?_
  refine Xch.op_cons (rfl) ?_
  refine Xch.op_cons (rfl) ?_
  rfl

def list67 (m : (ℓ : Loc nD τ sig) → Buf (Elt F) ℓ) (d : Dev nD) : List (TpuEff nD τ sig (Elt F) Λ₀ .tc PUnit) :=
  [(E m).copiedE d 2, (E m).copiedE d 3, (E m).copiedE d 4, (E m).copiedE d 5, (E m).copiedE d 6]
theorem part67 (m : (ℓ : Loc nD τ sig) → Buf (Elt F) ℓ) (d : Dev nD) :
    ∃ v, at_ (k0_part67 (F := F)) d = Xch.runL (list67 m d) (.ret v) := by
  apply Exists.intro
  refine Xch.op_cons (rfl) ?_
  refine Xch.op_cons (rfl) ?_
  refine Xch.op_cons (rfl) ?_
  refine Xch.op_cons (rfl) ?_
  refine Xch.op_cons (rfl) ?_
  rfl

/-- The items, and the transfers, in the order of the program. -/
abbrev items : List (Fin 8) := [0, 1, 2, 3, 4, 5, 6, 7]
abbrev transfers : List (Fin 7 × Fin 8) :=
  [(0, 0), (0, 1), (0, 2), (0, 3), (0, 4), (0, 5), (0, 6), (0, 7), (1, 0), (1, 1), (1, 2), (1, 3), (1, 4), (1, 5), (1, 6), (1, 7), (2, 0), (2, 1), (2, 2), (2, 3), (2, 4), (2, 5), (2, 6), (2, 7), (3, 0), (3, 1), (3, 2), (3, 3), (3, 4), (3, 5), (3, 6), (3, 7), (4, 0), (4, 1), (4, 2), (4, 3), (4, 4), (4, 5), (4, 6), (4, 7), (5, 0), (5, 1), (5, 2), (5, 3), (5, 4), (5, 5), (5, 6), (5, 7), (6, 0), (6, 1), (6, 2), (6, 3), (6, 4), (6, 5), (6, 6), (6, 7)]

/-- The kernel is the exchange's operations in their order. -/
theorem body_eq (m : (ℓ : Loc nD τ sig) → Buf (Elt F) ℓ) : at_ (cc0_comm_a2a (F := F))
    = .op .deviceId fun d => Xch.runL ((E m).ops d items transfers) (.ret PUnit.unit) := by
  unfold at_ cc0_comm_a2a k0_part68
  refine (Xch.bind_bind_dev (l := list1 m) (z := fun d => Xch.runL (list2 m d) (Xch.runL (list3 m d) (Xch.runL (list4 m d) (Xch.runL (list5 m d) (Xch.runL (list6 m d) (Xch.runL (list7 m d) (Xch.runL (list8 m d) (Xch.runL (list9 m d) (Xch.runL (list10 m d) (Xch.runL (list11 m d) (Xch.runL (list12 m d) (Xch.runL (list13 m d) (Xch.runL (list14 m d) (Xch.runL (list15 m d) (Xch.runL (list16 m d) (Xch.runL (list17 m d) (Xch.runL (list18 m d) (Xch.runL (list19 m d) (Xch.runL (list20 m d) (Xch.runL (list21 m d) (Xch.runL (list22 m d) (Xch.runL (list23 m d) (Xch.runL (list24 m d) (Xch.runL (list25 m d) (Xch.runL (list26 m d) (Xch.runL (list27 m d) (Xch.runL (list28 m d) (Xch.runL (list29 m d) (Xch.runL (list30 m d) (Xch.runL (list31 m d) (Xch.runL (list32 m d) (Xch.runL (list33 m d) (Xch.runL (list34 m d) (Xch.runL (list35 m d) (Xch.runL (list36 m d) (Xch.runL (list37 m d) (Xch.runL (list38 m d) (Xch.runL (list39 m d) (Xch.runL (list40 m d) (Xch.runL (list41 m d) (Xch.runL (list42 m d) (Xch.runL (list43 m d) (Xch.runL (list44 m d) (Xch.runL (list45 m d) (Xch.runL (list46 m d) (Xch.runL (list47 m d) (Xch.runL (list48 m d) (Xch.runL (list49 m d) (Xch.runL (list50 m d) (Xch.runL (list51 m d) (Xch.runL (list52 m d) (Xch.runL (list53 m d) (Xch.runL (list54 m d) (Xch.runL (list55 m d) (Xch.runL (list56 m d) (Xch.runL (list57 m d) (Xch.runL (list58 m d) (Xch.runL (list59 m d) (Xch.runL (list60 m d) (Xch.runL (list61 m d) (Xch.runL (list62 m d) (Xch.runL (list63 m d) (Xch.runL (list64 m d) (Xch.runL (list65 m d) (Xch.runL (list66 m d) (Xch.runL (list67 m d) (Xch.runL [(E m).copiedE d 7] (.ret PUnit.unit)))))))))))))))))))))))))))))))))))))))))))))))))))))))))))))))))))) (part1 m) fun d => ?_).trans ?_
  · show _ = Xch.runL (list2 m d) (Xch.runL (list3 m d) (Xch.runL (list4 m d) (Xch.runL (list5 m d) (Xch.runL (list6 m d) (Xch.runL (list7 m d) (Xch.runL (list8 m d) (Xch.runL (list9 m d) (Xch.runL (list10 m d) (Xch.runL (list11 m d) (Xch.runL (list12 m d) (Xch.runL (list13 m d) (Xch.runL (list14 m d) (Xch.runL (list15 m d) (Xch.runL (list16 m d) (Xch.runL (list17 m d) (Xch.runL (list18 m d) (Xch.runL (list19 m d) (Xch.runL (list20 m d) (Xch.runL (list21 m d) (Xch.runL (list22 m d) (Xch.runL (list23 m d) (Xch.runL (list24 m d) (Xch.runL (list25 m d) (Xch.runL (list26 m d) (Xch.runL (list27 m d) (Xch.runL (list28 m d) (Xch.runL (list29 m d) (Xch.runL (list30 m d) (Xch.runL (list31 m d) (Xch.runL (list32 m d) (Xch.runL (list33 m d) (Xch.runL (list34 m d) (Xch.runL (list35 m d) (Xch.runL (list36 m d) (Xch.runL (list37 m d) (Xch.runL (list38 m d) (Xch.runL (list39 m d) (Xch.runL (list40 m d) (Xch.runL (list41 m d) (Xch.runL (list42 m d) (Xch.runL (list43 m d) (Xch.runL (list44 m d) (Xch.runL (list45 m d) (Xch.runL (list46 m d) (Xch.runL (list47 m d) (Xch.runL (list48 m d) (Xch.runL (list49 m d) (Xch.runL (list50 m d) (Xch.runL (list51 m d) (Xch.runL (list52 m d) (Xch.runL (list53 m d) (Xch.runL (list54 m d) (Xch.runL (list55 m d) (Xch.runL (list56 m d) (Xch.runL (list57 m d) (Xch.runL (list58 m d) (Xch.runL (list59 m d) (Xch.runL (list60 m d) (Xch.runL (list61 m d) (Xch.runL (list62 m d) (Xch.runL (list63 m d) (Xch.runL (list64 m d) (Xch.runL (list65 m d) (Xch.runL (list66 m d) (Xch.runL (list67 m d) (Xch.runL [(E m).copiedE d 7] (.ret PUnit.unit)))))))))))))))))))))))))))))))))))))))))))))))))))))))))))))))))))
    refine Xch.bind_bind_runL (part2 m d) ?_
    rintro ⟨y0, y1⟩
    refine Xch.bind_bind_runL (part3 m d _ _) ?_
    rintro ⟨y0, y1, y2⟩
    refine Xch.bind_bind_runL (part4 m d _ _ _) ?_
    intro _
    refine Xch.bind_bind_runL (part5 m d _ _ _) ?_
    intro _
    refine Xch.bind_bind_runL (part6 m d _ _ _ _) ?_
    rintro ⟨y0, y1, y2, y3⟩
    refine Xch.bind_bind_runL (part7 m d _ _ _ _) ?_
    intro _
    refine Xch.bind_bind_runL (part8 m d _ _ _ _) ?_
    intro _
    refine Xch.bind_bind_runL (part9 m d _ _ _) ?_
    intro _
    refine Xch.bind_bind_runL (part10 m d _ _ _) ?_
    rintro ⟨y0, y1, y2, y3, y4⟩
    refine Xch.bind_bind_runL (part11 m d _ _ _ _ _) ?_
    intro _
    refine Xch.bind_bind_runL (part12 m d _ _ _) ?_
    intro _
    refine Xch.bind_bind_runL (part13 m d _ _ _ _) ?_
    intro _
    refine Xch.bind_bind_runL (part14 m d) ?_
    rintro ⟨y0, y1, y2, y3⟩
    refine Xch.bind_bind_runL (part15 m d _ _ _ _) ?_
    intro _
    refine Xch.bind_bind_runL (part16 m d _ _ _) ?_
    intro _
    refine Xch.bind_bind_runL (part17 m d _ _ _) ?_
    rintro ⟨y0, y1, y2, y3⟩
    refine Xch.bind_bind_runL (part18 m d _ _ _ _) ?_
    rintro ⟨y0, y1, y2⟩
    refine Xch.bind_bind_runL (part19 m d _ _ _) ?_
    intro _
    refine Xch.bind_bind_runL (part20 m d _ _ _ _) ?_
    intro _
    refine Xch.bind_bind_runL (part21 m d _ _ _) ?_
    rintro ⟨y0, y1, y2, y3, y4⟩
    refine Xch.bind_bind_runL (part22 m d _ _ _ _ _) ?_
    rintro ⟨y0, y1⟩
    refine Xch.bind_bind_runL (part23 m d _ _ _ _ _) ?_
    intro _
    refine Xch.bind_bind_runL (part24 m d _ _ _) ?_
    intro _
    refine Xch.bind_bind_runL (part25 m d _ _ _ _) ?_
    rintro ⟨y0, y1, y2, y3, y4⟩
    refine Xch.bind_bind_runL (part26 m d _ _ _ _ _) ?_
    intro _
    refine Xch.bind_bind_runL (part27 m d _ _ _) ?_
    intro _
    refine Xch.bind_bind_runL (part28 m d _ _ _ _) ?_
    intro _
    refine Xch.bind_bind_runL (part29 m d) ?_
    rintro ⟨y0, y1, y2, y3, y4⟩
    refine Xch.bind_bind_runL (part30 m d _ _ _ _ _) ?_
    intro _
    refine Xch.bind_bind_runL (part31 m d _ _ _) ?_
    rintro ⟨y0, y1⟩
    refine Xch.bind_bind_runL (part32 m d _ _ _ _ _) ?_
    rintro ⟨y0, y1, y2⟩
    refine Xch.bind_bind_runL (part33 m d _ _ _) ?_
    intro _
    refine Xch.bind_bind_runL (part34 m d _ _ _) ?_
    intro _
    refine Xch.bind_bind_runL (part35 m d _ _ _ _) ?_
    intro _
    refine Xch.bind_bind_runL (part36 m d) ?_
    rintro ⟨y0, y1, y2, y3⟩
    refine Xch.bind_bind_runL (part37 m d _ _ _ _) ?_
    intro _
    refine Xch.bind_bind_runL (part38 m d _ _ _) ?_
    intro _
    refine Xch.bind_bind_runL (part39 m d _ _ _) ?_
    rintro ⟨y0, y1, y2, y3, y4⟩
    refine Xch.bind_bind_runL (part40 m d _ _ _ _ _) ?_
    intro _
    refine Xch.bind_bind_runL (part41 m d _ _ _) ?_
    rintro ⟨y0, y1⟩
    refine Xch.bind_bind_runL (part42 m d _ _ _ _ _) ?_
    intro _
    refine Xch.bind_bind_runL (part43 m d _) ?_
    rintro ⟨y0, y1, y2⟩
    refine Xch.bind_bind_runL (part44 m d _ _ _) ?_
    intro _
    refine Xch.bind_bind_runL (part45 m d _ _ _ _) ?_
    intro _
    refine Xch.bind_bind_runL (part46 m d _ _ _) ?_
    rintro ⟨y0, y1, y2, y3, y4⟩
    refine Xch.bind_bind_runL (part47 m d _ _ _ _ _) ?_
    intro _
    refine Xch.bind_bind_runL (part48 m d _ _ _) ?_
    intro _
    refine Xch.bind_bind_runL (part49 m d _ _ _) ?_
    rintro ⟨y0, y1, y2⟩
    refine Xch.bind_bind_runL (part50 m d _ _ _) ?_
    rintro ⟨y0, y1, y2⟩
    refine Xch.bind_bind_runL (part51 m d _ _ _) ?_
    intro _
    refine Xch.bind_bind_runL (part52 m d _ _ _ _) ?_
    intro _
    refine Xch.bind_bind_runL (part53 m d _ _ _) ?_
    intro _
    refine Xch.bind_bind_runL (part54 m d) ?_
    intro _
    refine Xch.bind_bind_runL (part55 m d) ?_
    intro _
    refine Xch.bind_bind_runL (part56 m d) ?_
    intro _
    refine Xch.bind_bind_runL (part57 m d) ?_
    intro _
    refine Xch.bind_bind_runL (part58 m d) ?_
    intro _
    refine Xch.bind_bind_runL (part59 m d) ?_
    intro _
    refine Xch.bind_bind_runL (part60 m d) ?_
    intro _
    refine Xch.ret_bind ?_
    refine Xch.bind_runL (part61 m d) ?_
    intro _
    refine Xch.bind_runL (part62 m d) ?_
    intro _
    refine Xch.bind_runL (part63 m d) ?_
    intro _
    refine Xch.bind_runL (part64 m d) ?_
    intro _
    refine Xch.bind_runL (part65 m d) ?_
    intro _
    refine Xch.bind_runL (part66 m d) ?_
    intro _
    refine Xch.bind_runL (part67 m d) ?_
    intro _
    refine Xch.op_cons (rfl) ?_
    rfl
  · exact congrArg (Prog.op TpuEff.deviceId) (funext fun d => rfl)

end Cert.AllToAllIdeal
-- ==== Proof.AllToAllRun.lean ====
/-
# The all-to-all runs

Its run from any memory: what every device's arrays hold at the end, at any float values.
-/
module

public import proofs.«01_k».proof.Proof.Launch
public import proofs.«01_k».proof.Proof.AllToAllBody
public import proofs.«01_k».proof.Proof.Gen.AllToAllIdeal.Launch

@[expose] public section

noncomputable section

namespace Cert.AllToAllIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Exchange

variable {F : FTy → Type} [FloatOps F] (m : (ℓ : Loc nD τ sig) → Buf (Elt F) ℓ)

/-- The buffers of the arrays. -/
abbrev arg (i : Fin 8) : Ref sig .tc := (ins i).view.ref
abbrev res (i : Fin 8) : Ref sig .tc := (outs i).view.ref

theorem sems_inj : Function.Injective (E m).dsem := by
  have h : Function.Injective fun k : K 8 => (Sum.elim semS (Sum.elim semR semL) k : DmaSem sig) := by decide +kernel
  intro k k' e
  refine h ?_
  rcases k with k | k | k <;> rcases k' with k' | k' | k' <;> exact e

theorem all_scoped : ∀ s : SemLoc sig, s.isScoped .tc = true := by decide +kernel

theorem sems_scoped (k : K 8) : ((E m).osem k).isScoped .tc = true := all_scoped _

theorem bufs (c : Dev nD) (V : (b : Ref sig .tc) → Buf (Elt F) ((c.tc : Thread nD τ).loc b)) :
    (unscopedBufs c V : sProp (MT nD τ sig Unit (Elt F) ℕ (Xch.UU nD τ sig) ℕ))
      = iprop((bigSep Finset.univ fun i => ((c.tc : Thread nD τ).loc (arg i)) ↦{fullShare} V (arg i))
        ∗ bigSep Finset.univ fun i => ((c.tc : Thread nD τ).loc (res i)) ↦{fullShare} V (res i)) :=
  bufs_split arg res (by decide +kernel) (by decide +kernel) (by decide +kernel) (by decide +kernel) c V

theorem sources (c : Dev nD) (i : Fin 8) :
    (((c.tc : Thread nD τ).loc (arg i)) ↦{fullShare} m ((c.tc : Thread nD τ).loc (arg i)) : sProp (MT nD τ sig Unit (Elt F) ℕ (Xch.UU nD τ sig) ℕ))
      = iprop((E m).srcPts (E m).qL i c c ∗ bigSep Finset.univ fun j => (E m).srcPts ((E m).qS j) i ((E m).peer j c) c) := by
  rw [whole_blocks (ins_whole i) c fullShare, bigSep_peers _ c]
  rfl

/-- The run. -/
theorem run (g : Dev nD → PrngReg) :
    θ_run (defs (F := F)) (onTc (τ := τ) (main (F := F))) ⟨m, fun _ => 0, g⟩ fun r =>
      (∀ (c : Dev nD) (i : Fin 8), r.2.mem ((c.tc : Thread nD τ).loc (arg i)) = m ((c.tc : Thread nD τ).loc (arg i)))
      ∧ (∀ (c : Dev nD) (i : Fin 8), r.2.mem ((c.tc : Thread nD τ).loc (res i)) = ends.fin m c i)
      ∧ r.2.sem = fun _ => 0 :=
  Xch.launch (E m) (sems_inj m) (sems_scoped m) cfgs (fun _ => inferInstanceAs (IsEmpty (Fin 0))) 0 Gen.N_0 Gen.cellOf_inj
    defs₀ Variants.none items (by decide) (by decide) transfers (by decide) (by decide) PUnit.unit
    (fun _ => body_eq m) main (fun _ => rfl) m g arg res (fun c => Entails.of_eq (bufs c _)) (sources m)
    (ends.rooms m) (ends.fin m) (ends.filled m)
    fun s h1 h2 h3 => ⟨h1, h2, funext fun g' => h3 g' (Or.inr (all_scoped g'.2))⟩

end Cert.AllToAllIdeal
-- ==== Proof.AllToAllValue.lean ====
/-
# What the all-to-all leaves

Each device's results, as parts of the exchanged whole arrays.
-/
module

public import proofs.«01_k».proof.Proof.Swap
public import proofs.«01_k».proof.Proof.AllToAllRun

@[expose] public section

noncomputable section

namespace Cert.AllToAllIdeal

open Idealize.ShloMosaic
open Idealize.ShloMosaic.TcCoe
open Exchange

variable {F : FTy → Type} [FloatOps F] (m : (ℓ : Loc nD τ sig) → Buf (Elt F) ℓ)

/-! ## Each result at the end -/

theorem fin0 (c : Dev nD) : ends.fin m c 0 = fun y : (A3 768 2048).Idx =>
    m ((Dev.tc (nD := 8) (τ := τ) (y 0 : Fin 8)).loc main_arg0) (ix3 c (y 1) (y 2)) :=
  (View.write_whole_univ main_v1_0 _ _).trans (funext fun y => congrArg (m _) (bemb_apply (r := 768) (w := 2048) c (ix2 (y 1) (y 2))))

theorem fin1 (c : Dev nD) : ends.fin m c 1 = fun y : (A3 1024 2048).Idx =>
    m ((Dev.tc (nD := 8) (τ := τ) (y 0 : Fin 8)).loc main_arg1) (ix3 c (y 1) (y 2)) :=
  (View.write_whole_univ main_v1_1 _ _).trans (funext fun y => congrArg (m _) (bemb_apply (r := 1024) (w := 2048) c (ix2 (y 1) (y 2))))

theorem fin2 (c : Dev nD) : ends.fin m c 2 = fun y : (A3 320 2048).Idx =>
    m ((Dev.tc (nD := 8) (τ := τ) (y 0 : Fin 8)).loc main_arg2) (ix3 c (y 1) (y 2)) :=
  (View.write_whole_univ main_v1_2 _ _).trans (funext fun y => congrArg (m _) (bemb_apply (r := 320) (w := 2048) c (ix2 (y 1) (y 2))))

theorem fin3 (c : Dev nD) : ends.fin m c 3 = fun y : (A3 1024 2048).Idx =>
    m ((Dev.tc (nD := 8) (τ := τ) (y 0 : Fin 8)).loc main_arg3) (ix3 c (y 1) (y 2)) :=
  (View.write_whole_univ main_v1_3 _ _).trans (funext fun y => congrArg (m _) (bemb_apply (r := 1024) (w := 2048) c (ix2 (y 1) (y 2))))

theorem fin4 (c : Dev nD) : ends.fin m c 4 = fun y : (A3 256 2048).Idx =>
    m ((Dev.tc (nD := 8) (τ := τ) (y 0 : Fin 8)).loc main_arg4) (ix3 c (y 1) (y 2)) :=
  (View.write_whole_univ main_v1_4 _ _).trans (funext fun y => congrArg (m _) (bemb_apply (r := 256) (w := 2048) c (ix2 (y 1) (y 2))))

theorem fin5 (c : Dev nD) : ends.fin m c 5 = fun y : (A3 1024 2048).Idx =>
    m ((Dev.tc (nD := 8) (τ := τ) (y 0 : Fin 8)).loc main_arg5) (ix3 c (y 1) (y 2)) :=
  (View.write_whole_univ main_v1_5 _ _).trans (funext fun y => congrArg (m _) (bemb_apply (r := 1024) (w := 2048) c (ix2 (y 1) (y 2))))

theorem fin6 (c : Dev nD) : ends.fin m c 6 = fun y : (A3 256 2048).Idx =>
    m ((Dev.tc (nD := 8) (τ := τ) (y 0 : Fin 8)).loc main_arg6) (ix3 c (y 1) (y 2)) :=
  (View.write_whole_univ main_v1_6 _ _).trans (funext fun y => congrArg (m _) (bemb_apply (r := 256) (w := 2048) c (ix2 (y 1) (y 2))))

theorem fin7 (c : Dev nD) : ends.fin m c 7 = fun y : (A3 1024 2048).Idx =>
    m ((Dev.tc (nD := 8) (τ := τ) (y 0 : Fin 8)).loc main_arg7) (ix3 c (y 1) (y 2)) :=
  (View.write_whole_univ main_v1_7 _ _).trans (funext fun y => congrArg (m _) (bemb_apply (r := 1024) (w := 2048) c (ix2 (y 1) (y 2))))

end Cert.AllToAllIdeal
-- ==== Proof.AllToAllResults.lean ====
/-
# What the all-to-all computes

The devices' results as parts of the exchanged whole arrays, and what the run leaves of the arguments and the counters.
-/
module

public import proofs.«01_k».proof.Proof.AllToAllValue

@[expose] public section

noncomputable section

namespace Cert.AllToAllIdeal

open Idealize.ShloMosaic Idealize.ShloMosaic.TcCoe Idealize.SL.Sem
open Exchange

variable {F : FTy → Type} [FloatOps F] (m : (ℓ : Loc nD τ sig) → Buf (Elt F) ℓ) (g : Dev nD → PrngReg)

/-- The run, when each device's arguments are its parts of whole arrays. -/
theorem results (x0 : (W3 768 2048).Idx → Elt F .bf16)
    (x1 : (W3 1024 2048).Idx → Elt F .bf16)
    (x2 : (W3 320 2048).Idx → Elt F .bf16)
    (x3 : (W3 1024 2048).Idx → Elt F .bf16)
    (x4 : (W3 256 2048).Idx → Elt F .bf16)
    (x5 : (W3 1024 2048).Idx → Elt F .bf16)
    (x6 : (W3 256 2048).Idx → Elt F .bf16)
    (x7 : (W3 1024 2048).Idx → Elt F .bf16)
    (h : ∀ c : Dev nD, m ((c.tc : Thread nD τ).loc main_arg0) = Layout.block (A3 768 2048) (W3 768 2048) 0 8 c x0
      ∧ m ((c.tc : Thread nD τ).loc main_arg1) = Layout.block (A3 1024 2048) (W3 1024 2048) 0 8 c x1
      ∧ m ((c.tc : Thread nD τ).loc main_arg2) = Layout.block (A3 320 2048) (W3 320 2048) 0 8 c x2
      ∧ m ((c.tc : Thread nD τ).loc main_arg3) = Layout.block (A3 1024 2048) (W3 1024 2048) 0 8 c x3
      ∧ m ((c.tc : Thread nD τ).loc main_arg4) = Layout.block (A3 256 2048) (W3 256 2048) 0 8 c x4
      ∧ m ((c.tc : Thread nD τ).loc main_arg5) = Layout.block (A3 1024 2048) (W3 1024 2048) 0 8 c x5
      ∧ m ((c.tc : Thread nD τ).loc main_arg6) = Layout.block (A3 256 2048) (W3 256 2048) 0 8 c x6
      ∧ m ((c.tc : Thread nD τ).loc main_arg7) = Layout.block (A3 1024 2048) (W3 1024 2048) 0 8 c x7) :
    θ_run (defs (F := F)) (onTc (τ := τ) (main (F := F))) ⟨m, fun _ => 0, g⟩ fun r =>
      ∀ c : Dev nD, r.2.mem ((c.tc : Thread nD τ).loc main_v1_0) = Layout.block (A3 768 2048) (W3 768 2048) 0 8 c (swap x0)
        ∧ r.2.mem ((c.tc : Thread nD τ).loc main_v1_1) = Layout.block (A3 1024 2048) (W3 1024 2048) 0 8 c (swap x1)
        ∧ r.2.mem ((c.tc : Thread nD τ).loc main_v1_2) = Layout.block (A3 320 2048) (W3 320 2048) 0 8 c (swap x2)
        ∧ r.2.mem ((c.tc : Thread nD τ).loc main_v1_3) = Layout.block (A3 1024 2048) (W3 1024 2048) 0 8 c (swap x3)
        ∧ r.2.mem ((c.tc : Thread nD τ).loc main_v1_4) = Layout.block (A3 256 2048) (W3 256 2048) 0 8 c (swap x4)
        ∧ r.2.mem ((c.tc : Thread nD τ).loc main_v1_5) = Layout.block (A3 1024 2048) (W3 1024 2048) 0 8 c (swap x5)
        ∧ r.2.mem ((c.tc : Thread nD τ).loc main_v1_6) = Layout.block (A3 256 2048) (W3 256 2048) 0 8 c (swap x6)
        ∧ r.2.mem ((c.tc : Thread nD τ).loc main_v1_7) = Layout.block (A3 1024 2048) (W3 1024 2048) 0 8 c (swap x7)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7) :=
  (θ_run (defs (F := F)) _ _).mono (fun r ⟨ha, hr, _⟩ c => ⟨(hr c 0).trans ((fin0 m c).trans (swap_block x0 _ (fun d : Fin 8 => m ((Dev.tc (nD := 8) (τ := τ) d).loc main_arg0)) (fun d => (h d).1) c)),
      (hr c 1).trans ((fin1 m c).trans (swap_block x1 _ (fun d : Fin 8 => m ((Dev.tc (nD := 8) (τ := τ) d).loc main_arg1)) (fun d => (h d).2.1) c)),
      (hr c 2).trans ((fin2 m c).trans (swap_block x2 _ (fun d : Fin 8 => m ((Dev.tc (nD := 8) (τ := τ) d).loc main_arg2)) (fun d => (h d).2.2.1) c)),
      (hr c 3).trans ((fin3 m c).trans (swap_block x3 _ (fun d : Fin 8 => m ((Dev.tc (nD := 8) (τ := τ) d).loc main_arg3)) (fun d => (h d).2.2.2.1) c)),
      (hr c 4).trans ((fin4 m c).trans (swap_block x4 _ (fun d : Fin 8 => m ((Dev.tc (nD := 8) (τ := τ) d).loc main_arg4)) (fun d => (h d).2.2.2.2.1) c)),
      (hr c 5).trans ((fin5 m c).trans (swap_block x5 _ (fun d : Fin 8 => m ((Dev.tc (nD := 8) (τ := τ) d).loc main_arg5)) (fun d => (h d).2.2.2.2.2.1) c)),
      (hr c 6).trans ((fin6 m c).trans (swap_block x6 _ (fun d : Fin 8 => m ((Dev.tc (nD := 8) (τ := τ) d).loc main_arg6)) (fun d => (h d).2.2.2.2.2.2.1) c)),
      (hr c 7).trans ((fin7 m c).trans (swap_block x7 _ (fun d : Fin 8 => m ((Dev.tc (nD := 8) (τ := τ) d).loc main_arg7)) (fun d => (h d).2.2.2.2.2.2.2) c)),
      ha c 0, ha c 1, ha c 2, ha c 3, ha c 4, ha c 5, ha c 6, ha c 7⟩) (run m g)

/-- The run's arguments and counters. -/
theorem quiet :
    θ_run (defs (F := F)) (onTc (τ := τ) (main (F := F))) ⟨m, fun _ => 0, g⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
      ∧ r.2.sem = fun _ => 0 :=
  (θ_run (defs (F := F)) _ _).mono (fun r ⟨ha, _, hs⟩ => ⟨fun c => ⟨ha c 0, ha c 1, ha c 2, ha c 3, ha c 4, ha c 5, ha c 6,
    ha c 7⟩, hs⟩) (run m g)

end Cert.AllToAllIdeal
-- ==== Proof.AllToAllRefRun.lean ====
/-
# The reference of the all-to-all

Its run on one device, over the whole arrays.
-/
module

public import proofs.«01_k».proof.Proof.Swap
public import proofs.«01_k».proof.Proof.Gen.AllToAllRefIdeal
public import Idealize.ShloMosaic.Lib.StableHlo.Run
public import Idealize.ShloMosaic.Lib.StableHlo.RunHlo
public import Idealize.ShloMosaic.Lib.Claim

@[expose] public section

noncomputable section

namespace Cert.AllToAllRefIdeal

open Idealize.ShloMosaic Idealize.ShloMosaic.TcCoe Idealize.ShloMosaic.StableHlo Idealize.SL.Sem
open Exchange

variable {F : FTy → Type} [FloatOps F]

/-- The run. -/
theorem run (m : (ℓ : Loc nD τ sig) → Buf (Elt F) ℓ) (g : Dev nD → PrngReg) :
    θ_run (defs (F := F)) (onTc (τ := τ) (main (F := F))) ⟨m, fun _ => 0, g⟩ fun r =>
      (∀ c : Dev nD,
        r.2.mem ((c.tc : Thread nD τ).loc main_v2) = swap (r := 768) (w := 2048) (m ((c.tc : Thread nD τ).loc main_arg0))
        ∧ r.2.mem ((c.tc : Thread nD τ).loc main_v5) = swap (r := 1024) (w := 2048) (m ((c.tc : Thread nD τ).loc main_arg1))
        ∧ r.2.mem ((c.tc : Thread nD τ).loc main_v8) = swap (r := 320) (w := 2048) (m ((c.tc : Thread nD τ).loc main_arg2))
        ∧ r.2.mem ((c.tc : Thread nD τ).loc main_v11) = swap (r := 1024) (w := 2048) (m ((c.tc : Thread nD τ).loc main_arg3))
        ∧ r.2.mem ((c.tc : Thread nD τ).loc main_v14) = swap (r := 256) (w := 2048) (m ((c.tc : Thread nD τ).loc main_arg4))
        ∧ r.2.mem ((c.tc : Thread nD τ).loc main_v17) = swap (r := 1024) (w := 2048) (m ((c.tc : Thread nD τ).loc main_arg5))
        ∧ r.2.mem ((c.tc : Thread nD τ).loc main_v20) = swap (r := 256) (w := 2048) (m ((c.tc : Thread nD τ).loc main_arg6))
        ∧ r.2.mem ((c.tc : Thread nD τ).loc main_v23) = swap (r := 1024) (w := 2048) (m ((c.tc : Thread nD τ).loc main_arg7))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
      ∧ r.2.sem = fun _ => 0 := by
  refine (θ_run (defs (F := F)) _ _).mono (fun r h => ⟨h, sem_eq_zero_of_no_sems (by decide) r.2⟩) (?_ : θ_run (defs (F := F)) _ _ fun r => ∀ c : Dev nD, _)
  hlo_run
  all_goals exact swap_eq _ _ _ _

end Cert.AllToAllRefIdeal
-- ==== Proof.Stack.lean ====
/-
# The gather of whole arrays

Eight devices' parts of an array, cut along its rows or along its columns, as one array of eight blocks.
-/
module

public import proofs.«01_k».proof.Proof.Block
public import Idealize.ShloMosaic.Lib.Layout
public import Idealize.ShloMosaic.Lib.Pipeline.Value

@[expose] public section

noncomputable section

namespace Exchange

open Idealize.ShloMosaic

/-- Eight parts below each other, and beside each other; the latter also with the columns counted by part and place. -/
abbrev Rows (r w : ℕ) : Shape := ⟨2, ![8 * r, w]⟩
abbrev Cols (r w : ℕ) : Shape := ⟨2, ![r, 8 * w]⟩
abbrev Cols3 (r w : ℕ) : Shape := ⟨3, ![r, 8, w]⟩

variable {α : Type} {r w : ℕ}

def rowIdx (p : Fin 8) (x : Fin r) (y : Fin w) : (Rows r w).Idx
  | 0 => ⟨p.val * r + x.val, by have := Nat.mul_le_mul_right r (Nat.le_of_lt_succ p.isLt); have := x.isLt; show _ < 8 * r; omega⟩
  | 1 => y

def colIdx (p : Fin 8) (x : Fin r) (y : Fin w) : (Cols r w).Idx
  | 0 => x
  | 1 => ⟨p.val * w + y.val, by have := Nat.mul_le_mul_right w (Nat.le_of_lt_succ p.isLt); have := y.isLt; show _ < 8 * w; omega⟩

def midIdx (p : Fin 8) (x : Fin r) (y : Fin w) : (Cols3 r w).Idx
  | 0 => x
  | 1 => p
  | 2 => y

/-- The parts, as blocks of one array. -/
def stackRows (x : (Rows r w).Idx → α) : (A3 r w).Idx → α := fun y => x (rowIdx (y 0) (y 1) (y 2))
def stackCols (x : (Cols r w).Idx → α) : (A3 r w).Idx → α := fun y => x (colIdx (y 0) (y 1) (y 2))

/-- A reshape puts parts that lie below each other in blocks; -/
theorem stackRows_eq (x : (Rows r w).Idx → α) (h : (Rows r w).ShapeCasts (A3 r w)) : shapeCast (A3 r w) x h = stackRows x := by
  funext y
  refine shapeCast_apply _ h y _ ?_
  rw [Shape.rowMajor_val_two, Shape.rowMajor_val_three]
  rfl

/-- a reshape and a swap of axes those that lie beside each other. -/
theorem stackCols_eq (x : (Cols r w).Idx → α) (h1 : (Cols r w).ShapeCasts (Cols3 r w)) (h2 : (Cols3 r w).Transposes [1, 0, 2] (A3 r w)) :
    transpose (A3 r w) [1, 0, 2] (shapeCast (Cols3 r w) x h1) h2 = stackCols x := by
  funext y
  rw [transpose_apply _ _ h2 y (midIdx (y 0) (y 1) (y 2)), shapeCast_apply _ h1 _ (colIdx (y 0) (y 1) (y 2))]
  · rfl
  · rw [Shape.rowMajor_val_two, Shape.rowMajor_val_three]
    show (y 1).val * (8 * w) + ((y 0).val * w + (y 2).val) = ((y 1).val * 8 + (y 0).val) * w + (y 2).val
    rw [Nat.add_mul, Nat.mul_assoc, Nat.add_assoc]
  · intro b
    fin_cases b <;> rfl

/-- Block `p` holds device `p`'s part. -/
theorem rows_stack (x : (Rows r w).Idx → α) (h : Layout.Tiles (A2 r w) (Rows r w) 0 8) (f : Fin 8 → (A2 r w).Idx → α)
    (hf : ∀ c, f c = Layout.block (A2 r w) (Rows r w) 0 8 c x h) :
    (fun y : (A3 r w).Idx => f (y 0 : Fin 8) (ix2 (y 1) (y 2))) = stackRows x :=
  funext fun y : (A3 r w).Idx => (congrFun (hf (y 0 : Fin 8)) _).trans (congrArg x (funext fun a => by
    apply Fin.ext
    fin_cases a <;> rfl))

theorem cols_stack (x : (Cols r w).Idx → α) (h : Layout.Tiles (A2 r w) (Cols r w) 1 8) (f : Fin 8 → (A2 r w).Idx → α)
    (hf : ∀ c, f c = Layout.block (A2 r w) (Cols r w) 1 8 c x h) :
    (fun y : (A3 r w).Idx => f (y 0 : Fin 8) (ix2 (y 1) (y 2))) = stackCols x :=
  funext fun y : (A3 r w).Idx => (congrFun (hf (y 0 : Fin 8)) _).trans (congrArg x (funext fun a => by
    apply Fin.ext
    fin_cases a <;> rfl))

end Exchange
-- ==== Proof.Shares.lean ====
/-
# A whole array read by eight transfers

A gather's transfers of one item all read the same array, each with a share of it.
-/
module

public import proofs.«01_k».proof.Proof.Setup

@[expose] public section

noncomputable section

namespace Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

open Idealize.ShloMosaic.Transfers

/-- The share of a device's own copy, and of its send to each peer. -/
abbrev ownShare : PosShare TreeShare := shareDrop fullShare 7
abbrev sendShare (j : Fin 7) : PosShare TreeShare := shareTok fullShare 7 j

variable {τ : Topo} {sig : RefSig} {Val : EltTy → Type}

/-- Together they are the whole. -/
theorem deal {ℓ : Loc 8 τ sig} (f : Buf Val ℓ) :
    (ℓ ↦{fullShare} f : sProp (MT 8 τ sig Unit Val ℕ (Xch.UU 8 τ sig) ℕ))
      = iprop((ℓ ↦{ownShare} f) ∗ bigSep Finset.univ fun j => ℓ ↦{sendShare j} f) :=
  Entails.antisymm (pointsTo_toks fullShare 7).1 (pointsTo_toks fullShare 7).2

end Exchange
-- ==== Proof.GatherEnds.lean ====
/-
# The gather of the weights: what its exchange is made of
-/
module

public import proofs.«01_k».proof.Proof.Body
public import proofs.«01_k».proof.Proof.Shares
public import proofs.«01_k».proof.Proof.Gen.GatherIdeal

@[expose] public section

noncomputable section

namespace Cert.GatherIdeal

open Idealize.ShloMosaic
open Idealize.ShloMosaic.TcCoe
open Idealize.SL Idealize.SL.RA
open Exchange

/-- The rows, the columns and the element type of a part, array by array. -/
abbrev rows : Fin 10 → ℕ := ![768, 1024, 320, 1024, 256, 1024, 256, 1024, 16, 3]
abbrev cols : Fin 10 → ℕ := ![2048, 2048, 2048, 2048, 2048, 2048, 2048, 2048, 256, 256]
abbrev elts : Fin 10 → EltTy := ![.bf16, .bf16, .bf16, .bf16, .bf16, .bf16, .bf16, .bf16, .f32, .f32]

/-- The arrays a device sends, and those it receives in. -/
def ins : (i : Fin 10) → Memref sig .tc .hbm (A2 (rows i) (cols i)) (elts i)
  | 0 => Memref.whole main_arg0
  | 1 => Memref.whole main_arg1
  | 2 => Memref.whole main_arg2
  | 3 => Memref.whole main_arg3
  | 4 => Memref.whole main_arg4
  | 5 => Memref.whole main_arg5
  | 6 => Memref.whole main_arg6
  | 7 => Memref.whole main_arg7
  | 8 => Memref.whole main_arg8
  | 9 => Memref.whole main_arg9
def outs : (i : Fin 10) → Memref sig .tc .hbm (A3 (rows i) (cols i)) (elts i)
  | 0 => Memref.whole main_v1_0
  | 1 => Memref.whole main_v1_1
  | 2 => Memref.whole main_v1_2
  | 3 => Memref.whole main_v1_3
  | 4 => Memref.whole main_v1_4
  | 5 => Memref.whole main_v1_5
  | 6 => Memref.whole main_v1_6
  | 7 => Memref.whole main_v1_7
  | 8 => Memref.whole main_v1_8
  | 9 => Memref.whole main_v1_9

theorem ins_whole (i : Fin 10) : (ins i).IsWhole := by fin_cases i <;> exact Memref.isWhole_whole _
theorem outs_whole (i : Fin 10) : (outs i).IsWhole := by fin_cases i <;> exact Memref.isWhole_whole _

theorem words : ∀ (i : Fin 10) (p : Fin 8), (bRect (rows i) (cols i) p).WholeWords (elts i).packing := by decide +kernel

/-- The semaphores: of the sends, of the receives, of the copies. -/
def semS (mi : Fin 7 × Fin 10) : DmaSem sig := (⟨mi.2.val * 7 + mi.1.val, by have := mi.1.isLt; have := mi.2.isLt; show _ < 150; omega⟩ : Fin 150)
def semR (mi : Fin 7 × Fin 10) : DmaSem sig := (⟨70 + (mi.2.val * 7 + mi.1.val), by have := mi.1.isLt; have := mi.2.isLt; show _ < 150; omega⟩ : Fin 150)
def semL (i : Fin 10) : DmaSem sig := (⟨140 + i.val, by have := i.isLt; show _ < 150; omega⟩ : Fin 150)

/-- The exchange: every device sends each array whole to every device. -/
def ends : Ends sig 10 where
  r := rows
  w := cols
  el := elts
  out := outs
  hout := outs_whole
  words := words
  src i _ := ins i
  wsrc i _ := (ins_whole i).wordExact
  sS := semS
  rS := semR
  lS := semL
  N i := (ins i).view.dmaCredit
  N_pos i := View.dmaCredit_pos _ (by fin_cases i <;> decide)
  hNs i p := rfl
  hNd i p := by fin_cases i <;> rfl
  qS := sendShare
  qL := ownShare

end Cert.GatherIdeal
-- ==== Proof.GatherBody.lean ====
/-
# The kernel of this exchange, part by part

Each part of the printed kernel is the list of its transfers and waits; together they are the exchange's list.
-/
module

public import proofs.«01_k».proof.Proof.GatherEnds

@[expose] public section

noncomputable section

namespace Cert.GatherIdeal

open Idealize.ShloMosaic
open Idealize.ShloMosaic.TcCoe
open Idealize.SL.Sem
open Exchange

variable {F : FTy → Type} [FloatOps F]

/-- The exchange, from a memory. -/
abbrev E (m : (ℓ : Loc nD τ sig) → Buf (Elt F) ℓ) : Xch 8 τ sig (Elt F) 10 := ends.xch m

/-! ## Offsets and devices -/

theorem off1 : ∀ d : Dev nD, k0_off1 d = ![d.val, 0, 0] := by decide +kernel
theorem off2 : ∀ d : Dev nD, k0_off2 d = ![d.val, 0, 0] := by decide +kernel
theorem off3 : ∀ d : Dev nD, k0_off3 d = ![d.val, 0, 0] := by decide +kernel
theorem off4 : ∀ d : Dev nD, k0_off4 d = ![d.val, 0, 0] := by decide +kernel
theorem off5 : ∀ d : Dev nD, k0_off5 d = ![d.val, 0, 0] := by decide +kernel
theorem off6 : ∀ d : Dev nD, k0_off6 d = ![d.val, 0, 0] := by decide +kernel
theorem off7 : ∀ d : Dev nD, k0_off7 d = ![(peer 0 d).val, 0, 0] := by decide +kernel
theorem off8 : ∀ d : Dev nD, k0_off8 d = ![(peer 0 d).val, 0, 0] := by decide +kernel
theorem off9 : ∀ d : Dev nD, k0_off9 d = ![(peer 0 d).val, 0, 0] := by decide +kernel
theorem off10 : ∀ d : Dev nD, k0_off10 d = ![(peer 0 d).val, 0, 0] := by decide +kernel
theorem off11 : ∀ d : Dev nD, k0_off11 d = ![(peer 0 d).val, 0, 0] := by decide +kernel
theorem off12 : ∀ d : Dev nD, k0_off12 d = ![(peer 0 d).val, 0, 0] := by decide +kernel
theorem off13 : ∀ d : Dev nD, k0_off13 d = ![(peer 1 d).val, 0, 0] := by decide +kernel
theorem off14 : ∀ d : Dev nD, k0_off14 d = ![(peer 1 d).val, 0, 0] := by decide +kernel
theorem off15 : ∀ d : Dev nD, k0_off15 d = ![(peer 1 d).val, 0, 0] := by decide +kernel
theorem off16 : ∀ d : Dev nD, k0_off16 d = ![(peer 1 d).val, 0, 0] := by decide +kernel
theorem off17 : ∀ d : Dev nD, k0_off17 d = ![(peer 1 d).val, 0, 0] := by decide +kernel
theorem off18 : ∀ d : Dev nD, k0_off18 d = ![(peer 1 d).val, 0, 0] := by decide +kernel
theorem off19 : ∀ d : Dev nD, k0_off19 d = ![(peer 2 d).val, 0, 0] := by decide +kernel
theorem off20 : ∀ d : Dev nD, k0_off20 d = ![(peer 2 d).val, 0, 0] := by decide +kernel
theorem off21 : ∀ d : Dev nD, k0_off21 d = ![(peer 2 d).val, 0, 0] := by decide +kernel
theorem off22 : ∀ d : Dev nD, k0_off22 d = ![(peer 2 d).val, 0, 0] := by decide +kernel
theorem off23 : ∀ d : Dev nD, k0_off23 d = ![(peer 2 d).val, 0, 0] := by decide +kernel
theorem off24 : ∀ d : Dev nD, k0_off24 d = ![(peer 2 d).val, 0, 0] := by decide +kernel
theorem off25 : ∀ d : Dev nD, k0_off25 d = ![(peer 3 d).val, 0, 0] := by decide +kernel
theorem off26 : ∀ d : Dev nD, k0_off26 d = ![(peer 3 d).val, 0, 0] := by decide +kernel
theorem off27 : ∀ d : Dev nD, k0_off27 d = ![(peer 3 d).val, 0, 0] := by decide +kernel
theorem off28 : ∀ d : Dev nD, k0_off28 d = ![(peer 3 d).val, 0, 0] := by decide +kernel
theorem off29 : ∀ d : Dev nD, k0_off29 d = ![(peer 3 d).val, 0, 0] := by decide +kernel
theorem off30 : ∀ d : Dev nD, k0_off30 d = ![(peer 3 d).val, 0, 0] := by decide +kernel
theorem off31 : ∀ d : Dev nD, k0_off31 d = ![(peer 4 d).val, 0, 0] := by decide +kernel
theorem off32 : ∀ d : Dev nD, k0_off32 d = ![(peer 4 d).val, 0, 0] := by decide +kernel
theorem off33 : ∀ d : Dev nD, k0_off33 d = ![(peer 4 d).val, 0, 0] := by decide +kernel
theorem off34 : ∀ d : Dev nD, k0_off34 d = ![(peer 4 d).val, 0, 0] := by decide +kernel
theorem off35 : ∀ d : Dev nD, k0_off35 d = ![(peer 4 d).val, 0, 0] := by decide +kernel
theorem off36 : ∀ d : Dev nD, k0_off36 d = ![(peer 4 d).val, 0, 0] := by decide +kernel
theorem off37 : ∀ d : Dev nD, k0_off37 d = ![(peer 5 d).val, 0, 0] := by decide +kernel
theorem off38 : ∀ d : Dev nD, k0_off38 d = ![(peer 5 d).val, 0, 0] := by decide +kernel
theorem off39 : ∀ d : Dev nD, k0_off39 d = ![(peer 5 d).val, 0, 0] := by decide +kernel
theorem off40 : ∀ d : Dev nD, k0_off40 d = ![(peer 5 d).val, 0, 0] := by decide +kernel
theorem off41 : ∀ d : Dev nD, k0_off41 d = ![(peer 5 d).val, 0, 0] := by decide +kernel
theorem off42 : ∀ d : Dev nD, k0_off42 d = ![(peer 5 d).val, 0, 0] := by decide +kernel
theorem off43 : ∀ d : Dev nD, k0_off43 d = ![(peer 6 d).val, 0, 0] := by decide +kernel
theorem off44 : ∀ d : Dev nD, k0_off44 d = ![(peer 6 d).val, 0, 0] := by decide +kernel
theorem off45 : ∀ d : Dev nD, k0_off45 d = ![(peer 6 d).val, 0, 0] := by decide +kernel
theorem off46 : ∀ d : Dev nD, k0_off46 d = ![(peer 6 d).val, 0, 0] := by decide +kernel
theorem off47 : ∀ d : Dev nD, k0_off47 d = ![(peer 6 d).val, 0, 0] := by decide +kernel
theorem off48 : ∀ d : Dev nD, k0_off48 d = ![(peer 6 d).val, 0, 0] := by decide +kernel
theorem dev1 : ∀ d : Dev nD, (⟨k0_dev1 d, Gen.k0_dev1_lt d⟩ : Dev nD) = peer 0 d := by decide +kernel
theorem dev2 : ∀ d : Dev nD, (⟨k0_dev2 d, Gen.k0_dev2_lt d⟩ : Dev nD) = peer 0 d := by decide +kernel
theorem dev3 : ∀ d : Dev nD, (⟨k0_dev3 d, Gen.k0_dev3_lt d⟩ : Dev nD) = peer 0 d := by decide +kernel
theorem dev4 : ∀ d : Dev nD, (⟨k0_dev4 d, Gen.k0_dev4_lt d⟩ : Dev nD) = peer 0 d := by decide +kernel
theorem dev5 : ∀ d : Dev nD, (⟨k0_dev5 d, Gen.k0_dev5_lt d⟩ : Dev nD) = peer 0 d := by decide +kernel
theorem dev6 : ∀ d : Dev nD, (⟨k0_dev6 d, Gen.k0_dev6_lt d⟩ : Dev nD) = peer 0 d := by decide +kernel
theorem dev7 : ∀ d : Dev nD, (⟨k0_dev7 d, Gen.k0_dev7_lt d⟩ : Dev nD) = peer 0 d := by decide +kernel
theorem dev8 : ∀ d : Dev nD, (⟨k0_dev8 d, Gen.k0_dev8_lt d⟩ : Dev nD) = peer 0 d := by decide +kernel
theorem dev9 : ∀ d : Dev nD, (⟨k0_dev9 d, Gen.k0_dev9_lt d⟩ : Dev nD) = peer 0 d := by decide +kernel
theorem dev10 : ∀ d : Dev nD, (⟨k0_dev10 d, Gen.k0_dev10_lt d⟩ : Dev nD) = peer 0 d := by decide +kernel
theorem dev11 : ∀ d : Dev nD, (⟨k0_dev11 d, Gen.k0_dev11_lt d⟩ : Dev nD) = peer 1 d := by decide +kernel
theorem dev12 : ∀ d : Dev nD, (⟨k0_dev12 d, Gen.k0_dev12_lt d⟩ : Dev nD) = peer 1 d := by decide +kernel
theorem dev13 : ∀ d : Dev nD, (⟨k0_dev13 d, Gen.k0_dev13_lt d⟩ : Dev nD) = peer 1 d := by decide +kernel
theorem dev14 : ∀ d : Dev nD, (⟨k0_dev14 d, Gen.k0_dev14_lt d⟩ : Dev nD) = peer 1 d := by decide +kernel
theorem dev15 : ∀ d : Dev nD, (⟨k0_dev15 d, Gen.k0_dev15_lt d⟩ : Dev nD) = peer 1 d := by decide +kernel
theorem dev16 : ∀ d : Dev nD, (⟨k0_dev16 d, Gen.k0_dev16_lt d⟩ : Dev nD) = peer 1 d := by decide +kernel
theorem dev17 : ∀ d : Dev nD, (⟨k0_dev17 d, Gen.k0_dev17_lt d⟩ : Dev nD) = peer 1 d := by decide +kernel
theorem dev18 : ∀ d : Dev nD, (⟨k0_dev18 d, Gen.k0_dev18_lt d⟩ : Dev nD) = peer 1 d := by decide +kernel
theorem dev19 : ∀ d : Dev nD, (⟨k0_dev19 d, Gen.k0_dev19_lt d⟩ : Dev nD) = peer 1 d := by decide +kernel
theorem dev20 : ∀ d : Dev nD, (⟨k0_dev20 d, Gen.k0_dev20_lt d⟩ : Dev nD) = peer 1 d := by decide +kernel
theorem dev21 : ∀ d : Dev nD, (⟨k0_dev21 d, Gen.k0_dev21_lt d⟩ : Dev nD) = peer 2 d := by decide +kernel
theorem dev22 : ∀ d : Dev nD, (⟨k0_dev22 d, Gen.k0_dev22_lt d⟩ : Dev nD) = peer 2 d := by decide +kernel
theorem dev23 : ∀ d : Dev nD, (⟨k0_dev23 d, Gen.k0_dev23_lt d⟩ : Dev nD) = peer 2 d := by decide +kernel
theorem dev24 : ∀ d : Dev nD, (⟨k0_dev24 d, Gen.k0_dev24_lt d⟩ : Dev nD) = peer 2 d := by decide +kernel
theorem dev25 : ∀ d : Dev nD, (⟨k0_dev25 d, Gen.k0_dev25_lt d⟩ : Dev nD) = peer 2 d := by decide +kernel
theorem dev26 : ∀ d : Dev nD, (⟨k0_dev26 d, Gen.k0_dev26_lt d⟩ : Dev nD) = peer 2 d := by decide +kernel
theorem dev27 : ∀ d : Dev nD, (⟨k0_dev27 d, Gen.k0_dev27_lt d⟩ : Dev nD) = peer 2 d := by decide +kernel
theorem dev28 : ∀ d : Dev nD, (⟨k0_dev28 d, Gen.k0_dev28_lt d⟩ : Dev nD) = peer 2 d := by decide +kernel
theorem dev29 : ∀ d : Dev nD, (⟨k0_dev29 d, Gen.k0_dev29_lt d⟩ : Dev nD) = peer 2 d := by decide +kernel
theorem dev30 : ∀ d : Dev nD, (⟨k0_dev30 d, Gen.k0_dev30_lt d⟩ : Dev nD) = peer 2 d := by decide +kernel
theorem dev31 : ∀ d : Dev nD, (⟨k0_dev31 d, Gen.k0_dev31_lt d⟩ : Dev nD) = peer 3 d := by decide +kernel
theorem dev32 : ∀ d : Dev nD, (⟨k0_dev32 d, Gen.k0_dev32_lt d⟩ : Dev nD) = peer 3 d := by decide +kernel
theorem dev33 : ∀ d : Dev nD, (⟨k0_dev33 d, Gen.k0_dev33_lt d⟩ : Dev nD) = peer 3 d := by decide +kernel
theorem dev34 : ∀ d : Dev nD, (⟨k0_dev34 d, Gen.k0_dev34_lt d⟩ : Dev nD) = peer 3 d := by decide +kernel
theorem dev35 : ∀ d : Dev nD, (⟨k0_dev35 d, Gen.k0_dev35_lt d⟩ : Dev nD) = peer 3 d := by decide +kernel
theorem dev36 : ∀ d : Dev nD, (⟨k0_dev36 d, Gen.k0_dev36_lt d⟩ : Dev nD) = peer 3 d := by decide +kernel
theorem dev37 : ∀ d : Dev nD, (⟨k0_dev37 d, Gen.k0_dev37_lt d⟩ : Dev nD) = peer 3 d := by decide +kernel
theorem dev38 : ∀ d : Dev nD, (⟨k0_dev38 d, Gen.k0_dev38_lt d⟩ : Dev nD) = peer 3 d := by decide +kernel
theorem dev39 : ∀ d : Dev nD, (⟨k0_dev39 d, Gen.k0_dev39_lt d⟩ : Dev nD) = peer 3 d := by decide +kernel
theorem dev40 : ∀ d : Dev nD, (⟨k0_dev40 d, Gen.k0_dev40_lt d⟩ : Dev nD) = peer 3 d := by decide +kernel
theorem dev41 : ∀ d : Dev nD, (⟨k0_dev41 d, Gen.k0_dev41_lt d⟩ : Dev nD) = peer 4 d := by decide +kernel
theorem dev42 : ∀ d : Dev nD, (⟨k0_dev42 d, Gen.k0_dev42_lt d⟩ : Dev nD) = peer 4 d := by decide +kernel
theorem dev43 : ∀ d : Dev nD, (⟨k0_dev43 d, Gen.k0_dev43_lt d⟩ : Dev nD) = peer 4 d := by decide +kernel
theorem dev44 : ∀ d : Dev nD, (⟨k0_dev44 d, Gen.k0_dev44_lt d⟩ : Dev nD) = peer 4 d := by decide +kernel
theorem dev45 : ∀ d : Dev nD, (⟨k0_dev45 d, Gen.k0_dev45_lt d⟩ : Dev nD) = peer 4 d := by decide +kernel
theorem dev46 : ∀ d : Dev nD, (⟨k0_dev46 d, Gen.k0_dev46_lt d⟩ : Dev nD) = peer 4 d := by decide +kernel
theorem dev47 : ∀ d : Dev nD, (⟨k0_dev47 d, Gen.k0_dev47_lt d⟩ : Dev nD) = peer 4 d := by decide +kernel
theorem dev48 : ∀ d : Dev nD, (⟨k0_dev48 d, Gen.k0_dev48_lt d⟩ : Dev nD) = peer 4 d := by decide +kernel
theorem dev49 : ∀ d : Dev nD, (⟨k0_dev49 d, Gen.k0_dev49_lt d⟩ : Dev nD) = peer 4 d := by decide +kernel
theorem dev50 : ∀ d : Dev nD, (⟨k0_dev50 d, Gen.k0_dev50_lt d⟩ : Dev nD) = peer 4 d := by decide +kernel
theorem dev51 : ∀ d : Dev nD, (⟨k0_dev51 d, Gen.k0_dev51_lt d⟩ : Dev nD) = peer 5 d := by decide +kernel
theorem dev52 : ∀ d : Dev nD, (⟨k0_dev52 d, Gen.k0_dev52_lt d⟩ : Dev nD) = peer 5 d := by decide +kernel
theorem dev53 : ∀ d : Dev nD, (⟨k0_dev53 d, Gen.k0_dev53_lt d⟩ : Dev nD) = peer 5 d := by decide +kernel
theorem dev54 : ∀ d : Dev nD, (⟨k0_dev54 d, Gen.k0_dev54_lt d⟩ : Dev nD) = peer 5 d := by decide +kernel
theorem dev55 : ∀ d : Dev nD, (⟨k0_dev55 d, Gen.k0_dev55_lt d⟩ : Dev nD) = peer 5 d := by decide +kernel
theorem dev56 : ∀ d : Dev nD, (⟨k0_dev56 d, Gen.k0_dev56_lt d⟩ : Dev nD) = peer 5 d := by decide +kernel
theorem dev57 : ∀ d : Dev nD, (⟨k0_dev57 d, Gen.k0_dev57_lt d⟩ : Dev nD) = peer 5 d := by decide +kernel
theorem dev58 : ∀ d : Dev nD, (⟨k0_dev58 d, Gen.k0_dev58_lt d⟩ : Dev nD) = peer 5 d := by decide +kernel
theorem dev59 : ∀ d : Dev nD, (⟨k0_dev59 d, Gen.k0_dev59_lt d⟩ : Dev nD) = peer 5 d := by decide +kernel
theorem dev60 : ∀ d : Dev nD, (⟨k0_dev60 d, Gen.k0_dev60_lt d⟩ : Dev nD) = peer 5 d := by decide +kernel
theorem dev61 : ∀ d : Dev nD, (⟨k0_dev61 d, Gen.k0_dev61_lt d⟩ : Dev nD) = peer 6 d := by decide +kernel
theorem dev62 : ∀ d : Dev nD, (⟨k0_dev62 d, Gen.k0_dev62_lt d⟩ : Dev nD) = peer 6 d := by decide +kernel
theorem dev63 : ∀ d : Dev nD, (⟨k0_dev63 d, Gen.k0_dev63_lt d⟩ : Dev nD) = peer 6 d := by decide +kernel
theorem dev64 : ∀ d : Dev nD, (⟨k0_dev64 d, Gen.k0_dev64_lt d⟩ : Dev nD) = peer 6 d := by decide +kernel
theorem dev65 : ∀ d : Dev nD, (⟨k0_dev65 d, Gen.k0_dev65_lt d⟩ : Dev nD) = peer 6 d := by decide +kernel
theorem dev66 : ∀ d : Dev nD, (⟨k0_dev66 d, Gen.k0_dev66_lt d⟩ : Dev nD) = peer 6 d := by decide +kernel
theorem dev67 : ∀ d : Dev nD, (⟨k0_dev67 d, Gen.k0_dev67_lt d⟩ : Dev nD) = peer 6 d := by decide +kernel
theorem dev68 : ∀ d : Dev nD, (⟨k0_dev68 d, Gen.k0_dev68_lt d⟩ : Dev nD) = peer 6 d := by decide +kernel
theorem dev69 : ∀ d : Dev nD, (⟨k0_dev69 d, Gen.k0_dev69_lt d⟩ : Dev nD) = peer 6 d := by decide +kernel
theorem dev70 : ∀ d : Dev nD, (⟨k0_dev70 d, Gen.k0_dev70_lt d⟩ : Dev nD) = peer 6 d := by decide +kernel

/-- A part of the kernel at the program's arrays and semaphores. -/
abbrev at_ {β : Type 1}
    (f : (arg0 : Memref sig .tc .hbm S768x2048 .bf16) → (harg0 : arg0.IsWhole) → (arg1 : Memref sig .tc .hbm S1024x2048 .bf16) → (harg1 : arg1.IsWhole) → (arg2 : Memref sig .tc .hbm S320x2048 .bf16) → (harg2 : arg2.IsWhole) → (arg3 : Memref sig .tc .hbm S1024x2048 .bf16) → (harg3 : arg3.IsWhole) → (arg4 : Memref sig .tc .hbm S256x2048 .bf16) → (harg4 : arg4.IsWhole) → (arg5 : Memref sig .tc .hbm S1024x2048 .bf16) → (harg5 : arg5.IsWhole) → (arg6 : Memref sig .tc .hbm S256x2048 .bf16) → (harg6 : arg6.IsWhole) → (arg7 : Memref sig .tc .hbm S1024x2048 .bf16) → (harg7 : arg7.IsWhole) → (arg8 : Memref sig .tc .hbm S16x256 .f32) → (harg8 : arg8.IsWhole) → (arg9 : Memref sig .tc .hbm S3x256 .f32) → (harg9 : arg9.IsWhole) → (arg10 : Memref sig .tc .hbm S8x768x2048 .bf16) → (harg10 : arg10.IsWhole) → (arg11 : Memref sig .tc .hbm S8x1024x2048 .bf16) → (harg11 : arg11.IsWhole) → (arg12 : Memref sig .tc .hbm S8x320x2048 .bf16) → (harg12 : arg12.IsWhole) → (arg13 : Memref sig .tc .hbm S8x1024x2048 .bf16) → (harg13 : arg13.IsWhole) → (arg14 : Memref sig .tc .hbm S8x256x2048 .bf16) → (harg14 : arg14.IsWhole) → (arg15 : Memref sig .tc .hbm S8x1024x2048 .bf16) → (harg15 : arg15.IsWhole) → (arg16 : Memref sig .tc .hbm S8x256x2048 .bf16) → (harg16 : arg16.IsWhole) → (arg17 : Memref sig .tc .hbm S8x1024x2048 .bf16) → (harg17 : arg17.IsWhole) → (arg18 : Memref sig .tc .hbm S8x16x256 .f32) → (harg18 : arg18.IsWhole) → (arg19 : Memref sig .tc .hbm S8x3x256 .f32) → (harg19 : arg19.IsWhole) → (arg20 : DmaSems sig S70) → (arg21 : DmaSems sig S70) → (arg22 : DmaSems sig S10) → β) : β :=
  f (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_arg9) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole main_v1_6) (Memref.isWhole_whole _) (Memref.whole main_v1_7) (Memref.isWhole_whole _) (Memref.whole main_v1_8) (Memref.isWhole_whole _) (Memref.whole main_v1_9) (Memref.isWhole_whole _) cc0_scratch0 cc0_scratch1 cc0_scratch2

/-! ## The parts -/

def list1 (m : (ℓ : Loc nD τ sig) → Buf (Elt F) ℓ) (d : Dev nD) : List (TpuEff nD τ sig (Elt F) Λ₀ .tc PUnit) :=
  [(E m).locE d 0, (E m).locE d 1, (E m).locE d 2, (E m).locE d 3]
theorem part1 (m : (ℓ : Loc nD τ sig) → Buf (Elt F) ℓ) : at_ (k0_part1 (F := F))
    = .op .deviceId fun d => Xch.runL (list1 m d) (.ret d) := by
  refine congrArg (Prog.op TpuEff.deviceId) (funext fun d => ?_)
  refine Xch.op_cons (Xch.locE_of (X := E m) (i := 0) rfl (blk_of (off1 d)) rfl) ?_
  refine Xch.op_cons (Xch.locE_of (X := E m) (i := 1) rfl (blk_of (off2 d)) rfl) ?_
  refine Xch.op_cons (Xch.locE_of (X := E m) (i := 2) rfl (blk_of (off3 d)) rfl) ?_
  refine Xch.op_cons (Xch.locE_of (X := E m) (i := 3) rfl (blk_of (off2 d)) rfl) ?_
  rfl

def list2 (m : (ℓ : Loc nD τ sig) → Buf (Elt F) ℓ) (d : Dev nD) : List (TpuEff nD τ sig (Elt F) Λ₀ .tc PUnit) :=
  [(E m).locE d 4, (E m).locE d 5, (E m).locE d 6, (E m).locE d 7, (E m).locE d 8, (E m).locE d 9]
theorem part2 (m : (ℓ : Loc nD τ sig) → Buf (Elt F) ℓ) (d : Dev nD) :
    ∃ v, at_ (k0_part2 (F := F)) d = Xch.runL (list2 m d) (.ret v) := by
  apply Exists.intro
  refine Xch.op_cons (Xch.locE_of (X := E m) (i := 4) rfl (blk_of (off4 d)) rfl) ?_
  refine Xch.op_cons (Xch.locE_of (X := E m) (i := 5) rfl (blk_of (off2 d)) rfl) ?_
  refine Xch.op_cons (Xch.locE_of (X := E m) (i := 6) rfl (blk_of (off4 d)) rfl) ?_
  refine Xch.op_cons (Xch.locE_of (X := E m) (i := 7) rfl (blk_of (off2 d)) rfl) ?_
  refine Xch.op_cons (Xch.locE_of (X := E m) (i := 8) rfl (blk_of (off5 d)) rfl) ?_
  refine Xch.op_cons (Xch.locE_of (X := E m) (i := 9) rfl (blk_of (off6 d)) rfl) ?_
  rfl

def list3 (m : (ℓ : Loc nD τ sig) → Buf (Elt F) ℓ) (d : Dev nD) : List (TpuEff nD τ sig (Elt F) Λ₀ .tc PUnit) :=
  [(E m).sendE d (0, 0), (E m).sendE d (0, 1)]
theorem part3 (m : (ℓ : Loc nD τ sig) → Buf (Elt F) ℓ) (d : Dev nD) (x0 x1 x2 : BitVec 32) :
    ∃ v, at_ (k0_part3 (F := F)) d x0 x1 x2 = Xch.runL (list3 m d) (.ret v) := by
  apply Exists.intro
  refine Xch.op_cons (Xch.sendE_of (X := E m) (mi := (0, 0)) rfl (blk_of (off1 d)) (dev1 d) rfl rfl) ?_
  refine Xch.op_cons (Xch.sendE_of (X := E m) (mi := (0, 1)) rfl (blk_of (off2 d)) (dev2 d) rfl rfl) ?_
  rfl

def list4 (m : (ℓ : Loc nD τ sig) → Buf (Elt F) ℓ) (d : Dev nD) : List (TpuEff nD τ sig (Elt F) Λ₀ .tc PUnit) :=
  [(E m).sendE d (0, 2), (E m).sendE d (0, 3), (E m).sendE d (0, 4)]
theorem part4 (m : (ℓ : Loc nD τ sig) → Buf (Elt F) ℓ) (d : Dev nD) (x0 x1 x2 : BitVec 32) :
    ∃ v, at_ (k0_part4 (F := F)) d x0 x1 x2 = Xch.runL (list4 m d) (.ret v) := by
  apply Exists.intro
  refine Xch.op_cons (Xch.sendE_of (X := E m) (mi := (0, 2)) rfl (blk_of (off3 d)) (dev3 d) rfl rfl) ?_
  refine Xch.op_cons (Xch.sendE_of (X := E m) (mi := (0, 3)) rfl (blk_of (off2 d)) (dev4 d) rfl rfl) ?_
  refine Xch.op_cons (Xch.sendE_of (X := E m) (mi := (0, 4)) rfl (blk_of (off4 d)) (dev5 d) rfl rfl) ?_
  rfl

def list5 (m : (ℓ : Loc nD τ sig) → Buf (Elt F) ℓ) (d : Dev nD) : List (TpuEff nD τ sig (Elt F) Λ₀ .tc PUnit) :=
  [(E m).sendE d (0, 5), (E m).sendE d (0, 6), (E m).sendE d (0, 7)]
theorem part5 (m : (ℓ : Loc nD τ sig) → Buf (Elt F) ℓ) (d : Dev nD) (x0 x1 x2 : BitVec 32) :
    ∃ v, at_ (k0_part5 (F := F)) d x0 x1 x2 = Xch.runL (list5 m d) (.ret v) := by
  apply Exists.intro
  refine Xch.op_cons (Xch.sendE_of (X := E m) (mi := (0, 5)) rfl (blk_of (off2 d)) (dev6 d) rfl rfl) ?_
  refine Xch.op_cons (Xch.sendE_of (X := E m) (mi := (0, 6)) rfl (blk_of (off4 d)) (dev7 d) rfl rfl) ?_
  refine Xch.op_cons (Xch.sendE_of (X := E m) (mi := (0, 7)) rfl (blk_of (off2 d)) (dev8 d) rfl rfl) ?_
  rfl

def list6 (m : (ℓ : Loc nD τ sig) → Buf (Elt F) ℓ) (d : Dev nD) : List (TpuEff nD τ sig (Elt F) Λ₀ .tc PUnit) :=
  [(E m).sendE d (0, 8), (E m).sendE d (0, 9)]
theorem part6 (m : (ℓ : Loc nD τ sig) → Buf (Elt F) ℓ) (d : Dev nD) (x0 x1 x2 : BitVec 32) :
    ∃ v, at_ (k0_part6 (F := F)) d x0 x1 x2 = Xch.runL (list6 m d) (.ret v) := by
  apply Exists.intro
  refine Xch.op_cons (Xch.sendE_of (X := E m) (mi := (0, 8)) rfl (blk_of (off5 d)) (dev9 d) rfl rfl) ?_
  refine Xch.op_cons (Xch.sendE_of (X := E m) (mi := (0, 9)) rfl (blk_of (off6 d)) (dev10 d) rfl rfl) ?_
  rfl

def list7 (m : (ℓ : Loc nD τ sig) → Buf (Elt F) ℓ) (d : Dev nD) : List (TpuEff nD τ sig (Elt F) Λ₀ .tc PUnit) :=
  [(E m).sendE d (1, 0), (E m).sendE d (1, 1), (E m).sendE d (1, 2)]
theorem part7 (m : (ℓ : Loc nD τ sig) → Buf (Elt F) ℓ) (d : Dev nD) (x0 x1 x2 : BitVec 32) :
    ∃ v, at_ (k0_part7 (F := F)) d x0 x1 x2 = Xch.runL (list7 m d) (.ret v) := by
  apply Exists.intro
  refine Xch.op_cons (Xch.sendE_of (X := E m) (mi := (1, 0)) rfl (blk_of (off1 d)) (dev11 d) rfl rfl) ?_
  refine Xch.op_cons (Xch.sendE_of (X := E m) (mi := (1, 1)) rfl (blk_of (off2 d)) (dev12 d) rfl rfl) ?_
  refine Xch.op_cons (Xch.sendE_of (X := E m) (mi := (1, 2)) rfl (blk_of (off3 d)) (dev13 d) rfl rfl) ?_
  rfl

def list8 (m : (ℓ : Loc nD τ sig) → Buf (Elt F) ℓ) (d : Dev nD) : List (TpuEff nD τ sig (Elt F) Λ₀ .tc PUnit) :=
  [(E m).sendE d (1, 3), (E m).sendE d (1, 4), (E m).sendE d (1, 5)]
theorem part8 (m : (ℓ : Loc nD τ sig) → Buf (Elt F) ℓ) (d : Dev nD) (x0 x1 x2 x3 x4 : BitVec 32) :
    ∃ v, at_ (k0_part8 (F := F)) d x0 x1 x2 x3 x4 = Xch.runL (list8 m d) (.ret v) := by
  apply Exists.intro
  refine Xch.op_cons (Xch.sendE_of (X := E m) (mi := (1, 3)) rfl (blk_of (off2 d)) (dev14 d) rfl rfl) ?_
  refine Xch.op_cons (Xch.sendE_of (X := E m) (mi := (1, 4)) rfl (blk_of (off4 d)) (dev15 d) rfl rfl) ?_
  refine Xch.op_cons (Xch.sendE_of (X := E m) (mi := (1, 5)) rfl (blk_of (off2 d)) (dev16 d) rfl rfl) ?_
  rfl

def list9 (m : (ℓ : Loc nD τ sig) → Buf (Elt F) ℓ) (d : Dev nD) : List (TpuEff nD τ sig (Elt F) Λ₀ .tc PUnit) :=
  [(E m).sendE d (1, 6), (E m).sendE d (1, 7), (E m).sendE d (1, 8)]
theorem part9 (m : (ℓ : Loc nD τ sig) → Buf (Elt F) ℓ) (d : Dev nD) (x0 x1 x2 x3 x4 : BitVec 32) :
    ∃ v, at_ (k0_part9 (F := F)) d x0 x1 x2 x3 x4 = Xch.runL (list9 m d) (.ret v) := by
  apply Exists.intro
  refine Xch.op_cons (Xch.sendE_of (X := E m) (mi := (1, 6)) rfl (blk_of (off4 d)) (dev17 d) rfl rfl) ?_
  refine Xch.op_cons (Xch.sendE_of (X := E m) (mi := (1, 7)) rfl (blk_of (off2 d)) (dev18 d) rfl rfl) ?_
  refine Xch.op_cons (Xch.sendE_of (X := E m) (mi := (1, 8)) rfl (blk_of (off5 d)) (dev19 d) rfl rfl) ?_
  rfl

def list10 (m : (ℓ : Loc nD τ sig) → Buf (Elt F) ℓ) (d : Dev nD) : List (TpuEff nD τ sig (Elt F) Λ₀ .tc PUnit) :=
  [(E m).sendE d (1, 9), (E m).sendE d (2, 0)]
theorem part10 (m : (ℓ : Loc nD τ sig) → Buf (Elt F) ℓ) (d : Dev nD) (x0 x1 x2 x3 : BitVec 32) :
    ∃ v, at_ (k0_part10 (F := F)) d x0 x1 x2 x3 = Xch.runL (list10 m d) (.ret v) := by
  apply Exists.intro
  refine Xch.op_cons (Xch.sendE_of (X := E m) (mi := (1, 9)) rfl (blk_of (off6 d)) (dev20 d) rfl rfl) ?_
  refine Xch.op_cons (Xch.sendE_of (X := E m) (mi := (2, 0)) rfl (blk_of (off1 d)) (dev21 d) rfl rfl) ?_
  rfl

def list11 (m : (ℓ : Loc nD τ sig) → Buf (Elt F) ℓ) (d : Dev nD) : List (TpuEff nD τ sig (Elt F) Λ₀ .tc PUnit) :=
  [(E m).sendE d (2, 1), (E m).sendE d (2, 2), (E m).sendE d (2, 3)]
theorem part11 (m : (ℓ : Loc nD τ sig) → Buf (Elt F) ℓ) (d : Dev nD) (x0 x1 x2 x3 : BitVec 32) :
    ∃ v, at_ (k0_part11 (F := F)) d x0 x1 x2 x3 = Xch.runL (list11 m d) (.ret v) := by
  apply Exists.intro
  refine Xch.op_cons (Xch.sendE_of (X := E m) (mi := (2, 1)) rfl (blk_of (off2 d)) (dev22 d) rfl rfl) ?_
  refine Xch.op_cons (Xch.sendE_of (X := E m) (mi := (2, 2)) rfl (blk_of (off3 d)) (dev23 d) rfl rfl) ?_
  refine Xch.op_cons (Xch.sendE_of (X := E m) (mi := (2, 3)) rfl (blk_of (off2 d)) (dev24 d) rfl rfl) ?_
  rfl

def list12 (m : (ℓ : Loc nD τ sig) → Buf (Elt F) ℓ) (d : Dev nD) : List (TpuEff nD τ sig (Elt F) Λ₀ .tc PUnit) :=
  [(E m).sendE d (2, 4), (E m).sendE d (2, 5)]
theorem part12 (m : (ℓ : Loc nD τ sig) → Buf (Elt F) ℓ) (d : Dev nD) (x0 x1 x2 : BitVec 32) :
    ∃ v, at_ (k0_part12 (F := F)) d x0 x1 x2 = Xch.runL (list12 m d) (.ret v) := by
  apply Exists.intro
  refine Xch.op_cons (Xch.sendE_of (X := E m) (mi := (2, 4)) rfl (blk_of (off4 d)) (dev25 d) rfl rfl) ?_
  refine Xch.op_cons (Xch.sendE_of (X := E m) (mi := (2, 5)) rfl (blk_of (off2 d)) (dev26 d) rfl rfl) ?_
  rfl

def list13 (m : (ℓ : Loc nD τ sig) → Buf (Elt F) ℓ) (d : Dev nD) : List (TpuEff nD τ sig (Elt F) Λ₀ .tc PUnit) :=
  [(E m).sendE d (2, 6), (E m).sendE d (2, 7), (E m).sendE d (2, 8)]
theorem part13 (m : (ℓ : Loc nD τ sig) → Buf (Elt F) ℓ) (d : Dev nD) (x0 x1 x2 : BitVec 32) :
    ∃ v, at_ (k0_part13 (F := F)) d x0 x1 x2 = Xch.runL (list13 m d) (.ret v) := by
  apply Exists.intro
  refine Xch.op_cons (Xch.sendE_of (X := E m) (mi := (2, 6)) rfl (blk_of (off4 d)) (dev27 d) rfl rfl) ?_
  refine Xch.op_cons (Xch.sendE_of (X := E m) (mi := (2, 7)) rfl (blk_of (off2 d)) (dev28 d) rfl rfl) ?_
  refine Xch.op_cons (Xch.sendE_of (X := E m) (mi := (2, 8)) rfl (blk_of (off5 d)) (dev29 d) rfl rfl) ?_
  rfl

def list14 (m : (ℓ : Loc nD τ sig) → Buf (Elt F) ℓ) (d : Dev nD) : List (TpuEff nD τ sig (Elt F) Λ₀ .tc PUnit) :=
  [(E m).sendE d (2, 9), (E m).sendE d (3, 0)]
theorem part14 (m : (ℓ : Loc nD τ sig) → Buf (Elt F) ℓ) (d : Dev nD) :
    ∃ v, at_ (k0_part14 (F := F)) d = Xch.runL (list14 m d) (.ret v) := by
  apply Exists.intro
  refine Xch.op_cons (Xch.sendE_of (X := E m) (mi := (2, 9)) rfl (blk_of (off6 d)) (dev30 d) rfl rfl) ?_
  refine Xch.op_cons (Xch.sendE_of (X := E m) (mi := (3, 0)) rfl (blk_of (off1 d)) (dev31 d) rfl rfl) ?_
  rfl

def list15 (m : (ℓ : Loc nD τ sig) → Buf (Elt F) ℓ) (d : Dev nD) : List (TpuEff nD τ sig (Elt F) Λ₀ .tc PUnit) :=
  [(E m).sendE d (3, 1), (E m).sendE d (3, 2), (E m).sendE d (3, 3)]
theorem part15 (m : (ℓ : Loc nD τ sig) → Buf (Elt F) ℓ) (d : Dev nD) (x0 x1 x2 : BitVec 32) :
    ∃ v, at_ (k0_part15 (F := F)) d x0 x1 x2 = Xch.runL (list15 m d) (.ret v) := by
  apply Exists.intro
  refine Xch.op_cons (Xch.sendE_of (X := E m) (mi := (3, 1)) rfl (blk_of (off2 d)) (dev32 d) rfl rfl) ?_
  refine Xch.op_cons (Xch.sendE_of (X := E m) (mi := (3, 2)) rfl (blk_of (off3 d)) (dev33 d) rfl rfl) ?_
  refine Xch.op_cons (Xch.sendE_of (X := E m) (mi := (3, 3)) rfl (blk_of (off2 d)) (dev34 d) rfl rfl) ?_
  rfl

def list16 (m : (ℓ : Loc nD τ sig) → Buf (Elt F) ℓ) (d : Dev nD) : List (TpuEff nD τ sig (Elt F) Λ₀ .tc PUnit) :=
  [(E m).sendE d (3, 4), (E m).sendE d (3, 5), (E m).sendE d (3, 6)]
theorem part16 (m : (ℓ : Loc nD τ sig) → Buf (Elt F) ℓ) (d : Dev nD) (x0 x1 x2 : BitVec 32) :
    ∃ v, at_ (k0_part16 (F := F)) d x0 x1 x2 = Xch.runL (list16 m d) (.ret v) := by
  apply Exists.intro
  refine Xch.op_cons (Xch.sendE_of (X := E m) (mi := (3, 4)) rfl (blk_of (off4 d)) (dev35 d) rfl rfl) ?_
  refine Xch.op_cons (Xch.sendE_of (X := E m) (mi := (3, 5)) rfl (blk_of (off2 d)) (dev36 d) rfl rfl) ?_
  refine Xch.op_cons (Xch.sendE_of (X := E m) (mi := (3, 6)) rfl (blk_of (off4 d)) (dev37 d) rfl rfl) ?_
  rfl

def list17 (m : (ℓ : Loc nD τ sig) → Buf (Elt F) ℓ) (d : Dev nD) : List (TpuEff nD τ sig (Elt F) Λ₀ .tc PUnit) :=
  [(E m).sendE d (3, 7), (E m).sendE d (3, 8), (E m).sendE d (3, 9)]
theorem part17 (m : (ℓ : Loc nD τ sig) → Buf (Elt F) ℓ) (d : Dev nD) (x0 x1 x2 x3 x4 : BitVec 32) :
    ∃ v, at_ (k0_part17 (F := F)) d x0 x1 x2 x3 x4 = Xch.runL (list17 m d) (.ret v) := by
  apply Exists.intro
  refine Xch.op_cons (Xch.sendE_of (X := E m) (mi := (3, 7)) rfl (blk_of (off2 d)) (dev38 d) rfl rfl) ?_
  refine Xch.op_cons (Xch.sendE_of (X := E m) (mi := (3, 8)) rfl (blk_of (off5 d)) (dev39 d) rfl rfl) ?_
  refine Xch.op_cons (Xch.sendE_of (X := E m) (mi := (3, 9)) rfl (blk_of (off6 d)) (dev40 d) rfl rfl) ?_
  rfl

def list18 (m : (ℓ : Loc nD τ sig) → Buf (Elt F) ℓ) (d : Dev nD) : List (TpuEff nD τ sig (Elt F) Λ₀ .tc PUnit) :=
  [(E m).sendE d (4, 0), (E m).sendE d (4, 1)]
theorem part18 (m : (ℓ : Loc nD τ sig) → Buf (Elt F) ℓ) (d : Dev nD) (x0 x1 x2 x3 : BitVec 32) :
    ∃ v, at_ (k0_part18 (F := F)) d x0 x1 x2 x3 = Xch.runL (list18 m d) (.ret v) := by
  apply Exists.intro
  refine Xch.op_cons (Xch.sendE_of (X := E m) (mi := (4, 0)) rfl (blk_of (off1 d)) (dev41 d) rfl rfl) ?_
  refine Xch.op_cons (Xch.sendE_of (X := E m) (mi := (4, 1)) rfl (blk_of (off2 d)) (dev42 d) rfl rfl) ?_
  rfl

def list19 (m : (ℓ : Loc nD τ sig) → Buf (Elt F) ℓ) (d : Dev nD) : List (TpuEff nD τ sig (Elt F) Λ₀ .tc PUnit) :=
  [(E m).sendE d (4, 2), (E m).sendE d (4, 3), (E m).sendE d (4, 4)]
theorem part19 (m : (ℓ : Loc nD τ sig) → Buf (Elt F) ℓ) (d : Dev nD) (x0 x1 x2 x3 x4 : BitVec 32) :
    ∃ v, at_ (k0_part19 (F := F)) d x0 x1 x2 x3 x4 = Xch.runL (list19 m d) (.ret v) := by
  apply Exists.intro
  refine Xch.op_cons (Xch.sendE_of (X := E m) (mi := (4, 2)) rfl (blk_of (off3 d)) (dev43 d) rfl rfl) ?_
  refine Xch.op_cons (Xch.sendE_of (X := E m) (mi := (4, 3)) rfl (blk_of (off2 d)) (dev44 d) rfl rfl) ?_
  refine Xch.op_cons (Xch.sendE_of (X := E m) (mi := (4, 4)) rfl (blk_of (off4 d)) (dev45 d) rfl rfl) ?_
  rfl

def list20 (m : (ℓ : Loc nD τ sig) → Buf (Elt F) ℓ) (d : Dev nD) : List (TpuEff nD τ sig (Elt F) Λ₀ .tc PUnit) :=
  [(E m).sendE d (4, 5), (E m).sendE d (4, 6), (E m).sendE d (4, 7)]
theorem part20 (m : (ℓ : Loc nD τ sig) → Buf (Elt F) ℓ) (d : Dev nD) (x0 x1 x2 x3 : BitVec 32) :
    ∃ v, at_ (k0_part20 (F := F)) d x0 x1 x2 x3 = Xch.runL (list20 m d) (.ret v) := by
  apply Exists.intro
  refine Xch.op_cons (Xch.sendE_of (X := E m) (mi := (4, 5)) rfl (blk_of (off2 d)) (dev46 d) rfl rfl) ?_
  refine Xch.op_cons (Xch.sendE_of (X := E m) (mi := (4, 6)) rfl (blk_of (off4 d)) (dev47 d) rfl rfl) ?_
  refine Xch.op_cons (Xch.sendE_of (X := E m) (mi := (4, 7)) rfl (blk_of (off2 d)) (dev48 d) rfl rfl) ?_
  rfl

def list21 (m : (ℓ : Loc nD τ sig) → Buf (Elt F) ℓ) (d : Dev nD) : List (TpuEff nD τ sig (Elt F) Λ₀ .tc PUnit) :=
  [(E m).sendE d (4, 8), (E m).sendE d (4, 9)]
theorem part21 (m : (ℓ : Loc nD τ sig) → Buf (Elt F) ℓ) (d : Dev nD) (x0 x1 x2 : BitVec 32) :
    ∃ v, at_ (k0_part21 (F := F)) d x0 x1 x2 = Xch.runL (list21 m d) (.ret v) := by
  apply Exists.intro
  refine Xch.op_cons (Xch.sendE_of (X := E m) (mi := (4, 8)) rfl (blk_of (off5 d)) (dev49 d) rfl rfl) ?_
  refine Xch.op_cons (Xch.sendE_of (X := E m) (mi := (4, 9)) rfl (blk_of (off6 d)) (dev50 d) rfl rfl) ?_
  rfl

def list22 (m : (ℓ : Loc nD τ sig) → Buf (Elt F) ℓ) (d : Dev nD) : List (TpuEff nD τ sig (Elt F) Λ₀ .tc PUnit) :=
  [(E m).sendE d (5, 0), (E m).sendE d (5, 1)]
theorem part22 (m : (ℓ : Loc nD τ sig) → Buf (Elt F) ℓ) (d : Dev nD) (x0 x1 x2 : BitVec 32) :
    ∃ v, at_ (k0_part22 (F := F)) d x0 x1 x2 = Xch.runL (list22 m d) (.ret v) := by
  apply Exists.intro
  refine Xch.op_cons (Xch.sendE_of (X := E m) (mi := (5, 0)) rfl (blk_of (off1 d)) (dev51 d) rfl rfl) ?_
  refine Xch.op_cons (Xch.sendE_of (X := E m) (mi := (5, 1)) rfl (blk_of (off2 d)) (dev52 d) rfl rfl) ?_
  rfl

def list23 (m : (ℓ : Loc nD τ sig) → Buf (Elt F) ℓ) (d : Dev nD) : List (TpuEff nD τ sig (Elt F) Λ₀ .tc PUnit) :=
  [(E m).sendE d (5, 2), (E m).sendE d (5, 3), (E m).sendE d (5, 4)]
theorem part23 (m : (ℓ : Loc nD τ sig) → Buf (Elt F) ℓ) (d : Dev nD) (x0 x1 x2 : BitVec 32) :
    ∃ v, at_ (k0_part23 (F := F)) d x0 x1 x2 = Xch.runL (list23 m d) (.ret v) := by
  apply Exists.intro
  refine Xch.op_cons (Xch.sendE_of (X := E m) (mi := (5, 2)) rfl (blk_of (off3 d)) (dev53 d) rfl rfl) ?_
  refine Xch.op_cons (Xch.sendE_of (X := E m) (mi := (5, 3)) rfl (blk_of (off2 d)) (dev54 d) rfl rfl) ?_
  refine Xch.op_cons (Xch.sendE_of (X := E m) (mi := (5, 4)) rfl (blk_of (off4 d)) (dev55 d) rfl rfl) ?_
  rfl

def list24 (m : (ℓ : Loc nD τ sig) → Buf (Elt F) ℓ) (d : Dev nD) : List (TpuEff nD τ sig (Elt F) Λ₀ .tc PUnit) :=
  [(E m).sendE d (5, 5), (E m).sendE d (5, 6), (E m).sendE d (5, 7)]
theorem part24 (m : (ℓ : Loc nD τ sig) → Buf (Elt F) ℓ) (d : Dev nD) (x0 x1 x2 : BitVec 32) :
    ∃ v, at_ (k0_part24 (F := F)) d x0 x1 x2 = Xch.runL (list24 m d) (.ret v) := by
  apply Exists.intro
  refine Xch.op_cons (Xch.sendE_of (X := E m) (mi := (5, 5)) rfl (blk_of (off2 d)) (dev56 d) rfl rfl) ?_
  refine Xch.op_cons (Xch.sendE_of (X := E m) (mi := (5, 6)) rfl (blk_of (off4 d)) (dev57 d) rfl rfl) ?_
  refine Xch.op_cons (Xch.sendE_of (X := E m) (mi := (5, 7)) rfl (blk_of (off2 d)) (dev58 d) rfl rfl) ?_
  rfl

def list25 (m : (ℓ : Loc nD τ sig) → Buf (Elt F) ℓ) (d : Dev nD) : List (TpuEff nD τ sig (Elt F) Λ₀ .tc PUnit) :=
  [(E m).sendE d (5, 8), (E m).sendE d (5, 9)]
theorem part25 (m : (ℓ : Loc nD τ sig) → Buf (Elt F) ℓ) (d : Dev nD) (x0 x1 x2 : BitVec 32) :
    ∃ v, at_ (k0_part25 (F := F)) d x0 x1 x2 = Xch.runL (list25 m d) (.ret v) := by
  apply Exists.intro
  refine Xch.op_cons (Xch.sendE_of (X := E m) (mi := (5, 8)) rfl (blk_of (off5 d)) (dev59 d) rfl rfl) ?_
  refine Xch.op_cons (Xch.sendE_of (X := E m) (mi := (5, 9)) rfl (blk_of (off6 d)) (dev60 d) rfl rfl) ?_
  rfl

def list26 (m : (ℓ : Loc nD τ sig) → Buf (Elt F) ℓ) (d : Dev nD) : List (TpuEff nD τ sig (Elt F) Λ₀ .tc PUnit) :=
  [(E m).sendE d (6, 0), (E m).sendE d (6, 1), (E m).sendE d (6, 2)]
theorem part26 (m : (ℓ : Loc nD τ sig) → Buf (Elt F) ℓ) (d : Dev nD) (x0 x1 x2 x3 : BitVec 32) :
    ∃ v, at_ (k0_part26 (F := F)) d x0 x1 x2 x3 = Xch.runL (list26 m d) (.ret v) := by
  apply Exists.intro
  refine Xch.op_cons (Xch.sendE_of (X := E m) (mi := (6, 0)) rfl (blk_of (off1 d)) (dev61 d) rfl rfl) ?_
  refine Xch.op_cons (Xch.sendE_of (X := E m) (mi := (6, 1)) rfl (blk_of (off2 d)) (dev62 d) rfl rfl) ?_
  refine Xch.op_cons (Xch.sendE_of (X := E m) (mi := (6, 2)) rfl (blk_of (off3 d)) (dev63 d) rfl rfl) ?_
  rfl

def list27 (m : (ℓ : Loc nD τ sig) → Buf (Elt F) ℓ) (d : Dev nD) : List (TpuEff nD τ sig (Elt F) Λ₀ .tc PUnit) :=
  [(E m).sendE d (6, 3), (E m).sendE d (6, 4), (E m).sendE d (6, 5)]
theorem part27 (m : (ℓ : Loc nD τ sig) → Buf (Elt F) ℓ) (d : Dev nD) (x0 x1 x2 x3 : BitVec 32) :
    ∃ v, at_ (k0_part27 (F := F)) d x0 x1 x2 x3 = Xch.runL (list27 m d) (.ret v) := by
  apply Exists.intro
  refine Xch.op_cons (Xch.sendE_of (X := E m) (mi := (6, 3)) rfl (blk_of (off2 d)) (dev64 d) rfl rfl) ?_
  refine Xch.op_cons (Xch.sendE_of (X := E m) (mi := (6, 4)) rfl (blk_of (off4 d)) (dev65 d) rfl rfl) ?_
  refine Xch.op_cons (Xch.sendE_of (X := E m) (mi := (6, 5)) rfl (blk_of (off2 d)) (dev66 d) rfl rfl) ?_
  rfl

def list28 (m : (ℓ : Loc nD τ sig) → Buf (Elt F) ℓ) (d : Dev nD) : List (TpuEff nD τ sig (Elt F) Λ₀ .tc PUnit) :=
  [(E m).sendE d (6, 6), (E m).sendE d (6, 7), (E m).sendE d (6, 8)]
theorem part28 (m : (ℓ : Loc nD τ sig) → Buf (Elt F) ℓ) (d : Dev nD) (x0 x1 x2 x3 : BitVec 32) :
    ∃ v, at_ (k0_part28 (F := F)) d x0 x1 x2 x3 = Xch.runL (list28 m d) (.ret v) := by
  apply Exists.intro
  refine Xch.op_cons (Xch.sendE_of (X := E m) (mi := (6, 6)) rfl (blk_of (off4 d)) (dev67 d) rfl rfl) ?_
  refine Xch.op_cons (Xch.sendE_of (X := E m) (mi := (6, 7)) rfl (blk_of (off2 d)) (dev68 d) rfl rfl) ?_
  refine Xch.op_cons (Xch.sendE_of (X := E m) (mi := (6, 8)) rfl (blk_of (off5 d)) (dev69 d) rfl rfl) ?_
  rfl

def list29 (m : (ℓ : Loc nD τ sig) → Buf (Elt F) ℓ) (d : Dev nD) : List (TpuEff nD τ sig (Elt F) Λ₀ .tc PUnit) :=
  [(E m).sendE d (6, 9)]
theorem part29 (m : (ℓ : Loc nD τ sig) → Buf (Elt F) ℓ) (d : Dev nD) (x0 x1 x2 : BitVec 32) :
    ∃ v, at_ (k0_part29 (F := F)) d x0 x1 x2 = Xch.runL (list29 m d) (.ret v) := by
  apply Exists.intro
  refine Xch.op_cons (Xch.sendE_of (X := E m) (mi := (6, 9)) rfl (blk_of (off6 d)) (dev70 d) rfl rfl) ?_
  rfl

def list30 (m : (ℓ : Loc nD τ sig) → Buf (Elt F) ℓ) (d : Dev nD) : List (TpuEff nD τ sig (Elt F) Λ₀ .tc PUnit) :=
  [(E m).recvE d (0, 0), (E m).recvE d (0, 1), (E m).recvE d (0, 2), (E m).recvE d (0, 3)]
theorem part30 (m : (ℓ : Loc nD τ sig) → Buf (Elt F) ℓ) (d : Dev nD) (x0 x1 x2 : BitVec 32) :
    ∃ v, at_ (k0_part30 (F := F)) d x0 x1 x2 = Xch.runL (list30 m d) (.ret v) := by
  apply Exists.intro
  refine Xch.op_cons (rfl) ?_
  refine Xch.op_cons (rfl) ?_
  refine Xch.op_cons (rfl) ?_
  refine Xch.op_cons (rfl) ?_
  rfl

def list31 (m : (ℓ : Loc nD τ sig) → Buf (Elt F) ℓ) (d : Dev nD) : List (TpuEff nD τ sig (Elt F) Λ₀ .tc PUnit) :=
  [(E m).recvE d (0, 4), (E m).recvE d (0, 5), (E m).recvE d (0, 6)]
theorem part31 (m : (ℓ : Loc nD τ sig) → Buf (Elt F) ℓ) (d : Dev nD) (x0 x1 x2 : BitVec 32) :
    ∃ v, at_ (k0_part31 (F := F)) d x0 x1 x2 = Xch.runL (list31 m d) (.ret v) := by
  apply Exists.intro
  refine Xch.op_cons (rfl) ?_
  refine Xch.op_cons (rfl) ?_
  refine Xch.op_cons (rfl) ?_
  rfl

def list32 (m : (ℓ : Loc nD τ sig) → Buf (Elt F) ℓ) (d : Dev nD) : List (TpuEff nD τ sig (Elt F) Λ₀ .tc PUnit) :=
  [(E m).recvE d (0, 7), (E m).recvE d (0, 8), (E m).recvE d (0, 9)]
theorem part32 (m : (ℓ : Loc nD τ sig) → Buf (Elt F) ℓ) (d : Dev nD) (x0 x1 x2 x3 : BitVec 32) :
    ∃ v, at_ (k0_part32 (F := F)) d x0 x1 x2 x3 = Xch.runL (list32 m d) (.ret v) := by
  apply Exists.intro
  refine Xch.op_cons (rfl) ?_
  refine Xch.op_cons (rfl) ?_
  refine Xch.op_cons (rfl) ?_
  rfl

def list33 (m : (ℓ : Loc nD τ sig) → Buf (Elt F) ℓ) (d : Dev nD) : List (TpuEff nD τ sig (Elt F) Λ₀ .tc PUnit) :=
  [(E m).recvE d (1, 0), (E m).recvE d (1, 1)]
theorem part33 (m : (ℓ : Loc nD τ sig) → Buf (Elt F) ℓ) (d : Dev nD) (x0 x1 : BitVec 32) :
    ∃ v, at_ (k0_part33 (F := F)) d x0 x1 = Xch.runL (list33 m d) (.ret v) := by
  apply Exists.intro
  refine Xch.op_cons (rfl) ?_
  refine Xch.op_cons (rfl) ?_
  rfl

def list34 (m : (ℓ : Loc nD τ sig) → Buf (Elt F) ℓ) (d : Dev nD) : List (TpuEff nD τ sig (Elt F) Λ₀ .tc PUnit) :=
  [(E m).recvE d (1, 2), (E m).recvE d (1, 3), (E m).recvE d (1, 4)]
theorem part34 (m : (ℓ : Loc nD τ sig) → Buf (Elt F) ℓ) (d : Dev nD) (x0 x1 x2 x3 x4 : BitVec 32) :
    ∃ v, at_ (k0_part34 (F := F)) d x0 x1 x2 x3 x4 = Xch.runL (list34 m d) (.ret v) := by
  apply Exists.intro
  refine Xch.op_cons (rfl) ?_
  refine Xch.op_cons (rfl) ?_
  refine Xch.op_cons (rfl) ?_
  rfl

def list35 (m : (ℓ : Loc nD τ sig) → Buf (Elt F) ℓ) (d : Dev nD) : List (TpuEff nD τ sig (Elt F) Λ₀ .tc PUnit) :=
  [(E m).recvE d (1, 5), (E m).recvE d (1, 6), (E m).recvE d (1, 7)]
theorem part35 (m : (ℓ : Loc nD τ sig) → Buf (Elt F) ℓ) (d : Dev nD) (x0 x1 x2 x3 x4 : BitVec 32) :
    ∃ v, at_ (k0_part35 (F := F)) d x0 x1 x2 x3 x4 = Xch.runL (list35 m d) (.ret v) := by
  apply Exists.intro
  refine Xch.op_cons (rfl) ?_
  refine Xch.op_cons (rfl) ?_
  refine Xch.op_cons (rfl) ?_
  rfl

def list36 (m : (ℓ : Loc nD τ sig) → Buf (Elt F) ℓ) (d : Dev nD) : List (TpuEff nD τ sig (Elt F) Λ₀ .tc PUnit) :=
  [(E m).recvE d (1, 8), (E m).recvE d (1, 9)]
theorem part36 (m : (ℓ : Loc nD τ sig) → Buf (Elt F) ℓ) (d : Dev nD) (x0 x1 x2 x3 x4 : BitVec 32) :
    ∃ v, at_ (k0_part36 (F := F)) d x0 x1 x2 x3 x4 = Xch.runL (list36 m d) (.ret v) := by
  apply Exists.intro
  refine Xch.op_cons (rfl) ?_
  refine Xch.op_cons (rfl) ?_
  rfl

def list37 (m : (ℓ : Loc nD τ sig) → Buf (Elt F) ℓ) (d : Dev nD) : List (TpuEff nD τ sig (Elt F) Λ₀ .tc PUnit) :=
  [(E m).recvE d (2, 0), (E m).recvE d (2, 1), (E m).recvE d (2, 2)]
theorem part37 (m : (ℓ : Loc nD τ sig) → Buf (Elt F) ℓ) (d : Dev nD) (x0 x1 x2 x3 x4 : BitVec 32) :
    ∃ v, at_ (k0_part37 (F := F)) d x0 x1 x2 x3 x4 = Xch.runL (list37 m d) (.ret v) := by
  apply Exists.intro
  refine Xch.op_cons (rfl) ?_
  refine Xch.op_cons (rfl) ?_
  refine Xch.op_cons (rfl) ?_
  rfl

def list38 (m : (ℓ : Loc nD τ sig) → Buf (Elt F) ℓ) (d : Dev nD) : List (TpuEff nD τ sig (Elt F) Λ₀ .tc PUnit) :=
  [(E m).recvE d (2, 3), (E m).recvE d (2, 4), (E m).recvE d (2, 5)]
theorem part38 (m : (ℓ : Loc nD τ sig) → Buf (Elt F) ℓ) (d : Dev nD) (x0 x1 x2 x3 x4 : BitVec 32) :
    ∃ v, at_ (k0_part38 (F := F)) d x0 x1 x2 x3 x4 = Xch.runL (list38 m d) (.ret v) := by
  apply Exists.intro
  refine Xch.op_cons (rfl) ?_
  refine Xch.op_cons (rfl) ?_
  refine Xch.op_cons (rfl) ?_
  rfl

def list39 (m : (ℓ : Loc nD τ sig) → Buf (Elt F) ℓ) (d : Dev nD) : List (TpuEff nD τ sig (Elt F) Λ₀ .tc PUnit) :=
  [(E m).recvE d (2, 6), (E m).recvE d (2, 7), (E m).recvE d (2, 8)]
theorem part39 (m : (ℓ : Loc nD τ sig) → Buf (Elt F) ℓ) (d : Dev nD) (x0 x1 x2 : BitVec 32) :
    ∃ v, at_ (k0_part39 (F := F)) d x0 x1 x2 = Xch.runL (list39 m d) (.ret v) := by
  apply Exists.intro
  refine Xch.op_cons (rfl) ?_
  refine Xch.op_cons (rfl) ?_
  refine Xch.op_cons (rfl) ?_
  rfl

def list40 (m : (ℓ : Loc nD τ sig) → Buf (Elt F) ℓ) (d : Dev nD) : List (TpuEff nD τ sig (Elt F) Λ₀ .tc PUnit) :=
  [(E m).recvE d (2, 9), (E m).recvE d (3, 0)]
theorem part40 (m : (ℓ : Loc nD τ sig) → Buf (Elt F) ℓ) (d : Dev nD) :
    ∃ v, at_ (k0_part40 (F := F)) d = Xch.runL (list40 m d) (.ret v) := by
  apply Exists.intro
  refine Xch.op_cons (rfl) ?_
  refine Xch.op_cons (rfl) ?_
  rfl

def list41 (m : (ℓ : Loc nD τ sig) → Buf (Elt F) ℓ) (d : Dev nD) : List (TpuEff nD τ sig (Elt F) Λ₀ .tc PUnit) :=
  [(E m).recvE d (3, 1), (E m).recvE d (3, 2), (E m).recvE d (3, 3), (E m).recvE d (3, 4)]
theorem part41 (m : (ℓ : Loc nD τ sig) → Buf (Elt F) ℓ) (d : Dev nD) (x0 x1 x2 : BitVec 32) :
    ∃ v, at_ (k0_part41 (F := F)) d x0 x1 x2 = Xch.runL (list41 m d) (.ret v) := by
  apply Exists.intro
  refine Xch.op_cons (rfl) ?_
  refine Xch.op_cons (rfl) ?_
  refine Xch.op_cons (rfl) ?_
  refine Xch.op_cons (rfl) ?_
  rfl

def list42 (m : (ℓ : Loc nD τ sig) → Buf (Elt F) ℓ) (d : Dev nD) : List (TpuEff nD τ sig (Elt F) Λ₀ .tc PUnit) :=
  [(E m).recvE d (3, 5), (E m).recvE d (3, 6), (E m).recvE d (3, 7)]
theorem part42 (m : (ℓ : Loc nD τ sig) → Buf (Elt F) ℓ) (d : Dev nD) (x0 x1 x2 : BitVec 32) :
    ∃ v, at_ (k0_part42 (F := F)) d x0 x1 x2 = Xch.runL (list42 m d) (.ret v) := by
  apply Exists.intro
  refine Xch.op_cons (rfl) ?_
  refine Xch.op_cons (rfl) ?_
  refine Xch.op_cons (rfl) ?_
  rfl

def list43 (m : (ℓ : Loc nD τ sig) → Buf (Elt F) ℓ) (d : Dev nD) : List (TpuEff nD τ sig (Elt F) Λ₀ .tc PUnit) :=
  [(E m).recvE d (3, 8), (E m).recvE d (3, 9)]
theorem part43 (m : (ℓ : Loc nD τ sig) → Buf (Elt F) ℓ) (d : Dev nD) (x0 x1 x2 x3 : BitVec 32) :
    ∃ v, at_ (k0_part43 (F := F)) d x0 x1 x2 x3 = Xch.runL (list43 m d) (.ret v) := by
  apply Exists.intro
  refine Xch.op_cons (rfl) ?_
  refine Xch.op_cons (rfl) ?_
  rfl

def list44 (m : (ℓ : Loc nD τ sig) → Buf (Elt F) ℓ) (d : Dev nD) : List (TpuEff nD τ sig (Elt F) Λ₀ .tc PUnit) :=
  [(E m).recvE d (4, 0), (E m).recvE d (4, 1), (E m).recvE d (4, 2)]
theorem part44 (m : (ℓ : Loc nD τ sig) → Buf (Elt F) ℓ) (d : Dev nD) (x0 x1 x2 : BitVec 32) :
    ∃ v, at_ (k0_part44 (F := F)) d x0 x1 x2 = Xch.runL (list44 m d) (.ret v) := by
  apply Exists.intro
  refine Xch.op_cons (rfl) ?_
  refine Xch.op_cons (rfl) ?_
  refine Xch.op_cons (rfl) ?_
  rfl

def list45 (m : (ℓ : Loc nD τ sig) → Buf (Elt F) ℓ) (d : Dev nD) : List (TpuEff nD τ sig (Elt F) Λ₀ .tc PUnit) :=
  [(E m).recvE d (4, 3), (E m).recvE d (4, 4), (E m).recvE d (4, 5)]
theorem part45 (m : (ℓ : Loc nD τ sig) → Buf (Elt F) ℓ) (d : Dev nD) (x0 x1 x2 x3 : BitVec 32) :
    ∃ v, at_ (k0_part45 (F := F)) d x0 x1 x2 x3 = Xch.runL (list45 m d) (.ret v) := by
  apply Exists.intro
  refine Xch.op_cons (rfl) ?_
  refine Xch.op_cons (rfl) ?_
  refine Xch.op_cons (rfl) ?_
  rfl

def list46 (m : (ℓ : Loc nD τ sig) → Buf (Elt F) ℓ) (d : Dev nD) : List (TpuEff nD τ sig (Elt F) Λ₀ .tc PUnit) :=
  [(E m).recvE d (4, 6), (E m).recvE d (4, 7), (E m).recvE d (4, 8)]
theorem part46 (m : (ℓ : Loc nD τ sig) → Buf (Elt F) ℓ) (d : Dev nD) (x0 x1 x2 x3 : BitVec 32) :
    ∃ v, at_ (k0_part46 (F := F)) d x0 x1 x2 x3 = Xch.runL (list46 m d) (.ret v) := by
  apply Exists.intro
  refine Xch.op_cons (rfl) ?_
  refine Xch.op_cons (rfl) ?_
  refine Xch.op_cons (rfl) ?_
  rfl

def list47 (m : (ℓ : Loc nD τ sig) → Buf (Elt F) ℓ) (d : Dev nD) : List (TpuEff nD τ sig (Elt F) Λ₀ .tc PUnit) :=
  [(E m).recvE d (4, 9), (E m).recvE d (5, 0)]
theorem part47 (m : (ℓ : Loc nD τ sig) → Buf (Elt F) ℓ) (d : Dev nD) (x0 x1 : BitVec 32) :
    ∃ v, at_ (k0_part47 (F := F)) d x0 x1 = Xch.runL (list47 m d) (.ret v) := by
  apply Exists.intro
  refine Xch.op_cons (rfl) ?_
  refine Xch.op_cons (rfl) ?_
  rfl

def list48 (m : (ℓ : Loc nD τ sig) → Buf (Elt F) ℓ) (d : Dev nD) : List (TpuEff nD τ sig (Elt F) Λ₀ .tc PUnit) :=
  [(E m).recvE d (5, 1), (E m).recvE d (5, 2), (E m).recvE d (5, 3)]
theorem part48 (m : (ℓ : Loc nD τ sig) → Buf (Elt F) ℓ) (d : Dev nD) (x0 x1 x2 x3 : BitVec 32) :
    ∃ v, at_ (k0_part48 (F := F)) d x0 x1 x2 x3 = Xch.runL (list48 m d) (.ret v) := by
  apply Exists.intro
  refine Xch.op_cons (rfl) ?_
  refine Xch.op_cons (rfl) ?_
  refine Xch.op_cons (rfl) ?_
  rfl

def list49 (m : (ℓ : Loc nD τ sig) → Buf (Elt F) ℓ) (d : Dev nD) : List (TpuEff nD τ sig (Elt F) Λ₀ .tc PUnit) :=
  [(E m).recvE d (5, 4), (E m).recvE d (5, 5), (E m).recvE d (5, 6)]
theorem part49 (m : (ℓ : Loc nD τ sig) → Buf (Elt F) ℓ) (d : Dev nD) (x0 x1 x2 x3 : BitVec 32) :
    ∃ v, at_ (k0_part49 (F := F)) d x0 x1 x2 x3 = Xch.runL (list49 m d) (.ret v) := by
  apply Exists.intro
  refine Xch.op_cons (rfl) ?_
  refine Xch.op_cons (rfl) ?_
  refine Xch.op_cons (rfl) ?_
  rfl

def list50 (m : (ℓ : Loc nD τ sig) → Buf (Elt F) ℓ) (d : Dev nD) : List (TpuEff nD τ sig (Elt F) Λ₀ .tc PUnit) :=
  [(E m).recvE d (5, 7), (E m).recvE d (5, 8), (E m).recvE d (5, 9)]
theorem part50 (m : (ℓ : Loc nD τ sig) → Buf (Elt F) ℓ) (d : Dev nD) (x0 x1 x2 : BitVec 32) :
    ∃ v, at_ (k0_part50 (F := F)) d x0 x1 x2 = Xch.runL (list50 m d) (.ret v) := by
  apply Exists.intro
  refine Xch.op_cons (rfl) ?_
  refine Xch.op_cons (rfl) ?_
  refine Xch.op_cons (rfl) ?_
  rfl

def list51 (m : (ℓ : Loc nD τ sig) → Buf (Elt F) ℓ) (d : Dev nD) : List (TpuEff nD τ sig (Elt F) Λ₀ .tc PUnit) :=
  [(E m).recvE d (6, 0), (E m).recvE d (6, 1)]
theorem part51 (m : (ℓ : Loc nD τ sig) → Buf (Elt F) ℓ) (d : Dev nD) (x0 x1 x2 : BitVec 32) :
    ∃ v, at_ (k0_part51 (F := F)) d x0 x1 x2 = Xch.runL (list51 m d) (.ret v) := by
  apply Exists.intro
  refine Xch.op_cons (rfl) ?_
  refine Xch.op_cons (rfl) ?_
  rfl

def list52 (m : (ℓ : Loc nD τ sig) → Buf (Elt F) ℓ) (d : Dev nD) : List (TpuEff nD τ sig (Elt F) Λ₀ .tc PUnit) :=
  [(E m).recvE d (6, 2), (E m).recvE d (6, 3), (E m).recvE d (6, 4)]
theorem part52 (m : (ℓ : Loc nD τ sig) → Buf (Elt F) ℓ) (d : Dev nD) (x0 x1 x2 x3 x4 : BitVec 32) :
    ∃ v, at_ (k0_part52 (F := F)) d x0 x1 x2 x3 x4 = Xch.runL (list52 m d) (.ret v) := by
  apply Exists.intro
  refine Xch.op_cons (rfl) ?_
  refine Xch.op_cons (rfl) ?_
  refine Xch.op_cons (rfl) ?_
  rfl

def list53 (m : (ℓ : Loc nD τ sig) → Buf (Elt F) ℓ) (d : Dev nD) : List (TpuEff nD τ sig (Elt F) Λ₀ .tc PUnit) :=
  [(E m).recvE d (6, 5), (E m).recvE d (6, 6), (E m).recvE d (6, 7)]
theorem part53 (m : (ℓ : Loc nD τ sig) → Buf (Elt F) ℓ) (d : Dev nD) (x0 x1 x2 : BitVec 32) :
    ∃ v, at_ (k0_part53 (F := F)) d x0 x1 x2 = Xch.runL (list53 m d) (.ret v) := by
  apply Exists.intro
  refine Xch.op_cons (rfl) ?_
  refine Xch.op_cons (rfl) ?_
  refine Xch.op_cons (rfl) ?_
  rfl

def list54 (m : (ℓ : Loc nD τ sig) → Buf (Elt F) ℓ) (d : Dev nD) : List (TpuEff nD τ sig (Elt F) Λ₀ .tc PUnit) :=
  [(E m).recvE d (6, 8), (E m).recvE d (6, 9), (E m).sentE d (0, 0), (E m).sentE d (0, 1), (E m).sentE d (0, 2)]
theorem part54 (m : (ℓ : Loc nD τ sig) → Buf (Elt F) ℓ) (d : Dev nD) (x0 x1 x2 : BitVec 32) :
    ∃ v, at_ (k0_part54 (F := F)) d x0 x1 x2 = Xch.runL (list54 m d) (.ret v) := by
  apply Exists.intro
  refine Xch.op_cons (rfl) ?_
  refine Xch.op_cons (rfl) ?_
  refine Xch.op_cons (rfl) ?_
  refine Xch.op_cons (rfl) ?_
  refine Xch.op_cons (rfl) ?_
  rfl

def list55 (m : (ℓ : Loc nD τ sig) → Buf (Elt F) ℓ) (d : Dev nD) : List (TpuEff nD τ sig (Elt F) Λ₀ .tc PUnit) :=
  [(E m).sentE d (0, 3), (E m).sentE d (0, 4), (E m).sentE d (0, 5), (E m).sentE d (0, 6), (E m).sentE d (0, 7), (E m).sentE d (0, 8)]
theorem part55 (m : (ℓ : Loc nD τ sig) → Buf (Elt F) ℓ) (d : Dev nD) :
    ∃ v, at_ (k0_part55 (F := F)) d = Xch.runL (list55 m d) (.ret v) := by
  apply Exists.intro
  refine Xch.op_cons (rfl) ?_
  refine Xch.op_cons (rfl) ?_
  refine Xch.op_cons (rfl) ?_
  refine Xch.op_cons (rfl) ?_
  refine Xch.op_cons (rfl) ?_
  refine Xch.op_cons (rfl) ?_
  rfl

def list56 (m : (ℓ : Loc nD τ sig) → Buf (Elt F) ℓ) (d : Dev nD) : List (TpuEff nD τ sig (Elt F) Λ₀ .tc PUnit) :=
  [(E m).sentE d (0, 9), (E m).sentE d (1, 0), (E m).sentE d (1, 1), (E m).sentE d (1, 2), (E m).sentE d (1, 3), (E m).sentE d (1, 4)]
theorem part56 (m : (ℓ : Loc nD τ sig) → Buf (Elt F) ℓ) (d : Dev nD) :
    ∃ v, at_ (k0_part56 (F := F)) d = Xch.runL (list56 m d) (.ret v) := by
  apply Exists.intro
  refine Xch.op_cons (rfl) ?_
  refine Xch.op_cons (rfl) ?_
  refine Xch.op_cons (rfl) ?_
  refine Xch.op_cons (rfl) ?_
  refine Xch.op_cons (rfl) ?_
  refine Xch.op_cons (rfl) ?_
  rfl

def list57 (m : (ℓ : Loc nD τ sig) → Buf (Elt F) ℓ) (d : Dev nD) : List (TpuEff nD τ sig (Elt F) Λ₀ .tc PUnit) :=
  [(E m).sentE d (1, 5), (E m).sentE d (1, 6), (E m).sentE d (1, 7), (E m).sentE d (1, 8), (E m).sentE d (1, 9), (E m).sentE d (2, 0)]
theorem part57 (m : (ℓ : Loc nD τ sig) → Buf (Elt F) ℓ) (d : Dev nD) :
    ∃ v, at_ (k0_part57 (F := F)) d = Xch.runL (list57 m d) (.ret v) := by
  apply Exists.intro
  refine Xch.op_cons (rfl) ?_
  refine Xch.op_cons (rfl) ?_
  refine Xch.op_cons (rfl) ?_
  refine Xch.op_cons (rfl) ?_
  refine Xch.op_cons (rfl) ?_
  refine Xch.op_cons (rfl) ?_
  rfl

def list58 (m : (ℓ : Loc nD τ sig) → Buf (Elt F) ℓ) (d : Dev nD) : List (TpuEff nD τ sig (Elt F) Λ₀ .tc PUnit) :=
  [(E m).sentE d (2, 1), (E m).sentE d (2, 2), (E m).sentE d (2, 3), (E m).sentE d (2, 4), (E m).sentE d (2, 5), (E m).sentE d (2, 6)]
theorem part58 (m : (ℓ : Loc nD τ sig) → Buf (Elt F) ℓ) (d : Dev nD) :
    ∃ v, at_ (k0_part58 (F := F)) d = Xch.runL (list58 m d) (.ret v) := by
  apply Exists.intro
  refine Xch.op_cons (rfl) ?_
  refine Xch.op_cons (rfl) ?_
  refine Xch.op_cons (rfl) ?_
  refine Xch.op_cons (rfl) ?_
  refine Xch.op_cons (rfl) ?_
  refine Xch.op_cons (rfl) ?_
  rfl

def list59 (m : (ℓ : Loc nD τ sig) → Buf (Elt F) ℓ) (d : Dev nD) : List (TpuEff nD τ sig (Elt F) Λ₀ .tc PUnit) :=
  [(E m).sentE d (2, 7), (E m).sentE d (2, 8), (E m).sentE d (2, 9), (E m).sentE d (3, 0), (E m).sentE d (3, 1), (E m).sentE d (3, 2)]
theorem part59 (m : (ℓ : Loc nD τ sig) → Buf (Elt F) ℓ) (d : Dev nD) :
    ∃ v, at_ (k0_part59 (F := F)) d = Xch.runL (list59 m d) (.ret v) := by
  apply Exists.intro
  refine Xch.op_cons (rfl) ?_
  refine Xch.op_cons (rfl) ?_
  refine Xch.op_cons (rfl) ?_
  refine Xch.op_cons (rfl) ?_
  refine Xch.op_cons (rfl) ?_
  refine Xch.op_cons (rfl) ?_
  rfl

def list60 (m : (ℓ : Loc nD τ sig) → Buf (Elt F) ℓ) (d : Dev nD) : List (TpuEff nD τ sig (Elt F) Λ₀ .tc PUnit) :=
  [(E m).sentE d (3, 3), (E m).sentE d (3, 4), (E m).sentE d (3, 5), (E m).sentE d (3, 6), (E m).sentE d (3, 7), (E m).sentE d (3, 8)]
theorem part60 (m : (ℓ : Loc nD τ sig) → Buf (Elt F) ℓ) (d : Dev nD) :
    ∃ v, at_ (k0_part60 (F := F)) d = Xch.runL (list60 m d) (.ret v) := by
  apply Exists.intro
  refine Xch.op_cons (rfl) ?_
  refine Xch.op_cons (rfl) ?_
  refine Xch.op_cons (rfl) ?_
  refine Xch.op_cons (rfl) ?_
  refine Xch.op_cons (rfl) ?_
  refine Xch.op_cons (rfl) ?_
  rfl

def list61 (m : (ℓ : Loc nD τ sig) → Buf (Elt F) ℓ) (d : Dev nD) : List (TpuEff nD τ sig (Elt F) Λ₀ .tc PUnit) :=
  [(E m).sentE d (3, 9), (E m).sentE d (4, 0), (E m).sentE d (4, 1), (E m).sentE d (4, 2), (E m).sentE d (4, 3), (E m).sentE d (4, 4)]
theorem part61 (m : (ℓ : Loc nD τ sig) → Buf (Elt F) ℓ) (d : Dev nD) :
    ∃ v, at_ (k0_part61 (F := F)) d = Xch.runL (list61 m d) (.ret v) := by
  apply Exists.intro
  refine Xch.op_cons (rfl) ?_
  refine Xch.op_cons (rfl) ?_
  refine Xch.op_cons (rfl) ?_
  refine Xch.op_cons (rfl) ?_
  refine Xch.op_cons (rfl) ?_
  refine Xch.op_cons (rfl) ?_
  rfl

def list62 (m : (ℓ : Loc nD τ sig) → Buf (Elt F) ℓ) (d : Dev nD) : List (TpuEff nD τ sig (Elt F) Λ₀ .tc PUnit) :=
  [(E m).sentE d (4, 5), (E m).sentE d (4, 6), (E m).sentE d (4, 7), (E m).sentE d (4, 8), (E m).sentE d (4, 9), (E m).sentE d (5, 0)]
theorem part62 (m : (ℓ : Loc nD τ sig) → Buf (Elt F) ℓ) (d : Dev nD) :
    ∃ v, at_ (k0_part62 (F := F)) d = Xch.runL (list62 m d) (.ret v) := by
  apply Exists.intro
  refine Xch.op_cons (rfl) ?_
  refine Xch.op_cons (rfl) ?_
  refine Xch.op_cons (rfl) ?_
  refine Xch.op_cons (rfl) ?_
  refine Xch.op_cons (rfl) ?_
  refine Xch.op_cons (rfl) ?_
  rfl

def list63 (m : (ℓ : Loc nD τ sig) → Buf (Elt F) ℓ) (d : Dev nD) : List (TpuEff nD τ sig (Elt F) Λ₀ .tc PUnit) :=
  [(E m).sentE d (5, 1), (E m).sentE d (5, 2), (E m).sentE d (5, 3), (E m).sentE d (5, 4), (E m).sentE d (5, 5), (E m).sentE d (5, 6)]
theorem part63 (m : (ℓ : Loc nD τ sig) → Buf (Elt F) ℓ) (d : Dev nD) :
    ∃ v, at_ (k0_part63 (F := F)) d = Xch.runL (list63 m d) (.ret v) := by
  apply Exists.intro
  refine Xch.op_cons (rfl) ?_
  refine Xch.op_cons (rfl) ?_
  refine Xch.op_cons (rfl) ?_
  refine Xch.op_cons (rfl) ?_
  refine Xch.op_cons (rfl) ?_
  refine Xch.op_cons (rfl) ?_
  rfl

def list64 (m : (ℓ : Loc nD τ sig) → Buf (Elt F) ℓ) (d : Dev nD) : List (TpuEff nD τ sig (Elt F) Λ₀ .tc PUnit) :=
  [(E m).sentE d (5, 7), (E m).sentE d (5, 8), (E m).sentE d (5, 9), (E m).sentE d (6, 0), (E m).sentE d (6, 1), (E m).sentE d (6, 2)]
theorem part64 (m : (ℓ : Loc nD τ sig) → Buf (Elt F) ℓ) (d : Dev nD) :
    ∃ v, at_ (k0_part64 (F := F)) d = Xch.runL (list64 m d) (.ret v) := by
  apply Exists.intro
  refine Xch.op_cons (rfl) ?_
  refine Xch.op_cons (rfl) ?_
  refine Xch.op_cons (rfl) ?_
  refine Xch.op_cons (rfl) ?_
  refine Xch.op_cons (rfl) ?_
  refine Xch.op_cons (rfl) ?_
  rfl

def list65 (m : (ℓ : Loc nD τ sig) → Buf (Elt F) ℓ) (d : Dev nD) : List (TpuEff nD τ sig (Elt F) Λ₀ .tc PUnit) :=
  [(E m).sentE d (6, 3), (E m).sentE d (6, 4), (E m).sentE d (6, 5), (E m).sentE d (6, 6), (E m).sentE d (6, 7), (E m).sentE d (6, 8)]
theorem part65 (m : (ℓ : Loc nD τ sig) → Buf (Elt F) ℓ) (d : Dev nD) :
    ∃ v, at_ (k0_part65 (F := F)) d = Xch.runL (list65 m d) (.ret v) := by
  apply Exists.intro
  refine Xch.op_cons (rfl) ?_
  refine Xch.op_cons (rfl) ?_
  refine Xch.op_cons (rfl) ?_
  refine Xch.op_cons (rfl) ?_
  refine Xch.op_cons (rfl) ?_
  refine Xch.op_cons (rfl) ?_
  rfl

def list66 (m : (ℓ : Loc nD τ sig) → Buf (Elt F) ℓ) (d : Dev nD) : List (TpuEff nD τ sig (Elt F) Λ₀ .tc PUnit) :=
  [(E m).sentE d (6, 9), (E m).copiedE d 0, (E m).copiedE d 1, (E m).copiedE d 2, (E m).copiedE d 3, (E m).copiedE d 4, (E m).copiedE d 5, (E m).copiedE d 6]
theorem part66 (m : (ℓ : Loc nD τ sig) → Buf (Elt F) ℓ) (d : Dev nD) :
    ∃ v, at_ (k0_part66 (F := F)) d = Xch.runL (list66 m d) (.ret v) := by
  apply Exists.intro
  refine Xch.op_cons (rfl) ?_
  refine Xch.op_cons (rfl) ?_
  refine Xch.op_cons (rfl) ?_
  refine Xch.op_cons (rfl) ?_
  refine Xch.op_cons (rfl) ?_
  refine Xch.op_cons (rfl) ?_
  refine Xch.op_cons (rfl) ?_
  refine Xch.op_cons (rfl) ?_
  rfl

/-- The items, and the transfers, in the order of the program. -/
abbrev items : List (Fin 10) := [0, 1, 2, 3, 4, 5, 6, 7, 8, 9]
abbrev transfers : List (Fin 7 × Fin 10) :=
  [(0, 0), (0, 1), (0, 2), (0, 3), (0, 4), (0, 5), (0, 6), (0, 7), (0, 8), (0, 9), (1, 0), (1, 1), (1, 2), (1, 3), (1, 4), (1, 5), (1, 6), (1, 7), (1, 8), (1, 9), (2, 0), (2, 1), (2, 2), (2, 3), (2, 4), (2, 5), (2, 6), (2, 7), (2, 8), (2, 9), (3, 0), (3, 1), (3, 2), (3, 3), (3, 4), (3, 5), (3, 6), (3, 7), (3, 8), (3, 9), (4, 0), (4, 1), (4, 2), (4, 3), (4, 4), (4, 5), (4, 6), (4, 7), (4, 8), (4, 9), (5, 0), (5, 1), (5, 2), (5, 3), (5, 4), (5, 5), (5, 6), (5, 7), (5, 8), (5, 9), (6, 0), (6, 1), (6, 2), (6, 3), (6, 4), (6, 5), (6, 6), (6, 7), (6, 8), (6, 9)]

/-- The kernel is the exchange's operations in their order. -/
theorem body_eq (m : (ℓ : Loc nD τ sig) → Buf (Elt F) ℓ) : at_ (cc0_comm_gather (F := F))
    = .op .deviceId fun d => Xch.runL ((E m).ops d items transfers) (.ret PUnit.unit) := by
  unfold at_ cc0_comm_gather k0_part67
  refine (Xch.bind_bind_dev (l := list1 m) (z := fun d => Xch.runL (list2 m d) (Xch.runL (list3 m d) (Xch.runL (list4 m d) (Xch.runL (list5 m d) (Xch.runL (list6 m d) (Xch.runL (list7 m d) (Xch.runL (list8 m d) (Xch.runL (list9 m d) (Xch.runL (list10 m d) (Xch.runL (list11 m d) (Xch.runL (list12 m d) (Xch.runL (list13 m d) (Xch.runL (list14 m d) (Xch.runL (list15 m d) (Xch.runL (list16 m d) (Xch.runL (list17 m d) (Xch.runL (list18 m d) (Xch.runL (list19 m d) (Xch.runL (list20 m d) (Xch.runL (list21 m d) (Xch.runL (list22 m d) (Xch.runL (list23 m d) (Xch.runL (list24 m d) (Xch.runL (list25 m d) (Xch.runL (list26 m d) (Xch.runL (list27 m d) (Xch.runL (list28 m d) (Xch.runL (list29 m d) (Xch.runL (list30 m d) (Xch.runL (list31 m d) (Xch.runL (list32 m d) (Xch.runL (list33 m d) (Xch.runL (list34 m d) (Xch.runL (list35 m d) (Xch.runL (list36 m d) (Xch.runL (list37 m d) (Xch.runL (list38 m d) (Xch.runL (list39 m d) (Xch.runL (list40 m d) (Xch.runL (list41 m d) (Xch.runL (list42 m d) (Xch.runL (list43 m d) (Xch.runL (list44 m d) (Xch.runL (list45 m d) (Xch.runL (list46 m d) (Xch.runL (list47 m d) (Xch.runL (list48 m d) (Xch.runL (list49 m d) (Xch.runL (list50 m d) (Xch.runL (list51 m d) (Xch.runL (list52 m d) (Xch.runL (list53 m d) (Xch.runL (list54 m d) (Xch.runL (list55 m d) (Xch.runL (list56 m d) (Xch.runL (list57 m d) (Xch.runL (list58 m d) (Xch.runL (list59 m d) (Xch.runL (list60 m d) (Xch.runL (list61 m d) (Xch.runL (list62 m d) (Xch.runL (list63 m d) (Xch.runL (list64 m d) (Xch.runL (list65 m d) (Xch.runL (list66 m d) (Xch.runL [(E m).copiedE d 7, (E m).copiedE d 8, (E m).copiedE d 9] (.ret PUnit.unit))))))))))))))))))))))))))))))))))))))))))))))))))))))))))))))))))) (part1 m) fun d => ?_).trans ?_
  · show _ = Xch.runL (list2 m d) (Xch.runL (list3 m d) (Xch.runL (list4 m d) (Xch.runL (list5 m d) (Xch.runL (list6 m d) (Xch.runL (list7 m d) (Xch.runL (list8 m d) (Xch.runL (list9 m d) (Xch.runL (list10 m d) (Xch.runL (list11 m d) (Xch.runL (list12 m d) (Xch.runL (list13 m d) (Xch.runL (list14 m d) (Xch.runL (list15 m d) (Xch.runL (list16 m d) (Xch.runL (list17 m d) (Xch.runL (list18 m d) (Xch.runL (list19 m d) (Xch.runL (list20 m d) (Xch.runL (list21 m d) (Xch.runL (list22 m d) (Xch.runL (list23 m d) (Xch.runL (list24 m d) (Xch.runL (list25 m d) (Xch.runL (list26 m d) (Xch.runL (list27 m d) (Xch.runL (list28 m d) (Xch.runL (list29 m d) (Xch.runL (list30 m d) (Xch.runL (list31 m d) (Xch.runL (list32 m d) (Xch.runL (list33 m d) (Xch.runL (list34 m d) (Xch.runL (list35 m d) (Xch.runL (list36 m d) (Xch.runL (list37 m d) (Xch.runL (list38 m d) (Xch.runL (list39 m d) (Xch.runL (list40 m d) (Xch.runL (list41 m d) (Xch.runL (list42 m d) (Xch.runL (list43 m d) (Xch.runL (list44 m d) (Xch.runL (list45 m d) (Xch.runL (list46 m d) (Xch.runL (list47 m d) (Xch.runL (list48 m d) (Xch.runL (list49 m d) (Xch.runL (list50 m d) (Xch.runL (list51 m d) (Xch.runL (list52 m d) (Xch.runL (list53 m d) (Xch.runL (list54 m d) (Xch.runL (list55 m d) (Xch.runL (list56 m d) (Xch.runL (list57 m d) (Xch.runL (list58 m d) (Xch.runL (list59 m d) (Xch.runL (list60 m d) (Xch.runL (list61 m d) (Xch.runL (list62 m d) (Xch.runL (list63 m d) (Xch.runL (list64 m d) (Xch.runL (list65 m d) (Xch.runL (list66 m d) (Xch.runL [(E m).copiedE d 7, (E m).copiedE d 8, (E m).copiedE d 9] (.ret PUnit.unit))))))))))))))))))))))))))))))))))))))))))))))))))))))))))))))))))
    refine Xch.bind_bind_runL (part2 m d) ?_
    rintro ⟨y0, y1, y2⟩
    refine Xch.bind_bind_runL (part3 m d _ _ _) ?_
    intro _
    refine Xch.bind_bind_runL (part4 m d _ _ _) ?_
    intro _
    refine Xch.bind_bind_runL (part5 m d _ _ _) ?_
    intro _
    refine Xch.bind_bind_runL (part6 m d _ _ _) ?_
    rintro ⟨y0, y1, y2⟩
    refine Xch.bind_bind_runL (part7 m d _ _ _) ?_
    rintro ⟨y0, y1⟩
    refine Xch.bind_bind_runL (part8 m d _ _ _ _ _) ?_
    rintro ⟨y0, y1⟩
    refine Xch.bind_bind_runL (part9 m d _ _ _ _ _) ?_
    rintro ⟨y0, y1⟩
    refine Xch.bind_bind_runL (part10 m d _ _ _ _) ?_
    rintro ⟨y0, y1, y2, y3⟩
    refine Xch.bind_bind_runL (part11 m d _ _ _ _) ?_
    intro _
    refine Xch.bind_bind_runL (part12 m d _ _ _) ?_
    intro _
    refine Xch.bind_bind_runL (part13 m d _ _ _) ?_
    intro _
    refine Xch.bind_bind_runL (part14 m d) ?_
    rintro ⟨y0, y1, y2⟩
    refine Xch.bind_bind_runL (part15 m d _ _ _) ?_
    intro _
    refine Xch.bind_bind_runL (part16 m d _ _ _) ?_
    rintro ⟨y0, y1⟩
    refine Xch.bind_bind_runL (part17 m d _ _ _ _ _) ?_
    rintro ⟨y0, y1, y2, y3⟩
    refine Xch.bind_bind_runL (part18 m d _ _ _ _) ?_
    rintro ⟨y0, y1, y2, y3, y4⟩
    refine Xch.bind_bind_runL (part19 m d _ _ _ _ _) ?_
    intro _
    refine Xch.bind_bind_runL (part20 m d _ _ _ _) ?_
    intro _
    refine Xch.bind_bind_runL (part21 m d _ _ _) ?_
    rintro ⟨y0, y1, y2⟩
    refine Xch.bind_bind_runL (part22 m d _ _ _) ?_
    intro _
    refine Xch.bind_bind_runL (part23 m d _ _ _) ?_
    intro _
    refine Xch.bind_bind_runL (part24 m d _ _ _) ?_
    intro _
    refine Xch.bind_bind_runL (part25 m d _ _ _) ?_
    rintro ⟨y0, y1, y2, y3⟩
    refine Xch.bind_bind_runL (part26 m d _ _ _ _) ?_
    intro _
    refine Xch.bind_bind_runL (part27 m d _ _ _ _) ?_
    intro _
    refine Xch.bind_bind_runL (part28 m d _ _ _ _) ?_
    intro _
    refine Xch.bind_bind_runL (part29 m d _ _ _) ?_
    rintro ⟨y0, y1, y2⟩
    refine Xch.bind_bind_runL (part30 m d _ _ _) ?_
    intro _
    refine Xch.bind_bind_runL (part31 m d _ _ _) ?_
    intro _
    refine Xch.bind_bind_runL (part32 m d _ _ _ _) ?_
    rintro ⟨y0, y1⟩
    refine Xch.bind_bind_runL (part33 m d _ _) ?_
    rintro ⟨y0, y1, y2, y3⟩
    refine Xch.bind_bind_runL (part34 m d _ _ _ _ _) ?_
    rintro ⟨y0, y1⟩
    refine Xch.bind_bind_runL (part35 m d _ _ _ _ _) ?_
    rintro ⟨y0, y1⟩
    refine Xch.bind_bind_runL (part36 m d _ _ _ _ _) ?_
    rintro ⟨y0, y1, y2, y3, y4⟩
    refine Xch.bind_bind_runL (part37 m d _ _ _ _ _) ?_
    rintro ⟨y0, y1⟩
    refine Xch.bind_bind_runL (part38 m d _ _ _ _ _) ?_
    intro _
    refine Xch.bind_bind_runL (part39 m d _ _ _) ?_
    intro _
    refine Xch.bind_bind_runL (part40 m d) ?_
    rintro ⟨y0, y1, y2⟩
    refine Xch.bind_bind_runL (part41 m d _ _ _) ?_
    intro _
    refine Xch.bind_bind_runL (part42 m d _ _ _) ?_
    intro _
    refine Xch.bind_bind_runL (part43 m d _ _ _ _) ?_
    rintro ⟨y0, y1, y2⟩
    refine Xch.bind_bind_runL (part44 m d _ _ _) ?_
    intro _
    refine Xch.bind_bind_runL (part45 m d _ _ _ _) ?_
    intro _
    refine Xch.bind_bind_runL (part46 m d _ _ _ _) ?_
    intro _
    refine Xch.bind_bind_runL (part47 m d _ _) ?_
    rintro ⟨y0, y1, y2, y3⟩
    refine Xch.bind_bind_runL (part48 m d _ _ _ _) ?_
    intro _
    refine Xch.bind_bind_runL (part49 m d _ _ _ _) ?_
    intro _
    refine Xch.bind_bind_runL (part50 m d _ _ _) ?_
    rintro ⟨y0, y1, y2⟩
    refine Xch.bind_bind_runL (part51 m d _ _ _) ?_
    rintro ⟨y0, y1, y2, y3, y4⟩
    refine Xch.bind_bind_runL (part52 m d _ _ _ _ _) ?_
    intro _
    refine Xch.bind_bind_runL (part53 m d _ _ _) ?_
    intro _
    refine Xch.bind_bind_runL (part54 m d _ _ _) ?_
    intro _
    refine Xch.bind_bind_runL (part55 m d) ?_
    intro _
    refine Xch.bind_bind_runL (part56 m d) ?_
    intro _
    refine Xch.bind_bind_runL (part57 m d) ?_
    intro _
    refine Xch.bind_bind_runL (part58 m d) ?_
    intro _
    refine Xch.bind_bind_runL (part59 m d) ?_
    intro _
    refine Xch.bind_bind_runL (part60 m d) ?_
    intro _
    refine Xch.ret_bind ?_
    refine Xch.bind_runL (part61 m d) ?_
    intro _
    refine Xch.bind_runL (part62 m d) ?_
    intro _
    refine Xch.bind_runL (part63 m d) ?_
    intro _
    refine Xch.bind_runL (part64 m d) ?_
    intro _
    refine Xch.bind_runL (part65 m d) ?_
    intro _
    refine Xch.bind_runL (part66 m d) ?_
    intro _
    refine Xch.op_cons (rfl) ?_
    refine Xch.op_cons (rfl) ?_
    refine Xch.op_cons (rfl) ?_
    rfl
  · exact congrArg (Prog.op TpuEff.deviceId) (funext fun d => rfl)

end Cert.GatherIdeal
-- ==== Proof.GatherRun.lean ====
/-
# The gather of the weights runs

Its run from any memory: what every device's arrays hold at the end, at any float values.
-/
module

public import proofs.«01_k».proof.Proof.Launch
public import proofs.«01_k».proof.Proof.GatherBody
public import proofs.«01_k».proof.Proof.Gen.GatherIdeal.Launch

@[expose] public section

noncomputable section

namespace Cert.GatherIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Exchange

variable {F : FTy → Type} [FloatOps F] (m : (ℓ : Loc nD τ sig) → Buf (Elt F) ℓ)

/-- The buffers of the arrays. -/
abbrev arg (i : Fin 10) : Ref sig .tc := (ins i).view.ref
abbrev res (i : Fin 10) : Ref sig .tc := (outs i).view.ref

theorem sems_inj : Function.Injective (E m).dsem := by
  have h : Function.Injective fun k : K 10 => (Sum.elim semS (Sum.elim semR semL) k : DmaSem sig) := by decide +kernel
  intro k k' e
  refine h ?_
  rcases k with k | k | k <;> rcases k' with k' | k' | k' <;> exact e

theorem all_scoped : ∀ s : SemLoc sig, s.isScoped .tc = true := by decide +kernel

theorem sems_scoped (k : K 10) : ((E m).osem k).isScoped .tc = true := all_scoped _

theorem bufs (c : Dev nD) (V : (b : Ref sig .tc) → Buf (Elt F) ((c.tc : Thread nD τ).loc b)) :
    (unscopedBufs c V : sProp (MT nD τ sig Unit (Elt F) ℕ (Xch.UU nD τ sig) ℕ))
      = iprop((bigSep Finset.univ fun i => ((c.tc : Thread nD τ).loc (arg i)) ↦{fullShare} V (arg i))
        ∗ bigSep Finset.univ fun i => ((c.tc : Thread nD τ).loc (res i)) ↦{fullShare} V (res i)) :=
  bufs_split arg res (by decide +kernel) (by decide +kernel) (by decide +kernel) (by decide +kernel) c V

theorem sources (c : Dev nD) (i : Fin 10) :
    (((c.tc : Thread nD τ).loc (arg i)) ↦{fullShare} m ((c.tc : Thread nD τ).loc (arg i)) : sProp (MT nD τ sig Unit (Elt F) ℕ (Xch.UU nD τ sig) ℕ))
      = iprop((E m).srcPts (E m).qL i c c ∗ bigSep Finset.univ fun j => (E m).srcPts ((E m).qS j) i ((E m).peer j c) c) := by
  have h : ∀ q p, (E m).srcPts q i p c = (((c.tc : Thread nD τ).loc (arg i)) ↦{q} m ((c.tc : Thread nD τ).loc (arg i))) := fun q p => by
    show (((c.tc : Thread nD τ).loc (arg i)) ↦[(ins i).view.set]{q} m ((c.tc : Thread nD τ).loc (arg i))) = _
    rw [(ins_whole i).set_eq_univ]
  simp only [h]
  exact deal _

/-- The run. -/
theorem run (g : Dev nD → PrngReg) :
    θ_run (defs (F := F)) (onTc (τ := τ) (main (F := F))) ⟨m, fun _ => 0, g⟩ fun r =>
      (∀ (c : Dev nD) (i : Fin 10), r.2.mem ((c.tc : Thread nD τ).loc (arg i)) = m ((c.tc : Thread nD τ).loc (arg i)))
      ∧ (∀ (c : Dev nD) (i : Fin 10), r.2.mem ((c.tc : Thread nD τ).loc (res i)) = ends.fin m c i)
      ∧ r.2.sem = fun _ => 0 :=
  Xch.launch (E m) (sems_inj m) (sems_scoped m) cfgs (fun _ => inferInstanceAs (IsEmpty (Fin 0))) 0 Gen.N_0 Gen.cellOf_inj
    defs₀ Variants.none items (by decide) (by decide) transfers (by decide) (by decide) PUnit.unit
    (fun _ => body_eq m) main (fun _ => rfl) m g arg res (fun c => Entails.of_eq (bufs c _)) (sources m)
    (ends.rooms m) (ends.fin m) (ends.filled m)
    fun s h1 h2 h3 => ⟨h1, h2, funext fun g' => h3 g' (Or.inr (all_scoped g'.2))⟩

end Cert.GatherIdeal
-- ==== Proof.GatherResults.lean ====
/-
# What the gather of the weights computes

The devices' results as the whole arrays' parts in blocks, and what the run leaves of the arguments and the counters.
-/
module

public import proofs.«01_k».proof.Proof.Stack
public import proofs.«01_k».proof.Proof.GatherRun

@[expose] public section

noncomputable section

namespace Cert.GatherIdeal

open Idealize.ShloMosaic Idealize.ShloMosaic.TcCoe Idealize.SL.Sem
open Exchange

variable {F : FTy → Type} [FloatOps F] (m : (ℓ : Loc nD τ sig) → Buf (Elt F) ℓ) (g : Dev nD → PrngReg)

/-! ## Each result at the end -/

theorem fin0 (c : Dev nD) : ends.fin m c 0 = fun y : (A3 768 2048).Idx =>
    m ((Dev.tc (nD := 8) (τ := τ) (y 0 : Fin 8)).loc main_arg0) (ix2 (y 1) (y 2)) :=
  View.write_whole_univ main_v1_0 _ _

theorem fin1 (c : Dev nD) : ends.fin m c 1 = fun y : (A3 1024 2048).Idx =>
    m ((Dev.tc (nD := 8) (τ := τ) (y 0 : Fin 8)).loc main_arg1) (ix2 (y 1) (y 2)) :=
  View.write_whole_univ main_v1_1 _ _

theorem fin2 (c : Dev nD) : ends.fin m c 2 = fun y : (A3 320 2048).Idx =>
    m ((Dev.tc (nD := 8) (τ := τ) (y 0 : Fin 8)).loc main_arg2) (ix2 (y 1) (y 2)) :=
  View.write_whole_univ main_v1_2 _ _

theorem fin3 (c : Dev nD) : ends.fin m c 3 = fun y : (A3 1024 2048).Idx =>
    m ((Dev.tc (nD := 8) (τ := τ) (y 0 : Fin 8)).loc main_arg3) (ix2 (y 1) (y 2)) :=
  View.write_whole_univ main_v1_3 _ _

theorem fin4 (c : Dev nD) : ends.fin m c 4 = fun y : (A3 256 2048).Idx =>
    m ((Dev.tc (nD := 8) (τ := τ) (y 0 : Fin 8)).loc main_arg4) (ix2 (y 1) (y 2)) :=
  View.write_whole_univ main_v1_4 _ _

theorem fin5 (c : Dev nD) : ends.fin m c 5 = fun y : (A3 1024 2048).Idx =>
    m ((Dev.tc (nD := 8) (τ := τ) (y 0 : Fin 8)).loc main_arg5) (ix2 (y 1) (y 2)) :=
  View.write_whole_univ main_v1_5 _ _

theorem fin6 (c : Dev nD) : ends.fin m c 6 = fun y : (A3 256 2048).Idx =>
    m ((Dev.tc (nD := 8) (τ := τ) (y 0 : Fin 8)).loc main_arg6) (ix2 (y 1) (y 2)) :=
  View.write_whole_univ main_v1_6 _ _

theorem fin7 (c : Dev nD) : ends.fin m c 7 = fun y : (A3 1024 2048).Idx =>
    m ((Dev.tc (nD := 8) (τ := τ) (y 0 : Fin 8)).loc main_arg7) (ix2 (y 1) (y 2)) :=
  View.write_whole_univ main_v1_7 _ _

theorem fin8 (c : Dev nD) : ends.fin m c 8 = fun y : (A3 16 256).Idx =>
    m ((Dev.tc (nD := 8) (τ := τ) (y 0 : Fin 8)).loc main_arg8) (ix2 (y 1) (y 2)) :=
  View.write_whole_univ main_v1_8 _ _

theorem fin9 (c : Dev nD) : ends.fin m c 9 = fun y : (A3 3 256).Idx =>
    m ((Dev.tc (nD := 8) (τ := τ) (y 0 : Fin 8)).loc main_arg9) (ix2 (y 1) (y 2)) :=
  View.write_whole_univ main_v1_9 _ _

/-- The run, when each device's arguments are its parts of whole arrays. -/
theorem results (x0 : (Rows 768 2048).Idx → Elt F .bf16)
    (x1 : (Rows 1024 2048).Idx → Elt F .bf16)
    (x2 : (Rows 320 2048).Idx → Elt F .bf16)
    (x3 : (Rows 1024 2048).Idx → Elt F .bf16)
    (x4 : (Rows 256 2048).Idx → Elt F .bf16)
    (x5 : (Rows 1024 2048).Idx → Elt F .bf16)
    (x6 : (Rows 256 2048).Idx → Elt F .bf16)
    (x7 : (Rows 1024 2048).Idx → Elt F .bf16)
    (x8 : (Cols 16 256).Idx → Elt F .f32)
    (x9 : (Cols 3 256).Idx → Elt F .f32)
    (h : ∀ c : Dev nD, m ((c.tc : Thread nD τ).loc main_arg0) = Layout.block (A2 768 2048) (Rows 768 2048) 0 8 c x0
      ∧ m ((c.tc : Thread nD τ).loc main_arg1) = Layout.block (A2 1024 2048) (Rows 1024 2048) 0 8 c x1
      ∧ m ((c.tc : Thread nD τ).loc main_arg2) = Layout.block (A2 320 2048) (Rows 320 2048) 0 8 c x2
      ∧ m ((c.tc : Thread nD τ).loc main_arg3) = Layout.block (A2 1024 2048) (Rows 1024 2048) 0 8 c x3
      ∧ m ((c.tc : Thread nD τ).loc main_arg4) = Layout.block (A2 256 2048) (Rows 256 2048) 0 8 c x4
      ∧ m ((c.tc : Thread nD τ).loc main_arg5) = Layout.block (A2 1024 2048) (Rows 1024 2048) 0 8 c x5
      ∧ m ((c.tc : Thread nD τ).loc main_arg6) = Layout.block (A2 256 2048) (Rows 256 2048) 0 8 c x6
      ∧ m ((c.tc : Thread nD τ).loc main_arg7) = Layout.block (A2 1024 2048) (Rows 1024 2048) 0 8 c x7
      ∧ m ((c.tc : Thread nD τ).loc main_arg8) = Layout.block (A2 16 256) (Cols 16 256) 1 8 c x8
      ∧ m ((c.tc : Thread nD τ).loc main_arg9) = Layout.block (A2 3 256) (Cols 3 256) 1 8 c x9) :
    θ_run (defs (F := F)) (onTc (τ := τ) (main (F := F))) ⟨m, fun _ => 0, g⟩ fun r =>
      ∀ c : Dev nD, r.2.mem ((c.tc : Thread nD τ).loc main_v1_0) = stackRows (r := 768) (w := 2048) x0
        ∧ r.2.mem ((c.tc : Thread nD τ).loc main_v1_1) = stackRows (r := 1024) (w := 2048) x1
        ∧ r.2.mem ((c.tc : Thread nD τ).loc main_v1_2) = stackRows (r := 320) (w := 2048) x2
        ∧ r.2.mem ((c.tc : Thread nD τ).loc main_v1_3) = stackRows (r := 1024) (w := 2048) x3
        ∧ r.2.mem ((c.tc : Thread nD τ).loc main_v1_4) = stackRows (r := 256) (w := 2048) x4
        ∧ r.2.mem ((c.tc : Thread nD τ).loc main_v1_5) = stackRows (r := 1024) (w := 2048) x5
        ∧ r.2.mem ((c.tc : Thread nD τ).loc main_v1_6) = stackRows (r := 256) (w := 2048) x6
        ∧ r.2.mem ((c.tc : Thread nD τ).loc main_v1_7) = stackRows (r := 1024) (w := 2048) x7
        ∧ r.2.mem ((c.tc : Thread nD τ).loc main_v1_8) = stackCols (r := 16) (w := 256) x8
        ∧ r.2.mem ((c.tc : Thread nD τ).loc main_v1_9) = stackCols (r := 3) (w := 256) x9
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9) :=
  (θ_run (defs (F := F)) _ _).mono (fun r ⟨ha, hr, _⟩ c => ⟨(hr c 0).trans ((fin0 m c).trans (rows_stack x0 (by decide) (fun d : Fin 8 => m ((Dev.tc (nD := 8) (τ := τ) d).loc main_arg0)) (fun d => (h d).1))),
      (hr c 1).trans ((fin1 m c).trans (rows_stack x1 (by decide) (fun d : Fin 8 => m ((Dev.tc (nD := 8) (τ := τ) d).loc main_arg1)) (fun d => (h d).2.1))),
      (hr c 2).trans ((fin2 m c).trans (rows_stack x2 (by decide) (fun d : Fin 8 => m ((Dev.tc (nD := 8) (τ := τ) d).loc main_arg2)) (fun d => (h d).2.2.1))),
      (hr c 3).trans ((fin3 m c).trans (rows_stack x3 (by decide) (fun d : Fin 8 => m ((Dev.tc (nD := 8) (τ := τ) d).loc main_arg3)) (fun d => (h d).2.2.2.1))),
      (hr c 4).trans ((fin4 m c).trans (rows_stack x4 (by decide) (fun d : Fin 8 => m ((Dev.tc (nD := 8) (τ := τ) d).loc main_arg4)) (fun d => (h d).2.2.2.2.1))),
      (hr c 5).trans ((fin5 m c).trans (rows_stack x5 (by decide) (fun d : Fin 8 => m ((Dev.tc (nD := 8) (τ := τ) d).loc main_arg5)) (fun d => (h d).2.2.2.2.2.1))),
      (hr c 6).trans ((fin6 m c).trans (rows_stack x6 (by decide) (fun d : Fin 8 => m ((Dev.tc (nD := 8) (τ := τ) d).loc main_arg6)) (fun d => (h d).2.2.2.2.2.2.1))),
      (hr c 7).trans ((fin7 m c).trans (rows_stack x7 (by decide) (fun d : Fin 8 => m ((Dev.tc (nD := 8) (τ := τ) d).loc main_arg7)) (fun d => (h d).2.2.2.2.2.2.2.1))),
      (hr c 8).trans ((fin8 m c).trans (cols_stack x8 (by decide) (fun d : Fin 8 => m ((Dev.tc (nD := 8) (τ := τ) d).loc main_arg8)) (fun d => (h d).2.2.2.2.2.2.2.2.1))),
      (hr c 9).trans ((fin9 m c).trans (cols_stack x9 (by decide) (fun d : Fin 8 => m ((Dev.tc (nD := 8) (τ := τ) d).loc main_arg9)) (fun d => (h d).2.2.2.2.2.2.2.2.2))),
      ha c 0, ha c 1, ha c 2, ha c 3, ha c 4, ha c 5, ha c 6, ha c 7, ha c 8, ha c 9⟩) (run m g)

/-- The run's arguments and counters. -/
theorem quiet :
    θ_run (defs (F := F)) (onTc (τ := τ) (main (F := F))) ⟨m, fun _ => 0, g⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9))
      ∧ r.2.sem = fun _ => 0 :=
  (θ_run (defs (F := F)) _ _).mono (fun r ⟨ha, _, hs⟩ => ⟨fun c => ⟨ha c 0, ha c 1, ha c 2, ha c 3, ha c 4, ha c 5, ha c 6, ha c 7, ha c 8, ha c 9⟩, hs⟩) (run m g)

end Cert.GatherIdeal
-- ==== Proof.GatherRefRun.lean ====
/-
# The reference of the gather of the weights

Its run on one device, over the whole arrays.
-/
module

public import proofs.«01_k».proof.Proof.Stack
public import proofs.«01_k».proof.Proof.Gen.GatherRefIdeal
public import Idealize.ShloMosaic.Lib.StableHlo.Run
public import Idealize.ShloMosaic.Lib.StableHlo.RunHlo
public import Idealize.ShloMosaic.Lib.Claim

@[expose] public section

noncomputable section

namespace Cert.GatherRefIdeal

open Idealize.ShloMosaic Idealize.ShloMosaic.TcCoe Idealize.ShloMosaic.StableHlo Idealize.SL.Sem
open Exchange

variable {F : FTy → Type} [FloatOps F]

/-- The run. -/
theorem run (m : (ℓ : Loc nD τ sig) → Buf (Elt F) ℓ) (g : Dev nD → PrngReg) :
    θ_run (defs (F := F)) (onTc (τ := τ) (main (F := F))) ⟨m, fun _ => 0, g⟩ fun r =>
      (∀ c : Dev nD,
        r.2.mem ((c.tc : Thread nD τ).loc main_v0) = stackRows (r := 768) (w := 2048) (m ((c.tc : Thread nD τ).loc main_arg0))
        ∧ r.2.mem ((c.tc : Thread nD τ).loc main_v1) = stackRows (r := 1024) (w := 2048) (m ((c.tc : Thread nD τ).loc main_arg1))
        ∧ r.2.mem ((c.tc : Thread nD τ).loc main_v2) = stackRows (r := 320) (w := 2048) (m ((c.tc : Thread nD τ).loc main_arg2))
        ∧ r.2.mem ((c.tc : Thread nD τ).loc main_v3) = stackRows (r := 1024) (w := 2048) (m ((c.tc : Thread nD τ).loc main_arg3))
        ∧ r.2.mem ((c.tc : Thread nD τ).loc main_v4) = stackRows (r := 256) (w := 2048) (m ((c.tc : Thread nD τ).loc main_arg4))
        ∧ r.2.mem ((c.tc : Thread nD τ).loc main_v5) = stackRows (r := 1024) (w := 2048) (m ((c.tc : Thread nD τ).loc main_arg5))
        ∧ r.2.mem ((c.tc : Thread nD τ).loc main_v6) = stackRows (r := 256) (w := 2048) (m ((c.tc : Thread nD τ).loc main_arg6))
        ∧ r.2.mem ((c.tc : Thread nD τ).loc main_v7) = stackRows (r := 1024) (w := 2048) (m ((c.tc : Thread nD τ).loc main_arg7))
        ∧ r.2.mem ((c.tc : Thread nD τ).loc main_v9) = stackCols (r := 16) (w := 256) (m ((c.tc : Thread nD τ).loc main_arg8))
        ∧ r.2.mem ((c.tc : Thread nD τ).loc main_v11) = stackCols (r := 3) (w := 256) (m ((c.tc : Thread nD τ).loc main_arg9))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9))
      ∧ r.2.sem = fun _ => 0 := by
  refine (θ_run (defs (F := F)) _ _).mono (fun r h => ⟨h, sem_eq_zero_of_no_sems (by decide) r.2⟩) (?_ : θ_run (defs (F := F)) _ _ fun r => ∀ c : Dev nD, _)
  hlo_run
  · exact stackRows_eq (r := 768) (w := 2048) _ _
  · exact stackRows_eq (r := 1024) (w := 2048) _ _
  · exact stackRows_eq (r := 320) (w := 2048) _ _
  · exact stackRows_eq (r := 1024) (w := 2048) _ _
  · exact stackRows_eq (r := 256) (w := 2048) _ _
  · exact stackRows_eq (r := 1024) (w := 2048) _ _
  · exact stackRows_eq (r := 256) (w := 2048) _ _
  · exact stackRows_eq (r := 1024) (w := 2048) _ _
  · exact stackCols_eq (r := 16) (w := 256) _ _ _
  · exact stackCols_eq (r := 3) (w := 256) _ _ _

end Cert.GatherRefIdeal
-- ==== Proof.SmallEnds.lean ====
/-
# The gather of the small gradients: what its exchange is made of
-/
module

public import proofs.«01_k».proof.Proof.Body
public import proofs.«01_k».proof.Proof.Shares
public import proofs.«01_k».proof.Proof.Gen.SmallIdeal

@[expose] public section

noncomputable section

namespace Cert.SmallIdeal

open Idealize.ShloMosaic
open Idealize.ShloMosaic.TcCoe
open Idealize.SL Idealize.SL.RA
open Exchange

/-- The rows, the columns and the element type of a part, array by array. -/
abbrev rows : Fin 1 → ℕ := ![32]
abbrev cols : Fin 1 → ℕ := ![2048]
abbrev elts : Fin 1 → EltTy := ![.f32]

/-- The arrays a device sends, and those it receives in. -/
def ins : (i : Fin 1) → Memref sig .tc .hbm (A2 (rows i) (cols i)) (elts i)
  | 0 => Memref.whole main_arg0
def outs : (i : Fin 1) → Memref sig .tc .hbm (A3 (rows i) (cols i)) (elts i)
  | 0 => Memref.whole main_v1

theorem ins_whole (i : Fin 1) : (ins i).IsWhole := by fin_cases i; exact Memref.isWhole_whole _
theorem outs_whole (i : Fin 1) : (outs i).IsWhole := by fin_cases i; exact Memref.isWhole_whole _

theorem words : ∀ (i : Fin 1) (p : Fin 8), (bRect (rows i) (cols i) p).WholeWords (elts i).packing := by decide +kernel

/-- The semaphores: of the sends, of the receives, of the copies. -/
def semS (mi : Fin 7 × Fin 1) : DmaSem sig := (⟨mi.2.val * 7 + mi.1.val, by have := mi.1.isLt; have := mi.2.isLt; show _ < 15; omega⟩ : Fin 15)
def semR (mi : Fin 7 × Fin 1) : DmaSem sig := (⟨7 + (mi.2.val * 7 + mi.1.val), by have := mi.1.isLt; have := mi.2.isLt; show _ < 15; omega⟩ : Fin 15)
def semL (i : Fin 1) : DmaSem sig := (⟨14 + i.val, by have := i.isLt; show _ < 15; omega⟩ : Fin 15)

/-- The exchange: every device sends each array whole to every device. -/
def ends : Ends sig 1 where
  r := rows
  w := cols
  el := elts
  out := outs
  hout := outs_whole
  words := words
  src i _ := ins i
  wsrc i _ := (ins_whole i).wordExact
  sS := semS
  rS := semR
  lS := semL
  N i := (ins i).view.dmaCredit
  N_pos i := View.dmaCredit_pos _ (by fin_cases i <;> decide)
  hNs i p := rfl
  hNd i p := by fin_cases i <;> rfl
  qS := sendShare
  qL := ownShare

end Cert.SmallIdeal
-- ==== Proof.SmallBody.lean ====
/-
# The kernel of this exchange, part by part

Each part of the printed kernel is the list of its transfers and waits; together they are the exchange's list.
-/
module

public import proofs.«01_k».proof.Proof.SmallEnds

@[expose] public section

noncomputable section

namespace Cert.SmallIdeal

open Idealize.ShloMosaic
open Idealize.ShloMosaic.TcCoe
open Idealize.SL.Sem
open Exchange

variable {F : FTy → Type} [FloatOps F]

/-- The exchange, from a memory. -/
abbrev E (m : (ℓ : Loc nD τ sig) → Buf (Elt F) ℓ) : Xch 8 τ sig (Elt F) 1 := ends.xch m

/-! ## Offsets and devices -/

theorem off1 : ∀ d : Dev nD, k0_off1 d = ![d.val, 0, 0] := by decide +kernel
theorem off2 : ∀ d : Dev nD, k0_off2 d = ![(peer 0 d).val, 0, 0] := by decide +kernel
theorem off3 : ∀ d : Dev nD, k0_off3 d = ![(peer 1 d).val, 0, 0] := by decide +kernel
theorem off4 : ∀ d : Dev nD, k0_off4 d = ![(peer 2 d).val, 0, 0] := by decide +kernel
theorem off5 : ∀ d : Dev nD, k0_off5 d = ![(peer 3 d).val, 0, 0] := by decide +kernel
theorem off6 : ∀ d : Dev nD, k0_off6 d = ![(peer 4 d).val, 0, 0] := by decide +kernel
theorem off7 : ∀ d : Dev nD, k0_off7 d = ![(peer 5 d).val, 0, 0] := by decide +kernel
theorem off8 : ∀ d : Dev nD, k0_off8 d = ![(peer 6 d).val, 0, 0] := by decide +kernel
theorem dev1 : ∀ d : Dev nD, (⟨k0_dev1 d, Gen.k0_dev1_lt d⟩ : Dev nD) = peer 0 d := by decide +kernel
theorem dev2 : ∀ d : Dev nD, (⟨k0_dev2 d, Gen.k0_dev2_lt d⟩ : Dev nD) = peer 1 d := by decide +kernel
theorem dev3 : ∀ d : Dev nD, (⟨k0_dev3 d, Gen.k0_dev3_lt d⟩ : Dev nD) = peer 2 d := by decide +kernel
theorem dev4 : ∀ d : Dev nD, (⟨k0_dev4 d, Gen.k0_dev4_lt d⟩ : Dev nD) = peer 3 d := by decide +kernel
theorem dev5 : ∀ d : Dev nD, (⟨k0_dev5 d, Gen.k0_dev5_lt d⟩ : Dev nD) = peer 4 d := by decide +kernel
theorem dev6 : ∀ d : Dev nD, (⟨k0_dev6 d, Gen.k0_dev6_lt d⟩ : Dev nD) = peer 5 d := by decide +kernel
theorem dev7 : ∀ d : Dev nD, (⟨k0_dev7 d, Gen.k0_dev7_lt d⟩ : Dev nD) = peer 6 d := by decide +kernel

/-- A part of the kernel at the program's arrays and semaphores. -/
abbrev at_ {β : Type 1}
    (f : (arg0 : Memref sig .tc .hbm S32x2048 .f32) → (harg0 : arg0.IsWhole) → (arg1 : Memref sig .tc .hbm S8x32x2048 .f32) → (harg1 : arg1.IsWhole) → (arg2 : DmaSems sig S7) → (arg3 : DmaSems sig S7) → (arg4 : DmaSems sig S1) → β) : β :=
  f (Memref.whole main_arg0) (Memref.isWhole_whole _) (Memref.whole main_v1) (Memref.isWhole_whole _) cc0_scratch0 cc0_scratch1 cc0_scratch2

/-! ## The parts -/

def list1 (m : (ℓ : Loc nD τ sig) → Buf (Elt F) ℓ) (d : Dev nD) : List (TpuEff nD τ sig (Elt F) Λ₀ .tc PUnit) :=
  [(E m).locE d 0]
theorem part1 (m : (ℓ : Loc nD τ sig) → Buf (Elt F) ℓ) : at_ (k0_part1 (F := F))
    = .op .deviceId fun d => Xch.runL (list1 m d) (.ret d) := by
  refine congrArg (Prog.op TpuEff.deviceId) (funext fun d => ?_)
  refine Xch.op_cons (Xch.locE_of (X := E m) (i := 0) rfl (blk_of (off1 d)) rfl) ?_
  rfl

def list2 (m : (ℓ : Loc nD τ sig) → Buf (Elt F) ℓ) (d : Dev nD) : List (TpuEff nD τ sig (Elt F) Λ₀ .tc PUnit) :=
  [(E m).sendE d (0, 0), (E m).sendE d (1, 0)]
theorem part2 (m : (ℓ : Loc nD τ sig) → Buf (Elt F) ℓ) (d : Dev nD) :
    ∃ v, at_ (k0_part2 (F := F)) d = Xch.runL (list2 m d) (.ret v) := by
  apply Exists.intro
  refine Xch.op_cons (Xch.sendE_of (X := E m) (mi := (0, 0)) rfl (blk_of (off1 d)) (dev1 d) rfl rfl) ?_
  refine Xch.op_cons (Xch.sendE_of (X := E m) (mi := (1, 0)) rfl (blk_of (off1 d)) (dev2 d) rfl rfl) ?_
  rfl

def list3 (m : (ℓ : Loc nD τ sig) → Buf (Elt F) ℓ) (d : Dev nD) : List (TpuEff nD τ sig (Elt F) Λ₀ .tc PUnit) :=
  [(E m).sendE d (2, 0)]
theorem part3 (m : (ℓ : Loc nD τ sig) → Buf (Elt F) ℓ) (d : Dev nD) (x0 x1 x2 x3 : BitVec 32) :
    ∃ v, at_ (k0_part3 (F := F)) d x0 x1 x2 x3 = Xch.runL (list3 m d) (.ret v) := by
  apply Exists.intro
  refine Xch.op_cons (Xch.sendE_of (X := E m) (mi := (2, 0)) rfl (blk_of (off1 d)) (dev3 d) rfl rfl) ?_
  rfl

def list4 (m : (ℓ : Loc nD τ sig) → Buf (Elt F) ℓ) (d : Dev nD) : List (TpuEff nD τ sig (Elt F) Λ₀ .tc PUnit) :=
  [(E m).sendE d (3, 0), (E m).sendE d (4, 0)]
theorem part4 (m : (ℓ : Loc nD τ sig) → Buf (Elt F) ℓ) (d : Dev nD) :
    ∃ v, at_ (k0_part4 (F := F)) d = Xch.runL (list4 m d) (.ret v) := by
  apply Exists.intro
  refine Xch.op_cons (Xch.sendE_of (X := E m) (mi := (3, 0)) rfl (blk_of (off1 d)) (dev4 d) rfl rfl) ?_
  refine Xch.op_cons (Xch.sendE_of (X := E m) (mi := (4, 0)) rfl (blk_of (off1 d)) (dev5 d) rfl rfl) ?_
  rfl

def list5 (m : (ℓ : Loc nD τ sig) → Buf (Elt F) ℓ) (d : Dev nD) : List (TpuEff nD τ sig (Elt F) Λ₀ .tc PUnit) :=
  [(E m).sendE d (5, 0)]
theorem part5 (m : (ℓ : Loc nD τ sig) → Buf (Elt F) ℓ) (d : Dev nD) (x0 x1 x2 x3 : BitVec 32) :
    ∃ v, at_ (k0_part5 (F := F)) d x0 x1 x2 x3 = Xch.runL (list5 m d) (.ret v) := by
  apply Exists.intro
  refine Xch.op_cons (Xch.sendE_of (X := E m) (mi := (5, 0)) rfl (blk_of (off1 d)) (dev6 d) rfl rfl) ?_
  rfl

def list6 (m : (ℓ : Loc nD τ sig) → Buf (Elt F) ℓ) (d : Dev nD) : List (TpuEff nD τ sig (Elt F) Λ₀ .tc PUnit) :=
  [(E m).sendE d (6, 0), (E m).recvE d (0, 0)]
theorem part6 (m : (ℓ : Loc nD τ sig) → Buf (Elt F) ℓ) (d : Dev nD) :
    ∃ v, at_ (k0_part6 (F := F)) d = Xch.runL (list6 m d) (.ret v) := by
  apply Exists.intro
  refine Xch.op_cons (Xch.sendE_of (X := E m) (mi := (6, 0)) rfl (blk_of (off1 d)) (dev7 d) rfl rfl) ?_
  refine Xch.op_cons (rfl) ?_
  rfl

def list7 (m : (ℓ : Loc nD τ sig) → Buf (Elt F) ℓ) (d : Dev nD) : List (TpuEff nD τ sig (Elt F) Λ₀ .tc PUnit) :=
  [(E m).recvE d (1, 0)]
theorem part7 (m : (ℓ : Loc nD τ sig) → Buf (Elt F) ℓ) (d : Dev nD) (x0 x1 x2 x3 : BitVec 32) :
    ∃ v, at_ (k0_part7 (F := F)) d x0 x1 x2 x3 = Xch.runL (list7 m d) (.ret v) := by
  apply Exists.intro
  refine Xch.op_cons (rfl) ?_
  rfl

def list8 (m : (ℓ : Loc nD τ sig) → Buf (Elt F) ℓ) (d : Dev nD) : List (TpuEff nD τ sig (Elt F) Λ₀ .tc PUnit) :=
  [(E m).recvE d (2, 0), (E m).recvE d (3, 0)]
theorem part8 (m : (ℓ : Loc nD τ sig) → Buf (Elt F) ℓ) (d : Dev nD) (x0 x1 x2 x3 : BitVec 32) :
    ∃ v, at_ (k0_part8 (F := F)) d x0 x1 x2 x3 = Xch.runL (list8 m d) (.ret v) := by
  apply Exists.intro
  refine Xch.op_cons (rfl) ?_
  refine Xch.op_cons (rfl) ?_
  rfl

def list9 (m : (ℓ : Loc nD τ sig) → Buf (Elt F) ℓ) (d : Dev nD) : List (TpuEff nD τ sig (Elt F) Λ₀ .tc PUnit) :=
  [(E m).recvE d (4, 0)]
theorem part9 (m : (ℓ : Loc nD τ sig) → Buf (Elt F) ℓ) (d : Dev nD) (x0 x1 : BitVec 32) :
    ∃ v, at_ (k0_part9 (F := F)) d x0 x1 = Xch.runL (list9 m d) (.ret v) := by
  apply Exists.intro
  refine Xch.op_cons (rfl) ?_
  rfl

def list10 (m : (ℓ : Loc nD τ sig) → Buf (Elt F) ℓ) (d : Dev nD) : List (TpuEff nD τ sig (Elt F) Λ₀ .tc PUnit) :=
  [(E m).recvE d (5, 0)]
theorem part10 (m : (ℓ : Loc nD τ sig) → Buf (Elt F) ℓ) (d : Dev nD) (x0 x1 x2 x3 : BitVec 32) :
    ∃ v, at_ (k0_part10 (F := F)) d x0 x1 x2 x3 = Xch.runL (list10 m d) (.ret v) := by
  apply Exists.intro
  refine Xch.op_cons (rfl) ?_
  rfl

def list11 (m : (ℓ : Loc nD τ sig) → Buf (Elt F) ℓ) (d : Dev nD) : List (TpuEff nD τ sig (Elt F) Λ₀ .tc PUnit) :=
  [(E m).recvE d (6, 0), (E m).sentE d (0, 0), (E m).sentE d (1, 0), (E m).sentE d (2, 0), (E m).sentE d (3, 0), (E m).sentE d (4, 0)]
theorem part11 (m : (ℓ : Loc nD τ sig) → Buf (Elt F) ℓ) (d : Dev nD) (x0 x1 : BitVec 32) :
    ∃ v, at_ (k0_part11 (F := F)) d x0 x1 = Xch.runL (list11 m d) (.ret v) := by
  apply Exists.intro
  refine Xch.op_cons (rfl) ?_
  refine Xch.op_cons (rfl) ?_
  refine Xch.op_cons (rfl) ?_
  refine Xch.op_cons (rfl) ?_
  refine Xch.op_cons (rfl) ?_
  refine Xch.op_cons (rfl) ?_
  rfl

/-- The items, and the transfers, in the order of the program. -/
abbrev items : List (Fin 1) := [0]
abbrev transfers : List (Fin 7 × Fin 1) :=
  [(0, 0), (1, 0), (2, 0), (3, 0), (4, 0), (5, 0), (6, 0)]

/-- The kernel is the exchange's operations in their order. -/
theorem body_eq (m : (ℓ : Loc nD τ sig) → Buf (Elt F) ℓ) : at_ (cc0_comm_small (F := F))
    = .op .deviceId fun d => Xch.runL ((E m).ops d items transfers) (.ret PUnit.unit) := by
  unfold at_ cc0_comm_small
  refine (Xch.bind_dev (l := list1 m) (z := fun d => Xch.runL (list2 m d) (Xch.runL (list3 m d) (Xch.runL (list4 m d) (Xch.runL (list5 m d) (Xch.runL (list6 m d) (Xch.runL (list7 m d) (Xch.runL (list8 m d) (Xch.runL (list9 m d) (Xch.runL (list10 m d) (Xch.runL (list11 m d) (Xch.runL [(E m).sentE d (5, 0), (E m).sentE d (6, 0), (E m).copiedE d 0] (.ret PUnit.unit)))))))))))) (part1 m) fun d => ?_).trans ?_
  · show _ = Xch.runL (list2 m d) (Xch.runL (list3 m d) (Xch.runL (list4 m d) (Xch.runL (list5 m d) (Xch.runL (list6 m d) (Xch.runL (list7 m d) (Xch.runL (list8 m d) (Xch.runL (list9 m d) (Xch.runL (list10 m d) (Xch.runL (list11 m d) (Xch.runL [(E m).sentE d (5, 0), (E m).sentE d (6, 0), (E m).copiedE d 0] (.ret PUnit.unit)))))))))))
    refine Xch.bind_runL (part2 m d) ?_
    rintro ⟨y0, y1, y2, y3⟩
    refine Xch.bind_runL (part3 m d _ _ _ _) ?_
    intro _
    refine Xch.bind_runL (part4 m d) ?_
    rintro ⟨y0, y1, y2, y3⟩
    refine Xch.bind_runL (part5 m d _ _ _ _) ?_
    intro _
    refine Xch.bind_runL (part6 m d) ?_
    rintro ⟨y0, y1, y2, y3⟩
    refine Xch.bind_runL (part7 m d _ _ _ _) ?_
    rintro ⟨y0, y1, y2, y3⟩
    refine Xch.bind_runL (part8 m d _ _ _ _) ?_
    rintro ⟨y0, y1⟩
    refine Xch.bind_runL (part9 m d _ _) ?_
    rintro ⟨y0, y1, y2, y3⟩
    refine Xch.bind_runL (part10 m d _ _ _ _) ?_
    rintro ⟨y0, y1⟩
    refine Xch.bind_runL (part11 m d _ _) ?_
    intro _
    refine Xch.op_cons (rfl) ?_
    refine Xch.op_cons (rfl) ?_
    refine Xch.op_cons (rfl) ?_
    rfl
  · exact congrArg (Prog.op TpuEff.deviceId) (funext fun d => rfl)

end Cert.SmallIdeal
-- ==== Proof.SmallRun.lean ====
/-
# The gather of the small gradients runs

Its run from any memory: what every device's arrays hold at the end, at any float values.
-/
module

public import proofs.«01_k».proof.Proof.Launch
public import proofs.«01_k».proof.Proof.SmallBody
public import proofs.«01_k».proof.Proof.Gen.SmallIdeal.Launch

@[expose] public section

noncomputable section

namespace Cert.SmallIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Exchange

variable {F : FTy → Type} [FloatOps F] (m : (ℓ : Loc nD τ sig) → Buf (Elt F) ℓ)

/-- The buffers of the arrays. -/
abbrev arg (i : Fin 1) : Ref sig .tc := (ins i).view.ref
abbrev res (i : Fin 1) : Ref sig .tc := (outs i).view.ref

theorem sems_inj : Function.Injective (E m).dsem := by
  have h : Function.Injective fun k : K 1 => (Sum.elim semS (Sum.elim semR semL) k : DmaSem sig) := by decide +kernel
  intro k k' e
  refine h ?_
  rcases k with k | k | k <;> rcases k' with k' | k' | k' <;> exact e

theorem all_scoped : ∀ s : SemLoc sig, s.isScoped .tc = true := by decide +kernel

theorem sems_scoped (k : K 1) : ((E m).osem k).isScoped .tc = true := all_scoped _

theorem bufs (c : Dev nD) (V : (b : Ref sig .tc) → Buf (Elt F) ((c.tc : Thread nD τ).loc b)) :
    (unscopedBufs c V : sProp (MT nD τ sig Unit (Elt F) ℕ (Xch.UU nD τ sig) ℕ))
      = iprop((bigSep Finset.univ fun i => ((c.tc : Thread nD τ).loc (arg i)) ↦{fullShare} V (arg i))
        ∗ bigSep Finset.univ fun i => ((c.tc : Thread nD τ).loc (res i)) ↦{fullShare} V (res i)) :=
  bufs_split arg res (by decide +kernel) (by decide +kernel) (by decide +kernel) (by decide +kernel) c V

theorem sources (c : Dev nD) (i : Fin 1) :
    (((c.tc : Thread nD τ).loc (arg i)) ↦{fullShare} m ((c.tc : Thread nD τ).loc (arg i)) : sProp (MT nD τ sig Unit (Elt F) ℕ (Xch.UU nD τ sig) ℕ))
      = iprop((E m).srcPts (E m).qL i c c ∗ bigSep Finset.univ fun j => (E m).srcPts ((E m).qS j) i ((E m).peer j c) c) := by
  have h : ∀ q p, (E m).srcPts q i p c = (((c.tc : Thread nD τ).loc (arg i)) ↦{q} m ((c.tc : Thread nD τ).loc (arg i))) := fun q p => by
    show (((c.tc : Thread nD τ).loc (arg i)) ↦[(ins i).view.set]{q} m ((c.tc : Thread nD τ).loc (arg i))) = _
    rw [(ins_whole i).set_eq_univ]
  simp only [h]
  exact deal _

/-- The run. -/
theorem run (g : Dev nD → PrngReg) :
    θ_run (defs (F := F)) (onTc (τ := τ) (main (F := F))) ⟨m, fun _ => 0, g⟩ fun r =>
      (∀ (c : Dev nD) (i : Fin 1), r.2.mem ((c.tc : Thread nD τ).loc (arg i)) = m ((c.tc : Thread nD τ).loc (arg i)))
      ∧ (∀ (c : Dev nD) (i : Fin 1), r.2.mem ((c.tc : Thread nD τ).loc (res i)) = ends.fin m c i)
      ∧ r.2.sem = fun _ => 0 :=
  Xch.launch (E m) (sems_inj m) (sems_scoped m) cfgs (fun _ => inferInstanceAs (IsEmpty (Fin 0))) 0 Gen.N_0 Gen.cellOf_inj
    defs₀ Variants.none items (by decide) (by decide) transfers (by decide) (by decide) PUnit.unit
    (fun _ => body_eq m) main (fun _ => rfl) m g arg res (fun c => Entails.of_eq (bufs c _)) (sources m)
    (ends.rooms m) (ends.fin m) (ends.filled m)
    fun s h1 h2 h3 => ⟨h1, h2, funext fun g' => h3 g' (Or.inr (all_scoped g'.2))⟩

end Cert.SmallIdeal
-- ==== Proof.SmallResults.lean ====
/-
# What the gather of the small gradients computes

The devices' results as the whole arrays' parts in blocks, and what the run leaves of the arguments and the counters.
-/
module

public import proofs.«01_k».proof.Proof.Stack
public import proofs.«01_k».proof.Proof.SmallRun

@[expose] public section

noncomputable section

namespace Cert.SmallIdeal

open Idealize.ShloMosaic Idealize.ShloMosaic.TcCoe Idealize.SL.Sem
open Exchange

variable {F : FTy → Type} [FloatOps F] (m : (ℓ : Loc nD τ sig) → Buf (Elt F) ℓ) (g : Dev nD → PrngReg)

/-! ## Each result at the end -/

theorem fin0 (c : Dev nD) : ends.fin m c 0 = fun y : (A3 32 2048).Idx =>
    m ((Dev.tc (nD := 8) (τ := τ) (y 0 : Fin 8)).loc main_arg0) (ix2 (y 1) (y 2)) :=
  View.write_whole_univ main_v1 _ _

/-- The run, when each device's arguments are its parts of whole arrays. -/
theorem results (x0 : (Rows 32 2048).Idx → Elt F .f32)
    (h : ∀ c : Dev nD, m ((c.tc : Thread nD τ).loc main_arg0) = Layout.block (A2 32 2048) (Rows 32 2048) 0 8 c x0) :
    θ_run (defs (F := F)) (onTc (τ := τ) (main (F := F))) ⟨m, fun _ => 0, g⟩ fun r =>
      ∀ c : Dev nD, r.2.mem ((c.tc : Thread nD τ).loc main_v1) = stackRows (r := 32) (w := 2048) x0
        ∧ r.2.mem ((c.tc : Thread nD τ).loc main_arg0) = m ((c.tc : Thread nD τ).loc main_arg0) :=
  (θ_run (defs (F := F)) _ _).mono (fun r ⟨ha, hr, _⟩ c => ⟨(hr c 0).trans ((fin0 m c).trans (rows_stack x0 (by decide) (fun d : Fin 8 => m ((Dev.tc (nD := 8) (τ := τ) d).loc main_arg0)) (fun d => (h d)))),
      ha c 0⟩) (run m g)

/-- The run's arguments and counters. -/
theorem quiet :
    θ_run (defs (F := F)) (onTc (τ := τ) (main (F := F))) ⟨m, fun _ => 0, g⟩ fun r =>
      (∀ c : Dev nD, r.2.mem ((c.tc : Thread nD τ).loc main_arg0) = m ((c.tc : Thread nD τ).loc main_arg0))
      ∧ r.2.sem = fun _ => 0 :=
  (θ_run (defs (F := F)) _ _).mono (fun r ⟨ha, _, hs⟩ => ⟨fun c => ha c 0, hs⟩) (run m g)

end Cert.SmallIdeal
-- ==== Proof.SmallRefRun.lean ====
/-
# The reference of the gather of the small gradients

Its run on one device, over the whole arrays.
-/
module

public import proofs.«01_k».proof.Proof.Stack
public import proofs.«01_k».proof.Proof.Gen.SmallRefIdeal
public import Idealize.ShloMosaic.Lib.StableHlo.Run
public import Idealize.ShloMosaic.Lib.StableHlo.RunHlo
public import Idealize.ShloMosaic.Lib.Claim

@[expose] public section

noncomputable section

namespace Cert.SmallRefIdeal

open Idealize.ShloMosaic Idealize.ShloMosaic.TcCoe Idealize.ShloMosaic.StableHlo Idealize.SL.Sem
open Exchange

variable {F : FTy → Type} [FloatOps F]

/-- The run. -/
theorem run (m : (ℓ : Loc nD τ sig) → Buf (Elt F) ℓ) (g : Dev nD → PrngReg) :
    θ_run (defs (F := F)) (onTc (τ := τ) (main (F := F))) ⟨m, fun _ => 0, g⟩ fun r =>
      (∀ c : Dev nD,
        r.2.mem ((c.tc : Thread nD τ).loc main_v0) = stackRows (r := 32) (w := 2048) (m ((c.tc : Thread nD τ).loc main_arg0))
        ∧ r.2.mem ((c.tc : Thread nD τ).loc main_arg0) = m ((c.tc : Thread nD τ).loc main_arg0))
      ∧ r.2.sem = fun _ => 0 := by
  refine (θ_run (defs (F := F)) _ _).mono (fun r h => ⟨h, sem_eq_zero_of_no_sems (by decide) r.2⟩) (?_ : θ_run (defs (F := F)) _ _ fun r => ∀ c : Dev nD, _)
  hlo_run
  · exact stackRows_eq (r := 32) (w := 2048) _ _

end Cert.SmallRefIdeal
-- ==== Proof.Optimizer.lean ====
/-
# The optimizer's step at one entry

The exact numbers that one entry of a weight's new moments and of its step are, from the entries of the weight, of its
two moments and of its gradient; and the sum of the eight devices' parts of a gradient. Stated for whole arrays of any
shape, entry by entry, so that every weight's update cites the same four definitions. The reference's operations are
these formulas at any shape (`first_host`, `second_host`, `step_host`, `total_host`).
-/
module

public import Idealize.ShloMosaic.Lib.Pipeline.ValueKit

@[expose] public section

noncomputable section

namespace Opt

open Idealize.ShloMosaic

/-- The new first moment: nine tenths of the old one and a tenth of the gradient. -/
abbrev first (m g : EReal) : EReal := Ideal.ofBits .f32 0x3F666666#32 * m + Ideal.ofBits .f32 0x3DCCCCCD#32 * g

/-- The new second moment, from the square of the gradient. -/
abbrev second (v g : EReal) : EReal := Ideal.ofBits .f32 0x3F7FBE77#32 * v + Ideal.ofBits .f32 0x3A83126F#32 * (g * g)

/-- The weight's step: the corrected first moment over the root of the corrected second, and the decay of the weight. -/
abbrev step (w m v g : EReal) : EReal :=
  Ideal.ofBits .f32 0xBA83126F#32 *
    (Ideal.div (Ideal.div (first m g) (Ideal.ofBits .f32 0x3F26BD02#32))
        (Ideal.sqrt (Ideal.div (second v g) (Ideal.ofBits .f32 0x3C231ACC#32)) + Ideal.ofBits .f32 0x322BCC77#32)
      + Ideal.ofBits .f32 0x3C23D70A#32 * w)

theorem step_congr {w w' m m' v v' g g' : EReal} (hw : w = w') (hm : m = m') (hv : v = v') (hg : g = g') :
    step w m v g = step w' m' v' g' := by
  rw [hw, hm, hv, hg]

/-- The sum of the eight parts of a gradient. -/
abbrev total {r w : Nat} {φ : FTy} (x : FVec Ideal ⟨3, ![8, r, w]⟩ φ) : FVec Ideal ⟨2, ![r, w]⟩ .f32 := fun i =>
  x (ix3 (0 : Fin 8) (i 0) (i 1)) + x (ix3 (1 : Fin 8) (i 0) (i 1)) + x (ix3 (2 : Fin 8) (i 0) (i 1))
    + x (ix3 (3 : Fin 8) (i 0) (i 1)) + x (ix3 (4 : Fin 8) (i 0) (i 1)) + x (ix3 (5 : Fin 8) (i 0) (i 1))
    + x (ix3 (6 : Fin 8) (i 0) (i 1)) + x (ix3 (7 : Fin 8) (i 0) (i 1))

section Host

variable {s : Shape} (h : (⟨0, ![]⟩ : Shape).BroadcastsInDim s (![] : Fin 0 → Fin s.rank)) (w m v g : FVec Ideal s .f32)

/-- One number at every entry. -/
abbrev every (b : BitVec 32) : FVec Ideal s .f32 := broadcastInDim s ![] h (constant ⟨0, ![]⟩ .f32 b)

theorem first_host : addf (mulf (every h 0x3F666666#32) m) (mulf (every h 0x3DCCCCCD#32) g) = fun i => first (m i) (g i) := rfl

theorem second_host : addf (mulf (every h 0x3F7FBE77#32) v) (mulf (every h 0x3A83126F#32) (mulf g g)) = fun i => second (v i) (g i) := rfl

theorem step_host : mulf (every h 0xBA83126F#32)
      (addf (Host.divf (Host.divf (addf (mulf (every h 0x3F666666#32) m) (mulf (every h 0x3DCCCCCD#32) g)) (every h 0x3F26BD02#32))
          (addf (Host.sqrt (Host.divf (addf (mulf (every h 0x3F7FBE77#32) v) (mulf (every h 0x3A83126F#32) (mulf g g))) (every h 0x3C231ACC#32)))
            (every h 0x322BCC77#32)))
        (mulf (every h 0x3C23D70A#32) w))
    = fun i => step (w i) (m i) (v i) (g i) := rfl

end Host

theorem total_host {r w : Nat} (x : FVec Ideal ⟨3, ![8, r, w]⟩ .f32)
    (h : (⟨3, ![8, r, w]⟩ : Shape).ReducesTo [0] ⟨2, ![r, w]⟩) (h0 : 0 < (⟨0, ![]⟩ : Shape).numel) :
    Host.reduceAdd x (constant ⟨0, ![]⟩ .f32 0x00000000#32) h h0 = total x := by
  funext i
  pointwise [total]
  rw [Fin.sum_univ_eight]

/-- Parts in the narrow format are widened first; over the real numbers that changes nothing. -/
theorem total_wide {r w : Nat} (x : FVec Ideal ⟨3, ![8, r, w]⟩ .bf16) (hb : FTy.bf16.bits < FTy.f32.bits)
    (h : (⟨3, ![8, r, w]⟩ : Shape).ReducesTo [0] ⟨2, ![r, w]⟩) (h0 : 0 < (⟨0, ![]⟩ : Shape).numel) :
    Host.reduceAdd (extf .f32 x hb) (constant ⟨0, ![]⟩ .f32 0x00000000#32) h h0 = total x :=
  (total_host _ h h0).trans rfl

end Opt
end
-- ==== Proof.StepOutResults.lean ====
/-
# The step of an output projection, from the eight parts of its gradient
-/
module

public import proofs.«01_k».proof.Defs
public import proofs.«01_k».proof.Proof.Gen.StepOutIdeal.Frame
public import proofs.«01_k».proof.Proof.Gen.StepOutRefIdeal.Run
public import proofs.«01_k».proof.Proof.Optimizer

@[expose] public section

set_option maxRecDepth 16384

noncomputable section

namespace Cert.StepOutIdeal.Results

open Cert.StepOutIdeal Cert.StepOutIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits at grid point `t`. -/
theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The weight. -/
abbrev W (c : Dev nD) : FVec Ideal S256x2048 .f32 := m ((c : Thread nD τ).loc main_arg0)
/-- Its first moment. -/
abbrev M (c : Dev nD) : FVec Ideal S256x2048 .f32 := m ((c : Thread nD τ).loc main_arg1)
/-- Its second moment. -/
abbrev U (c : Dev nD) : FVec Ideal S256x2048 .f32 := m ((c : Thread nD τ).loc main_arg2)
/-- Its gradient: the sum of the eight parts. -/
abbrev G (c : Dev nD) : FVec Ideal S256x2048 .f32 := Opt.total (φ := .bf16) (m ((c : Thread nD τ).loc main_arg3) : FVec Ideal S8x256x2048 .bf16)

/-- The gradient as the call hands it on. -/
theorem final4 (c : Dev nD) : (dats m 0 c).arrAt 4 (cfgs 0).N = G m c := by
  refine (dats m 0 c).arrAt_eq_of_covers 4 _ (by decide +kernel) fun t _ y => ?_
  blk_simp
  rw [after0_4]
  unfold out0_4 k0_pay5
  frame_out
  pointwise [k0_pay4, G, Opt.total]
  blk_point [iblk, V, idx t]

/-- The step. -/
theorem final5 (c : Dev nD) : (dats m 0 c).arrAt 5 (cfgs 0).N = fun i => Opt.step (W m c i) (M m c i) (U m c i) (G m c i) := by
  refine (dats m 0 c).arrAt_eq_of_covers 5 _ (by decide +kernel) fun t _ y => ?_
  blk_simp
  rw [after0_5]
  unfold out0_5 k0_pay5
  frame_out
  pointwise [k0_pay3, k0_pay2, k0_pay1, k0_pay4, Opt.total]
  refine Opt.step_congr ?_ ?_ ?_ ?_ <;> (try pointwise [G, Opt.total]) <;> blk_point [iblk, V, idx t]

/-- The new first moment. -/
theorem final6 (c : Dev nD) : (dats m 0 c).arrAt 6 (cfgs 0).N = fun i => Opt.first (M m c i) (G m c i) := by
  refine (dats m 0 c).arrAt_eq_of_covers 6 _ (by decide +kernel) fun t _ y => ?_
  blk_simp
  rw [after0_6]
  unfold out0_6 k0_pay5
  frame_out
  pointwise [k0_pay1, k0_pay4, Opt.total]
  refine congrArg₂ Opt.first ?_ ?_ <;> (try pointwise [G, Opt.total]) <;> blk_point [iblk, V, idx t]

/-- The new second moment. -/
theorem final7 (c : Dev nD) : (dats m 0 c).arrAt 7 (cfgs 0).N = fun i => Opt.second (U m c i) (G m c i) := by
  refine (dats m 0 c).arrAt_eq_of_covers 7 _ (by decide +kernel) fun t _ y => ?_
  blk_simp
  rw [after0_7]
  unfold out0_7 k0_pay5
  frame_out
  pointwise [k0_pay2, k0_pay4, Opt.total]
  refine congrArg₂ Opt.second ?_ ?_ <;> (try pointwise [G, Opt.total]) <;> blk_point [iblk, V, idx t]

/-- The call ends with the gradient, the step and the new moments, and with its arguments unchanged. -/
theorem results (ρ : Dev nD → PrngReg) : θ_run defs (onTc (τ := τ) (main (F := Ideal))) ⟨m, fun _ => 0, ρ⟩ fun r => ∀ c : Dev nD,
    r.2.mem ((c.tc : Thread nD τ).loc main_v0_0) = G m c
    ∧ r.2.mem ((c.tc : Thread nD τ).loc main_v0_1) = (fun i => Opt.step (W m c i) (M m c i) (U m c i) (G m c i))
    ∧ r.2.mem ((c.tc : Thread nD τ).loc main_v0_2) = (fun i => Opt.first (M m c i) (G m c i))
    ∧ r.2.mem ((c.tc : Thread nD τ).loc main_v0_3) = (fun i => Opt.second (U m c i) (G m c i))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  run_from run_main m ρ
  exacts [final4 m c, final5 m c, final6 m c, final7 m c]

/-- The reference ends with the same arrays. -/
theorem algebraic : Cert.algebraic_StepOutIdeal_StepOutRefIdeal := fun m g m' g' _ h => by
  refine ⟨_, _, _, _, results m g, (θ_run _ _ _).mono (fun r hr c => ?_) (Cert.StepOutRefIdeal.Value.run (F := Ideal) m' g')⟩
  obtain ⟨e0, e1, e2, e3, rest⟩ := hr c
  obtain ⟨a0, a1, a2, a3⟩ := h c
  refine ⟨e0.trans ((Opt.total_wide _ _ _ _).trans (by rw [a3])),
    e1.trans ((Opt.step_host _ _ _ _ _).trans (by rw [Opt.total_wide, a0, a1, a2, a3])),
    e2.trans ((Opt.first_host _ _ _).trans (by rw [Opt.total_wide, a1, a3])),
    e3.trans ((Opt.second_host _ _ _).trans (by rw [Opt.total_wide, a2, a3])), rest⟩

end Cert.StepOutIdeal.Results
end
-- ==== Proof.StepDownResults.lean ====
/-
# The step of a down projection, from the eight parts of its gradient
-/
module

public import proofs.«01_k».proof.Defs
public import proofs.«01_k».proof.Proof.Gen.StepDownIdeal.Frame
public import proofs.«01_k».proof.Proof.Gen.StepDownRefIdeal.Run
public import proofs.«01_k».proof.Proof.Optimizer

@[expose] public section

set_option maxRecDepth 16384

noncomputable section

namespace Cert.StepDownIdeal.Results

open Cert.StepDownIdeal Cert.StepDownIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits at grid point `t`. -/
theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The weight. -/
abbrev W (c : Dev nD) : FVec Ideal S1024x2048 .f32 := m ((c : Thread nD τ).loc main_arg0)
/-- Its first moment. -/
abbrev M (c : Dev nD) : FVec Ideal S1024x2048 .f32 := m ((c : Thread nD τ).loc main_arg1)
/-- Its second moment. -/
abbrev U (c : Dev nD) : FVec Ideal S1024x2048 .f32 := m ((c : Thread nD τ).loc main_arg2)
/-- Its gradient: the sum of the eight parts. -/
abbrev G (c : Dev nD) : FVec Ideal S1024x2048 .f32 := Opt.total (φ := .bf16) (m ((c : Thread nD τ).loc main_arg3) : FVec Ideal S8x1024x2048 .bf16)

/-- The gradient as the call hands it on. -/
theorem final4 (c : Dev nD) : (dats m 0 c).arrAt 4 (cfgs 0).N = G m c := by
  refine (dats m 0 c).arrAt_eq_of_covers 4 _ (by decide +kernel) fun t _ y => ?_
  blk_simp
  rw [after0_4]
  unfold out0_4 k0_pay5
  frame_out
  pointwise [k0_pay4, G, Opt.total]
  blk_point [iblk, V, idx t]

/-- The step. -/
theorem final5 (c : Dev nD) : (dats m 0 c).arrAt 5 (cfgs 0).N = fun i => Opt.step (W m c i) (M m c i) (U m c i) (G m c i) := by
  refine (dats m 0 c).arrAt_eq_of_covers 5 _ (by decide +kernel) fun t _ y => ?_
  blk_simp
  rw [after0_5]
  unfold out0_5 k0_pay5
  frame_out
  pointwise [k0_pay3, k0_pay2, k0_pay1, k0_pay4, Opt.total]
  refine Opt.step_congr ?_ ?_ ?_ ?_ <;> (try pointwise [G, Opt.total]) <;> blk_point [iblk, V, idx t]

/-- The new first moment. -/
theorem final6 (c : Dev nD) : (dats m 0 c).arrAt 6 (cfgs 0).N = fun i => Opt.first (M m c i) (G m c i) := by
  refine (dats m 0 c).arrAt_eq_of_covers 6 _ (by decide +kernel) fun t _ y => ?_
  blk_simp
  rw [after0_6]
  unfold out0_6 k0_pay5
  frame_out
  pointwise [k0_pay1, k0_pay4, Opt.total]
  refine congrArg₂ Opt.first ?_ ?_ <;> (try pointwise [G, Opt.total]) <;> blk_point [iblk, V, idx t]

/-- The new second moment. -/
theorem final7 (c : Dev nD) : (dats m 0 c).arrAt 7 (cfgs 0).N = fun i => Opt.second (U m c i) (G m c i) := by
  refine (dats m 0 c).arrAt_eq_of_covers 7 _ (by decide +kernel) fun t _ y => ?_
  blk_simp
  rw [after0_7]
  unfold out0_7 k0_pay5
  frame_out
  pointwise [k0_pay2, k0_pay4, Opt.total]
  refine congrArg₂ Opt.second ?_ ?_ <;> (try pointwise [G, Opt.total]) <;> blk_point [iblk, V, idx t]

/-- The call ends with the gradient, the step and the new moments, and with its arguments unchanged. -/
theorem results (ρ : Dev nD → PrngReg) : θ_run defs (onTc (τ := τ) (main (F := Ideal))) ⟨m, fun _ => 0, ρ⟩ fun r => ∀ c : Dev nD,
    r.2.mem ((c.tc : Thread nD τ).loc main_v0_0) = G m c
    ∧ r.2.mem ((c.tc : Thread nD τ).loc main_v0_1) = (fun i => Opt.step (W m c i) (M m c i) (U m c i) (G m c i))
    ∧ r.2.mem ((c.tc : Thread nD τ).loc main_v0_2) = (fun i => Opt.first (M m c i) (G m c i))
    ∧ r.2.mem ((c.tc : Thread nD τ).loc main_v0_3) = (fun i => Opt.second (U m c i) (G m c i))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  run_from run_main m ρ
  exacts [final4 m c, final5 m c, final6 m c, final7 m c]

/-- The reference ends with the same arrays. -/
theorem algebraic : Cert.algebraic_StepDownIdeal_StepDownRefIdeal := fun m g m' g' _ h => by
  refine ⟨_, _, _, _, results m g, (θ_run _ _ _).mono (fun r hr c => ?_) (Cert.StepDownRefIdeal.Value.run (F := Ideal) m' g')⟩
  obtain ⟨e0, e1, e2, e3, rest⟩ := hr c
  obtain ⟨a0, a1, a2, a3⟩ := h c
  refine ⟨e0.trans ((Opt.total_wide _ _ _ _).trans (by rw [a3])),
    e1.trans ((Opt.step_host _ _ _ _ _).trans (by rw [Opt.total_wide, a0, a1, a2, a3])),
    e2.trans ((Opt.first_host _ _ _).trans (by rw [Opt.total_wide, a1, a3])),
    e3.trans ((Opt.second_host _ _ _).trans (by rw [Opt.total_wide, a2, a3])), rest⟩

end Cert.StepDownIdeal.Results
end
-- ==== Proof.SumInResults.lean ====
/-
# The sum of the parts of the convolution's input projection
-/
module

public import proofs.«01_k».proof.Defs
public import proofs.«01_k».proof.Proof.Gen.SumInIdeal.Frame
public import proofs.«01_k».proof.Proof.Gen.SumInRefIdeal.Run
public import proofs.«01_k».proof.Proof.Optimizer

@[expose] public section

set_option maxRecDepth 16384

noncomputable section

namespace Cert.SumInIdeal.Results

open Cert.SumInIdeal Cert.SumInIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits at grid point `t`. -/
theorem idx : ∀ t : Fin cfg0.N, win0_0.index t = ![0, t.val, 0] ∧ win0_1.index t = ![t.val, 0] :=
  (by decide +kernel : ∀ t : Fin grid0.N, _)

/-- The sum of the eight parts. -/
abbrev G (c : Dev nD) : FVec Ideal S768x2048 .f32 := Opt.total (φ := .bf16) (m ((c : Thread nD τ).loc main_arg0) : FVec Ideal S8x768x2048 .bf16)

/-- The sum, as the call leaves it. -/
theorem final1 (c : Dev nD) : (dats m 0 c).arrAt 1 (cfgs 0).N = G m c := by
  refine (dats m 0 c).arrAt_eq_of_covers 1 _ (by decide +kernel) fun t _ y => ?_
  blk_simp
  rw [after0_1]
  unfold out0_1
  frame_out
  pointwise [k0_pay1, G, Opt.total]
  blk_point [iblk, V, idx t]

/-- The call ends with the sum and with its argument unchanged. -/
theorem results (ρ : Dev nD → PrngReg) : θ_run defs (onTc (τ := τ) (main (F := Ideal))) ⟨m, fun _ => 0, ρ⟩ fun r => ∀ c : Dev nD,
    r.2.mem ((c.tc : Thread nD τ).loc main_v0) = G m c
    ∧ r.2.mem ((c.tc : Thread nD τ).loc main_arg0) = m ((c.tc : Thread nD τ).loc main_arg0) := by
  run_from run_main m ρ
  exact final1 m c

/-- The reference ends with the same array. -/
theorem algebraic : Cert.algebraic_SumInIdeal_SumInRefIdeal := fun m g m' g' _ h =>
  ⟨_, results m g, (θ_run _ _ _).mono (fun _ hr c =>
      ⟨(hr c).1.trans ((Opt.total_wide _ _ _ _).trans (by rw [h c])), (hr c).2⟩)
    (Cert.SumInRefIdeal.Value.run (F := Ideal) m' g')⟩

end Cert.SumInIdeal.Results
end
-- ==== Proof.SumUpResults.lean ====
/-
# The sum of the parts of an up or gate projection
-/
module

public import proofs.«01_k».proof.Defs
public import proofs.«01_k».proof.Proof.Gen.SumUpIdeal.Frame
public import proofs.«01_k».proof.Proof.Gen.SumUpRefIdeal.Run
public import proofs.«01_k».proof.Proof.Optimizer

@[expose] public section

set_option maxRecDepth 16384

noncomputable section

namespace Cert.SumUpIdeal.Results

open Cert.SumUpIdeal Cert.SumUpIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits at grid point `t`. -/
theorem idx : ∀ t : Fin cfg0.N, win0_0.index t = ![0, t.val, 0] ∧ win0_1.index t = ![t.val, 0] :=
  (by decide +kernel : ∀ t : Fin grid0.N, _)

/-- The sum of the eight parts. -/
abbrev G (c : Dev nD) : FVec Ideal S1024x2048 .f32 := Opt.total (φ := .bf16) (m ((c : Thread nD τ).loc main_arg0) : FVec Ideal S8x1024x2048 .bf16)

/-- The sum, as the call leaves it. -/
theorem final1 (c : Dev nD) : (dats m 0 c).arrAt 1 (cfgs 0).N = G m c := by
  refine (dats m 0 c).arrAt_eq_of_covers 1 _ (by decide +kernel) fun t _ y => ?_
  blk_simp
  rw [after0_1]
  unfold out0_1
  frame_out
  pointwise [k0_pay1, G, Opt.total]
  blk_point [iblk, V, idx t]

/-- The call ends with the sum and with its argument unchanged. -/
theorem results (ρ : Dev nD → PrngReg) : θ_run defs (onTc (τ := τ) (main (F := Ideal))) ⟨m, fun _ => 0, ρ⟩ fun r => ∀ c : Dev nD,
    r.2.mem ((c.tc : Thread nD τ).loc main_v0) = G m c
    ∧ r.2.mem ((c.tc : Thread nD τ).loc main_arg0) = m ((c.tc : Thread nD τ).loc main_arg0) := by
  run_from run_main m ρ
  exact final1 m c

/-- The reference ends with the same array. -/
theorem algebraic : Cert.algebraic_SumUpIdeal_SumUpRefIdeal := fun m g m' g' _ h =>
  ⟨_, results m g, (θ_run _ _ _).mono (fun _ hr c =>
      ⟨(hr c).1.trans ((Opt.total_wide _ _ _ _).trans (by rw [h c])), (hr c).2⟩)
    (Cert.SumUpRefIdeal.Value.run (F := Ideal) m' g')⟩

end Cert.SumUpIdeal.Results
end
-- ==== Proof.SumQkvResults.lean ====
/-
# The sum of the parts of the attention's input projection
-/
module

public import proofs.«01_k».proof.Defs
public import proofs.«01_k».proof.Proof.Gen.SumQkvIdeal.Frame
public import proofs.«01_k».proof.Proof.Gen.SumQkvRefIdeal.Run
public import proofs.«01_k».proof.Proof.Optimizer

@[expose] public section

set_option maxRecDepth 16384

noncomputable section

namespace Cert.SumQkvIdeal.Results

open Cert.SumQkvIdeal Cert.SumQkvIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits at grid point `t`. -/
theorem idx : ∀ t : Fin cfg0.N, win0_0.index t = ![0, t.val, 0] ∧ win0_1.index t = ![t.val, 0] :=
  (by decide +kernel : ∀ t : Fin grid0.N, _)

/-- The sum of the eight parts. -/
abbrev G (c : Dev nD) : FVec Ideal S320x2048 .f32 := Opt.total (φ := .bf16) (m ((c : Thread nD τ).loc main_arg0) : FVec Ideal S8x320x2048 .bf16)

/-- The sum, as the call leaves it. -/
theorem final1 (c : Dev nD) : (dats m 0 c).arrAt 1 (cfgs 0).N = G m c := by
  refine (dats m 0 c).arrAt_eq_of_covers 1 _ (by decide +kernel) fun t _ y => ?_
  blk_simp
  rw [after0_1]
  unfold out0_1
  frame_out
  pointwise [k0_pay1, G, Opt.total]
  blk_point [iblk, V, idx t]

/-- The call ends with the sum and with its argument unchanged. -/
theorem results (ρ : Dev nD → PrngReg) : θ_run defs (onTc (τ := τ) (main (F := Ideal))) ⟨m, fun _ => 0, ρ⟩ fun r => ∀ c : Dev nD,
    r.2.mem ((c.tc : Thread nD τ).loc main_v0) = G m c
    ∧ r.2.mem ((c.tc : Thread nD τ).loc main_arg0) = m ((c.tc : Thread nD τ).loc main_arg0) := by
  run_from run_main m ρ
  exact final1 m c

/-- The reference ends with the same array. -/
theorem algebraic : Cert.algebraic_SumQkvIdeal_SumQkvRefIdeal := fun m g m' g' _ h =>
  ⟨_, results m g, (θ_run _ _ _).mono (fun _ hr c =>
      ⟨(hr c).1.trans ((Opt.total_wide _ _ _ _).trans (by rw [h c])), (hr c).2⟩)
    (Cert.SumQkvRefIdeal.Value.run (F := Ideal) m' g')⟩

end Cert.SumQkvIdeal.Results
end
-- ==== Proof.SumSmallResults.lean ====
/-
# The sum of the parts of the small parameters' gradients
-/
module

public import proofs.«01_k».proof.Defs
public import proofs.«01_k».proof.Proof.Gen.SumSmallIdeal.Frame
public import proofs.«01_k».proof.Proof.Gen.SumSmallRefIdeal.Run
public import proofs.«01_k».proof.Proof.Optimizer

@[expose] public section

set_option maxRecDepth 16384

noncomputable section

namespace Cert.SumSmallIdeal.Results

open Cert.SumSmallIdeal Cert.SumSmallIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits at grid point `t`. -/
theorem idx : ∀ t : Fin cfg0.N, win0_0.index t = ![0, 0, 0] ∧ win0_1.index t = ![0, 0] :=
  (by decide +kernel : ∀ t : Fin grid0.N, _)

/-- The sum of the eight parts. -/
abbrev G (c : Dev nD) : FVec Ideal S32x2048 .f32 := Opt.total (φ := .f32) (m ((c : Thread nD τ).loc main_arg0) : FVec Ideal S8x32x2048 .f32)

/-- The sum, as the call leaves it. -/
theorem final1 (c : Dev nD) : (dats m 0 c).arrAt 1 (cfgs 0).N = G m c := by
  refine (dats m 0 c).arrAt_eq_of_covers 1 _ (by decide +kernel) fun t _ y => ?_
  blk_simp
  rw [after0_1]
  unfold out0_1
  frame_out
  pointwise [k0_pay1, G, Opt.total]
  blk_point [iblk, V, idx t]

/-- The call ends with the sum and with its argument unchanged. -/
theorem results (ρ : Dev nD → PrngReg) : θ_run defs (onTc (τ := τ) (main (F := Ideal))) ⟨m, fun _ => 0, ρ⟩ fun r => ∀ c : Dev nD,
    r.2.mem ((c.tc : Thread nD τ).loc main_v0) = G m c
    ∧ r.2.mem ((c.tc : Thread nD τ).loc main_arg0) = m ((c.tc : Thread nD τ).loc main_arg0) := by
  run_from run_main m ρ
  exact final1 m c

/-- The reference ends with the same array. -/
theorem algebraic : Cert.algebraic_SumSmallIdeal_SumSmallRefIdeal := fun m g m' g' _ h =>
  ⟨_, results m g, (θ_run _ _ _).mono (fun _ hr c =>
      ⟨(hr c).1.trans ((Opt.total_host _ _ _).trans (by rw [h c])), (hr c).2⟩)
    (Cert.SumSmallRefIdeal.Value.run (F := Ideal) m' g')⟩

end Cert.SumSmallIdeal.Results
end
-- ==== Proof.StepInResults.lean ====
/-
# The step of the convolution's input projection
-/
module

public import proofs.«01_k».proof.Defs
public import proofs.«01_k».proof.Proof.Gen.StepInIdeal.Frame
public import proofs.«01_k».proof.Proof.Gen.StepInRefIdeal.Run
public import proofs.«01_k».proof.Proof.Optimizer

@[expose] public section

set_option maxRecDepth 16384

noncomputable section

namespace Cert.StepInIdeal.Results

open Cert.StepInIdeal Cert.StepInIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits at grid point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The weight. -/
abbrev W (c : Dev nD) : FVec Ideal S2048x768 .f32 := m ((c : Thread nD τ).loc main_arg0)
/-- Its first moment. -/
abbrev M (c : Dev nD) : FVec Ideal S2048x768 .f32 := m ((c : Thread nD τ).loc main_arg1)
/-- Its second moment. -/
abbrev U (c : Dev nD) : FVec Ideal S2048x768 .f32 := m ((c : Thread nD τ).loc main_arg2)
/-- Its gradient. -/
abbrev G (c : Dev nD) : FVec Ideal S2048x768 .f32 := m ((c : Thread nD τ).loc main_arg3)

/-- The gradient as the call hands it on. -/
theorem final4 (c : Dev nD) : (dats m 0 c).arrAt 4 (cfgs 0).N = G m c := by
  refine (dats m 0 c).arrAt_eq_of_covers 4 _ (by decide +kernel) fun t _ y => ?_
  blk_simp
  rw [after0_4]
  unfold out0_4
  frame_out
  pointwise [G]
  blk_point [iblk, V, idx t]

/-- The step. -/
theorem final5 (c : Dev nD) : (dats m 0 c).arrAt 5 (cfgs 0).N = fun i => Opt.step (W m c i) (M m c i) (U m c i) (G m c i) := by
  refine (dats m 0 c).arrAt_eq_of_covers 5 _ (by decide +kernel) fun t _ y => ?_
  blk_simp
  rw [after0_5]
  unfold out0_5
  frame_out
  pointwise [k0_pay3, k0_pay2, k0_pay1, G]
  refine Opt.step_congr ?_ ?_ ?_ ?_ <;> blk_point [iblk, V, idx t]

/-- The new first moment. -/
theorem final6 (c : Dev nD) : (dats m 0 c).arrAt 6 (cfgs 0).N = fun i => Opt.first (M m c i) (G m c i) := by
  refine (dats m 0 c).arrAt_eq_of_covers 6 _ (by decide +kernel) fun t _ y => ?_
  blk_simp
  rw [after0_6]
  unfold out0_6
  frame_out
  pointwise [k0_pay1, G]
  refine congrArg₂ Opt.first ?_ ?_ <;> blk_point [iblk, V, idx t]

/-- The new second moment. -/
theorem final7 (c : Dev nD) : (dats m 0 c).arrAt 7 (cfgs 0).N = fun i => Opt.second (U m c i) (G m c i) := by
  refine (dats m 0 c).arrAt_eq_of_covers 7 _ (by decide +kernel) fun t _ y => ?_
  blk_simp
  rw [after0_7]
  unfold out0_7
  frame_out
  pointwise [k0_pay2, G]
  refine congrArg₂ Opt.second ?_ ?_ <;> blk_point [iblk, V, idx t]

/-- The call ends with the gradient, the step and the new moments, and with its arguments unchanged. -/
theorem results (ρ : Dev nD → PrngReg) : θ_run defs (onTc (τ := τ) (main (F := Ideal))) ⟨m, fun _ => 0, ρ⟩ fun r => ∀ c : Dev nD,
    r.2.mem ((c.tc : Thread nD τ).loc main_v0_0) = G m c
    ∧ r.2.mem ((c.tc : Thread nD τ).loc main_v0_1) = (fun i => Opt.step (W m c i) (M m c i) (U m c i) (G m c i))
    ∧ r.2.mem ((c.tc : Thread nD τ).loc main_v0_2) = (fun i => Opt.first (M m c i) (G m c i))
    ∧ r.2.mem ((c.tc : Thread nD τ).loc main_v0_3) = (fun i => Opt.second (U m c i) (G m c i))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  run_from run_main m ρ
  exacts [final4 m c, final5 m c, final6 m c, final7 m c]

/-- The reference ends with the same arrays. -/
theorem algebraic : Cert.algebraic_StepInIdeal_StepInRefIdeal := fun m g m' g' _ h => by
  refine ⟨_, _, _, _, results m g, (θ_run _ _ _).mono (fun r hr c => ?_) (Cert.StepInRefIdeal.Value.run (F := Ideal) m' g')⟩
  obtain ⟨e0, e1, e2, e3, rest⟩ := hr c
  obtain ⟨a0, a1, a2, a3⟩ := h c
  refine ⟨e0.trans a3,
    e1.trans ((Opt.step_host _ _ _ _ _).trans (by rw [a0, a1, a2, a3])),
    e2.trans ((Opt.first_host _ _ _).trans (by rw [a1, a3])),
    e3.trans ((Opt.second_host _ _ _).trans (by rw [a2, a3])), rest⟩

end Cert.StepInIdeal.Results
end
-- ==== Proof.StepUpResults.lean ====
/-
# The step of an up or gate projection
-/
module

public import proofs.«01_k».proof.Defs
public import proofs.«01_k».proof.Proof.Gen.StepUpIdeal.Frame
public import proofs.«01_k».proof.Proof.Gen.StepUpRefIdeal.Run
public import proofs.«01_k».proof.Proof.Optimizer

@[expose] public section

set_option maxRecDepth 16384

noncomputable section

namespace Cert.StepUpIdeal.Results

open Cert.StepUpIdeal Cert.StepUpIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits at grid point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The weight. -/
abbrev W (c : Dev nD) : FVec Ideal S2048x1024 .f32 := m ((c : Thread nD τ).loc main_arg0)
/-- Its first moment. -/
abbrev M (c : Dev nD) : FVec Ideal S2048x1024 .f32 := m ((c : Thread nD τ).loc main_arg1)
/-- Its second moment. -/
abbrev U (c : Dev nD) : FVec Ideal S2048x1024 .f32 := m ((c : Thread nD τ).loc main_arg2)
/-- Its gradient. -/
abbrev G (c : Dev nD) : FVec Ideal S2048x1024 .f32 := m ((c : Thread nD τ).loc main_arg3)

/-- The gradient as the call hands it on. -/
theorem final4 (c : Dev nD) : (dats m 0 c).arrAt 4 (cfgs 0).N = G m c := by
  refine (dats m 0 c).arrAt_eq_of_covers 4 _ (by decide +kernel) fun t _ y => ?_
  blk_simp
  rw [after0_4]
  unfold out0_4
  frame_out
  pointwise [G]
  blk_point [iblk, V, idx t]

/-- The step. -/
theorem final5 (c : Dev nD) : (dats m 0 c).arrAt 5 (cfgs 0).N = fun i => Opt.step (W m c i) (M m c i) (U m c i) (G m c i) := by
  refine (dats m 0 c).arrAt_eq_of_covers 5 _ (by decide +kernel) fun t _ y => ?_
  blk_simp
  rw [after0_5]
  unfold out0_5
  frame_out
  pointwise [k0_pay3, k0_pay2, k0_pay1, G]
  refine Opt.step_congr ?_ ?_ ?_ ?_ <;> blk_point [iblk, V, idx t]

/-- The new first moment. -/
theorem final6 (c : Dev nD) : (dats m 0 c).arrAt 6 (cfgs 0).N = fun i => Opt.first (M m c i) (G m c i) := by
  refine (dats m 0 c).arrAt_eq_of_covers 6 _ (by decide +kernel) fun t _ y => ?_
  blk_simp
  rw [after0_6]
  unfold out0_6
  frame_out
  pointwise [k0_pay1, G]
  refine congrArg₂ Opt.first ?_ ?_ <;> blk_point [iblk, V, idx t]

/-- The new second moment. -/
theorem final7 (c : Dev nD) : (dats m 0 c).arrAt 7 (cfgs 0).N = fun i => Opt.second (U m c i) (G m c i) := by
  refine (dats m 0 c).arrAt_eq_of_covers 7 _ (by decide +kernel) fun t _ y => ?_
  blk_simp
  rw [after0_7]
  unfold out0_7
  frame_out
  pointwise [k0_pay2, G]
  refine congrArg₂ Opt.second ?_ ?_ <;> blk_point [iblk, V, idx t]

/-- The call ends with the gradient, the step and the new moments, and with its arguments unchanged. -/
theorem results (ρ : Dev nD → PrngReg) : θ_run defs (onTc (τ := τ) (main (F := Ideal))) ⟨m, fun _ => 0, ρ⟩ fun r => ∀ c : Dev nD,
    r.2.mem ((c.tc : Thread nD τ).loc main_v0_0) = G m c
    ∧ r.2.mem ((c.tc : Thread nD τ).loc main_v0_1) = (fun i => Opt.step (W m c i) (M m c i) (U m c i) (G m c i))
    ∧ r.2.mem ((c.tc : Thread nD τ).loc main_v0_2) = (fun i => Opt.first (M m c i) (G m c i))
    ∧ r.2.mem ((c.tc : Thread nD τ).loc main_v0_3) = (fun i => Opt.second (U m c i) (G m c i))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  run_from run_main m ρ
  exacts [final4 m c, final5 m c, final6 m c, final7 m c]

/-- The reference ends with the same arrays. -/
theorem algebraic : Cert.algebraic_StepUpIdeal_StepUpRefIdeal := fun m g m' g' _ h => by
  refine ⟨_, _, _, _, results m g, (θ_run _ _ _).mono (fun r hr c => ?_) (Cert.StepUpRefIdeal.Value.run (F := Ideal) m' g')⟩
  obtain ⟨e0, e1, e2, e3, rest⟩ := hr c
  obtain ⟨a0, a1, a2, a3⟩ := h c
  refine ⟨e0.trans a3,
    e1.trans ((Opt.step_host _ _ _ _ _).trans (by rw [a0, a1, a2, a3])),
    e2.trans ((Opt.first_host _ _ _).trans (by rw [a1, a3])),
    e3.trans ((Opt.second_host _ _ _).trans (by rw [a2, a3])), rest⟩

end Cert.StepUpIdeal.Results
end
-- ==== Proof.StepQkvResults.lean ====
/-
# The step of the attention's input projection
-/
module

public import proofs.«01_k».proof.Defs
public import proofs.«01_k».proof.Proof.Gen.StepQkvIdeal.Frame
public import proofs.«01_k».proof.Proof.Gen.StepQkvRefIdeal.Run
public import proofs.«01_k».proof.Proof.Optimizer

@[expose] public section

set_option maxRecDepth 16384

noncomputable section

namespace Cert.StepQkvIdeal.Results

open Cert.StepQkvIdeal Cert.StepQkvIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits at grid point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The weight. -/
abbrev W (c : Dev nD) : FVec Ideal S2048x320 .f32 := m ((c : Thread nD τ).loc main_arg0)
/-- Its first moment. -/
abbrev M (c : Dev nD) : FVec Ideal S2048x320 .f32 := m ((c : Thread nD τ).loc main_arg1)
/-- Its second moment. -/
abbrev U (c : Dev nD) : FVec Ideal S2048x320 .f32 := m ((c : Thread nD τ).loc main_arg2)
/-- Its gradient. -/
abbrev G (c : Dev nD) : FVec Ideal S2048x320 .f32 := m ((c : Thread nD τ).loc main_arg3)

/-- The gradient as the call hands it on. -/
theorem final4 (c : Dev nD) : (dats m 0 c).arrAt 4 (cfgs 0).N = G m c := by
  refine (dats m 0 c).arrAt_eq_of_covers 4 _ (by decide +kernel) fun t _ y => ?_
  blk_simp
  rw [after0_4]
  unfold out0_4
  frame_out
  pointwise [G]
  blk_point [iblk, V, idx t]

/-- The step. -/
theorem final5 (c : Dev nD) : (dats m 0 c).arrAt 5 (cfgs 0).N = fun i => Opt.step (W m c i) (M m c i) (U m c i) (G m c i) := by
  refine (dats m 0 c).arrAt_eq_of_covers 5 _ (by decide +kernel) fun t _ y => ?_
  blk_simp
  rw [after0_5]
  unfold out0_5
  frame_out
  pointwise [k0_pay3, k0_pay2, k0_pay1, G]
  refine Opt.step_congr ?_ ?_ ?_ ?_ <;> blk_point [iblk, V, idx t]

/-- The new first moment. -/
theorem final6 (c : Dev nD) : (dats m 0 c).arrAt 6 (cfgs 0).N = fun i => Opt.first (M m c i) (G m c i) := by
  refine (dats m 0 c).arrAt_eq_of_covers 6 _ (by decide +kernel) fun t _ y => ?_
  blk_simp
  rw [after0_6]
  unfold out0_6
  frame_out
  pointwise [k0_pay1, G]
  refine congrArg₂ Opt.first ?_ ?_ <;> blk_point [iblk, V, idx t]

/-- The new second moment. -/
theorem final7 (c : Dev nD) : (dats m 0 c).arrAt 7 (cfgs 0).N = fun i => Opt.second (U m c i) (G m c i) := by
  refine (dats m 0 c).arrAt_eq_of_covers 7 _ (by decide +kernel) fun t _ y => ?_
  blk_simp
  rw [after0_7]
  unfold out0_7
  frame_out
  pointwise [k0_pay2, G]
  refine congrArg₂ Opt.second ?_ ?_ <;> blk_point [iblk, V, idx t]

/-- The call ends with the gradient, the step and the new moments, and with its arguments unchanged. -/
theorem results (ρ : Dev nD → PrngReg) : θ_run defs (onTc (τ := τ) (main (F := Ideal))) ⟨m, fun _ => 0, ρ⟩ fun r => ∀ c : Dev nD,
    r.2.mem ((c.tc : Thread nD τ).loc main_v0_0) = G m c
    ∧ r.2.mem ((c.tc : Thread nD τ).loc main_v0_1) = (fun i => Opt.step (W m c i) (M m c i) (U m c i) (G m c i))
    ∧ r.2.mem ((c.tc : Thread nD τ).loc main_v0_2) = (fun i => Opt.first (M m c i) (G m c i))
    ∧ r.2.mem ((c.tc : Thread nD τ).loc main_v0_3) = (fun i => Opt.second (U m c i) (G m c i))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  run_from run_main m ρ
  exacts [final4 m c, final5 m c, final6 m c, final7 m c]

/-- The reference ends with the same arrays. -/
theorem algebraic : Cert.algebraic_StepQkvIdeal_StepQkvRefIdeal := fun m g m' g' _ h => by
  refine ⟨_, _, _, _, results m g, (θ_run _ _ _).mono (fun r hr c => ?_) (Cert.StepQkvRefIdeal.Value.run (F := Ideal) m' g')⟩
  obtain ⟨e0, e1, e2, e3, rest⟩ := hr c
  obtain ⟨a0, a1, a2, a3⟩ := h c
  refine ⟨e0.trans a3,
    e1.trans ((Opt.step_host _ _ _ _ _).trans (by rw [a0, a1, a2, a3])),
    e2.trans ((Opt.first_host _ _ _).trans (by rw [a1, a3])),
    e3.trans ((Opt.second_host _ _ _).trans (by rw [a2, a3])), rest⟩

end Cert.StepQkvIdeal.Results
end
-- ==== Proof.StepMetaResults.lean ====
/-
# The step of the meta tokens
-/
module

public import proofs.«01_k».proof.Defs
public import proofs.«01_k».proof.Proof.Gen.StepMetaIdeal.Frame
public import proofs.«01_k».proof.Proof.Gen.StepMetaRefIdeal.Run
public import proofs.«01_k».proof.Proof.Optimizer

@[expose] public section

set_option maxRecDepth 16384

noncomputable section

namespace Cert.StepMetaIdeal.Results

open Cert.StepMetaIdeal Cert.StepMetaIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits at grid point `t`. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0]
    ∧ win0_6.index t = ![0, 0] ∧ win0_7.index t = ![0, 0] :=
  (by decide +kernel : ∀ t : Fin grid0.N, _)

/-- The weight. -/
abbrev W (c : Dev nD) : FVec Ideal S16x256 .f32 := m ((c : Thread nD τ).loc main_arg0)
/-- Its first moment. -/
abbrev M (c : Dev nD) : FVec Ideal S16x256 .f32 := m ((c : Thread nD τ).loc main_arg1)
/-- Its second moment. -/
abbrev U (c : Dev nD) : FVec Ideal S16x256 .f32 := m ((c : Thread nD τ).loc main_arg2)
/-- Its gradient. -/
abbrev G (c : Dev nD) : FVec Ideal S16x256 .f32 := m ((c : Thread nD τ).loc main_arg3)

/-- The gradient as the call hands it on. -/
theorem final4 (c : Dev nD) : (dats m 0 c).arrAt 4 (cfgs 0).N = G m c := by
  refine (dats m 0 c).arrAt_eq_of_covers 4 _ (by decide +kernel) fun t _ y => ?_
  blk_simp
  rw [after0_4]
  unfold out0_4
  frame_out
  pointwise [G]
  blk_point [iblk, V, idx t]

/-- The step. -/
theorem final5 (c : Dev nD) : (dats m 0 c).arrAt 5 (cfgs 0).N = fun i => Opt.step (W m c i) (M m c i) (U m c i) (G m c i) := by
  refine (dats m 0 c).arrAt_eq_of_covers 5 _ (by decide +kernel) fun t _ y => ?_
  blk_simp
  rw [after0_5]
  unfold out0_5
  frame_out
  pointwise [k0_pay3, k0_pay2, k0_pay1, G]
  refine Opt.step_congr ?_ ?_ ?_ ?_ <;> blk_point [iblk, V, idx t]

/-- The new first moment. -/
theorem final6 (c : Dev nD) : (dats m 0 c).arrAt 6 (cfgs 0).N = fun i => Opt.first (M m c i) (G m c i) := by
  refine (dats m 0 c).arrAt_eq_of_covers 6 _ (by decide +kernel) fun t _ y => ?_
  blk_simp
  rw [after0_6]
  unfold out0_6
  frame_out
  pointwise [k0_pay1, G]
  refine congrArg₂ Opt.first ?_ ?_ <;> blk_point [iblk, V, idx t]

/-- The new second moment. -/
theorem final7 (c : Dev nD) : (dats m 0 c).arrAt 7 (cfgs 0).N = fun i => Opt.second (U m c i) (G m c i) := by
  refine (dats m 0 c).arrAt_eq_of_covers 7 _ (by decide +kernel) fun t _ y => ?_
  blk_simp
  rw [after0_7]
  unfold out0_7
  frame_out
  pointwise [k0_pay2, G]
  refine congrArg₂ Opt.second ?_ ?_ <;> blk_point [iblk, V, idx t]

/-- The call ends with the gradient, the step and the new moments, and with its arguments unchanged. -/
theorem results (ρ : Dev nD → PrngReg) : θ_run defs (onTc (τ := τ) (main (F := Ideal))) ⟨m, fun _ => 0, ρ⟩ fun r => ∀ c : Dev nD,
    r.2.mem ((c.tc : Thread nD τ).loc main_v0_0) = G m c
    ∧ r.2.mem ((c.tc : Thread nD τ).loc main_v0_1) = (fun i => Opt.step (W m c i) (M m c i) (U m c i) (G m c i))
    ∧ r.2.mem ((c.tc : Thread nD τ).loc main_v0_2) = (fun i => Opt.first (M m c i) (G m c i))
    ∧ r.2.mem ((c.tc : Thread nD τ).loc main_v0_3) = (fun i => Opt.second (U m c i) (G m c i))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  run_from run_main m ρ
  exacts [final4 m c, final5 m c, final6 m c, final7 m c]

/-- The reference ends with the same arrays. -/
theorem algebraic : Cert.algebraic_StepMetaIdeal_StepMetaRefIdeal := fun m g m' g' _ h => by
  refine ⟨_, _, _, _, results m g, (θ_run _ _ _).mono (fun r hr c => ?_) (Cert.StepMetaRefIdeal.Value.run (F := Ideal) m' g')⟩
  obtain ⟨e0, e1, e2, e3, rest⟩ := hr c
  obtain ⟨a0, a1, a2, a3⟩ := h c
  refine ⟨e0.trans a3,
    e1.trans ((Opt.step_host _ _ _ _ _).trans (by rw [a0, a1, a2, a3])),
    e2.trans ((Opt.first_host _ _ _).trans (by rw [a1, a3])),
    e3.trans ((Opt.second_host _ _ _).trans (by rw [a2, a3])), rest⟩

end Cert.StepMetaIdeal.Results
end
-- ==== Proof.StepConvResults.lean ====
/-
# The step of the convolution's taps
-/
module

public import proofs.«01_k».proof.Defs
public import proofs.«01_k».proof.Proof.Gen.StepConvIdeal.Frame
public import proofs.«01_k».proof.Proof.Gen.StepConvRefIdeal.Run
public import proofs.«01_k».proof.Proof.Optimizer

@[expose] public section

set_option maxRecDepth 16384

noncomputable section

namespace Cert.StepConvIdeal.Results

open Cert.StepConvIdeal Cert.StepConvIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits at grid point `t`. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0]
    ∧ win0_6.index t = ![0, 0] ∧ win0_7.index t = ![0, 0] :=
  (by decide +kernel : ∀ t : Fin grid0.N, _)

/-- The weight. -/
abbrev W (c : Dev nD) : FVec Ideal S3x256 .f32 := m ((c : Thread nD τ).loc main_arg0)
/-- Its first moment. -/
abbrev M (c : Dev nD) : FVec Ideal S3x256 .f32 := m ((c : Thread nD τ).loc main_arg1)
/-- Its second moment. -/
abbrev U (c : Dev nD) : FVec Ideal S3x256 .f32 := m ((c : Thread nD τ).loc main_arg2)
/-- Its gradient. -/
abbrev G (c : Dev nD) : FVec Ideal S3x256 .f32 := m ((c : Thread nD τ).loc main_arg3)

/-- The gradient as the call hands it on. -/
theorem final4 (c : Dev nD) : (dats m 0 c).arrAt 4 (cfgs 0).N = G m c := by
  refine (dats m 0 c).arrAt_eq_of_covers 4 _ (by decide +kernel) fun t _ y => ?_
  blk_simp
  rw [after0_4]
  unfold out0_4
  frame_out
  pointwise [G]
  blk_point [iblk, V, idx t]

/-- The step. -/
theorem final5 (c : Dev nD) : (dats m 0 c).arrAt 5 (cfgs 0).N = fun i => Opt.step (W m c i) (M m c i) (U m c i) (G m c i) := by
  refine (dats m 0 c).arrAt_eq_of_covers 5 _ (by decide +kernel) fun t _ y => ?_
  blk_simp
  rw [after0_5]
  unfold out0_5
  frame_out
  pointwise [k0_pay3, k0_pay2, k0_pay1, G]
  refine Opt.step_congr ?_ ?_ ?_ ?_ <;> blk_point [iblk, V, idx t]

/-- The new first moment. -/
theorem final6 (c : Dev nD) : (dats m 0 c).arrAt 6 (cfgs 0).N = fun i => Opt.first (M m c i) (G m c i) := by
  refine (dats m 0 c).arrAt_eq_of_covers 6 _ (by decide +kernel) fun t _ y => ?_
  blk_simp
  rw [after0_6]
  unfold out0_6
  frame_out
  pointwise [k0_pay1, G]
  refine congrArg₂ Opt.first ?_ ?_ <;> blk_point [iblk, V, idx t]

/-- The new second moment. -/
theorem final7 (c : Dev nD) : (dats m 0 c).arrAt 7 (cfgs 0).N = fun i => Opt.second (U m c i) (G m c i) := by
  refine (dats m 0 c).arrAt_eq_of_covers 7 _ (by decide +kernel) fun t _ y => ?_
  blk_simp
  rw [after0_7]
  unfold out0_7
  frame_out
  pointwise [k0_pay2, G]
  refine congrArg₂ Opt.second ?_ ?_ <;> blk_point [iblk, V, idx t]

/-- The call ends with the gradient, the step and the new moments, and with its arguments unchanged. -/
theorem results (ρ : Dev nD → PrngReg) : θ_run defs (onTc (τ := τ) (main (F := Ideal))) ⟨m, fun _ => 0, ρ⟩ fun r => ∀ c : Dev nD,
    r.2.mem ((c.tc : Thread nD τ).loc main_v0_0) = G m c
    ∧ r.2.mem ((c.tc : Thread nD τ).loc main_v0_1) = (fun i => Opt.step (W m c i) (M m c i) (U m c i) (G m c i))
    ∧ r.2.mem ((c.tc : Thread nD τ).loc main_v0_2) = (fun i => Opt.first (M m c i) (G m c i))
    ∧ r.2.mem ((c.tc : Thread nD τ).loc main_v0_3) = (fun i => Opt.second (U m c i) (G m c i))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  run_from run_main m ρ
  exacts [final4 m c, final5 m c, final6 m c, final7 m c]

/-- The reference ends with the same arrays. -/
theorem algebraic : Cert.algebraic_StepConvIdeal_StepConvRefIdeal := fun m g m' g' _ h => by
  refine ⟨_, _, _, _, results m g, (θ_run _ _ _).mono (fun r hr c => ?_) (Cert.StepConvRefIdeal.Value.run (F := Ideal) m' g')⟩
  obtain ⟨e0, e1, e2, e3, rest⟩ := hr c
  obtain ⟨a0, a1, a2, a3⟩ := h c
  refine ⟨e0.trans a3,
    e1.trans ((Opt.step_host _ _ _ _ _).trans (by rw [a0, a1, a2, a3])),
    e2.trans ((Opt.first_host _ _ _).trans (by rw [a1, a3])),
    e3.trans ((Opt.second_host _ _ _).trans (by rw [a2, a3])), rest⟩

end Cert.StepConvIdeal.Results
end
-- ==== Proof.StepGainResults.lean ====
/-
# The step of a norm's gain
-/
module

public import proofs.«01_k».proof.Defs
public import proofs.«01_k».proof.Proof.Gen.StepGainIdeal.Frame
public import proofs.«01_k».proof.Proof.Gen.StepGainRefIdeal.Run
public import proofs.«01_k».proof.Proof.Optimizer

@[expose] public section

set_option maxRecDepth 16384

noncomputable section

namespace Cert.StepGainIdeal.Results

open Cert.StepGainIdeal Cert.StepGainIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits at grid point `t`. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0]
    ∧ win0_6.index t = ![0, 0] ∧ win0_7.index t = ![0, 0] :=
  (by decide +kernel : ∀ t : Fin grid0.N, _)

/-- The weight. -/
abbrev W (c : Dev nD) : FVec Ideal S1x2048 .f32 := m ((c : Thread nD τ).loc main_arg0)
/-- Its first moment. -/
abbrev M (c : Dev nD) : FVec Ideal S1x2048 .f32 := m ((c : Thread nD τ).loc main_arg1)
/-- Its second moment. -/
abbrev U (c : Dev nD) : FVec Ideal S1x2048 .f32 := m ((c : Thread nD τ).loc main_arg2)
/-- Its gradient. -/
abbrev G (c : Dev nD) : FVec Ideal S1x2048 .f32 := m ((c : Thread nD τ).loc main_arg3)

/-- The gradient as the call hands it on. -/
theorem final4 (c : Dev nD) : (dats m 0 c).arrAt 4 (cfgs 0).N = G m c := by
  refine (dats m 0 c).arrAt_eq_of_covers 4 _ (by decide +kernel) fun t _ y => ?_
  blk_simp
  rw [after0_4]
  unfold out0_4
  frame_out
  pointwise [G]
  blk_point [iblk, V, idx t]

/-- The step. -/
theorem final5 (c : Dev nD) : (dats m 0 c).arrAt 5 (cfgs 0).N = fun i => Opt.step (W m c i) (M m c i) (U m c i) (G m c i) := by
  refine (dats m 0 c).arrAt_eq_of_covers 5 _ (by decide +kernel) fun t _ y => ?_
  blk_simp
  rw [after0_5]
  unfold out0_5
  frame_out
  pointwise [k0_pay3, k0_pay2, k0_pay1, G]
  refine Opt.step_congr ?_ ?_ ?_ ?_ <;> blk_point [iblk, V, idx t]

/-- The new first moment. -/
theorem final6 (c : Dev nD) : (dats m 0 c).arrAt 6 (cfgs 0).N = fun i => Opt.first (M m c i) (G m c i) := by
  refine (dats m 0 c).arrAt_eq_of_covers 6 _ (by decide +kernel) fun t _ y => ?_
  blk_simp
  rw [after0_6]
  unfold out0_6
  frame_out
  pointwise [k0_pay1, G]
  refine congrArg₂ Opt.first ?_ ?_ <;> blk_point [iblk, V, idx t]

/-- The new second moment. -/
theorem final7 (c : Dev nD) : (dats m 0 c).arrAt 7 (cfgs 0).N = fun i => Opt.second (U m c i) (G m c i) := by
  refine (dats m 0 c).arrAt_eq_of_covers 7 _ (by decide +kernel) fun t _ y => ?_
  blk_simp
  rw [after0_7]
  unfold out0_7
  frame_out
  pointwise [k0_pay2, G]
  refine congrArg₂ Opt.second ?_ ?_ <;> blk_point [iblk, V, idx t]

/-- The call ends with the gradient, the step and the new moments, and with its arguments unchanged. -/
theorem results (ρ : Dev nD → PrngReg) : θ_run defs (onTc (τ := τ) (main (F := Ideal))) ⟨m, fun _ => 0, ρ⟩ fun r => ∀ c : Dev nD,
    r.2.mem ((c.tc : Thread nD τ).loc main_v0_0) = G m c
    ∧ r.2.mem ((c.tc : Thread nD τ).loc main_v0_1) = (fun i => Opt.step (W m c i) (M m c i) (U m c i) (G m c i))
    ∧ r.2.mem ((c.tc : Thread nD τ).loc main_v0_2) = (fun i => Opt.first (M m c i) (G m c i))
    ∧ r.2.mem ((c.tc : Thread nD τ).loc main_v0_3) = (fun i => Opt.second (U m c i) (G m c i))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  run_from run_main m ρ
  exacts [final4 m c, final5 m c, final6 m c, final7 m c]

/-- The reference ends with the same arrays. -/
theorem algebraic : Cert.algebraic_StepGainIdeal_StepGainRefIdeal := fun m g m' g' _ h => by
  refine ⟨_, _, _, _, results m g, (θ_run _ _ _).mono (fun r hr c => ?_) (Cert.StepGainRefIdeal.Value.run (F := Ideal) m' g')⟩
  obtain ⟨e0, e1, e2, e3, rest⟩ := hr c
  obtain ⟨a0, a1, a2, a3⟩ := h c
  refine ⟨e0.trans a3,
    e1.trans ((Opt.step_host _ _ _ _ _).trans (by rw [a0, a1, a2, a3])),
    e2.trans ((Opt.first_host _ _ _).trans (by rw [a1, a3])),
    e3.trans ((Opt.second_host _ _ _).trans (by rw [a2, a3])), rest⟩

end Cert.StepGainIdeal.Results
end
-- ==== Proof.StepSinksResults.lean ====
/-
# The step of the attention's sinks
-/
module

public import proofs.«01_k».proof.Defs
public import proofs.«01_k».proof.Proof.Gen.StepSinksIdeal.Frame
public import proofs.«01_k».proof.Proof.Gen.StepSinksRefIdeal.Run
public import proofs.«01_k».proof.Proof.Optimizer

@[expose] public section

set_option maxRecDepth 16384

noncomputable section

namespace Cert.StepSinksIdeal.Results

open Cert.StepSinksIdeal Cert.StepSinksIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits at grid point `t`. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0]
    ∧ win0_6.index t = ![0, 0] ∧ win0_7.index t = ![0, 0] :=
  (by decide +kernel : ∀ t : Fin grid0.N, _)

/-- The weight. -/
abbrev W (c : Dev nD) : FVec Ideal S1x32 .f32 := m ((c : Thread nD τ).loc main_arg0)
/-- Its first moment. -/
abbrev M (c : Dev nD) : FVec Ideal S1x32 .f32 := m ((c : Thread nD τ).loc main_arg1)
/-- Its second moment. -/
abbrev U (c : Dev nD) : FVec Ideal S1x32 .f32 := m ((c : Thread nD τ).loc main_arg2)
/-- Its gradient. -/
abbrev G (c : Dev nD) : FVec Ideal S1x32 .f32 := m ((c : Thread nD τ).loc main_arg3)

/-- The gradient as the call hands it on. -/
theorem final4 (c : Dev nD) : (dats m 0 c).arrAt 4 (cfgs 0).N = G m c := by
  refine (dats m 0 c).arrAt_eq_of_covers 4 _ (by decide +kernel) fun t _ y => ?_
  blk_simp
  rw [after0_4]
  unfold out0_4
  frame_out
  pointwise [G]
  blk_point [iblk, V, idx t]

/-- The step. -/
theorem final5 (c : Dev nD) : (dats m 0 c).arrAt 5 (cfgs 0).N = fun i => Opt.step (W m c i) (M m c i) (U m c i) (G m c i) := by
  refine (dats m 0 c).arrAt_eq_of_covers 5 _ (by decide +kernel) fun t _ y => ?_
  blk_simp
  rw [after0_5]
  unfold out0_5
  frame_out
  pointwise [k0_pay3, k0_pay2, k0_pay1, G]
  refine Opt.step_congr ?_ ?_ ?_ ?_ <;> blk_point [iblk, V, idx t]

/-- The new first moment. -/
theorem final6 (c : Dev nD) : (dats m 0 c).arrAt 6 (cfgs 0).N = fun i => Opt.first (M m c i) (G m c i) := by
  refine (dats m 0 c).arrAt_eq_of_covers 6 _ (by decide +kernel) fun t _ y => ?_
  blk_simp
  rw [after0_6]
  unfold out0_6
  frame_out
  pointwise [k0_pay1, G]
  refine congrArg₂ Opt.first ?_ ?_ <;> blk_point [iblk, V, idx t]

/-- The new second moment. -/
theorem final7 (c : Dev nD) : (dats m 0 c).arrAt 7 (cfgs 0).N = fun i => Opt.second (U m c i) (G m c i) := by
  refine (dats m 0 c).arrAt_eq_of_covers 7 _ (by decide +kernel) fun t _ y => ?_
  blk_simp
  rw [after0_7]
  unfold out0_7
  frame_out
  pointwise [k0_pay2, G]
  refine congrArg₂ Opt.second ?_ ?_ <;> blk_point [iblk, V, idx t]

/-- The call ends with the gradient, the step and the new moments, and with its arguments unchanged. -/
theorem results (ρ : Dev nD → PrngReg) : θ_run defs (onTc (τ := τ) (main (F := Ideal))) ⟨m, fun _ => 0, ρ⟩ fun r => ∀ c : Dev nD,
    r.2.mem ((c.tc : Thread nD τ).loc main_v0_0) = G m c
    ∧ r.2.mem ((c.tc : Thread nD τ).loc main_v0_1) = (fun i => Opt.step (W m c i) (M m c i) (U m c i) (G m c i))
    ∧ r.2.mem ((c.tc : Thread nD τ).loc main_v0_2) = (fun i => Opt.first (M m c i) (G m c i))
    ∧ r.2.mem ((c.tc : Thread nD τ).loc main_v0_3) = (fun i => Opt.second (U m c i) (G m c i))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  run_from run_main m ρ
  exacts [final4 m c, final5 m c, final6 m c, final7 m c]

/-- The reference ends with the same arrays. -/
theorem algebraic : Cert.algebraic_StepSinksIdeal_StepSinksRefIdeal := fun m g m' g' _ h => by
  refine ⟨_, _, _, _, results m g, (θ_run _ _ _).mono (fun r hr c => ?_) (Cert.StepSinksRefIdeal.Value.run (F := Ideal) m' g')⟩
  obtain ⟨e0, e1, e2, e3, rest⟩ := hr c
  obtain ⟨a0, a1, a2, a3⟩ := h c
  refine ⟨e0.trans a3,
    e1.trans ((Opt.step_host _ _ _ _ _).trans (by rw [a0, a1, a2, a3])),
    e2.trans ((Opt.first_host _ _ _).trans (by rw [a1, a3])),
    e3.trans ((Opt.second_host _ _ _).trans (by rw [a2, a3])), rest⟩

end Cert.StepSinksIdeal.Results
end
-- ==== Proof.NormResults.lean ====
/-
# The first norm

The kernel writes one tile of the result at a grid point. Every tile is every row divided by the root of its mean square, times the gain, as the
reference has it.
-/
module

public import proofs.«01_k».proof.Defs
public import proofs.«01_k».proof.Proof.Gen.NormIdeal.Frame
public import proofs.«01_k».proof.Proof.Gen.NormRefIdeal.Run
public import Idealize.ShloMosaic.Lib.Pipeline.ValueKit

@[expose] public section

set_option maxRecDepth 16384

noncomputable section

namespace Cert.NormRefIdeal.Results

open Cert.NormRefIdeal Cert.NormRefIdeal.Gen Idealize.ShloMosaic

/-- The reference's result: every row divided by the root of its mean square, times the gain. -/
abbrev REF (a : FVec Ideal S8320x2048 .f32) (b : FVec Ideal S1x2048 .f32) : FVec Ideal S8320x2048 .bf16 :=
  truncf .bf16 (mulf (mulf a (broadcastInDim S8320x2048 ![0, 1] bcast_S8320x1_S8320x2048_0_1 (Host.rsqrt (addf (Host.divf (broadcastInDim S8320x1 ![0] bcast_S8320_S8320x1_0 (Host.reduceAdd (mulf a a) (constant S_ .f32 0x00000000#32) reducesTo_S8320x2048_S8320_d1 h_S_)) (broadcastInDim S8320x1 ![] bcast_S_S8320x1 (constant S_ .f32 0x45000000#32))) (broadcastInDim S8320x1 ![] bcast_S_S8320x1 (constant S_ .f32 0x3727C5AC#32)))))) (broadcastInDim S8320x2048 ![0, 1] bcast_S1x2048_S8320x2048_0_1 b)) bitsLt_bf16_f32

end Cert.NormRefIdeal.Results

namespace Cert.NormIdeal.Results

open Cert.NormIdeal Cert.NormIdeal.Gen Idealize.ShloMosaic Idealize.ShloMosaic.TcCoe Idealize.SL.Sem
open Idealize.ShloMosaic.Pipeline (Dat)
open Cert.NormRefIdeal.Results (REF)

variable (m : (ℓ : Loc nD τ sig) → Buf (Elt Ideal) ℓ)

/-- Which tile each window holds at a grid point. -/
theorem idx : ∀ t : Fin cfg0.N, win0_0.index t = ![t.val, 0] ∧ win0_1.index t = ![0, 0] ∧ win0_2.index t = ![t.val, 0] :=
  (by decide +kernel : ∀ t : Fin grid0.N, _)

/-- The result array, once every tile is written. -/
theorem final (c : Dev nD) : (dats m 0 c).arrAt 2 (cfgs 0).N =
    REF (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  frame_out
  pointwise [k0_pay1, REF]
  blk_point [iblk, V, idx t]

/-- Kernel and reference end with the same result. -/
theorem algebraic : Cert.algebraic_NormIdeal_NormRefIdeal := by
  pair_intro
  · run_from run_main m g
  · run_from Cert.NormRefIdeal.Value.run m' g'
    exact (final m c).symm

end Cert.NormIdeal.Results

end
-- ==== Proof.ProjUpResults.lean ====
/-
# An up projection

The kernel writes one tile of the result at a grid point. Every tile is the product of the rows with the transposed weight, its negative entries set to zero, as the
reference has it.
-/
module

public import proofs.«01_k».proof.Defs
public import proofs.«01_k».proof.Proof.Gen.ProjUpIdeal.Frame
public import proofs.«01_k».proof.Proof.Gen.ProjUpRefIdeal.Run
public import Idealize.ShloMosaic.Lib.Pipeline.ValueKit

@[expose] public section

set_option maxRecDepth 16384

noncomputable section

namespace Cert.ProjUpRefIdeal.Results

open Cert.ProjUpRefIdeal Cert.ProjUpRefIdeal.Gen Idealize.ShloMosaic

/-- The reference's result: the product of the rows with the transposed weight, its negative entries set to zero. -/
abbrev REF (a : FVec Ideal S8320x2048 .bf16) (b : FVec Ideal S8192x2048 .bf16) : FVec Ideal S8320x8192 .bf16 :=
  truncf .bf16 (maximumf (Host.dotGeneral dot_S8320x2048_S2048x8192_S8320x8192_1_0_0_1_n_n none a (transpose S2048x8192 [1, 0] b transposes_S8192x2048_S2048x8192_1_0)) (broadcastInDim S8320x8192 ![] bcast_S_S8320x8192 (constant S_ .f32 0x00000000#32))) bitsLt_bf16_f32

end Cert.ProjUpRefIdeal.Results

namespace Cert.ProjUpIdeal.Results

open Cert.ProjUpIdeal Cert.ProjUpIdeal.Gen Idealize.ShloMosaic Idealize.ShloMosaic.TcCoe Idealize.SL.Sem
open Idealize.ShloMosaic.Pipeline (Dat)
open Cert.ProjUpRefIdeal.Results (REF)

variable (m : (ℓ : Loc nD τ sig) → Buf (Elt Ideal) ℓ)

/-- Which tile each window holds at a grid point. -/
theorem idx : ∀ t : Fin cfg0.N, win0_0.index t = ![t.val / 16, 0] ∧ win0_1.index t = ![t.val % 16, 0]
    ∧ win0_2.index t = ![t.val / 16, t.val % 16] :=
  (by decide +kernel : ∀ t : Fin grid0.N, _)

/-- The result array, once every tile is written. -/
theorem final (c : Dev nD) : (dats m 0 c).arrAt 2 (cfgs 0).N =
    REF (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  frame_out
  pointwise [k0_pay1, REF]
  blk_point [iblk, V, idx t]

/-- Kernel and reference end with the same result. -/
theorem algebraic : Cert.algebraic_ProjUpIdeal_ProjUpRefIdeal := by
  pair_intro
  · run_from run_main m g
  · run_from Cert.ProjUpRefIdeal.Value.run m' g'
    exact (final m c).symm

end Cert.ProjUpIdeal.Results

end
-- ==== Proof.BackDownResults.lean ====
/-
# The cotangent before a squared activation

The kernel writes one tile of the result at a grid point. Every tile is the product of the cotangent with the transposed down weight, times twice the activation, as the
reference has it.
-/
module

public import proofs.«01_k».proof.Defs
public import proofs.«01_k».proof.Proof.Gen.BackDownIdeal.Frame
public import proofs.«01_k».proof.Proof.Gen.BackDownRefIdeal.Run
public import Idealize.ShloMosaic.Lib.Pipeline.ValueKit

@[expose] public section

set_option maxRecDepth 16384

noncomputable section

namespace Cert.BackDownRefIdeal.Results

open Cert.BackDownRefIdeal Cert.BackDownRefIdeal.Gen Idealize.ShloMosaic

/-- The reference's result: the product of the cotangent with the transposed down weight, times twice the activation. -/
abbrev REF (a : FVec Ideal S8320x2048 .bf16) (b : FVec Ideal S8192x2048 .bf16) (c : FVec Ideal S8320x8192 .bf16) : FVec Ideal S8320x8192 .bf16 :=
  truncf .bf16 (mulf (mulf (broadcastInDim S8320x8192 ![] bcast_S_S8320x8192 (constant S_ .f32 0x40000000#32)) (extf .f32 c bitsLt_bf16_f32)) (Host.dotGeneral dot_S8320x2048_S2048x8192_S8320x8192_1_0_0_1_n_n none a (transpose S2048x8192 [1, 0] b transposes_S8192x2048_S2048x8192_1_0))) bitsLt_bf16_f32

end Cert.BackDownRefIdeal.Results

namespace Cert.BackDownIdeal.Results

open Cert.BackDownIdeal Cert.BackDownIdeal.Gen Idealize.ShloMosaic Idealize.ShloMosaic.TcCoe Idealize.SL.Sem
open Idealize.ShloMosaic.Pipeline (Dat)
open Cert.BackDownRefIdeal.Results (REF)

variable (m : (ℓ : Loc nD τ sig) → Buf (Elt Ideal) ℓ)

/-- Which tile each window holds at a grid point. -/
theorem idx : ∀ t : Fin cfg0.N, win0_0.index t = ![t.val / 16, 0] ∧ win0_1.index t = ![t.val % 16, 0]
    ∧ win0_2.index t = ![t.val / 16, t.val % 16]
    ∧ win0_3.index t = ![t.val / 16, t.val % 16] :=
  (by decide +kernel : ∀ t : Fin grid0.N, _)

/-- The result array, once every tile is written. -/
theorem final (c : Dev nD) : (dats m 0 c).arrAt 3 (cfgs 0).N =
    REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold out0_3
  frame_out
  pointwise [k0_pay1, REF]
  blk_point [iblk, V, idx t]

/-- Kernel and reference end with the same result. -/
theorem algebraic : Cert.algebraic_BackDownIdeal_BackDownRefIdeal := by
  pair_intro
  · run_from run_main m g
  · run_from Cert.BackDownRefIdeal.Value.run m' g'
    exact (final m c).symm

end Cert.BackDownIdeal.Results

end
-- ==== Proof.ProjInResults.lean ====
/-
# The input projection

The kernel writes one tile of the result at a grid point. Every tile is the product of the rows with the transposed weight, as the
reference has it.
-/
module

public import proofs.«01_k».proof.Defs
public import proofs.«01_k».proof.Proof.Gen.ProjInIdeal.Frame
public import proofs.«01_k».proof.Proof.Gen.ProjInRefIdeal.Run
public import Idealize.ShloMosaic.Lib.Pipeline.ValueKit

@[expose] public section

set_option maxRecDepth 16384

noncomputable section

namespace Cert.ProjInRefIdeal.Results

open Cert.ProjInRefIdeal Cert.ProjInRefIdeal.Gen Idealize.ShloMosaic

/-- The reference's result: the product of the rows with the transposed weight. -/
abbrev REF (a : FVec Ideal S8320x2048 .bf16) (b : FVec Ideal S6144x2048 .bf16) : FVec Ideal S8320x6144 .bf16 :=
  truncf .bf16 (Host.dotGeneral dot_S8320x2048_S2048x6144_S8320x6144_1_0_0_1_n_n none a (transpose S2048x6144 [1, 0] b transposes_S6144x2048_S2048x6144_1_0)) bitsLt_bf16_f32

end Cert.ProjInRefIdeal.Results

namespace Cert.ProjInIdeal.Results

open Cert.ProjInIdeal Cert.ProjInIdeal.Gen Idealize.ShloMosaic Idealize.ShloMosaic.TcCoe Idealize.SL.Sem
open Idealize.ShloMosaic.Pipeline (Dat)
open Cert.ProjInRefIdeal.Results (REF)

variable (m : (ℓ : Loc nD τ sig) → Buf (Elt Ideal) ℓ)

/-- Which tile each window holds at a grid point. -/
theorem idx : ∀ t : Fin cfg0.N, win0_0.index t = ![t.val / 12, 0] ∧ win0_1.index t = ![t.val % 12, 0]
    ∧ win0_2.index t = ![t.val / 12, t.val % 12] :=
  (by decide +kernel : ∀ t : Fin grid0.N, _)

/-- The result array, once every tile is written. -/
theorem final (c : Dev nD) : (dats m 0 c).arrAt 2 (cfgs 0).N =
    REF (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  frame_out
  pointwise [k0_pay1, REF]
  blk_point [iblk, V, idx t]

/-- Kernel and reference end with the same result. -/
theorem algebraic : Cert.algebraic_ProjInIdeal_ProjInRefIdeal := by
  pair_intro
  · run_from run_main m g
  · run_from Cert.ProjInRefIdeal.Value.run m' g'
    exact (final m c).symm

end Cert.ProjInIdeal.Results

end
-- ==== Proof.BackOResults.lean ====
/-
# The cotangent before the attention output projection

The kernel writes one tile of the result at a grid point. Every tile is the product of the cotangent with the transposed weight, as the
reference has it.
-/
module

public import proofs.«01_k».proof.Defs
public import proofs.«01_k».proof.Proof.Gen.BackOIdeal.Frame
public import proofs.«01_k».proof.Proof.Gen.BackORefIdeal.Run
public import Idealize.ShloMosaic.Lib.Pipeline.ValueKit

@[expose] public section

set_option maxRecDepth 16384

noncomputable section

namespace Cert.BackORefIdeal.Results

open Cert.BackORefIdeal Cert.BackORefIdeal.Gen Idealize.ShloMosaic

/-- The reference's result: the product of the cotangent with the transposed weight. -/
abbrev REF (a : FVec Ideal S8320x2048 .bf16) (b : FVec Ideal S2048x2048 .bf16) : FVec Ideal S8320x2048 .bf16 :=
  truncf .bf16 (Host.dotGeneral dot_S8320x2048_S2048x2048_S8320x2048_1_0_0_1_n_n none a (transpose S2048x2048 [1, 0] b transposes_S2048x2048_S2048x2048_1_0)) bitsLt_bf16_f32

end Cert.BackORefIdeal.Results

namespace Cert.BackOIdeal.Results

open Cert.BackOIdeal Cert.BackOIdeal.Gen Idealize.ShloMosaic Idealize.ShloMosaic.TcCoe Idealize.SL.Sem
open Idealize.ShloMosaic.Pipeline (Dat)
open Cert.BackORefIdeal.Results (REF)

variable (m : (ℓ : Loc nD τ sig) → Buf (Elt Ideal) ℓ)

/-- Which tile each window holds at a grid point. -/
theorem idx : ∀ t : Fin cfg0.N, win0_0.index t = ![t.val / 4, 0] ∧ win0_1.index t = ![t.val % 4, 0]
    ∧ win0_2.index t = ![t.val / 4, t.val % 4] :=
  (by decide +kernel : ∀ t : Fin grid0.N, _)

/-- The result array, once every tile is written. -/
theorem final (c : Dev nD) : (dats m 0 c).arrAt 2 (cfgs 0).N =
    REF (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  frame_out
  pointwise [k0_pay1, REF]
  blk_point [iblk, V, idx t]

/-- Kernel and reference end with the same result. -/
theorem algebraic : Cert.algebraic_BackOIdeal_BackORefIdeal := by
  pair_intro
  · run_from run_main m g
  · run_from Cert.BackORefIdeal.Value.run m' g'
    exact (final m c).symm

end Cert.BackOIdeal.Results

end
-- ==== Proof.ProjQkvResults.lean ====
/-
# The query, key and value projection

The kernel writes one tile of the result at a grid point. Every tile is the product of the rows with the transposed weight, as the
reference has it.
-/
module

public import proofs.«01_k».proof.Defs
public import proofs.«01_k».proof.Proof.Gen.ProjQkvIdeal.Frame
public import proofs.«01_k».proof.Proof.Gen.ProjQkvRefIdeal.Run
public import Idealize.ShloMosaic.Lib.Pipeline.ValueKit

@[expose] public section

set_option maxRecDepth 16384

noncomputable section

namespace Cert.ProjQkvRefIdeal.Results

open Cert.ProjQkvRefIdeal Cert.ProjQkvRefIdeal.Gen Idealize.ShloMosaic

/-- The reference's result: the product of the rows with the transposed weight. -/
abbrev REF (a : FVec Ideal S8320x2048 .bf16) (b : FVec Ideal S2560x2048 .bf16) : FVec Ideal S8320x2560 .f32 :=
  Host.dotGeneral dot_S8320x2048_S2048x2560_S8320x2560_1_0_0_1_n_n none a (transpose S2048x2560 [1, 0] b transposes_S2560x2048_S2048x2560_1_0)

end Cert.ProjQkvRefIdeal.Results

namespace Cert.ProjQkvIdeal.Results

open Cert.ProjQkvIdeal Cert.ProjQkvIdeal.Gen Idealize.ShloMosaic Idealize.ShloMosaic.TcCoe Idealize.SL.Sem
open Idealize.ShloMosaic.Pipeline (Dat)
open Cert.ProjQkvRefIdeal.Results (REF)

variable (m : (ℓ : Loc nD τ sig) → Buf (Elt Ideal) ℓ)

/-- Which tile each window holds at a grid point. -/
theorem idx : ∀ t : Fin cfg0.N, win0_0.index t = ![t.val / 5, 0] ∧ win0_1.index t = ![t.val % 5, 0]
    ∧ win0_2.index t = ![t.val / 5, t.val % 5] :=
  (by decide +kernel : ∀ t : Fin grid0.N, _)

/-- The result array, once every tile is written. -/
theorem final (c : Dev nD) : (dats m 0 c).arrAt 2 (cfgs 0).N =
    REF (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  frame_out
  pointwise [k0_pay1, REF]
  blk_point [iblk, V, idx t]

/-- Kernel and reference end with the same result. -/
theorem algebraic : Cert.algebraic_ProjQkvIdeal_ProjQkvRefIdeal := by
  pair_intro
  · run_from run_main m g
  · run_from Cert.ProjQkvRefIdeal.Value.run m' g'
    exact (final m c).symm

end Cert.ProjQkvIdeal.Results

end
-- ==== Proof.BackOutResults.lean ====
/-
# The cotangent before the convolution output projection

The kernel writes one tile of the result at a grid point. Every tile is the product of the cotangent with the transposed weight, as the
reference has it.
-/
module

public import proofs.«01_k».proof.Defs
public import proofs.«01_k».proof.Proof.Gen.BackOutIdeal.Frame
public import proofs.«01_k».proof.Proof.Gen.BackOutRefIdeal.Run
public import Idealize.ShloMosaic.Lib.Pipeline.ValueKit

@[expose] public section

set_option maxRecDepth 16384

noncomputable section

namespace Cert.BackOutRefIdeal.Results

open Cert.BackOutRefIdeal Cert.BackOutRefIdeal.Gen Idealize.ShloMosaic

/-- The reference's result: the product of the cotangent with the transposed weight. -/
abbrev REF (a : FVec Ideal S8320x2048 .bf16) (b : FVec Ideal S2048x2048 .bf16) : FVec Ideal S8320x2048 .f32 :=
  Host.dotGeneral dot_S8320x2048_S2048x2048_S8320x2048_1_0_0_1_n_n none a (transpose S2048x2048 [1, 0] b transposes_S2048x2048_S2048x2048_1_0)

end Cert.BackOutRefIdeal.Results

namespace Cert.BackOutIdeal.Results

open Cert.BackOutIdeal Cert.BackOutIdeal.Gen Idealize.ShloMosaic Idealize.ShloMosaic.TcCoe Idealize.SL.Sem
open Idealize.ShloMosaic.Pipeline (Dat)
open Cert.BackOutRefIdeal.Results (REF)

variable (m : (ℓ : Loc nD τ sig) → Buf (Elt Ideal) ℓ)

/-- Which tile each window holds at a grid point. -/
theorem idx : ∀ t : Fin cfg0.N, win0_0.index t = ![t.val / 4, 0] ∧ win0_1.index t = ![t.val % 4, 0]
    ∧ win0_2.index t = ![t.val / 4, t.val % 4] :=
  (by decide +kernel : ∀ t : Fin grid0.N, _)

/-- The result array, once every tile is written. -/
theorem final (c : Dev nD) : (dats m 0 c).arrAt 2 (cfgs 0).N =
    REF (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  frame_out
  pointwise [k0_pay1, REF]
  blk_point [iblk, V, idx t]

/-- Kernel and reference end with the same result. -/
theorem algebraic : Cert.algebraic_BackOutIdeal_BackOutRefIdeal := by
  pair_intro
  · run_from run_main m g
  · run_from Cert.BackOutRefIdeal.Value.run m' g'
    exact (final m c).symm

end Cert.BackOutIdeal.Results

end
-- ==== Proof.GradDownResults.lean ====
/-
# The gradient of a down projection

The kernel adds thirteen products of 640 rows each into a scratch block, and writes the block out, rounded to
the short format, after the last. The reference multiplies all 8320 rows at once.
-/
module

public import proofs.«01_k».proof.Defs
public import proofs.«01_k».proof.Proof.Gen.GradDownIdeal.Frame
public import proofs.«01_k».proof.Proof.Gen.GradDownRefIdeal.Run
public import Idealize.ShloMosaic.Lib.Pipeline.ValueKit
public import Idealize.ShloMosaic.Lib.Pipeline.ReadBack

@[expose] public section

set_option maxRecDepth 16384

noncomputable section

namespace Cert.GradDownRefIdeal.Results

open Cert.GradDownRefIdeal Cert.GradDownRefIdeal.Gen Idealize.ShloMosaic

/-- The reference's result: the transposed left rows, squared, times the right rows. -/
abbrev REF (a : FVec Ideal S8320x8192 .bf16) (b : FVec Ideal S8320x2048 .bf16) : FVec Ideal S8192x2048 .bf16 :=
  truncf .bf16 (Host.dotGeneral dot_S8192x8320_S8320x2048_S8192x2048_1_0_0_1_n_n none (transpose S8192x8320 [1, 0] (truncf .bf16 (mulf (extf .f32 a bitsLt_bf16_f32) (extf .f32 a bitsLt_bf16_f32)) bitsLt_bf16_f32) transposes_S8320x8192_S8192x8320_1_0) b) bitsLt_bf16_f32

end Cert.GradDownRefIdeal.Results

namespace Cert.GradDownIdeal.Results

open Cert.GradDownIdeal Cert.GradDownIdeal.Gen Idealize.ShloMosaic Idealize.ShloMosaic.TcCoe Idealize.SL.Sem
open Idealize.ShloMosaic.Pipeline (Dat)
open Cert.GradDownRefIdeal.Results

variable (m : (ℓ : Loc nD τ sig) → Buf (Elt Ideal) ℓ)

/-- Which block each window holds at a grid point. -/
theorem idx : ∀ t : Fin cfg0.N, win0_0.index t = ![t.val % 13, t.val / 13] ∧ win0_1.index t = ![t.val % 13, 0]
    ∧ win0_2.index t = ![t.val / 13, 0] := (by decide +kernel : ∀ t : Fin grid0.N, _)

/-- The first point of a block stores its own product. -/
theorem first (x : Vec Ideal S640x1024 .bf16) (y : Vec Ideal S640x2048 .bf16) (j) :
    k0_pay2 x y j = ∑ k : Fin 640, (x (ix2 k (j 0)) * x (ix2 k (j 0))) * y (ix2 k (j 1)) := by
  pointwise [k0_pay2, k0_pay1]

/-- Every later point adds its product. -/
theorem next (x : Vec Ideal S640x1024 .bf16) (y : Vec Ideal S640x2048 .bf16) (acc : Vec Ideal S1024x2048 .f32) (j) :
    k0_pay3 x y acc j = acc j + ∑ k : Fin 640, (x (ix2 k (j 0)) * x (ix2 k (j 0))) * y (ix2 k (j 1)) := by
  pointwise [k0_pay3, k0_pay1]

/-- The reference's entry as one sum. -/
theorem whole (a : FVec Ideal S8320x8192 .bf16) (b : FVec Ideal S8320x2048 .bf16) (j) :
    REF a b j = ∑ k : Fin 8320, (a (ix2 k (j 0)) * a (ix2 k (j 0))) * b (ix2 k (j 1)) := by
  pointwise [REF]

/-- The last point of a block writes out what the scratch holds. -/
theorem last (c : Dev nD) (t : Fin cfg0.N) (h : t.val % 13 = 12) (y) :
    (outsAt0 m c t.val t.isLt).1 y = (outsAt0 m c t.val t.isLt).2 y := by
  rw [outsAt0_C m c t (by omega) (by omega) h]
  frame_out
  pointwise [k0_pay4]

/-- The result array, once every block is written. -/
theorem final (c : Dev nD) : (dats m 0 c).arrAt 2 (cfgs 0).N =
    REF (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf),
    Pipeline.eq_sum_fin_of_reset_step_apply_of_flush (fun n h => (outsAt0 m c n h).2) 13 (fun _ => 0) _
    (fun t h j => by rw [outsAt0_A m c t h (by omega) (by omega)]; frame_out; rw [first, zero_add])
    (fun t h j => by
      rcases Decidable.em (t.val % 13 = 12) with h2 | h2
      · rw [outsAt0_C m c t h (by omega) h2]; frame_out; rw [read_unread_whole, next]
      · rw [outsAt0_B m c t h (by omega) h2]; frame_out; rw [read_unread_whole, next])
    t ((flush0_2 t).mp hf) _, zero_add, whole]
  refine Fin.sum_mul_add_congr fun s k hl => ?_
  blk_point [iblk, V, idx t, idx ⟨_, Pipeline.run_point_lt_of_flush t ((flush0_2 t).mp hf) s⟩]

/-- Kernel and reference end with the same result. -/
theorem algebraic : Cert.algebraic_GradDownIdeal_GradDownRefIdeal := by
  pair_intro
  · run_from run_main m g
  · run_from Cert.GradDownRefIdeal.Value.run m' g'
    exact (final m c).symm

end Cert.GradDownIdeal.Results

end
-- ==== Proof.GradUpResults.lean ====
/-
# The gradient of an up projection

The kernel adds thirteen products of 640 rows each into a scratch block, and writes the block out, rounded to
the short format, after the last. The reference multiplies all 8320 rows at once.
-/
module

public import proofs.«01_k».proof.Defs
public import proofs.«01_k».proof.Proof.Gen.GradUpIdeal.Frame
public import proofs.«01_k».proof.Proof.Gen.GradUpRefIdeal.Run
public import Idealize.ShloMosaic.Lib.Pipeline.ValueKit
public import Idealize.ShloMosaic.Lib.Pipeline.ReadBack

@[expose] public section

set_option maxRecDepth 16384

noncomputable section

namespace Cert.GradUpRefIdeal.Results

open Cert.GradUpRefIdeal Cert.GradUpRefIdeal.Gen Idealize.ShloMosaic

/-- The reference's result: the transposed left rows times the right rows. -/
abbrev REF (a : FVec Ideal S8320x8192 .bf16) (b : FVec Ideal S8320x2048 .bf16) : FVec Ideal S8192x2048 .bf16 :=
  truncf .bf16 (Host.dotGeneral dot_S8192x8320_S8320x2048_S8192x2048_1_0_0_1_n_n none (transpose S8192x8320 [1, 0] a transposes_S8320x8192_S8192x8320_1_0) b) bitsLt_bf16_f32

end Cert.GradUpRefIdeal.Results

namespace Cert.GradUpIdeal.Results

open Cert.GradUpIdeal Cert.GradUpIdeal.Gen Idealize.ShloMosaic Idealize.ShloMosaic.TcCoe Idealize.SL.Sem
open Idealize.ShloMosaic.Pipeline (Dat)
open Cert.GradUpRefIdeal.Results

variable (m : (ℓ : Loc nD τ sig) → Buf (Elt Ideal) ℓ)

/-- Which block each window holds at a grid point. -/
theorem idx : ∀ t : Fin cfg0.N, win0_0.index t = ![t.val % 13, t.val / 13] ∧ win0_1.index t = ![t.val % 13, 0]
    ∧ win0_2.index t = ![t.val / 13, 0] := (by decide +kernel : ∀ t : Fin grid0.N, _)

/-- The first point of a block stores its own product. -/
theorem first (x : Vec Ideal S640x1024 .bf16) (y : Vec Ideal S640x2048 .bf16) (j) :
    k0_pay2 x y j = ∑ k : Fin 640, x (ix2 k (j 0)) * y (ix2 k (j 1)) := by
  pointwise [k0_pay2, k0_pay1]

/-- Every later point adds its product. -/
theorem next (x : Vec Ideal S640x1024 .bf16) (y : Vec Ideal S640x2048 .bf16) (acc : Vec Ideal S1024x2048 .f32) (j) :
    k0_pay3 x y acc j = acc j + ∑ k : Fin 640, x (ix2 k (j 0)) * y (ix2 k (j 1)) := by
  pointwise [k0_pay3, k0_pay1]

/-- The reference's entry as one sum. -/
theorem whole (a : FVec Ideal S8320x8192 .bf16) (b : FVec Ideal S8320x2048 .bf16) (j) :
    REF a b j = ∑ k : Fin 8320, a (ix2 k (j 0)) * b (ix2 k (j 1)) := by
  pointwise [REF]

/-- The last point of a block writes out what the scratch holds. -/
theorem last (c : Dev nD) (t : Fin cfg0.N) (h : t.val % 13 = 12) (y) :
    (outsAt0 m c t.val t.isLt).1 y = (outsAt0 m c t.val t.isLt).2 y := by
  rw [outsAt0_C m c t (by omega) (by omega) h]
  frame_out
  pointwise [k0_pay4]

/-- The result array, once every block is written. -/
theorem final (c : Dev nD) : (dats m 0 c).arrAt 2 (cfgs 0).N =
    REF (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf),
    Pipeline.eq_sum_fin_of_reset_step_apply_of_flush (fun n h => (outsAt0 m c n h).2) 13 (fun _ => 0) _
    (fun t h j => by rw [outsAt0_A m c t h (by omega) (by omega)]; frame_out; rw [first, zero_add])
    (fun t h j => by
      rcases Decidable.em (t.val % 13 = 12) with h2 | h2
      · rw [outsAt0_C m c t h (by omega) h2]; frame_out; rw [read_unread_whole, next]
      · rw [outsAt0_B m c t h (by omega) h2]; frame_out; rw [read_unread_whole, next])
    t ((flush0_2 t).mp hf) _, zero_add, whole]
  refine Fin.sum_mul_add_congr fun s k hl => ?_
  blk_point [iblk, V, idx t, idx ⟨_, Pipeline.run_point_lt_of_flush t ((flush0_2 t).mp hf) s⟩]

/-- Kernel and reference end with the same result. -/
theorem algebraic : Cert.algebraic_GradUpIdeal_GradUpRefIdeal := by
  pair_intro
  · run_from run_main m g
  · run_from Cert.GradUpRefIdeal.Value.run m' g'
    exact (final m c).symm

end Cert.GradUpIdeal.Results

end
-- ==== Proof.GradInResults.lean ====
/-
# The gradient of the input projection

The kernel adds thirteen products of 640 rows each into a scratch block, and writes the block out, rounded to
the short format, after the last. The reference multiplies all 8320 rows at once.
-/
module

public import proofs.«01_k».proof.Defs
public import proofs.«01_k».proof.Proof.Gen.GradInIdeal.Frame
public import proofs.«01_k».proof.Proof.Gen.GradInRefIdeal.Run
public import Idealize.ShloMosaic.Lib.Pipeline.ValueKit
public import Idealize.ShloMosaic.Lib.Pipeline.ReadBack

@[expose] public section

set_option maxRecDepth 16384

noncomputable section

namespace Cert.GradInRefIdeal.Results

open Cert.GradInRefIdeal Cert.GradInRefIdeal.Gen Idealize.ShloMosaic

/-- The reference's result: the transposed left rows times the right rows. -/
abbrev REF (a : FVec Ideal S8320x6144 .bf16) (b : FVec Ideal S8320x2048 .bf16) : FVec Ideal S6144x2048 .bf16 :=
  truncf .bf16 (Host.dotGeneral dot_S6144x8320_S8320x2048_S6144x2048_1_0_0_1_n_n none (transpose S6144x8320 [1, 0] a transposes_S8320x6144_S6144x8320_1_0) b) bitsLt_bf16_f32

end Cert.GradInRefIdeal.Results

namespace Cert.GradInIdeal.Results

open Cert.GradInIdeal Cert.GradInIdeal.Gen Idealize.ShloMosaic Idealize.ShloMosaic.TcCoe Idealize.SL.Sem
open Idealize.ShloMosaic.Pipeline (Dat)
open Cert.GradInRefIdeal.Results

variable (m : (ℓ : Loc nD τ sig) → Buf (Elt Ideal) ℓ)

/-- Which block each window holds at a grid point. -/
theorem idx : ∀ t : Fin cfg0.N, win0_0.index t = ![t.val % 13, t.val / 13] ∧ win0_1.index t = ![t.val % 13, 0]
    ∧ win0_2.index t = ![t.val / 13, 0] := (by decide +kernel : ∀ t : Fin grid0.N, _)

/-- The first point of a block stores its own product. -/
theorem first (x : Vec Ideal S640x1024 .bf16) (y : Vec Ideal S640x2048 .bf16) (j) :
    k0_pay2 x y j = ∑ k : Fin 640, x (ix2 k (j 0)) * y (ix2 k (j 1)) := by
  pointwise [k0_pay2, k0_pay1]

/-- Every later point adds its product. -/
theorem next (x : Vec Ideal S640x1024 .bf16) (y : Vec Ideal S640x2048 .bf16) (acc : Vec Ideal S1024x2048 .f32) (j) :
    k0_pay3 x y acc j = acc j + ∑ k : Fin 640, x (ix2 k (j 0)) * y (ix2 k (j 1)) := by
  pointwise [k0_pay3, k0_pay1]

/-- The reference's entry as one sum. -/
theorem whole (a : FVec Ideal S8320x6144 .bf16) (b : FVec Ideal S8320x2048 .bf16) (j) :
    REF a b j = ∑ k : Fin 8320, a (ix2 k (j 0)) * b (ix2 k (j 1)) := by
  pointwise [REF]

/-- The last point of a block writes out what the scratch holds. -/
theorem last (c : Dev nD) (t : Fin cfg0.N) (h : t.val % 13 = 12) (y) :
    (outsAt0 m c t.val t.isLt).1 y = (outsAt0 m c t.val t.isLt).2 y := by
  rw [outsAt0_C m c t (by omega) (by omega) h]
  frame_out
  pointwise [k0_pay4]

/-- The result array, once every block is written. -/
theorem final (c : Dev nD) : (dats m 0 c).arrAt 2 (cfgs 0).N =
    REF (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf),
    Pipeline.eq_sum_fin_of_reset_step_apply_of_flush (fun n h => (outsAt0 m c n h).2) 13 (fun _ => 0) _
    (fun t h j => by rw [outsAt0_A m c t h (by omega) (by omega)]; frame_out; rw [first, zero_add])
    (fun t h j => by
      rcases Decidable.em (t.val % 13 = 12) with h2 | h2
      · rw [outsAt0_C m c t h (by omega) h2]; frame_out; rw [read_unread_whole, next]
      · rw [outsAt0_B m c t h (by omega) h2]; frame_out; rw [read_unread_whole, next])
    t ((flush0_2 t).mp hf) _, zero_add, whole]
  refine Fin.sum_mul_add_congr fun s k hl => ?_
  blk_point [iblk, V, idx t, idx ⟨_, Pipeline.run_point_lt_of_flush t ((flush0_2 t).mp hf) s⟩]

/-- Kernel and reference end with the same result. -/
theorem algebraic : Cert.algebraic_GradInIdeal_GradInRefIdeal := by
  pair_intro
  · run_from run_main m g
  · run_from Cert.GradInRefIdeal.Value.run m' g'
    exact (final m c).symm

end Cert.GradInIdeal.Results

end
-- ==== Proof.GradQkvResults.lean ====
/-
# The gradient of the query, key and value projection

The kernel adds thirteen products of 640 rows each into a scratch block, and writes the block out, rounded to
the short format, after the last. The reference multiplies all 8320 rows at once.
-/
module

public import proofs.«01_k».proof.Defs
public import proofs.«01_k».proof.Proof.Gen.GradQkvIdeal.Frame
public import proofs.«01_k».proof.Proof.Gen.GradQkvRefIdeal.Run
public import Idealize.ShloMosaic.Lib.Pipeline.ValueKit
public import Idealize.ShloMosaic.Lib.Pipeline.ReadBack

@[expose] public section

set_option maxRecDepth 16384

noncomputable section

namespace Cert.GradQkvRefIdeal.Results

open Cert.GradQkvRefIdeal Cert.GradQkvRefIdeal.Gen Idealize.ShloMosaic

/-- The reference's result: the transposed left rows times the right rows. -/
abbrev REF (a : FVec Ideal S8320x2560 .bf16) (b : FVec Ideal S8320x2048 .bf16) : FVec Ideal S2560x2048 .bf16 :=
  truncf .bf16 (Host.dotGeneral dot_S2560x8320_S8320x2048_S2560x2048_1_0_0_1_n_n none (transpose S2560x8320 [1, 0] a transposes_S8320x2560_S2560x8320_1_0) b) bitsLt_bf16_f32

end Cert.GradQkvRefIdeal.Results

namespace Cert.GradQkvIdeal.Results

open Cert.GradQkvIdeal Cert.GradQkvIdeal.Gen Idealize.ShloMosaic Idealize.ShloMosaic.TcCoe Idealize.SL.Sem
open Idealize.ShloMosaic.Pipeline (Dat)
open Cert.GradQkvRefIdeal.Results

variable (m : (ℓ : Loc nD τ sig) → Buf (Elt Ideal) ℓ)

/-- Which block each window holds at a grid point. -/
theorem idx : ∀ t : Fin cfg0.N, win0_0.index t = ![t.val % 13, t.val / 13] ∧ win0_1.index t = ![t.val % 13, 0]
    ∧ win0_2.index t = ![t.val / 13, 0] := (by decide +kernel : ∀ t : Fin grid0.N, _)

/-- The first point of a block stores its own product. -/
theorem first (x : Vec Ideal S640x640 .bf16) (y : Vec Ideal S640x2048 .bf16) (j) :
    k0_pay2 x y j = ∑ k : Fin 640, x (ix2 k (j 0)) * y (ix2 k (j 1)) := by
  pointwise [k0_pay2, k0_pay1]

/-- Every later point adds its product. -/
theorem next (x : Vec Ideal S640x640 .bf16) (y : Vec Ideal S640x2048 .bf16) (acc : Vec Ideal S640x2048 .f32) (j) :
    k0_pay3 x y acc j = acc j + ∑ k : Fin 640, x (ix2 k (j 0)) * y (ix2 k (j 1)) := by
  pointwise [k0_pay3, k0_pay1]

/-- The reference's entry as one sum. -/
theorem whole (a : FVec Ideal S8320x2560 .bf16) (b : FVec Ideal S8320x2048 .bf16) (j) :
    REF a b j = ∑ k : Fin 8320, a (ix2 k (j 0)) * b (ix2 k (j 1)) := by
  pointwise [REF]

/-- The last point of a block writes out what the scratch holds. -/
theorem last (c : Dev nD) (t : Fin cfg0.N) (h : t.val % 13 = 12) (y) :
    (outsAt0 m c t.val t.isLt).1 y = (outsAt0 m c t.val t.isLt).2 y := by
  rw [outsAt0_C m c t (by omega) (by omega) h]
  frame_out
  pointwise [k0_pay4]

/-- The result array, once every block is written. -/
theorem final (c : Dev nD) : (dats m 0 c).arrAt 2 (cfgs 0).N =
    REF (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf),
    Pipeline.eq_sum_fin_of_reset_step_apply_of_flush (fun n h => (outsAt0 m c n h).2) 13 (fun _ => 0) _
    (fun t h j => by rw [outsAt0_A m c t h (by omega) (by omega)]; frame_out; rw [first, zero_add])
    (fun t h j => by
      rcases Decidable.em (t.val % 13 = 12) with h2 | h2
      · rw [outsAt0_C m c t h (by omega) h2]; frame_out; rw [read_unread_whole, next]
      · rw [outsAt0_B m c t h (by omega) h2]; frame_out; rw [read_unread_whole, next])
    t ((flush0_2 t).mp hf) _, zero_add, whole]
  refine Fin.sum_mul_add_congr fun s k hl => ?_
  blk_point [iblk, V, idx t, idx ⟨_, Pipeline.run_point_lt_of_flush t ((flush0_2 t).mp hf) s⟩]

/-- Kernel and reference end with the same result. -/
theorem algebraic : Cert.algebraic_GradQkvIdeal_GradQkvRefIdeal := by
  pair_intro
  · run_from run_main m g
  · run_from Cert.GradQkvRefIdeal.Value.run m' g'
    exact (final m c).symm

end Cert.GradQkvIdeal.Results

end
-- ==== Proof.GradOResults.lean ====
/-
# The gradient of an output projection

The kernel adds thirteen products of 640 rows each into a scratch block, and writes the block out, rounded to
the short format, after the last. The reference multiplies all 8320 rows at once.
-/
module

public import proofs.«01_k».proof.Defs
public import proofs.«01_k».proof.Proof.Gen.GradOIdeal.Frame
public import proofs.«01_k».proof.Proof.Gen.GradORefIdeal.Run
public import Idealize.ShloMosaic.Lib.Pipeline.ValueKit
public import Idealize.ShloMosaic.Lib.Pipeline.ReadBack

@[expose] public section

set_option maxRecDepth 16384

noncomputable section

namespace Cert.GradORefIdeal.Results

open Cert.GradORefIdeal Cert.GradORefIdeal.Gen Idealize.ShloMosaic

/-- The reference's result: the transposed left rows times the right rows. -/
abbrev REF (a : FVec Ideal S8320x2048 .bf16) (b : FVec Ideal S8320x2048 .bf16) : FVec Ideal S2048x2048 .bf16 :=
  truncf .bf16 (Host.dotGeneral dot_S2048x8320_S8320x2048_S2048x2048_1_0_0_1_n_n none (transpose S2048x8320 [1, 0] a transposes_S8320x2048_S2048x8320_1_0) b) bitsLt_bf16_f32

end Cert.GradORefIdeal.Results

namespace Cert.GradOIdeal.Results

open Cert.GradOIdeal Cert.GradOIdeal.Gen Idealize.ShloMosaic Idealize.ShloMosaic.TcCoe Idealize.SL.Sem
open Idealize.ShloMosaic.Pipeline (Dat)
open Cert.GradORefIdeal.Results

variable (m : (ℓ : Loc nD τ sig) → Buf (Elt Ideal) ℓ)

/-- Which block each window holds at a grid point. -/
theorem idx : ∀ t : Fin cfg0.N, win0_0.index t = ![t.val % 13, t.val / 13] ∧ win0_1.index t = ![t.val % 13, 0]
    ∧ win0_2.index t = ![t.val / 13, 0] := (by decide +kernel : ∀ t : Fin grid0.N, _)

/-- The first point of a block stores its own product. -/
theorem first (x : Vec Ideal S640x1024 .bf16) (y : Vec Ideal S640x2048 .bf16) (j) :
    k0_pay2 x y j = ∑ k : Fin 640, x (ix2 k (j 0)) * y (ix2 k (j 1)) := by
  pointwise [k0_pay2, k0_pay1]

/-- Every later point adds its product. -/
theorem next (x : Vec Ideal S640x1024 .bf16) (y : Vec Ideal S640x2048 .bf16) (acc : Vec Ideal S1024x2048 .f32) (j) :
    k0_pay3 x y acc j = acc j + ∑ k : Fin 640, x (ix2 k (j 0)) * y (ix2 k (j 1)) := by
  pointwise [k0_pay3, k0_pay1]

/-- The reference's entry as one sum. -/
theorem whole (a : FVec Ideal S8320x2048 .bf16) (b : FVec Ideal S8320x2048 .bf16) (j) :
    REF a b j = ∑ k : Fin 8320, a (ix2 k (j 0)) * b (ix2 k (j 1)) := by
  pointwise [REF]

/-- The last point of a block writes out what the scratch holds. -/
theorem last (c : Dev nD) (t : Fin cfg0.N) (h : t.val % 13 = 12) (y) :
    (outsAt0 m c t.val t.isLt).1 y = (outsAt0 m c t.val t.isLt).2 y := by
  rw [outsAt0_C m c t (by omega) (by omega) h]
  frame_out
  pointwise [k0_pay4]

/-- The result array, once every block is written. -/
theorem final (c : Dev nD) : (dats m 0 c).arrAt 2 (cfgs 0).N =
    REF (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf),
    Pipeline.eq_sum_fin_of_reset_step_apply_of_flush (fun n h => (outsAt0 m c n h).2) 13 (fun _ => 0) _
    (fun t h j => by rw [outsAt0_A m c t h (by omega) (by omega)]; frame_out; rw [first, zero_add])
    (fun t h j => by
      rcases Decidable.em (t.val % 13 = 12) with h2 | h2
      · rw [outsAt0_C m c t h (by omega) h2]; frame_out; rw [read_unread_whole, next]
      · rw [outsAt0_B m c t h (by omega) h2]; frame_out; rw [read_unread_whole, next])
    t ((flush0_2 t).mp hf) _, zero_add, whole]
  refine Fin.sum_mul_add_congr fun s k hl => ?_
  blk_point [iblk, V, idx t, idx ⟨_, Pipeline.run_point_lt_of_flush t ((flush0_2 t).mp hf) s⟩]

/-- Kernel and reference end with the same result. -/
theorem algebraic : Cert.algebraic_GradOIdeal_GradORefIdeal := by
  pair_intro
  · run_from run_main m g
  · run_from Cert.GradORefIdeal.Value.run m' g'
    exact (final m c).symm

end Cert.GradOIdeal.Results

end
-- ==== Proof.Rows.lean ====
/-
# Normalized rows

Several of the kernels handle one block of rows at a time: they normalize the rows they have just made, or send a
gradient back through the normalization. What such a kernel writes in a row depends on that row alone, so the entries
are stated here as functions of a row, and the references' array expressions are read at an entry as those functions.
The row of column sums is added up over the blocks; `sum_blocks` is that sum.
-/
module

public import proofs.«01_k».proof.Defs
public import proofs.«01_k».proof.Proof.Gen.RowInRefIdeal.Run
public import Idealize.ShloMosaic.Lib.Pipeline.ValueKit

@[expose] public section

set_option maxRecDepth 16384

noncomputable section

namespace Cert.Rows

open Cert.RowInRefIdeal Cert.RowInRefIdeal.Gen Idealize.ShloMosaic

/-- One over the root of the mean square of a row. -/
def root (h : Fin 2048 → EReal) : EReal :=
  Ideal.rsqrt (Ideal.div (∑ k, h k * h k) (Ideal.ofBits .f32 0x45000000#32) + Ideal.ofBits .f32 0x3727C5AC#32)

/-- A row divided by the root of its mean square, times the gain. -/
def normed (h g : Fin 2048 → EReal) (j : Fin 2048) : EReal := h j * root h * g j

/-- The gradient at a row `h`: `d` is the gradient of the row itself, `a` that of its normalization. -/
def back (a h d g : Fin 2048 → EReal) (j : Fin 2048) : EReal :=
  d j + root h * (a j * g j - h j * root h *
    Ideal.div (∑ k, a k * g k * (h k * root h)) (Ideal.ofBits .f32 0x45000000#32))

/-- What a row adds to the gradient of the gain. -/
def gain (a h : Fin 2048 → EReal) (j : Fin 2048) : EReal := a j * (h j * root h)

/-- The reference's column of roots. -/
abbrev ROOT (h : FVec Ideal S8320x2048 .f32) : FVec Ideal S8320x1 .f32 :=
  Host.rsqrt (addf (Host.divf (broadcastInDim S8320x1 ![0] bcast_S8320_S8320x1_0 (Host.reduceAdd (mulf h h) (constant S_ .f32 0x00000000#32) reducesTo_S8320x2048_S8320_d1 h_S_)) (broadcastInDim S8320x1 ![] bcast_S_S8320x1 (constant S_ .f32 0x45000000#32))) (broadcastInDim S8320x1 ![] bcast_S_S8320x1 (constant S_ .f32 0x3727C5AC#32)))

/-- The reference's gradient of the rows. -/
abbrev DH (p h d : FVec Ideal S8320x2048 .f32) (g : FVec Ideal S1x2048 .f32) : FVec Ideal S8320x2048 .f32 :=
  addf d (mulf (broadcastInDim S8320x2048 ![0, 1] bcast_S8320x1_S8320x2048_0_1 (ROOT h)) (subf (mulf p (broadcastInDim S8320x2048 ![0, 1] bcast_S1x2048_S8320x2048_0_1 g)) (mulf (mulf h (broadcastInDim S8320x2048 ![0, 1] bcast_S8320x1_S8320x2048_0_1 (ROOT h))) (broadcastInDim S8320x2048 ![0, 1] bcast_S8320x1_S8320x2048_0_1 (Host.divf (broadcastInDim S8320x1 ![0] bcast_S8320_S8320x1_0 (Host.reduceAdd (mulf (mulf p (broadcastInDim S8320x2048 ![0, 1] bcast_S1x2048_S8320x2048_0_1 g)) (mulf h (broadcastInDim S8320x2048 ![0, 1] bcast_S8320x1_S8320x2048_0_1 (ROOT h)))) (constant S_ .f32 0x00000000#32) reducesTo_S8320x2048_S8320_d1 h_S_)) (broadcastInDim S8320x1 ![] bcast_S_S8320x1 (constant S_ .f32 0x45000000#32)))))))

/-- The reference's gradient of the gain. -/
abbrev DG (p h : FVec Ideal S8320x2048 .f32) : FVec Ideal S1x2048 .f32 :=
  broadcastInDim S1x2048 ![1] bcast_S2048_S1x2048_1 (Host.reduceAdd (mulf p (mulf h (broadcastInDim S8320x2048 ![0, 1] bcast_S8320x1_S8320x2048_0_1 (ROOT h)))) (constant S_ .f32 0x00000000#32) reducesTo_S8320x2048_S2048_d0 h_S_)

/-- The reference's normalized rows. -/
abbrev NORM (h : FVec Ideal S8320x2048 .f32) (g : FVec Ideal S1x2048 .f32) : FVec Ideal S8320x2048 .f32 :=
  mulf (mulf h (broadcastInDim S8320x2048 ![0, 1] bcast_S8320x1_S8320x2048_0_1 (ROOT h))) (broadcastInDim S8320x2048 ![0, 1] bcast_S1x2048_S8320x2048_0_1 g)

theorem DH_at (p h d : FVec Ideal S8320x2048 .f32) (g : FVec Ideal S1x2048 .f32) (y : S8320x2048.Idx) :
    DH p h d g y = back (fun k => p (ix2 (y 0) k)) (fun k => h (ix2 (y 0) k)) (fun k => d (ix2 (y 0) k)) (fun k => g (ix2 0 k)) (y 1) := by
  pointwise [DH, ROOT, back, root]

theorem DG_at (p h : FVec Ideal S8320x2048 .f32) (y : S1x2048.Idx) :
    DG p h y = ∑ i : Fin 8320, gain (fun k => p (ix2 i k)) (fun k => h (ix2 i k)) (y 1) := by
  pointwise [DG, ROOT, gain, root]

theorem NORM_at (h : FVec Ideal S8320x2048 .f32) (g : FVec Ideal S1x2048 .f32) (y : S8320x2048.Idx) :
    NORM h g y = normed (fun k => h (ix2 (y 0) k)) (fun k => g (ix2 0 k)) (y 1) := by
  pointwise [NORM, ROOT, normed, root]

/-- A sum over the rows of a block, taken in four equal parts one after another. -/
theorem four {n L : ℕ} (f : Fin L → EReal) (hL : L = 4 * n) :
    ∑ i : Fin n, f ⟨i.val, by omega⟩ + ∑ i : Fin n, f ⟨n + i.val, by omega⟩ + ∑ i : Fin n, f ⟨2 * n + i.val, by omega⟩
      + ∑ i : Fin n, f ⟨3 * n + i.val, by omega⟩ = ∑ i : Fin L, f i := by
  rw [← Fin.sum_mul_add_congr (S := 4) (n := n) (F := fun s k => f ⟨s.val * n + k.val, by
    have := s.isLt; have := k.isLt; have : s.val * n ≤ 3 * n := Nat.mul_le_mul_right _ (by omega); omega⟩) (fun _ _ _ => rfl) hL, Fin.sum_univ_four]
  simp

/-- A quantity set at the last point of the first block, increased at the last point of every later one, and left
alone at all other points, ends as the sum over the blocks. -/
theorem sum_blocks {N J B : ℕ} (hJ : 0 < J) (hN : N = B * J) (f : (n : ℕ) → n < N → EReal) (g : Fin B → EReal)
    (idle : ∀ t : Fin N, t.val % J ≠ J - 1 → f t.val t.isLt = f (t.val - 1) (Nat.lt_of_le_of_lt (Nat.sub_le _ _) t.isLt))
    (set : ∀ (t : Fin N) (h : t.val / J < B), t.val % J = J - 1 → t.val < J → f t.val t.isLt = g ⟨t.val / J, h⟩)
    (add : ∀ (t : Fin N) (h : t.val / J < B), t.val % J = J - 1 → ¬ t.val < J →
      f t.val t.isLt = f (t.val - 1) (Nat.lt_of_le_of_lt (Nat.sub_le _ _) t.isLt) + g ⟨t.val / J, h⟩)
    (t : Fin N) (ht : t.val = N - 1) : f t.val t.isLt = ∑ b : Fin B, g b := by
  have main : ∀ (n : ℕ) (hn : n < N), J - 1 ≤ n →
      f n hn = ∑ b ∈ Finset.range ((n + 1) / J), if h : b < B then g ⟨b, h⟩ else 0 := by
    intro n
    induction n with
    | zero =>
      intro hn hle
      have h1 : J = 1 := by omega
      subst h1
      have hB : 0 < B := by omega
      rw [set ⟨0, hn⟩ (by simpa using hB) (by simp) (by simp)]
      simp [hB]
    | succ n ih =>
      intro hn hle
      have hd : (n + 1) / J < B := (Nat.div_lt_iff_lt_mul hJ).mpr (by omega)
      have hmod := Nat.div_add_mod (n + 1) J
      have hlt := Nat.mod_lt (n + 1) hJ
      rcases Decidable.em ((n + 1) % J = J - 1) with hr | hr
      · have e : (n + 1 + 1) / J = (n + 1) / J + 1 := by
          rw [show n + 1 + 1 = J * ((n + 1) / J + 1) by rw [Nat.mul_add]; omega, Nat.mul_div_cancel_left _ hJ]
        rw [e, Finset.sum_range_succ, dif_pos hd]
        rcases Decidable.em (n + 1 < J) with h2 | h2
        · rw [set ⟨n + 1, hn⟩ hd hr h2]
          simp [Nat.div_eq_of_lt h2]
        · rw [add ⟨n + 1, hn⟩ hd hr h2]
          exact congrArg (· + _) (ih (by omega) (by omega))
      · have e : (n + 1 + 1) / J = (n + 1) / J := by
          refine Nat.div_eq_of_lt_le ?_ ?_
          · rw [Nat.mul_comm]; omega
          · rw [Nat.add_mul, Nat.mul_comm]; omega
        have hge : J - 1 ≤ n := by
          by_contra hc
          exact hr (by rw [show n + 1 = J - 1 by omega]; exact Nat.mod_eq_of_lt (by omega))
        rw [e, idle ⟨n + 1, hn⟩ hr]
        exact ih (by omega) hge
  have hpos := t.isLt
  have hNJ : N - 1 + 1 = N := by omega
  have hB : 0 < B := by
    rcases Nat.eq_zero_or_pos B with h | h
    · subst h; omega
    · exact h
  have hle : J ≤ N := by rw [hN]; exact Nat.le_mul_of_pos_left J hB
  rw [main t.val t.isLt (by omega), ht, hNJ, hN, Nat.mul_div_cancel _ hJ, ← Fin.sum_univ_eq_sum_range (fun b => if h : b < B then g ⟨b, h⟩ else 0)]
  exact Finset.sum_congr rfl fun b _ => dif_pos b.isLt

end Cert.Rows

end
-- ==== Proof.RowOutResults.lean ====
/-
# The attention's output projection, added to the rows it continues and normalized

The kernel goes through the rows in blocks of 640. It adds four products of 512 columns each into a scratch block.
After the last it adds the incoming rows and writes out the sums and their normalization, in four equal parts. The
reference works on all 8320 rows and 2048 columns at once.
-/
module

public import proofs.«01_k».proof.Defs
public import proofs.«01_k».proof.Proof.Gen.RowOutIdeal.Frame
public import proofs.«01_k».proof.Proof.Gen.RowOutRefIdeal.Run
public import proofs.«01_k».proof.Proof.Rows
public import Idealize.ShloMosaic.Lib.Pipeline.ReadBack

@[expose] public section

set_option maxRecDepth 16384

noncomputable section

namespace Cert.RowOutRefIdeal.Results

open Cert.RowOutRefIdeal Cert.RowOutRefIdeal.Gen Idealize.ShloMosaic

/-- The reference's rows: the incoming rows plus the product. -/
abbrev REF (a : FVec Ideal S8320x2048 .bf16) (b : FVec Ideal S2048x2048 .bf16) (r : FVec Ideal S8320x2048 .f32) :
    FVec Ideal S8320x2048 .f32 :=
  addf r (Host.dotGeneral dot_S8320x2048_S2048x2048_S8320x2048_1_0_0_1_n_n none a b)

end Cert.RowOutRefIdeal.Results

namespace Cert.RowOutIdeal.Results

open Cert.RowOutIdeal Cert.RowOutIdeal.Gen Idealize.ShloMosaic Idealize.ShloMosaic.TcCoe Idealize.SL.Sem
open Idealize.ShloMosaic.Pipeline (Dat)
open Cert.RowOutRefIdeal.Results Cert.Rows

variable (m : (ℓ : Loc nD τ sig) → Buf (Elt Ideal) ℓ)

/-- Which block each window holds at a grid point. -/
theorem idx : ∀ t : Fin cfg0.N, win0_0.index t = ![t.val / 4, t.val % 4] ∧ win0_1.index t = ![t.val % 4, 0]
    ∧ win0_2.index t = ![t.val / 4, 0] ∧ win0_3.index t = ![0, 0] ∧ win0_4.index t = ![t.val / 4, 0]
    ∧ win0_5.index t = ![t.val / 4, 0] :=
  (by decide +kernel : ∀ t : Fin grid0.N, _)

/-- The first point of a block stores its own product. -/
theorem first (x : Vec Ideal S640x512 .bf16) (y : Vec Ideal S512x2048 .bf16) (j) :
    k0_pay2 x y j = ∑ k : Fin 512, x (ix2 (j 0) k) * y (ix2 k (j 1)) := by
  pointwise [k0_pay2, k0_pay1]

/-- Every later point adds its product. -/
theorem next (x : Vec Ideal S640x512 .bf16) (y : Vec Ideal S512x2048 .bf16) (acc : Vec Ideal S640x2048 .f32) (j) :
    k0_pay3 x y acc j = acc j + ∑ k : Fin 512, x (ix2 (j 0) k) * y (ix2 k (j 1)) := by
  pointwise [k0_pay3, k0_pay1]

/-- The reference's entry as one sum. -/
theorem whole (x : FVec Ideal S8320x2048 .bf16) (y : FVec Ideal S2048x2048 .bf16) (r : FVec Ideal S8320x2048 .f32) (j) :
    REF x y r j = r j + ∑ k : Fin 2048, x (ix2 (j 0) k) * y (ix2 k (j 1)) := by
  pointwise [REF]

/-- The reference's rows, from the kernel's arguments. -/
abbrev RES (c : Dev nD) : FVec Ideal RowOutRefIdeal.S8320x2048 .f32 :=
  REF (m ((c : Thread nD τ).loc main_arg0)) (m ((c : Thread nD τ).loc main_arg1)) (m ((c : Thread nD τ).loc main_arg2))

/-- A block's incoming rows plus its scratch, after the last point: the reference's rows. -/
theorem rows (c : Dev nD) (t : Fin cfg0.N) (h : t.val % 4 = 3) (x : S640x2048.Idx) (y : RowOutRefIdeal.S8320x2048.Idx)
    (h0 : (y 0).val = 640 * (t.val / 4) + (x 0).val) (h1 : (y 1).val = (x 1).val) :
    (show FVec Ideal S640x2048 .f32 from iblk m c 2 t) x + (outsAt0 m c t.val t.isLt).2.2 x = RES m c y := by
  rw [Pipeline.eq_sum_fin_of_reset_step_apply_of_flush (fun n h => (outsAt0 m c n h).2.2) 4 (fun _ => 0) _
    (fun t h j => by rw [outsAt0_A m c t h (by omega) (by omega)]; frame_out; rw [first, zero_add])
    (fun t h j => by
      rcases Decidable.em (t.val % 4 = 3) with h2 | h2
      · rw [outsAt0_C m c t h (by omega) h2]; frame_out; rw [read_unread_whole, next]
      · rw [outsAt0_B m c t h (by omega) h2]; frame_out; rw [read_unread_whole, next])
    t h _, zero_add, RES, whole]
  refine congrArg₂ (· + ·) (by blk_point [iblk, V, idx t]) (Fin.sum_mul_add_congr fun s k hl => ?_)
  blk_point [iblk, V, idx t, idx ⟨_, Pipeline.run_point_lt_of_flush t h s⟩]

/-- What the last point of a block writes out: the sums, and their normalization. -/
theorem last (c : Dev nD) (t : Fin cfg0.N) (h : t.val % 4 = 3) (y : S640x2048.Idx) :
    (outsAt0 m c t.val t.isLt).1 y = (show FVec Ideal S640x2048 .f32 from iblk m c 2 t) y + (outsAt0 m c t.val t.isLt).2.2 y ∧
    (outsAt0 m c t.val t.isLt).2.1 y =
      normed (fun k => (show FVec Ideal S640x2048 .f32 from iblk m c 2 t) (ix2 (y 0) k) + (outsAt0 m c t.val t.isLt).2.2 (ix2 (y 0) k))
        (fun k => (show FVec Ideal S1x2048 .f32 from iblk m c 3 t) (ix2 0 k)) (y 1) := by
  rw [outsAt0_C m c t (by omega) (by omega) h]
  constructor
  all_goals
    frame_out
    simp (disch := decide) only [View.readCov_fill]
    generalize k0_pay3 (F := Ideal) _ _ _ = X
    generalize iblk m c 2 t = A2
    generalize iblk m c 3 t = A3
    canon_tiles x hx
  all_goals
    pointwise [k0_pay4, k0_pay5, k0_pay6, k0_pay7, k0_pay8, k0_pay9, k0_pay10, k0_pay11, k0_pay12, k0_pay13, normed, root]
    blk_point []

theorem final4 (c : Dev nD) : (dats m 0 c).arrAt 4 (cfgs 0).N = RES m c := by
  refine (dats m 0 c).arrAt_eq_of_covers 4 _ (by decide +kernel) fun t hf y => ?_
  blk_simp
  have h := (flush0_4 t).mp hf
  rw [after0_4, (last m c t h _).1]
  exact rows m c t h _ _ (by blk_simp [idx t]; omega) (by blk_simp [idx t])

theorem final5 (c : Dev nD) : (dats m 0 c).arrAt 5 (cfgs 0).N = NORM (RES m c) (m ((c : Thread nD τ).loc main_arg3)) := by
  refine (dats m 0 c).arrAt_eq_of_covers 5 _ (by decide +kernel) fun t hf y => ?_
  blk_simp
  have h := (flush0_5 t).mp hf
  rw [after0_5, (last m c t h _).2, NORM_at]
  refine congr (congrArg₂ (fun a b => normed a b) (funext fun k => ?_) (funext fun k => ?_)) (Fin.ext (by blk_simp [idx t]))
  · exact rows m c t h _ _ (by blk_simp [idx t]; omega) rfl
  · blk_point [iblk, V, idx t]

/-- Kernel and reference end with the same results. -/
theorem algebraic : Cert.algebraic_RowOutIdeal_RowOutRefIdeal := by
  pair_intro
  · run_from run_main m g
  · run_from Cert.RowOutRefIdeal.Value.run m' g'
    · exact (final4 m c).symm
    · exact (final5 m c).symm

end Cert.RowOutIdeal.Results

end
-- ==== Proof.RowDownResults.lean ====
/-
# The down projection, added to the rows it continues and normalized

The kernel goes through the rows in blocks of 640. It adds sixteen products of 512 columns each into a scratch block.
After the last it adds the incoming rows and writes out the sums and their normalization, in four equal parts. The
reference works on all 8320 rows and 8192 columns at once.
-/
module

public import proofs.«01_k».proof.Defs
public import proofs.«01_k».proof.Proof.Gen.RowDownIdeal.Frame
public import proofs.«01_k».proof.Proof.Gen.RowDownRefIdeal.Run
public import proofs.«01_k».proof.Proof.Rows
public import Idealize.ShloMosaic.Lib.Pipeline.ReadBack

@[expose] public section

set_option maxRecDepth 16384

noncomputable section

namespace Cert.RowDownRefIdeal.Results

open Cert.RowDownRefIdeal Cert.RowDownRefIdeal.Gen Idealize.ShloMosaic

/-- The reference's rows: the incoming rows plus the product. -/
abbrev REF (a : FVec Ideal S8320x8192 .bf16) (b : FVec Ideal S8192x2048 .bf16) (r : FVec Ideal S8320x2048 .f32) :
    FVec Ideal S8320x2048 .f32 :=
  addf r (Host.dotGeneral dot_S8320x8192_S8192x2048_S8320x2048_1_0_0_1_n_n none (truncf .bf16 (mulf (extf .f32 a bitsLt_bf16_f32) (extf .f32 a bitsLt_bf16_f32)) bitsLt_bf16_f32) b)

end Cert.RowDownRefIdeal.Results

namespace Cert.RowDownIdeal.Results

open Cert.RowDownIdeal Cert.RowDownIdeal.Gen Idealize.ShloMosaic Idealize.ShloMosaic.TcCoe Idealize.SL.Sem
open Idealize.ShloMosaic.Pipeline (Dat)
open Cert.RowDownRefIdeal.Results Cert.Rows

variable (m : (ℓ : Loc nD τ sig) → Buf (Elt Ideal) ℓ)

/-- Which block each window holds at a grid point. -/
theorem idx : ∀ t : Fin cfg0.N, win0_0.index t = ![t.val / 16, t.val % 16] ∧ win0_1.index t = ![t.val % 16, 0]
    ∧ win0_2.index t = ![t.val / 16, 0] ∧ win0_3.index t = ![0, 0] ∧ win0_4.index t = ![t.val / 16, 0]
    ∧ win0_5.index t = ![t.val / 16, 0] :=
  (by decide +kernel : ∀ t : Fin grid0.N, _)

/-- The first point of a block stores its own product. -/
theorem first (x : Vec Ideal S640x512 .bf16) (y : Vec Ideal S512x2048 .bf16) (j) :
    k0_pay2 x y j = ∑ k : Fin 512, (x (ix2 (j 0) k) * x (ix2 (j 0) k)) * y (ix2 k (j 1)) := by
  pointwise [k0_pay2, k0_pay1]

/-- Every later point adds its product. -/
theorem next (x : Vec Ideal S640x512 .bf16) (y : Vec Ideal S512x2048 .bf16) (acc : Vec Ideal S640x2048 .f32) (j) :
    k0_pay3 x y acc j = acc j + ∑ k : Fin 512, (x (ix2 (j 0) k) * x (ix2 (j 0) k)) * y (ix2 k (j 1)) := by
  pointwise [k0_pay3, k0_pay1]

/-- The reference's entry as one sum. -/
theorem whole (x : FVec Ideal S8320x8192 .bf16) (y : FVec Ideal S8192x2048 .bf16) (r : FVec Ideal S8320x2048 .f32) (j) :
    REF x y r j = r j + ∑ k : Fin 8192, (x (ix2 (j 0) k) * x (ix2 (j 0) k)) * y (ix2 k (j 1)) := by
  pointwise [REF]

/-- The reference's rows, from the kernel's arguments. -/
abbrev RES (c : Dev nD) : FVec Ideal RowDownRefIdeal.S8320x2048 .f32 :=
  REF (m ((c : Thread nD τ).loc main_arg0)) (m ((c : Thread nD τ).loc main_arg1)) (m ((c : Thread nD τ).loc main_arg2))

/-- A block's incoming rows plus its scratch, after the last point: the reference's rows. -/
theorem rows (c : Dev nD) (t : Fin cfg0.N) (h : t.val % 16 = 15) (x : S640x2048.Idx) (y : RowDownRefIdeal.S8320x2048.Idx)
    (h0 : (y 0).val = 640 * (t.val / 16) + (x 0).val) (h1 : (y 1).val = (x 1).val) :
    (show FVec Ideal S640x2048 .f32 from iblk m c 2 t) x + (outsAt0 m c t.val t.isLt).2.2 x = RES m c y := by
  rw [Pipeline.eq_sum_fin_of_reset_step_apply_of_flush (fun n h => (outsAt0 m c n h).2.2) 16 (fun _ => 0) _
    (fun t h j => by rw [outsAt0_A m c t h (by omega) (by omega)]; frame_out; rw [first, zero_add])
    (fun t h j => by
      rcases Decidable.em (t.val % 16 = 15) with h2 | h2
      · rw [outsAt0_C m c t h (by omega) h2]; frame_out; rw [read_unread_whole, next]
      · rw [outsAt0_B m c t h (by omega) h2]; frame_out; rw [read_unread_whole, next])
    t h _, zero_add, RES, whole]
  refine congrArg₂ (· + ·) (by blk_point [iblk, V, idx t]) (Fin.sum_mul_add_congr fun s k hl => ?_)
  blk_point [iblk, V, idx t, idx ⟨_, Pipeline.run_point_lt_of_flush t h s⟩]

/-- What the last point of a block writes out: the sums, and their normalization. -/
theorem last (c : Dev nD) (t : Fin cfg0.N) (h : t.val % 16 = 15) (y : S640x2048.Idx) :
    (outsAt0 m c t.val t.isLt).1 y = (show FVec Ideal S640x2048 .f32 from iblk m c 2 t) y + (outsAt0 m c t.val t.isLt).2.2 y ∧
    (outsAt0 m c t.val t.isLt).2.1 y =
      normed (fun k => (show FVec Ideal S640x2048 .f32 from iblk m c 2 t) (ix2 (y 0) k) + (outsAt0 m c t.val t.isLt).2.2 (ix2 (y 0) k))
        (fun k => (show FVec Ideal S1x2048 .f32 from iblk m c 3 t) (ix2 0 k)) (y 1) := by
  rw [outsAt0_C m c t (by omega) (by omega) h]
  constructor
  all_goals
    frame_out
    simp (disch := decide) only [View.readCov_fill]
    generalize k0_pay3 (F := Ideal) _ _ _ = X
    generalize iblk m c 2 t = A2
    generalize iblk m c 3 t = A3
    canon_tiles x hx
  all_goals
    pointwise [k0_pay4, k0_pay5, k0_pay6, k0_pay7, k0_pay8, k0_pay9, k0_pay10, k0_pay11, k0_pay12, k0_pay13, normed, root]
    blk_point []

theorem final4 (c : Dev nD) : (dats m 0 c).arrAt 4 (cfgs 0).N = RES m c := by
  refine (dats m 0 c).arrAt_eq_of_covers 4 _ (by decide +kernel) fun t hf y => ?_
  blk_simp
  have h := (flush0_4 t).mp hf
  rw [after0_4, (last m c t h _).1]
  exact rows m c t h _ _ (by blk_simp [idx t]; omega) (by blk_simp [idx t])

theorem final5 (c : Dev nD) : (dats m 0 c).arrAt 5 (cfgs 0).N = NORM (RES m c) (m ((c : Thread nD τ).loc main_arg3)) := by
  refine (dats m 0 c).arrAt_eq_of_covers 5 _ (by decide +kernel) fun t hf y => ?_
  blk_simp
  have h := (flush0_5 t).mp hf
  rw [after0_5, (last m c t h _).2, NORM_at]
  refine congr (congrArg₂ (fun a b => normed a b) (funext fun k => ?_) (funext fun k => ?_)) (Fin.ext (by blk_simp [idx t]))
  · exact rows m c t h _ _ (by blk_simp [idx t]; omega) rfl
  · blk_point [iblk, V, idx t]

/-- Kernel and reference end with the same results. -/
theorem algebraic : Cert.algebraic_RowDownIdeal_RowDownRefIdeal := by
  pair_intro
  · run_from run_main m g
  · run_from Cert.RowDownRefIdeal.Value.run m' g'
    · exact (final4 m c).symm
    · exact (final5 m c).symm

end Cert.RowDownIdeal.Results

end
-- ==== Proof.RowLastResults.lean ====
/-
# The last down projection, added to the rows it continues

The kernel adds sixteen products of 512 columns each into a scratch block, and adds the incoming rows to the block
after the last. The reference multiplies all 8192 columns at once.
-/
module

public import proofs.«01_k».proof.Defs
public import proofs.«01_k».proof.Proof.Gen.RowLastIdeal.Frame
public import proofs.«01_k».proof.Proof.Gen.RowLastRefIdeal.Run
public import Idealize.ShloMosaic.Lib.Pipeline.ValueKit
public import Idealize.ShloMosaic.Lib.Pipeline.ReadBack

@[expose] public section

set_option maxRecDepth 16384

noncomputable section

namespace Cert.RowLastRefIdeal.Results

open Cert.RowLastRefIdeal Cert.RowLastRefIdeal.Gen Idealize.ShloMosaic

/-- The reference's result: the incoming rows plus the squared activation times the weight. -/
abbrev REF (a : FVec Ideal S8320x8192 .bf16) (b : FVec Ideal S8192x2048 .bf16) (c : FVec Ideal S8320x2048 .f32) :
    FVec Ideal S8320x2048 .f32 :=
  addf c (Host.dotGeneral dot_S8320x8192_S8192x2048_S8320x2048_1_0_0_1_n_n none (truncf .bf16 (mulf (extf .f32 a bitsLt_bf16_f32) (extf .f32 a bitsLt_bf16_f32)) bitsLt_bf16_f32) b)

end Cert.RowLastRefIdeal.Results

namespace Cert.RowLastIdeal.Results

open Cert.RowLastIdeal Cert.RowLastIdeal.Gen Idealize.ShloMosaic Idealize.ShloMosaic.TcCoe Idealize.SL.Sem
open Idealize.ShloMosaic.Pipeline (Dat)
open Cert.RowLastRefIdeal.Results

variable (m : (ℓ : Loc nD τ sig) → Buf (Elt Ideal) ℓ)

/-- Which block each window holds at a grid point. -/
theorem idx : ∀ t : Fin cfg0.N, win0_0.index t = ![t.val / 16, t.val % 16] ∧ win0_1.index t = ![t.val % 16, 0]
    ∧ win0_2.index t = ![t.val / 16, 0] ∧ win0_3.index t = ![t.val / 16, 0] := (by decide +kernel : ∀ t : Fin grid0.N, _)

/-- The first point of a block stores its own product. -/
theorem first (x : Vec Ideal S640x512 .bf16) (y : Vec Ideal S512x2048 .bf16) (j) :
    k0_pay2 x y j = ∑ k : Fin 512, (x (ix2 (j 0) k) * x (ix2 (j 0) k)) * y (ix2 k (j 1)) := by
  pointwise [k0_pay2, k0_pay1]

/-- Every later point adds its product. -/
theorem next (x : Vec Ideal S640x512 .bf16) (y : Vec Ideal S512x2048 .bf16) (acc : Vec Ideal S640x2048 .f32) (j) :
    k0_pay3 x y acc j = acc j + ∑ k : Fin 512, (x (ix2 (j 0) k) * x (ix2 (j 0) k)) * y (ix2 k (j 1)) := by
  pointwise [k0_pay3, k0_pay1]

/-- The reference's entry as one sum. -/
theorem whole (a : FVec Ideal S8320x8192 .bf16) (b : FVec Ideal S8192x2048 .bf16) (r : FVec Ideal S8320x2048 .f32) (j) :
    REF a b r j = r j + ∑ k : Fin 8192, (a (ix2 (j 0) k) * a (ix2 (j 0) k)) * b (ix2 k (j 1)) := by
  pointwise [REF]

/-- The last point of a block writes out what the scratch holds, plus the incoming rows. -/
theorem last (c : Dev nD) (t : Fin cfg0.N) (h : t.val % 16 = 15) (y) :
    (outsAt0 m c t.val t.isLt).1 y =
    (show FVec Ideal S640x2048 .f32 from iblk m c 2 t) y + (outsAt0 m c t.val t.isLt).2 y := by
  rw [outsAt0_C m c t (by omega) (by omega) h]
  frame_out
  pointwise [k0_pay4]

/-- The result array, once every block is written. -/
theorem final (c : Dev nD) : (dats m 0 c).arrAt 3 (cfgs 0).N =
    REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, last m c t ((flush0_3 t).mp hf),
    Pipeline.eq_sum_fin_of_reset_step_apply_of_flush (fun n h => (outsAt0 m c n h).2) 16 (fun _ => 0) _
    (fun t h j => by rw [outsAt0_A m c t h (by omega) (by omega)]; frame_out; rw [first, zero_add])
    (fun t h j => by
      rcases Decidable.em (t.val % 16 = 15) with h2 | h2
      · rw [outsAt0_C m c t h (by omega) h2]; frame_out; rw [read_unread_whole, next]
      · rw [outsAt0_B m c t h (by omega) h2]; frame_out; rw [read_unread_whole, next])
    t ((flush0_3 t).mp hf) _, zero_add, whole]
  refine congrArg₂ (· + ·) (by blk_point [iblk, V, idx t]) (Fin.sum_mul_add_congr fun s k hl => ?_)
  blk_point [iblk, V, idx t, idx ⟨_, Pipeline.run_point_lt_of_flush t ((flush0_3 t).mp hf) s⟩]

/-- Kernel and reference end with the same result. -/
theorem algebraic : Cert.algebraic_RowLastIdeal_RowLastRefIdeal := by
  pair_intro
  · run_from run_main m g
  · run_from Cert.RowLastRefIdeal.Value.run m' g'
    exact (final m c).symm

end Cert.RowLastIdeal.Results

end
-- ==== Proof.RowUpResults.lean ====
/-
# The gradient at the normalization before the feed-forward layer

The kernel goes through the rows in blocks of 416. It adds sixteen products of 512 columns each into a scratch block.
After the last it sends the block back through the normalization, in four equal parts, and adds what the block gives
the gradient of the gain to a row that is written out at the end. The reference works on all 8320 rows and 8192
columns at once.
-/
module

public import proofs.«01_k».proof.Defs
public import proofs.«01_k».proof.Proof.Gen.RowUpIdeal.Frame
public import proofs.«01_k».proof.Proof.Gen.RowUpRefIdeal.Run
public import proofs.«01_k».proof.Proof.Rows
public import Idealize.ShloMosaic.Lib.Pipeline.ReadBack

@[expose] public section

set_option maxRecDepth 16384

noncomputable section

namespace Cert.RowUpRefIdeal.Results

open Cert.RowUpRefIdeal Cert.RowUpRefIdeal.Gen Idealize.ShloMosaic

/-- The reference's product, from which the gradient starts. -/
abbrev PROD (a : FVec Ideal S8320x8192 .bf16) (b : FVec Ideal S8192x2048 .bf16) : FVec Ideal S8320x2048 .f32 :=
  Host.dotGeneral dot_S8320x8192_S8192x2048_S8320x2048_1_0_0_1_n_n none a b

end Cert.RowUpRefIdeal.Results

namespace Cert.RowUpIdeal.Results

open Cert.RowUpIdeal Cert.RowUpIdeal.Gen Idealize.ShloMosaic Idealize.ShloMosaic.TcCoe Idealize.SL.Sem
open Idealize.ShloMosaic.Pipeline (Dat)
open Cert.RowUpRefIdeal.Results Cert.Rows

variable (m : (ℓ : Loc nD τ sig) → Buf (Elt Ideal) ℓ)

/-- Which block each window holds at a grid point. -/
theorem idx : ∀ t : Fin cfg0.N, win0_0.index t = ![t.val / 16, t.val % 16] ∧ win0_1.index t = ![t.val % 16, 0]
    ∧ win0_2.index t = ![t.val / 16, 0] ∧ win0_3.index t = ![0, 0] ∧ win0_4.index t = ![t.val / 16, 0]
    ∧ win0_5.index t = ![t.val / 16, 0] ∧ win0_6.index t = ![t.val / 16, 0] ∧ win0_7.index t = ![0, 0] :=
  (by decide +kernel : ∀ t : Fin grid0.N, _)

theorem lt (t : Fin cfg0.N) : t.val < 320 := lt_of_lt_of_eq t.isLt (show cfg0.N = 320 from N_0)

/-- The first point of a block stores its own product. -/
theorem first (x : Vec Ideal S416x512 .bf16) (y : Vec Ideal S512x2048 .bf16) (j) :
    k0_pay2 x y j = ∑ k : Fin 512, x (ix2 (j 0) k) * y (ix2 k (j 1)) := by
  pointwise [k0_pay2, k0_pay1]

/-- Every later point adds its product. -/
theorem next (x : Vec Ideal S416x512 .bf16) (y : Vec Ideal S512x2048 .bf16) (acc : Vec Ideal S416x2048 .f32) (j) :
    k0_pay3 x y acc j = acc j + ∑ k : Fin 512, x (ix2 (j 0) k) * y (ix2 k (j 1)) := by
  pointwise [k0_pay3, k0_pay1]

/-- The reference's product as one sum. -/
theorem whole (a : FVec Ideal S8320x8192 .bf16) (b : FVec Ideal S8192x2048 .bf16) (j) :
    PROD a b j = ∑ k : Fin 8192, a (ix2 (j 0) k) * b (ix2 k (j 1)) := by
  pointwise [PROD]

/-- After a block's last point the scratch holds the rows of the product. -/
theorem scratch (c : Dev nD) (t : Fin cfg0.N) (h : t.val % 16 = 15) (x : S416x2048.Idx) (y : RowUpRefIdeal.S8320x2048.Idx)
    (h0 : (y 0).val = 416 * (t.val / 16) + (x 0).val) (h1 : (y 1).val = (x 1).val) :
    (outsAt0 m c t.val t.isLt).2.2.2 x =
    PROD (m ((c : Thread nD τ).loc main_arg0)) (m ((c : Thread nD τ).loc main_arg1)) y := by
  rw [Pipeline.eq_sum_fin_of_reset_step_apply_of_flush (fun n h => (outsAt0 m c n h).2.2.2) 16 (fun _ => 0) _
    (fun t h j => by rw [outsAt0_A m c t h (by omega) (by omega)]; frame_out; rw [first, zero_add])
    (fun t h j => by
      rcases Decidable.em (t.val % 16 = 15) with h2 | h2
      · rcases Decidable.em (t.val < 16) with h3 | h3
        · rw [outsAt0_C m c t h (by omega) h2 h3 (by omega)]; frame_out; rw [read_unread_whole, next]
        · rw [outsAt0_D m c t h (by omega) h2 h3 (by omega)]; frame_out; rw [read_unread_whole, next]
      · rw [outsAt0_B m c t h (by omega) h2]; frame_out; rw [read_unread_whole, next])
    t h _, zero_add, whole]
  refine Fin.sum_mul_add_congr fun s k hl => ?_
  blk_point [iblk, V, idx t, idx ⟨_, Pipeline.run_point_lt_of_flush t h s⟩]

/-- What the last point of a block writes out, in both formats. -/
theorem last (c : Dev nD) (t : Fin cfg0.N) (h : t.val % 16 = 15) (y : S416x2048.Idx) :
    let v := back (fun k => (outsAt0 m c t.val t.isLt).2.2.2 (ix2 (y 0) k)) (fun k => (show FVec Ideal S416x2048 .f32 from iblk m c 2 t) (ix2 (y 0) k))
      (fun k => (show FVec Ideal S416x2048 .f32 from iblk m c 4 t) (ix2 (y 0) k)) (fun k => (show FVec Ideal S1x2048 .f32 from iblk m c 3 t) (ix2 0 k)) (y 1)
    (outsAt0 m c t.val t.isLt).1 y = v ∧ (outsAt0 m c t.val t.isLt).2.1 y = v := by
  dsimp only
  constructor <;> rcases Decidable.em (t.val < 16) with h2 | h2
  case' left.inl => rw [outsAt0_C m c t (by omega) (by omega) h h2 (by omega)]
  case' left.inr => rw [outsAt0_D m c t (by omega) (by omega) h h2 (by omega)]
  case' right.inl => rw [outsAt0_C m c t (by omega) (by omega) h h2 (by omega)]
  case' right.inr => rw [outsAt0_D m c t (by omega) (by omega) h h2 (by omega)]
  all_goals
    frame_out
    simp (disch := decide) only [View.readCov_fill]
    generalize k0_pay3 (F := Ideal) _ _ _ = X
    generalize iblk m c 2 t = A2
    generalize iblk m c 3 t = A3
    generalize iblk m c 4 t = A4
    canon_tiles x hx
  all_goals
    pointwise [k0_pay4, k0_pay5, k0_pay6, k0_pay7, k0_pay10, k0_pay11, k0_pay12, k0_pay13, k0_pay15, k0_pay16, k0_pay17, k0_pay18, k0_pay20, k0_pay21, k0_pay22, k0_pay23, k0_pay24, k0_pay26, back, root]
    blk_point []

/-- Before the last point of a block, the row of column sums is left alone. -/
theorem idle (c : Dev nD) (t : Fin cfg0.N) (h : t.val % 16 ≠ 15) :
    (outsAt0 m c t.val t.isLt).2.2.1 = (outsAt0 m c (t.val - 1) (Nat.lt_of_le_of_lt (Nat.sub_le _ _) t.isLt)).2.2.1 := by
  rcases Decidable.em (t.val % 16 = 0) with h0 | h0
  · rw [outsAt0_A m c t h0 (by omega) (by omega)]; rfl
  · rw [outsAt0_B m c t h0 (by omega) (by omega)]; rfl

/-- What a block adds to the row of column sums: from the scratch and the block's rows. -/
def GAIN (a h : FVec Ideal S416x2048 .f32) (y : S1x2048.Idx) : EReal :=
  ∑ i : Fin 416, gain (fun k => a (ix2 i k)) (fun k => h (ix2 i k)) (y 1)

/-- The first block sets the row of column sums. -/
theorem set7 (c : Dev nD) (t : Fin cfg0.N) (h : t.val % 16 = 15) (h2 : t.val < 16) (y : S1x2048.Idx) :
    (outsAt0 m c t.val t.isLt).2.2.1 y = GAIN (outsAt0 m c t.val t.isLt).2.2.2 (iblk m c 2 t) y := by
  rw [outsAt0_C m c t (by omega) (by omega) h h2 (by omega)]
  frame_out
  simp (disch := decide) only [View.readCov_fill]
  generalize k0_pay3 (F := Ideal) _ _ _ = X
  generalize iblk m c 2 t = A2
  have e : GAIN X A2 y = _ := (four (n := 104) (fun i : Fin 416 => gain (fun k => X (ix2 i k)) (fun k => A2 (ix2 i k)) (y 1)) rfl).symm
  rw [e]
  pointwise [k0_pay8, k0_pay14, k0_pay19, k0_pay25, k0_pay4, k0_pay5, k0_pay10, k0_pay11, k0_pay15, k0_pay16, k0_pay20, k0_pay21, k0_pay22, k0_pay26, gain, root]

/-- Every later block adds its own. -/
theorem add7 (c : Dev nD) (t : Fin cfg0.N) (h : t.val % 16 = 15) (h2 : ¬ t.val < 16) (y : S1x2048.Idx) :
    (outsAt0 m c t.val t.isLt).2.2.1 y = (outsAt0 m c (t.val - 1) (Nat.lt_of_le_of_lt (Nat.sub_le _ _) t.isLt)).2.2.1 y
      + GAIN (outsAt0 m c t.val t.isLt).2.2.2 (iblk m c 2 t) y := by
  rw [outsAt0_D m c t (by omega) (by omega) h h2 (by omega)]
  frame_out
  simp (disch := decide) only [View.readCov_fill]
  generalize k0_pay3 (F := Ideal) _ _ _ = X
  generalize iblk m c 2 t = A2
  generalize (outsAt0 m c (t.val - 1) _).2.2.1 = P
  have e : GAIN X A2 y = _ := (four (n := 104) (fun i : Fin 416 => gain (fun k => X (ix2 i k)) (fun k => A2 (ix2 i k)) (y 1)) rfl).symm
  rw [e]
  pointwise [k0_pay9, k0_pay8, k0_pay14, k0_pay19, k0_pay25, k0_pay4, k0_pay5, k0_pay10, k0_pay11, k0_pay15, k0_pay16, k0_pay20, k0_pay21, k0_pay22, k0_pay26, gain, root]

/-- The reference's gradient of the rows, from the kernel's arguments. -/
abbrev RES (c : Dev nD) : FVec Ideal RowUpRefIdeal.S8320x2048 .f32 :=
  DH (PROD (m ((c : Thread nD τ).loc main_arg0)) (m ((c : Thread nD τ).loc main_arg1))) (m ((c : Thread nD τ).loc main_arg2)) (m ((c : Thread nD τ).loc main_arg4)) (m ((c : Thread nD τ).loc main_arg3))

/-- What a block writes out is the reference's entry. -/
theorem entry (c : Dev nD) (t : Fin cfg0.N) (h : t.val % 16 = 15) (x : S416x2048.Idx) (y : RowUpRefIdeal.S8320x2048.Idx)
    (h0 : (y 0).val = 416 * (t.val / 16) + (x 0).val) (h1 : (y 1).val = (x 1).val) :
    (outsAt0 m c t.val t.isLt).1 x = RES m c y ∧ (outsAt0 m c t.val t.isLt).2.1 x = RES m c y := by
  rw [(last m c t h x).1, (last m c t h x).2, and_self, RES, DH_at]
  simp only [fun k : Fin 2048 => scratch m c t h (ix2 (x 0) k) (ix2 (y 0) k) h0 rfl]
  refine congr (congr (congrArg₂ (fun a b => back _ a b) (funext fun k => ?_) (funext fun k => ?_)) (funext fun k => ?_)) (Fin.ext h1.symm)
  all_goals blk_point [iblk, V, idx t]

theorem final5 (c : Dev nD) : (dats m 0 c).arrAt 5 (cfgs 0).N = RES m c := by
  refine (dats m 0 c).arrAt_eq_of_covers 5 _ (by decide +kernel) fun t hf y => ?_
  blk_simp
  rw [after0_5]
  exact (entry m c t ((flush0_5 t).mp hf) _ _ (by blk_simp [idx t]; omega) (by blk_simp [idx t])).1

theorem final6 (c : Dev nD) : (dats m 0 c).arrAt 6 (cfgs 0).N = RES m c := by
  refine (dats m 0 c).arrAt_eq_of_covers 6 _ (by decide +kernel) fun t hf y => ?_
  blk_simp
  rw [after0_6]
  exact (entry m c t ((flush0_6 t).mp hf) _ _ (by blk_simp [idx t]; omega) (by blk_simp [idx t])).2

/-- What the block of a point adds, as rows of the whole arrays. -/
theorem part (c : Dev nD) (t : Fin cfg0.N) (h : t.val % 16 = 15) (hb : t.val / 16 < 20) (y : S1x2048.Idx) :
    GAIN (outsAt0 m c t.val t.isLt).2.2.2 (iblk m c 2 t) y =
    ∑ i : Fin 416, gain (fun k => PROD (m ((c : Thread nD τ).loc main_arg0)) (m ((c : Thread nD τ).loc main_arg1)) (ix2 ⟨(⟨t.val / 16, hb⟩ : Fin 20).val * 416 + i.val, by dsimp only; omega⟩ k))
      (fun k => (show FVec Ideal RowUpRefIdeal.S8320x2048 .f32 from m ((c : Thread nD τ).loc main_arg2)) (ix2 ⟨(⟨t.val / 16, hb⟩ : Fin 20).val * 416 + i.val, by dsimp only; omega⟩ k)) (y 1) := by
  refine Finset.sum_congr rfl fun i _ => congrArg₂ (fun a b => gain a b (y 1)) (funext fun k => ?_) (funext fun k => ?_)
  · exact scratch m c t h _ _ (by show t.val / 16 * 416 + i.val = 416 * (t.val / 16) + i.val; omega) rfl
  · blk_point [iblk, V, idx t]

theorem final7 (c : Dev nD) : (dats m 0 c).arrAt 7 (cfgs 0).N =
    DG (PROD (m ((c : Thread nD τ).loc main_arg0)) (m ((c : Thread nD τ).loc main_arg1))) (m ((c : Thread nD τ).loc main_arg2)) := by
  refine (dats m 0 c).arrAt_eq_of_covers 7 _ (by decide +kernel) fun t hf y => ?_
  blk_simp
  have ht := (flush0_7 t).mp hf
  have hlt := lt t
  rw [after0_7, DG_at,
    sum_blocks (J := 16) (B := 20) (by decide) N_0 (fun n h => (outsAt0 m c n h).2.2.1 y)
      (fun b => ∑ i : Fin 416, gain (fun k => PROD (m ((c : Thread nD τ).loc main_arg0)) (m ((c : Thread nD τ).loc main_arg1)) (ix2 ⟨b.val * 416 + i.val, by omega⟩ k))
        (fun k => (show FVec Ideal RowUpRefIdeal.S8320x2048 .f32 from m ((c : Thread nD τ).loc main_arg2)) (ix2 ⟨b.val * 416 + i.val, by omega⟩ k)) (y 1))
      (fun t h => congrFun (idle m c t h) y)
      (fun t hb h h2 => (set7 m c t h h2 y).trans (part m c t h hb y))
      (fun t hb h h2 => (add7 m c t h h2 y).trans (congrArg _ (part m c t h hb y)))
      t (by have hN : grid0.N = 320 := N_0; show t.val = grid0.N - 1; omega)]
  refine Fin.sum_mul_add_congr fun s k hl => ?_
  blk_point [iblk, V, idx t]

/-- Kernel and reference end with the same results. -/
theorem algebraic : Cert.algebraic_RowUpIdeal_RowUpRefIdeal := by
  pair_intro
  · run_from run_main m g
  · run_from Cert.RowUpRefIdeal.Value.run m' g'
    · exact (final5 m c).symm
    · exact (final6 m c).symm
    · exact (final7 m c).symm

end Cert.RowUpIdeal.Results

end
-- ==== Proof.RowQkvResults.lean ====
/-
# The gradient at the normalization before the attention

The kernel goes through the rows in blocks of 416. It adds five products of 512 columns each into a scratch block.
After the last it sends the block back through the normalization, in four equal parts, and adds what the block gives
the gradient of the gain to a row that is written out at the end. The reference works on all 8320 rows and 2560
columns at once.
-/
module

public import proofs.«01_k».proof.Defs
public import proofs.«01_k».proof.Proof.Gen.RowQkvIdeal.Frame
public import proofs.«01_k».proof.Proof.Gen.RowQkvRefIdeal.Run
public import proofs.«01_k».proof.Proof.Rows
public import Idealize.ShloMosaic.Lib.Pipeline.ReadBack

@[expose] public section

set_option maxRecDepth 16384

noncomputable section

namespace Cert.RowQkvRefIdeal.Results

open Cert.RowQkvRefIdeal Cert.RowQkvRefIdeal.Gen Idealize.ShloMosaic

/-- The reference's product, from which the gradient starts. -/
abbrev PROD (a : FVec Ideal S8320x2560 .bf16) (b : FVec Ideal S2560x2048 .bf16) : FVec Ideal S8320x2048 .f32 :=
  Host.dotGeneral dot_S8320x2560_S2560x2048_S8320x2048_1_0_0_1_n_n none a b

end Cert.RowQkvRefIdeal.Results

namespace Cert.RowQkvIdeal.Results

open Cert.RowQkvIdeal Cert.RowQkvIdeal.Gen Idealize.ShloMosaic Idealize.ShloMosaic.TcCoe Idealize.SL.Sem
open Idealize.ShloMosaic.Pipeline (Dat)
open Cert.RowQkvRefIdeal.Results Cert.Rows

variable (m : (ℓ : Loc nD τ sig) → Buf (Elt Ideal) ℓ)

/-- Which block each window holds at a grid point. -/
theorem idx : ∀ t : Fin cfg0.N, win0_0.index t = ![t.val / 5, t.val % 5] ∧ win0_1.index t = ![t.val % 5, 0]
    ∧ win0_2.index t = ![t.val / 5, 0] ∧ win0_3.index t = ![0, 0] ∧ win0_4.index t = ![t.val / 5, 0]
    ∧ win0_5.index t = ![t.val / 5, 0] ∧ win0_6.index t = ![t.val / 5, 0] ∧ win0_7.index t = ![0, 0] :=
  (by decide +kernel : ∀ t : Fin grid0.N, _)

theorem lt (t : Fin cfg0.N) : t.val < 100 := lt_of_lt_of_eq t.isLt (show cfg0.N = 100 from N_0)

/-- The first point of a block stores its own product. -/
theorem first (x : Vec Ideal S416x512 .bf16) (y : Vec Ideal S512x2048 .bf16) (j) :
    k0_pay2 x y j = ∑ k : Fin 512, x (ix2 (j 0) k) * y (ix2 k (j 1)) := by
  pointwise [k0_pay2, k0_pay1]

/-- Every later point adds its product. -/
theorem next (x : Vec Ideal S416x512 .bf16) (y : Vec Ideal S512x2048 .bf16) (acc : Vec Ideal S416x2048 .f32) (j) :
    k0_pay3 x y acc j = acc j + ∑ k : Fin 512, x (ix2 (j 0) k) * y (ix2 k (j 1)) := by
  pointwise [k0_pay3, k0_pay1]

/-- The reference's product as one sum. -/
theorem whole (a : FVec Ideal S8320x2560 .bf16) (b : FVec Ideal S2560x2048 .bf16) (j) :
    PROD a b j = ∑ k : Fin 2560, a (ix2 (j 0) k) * b (ix2 k (j 1)) := by
  pointwise [PROD]

/-- After a block's last point the scratch holds the rows of the product. -/
theorem scratch (c : Dev nD) (t : Fin cfg0.N) (h : t.val % 5 = 4) (x : S416x2048.Idx) (y : RowQkvRefIdeal.S8320x2048.Idx)
    (h0 : (y 0).val = 416 * (t.val / 5) + (x 0).val) (h1 : (y 1).val = (x 1).val) :
    (outsAt0 m c t.val t.isLt).2.2.2 x =
    PROD (m ((c : Thread nD τ).loc main_arg0)) (m ((c : Thread nD τ).loc main_arg1)) y := by
  rw [Pipeline.eq_sum_fin_of_reset_step_apply_of_flush (fun n h => (outsAt0 m c n h).2.2.2) 5 (fun _ => 0) _
    (fun t h j => by rw [outsAt0_A m c t h (by omega) (by omega)]; frame_out; rw [first, zero_add])
    (fun t h j => by
      rcases Decidable.em (t.val % 5 = 4) with h2 | h2
      · rcases Decidable.em (t.val < 5) with h3 | h3
        · rw [outsAt0_C m c t h (by omega) h2 h3 (by omega)]; frame_out; rw [read_unread_whole, next]
        · rw [outsAt0_D m c t h (by omega) h2 h3 (by omega)]; frame_out; rw [read_unread_whole, next]
      · rw [outsAt0_B m c t h (by omega) h2]; frame_out; rw [read_unread_whole, next])
    t h _, zero_add, whole]
  refine Fin.sum_mul_add_congr fun s k hl => ?_
  blk_point [iblk, V, idx t, idx ⟨_, Pipeline.run_point_lt_of_flush t h s⟩]

/-- What the last point of a block writes out, in both formats. -/
theorem last (c : Dev nD) (t : Fin cfg0.N) (h : t.val % 5 = 4) (y : S416x2048.Idx) :
    let v := back (fun k => (outsAt0 m c t.val t.isLt).2.2.2 (ix2 (y 0) k)) (fun k => (show FVec Ideal S416x2048 .f32 from iblk m c 2 t) (ix2 (y 0) k))
      (fun k => (show FVec Ideal S416x2048 .f32 from iblk m c 4 t) (ix2 (y 0) k)) (fun k => (show FVec Ideal S1x2048 .f32 from iblk m c 3 t) (ix2 0 k)) (y 1)
    (outsAt0 m c t.val t.isLt).1 y = v ∧ (outsAt0 m c t.val t.isLt).2.1 y = v := by
  dsimp only
  constructor <;> rcases Decidable.em (t.val < 5) with h2 | h2
  case' left.inl => rw [outsAt0_C m c t (by omega) (by omega) h h2 (by omega)]
  case' left.inr => rw [outsAt0_D m c t (by omega) (by omega) h h2 (by omega)]
  case' right.inl => rw [outsAt0_C m c t (by omega) (by omega) h h2 (by omega)]
  case' right.inr => rw [outsAt0_D m c t (by omega) (by omega) h h2 (by omega)]
  all_goals
    frame_out
    simp (disch := decide) only [View.readCov_fill]
    generalize k0_pay3 (F := Ideal) _ _ _ = X
    generalize iblk m c 2 t = A2
    generalize iblk m c 3 t = A3
    generalize iblk m c 4 t = A4
    canon_tiles x hx
  all_goals
    pointwise [k0_pay4, k0_pay5, k0_pay6, k0_pay7, k0_pay10, k0_pay11, k0_pay12, k0_pay13, k0_pay15, k0_pay16, k0_pay17, k0_pay18, k0_pay20, k0_pay21, k0_pay22, k0_pay23, k0_pay24, k0_pay26, back, root]
    blk_point []

/-- Before the last point of a block, the row of column sums is left alone. -/
theorem idle (c : Dev nD) (t : Fin cfg0.N) (h : t.val % 5 ≠ 4) :
    (outsAt0 m c t.val t.isLt).2.2.1 = (outsAt0 m c (t.val - 1) (Nat.lt_of_le_of_lt (Nat.sub_le _ _) t.isLt)).2.2.1 := by
  rcases Decidable.em (t.val % 5 = 0) with h0 | h0
  · rw [outsAt0_A m c t h0 (by omega) (by omega)]; rfl
  · rw [outsAt0_B m c t h0 (by omega) (by omega)]; rfl

/-- What a block adds to the row of column sums: from the scratch and the block's rows. -/
def GAIN (a h : FVec Ideal S416x2048 .f32) (y : S1x2048.Idx) : EReal :=
  ∑ i : Fin 416, gain (fun k => a (ix2 i k)) (fun k => h (ix2 i k)) (y 1)

/-- The first block sets the row of column sums. -/
theorem set7 (c : Dev nD) (t : Fin cfg0.N) (h : t.val % 5 = 4) (h2 : t.val < 5) (y : S1x2048.Idx) :
    (outsAt0 m c t.val t.isLt).2.2.1 y = GAIN (outsAt0 m c t.val t.isLt).2.2.2 (iblk m c 2 t) y := by
  rw [outsAt0_C m c t (by omega) (by omega) h h2 (by omega)]
  frame_out
  simp (disch := decide) only [View.readCov_fill]
  generalize k0_pay3 (F := Ideal) _ _ _ = X
  generalize iblk m c 2 t = A2
  have e : GAIN X A2 y = _ := (four (n := 104) (fun i : Fin 416 => gain (fun k => X (ix2 i k)) (fun k => A2 (ix2 i k)) (y 1)) rfl).symm
  rw [e]
  pointwise [k0_pay8, k0_pay14, k0_pay19, k0_pay25, k0_pay4, k0_pay5, k0_pay10, k0_pay11, k0_pay15, k0_pay16, k0_pay20, k0_pay21, k0_pay22, k0_pay26, gain, root]

/-- Every later block adds its own. -/
theorem add7 (c : Dev nD) (t : Fin cfg0.N) (h : t.val % 5 = 4) (h2 : ¬ t.val < 5) (y : S1x2048.Idx) :
    (outsAt0 m c t.val t.isLt).2.2.1 y = (outsAt0 m c (t.val - 1) (Nat.lt_of_le_of_lt (Nat.sub_le _ _) t.isLt)).2.2.1 y
      + GAIN (outsAt0 m c t.val t.isLt).2.2.2 (iblk m c 2 t) y := by
  rw [outsAt0_D m c t (by omega) (by omega) h h2 (by omega)]
  frame_out
  simp (disch := decide) only [View.readCov_fill]
  generalize k0_pay3 (F := Ideal) _ _ _ = X
  generalize iblk m c 2 t = A2
  generalize (outsAt0 m c (t.val - 1) _).2.2.1 = P
  have e : GAIN X A2 y = _ := (four (n := 104) (fun i : Fin 416 => gain (fun k => X (ix2 i k)) (fun k => A2 (ix2 i k)) (y 1)) rfl).symm
  rw [e]
  pointwise [k0_pay9, k0_pay8, k0_pay14, k0_pay19, k0_pay25, k0_pay4, k0_pay5, k0_pay10, k0_pay11, k0_pay15, k0_pay16, k0_pay20, k0_pay21, k0_pay22, k0_pay26, gain, root]

/-- The reference's gradient of the rows, from the kernel's arguments. -/
abbrev RES (c : Dev nD) : FVec Ideal RowQkvRefIdeal.S8320x2048 .f32 :=
  DH (PROD (m ((c : Thread nD τ).loc main_arg0)) (m ((c : Thread nD τ).loc main_arg1))) (m ((c : Thread nD τ).loc main_arg2)) (m ((c : Thread nD τ).loc main_arg4)) (m ((c : Thread nD τ).loc main_arg3))

/-- What a block writes out is the reference's entry. -/
theorem entry (c : Dev nD) (t : Fin cfg0.N) (h : t.val % 5 = 4) (x : S416x2048.Idx) (y : RowQkvRefIdeal.S8320x2048.Idx)
    (h0 : (y 0).val = 416 * (t.val / 5) + (x 0).val) (h1 : (y 1).val = (x 1).val) :
    (outsAt0 m c t.val t.isLt).1 x = RES m c y ∧ (outsAt0 m c t.val t.isLt).2.1 x = RES m c y := by
  rw [(last m c t h x).1, (last m c t h x).2, and_self, RES, DH_at]
  simp only [fun k : Fin 2048 => scratch m c t h (ix2 (x 0) k) (ix2 (y 0) k) h0 rfl]
  refine congr (congr (congrArg₂ (fun a b => back _ a b) (funext fun k => ?_) (funext fun k => ?_)) (funext fun k => ?_)) (Fin.ext h1.symm)
  all_goals blk_point [iblk, V, idx t]

theorem final5 (c : Dev nD) : (dats m 0 c).arrAt 5 (cfgs 0).N = RES m c := by
  refine (dats m 0 c).arrAt_eq_of_covers 5 _ (by decide +kernel) fun t hf y => ?_
  blk_simp
  rw [after0_5]
  exact (entry m c t ((flush0_5 t).mp hf) _ _ (by blk_simp [idx t]; omega) (by blk_simp [idx t])).1

theorem final6 (c : Dev nD) : (dats m 0 c).arrAt 6 (cfgs 0).N = RES m c := by
  refine (dats m 0 c).arrAt_eq_of_covers 6 _ (by decide +kernel) fun t hf y => ?_
  blk_simp
  rw [after0_6]
  exact (entry m c t ((flush0_6 t).mp hf) _ _ (by blk_simp [idx t]; omega) (by blk_simp [idx t])).2

/-- What the block of a point adds, as rows of the whole arrays. -/
theorem part (c : Dev nD) (t : Fin cfg0.N) (h : t.val % 5 = 4) (hb : t.val / 5 < 20) (y : S1x2048.Idx) :
    GAIN (outsAt0 m c t.val t.isLt).2.2.2 (iblk m c 2 t) y =
    ∑ i : Fin 416, gain (fun k => PROD (m ((c : Thread nD τ).loc main_arg0)) (m ((c : Thread nD τ).loc main_arg1)) (ix2 ⟨(⟨t.val / 5, hb⟩ : Fin 20).val * 416 + i.val, by dsimp only; omega⟩ k))
      (fun k => (show FVec Ideal RowQkvRefIdeal.S8320x2048 .f32 from m ((c : Thread nD τ).loc main_arg2)) (ix2 ⟨(⟨t.val / 5, hb⟩ : Fin 20).val * 416 + i.val, by dsimp only; omega⟩ k)) (y 1) := by
  refine Finset.sum_congr rfl fun i _ => congrArg₂ (fun a b => gain a b (y 1)) (funext fun k => ?_) (funext fun k => ?_)
  · exact scratch m c t h _ _ (by show t.val / 5 * 416 + i.val = 416 * (t.val / 5) + i.val; omega) rfl
  · blk_point [iblk, V, idx t]

theorem final7 (c : Dev nD) : (dats m 0 c).arrAt 7 (cfgs 0).N =
    DG (PROD (m ((c : Thread nD τ).loc main_arg0)) (m ((c : Thread nD τ).loc main_arg1))) (m ((c : Thread nD τ).loc main_arg2)) := by
  refine (dats m 0 c).arrAt_eq_of_covers 7 _ (by decide +kernel) fun t hf y => ?_
  blk_simp
  have ht := (flush0_7 t).mp hf
  have hlt := lt t
  rw [after0_7, DG_at,
    sum_blocks (J := 5) (B := 20) (by decide) N_0 (fun n h => (outsAt0 m c n h).2.2.1 y)
      (fun b => ∑ i : Fin 416, gain (fun k => PROD (m ((c : Thread nD τ).loc main_arg0)) (m ((c : Thread nD τ).loc main_arg1)) (ix2 ⟨b.val * 416 + i.val, by omega⟩ k))
        (fun k => (show FVec Ideal RowQkvRefIdeal.S8320x2048 .f32 from m ((c : Thread nD τ).loc main_arg2)) (ix2 ⟨b.val * 416 + i.val, by omega⟩ k)) (y 1))
      (fun t h => congrFun (idle m c t h) y)
      (fun t hb h h2 => (set7 m c t h h2 y).trans (part m c t h hb y))
      (fun t hb h h2 => (add7 m c t h h2 y).trans (congrArg _ (part m c t h hb y)))
      t (by have hN : grid0.N = 100 := N_0; show t.val = grid0.N - 1; omega)]
  refine Fin.sum_mul_add_congr fun s k hl => ?_
  blk_point [iblk, V, idx t]

/-- Kernel and reference end with the same results. -/
theorem algebraic : Cert.algebraic_RowQkvIdeal_RowQkvRefIdeal := by
  pair_intro
  · run_from run_main m g
  · run_from Cert.RowQkvRefIdeal.Value.run m' g'
    · exact (final5 m c).symm
    · exact (final6 m c).symm
    · exact (final7 m c).symm

end Cert.RowQkvIdeal.Results

end
-- ==== Proof.RowInResults.lean ====
/-
# The gradient at the normalization before the input projection

The kernel goes through the rows in blocks of 416. It adds twelve products of 512 columns each into a scratch block.
After the last it sends the block back through the normalization, in four equal parts, and adds what the block gives
the gradient of the gain to a row that is written out at the end. The reference works on all 8320 rows and 6144
columns at once.
-/
module

public import proofs.«01_k».proof.Defs
public import proofs.«01_k».proof.Proof.Gen.RowInIdeal.Frame
public import proofs.«01_k».proof.Proof.Gen.RowInRefIdeal.Run
public import proofs.«01_k».proof.Proof.Rows
public import Idealize.ShloMosaic.Lib.Pipeline.ReadBack

@[expose] public section

set_option maxRecDepth 16384

noncomputable section

namespace Cert.RowInRefIdeal.Results

open Cert.RowInRefIdeal Cert.RowInRefIdeal.Gen Idealize.ShloMosaic

/-- The reference's product, from which the gradient starts. -/
abbrev PROD (a : FVec Ideal S8320x6144 .bf16) (b : FVec Ideal S6144x2048 .bf16) : FVec Ideal S8320x2048 .f32 :=
  Host.dotGeneral dot_S8320x6144_S6144x2048_S8320x2048_1_0_0_1_n_n none a b

end Cert.RowInRefIdeal.Results

namespace Cert.RowInIdeal.Results

open Cert.RowInIdeal Cert.RowInIdeal.Gen Idealize.ShloMosaic Idealize.ShloMosaic.TcCoe Idealize.SL.Sem
open Idealize.ShloMosaic.Pipeline (Dat)
open Cert.RowInRefIdeal.Results Cert.Rows

variable (m : (ℓ : Loc nD τ sig) → Buf (Elt Ideal) ℓ)

/-- Which block each window holds at a grid point. -/
theorem idx : ∀ t : Fin cfg0.N, win0_0.index t = ![t.val / 12, t.val % 12] ∧ win0_1.index t = ![t.val % 12, 0]
    ∧ win0_2.index t = ![t.val / 12, 0] ∧ win0_3.index t = ![0, 0] ∧ win0_4.index t = ![t.val / 12, 0]
    ∧ win0_5.index t = ![t.val / 12, 0] ∧ win0_6.index t = ![t.val / 12, 0] ∧ win0_7.index t = ![0, 0] :=
  (by decide +kernel : ∀ t : Fin grid0.N, _)

theorem lt (t : Fin cfg0.N) : t.val < 240 := lt_of_lt_of_eq t.isLt (show cfg0.N = 240 from N_0)

/-- The first point of a block stores its own product. -/
theorem first (x : Vec Ideal S416x512 .bf16) (y : Vec Ideal S512x2048 .bf16) (j) :
    k0_pay2 x y j = ∑ k : Fin 512, x (ix2 (j 0) k) * y (ix2 k (j 1)) := by
  pointwise [k0_pay2, k0_pay1]

/-- Every later point adds its product. -/
theorem next (x : Vec Ideal S416x512 .bf16) (y : Vec Ideal S512x2048 .bf16) (acc : Vec Ideal S416x2048 .f32) (j) :
    k0_pay3 x y acc j = acc j + ∑ k : Fin 512, x (ix2 (j 0) k) * y (ix2 k (j 1)) := by
  pointwise [k0_pay3, k0_pay1]

/-- The reference's product as one sum. -/
theorem whole (a : FVec Ideal S8320x6144 .bf16) (b : FVec Ideal S6144x2048 .bf16) (j) :
    PROD a b j = ∑ k : Fin 6144, a (ix2 (j 0) k) * b (ix2 k (j 1)) := by
  pointwise [PROD]

/-- After a block's last point the scratch holds the rows of the product. -/
theorem scratch (c : Dev nD) (t : Fin cfg0.N) (h : t.val % 12 = 11) (x : S416x2048.Idx) (y : RowInRefIdeal.S8320x2048.Idx)
    (h0 : (y 0).val = 416 * (t.val / 12) + (x 0).val) (h1 : (y 1).val = (x 1).val) :
    (outsAt0 m c t.val t.isLt).2.2.2 x =
    PROD (m ((c : Thread nD τ).loc main_arg0)) (m ((c : Thread nD τ).loc main_arg1)) y := by
  rw [Pipeline.eq_sum_fin_of_reset_step_apply_of_flush (fun n h => (outsAt0 m c n h).2.2.2) 12 (fun _ => 0) _
    (fun t h j => by rw [outsAt0_A m c t h (by omega) (by omega)]; frame_out; rw [first, zero_add])
    (fun t h j => by
      rcases Decidable.em (t.val % 12 = 11) with h2 | h2
      · rcases Decidable.em (t.val < 12) with h3 | h3
        · rw [outsAt0_C m c t h (by omega) h2 h3 (by omega)]; frame_out; rw [read_unread_whole, next]
        · rw [outsAt0_D m c t h (by omega) h2 h3 (by omega)]; frame_out; rw [read_unread_whole, next]
      · rw [outsAt0_B m c t h (by omega) h2]; frame_out; rw [read_unread_whole, next])
    t h _, zero_add, whole]
  refine Fin.sum_mul_add_congr fun s k hl => ?_
  blk_point [iblk, V, idx t, idx ⟨_, Pipeline.run_point_lt_of_flush t h s⟩]

/-- What the last point of a block writes out, in both formats. -/
theorem last (c : Dev nD) (t : Fin cfg0.N) (h : t.val % 12 = 11) (y : S416x2048.Idx) :
    let v := back (fun k => (outsAt0 m c t.val t.isLt).2.2.2 (ix2 (y 0) k)) (fun k => (show FVec Ideal S416x2048 .f32 from iblk m c 2 t) (ix2 (y 0) k))
      (fun k => (show FVec Ideal S416x2048 .f32 from iblk m c 4 t) (ix2 (y 0) k)) (fun k => (show FVec Ideal S1x2048 .f32 from iblk m c 3 t) (ix2 0 k)) (y 1)
    (outsAt0 m c t.val t.isLt).1 y = v ∧ (outsAt0 m c t.val t.isLt).2.1 y = v := by
  dsimp only
  constructor <;> rcases Decidable.em (t.val < 12) with h2 | h2
  case' left.inl => rw [outsAt0_C m c t (by omega) (by omega) h h2 (by omega)]
  case' left.inr => rw [outsAt0_D m c t (by omega) (by omega) h h2 (by omega)]
  case' right.inl => rw [outsAt0_C m c t (by omega) (by omega) h h2 (by omega)]
  case' right.inr => rw [outsAt0_D m c t (by omega) (by omega) h h2 (by omega)]
  all_goals
    frame_out
    simp (disch := decide) only [View.readCov_fill]
    generalize k0_pay3 (F := Ideal) _ _ _ = X
    generalize iblk m c 2 t = A2
    generalize iblk m c 3 t = A3
    generalize iblk m c 4 t = A4
    canon_tiles x hx
  all_goals
    pointwise [k0_pay4, k0_pay5, k0_pay6, k0_pay7, k0_pay10, k0_pay11, k0_pay12, k0_pay13, k0_pay15, k0_pay16, k0_pay17, k0_pay18, k0_pay20, k0_pay21, k0_pay22, k0_pay23, k0_pay24, k0_pay26, back, root]
    blk_point []

/-- Before the last point of a block, the row of column sums is left alone. -/
theorem idle (c : Dev nD) (t : Fin cfg0.N) (h : t.val % 12 ≠ 11) :
    (outsAt0 m c t.val t.isLt).2.2.1 = (outsAt0 m c (t.val - 1) (Nat.lt_of_le_of_lt (Nat.sub_le _ _) t.isLt)).2.2.1 := by
  rcases Decidable.em (t.val % 12 = 0) with h0 | h0
  · rw [outsAt0_A m c t h0 (by omega) (by omega)]; rfl
  · rw [outsAt0_B m c t h0 (by omega) (by omega)]; rfl

/-- What a block adds to the row of column sums: from the scratch and the block's rows. -/
def GAIN (a h : FVec Ideal S416x2048 .f32) (y : S1x2048.Idx) : EReal :=
  ∑ i : Fin 416, gain (fun k => a (ix2 i k)) (fun k => h (ix2 i k)) (y 1)

/-- The first block sets the row of column sums. -/
theorem set7 (c : Dev nD) (t : Fin cfg0.N) (h : t.val % 12 = 11) (h2 : t.val < 12) (y : S1x2048.Idx) :
    (outsAt0 m c t.val t.isLt).2.2.1 y = GAIN (outsAt0 m c t.val t.isLt).2.2.2 (iblk m c 2 t) y := by
  rw [outsAt0_C m c t (by omega) (by omega) h h2 (by omega)]
  frame_out
  simp (disch := decide) only [View.readCov_fill]
  generalize k0_pay3 (F := Ideal) _ _ _ = X
  generalize iblk m c 2 t = A2
  have e : GAIN X A2 y = _ := (four (n := 104) (fun i : Fin 416 => gain (fun k => X (ix2 i k)) (fun k => A2 (ix2 i k)) (y 1)) rfl).symm
  rw [e]
  pointwise [k0_pay8, k0_pay14, k0_pay19, k0_pay25, k0_pay4, k0_pay5, k0_pay10, k0_pay11, k0_pay15, k0_pay16, k0_pay20, k0_pay21, k0_pay22, k0_pay26, gain, root]

/-- Every later block adds its own. -/
theorem add7 (c : Dev nD) (t : Fin cfg0.N) (h : t.val % 12 = 11) (h2 : ¬ t.val < 12) (y : S1x2048.Idx) :
    (outsAt0 m c t.val t.isLt).2.2.1 y = (outsAt0 m c (t.val - 1) (Nat.lt_of_le_of_lt (Nat.sub_le _ _) t.isLt)).2.2.1 y
      + GAIN (outsAt0 m c t.val t.isLt).2.2.2 (iblk m c 2 t) y := by
  rw [outsAt0_D m c t (by omega) (by omega) h h2 (by omega)]
  frame_out
  simp (disch := decide) only [View.readCov_fill]
  generalize k0_pay3 (F := Ideal) _ _ _ = X
  generalize iblk m c 2 t = A2
  generalize (outsAt0 m c (t.val - 1) _).2.2.1 = P
  have e : GAIN X A2 y = _ := (four (n := 104) (fun i : Fin 416 => gain (fun k => X (ix2 i k)) (fun k => A2 (ix2 i k)) (y 1)) rfl).symm
  rw [e]
  pointwise [k0_pay9, k0_pay8, k0_pay14, k0_pay19, k0_pay25, k0_pay4, k0_pay5, k0_pay10, k0_pay11, k0_pay15, k0_pay16, k0_pay20, k0_pay21, k0_pay22, k0_pay26, gain, root]

/-- The reference's gradient of the rows, from the kernel's arguments. -/
abbrev RES (c : Dev nD) : FVec Ideal RowInRefIdeal.S8320x2048 .f32 :=
  DH (PROD (m ((c : Thread nD τ).loc main_arg0)) (m ((c : Thread nD τ).loc main_arg1))) (m ((c : Thread nD τ).loc main_arg2)) (m ((c : Thread nD τ).loc main_arg4)) (m ((c : Thread nD τ).loc main_arg3))

/-- What a block writes out is the reference's entry. -/
theorem entry (c : Dev nD) (t : Fin cfg0.N) (h : t.val % 12 = 11) (x : S416x2048.Idx) (y : RowInRefIdeal.S8320x2048.Idx)
    (h0 : (y 0).val = 416 * (t.val / 12) + (x 0).val) (h1 : (y 1).val = (x 1).val) :
    (outsAt0 m c t.val t.isLt).1 x = RES m c y ∧ (outsAt0 m c t.val t.isLt).2.1 x = RES m c y := by
  rw [(last m c t h x).1, (last m c t h x).2, and_self, RES, DH_at]
  simp only [fun k : Fin 2048 => scratch m c t h (ix2 (x 0) k) (ix2 (y 0) k) h0 rfl]
  refine congr (congr (congrArg₂ (fun a b => back _ a b) (funext fun k => ?_) (funext fun k => ?_)) (funext fun k => ?_)) (Fin.ext h1.symm)
  all_goals blk_point [iblk, V, idx t]

theorem final5 (c : Dev nD) : (dats m 0 c).arrAt 5 (cfgs 0).N = RES m c := by
  refine (dats m 0 c).arrAt_eq_of_covers 5 _ (by decide +kernel) fun t hf y => ?_
  blk_simp
  rw [after0_5]
  exact (entry m c t ((flush0_5 t).mp hf) _ _ (by blk_simp [idx t]; omega) (by blk_simp [idx t])).1

theorem final6 (c : Dev nD) : (dats m 0 c).arrAt 6 (cfgs 0).N = RES m c := by
  refine (dats m 0 c).arrAt_eq_of_covers 6 _ (by decide +kernel) fun t hf y => ?_
  blk_simp
  rw [after0_6]
  exact (entry m c t ((flush0_6 t).mp hf) _ _ (by blk_simp [idx t]; omega) (by blk_simp [idx t])).2

/-- What the block of a point adds, as rows of the whole arrays. -/
theorem part (c : Dev nD) (t : Fin cfg0.N) (h : t.val % 12 = 11) (hb : t.val / 12 < 20) (y : S1x2048.Idx) :
    GAIN (outsAt0 m c t.val t.isLt).2.2.2 (iblk m c 2 t) y =
    ∑ i : Fin 416, gain (fun k => PROD (m ((c : Thread nD τ).loc main_arg0)) (m ((c : Thread nD τ).loc main_arg1)) (ix2 ⟨(⟨t.val / 12, hb⟩ : Fin 20).val * 416 + i.val, by dsimp only; omega⟩ k))
      (fun k => (show FVec Ideal RowInRefIdeal.S8320x2048 .f32 from m ((c : Thread nD τ).loc main_arg2)) (ix2 ⟨(⟨t.val / 12, hb⟩ : Fin 20).val * 416 + i.val, by dsimp only; omega⟩ k)) (y 1) := by
  refine Finset.sum_congr rfl fun i _ => congrArg₂ (fun a b => gain a b (y 1)) (funext fun k => ?_) (funext fun k => ?_)
  · exact scratch m c t h _ _ (by show t.val / 12 * 416 + i.val = 416 * (t.val / 12) + i.val; omega) rfl
  · blk_point [iblk, V, idx t]

theorem final7 (c : Dev nD) : (dats m 0 c).arrAt 7 (cfgs 0).N =
    DG (PROD (m ((c : Thread nD τ).loc main_arg0)) (m ((c : Thread nD τ).loc main_arg1))) (m ((c : Thread nD τ).loc main_arg2)) := by
  refine (dats m 0 c).arrAt_eq_of_covers 7 _ (by decide +kernel) fun t hf y => ?_
  blk_simp
  have ht := (flush0_7 t).mp hf
  have hlt := lt t
  rw [after0_7, DG_at,
    sum_blocks (J := 12) (B := 20) (by decide) N_0 (fun n h => (outsAt0 m c n h).2.2.1 y)
      (fun b => ∑ i : Fin 416, gain (fun k => PROD (m ((c : Thread nD τ).loc main_arg0)) (m ((c : Thread nD τ).loc main_arg1)) (ix2 ⟨b.val * 416 + i.val, by omega⟩ k))
        (fun k => (show FVec Ideal RowInRefIdeal.S8320x2048 .f32 from m ((c : Thread nD τ).loc main_arg2)) (ix2 ⟨b.val * 416 + i.val, by omega⟩ k)) (y 1))
      (fun t h => congrFun (idle m c t h) y)
      (fun t hb h h2 => (set7 m c t h h2 y).trans (part m c t h hb y))
      (fun t hb h h2 => (add7 m c t h h2 y).trans (congrArg _ (part m c t h hb y)))
      t (by have hN : grid0.N = 240 := N_0; show t.val = grid0.N - 1; omega)]
  refine Fin.sum_mul_add_congr fun s k hl => ?_
  blk_point [iblk, V, idx t]

/-- Kernel and reference end with the same results. -/
theorem algebraic : Cert.algebraic_RowInIdeal_RowInRefIdeal := by
  pair_intro
  · run_from run_main m g
  · run_from Cert.RowInRefIdeal.Value.run m' g'
    · exact (final5 m c).symm
    · exact (final6 m c).symm
    · exact (final7 m c).symm

end Cert.RowInIdeal.Results

end
-- ==== Proof.LossResults.lean ====
/-
# The loss and the gradient behind it

The kernel goes over blocks of 128 rows, the first of which has no target, and adds up the loss and the gradient of the
gain. It multiplies by the reciprocal of the row length where the reference divides by it.
-/
module

public import proofs.«01_k».proof.Defs
public import proofs.«01_k».proof.Proof.Gen.LossIdeal.Frame
public import proofs.«01_k».proof.Proof.Gen.LossRefIdeal.Run
public import Idealize.ShloMosaic.Lib.Pipeline.ValueKit
public import Idealize.ShloMosaic.Lib.Pipeline.ReadBack

@[expose] public section

set_option maxRecDepth 16384

noncomputable section

namespace Cert.LossRefIdeal.Results

open Cert.LossRefIdeal Cert.LossRefIdeal.Gen Idealize.ShloMosaic

/-- One over the root of every row's mean square. -/
def RSTD (h : FVec Ideal S8320x2048 .f32) : FVec Ideal S8320x1 .f32 :=
  Host.rsqrt (addf (Host.divf (broadcastInDim S8320x1 ![0] bcast_S8320_S8320x1_0 (Host.reduceAdd (mulf h h) (constant S_ .f32 0x00000000#32) reducesTo_S8320x2048_S8320_d1 h_S_)) (broadcastInDim S8320x1 ![] bcast_S_S8320x1 (constant S_ .f32 0x45000000#32))) (broadcastInDim S8320x1 ![] bcast_S_S8320x1 (constant S_ .f32 0x3727C5AC#32)))

/-- The normalized rows before the gain. -/
def UNIT (h : FVec Ideal S8320x2048 .f32) : FVec Ideal S8320x2048 .f32 :=
  mulf h (broadcastInDim S8320x2048 ![0, 1] bcast_S8320x1_S8320x2048_0_1 (RSTD h))

/-- The normalized rows minus the target, zero on the first 128 rows. -/
def DIFF (h : FVec Ideal S8320x2048 .f32) (g : FVec Ideal S1x2048 .f32) (y : FVec Ideal S8192x2048 .f32) : FVec Ideal S8320x2048 .f32 :=
  select (broadcastInDim S8320x2048 ![0, 1] bcast_S8320x1_S8320x2048_0_1 (cmpi .sge (broadcastInDim S8320x1 ![0] bcast_S8320_S8320x1_0 (iotaInDim S8320 32 0)) (broadcastInDim S8320x1 ![] bcast_S_S8320x1 (constantI S_ 32 128#32)))) (subf (mulf (UNIT h) (broadcastInDim S8320x2048 ![0, 1] bcast_S1x2048_S8320x2048_0_1 g)) (pad S8320x2048 ![128, 0] ![0, 0] ![0, 0] y (sitofp .f32 (constantI S_ 32 0#32)) pads_S8192x2048_S8320x2048_12800_000 h_S_)) (broadcastInDim S8320x2048 ![] bcast_S_S8320x2048 (id (constant S_ .f32 0x00000000#32)))

/-- The loss, in every place of its small block: half the sum over the rows of the mean squared difference. -/
def LOSS (d : FVec Ideal S8320x2048 .f32) : FVec Ideal S8x128 .f32 :=
  broadcastInDim S8x128 ![] bcast_S_S8x128 (mulf (constant S_ .f32 0x3F000000#32) (Host.reduceAdd (Host.divf (Host.reduceAdd (mulf d d) (constant S_ .f32 0x00000000#32) reducesTo_S8320x2048_S8320_d1 h_S_) (broadcastInDim S8320 ![] bcast_S_S8320 (constant S_ .f32 0x45000000#32))) (constant S_ .f32 0x00000000#32) reducesTo_S8320_S_d0 h_S_))

/-- The gradient of the loss by the normalized rows. -/
def DOUT (d : FVec Ideal S8320x2048 .f32) : FVec Ideal S8320x2048 .f32 :=
  Host.divf d (broadcastInDim S8320x2048 ![] bcast_S_S8320x2048 (constant S_ .f32 0x45000000#32))

/-- The gradient by the rows of their normalization. -/
def DH (h : FVec Ideal S8320x2048 .f32) (g : FVec Ideal S1x2048 .f32) (d : FVec Ideal S8320x2048 .f32) : FVec Ideal S8320x2048 .f32 :=
  mulf (broadcastInDim S8320x2048 ![0, 1] bcast_S8320x1_S8320x2048_0_1 (RSTD h)) (subf (mulf d (broadcastInDim S8320x2048 ![0, 1] bcast_S1x2048_S8320x2048_0_1 g)) (mulf (UNIT h) (broadcastInDim S8320x2048 ![0, 1] bcast_S8320x1_S8320x2048_0_1 (Host.divf (broadcastInDim S8320x1 ![0] bcast_S8320_S8320x1_0 (Host.reduceAdd (mulf (mulf d (broadcastInDim S8320x2048 ![0, 1] bcast_S1x2048_S8320x2048_0_1 g)) (UNIT h)) (constant S_ .f32 0x00000000#32) reducesTo_S8320x2048_S8320_d1 h_S_)) (broadcastInDim S8320x1 ![] bcast_S_S8320x1 (constant S_ .f32 0x45000000#32))))))

/-- The gradient by the gain. -/
def DG (h : FVec Ideal S8320x2048 .f32) (d : FVec Ideal S8320x2048 .f32) : FVec Ideal S1x2048 .f32 :=
  broadcastInDim S1x2048 ![1] bcast_S2048_S1x2048_1 (Host.reduceAdd (mulf d (UNIT h)) (constant S_ .f32 0x00000000#32) reducesTo_S8320x2048_S2048_d0 h_S_)

end Cert.LossRefIdeal.Results

namespace Cert.LossIdeal.Results

open Cert.LossIdeal Cert.LossIdeal.Gen Idealize.ShloMosaic Idealize.ShloMosaic.TcCoe Idealize.SL.Sem
open Idealize.ShloMosaic.Pipeline (Dat)
open Cert.LossRefIdeal.Results

variable (m : (ℓ : Loc nD τ sig) → Buf (Elt Ideal) ℓ)

/-- The arrays the kernel reads. -/
abbrev H (c : Dev nD) : FVec Ideal S8320x2048 .f32 := m ((c : Thread nD τ).loc main_arg0)
abbrev GAIN (c : Dev nD) : FVec Ideal S1x2048 .f32 := m ((c : Thread nD τ).loc main_arg1)
abbrev Y (c : Dev nD) : FVec Ideal S8192x2048 .f32 := m ((c : Thread nD τ).loc main_arg2)
/-- The differences from the target. -/
abbrev D (c : Dev nD) : FVec Ideal S8320x2048 .f32 := DIFF (H m c) (GAIN m c) (Y m c)

/-- Which block each window holds at a grid point. -/
theorem idx : ∀ t : Fin cfg0.N, win0_0.index t = ![t.val, 0] ∧ win0_1.index t = ![0, 0] ∧
    win0_2.index t = ![t.val - 1, 0] ∧ win0_3.index t = ![0, 0] ∧ win0_4.index t = ![t.val, 0] ∧
    win0_5.index t = ![t.val, 0] ∧ win0_6.index t = ![0, 0] ∧ (grid0.coords t 0).val = t.val :=
  (by decide +kernel : ∀ t : Fin grid0.N, _)

theorem lt (t : Fin cfg0.N) : t.val < 65 := lt_of_lt_of_eq t.isLt (show cfg0.N = 65 from N_0)

/-- The root's reciprocal, row by row of a block. -/
theorem rstd (c : Dev nD) (t : Fin cfg0.N) (x : S128x1.Idx) (y : LossRefIdeal.S8320x1.Idx) (h : (y 0).val = 128 * t.val + (x 0).val) :
    k0_pay6 (iblk m c 0 t) x = RSTD (H m c) y := by
  pointwise [k0_pay6, RSTD]
  blk_point [iblk, V, idx t]

theorem unit (c : Dev nD) (t : Fin cfg0.N) (x : S128x2048.Idx) (y : S8320x2048.Idx) (h : (y 0).val = 128 * t.val + (x 0).val)
    (h' : (y 1).val = (x 1).val) :
    k0_pay7 (iblk m c 0 t) x = UNIT (H m c) y := by
  pointwise [k0_pay7, UNIT]
  rw [rstd m c t (ix2 (x 0) 0) (ix2 (y 0) 0) h]
  blk_point [iblk, V, idx t]

theorem diff (c : Dev nD) (t : Fin cfg0.N) (x : S128x2048.Idx) (y : S8320x2048.Idx) (h : (y 0).val = 128 * t.val + (x 0).val)
    (h' : (y 1).val = (x 1).val) :
    k0_pay8 (grid0.coords t) (iblk m c 0 t) (iblk m c 1 t) (iblk m c 2 t) x = D m c y := by
  have hx := (x 0).isLt
  have hx : (x 0).val < 128 := hx
  have ht := lt t
  pointwise [k0_pay8, D, DIFF]
  rw [(idx t).2.2.2.2.2.2.2, Scalar.cmpi, WordCmp.cmpi_sgt_ofNat (by omega) (by omega), WordCmp.cmpi_sge_ofNat (by omega) (by omega),
    WordCmp.select_ofBool, WordCmp.select_ofBool, unit m c t x y h h']
  by_cases h0 : 0 < t.val
  · rw [if_pos (by simpa using h0), if_pos (by simp; omega), dif_pos (by omega)]
    refine congrArg₂ (· - ·) (congrArg _ ?_) ?_
    · blk_ext [iblk, V, idx t]
    · blk_ext [iblk, V, idx t]
  · rw [if_neg (by simpa using h0), if_neg (by simp; omega)]
    exact Ideal.ofBits_zero_f32.symm

/-- The constants, as real numbers. -/
theorem ofBits_2048 : Ideal.ofBits .f32 0x45000000#32 = ((2048 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_inv : Ideal.ofBits .f32 0x3A000000#32 = ((1 / 2048 : ℝ) : EReal) := by
  simp [Ideal.ofBits, Ideal.ieee, -EReal.coe_mul]; norm_num
theorem ofBits_half_inv : Ideal.ofBits .f32 0x39800000#32 = ((1 / 4096 : ℝ) : EReal) := by
  simp [Ideal.ofBits, Ideal.ieee, -EReal.coe_mul]; norm_num

/-- A real factor that is not negative goes into a sum. -/
theorem mul_sum {ι : Type} (a : ℝ) (ha : 0 ≤ a) (s : Finset ι) (f : ι → EReal) :
    (a : EReal) * ∑ i ∈ s, f i = ∑ i ∈ s, (a : EReal) * f i := by
  classical
  induction s using Finset.induction_on with
  | empty => simp
  | insert i s h ih =>
    rw [Finset.sum_insert h, Finset.sum_insert h, ← ih,
      EReal.left_distrib_of_nonneg_of_ne_top (by exact_mod_cast ha) (EReal.coe_ne_top a)]

theorem dout (c : Dev nD) (t : Fin cfg0.N) (x : S128x2048.Idx) (y : S8320x2048.Idx) (h : (y 0).val = 128 * t.val + (x 0).val)
    (h' : (y 1).val = (x 1).val) :
    k0_pay10 (grid0.coords t) (iblk m c 0 t) (iblk m c 1 t) (iblk m c 2 t) x = DOUT (D m c) y := by
  pointwise [k0_pay10, DOUT]
  rw [diff m c t x y h h', ofBits_inv, ofBits_2048, Ideal.div_coe (by norm_num)]

/-- The rows' gradient, row by row of a block. -/
theorem dh (c : Dev nD) (t : Fin cfg0.N) (x : S128x2048.Idx) (y : S8320x2048.Idx) (h : (y 0).val = 128 * t.val + (x 0).val)
    (h' : (y 1).val = (x 1).val) :
    k0_pay11 (grid0.coords t) (iblk m c 0 t) (iblk m c 1 t) (iblk m c 2 t) x = DH (H m c) (GAIN m c) (DOUT (D m c)) y := by
  have row : ∀ k : Fin 2048, _ := fun k => dout m c t (ix2 (x 0) k) (ix2 (y 0) k) h rfl
  have row' : ∀ k : Fin 2048, _ := fun k => unit m c t (ix2 (x 0) k) (ix2 (y 0) k) h rfl
  pointwise [k0_pay11, DH]
  rw [rstd m c t (ix2 (x 0) 0) (ix2 (y 0) 0) h, dout m c t x y h h', unit m c t x y h h']
  simp only [row, row']
  blk_point [iblk, V, idx t]

/-- The squared differences of a block, over two times the row length. -/
theorem part (c : Dev nD) (t : Fin cfg0.N) (x : S1x1.Idx) :
    k0_pay9 (grid0.coords t) (iblk m c 0 t) (iblk m c 1 t) (iblk m c 2 t) x = ∑ k : Fin 128, Ideal.ofBits .f32 0x3F000000#32 *
      Ideal.div (∑ l : Fin 2048, D m c (ix2 ⟨t.val * 128 + k.val, by have := lt t; omega⟩ l) * D m c (ix2 ⟨t.val * 128 + k.val, by have := lt t; omega⟩ l))
        (Ideal.ofBits .f32 0x45000000#32) := by
  pointwise [k0_pay9]
  rw [ofBits_half_inv, ofBits_half, ofBits_2048, mul_sum _ (by norm_num)]
  refine Finset.sum_congr rfl fun k _ => ?_
  have row : ∀ l : Fin 2048, _ := fun l => diff m c t (ix2 k l) (ix2 ⟨t.val * 128 + k.val, by have := lt t; omega⟩ l)
    (by show t.val * 128 + k.val = 128 * t.val + k.val; omega) rfl
  simp only [row]
  rw [Ideal.div_coe (by norm_num), ← mul_assoc, mul_comm ((1 / 2 : ℝ) : EReal), mul_assoc, ← EReal.coe_mul, mul_comm]
  norm_num

/-- A block's share of the gain's gradient. -/
theorem gain (c : Dev nD) (t : Fin cfg0.N) (x : S1x2048.Idx) :
    k0_pay2 (k0_pay7 (iblk m c 0 t)) (k0_pay10 (grid0.coords t) (iblk m c 0 t) (iblk m c 1 t) (iblk m c 2 t)) x = ∑ k : Fin 128,
      DOUT (D m c) (ix2 ⟨t.val * 128 + k.val, by have := lt t; omega⟩ (x 1)) * UNIT (H m c) (ix2 ⟨t.val * 128 + k.val, by have := lt t; omega⟩ (x 1)) := by
  pointwise [k0_pay2]
  refine Finset.sum_congr rfl fun k _ => ?_
  rw [dout m c t (ix2 k (x 1)) (ix2 ⟨t.val * 128 + k.val, by have := lt t; omega⟩ (x 1))
    (by show t.val * 128 + k.val = 128 * t.val + k.val; omega) rfl,
    unit m c t (ix2 k (x 1)) (ix2 ⟨t.val * 128 + k.val, by have := lt t; omega⟩ (x 1))
    (by show t.val * 128 + k.val = 128 * t.val + k.val; omega) rfl]

/-- The loss, once every block is added. -/
theorem final3 (c : Dev nD) : (dats m 0 c).arrAt 3 (cfgs 0).N = LOSS (D m c) := by
  refine (dats m 0 c).arrAt_eq_of_covers 3 _ (by decide +kernel) fun t hf y => ?_
  blk_simp
  rw [after0_3, Pipeline.eq_sum_fin_of_reset_step_apply_of_flush (fun n h => (outsAt0 m c n h).1) 65 (fun _ => 0) _
    (fun t h j => by rw [outsAt0_A m c t h (by have := lt t; omega)]; frame_out; pointwise [k0_pay3]; rw [part])
    (fun t h j => by rw [outsAt0_B m c t h (by omega)]; frame_out; pointwise [k0_pay4]; rw [part])
    t ((flush0_3 t).mp hf) _, zero_add]
  pointwise [LOSS]
  rw [ofBits_half, mul_sum _ (by norm_num)]
  refine Fin.sum_mul_add_congr fun s k hl => ?_
  have e : (⟨(65 * (t.val / 65) + s.val) * 128 + k.val, by have := lt t; omega⟩ : Fin 8320) = ⟨s.val * 128 + k.val, hl⟩ :=
    Fin.ext (by have := lt t; show (65 * (t.val / 65) + s.val) * 128 + k.val = s.val * 128 + k.val; omega)
  rw [e]

/-- The gain's gradient, once every block is added. -/
theorem final6 (c : Dev nD) : (dats m 0 c).arrAt 6 (cfgs 0).N = DG (H m c) (DOUT (D m c)) := by
  refine (dats m 0 c).arrAt_eq_of_covers 6 _ (by decide +kernel) fun t hf y => ?_
  blk_simp
  rw [after0_6, Pipeline.eq_sum_fin_of_reset_step_apply_of_flush (fun n h => (outsAt0 m c n h).2.2.2) 65 (fun _ => 0) _
    (fun t h j => by rw [outsAt0_A m c t h (by have := lt t; omega)]; frame_out; rw [gain]; exact (zero_add _).symm)
    (fun t h j => by rw [outsAt0_B m c t h (by omega)]; frame_out; pointwise [k0_pay5]; rw [gain])
    t ((flush0_6 t).mp hf) _, zero_add]
  pointwise [DG]
  refine Fin.sum_mul_add_congr fun s k hl => ?_
  have e : (⟨(65 * (t.val / 65) + s.val) * 128 + k.val, by have := lt t; omega⟩ : Fin 8320) = ⟨s.val * 128 + k.val, hl⟩ :=
    Fin.ext (by have := lt t; show (65 * (t.val / 65) + s.val) * 128 + k.val = s.val * 128 + k.val; omega)
  rw [e]
  blk_point [idx t]

/-- The rows' gradient, once every block is written. -/
theorem final4 (c : Dev nD) : (dats m 0 c).arrAt 4 (cfgs 0).N = DH (H m c) (GAIN m c) (DOUT (D m c)) := by
  refine (dats m 0 c).arrAt_eq_of_covers 4 _ (by decide +kernel) fun t _ y => ?_
  blk_simp
  rw [after0_4]
  rcases Decidable.em (t.val % 65 = 0) with h | h
  · rw [outsAt0_A m c t h (by have := lt t; omega)]; frame_out
    exact dh m c t _ _ (by blk_simp [idx t]; omega) (by blk_simp [idx t])
  · rw [outsAt0_B m c t h (by omega)]; frame_out
    exact dh m c t _ _ (by blk_simp [idx t]; omega) (by blk_simp [idx t])

/-- Their narrowed copy. -/
theorem final5 (c : Dev nD) : (dats m 0 c).arrAt 5 (cfgs 0).N = truncf (F := Ideal) .bf16 (DH (H m c) (GAIN m c) (DOUT (D m c))) bitsLt_bf16_f32 := by
  refine (dats m 0 c).arrAt_eq_of_covers 5 _ (by decide +kernel) fun t _ y => ?_
  blk_simp
  rw [after0_5]
  rcases Decidable.em (t.val % 65 = 0) with h | h
  · rw [outsAt0_A m c t h (by have := lt t; omega)]; frame_out
    exact dh m c t _ _ (by blk_simp [idx t]; omega) (by blk_simp [idx t])
  · rw [outsAt0_B m c t h (by omega)]; frame_out
    exact dh m c t _ _ (by blk_simp [idx t]; omega) (by blk_simp [idx t])

/-- Kernel and reference end with the same results. -/
theorem algebraic : Cert.algebraic_LossIdeal_LossRefIdeal := by
  pair_intro
  · run_from run_main m g
  · run_from Cert.LossRefIdeal.Value.run m' g'
    · exact (final3 m c).symm
    · rw [final4]
      unfold Cert.LossRefIdeal.Value.res_main_v42
      rw [(hagree c).1, (hagree c).2.1, (hagree c).2.2]
      rfl
    · rw [final5]
      unfold Cert.LossRefIdeal.Value.res_main_v53
      rw [(hagree c).1, (hagree c).2.1, (hagree c).2.2]
      rfl
    · exact (final6 m c).symm

end Cert.LossIdeal.Results

end
-- ==== Proof.ConvResults.lean ====
/-
# The short convolution between its gates

The kernel works on tiles of 320 rows and 512 columns; the two rows before a tile come from a sixteen-row block of
the arrays above it. The reference shifts whole columns, padded with zeros.
-/
module

public import proofs.«01_k».proof.Defs
public import proofs.«01_k».proof.Proof.Gen.ConvIdeal.Frame
public import proofs.«01_k».proof.Proof.Gen.ConvRefIdeal.Run
public import Idealize.ShloMosaic.Lib.Pipeline.ValueKit

@[expose] public section

set_option maxRecDepth 16384

noncomputable section

namespace Cert.ConvRefIdeal.Results

open Cert.ConvRefIdeal Cert.ConvRefIdeal.Gen Idealize.ShloMosaic

/-- The reference's result. -/
abbrev REF (a : FVec Ideal S8320x6144 .bf16) (w : FVec Ideal S3x2048 .f32) : FVec Ideal S8320x2048 .bf16 :=
  truncf .bf16 (mulf (extractStridedSlice S8320x2048 ![0, 0] (extf .f32 a bitsLt_bf16_f32) slices_S8320x6144_S8320x2048_0_0) (addf (addf (mulf (broadcastInDim S8320x2048 ![0, 1] bcast_S1x2048_S8320x2048_0_1 (broadcastInDim S1x2048 ![1] bcast_S2048_S1x2048_1 (shapeCast _ (extractStridedSlice S1x2048 ![0, 0] w slices_S3x2048_S1x2048_0_0) shapeCasts_S1x2048_S2048))) (extractStridedSlice S8320x2048 ![0, 0] (pad S8322x2048 ![2, 0] ![0, 0] ![0, 0] (mulf (extractStridedSlice S8320x2048 ![0, 2048] (extf .f32 a bitsLt_bf16_f32) slices_S8320x6144_S8320x2048_0_2048) (extractStridedSlice S8320x2048 ![0, 4096] (extf .f32 a bitsLt_bf16_f32) slices_S8320x6144_S8320x2048_0_4096)) (sitofp .f32 (constantI S_ 32 0#32)) pads_S8320x2048_S8322x2048_200_000 h_S_) slices_S8322x2048_S8320x2048_0_0)) (mulf (broadcastInDim S8320x2048 ![0, 1] bcast_S1x2048_S8320x2048_0_1 (broadcastInDim S1x2048 ![1] bcast_S2048_S1x2048_1 (shapeCast _ (extractStridedSlice S1x2048 ![1, 0] w slices_S3x2048_S1x2048_1_0) shapeCasts_S1x2048_S2048))) (extractStridedSlice S8320x2048 ![1, 0] (pad S8322x2048 ![2, 0] ![0, 0] ![0, 0] (mulf (extractStridedSlice S8320x2048 ![0, 2048] (extf .f32 a bitsLt_bf16_f32) slices_S8320x6144_S8320x2048_0_2048) (extractStridedSlice S8320x2048 ![0, 4096] (extf .f32 a bitsLt_bf16_f32) slices_S8320x6144_S8320x2048_0_4096)) (sitofp .f32 (constantI S_ 32 0#32)) pads_S8320x2048_S8322x2048_200_000 h_S_) slices_S8322x2048_S8320x2048_1_0))) (mulf (broadcastInDim S8320x2048 ![0, 1] bcast_S1x2048_S8320x2048_0_1 (broadcastInDim S1x2048 ![1] bcast_S2048_S1x2048_1 (shapeCast _ (extractStridedSlice S1x2048 ![2, 0] w slices_S3x2048_S1x2048_2_0) shapeCasts_S1x2048_S2048))) (extractStridedSlice S8320x2048 ![2, 0] (pad S8322x2048 ![2, 0] ![0, 0] ![0, 0] (mulf (extractStridedSlice S8320x2048 ![0, 2048] (extf .f32 a bitsLt_bf16_f32) slices_S8320x6144_S8320x2048_0_2048) (extractStridedSlice S8320x2048 ![0, 4096] (extf .f32 a bitsLt_bf16_f32) slices_S8320x6144_S8320x2048_0_4096)) (sitofp .f32 (constantI S_ 32 0#32)) pads_S8320x2048_S8322x2048_200_000 h_S_) slices_S8322x2048_S8320x2048_2_0)))) bitsLt_bf16_f32

end Cert.ConvRefIdeal.Results

namespace Cert.ConvIdeal.Results

open Cert.ConvIdeal Cert.ConvIdeal.Gen Idealize.ShloMosaic Idealize.ShloMosaic.TcCoe Idealize.SL.Sem
open Idealize.ShloMosaic.Pipeline (Dat)
open Cert.ConvRefIdeal.Results (REF)

variable (m : (ℓ : Loc nD τ sig) → Buf (Elt Ideal) ℓ)

/-- Which tile each window holds at a grid point. -/
theorem idx : ∀ t : Fin cfg0.N, win0_0.index t = ![t.val / 4, t.val % 4] ∧ win0_1.index t = ![t.val / 4, 4 + t.val % 4]
    ∧ win0_2.index t = ![t.val / 4, 8 + t.val % 4] ∧ win0_3.index t = ![20 * (t.val / 4) - 1, 4 + t.val % 4]
    ∧ win0_4.index t = ![20 * (t.val / 4) - 1, 8 + t.val % 4] ∧ win0_5.index t = ![0, t.val % 4]
    ∧ win0_6.index t = ![t.val / 4, t.val % 4] :=
  (by decide +kernel : ∀ t : Fin grid0.N, _)

theorem lt (t : Fin cfg0.N) : t.val < 104 := lt_of_lt_of_eq t.isLt (show cfg0.N = 104 from N_0)

theorem row : ∀ t : Fin cfg0.N, (grid0.coords t 0).val = t.val / 4 :=
  (by decide +kernel : ∀ t : Fin grid0.N, _)

/-- The product of the two columns that the convolution reads, at a row named by a number. -/
def P (a : FVec Ideal S8320x6144 .bf16) (n : ℕ) (q : Fin 2048) : EReal :=
  if h : n < 8320 then a (ix2 ⟨n, h⟩ ⟨2048 + q.val, by omega⟩) * a (ix2 ⟨n, h⟩ ⟨4096 + q.val, by omega⟩) else 0

/-- Zero, in words and in bits. -/
theorem zero : (FloatOps.sitofp FTy.f32 (0#32 : BitVec 32) : Ideal FTy.f32) = (0 : EReal) := by
  simp [FloatOps.sitofp]

/-- The product inside a tile. -/
theorem inside (c : Dev nD) (t : Fin cfg0.N) (x : S320x512.Idx) (q : Fin 2048) (h : q.val = 512 * (t.val % 4) + (x 1).val) :
    k0_pay2 (iblk m c 1 t) (iblk m c 2 t) x = P (m ((c : Thread nD τ).loc main_arg0)) (320 * (t.val / 4) + (x 0).val) q := by
  have ht := lt t
  have hx := (x 0).isLt
  have hx : (x 0).val < 320 := hx
  pointwise [k0_pay2]
  unfold P
  rw [dif_pos (by omega)]
  refine congrArg₂ (· * ·) ?_ ?_
  · blk_ext [iblk, V, idx t]
  · blk_ext [iblk, V, idx t]

/-- The product in the rows above a tile. -/
theorem above (c : Dev nD) (t : Fin cfg0.N) (x : S16x512.Idx) (q : Fin 2048) (h : q.val = 512 * (t.val % 4) + (x 1).val) :
    k0_pay3 (grid0.coords t) (iblk m c 3 t) (iblk m c 4 t) x =
      if 0 < t.val / 4 then P (m ((c : Thread nD τ).loc main_arg0)) (16 * (20 * (t.val / 4) - 1) + (x 0).val) q else 0 := by
  have ht := lt t
  have hx := (x 0).isLt
  have hx : (x 0).val < 16 := hx
  pointwise [k0_pay3]
  rw [row t, Scalar.cmpi, WordCmp.cmpi_sgt_ofNat (by omega) (by omega), WordCmp.select_ofBool]
  by_cases h0 : 0 < t.val / 4
  · rw [if_pos (by simpa using h0), if_pos h0]
    unfold P
    rw [dif_pos (by omega)]
    refine congrArg₂ (· * ·) ?_ ?_
    · blk_ext [iblk, V, idx t]
    · blk_ext [iblk, V, idx t]
  · rw [if_neg (by simpa using h0), if_neg h0]

/-- The product one row up. -/
theorem up1 (c : Dev nD) (t : Fin cfg0.N) (x : S320x512.Idx) (q : Fin 2048) (h : q.val = 512 * (t.val % 4) + (x 1).val) :
    k0_pay4 (grid0.coords t) (iblk m c 1 t) (iblk m c 2 t) (iblk m c 3 t) (iblk m c 4 t) x =
      if 1 ≤ 320 * (t.val / 4) + (x 0).val then P (m ((c : Thread nD τ).loc main_arg0)) (320 * (t.val / 4) + (x 0).val - 1) q else 0 := by
  have ht := lt t
  have hx := (x 0).isLt
  have hx : (x 0).val < 320 := hx
  pointwise [k0_pay4]
  rw [WordCmp.cmpi_eq_ofNat (by omega) (by omega), WordCmp.select_ofBool, above m c t (ix2 15 (x 1)) q h, inside m c t (ix2 ⟨((x 0).val + 320 - 1) % 320, by omega⟩ (x 1)) q h]
  simp only [decide_eq_true_eq]
  split_ifs <;> first | rfl | omega | exact congrArg (P _ · q) (by simp; omega)

/-- The product two rows up, times the first tap. -/
theorem up2 (c : Dev nD) (t : Fin cfg0.N) (w : Vec Ideal S1x512 .f32) (x : S320x512.Idx) (q : Fin 2048) (h : q.val = 512 * (t.val % 4) + (x 1).val) :
    k0_pay5 (grid0.coords t) (iblk m c 1 t) (iblk m c 2 t) (iblk m c 3 t) (iblk m c 4 t) w x = w (ix2 0 (x 1)) *
      if 2 ≤ 320 * (t.val / 4) + (x 0).val then P (m ((c : Thread nD τ).loc main_arg0)) (320 * (t.val / 4) + (x 0).val - 2) q else 0 := by
  have ht := lt t
  have hx := (x 0).isLt
  have hx : (x 0).val < 320 := hx
  pointwise [k0_pay5]
  rw [WordCmp.cmpi_eq_ofNat (by omega) (by omega), WordCmp.select_ofBool, WordCmp.cmpi_eq_ofNat (by omega) (by omega), WordCmp.select_ofBool,
    above m c t (ix2 15 (x 1)) q h, above m c t (ix2 14 (x 1)) q h, inside m c t (ix2 ⟨((x 0).val + 320 - 2) % 320, by omega⟩ (x 1)) q h]
  refine congrArg _ ?_
  simp only [decide_eq_true_eq]
  split_ifs <;> first | rfl | omega | exact congrArg (P _ · q) (by simp; omega)

/-- A padded read of the product, as the reference writes it. -/
theorem padded (a : FVec Ideal S8320x6144 .bf16) (n : ℕ) (q : Fin 2048) (hn : n < 8322) :
    (if h : 2 ≤ n ∧ n - 2 < 8320 then a (ix2 ⟨n - 2, h.2⟩ ⟨2048 + q.val, by omega⟩) * a (ix2 ⟨n - 2, h.2⟩ ⟨4096 + q.val, by omega⟩)
      else (FloatOps.sitofp FTy.f32 (0#32 : BitVec 32) : Ideal FTy.f32)) = if 2 ≤ n then P a (n - 2) q else 0 := by
  by_cases h : 2 ≤ n
  · rw [dif_pos ⟨h, by omega⟩, if_pos h]
    unfold P
    rw [dif_pos (by omega)]
  · rw [dif_neg (fun g => h g.1), if_neg h, zero]

/-- The reference at a place. -/
theorem ref_at (a : FVec Ideal S8320x6144 .bf16) (w : FVec Ideal S3x2048 .f32) (r : Fin 8320) (q : Fin 2048) :
    REF a w (ix2 r q) = a (ix2 r ⟨q.val, by omega⟩) *
      (w (ix2 0 q) * (if 2 ≤ r.val then P a (r.val - 2) q else 0) + w (ix2 1 q) * (if 1 ≤ r.val then P a (r.val - 1) q else 0) +
        w (ix2 2 q) * P a r.val q) := by
  have hr := r.isLt
  pointwise [REF]
  have e1 := padded a r.val q (by omega)
  have e2 := padded a (1 + r.val) q (by omega)
  have e3 : a (ix2 r ⟨2048 + q.val, by omega⟩) * a (ix2 r ⟨4096 + q.val, by omega⟩) = P a r.val q := by
    unfold P
    rw [dif_pos hr]
  have f : (if 2 ≤ 1 + r.val then P a (1 + r.val - 2) q else 0) = if 1 ≤ r.val then P a (r.val - 1) q else 0 := by
    split_ifs <;> first | rfl | omega | exact congrArg (P a · q) (by omega)
  exact congrArg₂ (· * ·) rfl (congrArg₂ (· + ·) (congrArg₂ (· + ·) (congrArg _ e1) (congrArg _ (e2.trans f))) (congrArg _ e3))

/-- A tile's value at a place, against the reference's at the place it stands for. -/
theorem point (c : Dev nD) (t : Fin cfg0.N) (w0 w1 w2 : Vec Ideal S1x512 .f32) (b : Vec Ideal S320x512 .bf16) (x : S320x512.Idx) (r : Fin 8320) (q : Fin 2048)
    (h : r.val = 320 * (t.val / 4) + (x 0).val) (h' : q.val = 512 * (t.val % 4) + (x 1).val)
    (e0 : w0 (ix2 0 (x 1)) = m ((c : Thread nD τ).loc main_arg1) (ix2 0 q))
    (e1 : w1 (ix2 0 (x 1)) = m ((c : Thread nD τ).loc main_arg1) (ix2 1 q))
    (e2 : w2 (ix2 0 (x 1)) = m ((c : Thread nD τ).loc main_arg1) (ix2 2 q))
    (eb : b x = m ((c : Thread nD τ).loc main_arg0) (ix2 r ⟨q.val, by omega⟩)) :
    k0_pay1 (k0_pay2 (iblk m c 1 t) (iblk m c 2 t)) (k0_pay4 (grid0.coords t) (iblk m c 1 t) (iblk m c 2 t) (iblk m c 3 t) (iblk m c 4 t))
      (k0_pay5 (grid0.coords t) (iblk m c 1 t) (iblk m c 2 t) (iblk m c 3 t) (iblk m c 4 t) w0) w1 w2 b x =
      REF (m ((c : Thread nD τ).loc main_arg0)) (m ((c : Thread nD τ).loc main_arg1)) (ix2 r q) := by
  rw [ref_at]
  pointwise [k0_pay1]
  rw [up2 m c t w0 x q h', up1 m c t x q h', inside m c t x q h', e0, e1, e2, eb, h]

/-- The result array, once every tile is written. -/
theorem final (c : Dev nD) : (dats m 0 c).arrAt 6 (cfgs 0).N =
    REF (m ((c : Thread nD τ).loc main_arg0)) (m ((c : Thread nD τ).loc main_arg1)) := by
  refine (dats m 0 c).arrAt_eq_of_covers 6 _ (by decide +kernel) fun t _ y => ?_
  blk_simp
  rw [after0_6]
  unfold out0_6
  frame_out
  refine (point m c t _ _ _ _ y _ _ (by blk_simp [idx t]; omega) (by blk_simp [idx t]; omega) ?_ ?_ ?_ ?_).trans (congrArg (REF _ _) (eq_ix2 _).symm)
  · pointwise []
    blk_ext [iblk, V, idx t]
  · pointwise []
    blk_ext [iblk, V, idx t]
  · pointwise []
    blk_ext [iblk, V, idx t]
  · blk_ext [iblk, V, idx t]

/-- Kernel and reference end with the same result. -/
theorem algebraic : Cert.algebraic_ConvIdeal_ConvRefIdeal := by
  pair_intro
  · run_from run_main m g
  · run_from Cert.ConvRefIdeal.Value.run m' g'
    exact (final m c).symm

end Cert.ConvIdeal.Results

end
-- ==== Proof.ConvBackResults.lean ====
/-
# The gradient through the short convolution and its gates

The kernel works on tiles of 320 rows and 512 columns, and adds the taps' gradients up over the rows' tiles. The rows
beside a tile come from sixteen-row blocks above and below it. The reference shifts whole columns, padded with zeros.
-/
module

public import proofs.«01_k».proof.Defs
public import proofs.«01_k».proof.Proof.Gen.ConvBackIdeal.Frame
public import proofs.«01_k».proof.Proof.Gen.ConvBackRefIdeal.Run
public import Idealize.ShloMosaic.Lib.Pipeline.ValueKit

@[expose] public section

set_option maxRecDepth 16384

noncomputable section

namespace Cert.ConvBackRefIdeal.Results

open Cert.ConvBackRefIdeal Cert.ConvBackRefIdeal.Gen Idealize.ShloMosaic

/-- What the convolution reads. -/
abbrev PROD (a : FVec Ideal S8320x6144 .bf16) : FVec Ideal S8320x2048 .f32 :=
  mulf (extractStridedSlice S8320x2048 ![0, 2048] (extf .f32 a bitsLt_bf16_f32) slices_S8320x6144_S8320x2048_0_2048) (extractStridedSlice S8320x2048 ![0, 4096] (extf .f32 a bitsLt_bf16_f32) slices_S8320x6144_S8320x2048_0_4096)

/-- The same with two rows of zeros above. -/
abbrev UPPER (a : FVec Ideal S8320x6144 .bf16) : FVec Ideal S8322x2048 .f32 :=
  pad S8322x2048 ![2, 0] ![0, 0] ![0, 0] (PROD a) (sitofp .f32 (constantI S_ 32 0#32)) pads_S8320x2048_S8322x2048_200_000 h_S_

/-- The gradient at the convolution's result. -/
abbrev DCONV (a : FVec Ideal S8320x6144 .bf16) (d : FVec Ideal S8320x2048 .f32) : FVec Ideal S8320x2048 .f32 :=
  mulf d (extractStridedSlice S8320x2048 ![0, 0] (extf .f32 a bitsLt_bf16_f32) slices_S8320x6144_S8320x2048_0_0)

/-- The same with two rows of zeros below. -/
abbrev LOWER (a : FVec Ideal S8320x6144 .bf16) (d : FVec Ideal S8320x2048 .f32) : FVec Ideal S8322x2048 .f32 :=
  pad S8322x2048 ![0, 0] ![2, 0] ![0, 0] (DCONV a d) (sitofp .f32 (constantI S_ 32 0#32)) pads_S8320x2048_S8322x2048_020_000 h_S_

/-- The gradient at what the convolution reads. -/
abbrev DV (a : FVec Ideal S8320x6144 .bf16) (w : FVec Ideal S3x2048 .f32) (d : FVec Ideal S8320x2048 .f32) : FVec Ideal S8320x2048 .f32 :=
  addf (addf (mulf (broadcastInDim S8320x2048 ![0, 1] bcast_S1x2048_S8320x2048_0_1 (broadcastInDim S1x2048 ![1] bcast_S2048_S1x2048_1 (shapeCast _ (extractStridedSlice S1x2048 ![2, 0] w slices_S3x2048_S1x2048_2_0) shapeCasts_S1x2048_S2048))) (extractStridedSlice S8320x2048 ![0, 0] (LOWER a d) slices_S8322x2048_S8320x2048_0_0)) (mulf (broadcastInDim S8320x2048 ![0, 1] bcast_S1x2048_S8320x2048_0_1 (broadcastInDim S1x2048 ![1] bcast_S2048_S1x2048_1 (shapeCast _ (extractStridedSlice S1x2048 ![1, 0] w slices_S3x2048_S1x2048_1_0) shapeCasts_S1x2048_S2048))) (extractStridedSlice S8320x2048 ![1, 0] (LOWER a d) slices_S8322x2048_S8320x2048_1_0))) (mulf (broadcastInDim S8320x2048 ![0, 1] bcast_S1x2048_S8320x2048_0_1 (broadcastInDim S1x2048 ![1] bcast_S2048_S1x2048_1 (shapeCast _ (extractStridedSlice S1x2048 ![0, 0] w slices_S3x2048_S1x2048_0_0) shapeCasts_S1x2048_S2048))) (extractStridedSlice S8320x2048 ![2, 0] (LOWER a d) slices_S8322x2048_S8320x2048_2_0))

/-- The reference's four results. -/
abbrev DB (a : FVec Ideal S8320x6144 .bf16) (w : FVec Ideal S3x2048 .f32) (d : FVec Ideal S8320x2048 .f32) : FVec Ideal S8320x2048 .bf16 :=
  truncf .bf16 (mulf d (addf (addf (mulf (broadcastInDim S8320x2048 ![0, 1] bcast_S1x2048_S8320x2048_0_1 (broadcastInDim S1x2048 ![1] bcast_S2048_S1x2048_1 (shapeCast _ (extractStridedSlice S1x2048 ![0, 0] w slices_S3x2048_S1x2048_0_0) shapeCasts_S1x2048_S2048))) (extractStridedSlice S8320x2048 ![0, 0] (UPPER a) slices_S8322x2048_S8320x2048_0_0)) (mulf (broadcastInDim S8320x2048 ![0, 1] bcast_S1x2048_S8320x2048_0_1 (broadcastInDim S1x2048 ![1] bcast_S2048_S1x2048_1 (shapeCast _ (extractStridedSlice S1x2048 ![1, 0] w slices_S3x2048_S1x2048_1_0) shapeCasts_S1x2048_S2048))) (extractStridedSlice S8320x2048 ![1, 0] (UPPER a) slices_S8322x2048_S8320x2048_1_0))) (mulf (broadcastInDim S8320x2048 ![0, 1] bcast_S1x2048_S8320x2048_0_1 (broadcastInDim S1x2048 ![1] bcast_S2048_S1x2048_1 (shapeCast _ (extractStridedSlice S1x2048 ![2, 0] w slices_S3x2048_S1x2048_2_0) shapeCasts_S1x2048_S2048))) (extractStridedSlice S8320x2048 ![2, 0] (UPPER a) slices_S8322x2048_S8320x2048_2_0)))) bitsLt_bf16_f32
abbrev DC (a : FVec Ideal S8320x6144 .bf16) (w : FVec Ideal S3x2048 .f32) (d : FVec Ideal S8320x2048 .f32) : FVec Ideal S8320x2048 .bf16 :=
  truncf .bf16 (mulf (DV a w d) (extractStridedSlice S8320x2048 ![0, 4096] (extf .f32 a bitsLt_bf16_f32) slices_S8320x6144_S8320x2048_0_4096)) bitsLt_bf16_f32
abbrev DU (a : FVec Ideal S8320x6144 .bf16) (w : FVec Ideal S3x2048 .f32) (d : FVec Ideal S8320x2048 .f32) : FVec Ideal S8320x2048 .bf16 :=
  truncf .bf16 (mulf (DV a w d) (extractStridedSlice S8320x2048 ![0, 2048] (extf .f32 a bitsLt_bf16_f32) slices_S8320x6144_S8320x2048_0_2048)) bitsLt_bf16_f32
abbrev DW (a : FVec Ideal S8320x6144 .bf16) (d : FVec Ideal S8320x2048 .f32) : FVec Ideal S8x2048 .f32 :=
  (concatenate S8x2048 0 [⟨S1x2048, ((broadcastInDim S1x2048 ![1] bcast_S2048_S1x2048_1 (Host.reduceAdd (mulf (DCONV a d) (extractStridedSlice S8320x2048 ![0, 0] (UPPER a) slices_S8322x2048_S8320x2048_0_0)) (constant (F := Ideal) S_ .f32 0x00000000#32) reducesTo_S8320x2048_S2048_d0 h_S_)) : FVec Ideal S1x2048 .f32)⟩, ⟨S1x2048, ((broadcastInDim S1x2048 ![1] bcast_S2048_S1x2048_1 (Host.reduceAdd (mulf (DCONV a d) (extractStridedSlice S8320x2048 ![1, 0] (UPPER a) slices_S8322x2048_S8320x2048_1_0)) (constant (F := Ideal) S_ .f32 0x00000000#32) reducesTo_S8320x2048_S2048_d0 h_S_)) : FVec Ideal S1x2048 .f32)⟩, ⟨S1x2048, ((broadcastInDim S1x2048 ![1] bcast_S2048_S1x2048_1 (Host.reduceAdd (mulf (DCONV a d) (extractStridedSlice S8320x2048 ![2, 0] (UPPER a) slices_S8322x2048_S8320x2048_2_0)) (constant (F := Ideal) S_ .f32 0x00000000#32) reducesTo_S8320x2048_S2048_d0 h_S_)) : FVec Ideal S1x2048 .f32)⟩, ⟨S1x2048, ((broadcastInDim S1x2048 ![1] bcast_S2048_S1x2048_1 (broadcastInDim S2048 ![] bcast_S_S2048 (constant (F := Ideal) S_ .f32 0x00000000#32))) : FVec Ideal S1x2048 .f32)⟩, ⟨S1x2048, ((broadcastInDim S1x2048 ![1] bcast_S2048_S1x2048_1 (broadcastInDim S2048 ![] bcast_S_S2048 (constant (F := Ideal) S_ .f32 0x00000000#32))) : FVec Ideal S1x2048 .f32)⟩, ⟨S1x2048, ((broadcastInDim S1x2048 ![1] bcast_S2048_S1x2048_1 (broadcastInDim S2048 ![] bcast_S_S2048 (constant (F := Ideal) S_ .f32 0x00000000#32))) : FVec Ideal S1x2048 .f32)⟩, ⟨S1x2048, ((broadcastInDim S1x2048 ![1] bcast_S2048_S1x2048_1 (broadcastInDim S2048 ![] bcast_S_S2048 (constant (F := Ideal) S_ .f32 0x00000000#32))) : FVec Ideal S1x2048 .f32)⟩, ⟨S1x2048, ((broadcastInDim S1x2048 ![1] bcast_S2048_S1x2048_1 (broadcastInDim S2048 ![] bcast_S_S2048 (constant (F := Ideal) S_ .f32 0x00000000#32))) : FVec Ideal S1x2048 .f32)⟩] concatenates_S1x2048_S1x2048_S1x2048_S1x2048_S1x2048_S1x2048_S1x2048_S1x2048_S8x2048_d0 : FVec Ideal S8x2048 .f32)

/-- Zero, in words and in bits. -/
theorem zero : (FloatOps.sitofp FTy.f32 (0#32 : BitVec 32) : Ideal FTy.f32) = (0 : EReal) := by
  simp [FloatOps.sitofp]

/-- What the convolution reads, at a row named by a number. -/
def P (a : FVec Ideal S8320x6144 .bf16) (n : ℕ) (q : Fin 2048) : EReal :=
  if h : n < 8320 then a (ix2 ⟨n, h⟩ ⟨2048 + q.val, by omega⟩) * a (ix2 ⟨n, h⟩ ⟨4096 + q.val, by omega⟩) else 0

/-- The gradient at the convolution's result, at a row named by a number: zero below the last row. -/
def E (a : FVec Ideal S8320x6144 .bf16) (d : FVec Ideal S8320x2048 .f32) (n : ℕ) (q : Fin 2048) : EReal :=
  if h : n < 8320 then d (ix2 ⟨n, h⟩ q) * a (ix2 ⟨n, h⟩ ⟨q.val, by omega⟩) else 0

/-- What the convolution reads some rows up: zero above the first row. -/
def UP (a : FVec Ideal S8320x6144 .bf16) (k n : ℕ) (q : Fin 2048) : EReal := if k ≤ n then P a (n - k) q else 0

/-- A padded read above, as the reference writes it. -/
theorem upper_eq (a : FVec Ideal S8320x6144 .bf16) (k n n' : ℕ) (hk : k ≤ 2) (hn : n = n' + 2 - k) (hr : n' < 8320) (q : Fin 2048) :
    (if h : 2 ≤ n ∧ n - 2 < 8320 then a (ix2 ⟨n - 2, h.2⟩ ⟨2048 + q.val, by omega⟩) * a (ix2 ⟨n - 2, h.2⟩ ⟨4096 + q.val, by omega⟩)
      else (FloatOps.sitofp FTy.f32 (0#32 : BitVec 32) : Ideal FTy.f32)) = UP a k n' q := by
  subst hn
  unfold UP
  by_cases h : k ≤ n'
  · rw [dif_pos ⟨by omega, by omega⟩, if_pos h]
    have e : n' + 2 - k - 2 = n' - k := by omega
    unfold P
    rw [dif_pos (by omega)]
    simp only [e]
  · rw [dif_neg (fun g => h (by omega)), if_neg h, zero]

/-- A padded read below, as the reference writes it. -/
theorem lower_eq (a : FVec Ideal S8320x6144 .bf16) (d : FVec Ideal S8320x2048 .f32) (n n' : ℕ) (hn : n = n') (q : Fin 2048) :
    (if h : n < 8320 then d (ix2 ⟨n, h⟩ q) * a (ix2 ⟨n, h⟩ ⟨q.val, by omega⟩)
      else (FloatOps.sitofp FTy.f32 (0#32 : BitVec 32) : Ideal FTy.f32)) = E a d n' q := by
  subst hn
  unfold E
  by_cases h : n < 8320
  · rw [dif_pos h, dif_pos h]
  · rw [dif_neg h, dif_neg h, zero]

/-- The reference's results at a place. -/
theorem dv_at (a : FVec Ideal S8320x6144 .bf16) (w : FVec Ideal S3x2048 .f32) (d : FVec Ideal S8320x2048 .f32) (r : Fin 8320) (q : Fin 2048) : DV a w d (ix2 r q) =
    w (ix2 2 q) * E a d r.val q + w (ix2 1 q) * E a d (r.val + 1) q + w (ix2 0 q) * E a d (r.val + 2) q := by
  have e : d (ix2 r q) * a (ix2 r ⟨q.val, by omega⟩) = E a d r.val q := by unfold E; rw [dif_pos r.isLt]
  pointwise [DV]
  exact congrArg₂ (· + ·) (congrArg₂ (· + ·) (congrArg _ e) (congrArg _ (lower_eq a d _ _ (by omega) q))) (congrArg _ (lower_eq a d _ _ (by omega) q))

theorem dc_at (a : FVec Ideal S8320x6144 .bf16) (w : FVec Ideal S3x2048 .f32) (d : FVec Ideal S8320x2048 .f32) (r : Fin 8320) (q : Fin 2048) :
    DC a w d (ix2 r q) = DV a w d (ix2 r q) * a (ix2 r ⟨4096 + q.val, by omega⟩) := by
  pointwise [DC, DV]

theorem du_at (a : FVec Ideal S8320x6144 .bf16) (w : FVec Ideal S3x2048 .f32) (d : FVec Ideal S8320x2048 .f32) (r : Fin 8320) (q : Fin 2048) :
    DU a w d (ix2 r q) = DV a w d (ix2 r q) * a (ix2 r ⟨2048 + q.val, by omega⟩) := by
  pointwise [DU, DV]

theorem db_at (a : FVec Ideal S8320x6144 .bf16) (w : FVec Ideal S3x2048 .f32) (d : FVec Ideal S8320x2048 .f32) (r : Fin 8320) (q : Fin 2048) : DB a w d (ix2 r q) =
    d (ix2 r q) * (w (ix2 0 q) * UP a 2 r.val q + w (ix2 1 q) * UP a 1 r.val q + w (ix2 2 q) * UP a 0 r.val q) := by
  have hr := r.isLt
  have e : a (ix2 r ⟨2048 + q.val, by omega⟩) * a (ix2 r ⟨4096 + q.val, by omega⟩) = UP a 0 r.val q := by
    unfold UP P; rw [if_pos (Nat.zero_le _), dif_pos (by omega)]; rfl
  pointwise [DB]
  exact congrArg _ (congrArg₂ (· + ·) (congrArg₂ (· + ·) (congrArg _ (upper_eq a 2 _ _ (by omega) (by omega) hr q))
    (congrArg _ (upper_eq a 1 _ _ (by omega) (by omega) hr q))) (congrArg _ e))

/-- What a row adds to the taps' gradients: zero outside the first three rows of the result. -/
def TAP (a : FVec Ideal S8320x6144 .bf16) (d : FVec Ideal S8320x2048 .f32) (k : ℕ) (n : ℕ) (q : Fin 2048) : EReal :=
  if k = 0 then E a d n q * UP a 2 n q else if k = 1 then E a d n q * UP a 1 n q else if k = 2 then E a d n q * UP a 0 n q else 0

theorem dw_at (a : FVec Ideal S8320x6144 .bf16) (d : FVec Ideal S8320x2048 .f32) (k : Fin 8) (q : Fin 2048) : DW a d (ix2 k q) = ∑ r : Fin 8320, TAP a d k.val r.val q := by
  have e : ∀ r : Fin 8320, d (ix2 r q) * a (ix2 r ⟨q.val, by omega⟩) = E a d r.val q := fun r => by
    unfold E; rw [dif_pos r.isLt]
  have e' : ∀ r : Fin 8320, a (ix2 r ⟨2048 + q.val, by omega⟩) * a (ix2 r ⟨4096 + q.val, by omega⟩) = UP a 0 r.val q := fun r => by
    have hr := r.isLt
    unfold UP P; rw [if_pos (Nat.zero_le _), dif_pos (by omega)]; rfl
  pointwise [DW]
  by_cases h0 : k.val = 0
  · rw [dif_pos (by omega)]
    refine Finset.sum_congr rfl fun r _ => ?_
    unfold TAP
    rw [if_pos h0]
    exact congrArg₂ (· * ·) (e r) (upper_eq a 2 _ _ (by omega) (by omega) r.isLt q)
  rw [dif_neg (by omega)]
  by_cases h1 : k.val = 1
  · rw [dif_pos (by omega)]
    refine Finset.sum_congr rfl fun r _ => ?_
    unfold TAP
    rw [if_neg h0, if_pos h1]
    exact congrArg₂ (· * ·) (e r) (upper_eq a 1 _ _ (by omega) (by omega) r.isLt q)
  rw [dif_neg (by omega)]
  by_cases h2 : k.val = 2
  · rw [dif_pos (by omega)]
    refine Finset.sum_congr rfl fun r _ => ?_
    unfold TAP
    rw [if_neg h0, if_neg h1, if_pos h2]
    exact congrArg₂ (· * ·) (e r) (e' r)
  rw [dif_neg (by omega)]
  refine Eq.trans ?_ (Finset.sum_eq_zero fun r _ => ?_).symm
  · split_ifs <;> rfl
  · unfold TAP
    rw [if_neg h0, if_neg h1, if_neg h2]

end Cert.ConvBackRefIdeal.Results

namespace Cert.ConvBackIdeal.Results

open Cert.ConvBackIdeal Cert.ConvBackIdeal.Gen Idealize.ShloMosaic Idealize.ShloMosaic.TcCoe Idealize.SL.Sem
open Idealize.ShloMosaic.Pipeline (Dat)
open Cert.ConvBackRefIdeal.Results

variable (m : (ℓ : Loc nD τ sig) → Buf (Elt Ideal) ℓ)

abbrev A (c : Dev nD) : FVec Ideal S8320x6144 .bf16 := m ((c : Thread nD τ).loc main_arg0)
abbrev W (c : Dev nD) : FVec Ideal S3x2048 .f32 := m ((c : Thread nD τ).loc main_arg1)
abbrev DG (c : Dev nD) : FVec Ideal S8320x2048 .f32 := m ((c : Thread nD τ).loc main_arg2)

/-- Which tile each window holds at a grid point. -/
theorem idx : ∀ t : Fin cfg0.N, win0_0.index t = ![t.val % 26, t.val / 26] ∧ win0_1.index t = ![t.val % 26, 4 + t.val / 26]
    ∧ win0_2.index t = ![t.val % 26, 8 + t.val / 26] ∧ win0_3.index t = ![20 * (t.val % 26) - 1, 4 + t.val / 26]
    ∧ win0_4.index t = ![20 * (t.val % 26) - 1, 8 + t.val / 26] ∧ win0_5.index t = ![min (20 * (t.val % 26) + 20) 519, t.val / 26]
    ∧ win0_6.index t = ![t.val % 26, t.val / 26] ∧ win0_7.index t = ![min (20 * (t.val % 26) + 20) 519, t.val / 26]
    ∧ win0_8.index t = ![0, t.val / 26] :=
  (by decide +kernel : ∀ t : Fin grid0.N, _)
theorem idx' : ∀ t : Fin cfg0.N, win0_9.index t = ![t.val % 26, t.val / 26] ∧ win0_10.index t = ![t.val % 26, t.val / 26]
    ∧ win0_11.index t = ![t.val % 26, t.val / 26] ∧ win0_12.index t = ![0, t.val / 26] :=
  (by decide +kernel : ∀ t : Fin grid0.N, _)

theorem lt (t : Fin cfg0.N) : t.val < 104 := lt_of_lt_of_eq t.isLt (show cfg0.N = 104 from N_0)

theorem row : ∀ t : Fin cfg0.N, (grid0.coords t 1).val = t.val % 26 :=
  (by decide +kernel : ∀ t : Fin grid0.N, _)

/-- What the convolution reads, inside a tile. -/
theorem inside (c : Dev nD) (t : Fin cfg0.N) (x : S320x512.Idx) (q : Fin 2048) (h : q.val = 512 * (t.val / 26) + (x 1).val) :
    k0_pay6 (iblk m c 1 t) (iblk m c 2 t) x = P (A m c) (320 * (t.val % 26) + (x 0).val) q := by
  have ht := lt t
  have hx := (x 0).isLt
  have hx : (x 0).val < 320 := hx
  pointwise [k0_pay6, k0_pay4, k0_pay5]
  unfold P
  rw [dif_pos (by omega)]
  refine congrArg₂ (· * ·) ?_ ?_
  · blk_ext [iblk, V, idx t]
  · blk_ext [iblk, V, idx t]

/-- What the convolution reads, in the rows above a tile. -/
theorem above (c : Dev nD) (t : Fin cfg0.N) (x : S16x512.Idx) (q : Fin 2048) (h : q.val = 512 * (t.val / 26) + (x 1).val) :
    k0_pay7 (grid0.coords t) (iblk m c 3 t) (iblk m c 4 t) x =
      if 0 < t.val % 26 then P (A m c) (16 * (20 * (t.val % 26) - 1) + (x 0).val) q else 0 := by
  have ht := lt t
  have hx := (x 0).isLt
  have hx : (x 0).val < 16 := hx
  pointwise [k0_pay7]
  rw [row t, Scalar.cmpi, WordCmp.cmpi_sgt_ofNat (by omega) (by omega), WordCmp.select_ofBool]
  by_cases h0 : 0 < t.val % 26
  · rw [if_pos (by simpa using h0), if_pos h0]
    unfold P
    rw [dif_pos (by omega)]
    refine congrArg₂ (· * ·) ?_ ?_
    · blk_ext [iblk, V, idx t]
    · blk_ext [iblk, V, idx t]
  · rw [if_neg (by simpa using h0), if_neg h0]

/-- The same one row up, and two rows up. -/
theorem up1 (c : Dev nD) (t : Fin cfg0.N) (x : S320x512.Idx) (q : Fin 2048) (h : q.val = 512 * (t.val / 26) + (x 1).val) :
    k0_pay8 (grid0.coords t) (iblk m c 1 t) (iblk m c 2 t) (iblk m c 3 t) (iblk m c 4 t) x = UP (A m c) 1 (320 * (t.val % 26) + (x 0).val) q := by
  have ht := lt t
  have hx := (x 0).isLt
  have hx : (x 0).val < 320 := hx
  unfold UP
  pointwise [k0_pay8]
  rw [WordCmp.cmpi_eq_ofNat (by omega) (by omega), WordCmp.select_ofBool, above m c t (ix2 15 (x 1)) q h,
    inside m c t (ix2 ⟨((x 0).val + 320 - 1) % 320, by omega⟩ (x 1)) q h]
  simp only [decide_eq_true_eq]
  split_ifs <;> first | rfl | omega | exact congrArg (P _ · q) (by simp; omega)

theorem up2 (c : Dev nD) (t : Fin cfg0.N) (x : S320x512.Idx) (q : Fin 2048) (h : q.val = 512 * (t.val / 26) + (x 1).val) :
    k0_pay9 (grid0.coords t) (iblk m c 1 t) (iblk m c 2 t) (iblk m c 3 t) (iblk m c 4 t) x = UP (A m c) 2 (320 * (t.val % 26) + (x 0).val) q := by
  have ht := lt t
  have hx := (x 0).isLt
  have hx : (x 0).val < 320 := hx
  unfold UP
  pointwise [k0_pay9]
  rw [WordCmp.cmpi_eq_ofNat (by omega) (by omega), WordCmp.select_ofBool, WordCmp.cmpi_eq_ofNat (by omega) (by omega), WordCmp.select_ofBool,
    above m c t (ix2 15 (x 1)) q h, above m c t (ix2 14 (x 1)) q h, inside m c t (ix2 ⟨((x 0).val + 320 - 2) % 320, by omega⟩ (x 1)) q h]
  simp only [decide_eq_true_eq]
  split_ifs <;> first | rfl | omega | exact congrArg (P _ · q) (by simp; omega)

/-- The gradient at the convolution's result, inside a tile. -/
theorem inner (c : Dev nD) (t : Fin cfg0.N) (x : S320x512.Idx) (q : Fin 2048) (h : q.val = 512 * (t.val / 26) + (x 1).val) :
    k0_pay12 (k0_pay3 (iblk m c 0 t)) (iblk m c 6 t) x = E (A m c) (DG m c) (320 * (t.val % 26) + (x 0).val) q := by
  have ht := lt t
  have hx := (x 0).isLt
  have hx : (x 0).val < 320 := hx
  pointwise [k0_pay12, k0_pay3]
  unfold E
  rw [dif_pos (by omega)]
  refine congrArg₂ (· * ·) ?_ ?_
  · blk_ext [iblk, V, idx t]
  · blk_ext [iblk, V, idx t]

/-- The same in the rows below a tile. -/
theorem below (c : Dev nD) (t : Fin cfg0.N) (x : S16x512.Idx) (q : Fin 2048) (h : q.val = 512 * (t.val / 26) + (x 1).val) :
    k0_pay13 (BitVec.ofNat 32 (grid0.coords t 1).val) (iblk m c 7 t) (iblk m c 5 t) x =
      E (A m c) (DG m c) (320 * (t.val % 26) + 320 + (x 0).val) q := by
  have ht := lt t
  have hx := (x 0).isLt
  have hx : (x 0).val < 16 := hx
  pointwise [k0_pay13]
  rw [row t, Scalar.cmpi, WordCmp.cmpi_slt_ofNat (by omega) (by omega), WordCmp.select_ofBool]
  unfold E
  by_cases h0 : t.val % 26 < 25
  · rw [if_pos (by simpa using h0), dif_pos (by omega)]
    refine congrArg₂ (· * ·) ?_ ?_
    · blk_ext [iblk, V, idx t]
    · blk_ext [iblk, V, idx t]
  · rw [if_neg (by simpa using h0), dif_neg (by omega)]

/-- The same one row down, and two rows down. -/
theorem down1 (c : Dev nD) (t : Fin cfg0.N) (x : S320x512.Idx) (q : Fin 2048) (h : q.val = 512 * (t.val / 26) + (x 1).val) :
    k0_pay14 (BitVec.ofNat 32 (grid0.coords t 1).val) (k0_pay3 (iblk m c 0 t)) (iblk m c 6 t) (iblk m c 7 t) (iblk m c 5 t) x =
      E (A m c) (DG m c) (320 * (t.val % 26) + (x 0).val + 1) q := by
  have ht := lt t
  have hx := (x 0).isLt
  have hx : (x 0).val < 320 := hx
  pointwise [k0_pay14]
  rw [WordCmp.cmpi_eq_ofNat (by omega) (by omega), WordCmp.select_ofBool, below m c t (ix2 0 (x 1)) q h,
    inner m c t (ix2 ⟨((x 0).val + 320 - 319) % 320, by omega⟩ (x 1)) q h]
  simp only [decide_eq_true_eq]
  split_ifs <;> first | rfl | omega | exact congrArg (E _ _ · q) (by simp; omega)

/-- The gradient at what the convolution reads. -/
theorem dv (c : Dev nD) (t : Fin cfg0.N) (w0 w1 w2 : Vec Ideal S1x512 .f32) (x : S320x512.Idx) (r : Fin 8320) (q : Fin 2048)
    (h : q.val = 512 * (t.val / 26) + (x 1).val) (h' : r.val = 320 * (t.val % 26) + (x 0).val)
    (e0 : w0 (ix2 0 (x 1)) = W m c (ix2 0 q)) (e1 : w1 (ix2 0 (x 1)) = W m c (ix2 1 q)) (e2 : w2 (ix2 0 (x 1)) = W m c (ix2 2 q)) :
    k0_pay18 (k0_pay12 (k0_pay3 (iblk m c 0 t)) (iblk m c 6 t))
      (k0_pay14 (BitVec.ofNat 32 (grid0.coords t 1).val) (k0_pay3 (iblk m c 0 t)) (iblk m c 6 t) (iblk m c 7 t) (iblk m c 5 t))
      (k0_pay15 (BitVec.ofNat 32 (grid0.coords t 1).val) (k0_pay3 (iblk m c 0 t)) (iblk m c 6 t) (iblk m c 7 t) (iblk m c 5 t))
      k0_pay16 (k0_pay17 (BitVec.ofNat 32 (grid0.coords t 1).val) (iblk m c 7 t) (iblk m c 5 t)) w2 w1 w0 x = DV (A m c) (W m c) (DG m c) (ix2 r q) := by
  have ht := lt t
  have hx := (x 0).isLt
  have hx : (x 0).val < 320 := hx
  rw [dv_at]
  pointwise [k0_pay18, k0_pay15, k0_pay16, k0_pay17]
  rw [WordCmp.cmpi_eq_ofNat (by omega) (by omega), WordCmp.select_ofBool, WordCmp.cmpi_eq_ofNat (by omega) (by omega), WordCmp.select_ofBool,
    below m c t (ix2 0 (x 1)) q h, below m c t (ix2 1 (x 1)) q h, inner m c t (ix2 ⟨((x 0).val + 320 - 318) % 320, by omega⟩ (x 1)) q h,
    inner m c t x q h, down1 m c t x q h, e0, e1, e2, h']
  refine congrArg _ (congrArg _ ?_)
  simp only [decide_eq_true_eq]
  split_ifs <;> first | rfl | omega | exact congrArg (E _ _ · q) (by simp; omega)

/-- What a tile adds to the taps' gradients. -/
theorem dw (c : Dev nD) (t : Fin cfg0.N) (x : S8x512.Idx) (q : Fin 2048) (h : q.val = 512 * (t.val / 26) + (x 1).val) :
    k0_pay1 k0_pay21 (k0_pay22 (k0_pay9 (grid0.coords t) (iblk m c 1 t) (iblk m c 2 t) (iblk m c 3 t) (iblk m c 4 t)) (k0_pay12 (k0_pay3 (iblk m c 0 t)) (iblk m c 6 t))) k0_pay23
      (k0_pay24 (k0_pay6 (iblk m c 1 t) (iblk m c 2 t)) (k0_pay12 (k0_pay3 (iblk m c 0 t)) (iblk m c 6 t)))
      (k0_pay25 (k0_pay8 (grid0.coords t) (iblk m c 1 t) (iblk m c 2 t) (iblk m c 3 t) (iblk m c 4 t)) (k0_pay12 (k0_pay3 (iblk m c 0 t)) (iblk m c 6 t))) x =
      ∑ r : Fin 320, TAP (A m c) (DG m c) (x 0).val (320 * (t.val % 26) + r.val) q := by
  have hx := (x 0).isLt
  have hx : (x 0).val < 8 := hx
  have hi := fun r : Fin 320 => inner m c t (ix2 r (x 1)) q h
  have h2 := fun r : Fin 320 => up2 m c t (ix2 r (x 1)) q h
  have h1 := fun r : Fin 320 => up1 m c t (ix2 r (x 1)) q h
  have h0 := fun r : Fin 320 => inside m c t (ix2 r (x 1)) q h
  pointwise [k0_pay1, k0_pay21, k0_pay22, k0_pay23, k0_pay24, k0_pay25]
  rw [WordCmp.cmpi_eq_ofNat (by omega) (by omega), WordCmp.select_ofBool, WordCmp.cmpi_eq_ofNat (by omega) (by omega), WordCmp.select_ofBool,
    WordCmp.cmpi_eq_ofNat (by omega) (by omega), WordCmp.select_ofBool]
  simp only [decide_eq_true_eq]
  unfold TAP
  split_ifs
  · exact Finset.sum_congr rfl fun r _ => congrArg₂ (· * ·) (hi r) (h2 r)
  · exact Finset.sum_congr rfl fun r _ => congrArg₂ (· * ·) (hi r) (h1 r)
  · refine Finset.sum_congr rfl fun r _ => congrArg₂ (· * ·) (hi r) ((h0 r).trans ?_)
    unfold UP
    rw [if_pos (Nat.zero_le _)]
    rfl
  · exact Finset.sum_const_zero.symm

/-- The three gates' gradients at a place. -/
theorem db (c : Dev nD) (t : Fin cfg0.N) (w0 w1 w2 : Vec Ideal S1x512 .f32) (x : S320x512.Idx) (r : Fin 8320) (q : Fin 2048)
    (h : q.val = 512 * (t.val / 26) + (x 1).val) (h' : r.val = 320 * (t.val % 26) + (x 0).val)
    (e0 : w0 (ix2 0 (x 1)) = W m c (ix2 0 q)) (e1 : w1 (ix2 0 (x 1)) = W m c (ix2 1 q)) (e2 : w2 (ix2 0 (x 1)) = W m c (ix2 2 q)) :
    k0_pay11 (k0_pay6 (iblk m c 1 t) (iblk m c 2 t)) (k0_pay8 (grid0.coords t) (iblk m c 1 t) (iblk m c 2 t) (iblk m c 3 t) (iblk m c 4 t))
      (k0_pay9 (grid0.coords t) (iblk m c 1 t) (iblk m c 2 t) (iblk m c 3 t) (iblk m c 4 t)) (k0_pay10 w0) w1 w2 (iblk m c 6 t) x =
      DB (A m c) (W m c) (DG m c) (ix2 r q) := by
  rw [db_at]
  have e : UP (A m c) 0 r.val q = P (A m c) r.val q := by unfold UP; rw [if_pos (Nat.zero_le _)]; rfl
  pointwise [k0_pay11, k0_pay10]
  rw [up2 m c t x q h, up1 m c t x q h, inside m c t x q h, e0, e1, e2, e, h']
  refine congrArg₂ (· * ·) ?_ rfl
  blk_ext [iblk, V, idx t]

theorem dc (c : Dev nD) (t : Fin cfg0.N) (w0 w1 w2 : Vec Ideal S1x512 .f32) (x : S320x512.Idx) (r : Fin 8320) (q : Fin 2048)
    (h : q.val = 512 * (t.val / 26) + (x 1).val) (h' : r.val = 320 * (t.val % 26) + (x 0).val)
    (e0 : w0 (ix2 0 (x 1)) = W m c (ix2 0 q)) (e1 : w1 (ix2 0 (x 1)) = W m c (ix2 1 q)) (e2 : w2 (ix2 0 (x 1)) = W m c (ix2 2 q)) :
    k0_pay19 (k0_pay5 (iblk m c 2 t)) (k0_pay12 (k0_pay3 (iblk m c 0 t)) (iblk m c 6 t))
      (k0_pay14 (BitVec.ofNat 32 (grid0.coords t 1).val) (k0_pay3 (iblk m c 0 t)) (iblk m c 6 t) (iblk m c 7 t) (iblk m c 5 t))
      (k0_pay15 (BitVec.ofNat 32 (grid0.coords t 1).val) (k0_pay3 (iblk m c 0 t)) (iblk m c 6 t) (iblk m c 7 t) (iblk m c 5 t))
      k0_pay16 (k0_pay17 (BitVec.ofNat 32 (grid0.coords t 1).val) (iblk m c 7 t) (iblk m c 5 t)) w2 w1 w0 x = DC (A m c) (W m c) (DG m c) (ix2 r q) := by
  rw [dc_at, ← dv m c t w0 w1 w2 x r q h h' e0 e1 e2]
  pointwise [k0_pay19, k0_pay5]
  refine congrArg _ ?_
  blk_ext [iblk, V, idx t]

theorem du (c : Dev nD) (t : Fin cfg0.N) (w0 w1 w2 : Vec Ideal S1x512 .f32) (x : S320x512.Idx) (r : Fin 8320) (q : Fin 2048)
    (h : q.val = 512 * (t.val / 26) + (x 1).val) (h' : r.val = 320 * (t.val % 26) + (x 0).val)
    (e0 : w0 (ix2 0 (x 1)) = W m c (ix2 0 q)) (e1 : w1 (ix2 0 (x 1)) = W m c (ix2 1 q)) (e2 : w2 (ix2 0 (x 1)) = W m c (ix2 2 q)) :
    k0_pay20 (k0_pay4 (iblk m c 1 t)) (k0_pay12 (k0_pay3 (iblk m c 0 t)) (iblk m c 6 t))
      (k0_pay14 (BitVec.ofNat 32 (grid0.coords t 1).val) (k0_pay3 (iblk m c 0 t)) (iblk m c 6 t) (iblk m c 7 t) (iblk m c 5 t))
      (k0_pay15 (BitVec.ofNat 32 (grid0.coords t 1).val) (k0_pay3 (iblk m c 0 t)) (iblk m c 6 t) (iblk m c 7 t) (iblk m c 5 t))
      k0_pay16 (k0_pay17 (BitVec.ofNat 32 (grid0.coords t 1).val) (iblk m c 7 t) (iblk m c 5 t)) w2 w1 w0 x = DU (A m c) (W m c) (DG m c) (ix2 r q) := by
  rw [du_at, ← dv m c t w0 w1 w2 x r q h h' e0 e1 e2]
  pointwise [k0_pay20, k0_pay4]
  refine congrArg _ ?_
  blk_ext [iblk, V, idx t]

/-- The first gate's gradient, once every tile is written. -/
theorem final9 (c : Dev nD) : (dats m 0 c).arrAt 9 (cfgs 0).N = DB (A m c) (W m c) (DG m c) := by
  refine (dats m 0 c).arrAt_eq_of_covers 9 _ (by decide +kernel) fun t _ y => ?_
  blk_simp
  rw [after0_9]
  rcases Decidable.em (t.val % 26 = 0) with h | h
  · rw [outsAt0_A m c t h (by omega)]; frame_out
    refine (db m c t _ _ _ y _ _ (by blk_simp [idx' t]; omega) (by blk_simp [idx' t]; omega) ?_ ?_ ?_).trans (congrArg (DB _ _ _) (eq_ix2 _).symm)
    · pointwise []
      blk_ext [iblk, V, idx t, idx' t]
    · pointwise []
      blk_ext [iblk, V, idx t, idx' t]
    · pointwise []
      blk_ext [iblk, V, idx t, idx' t]
  · rw [outsAt0_B m c t h (by omega)]; frame_out
    refine (db m c t _ _ _ y _ _ (by blk_simp [idx' t]; omega) (by blk_simp [idx' t]; omega) ?_ ?_ ?_).trans (congrArg (DB _ _ _) (eq_ix2 _).symm)
    · pointwise []
      blk_ext [iblk, V, idx t, idx' t]
    · pointwise []
      blk_ext [iblk, V, idx t, idx' t]
    · pointwise []
      blk_ext [iblk, V, idx t, idx' t]

/-- The second gate's gradient, once every tile is written. -/
theorem final10 (c : Dev nD) : (dats m 0 c).arrAt 10 (cfgs 0).N = DC (A m c) (W m c) (DG m c) := by
  refine (dats m 0 c).arrAt_eq_of_covers 10 _ (by decide +kernel) fun t _ y => ?_
  blk_simp
  rw [after0_10]
  rcases Decidable.em (t.val % 26 = 0) with h | h
  · rw [outsAt0_A m c t h (by omega)]; frame_out
    refine (dc m c t _ _ _ y _ _ (by blk_simp [idx' t]; omega) (by blk_simp [idx' t]; omega) ?_ ?_ ?_).trans (congrArg (DC _ _ _) (eq_ix2 _).symm)
    · pointwise []
      blk_ext [iblk, V, idx t, idx' t]
    · pointwise []
      blk_ext [iblk, V, idx t, idx' t]
    · pointwise []
      blk_ext [iblk, V, idx t, idx' t]
  · rw [outsAt0_B m c t h (by omega)]; frame_out
    refine (dc m c t _ _ _ y _ _ (by blk_simp [idx' t]; omega) (by blk_simp [idx' t]; omega) ?_ ?_ ?_).trans (congrArg (DC _ _ _) (eq_ix2 _).symm)
    · pointwise []
      blk_ext [iblk, V, idx t, idx' t]
    · pointwise []
      blk_ext [iblk, V, idx t, idx' t]
    · pointwise []
      blk_ext [iblk, V, idx t, idx' t]

/-- The input's gradient, once every tile is written. -/
theorem final11 (c : Dev nD) : (dats m 0 c).arrAt 11 (cfgs 0).N = DU (A m c) (W m c) (DG m c) := by
  refine (dats m 0 c).arrAt_eq_of_covers 11 _ (by decide +kernel) fun t _ y => ?_
  blk_simp
  rw [after0_11]
  rcases Decidable.em (t.val % 26 = 0) with h | h
  · rw [outsAt0_A m c t h (by omega)]; frame_out
    refine (du m c t _ _ _ y _ _ (by blk_simp [idx' t]; omega) (by blk_simp [idx' t]; omega) ?_ ?_ ?_).trans (congrArg (DU _ _ _) (eq_ix2 _).symm)
    · pointwise []
      blk_ext [iblk, V, idx t, idx' t]
    · pointwise []
      blk_ext [iblk, V, idx t, idx' t]
    · pointwise []
      blk_ext [iblk, V, idx t, idx' t]
  · rw [outsAt0_B m c t h (by omega)]; frame_out
    refine (du m c t _ _ _ y _ _ (by blk_simp [idx' t]; omega) (by blk_simp [idx' t]; omega) ?_ ?_ ?_).trans (congrArg (DU _ _ _) (eq_ix2 _).symm)
    · pointwise []
      blk_ext [iblk, V, idx t, idx' t]
    · pointwise []
      blk_ext [iblk, V, idx t, idx' t]
    · pointwise []
      blk_ext [iblk, V, idx t, idx' t]

/-- What the tile at a grid point adds to the taps' gradients. -/
def TILE (c : Dev nD) (n : ℕ) (j : S8x512.Idx) : EReal :=
  ∑ r : Fin 320, TAP (A m c) (DG m c) (j 0).val (320 * (n % 26) + r.val) ⟨(512 * (n / 26) + (j 1).val) % 2048, Nat.mod_lt _ (by decide)⟩

theorem tile (c : Dev nD) (t : Fin cfg0.N) (x : S8x512.Idx) :
    k0_pay1 k0_pay21 (k0_pay22 (k0_pay9 (grid0.coords t) (iblk m c 1 t) (iblk m c 2 t) (iblk m c 3 t) (iblk m c 4 t)) (k0_pay12 (k0_pay3 (iblk m c 0 t)) (iblk m c 6 t))) k0_pay23
      (k0_pay24 (k0_pay6 (iblk m c 1 t) (iblk m c 2 t)) (k0_pay12 (k0_pay3 (iblk m c 0 t)) (iblk m c 6 t)))
      (k0_pay25 (k0_pay8 (grid0.coords t) (iblk m c 1 t) (iblk m c 2 t) (iblk m c 3 t) (iblk m c 4 t)) (k0_pay12 (k0_pay3 (iblk m c 0 t)) (iblk m c 6 t))) x =
      TILE m c t.val x := by
  have ht := lt t
  have hx := (x 1).isLt
  have hx : (x 1).val < 512 := hx
  exact dw m c t x _ (show (512 * (t.val / 26) + (x 1).val) % 2048 = _ by omega)

/-- The tiles of a column, added up. -/
theorem whole (c : Dev nD) (t : ℕ) (ht : t < 104) (x : S8x512.Idx) (k : Fin 8) (q : Fin 2048) (hk : k.val = (x 0).val)
    (hq : q.val = 512 * (t / 26) + (x 1).val) : ∑ s : Fin 26, TILE m c (26 * (t / 26) + s.val) x = DW (A m c) (DG m c) (ix2 k q) := by
  rw [dw_at]
  unfold TILE
  refine Fin.sum_mul_add_congr fun s r hl => ?_
  have e : (⟨(512 * ((26 * (t / 26) + s.val) / 26) + (x 1).val) % 2048, Nat.mod_lt _ (by decide)⟩ : Fin 2048) = q :=
    Fin.ext (show (512 * ((26 * (t / 26) + s.val) / 26) + (x 1).val) % 2048 = q.val by omega)
  rw [e, hk, show (26 * (t / 26) + s.val) % 26 = s.val by omega, Nat.mul_comm 320]

/-- The taps' gradients, once every tile is added. -/
theorem final12 (c : Dev nD) : (dats m 0 c).arrAt 12 (cfgs 0).N = DW (A m c) (DG m c) := by
  refine (dats m 0 c).arrAt_eq_of_covers 12 _ (by decide +kernel) fun t hf y => ?_
  blk_simp
  rw [after0_12, Pipeline.eq_sum_fin_of_reset_step_apply_of_flush (fun n h => (outsAt0 m c n h).2.2.2) 26 (fun _ => 0) (fun t j => TILE m c t.val j)
    (fun t h j => by rw [outsAt0_A m c t h (by omega)]; frame_out; rw [tile]; exact (zero_add _).symm)
    (fun t h j => by rw [outsAt0_B m c t h (by omega)]; frame_out; pointwise [k0_pay2]; rw [tile])
    t ((flush0_12 t).mp hf) _, zero_add]
  exact (whole m c t.val (lt t) y _ _ (by blk_simp [idx' t]) (by blk_simp [idx' t]; omega)).trans (congrArg (DW _ _) (eq_ix2 _).symm)

/-- Kernel and reference end with the same results. -/
theorem algebraic : Cert.algebraic_ConvBackIdeal_ConvBackRefIdeal := by
  pair_intro
  · run_from run_main m g
  · run_from Cert.ConvBackRefIdeal.Value.run m' g'
    · exact (final9 m c).symm
    · exact (final10 m c).symm
    · exact (final11 m c).symm
    · rw [final12]
      rw [(hagree c).2.2]

end Cert.ConvBackIdeal.Results

end
-- ==== Proof.RopeResults.lean ====
/-
# The rotary positions

The kernel works on tiles of 320 rows and 128 columns, two heads each; it shifts columns round by 32 to pair each
head's halves. The reference splits every head. Keys and values go out with zeros beside each head.
-/
module

public import proofs.«01_k».proof.Defs
public import proofs.«01_k».proof.Proof.Gen.RopeIdeal.Frame
public import proofs.«01_k».proof.Proof.Gen.RopeRefIdeal.Run
public import Idealize.ShloMosaic.Lib.Pipeline.ValueKit

@[expose] public section

set_option maxRecDepth 16384

noncomputable section

namespace Cert.RopeIdeal.Results

open Cert.RopeIdeal Cert.RopeIdeal.Gen Idealize.ShloMosaic Idealize.ShloMosaic.TcCoe Idealize.SL.Sem
open Idealize.ShloMosaic.Pipeline (Dat)

variable (m : (ℓ : Loc nD τ sig) → Buf (Elt Ideal) ℓ)

abbrev X (c : Dev nD) : FVec Ideal S8320x2560 .f32 := m ((c : Thread nD τ).loc main_arg0)
abbrev C (c : Dev nD) : FVec Ideal S8320x32 .f32 := m ((c : Thread nD τ).loc main_arg1)
abbrev S (c : Dev nD) : FVec Ideal S8320x32 .f32 := m ((c : Thread nD τ).loc main_arg2)

/-- Each grid point's tile of rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] :=
  (by decide +kernel : ∀ t : Fin grid0.N, _)

theorem lt (t : Fin cfg0.N) : t.val < 26 := lt_of_lt_of_eq t.isLt (show cfg0.N = 26 from N_0)

/-- The argument and the tables, at rows and columns named by numbers. -/
def x {w : ℕ} (a : FVec Ideal ⟨2, ![8320, w]⟩ .f32) (r n : ℕ) : EReal :=
  if h : r < 8320 ∧ n < w then a (ix2 ⟨r, h.1⟩ ⟨n, h.2⟩) else 0
def tab (a : FVec Ideal S8320x32 .f32) (r n : ℕ) : EReal :=
  if h : r < 8320 ∧ n < 32 then a (ix2 ⟨r, h.1⟩ ⟨n, h.2⟩) else 0

/-- A column of a row, turned by the row's angle: the two halves of each head's 64 columns are mixed. -/
def turned (f : ℕ → EReal) (c s : FVec Ideal S8320x32 .f32) (r n : ℕ) : EReal :=
  if n % 64 < 32 then f n * tab c r (n % 32) - f (n + 32) * tab s r (n % 32) else f n * tab c r (n % 32) + f (n - 32) * tab s r (n % 32)

/-- A tile's 128 columns turned: the kernel's operations. -/
abbrev TURN (x c s : FVec Ideal S320x128 .f32) : FVec Ideal S320x128 .f32 :=
  addf (mulf x c) (mulf (select (cmpi .slt (andi (iota .tc S320x128 32 [1] iota_S320x128_d1_w32) (broadcast S320x128 63#32)) (broadcast S320x128 32#32))
    (dynamicRotate 1 96#32 none x rotates_S320x128_d1) (dynamicRotate 1 32#32 none x rotates_S320x128_d1)) s)

theorem low : ∀ l : Fin 128, Scalar.cmpi .slt (BitVec.ofNat 32 l.val &&& 63#32) 32#32 = BitVec.ofBool (decide (l.val % 64 < 32)) := by
  decide +kernel

theorem turn (x c s : FVec Ideal S320x128 .f32) (p : Fin 320) (l : Fin 128) : TURN x c s (ix2 p l) =
    x (ix2 p l) * c (ix2 p l) + (if l.val % 64 < 32 then x (ix2 p ⟨(l.val + 32) % 128, Nat.mod_lt _ (by decide)⟩)
      else x (ix2 p ⟨(l.val + 96) % 128, Nat.mod_lt _ (by decide)⟩)) * s (ix2 p l) := by
  pointwise []
  rw [show IntOp.cmpi .slt (IntOp.andi (BitVec.ofNat 32 l.val) 63#32) 32#32 = _ from low l, WordCmp.select_ofBool]
  simp only [decide_eq_true_eq]
  have e (n k : ℕ) (h : (l.val + 128 - n) % 128 = (l.val + k) % 128) (h') : x (ix2 p ⟨(l.val + 128 - n) % 128, h'⟩) = x (ix2 p ⟨(l.val + k) % 128, Nat.mod_lt _ (by decide)⟩) :=
    congrArg (fun a => x (ix2 p a)) (Fin.ext h)
  rw [e 96 32 (by omega), e 32 96 (by omega)]

/-- The tables, side by side. -/
theorem cosArray (c : Dev nD) : V m c main_v0 = (concatenate S8320x128 1 [⟨S8320x32, C m c⟩, ⟨S8320x32, C m c⟩, ⟨S8320x32, C m c⟩, ⟨S8320x32, C m c⟩]
    concatenates_S8320x32_S8320x32_S8320x32_S8320x32_S8320x128_d1 : FVec Ideal S8320x128 .f32) := by
  entry_read
  rfl

theorem quad {a0 a1 a2 a3 b0 b1 b2 b3 : FVec Ideal S8320x32 .f32} (h0 : a0 = b0) (h1 : a1 = b1) (h2 : a2 = b2) (h3 : a3 = b3) :
    (concatenate S8320x128 1 [⟨S8320x32, a0⟩, ⟨S8320x32, a1⟩, ⟨S8320x32, a2⟩, ⟨S8320x32, a3⟩] concatenates_S8320x32_S8320x32_S8320x32_S8320x32_S8320x128_d1 : FVec Ideal S8320x128 .f32) =
    concatenate S8320x128 1 [⟨S8320x32, b0⟩, ⟨S8320x32, b1⟩, ⟨S8320x32, b2⟩, ⟨S8320x32, b3⟩] concatenates_S8320x32_S8320x32_S8320x32_S8320x32_S8320x128_d1 := by
  rw [h0, h1, h2, h3]

theorem sinArray (c : Dev nD) : V m c main_v3 = (concatenate S8320x128 1 [⟨S8320x32, Host.negf (S m c)⟩, ⟨S8320x32, S m c⟩, ⟨S8320x32, Host.negf (S m c)⟩, ⟨S8320x32, S m c⟩]
    concatenates_S8320x32_S8320x32_S8320x32_S8320x32_S8320x128_d1 : FVec Ideal S8320x128 .f32) := by
  unfold V
  after_results_simp
  refine quad ?_ ?_ ?_ ?_ <;> dsimp only [Matrix.cons_val_zero, Matrix.cons_val_one, Matrix.cons_val] <;> after_results_simp

theorem cosAt (a : FVec Ideal S8320x32 .f32) (r : Fin 8320) (l : Fin 128) : (concatenate S8320x128 1 [⟨S8320x32, a⟩, ⟨S8320x32, a⟩, ⟨S8320x32, a⟩, ⟨S8320x32, a⟩]
    concatenates_S8320x32_S8320x32_S8320x32_S8320x32_S8320x128_d1 : FVec Ideal S8320x128 .f32) (ix2 r l) = tab a r.val (l.val % 32) := by
  unfold tab
  rw [dif_pos (by omega)]
  pointwise []
  split_ifs <;> exact congrArg (fun n => a (ix2 r n)) (Fin.ext (by dsimp only <;> omega))

theorem sinAt (a : FVec Ideal S8320x32 .f32) (r : Fin 8320) (l : Fin 128) : (concatenate S8320x128 1 [⟨S8320x32, Host.negf a⟩, ⟨S8320x32, a⟩, ⟨S8320x32, Host.negf a⟩, ⟨S8320x32, a⟩]
    concatenates_S8320x32_S8320x32_S8320x32_S8320x32_S8320x128_d1 : FVec Ideal S8320x128 .f32) (ix2 r l) = if l.val % 64 < 32 then -tab a r.val (l.val % 32) else tab a r.val (l.val % 32) := by
  unfold tab
  rw [dif_pos (by omega)]
  by_cases h : l.val % 64 < 32
  · rw [if_pos h]
    pointwise []
    split_ifs <;> first
      | omega
      | exact congrArg (fun n => -a (ix2 r n)) (Fin.ext (by dsimp only <;> omega))
  · rw [if_neg h]
    pointwise []
    split_ifs <;> first
      | omega
      | exact congrArg (fun n => a (ix2 r n)) (Fin.ext (by dsimp only <;> omega))

/-- Their tiles. -/
theorem cosines (c : Dev nD) (t : Fin cfg0.N) (p : Fin 320) (l : Fin 128) :
    iblk m c 1 t (ix2 p l) = tab (C m c) (320 * t.val + p.val) (l.val % 32) := by
  have ht := lt t
  refine Eq.trans ?_ (cosAt (C m c) ⟨320 * t.val + p.val, by omega⟩ l)
  rw [← cosArray]
  blk_ext [iblk, idx t]

theorem sines (c : Dev nD) (t : Fin cfg0.N) (p : Fin 320) (l : Fin 128) :
    iblk m c 2 t (ix2 p l) = if l.val % 64 < 32 then -tab (S m c) (320 * t.val + p.val) (l.val % 32) else tab (S m c) (320 * t.val + p.val) (l.val % 32) := by
  have ht := lt t
  refine Eq.trans ?_ (sinAt (S m c) ⟨320 * t.val + p.val, by omega⟩ l)
  rw [← sinArray]
  blk_ext [iblk, idx t]

/-- 128 of a tile's columns. -/
theorem cols (c : Dev nD) (t : Fin cfg0.N) (o : ℕ) (ho : o + 128 ≤ 2560) (inb) (p : Fin 320) (l : Fin 128) :
    View.ld (iblk m c 0 t) (Rect.unit (s := S320x2560) ![0, o] S320x128.size inb) (ix2 p l) = x (X m c) (320 * t.val + p.val) (o + l.val) := by
  have ht := lt t
  unfold x
  rw [dif_pos (by omega), View.ld_unit_apply_of _ _ _ _ _ (ix2 p ⟨o + l.val, by omega⟩ : S320x2560.Idx) (by intro a; fin_cases a <;> simp)]
  blk_ext [iblk, V, idx t]

/-- 128 columns turned. -/
theorem turns (f : ℕ → EReal) (c s : FVec Ideal S8320x32 .f32) (r : ℕ) (v cv sv : FVec Ideal S320x128 .f32) (o : ℕ) (ho : o % 64 = 0) (p : Fin 320)
    (hv : ∀ l : Fin 128, v (ix2 p l) = f (o + l.val)) (hc : ∀ l : Fin 128, cv (ix2 p l) = tab c r (l.val % 32))
    (hs : ∀ l : Fin 128, sv (ix2 p l) = if l.val % 64 < 32 then -tab s r (l.val % 32) else tab s r (l.val % 32)) (l : Fin 128) :
    TURN v cv sv (ix2 p l) = turned f c s r (o + l.val) := by
  rw [turn, hc, hs, hv, hv, hv]
  unfold turned
  rw [show (o + l.val) % 64 = l.val % 64 by omega, show (o + l.val) % 32 = l.val % 32 by omega]
  split_ifs with h
  · rw [mul_neg, ← sub_eq_add_neg, show o + (l.val + 32) % 128 = o + l.val + 32 by omega]
  · rw [show o + (l.val + 96) % 128 = o + l.val - 32 by omega]

theorem piece (c : Dev nD) (t : Fin cfg0.N) (v cv sv : FVec Ideal S320x128 .f32) (o : ℕ) (ho : o % 64 = 0)
    (hv : ∀ p l, v (ix2 p l) = x (X m c) (320 * t.val + p.val) (o + l.val))
    (hc : cv = iblk m c 1 t) (hs : sv = iblk m c 2 t) (p : Fin 320) (l : Fin 128) :
    TURN v cv sv (ix2 p l) = turned (x (X m c) (320 * t.val + p.val)) (C m c) (S m c) (320 * t.val + p.val) (o + l.val) :=
  turns _ _ _ _ v cv sv o ho p (hv p) (fun l => hc ▸ cosines m c t p l) (fun l => hs ▸ sines m c t p l) l

theorem qPiece (c : Dev nD) (t : Fin cfg0.N) (o : ℕ) (ho : o % 64 = 0) (ho' : o + 128 ≤ 2560) (inb) (z : S320x128.Idx) :
    truncf .bf16 (mulf (TURN (View.ld (iblk m c 0 t) (Rect.unit (s := S320x2560) ![0, o] S320x128.size inb)) (shapeCast S320x128 (iblk m c 1 t) shapeCasts_S320x128_S320x128)
      (shapeCast S320x128 (iblk m c 2 t) shapeCasts_S320x128_S320x128)) (broadcast S320x128 (FloatOps.ofBits FTy.f32 0x3E000000#32))) bitsLt_bf16_f32 z =
      turned (x (X m c) (320 * t.val + (z 0).val)) (C m c) (S m c) (320 * t.val + (z 0).val) (o + (z 1).val) * Ideal.ofBits .f32 0x3E000000#32 := by
  refine congrArg (· * Ideal.ofBits .f32 0x3E000000#32) ((congrArg (TURN _ _ _) (eq_ix2 z)).trans
    (piece m c t _ _ _ o ho (cols m c t o ho' inb) (shapeCast_self _ _) (shapeCast_self _ _) (z 0) (z 1)))

theorem q (c : Dev nD) (t : Fin cfg0.N) (y : S320x2048.Idx) : out0_3 (iblk m c 0 t) (iblk m c 1 t) (iblk m c 2 t) y =
    turned (x (X m c) (320 * t.val + (y 0).val)) (C m c) (S m c) (320 * t.val + (y 0).val) (y 1).val * Ideal.ofBits .f32 0x3E000000#32 := by
  canon_tiles z h
  all_goals
    open_payloads
    rw [h0, h1]
    first
      | exact qPiece m c t _ (by decide) (by decide) _ z
      | exact (qPiece m c t 0 (by decide) (by decide) _ z).trans (by rw [Nat.zero_add])

/-- The first or second head of two, with zeros beside it. -/
abbrev LO (v : FVec Ideal S320x128 .f32) : FVec Ideal S320x128 .f32 :=
  select (cmpi .slt (iota .tc S320x128 32 [1] iota_S320x128_d1_w32) (broadcast S320x128 64#32)) v (broadcast S320x128 (FloatOps.ofBits .f32 0#32))
abbrev HI (v : FVec Ideal S320x128 .f32) : FVec Ideal S320x128 .f32 :=
  select (cmpi .sge (iota .tc S320x128 32 [1] iota_S320x128_d1_w32) (broadcast S320x128 64#32)) v (broadcast S320x128 (FloatOps.ofBits .f32 0#32))

theorem lo (v : FVec Ideal S320x128 .f32) (p : Fin 320) (l : Fin 128) : LO v (ix2 p l) = if l.val < 64 then v (ix2 p l) else 0 := by
  pointwise []
  rw [show IntOp.cmpi .slt (BitVec.ofNat 32 l.val) 64#32 = _ from WordCmp.cmpi_slt_ofNat (by omega) (by omega), WordCmp.select_ofBool]
  simp

theorem hi (v : FVec Ideal S320x128 .f32) (p : Fin 320) (l : Fin 128) : HI v (ix2 p l) = if 64 ≤ l.val then v (ix2 p l) else 0 := by
  pointwise []
  rw [show IntOp.cmpi .sge (BitVec.ofNat 32 l.val) 64#32 = _ from WordCmp.cmpi_sge_ofNat (by omega) (by omega), WordCmp.select_ofBool]
  simp

theorem half (v : FVec Ideal S320x128 .f32) (p : Fin 320) (l : Fin 128) :
    dynamicRotate 1 64#32 none v rotates_S320x128_d1 (ix2 p l) = v (ix2 p ⟨(l.val + 64) % 128, Nat.mod_lt _ (by decide)⟩) := by
  pointwise []
  exact congrArg (fun a => v (ix2 p a)) (Fin.ext (by dsimp only; omega))

/-- Each head's columns twice, zeros between them. -/
def spread (f : ℕ → EReal) (j : ℕ) : EReal :=
  if j % 256 < 64 then f (j / 256 * 64 + j % 64) else if j % 256 < 192 then 0 else f (j / 256 * 64 + j % 64)

section
variable (f : ℕ → ℕ → EReal) (v : FVec Ideal S320x128 .f32) (e : ℕ) (hv : ∀ p l, v (ix2 p l) = f p.val (128 * e + l.val)) (z : S320x128.Idx)
include hv

theorem spread0 (o : ℕ) (ho : o = 512 * e) : truncf .bf16 (LO v) bitsLt_bf16_f32 z = spread (f (z 0).val) (o + (z 1).val) := by
  obtain ⟨p, l, rfl⟩ : ∃ p l, z = ix2 p l := ⟨z 0, z 1, eq_ix2 z⟩
  refine Eq.trans (b := _) (lo v p l) ?_
  change _ = spread (f p.val) (o + l.val)
  unfold spread
  rw [hv]
  split_ifs <;> first | omega | rfl | exact congrArg (f _) (by omega)

theorem spread1 (o : ℕ) (ho : o = 512 * e + 128) : truncf .bf16 (dynamicRotate 1 64#32 none (LO v) rotates_S320x128_d1) bitsLt_bf16_f32 z = spread (f (z 0).val) (o + (z 1).val) := by
  obtain ⟨p, l, rfl⟩ : ∃ p l, z = ix2 p l := ⟨z 0, z 1, eq_ix2 z⟩
  refine Eq.trans (b := _) ((half _ p l).trans (lo v p _)) ?_
  change _ = spread (f p.val) (o + l.val)
  unfold spread
  rw [hv]
  dsimp only
  split_ifs <;> first | omega | rfl | exact congrArg (f _) (by omega)

theorem spread2 (o : ℕ) (ho : o = 512 * e + 256) : truncf .bf16 (dynamicRotate 1 64#32 none (HI v) rotates_S320x128_d1) bitsLt_bf16_f32 z = spread (f (z 0).val) (o + (z 1).val) := by
  obtain ⟨p, l, rfl⟩ : ∃ p l, z = ix2 p l := ⟨z 0, z 1, eq_ix2 z⟩
  refine Eq.trans (b := _) ((half _ p l).trans (hi v p _)) ?_
  change _ = spread (f p.val) (o + l.val)
  unfold spread
  rw [hv]
  dsimp only
  split_ifs <;> first | omega | rfl | exact congrArg (f _) (by omega)

theorem spread3 (o : ℕ) (ho : o = 512 * e + 384) : truncf .bf16 (HI v) bitsLt_bf16_f32 z = spread (f (z 0).val) (o + (z 1).val) := by
  obtain ⟨p, l, rfl⟩ : ∃ p l, z = ix2 p l := ⟨z 0, z 1, eq_ix2 z⟩
  refine Eq.trans (b := _) (hi v p l) ?_
  change _ = spread (f p.val) (o + l.val)
  unfold spread
  rw [hv]
  split_ifs <;> first | omega | rfl | exact congrArg (f _) (by omega)
end

theorem k (c : Dev nD) (t : Fin cfg0.N) (y : S320x1024.Idx) : out0_4 (iblk m c 0 t) (iblk m c 1 t) (iblk m c 2 t) y =
    spread (fun n => turned (x (X m c) (320 * t.val + (y 0).val)) (C m c) (S m c) (320 * t.val + (y 0).val) (2048 + n)) (y 1).val := by
  have h0 (p : Fin 320) (l : Fin 128) := piece m c t _ _ _ (2048 + 128 * 0) (by decide) (cols m c t (2048 + 128 * 0) (by decide) (by decide)) (shapeCast_self _ shapeCasts_S320x128_S320x128) (shapeCast_self _ shapeCasts_S320x128_S320x128) p l
  have h1 (p : Fin 320) (l : Fin 128) := piece m c t _ _ _ (2048 + 128 * 1) (by decide) (cols m c t (2048 + 128 * 1) (by decide) (by decide)) (shapeCast_self _ shapeCasts_S320x128_S320x128) (shapeCast_self _ shapeCasts_S320x128_S320x128) p l
  simp only [Nat.add_assoc 2048] at h0 h1
  canon_tiles z g
  all_goals
    open_payloads
    rw [g0, g1]
  · exact spread3 (fun p n => turned (x (X m c) (320 * t.val + p)) (C m c) (S m c) (320 * t.val + p) (2048 + n)) _ 1 h1 z _ rfl
  · exact spread2 (fun p n => turned (x (X m c) (320 * t.val + p)) (C m c) (S m c) (320 * t.val + p) (2048 + n)) _ 1 h1 z _ rfl
  · exact spread1 (fun p n => turned (x (X m c) (320 * t.val + p)) (C m c) (S m c) (320 * t.val + p) (2048 + n)) _ 1 h1 z _ rfl
  · exact spread0 (fun p n => turned (x (X m c) (320 * t.val + p)) (C m c) (S m c) (320 * t.val + p) (2048 + n)) _ 1 h1 z _ rfl
  · exact spread3 (fun p n => turned (x (X m c) (320 * t.val + p)) (C m c) (S m c) (320 * t.val + p) (2048 + n)) _ 0 h0 z _ rfl
  · exact spread2 (fun p n => turned (x (X m c) (320 * t.val + p)) (C m c) (S m c) (320 * t.val + p) (2048 + n)) _ 0 h0 z _ rfl
  · exact spread1 (fun p n => turned (x (X m c) (320 * t.val + p)) (C m c) (S m c) (320 * t.val + p) (2048 + n)) _ 0 h0 z _ rfl
  · exact (spread0 (fun p n => turned (x (X m c) (320 * t.val + p)) (C m c) (S m c) (320 * t.val + p) (2048 + n)) _ 0 h0 z 0 rfl).trans (congrArg (spread _) (Nat.zero_add _))

theorem v (c : Dev nD) (t : Fin cfg0.N) (y : S320x1024.Idx) : out0_5 (iblk m c 0 t) (iblk m c 1 t) (iblk m c 2 t) y =
    spread (fun n => x (X m c) (320 * t.val + (y 0).val) (2304 + n)) (y 1).val := by
  have h0 (p : Fin 320) (l : Fin 128) := cols m c t (2304 + 128 * 0) (by decide) (by decide) p l
  have h1 (p : Fin 320) (l : Fin 128) := cols m c t (2304 + 128 * 1) (by decide) (by decide) p l
  simp only [Nat.add_assoc 2304] at h0 h1
  canon_tiles z g
  all_goals
    open_payloads
    rw [g0, g1]
  · exact spread3 (fun p n => x (X m c) (320 * t.val + p) (2304 + n)) _ 1 h1 z _ rfl
  · exact spread2 (fun p n => x (X m c) (320 * t.val + p) (2304 + n)) _ 1 h1 z _ rfl
  · exact spread1 (fun p n => x (X m c) (320 * t.val + p) (2304 + n)) _ 1 h1 z _ rfl
  · exact spread0 (fun p n => x (X m c) (320 * t.val + p) (2304 + n)) _ 1 h1 z _ rfl
  · exact spread3 (fun p n => x (X m c) (320 * t.val + p) (2304 + n)) _ 0 h0 z _ rfl
  · exact spread2 (fun p n => x (X m c) (320 * t.val + p) (2304 + n)) _ 0 h0 z _ rfl
  · exact spread1 (fun p n => x (X m c) (320 * t.val + p) (2304 + n)) _ 0 h0 z _ rfl
  · exact (spread0 (fun p n => x (X m c) (320 * t.val + p) (2304 + n)) _ 0 h0 z 0 rfl).trans (congrArg (spread _) (Nat.zero_add _))

/-- The three results. -/
def Q (a : FVec Ideal S8320x2560 .f32) (c s : FVec Ideal S8320x32 .f32) : FVec Ideal S8320x2048 .bf16 :=
  fun y => turned (x a (y 0).val) c s (y 0).val (y 1).val * Ideal.ofBits .f32 0x3E000000#32
def K (a : FVec Ideal S8320x2560 .f32) (c s : FVec Ideal S8320x32 .f32) : FVec Ideal S8320x1024 .bf16 :=
  fun y => spread (fun n => turned (x a (y 0).val) c s (y 0).val (2048 + n)) (y 1).val
def W (a : FVec Ideal S8320x2560 .f32) : FVec Ideal S8320x1024 .bf16 :=
  fun y => spread (fun n => x a (y 0).val (2304 + n)) (y 1).val

/-- The result arrays, once every tile is written. -/
theorem final3 (c : Dev nD) : (dats m 0 c).arrAt 3 (cfgs 0).N = Q (X m c) (C m c) (S m c) := by
  refine (dats m 0 c).arrAt_eq_of_covers 3 _ (by decide +kernel) fun t _ y => ?_
  blk_simp
  rw [after0_3]
  refine (q m c t y).trans ?_
  unfold Q
  blk_simp [idx t]
  rw [Nat.mul_comm 320]
theorem final4 (c : Dev nD) : (dats m 0 c).arrAt 4 (cfgs 0).N = K (X m c) (C m c) (S m c) := by
  refine (dats m 0 c).arrAt_eq_of_covers 4 _ (by decide +kernel) fun t _ y => ?_
  blk_simp
  rw [after0_4]
  refine (k m c t y).trans ?_
  unfold K
  blk_simp [idx t]
  rw [Nat.mul_comm 320]
theorem final5 (c : Dev nD) : (dats m 0 c).arrAt 5 (cfgs 0).N = W (X m c) := by
  refine (dats m 0 c).arrAt_eq_of_covers 5 _ (by decide +kernel) fun t _ y => ?_
  blk_simp
  rw [after0_5]
  refine (v m c t y).trans ?_
  unfold W
  blk_simp [idx t]
  rw [Nat.mul_comm 320]

end Cert.RopeIdeal.Results

namespace Cert.RopeRefIdeal.Results

open Cert.RopeRefIdeal Cert.RopeRefIdeal.Gen Idealize.ShloMosaic Idealize.ShloMosaic.TcCoe
open Cert.RopeIdeal.Results (x tab turned spread Q K W)

/-- Columns split into heads, -/
theorem split {r w h d : ℕ} {α : Type} (a : (⟨2, ![r, w]⟩ : Shape).Idx → α) (hc : (⟨2, ![r, w]⟩ : Shape).ShapeCasts ⟨3, ![r, h, d]⟩) (hw : w = h * d)
    (i : Fin r) (j : Fin h) (l : Fin d) (hl : d * j.val + l.val < w) : shapeCast ⟨3, ![r, h, d]⟩ a hc (ix3 i j l) = a (ix2 i ⟨d * j.val + l.val, hl⟩) := by
  refine shapeCast_apply _ hc _ _ ?_
  rw [Shape.rowMajor_val_two, Shape.rowMajor_val_three]
  change i.val * w + (d * j.val + l.val) = (i.val * h + j.val) * d + l.val
  rw [hw]
  ring

/-- and heads put side by side. -/
theorem merge {r w h d : ℕ} {α : Type} (a : (⟨3, ![r, h, d]⟩ : Shape).Idx → α) (hc : (⟨3, ![r, h, d]⟩ : Shape).ShapeCasts ⟨2, ![r, w]⟩) (hw : w = h * d)
    (i : Fin r) (n : Fin w) (h1 : n.val / d < h) (h2 : n.val % d < d) : shapeCast ⟨2, ![r, w]⟩ a hc (ix2 i n) = a (ix3 i ⟨n.val / d, h1⟩ ⟨n.val % d, h2⟩) := by
  refine shapeCast_apply _ hc _ _ ?_
  rw [Shape.rowMajor_val_two, Shape.rowMajor_val_three]
  change (i.val * h + n.val / d) * d + n.val % d = i.val * w + n.val
  have e := Nat.div_add_mod n.val d
  calc (i.val * h + n.val / d) * d + n.val % d = i.val * (h * d) + (d * (n.val / d) + n.val % d) := by ring
    _ = _ := by rw [e, ← hw]

/-- The heads turned, as the reference does it. -/
abbrev TQ (v : FVec Ideal S8320x32x64 .f32) (c s : FVec Ideal S8320x32 .f32) : FVec Ideal S8320x32x64 .f32 :=
  concatenate S8320x32x64 2 [⟨S8320x32x32, (subf (mulf (extractStridedSlice S8320x32x32 ![0, 0, 0] v slices_S8320x32x64_S8320x32x32_0_0_0) (broadcastInDim S8320x32x32 ![0, 1, 2] bcast_S8320x1x32_S8320x32x32_0_1_2 (broadcastInDim S8320x1x32 ![0, 2] bcast_S8320x32_S8320x1x32_0_2 c))) (mulf (extractStridedSlice S8320x32x32 ![0, 0, 32] v slices_S8320x32x64_S8320x32x32_0_0_32) (broadcastInDim S8320x32x32 ![0, 1, 2] bcast_S8320x1x32_S8320x32x32_0_1_2 (broadcastInDim S8320x1x32 ![0, 2] bcast_S8320x32_S8320x1x32_0_2 s))))⟩, ⟨S8320x32x32, (addf (mulf (extractStridedSlice S8320x32x32 ![0, 0, 32] v slices_S8320x32x64_S8320x32x32_0_0_32) (broadcastInDim S8320x32x32 ![0, 1, 2] bcast_S8320x1x32_S8320x32x32_0_1_2 (broadcastInDim S8320x1x32 ![0, 2] bcast_S8320x32_S8320x1x32_0_2 c))) (mulf (extractStridedSlice S8320x32x32 ![0, 0, 0] v slices_S8320x32x64_S8320x32x32_0_0_0) (broadcastInDim S8320x32x32 ![0, 1, 2] bcast_S8320x1x32_S8320x32x32_0_1_2 (broadcastInDim S8320x1x32 ![0, 2] bcast_S8320x32_S8320x1x32_0_2 s))))⟩] concatenates_S8320x32x32_S8320x32x32_S8320x32x64_d2

abbrev TK (v : FVec Ideal S8320x4x64 .f32) (c s : FVec Ideal S8320x32 .f32) : FVec Ideal S8320x4x64 .f32 :=
  concatenate S8320x4x64 2 [⟨S8320x4x32, (subf (mulf (extractStridedSlice S8320x4x32 ![0, 0, 0] v slices_S8320x4x64_S8320x4x32_0_0_0) (broadcastInDim S8320x4x32 ![0, 1, 2] bcast_S8320x1x32_S8320x4x32_0_1_2 (broadcastInDim S8320x1x32 ![0, 2] bcast_S8320x32_S8320x1x32_0_2 c))) (mulf (extractStridedSlice S8320x4x32 ![0, 0, 32] v slices_S8320x4x64_S8320x4x32_0_0_32) (broadcastInDim S8320x4x32 ![0, 1, 2] bcast_S8320x1x32_S8320x4x32_0_1_2 (broadcastInDim S8320x1x32 ![0, 2] bcast_S8320x32_S8320x1x32_0_2 s))))⟩, ⟨S8320x4x32, (addf (mulf (extractStridedSlice S8320x4x32 ![0, 0, 32] v slices_S8320x4x64_S8320x4x32_0_0_32) (broadcastInDim S8320x4x32 ![0, 1, 2] bcast_S8320x1x32_S8320x4x32_0_1_2 (broadcastInDim S8320x1x32 ![0, 2] bcast_S8320x32_S8320x1x32_0_2 c))) (mulf (extractStridedSlice S8320x4x32 ![0, 0, 0] v slices_S8320x4x64_S8320x4x32_0_0_0) (broadcastInDim S8320x4x32 ![0, 1, 2] bcast_S8320x1x32_S8320x4x32_0_1_2 (broadcastInDim S8320x1x32 ![0, 2] bcast_S8320x32_S8320x1x32_0_2 s))))⟩] concatenates_S8320x4x32_S8320x4x32_S8320x4x64_d2

/-- A head beside zeros, and zeros beside it. -/
abbrev BESIDE (v : FVec Ideal S8320x4x64 .f32) : FVec Ideal S8320x4x256 .f32 :=
  concatenate S8320x4x256 2 [⟨S8320x4x64, v⟩, ⟨S8320x4x64, broadcastInDim S8320x4x64 ![] bcast_S_S8320x4x64 (constant S_ .f32 0x00000000#32)⟩, ⟨S8320x4x64, broadcastInDim S8320x4x64 ![] bcast_S_S8320x4x64 (constant S_ .f32 0x00000000#32)⟩, ⟨S8320x4x64, v⟩] concatenates_S8320x4x64_S8320x4x64_S8320x4x64_S8320x4x64_S8320x4x256_d2

theorem tq (f : ℕ → EReal) (c s : FVec Ideal S8320x32 .f32) (v : FVec Ideal S8320x32x64 .f32) (o : ℕ) (ho : o % 64 = 0) (r : Fin 8320) (hv : ∀ j l, v (ix3 r j l) = f (o + (64 * j.val + l.val))) (j : Fin 32) (l : Fin 64) :
    TQ v c s (ix3 r j l) = turned f c s r.val (o + (64 * j.val + l.val)) := by
  have e (b : FVec Ideal S8320x32 .f32) (n) (hn : n < 32) (h : n = (o + (64 * j.val + l.val)) % 32) : b (ix2 r ⟨n, hn⟩) = tab b r.val ((o + (64 * j.val + l.val)) % 32) := by
    unfold tab
    rw [dif_pos (by omega)]
    exact congrArg (fun n => b (ix2 r n)) (Fin.ext h)
  have g (n) (hn : n < 64) (k : ℕ) (h : o + (64 * j.val + n) = k) : v (ix3 r j ⟨n, hn⟩) = f k := (hv j ⟨n, hn⟩).trans (congrArg _ h)
  unfold turned
  pointwise []
  rw [show (o + (64 * j.val + l.val)) % 64 = l.val by omega]
  by_cases h : l.val < 32
  · refine (dif_pos h).trans (Eq.trans ?_ (if_pos h).symm)
    exact congrArg₂ (fun p q : EReal => p - q) (congrArg₂ (fun p q : EReal => p * q) (g l.val _ _ rfl) (e c l.val h (by omega)))
      (congrArg₂ (fun p q : EReal => p * q) (g (32 + l.val) _ (o + (64 * j.val + l.val) + 32) (by omega)) (e s l.val h (by omega)))
  · refine (dif_neg h).trans (Eq.trans ?_ (if_neg h).symm)
    exact congrArg₂ (fun p q : EReal => p + q) (congrArg₂ (fun p q : EReal => p * q) (g (32 + (l.val - 32)) _ (o + (64 * j.val + l.val)) (by omega)) (e c (l.val - 32) (by omega) (by omega)))
      (congrArg₂ (fun p q : EReal => p * q) (g (l.val - 32) _ (o + (64 * j.val + l.val) - 32) (by omega)) (e s (l.val - 32) (by omega) (by omega)))

theorem tk (f : ℕ → EReal) (c s : FVec Ideal S8320x32 .f32) (v : FVec Ideal S8320x4x64 .f32) (o : ℕ) (ho : o % 64 = 0) (r : Fin 8320) (hv : ∀ j l, v (ix3 r j l) = f (o + (64 * j.val + l.val))) (j : Fin 4) (l : Fin 64) :
    TK v c s (ix3 r j l) = turned f c s r.val (o + (64 * j.val + l.val)) := by
  have e (b : FVec Ideal S8320x32 .f32) (n) (hn : n < 32) (h : n = (o + (64 * j.val + l.val)) % 32) : b (ix2 r ⟨n, hn⟩) = tab b r.val ((o + (64 * j.val + l.val)) % 32) := by
    unfold tab
    rw [dif_pos (by omega)]
    exact congrArg (fun n => b (ix2 r n)) (Fin.ext h)
  have g (n) (hn : n < 64) (k : ℕ) (h : o + (64 * j.val + n) = k) : v (ix3 r j ⟨n, hn⟩) = f k := (hv j ⟨n, hn⟩).trans (congrArg _ h)
  unfold turned
  pointwise []
  rw [show (o + (64 * j.val + l.val)) % 64 = l.val by omega]
  by_cases h : l.val < 32
  · refine (dif_pos h).trans (Eq.trans ?_ (if_pos h).symm)
    exact congrArg₂ (fun p q : EReal => p - q) (congrArg₂ (fun p q : EReal => p * q) (g l.val _ _ rfl) (e c l.val h (by omega)))
      (congrArg₂ (fun p q : EReal => p * q) (g (32 + l.val) _ (o + (64 * j.val + l.val) + 32) (by omega)) (e s l.val h (by omega)))
  · refine (dif_neg h).trans (Eq.trans ?_ (if_neg h).symm)
    exact congrArg₂ (fun p q : EReal => p + q) (congrArg₂ (fun p q : EReal => p * q) (g (32 + (l.val - 32)) _ (o + (64 * j.val + l.val)) (by omega)) (e c (l.val - 32) (by omega) (by omega)))
      (congrArg₂ (fun p q : EReal => p * q) (g (l.val - 32) _ (o + (64 * j.val + l.val) - 32) (by omega)) (e s (l.val - 32) (by omega) (by omega)))

theorem beside (v : FVec Ideal S8320x4x64 .f32) (r : Fin 8320) (f : ℕ → EReal) (hv : ∀ j l, v (ix3 r j l) = f (64 * j.val + l.val)) (j : Fin 4) (l : Fin 256) :
    BESIDE v (ix3 r j l) = spread f (256 * j.val + l.val) := by
  have g (n) (hn : n < 64) (k : ℕ) (h : 64 * j.val + n = k) : v (ix3 r j ⟨n, hn⟩) = f k := (hv j ⟨n, hn⟩).trans (congrArg _ h)
  unfold spread
  pointwise []
  rw [show (256 * j.val + l.val) % 256 = l.val by omega]
  split_ifs <;> first | omega | rfl | (refine g _ _ _ ?_; omega) | (refine Eq.trans ?_ (if_neg (show ¬l.val < 192 by omega)).symm; refine g _ _ _ ?_; omega)

variable (a : FVec Ideal S8320x2560 .f32) (c s : FVec Ideal S8320x32 .f32)

/-- The reference's results. -/
abbrev INQ : FVec Ideal S8320x32x64 .f32 :=
  mulf (TQ (shapeCast _ (extractStridedSlice S8320x2048 ![0, 0] a slices_S8320x2560_S8320x2048_0_0) shapeCasts_S8320x2048_S8320x32x64) c s)
    (broadcastInDim S8320x32x64 ![] bcast_S_S8320x32x64 (constant S_ .f32 0x3E000000#32))
abbrev INK : FVec Ideal S8320x4x256 .f32 :=
  BESIDE (TK (shapeCast _ (extractStridedSlice S8320x256 ![0, 2048] a slices_S8320x2560_S8320x256_0_2048) shapeCasts_S8320x256_S8320x4x64) c s)
abbrev INV : FVec Ideal S8320x4x256 .f32 :=
  BESIDE (shapeCast _ (extractStridedSlice S8320x256 ![0, 2304] a slices_S8320x2560_S8320x256_0_2304) shapeCasts_S8320x256_S8320x4x64)
abbrev REFQ : FVec Ideal S8320x2048 .bf16 := truncf .bf16 (shapeCast _ (INQ a c s) shapeCasts_S8320x32x64_S8320x2048) bitsLt_bf16_f32
abbrev REFK : FVec Ideal S8320x1024 .bf16 := truncf .bf16 (shapeCast _ (INK a c s) shapeCasts_S8320x4x256_S8320x1024) bitsLt_bf16_f32
abbrev REFV : FVec Ideal S8320x1024 .bf16 := truncf .bf16 (shapeCast _ (INV a) shapeCasts_S8320x4x256_S8320x1024) bitsLt_bf16_f32

/-- The argument's columns, head by head. -/
theorem heads32 (r : Fin 8320) (j : Fin 32) (l : Fin 64) :
    shapeCast S8320x32x64 (extractStridedSlice S8320x2048 ![0, 0] a slices_S8320x2560_S8320x2048_0_0) shapeCasts_S8320x2048_S8320x32x64 (ix3 r j l) = x a r.val (0 + (64 * j.val + l.val)) := by
  refine (split _ _ (by decide) r j l (by omega)).trans ?_
  unfold x
  rw [dif_pos (by omega)]
  pointwise []
theorem heads4k (r : Fin 8320) (j : Fin 4) (l : Fin 64) :
    shapeCast S8320x4x64 (extractStridedSlice S8320x256 ![0, 2048] a slices_S8320x2560_S8320x256_0_2048) shapeCasts_S8320x256_S8320x4x64 (ix3 r j l) = x a r.val (2048 + (64 * j.val + l.val)) := by
  refine (split _ _ (by decide) r j l (by omega)).trans ?_
  unfold x
  rw [dif_pos (by omega)]
  pointwise []
theorem heads4v (r : Fin 8320) (j : Fin 4) (l : Fin 64) :
    shapeCast S8320x4x64 (extractStridedSlice S8320x256 ![0, 2304] a slices_S8320x2560_S8320x256_0_2304) shapeCasts_S8320x256_S8320x4x64 (ix3 r j l) = x a r.val (2304 + (64 * j.val + l.val)) := by
  refine (split _ _ (by decide) r j l (by omega)).trans ?_
  unfold x
  rw [dif_pos (by omega)]
  pointwise []

theorem refq : REFQ a c s = Q a c s := by
  funext y
  obtain ⟨r, n, rfl⟩ : ∃ r n, y = ix2 r n := ⟨y 0, y 1, eq_ix2 y⟩
  refine (merge (α := EReal) (INQ a c s) shapeCasts_S8320x32x64_S8320x2048 (by decide) r n (by omega) (by omega)).trans ?_
  change TQ _ c s _ * Ideal.ofBits .f32 0x3E000000#32 = turned (x a r.val) c s r.val n.val * Ideal.ofBits .f32 0x3E000000#32
  rw [tq _ c s _ 0 (by decide) r (heads32 a r)]
  dsimp only
  rw [show 0 + (64 * (n.val / 64) + n.val % 64) = n.val by omega]
theorem refk : REFK a c s = K a c s := by
  funext y
  obtain ⟨r, n, rfl⟩ : ∃ r n, y = ix2 r n := ⟨y 0, y 1, eq_ix2 y⟩
  refine (merge (α := EReal) (INK a c s) shapeCasts_S8320x4x256_S8320x1024 (by decide) r n (by omega) (by omega)).trans ?_
  refine (beside _ r (fun n => turned (x a r.val) c s r.val (2048 + n)) (tk _ c s _ 2048 (by decide) r (heads4k a r)) _ _).trans ?_
  change spread _ (256 * (n.val / 256) + n.val % 256) = spread _ n.val
  rw [show 256 * (n.val / 256) + n.val % 256 = n.val by omega]
  rfl
theorem refv : REFV a = W a := by
  funext y
  obtain ⟨r, n, rfl⟩ : ∃ r n, y = ix2 r n := ⟨y 0, y 1, eq_ix2 y⟩
  refine (merge (α := EReal) (INV a) shapeCasts_S8320x4x256_S8320x1024 (by decide) r n (by omega) (by omega)).trans ?_
  refine (beside _ r (fun n => x a r.val (2304 + n)) (heads4v a r) _ _).trans ?_
  change spread _ (256 * (n.val / 256) + n.val % 256) = spread _ n.val
  rw [show 256 * (n.val / 256) + n.val % 256 = n.val by omega]
  rfl

end Cert.RopeRefIdeal.Results

namespace Cert.RopeIdeal.Results

open Cert.RopeIdeal Cert.RopeIdeal.Gen Idealize.ShloMosaic Idealize.ShloMosaic.TcCoe Idealize.SL.Sem
open Cert.RopeRefIdeal.Results (refq refk refv)

/-- Kernel and reference end with the same results. -/
theorem algebraic : Cert.algebraic_RopeIdeal_RopeRefIdeal := by
  pair_intro
  · run_from run_main m g
  · run_from Cert.RopeRefIdeal.Value.run m' g'
    · rw [(hagree c).2.2]
      exact (refq _ _ _).trans (final3 m c).symm
    · unfold Cert.RopeRefIdeal.Value.res_main_v42
      rw [(hagree c).1, (hagree c).2.1, (hagree c).2.2]
      exact (refk _ _ _).trans (final4 m c).symm
    · exact (refv _).trans (final5 m c).symm

end Cert.RopeIdeal.Results

end
-- ==== Proof.RopeBackResults.lean ====
/-
# The rotary positions, backward

The angles are negated: the kernel negates the table's tiles, the reference the sines.
-/
module

public import proofs.«01_k».proof.Defs
public import proofs.«01_k».proof.Proof.RopeResults
public import proofs.«01_k».proof.Proof.Gen.RopeBackIdeal.Frame
public import proofs.«01_k».proof.Proof.Gen.RopeBackRefIdeal.Run
public import Idealize.ShloMosaic.Lib.Pipeline.ValueKit

@[expose] public section

set_option maxRecDepth 16384

noncomputable section

namespace Cert.RopeBackIdeal.Results

open Cert.RopeBackIdeal Cert.RopeBackIdeal.Gen Idealize.ShloMosaic Idealize.ShloMosaic.TcCoe Idealize.SL.Sem
open Idealize.ShloMosaic.Pipeline (Dat)
open Cert.RopeIdeal.Results (x tab turned TURN turns half cosAt sinAt quad)

variable (m : (ℓ : Loc nD τ sig) → Buf (Elt Ideal) ℓ)

abbrev DQ (c : Dev nD) : FVec Ideal S8320x2048 .f32 := m ((c : Thread nD τ).loc main_arg0)
abbrev DK (c : Dev nD) : FVec Ideal S8320x512 .f32 := m ((c : Thread nD τ).loc main_arg1)
abbrev DV (c : Dev nD) : FVec Ideal S8320x512 .f32 := m ((c : Thread nD τ).loc main_arg2)
abbrev C (c : Dev nD) : FVec Ideal S8320x32 .f32 := m ((c : Thread nD τ).loc main_arg3)
abbrev S (c : Dev nD) : FVec Ideal S8320x32 .f32 := m ((c : Thread nD τ).loc main_arg4)

/-- Each grid point's tile of rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] :=
  (by decide +kernel : ∀ t : Fin grid0.N, _)

theorem lt (t : Fin cfg0.N) : t.val < 26 := lt_of_lt_of_eq t.isLt (show cfg0.N = 26 from N_0)

/-- The two halves of each head's 128 columns, added up. -/
def folded (f : ℕ → EReal) (n : ℕ) : EReal := f (128 * (n / 64) + n % 64) + f (128 * (n / 64) + (64 + n % 64))

/-- The kernel's operations: two heads. -/
abbrev FOLD (v w : FVec Ideal S320x128 .f32) : FVec Ideal S320x128 .f32 :=
  select (cmpi .slt (iota .tc S320x128 32 [1] iota_S320x128_d1_w32) (broadcast S320x128 64#32))
    (addf v (dynamicRotate 1 64#32 none v rotates_S320x128_d1)) (addf w (dynamicRotate 1 64#32 none w rotates_S320x128_d1))

theorem foldSum (v : FVec Ideal S320x128 .f32) (p : Fin 320) (l : Fin 128) :
    addf v (dynamicRotate 1 64#32 none v rotates_S320x128_d1) (ix2 p l) = v (ix2 p l) + v (ix2 p ⟨(l.val + 64) % 128, Nat.mod_lt _ (by decide)⟩) :=
  congrArg (fun y : EReal => v (ix2 p l) + y) (half v p l)

theorem pick (v w : FVec Ideal S320x128 .f32) (p : Fin 320) (l : Fin 128) :
    select (cmpi .slt (iota .tc S320x128 32 [1] iota_S320x128_d1_w32) (broadcast S320x128 64#32)) v w (ix2 p l) = if l.val < 64 then v (ix2 p l) else w (ix2 p l) := by
  pointwise []
  rw [show IntOp.cmpi .slt (BitVec.ofNat 32 l.val) 64#32 = _ from WordCmp.cmpi_slt_ofNat (by omega) (by omega), WordCmp.select_ofBool]
  simp

theorem fold (f : ℕ → EReal) (e : ℕ) (v w : FVec Ideal S320x128 .f32) (p : Fin 320) (hv : ∀ l : Fin 128, v (ix2 p l) = f (256 * e + l.val))
    (hw : ∀ l : Fin 128, w (ix2 p l) = f (256 * e + 128 + l.val)) (l : Fin 128) : FOLD v w (ix2 p l) = folded f (128 * e + l.val) := by
  refine (pick _ _ p l).trans ?_
  rw [foldSum, foldSum, hv, hw, hv, hw]
  unfold folded
  dsimp only
  split_ifs with h
  · rw [show 256 * e + l.val = 128 * ((128 * e + l.val) / 64) + (128 * e + l.val) % 64 by omega,
      show 256 * e + (l.val + 64) % 128 = 128 * ((128 * e + l.val) / 64) + (64 + (128 * e + l.val) % 64) by omega]
  · rw [show 256 * e + 128 + l.val = 128 * ((128 * e + l.val) / 64) + (64 + (128 * e + l.val) % 64) by omega,
      show 256 * e + 128 + (l.val + 64) % 128 = 128 * ((128 * e + l.val) / 64) + (128 * e + l.val) % 64 by omega, add_comm]

/-- The tables, side by side. -/
theorem cosArray (c : Dev nD) : V m c main_v0 = (concatenate S8320x128 1 [⟨S8320x32, C m c⟩, ⟨S8320x32, C m c⟩, ⟨S8320x32, C m c⟩, ⟨S8320x32, C m c⟩]
    concatenates_S8320x32_S8320x32_S8320x32_S8320x32_S8320x128_d1 : FVec Ideal S8320x128 .f32) := by
  entry_read
  rfl

theorem sinArray (c : Dev nD) : V m c main_v3 = (concatenate S8320x128 1 [⟨S8320x32, Host.negf (S m c)⟩, ⟨S8320x32, S m c⟩, ⟨S8320x32, Host.negf (S m c)⟩, ⟨S8320x32, S m c⟩]
    concatenates_S8320x32_S8320x32_S8320x32_S8320x32_S8320x128_d1 : FVec Ideal S8320x128 .f32) := by
  unfold V
  after_results_simp
  refine quad ?_ ?_ ?_ ?_ <;> dsimp only [Matrix.cons_val_zero, Matrix.cons_val_one, Matrix.cons_val] <;> after_results_simp

/-- Their tiles. -/
theorem cosines (c : Dev nD) (t : Fin cfg0.N) (p : Fin 320) (l : Fin 128) :
    iblk m c 3 t (ix2 p l) = tab (C m c) (320 * t.val + p.val) (l.val % 32) := by
  have ht := lt t
  refine Eq.trans ?_ (cosAt (C m c) ⟨320 * t.val + p.val, by omega⟩ l)
  refine Eq.trans ?_ (congrFun (cosArray m c) _)
  blk_ext [iblk, idx t]

theorem sines (c : Dev nD) (t : Fin cfg0.N) (p : Fin 320) (l : Fin 128) :
    iblk m c 4 t (ix2 p l) = if l.val % 64 < 32 then -tab (S m c) (320 * t.val + p.val) (l.val % 32) else tab (S m c) (320 * t.val + p.val) (l.val % 32) := by
  have ht := lt t
  refine Eq.trans ?_ (sinAt (S m c) ⟨320 * t.val + p.val, by omega⟩ l)
  refine Eq.trans ?_ (congrFun (sinArray m c) _)
  blk_ext [iblk, idx t]

theorem tab_neg (s : FVec Ideal S8320x32 .f32) (r n : ℕ) : tab (Host.negf s) r n = -tab s r n := by
  unfold tab
  split_ifs
  · rfl
  · exact neg_zero.symm

/-- 128 of a tile's columns. -/
theorem colsQ (c : Dev nD) (t : Fin cfg0.N) (o : ℕ) (ho : o + 128 ≤ 2048) (inb) (p : Fin 320) (l : Fin 128) :
    View.ld (iblk m c 0 t) (Rect.unit (s := S320x2048) ![0, o] S320x128.size inb) (ix2 p l) = x (DQ m c) (320 * t.val + p.val) (o + l.val) := by
  have ht := lt t
  unfold x
  rw [dif_pos (by omega), View.ld_unit_apply_of _ _ _ _ _ (ix2 p ⟨o + l.val, by omega⟩ : S320x2048.Idx) (by intro a; fin_cases a <;> simp)]
  blk_ext [iblk, V, idx t]
theorem colsK (c : Dev nD) (t : Fin cfg0.N) (o : ℕ) (ho : o + 128 ≤ 512) (inb) (p : Fin 320) (l : Fin 128) :
    View.ld (iblk m c 1 t) (Rect.unit (s := S320x512) ![0, o] S320x128.size inb) (ix2 p l) = x (DK m c) (320 * t.val + p.val) (o + l.val) := by
  have ht := lt t
  unfold x
  rw [dif_pos (by omega), View.ld_unit_apply_of _ _ _ _ _ (ix2 p ⟨o + l.val, by omega⟩ : S320x512.Idx) (by intro a; fin_cases a <;> simp)]
  blk_ext [iblk, V, idx t]
theorem colsV (c : Dev nD) (t : Fin cfg0.N) (o : ℕ) (ho : o + 128 ≤ 512) (inb) (p : Fin 320) (l : Fin 128) :
    View.ld (iblk m c 2 t) (Rect.unit (s := S320x512) ![0, o] S320x128.size inb) (ix2 p l) = x (DV m c) (320 * t.val + p.val) (o + l.val) := by
  have ht := lt t
  unfold x
  rw [dif_pos (by omega), View.ld_unit_apply_of _ _ _ _ _ (ix2 p ⟨o + l.val, by omega⟩ : S320x512.Idx) (by intro a; fin_cases a <;> simp)]
  blk_ext [iblk, V, idx t]

/-- The result, at a row and a column named by numbers. -/
def out (q : FVec Ideal S8320x2048 .f32) (k v : FVec Ideal S8320x512 .f32) (c s : FVec Ideal S8320x32 .f32) (r n : ℕ) : EReal :=
  if n < 2048 then turned (x q r) c (Host.negf s) r n * Ideal.ofBits .f32 0x3E000000#32
  else if n < 2304 then turned (folded (x k r)) c (Host.negf s) r (n - 2048) else folded (x v r) (n - 2304)

theorem negated (sv : FVec Ideal S320x128 .f32) (p : Fin 320) (l : Fin 128) :
    subf (broadcast S320x128 (FloatOps.ofBits .f32 0#32)) sv (ix2 p l) = -sv (ix2 p l) := by
  pointwise []
  exact zero_sub _

/-- 128 columns turned back. -/
theorem back (c : Dev nD) (t : Fin cfg0.N) (f : ℕ → EReal) (v : FVec Ideal S320x128 .f32) (o : ℕ) (ho : o % 64 = 0) (p : Fin 320) (hv : ∀ l : Fin 128, v (ix2 p l) = f (o + l.val))
    (l : Fin 128) : TURN v (shapeCast S320x128 (iblk m c 3 t) shapeCasts_S320x128_S320x128)
      (subf (broadcast S320x128 (FloatOps.ofBits .f32 0#32)) (shapeCast S320x128 (iblk m c 4 t) shapeCasts_S320x128_S320x128)) (ix2 p l) =
      turned f (C m c) (Host.negf (S m c)) (320 * t.val + p.val) (o + l.val) := by
  refine turns f _ _ _ v _ _ o ho p hv (fun l => (congrFun (shapeCast_self _ _) _).trans (cosines m c t p l)) (fun l => ?_) l
  refine (negated _ p l).trans ((congrArg (fun y : EReal => -y) ((congrFun (shapeCast_self _ _) _).trans (sines m c t p l))).trans ?_)
  rw [tab_neg]
  exact apply_ite (fun y : EReal => -y) _ _ _

theorem qPiece (c : Dev nD) (t : Fin cfg0.N) (o : ℕ) (ho : o % 64 = 0) (ho' : o + 128 ≤ 2048) (inb) (z : S320x128.Idx) :
    truncf .bf16 (mulf (TURN (View.ld (iblk m c 0 t) (Rect.unit (s := S320x2048) ![0, o] S320x128.size inb)) (shapeCast S320x128 (iblk m c 3 t) shapeCasts_S320x128_S320x128)
      (subf (broadcast S320x128 (FloatOps.ofBits .f32 0#32)) (shapeCast S320x128 (iblk m c 4 t) shapeCasts_S320x128_S320x128)))
      (broadcast S320x128 (FloatOps.ofBits FTy.f32 0x3E000000#32))) bitsLt_bf16_f32 z =
      out (DQ m c) (DK m c) (DV m c) (C m c) (S m c) (320 * t.val + (z 0).val) (o + (z 1).val) := by
  have hz : (z 1).val < 128 := (z 1).isLt
  unfold out
  rw [if_pos (by omega)]
  exact congrArg (· * Ideal.ofBits .f32 0x3E000000#32) ((congrArg (TURN _ _ _) (eq_ix2 z)).trans (back m c t _ _ o ho (z 0) (colsQ m c t o ho' inb (z 0)) (z 1)))

theorem kPiece (c : Dev nD) (t : Fin cfg0.N) (e : ℕ) (he : e < 2) (v w : FVec Ideal S320x128 .f32)
    (hv : ∀ p l, v (ix2 p l) = x (DK m c) (320 * t.val + p.val) (256 * e + l.val)) (hw : ∀ p l, w (ix2 p l) = x (DK m c) (320 * t.val + p.val) (256 * e + 128 + l.val))
    (o : ℕ) (ho : o = 2048 + 128 * e) (z : S320x128.Idx) :
    truncf .bf16 (TURN (FOLD v w) (shapeCast S320x128 (iblk m c 3 t) shapeCasts_S320x128_S320x128)
      (subf (broadcast S320x128 (FloatOps.ofBits .f32 0#32)) (shapeCast S320x128 (iblk m c 4 t) shapeCasts_S320x128_S320x128))) bitsLt_bf16_f32 z =
      out (DQ m c) (DK m c) (DV m c) (C m c) (S m c) (320 * t.val + (z 0).val) (o + (z 1).val) := by
  have hz : (z 1).val < 128 := (z 1).isLt
  unfold out
  rw [if_neg (by omega), if_pos (by omega), show o + (z 1).val - 2048 = 128 * e + (z 1).val by omega]
  exact (congrArg (TURN _ _ _) (eq_ix2 z)).trans (back m c t _ _ (128 * e) (by omega) (z 0) (fold _ e v w (z 0) (hv (z 0)) (hw (z 0))) (z 1))

theorem vPiece (c : Dev nD) (t : Fin cfg0.N) (e : ℕ) (he : e < 2) (v w : FVec Ideal S320x128 .f32)
    (hv : ∀ p l, v (ix2 p l) = x (DV m c) (320 * t.val + p.val) (256 * e + l.val)) (hw : ∀ p l, w (ix2 p l) = x (DV m c) (320 * t.val + p.val) (256 * e + 128 + l.val))
    (o : ℕ) (ho : o = 2304 + 128 * e) (z : S320x128.Idx) :
    truncf .bf16 (FOLD v w) bitsLt_bf16_f32 z = out (DQ m c) (DK m c) (DV m c) (C m c) (S m c) (320 * t.val + (z 0).val) (o + (z 1).val) := by
  have hz : (z 1).val < 128 := (z 1).isLt
  unfold out
  rw [if_neg (by omega), if_neg (by omega), show o + (z 1).val - 2304 = 128 * e + (z 1).val by omega]
  exact (congrArg (FOLD v w) (eq_ix2 z)).trans (fold _ e v w (z 0) (hv (z 0)) (hw (z 0)) (z 1))

theorem tile (c : Dev nD) (t : Fin cfg0.N) (y : S320x2560.Idx) : out0_5 (iblk m c 0 t) (iblk m c 1 t) (iblk m c 2 t) (iblk m c 3 t) (iblk m c 4 t) y =
    out (DQ m c) (DK m c) (DV m c) (C m c) (S m c) (320 * t.val + (y 0).val) (y 1).val := by
  canon_tiles z h
  all_goals open_payloads
  all_goals rw [h0, h1]
  · exact vPiece m c t 1 (by decide) _ _ (colsV m c t (256 * 1) (by decide) (by decide)) (colsV m c t (256 * 1 + 128) (by decide) (by decide)) _ rfl z
  · exact kPiece m c t 1 (by decide) _ _ (colsK m c t (256 * 1) (by decide) (by decide)) (colsK m c t (256 * 1 + 128) (by decide) (by decide)) _ rfl z
  · exact vPiece m c t 0 (by decide) _ _ (colsV m c t (256 * 0) (by decide) (by decide)) (colsV m c t (256 * 0 + 128) (by decide) (by decide)) _ rfl z
  · exact kPiece m c t 0 (by decide) _ _ (colsK m c t (256 * 0) (by decide) (by decide)) (colsK m c t (256 * 0 + 128) (by decide) (by decide)) _ rfl z
  all_goals first
    | exact qPiece m c t _ (by decide) (by decide) _ z
    | exact (qPiece m c t 0 (by decide) (by decide) _ z).trans (by rw [Nat.zero_add])

/-- The result array, once every tile is written. -/
theorem final (c : Dev nD) : (dats m 0 c).arrAt 5 (cfgs 0).N = fun y => out (DQ m c) (DK m c) (DV m c) (C m c) (S m c) (y 0).val (y 1).val := by
  refine (dats m 0 c).arrAt_eq_of_covers 5 _ (by decide +kernel) fun t _ y => ?_
  blk_simp
  rw [after0_5]
  refine (tile m c t y).trans ?_
  blk_simp [idx t]
  rw [Nat.mul_comm 320]

end Cert.RopeBackIdeal.Results

namespace Cert.RopeBackRefIdeal.Results

open Cert.RopeBackRefIdeal Cert.RopeBackRefIdeal.Gen Idealize.ShloMosaic Idealize.ShloMosaic.TcCoe
open Cert.RopeIdeal.Results (x tab turned)
open Cert.RopeRefIdeal.Results (split merge TQ TK tq tk)
open Cert.RopeBackIdeal.Results (folded out)

/-- The two halves of each head's columns, added up, as the reference does it. -/
abbrev HALVES (a : FVec Ideal S8320x512 .f32) : FVec Ideal S8320x4x64 .f32 :=
  addf (shapeCast _ (extractStridedSlice S8320x4x1x64 ![0, 0, 0, 0] (shapeCast _ a shapeCasts_S8320x512_S8320x4x2x64) slices_S8320x4x2x64_S8320x4x1x64_0_0_0_0) shapeCasts_S8320x4x1x64_S8320x4x64)
    (shapeCast _ (extractStridedSlice S8320x4x1x64 ![0, 0, 1, 0] (shapeCast _ a shapeCasts_S8320x512_S8320x4x2x64) slices_S8320x4x2x64_S8320x4x1x64_0_0_1_0) shapeCasts_S8320x4x1x64_S8320x4x64)

theorem drop (v : FVec Ideal S8320x4x1x64 .f32) (r : Fin 8320) (j : Fin 4) (l : Fin 64) :
    shapeCast S8320x4x64 v shapeCasts_S8320x4x1x64_S8320x4x64 (ix3 r j l) = v (ix4 r j 0 l) := by
  refine shapeCast_apply _ _ _ _ ?_
  rw [Shape.rowMajor_val_four, Shape.rowMajor_val_three]
  change ((r.val * 4 + j.val) * 1 + 0) * 64 + l.val = (r.val * 4 + j.val) * 64 + l.val
  omega

theorem quarter (a : FVec Ideal S8320x512 .f32) (r : Fin 8320) (j : Fin 4) (k : Fin 2) (l : Fin 64) :
    shapeCast S8320x4x2x64 a shapeCasts_S8320x512_S8320x4x2x64 (ix4 r j k l) = x a r.val (128 * j.val + (64 * k.val + l.val)) := by
  unfold x
  rw [dif_pos (by omega)]
  refine shapeCast_apply _ _ _ _ ?_
  rw [Shape.rowMajor_val_four, Shape.rowMajor_val_two]
  change r.val * 512 + (128 * j.val + (64 * k.val + l.val)) = ((r.val * 4 + j.val) * 2 + k.val) * 64 + l.val
  omega

theorem first (v : FVec Ideal S8320x4x2x64 .f32) (r : Fin 8320) (j : Fin 4) (l : Fin 64) :
    extractStridedSlice S8320x4x1x64 ![0, 0, 0, 0] v slices_S8320x4x2x64_S8320x4x1x64_0_0_0_0 (ix4 r j 0 l) = v (ix4 r j 0 l) := by
  pointwise []
theorem second (v : FVec Ideal S8320x4x2x64 .f32) (r : Fin 8320) (j : Fin 4) (l : Fin 64) :
    extractStridedSlice S8320x4x1x64 ![0, 0, 1, 0] v slices_S8320x4x2x64_S8320x4x1x64_0_0_1_0 (ix4 r j 0 l) = v (ix4 r j 1 l) := by
  pointwise []

theorem halves (a : FVec Ideal S8320x512 .f32) (r : Fin 8320) (j : Fin 4) (l : Fin 64) : HALVES a (ix3 r j l) = folded (x a r.val) (0 + (64 * j.val + l.val)) := by
  refine (congrArg₂ (fun p q : EReal => p + q) ((drop _ r j l).trans ((first _ r j l).trans (quarter a r j 0 l)))
    ((drop _ r j l).trans ((second _ r j l).trans (quarter a r j 1 l)))).trans ?_
  unfold folded
  rw [show (0 + (64 * j.val + l.val)) / 64 = j.val by omega, show (0 + (64 * j.val + l.val)) % 64 = l.val by omega]
  simp

/-- Three arrays side by side. -/
theorem three (u : FVec Ideal S8320x2048 .f32) (v w : FVec Ideal S8320x256 .f32) (r : Fin 8320) (n : Fin 2560) (f : ℕ → EReal)
    (hu : ∀ k : Fin 2048, u (ix2 r k) = f k.val) (hv : ∀ k : Fin 256, v (ix2 r k) = f (2048 + k.val)) (hw : ∀ k : Fin 256, w (ix2 r k) = f (2304 + k.val)) :
    (concatenate S8320x2560 1 [⟨S8320x2048, u⟩, ⟨S8320x256, v⟩, ⟨S8320x256, w⟩] concatenates_S8320x2048_S8320x256_S8320x256_S8320x2560_d1 : FVec Ideal S8320x2560 .f32) (ix2 r n) = f n.val := by
  pointwise []
  split_ifs <;> first
    | exact hu _
    | (refine (hv _).trans (congrArg f ?_); dsimp only <;> omega)
    | (refine (hw _).trans (congrArg f ?_); dsimp only <;> omega)

variable (q : FVec Ideal S8320x2048 .f32) (k v : FVec Ideal S8320x512 .f32) (c s : FVec Ideal S8320x32 .f32)

/-- The reference's result. -/
abbrev INQ : FVec Ideal S8320x32x64 .f32 :=
  mulf (TQ (shapeCast _ q shapeCasts_S8320x2048_S8320x32x64) c (Host.negf s)) (broadcastInDim S8320x32x64 ![] bcast_S_S8320x32x64 (constant S_ .f32 0x3E000000#32))
abbrev REF : FVec Ideal S8320x2560 .bf16 :=
  truncf .bf16 (concatenate S8320x2560 1 [⟨S8320x2048, shapeCast S8320x2048 (INQ q c s) shapeCasts_S8320x32x64_S8320x2048⟩,
    ⟨S8320x256, shapeCast S8320x256 (TK (HALVES k) c (Host.negf s)) shapeCasts_S8320x4x64_S8320x256⟩,
    ⟨S8320x256, shapeCast S8320x256 (HALVES v) shapeCasts_S8320x4x64_S8320x256⟩] concatenates_S8320x2048_S8320x256_S8320x256_S8320x2560_d1 : FVec Ideal S8320x2560 .f32) bitsLt_bf16_f32

theorem heads (r : Fin 8320) (j : Fin 32) (l : Fin 64) :
    shapeCast S8320x32x64 q shapeCasts_S8320x2048_S8320x32x64 (ix3 r j l) = x q r.val (0 + (64 * j.val + l.val)) := by
  refine (split _ _ (by decide) r j l (by omega)).trans ?_
  unfold x
  rw [dif_pos (by omega)]
  exact congrArg (fun n => q (ix2 r n)) (Fin.ext (Nat.zero_add _).symm)

theorem ref : REF q k v c s = fun y => out q k v c s (y 0).val (y 1).val := by
  funext y
  obtain ⟨r, n, rfl⟩ : ∃ r n, y = ix2 r n := ⟨y 0, y 1, eq_ix2 y⟩
  refine three _ _ _ r n (out q k v c s r.val) (fun n => ?_) (fun n => ?_) (fun n => ?_)
  · refine (merge (α := EReal) (INQ q c s) shapeCasts_S8320x32x64_S8320x2048 (by decide) r n (by omega) (by omega)).trans ?_
    unfold out
    rw [if_pos n.isLt]
    refine congrArg (· * Ideal.ofBits .f32 0x3E000000#32) ((tq _ c (Host.negf s) _ 0 (by decide) r (heads q r) _ _).trans ?_)
    exact congrArg (turned _ _ _ _) (show 0 + (64 * (n.val / 64) + n.val % 64) = n.val by omega)
  · refine (merge (α := EReal) (TK (HALVES k) c (Host.negf s)) shapeCasts_S8320x4x64_S8320x256 (by decide) r n (by omega) (by omega)).trans ?_
    unfold out
    rw [if_neg (by omega), if_pos (by omega)]
    refine (tk _ c (Host.negf s) _ 0 (by decide) r (halves k r) _ _).trans ?_
    exact congrArg (turned _ _ _ _) (show 0 + (64 * (n.val / 64) + n.val % 64) = 2048 + n.val - 2048 by omega)
  · refine (merge (α := EReal) (HALVES v) shapeCasts_S8320x4x64_S8320x256 (by decide) r n (by omega) (by omega)).trans ?_
    unfold out
    rw [if_neg (by omega), if_neg (by omega)]
    refine (halves v r _ _).trans ?_
    exact congrArg (folded _) (show 0 + (64 * (n.val / 64) + n.val % 64) = 2304 + n.val - 2304 by omega)

end Cert.RopeBackRefIdeal.Results

namespace Cert.RopeBackIdeal.Results

open Cert.RopeBackIdeal Cert.RopeBackIdeal.Gen Idealize.ShloMosaic Idealize.ShloMosaic.TcCoe Idealize.SL.Sem
open Cert.RopeBackRefIdeal.Results (ref)

/-- Kernel and reference end with the same result. -/
theorem algebraic : Cert.algebraic_RopeBackIdeal_RopeBackRefIdeal := by
  pair_intro
  · run_from run_main m g
  · run_from Cert.RopeBackRefIdeal.Value.run m' g'
    unfold Cert.RopeBackRefIdeal.Value.res_main_v51
    rw [(hagree c).1, (hagree c).2.1, (hagree c).2.2.1, (hagree c).2.2.2.1, (hagree c).2.2.2.2]
    exact (ref _ _ _ _ _).trans (final m c).symm

end Cert.RopeBackIdeal.Results

end
-- ==== Proof.lean ====
/-
# The claims

Each exchange and its reference: both run, leave their arguments as they were and every counter at zero, and end
with the same values, at the exact numbers and at the bits.
-/
module

public import proofs.«01_k».proof.Defs
public import proofs.«01_k».proof.Proof.AllToAllResults
public import proofs.«01_k».proof.Proof.AllToAllRefRun
public import proofs.«01_k».proof.Proof.Gen.AllToAll
public import proofs.«01_k».proof.Proof.Gen.AllToAllRef
public import proofs.«01_k».proof.Proof.GatherResults
public import proofs.«01_k».proof.Proof.GatherRefRun
public import proofs.«01_k».proof.Proof.Gen.Gather
public import proofs.«01_k».proof.Proof.Gen.GatherRef
public import proofs.«01_k».proof.Proof.SmallResults
public import proofs.«01_k».proof.Proof.SmallRefRun
public import proofs.«01_k».proof.Proof.Gen.Small
public import proofs.«01_k».proof.Proof.Gen.SmallRef
public import proofs.«01_k».proof.Proof.StepOutResults
public import proofs.«01_k».proof.Proof.Gen.StepOut.Frame
public import proofs.«01_k».proof.Proof.StepDownResults
public import proofs.«01_k».proof.Proof.Gen.StepDown.Frame
public import proofs.«01_k».proof.Proof.SumInResults
public import proofs.«01_k».proof.Proof.Gen.SumIn.Frame
public import proofs.«01_k».proof.Proof.SumUpResults
public import proofs.«01_k».proof.Proof.Gen.SumUp.Frame
public import proofs.«01_k».proof.Proof.SumQkvResults
public import proofs.«01_k».proof.Proof.Gen.SumQkv.Frame
public import proofs.«01_k».proof.Proof.SumSmallResults
public import proofs.«01_k».proof.Proof.Gen.SumSmall.Frame
public import proofs.«01_k».proof.Proof.StepInResults
public import proofs.«01_k».proof.Proof.Gen.StepIn.Frame
public import proofs.«01_k».proof.Proof.StepUpResults
public import proofs.«01_k».proof.Proof.Gen.StepUp.Frame
public import proofs.«01_k».proof.Proof.StepQkvResults
public import proofs.«01_k».proof.Proof.Gen.StepQkv.Frame
public import proofs.«01_k».proof.Proof.StepMetaResults
public import proofs.«01_k».proof.Proof.Gen.StepMeta.Frame
public import proofs.«01_k».proof.Proof.StepConvResults
public import proofs.«01_k».proof.Proof.Gen.StepConv.Frame
public import proofs.«01_k».proof.Proof.StepGainResults
public import proofs.«01_k».proof.Proof.Gen.StepGain.Frame
public import proofs.«01_k».proof.Proof.StepSinksResults
public import proofs.«01_k».proof.Proof.Gen.StepSinks.Frame
public import proofs.«01_k».proof.Proof.NormResults
public import proofs.«01_k».proof.Proof.Gen.Norm.Frame
public import proofs.«01_k».proof.Proof.ProjUpResults
public import proofs.«01_k».proof.Proof.Gen.ProjUp.Frame
public import proofs.«01_k».proof.Proof.BackDownResults
public import proofs.«01_k».proof.Proof.Gen.BackDown.Frame
public import proofs.«01_k».proof.Proof.ProjInResults
public import proofs.«01_k».proof.Proof.Gen.ProjIn.Frame
public import proofs.«01_k».proof.Proof.BackOResults
public import proofs.«01_k».proof.Proof.Gen.BackO.Frame
public import proofs.«01_k».proof.Proof.ProjQkvResults
public import proofs.«01_k».proof.Proof.Gen.ProjQkv.Frame
public import proofs.«01_k».proof.Proof.BackOutResults
public import proofs.«01_k».proof.Proof.Gen.BackOut.Frame
public import proofs.«01_k».proof.Proof.GradDownResults
public import proofs.«01_k».proof.Proof.Gen.GradDown.Frame
public import proofs.«01_k».proof.Proof.GradUpResults
public import proofs.«01_k».proof.Proof.Gen.GradUp.Frame
public import proofs.«01_k».proof.Proof.GradInResults
public import proofs.«01_k».proof.Proof.Gen.GradIn.Frame
public import proofs.«01_k».proof.Proof.GradQkvResults
public import proofs.«01_k».proof.Proof.Gen.GradQkv.Frame
public import proofs.«01_k».proof.Proof.GradOResults
public import proofs.«01_k».proof.Proof.Gen.GradO.Frame
public import proofs.«01_k».proof.Proof.RowOutResults
public import proofs.«01_k».proof.Proof.Gen.RowOut.Frame
public import proofs.«01_k».proof.Proof.RowDownResults
public import proofs.«01_k».proof.Proof.Gen.RowDown.Frame
public import proofs.«01_k».proof.Proof.RowLastResults
public import proofs.«01_k».proof.Proof.Gen.RowLast.Frame
public import proofs.«01_k».proof.Proof.RowUpResults
public import proofs.«01_k».proof.Proof.Gen.RowUp.Frame
public import proofs.«01_k».proof.Proof.RowQkvResults
public import proofs.«01_k».proof.Proof.Gen.RowQkv.Frame
public import proofs.«01_k».proof.Proof.RowInResults
public import proofs.«01_k».proof.Proof.Gen.RowIn.Frame
public import proofs.«01_k».proof.Proof.LossResults
public import proofs.«01_k».proof.Proof.Gen.Loss.Frame
public import proofs.«01_k».proof.Proof.ConvResults
public import proofs.«01_k».proof.Proof.Gen.Conv.Frame
public import proofs.«01_k».proof.Proof.ConvBackResults
public import proofs.«01_k».proof.Proof.Gen.ConvBack.Frame
public import proofs.«01_k».proof.Proof.RopeResults
public import proofs.«01_k».proof.Proof.Gen.Rope.Frame
public import proofs.«01_k».proof.Proof.RopeBackResults
public import proofs.«01_k».proof.Proof.Gen.RopeBack.Frame

@[expose] public section

noncomputable section

namespace Cert.Proof

open Idealize.ShloMosaic Idealize.SL.Sem

/-! ## The all-to-all -/

theorem frame_allToAllIdeal : Cert.quiescent_AllToAllIdeal := fun m g _ => Cert.AllToAllIdeal.quiet m g

/-- The same text at the bits. -/
theorem frame_allToAll : Cert.quiescent_AllToAll := fun m g _ =>
  (θ_run Cert.AllToAllIdeal.defs _ _).mono (fun _ h => h) (Cert.AllToAllIdeal.quiet (F := Bits) m g)

theorem frame_allToAllRefIdeal : Cert.quiescent_AllToAllRefIdeal := fun m g _ =>
  (θ_run Cert.AllToAllRefIdeal.defs _ _).mono (fun _ h => ⟨fun c => (h.1 c).2.2.2.2.2.2.2.2, h.2⟩) (Cert.AllToAllRefIdeal.run m g)

theorem frame_allToAllRef : Cert.quiescent_AllToAllRef := fun m g _ =>
  (θ_run Cert.AllToAllRefIdeal.defs _ _).mono (fun _ h => ⟨fun c => (h.1 c).2.2.2.2.2.2.2.2, h.2⟩) (Cert.AllToAllRefIdeal.run (F := Bits) m g)

theorem algebraic_allToAll : Cert.algebraic_AllToAllIdeal_AllToAllRefIdeal := fun m g m' g' _ h =>
  ⟨_, _, _, _, _, _, _, _, Cert.AllToAllIdeal.results m g _ _ _ _ _ _ _ _ h,
    (θ_run Cert.AllToAllRefIdeal.defs _ _).mono (fun _ h => h.1 0) (Cert.AllToAllRefIdeal.run m' g')⟩

theorem bitexact_allToAll : Cert.bitexact_AllToAll_AllToAllRef := fun m g m' g' _ h =>
  ⟨_, _, _, _, _, _, _, _, (θ_run Cert.AllToAllIdeal.defs _ _).mono (fun _ h => h) (Cert.AllToAllIdeal.results (F := Bits) m g _ _ _ _ _ _ _ _ h),
    (θ_run Cert.AllToAllRefIdeal.defs _ _).mono (fun _ h => h.1 0) (Cert.AllToAllRefIdeal.run (F := Bits) m' g')⟩

/-! ## The gather of the weights -/

theorem frame_gatherIdeal : Cert.quiescent_GatherIdeal := fun m g _ => Cert.GatherIdeal.quiet m g

/-- The same text at the bits. -/
theorem frame_gather : Cert.quiescent_Gather := fun m g _ =>
  (θ_run Cert.GatherIdeal.defs _ _).mono (fun _ h => h) (Cert.GatherIdeal.quiet (F := Bits) m g)

theorem frame_gatherRefIdeal : Cert.quiescent_GatherRefIdeal := fun m g _ =>
  (θ_run Cert.GatherRefIdeal.defs _ _).mono (fun _ h => ⟨fun c => (h.1 c).2.2.2.2.2.2.2.2.2.2, h.2⟩) (Cert.GatherRefIdeal.run m g)

theorem frame_gatherRef : Cert.quiescent_GatherRef := fun m g _ =>
  (θ_run Cert.GatherRefIdeal.defs _ _).mono (fun _ h => ⟨fun c => (h.1 c).2.2.2.2.2.2.2.2.2.2, h.2⟩) (Cert.GatherRefIdeal.run (F := Bits) m g)

theorem algebraic_gather : Cert.algebraic_GatherIdeal_GatherRefIdeal := fun m g m' g' _ h =>
  ⟨_, _, _, _, _, _, _, _, _, _, Cert.GatherIdeal.results m g _ _ _ _ _ _ _ _ _ _ h,
    (θ_run Cert.GatherRefIdeal.defs _ _).mono (fun _ h => h.1 0) (Cert.GatherRefIdeal.run m' g')⟩

theorem bitexact_gather : Cert.bitexact_Gather_GatherRef := fun m g m' g' _ h =>
  ⟨_, _, _, _, _, _, _, _, _, _, (θ_run Cert.GatherIdeal.defs _ _).mono (fun _ h => h) (Cert.GatherIdeal.results (F := Bits) m g _ _ _ _ _ _ _ _ _ _ h),
    (θ_run Cert.GatherRefIdeal.defs _ _).mono (fun _ h => h.1 0) (Cert.GatherRefIdeal.run (F := Bits) m' g')⟩

/-! ## The gather of the small gradients -/

theorem frame_smallIdeal : Cert.quiescent_SmallIdeal := fun m g _ => Cert.SmallIdeal.quiet m g

/-- The same text at the bits. -/
theorem frame_small : Cert.quiescent_Small := fun m g _ =>
  (θ_run Cert.SmallIdeal.defs _ _).mono (fun _ h => h) (Cert.SmallIdeal.quiet (F := Bits) m g)

theorem frame_smallRefIdeal : Cert.quiescent_SmallRefIdeal := fun m g _ =>
  (θ_run Cert.SmallRefIdeal.defs _ _).mono (fun _ h => ⟨fun c => (h.1 c).2, h.2⟩) (Cert.SmallRefIdeal.run m g)

theorem frame_smallRef : Cert.quiescent_SmallRef := fun m g _ =>
  (θ_run Cert.SmallRefIdeal.defs _ _).mono (fun _ h => ⟨fun c => (h.1 c).2, h.2⟩) (Cert.SmallRefIdeal.run (F := Bits) m g)

theorem algebraic_small : Cert.algebraic_SmallIdeal_SmallRefIdeal := fun m g m' g' _ h =>
  ⟨_, Cert.SmallIdeal.results m g _ h,
    (θ_run Cert.SmallRefIdeal.defs _ _).mono (fun _ h => h.1 0) (Cert.SmallRefIdeal.run m' g')⟩

theorem bitexact_small : Cert.bitexact_Small_SmallRef := fun m g m' g' _ h =>
  ⟨_, (θ_run Cert.SmallIdeal.defs _ _).mono (fun _ h => h) (Cert.SmallIdeal.results (F := Bits) m g _ h),
    (θ_run Cert.SmallRefIdeal.defs _ _).mono (fun _ h => h.1 0) (Cert.SmallRefIdeal.run (F := Bits) m' g')⟩

/-! ## The optimizer's calls -/

theorem frame_stepOutRefIdeal : Cert.quiescent_StepOutRefIdeal := fun m g _ =>
  (θ_run Cert.StepOutRefIdeal.defs _ _).mono (fun r h => ⟨fun c => (h c).2.2.2.2,
      Idealize.ShloMosaic.sem_eq_zero_of_no_sems (by decide) r.2⟩)
    (Cert.StepOutRefIdeal.Value.run (F := Ideal) m g)

theorem frame_stepDownRefIdeal : Cert.quiescent_StepDownRefIdeal := fun m g _ =>
  (θ_run Cert.StepDownRefIdeal.defs _ _).mono (fun r h => ⟨fun c => (h c).2.2.2.2,
      Idealize.ShloMosaic.sem_eq_zero_of_no_sems (by decide) r.2⟩)
    (Cert.StepDownRefIdeal.Value.run (F := Ideal) m g)

theorem frame_sumInRefIdeal : Cert.quiescent_SumInRefIdeal := fun m g _ =>
  (θ_run Cert.SumInRefIdeal.defs _ _).mono (fun r h => ⟨fun c => (h c).2,
      Idealize.ShloMosaic.sem_eq_zero_of_no_sems (by decide) r.2⟩)
    (Cert.SumInRefIdeal.Value.run (F := Ideal) m g)

theorem frame_sumUpRefIdeal : Cert.quiescent_SumUpRefIdeal := fun m g _ =>
  (θ_run Cert.SumUpRefIdeal.defs _ _).mono (fun r h => ⟨fun c => (h c).2,
      Idealize.ShloMosaic.sem_eq_zero_of_no_sems (by decide) r.2⟩)
    (Cert.SumUpRefIdeal.Value.run (F := Ideal) m g)

theorem frame_sumQkvRefIdeal : Cert.quiescent_SumQkvRefIdeal := fun m g _ =>
  (θ_run Cert.SumQkvRefIdeal.defs _ _).mono (fun r h => ⟨fun c => (h c).2,
      Idealize.ShloMosaic.sem_eq_zero_of_no_sems (by decide) r.2⟩)
    (Cert.SumQkvRefIdeal.Value.run (F := Ideal) m g)

theorem frame_sumSmallRefIdeal : Cert.quiescent_SumSmallRefIdeal := fun m g _ =>
  (θ_run Cert.SumSmallRefIdeal.defs _ _).mono (fun r h => ⟨fun c => (h c).2,
      Idealize.ShloMosaic.sem_eq_zero_of_no_sems (by decide) r.2⟩)
    (Cert.SumSmallRefIdeal.Value.run (F := Ideal) m g)

theorem frame_stepInRefIdeal : Cert.quiescent_StepInRefIdeal := fun m g _ =>
  (θ_run Cert.StepInRefIdeal.defs _ _).mono (fun r h => ⟨fun c => (h c).2.2.2.2,
      Idealize.ShloMosaic.sem_eq_zero_of_no_sems (by decide) r.2⟩)
    (Cert.StepInRefIdeal.Value.run (F := Ideal) m g)

theorem frame_stepUpRefIdeal : Cert.quiescent_StepUpRefIdeal := fun m g _ =>
  (θ_run Cert.StepUpRefIdeal.defs _ _).mono (fun r h => ⟨fun c => (h c).2.2.2.2,
      Idealize.ShloMosaic.sem_eq_zero_of_no_sems (by decide) r.2⟩)
    (Cert.StepUpRefIdeal.Value.run (F := Ideal) m g)

theorem frame_stepQkvRefIdeal : Cert.quiescent_StepQkvRefIdeal := fun m g _ =>
  (θ_run Cert.StepQkvRefIdeal.defs _ _).mono (fun r h => ⟨fun c => (h c).2.2.2.2,
      Idealize.ShloMosaic.sem_eq_zero_of_no_sems (by decide) r.2⟩)
    (Cert.StepQkvRefIdeal.Value.run (F := Ideal) m g)

theorem frame_stepMetaRefIdeal : Cert.quiescent_StepMetaRefIdeal := fun m g _ =>
  (θ_run Cert.StepMetaRefIdeal.defs _ _).mono (fun r h => ⟨fun c => (h c).2.2.2.2,
      Idealize.ShloMosaic.sem_eq_zero_of_no_sems (by decide) r.2⟩)
    (Cert.StepMetaRefIdeal.Value.run (F := Ideal) m g)

theorem frame_stepConvRefIdeal : Cert.quiescent_StepConvRefIdeal := fun m g _ =>
  (θ_run Cert.StepConvRefIdeal.defs _ _).mono (fun r h => ⟨fun c => (h c).2.2.2.2,
      Idealize.ShloMosaic.sem_eq_zero_of_no_sems (by decide) r.2⟩)
    (Cert.StepConvRefIdeal.Value.run (F := Ideal) m g)

theorem frame_stepGainRefIdeal : Cert.quiescent_StepGainRefIdeal := fun m g _ =>
  (θ_run Cert.StepGainRefIdeal.defs _ _).mono (fun r h => ⟨fun c => (h c).2.2.2.2,
      Idealize.ShloMosaic.sem_eq_zero_of_no_sems (by decide) r.2⟩)
    (Cert.StepGainRefIdeal.Value.run (F := Ideal) m g)

theorem frame_stepSinksRefIdeal : Cert.quiescent_StepSinksRefIdeal := fun m g _ =>
  (θ_run Cert.StepSinksRefIdeal.defs _ _).mono (fun r h => ⟨fun c => (h c).2.2.2.2,
      Idealize.ShloMosaic.sem_eq_zero_of_no_sems (by decide) r.2⟩)
    (Cert.StepSinksRefIdeal.Value.run (F := Ideal) m g)

/-! ## The forward and backward calls -/

theorem frame_normRefIdeal : Cert.quiescent_NormRefIdeal := fun m g _ =>
  (θ_run Cert.NormRefIdeal.defs _ _).mono (fun r h => ⟨fun c => (h c).2,
      Idealize.ShloMosaic.sem_eq_zero_of_no_sems (by decide) r.2⟩)
    (Cert.NormRefIdeal.Value.run (F := Ideal) m g)

theorem frame_projUpRefIdeal : Cert.quiescent_ProjUpRefIdeal := fun m g _ =>
  (θ_run Cert.ProjUpRefIdeal.defs _ _).mono (fun r h => ⟨fun c => (h c).2,
      Idealize.ShloMosaic.sem_eq_zero_of_no_sems (by decide) r.2⟩)
    (Cert.ProjUpRefIdeal.Value.run (F := Ideal) m g)

theorem frame_backDownRefIdeal : Cert.quiescent_BackDownRefIdeal := fun m g _ =>
  (θ_run Cert.BackDownRefIdeal.defs _ _).mono (fun r h => ⟨fun c => (h c).2,
      Idealize.ShloMosaic.sem_eq_zero_of_no_sems (by decide) r.2⟩)
    (Cert.BackDownRefIdeal.Value.run (F := Ideal) m g)

theorem frame_projInRefIdeal : Cert.quiescent_ProjInRefIdeal := fun m g _ =>
  (θ_run Cert.ProjInRefIdeal.defs _ _).mono (fun r h => ⟨fun c => (h c).2,
      Idealize.ShloMosaic.sem_eq_zero_of_no_sems (by decide) r.2⟩)
    (Cert.ProjInRefIdeal.Value.run (F := Ideal) m g)

theorem frame_backORefIdeal : Cert.quiescent_BackORefIdeal := fun m g _ =>
  (θ_run Cert.BackORefIdeal.defs _ _).mono (fun r h => ⟨fun c => (h c).2,
      Idealize.ShloMosaic.sem_eq_zero_of_no_sems (by decide) r.2⟩)
    (Cert.BackORefIdeal.Value.run (F := Ideal) m g)

theorem frame_projQkvRefIdeal : Cert.quiescent_ProjQkvRefIdeal := fun m g _ =>
  (θ_run Cert.ProjQkvRefIdeal.defs _ _).mono (fun r h => ⟨fun c => (h c).2,
      Idealize.ShloMosaic.sem_eq_zero_of_no_sems (by decide) r.2⟩)
    (Cert.ProjQkvRefIdeal.Value.run (F := Ideal) m g)

theorem frame_backOutRefIdeal : Cert.quiescent_BackOutRefIdeal := fun m g _ =>
  (θ_run Cert.BackOutRefIdeal.defs _ _).mono (fun r h => ⟨fun c => (h c).2,
      Idealize.ShloMosaic.sem_eq_zero_of_no_sems (by decide) r.2⟩)
    (Cert.BackOutRefIdeal.Value.run (F := Ideal) m g)

theorem frame_gradDownRefIdeal : Cert.quiescent_GradDownRefIdeal := fun m g _ =>
  (θ_run Cert.GradDownRefIdeal.defs _ _).mono (fun r h => ⟨fun c => (h c).2,
      Idealize.ShloMosaic.sem_eq_zero_of_no_sems (by decide) r.2⟩)
    (Cert.GradDownRefIdeal.Value.run (F := Ideal) m g)

theorem frame_gradUpRefIdeal : Cert.quiescent_GradUpRefIdeal := fun m g _ =>
  (θ_run Cert.GradUpRefIdeal.defs _ _).mono (fun r h => ⟨fun c => (h c).2,
      Idealize.ShloMosaic.sem_eq_zero_of_no_sems (by decide) r.2⟩)
    (Cert.GradUpRefIdeal.Value.run (F := Ideal) m g)

theorem frame_gradInRefIdeal : Cert.quiescent_GradInRefIdeal := fun m g _ =>
  (θ_run Cert.GradInRefIdeal.defs _ _).mono (fun r h => ⟨fun c => (h c).2,
      Idealize.ShloMosaic.sem_eq_zero_of_no_sems (by decide) r.2⟩)
    (Cert.GradInRefIdeal.Value.run (F := Ideal) m g)

theorem frame_gradQkvRefIdeal : Cert.quiescent_GradQkvRefIdeal := fun m g _ =>
  (θ_run Cert.GradQkvRefIdeal.defs _ _).mono (fun r h => ⟨fun c => (h c).2,
      Idealize.ShloMosaic.sem_eq_zero_of_no_sems (by decide) r.2⟩)
    (Cert.GradQkvRefIdeal.Value.run (F := Ideal) m g)

theorem frame_gradORefIdeal : Cert.quiescent_GradORefIdeal := fun m g _ =>
  (θ_run Cert.GradORefIdeal.defs _ _).mono (fun r h => ⟨fun c => (h c).2,
      Idealize.ShloMosaic.sem_eq_zero_of_no_sems (by decide) r.2⟩)
    (Cert.GradORefIdeal.Value.run (F := Ideal) m g)

theorem frame_rowOutRefIdeal : Cert.quiescent_RowOutRefIdeal := fun m g _ =>
  (θ_run Cert.RowOutRefIdeal.defs _ _).mono (fun r h => ⟨fun c => (h c).2.2,
      Idealize.ShloMosaic.sem_eq_zero_of_no_sems (by decide) r.2⟩)
    (Cert.RowOutRefIdeal.Value.run (F := Ideal) m g)

theorem frame_rowDownRefIdeal : Cert.quiescent_RowDownRefIdeal := fun m g _ =>
  (θ_run Cert.RowDownRefIdeal.defs _ _).mono (fun r h => ⟨fun c => (h c).2.2,
      Idealize.ShloMosaic.sem_eq_zero_of_no_sems (by decide) r.2⟩)
    (Cert.RowDownRefIdeal.Value.run (F := Ideal) m g)

theorem frame_rowLastRefIdeal : Cert.quiescent_RowLastRefIdeal := fun m g _ =>
  (θ_run Cert.RowLastRefIdeal.defs _ _).mono (fun r h => ⟨fun c => (h c).2,
      Idealize.ShloMosaic.sem_eq_zero_of_no_sems (by decide) r.2⟩)
    (Cert.RowLastRefIdeal.Value.run (F := Ideal) m g)

theorem frame_rowUpRefIdeal : Cert.quiescent_RowUpRefIdeal := fun m g _ =>
  (θ_run Cert.RowUpRefIdeal.defs _ _).mono (fun r h => ⟨fun c => (h c).2.2.2,
      Idealize.ShloMosaic.sem_eq_zero_of_no_sems (by decide) r.2⟩)
    (Cert.RowUpRefIdeal.Value.run (F := Ideal) m g)

theorem frame_rowQkvRefIdeal : Cert.quiescent_RowQkvRefIdeal := fun m g _ =>
  (θ_run Cert.RowQkvRefIdeal.defs _ _).mono (fun r h => ⟨fun c => (h c).2.2.2,
      Idealize.ShloMosaic.sem_eq_zero_of_no_sems (by decide) r.2⟩)
    (Cert.RowQkvRefIdeal.Value.run (F := Ideal) m g)

theorem frame_rowInRefIdeal : Cert.quiescent_RowInRefIdeal := fun m g _ =>
  (θ_run Cert.RowInRefIdeal.defs _ _).mono (fun r h => ⟨fun c => (h c).2.2.2,
      Idealize.ShloMosaic.sem_eq_zero_of_no_sems (by decide) r.2⟩)
    (Cert.RowInRefIdeal.Value.run (F := Ideal) m g)

theorem frame_lossRefIdeal : Cert.quiescent_LossRefIdeal := fun m g _ =>
  (θ_run Cert.LossRefIdeal.defs _ _).mono (fun r h => ⟨fun c => (h c).2.2.2.2,
      Idealize.ShloMosaic.sem_eq_zero_of_no_sems (by decide) r.2⟩)
    (Cert.LossRefIdeal.Value.run (F := Ideal) m g)

theorem frame_convRefIdeal : Cert.quiescent_ConvRefIdeal := fun m g _ =>
  (θ_run Cert.ConvRefIdeal.defs _ _).mono (fun r h => ⟨fun c => (h c).2,
      Idealize.ShloMosaic.sem_eq_zero_of_no_sems (by decide) r.2⟩)
    (Cert.ConvRefIdeal.Value.run (F := Ideal) m g)

theorem frame_convBackRefIdeal : Cert.quiescent_ConvBackRefIdeal := fun m g _ =>
  (θ_run Cert.ConvBackRefIdeal.defs _ _).mono (fun r h => ⟨fun c => (h c).2.2.2.2,
      Idealize.ShloMosaic.sem_eq_zero_of_no_sems (by decide) r.2⟩)
    (Cert.ConvBackRefIdeal.Value.run (F := Ideal) m g)

theorem frame_ropeRefIdeal : Cert.quiescent_RopeRefIdeal := fun m g _ =>
  (θ_run Cert.RopeRefIdeal.defs _ _).mono (fun r h => ⟨fun c => (h c).2.2.2,
      Idealize.ShloMosaic.sem_eq_zero_of_no_sems (by decide) r.2⟩)
    (Cert.RopeRefIdeal.Value.run (F := Ideal) m g)

theorem frame_ropeBackRefIdeal : Cert.quiescent_RopeBackRefIdeal := fun m g _ =>
  (θ_run Cert.RopeBackRefIdeal.defs _ _).mono (fun r h => ⟨fun c => (h c).2,
      Idealize.ShloMosaic.sem_eq_zero_of_no_sems (by decide) r.2⟩)
    (Cert.RopeBackRefIdeal.Value.run (F := Ideal) m g)

theorem claim : Cert.Claim :=
  ⟨Cert.AllToAll.Gen.facts, Cert.AllToAllIdeal.Gen.facts, Cert.AllToAllRefIdeal.Gen.facts, Cert.AllToAllRef.Gen.facts,
    Cert.Gather.Gen.facts, Cert.GatherIdeal.Gen.facts, Cert.GatherRefIdeal.Gen.facts, Cert.GatherRef.Gen.facts,
    Cert.Small.Gen.facts, Cert.SmallIdeal.Gen.facts, Cert.SmallRefIdeal.Gen.facts, Cert.SmallRef.Gen.facts,
    Cert.StepOut.Gen.facts, Cert.StepOutIdeal.Gen.facts, Cert.StepOutRefIdeal.Gen.facts,
    Cert.StepDown.Gen.facts, Cert.StepDownIdeal.Gen.facts, Cert.StepDownRefIdeal.Gen.facts,
    Cert.SumIn.Gen.facts, Cert.SumInIdeal.Gen.facts, Cert.SumInRefIdeal.Gen.facts,
    Cert.SumUp.Gen.facts, Cert.SumUpIdeal.Gen.facts, Cert.SumUpRefIdeal.Gen.facts,
    Cert.SumQkv.Gen.facts, Cert.SumQkvIdeal.Gen.facts, Cert.SumQkvRefIdeal.Gen.facts,
    Cert.SumSmall.Gen.facts, Cert.SumSmallIdeal.Gen.facts, Cert.SumSmallRefIdeal.Gen.facts,
    Cert.StepIn.Gen.facts, Cert.StepInIdeal.Gen.facts, Cert.StepInRefIdeal.Gen.facts,
    Cert.StepUp.Gen.facts, Cert.StepUpIdeal.Gen.facts, Cert.StepUpRefIdeal.Gen.facts,
    Cert.StepQkv.Gen.facts, Cert.StepQkvIdeal.Gen.facts, Cert.StepQkvRefIdeal.Gen.facts,
    Cert.StepMeta.Gen.facts, Cert.StepMetaIdeal.Gen.facts, Cert.StepMetaRefIdeal.Gen.facts,
    Cert.StepConv.Gen.facts, Cert.StepConvIdeal.Gen.facts, Cert.StepConvRefIdeal.Gen.facts,
    Cert.StepGain.Gen.facts, Cert.StepGainIdeal.Gen.facts, Cert.StepGainRefIdeal.Gen.facts,
    Cert.StepSinks.Gen.facts, Cert.StepSinksIdeal.Gen.facts, Cert.StepSinksRefIdeal.Gen.facts,
    Cert.Norm.Gen.facts, Cert.NormIdeal.Gen.facts, Cert.NormRefIdeal.Gen.facts,
    Cert.ProjUp.Gen.facts, Cert.ProjUpIdeal.Gen.facts, Cert.ProjUpRefIdeal.Gen.facts,
    Cert.BackDown.Gen.facts, Cert.BackDownIdeal.Gen.facts, Cert.BackDownRefIdeal.Gen.facts,
    Cert.ProjIn.Gen.facts, Cert.ProjInIdeal.Gen.facts, Cert.ProjInRefIdeal.Gen.facts,
    Cert.BackO.Gen.facts, Cert.BackOIdeal.Gen.facts, Cert.BackORefIdeal.Gen.facts,
    Cert.ProjQkv.Gen.facts, Cert.ProjQkvIdeal.Gen.facts, Cert.ProjQkvRefIdeal.Gen.facts,
    Cert.BackOut.Gen.facts, Cert.BackOutIdeal.Gen.facts, Cert.BackOutRefIdeal.Gen.facts,
    Cert.GradDown.Gen.facts, Cert.GradDownIdeal.Gen.facts, Cert.GradDownRefIdeal.Gen.facts,
    Cert.GradUp.Gen.facts, Cert.GradUpIdeal.Gen.facts, Cert.GradUpRefIdeal.Gen.facts,
    Cert.GradIn.Gen.facts, Cert.GradInIdeal.Gen.facts, Cert.GradInRefIdeal.Gen.facts,
    Cert.GradQkv.Gen.facts, Cert.GradQkvIdeal.Gen.facts, Cert.GradQkvRefIdeal.Gen.facts,
    Cert.GradO.Gen.facts, Cert.GradOIdeal.Gen.facts, Cert.GradORefIdeal.Gen.facts,
    Cert.RowOut.Gen.facts, Cert.RowOutIdeal.Gen.facts, Cert.RowOutRefIdeal.Gen.facts,
    Cert.RowDown.Gen.facts, Cert.RowDownIdeal.Gen.facts, Cert.RowDownRefIdeal.Gen.facts,
    Cert.RowLast.Gen.facts, Cert.RowLastIdeal.Gen.facts, Cert.RowLastRefIdeal.Gen.facts,
    Cert.RowUp.Gen.facts, Cert.RowUpIdeal.Gen.facts, Cert.RowUpRefIdeal.Gen.facts,
    Cert.RowQkv.Gen.facts, Cert.RowQkvIdeal.Gen.facts, Cert.RowQkvRefIdeal.Gen.facts,
    Cert.RowIn.Gen.facts, Cert.RowInIdeal.Gen.facts, Cert.RowInRefIdeal.Gen.facts,
    Cert.Loss.Gen.facts, Cert.LossIdeal.Gen.facts, Cert.LossRefIdeal.Gen.facts,
    Cert.Conv.Gen.facts, Cert.ConvIdeal.Gen.facts, Cert.ConvRefIdeal.Gen.facts,
    Cert.ConvBack.Gen.facts, Cert.ConvBackIdeal.Gen.facts, Cert.ConvBackRefIdeal.Gen.facts,
    Cert.Rope.Gen.facts, Cert.RopeIdeal.Gen.facts, Cert.RopeRefIdeal.Gen.facts,
    Cert.RopeBack.Gen.facts, Cert.RopeBackIdeal.Gen.facts, Cert.RopeBackRefIdeal.Gen.facts,
    frame_allToAll, frame_allToAllIdeal, frame_allToAllRefIdeal, frame_allToAllRef,
    frame_gather, frame_gatherIdeal, frame_gatherRefIdeal, frame_gatherRef,
    frame_small, frame_smallIdeal, frame_smallRefIdeal, frame_smallRef,
    fun m g _ => Cert.StepOut.Gen.frame m g, fun m g _ => Cert.StepOutIdeal.Gen.frame m g, frame_stepOutRefIdeal,
    fun m g _ => Cert.StepDown.Gen.frame m g, fun m g _ => Cert.StepDownIdeal.Gen.frame m g, frame_stepDownRefIdeal,
    fun m g _ => Cert.SumIn.Gen.frame m g, fun m g _ => Cert.SumInIdeal.Gen.frame m g, frame_sumInRefIdeal,
    fun m g _ => Cert.SumUp.Gen.frame m g, fun m g _ => Cert.SumUpIdeal.Gen.frame m g, frame_sumUpRefIdeal,
    fun m g _ => Cert.SumQkv.Gen.frame m g, fun m g _ => Cert.SumQkvIdeal.Gen.frame m g, frame_sumQkvRefIdeal,
    fun m g _ => Cert.SumSmall.Gen.frame m g, fun m g _ => Cert.SumSmallIdeal.Gen.frame m g, frame_sumSmallRefIdeal,
    fun m g _ => Cert.StepIn.Gen.frame m g, fun m g _ => Cert.StepInIdeal.Gen.frame m g, frame_stepInRefIdeal,
    fun m g _ => Cert.StepUp.Gen.frame m g, fun m g _ => Cert.StepUpIdeal.Gen.frame m g, frame_stepUpRefIdeal,
    fun m g _ => Cert.StepQkv.Gen.frame m g, fun m g _ => Cert.StepQkvIdeal.Gen.frame m g, frame_stepQkvRefIdeal,
    fun m g _ => Cert.StepMeta.Gen.frame m g, fun m g _ => Cert.StepMetaIdeal.Gen.frame m g, frame_stepMetaRefIdeal,
    fun m g _ => Cert.StepConv.Gen.frame m g, fun m g _ => Cert.StepConvIdeal.Gen.frame m g, frame_stepConvRefIdeal,
    fun m g _ => Cert.StepGain.Gen.frame m g, fun m g _ => Cert.StepGainIdeal.Gen.frame m g, frame_stepGainRefIdeal,
    fun m g _ => Cert.StepSinks.Gen.frame m g, fun m g _ => Cert.StepSinksIdeal.Gen.frame m g, frame_stepSinksRefIdeal,
    fun m g _ => Cert.Norm.Gen.frame m g, fun m g _ => Cert.NormIdeal.Gen.frame m g, frame_normRefIdeal,
    fun m g _ => Cert.ProjUp.Gen.frame m g, fun m g _ => Cert.ProjUpIdeal.Gen.frame m g, frame_projUpRefIdeal,
    fun m g _ => Cert.BackDown.Gen.frame m g, fun m g _ => Cert.BackDownIdeal.Gen.frame m g, frame_backDownRefIdeal,
    fun m g _ => Cert.ProjIn.Gen.frame m g, fun m g _ => Cert.ProjInIdeal.Gen.frame m g, frame_projInRefIdeal,
    fun m g _ => Cert.BackO.Gen.frame m g, fun m g _ => Cert.BackOIdeal.Gen.frame m g, frame_backORefIdeal,
    fun m g _ => Cert.ProjQkv.Gen.frame m g, fun m g _ => Cert.ProjQkvIdeal.Gen.frame m g, frame_projQkvRefIdeal,
    fun m g _ => Cert.BackOut.Gen.frame m g, fun m g _ => Cert.BackOutIdeal.Gen.frame m g, frame_backOutRefIdeal,
    fun m g _ => Cert.GradDown.Gen.frame m g, fun m g _ => Cert.GradDownIdeal.Gen.frame m g, frame_gradDownRefIdeal,
    fun m g _ => Cert.GradUp.Gen.frame m g, fun m g _ => Cert.GradUpIdeal.Gen.frame m g, frame_gradUpRefIdeal,
    fun m g _ => Cert.GradIn.Gen.frame m g, fun m g _ => Cert.GradInIdeal.Gen.frame m g, frame_gradInRefIdeal,
    fun m g _ => Cert.GradQkv.Gen.frame m g, fun m g _ => Cert.GradQkvIdeal.Gen.frame m g, frame_gradQkvRefIdeal,
    fun m g _ => Cert.GradO.Gen.frame m g, fun m g _ => Cert.GradOIdeal.Gen.frame m g, frame_gradORefIdeal,
    fun m g _ => Cert.RowOut.Gen.frame m g, fun m g _ => Cert.RowOutIdeal.Gen.frame m g, frame_rowOutRefIdeal,
    fun m g _ => Cert.RowDown.Gen.frame m g, fun m g _ => Cert.RowDownIdeal.Gen.frame m g, frame_rowDownRefIdeal,
    fun m g _ => Cert.RowLast.Gen.frame m g, fun m g _ => Cert.RowLastIdeal.Gen.frame m g, frame_rowLastRefIdeal,
    fun m g _ => Cert.RowUp.Gen.frame m g, fun m g _ => Cert.RowUpIdeal.Gen.frame m g, frame_rowUpRefIdeal,
    fun m g _ => Cert.RowQkv.Gen.frame m g, fun m g _ => Cert.RowQkvIdeal.Gen.frame m g, frame_rowQkvRefIdeal,
    fun m g _ => Cert.RowIn.Gen.frame m g, fun m g _ => Cert.RowInIdeal.Gen.frame m g, frame_rowInRefIdeal,
    fun m g _ => Cert.Loss.Gen.frame m g, fun m g _ => Cert.LossIdeal.Gen.frame m g, frame_lossRefIdeal,
    fun m g _ => Cert.Conv.Gen.frame m g, fun m g _ => Cert.ConvIdeal.Gen.frame m g, frame_convRefIdeal,
    fun m g _ => Cert.ConvBack.Gen.frame m g, fun m g _ => Cert.ConvBackIdeal.Gen.frame m g, frame_convBackRefIdeal,
    fun m g _ => Cert.Rope.Gen.frame m g, fun m g _ => Cert.RopeIdeal.Gen.frame m g, frame_ropeRefIdeal,
    fun m g _ => Cert.RopeBack.Gen.frame m g, fun m g _ => Cert.RopeBackIdeal.Gen.frame m g, frame_ropeBackRefIdeal,
    trivial, algebraic_allToAll, bitexact_allToAll,
    trivial, algebraic_gather, bitexact_gather,
    trivial, algebraic_small, bitexact_small,
    trivial, Cert.StepOutIdeal.Results.algebraic,
    trivial, Cert.StepDownIdeal.Results.algebraic,
    trivial, Cert.SumInIdeal.Results.algebraic,
    trivial, Cert.SumUpIdeal.Results.algebraic,
    trivial, Cert.SumQkvIdeal.Results.algebraic,
    trivial, Cert.SumSmallIdeal.Results.algebraic,
    trivial, Cert.StepInIdeal.Results.algebraic,
    trivial, Cert.StepUpIdeal.Results.algebraic,
    trivial, Cert.StepQkvIdeal.Results.algebraic,
    trivial, Cert.StepMetaIdeal.Results.algebraic,
    trivial, Cert.StepConvIdeal.Results.algebraic,
    trivial, Cert.StepGainIdeal.Results.algebraic,
    trivial, Cert.StepSinksIdeal.Results.algebraic,
    trivial, Cert.NormIdeal.Results.algebraic,
    trivial, Cert.ProjUpIdeal.Results.algebraic,
    trivial, Cert.BackDownIdeal.Results.algebraic,
    trivial, Cert.ProjInIdeal.Results.algebraic,
    trivial, Cert.BackOIdeal.Results.algebraic,
    trivial, Cert.ProjQkvIdeal.Results.algebraic,
    trivial, Cert.BackOutIdeal.Results.algebraic,
    trivial, Cert.GradDownIdeal.Results.algebraic,
    trivial, Cert.GradUpIdeal.Results.algebraic,
    trivial, Cert.GradInIdeal.Results.algebraic,
    trivial, Cert.GradQkvIdeal.Results.algebraic,
    trivial, Cert.GradOIdeal.Results.algebraic,
    trivial, Cert.RowOutIdeal.Results.algebraic,
    trivial, Cert.RowDownIdeal.Results.algebraic,
    trivial, Cert.RowLastIdeal.Results.algebraic,
    trivial, Cert.RowUpIdeal.Results.algebraic,
    trivial, Cert.RowQkvIdeal.Results.algebraic,
    trivial, Cert.RowInIdeal.Results.algebraic,
    trivial, Cert.LossIdeal.Results.algebraic,
    trivial, Cert.ConvIdeal.Results.algebraic,
    trivial, Cert.ConvBackIdeal.Results.algebraic,
    trivial, Cert.RopeIdeal.Results.algebraic,
    trivial, Cert.RopeBackIdeal.Results.algebraic⟩

end Cert.Proof
